-- ==== Defs.lean ====
def Pre_LossKernel (m : (ℓ : Loc Cert.LossKernel.nD Cert.LossKernel.τ Cert.LossKernel.sig) → Buf (Elt Bits) ℓ) : Prop :=
  True

def Pre_LossKernelIdeal (m : (ℓ : Loc Cert.LossKernelIdeal.nD Cert.LossKernelIdeal.τ Cert.LossKernelIdeal.sig) → Buf (Elt Ideal) ℓ) : Prop :=
  True

def Pre_LossKernelIdeal_loss_finite [hPre_loss_finite : Cert.Pre_loss_finite.Facts] (m : (ℓ : Loc Cert.LossKernelIdeal.nD Cert.LossKernelIdeal.τ Cert.LossKernelIdeal.sig) → Buf (Elt Ideal) ℓ) : Prop :=
  ∀ c : Dev Cert.LossKernelIdeal.nD,
    (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.1 = (fun _ => 1#1)
    ∧ (Cert.Pre_loss_finite.fn (F := Ideal) (m ((c.tc : Thread Cert.LossKernelIdeal.nD Cert.LossKernelIdeal.τ).loc Cert.LossKernelIdeal.main_arg0)) (m ((c.tc : Thread Cert.LossKernelIdeal.nD Cert.LossKernelIdeal.τ).loc Cert.LossKernelIdeal.main_arg1)) (m ((c.tc : Thread Cert.LossKernelIdeal.nD Cert.LossKernelIdeal.τ).loc Cert.LossKernelIdeal.main_arg2))).2.2 = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.1 = (fun _ => 1#1)
    ∧ (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2))).2.2 = (fun _ => 1#1)

def Pre_GateKernel (m : (ℓ : Loc Cert.GateKernel.nD Cert.GateKernel.τ Cert.GateKernel.sig) → Buf (Elt Bits) ℓ) : Prop :=
  True

def Pre_GateKernelIdeal (m : (ℓ : Loc Cert.GateKernelIdeal.nD Cert.GateKernelIdeal.τ Cert.GateKernelIdeal.sig) → Buf (Elt Ideal) ℓ) : Prop :=
  True

def Pre_GateKernelIdeal_gate_finite [hPre_gate_finite : Cert.Pre_gate_finite.Facts] (m : (ℓ : Loc Cert.GateKernelIdeal.nD Cert.GateKernelIdeal.τ Cert.GateKernelIdeal.sig) → Buf (Elt Ideal) ℓ) : Prop :=
  ∀ c : Dev Cert.GateKernelIdeal.nD,
    (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2.1 = (fun _ => 1#1)
    ∧ (Cert.Pre_gate_finite.fn (F := Ideal) (m ((c.tc : Thread Cert.GateKernelIdeal.nD Cert.GateKernelIdeal.τ).loc Cert.GateKernelIdeal.main_arg0)) (m ((c.tc : Thread Cert.GateKernelIdeal.nD Cert.GateKernelIdeal.τ).loc Cert.GateKernelIdeal.main_arg1)) (m ((c.tc : Thread Cert.GateKernelIdeal.nD Cert.GateKernelIdeal.τ).loc Cert.GateKernelIdeal.main_arg2)) (m ((c.tc : Thread Cert.GateKernelIdeal.nD Cert.GateKernelIdeal.τ).loc Cert.GateKernelIdeal.main_arg3))).2.2.2 = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_gate_finite [hPre_gate_finite : Cert.Pre_gate_finite.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.1 = (fun _ => 1#1)
    ∧ (Cert.Pre_gate_finite.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))).2.2.2 = (fun _ => 1#1)

def Pre_ConvKernel (m : (ℓ : Loc Cert.ConvKernel.nD Cert.ConvKernel.τ Cert.ConvKernel.sig) → Buf (Elt Bits) ℓ) : Prop :=
  True

def Pre_ConvKernelIdeal (m : (ℓ : Loc Cert.ConvKernelIdeal.nD Cert.ConvKernelIdeal.τ Cert.ConvKernelIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SiluKernel (m : (ℓ : Loc Cert.SiluKernel.nD Cert.SiluKernel.τ Cert.SiluKernel.sig) → Buf (Elt Bits) ℓ) : Prop :=
  True

def Pre_SiluKernelIdeal (m : (ℓ : Loc Cert.SiluKernelIdeal.nD Cert.SiluKernelIdeal.τ Cert.SiluKernelIdeal.sig) → Buf (Elt Ideal) ℓ) : Prop :=
  True

def Pre_SiluKernelIdeal_silu_finite [hPre_silu_finite : Cert.Pre_silu_finite.Facts] (m : (ℓ : Loc Cert.SiluKernelIdeal.nD Cert.SiluKernelIdeal.τ Cert.SiluKernelIdeal.sig) → Buf (Elt Ideal) ℓ) : Prop :=
  ∀ c : Dev Cert.SiluKernelIdeal.nD,
    (Cert.Pre_silu_finite.fn (F := Ideal) (m ((c.tc : Thread Cert.SiluKernelIdeal.nD Cert.SiluKernelIdeal.τ).loc Cert.SiluKernelIdeal.main_arg0)) (m ((c.tc : Thread Cert.SiluKernelIdeal.nD Cert.SiluKernelIdeal.τ).loc Cert.SiluKernelIdeal.main_arg1)) (m ((c.tc : Thread Cert.SiluKernelIdeal.nD Cert.SiluKernelIdeal.τ).loc Cert.SiluKernelIdeal.main_arg2)) (m ((c.tc : Thread Cert.SiluKernelIdeal.nD Cert.SiluKernelIdeal.τ).loc Cert.SiluKernelIdeal.main_arg3))).1 = (fun _ => 1#1)
    ∧ (Cert.Pre_silu_finite.fn (F := Ideal) (m ((c.tc : Thread Cert.SiluKernelIdeal.nD Cert.SiluKernelIdeal.τ).loc Cert.SiluKernelIdeal.main_arg0)) (m ((c.tc : Thread Cert.SiluKernelIdeal.nD Cert.SiluKernelIdeal.τ).loc Cert.SiluKernelIdeal.main_arg1)) (m ((c.tc : Thread Cert.SiluKernelIdeal.nD Cert.SiluKernelIdeal.τ).loc Cert.SiluKernelIdeal.main_arg2)) (m ((c.tc : Thread Cert.SiluKernelIdeal.nD Cert.SiluKernelIdeal.τ).loc Cert.SiluKernelIdeal.main_arg3))).2.1 = (fun _ => 1#1)
    ∧ (Cert.Pre_silu_finite.fn (F := Ideal) (m ((c.tc : Thread Cert.SiluKernelIdeal.nD Cert.SiluKernelIdeal.τ).loc Cert.SiluKernelIdeal.main_arg0)) (m ((c.tc : Thread Cert.SiluKernelIdeal.nD Cert.SiluKernelIdeal.τ).loc Cert.SiluKernelIdeal.main_arg1)) (m ((c.tc : Thread Cert.SiluKernelIdeal.nD Cert.SiluKernelIdeal.τ).loc Cert.SiluKernelIdeal.main_arg2)) (m ((c.tc : Thread Cert.SiluKernelIdeal.nD Cert.SiluKernelIdeal.τ).loc Cert.SiluKernelIdeal.main_arg3))).2.2.1 = (fun _ => 1#1)
    ∧ (Cert.Pre_silu_finite.fn (F := Ideal) (m ((c.tc : Thread Cert.SiluKernelIdeal.nD Cert.SiluKernelIdeal.τ).loc Cert.SiluKernelIdeal.main_arg0)) (m ((c.tc : Thread Cert.SiluKernelIdeal.nD Cert.SiluKernelIdeal.τ).loc Cert.SiluKernelIdeal.main_arg1)) (m ((c.tc : Thread Cert.SiluKernelIdeal.nD Cert.SiluKernelIdeal.τ).loc Cert.SiluKernelIdeal.main_arg2)) (m ((c.tc : Thread Cert.SiluKernelIdeal.nD Cert.SiluKernelIdeal.τ).loc Cert.SiluKernelIdeal.main_arg3))).2.2.2 = (fun _ => 1#1)

def Pre_SiluRefIdeal (m : (ℓ : Loc Cert.SiluRefIdeal.nD Cert.SiluRefIdeal.τ Cert.SiluRefIdeal.sig) → Buf (Elt Ideal) ℓ) : Prop :=
  True

def Pre_SiluRefIdeal_silu_finite [hPre_silu_finite : Cert.Pre_silu_finite.Facts] (m : (ℓ : Loc Cert.SiluRefIdeal.nD Cert.SiluRefIdeal.τ Cert.SiluRefIdeal.sig) → Buf (Elt Ideal) ℓ) : Prop :=
  ∀ c : Dev Cert.SiluRefIdeal.nD,
    (Cert.Pre_silu_finite.fn (F := Ideal) (m ((c.tc : Thread Cert.SiluRefIdeal.nD Cert.SiluRefIdeal.τ).loc Cert.SiluRefIdeal.main_arg0)) (m ((c.tc : Thread Cert.SiluRefIdeal.nD Cert.SiluRefIdeal.τ).loc Cert.SiluRefIdeal.main_arg1)) (m ((c.tc : Thread Cert.SiluRefIdeal.nD Cert.SiluRefIdeal.τ).loc Cert.SiluRefIdeal.main_arg2)) (m ((c.tc : Thread Cert.SiluRefIdeal.nD Cert.SiluRefIdeal.τ).loc Cert.SiluRefIdeal.main_arg3))).1 = (fun _ => 1#1)
    ∧ (Cert.Pre_silu_finite.fn (F := Ideal) (m ((c.tc : Thread Cert.SiluRefIdeal.nD Cert.SiluRefIdeal.τ).loc Cert.SiluRefIdeal.main_arg0)) (m ((c.tc : Thread Cert.SiluRefIdeal.nD Cert.SiluRefIdeal.τ).loc Cert.SiluRefIdeal.main_arg1)) (m ((c.tc : Thread Cert.SiluRefIdeal.nD Cert.SiluRefIdeal.τ).loc Cert.SiluRefIdeal.main_arg2)) (m ((c.tc : Thread Cert.SiluRefIdeal.nD Cert.SiluRefIdeal.τ).loc Cert.SiluRefIdeal.main_arg3))).2.1 = (fun _ => 1#1)
    ∧ (Cert.Pre_silu_finite.fn (F := Ideal) (m ((c.tc : Thread Cert.SiluRefIdeal.nD Cert.SiluRefIdeal.τ).loc Cert.SiluRefIdeal.main_arg0)) (m ((c.tc : Thread Cert.SiluRefIdeal.nD Cert.SiluRefIdeal.τ).loc Cert.SiluRefIdeal.main_arg1)) (m ((c.tc : Thread Cert.SiluRefIdeal.nD Cert.SiluRefIdeal.τ).loc Cert.SiluRefIdeal.main_arg2)) (m ((c.tc : Thread Cert.SiluRefIdeal.nD Cert.SiluRefIdeal.τ).loc Cert.SiluRefIdeal.main_arg3))).2.2.1 = (fun _ => 1#1)
    ∧ (Cert.Pre_silu_finite.fn (F := Ideal) (m ((c.tc : Thread Cert.SiluRefIdeal.nD Cert.SiluRefIdeal.τ).loc Cert.SiluRefIdeal.main_arg0)) (m ((c.tc : Thread Cert.SiluRefIdeal.nD Cert.SiluRefIdeal.τ).loc Cert.SiluRefIdeal.main_arg1)) (m ((c.tc : Thread Cert.SiluRefIdeal.nD Cert.SiluRefIdeal.τ).loc Cert.SiluRefIdeal.main_arg2)) (m ((c.tc : Thread Cert.SiluRefIdeal.nD Cert.SiluRefIdeal.τ).loc Cert.SiluRefIdeal.main_arg3))).2.2.2 = (fun _ => 1#1)

def Pre_XbcKernel (m : (ℓ : Loc Cert.XbcKernel.nD Cert.XbcKernel.τ Cert.XbcKernel.sig) → Buf (Elt Bits) ℓ) : Prop :=
  True

def Pre_XbcKernelIdeal (m : (ℓ : Loc Cert.XbcKernelIdeal.nD Cert.XbcKernelIdeal.τ Cert.XbcKernelIdeal.sig) → Buf (Elt Ideal) ℓ) : Prop :=
  True

def Pre_XbcRefIdeal (m : (ℓ : Loc Cert.XbcRefIdeal.nD Cert.XbcRefIdeal.τ Cert.XbcRefIdeal.sig) → Buf (Elt Ideal) ℓ) : Prop :=
  True

def Pre_QKernel (m : (ℓ : Loc Cert.QKernel.nD Cert.QKernel.τ Cert.QKernel.sig) → Buf (Elt Bits) ℓ) : Prop :=
  True

def Pre_QKernelIdeal (m : (ℓ : Loc Cert.QKernelIdeal.nD Cert.QKernelIdeal.τ Cert.QKernelIdeal.sig) → Buf (Elt Ideal) ℓ) : Prop :=
  True

def Pre_QKernelIdeal_q_finite [hPre_q_finite : Cert.Pre_q_finite.Facts] (m : (ℓ : Loc Cert.QKernelIdeal.nD Cert.QKernelIdeal.τ Cert.QKernelIdeal.sig) → Buf (Elt Ideal) ℓ) : Prop :=
  ∀ c : Dev Cert.QKernelIdeal.nD,
    (Cert.Pre_q_finite.fn (F := Ideal) (m ((c.tc : Thread Cert.QKernelIdeal.nD Cert.QKernelIdeal.τ).loc Cert.QKernelIdeal.main_arg0)) (m ((c.tc : Thread Cert.QKernelIdeal.nD Cert.QKernelIdeal.τ).loc Cert.QKernelIdeal.main_arg1)) (m ((c.tc : Thread Cert.QKernelIdeal.nD Cert.QKernelIdeal.τ).loc Cert.QKernelIdeal.main_arg2)) (m ((c.tc : Thread Cert.QKernelIdeal.nD Cert.QKernelIdeal.τ).loc Cert.QKernelIdeal.main_arg3)) (m ((c.tc : Thread Cert.QKernelIdeal.nD Cert.QKernelIdeal.τ).loc Cert.QKernelIdeal.main_arg4))).1 = (fun _ => 1#1)
    ∧ (Cert.Pre_q_finite.fn (F := Ideal) (m ((c.tc : Thread Cert.QKernelIdeal.nD Cert.QKernelIdeal.τ).loc Cert.QKernelIdeal.main_arg0)) (m ((c.tc : Thread Cert.QKernelIdeal.nD Cert.QKernelIdeal.τ).loc Cert.QKernelIdeal.main_arg1)) (m ((c.tc : Thread Cert.QKernelIdeal.nD Cert.QKernelIdeal.τ).loc Cert.QKernelIdeal.main_arg2)) (m ((c.tc : Thread Cert.QKernelIdeal.nD Cert.QKernelIdeal.τ).loc Cert.QKernelIdeal.main_arg3)) (m ((c.tc : Thread Cert.QKernelIdeal.nD Cert.QKernelIdeal.τ).loc Cert.QKernelIdeal.main_arg4))).2.1 = (fun _ => 1#1)
    ∧ (Cert.Pre_q_finite.fn (F := Ideal) (m ((c.tc : Thread Cert.QKernelIdeal.nD Cert.QKernelIdeal.τ).loc Cert.QKernelIdeal.main_arg0)) (m ((c.tc : Thread Cert.QKernelIdeal.nD Cert.QKernelIdeal.τ).loc Cert.QKernelIdeal.main_arg1)) (m ((c.tc : Thread Cert.QKernelIdeal.nD Cert.QKernelIdeal.τ).loc Cert.QKernelIdeal.main_arg2)) (m ((c.tc : Thread Cert.QKernelIdeal.nD Cert.QKernelIdeal.τ).loc Cert.QKernelIdeal.main_arg3)) (m ((c.tc : Thread Cert.QKernelIdeal.nD Cert.QKernelIdeal.τ).loc Cert.QKernelIdeal.main_arg4))).2.2.1 = (fun _ => 1#1)
    ∧ (Cert.Pre_q_finite.fn (F := Ideal) (m ((c.tc : Thread Cert.QKernelIdeal.nD Cert.QKernelIdeal.τ).loc Cert.QKernelIdeal.main_arg0)) (m ((c.tc : Thread Cert.QKernelIdeal.nD Cert.QKernelIdeal.τ).loc Cert.QKernelIdeal.main_arg1)) (m ((c.tc : Thread Cert.QKernelIdeal.nD Cert.QKernelIdeal.τ).loc Cert.QKernelIdeal.main_arg2)) (m ((c.tc : Thread Cert.QKernelIdeal.nD Cert.QKernelIdeal.τ).loc Cert.QKernelIdeal.main_arg3)) (m ((c.tc : Thread Cert.QKernelIdeal.nD Cert.QKernelIdeal.τ).loc Cert.QKernelIdeal.main_arg4))).2.2.2 = (fun _ => 1#1)

def Pre_QRefIdeal (m : (ℓ : Loc Cert.QRefIdeal.nD Cert.QRefIdeal.τ Cert.QRefIdeal.sig) → Buf (Elt Ideal) ℓ) : Prop :=
  True

def Pre_QRefIdeal_q_finite [hPre_q_finite : Cert.Pre_q_finite.Facts] (m : (ℓ : Loc Cert.QRefIdeal.nD Cert.QRefIdeal.τ Cert.QRefIdeal.sig) → Buf (Elt Ideal) ℓ) : Prop :=
  ∀ c : Dev Cert.QRefIdeal.nD,
    (Cert.Pre_q_finite.fn (F := Ideal) (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4))).1 = (fun _ => 1#1)
    ∧ (Cert.Pre_q_finite.fn (F := Ideal) (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4))).2.1 = (fun _ => 1#1)
    ∧ (Cert.Pre_q_finite.fn (F := Ideal) (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4))).2.2.1 = (fun _ => 1#1)
    ∧ (Cert.Pre_q_finite.fn (F := Ideal) (m ((c.tc : Thread Cert.QRefIdeal.nD Cert.QRefIdeal.τ).loc Cert.QRefIdeal.main_arg0)) (m ((c.tc : Thread Cert.QRefIdeal.nD Cert.QRefIdeal.τ).loc Cert.QRefIdeal.main_arg1)) (m ((c.tc : Thread Cert.QRefIdeal.nD Cert.QRefIdeal.τ).loc Cert.QRefIdeal.main_arg2)) (m ((c.tc : Thread Cert.QRefIdeal.nD Cert.QRefIdeal.τ).loc Cert.QRefIdeal.main_arg3)) (m ((c.tc : Thread Cert.QRefIdeal.nD Cert.QRefIdeal.τ).loc Cert.QRefIdeal.main_arg4))).2.2.2 = (fun _ => 1#1)

def Pre_SbaKernel (m : (ℓ : Loc Cert.SbaKernel.nD Cert.SbaKernel.τ Cert.SbaKernel.sig) → Buf (Elt Bits) ℓ) : Prop :=
  True

def Pre_SbaKernelIdeal (m : (ℓ : Loc Cert.SbaKernelIdeal.nD Cert.SbaKernelIdeal.τ Cert.SbaKernelIdeal.sig) → Buf (Elt Ideal) ℓ) : Prop :=
  True

def Pre_SbaKernelIdeal_sba_finite [hPre_sba_finite : Cert.Pre_sba_finite.Facts] (m : (ℓ : Loc Cert.SbaKernelIdeal.nD Cert.SbaKernelIdeal.τ Cert.SbaKernelIdeal.sig) → Buf (Elt Ideal) ℓ) : Prop :=
  ∀ c : Dev Cert.SbaKernelIdeal.nD,
    (Cert.Pre_sba_finite.fn (F := Ideal) (m ((c.tc : Thread Cert.SbaKernelIdeal.nD Cert.SbaKernelIdeal.τ).loc Cert.SbaKernelIdeal.main_arg0)) (m ((c.tc : Thread Cert.SbaKernelIdeal.nD Cert.SbaKernelIdeal.τ).loc Cert.SbaKernelIdeal.main_arg1)) (m ((c.tc : Thread Cert.SbaKernelIdeal.nD Cert.SbaKernelIdeal.τ).loc Cert.SbaKernelIdeal.main_arg2)) (m ((c.tc : Thread Cert.SbaKernelIdeal.nD Cert.SbaKernelIdeal.τ).loc Cert.SbaKernelIdeal.main_arg3))).1 = (fun _ => 1#1)
    ∧ (Cert.Pre_sba_finite.fn (F := Ideal) (m ((c.tc : Thread Cert.SbaKernelIdeal.nD Cert.SbaKernelIdeal.τ).loc Cert.SbaKernelIdeal.main_arg0)) (m ((c.tc : Thread Cert.SbaKernelIdeal.nD Cert.SbaKernelIdeal.τ).loc Cert.SbaKernelIdeal.main_arg1)) (m ((c.tc : Thread Cert.SbaKernelIdeal.nD Cert.SbaKernelIdeal.τ).loc Cert.SbaKernelIdeal.main_arg2)) (m ((c.tc : Thread Cert.SbaKernelIdeal.nD Cert.SbaKernelIdeal.τ).loc Cert.SbaKernelIdeal.main_arg3))).2.1 = (fun _ => 1#1)
    ∧ (Cert.Pre_sba_finite.fn (F := Ideal) (m ((c.tc : Thread Cert.SbaKernelIdeal.nD Cert.SbaKernelIdeal.τ).loc Cert.SbaKernelIdeal.main_arg0)) (m ((c.tc : Thread Cert.SbaKernelIdeal.nD Cert.SbaKernelIdeal.τ).loc Cert.SbaKernelIdeal.main_arg1)) (m ((c.tc : Thread Cert.SbaKernelIdeal.nD Cert.SbaKernelIdeal.τ).loc Cert.SbaKernelIdeal.main_arg2)) (m ((c.tc : Thread Cert.SbaKernelIdeal.nD Cert.SbaKernelIdeal.τ).loc Cert.SbaKernelIdeal.main_arg3))).2.2.1 = (fun _ => 1#1)
    ∧ (Cert.Pre_sba_finite.fn (F := Ideal) (m ((c.tc : Thread Cert.SbaKernelIdeal.nD Cert.SbaKernelIdeal.τ).loc Cert.SbaKernelIdeal.main_arg0)) (m ((c.tc : Thread Cert.SbaKernelIdeal.nD Cert.SbaKernelIdeal.τ).loc Cert.SbaKernelIdeal.main_arg1)) (m ((c.tc : Thread Cert.SbaKernelIdeal.nD Cert.SbaKernelIdeal.τ).loc Cert.SbaKernelIdeal.main_arg2)) (m ((c.tc : Thread Cert.SbaKernelIdeal.nD Cert.SbaKernelIdeal.τ).loc Cert.SbaKernelIdeal.main_arg3))).2.2.2 = (fun _ => 1#1)

def Pre_SbaRefIdeal (m : (ℓ : Loc Cert.SbaRefIdeal.nD Cert.SbaRefIdeal.τ Cert.SbaRefIdeal.sig) → Buf (Elt Ideal) ℓ) : Prop :=
  True

def Pre_SbaRefIdeal_sba_finite [hPre_sba_finite : Cert.Pre_sba_finite.Facts] (m : (ℓ : Loc Cert.SbaRefIdeal.nD Cert.SbaRefIdeal.τ Cert.SbaRefIdeal.sig) → Buf (Elt Ideal) ℓ) : Prop :=
  ∀ c : Dev Cert.SbaRefIdeal.nD,
    (Cert.Pre_sba_finite.fn (F := Ideal) (m ((c.tc : Thread Cert.SbaRefIdeal.nD Cert.SbaRefIdeal.τ).loc Cert.SbaRefIdeal.main_arg0)) (m ((c.tc : Thread Cert.SbaRefIdeal.nD Cert.SbaRefIdeal.τ).loc Cert.SbaRefIdeal.main_arg1)) (m ((c.tc : Thread Cert.SbaRefIdeal.nD Cert.SbaRefIdeal.τ).loc Cert.SbaRefIdeal.main_arg2)) (m ((c.tc : Thread Cert.SbaRefIdeal.nD Cert.SbaRefIdeal.τ).loc Cert.SbaRefIdeal.main_arg3))).1 = (fun _ => 1#1)
    ∧ (Cert.Pre_sba_finite.fn (F := Ideal) (m ((c.tc : Thread Cert.SbaRefIdeal.nD Cert.SbaRefIdeal.τ).loc Cert.SbaRefIdeal.main_arg0)) (m ((c.tc : Thread Cert.SbaRefIdeal.nD Cert.SbaRefIdeal.τ).loc Cert.SbaRefIdeal.main_arg1)) (m ((c.tc : Thread Cert.SbaRefIdeal.nD Cert.SbaRefIdeal.τ).loc Cert.SbaRefIdeal.main_arg2)) (m ((c.tc : Thread Cert.SbaRefIdeal.nD Cert.SbaRefIdeal.τ).loc Cert.SbaRefIdeal.main_arg3))).2.1 = (fun _ => 1#1)
    ∧ (Cert.Pre_sba_finite.fn (F := Ideal) (m ((c.tc : Thread Cert.SbaRefIdeal.nD Cert.SbaRefIdeal.τ).loc Cert.SbaRefIdeal.main_arg0)) (m ((c.tc : Thread Cert.SbaRefIdeal.nD Cert.SbaRefIdeal.τ).loc Cert.SbaRefIdeal.main_arg1)) (m ((c.tc : Thread Cert.SbaRefIdeal.nD Cert.SbaRefIdeal.τ).loc Cert.SbaRefIdeal.main_arg2)) (m ((c.tc : Thread Cert.SbaRefIdeal.nD Cert.SbaRefIdeal.τ).loc Cert.SbaRefIdeal.main_arg3))).2.2.1 = (fun _ => 1#1)
    ∧ (Cert.Pre_sba_finite.fn (F := Ideal) (m ((c.tc : Thread Cert.SbaRefIdeal.nD Cert.SbaRefIdeal.τ).loc Cert.SbaRefIdeal.main_arg0)) (m ((c.tc : Thread Cert.SbaRefIdeal.nD Cert.SbaRefIdeal.τ).loc Cert.SbaRefIdeal.main_arg1)) (m ((c.tc : Thread Cert.SbaRefIdeal.nD Cert.SbaRefIdeal.τ).loc Cert.SbaRefIdeal.main_arg2)) (m ((c.tc : Thread Cert.SbaRefIdeal.nD Cert.SbaRefIdeal.τ).loc Cert.SbaRefIdeal.main_arg3))).2.2.2 = (fun _ => 1#1)

def Pre_KvKernel (m : (ℓ : Loc Cert.KvKernel.nD Cert.KvKernel.τ Cert.KvKernel.sig) → Buf (Elt Bits) ℓ) : Prop :=
  True

def Pre_KvKernelIdeal (m : (ℓ : Loc Cert.KvKernelIdeal.nD Cert.KvKernelIdeal.τ Cert.KvKernelIdeal.sig) → Buf (Elt Ideal) ℓ) : Prop :=
  True

def Pre_KvKernelIdeal_kv_finite [hPre_kv_finite : Cert.Pre_kv_finite.Facts] (m : (ℓ : Loc Cert.KvKernelIdeal.nD Cert.KvKernelIdeal.τ Cert.KvKernelIdeal.sig) → Buf (Elt Ideal) ℓ) : Prop :=
  ∀ c : Dev Cert.KvKernelIdeal.nD,
    (Cert.Pre_kv_finite.fn (F := Ideal) (m ((c.tc : Thread Cert.KvKernelIdeal.nD Cert.KvKernelIdeal.τ).loc Cert.KvKernelIdeal.main_arg0)) (m ((c.tc : Thread Cert.KvKernelIdeal.nD Cert.KvKernelIdeal.τ).loc Cert.KvKernelIdeal.main_arg1)) (m ((c.tc : Thread Cert.KvKernelIdeal.nD Cert.KvKernelIdeal.τ).loc Cert.KvKernelIdeal.main_arg2)) (m ((c.tc : Thread Cert.KvKernelIdeal.nD Cert.KvKernelIdeal.τ).loc Cert.KvKernelIdeal.main_arg3)) (m ((c.tc : Thread Cert.KvKernelIdeal.nD Cert.KvKernelIdeal.τ).loc Cert.KvKernelIdeal.main_arg4)) (m ((c.tc : Thread Cert.KvKernelIdeal.nD Cert.KvKernelIdeal.τ).loc Cert.KvKernelIdeal.main_arg5)) (m ((c.tc : Thread Cert.KvKernelIdeal.nD Cert.KvKernelIdeal.τ).loc Cert.KvKernelIdeal.main_arg6))).1 = (fun _ => 1#1)
    ∧ (Cert.Pre_kv_finite.fn (F := Ideal) (m ((c.tc : Thread Cert.KvKernelIdeal.nD Cert.KvKernelIdeal.τ).loc Cert.KvKernelIdeal.main_arg0)) (m ((c.tc : Thread Cert.KvKernelIdeal.nD Cert.KvKernelIdeal.τ).loc Cert.KvKernelIdeal.main_arg1)) (m ((c.tc : Thread Cert.KvKernelIdeal.nD Cert.KvKernelIdeal.τ).loc Cert.KvKernelIdeal.main_arg2)) (m ((c.tc : Thread Cert.KvKernelIdeal.nD Cert.KvKernelIdeal.τ).loc Cert.KvKernelIdeal.main_arg3)) (m ((c.tc : Thread Cert.KvKernelIdeal.nD Cert.KvKernelIdeal.τ).loc Cert.KvKernelIdeal.main_arg4)) (m ((c.tc : Thread Cert.KvKernelIdeal.nD Cert.KvKernelIdeal.τ).loc Cert.KvKernelIdeal.main_arg5)) (m ((c.tc : Thread Cert.KvKernelIdeal.nD Cert.KvKernelIdeal.τ).loc Cert.KvKernelIdeal.main_arg6))).2.1 = (fun _ => 1#1)
    ∧ (Cert.Pre_kv_finite.fn (F := Ideal) (m ((c.tc : Thread Cert.KvKernelIdeal.nD Cert.KvKernelIdeal.τ).loc Cert.KvKernelIdeal.main_arg0)) (m ((c.tc : Thread Cert.KvKernelIdeal.nD Cert.KvKernelIdeal.τ).loc Cert.KvKernelIdeal.main_arg1)) (m ((c.tc : Thread Cert.KvKernelIdeal.nD Cert.KvKernelIdeal.τ).loc Cert.KvKernelIdeal.main_arg2)) (m ((c.tc : Thread Cert.KvKernelIdeal.nD Cert.KvKernelIdeal.τ).loc Cert.KvKernelIdeal.main_arg3)) (m ((c.tc : Thread Cert.KvKernelIdeal.nD Cert.KvKernelIdeal.τ).loc Cert.KvKernelIdeal.main_arg4)) (m ((c.tc : Thread Cert.KvKernelIdeal.nD Cert.KvKernelIdeal.τ).loc Cert.KvKernelIdeal.main_arg5)) (m ((c.tc : Thread Cert.KvKernelIdeal.nD Cert.KvKernelIdeal.τ).loc Cert.KvKernelIdeal.main_arg6))).2.2.1 = (fun _ => 1#1)
    ∧ (Cert.Pre_kv_finite.fn (F := Ideal) (m ((c.tc : Thread Cert.KvKernelIdeal.nD Cert.KvKernelIdeal.τ).loc Cert.KvKernelIdeal.main_arg0)) (m ((c.tc : Thread Cert.KvKernelIdeal.nD Cert.KvKernelIdeal.τ).loc Cert.KvKernelIdeal.main_arg1)) (m ((c.tc : Thread Cert.KvKernelIdeal.nD Cert.KvKernelIdeal.τ).loc Cert.KvKernelIdeal.main_arg2)) (m ((c.tc : Thread Cert.KvKernelIdeal.nD Cert.KvKernelIdeal.τ).loc Cert.KvKernelIdeal.main_arg3)) (m ((c.tc : Thread Cert.KvKernelIdeal.nD Cert.KvKernelIdeal.τ).loc Cert.KvKernelIdeal.main_arg4)) (m ((c.tc : Thread Cert.KvKernelIdeal.nD Cert.KvKernelIdeal.τ).loc Cert.KvKernelIdeal.main_arg5)) (m ((c.tc : Thread Cert.KvKernelIdeal.nD Cert.KvKernelIdeal.τ).loc Cert.KvKernelIdeal.main_arg6))).2.2.2.1 = (fun _ => 1#1)
    ∧ (Cert.Pre_kv_finite.fn (F := Ideal) (m ((c.tc : Thread Cert.KvKernelIdeal.nD Cert.KvKernelIdeal.τ).loc Cert.KvKernelIdeal.main_arg0)) (m ((c.tc : Thread Cert.KvKernelIdeal.nD Cert.KvKernelIdeal.τ).loc Cert.KvKernelIdeal.main_arg1)) (m ((c.tc : Thread Cert.KvKernelIdeal.nD Cert.KvKernelIdeal.τ).loc Cert.KvKernelIdeal.main_arg2)) (m ((c.tc : Thread Cert.KvKernelIdeal.nD Cert.KvKernelIdeal.τ).loc Cert.KvKernelIdeal.main_arg3)) (m ((c.tc : Thread Cert.KvKernelIdeal.nD Cert.KvKernelIdeal.τ).loc Cert.KvKernelIdeal.main_arg4)) (m ((c.tc : Thread Cert.KvKernelIdeal.nD Cert.KvKernelIdeal.τ).loc Cert.KvKernelIdeal.main_arg5)) (m ((c.tc : Thread Cert.KvKernelIdeal.nD Cert.KvKernelIdeal.τ).loc Cert.KvKernelIdeal.main_arg6))).2.2.2.2.1 = (fun _ => 1#1)
    ∧ (Cert.Pre_kv_finite.fn (F := Ideal) (m ((c.tc : Thread Cert.KvKernelIdeal.nD Cert.KvKernelIdeal.τ).loc Cert.KvKernelIdeal.main_arg0)) (m ((c.tc : Thread Cert.KvKernelIdeal.nD Cert.KvKernelIdeal.τ).loc Cert.KvKernelIdeal.main_arg1)) (m ((c.tc : Thread Cert.KvKernelIdeal.nD Cert.KvKernelIdeal.τ).loc Cert.KvKernelIdeal.main_arg2)) (m ((c.tc : Thread Cert.KvKernelIdeal.nD Cert.KvKernelIdeal.τ).loc Cert.KvKernelIdeal.main_arg3)) (m ((c.tc : Thread Cert.KvKernelIdeal.nD Cert.KvKernelIdeal.τ).loc Cert.KvKernelIdeal.main_arg4)) (m ((c.tc : Thread Cert.KvKernelIdeal.nD Cert.KvKernelIdeal.τ).loc Cert.KvKernelIdeal.main_arg5)) (m ((c.tc : Thread Cert.KvKernelIdeal.nD Cert.KvKernelIdeal.τ).loc Cert.KvKernelIdeal.main_arg6))).2.2.2.2.2 = (fun _ => 1#1)

def Pre_KvRefIdeal (m : (ℓ : Loc Cert.KvRefIdeal.nD Cert.KvRefIdeal.τ Cert.KvRefIdeal.sig) → Buf (Elt Ideal) ℓ) : Prop :=
  True

def Pre_KvRefIdeal_kv_finite [hPre_kv_finite : Cert.Pre_kv_finite.Facts] (m : (ℓ : Loc Cert.KvRefIdeal.nD Cert.KvRefIdeal.τ Cert.KvRefIdeal.sig) → Buf (Elt Ideal) ℓ) : Prop :=
  ∀ c : Dev Cert.KvRefIdeal.nD,
    (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6))).1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6))).2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6))).2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6))).2.2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6))).2.2.2.2.1 = (fun _ => 1#1)
    ∧ (Cert.Pre_kv_finite.fn (F := Ideal) (m ((c.tc : Thread Cert.KvRefIdeal.nD Cert.KvRefIdeal.τ).loc Cert.KvRefIdeal.main_arg0)) (m ((c.tc : Thread Cert.KvRefIdeal.nD Cert.KvRefIdeal.τ).loc Cert.KvRefIdeal.main_arg1)) (m ((c.tc : Thread Cert.KvRefIdeal.nD Cert.KvRefIdeal.τ).loc Cert.KvRefIdeal.main_arg2)) (m ((c.tc : Thread Cert.KvRefIdeal.nD Cert.KvRefIdeal.τ).loc Cert.KvRefIdeal.main_arg3)) (m ((c.tc : Thread Cert.KvRefIdeal.nD Cert.KvRefIdeal.τ).loc Cert.KvRefIdeal.main_arg4)) (m ((c.tc : Thread Cert.KvRefIdeal.nD Cert.KvRefIdeal.τ).loc Cert.KvRefIdeal.main_arg5)) (m ((c.tc : Thread Cert.KvRefIdeal.nD Cert.KvRefIdeal.τ).loc Cert.KvRefIdeal.main_arg6))).2.2.2.2.2 = (fun _ => 1#1)

def Pre_UpKernel (m : (ℓ : Loc Cert.UpKernel.nD Cert.UpKernel.τ Cert.UpKernel.sig) → Buf (Elt Bits) ℓ) : Prop :=
  True

def Pre_UpKernelIdeal (m : (ℓ : Loc Cert.UpKernelIdeal.nD Cert.UpKernelIdeal.τ Cert.UpKernelIdeal.sig) → Buf (Elt Ideal) ℓ) : Prop :=
  True

def Pre_UpKernelIdeal_up_finite [hPre_up_finite : Cert.Pre_up_finite.Facts] (m : (ℓ : Loc Cert.UpKernelIdeal.nD Cert.UpKernelIdeal.τ Cert.UpKernelIdeal.sig) → Buf (Elt Ideal) ℓ) : Prop :=
  ∀ c : Dev Cert.UpKernelIdeal.nD,
    (Cert.Pre_up_finite.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4))).1 = (fun _ => 1#1)
    ∧ (Cert.Pre_up_finite.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4))).2.1 = (fun _ => 1#1)
    ∧ (Cert.Pre_up_finite.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4))).2.2.1 = (fun _ => 1#1)
    ∧ (Cert.Pre_up_finite.fn (F := Ideal) (m ((c.tc : Thread Cert.UpKernelIdeal.nD Cert.UpKernelIdeal.τ).loc Cert.UpKernelIdeal.main_arg0)) (m ((c.tc : Thread Cert.UpKernelIdeal.nD Cert.UpKernelIdeal.τ).loc Cert.UpKernelIdeal.main_arg1)) (m ((c.tc : Thread Cert.UpKernelIdeal.nD Cert.UpKernelIdeal.τ).loc Cert.UpKernelIdeal.main_arg2)) (m ((c.tc : Thread Cert.UpKernelIdeal.nD Cert.UpKernelIdeal.τ).loc Cert.UpKernelIdeal.main_arg3)) (m ((c.tc : Thread Cert.UpKernelIdeal.nD Cert.UpKernelIdeal.τ).loc Cert.UpKernelIdeal.main_arg4))).2.2.2 = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_up_finite [hPre_up_finite : Cert.Pre_up_finite.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.1 = (fun _ => 1#1)
    ∧ (Cert.Pre_up_finite.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4))).2.2.2 = (fun _ => 1#1)

def Pre_InKernel (m : (ℓ : Loc Cert.InKernel.nD Cert.InKernel.τ Cert.InKernel.sig) → Buf (Elt Bits) ℓ) : Prop :=
  True

def Pre_InKernelIdeal (m : (ℓ : Loc Cert.InKernelIdeal.nD Cert.InKernelIdeal.τ Cert.InKernelIdeal.sig) → Buf (Elt Ideal) ℓ) : Prop :=
  True

def Pre_InKernelIdeal_in_finite [hPre_in_finite : Cert.Pre_in_finite.Facts] (m : (ℓ : Loc Cert.InKernelIdeal.nD Cert.InKernelIdeal.τ Cert.InKernelIdeal.sig) → Buf (Elt Ideal) ℓ) : Prop :=
  ∀ c : Dev Cert.InKernelIdeal.nD,
    (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.1 = (fun _ => 1#1)
    ∧ (Cert.Pre_in_finite.fn (F := Ideal) (m ((c.tc : Thread Cert.InKernelIdeal.nD Cert.InKernelIdeal.τ).loc Cert.InKernelIdeal.main_arg0)) (m ((c.tc : Thread Cert.InKernelIdeal.nD Cert.InKernelIdeal.τ).loc Cert.InKernelIdeal.main_arg1)) (m ((c.tc : Thread Cert.InKernelIdeal.nD Cert.InKernelIdeal.τ).loc Cert.InKernelIdeal.main_arg2)) (m ((c.tc : Thread Cert.InKernelIdeal.nD Cert.InKernelIdeal.τ).loc Cert.InKernelIdeal.main_arg3)) (m ((c.tc : Thread Cert.InKernelIdeal.nD Cert.InKernelIdeal.τ).loc Cert.InKernelIdeal.main_arg4))).2.2.2 = (fun _ => 1#1)

def Pre_InRefIdeal (m : (ℓ : Loc Cert.InRefIdeal.nD Cert.InRefIdeal.τ Cert.InRefIdeal.sig) → Buf (Elt Ideal) ℓ) : Prop :=
  True

def Pre_InRefIdeal_in_finite [hPre_in_finite : Cert.Pre_in_finite.Facts] (m : (ℓ : Loc Cert.InRefIdeal.nD Cert.InRefIdeal.τ Cert.InRefIdeal.sig) → Buf (Elt Ideal) ℓ) : Prop :=
  ∀ c : Dev Cert.InRefIdeal.nD,
    (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.1 = (fun _ => 1#1)
    ∧ (Cert.Pre_in_finite.fn (F := Ideal) (m ((c.tc : Thread Cert.InRefIdeal.nD Cert.InRefIdeal.τ).loc Cert.InRefIdeal.main_arg0)) (m ((c.tc : Thread Cert.InRefIdeal.nD Cert.InRefIdeal.τ).loc Cert.InRefIdeal.main_arg1)) (m ((c.tc : Thread Cert.InRefIdeal.nD Cert.InRefIdeal.τ).loc Cert.InRefIdeal.main_arg2)) (m ((c.tc : Thread Cert.InRefIdeal.nD Cert.InRefIdeal.τ).loc Cert.InRefIdeal.main_arg3)) (m ((c.tc : Thread Cert.InRefIdeal.nD Cert.InRefIdeal.τ).loc Cert.InRefIdeal.main_arg4))).2.2.2 = (fun _ => 1#1)

def Pre_QwKernel (m : (ℓ : Loc Cert.QwKernel.nD Cert.QwKernel.τ Cert.QwKernel.sig) → Buf (Elt Bits) ℓ) : Prop :=
  True

def Pre_QwKernelIdeal (m : (ℓ : Loc Cert.QwKernelIdeal.nD Cert.QwKernelIdeal.τ Cert.QwKernelIdeal.sig) → Buf (Elt Ideal) ℓ) : Prop :=
  True

def Pre_QwRefIdeal (m : (ℓ : Loc Cert.QwRefIdeal.nD Cert.QwRefIdeal.τ Cert.QwRefIdeal.sig) → Buf (Elt Ideal) ℓ) : Prop :=
  True

def Pre_KvwKernel (m : (ℓ : Loc Cert.KvwKernel.nD Cert.KvwKernel.τ Cert.KvwKernel.sig) → Buf (Elt Bits) ℓ) : Prop :=
  True

def Pre_KvwKernelIdeal (m : (ℓ : Loc Cert.KvwKernelIdeal.nD Cert.KvwKernelIdeal.τ Cert.KvwKernelIdeal.sig) → Buf (Elt Ideal) ℓ) : Prop :=
  True

def Pre_KvwRefIdeal (m : (ℓ : Loc Cert.KvwRefIdeal.nD Cert.KvwRefIdeal.τ Cert.KvwRefIdeal.sig) → Buf (Elt Ideal) ℓ) : Prop :=
  True

def Pre_UpwKernel (m : (ℓ : Loc Cert.UpwKernel.nD Cert.UpwKernel.τ Cert.UpwKernel.sig) → Buf (Elt Bits) ℓ) : Prop :=
  True

def Pre_UpwKernelIdeal (m : (ℓ : Loc Cert.UpwKernelIdeal.nD Cert.UpwKernelIdeal.τ Cert.UpwKernelIdeal.sig) → Buf (Elt Ideal) ℓ) : Prop :=
  True

def Pre_UpwRefIdeal (m : (ℓ : Loc Cert.UpwRefIdeal.nD Cert.UpwRefIdeal.τ Cert.UpwRefIdeal.sig) → Buf (Elt Ideal) ℓ) : Prop :=
  True

def Pre_InwKernel (m : (ℓ : Loc Cert.InwKernel.nD Cert.InwKernel.τ Cert.InwKernel.sig) → Buf (Elt Bits) ℓ) : Prop :=
  True

def Pre_InwKernelIdeal (m : (ℓ : Loc Cert.InwKernelIdeal.nD Cert.InwKernelIdeal.τ Cert.InwKernelIdeal.sig) → Buf (Elt Ideal) ℓ) : Prop :=
  True

def Pre_InwRefIdeal (m : (ℓ : Loc Cert.InwRefIdeal.nD Cert.InwRefIdeal.τ Cert.InwRefIdeal.sig) → Buf (Elt Ideal) ℓ) : Prop :=
  True

def Pre_SbfKernel (m : (ℓ : Loc Cert.SbfKernel.nD Cert.SbfKernel.τ Cert.SbfKernel.sig) → Buf (Elt Bits) ℓ) : Prop :=
  True

def Pre_SbfKernelIdeal (m : (ℓ : Loc Cert.SbfKernelIdeal.nD Cert.SbfKernelIdeal.τ Cert.SbfKernelIdeal.sig) → Buf (Elt Ideal) ℓ) : Prop :=
  True

def Pre_SbfKernelIdeal_sbf_finite [hPre_sbf_finite : Cert.Pre_sbf_finite.Facts] (m : (ℓ : Loc Cert.SbfKernelIdeal.nD Cert.SbfKernelIdeal.τ Cert.SbfKernelIdeal.sig) → Buf (Elt Ideal) ℓ) : Prop :=
  ∀ c : Dev Cert.SbfKernelIdeal.nD,
    (Cert.Pre_sbf_finite.fn (F := Ideal) (m ((c.tc : Thread Cert.SbfKernelIdeal.nD Cert.SbfKernelIdeal.τ).loc Cert.SbfKernelIdeal.main_arg0)) (m ((c.tc : Thread Cert.SbfKernelIdeal.nD Cert.SbfKernelIdeal.τ).loc Cert.SbfKernelIdeal.main_arg1)) (m ((c.tc : Thread Cert.SbfKernelIdeal.nD Cert.SbfKernelIdeal.τ).loc Cert.SbfKernelIdeal.main_arg2))).1 = (fun _ => 1#1)
    ∧ (Cert.Pre_sbf_finite.fn (F := Ideal) (m ((c.tc : Thread Cert.SbfKernelIdeal.nD Cert.SbfKernelIdeal.τ).loc Cert.SbfKernelIdeal.main_arg0)) (m ((c.tc : Thread Cert.SbfKernelIdeal.nD Cert.SbfKernelIdeal.τ).loc Cert.SbfKernelIdeal.main_arg1)) (m ((c.tc : Thread Cert.SbfKernelIdeal.nD Cert.SbfKernelIdeal.τ).loc Cert.SbfKernelIdeal.main_arg2))).2.1 = (fun _ => 1#1)
    ∧ (Cert.Pre_sbf_finite.fn (F := Ideal) (m ((c.tc : Thread Cert.SbfKernelIdeal.nD Cert.SbfKernelIdeal.τ).loc Cert.SbfKernelIdeal.main_arg0)) (m ((c.tc : Thread Cert.SbfKernelIdeal.nD Cert.SbfKernelIdeal.τ).loc Cert.SbfKernelIdeal.main_arg1)) (m ((c.tc : Thread Cert.SbfKernelIdeal.nD Cert.SbfKernelIdeal.τ).loc Cert.SbfKernelIdeal.main_arg2))).2.2 = (fun _ => 1#1)

def Pre_SbfRefIdeal (m : (ℓ : Loc Cert.SbfRefIdeal.nD Cert.SbfRefIdeal.τ Cert.SbfRefIdeal.sig) → Buf (Elt Ideal) ℓ) : Prop :=
  True

def Pre_SbfRefIdeal_sbf_finite [hPre_sbf_finite : Cert.Pre_sbf_finite.Facts] (m : (ℓ : Loc Cert.SbfRefIdeal.nD Cert.SbfRefIdeal.τ Cert.SbfRefIdeal.sig) → Buf (Elt Ideal) ℓ) : Prop :=
  ∀ c : Dev Cert.SbfRefIdeal.nD,
    (Cert.Pre_sbf_finite.fn (F := Ideal) (m ((c.tc : Thread Cert.SbfRefIdeal.nD Cert.SbfRefIdeal.τ).loc Cert.SbfRefIdeal.main_arg0)) (m ((c.tc : Thread Cert.SbfRefIdeal.nD Cert.SbfRefIdeal.τ).loc Cert.SbfRefIdeal.main_arg1)) (m ((c.tc : Thread Cert.SbfRefIdeal.nD Cert.SbfRefIdeal.τ).loc Cert.SbfRefIdeal.main_arg2))).1 = (fun _ => 1#1)
    ∧ (Cert.Pre_sbf_finite.fn (F := Ideal) (m ((c.tc : Thread Cert.SbfRefIdeal.nD Cert.SbfRefIdeal.τ).loc Cert.SbfRefIdeal.main_arg0)) (m ((c.tc : Thread Cert.SbfRefIdeal.nD Cert.SbfRefIdeal.τ).loc Cert.SbfRefIdeal.main_arg1)) (m ((c.tc : Thread Cert.SbfRefIdeal.nD Cert.SbfRefIdeal.τ).loc Cert.SbfRefIdeal.main_arg2))).2.1 = (fun _ => 1#1)
    ∧ (Cert.Pre_sbf_finite.fn (F := Ideal) (m ((c.tc : Thread Cert.SbfRefIdeal.nD Cert.SbfRefIdeal.τ).loc Cert.SbfRefIdeal.main_arg0)) (m ((c.tc : Thread Cert.SbfRefIdeal.nD Cert.SbfRefIdeal.τ).loc Cert.SbfRefIdeal.main_arg1)) (m ((c.tc : Thread Cert.SbfRefIdeal.nD Cert.SbfRefIdeal.τ).loc Cert.SbfRefIdeal.main_arg2))).2.2 = (fun _ => 1#1)

def Pre_SsdKernel (m : (ℓ : Loc Cert.SsdKernel.nD Cert.SsdKernel.τ Cert.SsdKernel.sig) → Buf (Elt Bits) ℓ) : Prop :=
  True

def Pre_SsdKernelIdeal (m : (ℓ : Loc Cert.SsdKernelIdeal.nD Cert.SsdKernelIdeal.τ Cert.SsdKernelIdeal.sig) → Buf (Elt Ideal) ℓ) : Prop :=
  True

def Pre_SsdKernelIdeal_ssd_finite [hPre_ssd_finite : Cert.Pre_ssd_finite.Facts] (m : (ℓ : Loc Cert.SsdKernelIdeal.nD Cert.SsdKernelIdeal.τ Cert.SsdKernelIdeal.sig) → Buf (Elt Ideal) ℓ) : Prop :=
  ∀ c : Dev Cert.SsdKernelIdeal.nD,
    (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))).1 = (fun _ => 1#1)
    ∧ (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))).2.1 = (fun _ => 1#1)
    ∧ (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))).2.2.1 = (fun _ => 1#1)
    ∧ (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))).2.2.2.1 = (fun _ => 1#1)
    ∧ (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))).2.2.2.2.1 = (fun _ => 1#1)
    ∧ (Cert.Pre_ssd_finite.fn (F := Ideal) (m ((c.tc : Thread Cert.SsdKernelIdeal.nD Cert.SsdKernelIdeal.τ).loc Cert.SsdKernelIdeal.main_arg0)) (m ((c.tc : Thread Cert.SsdKernelIdeal.nD Cert.SsdKernelIdeal.τ).loc Cert.SsdKernelIdeal.main_arg1)) (m ((c.tc : Thread Cert.SsdKernelIdeal.nD Cert.SsdKernelIdeal.τ).loc Cert.SsdKernelIdeal.main_arg2)) (m ((c.tc : Thread Cert.SsdKernelIdeal.nD Cert.SsdKernelIdeal.τ).loc Cert.SsdKernelIdeal.main_arg3)) (m ((c.tc : Thread Cert.SsdKernelIdeal.nD Cert.SsdKernelIdeal.τ).loc Cert.SsdKernelIdeal.main_arg4)) (m ((c.tc : Thread Cert.SsdKernelIdeal.nD Cert.SsdKernelIdeal.τ).loc Cert.SsdKernelIdeal.main_arg5))).2.2.2.2.2 = (fun _ => 1#1)

def Pre_SsdRefIdeal (m : (ℓ : Loc Cert.SsdRefIdeal.nD Cert.SsdRefIdeal.τ Cert.SsdRefIdeal.sig) → Buf (Elt Ideal) ℓ) : Prop :=
  True

def Pre_SsdRefIdeal_ssd_finite [hPre_ssd_finite : Cert.Pre_ssd_finite.Facts] (m : (ℓ : Loc Cert.SsdRefIdeal.nD Cert.SsdRefIdeal.τ Cert.SsdRefIdeal.sig) → Buf (Elt Ideal) ℓ) : Prop :=
  ∀ c : Dev Cert.SsdRefIdeal.nD,
    (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.2.2.1 = (fun _ => 1#1)
    ∧ (Cert.Pre_ssd_finite.fn (F := Ideal) (m ((c.tc : Thread Cert.SsdRefIdeal.nD Cert.SsdRefIdeal.τ).loc Cert.SsdRefIdeal.main_arg0)) (m ((c.tc : Thread Cert.SsdRefIdeal.nD Cert.SsdRefIdeal.τ).loc Cert.SsdRefIdeal.main_arg1)) (m ((c.tc : Thread Cert.SsdRefIdeal.nD Cert.SsdRefIdeal.τ).loc Cert.SsdRefIdeal.main_arg2)) (m ((c.tc : Thread Cert.SsdRefIdeal.nD Cert.SsdRefIdeal.τ).loc Cert.SsdRefIdeal.main_arg3)) (m ((c.tc : Thread Cert.SsdRefIdeal.nD Cert.SsdRefIdeal.τ).loc Cert.SsdRefIdeal.main_arg4)) (m ((c.tc : Thread Cert.SsdRefIdeal.nD Cert.SsdRefIdeal.τ).loc Cert.SsdRefIdeal.main_arg5))).2.2.2.2.2 = (fun _ => 1#1)

def Pre_ActKernel (m : (ℓ : Loc Cert.ActKernel.nD Cert.ActKernel.τ Cert.ActKernel.sig) → Buf (Elt Bits) ℓ) : Prop :=
  True

def Pre_ActKernelIdeal (m : (ℓ : Loc Cert.ActKernelIdeal.nD Cert.ActKernelIdeal.τ Cert.ActKernelIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_FfnKernel (m : (ℓ : Loc Cert.FfnKernel.nD Cert.FfnKernel.τ Cert.FfnKernel.sig) → Buf (Elt Bits) ℓ) : Prop :=
  True

def Pre_FfnKernelIdeal (m : (ℓ : Loc Cert.FfnKernelIdeal.nD Cert.FfnKernelIdeal.τ Cert.FfnKernelIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_NqKernel (m : (ℓ : Loc Cert.NqKernel.nD Cert.NqKernel.τ Cert.NqKernel.sig) → Buf (Elt Bits) ℓ) : Prop :=
  True

def Pre_NqKernelIdeal (m : (ℓ : Loc Cert.NqKernelIdeal.nD Cert.NqKernelIdeal.τ Cert.NqKernelIdeal.sig) → Buf (Elt Ideal) ℓ) : Prop :=
  True

def Pre_NqRefIdeal (m : (ℓ : Loc Cert.NqRefIdeal.nD Cert.NqRefIdeal.τ Cert.NqRefIdeal.sig) → Buf (Elt Ideal) ℓ) : Prop :=
  True

def Pre_NupKernel (m : (ℓ : Loc Cert.NupKernel.nD Cert.NupKernel.τ Cert.NupKernel.sig) → Buf (Elt Bits) ℓ) : Prop :=
  True

def Pre_NupKernelIdeal (m : (ℓ : Loc Cert.NupKernelIdeal.nD Cert.NupKernelIdeal.τ Cert.NupKernelIdeal.sig) → Buf (Elt Ideal) ℓ) : Prop :=
  True

def Pre_NupRefIdeal (m : (ℓ : Loc Cert.NupRefIdeal.nD Cert.NupRefIdeal.τ Cert.NupRefIdeal.sig) → Buf (Elt Ideal) ℓ) : Prop :=
  True

def Pre_NinKernel (m : (ℓ : Loc Cert.NinKernel.nD Cert.NinKernel.τ Cert.NinKernel.sig) → Buf (Elt Bits) ℓ) : Prop :=
  True

def Pre_NinKernelIdeal (m : (ℓ : Loc Cert.NinKernelIdeal.nD Cert.NinKernelIdeal.τ Cert.NinKernelIdeal.sig) → Buf (Elt Ideal) ℓ) : Prop :=
  True

def Pre_NinRefIdeal (m : (ℓ : Loc Cert.NinRefIdeal.nD Cert.NinRefIdeal.τ Cert.NinRefIdeal.sig) → Buf (Elt Ideal) ℓ) : Prop :=
  True

def Pre_DnKernel (m : (ℓ : Loc Cert.DnKernel.nD Cert.DnKernel.τ Cert.DnKernel.sig) → Buf (Elt Bits) ℓ) : Prop :=
  True

def Pre_DnKernelIdeal (m : (ℓ : Loc Cert.DnKernelIdeal.nD Cert.DnKernelIdeal.τ Cert.DnKernelIdeal.sig) → Buf (Elt Ideal) ℓ) : Prop :=
  True

def Pre_DnRefIdeal (m : (ℓ : Loc Cert.DnRefIdeal.nD Cert.DnRefIdeal.τ Cert.DnRefIdeal.sig) → Buf (Elt Ideal) ℓ) : Prop :=
  True

def Pre_DdKernel (m : (ℓ : Loc Cert.DdKernel.nD Cert.DdKernel.τ Cert.DdKernel.sig) → Buf (Elt Bits) ℓ) : Prop :=
  True

def Pre_DdKernelIdeal (m : (ℓ : Loc Cert.DdKernelIdeal.nD Cert.DdKernelIdeal.τ Cert.DdKernelIdeal.sig) → Buf (Elt Ideal) ℓ) : Prop :=
  True

def Pre_DdRefIdeal (m : (ℓ : Loc Cert.DdRefIdeal.nD Cert.DdRefIdeal.τ Cert.DdRefIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwRefIdeal (m : (ℓ : Loc Cert.DwRefIdeal.nD Cert.DwRefIdeal.τ Cert.DwRefIdeal.sig) → Buf (Elt Ideal) ℓ) : Prop :=
  True

def Pre_OptKernel (m : (ℓ : Loc Cert.OptKernel.nD Cert.OptKernel.τ Cert.OptKernel.sig) → Buf (Elt Bits) ℓ) : Prop :=
  True

def Pre_OptKernelIdeal (m : (ℓ : Loc Cert.OptKernelIdeal.nD Cert.OptKernelIdeal.τ Cert.OptKernelIdeal.sig) → Buf (Elt Ideal) ℓ) : Prop :=
  True

def Pre_OptRefIdeal (m : (ℓ : Loc Cert.OptRefIdeal.nD Cert.OptRefIdeal.τ Cert.OptRefIdeal.sig) → Buf (Elt Ideal) ℓ) : Prop :=
  True

def Pre_PutKernel (m : (ℓ : Loc Cert.PutKernel.nD Cert.PutKernel.τ Cert.PutKernel.sig) → Buf (Elt Bits) ℓ) : Prop :=
  True

def Pre_PutKernelIdeal (m : (ℓ : Loc Cert.PutKernelIdeal.nD Cert.PutKernelIdeal.τ Cert.PutKernelIdeal.sig) → Buf (Elt Ideal) ℓ) : Prop :=
  True

def Pre_PutRefIdeal (m : (ℓ : Loc Cert.PutRefIdeal.nD Cert.PutRefIdeal.τ Cert.PutRefIdeal.sig) → Buf (Elt Ideal) ℓ) : Prop :=
  True

def Pre_StkKernel (m : (ℓ : Loc Cert.StkKernel.nD Cert.StkKernel.τ Cert.StkKernel.sig) → Buf (Elt Bits) ℓ) : Prop :=
  True

def Pre_StkKernelIdeal (m : (ℓ : Loc Cert.StkKernelIdeal.nD Cert.StkKernelIdeal.τ Cert.StkKernelIdeal.sig) → Buf (Elt Ideal) ℓ) : Prop :=
  True

def Pre_StkRefIdeal (m : (ℓ : Loc Cert.StkRefIdeal.nD Cert.StkRefIdeal.τ Cert.StkRefIdeal.sig) → Buf (Elt Ideal) ℓ) : Prop :=
  True

def Pre_UnsKernel (m : (ℓ : Loc Cert.UnsKernel.nD Cert.UnsKernel.τ Cert.UnsKernel.sig) → Buf (Elt Bits) ℓ) : Prop :=
  True

def Pre_UnsKernelIdeal (m : (ℓ : Loc Cert.UnsKernelIdeal.nD Cert.UnsKernelIdeal.τ Cert.UnsKernelIdeal.sig) → Buf (Elt Ideal) ℓ) : Prop :=
  True

def Pre_UnsRefIdeal (m : (ℓ : Loc Cert.UnsRefIdeal.nD Cert.UnsRefIdeal.τ Cert.UnsRefIdeal.sig) → Buf (Elt Ideal) ℓ) : Prop :=
  True

def quiescent_LossKernel [hLossKernel : Cert.LossKernel.Facts] : Prop :=
  ∀ (m : (ℓ : Loc Cert.LossKernel.nD Cert.LossKernel.τ Cert.LossKernel.sig) → Buf (Elt Bits) ℓ) (g : Dev Cert.LossKernel.nD → PrngReg), Pre_LossKernel m →
    θ_run (Cert.LossKernel.defs (F := Bits)) (onTc (τ := Cert.LossKernel.τ) (Cert.LossKernel.main (F := Bits))) ⟨m, fun _ => 0, g⟩ (fun r => (∀ c : Dev Cert.LossKernel.nD,
      r.2.mem ((c.tc : Thread Cert.LossKernel.nD Cert.LossKernel.τ).loc Cert.LossKernel.main_arg0) = m ((c.tc : Thread Cert.LossKernel.nD Cert.LossKernel.τ).loc Cert.LossKernel.main_arg0)
      ∧ r.2.mem ((c.tc : Thread Cert.LossKernel.nD Cert.LossKernel.τ).loc Cert.LossKernel.main_arg1) = m ((c.tc : Thread Cert.LossKernel.nD Cert.LossKernel.τ).loc Cert.LossKernel.main_arg1)
      ∧ r.2.mem ((c.tc : Thread Cert.LossKernel.nD Cert.LossKernel.τ).loc Cert.LossKernel.main_arg2) = m ((c.tc : Thread Cert.LossKernel.nD Cert.LossKernel.τ).loc Cert.LossKernel.main_arg2))
      ∧ r.2.sem = fun _ => 0)

def quiescent_LossKernelIdeal [hLossKernelIdeal : Cert.LossKernelIdeal.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossKernelIdeal_pre_loss_finite [hLossKernelIdeal : Cert.LossKernelIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg), Pre_LossKernelIdeal_loss_finite m →
    θ_run (Cert.LossKernelIdeal.defs (F := Ideal)) (onTc (τ := Cert.LossKernelIdeal.τ) (Cert.LossKernelIdeal.main (F := Ideal))) ⟨m, fun _ => 0, g⟩ (fun r => (∀ c : Dev Cert.LossKernelIdeal.nD,
      r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
      ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
      ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2))
      ∧ r.2.sem = fun _ => 0)

def quiescent_GateKernel [hGateKernel : Cert.GateKernel.Facts] : Prop :=
  ∀ (m : (ℓ : Loc Cert.GateKernel.nD Cert.GateKernel.τ Cert.GateKernel.sig) → Buf (Elt Bits) ℓ) (g : Dev Cert.GateKernel.nD → PrngReg), Pre_GateKernel m →
    θ_run (Cert.GateKernel.defs (F := Bits)) (onTc (τ := Cert.GateKernel.τ) (Cert.GateKernel.main (F := Bits))) ⟨m, fun _ => 0, g⟩ (fun r => (∀ c : Dev Cert.GateKernel.nD,
      r.2.mem ((c.tc : Thread Cert.GateKernel.nD Cert.GateKernel.τ).loc Cert.GateKernel.main_arg0) = m ((c.tc : Thread Cert.GateKernel.nD Cert.GateKernel.τ).loc Cert.GateKernel.main_arg0)
      ∧ r.2.mem ((c.tc : Thread Cert.GateKernel.nD Cert.GateKernel.τ).loc Cert.GateKernel.main_arg1) = m ((c.tc : Thread Cert.GateKernel.nD Cert.GateKernel.τ).loc Cert.GateKernel.main_arg1)
      ∧ r.2.mem ((c.tc : Thread Cert.GateKernel.nD Cert.GateKernel.τ).loc Cert.GateKernel.main_arg2) = m ((c.tc : Thread Cert.GateKernel.nD Cert.GateKernel.τ).loc Cert.GateKernel.main_arg2)
      ∧ r.2.mem ((c.tc : Thread Cert.GateKernel.nD Cert.GateKernel.τ).loc Cert.GateKernel.main_arg3) = m ((c.tc : Thread Cert.GateKernel.nD Cert.GateKernel.τ).loc Cert.GateKernel.main_arg3))
      ∧ r.2.sem = fun _ => 0)

def quiescent_GateKernelIdeal [hGateKernelIdeal : Cert.GateKernelIdeal.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateKernelIdeal_pre_gate_finite [hGateKernelIdeal : Cert.GateKernelIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg), Pre_GateKernelIdeal_gate_finite m →
    θ_run (Cert.GateKernelIdeal.defs (F := Ideal)) (onTc (τ := Cert.GateKernelIdeal.τ) (Cert.GateKernelIdeal.main (F := Ideal))) ⟨m, fun _ => 0, g⟩ (fun r => (∀ c : Dev Cert.GateKernelIdeal.nD,
      r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
      ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
      ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
      ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_gate_finite [hGateRefIdeal : Cert.GateRefIdeal.Facts] [hPre_gate_finite : Cert.Pre_gate_finite.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_gate_finite m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_ConvKernel [hConvKernel : Cert.ConvKernel.Facts] : Prop :=
  ∀ (m : (ℓ : Loc Cert.ConvKernel.nD Cert.ConvKernel.τ Cert.ConvKernel.sig) → Buf (Elt Bits) ℓ) (g : Dev Cert.ConvKernel.nD → PrngReg), Pre_ConvKernel m →
    θ_run (Cert.ConvKernel.defs (F := Bits)) (onTc (τ := Cert.ConvKernel.τ) (Cert.ConvKernel.main (F := Bits))) ⟨m, fun _ => 0, g⟩ (fun r => (∀ c : Dev Cert.ConvKernel.nD,
      r.2.mem ((c.tc : Thread Cert.ConvKernel.nD Cert.ConvKernel.τ).loc Cert.ConvKernel.main_arg0) = m ((c.tc : Thread Cert.ConvKernel.nD Cert.ConvKernel.τ).loc Cert.ConvKernel.main_arg0)
      ∧ r.2.mem ((c.tc : Thread Cert.ConvKernel.nD Cert.ConvKernel.τ).loc Cert.ConvKernel.main_arg1) = m ((c.tc : Thread Cert.ConvKernel.nD Cert.ConvKernel.τ).loc Cert.ConvKernel.main_arg1))
      ∧ r.2.sem = fun _ => 0)

def quiescent_ConvKernelIdeal [hConvKernelIdeal : Cert.ConvKernelIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg), Pre_ConvKernelIdeal m →
    θ_run (Cert.ConvKernelIdeal.defs (F := Ideal)) (onTc (τ := Cert.ConvKernelIdeal.τ) (Cert.ConvKernelIdeal.main (F := Ideal))) ⟨m, fun _ => 0, g⟩ (fun r => (∀ c : Dev Cert.ConvKernelIdeal.nD,
      r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
      ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1))
      ∧ r.2.sem = fun _ => 0)

def quiescent_SiluKernel [hSiluKernel : Cert.SiluKernel.Facts] : Prop :=
  ∀ (m : (ℓ : Loc Cert.SiluKernel.nD Cert.SiluKernel.τ Cert.SiluKernel.sig) → Buf (Elt Bits) ℓ) (g : Dev Cert.SiluKernel.nD → PrngReg), Pre_SiluKernel m →
    θ_run (Cert.SiluKernel.defs (F := Bits)) (onTc (τ := Cert.SiluKernel.τ) (Cert.SiluKernel.main (F := Bits))) ⟨m, fun _ => 0, g⟩ (fun r => (∀ c : Dev Cert.SiluKernel.nD,
      r.2.mem ((c.tc : Thread Cert.SiluKernel.nD Cert.SiluKernel.τ).loc Cert.SiluKernel.main_arg0) = m ((c.tc : Thread Cert.SiluKernel.nD Cert.SiluKernel.τ).loc Cert.SiluKernel.main_arg0)
      ∧ r.2.mem ((c.tc : Thread Cert.SiluKernel.nD Cert.SiluKernel.τ).loc Cert.SiluKernel.main_arg1) = m ((c.tc : Thread Cert.SiluKernel.nD Cert.SiluKernel.τ).loc Cert.SiluKernel.main_arg1)
      ∧ r.2.mem ((c.tc : Thread Cert.SiluKernel.nD Cert.SiluKernel.τ).loc Cert.SiluKernel.main_arg2) = m ((c.tc : Thread Cert.SiluKernel.nD Cert.SiluKernel.τ).loc Cert.SiluKernel.main_arg2)
      ∧ r.2.mem ((c.tc : Thread Cert.SiluKernel.nD Cert.SiluKernel.τ).loc Cert.SiluKernel.main_arg3) = m ((c.tc : Thread Cert.SiluKernel.nD Cert.SiluKernel.τ).loc Cert.SiluKernel.main_arg3))
      ∧ r.2.sem = fun _ => 0)

def quiescent_SiluKernelIdeal [hSiluKernelIdeal : Cert.SiluKernelIdeal.Facts] : Prop :=
  ∀ (m : (ℓ : Loc Cert.SiluKernelIdeal.nD Cert.SiluKernelIdeal.τ Cert.SiluKernelIdeal.sig) → Buf (Elt Ideal) ℓ) (g : Dev Cert.SiluKernelIdeal.nD → PrngReg), Pre_SiluKernelIdeal m →
    θ_run (Cert.SiluKernelIdeal.defs (F := Ideal)) (onTc (τ := Cert.SiluKernelIdeal.τ) (Cert.SiluKernelIdeal.main (F := Ideal))) ⟨m, fun _ => 0, g⟩ (fun r => (∀ c : Dev Cert.SiluKernelIdeal.nD,
      r.2.mem ((c.tc : Thread Cert.SiluKernelIdeal.nD Cert.SiluKernelIdeal.τ).loc Cert.SiluKernelIdeal.main_arg0) = m ((c.tc : Thread Cert.SiluKernelIdeal.nD Cert.SiluKernelIdeal.τ).loc Cert.SiluKernelIdeal.main_arg0)
      ∧ r.2.mem ((c.tc : Thread Cert.SiluKernelIdeal.nD Cert.SiluKernelIdeal.τ).loc Cert.SiluKernelIdeal.main_arg1) = m ((c.tc : Thread Cert.SiluKernelIdeal.nD Cert.SiluKernelIdeal.τ).loc Cert.SiluKernelIdeal.main_arg1)
      ∧ r.2.mem ((c.tc : Thread Cert.SiluKernelIdeal.nD Cert.SiluKernelIdeal.τ).loc Cert.SiluKernelIdeal.main_arg2) = m ((c.tc : Thread Cert.SiluKernelIdeal.nD Cert.SiluKernelIdeal.τ).loc Cert.SiluKernelIdeal.main_arg2)
      ∧ r.2.mem ((c.tc : Thread Cert.SiluKernelIdeal.nD Cert.SiluKernelIdeal.τ).loc Cert.SiluKernelIdeal.main_arg3) = m ((c.tc : Thread Cert.SiluKernelIdeal.nD Cert.SiluKernelIdeal.τ).loc Cert.SiluKernelIdeal.main_arg3))
      ∧ r.2.sem = fun _ => 0)

def quiescent_SiluKernelIdeal_pre_silu_finite [hSiluKernelIdeal : Cert.SiluKernelIdeal.Facts] [hPre_silu_finite : Cert.Pre_silu_finite.Facts] : Prop :=
  ∀ (m : (ℓ : Loc Cert.SiluKernelIdeal.nD Cert.SiluKernelIdeal.τ Cert.SiluKernelIdeal.sig) → Buf (Elt Ideal) ℓ) (g : Dev Cert.SiluKernelIdeal.nD → PrngReg), Pre_SiluKernelIdeal_silu_finite m →
    θ_run (Cert.SiluKernelIdeal.defs (F := Ideal)) (onTc (τ := Cert.SiluKernelIdeal.τ) (Cert.SiluKernelIdeal.main (F := Ideal))) ⟨m, fun _ => 0, g⟩ (fun r => (∀ c : Dev Cert.SiluKernelIdeal.nD,
      r.2.mem ((c.tc : Thread Cert.SiluKernelIdeal.nD Cert.SiluKernelIdeal.τ).loc Cert.SiluKernelIdeal.main_arg0) = m ((c.tc : Thread Cert.SiluKernelIdeal.nD Cert.SiluKernelIdeal.τ).loc Cert.SiluKernelIdeal.main_arg0)
      ∧ r.2.mem ((c.tc : Thread Cert.SiluKernelIdeal.nD Cert.SiluKernelIdeal.τ).loc Cert.SiluKernelIdeal.main_arg1) = m ((c.tc : Thread Cert.SiluKernelIdeal.nD Cert.SiluKernelIdeal.τ).loc Cert.SiluKernelIdeal.main_arg1)
      ∧ r.2.mem ((c.tc : Thread Cert.SiluKernelIdeal.nD Cert.SiluKernelIdeal.τ).loc Cert.SiluKernelIdeal.main_arg2) = m ((c.tc : Thread Cert.SiluKernelIdeal.nD Cert.SiluKernelIdeal.τ).loc Cert.SiluKernelIdeal.main_arg2)
      ∧ r.2.mem ((c.tc : Thread Cert.SiluKernelIdeal.nD Cert.SiluKernelIdeal.τ).loc Cert.SiluKernelIdeal.main_arg3) = m ((c.tc : Thread Cert.SiluKernelIdeal.nD Cert.SiluKernelIdeal.τ).loc Cert.SiluKernelIdeal.main_arg3))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1)
      ∧ r.2.mem ((c.tc : Thread Cert.SiluRefIdeal.nD Cert.SiluRefIdeal.τ).loc Cert.SiluRefIdeal.main_arg2) = m ((c.tc : Thread Cert.SiluRefIdeal.nD Cert.SiluRefIdeal.τ).loc Cert.SiluRefIdeal.main_arg2)
      ∧ r.2.mem ((c.tc : Thread Cert.SiluRefIdeal.nD Cert.SiluRefIdeal.τ).loc Cert.SiluRefIdeal.main_arg3) = m ((c.tc : Thread Cert.SiluRefIdeal.nD Cert.SiluRefIdeal.τ).loc Cert.SiluRefIdeal.main_arg3))
      ∧ r.2.sem = fun _ => 0)

def quiescent_SiluRefIdeal_pre_silu_finite [hSiluRefIdeal : Cert.SiluRefIdeal.Facts] [hPre_silu_finite : Cert.Pre_silu_finite.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal_silu_finite m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0)
      ∧ r.2.mem ((c.tc : Thread Cert.SiluRefIdeal.nD Cert.SiluRefIdeal.τ).loc Cert.SiluRefIdeal.main_arg1) = m ((c.tc : Thread Cert.SiluRefIdeal.nD Cert.SiluRefIdeal.τ).loc Cert.SiluRefIdeal.main_arg1)
      ∧ r.2.mem ((c.tc : Thread Cert.SiluRefIdeal.nD Cert.SiluRefIdeal.τ).loc Cert.SiluRefIdeal.main_arg2) = m ((c.tc : Thread Cert.SiluRefIdeal.nD Cert.SiluRefIdeal.τ).loc Cert.SiluRefIdeal.main_arg2)
      ∧ r.2.mem ((c.tc : Thread Cert.SiluRefIdeal.nD Cert.SiluRefIdeal.τ).loc Cert.SiluRefIdeal.main_arg3) = m ((c.tc : Thread Cert.SiluRefIdeal.nD Cert.SiluRefIdeal.τ).loc Cert.SiluRefIdeal.main_arg3))
      ∧ r.2.sem = fun _ => 0)

def quiescent_XbcKernel [hXbcKernel : Cert.XbcKernel.Facts] : Prop :=
  ∀ (m : (ℓ : Loc Cert.XbcKernel.nD Cert.XbcKernel.τ Cert.XbcKernel.sig) → Buf (Elt Bits) ℓ) (g : Dev Cert.XbcKernel.nD → PrngReg), Pre_XbcKernel m →
    θ_run (Cert.XbcKernel.defs (F := Bits)) (onTc (τ := Cert.XbcKernel.τ) (Cert.XbcKernel.main (F := Bits))) ⟨m, fun _ => 0, g⟩ (fun r => (∀ c : Dev Cert.XbcKernel.nD,
      r.2.mem ((c.tc : Thread Cert.XbcKernel.nD Cert.XbcKernel.τ).loc Cert.XbcKernel.main_arg0) = m ((c.tc : Thread Cert.XbcKernel.nD Cert.XbcKernel.τ).loc Cert.XbcKernel.main_arg0)
      ∧ r.2.mem ((c.tc : Thread Cert.XbcKernel.nD Cert.XbcKernel.τ).loc Cert.XbcKernel.main_arg1) = m ((c.tc : Thread Cert.XbcKernel.nD Cert.XbcKernel.τ).loc Cert.XbcKernel.main_arg1)
      ∧ r.2.mem ((c.tc : Thread Cert.XbcKernel.nD Cert.XbcKernel.τ).loc Cert.XbcKernel.main_arg2) = m ((c.tc : Thread Cert.XbcKernel.nD Cert.XbcKernel.τ).loc Cert.XbcKernel.main_arg2))
      ∧ r.2.sem = fun _ => 0)

def quiescent_XbcKernelIdeal [hXbcKernelIdeal : Cert.XbcKernelIdeal.Facts] : Prop :=
  ∀ (m : (ℓ : Loc Cert.XbcKernelIdeal.nD Cert.XbcKernelIdeal.τ Cert.XbcKernelIdeal.sig) → Buf (Elt Ideal) ℓ) (g : Dev Cert.XbcKernelIdeal.nD → PrngReg), Pre_XbcKernelIdeal m →
    θ_run (Cert.XbcKernelIdeal.defs (F := Ideal)) (onTc (τ := Cert.XbcKernelIdeal.τ) (Cert.XbcKernelIdeal.main (F := Ideal))) ⟨m, fun _ => 0, g⟩ (fun r => (∀ c : Dev Cert.XbcKernelIdeal.nD,
      r.2.mem ((c.tc : Thread Cert.XbcKernelIdeal.nD Cert.XbcKernelIdeal.τ).loc Cert.XbcKernelIdeal.main_arg0) = m ((c.tc : Thread Cert.XbcKernelIdeal.nD Cert.XbcKernelIdeal.τ).loc Cert.XbcKernelIdeal.main_arg0)
      ∧ r.2.mem ((c.tc : Thread Cert.XbcKernelIdeal.nD Cert.XbcKernelIdeal.τ).loc Cert.XbcKernelIdeal.main_arg1) = m ((c.tc : Thread Cert.XbcKernelIdeal.nD Cert.XbcKernelIdeal.τ).loc Cert.XbcKernelIdeal.main_arg1)
      ∧ r.2.mem ((c.tc : Thread Cert.XbcKernelIdeal.nD Cert.XbcKernelIdeal.τ).loc Cert.XbcKernelIdeal.main_arg2) = m ((c.tc : Thread Cert.XbcKernelIdeal.nD Cert.XbcKernelIdeal.τ).loc Cert.XbcKernelIdeal.main_arg2))
      ∧ r.2.sem = fun _ => 0)

def quiescent_XbcRefIdeal [hXbcRefIdeal : Cert.XbcRefIdeal.Facts] : Prop :=
  ∀ (m : (ℓ : Loc Cert.XbcRefIdeal.nD Cert.XbcRefIdeal.τ Cert.XbcRefIdeal.sig) → Buf (Elt Ideal) ℓ) (g : Dev Cert.XbcRefIdeal.nD → PrngReg), Pre_XbcRefIdeal m →
    θ_run (Cert.XbcRefIdeal.defs (F := Ideal)) (onTc (τ := Cert.XbcRefIdeal.τ) (Cert.XbcRefIdeal.main (F := Ideal))) ⟨m, fun _ => 0, g⟩ (fun r => (∀ c : Dev Cert.XbcRefIdeal.nD,
      r.2.mem ((c.tc : Thread Cert.XbcRefIdeal.nD Cert.XbcRefIdeal.τ).loc Cert.XbcRefIdeal.main_arg0) = m ((c.tc : Thread Cert.XbcRefIdeal.nD Cert.XbcRefIdeal.τ).loc Cert.XbcRefIdeal.main_arg0)
      ∧ r.2.mem ((c.tc : Thread Cert.XbcRefIdeal.nD Cert.XbcRefIdeal.τ).loc Cert.XbcRefIdeal.main_arg1) = m ((c.tc : Thread Cert.XbcRefIdeal.nD Cert.XbcRefIdeal.τ).loc Cert.XbcRefIdeal.main_arg1)
      ∧ r.2.mem ((c.tc : Thread Cert.XbcRefIdeal.nD Cert.XbcRefIdeal.τ).loc Cert.XbcRefIdeal.main_arg2) = m ((c.tc : Thread Cert.XbcRefIdeal.nD Cert.XbcRefIdeal.τ).loc Cert.XbcRefIdeal.main_arg2))
      ∧ r.2.sem = fun _ => 0)

def quiescent_QKernel [hQKernel : Cert.QKernel.Facts] : Prop :=
  ∀ (m : (ℓ : Loc Cert.QKernel.nD Cert.QKernel.τ Cert.QKernel.sig) → Buf (Elt Bits) ℓ) (g : Dev Cert.QKernel.nD → PrngReg), Pre_QKernel m →
    θ_run (Cert.QKernel.defs (F := Bits)) (onTc (τ := Cert.QKernel.τ) (Cert.QKernel.main (F := Bits))) ⟨m, fun _ => 0, g⟩ (fun r => (∀ c : Dev Cert.QKernel.nD,
      r.2.mem ((c.tc : Thread Cert.QKernel.nD Cert.QKernel.τ).loc Cert.QKernel.main_arg0) = m ((c.tc : Thread Cert.QKernel.nD Cert.QKernel.τ).loc Cert.QKernel.main_arg0)
      ∧ r.2.mem ((c.tc : Thread Cert.QKernel.nD Cert.QKernel.τ).loc Cert.QKernel.main_arg1) = m ((c.tc : Thread Cert.QKernel.nD Cert.QKernel.τ).loc Cert.QKernel.main_arg1)
      ∧ r.2.mem ((c.tc : Thread Cert.QKernel.nD Cert.QKernel.τ).loc Cert.QKernel.main_arg2) = m ((c.tc : Thread Cert.QKernel.nD Cert.QKernel.τ).loc Cert.QKernel.main_arg2)
      ∧ r.2.mem ((c.tc : Thread Cert.QKernel.nD Cert.QKernel.τ).loc Cert.QKernel.main_arg3) = m ((c.tc : Thread Cert.QKernel.nD Cert.QKernel.τ).loc Cert.QKernel.main_arg3)
      ∧ r.2.mem ((c.tc : Thread Cert.QKernel.nD Cert.QKernel.τ).loc Cert.QKernel.main_arg4) = m ((c.tc : Thread Cert.QKernel.nD Cert.QKernel.τ).loc Cert.QKernel.main_arg4))
      ∧ r.2.sem = fun _ => 0)

def quiescent_QKernelIdeal [hQKernelIdeal : Cert.QKernelIdeal.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ r.2.sem = fun _ => 0)

def quiescent_QKernelIdeal_pre_q_finite [hQKernelIdeal : Cert.QKernelIdeal.Facts] [hPre_q_finite : Cert.Pre_q_finite.Facts] : Prop :=
  ∀ (m : (ℓ : Loc Cert.QKernelIdeal.nD Cert.QKernelIdeal.τ Cert.QKernelIdeal.sig) → Buf (Elt Ideal) ℓ) (g : Dev Cert.QKernelIdeal.nD → PrngReg), Pre_QKernelIdeal_q_finite m →
    θ_run (Cert.QKernelIdeal.defs (F := Ideal)) (onTc (τ := Cert.QKernelIdeal.τ) (Cert.QKernelIdeal.main (F := Ideal))) ⟨m, fun _ => 0, g⟩ (fun r => (∀ c : Dev Cert.QKernelIdeal.nD,
      r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
      ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
      ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
      ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
      ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ r.2.sem = fun _ => 0)

def quiescent_QRefIdeal [hQRefIdeal : Cert.QRefIdeal.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4))
      ∧ r.2.sem = fun _ => 0)

def quiescent_QRefIdeal_pre_q_finite [hQRefIdeal : Cert.QRefIdeal.Facts] [hPre_q_finite : Cert.Pre_q_finite.Facts] : Prop :=
  ∀ (m : (ℓ : Loc Cert.QRefIdeal.nD Cert.QRefIdeal.τ Cert.QRefIdeal.sig) → Buf (Elt Ideal) ℓ) (g : Dev Cert.QRefIdeal.nD → PrngReg), Pre_QRefIdeal_q_finite m →
    θ_run (Cert.QRefIdeal.defs (F := Ideal)) (onTc (τ := Cert.QRefIdeal.τ) (Cert.QRefIdeal.main (F := Ideal))) ⟨m, fun _ => 0, g⟩ (fun r => (∀ c : Dev Cert.QRefIdeal.nD,
      r.2.mem ((c.tc : Thread Cert.QRefIdeal.nD Cert.QRefIdeal.τ).loc Cert.QRefIdeal.main_arg0) = m ((c.tc : Thread Cert.QRefIdeal.nD Cert.QRefIdeal.τ).loc Cert.QRefIdeal.main_arg0)
      ∧ r.2.mem ((c.tc : Thread Cert.QRefIdeal.nD Cert.QRefIdeal.τ).loc Cert.QRefIdeal.main_arg1) = m ((c.tc : Thread Cert.QRefIdeal.nD Cert.QRefIdeal.τ).loc Cert.QRefIdeal.main_arg1)
      ∧ r.2.mem ((c.tc : Thread Cert.QRefIdeal.nD Cert.QRefIdeal.τ).loc Cert.QRefIdeal.main_arg2) = m ((c.tc : Thread Cert.QRefIdeal.nD Cert.QRefIdeal.τ).loc Cert.QRefIdeal.main_arg2)
      ∧ r.2.mem ((c.tc : Thread Cert.QRefIdeal.nD Cert.QRefIdeal.τ).loc Cert.QRefIdeal.main_arg3) = m ((c.tc : Thread Cert.QRefIdeal.nD Cert.QRefIdeal.τ).loc Cert.QRefIdeal.main_arg3)
      ∧ r.2.mem ((c.tc : Thread Cert.QRefIdeal.nD Cert.QRefIdeal.τ).loc Cert.QRefIdeal.main_arg4) = m ((c.tc : Thread Cert.QRefIdeal.nD Cert.QRefIdeal.τ).loc Cert.QRefIdeal.main_arg4))
      ∧ r.2.sem = fun _ => 0)

def quiescent_SbaKernel [hSbaKernel : Cert.SbaKernel.Facts] : Prop :=
  ∀ (m : (ℓ : Loc Cert.SbaKernel.nD Cert.SbaKernel.τ Cert.SbaKernel.sig) → Buf (Elt Bits) ℓ) (g : Dev Cert.SbaKernel.nD → PrngReg), Pre_SbaKernel m →
    θ_run (Cert.SbaKernel.defs (F := Bits)) (onTc (τ := Cert.SbaKernel.τ) (Cert.SbaKernel.main (F := Bits))) ⟨m, fun _ => 0, g⟩ (fun r => (∀ c : Dev Cert.SbaKernel.nD,
      r.2.mem ((c.tc : Thread Cert.SbaKernel.nD Cert.SbaKernel.τ).loc Cert.SbaKernel.main_arg0) = m ((c.tc : Thread Cert.SbaKernel.nD Cert.SbaKernel.τ).loc Cert.SbaKernel.main_arg0)
      ∧ r.2.mem ((c.tc : Thread Cert.SbaKernel.nD Cert.SbaKernel.τ).loc Cert.SbaKernel.main_arg1) = m ((c.tc : Thread Cert.SbaKernel.nD Cert.SbaKernel.τ).loc Cert.SbaKernel.main_arg1)
      ∧ r.2.mem ((c.tc : Thread Cert.SbaKernel.nD Cert.SbaKernel.τ).loc Cert.SbaKernel.main_arg2) = m ((c.tc : Thread Cert.SbaKernel.nD Cert.SbaKernel.τ).loc Cert.SbaKernel.main_arg2)
      ∧ r.2.mem ((c.tc : Thread Cert.SbaKernel.nD Cert.SbaKernel.τ).loc Cert.SbaKernel.main_arg3) = m ((c.tc : Thread Cert.SbaKernel.nD Cert.SbaKernel.τ).loc Cert.SbaKernel.main_arg3))
      ∧ r.2.sem = fun _ => 0)

def quiescent_SbaKernelIdeal [hSbaKernelIdeal : Cert.SbaKernelIdeal.Facts] : Prop :=
  ∀ (m : (ℓ : Loc Cert.SbaKernelIdeal.nD Cert.SbaKernelIdeal.τ Cert.SbaKernelIdeal.sig) → Buf (Elt Ideal) ℓ) (g : Dev Cert.SbaKernelIdeal.nD → PrngReg), Pre_SbaKernelIdeal m →
    θ_run (Cert.SbaKernelIdeal.defs (F := Ideal)) (onTc (τ := Cert.SbaKernelIdeal.τ) (Cert.SbaKernelIdeal.main (F := Ideal))) ⟨m, fun _ => 0, g⟩ (fun r => (∀ c : Dev Cert.SbaKernelIdeal.nD,
      r.2.mem ((c.tc : Thread Cert.SbaKernelIdeal.nD Cert.SbaKernelIdeal.τ).loc Cert.SbaKernelIdeal.main_arg0) = m ((c.tc : Thread Cert.SbaKernelIdeal.nD Cert.SbaKernelIdeal.τ).loc Cert.SbaKernelIdeal.main_arg0)
      ∧ r.2.mem ((c.tc : Thread Cert.SbaKernelIdeal.nD Cert.SbaKernelIdeal.τ).loc Cert.SbaKernelIdeal.main_arg1) = m ((c.tc : Thread Cert.SbaKernelIdeal.nD Cert.SbaKernelIdeal.τ).loc Cert.SbaKernelIdeal.main_arg1)
      ∧ r.2.mem ((c.tc : Thread Cert.SbaKernelIdeal.nD Cert.SbaKernelIdeal.τ).loc Cert.SbaKernelIdeal.main_arg2) = m ((c.tc : Thread Cert.SbaKernelIdeal.nD Cert.SbaKernelIdeal.τ).loc Cert.SbaKernelIdeal.main_arg2)
      ∧ r.2.mem ((c.tc : Thread Cert.SbaKernelIdeal.nD Cert.SbaKernelIdeal.τ).loc Cert.SbaKernelIdeal.main_arg3) = m ((c.tc : Thread Cert.SbaKernelIdeal.nD Cert.SbaKernelIdeal.τ).loc Cert.SbaKernelIdeal.main_arg3))
      ∧ r.2.sem = fun _ => 0)

def quiescent_SbaKernelIdeal_pre_sba_finite [hSbaKernelIdeal : Cert.SbaKernelIdeal.Facts] [hPre_sba_finite : Cert.Pre_sba_finite.Facts] : Prop :=
  ∀ (m : (ℓ : Loc Cert.SbaKernelIdeal.nD Cert.SbaKernelIdeal.τ Cert.SbaKernelIdeal.sig) → Buf (Elt Ideal) ℓ) (g : Dev Cert.SbaKernelIdeal.nD → PrngReg), Pre_SbaKernelIdeal_sba_finite m →
    θ_run (Cert.SbaKernelIdeal.defs (F := Ideal)) (onTc (τ := Cert.SbaKernelIdeal.τ) (Cert.SbaKernelIdeal.main (F := Ideal))) ⟨m, fun _ => 0, g⟩ (fun r => (∀ c : Dev Cert.SbaKernelIdeal.nD,
      r.2.mem ((c.tc : Thread Cert.SbaKernelIdeal.nD Cert.SbaKernelIdeal.τ).loc Cert.SbaKernelIdeal.main_arg0) = m ((c.tc : Thread Cert.SbaKernelIdeal.nD Cert.SbaKernelIdeal.τ).loc Cert.SbaKernelIdeal.main_arg0)
      ∧ r.2.mem ((c.tc : Thread Cert.SbaKernelIdeal.nD Cert.SbaKernelIdeal.τ).loc Cert.SbaKernelIdeal.main_arg1) = m ((c.tc : Thread Cert.SbaKernelIdeal.nD Cert.SbaKernelIdeal.τ).loc Cert.SbaKernelIdeal.main_arg1)
      ∧ r.2.mem ((c.tc : Thread Cert.SbaKernelIdeal.nD Cert.SbaKernelIdeal.τ).loc Cert.SbaKernelIdeal.main_arg2) = m ((c.tc : Thread Cert.SbaKernelIdeal.nD Cert.SbaKernelIdeal.τ).loc Cert.SbaKernelIdeal.main_arg2)
      ∧ r.2.mem ((c.tc : Thread Cert.SbaKernelIdeal.nD Cert.SbaKernelIdeal.τ).loc Cert.SbaKernelIdeal.main_arg3) = m ((c.tc : Thread Cert.SbaKernelIdeal.nD Cert.SbaKernelIdeal.τ).loc Cert.SbaKernelIdeal.main_arg3))
      ∧ r.2.sem = fun _ => 0)

def quiescent_SbaRefIdeal [hSbaRefIdeal : Cert.SbaRefIdeal.Facts] : Prop :=
  ∀ (m : (ℓ : Loc Cert.SbaRefIdeal.nD Cert.SbaRefIdeal.τ Cert.SbaRefIdeal.sig) → Buf (Elt Ideal) ℓ) (g : Dev Cert.SbaRefIdeal.nD → PrngReg), Pre_SbaRefIdeal m →
    θ_run (Cert.SbaRefIdeal.defs (F := Ideal)) (onTc (τ := Cert.SbaRefIdeal.τ) (Cert.SbaRefIdeal.main (F := Ideal))) ⟨m, fun _ => 0, g⟩ (fun r => (∀ c : Dev Cert.SbaRefIdeal.nD,
      r.2.mem ((c.tc : Thread Cert.SbaRefIdeal.nD Cert.SbaRefIdeal.τ).loc Cert.SbaRefIdeal.main_arg0) = m ((c.tc : Thread Cert.SbaRefIdeal.nD Cert.SbaRefIdeal.τ).loc Cert.SbaRefIdeal.main_arg0)
      ∧ r.2.mem ((c.tc : Thread Cert.SbaRefIdeal.nD Cert.SbaRefIdeal.τ).loc Cert.SbaRefIdeal.main_arg1) = m ((c.tc : Thread Cert.SbaRefIdeal.nD Cert.SbaRefIdeal.τ).loc Cert.SbaRefIdeal.main_arg1)
      ∧ r.2.mem ((c.tc : Thread Cert.SbaRefIdeal.nD Cert.SbaRefIdeal.τ).loc Cert.SbaRefIdeal.main_arg2) = m ((c.tc : Thread Cert.SbaRefIdeal.nD Cert.SbaRefIdeal.τ).loc Cert.SbaRefIdeal.main_arg2)
      ∧ r.2.mem ((c.tc : Thread Cert.SbaRefIdeal.nD Cert.SbaRefIdeal.τ).loc Cert.SbaRefIdeal.main_arg3) = m ((c.tc : Thread Cert.SbaRefIdeal.nD Cert.SbaRefIdeal.τ).loc Cert.SbaRefIdeal.main_arg3))
      ∧ r.2.sem = fun _ => 0)

def quiescent_SbaRefIdeal_pre_sba_finite [hSbaRefIdeal : Cert.SbaRefIdeal.Facts] [hPre_sba_finite : Cert.Pre_sba_finite.Facts] : Prop :=
  ∀ (m : (ℓ : Loc Cert.SbaRefIdeal.nD Cert.SbaRefIdeal.τ Cert.SbaRefIdeal.sig) → Buf (Elt Ideal) ℓ) (g : Dev Cert.SbaRefIdeal.nD → PrngReg), Pre_SbaRefIdeal_sba_finite m →
    θ_run (Cert.SbaRefIdeal.defs (F := Ideal)) (onTc (τ := Cert.SbaRefIdeal.τ) (Cert.SbaRefIdeal.main (F := Ideal))) ⟨m, fun _ => 0, g⟩ (fun r => (∀ c : Dev Cert.SbaRefIdeal.nD,
      r.2.mem ((c.tc : Thread Cert.SbaRefIdeal.nD Cert.SbaRefIdeal.τ).loc Cert.SbaRefIdeal.main_arg0) = m ((c.tc : Thread Cert.SbaRefIdeal.nD Cert.SbaRefIdeal.τ).loc Cert.SbaRefIdeal.main_arg0)
      ∧ r.2.mem ((c.tc : Thread Cert.SbaRefIdeal.nD Cert.SbaRefIdeal.τ).loc Cert.SbaRefIdeal.main_arg1) = m ((c.tc : Thread Cert.SbaRefIdeal.nD Cert.SbaRefIdeal.τ).loc Cert.SbaRefIdeal.main_arg1)
      ∧ r.2.mem ((c.tc : Thread Cert.SbaRefIdeal.nD Cert.SbaRefIdeal.τ).loc Cert.SbaRefIdeal.main_arg2) = m ((c.tc : Thread Cert.SbaRefIdeal.nD Cert.SbaRefIdeal.τ).loc Cert.SbaRefIdeal.main_arg2)
      ∧ r.2.mem ((c.tc : Thread Cert.SbaRefIdeal.nD Cert.SbaRefIdeal.τ).loc Cert.SbaRefIdeal.main_arg3) = m ((c.tc : Thread Cert.SbaRefIdeal.nD Cert.SbaRefIdeal.τ).loc Cert.SbaRefIdeal.main_arg3))
      ∧ r.2.sem = fun _ => 0)

def quiescent_KvKernel [hKvKernel : Cert.KvKernel.Facts] : Prop :=
  ∀ (m : (ℓ : Loc Cert.KvKernel.nD Cert.KvKernel.τ Cert.KvKernel.sig) → Buf (Elt Bits) ℓ) (g : Dev Cert.KvKernel.nD → PrngReg), Pre_KvKernel m →
    θ_run (Cert.KvKernel.defs (F := Bits)) (onTc (τ := Cert.KvKernel.τ) (Cert.KvKernel.main (F := Bits))) ⟨m, fun _ => 0, g⟩ (fun r => (∀ c : Dev Cert.KvKernel.nD,
      r.2.mem ((c.tc : Thread Cert.KvKernel.nD Cert.KvKernel.τ).loc Cert.KvKernel.main_arg0) = m ((c.tc : Thread Cert.KvKernel.nD Cert.KvKernel.τ).loc Cert.KvKernel.main_arg0)
      ∧ r.2.mem ((c.tc : Thread Cert.KvKernel.nD Cert.KvKernel.τ).loc Cert.KvKernel.main_arg1) = m ((c.tc : Thread Cert.KvKernel.nD Cert.KvKernel.τ).loc Cert.KvKernel.main_arg1)
      ∧ r.2.mem ((c.tc : Thread Cert.KvKernel.nD Cert.KvKernel.τ).loc Cert.KvKernel.main_arg2) = m ((c.tc : Thread Cert.KvKernel.nD Cert.KvKernel.τ).loc Cert.KvKernel.main_arg2)
      ∧ r.2.mem ((c.tc : Thread Cert.KvKernel.nD Cert.KvKernel.τ).loc Cert.KvKernel.main_arg3) = m ((c.tc : Thread Cert.KvKernel.nD Cert.KvKernel.τ).loc Cert.KvKernel.main_arg3)
      ∧ r.2.mem ((c.tc : Thread Cert.KvKernel.nD Cert.KvKernel.τ).loc Cert.KvKernel.main_arg4) = m ((c.tc : Thread Cert.KvKernel.nD Cert.KvKernel.τ).loc Cert.KvKernel.main_arg4)
      ∧ r.2.mem ((c.tc : Thread Cert.KvKernel.nD Cert.KvKernel.τ).loc Cert.KvKernel.main_arg5) = m ((c.tc : Thread Cert.KvKernel.nD Cert.KvKernel.τ).loc Cert.KvKernel.main_arg5)
      ∧ r.2.mem ((c.tc : Thread Cert.KvKernel.nD Cert.KvKernel.τ).loc Cert.KvKernel.main_arg6) = m ((c.tc : Thread Cert.KvKernel.nD Cert.KvKernel.τ).loc Cert.KvKernel.main_arg6))
      ∧ r.2.sem = fun _ => 0)

def quiescent_KvKernelIdeal [hKvKernelIdeal : Cert.KvKernelIdeal.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
      ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
      ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5)
      ∧ r.2.mem ((c.tc : Thread Cert.KvKernelIdeal.nD Cert.KvKernelIdeal.τ).loc Cert.KvKernelIdeal.main_arg6) = m ((c.tc : Thread Cert.KvKernelIdeal.nD Cert.KvKernelIdeal.τ).loc Cert.KvKernelIdeal.main_arg6))
      ∧ r.2.sem = fun _ => 0)

def quiescent_KvKernelIdeal_pre_kv_finite [hKvKernelIdeal : Cert.KvKernelIdeal.Facts] [hPre_kv_finite : Cert.Pre_kv_finite.Facts] : Prop :=
  ∀ (m : (ℓ : Loc Cert.KvKernelIdeal.nD Cert.KvKernelIdeal.τ Cert.KvKernelIdeal.sig) → Buf (Elt Ideal) ℓ) (g : Dev Cert.KvKernelIdeal.nD → PrngReg), Pre_KvKernelIdeal_kv_finite m →
    θ_run (Cert.KvKernelIdeal.defs (F := Ideal)) (onTc (τ := Cert.KvKernelIdeal.τ) (Cert.KvKernelIdeal.main (F := Ideal))) ⟨m, fun _ => 0, g⟩ (fun r => (∀ c : Dev Cert.KvKernelIdeal.nD,
      r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
      ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
      ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
      ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
      ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
      ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5)
      ∧ r.2.mem ((c.tc : Thread Cert.KvKernelIdeal.nD Cert.KvKernelIdeal.τ).loc Cert.KvKernelIdeal.main_arg6) = m ((c.tc : Thread Cert.KvKernelIdeal.nD Cert.KvKernelIdeal.τ).loc Cert.KvKernelIdeal.main_arg6))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6))
      ∧ r.2.sem = fun _ => 0)

def quiescent_KvRefIdeal_pre_kv_finite [hKvRefIdeal : Cert.KvRefIdeal.Facts] [hPre_kv_finite : Cert.Pre_kv_finite.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal_kv_finite m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2)
      ∧ r.2.mem ((c.tc : Thread Cert.KvRefIdeal.nD Cert.KvRefIdeal.τ).loc Cert.KvRefIdeal.main_arg3) = m ((c.tc : Thread Cert.KvRefIdeal.nD Cert.KvRefIdeal.τ).loc Cert.KvRefIdeal.main_arg3)
      ∧ r.2.mem ((c.tc : Thread Cert.KvRefIdeal.nD Cert.KvRefIdeal.τ).loc Cert.KvRefIdeal.main_arg4) = m ((c.tc : Thread Cert.KvRefIdeal.nD Cert.KvRefIdeal.τ).loc Cert.KvRefIdeal.main_arg4)
      ∧ r.2.mem ((c.tc : Thread Cert.KvRefIdeal.nD Cert.KvRefIdeal.τ).loc Cert.KvRefIdeal.main_arg5) = m ((c.tc : Thread Cert.KvRefIdeal.nD Cert.KvRefIdeal.τ).loc Cert.KvRefIdeal.main_arg5)
      ∧ r.2.mem ((c.tc : Thread Cert.KvRefIdeal.nD Cert.KvRefIdeal.τ).loc Cert.KvRefIdeal.main_arg6) = m ((c.tc : Thread Cert.KvRefIdeal.nD Cert.KvRefIdeal.τ).loc Cert.KvRefIdeal.main_arg6))
      ∧ r.2.sem = fun _ => 0)

def quiescent_UpKernel [hUpKernel : Cert.UpKernel.Facts] : Prop :=
  ∀ (m : (ℓ : Loc Cert.UpKernel.nD Cert.UpKernel.τ Cert.UpKernel.sig) → Buf (Elt Bits) ℓ) (g : Dev Cert.UpKernel.nD → PrngReg), Pre_UpKernel m →
    θ_run (Cert.UpKernel.defs (F := Bits)) (onTc (τ := Cert.UpKernel.τ) (Cert.UpKernel.main (F := Bits))) ⟨m, fun _ => 0, g⟩ (fun r => (∀ c : Dev Cert.UpKernel.nD,
      r.2.mem ((c.tc : Thread Cert.UpKernel.nD Cert.UpKernel.τ).loc Cert.UpKernel.main_arg0) = m ((c.tc : Thread Cert.UpKernel.nD Cert.UpKernel.τ).loc Cert.UpKernel.main_arg0)
      ∧ r.2.mem ((c.tc : Thread Cert.UpKernel.nD Cert.UpKernel.τ).loc Cert.UpKernel.main_arg1) = m ((c.tc : Thread Cert.UpKernel.nD Cert.UpKernel.τ).loc Cert.UpKernel.main_arg1)
      ∧ r.2.mem ((c.tc : Thread Cert.UpKernel.nD Cert.UpKernel.τ).loc Cert.UpKernel.main_arg2) = m ((c.tc : Thread Cert.UpKernel.nD Cert.UpKernel.τ).loc Cert.UpKernel.main_arg2)
      ∧ r.2.mem ((c.tc : Thread Cert.UpKernel.nD Cert.UpKernel.τ).loc Cert.UpKernel.main_arg3) = m ((c.tc : Thread Cert.UpKernel.nD Cert.UpKernel.τ).loc Cert.UpKernel.main_arg3)
      ∧ r.2.mem ((c.tc : Thread Cert.UpKernel.nD Cert.UpKernel.τ).loc Cert.UpKernel.main_arg4) = m ((c.tc : Thread Cert.UpKernel.nD Cert.UpKernel.τ).loc Cert.UpKernel.main_arg4))
      ∧ r.2.sem = fun _ => 0)

def quiescent_UpKernelIdeal [hUpKernelIdeal : Cert.UpKernelIdeal.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpKernelIdeal_pre_up_finite [hUpKernelIdeal : Cert.UpKernelIdeal.Facts] [hPre_up_finite : Cert.Pre_up_finite.Facts] : Prop :=
  ∀ (m : (ℓ : Loc Cert.UpKernelIdeal.nD Cert.UpKernelIdeal.τ Cert.UpKernelIdeal.sig) → Buf (Elt Ideal) ℓ) (g : Dev Cert.UpKernelIdeal.nD → PrngReg), Pre_UpKernelIdeal_up_finite m →
    θ_run (Cert.UpKernelIdeal.defs (F := Ideal)) (onTc (τ := Cert.UpKernelIdeal.τ) (Cert.UpKernelIdeal.main (F := Ideal))) ⟨m, fun _ => 0, g⟩ (fun r => (∀ c : Dev Cert.UpKernelIdeal.nD,
      r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
      ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
      ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
      ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
      ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_UpRefIdeal_pre_up_finite [hUpRefIdeal : Cert.UpRefIdeal.Facts] [hPre_up_finite : Cert.Pre_up_finite.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_up_finite m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4))
      ∧ r.2.sem = fun _ => 0)

def quiescent_InKernel [hInKernel : Cert.InKernel.Facts] : Prop :=
  ∀ (m : (ℓ : Loc Cert.InKernel.nD Cert.InKernel.τ Cert.InKernel.sig) → Buf (Elt Bits) ℓ) (g : Dev Cert.InKernel.nD → PrngReg), Pre_InKernel m →
    θ_run (Cert.InKernel.defs (F := Bits)) (onTc (τ := Cert.InKernel.τ) (Cert.InKernel.main (F := Bits))) ⟨m, fun _ => 0, g⟩ (fun r => (∀ c : Dev Cert.InKernel.nD,
      r.2.mem ((c.tc : Thread Cert.InKernel.nD Cert.InKernel.τ).loc Cert.InKernel.main_arg0) = m ((c.tc : Thread Cert.InKernel.nD Cert.InKernel.τ).loc Cert.InKernel.main_arg0)
      ∧ r.2.mem ((c.tc : Thread Cert.InKernel.nD Cert.InKernel.τ).loc Cert.InKernel.main_arg1) = m ((c.tc : Thread Cert.InKernel.nD Cert.InKernel.τ).loc Cert.InKernel.main_arg1)
      ∧ r.2.mem ((c.tc : Thread Cert.InKernel.nD Cert.InKernel.τ).loc Cert.InKernel.main_arg2) = m ((c.tc : Thread Cert.InKernel.nD Cert.InKernel.τ).loc Cert.InKernel.main_arg2)
      ∧ r.2.mem ((c.tc : Thread Cert.InKernel.nD Cert.InKernel.τ).loc Cert.InKernel.main_arg3) = m ((c.tc : Thread Cert.InKernel.nD Cert.InKernel.τ).loc Cert.InKernel.main_arg3)
      ∧ r.2.mem ((c.tc : Thread Cert.InKernel.nD Cert.InKernel.τ).loc Cert.InKernel.main_arg4) = m ((c.tc : Thread Cert.InKernel.nD Cert.InKernel.τ).loc Cert.InKernel.main_arg4))
      ∧ r.2.sem = fun _ => 0)

def quiescent_InKernelIdeal [hInKernelIdeal : Cert.InKernelIdeal.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InKernelIdeal_pre_in_finite [hInKernelIdeal : Cert.InKernelIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg), Pre_InKernelIdeal_in_finite m →
    θ_run (Cert.InKernelIdeal.defs (F := Ideal)) (onTc (τ := Cert.InKernelIdeal.τ) (Cert.InKernelIdeal.main (F := Ideal))) ⟨m, fun _ => 0, g⟩ (fun r => (∀ c : Dev Cert.InKernelIdeal.nD,
      r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
      ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
      ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
      ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
      ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_InRefIdeal_pre_in_finite [hInRefIdeal : Cert.InRefIdeal.Facts] [hPre_in_finite : Cert.Pre_in_finite.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal_in_finite m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1)
      ∧ r.2.mem ((c.tc : Thread Cert.InRefIdeal.nD Cert.InRefIdeal.τ).loc Cert.InRefIdeal.main_arg2) = m ((c.tc : Thread Cert.InRefIdeal.nD Cert.InRefIdeal.τ).loc Cert.InRefIdeal.main_arg2)
      ∧ r.2.mem ((c.tc : Thread Cert.InRefIdeal.nD Cert.InRefIdeal.τ).loc Cert.InRefIdeal.main_arg3) = m ((c.tc : Thread Cert.InRefIdeal.nD Cert.InRefIdeal.τ).loc Cert.InRefIdeal.main_arg3)
      ∧ r.2.mem ((c.tc : Thread Cert.InRefIdeal.nD Cert.InRefIdeal.τ).loc Cert.InRefIdeal.main_arg4) = m ((c.tc : Thread Cert.InRefIdeal.nD Cert.InRefIdeal.τ).loc Cert.InRefIdeal.main_arg4))
      ∧ r.2.sem = fun _ => 0)

def quiescent_QwKernel [hQwKernel : Cert.QwKernel.Facts] : Prop :=
  ∀ (m : (ℓ : Loc Cert.QwKernel.nD Cert.QwKernel.τ Cert.QwKernel.sig) → Buf (Elt Bits) ℓ) (g : Dev Cert.QwKernel.nD → PrngReg), Pre_QwKernel m →
    θ_run (Cert.QwKernel.defs (F := Bits)) (onTc (τ := Cert.QwKernel.τ) (Cert.QwKernel.main (F := Bits))) ⟨m, fun _ => 0, g⟩ (fun r => (∀ c : Dev Cert.QwKernel.nD,
      r.2.mem ((c.tc : Thread Cert.QwKernel.nD Cert.QwKernel.τ).loc Cert.QwKernel.main_arg0) = m ((c.tc : Thread Cert.QwKernel.nD Cert.QwKernel.τ).loc Cert.QwKernel.main_arg0)
      ∧ r.2.mem ((c.tc : Thread Cert.QwKernel.nD Cert.QwKernel.τ).loc Cert.QwKernel.main_arg1) = m ((c.tc : Thread Cert.QwKernel.nD Cert.QwKernel.τ).loc Cert.QwKernel.main_arg1)
      ∧ r.2.mem ((c.tc : Thread Cert.QwKernel.nD Cert.QwKernel.τ).loc Cert.QwKernel.main_arg2) = m ((c.tc : Thread Cert.QwKernel.nD Cert.QwKernel.τ).loc Cert.QwKernel.main_arg2))
      ∧ r.2.sem = fun _ => 0)

def quiescent_QwKernelIdeal [hQwKernelIdeal : Cert.QwKernelIdeal.Facts] : Prop :=
  ∀ (m : (ℓ : Loc Cert.QwKernelIdeal.nD Cert.QwKernelIdeal.τ Cert.QwKernelIdeal.sig) → Buf (Elt Ideal) ℓ) (g : Dev Cert.QwKernelIdeal.nD → PrngReg), Pre_QwKernelIdeal m →
    θ_run (Cert.QwKernelIdeal.defs (F := Ideal)) (onTc (τ := Cert.QwKernelIdeal.τ) (Cert.QwKernelIdeal.main (F := Ideal))) ⟨m, fun _ => 0, g⟩ (fun r => (∀ c : Dev Cert.QwKernelIdeal.nD,
      r.2.mem ((c.tc : Thread Cert.QwKernelIdeal.nD Cert.QwKernelIdeal.τ).loc Cert.QwKernelIdeal.main_arg0) = m ((c.tc : Thread Cert.QwKernelIdeal.nD Cert.QwKernelIdeal.τ).loc Cert.QwKernelIdeal.main_arg0)
      ∧ r.2.mem ((c.tc : Thread Cert.QwKernelIdeal.nD Cert.QwKernelIdeal.τ).loc Cert.QwKernelIdeal.main_arg1) = m ((c.tc : Thread Cert.QwKernelIdeal.nD Cert.QwKernelIdeal.τ).loc Cert.QwKernelIdeal.main_arg1)
      ∧ r.2.mem ((c.tc : Thread Cert.QwKernelIdeal.nD Cert.QwKernelIdeal.τ).loc Cert.QwKernelIdeal.main_arg2) = m ((c.tc : Thread Cert.QwKernelIdeal.nD Cert.QwKernelIdeal.τ).loc Cert.QwKernelIdeal.main_arg2))
      ∧ r.2.sem = fun _ => 0)

def quiescent_QwRefIdeal [hQwRefIdeal : Cert.QwRefIdeal.Facts] : Prop :=
  ∀ (m : (ℓ : Loc Cert.QwRefIdeal.nD Cert.QwRefIdeal.τ Cert.QwRefIdeal.sig) → Buf (Elt Ideal) ℓ) (g : Dev Cert.QwRefIdeal.nD → PrngReg), Pre_QwRefIdeal m →
    θ_run (Cert.QwRefIdeal.defs (F := Ideal)) (onTc (τ := Cert.QwRefIdeal.τ) (Cert.QwRefIdeal.main (F := Ideal))) ⟨m, fun _ => 0, g⟩ (fun r => (∀ c : Dev Cert.QwRefIdeal.nD,
      r.2.mem ((c.tc : Thread Cert.QwRefIdeal.nD Cert.QwRefIdeal.τ).loc Cert.QwRefIdeal.main_arg0) = m ((c.tc : Thread Cert.QwRefIdeal.nD Cert.QwRefIdeal.τ).loc Cert.QwRefIdeal.main_arg0)
      ∧ r.2.mem ((c.tc : Thread Cert.QwRefIdeal.nD Cert.QwRefIdeal.τ).loc Cert.QwRefIdeal.main_arg1) = m ((c.tc : Thread Cert.QwRefIdeal.nD Cert.QwRefIdeal.τ).loc Cert.QwRefIdeal.main_arg1)
      ∧ r.2.mem ((c.tc : Thread Cert.QwRefIdeal.nD Cert.QwRefIdeal.τ).loc Cert.QwRefIdeal.main_arg2) = m ((c.tc : Thread Cert.QwRefIdeal.nD Cert.QwRefIdeal.τ).loc Cert.QwRefIdeal.main_arg2))
      ∧ r.2.sem = fun _ => 0)

def quiescent_KvwKernel [hKvwKernel : Cert.KvwKernel.Facts] : Prop :=
  ∀ (m : (ℓ : Loc Cert.KvwKernel.nD Cert.KvwKernel.τ Cert.KvwKernel.sig) → Buf (Elt Bits) ℓ) (g : Dev Cert.KvwKernel.nD → PrngReg), Pre_KvwKernel m →
    θ_run (Cert.KvwKernel.defs (F := Bits)) (onTc (τ := Cert.KvwKernel.τ) (Cert.KvwKernel.main (F := Bits))) ⟨m, fun _ => 0, g⟩ (fun r => (∀ c : Dev Cert.KvwKernel.nD,
      r.2.mem ((c.tc : Thread Cert.KvwKernel.nD Cert.KvwKernel.τ).loc Cert.KvwKernel.main_arg0) = m ((c.tc : Thread Cert.KvwKernel.nD Cert.KvwKernel.τ).loc Cert.KvwKernel.main_arg0)
      ∧ r.2.mem ((c.tc : Thread Cert.KvwKernel.nD Cert.KvwKernel.τ).loc Cert.KvwKernel.main_arg1) = m ((c.tc : Thread Cert.KvwKernel.nD Cert.KvwKernel.τ).loc Cert.KvwKernel.main_arg1)
      ∧ r.2.mem ((c.tc : Thread Cert.KvwKernel.nD Cert.KvwKernel.τ).loc Cert.KvwKernel.main_arg2) = m ((c.tc : Thread Cert.KvwKernel.nD Cert.KvwKernel.τ).loc Cert.KvwKernel.main_arg2)
      ∧ r.2.mem ((c.tc : Thread Cert.KvwKernel.nD Cert.KvwKernel.τ).loc Cert.KvwKernel.main_arg3) = m ((c.tc : Thread Cert.KvwKernel.nD Cert.KvwKernel.τ).loc Cert.KvwKernel.main_arg3))
      ∧ r.2.sem = fun _ => 0)

def quiescent_KvwKernelIdeal [hKvwKernelIdeal : Cert.KvwKernelIdeal.Facts] : Prop :=
  ∀ (m : (ℓ : Loc Cert.KvwKernelIdeal.nD Cert.KvwKernelIdeal.τ Cert.KvwKernelIdeal.sig) → Buf (Elt Ideal) ℓ) (g : Dev Cert.KvwKernelIdeal.nD → PrngReg), Pre_KvwKernelIdeal m →
    θ_run (Cert.KvwKernelIdeal.defs (F := Ideal)) (onTc (τ := Cert.KvwKernelIdeal.τ) (Cert.KvwKernelIdeal.main (F := Ideal))) ⟨m, fun _ => 0, g⟩ (fun r => (∀ c : Dev Cert.KvwKernelIdeal.nD,
      r.2.mem ((c.tc : Thread Cert.KvwKernelIdeal.nD Cert.KvwKernelIdeal.τ).loc Cert.KvwKernelIdeal.main_arg0) = m ((c.tc : Thread Cert.KvwKernelIdeal.nD Cert.KvwKernelIdeal.τ).loc Cert.KvwKernelIdeal.main_arg0)
      ∧ r.2.mem ((c.tc : Thread Cert.KvwKernelIdeal.nD Cert.KvwKernelIdeal.τ).loc Cert.KvwKernelIdeal.main_arg1) = m ((c.tc : Thread Cert.KvwKernelIdeal.nD Cert.KvwKernelIdeal.τ).loc Cert.KvwKernelIdeal.main_arg1)
      ∧ r.2.mem ((c.tc : Thread Cert.KvwKernelIdeal.nD Cert.KvwKernelIdeal.τ).loc Cert.KvwKernelIdeal.main_arg2) = m ((c.tc : Thread Cert.KvwKernelIdeal.nD Cert.KvwKernelIdeal.τ).loc Cert.KvwKernelIdeal.main_arg2)
      ∧ r.2.mem ((c.tc : Thread Cert.KvwKernelIdeal.nD Cert.KvwKernelIdeal.τ).loc Cert.KvwKernelIdeal.main_arg3) = m ((c.tc : Thread Cert.KvwKernelIdeal.nD Cert.KvwKernelIdeal.τ).loc Cert.KvwKernelIdeal.main_arg3))
      ∧ r.2.sem = fun _ => 0)

def quiescent_KvwRefIdeal [hKvwRefIdeal : Cert.KvwRefIdeal.Facts] : Prop :=
  ∀ (m : (ℓ : Loc Cert.KvwRefIdeal.nD Cert.KvwRefIdeal.τ Cert.KvwRefIdeal.sig) → Buf (Elt Ideal) ℓ) (g : Dev Cert.KvwRefIdeal.nD → PrngReg), Pre_KvwRefIdeal m →
    θ_run (Cert.KvwRefIdeal.defs (F := Ideal)) (onTc (τ := Cert.KvwRefIdeal.τ) (Cert.KvwRefIdeal.main (F := Ideal))) ⟨m, fun _ => 0, g⟩ (fun r => (∀ c : Dev Cert.KvwRefIdeal.nD,
      r.2.mem ((c.tc : Thread Cert.KvwRefIdeal.nD Cert.KvwRefIdeal.τ).loc Cert.KvwRefIdeal.main_arg0) = m ((c.tc : Thread Cert.KvwRefIdeal.nD Cert.KvwRefIdeal.τ).loc Cert.KvwRefIdeal.main_arg0)
      ∧ r.2.mem ((c.tc : Thread Cert.KvwRefIdeal.nD Cert.KvwRefIdeal.τ).loc Cert.KvwRefIdeal.main_arg1) = m ((c.tc : Thread Cert.KvwRefIdeal.nD Cert.KvwRefIdeal.τ).loc Cert.KvwRefIdeal.main_arg1)
      ∧ r.2.mem ((c.tc : Thread Cert.KvwRefIdeal.nD Cert.KvwRefIdeal.τ).loc Cert.KvwRefIdeal.main_arg2) = m ((c.tc : Thread Cert.KvwRefIdeal.nD Cert.KvwRefIdeal.τ).loc Cert.KvwRefIdeal.main_arg2)
      ∧ r.2.mem ((c.tc : Thread Cert.KvwRefIdeal.nD Cert.KvwRefIdeal.τ).loc Cert.KvwRefIdeal.main_arg3) = m ((c.tc : Thread Cert.KvwRefIdeal.nD Cert.KvwRefIdeal.τ).loc Cert.KvwRefIdeal.main_arg3))
      ∧ r.2.sem = fun _ => 0)

def quiescent_UpwKernel [hUpwKernel : Cert.UpwKernel.Facts] : Prop :=
  ∀ (m : (ℓ : Loc Cert.UpwKernel.nD Cert.UpwKernel.τ Cert.UpwKernel.sig) → Buf (Elt Bits) ℓ) (g : Dev Cert.UpwKernel.nD → PrngReg), Pre_UpwKernel m →
    θ_run (Cert.UpwKernel.defs (F := Bits)) (onTc (τ := Cert.UpwKernel.τ) (Cert.UpwKernel.main (F := Bits))) ⟨m, fun _ => 0, g⟩ (fun r => (∀ c : Dev Cert.UpwKernel.nD,
      r.2.mem ((c.tc : Thread Cert.UpwKernel.nD Cert.UpwKernel.τ).loc Cert.UpwKernel.main_arg0) = m ((c.tc : Thread Cert.UpwKernel.nD Cert.UpwKernel.τ).loc Cert.UpwKernel.main_arg0)
      ∧ r.2.mem ((c.tc : Thread Cert.UpwKernel.nD Cert.UpwKernel.τ).loc Cert.UpwKernel.main_arg1) = m ((c.tc : Thread Cert.UpwKernel.nD Cert.UpwKernel.τ).loc Cert.UpwKernel.main_arg1)
      ∧ r.2.mem ((c.tc : Thread Cert.UpwKernel.nD Cert.UpwKernel.τ).loc Cert.UpwKernel.main_arg2) = m ((c.tc : Thread Cert.UpwKernel.nD Cert.UpwKernel.τ).loc Cert.UpwKernel.main_arg2))
      ∧ r.2.sem = fun _ => 0)

def quiescent_UpwKernelIdeal [hUpwKernelIdeal : Cert.UpwKernelIdeal.Facts] : Prop :=
  ∀ (m : (ℓ : Loc Cert.UpwKernelIdeal.nD Cert.UpwKernelIdeal.τ Cert.UpwKernelIdeal.sig) → Buf (Elt Ideal) ℓ) (g : Dev Cert.UpwKernelIdeal.nD → PrngReg), Pre_UpwKernelIdeal m →
    θ_run (Cert.UpwKernelIdeal.defs (F := Ideal)) (onTc (τ := Cert.UpwKernelIdeal.τ) (Cert.UpwKernelIdeal.main (F := Ideal))) ⟨m, fun _ => 0, g⟩ (fun r => (∀ c : Dev Cert.UpwKernelIdeal.nD,
      r.2.mem ((c.tc : Thread Cert.UpwKernelIdeal.nD Cert.UpwKernelIdeal.τ).loc Cert.UpwKernelIdeal.main_arg0) = m ((c.tc : Thread Cert.UpwKernelIdeal.nD Cert.UpwKernelIdeal.τ).loc Cert.UpwKernelIdeal.main_arg0)
      ∧ r.2.mem ((c.tc : Thread Cert.UpwKernelIdeal.nD Cert.UpwKernelIdeal.τ).loc Cert.UpwKernelIdeal.main_arg1) = m ((c.tc : Thread Cert.UpwKernelIdeal.nD Cert.UpwKernelIdeal.τ).loc Cert.UpwKernelIdeal.main_arg1)
      ∧ r.2.mem ((c.tc : Thread Cert.UpwKernelIdeal.nD Cert.UpwKernelIdeal.τ).loc Cert.UpwKernelIdeal.main_arg2) = m ((c.tc : Thread Cert.UpwKernelIdeal.nD Cert.UpwKernelIdeal.τ).loc Cert.UpwKernelIdeal.main_arg2))
      ∧ r.2.sem = fun _ => 0)

def quiescent_UpwRefIdeal [hUpwRefIdeal : Cert.UpwRefIdeal.Facts] : Prop :=
  ∀ (m : (ℓ : Loc Cert.UpwRefIdeal.nD Cert.UpwRefIdeal.τ Cert.UpwRefIdeal.sig) → Buf (Elt Ideal) ℓ) (g : Dev Cert.UpwRefIdeal.nD → PrngReg), Pre_UpwRefIdeal m →
    θ_run (Cert.UpwRefIdeal.defs (F := Ideal)) (onTc (τ := Cert.UpwRefIdeal.τ) (Cert.UpwRefIdeal.main (F := Ideal))) ⟨m, fun _ => 0, g⟩ (fun r => (∀ c : Dev Cert.UpwRefIdeal.nD,
      r.2.mem ((c.tc : Thread Cert.UpwRefIdeal.nD Cert.UpwRefIdeal.τ).loc Cert.UpwRefIdeal.main_arg0) = m ((c.tc : Thread Cert.UpwRefIdeal.nD Cert.UpwRefIdeal.τ).loc Cert.UpwRefIdeal.main_arg0)
      ∧ r.2.mem ((c.tc : Thread Cert.UpwRefIdeal.nD Cert.UpwRefIdeal.τ).loc Cert.UpwRefIdeal.main_arg1) = m ((c.tc : Thread Cert.UpwRefIdeal.nD Cert.UpwRefIdeal.τ).loc Cert.UpwRefIdeal.main_arg1)
      ∧ r.2.mem ((c.tc : Thread Cert.UpwRefIdeal.nD Cert.UpwRefIdeal.τ).loc Cert.UpwRefIdeal.main_arg2) = m ((c.tc : Thread Cert.UpwRefIdeal.nD Cert.UpwRefIdeal.τ).loc Cert.UpwRefIdeal.main_arg2))
      ∧ r.2.sem = fun _ => 0)

def quiescent_InwKernel [hInwKernel : Cert.InwKernel.Facts] : Prop :=
  ∀ (m : (ℓ : Loc Cert.InwKernel.nD Cert.InwKernel.τ Cert.InwKernel.sig) → Buf (Elt Bits) ℓ) (g : Dev Cert.InwKernel.nD → PrngReg), Pre_InwKernel m →
    θ_run (Cert.InwKernel.defs (F := Bits)) (onTc (τ := Cert.InwKernel.τ) (Cert.InwKernel.main (F := Bits))) ⟨m, fun _ => 0, g⟩ (fun r => (∀ c : Dev Cert.InwKernel.nD,
      r.2.mem ((c.tc : Thread Cert.InwKernel.nD Cert.InwKernel.τ).loc Cert.InwKernel.main_arg0) = m ((c.tc : Thread Cert.InwKernel.nD Cert.InwKernel.τ).loc Cert.InwKernel.main_arg0)
      ∧ r.2.mem ((c.tc : Thread Cert.InwKernel.nD Cert.InwKernel.τ).loc Cert.InwKernel.main_arg1) = m ((c.tc : Thread Cert.InwKernel.nD Cert.InwKernel.τ).loc Cert.InwKernel.main_arg1)
      ∧ r.2.mem ((c.tc : Thread Cert.InwKernel.nD Cert.InwKernel.τ).loc Cert.InwKernel.main_arg2) = m ((c.tc : Thread Cert.InwKernel.nD Cert.InwKernel.τ).loc Cert.InwKernel.main_arg2))
      ∧ r.2.sem = fun _ => 0)

def quiescent_InwKernelIdeal [hInwKernelIdeal : Cert.InwKernelIdeal.Facts] : Prop :=
  ∀ (m : (ℓ : Loc Cert.InwKernelIdeal.nD Cert.InwKernelIdeal.τ Cert.InwKernelIdeal.sig) → Buf (Elt Ideal) ℓ) (g : Dev Cert.InwKernelIdeal.nD → PrngReg), Pre_InwKernelIdeal m →
    θ_run (Cert.InwKernelIdeal.defs (F := Ideal)) (onTc (τ := Cert.InwKernelIdeal.τ) (Cert.InwKernelIdeal.main (F := Ideal))) ⟨m, fun _ => 0, g⟩ (fun r => (∀ c : Dev Cert.InwKernelIdeal.nD,
      r.2.mem ((c.tc : Thread Cert.InwKernelIdeal.nD Cert.InwKernelIdeal.τ).loc Cert.InwKernelIdeal.main_arg0) = m ((c.tc : Thread Cert.InwKernelIdeal.nD Cert.InwKernelIdeal.τ).loc Cert.InwKernelIdeal.main_arg0)
      ∧ r.2.mem ((c.tc : Thread Cert.InwKernelIdeal.nD Cert.InwKernelIdeal.τ).loc Cert.InwKernelIdeal.main_arg1) = m ((c.tc : Thread Cert.InwKernelIdeal.nD Cert.InwKernelIdeal.τ).loc Cert.InwKernelIdeal.main_arg1)
      ∧ r.2.mem ((c.tc : Thread Cert.InwKernelIdeal.nD Cert.InwKernelIdeal.τ).loc Cert.InwKernelIdeal.main_arg2) = m ((c.tc : Thread Cert.InwKernelIdeal.nD Cert.InwKernelIdeal.τ).loc Cert.InwKernelIdeal.main_arg2))
      ∧ r.2.sem = fun _ => 0)

def quiescent_InwRefIdeal [hInwRefIdeal : Cert.InwRefIdeal.Facts] : Prop :=
  ∀ (m : (ℓ : Loc Cert.InwRefIdeal.nD Cert.InwRefIdeal.τ Cert.InwRefIdeal.sig) → Buf (Elt Ideal) ℓ) (g : Dev Cert.InwRefIdeal.nD → PrngReg), Pre_InwRefIdeal m →
    θ_run (Cert.InwRefIdeal.defs (F := Ideal)) (onTc (τ := Cert.InwRefIdeal.τ) (Cert.InwRefIdeal.main (F := Ideal))) ⟨m, fun _ => 0, g⟩ (fun r => (∀ c : Dev Cert.InwRefIdeal.nD,
      r.2.mem ((c.tc : Thread Cert.InwRefIdeal.nD Cert.InwRefIdeal.τ).loc Cert.InwRefIdeal.main_arg0) = m ((c.tc : Thread Cert.InwRefIdeal.nD Cert.InwRefIdeal.τ).loc Cert.InwRefIdeal.main_arg0)
      ∧ r.2.mem ((c.tc : Thread Cert.InwRefIdeal.nD Cert.InwRefIdeal.τ).loc Cert.InwRefIdeal.main_arg1) = m ((c.tc : Thread Cert.InwRefIdeal.nD Cert.InwRefIdeal.τ).loc Cert.InwRefIdeal.main_arg1)
      ∧ r.2.mem ((c.tc : Thread Cert.InwRefIdeal.nD Cert.InwRefIdeal.τ).loc Cert.InwRefIdeal.main_arg2) = m ((c.tc : Thread Cert.InwRefIdeal.nD Cert.InwRefIdeal.τ).loc Cert.InwRefIdeal.main_arg2))
      ∧ r.2.sem = fun _ => 0)

def quiescent_SbfKernel [hSbfKernel : Cert.SbfKernel.Facts] : Prop :=
  ∀ (m : (ℓ : Loc Cert.SbfKernel.nD Cert.SbfKernel.τ Cert.SbfKernel.sig) → Buf (Elt Bits) ℓ) (g : Dev Cert.SbfKernel.nD → PrngReg), Pre_SbfKernel m →
    θ_run (Cert.SbfKernel.defs (F := Bits)) (onTc (τ := Cert.SbfKernel.τ) (Cert.SbfKernel.main (F := Bits))) ⟨m, fun _ => 0, g⟩ (fun r => (∀ c : Dev Cert.SbfKernel.nD,
      r.2.mem ((c.tc : Thread Cert.SbfKernel.nD Cert.SbfKernel.τ).loc Cert.SbfKernel.main_arg0) = m ((c.tc : Thread Cert.SbfKernel.nD Cert.SbfKernel.τ).loc Cert.SbfKernel.main_arg0)
      ∧ r.2.mem ((c.tc : Thread Cert.SbfKernel.nD Cert.SbfKernel.τ).loc Cert.SbfKernel.main_arg1) = m ((c.tc : Thread Cert.SbfKernel.nD Cert.SbfKernel.τ).loc Cert.SbfKernel.main_arg1)
      ∧ r.2.mem ((c.tc : Thread Cert.SbfKernel.nD Cert.SbfKernel.τ).loc Cert.SbfKernel.main_arg2) = m ((c.tc : Thread Cert.SbfKernel.nD Cert.SbfKernel.τ).loc Cert.SbfKernel.main_arg2))
      ∧ r.2.sem = fun _ => 0)

def quiescent_SbfKernelIdeal [hSbfKernelIdeal : Cert.SbfKernelIdeal.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfKernelIdeal_pre_sbf_finite [hSbfKernelIdeal : Cert.SbfKernelIdeal.Facts] [hPre_sbf_finite : Cert.Pre_sbf_finite.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg), Pre_SbfKernelIdeal_sbf_finite m →
    θ_run (Cert.SbfKernelIdeal.defs (F := Ideal)) (onTc (τ := Cert.SbfKernelIdeal.τ) (Cert.SbfKernelIdeal.main (F := Ideal))) ⟨m, fun _ => 0, g⟩ (fun r => (∀ c : Dev Cert.SbfKernelIdeal.nD,
      r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
      ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
      ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ r.2.sem = fun _ => 0)

def quiescent_SbfRefIdeal [hSbfRefIdeal : Cert.SbfRefIdeal.Facts] : Prop :=
  ∀ (m : (ℓ : Loc Cert.SbfRefIdeal.nD Cert.SbfRefIdeal.τ Cert.SbfRefIdeal.sig) → Buf (Elt Ideal) ℓ) (g : Dev Cert.SbfRefIdeal.nD → PrngReg), Pre_SbfRefIdeal m →
    θ_run (Cert.SbfRefIdeal.defs (F := Ideal)) (onTc (τ := Cert.SbfRefIdeal.τ) (Cert.SbfRefIdeal.main (F := Ideal))) ⟨m, fun _ => 0, g⟩ (fun r => (∀ c : Dev Cert.SbfRefIdeal.nD,
      r.2.mem ((c.tc : Thread Cert.SbfRefIdeal.nD Cert.SbfRefIdeal.τ).loc Cert.SbfRefIdeal.main_arg0) = m ((c.tc : Thread Cert.SbfRefIdeal.nD Cert.SbfRefIdeal.τ).loc Cert.SbfRefIdeal.main_arg0)
      ∧ r.2.mem ((c.tc : Thread Cert.SbfRefIdeal.nD Cert.SbfRefIdeal.τ).loc Cert.SbfRefIdeal.main_arg1) = m ((c.tc : Thread Cert.SbfRefIdeal.nD Cert.SbfRefIdeal.τ).loc Cert.SbfRefIdeal.main_arg1)
      ∧ r.2.mem ((c.tc : Thread Cert.SbfRefIdeal.nD Cert.SbfRefIdeal.τ).loc Cert.SbfRefIdeal.main_arg2) = m ((c.tc : Thread Cert.SbfRefIdeal.nD Cert.SbfRefIdeal.τ).loc Cert.SbfRefIdeal.main_arg2))
      ∧ r.2.sem = fun _ => 0)

def quiescent_SbfRefIdeal_pre_sbf_finite [hSbfRefIdeal : Cert.SbfRefIdeal.Facts] [hPre_sbf_finite : Cert.Pre_sbf_finite.Facts] : Prop :=
  ∀ (m : (ℓ : Loc Cert.SbfRefIdeal.nD Cert.SbfRefIdeal.τ Cert.SbfRefIdeal.sig) → Buf (Elt Ideal) ℓ) (g : Dev Cert.SbfRefIdeal.nD → PrngReg), Pre_SbfRefIdeal_sbf_finite m →
    θ_run (Cert.SbfRefIdeal.defs (F := Ideal)) (onTc (τ := Cert.SbfRefIdeal.τ) (Cert.SbfRefIdeal.main (F := Ideal))) ⟨m, fun _ => 0, g⟩ (fun r => (∀ c : Dev Cert.SbfRefIdeal.nD,
      r.2.mem ((c.tc : Thread Cert.SbfRefIdeal.nD Cert.SbfRefIdeal.τ).loc Cert.SbfRefIdeal.main_arg0) = m ((c.tc : Thread Cert.SbfRefIdeal.nD Cert.SbfRefIdeal.τ).loc Cert.SbfRefIdeal.main_arg0)
      ∧ r.2.mem ((c.tc : Thread Cert.SbfRefIdeal.nD Cert.SbfRefIdeal.τ).loc Cert.SbfRefIdeal.main_arg1) = m ((c.tc : Thread Cert.SbfRefIdeal.nD Cert.SbfRefIdeal.τ).loc Cert.SbfRefIdeal.main_arg1)
      ∧ r.2.mem ((c.tc : Thread Cert.SbfRefIdeal.nD Cert.SbfRefIdeal.τ).loc Cert.SbfRefIdeal.main_arg2) = m ((c.tc : Thread Cert.SbfRefIdeal.nD Cert.SbfRefIdeal.τ).loc Cert.SbfRefIdeal.main_arg2))
      ∧ r.2.sem = fun _ => 0)

def quiescent_SsdKernel [hSsdKernel : Cert.SsdKernel.Facts] : Prop :=
  ∀ (m : (ℓ : Loc Cert.SsdKernel.nD Cert.SsdKernel.τ Cert.SsdKernel.sig) → Buf (Elt Bits) ℓ) (g : Dev Cert.SsdKernel.nD → PrngReg), Pre_SsdKernel m →
    θ_run (Cert.SsdKernel.defs (F := Bits)) (onTc (τ := Cert.SsdKernel.τ) (Cert.SsdKernel.main (F := Bits))) ⟨m, fun _ => 0, g⟩ (fun r => (∀ c : Dev Cert.SsdKernel.nD,
      r.2.mem ((c.tc : Thread Cert.SsdKernel.nD Cert.SsdKernel.τ).loc Cert.SsdKernel.main_arg0) = m ((c.tc : Thread Cert.SsdKernel.nD Cert.SsdKernel.τ).loc Cert.SsdKernel.main_arg0)
      ∧ r.2.mem ((c.tc : Thread Cert.SsdKernel.nD Cert.SsdKernel.τ).loc Cert.SsdKernel.main_arg1) = m ((c.tc : Thread Cert.SsdKernel.nD Cert.SsdKernel.τ).loc Cert.SsdKernel.main_arg1)
      ∧ r.2.mem ((c.tc : Thread Cert.SsdKernel.nD Cert.SsdKernel.τ).loc Cert.SsdKernel.main_arg2) = m ((c.tc : Thread Cert.SsdKernel.nD Cert.SsdKernel.τ).loc Cert.SsdKernel.main_arg2)
      ∧ r.2.mem ((c.tc : Thread Cert.SsdKernel.nD Cert.SsdKernel.τ).loc Cert.SsdKernel.main_arg3) = m ((c.tc : Thread Cert.SsdKernel.nD Cert.SsdKernel.τ).loc Cert.SsdKernel.main_arg3)
      ∧ r.2.mem ((c.tc : Thread Cert.SsdKernel.nD Cert.SsdKernel.τ).loc Cert.SsdKernel.main_arg4) = m ((c.tc : Thread Cert.SsdKernel.nD Cert.SsdKernel.τ).loc Cert.SsdKernel.main_arg4)
      ∧ r.2.mem ((c.tc : Thread Cert.SsdKernel.nD Cert.SsdKernel.τ).loc Cert.SsdKernel.main_arg5) = m ((c.tc : Thread Cert.SsdKernel.nD Cert.SsdKernel.τ).loc Cert.SsdKernel.main_arg5))
      ∧ r.2.sem = fun _ => 0)

def quiescent_SsdKernelIdeal [hSsdKernelIdeal : Cert.SsdKernelIdeal.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5))
      ∧ r.2.sem = fun _ => 0)

def quiescent_SsdKernelIdeal_pre_ssd_finite [hSsdKernelIdeal : Cert.SsdKernelIdeal.Facts] [hPre_ssd_finite : Cert.Pre_ssd_finite.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg), Pre_SsdKernelIdeal_ssd_finite m →
    θ_run (Cert.SsdKernelIdeal.defs (F := Ideal)) (onTc (τ := Cert.SsdKernelIdeal.τ) (Cert.SsdKernelIdeal.main (F := Ideal))) ⟨m, fun _ => 0, g⟩ (fun r => (∀ c : Dev Cert.SsdKernelIdeal.nD,
      r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
      ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
      ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
      ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
      ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
      ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5))
      ∧ r.2.sem = fun _ => 0)

def quiescent_SsdRefIdeal [hSsdRefIdeal : Cert.SsdRefIdeal.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5))
      ∧ r.2.sem = fun _ => 0)

def quiescent_SsdRefIdeal_pre_ssd_finite [hSsdRefIdeal : Cert.SsdRefIdeal.Facts] [hPre_ssd_finite : Cert.Pre_ssd_finite.Facts] : Prop :=
  ∀ (m : (ℓ : Loc Cert.SsdRefIdeal.nD Cert.SsdRefIdeal.τ Cert.SsdRefIdeal.sig) → Buf (Elt Ideal) ℓ) (g : Dev Cert.SsdRefIdeal.nD → PrngReg), Pre_SsdRefIdeal_ssd_finite m →
    θ_run (Cert.SsdRefIdeal.defs (F := Ideal)) (onTc (τ := Cert.SsdRefIdeal.τ) (Cert.SsdRefIdeal.main (F := Ideal))) ⟨m, fun _ => 0, g⟩ (fun r => (∀ c : Dev Cert.SsdRefIdeal.nD,
      r.2.mem ((c.tc : Thread Cert.SsdRefIdeal.nD Cert.SsdRefIdeal.τ).loc Cert.SsdRefIdeal.main_arg0) = m ((c.tc : Thread Cert.SsdRefIdeal.nD Cert.SsdRefIdeal.τ).loc Cert.SsdRefIdeal.main_arg0)
      ∧ r.2.mem ((c.tc : Thread Cert.SsdRefIdeal.nD Cert.SsdRefIdeal.τ).loc Cert.SsdRefIdeal.main_arg1) = m ((c.tc : Thread Cert.SsdRefIdeal.nD Cert.SsdRefIdeal.τ).loc Cert.SsdRefIdeal.main_arg1)
      ∧ r.2.mem ((c.tc : Thread Cert.SsdRefIdeal.nD Cert.SsdRefIdeal.τ).loc Cert.SsdRefIdeal.main_arg2) = m ((c.tc : Thread Cert.SsdRefIdeal.nD Cert.SsdRefIdeal.τ).loc Cert.SsdRefIdeal.main_arg2)
      ∧ r.2.mem ((c.tc : Thread Cert.SsdRefIdeal.nD Cert.SsdRefIdeal.τ).loc Cert.SsdRefIdeal.main_arg3) = m ((c.tc : Thread Cert.SsdRefIdeal.nD Cert.SsdRefIdeal.τ).loc Cert.SsdRefIdeal.main_arg3)
      ∧ r.2.mem ((c.tc : Thread Cert.SsdRefIdeal.nD Cert.SsdRefIdeal.τ).loc Cert.SsdRefIdeal.main_arg4) = m ((c.tc : Thread Cert.SsdRefIdeal.nD Cert.SsdRefIdeal.τ).loc Cert.SsdRefIdeal.main_arg4)
      ∧ r.2.mem ((c.tc : Thread Cert.SsdRefIdeal.nD Cert.SsdRefIdeal.τ).loc Cert.SsdRefIdeal.main_arg5) = m ((c.tc : Thread Cert.SsdRefIdeal.nD Cert.SsdRefIdeal.τ).loc Cert.SsdRefIdeal.main_arg5))
      ∧ r.2.sem = fun _ => 0)

def quiescent_ActKernel [hActKernel : Cert.ActKernel.Facts] : Prop :=
  ∀ (m : (ℓ : Loc Cert.ActKernel.nD Cert.ActKernel.τ Cert.ActKernel.sig) → Buf (Elt Bits) ℓ) (g : Dev Cert.ActKernel.nD → PrngReg), Pre_ActKernel m →
    θ_run (Cert.ActKernel.defs (F := Bits)) (onTc (τ := Cert.ActKernel.τ) (Cert.ActKernel.main (F := Bits))) ⟨m, fun _ => 0, g⟩ (fun r => (∀ c : Dev Cert.ActKernel.nD,
      r.2.mem ((c.tc : Thread Cert.ActKernel.nD Cert.ActKernel.τ).loc Cert.ActKernel.main_arg0) = m ((c.tc : Thread Cert.ActKernel.nD Cert.ActKernel.τ).loc Cert.ActKernel.main_arg0)
      ∧ r.2.mem ((c.tc : Thread Cert.ActKernel.nD Cert.ActKernel.τ).loc Cert.ActKernel.main_arg1) = m ((c.tc : Thread Cert.ActKernel.nD Cert.ActKernel.τ).loc Cert.ActKernel.main_arg1)
      ∧ r.2.mem ((c.tc : Thread Cert.ActKernel.nD Cert.ActKernel.τ).loc Cert.ActKernel.main_arg2) = m ((c.tc : Thread Cert.ActKernel.nD Cert.ActKernel.τ).loc Cert.ActKernel.main_arg2))
      ∧ r.2.sem = fun _ => 0)

def quiescent_ActKernelIdeal [hActKernelIdeal : Cert.ActKernelIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg), Pre_ActKernelIdeal m →
    θ_run (Cert.ActKernelIdeal.defs (F := Ideal)) (onTc (τ := Cert.ActKernelIdeal.τ) (Cert.ActKernelIdeal.main (F := Ideal))) ⟨m, fun _ => 0, g⟩ (fun r => (∀ c : Dev Cert.ActKernelIdeal.nD,
      r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
      ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
      ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_FfnKernel [hFfnKernel : Cert.FfnKernel.Facts] : Prop :=
  ∀ (m : (ℓ : Loc Cert.FfnKernel.nD Cert.FfnKernel.τ Cert.FfnKernel.sig) → Buf (Elt Bits) ℓ) (g : Dev Cert.FfnKernel.nD → PrngReg), Pre_FfnKernel m →
    θ_run (Cert.FfnKernel.defs (F := Bits)) (onTc (τ := Cert.FfnKernel.τ) (Cert.FfnKernel.main (F := Bits))) ⟨m, fun _ => 0, g⟩ (fun r => (∀ c : Dev Cert.FfnKernel.nD,
      r.2.mem ((c.tc : Thread Cert.FfnKernel.nD Cert.FfnKernel.τ).loc Cert.FfnKernel.main_arg0) = m ((c.tc : Thread Cert.FfnKernel.nD Cert.FfnKernel.τ).loc Cert.FfnKernel.main_arg0)
      ∧ r.2.mem ((c.tc : Thread Cert.FfnKernel.nD Cert.FfnKernel.τ).loc Cert.FfnKernel.main_arg1) = m ((c.tc : Thread Cert.FfnKernel.nD Cert.FfnKernel.τ).loc Cert.FfnKernel.main_arg1)
      ∧ r.2.mem ((c.tc : Thread Cert.FfnKernel.nD Cert.FfnKernel.τ).loc Cert.FfnKernel.main_arg2) = m ((c.tc : Thread Cert.FfnKernel.nD Cert.FfnKernel.τ).loc Cert.FfnKernel.main_arg2))
      ∧ r.2.sem = fun _ => 0)

def quiescent_FfnKernelIdeal [hFfnKernelIdeal : Cert.FfnKernelIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg), Pre_FfnKernelIdeal m →
    θ_run (Cert.FfnKernelIdeal.defs (F := Ideal)) (onTc (τ := Cert.FfnKernelIdeal.τ) (Cert.FfnKernelIdeal.main (F := Ideal))) ⟨m, fun _ => 0, g⟩ (fun r => (∀ c : Dev Cert.FfnKernelIdeal.nD,
      r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
      ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
      ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2))
      ∧ r.2.sem = fun _ => 0)

def quiescent_NqKernel [hNqKernel : Cert.NqKernel.Facts] : Prop :=
  ∀ (m : (ℓ : Loc Cert.NqKernel.nD Cert.NqKernel.τ Cert.NqKernel.sig) → Buf (Elt Bits) ℓ) (g : Dev Cert.NqKernel.nD → PrngReg), Pre_NqKernel m →
    θ_run (Cert.NqKernel.defs (F := Bits)) (onTc (τ := Cert.NqKernel.τ) (Cert.NqKernel.main (F := Bits))) ⟨m, fun _ => 0, g⟩ (fun r => (∀ c : Dev Cert.NqKernel.nD,
      r.2.mem ((c.tc : Thread Cert.NqKernel.nD Cert.NqKernel.τ).loc Cert.NqKernel.main_arg0) = m ((c.tc : Thread Cert.NqKernel.nD Cert.NqKernel.τ).loc Cert.NqKernel.main_arg0)
      ∧ r.2.mem ((c.tc : Thread Cert.NqKernel.nD Cert.NqKernel.τ).loc Cert.NqKernel.main_arg1) = m ((c.tc : Thread Cert.NqKernel.nD Cert.NqKernel.τ).loc Cert.NqKernel.main_arg1)
      ∧ r.2.mem ((c.tc : Thread Cert.NqKernel.nD Cert.NqKernel.τ).loc Cert.NqKernel.main_arg2) = m ((c.tc : Thread Cert.NqKernel.nD Cert.NqKernel.τ).loc Cert.NqKernel.main_arg2))
      ∧ r.2.sem = fun _ => 0)

def quiescent_NqKernelIdeal [hNqKernelIdeal : Cert.NqKernelIdeal.Facts] : Prop :=
  ∀ (m : (ℓ : Loc Cert.NqKernelIdeal.nD Cert.NqKernelIdeal.τ Cert.NqKernelIdeal.sig) → Buf (Elt Ideal) ℓ) (g : Dev Cert.NqKernelIdeal.nD → PrngReg), Pre_NqKernelIdeal m →
    θ_run (Cert.NqKernelIdeal.defs (F := Ideal)) (onTc (τ := Cert.NqKernelIdeal.τ) (Cert.NqKernelIdeal.main (F := Ideal))) ⟨m, fun _ => 0, g⟩ (fun r => (∀ c : Dev Cert.NqKernelIdeal.nD,
      r.2.mem ((c.tc : Thread Cert.NqKernelIdeal.nD Cert.NqKernelIdeal.τ).loc Cert.NqKernelIdeal.main_arg0) = m ((c.tc : Thread Cert.NqKernelIdeal.nD Cert.NqKernelIdeal.τ).loc Cert.NqKernelIdeal.main_arg0)
      ∧ r.2.mem ((c.tc : Thread Cert.NqKernelIdeal.nD Cert.NqKernelIdeal.τ).loc Cert.NqKernelIdeal.main_arg1) = m ((c.tc : Thread Cert.NqKernelIdeal.nD Cert.NqKernelIdeal.τ).loc Cert.NqKernelIdeal.main_arg1)
      ∧ r.2.mem ((c.tc : Thread Cert.NqKernelIdeal.nD Cert.NqKernelIdeal.τ).loc Cert.NqKernelIdeal.main_arg2) = m ((c.tc : Thread Cert.NqKernelIdeal.nD Cert.NqKernelIdeal.τ).loc Cert.NqKernelIdeal.main_arg2))
      ∧ r.2.sem = fun _ => 0)

def quiescent_NqRefIdeal [hNqRefIdeal : Cert.NqRefIdeal.Facts] : Prop :=
  ∀ (m : (ℓ : Loc Cert.NqRefIdeal.nD Cert.NqRefIdeal.τ Cert.NqRefIdeal.sig) → Buf (Elt Ideal) ℓ) (g : Dev Cert.NqRefIdeal.nD → PrngReg), Pre_NqRefIdeal m →
    θ_run (Cert.NqRefIdeal.defs (F := Ideal)) (onTc (τ := Cert.NqRefIdeal.τ) (Cert.NqRefIdeal.main (F := Ideal))) ⟨m, fun _ => 0, g⟩ (fun r => (∀ c : Dev Cert.NqRefIdeal.nD,
      r.2.mem ((c.tc : Thread Cert.NqRefIdeal.nD Cert.NqRefIdeal.τ).loc Cert.NqRefIdeal.main_arg0) = m ((c.tc : Thread Cert.NqRefIdeal.nD Cert.NqRefIdeal.τ).loc Cert.NqRefIdeal.main_arg0)
      ∧ r.2.mem ((c.tc : Thread Cert.NqRefIdeal.nD Cert.NqRefIdeal.τ).loc Cert.NqRefIdeal.main_arg1) = m ((c.tc : Thread Cert.NqRefIdeal.nD Cert.NqRefIdeal.τ).loc Cert.NqRefIdeal.main_arg1)
      ∧ r.2.mem ((c.tc : Thread Cert.NqRefIdeal.nD Cert.NqRefIdeal.τ).loc Cert.NqRefIdeal.main_arg2) = m ((c.tc : Thread Cert.NqRefIdeal.nD Cert.NqRefIdeal.τ).loc Cert.NqRefIdeal.main_arg2))
      ∧ r.2.sem = fun _ => 0)

def quiescent_NupKernel [hNupKernel : Cert.NupKernel.Facts] : Prop :=
  ∀ (m : (ℓ : Loc Cert.NupKernel.nD Cert.NupKernel.τ Cert.NupKernel.sig) → Buf (Elt Bits) ℓ) (g : Dev Cert.NupKernel.nD → PrngReg), Pre_NupKernel m →
    θ_run (Cert.NupKernel.defs (F := Bits)) (onTc (τ := Cert.NupKernel.τ) (Cert.NupKernel.main (F := Bits))) ⟨m, fun _ => 0, g⟩ (fun r => (∀ c : Dev Cert.NupKernel.nD,
      r.2.mem ((c.tc : Thread Cert.NupKernel.nD Cert.NupKernel.τ).loc Cert.NupKernel.main_arg0) = m ((c.tc : Thread Cert.NupKernel.nD Cert.NupKernel.τ).loc Cert.NupKernel.main_arg0)
      ∧ r.2.mem ((c.tc : Thread Cert.NupKernel.nD Cert.NupKernel.τ).loc Cert.NupKernel.main_arg1) = m ((c.tc : Thread Cert.NupKernel.nD Cert.NupKernel.τ).loc Cert.NupKernel.main_arg1)
      ∧ r.2.mem ((c.tc : Thread Cert.NupKernel.nD Cert.NupKernel.τ).loc Cert.NupKernel.main_arg2) = m ((c.tc : Thread Cert.NupKernel.nD Cert.NupKernel.τ).loc Cert.NupKernel.main_arg2))
      ∧ r.2.sem = fun _ => 0)

def quiescent_NupKernelIdeal [hNupKernelIdeal : Cert.NupKernelIdeal.Facts] : Prop :=
  ∀ (m : (ℓ : Loc Cert.NupKernelIdeal.nD Cert.NupKernelIdeal.τ Cert.NupKernelIdeal.sig) → Buf (Elt Ideal) ℓ) (g : Dev Cert.NupKernelIdeal.nD → PrngReg), Pre_NupKernelIdeal m →
    θ_run (Cert.NupKernelIdeal.defs (F := Ideal)) (onTc (τ := Cert.NupKernelIdeal.τ) (Cert.NupKernelIdeal.main (F := Ideal))) ⟨m, fun _ => 0, g⟩ (fun r => (∀ c : Dev Cert.NupKernelIdeal.nD,
      r.2.mem ((c.tc : Thread Cert.NupKernelIdeal.nD Cert.NupKernelIdeal.τ).loc Cert.NupKernelIdeal.main_arg0) = m ((c.tc : Thread Cert.NupKernelIdeal.nD Cert.NupKernelIdeal.τ).loc Cert.NupKernelIdeal.main_arg0)
      ∧ r.2.mem ((c.tc : Thread Cert.NupKernelIdeal.nD Cert.NupKernelIdeal.τ).loc Cert.NupKernelIdeal.main_arg1) = m ((c.tc : Thread Cert.NupKernelIdeal.nD Cert.NupKernelIdeal.τ).loc Cert.NupKernelIdeal.main_arg1)
      ∧ r.2.mem ((c.tc : Thread Cert.NupKernelIdeal.nD Cert.NupKernelIdeal.τ).loc Cert.NupKernelIdeal.main_arg2) = m ((c.tc : Thread Cert.NupKernelIdeal.nD Cert.NupKernelIdeal.τ).loc Cert.NupKernelIdeal.main_arg2))
      ∧ r.2.sem = fun _ => 0)

def quiescent_NupRefIdeal [hNupRefIdeal : Cert.NupRefIdeal.Facts] : Prop :=
  ∀ (m : (ℓ : Loc Cert.NupRefIdeal.nD Cert.NupRefIdeal.τ Cert.NupRefIdeal.sig) → Buf (Elt Ideal) ℓ) (g : Dev Cert.NupRefIdeal.nD → PrngReg), Pre_NupRefIdeal m →
    θ_run (Cert.NupRefIdeal.defs (F := Ideal)) (onTc (τ := Cert.NupRefIdeal.τ) (Cert.NupRefIdeal.main (F := Ideal))) ⟨m, fun _ => 0, g⟩ (fun r => (∀ c : Dev Cert.NupRefIdeal.nD,
      r.2.mem ((c.tc : Thread Cert.NupRefIdeal.nD Cert.NupRefIdeal.τ).loc Cert.NupRefIdeal.main_arg0) = m ((c.tc : Thread Cert.NupRefIdeal.nD Cert.NupRefIdeal.τ).loc Cert.NupRefIdeal.main_arg0)
      ∧ r.2.mem ((c.tc : Thread Cert.NupRefIdeal.nD Cert.NupRefIdeal.τ).loc Cert.NupRefIdeal.main_arg1) = m ((c.tc : Thread Cert.NupRefIdeal.nD Cert.NupRefIdeal.τ).loc Cert.NupRefIdeal.main_arg1)
      ∧ r.2.mem ((c.tc : Thread Cert.NupRefIdeal.nD Cert.NupRefIdeal.τ).loc Cert.NupRefIdeal.main_arg2) = m ((c.tc : Thread Cert.NupRefIdeal.nD Cert.NupRefIdeal.τ).loc Cert.NupRefIdeal.main_arg2))
      ∧ r.2.sem = fun _ => 0)

def quiescent_NinKernel [hNinKernel : Cert.NinKernel.Facts] : Prop :=
  ∀ (m : (ℓ : Loc Cert.NinKernel.nD Cert.NinKernel.τ Cert.NinKernel.sig) → Buf (Elt Bits) ℓ) (g : Dev Cert.NinKernel.nD → PrngReg), Pre_NinKernel m →
    θ_run (Cert.NinKernel.defs (F := Bits)) (onTc (τ := Cert.NinKernel.τ) (Cert.NinKernel.main (F := Bits))) ⟨m, fun _ => 0, g⟩ (fun r => (∀ c : Dev Cert.NinKernel.nD,
      r.2.mem ((c.tc : Thread Cert.NinKernel.nD Cert.NinKernel.τ).loc Cert.NinKernel.main_arg0) = m ((c.tc : Thread Cert.NinKernel.nD Cert.NinKernel.τ).loc Cert.NinKernel.main_arg0)
      ∧ r.2.mem ((c.tc : Thread Cert.NinKernel.nD Cert.NinKernel.τ).loc Cert.NinKernel.main_arg1) = m ((c.tc : Thread Cert.NinKernel.nD Cert.NinKernel.τ).loc Cert.NinKernel.main_arg1)
      ∧ r.2.mem ((c.tc : Thread Cert.NinKernel.nD Cert.NinKernel.τ).loc Cert.NinKernel.main_arg2) = m ((c.tc : Thread Cert.NinKernel.nD Cert.NinKernel.τ).loc Cert.NinKernel.main_arg2))
      ∧ r.2.sem = fun _ => 0)

def quiescent_NinKernelIdeal [hNinKernelIdeal : Cert.NinKernelIdeal.Facts] : Prop :=
  ∀ (m : (ℓ : Loc Cert.NinKernelIdeal.nD Cert.NinKernelIdeal.τ Cert.NinKernelIdeal.sig) → Buf (Elt Ideal) ℓ) (g : Dev Cert.NinKernelIdeal.nD → PrngReg), Pre_NinKernelIdeal m →
    θ_run (Cert.NinKernelIdeal.defs (F := Ideal)) (onTc (τ := Cert.NinKernelIdeal.τ) (Cert.NinKernelIdeal.main (F := Ideal))) ⟨m, fun _ => 0, g⟩ (fun r => (∀ c : Dev Cert.NinKernelIdeal.nD,
      r.2.mem ((c.tc : Thread Cert.NinKernelIdeal.nD Cert.NinKernelIdeal.τ).loc Cert.NinKernelIdeal.main_arg0) = m ((c.tc : Thread Cert.NinKernelIdeal.nD Cert.NinKernelIdeal.τ).loc Cert.NinKernelIdeal.main_arg0)
      ∧ r.2.mem ((c.tc : Thread Cert.NinKernelIdeal.nD Cert.NinKernelIdeal.τ).loc Cert.NinKernelIdeal.main_arg1) = m ((c.tc : Thread Cert.NinKernelIdeal.nD Cert.NinKernelIdeal.τ).loc Cert.NinKernelIdeal.main_arg1)
      ∧ r.2.mem ((c.tc : Thread Cert.NinKernelIdeal.nD Cert.NinKernelIdeal.τ).loc Cert.NinKernelIdeal.main_arg2) = m ((c.tc : Thread Cert.NinKernelIdeal.nD Cert.NinKernelIdeal.τ).loc Cert.NinKernelIdeal.main_arg2))
      ∧ r.2.sem = fun _ => 0)

def quiescent_NinRefIdeal [hNinRefIdeal : Cert.NinRefIdeal.Facts] : Prop :=
  ∀ (m : (ℓ : Loc Cert.NinRefIdeal.nD Cert.NinRefIdeal.τ Cert.NinRefIdeal.sig) → Buf (Elt Ideal) ℓ) (g : Dev Cert.NinRefIdeal.nD → PrngReg), Pre_NinRefIdeal m →
    θ_run (Cert.NinRefIdeal.defs (F := Ideal)) (onTc (τ := Cert.NinRefIdeal.τ) (Cert.NinRefIdeal.main (F := Ideal))) ⟨m, fun _ => 0, g⟩ (fun r => (∀ c : Dev Cert.NinRefIdeal.nD,
      r.2.mem ((c.tc : Thread Cert.NinRefIdeal.nD Cert.NinRefIdeal.τ).loc Cert.NinRefIdeal.main_arg0) = m ((c.tc : Thread Cert.NinRefIdeal.nD Cert.NinRefIdeal.τ).loc Cert.NinRefIdeal.main_arg0)
      ∧ r.2.mem ((c.tc : Thread Cert.NinRefIdeal.nD Cert.NinRefIdeal.τ).loc Cert.NinRefIdeal.main_arg1) = m ((c.tc : Thread Cert.NinRefIdeal.nD Cert.NinRefIdeal.τ).loc Cert.NinRefIdeal.main_arg1)
      ∧ r.2.mem ((c.tc : Thread Cert.NinRefIdeal.nD Cert.NinRefIdeal.τ).loc Cert.NinRefIdeal.main_arg2) = m ((c.tc : Thread Cert.NinRefIdeal.nD Cert.NinRefIdeal.τ).loc Cert.NinRefIdeal.main_arg2))
      ∧ r.2.sem = fun _ => 0)

def quiescent_DnKernel [hDnKernel : Cert.DnKernel.Facts] : Prop :=
  ∀ (m : (ℓ : Loc Cert.DnKernel.nD Cert.DnKernel.τ Cert.DnKernel.sig) → Buf (Elt Bits) ℓ) (g : Dev Cert.DnKernel.nD → PrngReg), Pre_DnKernel m →
    θ_run (Cert.DnKernel.defs (F := Bits)) (onTc (τ := Cert.DnKernel.τ) (Cert.DnKernel.main (F := Bits))) ⟨m, fun _ => 0, g⟩ (fun r => (∀ c : Dev Cert.DnKernel.nD,
      r.2.mem ((c.tc : Thread Cert.DnKernel.nD Cert.DnKernel.τ).loc Cert.DnKernel.main_arg0) = m ((c.tc : Thread Cert.DnKernel.nD Cert.DnKernel.τ).loc Cert.DnKernel.main_arg0)
      ∧ r.2.mem ((c.tc : Thread Cert.DnKernel.nD Cert.DnKernel.τ).loc Cert.DnKernel.main_arg1) = m ((c.tc : Thread Cert.DnKernel.nD Cert.DnKernel.τ).loc Cert.DnKernel.main_arg1)
      ∧ r.2.mem ((c.tc : Thread Cert.DnKernel.nD Cert.DnKernel.τ).loc Cert.DnKernel.main_arg2) = m ((c.tc : Thread Cert.DnKernel.nD Cert.DnKernel.τ).loc Cert.DnKernel.main_arg2))
      ∧ r.2.sem = fun _ => 0)

def quiescent_DnKernelIdeal [hDnKernelIdeal : Cert.DnKernelIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg), Pre_DnKernelIdeal m →
    θ_run (Cert.DnKernelIdeal.defs (F := Ideal)) (onTc (τ := Cert.DnKernelIdeal.τ) (Cert.DnKernelIdeal.main (F := Ideal))) ⟨m, fun _ => 0, g⟩ (fun r => (∀ c : Dev Cert.DnKernelIdeal.nD,
      r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
      ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
      ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2))
      ∧ r.2.sem = fun _ => 0)

def quiescent_DnRefIdeal [hDnRefIdeal : Cert.DnRefIdeal.Facts] : Prop :=
  ∀ (m : (ℓ : Loc Cert.DnRefIdeal.nD Cert.DnRefIdeal.τ Cert.DnRefIdeal.sig) → Buf (Elt Ideal) ℓ) (g : Dev Cert.DnRefIdeal.nD → PrngReg), Pre_DnRefIdeal m →
    θ_run (Cert.DnRefIdeal.defs (F := Ideal)) (onTc (τ := Cert.DnRefIdeal.τ) (Cert.DnRefIdeal.main (F := Ideal))) ⟨m, fun _ => 0, g⟩ (fun r => (∀ c : Dev Cert.DnRefIdeal.nD,
      r.2.mem ((c.tc : Thread Cert.DnRefIdeal.nD Cert.DnRefIdeal.τ).loc Cert.DnRefIdeal.main_arg0) = m ((c.tc : Thread Cert.DnRefIdeal.nD Cert.DnRefIdeal.τ).loc Cert.DnRefIdeal.main_arg0)
      ∧ r.2.mem ((c.tc : Thread Cert.DnRefIdeal.nD Cert.DnRefIdeal.τ).loc Cert.DnRefIdeal.main_arg1) = m ((c.tc : Thread Cert.DnRefIdeal.nD Cert.DnRefIdeal.τ).loc Cert.DnRefIdeal.main_arg1)
      ∧ r.2.mem ((c.tc : Thread Cert.DnRefIdeal.nD Cert.DnRefIdeal.τ).loc Cert.DnRefIdeal.main_arg2) = m ((c.tc : Thread Cert.DnRefIdeal.nD Cert.DnRefIdeal.τ).loc Cert.DnRefIdeal.main_arg2))
      ∧ r.2.sem = fun _ => 0)

def quiescent_DdKernel [hDdKernel : Cert.DdKernel.Facts] : Prop :=
  ∀ (m : (ℓ : Loc Cert.DdKernel.nD Cert.DdKernel.τ Cert.DdKernel.sig) → Buf (Elt Bits) ℓ) (g : Dev Cert.DdKernel.nD → PrngReg), Pre_DdKernel m →
    θ_run (Cert.DdKernel.defs (F := Bits)) (onTc (τ := Cert.DdKernel.τ) (Cert.DdKernel.main (F := Bits))) ⟨m, fun _ => 0, g⟩ (fun r => (∀ c : Dev Cert.DdKernel.nD,
      r.2.mem ((c.tc : Thread Cert.DdKernel.nD Cert.DdKernel.τ).loc Cert.DdKernel.main_arg0) = m ((c.tc : Thread Cert.DdKernel.nD Cert.DdKernel.τ).loc Cert.DdKernel.main_arg0)
      ∧ r.2.mem ((c.tc : Thread Cert.DdKernel.nD Cert.DdKernel.τ).loc Cert.DdKernel.main_arg1) = m ((c.tc : Thread Cert.DdKernel.nD Cert.DdKernel.τ).loc Cert.DdKernel.main_arg1))
      ∧ r.2.sem = fun _ => 0)

def quiescent_DdKernelIdeal [hDdKernelIdeal : Cert.DdKernelIdeal.Facts] : Prop :=
  ∀ (m : (ℓ : Loc Cert.DdKernelIdeal.nD Cert.DdKernelIdeal.τ Cert.DdKernelIdeal.sig) → Buf (Elt Ideal) ℓ) (g : Dev Cert.DdKernelIdeal.nD → PrngReg), Pre_DdKernelIdeal m →
    θ_run (Cert.DdKernelIdeal.defs (F := Ideal)) (onTc (τ := Cert.DdKernelIdeal.τ) (Cert.DdKernelIdeal.main (F := Ideal))) ⟨m, fun _ => 0, g⟩ (fun r => (∀ c : Dev Cert.DdKernelIdeal.nD,
      r.2.mem ((c.tc : Thread Cert.DdKernelIdeal.nD Cert.DdKernelIdeal.τ).loc Cert.DdKernelIdeal.main_arg0) = m ((c.tc : Thread Cert.DdKernelIdeal.nD Cert.DdKernelIdeal.τ).loc Cert.DdKernelIdeal.main_arg0)
      ∧ r.2.mem ((c.tc : Thread Cert.DdKernelIdeal.nD Cert.DdKernelIdeal.τ).loc Cert.DdKernelIdeal.main_arg1) = m ((c.tc : Thread Cert.DdKernelIdeal.nD Cert.DdKernelIdeal.τ).loc Cert.DdKernelIdeal.main_arg1))
      ∧ r.2.sem = fun _ => 0)

def quiescent_DdRefIdeal [hDdRefIdeal : Cert.DdRefIdeal.Facts] : Prop :=
  ∀ (m : (ℓ : Loc Cert.DdRefIdeal.nD Cert.DdRefIdeal.τ Cert.DdRefIdeal.sig) → Buf (Elt Ideal) ℓ) (g : Dev Cert.DdRefIdeal.nD → PrngReg), Pre_DdRefIdeal m →
    θ_run (Cert.DdRefIdeal.defs (F := Ideal)) (onTc (τ := Cert.DdRefIdeal.τ) (Cert.DdRefIdeal.main (F := Ideal))) ⟨m, fun _ => 0, g⟩ (fun r => (∀ c : Dev Cert.DdRefIdeal.nD,
      r.2.mem ((c.tc : Thread Cert.DdRefIdeal.nD Cert.DdRefIdeal.τ).loc Cert.DdRefIdeal.main_arg0) = m ((c.tc : Thread Cert.DdRefIdeal.nD Cert.DdRefIdeal.τ).loc Cert.DdRefIdeal.main_arg0)
      ∧ r.2.mem ((c.tc : Thread Cert.DdRefIdeal.nD Cert.DdRefIdeal.τ).loc Cert.DdRefIdeal.main_arg1) = m ((c.tc : Thread Cert.DdRefIdeal.nD Cert.DdRefIdeal.τ).loc Cert.DdRefIdeal.main_arg1))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ r.2.sem = fun _ => 0)

def quiescent_DwRefIdeal [hDwRefIdeal : Cert.DwRefIdeal.Facts] : Prop :=
  ∀ (m : (ℓ : Loc Cert.DwRefIdeal.nD Cert.DwRefIdeal.τ Cert.DwRefIdeal.sig) → Buf (Elt Ideal) ℓ) (g : Dev Cert.DwRefIdeal.nD → PrngReg), Pre_DwRefIdeal m →
    θ_run (Cert.DwRefIdeal.defs (F := Ideal)) (onTc (τ := Cert.DwRefIdeal.τ) (Cert.DwRefIdeal.main (F := Ideal))) ⟨m, fun _ => 0, g⟩ (fun r => (∀ c : Dev Cert.DwRefIdeal.nD,
      r.2.mem ((c.tc : Thread Cert.DwRefIdeal.nD Cert.DwRefIdeal.τ).loc Cert.DwRefIdeal.main_arg0) = m ((c.tc : Thread Cert.DwRefIdeal.nD Cert.DwRefIdeal.τ).loc Cert.DwRefIdeal.main_arg0)
      ∧ r.2.mem ((c.tc : Thread Cert.DwRefIdeal.nD Cert.DwRefIdeal.τ).loc Cert.DwRefIdeal.main_arg1) = m ((c.tc : Thread Cert.DwRefIdeal.nD Cert.DwRefIdeal.τ).loc Cert.DwRefIdeal.main_arg1))
      ∧ r.2.sem = fun _ => 0)

def quiescent_OptKernel [hOptKernel : Cert.OptKernel.Facts] : Prop :=
  ∀ (m : (ℓ : Loc Cert.OptKernel.nD Cert.OptKernel.τ Cert.OptKernel.sig) → Buf (Elt Bits) ℓ) (g : Dev Cert.OptKernel.nD → PrngReg), Pre_OptKernel m →
    θ_run (Cert.OptKernel.defs (F := Bits)) (onTc (τ := Cert.OptKernel.τ) (Cert.OptKernel.main (F := Bits))) ⟨m, fun _ => 0, g⟩ (fun r => (∀ c : Dev Cert.OptKernel.nD,
      r.2.mem ((c.tc : Thread Cert.OptKernel.nD Cert.OptKernel.τ).loc Cert.OptKernel.main_arg0) = m ((c.tc : Thread Cert.OptKernel.nD Cert.OptKernel.τ).loc Cert.OptKernel.main_arg0)
      ∧ r.2.mem ((c.tc : Thread Cert.OptKernel.nD Cert.OptKernel.τ).loc Cert.OptKernel.main_arg1) = m ((c.tc : Thread Cert.OptKernel.nD Cert.OptKernel.τ).loc Cert.OptKernel.main_arg1)
      ∧ r.2.mem ((c.tc : Thread Cert.OptKernel.nD Cert.OptKernel.τ).loc Cert.OptKernel.main_arg2) = m ((c.tc : Thread Cert.OptKernel.nD Cert.OptKernel.τ).loc Cert.OptKernel.main_arg2)
      ∧ r.2.mem ((c.tc : Thread Cert.OptKernel.nD Cert.OptKernel.τ).loc Cert.OptKernel.main_arg3) = m ((c.tc : Thread Cert.OptKernel.nD Cert.OptKernel.τ).loc Cert.OptKernel.main_arg3)
      ∧ r.2.mem ((c.tc : Thread Cert.OptKernel.nD Cert.OptKernel.τ).loc Cert.OptKernel.main_arg4) = m ((c.tc : Thread Cert.OptKernel.nD Cert.OptKernel.τ).loc Cert.OptKernel.main_arg4))
      ∧ r.2.sem = fun _ => 0)

def quiescent_OptKernelIdeal [hOptKernelIdeal : Cert.OptKernelIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg), Pre_OptKernelIdeal m →
    θ_run (Cert.OptKernelIdeal.defs (F := Ideal)) (onTc (τ := Cert.OptKernelIdeal.τ) (Cert.OptKernelIdeal.main (F := Ideal))) ⟨m, fun _ => 0, g⟩ (fun r => (∀ c : Dev Cert.OptKernelIdeal.nD,
      r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
      ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
      ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
      ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
      ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4))
      ∧ r.2.sem = fun _ => 0)

def quiescent_OptRefIdeal [hOptRefIdeal : Cert.OptRefIdeal.Facts] : Prop :=
  ∀ (m : (ℓ : Loc Cert.OptRefIdeal.nD Cert.OptRefIdeal.τ Cert.OptRefIdeal.sig) → Buf (Elt Ideal) ℓ) (g : Dev Cert.OptRefIdeal.nD → PrngReg), Pre_OptRefIdeal m →
    θ_run (Cert.OptRefIdeal.defs (F := Ideal)) (onTc (τ := Cert.OptRefIdeal.τ) (Cert.OptRefIdeal.main (F := Ideal))) ⟨m, fun _ => 0, g⟩ (fun r => (∀ c : Dev Cert.OptRefIdeal.nD,
      r.2.mem ((c.tc : Thread Cert.OptRefIdeal.nD Cert.OptRefIdeal.τ).loc Cert.OptRefIdeal.main_arg0) = m ((c.tc : Thread Cert.OptRefIdeal.nD Cert.OptRefIdeal.τ).loc Cert.OptRefIdeal.main_arg0)
      ∧ r.2.mem ((c.tc : Thread Cert.OptRefIdeal.nD Cert.OptRefIdeal.τ).loc Cert.OptRefIdeal.main_arg1) = m ((c.tc : Thread Cert.OptRefIdeal.nD Cert.OptRefIdeal.τ).loc Cert.OptRefIdeal.main_arg1)
      ∧ r.2.mem ((c.tc : Thread Cert.OptRefIdeal.nD Cert.OptRefIdeal.τ).loc Cert.OptRefIdeal.main_arg2) = m ((c.tc : Thread Cert.OptRefIdeal.nD Cert.OptRefIdeal.τ).loc Cert.OptRefIdeal.main_arg2)
      ∧ r.2.mem ((c.tc : Thread Cert.OptRefIdeal.nD Cert.OptRefIdeal.τ).loc Cert.OptRefIdeal.main_arg3) = m ((c.tc : Thread Cert.OptRefIdeal.nD Cert.OptRefIdeal.τ).loc Cert.OptRefIdeal.main_arg3)
      ∧ r.2.mem ((c.tc : Thread Cert.OptRefIdeal.nD Cert.OptRefIdeal.τ).loc Cert.OptRefIdeal.main_arg4) = m ((c.tc : Thread Cert.OptRefIdeal.nD Cert.OptRefIdeal.τ).loc Cert.OptRefIdeal.main_arg4))
      ∧ r.2.sem = fun _ => 0)

def quiescent_PutKernel [hPutKernel : Cert.PutKernel.Facts] : Prop :=
  ∀ (m : (ℓ : Loc Cert.PutKernel.nD Cert.PutKernel.τ Cert.PutKernel.sig) → Buf (Elt Bits) ℓ) (g : Dev Cert.PutKernel.nD → PrngReg), Pre_PutKernel m →
    θ_run (Cert.PutKernel.defs (F := Bits)) (onTc (τ := Cert.PutKernel.τ) (Cert.PutKernel.main (F := Bits))) ⟨m, fun _ => 0, g⟩ (fun r => (∀ c : Dev Cert.PutKernel.nD,
      r.2.mem ((c.tc : Thread Cert.PutKernel.nD Cert.PutKernel.τ).loc Cert.PutKernel.main_arg0) = m ((c.tc : Thread Cert.PutKernel.nD Cert.PutKernel.τ).loc Cert.PutKernel.main_arg0)
      ∧ r.2.mem ((c.tc : Thread Cert.PutKernel.nD Cert.PutKernel.τ).loc Cert.PutKernel.main_arg1) = m ((c.tc : Thread Cert.PutKernel.nD Cert.PutKernel.τ).loc Cert.PutKernel.main_arg1))
      ∧ r.2.sem = fun _ => 0)

def quiescent_PutKernelIdeal [hPutKernelIdeal : Cert.PutKernelIdeal.Facts] : Prop :=
  ∀ (m : (ℓ : Loc Cert.PutKernelIdeal.nD Cert.PutKernelIdeal.τ Cert.PutKernelIdeal.sig) → Buf (Elt Ideal) ℓ) (g : Dev Cert.PutKernelIdeal.nD → PrngReg), Pre_PutKernelIdeal m →
    θ_run (Cert.PutKernelIdeal.defs (F := Ideal)) (onTc (τ := Cert.PutKernelIdeal.τ) (Cert.PutKernelIdeal.main (F := Ideal))) ⟨m, fun _ => 0, g⟩ (fun r => (∀ c : Dev Cert.PutKernelIdeal.nD,
      r.2.mem ((c.tc : Thread Cert.PutKernelIdeal.nD Cert.PutKernelIdeal.τ).loc Cert.PutKernelIdeal.main_arg0) = m ((c.tc : Thread Cert.PutKernelIdeal.nD Cert.PutKernelIdeal.τ).loc Cert.PutKernelIdeal.main_arg0)
      ∧ r.2.mem ((c.tc : Thread Cert.PutKernelIdeal.nD Cert.PutKernelIdeal.τ).loc Cert.PutKernelIdeal.main_arg1) = m ((c.tc : Thread Cert.PutKernelIdeal.nD Cert.PutKernelIdeal.τ).loc Cert.PutKernelIdeal.main_arg1))
      ∧ r.2.sem = fun _ => 0)

def quiescent_PutRefIdeal [hPutRefIdeal : Cert.PutRefIdeal.Facts] : Prop :=
  ∀ (m : (ℓ : Loc Cert.PutRefIdeal.nD Cert.PutRefIdeal.τ Cert.PutRefIdeal.sig) → Buf (Elt Ideal) ℓ) (g : Dev Cert.PutRefIdeal.nD → PrngReg), Pre_PutRefIdeal m →
    θ_run (Cert.PutRefIdeal.defs (F := Ideal)) (onTc (τ := Cert.PutRefIdeal.τ) (Cert.PutRefIdeal.main (F := Ideal))) ⟨m, fun _ => 0, g⟩ (fun r => (∀ c : Dev Cert.PutRefIdeal.nD,
      r.2.mem ((c.tc : Thread Cert.PutRefIdeal.nD Cert.PutRefIdeal.τ).loc Cert.PutRefIdeal.main_arg0) = m ((c.tc : Thread Cert.PutRefIdeal.nD Cert.PutRefIdeal.τ).loc Cert.PutRefIdeal.main_arg0)
      ∧ r.2.mem ((c.tc : Thread Cert.PutRefIdeal.nD Cert.PutRefIdeal.τ).loc Cert.PutRefIdeal.main_arg1) = m ((c.tc : Thread Cert.PutRefIdeal.nD Cert.PutRefIdeal.τ).loc Cert.PutRefIdeal.main_arg1))
      ∧ r.2.sem = fun _ => 0)

def quiescent_StkKernel [hStkKernel : Cert.StkKernel.Facts] : Prop :=
  ∀ (m : (ℓ : Loc Cert.StkKernel.nD Cert.StkKernel.τ Cert.StkKernel.sig) → Buf (Elt Bits) ℓ) (g : Dev Cert.StkKernel.nD → PrngReg), Pre_StkKernel m →
    θ_run (Cert.StkKernel.defs (F := Bits)) (onTc (τ := Cert.StkKernel.τ) (Cert.StkKernel.main (F := Bits))) ⟨m, fun _ => 0, g⟩ (fun r => (∀ c : Dev Cert.StkKernel.nD,
      r.2.mem ((c.tc : Thread Cert.StkKernel.nD Cert.StkKernel.τ).loc Cert.StkKernel.main_arg0) = m ((c.tc : Thread Cert.StkKernel.nD Cert.StkKernel.τ).loc Cert.StkKernel.main_arg0))
      ∧ r.2.sem = fun _ => 0)

def quiescent_StkKernelIdeal [hStkKernelIdeal : Cert.StkKernelIdeal.Facts] : Prop :=
  ∀ (m : (ℓ : Loc Cert.StkKernelIdeal.nD Cert.StkKernelIdeal.τ Cert.StkKernelIdeal.sig) → Buf (Elt Ideal) ℓ) (g : Dev Cert.StkKernelIdeal.nD → PrngReg), Pre_StkKernelIdeal m →
    θ_run (Cert.StkKernelIdeal.defs (F := Ideal)) (onTc (τ := Cert.StkKernelIdeal.τ) (Cert.StkKernelIdeal.main (F := Ideal))) ⟨m, fun _ => 0, g⟩ (fun r => (∀ c : Dev Cert.StkKernelIdeal.nD,
      r.2.mem ((c.tc : Thread Cert.StkKernelIdeal.nD Cert.StkKernelIdeal.τ).loc Cert.StkKernelIdeal.main_arg0) = m ((c.tc : Thread Cert.StkKernelIdeal.nD Cert.StkKernelIdeal.τ).loc Cert.StkKernelIdeal.main_arg0))
      ∧ r.2.sem = fun _ => 0)

def quiescent_StkRefIdeal [hStkRefIdeal : Cert.StkRefIdeal.Facts] : Prop :=
  ∀ (m : (ℓ : Loc Cert.StkRefIdeal.nD Cert.StkRefIdeal.τ Cert.StkRefIdeal.sig) → Buf (Elt Ideal) ℓ) (g : Dev Cert.StkRefIdeal.nD → PrngReg), Pre_StkRefIdeal m →
    θ_run (Cert.StkRefIdeal.defs (F := Ideal)) (onTc (τ := Cert.StkRefIdeal.τ) (Cert.StkRefIdeal.main (F := Ideal))) ⟨m, fun _ => 0, g⟩ (fun r => (∀ c : Dev Cert.StkRefIdeal.nD,
      r.2.mem ((c.tc : Thread Cert.StkRefIdeal.nD Cert.StkRefIdeal.τ).loc Cert.StkRefIdeal.main_arg0) = m ((c.tc : Thread Cert.StkRefIdeal.nD Cert.StkRefIdeal.τ).loc Cert.StkRefIdeal.main_arg0))
      ∧ r.2.sem = fun _ => 0)

def quiescent_UnsKernel [hUnsKernel : Cert.UnsKernel.Facts] : Prop :=
  ∀ (m : (ℓ : Loc Cert.UnsKernel.nD Cert.UnsKernel.τ Cert.UnsKernel.sig) → Buf (Elt Bits) ℓ) (g : Dev Cert.UnsKernel.nD → PrngReg), Pre_UnsKernel m →
    θ_run (Cert.UnsKernel.defs (F := Bits)) (onTc (τ := Cert.UnsKernel.τ) (Cert.UnsKernel.main (F := Bits))) ⟨m, fun _ => 0, g⟩ (fun r => (∀ c : Dev Cert.UnsKernel.nD,
      r.2.mem ((c.tc : Thread Cert.UnsKernel.nD Cert.UnsKernel.τ).loc Cert.UnsKernel.main_arg0) = m ((c.tc : Thread Cert.UnsKernel.nD Cert.UnsKernel.τ).loc Cert.UnsKernel.main_arg0))
      ∧ r.2.sem = fun _ => 0)

def quiescent_UnsKernelIdeal [hUnsKernelIdeal : Cert.UnsKernelIdeal.Facts] : Prop :=
  ∀ (m : (ℓ : Loc Cert.UnsKernelIdeal.nD Cert.UnsKernelIdeal.τ Cert.UnsKernelIdeal.sig) → Buf (Elt Ideal) ℓ) (g : Dev Cert.UnsKernelIdeal.nD → PrngReg), Pre_UnsKernelIdeal m →
    θ_run (Cert.UnsKernelIdeal.defs (F := Ideal)) (onTc (τ := Cert.UnsKernelIdeal.τ) (Cert.UnsKernelIdeal.main (F := Ideal))) ⟨m, fun _ => 0, g⟩ (fun r => (∀ c : Dev Cert.UnsKernelIdeal.nD,
      r.2.mem ((c.tc : Thread Cert.UnsKernelIdeal.nD Cert.UnsKernelIdeal.τ).loc Cert.UnsKernelIdeal.main_arg0) = m ((c.tc : Thread Cert.UnsKernelIdeal.nD Cert.UnsKernelIdeal.τ).loc Cert.UnsKernelIdeal.main_arg0))
      ∧ r.2.sem = fun _ => 0)

def quiescent_UnsRefIdeal [hUnsRefIdeal : Cert.UnsRefIdeal.Facts] : Prop :=
  ∀ (m : (ℓ : Loc Cert.UnsRefIdeal.nD Cert.UnsRefIdeal.τ Cert.UnsRefIdeal.sig) → Buf (Elt Ideal) ℓ) (g : Dev Cert.UnsRefIdeal.nD → PrngReg), Pre_UnsRefIdeal m →
    θ_run (Cert.UnsRefIdeal.defs (F := Ideal)) (onTc (τ := Cert.UnsRefIdeal.τ) (Cert.UnsRefIdeal.main (F := Ideal))) ⟨m, fun _ => 0, g⟩ (fun r => (∀ c : Dev Cert.UnsRefIdeal.nD,
      r.2.mem ((c.tc : Thread Cert.UnsRefIdeal.nD Cert.UnsRefIdeal.τ).loc Cert.UnsRefIdeal.main_arg0) = m ((c.tc : Thread Cert.UnsRefIdeal.nD Cert.UnsRefIdeal.τ).loc Cert.UnsRefIdeal.main_arg0))
      ∧ r.2.sem = fun _ => 0)

def preserves_LossKernel_LossKernelIdeal : Prop :=
  True

def algebraic_LossKernelIdeal_LossRefIdeal_pre_loss_finite [hLossKernelIdeal : Cert.LossKernelIdeal.Facts] [hLossRefIdeal : Cert.LossRefIdeal.Facts] [hPre_loss_finite : Cert.Pre_loss_finite.Facts] : Prop :=
  ∀ (m : (ℓ : Loc Cert.LossKernelIdeal.nD Cert.LossKernelIdeal.τ Cert.LossKernelIdeal.sig) → Buf (Elt Ideal) ℓ) (g : Dev Cert.LossKernelIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossKernelIdeal_loss_finite m →
    (∀ c : Dev Cert.LossKernelIdeal.nD,
      m' ((c.tc : Thread Cert.LossRefIdeal.nD Cert.LossRefIdeal.τ).loc Cert.LossRefIdeal.main_arg0) = m ((c.tc : Thread Cert.LossKernelIdeal.nD Cert.LossKernelIdeal.τ).loc Cert.LossKernelIdeal.main_arg0)
      ∧ m' ((c.tc : Thread Cert.LossRefIdeal.nD Cert.LossRefIdeal.τ).loc Cert.LossRefIdeal.main_arg1) = m ((c.tc : Thread Cert.LossKernelIdeal.nD Cert.LossKernelIdeal.τ).loc Cert.LossKernelIdeal.main_arg1)
      ∧ m' ((c.tc : Thread Cert.LossRefIdeal.nD Cert.LossRefIdeal.τ).loc Cert.LossRefIdeal.main_arg2) = m ((c.tc : Thread Cert.LossKernelIdeal.nD Cert.LossKernelIdeal.τ).loc Cert.LossKernelIdeal.main_arg2)) →
    ∃ (v0 : (c : Dev Cert.LossKernelIdeal.nD) → Buf (Elt Ideal) ((c.tc : Thread Cert.LossKernelIdeal.nD Cert.LossKernelIdeal.τ).loc Cert.LossKernelIdeal.main_v3)) (v1 : (c : Dev Cert.LossKernelIdeal.nD) → Buf (Elt Ideal) ((c.tc : Thread Cert.LossKernelIdeal.nD Cert.LossKernelIdeal.τ).loc Cert.LossKernelIdeal.main_v1_1)) (v2 : (c : Dev Cert.LossKernelIdeal.nD) → Buf (Elt Ideal) ((c.tc : Thread Cert.LossKernelIdeal.nD Cert.LossKernelIdeal.τ).loc Cert.LossKernelIdeal.main_v4)),
      θ_run (Cert.LossKernelIdeal.defs (F := Ideal)) (onTc (τ := Cert.LossKernelIdeal.τ) (Cert.LossKernelIdeal.main (F := Ideal))) ⟨m, fun _ => 0, g⟩ (fun r => ∀ c : Dev Cert.LossKernelIdeal.nD,
          r.2.mem ((c.tc : Thread Cert.LossKernelIdeal.nD Cert.LossKernelIdeal.τ).loc Cert.LossKernelIdeal.main_v3) = v0 c
          ∧ r.2.mem ((c.tc : Thread Cert.LossKernelIdeal.nD Cert.LossKernelIdeal.τ).loc Cert.LossKernelIdeal.main_v1_1) = v1 c
          ∧ r.2.mem ((c.tc : Thread Cert.LossKernelIdeal.nD Cert.LossKernelIdeal.τ).loc Cert.LossKernelIdeal.main_v4) = v2 c
          ∧ r.2.mem ((c.tc : Thread Cert.LossKernelIdeal.nD Cert.LossKernelIdeal.τ).loc Cert.LossKernelIdeal.main_arg0) = m ((c.tc : Thread Cert.LossKernelIdeal.nD Cert.LossKernelIdeal.τ).loc Cert.LossKernelIdeal.main_arg0)
          ∧ r.2.mem ((c.tc : Thread Cert.LossKernelIdeal.nD Cert.LossKernelIdeal.τ).loc Cert.LossKernelIdeal.main_arg1) = m ((c.tc : Thread Cert.LossKernelIdeal.nD Cert.LossKernelIdeal.τ).loc Cert.LossKernelIdeal.main_arg1)
          ∧ r.2.mem ((c.tc : Thread Cert.LossKernelIdeal.nD Cert.LossKernelIdeal.τ).loc Cert.LossKernelIdeal.main_arg2) = m ((c.tc : Thread Cert.LossKernelIdeal.nD Cert.LossKernelIdeal.τ).loc Cert.LossKernelIdeal.main_arg2))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v24) = v0 c
          ∧ r.2.mem ((c.tc : Thread Cert.LossRefIdeal.nD Cert.LossRefIdeal.τ).loc Cert.LossRefIdeal.main_v50) = v1 c
          ∧ r.2.mem ((c.tc : Thread Cert.LossRefIdeal.nD Cert.LossRefIdeal.τ).loc Cert.LossRefIdeal.main_v36) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2))

def preserves_GateKernel_GateKernelIdeal : Prop :=
  True

def algebraic_GateKernelIdeal_GateRefIdeal_pre_gate_finite [hGateKernelIdeal : Cert.GateKernelIdeal.Facts] [hGateRefIdeal : Cert.GateRefIdeal.Facts] [hPre_gate_finite : Cert.Pre_gate_finite.Facts] : Prop :=
  ∀ (m : (ℓ : Loc Cert.GateKernelIdeal.nD Cert.GateKernelIdeal.τ Cert.GateKernelIdeal.sig) → Buf (Elt Ideal) ℓ) (g : Dev Cert.GateKernelIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateKernelIdeal_gate_finite m →
    (∀ c : Dev Cert.GateKernelIdeal.nD,
      m' ((c.tc : Thread Cert.GateRefIdeal.nD Cert.GateRefIdeal.τ).loc Cert.GateRefIdeal.main_arg0) = m ((c.tc : Thread Cert.GateKernelIdeal.nD Cert.GateKernelIdeal.τ).loc Cert.GateKernelIdeal.main_arg0)
      ∧ m' ((c.tc : Thread Cert.GateRefIdeal.nD Cert.GateRefIdeal.τ).loc Cert.GateRefIdeal.main_arg1) = m ((c.tc : Thread Cert.GateKernelIdeal.nD Cert.GateKernelIdeal.τ).loc Cert.GateKernelIdeal.main_arg1)
      ∧ m' ((c.tc : Thread Cert.GateRefIdeal.nD Cert.GateRefIdeal.τ).loc Cert.GateRefIdeal.main_arg2) = m ((c.tc : Thread Cert.GateKernelIdeal.nD Cert.GateKernelIdeal.τ).loc Cert.GateKernelIdeal.main_arg2)
      ∧ m' ((c.tc : Thread Cert.GateRefIdeal.nD Cert.GateRefIdeal.τ).loc Cert.GateRefIdeal.main_arg3) = m ((c.tc : Thread Cert.GateKernelIdeal.nD Cert.GateKernelIdeal.τ).loc Cert.GateKernelIdeal.main_arg3)) →
    ∃ (v0 : (c : Dev Cert.GateKernelIdeal.nD) → Buf (Elt Ideal) ((c.tc : Thread Cert.GateKernelIdeal.nD Cert.GateKernelIdeal.τ).loc Cert.GateKernelIdeal.main_v8_0)) (v1 : (c : Dev Cert.GateKernelIdeal.nD) → Buf (Elt Ideal) ((c.tc : Thread Cert.GateKernelIdeal.nD Cert.GateKernelIdeal.τ).loc Cert.GateKernelIdeal.main_v13)) (v2 : (c : Dev Cert.GateKernelIdeal.nD) → Buf (Elt Ideal) ((c.tc : Thread Cert.GateKernelIdeal.nD Cert.GateKernelIdeal.τ).loc Cert.GateKernelIdeal.main_v19)),
      θ_run (Cert.GateKernelIdeal.defs (F := Ideal)) (onTc (τ := Cert.GateKernelIdeal.τ) (Cert.GateKernelIdeal.main (F := Ideal))) ⟨m, fun _ => 0, g⟩ (fun r => ∀ c : Dev Cert.GateKernelIdeal.nD,
          r.2.mem ((c.tc : Thread Cert.GateKernelIdeal.nD Cert.GateKernelIdeal.τ).loc Cert.GateKernelIdeal.main_v8_0) = v0 c
          ∧ r.2.mem ((c.tc : Thread Cert.GateKernelIdeal.nD Cert.GateKernelIdeal.τ).loc Cert.GateKernelIdeal.main_v13) = v1 c
          ∧ r.2.mem ((c.tc : Thread Cert.GateKernelIdeal.nD Cert.GateKernelIdeal.τ).loc Cert.GateKernelIdeal.main_v19) = v2 c
          ∧ r.2.mem ((c.tc : Thread Cert.GateKernelIdeal.nD Cert.GateKernelIdeal.τ).loc Cert.GateKernelIdeal.main_arg0) = m ((c.tc : Thread Cert.GateKernelIdeal.nD Cert.GateKernelIdeal.τ).loc Cert.GateKernelIdeal.main_arg0)
          ∧ r.2.mem ((c.tc : Thread Cert.GateKernelIdeal.nD Cert.GateKernelIdeal.τ).loc Cert.GateKernelIdeal.main_arg1) = m ((c.tc : Thread Cert.GateKernelIdeal.nD Cert.GateKernelIdeal.τ).loc Cert.GateKernelIdeal.main_arg1)
          ∧ r.2.mem ((c.tc : Thread Cert.GateKernelIdeal.nD Cert.GateKernelIdeal.τ).loc Cert.GateKernelIdeal.main_arg2) = m ((c.tc : Thread Cert.GateKernelIdeal.nD Cert.GateKernelIdeal.τ).loc Cert.GateKernelIdeal.main_arg2)
          ∧ r.2.mem ((c.tc : Thread Cert.GateKernelIdeal.nD Cert.GateKernelIdeal.τ).loc Cert.GateKernelIdeal.main_arg3) = m ((c.tc : Thread Cert.GateKernelIdeal.nD Cert.GateKernelIdeal.τ).loc Cert.GateKernelIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v63) = v0 c
          ∧ r.2.mem ((c.tc : Thread Cert.GateRefIdeal.nD Cert.GateRefIdeal.τ).loc Cert.GateRefIdeal.main_v57) = v1 c
          ∧ r.2.mem ((c.tc : Thread Cert.GateRefIdeal.nD Cert.GateRefIdeal.τ).loc Cert.GateRefIdeal.main_v50) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_ConvKernel_ConvKernelIdeal : Prop :=
  True

def algebraic_ConvKernelIdeal_ConvRefIdeal [hConvKernelIdeal : Cert.ConvKernelIdeal.Facts] [hConvRefIdeal : Cert.ConvRefIdeal.Facts] : Prop :=
  ∀ (m : (ℓ : Loc Cert.ConvKernelIdeal.nD Cert.ConvKernelIdeal.τ Cert.ConvKernelIdeal.sig) → Buf (Elt Ideal) ℓ) (g : Dev Cert.ConvKernelIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvKernelIdeal m →
    (∀ c : Dev Cert.ConvKernelIdeal.nD,
      m' ((c.tc : Thread Cert.ConvRefIdeal.nD Cert.ConvRefIdeal.τ).loc Cert.ConvRefIdeal.main_arg0) = m ((c.tc : Thread Cert.ConvKernelIdeal.nD Cert.ConvKernelIdeal.τ).loc Cert.ConvKernelIdeal.main_arg0)
      ∧ m' ((c.tc : Thread Cert.ConvRefIdeal.nD Cert.ConvRefIdeal.τ).loc Cert.ConvRefIdeal.main_arg1) = m ((c.tc : Thread Cert.ConvKernelIdeal.nD Cert.ConvKernelIdeal.τ).loc Cert.ConvKernelIdeal.main_arg1)) →
    ∃ (v0 : (c : Dev Cert.ConvKernelIdeal.nD) → Buf (Elt Ideal) ((c.tc : Thread Cert.ConvKernelIdeal.nD Cert.ConvKernelIdeal.τ).loc Cert.ConvKernelIdeal.main_v6)),
      θ_run (Cert.ConvKernelIdeal.defs (F := Ideal)) (onTc (τ := Cert.ConvKernelIdeal.τ) (Cert.ConvKernelIdeal.main (F := Ideal))) ⟨m, fun _ => 0, g⟩ (fun r => ∀ c : Dev Cert.ConvKernelIdeal.nD,
          r.2.mem ((c.tc : Thread Cert.ConvKernelIdeal.nD Cert.ConvKernelIdeal.τ).loc Cert.ConvKernelIdeal.main_v6) = v0 c
          ∧ r.2.mem ((c.tc : Thread Cert.ConvKernelIdeal.nD Cert.ConvKernelIdeal.τ).loc Cert.ConvKernelIdeal.main_arg0) = m ((c.tc : Thread Cert.ConvKernelIdeal.nD Cert.ConvKernelIdeal.τ).loc Cert.ConvKernelIdeal.main_arg0)
          ∧ r.2.mem ((c.tc : Thread Cert.ConvKernelIdeal.nD Cert.ConvKernelIdeal.τ).loc Cert.ConvKernelIdeal.main_arg1) = m ((c.tc : Thread Cert.ConvKernelIdeal.nD Cert.ConvKernelIdeal.τ).loc Cert.ConvKernelIdeal.main_arg1))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v48) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1))

def preserves_SiluKernel_SiluKernelIdeal : Prop :=
  True

def algebraic_SiluKernelIdeal_SiluRefIdeal_pre_silu_finite [hSiluKernelIdeal : Cert.SiluKernelIdeal.Facts] [hSiluRefIdeal : Cert.SiluRefIdeal.Facts] [hPre_silu_finite : Cert.Pre_silu_finite.Facts] : Prop :=
  ∀ (m : (ℓ : Loc Cert.SiluKernelIdeal.nD Cert.SiluKernelIdeal.τ Cert.SiluKernelIdeal.sig) → Buf (Elt Ideal) ℓ) (g : Dev Cert.SiluKernelIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluKernelIdeal_silu_finite m →
    (∀ c : Dev Cert.SiluKernelIdeal.nD,
      m' ((c.tc : Thread Cert.SiluRefIdeal.nD Cert.SiluRefIdeal.τ).loc Cert.SiluRefIdeal.main_arg0) = m ((c.tc : Thread Cert.SiluKernelIdeal.nD Cert.SiluKernelIdeal.τ).loc Cert.SiluKernelIdeal.main_arg0)
      ∧ m' ((c.tc : Thread Cert.SiluRefIdeal.nD Cert.SiluRefIdeal.τ).loc Cert.SiluRefIdeal.main_arg1) = m ((c.tc : Thread Cert.SiluKernelIdeal.nD Cert.SiluKernelIdeal.τ).loc Cert.SiluKernelIdeal.main_arg1)
      ∧ m' ((c.tc : Thread Cert.SiluRefIdeal.nD Cert.SiluRefIdeal.τ).loc Cert.SiluRefIdeal.main_arg2) = m ((c.tc : Thread Cert.SiluKernelIdeal.nD Cert.SiluKernelIdeal.τ).loc Cert.SiluKernelIdeal.main_arg2)
      ∧ m' ((c.tc : Thread Cert.SiluRefIdeal.nD Cert.SiluRefIdeal.τ).loc Cert.SiluRefIdeal.main_arg3) = m ((c.tc : Thread Cert.SiluKernelIdeal.nD Cert.SiluKernelIdeal.τ).loc Cert.SiluKernelIdeal.main_arg3)) →
    ∃ (v0 : (c : Dev Cert.SiluKernelIdeal.nD) → Buf (Elt Ideal) ((c.tc : Thread Cert.SiluKernelIdeal.nD Cert.SiluKernelIdeal.τ).loc Cert.SiluKernelIdeal.main_v2_0)) (v1 : (c : Dev Cert.SiluKernelIdeal.nD) → Buf (Elt Ideal) ((c.tc : Thread Cert.SiluKernelIdeal.nD Cert.SiluKernelIdeal.τ).loc Cert.SiluKernelIdeal.main_v2_1)) (v2 : (c : Dev Cert.SiluKernelIdeal.nD) → Buf (Elt Ideal) ((c.tc : Thread Cert.SiluKernelIdeal.nD Cert.SiluKernelIdeal.τ).loc Cert.SiluKernelIdeal.main_v3)),
      θ_run (Cert.SiluKernelIdeal.defs (F := Ideal)) (onTc (τ := Cert.SiluKernelIdeal.τ) (Cert.SiluKernelIdeal.main (F := Ideal))) ⟨m, fun _ => 0, g⟩ (fun r => ∀ c : Dev Cert.SiluKernelIdeal.nD,
          r.2.mem ((c.tc : Thread Cert.SiluKernelIdeal.nD Cert.SiluKernelIdeal.τ).loc Cert.SiluKernelIdeal.main_v2_0) = v0 c
          ∧ r.2.mem ((c.tc : Thread Cert.SiluKernelIdeal.nD Cert.SiluKernelIdeal.τ).loc Cert.SiluKernelIdeal.main_v2_1) = v1 c
          ∧ r.2.mem ((c.tc : Thread Cert.SiluKernelIdeal.nD Cert.SiluKernelIdeal.τ).loc Cert.SiluKernelIdeal.main_v3) = v2 c
          ∧ r.2.mem ((c.tc : Thread Cert.SiluKernelIdeal.nD Cert.SiluKernelIdeal.τ).loc Cert.SiluKernelIdeal.main_arg0) = m ((c.tc : Thread Cert.SiluKernelIdeal.nD Cert.SiluKernelIdeal.τ).loc Cert.SiluKernelIdeal.main_arg0)
          ∧ r.2.mem ((c.tc : Thread Cert.SiluKernelIdeal.nD Cert.SiluKernelIdeal.τ).loc Cert.SiluKernelIdeal.main_arg1) = m ((c.tc : Thread Cert.SiluKernelIdeal.nD Cert.SiluKernelIdeal.τ).loc Cert.SiluKernelIdeal.main_arg1)
          ∧ r.2.mem ((c.tc : Thread Cert.SiluKernelIdeal.nD Cert.SiluKernelIdeal.τ).loc Cert.SiluKernelIdeal.main_arg2) = m ((c.tc : Thread Cert.SiluKernelIdeal.nD Cert.SiluKernelIdeal.τ).loc Cert.SiluKernelIdeal.main_arg2)
          ∧ r.2.mem ((c.tc : Thread Cert.SiluKernelIdeal.nD Cert.SiluKernelIdeal.τ).loc Cert.SiluKernelIdeal.main_arg3) = m ((c.tc : Thread Cert.SiluKernelIdeal.nD Cert.SiluKernelIdeal.τ).loc Cert.SiluKernelIdeal.main_arg3))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v34) = v0 c
          ∧ r.2.mem ((c.tc : Thread Cert.SiluRefIdeal.nD Cert.SiluRefIdeal.τ).loc Cert.SiluRefIdeal.main_v64) = v1 c
          ∧ r.2.mem ((c.tc : Thread Cert.SiluRefIdeal.nD Cert.SiluRefIdeal.τ).loc Cert.SiluRefIdeal.main_v57) = v2 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0)
          ∧ r.2.mem ((c.tc : Thread Cert.SiluRefIdeal.nD Cert.SiluRefIdeal.τ).loc Cert.SiluRefIdeal.main_arg1) = m' ((c.tc : Thread Cert.SiluRefIdeal.nD Cert.SiluRefIdeal.τ).loc Cert.SiluRefIdeal.main_arg1)
          ∧ r.2.mem ((c.tc : Thread Cert.SiluRefIdeal.nD Cert.SiluRefIdeal.τ).loc Cert.SiluRefIdeal.main_arg2) = m' ((c.tc : Thread Cert.SiluRefIdeal.nD Cert.SiluRefIdeal.τ).loc Cert.SiluRefIdeal.main_arg2)
          ∧ r.2.mem ((c.tc : Thread Cert.SiluRefIdeal.nD Cert.SiluRefIdeal.τ).loc Cert.SiluRefIdeal.main_arg3) = m' ((c.tc : Thread Cert.SiluRefIdeal.nD Cert.SiluRefIdeal.τ).loc Cert.SiluRefIdeal.main_arg3))

def preserves_XbcKernel_XbcKernelIdeal : Prop :=
  True

def algebraic_XbcKernelIdeal_XbcRefIdeal [hXbcKernelIdeal : Cert.XbcKernelIdeal.Facts] [hXbcRefIdeal : Cert.XbcRefIdeal.Facts] : Prop :=
  ∀ (m : (ℓ : Loc Cert.XbcKernelIdeal.nD Cert.XbcKernelIdeal.τ Cert.XbcKernelIdeal.sig) → Buf (Elt Ideal) ℓ) (g : Dev Cert.XbcKernelIdeal.nD → PrngReg)
    (m' : (ℓ : Loc Cert.XbcRefIdeal.nD Cert.XbcRefIdeal.τ Cert.XbcRefIdeal.sig) → Buf (Elt Ideal) ℓ) (g' : Dev Cert.XbcRefIdeal.nD → PrngReg), Pre_XbcKernelIdeal m →
    (∀ c : Dev Cert.XbcKernelIdeal.nD,
      m' ((c.tc : Thread Cert.XbcRefIdeal.nD Cert.XbcRefIdeal.τ).loc Cert.XbcRefIdeal.main_arg0) = m ((c.tc : Thread Cert.XbcKernelIdeal.nD Cert.XbcKernelIdeal.τ).loc Cert.XbcKernelIdeal.main_arg0)
      ∧ m' ((c.tc : Thread Cert.XbcRefIdeal.nD Cert.XbcRefIdeal.τ).loc Cert.XbcRefIdeal.main_arg1) = m ((c.tc : Thread Cert.XbcKernelIdeal.nD Cert.XbcKernelIdeal.τ).loc Cert.XbcKernelIdeal.main_arg1)
      ∧ m' ((c.tc : Thread Cert.XbcRefIdeal.nD Cert.XbcRefIdeal.τ).loc Cert.XbcRefIdeal.main_arg2) = m ((c.tc : Thread Cert.XbcKernelIdeal.nD Cert.XbcKernelIdeal.τ).loc Cert.XbcKernelIdeal.main_arg2)) →
    ∃ (v0 : (c : Dev Cert.XbcKernelIdeal.nD) → Buf (Elt Ideal) ((c.tc : Thread Cert.XbcKernelIdeal.nD Cert.XbcKernelIdeal.τ).loc Cert.XbcKernelIdeal.main_v1)),
      θ_run (Cert.XbcKernelIdeal.defs (F := Ideal)) (onTc (τ := Cert.XbcKernelIdeal.τ) (Cert.XbcKernelIdeal.main (F := Ideal))) ⟨m, fun _ => 0, g⟩ (fun r => ∀ c : Dev Cert.XbcKernelIdeal.nD,
          r.2.mem ((c.tc : Thread Cert.XbcKernelIdeal.nD Cert.XbcKernelIdeal.τ).loc Cert.XbcKernelIdeal.main_v1) = v0 c
          ∧ r.2.mem ((c.tc : Thread Cert.XbcKernelIdeal.nD Cert.XbcKernelIdeal.τ).loc Cert.XbcKernelIdeal.main_arg0) = m ((c.tc : Thread Cert.XbcKernelIdeal.nD Cert.XbcKernelIdeal.τ).loc Cert.XbcKernelIdeal.main_arg0)
          ∧ r.2.mem ((c.tc : Thread Cert.XbcKernelIdeal.nD Cert.XbcKernelIdeal.τ).loc Cert.XbcKernelIdeal.main_arg1) = m ((c.tc : Thread Cert.XbcKernelIdeal.nD Cert.XbcKernelIdeal.τ).loc Cert.XbcKernelIdeal.main_arg1)
          ∧ r.2.mem ((c.tc : Thread Cert.XbcKernelIdeal.nD Cert.XbcKernelIdeal.τ).loc Cert.XbcKernelIdeal.main_arg2) = m ((c.tc : Thread Cert.XbcKernelIdeal.nD Cert.XbcKernelIdeal.τ).loc Cert.XbcKernelIdeal.main_arg2))
      ∧ θ_run (Cert.XbcRefIdeal.defs (F := Ideal)) (onTc (τ := Cert.XbcRefIdeal.τ) (Cert.XbcRefIdeal.main (F := Ideal))) ⟨m', fun _ => 0, g'⟩ (fun r => ∀ c : Dev Cert.XbcRefIdeal.nD,
          r.2.mem ((c.tc : Thread Cert.XbcRefIdeal.nD Cert.XbcRefIdeal.τ).loc Cert.XbcRefIdeal.main_v64) = v0 c
          ∧ r.2.mem ((c.tc : Thread Cert.XbcRefIdeal.nD Cert.XbcRefIdeal.τ).loc Cert.XbcRefIdeal.main_arg0) = m' ((c.tc : Thread Cert.XbcRefIdeal.nD Cert.XbcRefIdeal.τ).loc Cert.XbcRefIdeal.main_arg0)
          ∧ r.2.mem ((c.tc : Thread Cert.XbcRefIdeal.nD Cert.XbcRefIdeal.τ).loc Cert.XbcRefIdeal.main_arg1) = m' ((c.tc : Thread Cert.XbcRefIdeal.nD Cert.XbcRefIdeal.τ).loc Cert.XbcRefIdeal.main_arg1)
          ∧ r.2.mem ((c.tc : Thread Cert.XbcRefIdeal.nD Cert.XbcRefIdeal.τ).loc Cert.XbcRefIdeal.main_arg2) = m' ((c.tc : Thread Cert.XbcRefIdeal.nD Cert.XbcRefIdeal.τ).loc Cert.XbcRefIdeal.main_arg2))

def preserves_QKernel_QKernelIdeal : Prop :=
  True

def algebraic_QKernelIdeal_QRefIdeal_pre_q_finite [hQKernelIdeal : Cert.QKernelIdeal.Facts] [hQRefIdeal : Cert.QRefIdeal.Facts] [hPre_q_finite : Cert.Pre_q_finite.Facts] : Prop :=
  ∀ (m : (ℓ : Loc Cert.QKernelIdeal.nD Cert.QKernelIdeal.τ Cert.QKernelIdeal.sig) → Buf (Elt Ideal) ℓ) (g : Dev Cert.QKernelIdeal.nD → PrngReg)
    (m' : (ℓ : Loc Cert.QRefIdeal.nD Cert.QRefIdeal.τ Cert.QRefIdeal.sig) → Buf (Elt Ideal) ℓ) (g' : Dev Cert.QRefIdeal.nD → PrngReg), Pre_QKernelIdeal_q_finite m →
    (∀ c : Dev Cert.QKernelIdeal.nD,
      m' ((c.tc : Thread Cert.QRefIdeal.nD Cert.QRefIdeal.τ).loc Cert.QRefIdeal.main_arg0) = m ((c.tc : Thread Cert.QKernelIdeal.nD Cert.QKernelIdeal.τ).loc Cert.QKernelIdeal.main_arg0)
      ∧ m' ((c.tc : Thread Cert.QRefIdeal.nD Cert.QRefIdeal.τ).loc Cert.QRefIdeal.main_arg1) = m ((c.tc : Thread Cert.QKernelIdeal.nD Cert.QKernelIdeal.τ).loc Cert.QKernelIdeal.main_arg1)
      ∧ m' ((c.tc : Thread Cert.QRefIdeal.nD Cert.QRefIdeal.τ).loc Cert.QRefIdeal.main_arg2) = m ((c.tc : Thread Cert.QKernelIdeal.nD Cert.QKernelIdeal.τ).loc Cert.QKernelIdeal.main_arg2)
      ∧ m' ((c.tc : Thread Cert.QRefIdeal.nD Cert.QRefIdeal.τ).loc Cert.QRefIdeal.main_arg3) = m ((c.tc : Thread Cert.QKernelIdeal.nD Cert.QKernelIdeal.τ).loc Cert.QKernelIdeal.main_arg3)
      ∧ m' ((c.tc : Thread Cert.QRefIdeal.nD Cert.QRefIdeal.τ).loc Cert.QRefIdeal.main_arg4) = m ((c.tc : Thread Cert.QKernelIdeal.nD Cert.QKernelIdeal.τ).loc Cert.QKernelIdeal.main_arg4)) →
    ∃ (v0 : (c : Dev Cert.QKernelIdeal.nD) → Buf (Elt Ideal) ((c.tc : Thread Cert.QKernelIdeal.nD Cert.QKernelIdeal.τ).loc Cert.QKernelIdeal.main_v3_0)) (v1 : (c : Dev Cert.QKernelIdeal.nD) → Buf (Elt Ideal) ((c.tc : Thread Cert.QKernelIdeal.nD Cert.QKernelIdeal.τ).loc Cert.QKernelIdeal.main_v4)),
      θ_run (Cert.QKernelIdeal.defs (F := Ideal)) (onTc (τ := Cert.QKernelIdeal.τ) (Cert.QKernelIdeal.main (F := Ideal))) ⟨m, fun _ => 0, g⟩ (fun r => ∀ c : Dev Cert.QKernelIdeal.nD,
          r.2.mem ((c.tc : Thread Cert.QKernelIdeal.nD Cert.QKernelIdeal.τ).loc Cert.QKernelIdeal.main_v3_0) = v0 c
          ∧ r.2.mem ((c.tc : Thread Cert.QKernelIdeal.nD Cert.QKernelIdeal.τ).loc Cert.QKernelIdeal.main_v4) = v1 c
          ∧ r.2.mem ((c.tc : Thread Cert.QKernelIdeal.nD Cert.QKernelIdeal.τ).loc Cert.QKernelIdeal.main_arg0) = m ((c.tc : Thread Cert.QKernelIdeal.nD Cert.QKernelIdeal.τ).loc Cert.QKernelIdeal.main_arg0)
          ∧ r.2.mem ((c.tc : Thread Cert.QKernelIdeal.nD Cert.QKernelIdeal.τ).loc Cert.QKernelIdeal.main_arg1) = m ((c.tc : Thread Cert.QKernelIdeal.nD Cert.QKernelIdeal.τ).loc Cert.QKernelIdeal.main_arg1)
          ∧ r.2.mem ((c.tc : Thread Cert.QKernelIdeal.nD Cert.QKernelIdeal.τ).loc Cert.QKernelIdeal.main_arg2) = m ((c.tc : Thread Cert.QKernelIdeal.nD Cert.QKernelIdeal.τ).loc Cert.QKernelIdeal.main_arg2)
          ∧ r.2.mem ((c.tc : Thread Cert.QKernelIdeal.nD Cert.QKernelIdeal.τ).loc Cert.QKernelIdeal.main_arg3) = m ((c.tc : Thread Cert.QKernelIdeal.nD Cert.QKernelIdeal.τ).loc Cert.QKernelIdeal.main_arg3)
          ∧ r.2.mem ((c.tc : Thread Cert.QKernelIdeal.nD Cert.QKernelIdeal.τ).loc Cert.QKernelIdeal.main_arg4) = m ((c.tc : Thread Cert.QKernelIdeal.nD Cert.QKernelIdeal.τ).loc Cert.QKernelIdeal.main_arg4))
      ∧ θ_run (Cert.QRefIdeal.defs (F := Ideal)) (onTc (τ := Cert.QRefIdeal.τ) (Cert.QRefIdeal.main (F := Ideal))) ⟨m', fun _ => 0, g'⟩ (fun r => ∀ c : Dev Cert.QRefIdeal.nD,
          r.2.mem ((c.tc : Thread Cert.QRefIdeal.nD Cert.QRefIdeal.τ).loc Cert.QRefIdeal.main_v38) = v0 c
          ∧ r.2.mem ((c.tc : Thread Cert.QRefIdeal.nD Cert.QRefIdeal.τ).loc Cert.QRefIdeal.main_v23) = v1 c
          ∧ r.2.mem ((c.tc : Thread Cert.QRefIdeal.nD Cert.QRefIdeal.τ).loc Cert.QRefIdeal.main_arg0) = m' ((c.tc : Thread Cert.QRefIdeal.nD Cert.QRefIdeal.τ).loc Cert.QRefIdeal.main_arg0)
          ∧ r.2.mem ((c.tc : Thread Cert.QRefIdeal.nD Cert.QRefIdeal.τ).loc Cert.QRefIdeal.main_arg1) = m' ((c.tc : Thread Cert.QRefIdeal.nD Cert.QRefIdeal.τ).loc Cert.QRefIdeal.main_arg1)
          ∧ r.2.mem ((c.tc : Thread Cert.QRefIdeal.nD Cert.QRefIdeal.τ).loc Cert.QRefIdeal.main_arg2) = m' ((c.tc : Thread Cert.QRefIdeal.nD Cert.QRefIdeal.τ).loc Cert.QRefIdeal.main_arg2)
          ∧ r.2.mem ((c.tc : Thread Cert.QRefIdeal.nD Cert.QRefIdeal.τ).loc Cert.QRefIdeal.main_arg3) = m' ((c.tc : Thread Cert.QRefIdeal.nD Cert.QRefIdeal.τ).loc Cert.QRefIdeal.main_arg3)
          ∧ r.2.mem ((c.tc : Thread Cert.QRefIdeal.nD Cert.QRefIdeal.τ).loc Cert.QRefIdeal.main_arg4) = m' ((c.tc : Thread Cert.QRefIdeal.nD Cert.QRefIdeal.τ).loc Cert.QRefIdeal.main_arg4))

def preserves_SbaKernel_SbaKernelIdeal : Prop :=
  IdealRules.named_const.Statement Cert.SbaKernelIdeal.κ "log2_e" .f32 0x3FB8AA3B#32 (((Real.log 2)⁻¹ : ℝ) : EReal)

def algebraic_SbaKernelIdeal_SbaRefIdeal_pre_sba_finite [hSbaKernelIdeal : Cert.SbaKernelIdeal.Facts] [hSbaRefIdeal : Cert.SbaRefIdeal.Facts] [hPre_sba_finite : Cert.Pre_sba_finite.Facts] : Prop :=
  ∀ (m : (ℓ : Loc Cert.SbaKernelIdeal.nD Cert.SbaKernelIdeal.τ Cert.SbaKernelIdeal.sig) → Buf (Elt Ideal) ℓ) (g : Dev Cert.SbaKernelIdeal.nD → PrngReg)
    (m' : (ℓ : Loc Cert.SbaRefIdeal.nD Cert.SbaRefIdeal.τ Cert.SbaRefIdeal.sig) → Buf (Elt Ideal) ℓ) (g' : Dev Cert.SbaRefIdeal.nD → PrngReg), Pre_SbaKernelIdeal_sba_finite m →
    (∀ c : Dev Cert.SbaKernelIdeal.nD,
      m' ((c.tc : Thread Cert.SbaRefIdeal.nD Cert.SbaRefIdeal.τ).loc Cert.SbaRefIdeal.main_arg0) = m ((c.tc : Thread Cert.SbaKernelIdeal.nD Cert.SbaKernelIdeal.τ).loc Cert.SbaKernelIdeal.main_arg0)
      ∧ m' ((c.tc : Thread Cert.SbaRefIdeal.nD Cert.SbaRefIdeal.τ).loc Cert.SbaRefIdeal.main_arg1) = m ((c.tc : Thread Cert.SbaKernelIdeal.nD Cert.SbaKernelIdeal.τ).loc Cert.SbaKernelIdeal.main_arg1)
      ∧ m' ((c.tc : Thread Cert.SbaRefIdeal.nD Cert.SbaRefIdeal.τ).loc Cert.SbaRefIdeal.main_arg2) = m ((c.tc : Thread Cert.SbaKernelIdeal.nD Cert.SbaKernelIdeal.τ).loc Cert.SbaKernelIdeal.main_arg2)
      ∧ m' ((c.tc : Thread Cert.SbaRefIdeal.nD Cert.SbaRefIdeal.τ).loc Cert.SbaRefIdeal.main_arg3) = m ((c.tc : Thread Cert.SbaKernelIdeal.nD Cert.SbaKernelIdeal.τ).loc Cert.SbaKernelIdeal.main_arg3)) →
    ∃ (v0 : (c : Dev Cert.SbaKernelIdeal.nD) → Buf (Elt Ideal) ((c.tc : Thread Cert.SbaKernelIdeal.nD Cert.SbaKernelIdeal.τ).loc Cert.SbaKernelIdeal.main_v31_0)) (v1 : (c : Dev Cert.SbaKernelIdeal.nD) → Buf (Elt Ideal) ((c.tc : Thread Cert.SbaKernelIdeal.nD Cert.SbaKernelIdeal.τ).loc Cert.SbaKernelIdeal.main_v31_1)) (v2 : (c : Dev Cert.SbaKernelIdeal.nD) → Buf (Elt Ideal) ((c.tc : Thread Cert.SbaKernelIdeal.nD Cert.SbaKernelIdeal.τ).loc Cert.SbaKernelIdeal.main_v31_2)),
      θ_run (Cert.SbaKernelIdeal.defs (F := Ideal)) (onTc (τ := Cert.SbaKernelIdeal.τ) (Cert.SbaKernelIdeal.main (F := Ideal))) ⟨m, fun _ => 0, g⟩ (fun r => ∀ c : Dev Cert.SbaKernelIdeal.nD,
          r.2.mem ((c.tc : Thread Cert.SbaKernelIdeal.nD Cert.SbaKernelIdeal.τ).loc Cert.SbaKernelIdeal.main_v31_0) = v0 c
          ∧ r.2.mem ((c.tc : Thread Cert.SbaKernelIdeal.nD Cert.SbaKernelIdeal.τ).loc Cert.SbaKernelIdeal.main_v31_1) = v1 c
          ∧ r.2.mem ((c.tc : Thread Cert.SbaKernelIdeal.nD Cert.SbaKernelIdeal.τ).loc Cert.SbaKernelIdeal.main_v31_2) = v2 c
          ∧ r.2.mem ((c.tc : Thread Cert.SbaKernelIdeal.nD Cert.SbaKernelIdeal.τ).loc Cert.SbaKernelIdeal.main_arg0) = m ((c.tc : Thread Cert.SbaKernelIdeal.nD Cert.SbaKernelIdeal.τ).loc Cert.SbaKernelIdeal.main_arg0)
          ∧ r.2.mem ((c.tc : Thread Cert.SbaKernelIdeal.nD Cert.SbaKernelIdeal.τ).loc Cert.SbaKernelIdeal.main_arg1) = m ((c.tc : Thread Cert.SbaKernelIdeal.nD Cert.SbaKernelIdeal.τ).loc Cert.SbaKernelIdeal.main_arg1)
          ∧ r.2.mem ((c.tc : Thread Cert.SbaKernelIdeal.nD Cert.SbaKernelIdeal.τ).loc Cert.SbaKernelIdeal.main_arg2) = m ((c.tc : Thread Cert.SbaKernelIdeal.nD Cert.SbaKernelIdeal.τ).loc Cert.SbaKernelIdeal.main_arg2)
          ∧ r.2.mem ((c.tc : Thread Cert.SbaKernelIdeal.nD Cert.SbaKernelIdeal.τ).loc Cert.SbaKernelIdeal.main_arg3) = m ((c.tc : Thread Cert.SbaKernelIdeal.nD Cert.SbaKernelIdeal.τ).loc Cert.SbaKernelIdeal.main_arg3))
      ∧ θ_run (Cert.SbaRefIdeal.defs (F := Ideal)) (onTc (τ := Cert.SbaRefIdeal.τ) (Cert.SbaRefIdeal.main (F := Ideal))) ⟨m', fun _ => 0, g'⟩ (fun r => ∀ c : Dev Cert.SbaRefIdeal.nD,
          r.2.mem ((c.tc : Thread Cert.SbaRefIdeal.nD Cert.SbaRefIdeal.τ).loc Cert.SbaRefIdeal.main_v52) = v0 c
          ∧ r.2.mem ((c.tc : Thread Cert.SbaRefIdeal.nD Cert.SbaRefIdeal.τ).loc Cert.SbaRefIdeal.main_v53) = v1 c
          ∧ r.2.mem ((c.tc : Thread Cert.SbaRefIdeal.nD Cert.SbaRefIdeal.τ).loc Cert.SbaRefIdeal.main_v54) = v2 c
          ∧ r.2.mem ((c.tc : Thread Cert.SbaRefIdeal.nD Cert.SbaRefIdeal.τ).loc Cert.SbaRefIdeal.main_arg0) = m' ((c.tc : Thread Cert.SbaRefIdeal.nD Cert.SbaRefIdeal.τ).loc Cert.SbaRefIdeal.main_arg0)
          ∧ r.2.mem ((c.tc : Thread Cert.SbaRefIdeal.nD Cert.SbaRefIdeal.τ).loc Cert.SbaRefIdeal.main_arg1) = m' ((c.tc : Thread Cert.SbaRefIdeal.nD Cert.SbaRefIdeal.τ).loc Cert.SbaRefIdeal.main_arg1)
          ∧ r.2.mem ((c.tc : Thread Cert.SbaRefIdeal.nD Cert.SbaRefIdeal.τ).loc Cert.SbaRefIdeal.main_arg2) = m' ((c.tc : Thread Cert.SbaRefIdeal.nD Cert.SbaRefIdeal.τ).loc Cert.SbaRefIdeal.main_arg2)
          ∧ r.2.mem ((c.tc : Thread Cert.SbaRefIdeal.nD Cert.SbaRefIdeal.τ).loc Cert.SbaRefIdeal.main_arg3) = m' ((c.tc : Thread Cert.SbaRefIdeal.nD Cert.SbaRefIdeal.τ).loc Cert.SbaRefIdeal.main_arg3))

def preserves_KvKernel_KvKernelIdeal : Prop :=
  True

def algebraic_KvKernelIdeal_KvRefIdeal_pre_kv_finite [hKvKernelIdeal : Cert.KvKernelIdeal.Facts] [hKvRefIdeal : Cert.KvRefIdeal.Facts] [hPre_kv_finite : Cert.Pre_kv_finite.Facts] : Prop :=
  ∀ (m : (ℓ : Loc Cert.KvKernelIdeal.nD Cert.KvKernelIdeal.τ Cert.KvKernelIdeal.sig) → Buf (Elt Ideal) ℓ) (g : Dev Cert.KvKernelIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvKernelIdeal_kv_finite m →
    (∀ c : Dev Cert.KvKernelIdeal.nD,
      m' ((c.tc : Thread Cert.KvRefIdeal.nD Cert.KvRefIdeal.τ).loc Cert.KvRefIdeal.main_arg0) = m ((c.tc : Thread Cert.KvKernelIdeal.nD Cert.KvKernelIdeal.τ).loc Cert.KvKernelIdeal.main_arg0)
      ∧ m' ((c.tc : Thread Cert.KvRefIdeal.nD Cert.KvRefIdeal.τ).loc Cert.KvRefIdeal.main_arg1) = m ((c.tc : Thread Cert.KvKernelIdeal.nD Cert.KvKernelIdeal.τ).loc Cert.KvKernelIdeal.main_arg1)
      ∧ m' ((c.tc : Thread Cert.KvRefIdeal.nD Cert.KvRefIdeal.τ).loc Cert.KvRefIdeal.main_arg2) = m ((c.tc : Thread Cert.KvKernelIdeal.nD Cert.KvKernelIdeal.τ).loc Cert.KvKernelIdeal.main_arg2)
      ∧ m' ((c.tc : Thread Cert.KvRefIdeal.nD Cert.KvRefIdeal.τ).loc Cert.KvRefIdeal.main_arg3) = m ((c.tc : Thread Cert.KvKernelIdeal.nD Cert.KvKernelIdeal.τ).loc Cert.KvKernelIdeal.main_arg3)
      ∧ m' ((c.tc : Thread Cert.KvRefIdeal.nD Cert.KvRefIdeal.τ).loc Cert.KvRefIdeal.main_arg4) = m ((c.tc : Thread Cert.KvKernelIdeal.nD Cert.KvKernelIdeal.τ).loc Cert.KvKernelIdeal.main_arg4)
      ∧ m' ((c.tc : Thread Cert.KvRefIdeal.nD Cert.KvRefIdeal.τ).loc Cert.KvRefIdeal.main_arg5) = m ((c.tc : Thread Cert.KvKernelIdeal.nD Cert.KvKernelIdeal.τ).loc Cert.KvKernelIdeal.main_arg5)
      ∧ m' ((c.tc : Thread Cert.KvRefIdeal.nD Cert.KvRefIdeal.τ).loc Cert.KvRefIdeal.main_arg6) = m ((c.tc : Thread Cert.KvKernelIdeal.nD Cert.KvKernelIdeal.τ).loc Cert.KvKernelIdeal.main_arg6)) →
    ∃ (v0 : (c : Dev Cert.KvKernelIdeal.nD) → Buf (Elt Ideal) ((c.tc : Thread Cert.KvKernelIdeal.nD Cert.KvKernelIdeal.τ).loc Cert.KvKernelIdeal.main_v5_0)) (v1 : (c : Dev Cert.KvKernelIdeal.nD) → Buf (Elt Ideal) ((c.tc : Thread Cert.KvKernelIdeal.nD Cert.KvKernelIdeal.τ).loc Cert.KvKernelIdeal.main_v6)),
      θ_run (Cert.KvKernelIdeal.defs (F := Ideal)) (onTc (τ := Cert.KvKernelIdeal.τ) (Cert.KvKernelIdeal.main (F := Ideal))) ⟨m, fun _ => 0, g⟩ (fun r => ∀ c : Dev Cert.KvKernelIdeal.nD,
          r.2.mem ((c.tc : Thread Cert.KvKernelIdeal.nD Cert.KvKernelIdeal.τ).loc Cert.KvKernelIdeal.main_v5_0) = v0 c
          ∧ r.2.mem ((c.tc : Thread Cert.KvKernelIdeal.nD Cert.KvKernelIdeal.τ).loc Cert.KvKernelIdeal.main_v6) = v1 c
          ∧ r.2.mem ((c.tc : Thread Cert.KvKernelIdeal.nD Cert.KvKernelIdeal.τ).loc Cert.KvKernelIdeal.main_arg0) = m ((c.tc : Thread Cert.KvKernelIdeal.nD Cert.KvKernelIdeal.τ).loc Cert.KvKernelIdeal.main_arg0)
          ∧ r.2.mem ((c.tc : Thread Cert.KvKernelIdeal.nD Cert.KvKernelIdeal.τ).loc Cert.KvKernelIdeal.main_arg1) = m ((c.tc : Thread Cert.KvKernelIdeal.nD Cert.KvKernelIdeal.τ).loc Cert.KvKernelIdeal.main_arg1)
          ∧ r.2.mem ((c.tc : Thread Cert.KvKernelIdeal.nD Cert.KvKernelIdeal.τ).loc Cert.KvKernelIdeal.main_arg2) = m ((c.tc : Thread Cert.KvKernelIdeal.nD Cert.KvKernelIdeal.τ).loc Cert.KvKernelIdeal.main_arg2)
          ∧ r.2.mem ((c.tc : Thread Cert.KvKernelIdeal.nD Cert.KvKernelIdeal.τ).loc Cert.KvKernelIdeal.main_arg3) = m ((c.tc : Thread Cert.KvKernelIdeal.nD Cert.KvKernelIdeal.τ).loc Cert.KvKernelIdeal.main_arg3)
          ∧ r.2.mem ((c.tc : Thread Cert.KvKernelIdeal.nD Cert.KvKernelIdeal.τ).loc Cert.KvKernelIdeal.main_arg4) = m ((c.tc : Thread Cert.KvKernelIdeal.nD Cert.KvKernelIdeal.τ).loc Cert.KvKernelIdeal.main_arg4)
          ∧ r.2.mem ((c.tc : Thread Cert.KvKernelIdeal.nD Cert.KvKernelIdeal.τ).loc Cert.KvKernelIdeal.main_arg5) = m ((c.tc : Thread Cert.KvKernelIdeal.nD Cert.KvKernelIdeal.τ).loc Cert.KvKernelIdeal.main_arg5)
          ∧ r.2.mem ((c.tc : Thread Cert.KvKernelIdeal.nD Cert.KvKernelIdeal.τ).loc Cert.KvKernelIdeal.main_arg6) = m ((c.tc : Thread Cert.KvKernelIdeal.nD Cert.KvKernelIdeal.τ).loc Cert.KvKernelIdeal.main_arg6))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v41) = v0 c
          ∧ r.2.mem ((c.tc : Thread Cert.KvRefIdeal.nD Cert.KvRefIdeal.τ).loc Cert.KvRefIdeal.main_v26) = v1 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2)
          ∧ r.2.mem ((c.tc : Thread Cert.KvRefIdeal.nD Cert.KvRefIdeal.τ).loc Cert.KvRefIdeal.main_arg3) = m' ((c.tc : Thread Cert.KvRefIdeal.nD Cert.KvRefIdeal.τ).loc Cert.KvRefIdeal.main_arg3)
          ∧ r.2.mem ((c.tc : Thread Cert.KvRefIdeal.nD Cert.KvRefIdeal.τ).loc Cert.KvRefIdeal.main_arg4) = m' ((c.tc : Thread Cert.KvRefIdeal.nD Cert.KvRefIdeal.τ).loc Cert.KvRefIdeal.main_arg4)
          ∧ r.2.mem ((c.tc : Thread Cert.KvRefIdeal.nD Cert.KvRefIdeal.τ).loc Cert.KvRefIdeal.main_arg5) = m' ((c.tc : Thread Cert.KvRefIdeal.nD Cert.KvRefIdeal.τ).loc Cert.KvRefIdeal.main_arg5)
          ∧ r.2.mem ((c.tc : Thread Cert.KvRefIdeal.nD Cert.KvRefIdeal.τ).loc Cert.KvRefIdeal.main_arg6) = m' ((c.tc : Thread Cert.KvRefIdeal.nD Cert.KvRefIdeal.τ).loc Cert.KvRefIdeal.main_arg6))

def preserves_UpKernel_UpKernelIdeal : Prop :=
  True

def algebraic_UpKernelIdeal_UpRefIdeal_pre_up_finite [hUpKernelIdeal : Cert.UpKernelIdeal.Facts] [hUpRefIdeal : Cert.UpRefIdeal.Facts] [hPre_up_finite : Cert.Pre_up_finite.Facts] : Prop :=
  ∀ (m : (ℓ : Loc Cert.UpKernelIdeal.nD Cert.UpKernelIdeal.τ Cert.UpKernelIdeal.sig) → Buf (Elt Ideal) ℓ) (g : Dev Cert.UpKernelIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpKernelIdeal_up_finite m →
    (∀ c : Dev Cert.UpKernelIdeal.nD,
      m' ((c.tc : Thread Cert.UpRefIdeal.nD Cert.UpRefIdeal.τ).loc Cert.UpRefIdeal.main_arg0) = m ((c.tc : Thread Cert.UpKernelIdeal.nD Cert.UpKernelIdeal.τ).loc Cert.UpKernelIdeal.main_arg0)
      ∧ m' ((c.tc : Thread Cert.UpRefIdeal.nD Cert.UpRefIdeal.τ).loc Cert.UpRefIdeal.main_arg1) = m ((c.tc : Thread Cert.UpKernelIdeal.nD Cert.UpKernelIdeal.τ).loc Cert.UpKernelIdeal.main_arg1)
      ∧ m' ((c.tc : Thread Cert.UpRefIdeal.nD Cert.UpRefIdeal.τ).loc Cert.UpRefIdeal.main_arg2) = m ((c.tc : Thread Cert.UpKernelIdeal.nD Cert.UpKernelIdeal.τ).loc Cert.UpKernelIdeal.main_arg2)
      ∧ m' ((c.tc : Thread Cert.UpRefIdeal.nD Cert.UpRefIdeal.τ).loc Cert.UpRefIdeal.main_arg3) = m ((c.tc : Thread Cert.UpKernelIdeal.nD Cert.UpKernelIdeal.τ).loc Cert.UpKernelIdeal.main_arg3)
      ∧ m' ((c.tc : Thread Cert.UpRefIdeal.nD Cert.UpRefIdeal.τ).loc Cert.UpRefIdeal.main_arg4) = m ((c.tc : Thread Cert.UpKernelIdeal.nD Cert.UpKernelIdeal.τ).loc Cert.UpKernelIdeal.main_arg4)) →
    ∃ (v0 : (c : Dev Cert.UpKernelIdeal.nD) → Buf (Elt Ideal) ((c.tc : Thread Cert.UpKernelIdeal.nD Cert.UpKernelIdeal.τ).loc Cert.UpKernelIdeal.main_v9_0)) (v1 : (c : Dev Cert.UpKernelIdeal.nD) → Buf (Elt Ideal) ((c.tc : Thread Cert.UpKernelIdeal.nD Cert.UpKernelIdeal.τ).loc Cert.UpKernelIdeal.main_v10)),
      θ_run (Cert.UpKernelIdeal.defs (F := Ideal)) (onTc (τ := Cert.UpKernelIdeal.τ) (Cert.UpKernelIdeal.main (F := Ideal))) ⟨m, fun _ => 0, g⟩ (fun r => ∀ c : Dev Cert.UpKernelIdeal.nD,
          r.2.mem ((c.tc : Thread Cert.UpKernelIdeal.nD Cert.UpKernelIdeal.τ).loc Cert.UpKernelIdeal.main_v9_0) = v0 c
          ∧ r.2.mem ((c.tc : Thread Cert.UpKernelIdeal.nD Cert.UpKernelIdeal.τ).loc Cert.UpKernelIdeal.main_v10) = v1 c
          ∧ r.2.mem ((c.tc : Thread Cert.UpKernelIdeal.nD Cert.UpKernelIdeal.τ).loc Cert.UpKernelIdeal.main_arg0) = m ((c.tc : Thread Cert.UpKernelIdeal.nD Cert.UpKernelIdeal.τ).loc Cert.UpKernelIdeal.main_arg0)
          ∧ r.2.mem ((c.tc : Thread Cert.UpKernelIdeal.nD Cert.UpKernelIdeal.τ).loc Cert.UpKernelIdeal.main_arg1) = m ((c.tc : Thread Cert.UpKernelIdeal.nD Cert.UpKernelIdeal.τ).loc Cert.UpKernelIdeal.main_arg1)
          ∧ r.2.mem ((c.tc : Thread Cert.UpKernelIdeal.nD Cert.UpKernelIdeal.τ).loc Cert.UpKernelIdeal.main_arg2) = m ((c.tc : Thread Cert.UpKernelIdeal.nD Cert.UpKernelIdeal.τ).loc Cert.UpKernelIdeal.main_arg2)
          ∧ r.2.mem ((c.tc : Thread Cert.UpKernelIdeal.nD Cert.UpKernelIdeal.τ).loc Cert.UpKernelIdeal.main_arg3) = m ((c.tc : Thread Cert.UpKernelIdeal.nD Cert.UpKernelIdeal.τ).loc Cert.UpKernelIdeal.main_arg3)
          ∧ r.2.mem ((c.tc : Thread Cert.UpKernelIdeal.nD Cert.UpKernelIdeal.τ).loc Cert.UpKernelIdeal.main_arg4) = m ((c.tc : Thread Cert.UpKernelIdeal.nD Cert.UpKernelIdeal.τ).loc Cert.UpKernelIdeal.main_arg4))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v38) = v0 c
          ∧ r.2.mem ((c.tc : Thread Cert.UpRefIdeal.nD Cert.UpRefIdeal.τ).loc Cert.UpRefIdeal.main_v23) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4))

def preserves_InKernel_InKernelIdeal : Prop :=
  True

def algebraic_InKernelIdeal_InRefIdeal_pre_in_finite [hInKernelIdeal : Cert.InKernelIdeal.Facts] [hInRefIdeal : Cert.InRefIdeal.Facts] [hPre_in_finite : Cert.Pre_in_finite.Facts] : Prop :=
  ∀ (m : (ℓ : Loc Cert.InKernelIdeal.nD Cert.InKernelIdeal.τ Cert.InKernelIdeal.sig) → Buf (Elt Ideal) ℓ) (g : Dev Cert.InKernelIdeal.nD → PrngReg)
    (m' : (ℓ : Loc Cert.InRefIdeal.nD Cert.InRefIdeal.τ Cert.InRefIdeal.sig) → Buf (Elt Ideal) ℓ) (g' : Dev Cert.InRefIdeal.nD → PrngReg), Pre_InKernelIdeal_in_finite m →
    (∀ c : Dev Cert.InKernelIdeal.nD,
      m' ((c.tc : Thread Cert.InRefIdeal.nD Cert.InRefIdeal.τ).loc Cert.InRefIdeal.main_arg0) = m ((c.tc : Thread Cert.InKernelIdeal.nD Cert.InKernelIdeal.τ).loc Cert.InKernelIdeal.main_arg0)
      ∧ m' ((c.tc : Thread Cert.InRefIdeal.nD Cert.InRefIdeal.τ).loc Cert.InRefIdeal.main_arg1) = m ((c.tc : Thread Cert.InKernelIdeal.nD Cert.InKernelIdeal.τ).loc Cert.InKernelIdeal.main_arg1)
      ∧ m' ((c.tc : Thread Cert.InRefIdeal.nD Cert.InRefIdeal.τ).loc Cert.InRefIdeal.main_arg2) = m ((c.tc : Thread Cert.InKernelIdeal.nD Cert.InKernelIdeal.τ).loc Cert.InKernelIdeal.main_arg2)
      ∧ m' ((c.tc : Thread Cert.InRefIdeal.nD Cert.InRefIdeal.τ).loc Cert.InRefIdeal.main_arg3) = m ((c.tc : Thread Cert.InKernelIdeal.nD Cert.InKernelIdeal.τ).loc Cert.InKernelIdeal.main_arg3)
      ∧ m' ((c.tc : Thread Cert.InRefIdeal.nD Cert.InRefIdeal.τ).loc Cert.InRefIdeal.main_arg4) = m ((c.tc : Thread Cert.InKernelIdeal.nD Cert.InKernelIdeal.τ).loc Cert.InKernelIdeal.main_arg4)) →
    ∃ (v0 : (c : Dev Cert.InKernelIdeal.nD) → Buf (Elt Ideal) ((c.tc : Thread Cert.InKernelIdeal.nD Cert.InKernelIdeal.τ).loc Cert.InKernelIdeal.main_v6_0)) (v1 : (c : Dev Cert.InKernelIdeal.nD) → Buf (Elt Ideal) ((c.tc : Thread Cert.InKernelIdeal.nD Cert.InKernelIdeal.τ).loc Cert.InKernelIdeal.main_v7)),
      θ_run (Cert.InKernelIdeal.defs (F := Ideal)) (onTc (τ := Cert.InKernelIdeal.τ) (Cert.InKernelIdeal.main (F := Ideal))) ⟨m, fun _ => 0, g⟩ (fun r => ∀ c : Dev Cert.InKernelIdeal.nD,
          r.2.mem ((c.tc : Thread Cert.InKernelIdeal.nD Cert.InKernelIdeal.τ).loc Cert.InKernelIdeal.main_v6_0) = v0 c
          ∧ r.2.mem ((c.tc : Thread Cert.InKernelIdeal.nD Cert.InKernelIdeal.τ).loc Cert.InKernelIdeal.main_v7) = v1 c
          ∧ r.2.mem ((c.tc : Thread Cert.InKernelIdeal.nD Cert.InKernelIdeal.τ).loc Cert.InKernelIdeal.main_arg0) = m ((c.tc : Thread Cert.InKernelIdeal.nD Cert.InKernelIdeal.τ).loc Cert.InKernelIdeal.main_arg0)
          ∧ r.2.mem ((c.tc : Thread Cert.InKernelIdeal.nD Cert.InKernelIdeal.τ).loc Cert.InKernelIdeal.main_arg1) = m ((c.tc : Thread Cert.InKernelIdeal.nD Cert.InKernelIdeal.τ).loc Cert.InKernelIdeal.main_arg1)
          ∧ r.2.mem ((c.tc : Thread Cert.InKernelIdeal.nD Cert.InKernelIdeal.τ).loc Cert.InKernelIdeal.main_arg2) = m ((c.tc : Thread Cert.InKernelIdeal.nD Cert.InKernelIdeal.τ).loc Cert.InKernelIdeal.main_arg2)
          ∧ r.2.mem ((c.tc : Thread Cert.InKernelIdeal.nD Cert.InKernelIdeal.τ).loc Cert.InKernelIdeal.main_arg3) = m ((c.tc : Thread Cert.InKernelIdeal.nD Cert.InKernelIdeal.τ).loc Cert.InKernelIdeal.main_arg3)
          ∧ r.2.mem ((c.tc : Thread Cert.InKernelIdeal.nD Cert.InKernelIdeal.τ).loc Cert.InKernelIdeal.main_arg4) = m ((c.tc : Thread Cert.InKernelIdeal.nD Cert.InKernelIdeal.τ).loc Cert.InKernelIdeal.main_arg4))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v38) = v0 c
          ∧ r.2.mem ((c.tc : Thread Cert.InRefIdeal.nD Cert.InRefIdeal.τ).loc Cert.InRefIdeal.main_v23) = v1 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1)
          ∧ r.2.mem ((c.tc : Thread Cert.InRefIdeal.nD Cert.InRefIdeal.τ).loc Cert.InRefIdeal.main_arg2) = m' ((c.tc : Thread Cert.InRefIdeal.nD Cert.InRefIdeal.τ).loc Cert.InRefIdeal.main_arg2)
          ∧ r.2.mem ((c.tc : Thread Cert.InRefIdeal.nD Cert.InRefIdeal.τ).loc Cert.InRefIdeal.main_arg3) = m' ((c.tc : Thread Cert.InRefIdeal.nD Cert.InRefIdeal.τ).loc Cert.InRefIdeal.main_arg3)
          ∧ r.2.mem ((c.tc : Thread Cert.InRefIdeal.nD Cert.InRefIdeal.τ).loc Cert.InRefIdeal.main_arg4) = m' ((c.tc : Thread Cert.InRefIdeal.nD Cert.InRefIdeal.τ).loc Cert.InRefIdeal.main_arg4))

def preserves_QwKernel_QwKernelIdeal : Prop :=
  True

def algebraic_QwKernelIdeal_QwRefIdeal [hQwKernelIdeal : Cert.QwKernelIdeal.Facts] [hQwRefIdeal : Cert.QwRefIdeal.Facts] : Prop :=
  ∀ (m : (ℓ : Loc Cert.QwKernelIdeal.nD Cert.QwKernelIdeal.τ Cert.QwKernelIdeal.sig) → Buf (Elt Ideal) ℓ) (g : Dev Cert.QwKernelIdeal.nD → PrngReg)
    (m' : (ℓ : Loc Cert.QwRefIdeal.nD Cert.QwRefIdeal.τ Cert.QwRefIdeal.sig) → Buf (Elt Ideal) ℓ) (g' : Dev Cert.QwRefIdeal.nD → PrngReg), Pre_QwKernelIdeal m →
    (∀ c : Dev Cert.QwKernelIdeal.nD,
      m' ((c.tc : Thread Cert.QwRefIdeal.nD Cert.QwRefIdeal.τ).loc Cert.QwRefIdeal.main_arg0) = m ((c.tc : Thread Cert.QwKernelIdeal.nD Cert.QwKernelIdeal.τ).loc Cert.QwKernelIdeal.main_arg0)
      ∧ m' ((c.tc : Thread Cert.QwRefIdeal.nD Cert.QwRefIdeal.τ).loc Cert.QwRefIdeal.main_arg1) = m ((c.tc : Thread Cert.QwKernelIdeal.nD Cert.QwKernelIdeal.τ).loc Cert.QwKernelIdeal.main_arg1)
      ∧ m' ((c.tc : Thread Cert.QwRefIdeal.nD Cert.QwRefIdeal.τ).loc Cert.QwRefIdeal.main_arg2) = m ((c.tc : Thread Cert.QwKernelIdeal.nD Cert.QwKernelIdeal.τ).loc Cert.QwKernelIdeal.main_arg2)) →
    ∃ (v0 : (c : Dev Cert.QwKernelIdeal.nD) → Buf (Elt Ideal) ((c.tc : Thread Cert.QwKernelIdeal.nD Cert.QwKernelIdeal.τ).loc Cert.QwKernelIdeal.main_v2)),
      θ_run (Cert.QwKernelIdeal.defs (F := Ideal)) (onTc (τ := Cert.QwKernelIdeal.τ) (Cert.QwKernelIdeal.main (F := Ideal))) ⟨m, fun _ => 0, g⟩ (fun r => ∀ c : Dev Cert.QwKernelIdeal.nD,
          r.2.mem ((c.tc : Thread Cert.QwKernelIdeal.nD Cert.QwKernelIdeal.τ).loc Cert.QwKernelIdeal.main_v2) = v0 c
          ∧ r.2.mem ((c.tc : Thread Cert.QwKernelIdeal.nD Cert.QwKernelIdeal.τ).loc Cert.QwKernelIdeal.main_arg0) = m ((c.tc : Thread Cert.QwKernelIdeal.nD Cert.QwKernelIdeal.τ).loc Cert.QwKernelIdeal.main_arg0)
          ∧ r.2.mem ((c.tc : Thread Cert.QwKernelIdeal.nD Cert.QwKernelIdeal.τ).loc Cert.QwKernelIdeal.main_arg1) = m ((c.tc : Thread Cert.QwKernelIdeal.nD Cert.QwKernelIdeal.τ).loc Cert.QwKernelIdeal.main_arg1)
          ∧ r.2.mem ((c.tc : Thread Cert.QwKernelIdeal.nD Cert.QwKernelIdeal.τ).loc Cert.QwKernelIdeal.main_arg2) = m ((c.tc : Thread Cert.QwKernelIdeal.nD Cert.QwKernelIdeal.τ).loc Cert.QwKernelIdeal.main_arg2))
      ∧ θ_run (Cert.QwRefIdeal.defs (F := Ideal)) (onTc (τ := Cert.QwRefIdeal.τ) (Cert.QwRefIdeal.main (F := Ideal))) ⟨m', fun _ => 0, g'⟩ (fun r => ∀ c : Dev Cert.QwRefIdeal.nD,
          r.2.mem ((c.tc : Thread Cert.QwRefIdeal.nD Cert.QwRefIdeal.τ).loc Cert.QwRefIdeal.main_v17) = v0 c
          ∧ r.2.mem ((c.tc : Thread Cert.QwRefIdeal.nD Cert.QwRefIdeal.τ).loc Cert.QwRefIdeal.main_arg0) = m' ((c.tc : Thread Cert.QwRefIdeal.nD Cert.QwRefIdeal.τ).loc Cert.QwRefIdeal.main_arg0)
          ∧ r.2.mem ((c.tc : Thread Cert.QwRefIdeal.nD Cert.QwRefIdeal.τ).loc Cert.QwRefIdeal.main_arg1) = m' ((c.tc : Thread Cert.QwRefIdeal.nD Cert.QwRefIdeal.τ).loc Cert.QwRefIdeal.main_arg1)
          ∧ r.2.mem ((c.tc : Thread Cert.QwRefIdeal.nD Cert.QwRefIdeal.τ).loc Cert.QwRefIdeal.main_arg2) = m' ((c.tc : Thread Cert.QwRefIdeal.nD Cert.QwRefIdeal.τ).loc Cert.QwRefIdeal.main_arg2))

def preserves_KvwKernel_KvwKernelIdeal : Prop :=
  True

def algebraic_KvwKernelIdeal_KvwRefIdeal [hKvwKernelIdeal : Cert.KvwKernelIdeal.Facts] [hKvwRefIdeal : Cert.KvwRefIdeal.Facts] : Prop :=
  ∀ (m : (ℓ : Loc Cert.KvwKernelIdeal.nD Cert.KvwKernelIdeal.τ Cert.KvwKernelIdeal.sig) → Buf (Elt Ideal) ℓ) (g : Dev Cert.KvwKernelIdeal.nD → PrngReg)
    (m' : (ℓ : Loc Cert.KvwRefIdeal.nD Cert.KvwRefIdeal.τ Cert.KvwRefIdeal.sig) → Buf (Elt Ideal) ℓ) (g' : Dev Cert.KvwRefIdeal.nD → PrngReg), Pre_KvwKernelIdeal m →
    (∀ c : Dev Cert.KvwKernelIdeal.nD,
      m' ((c.tc : Thread Cert.KvwRefIdeal.nD Cert.KvwRefIdeal.τ).loc Cert.KvwRefIdeal.main_arg0) = m ((c.tc : Thread Cert.KvwKernelIdeal.nD Cert.KvwKernelIdeal.τ).loc Cert.KvwKernelIdeal.main_arg0)
      ∧ m' ((c.tc : Thread Cert.KvwRefIdeal.nD Cert.KvwRefIdeal.τ).loc Cert.KvwRefIdeal.main_arg1) = m ((c.tc : Thread Cert.KvwKernelIdeal.nD Cert.KvwKernelIdeal.τ).loc Cert.KvwKernelIdeal.main_arg1)
      ∧ m' ((c.tc : Thread Cert.KvwRefIdeal.nD Cert.KvwRefIdeal.τ).loc Cert.KvwRefIdeal.main_arg2) = m ((c.tc : Thread Cert.KvwKernelIdeal.nD Cert.KvwKernelIdeal.τ).loc Cert.KvwKernelIdeal.main_arg2)
      ∧ m' ((c.tc : Thread Cert.KvwRefIdeal.nD Cert.KvwRefIdeal.τ).loc Cert.KvwRefIdeal.main_arg3) = m ((c.tc : Thread Cert.KvwKernelIdeal.nD Cert.KvwKernelIdeal.τ).loc Cert.KvwKernelIdeal.main_arg3)) →
    ∃ (v0 : (c : Dev Cert.KvwKernelIdeal.nD) → Buf (Elt Ideal) ((c.tc : Thread Cert.KvwKernelIdeal.nD Cert.KvwKernelIdeal.τ).loc Cert.KvwKernelIdeal.main_v4)) (v1 : (c : Dev Cert.KvwKernelIdeal.nD) → Buf (Elt Ideal) ((c.tc : Thread Cert.KvwKernelIdeal.nD Cert.KvwKernelIdeal.τ).loc Cert.KvwKernelIdeal.main_v5)),
      θ_run (Cert.KvwKernelIdeal.defs (F := Ideal)) (onTc (τ := Cert.KvwKernelIdeal.τ) (Cert.KvwKernelIdeal.main (F := Ideal))) ⟨m, fun _ => 0, g⟩ (fun r => ∀ c : Dev Cert.KvwKernelIdeal.nD,
          r.2.mem ((c.tc : Thread Cert.KvwKernelIdeal.nD Cert.KvwKernelIdeal.τ).loc Cert.KvwKernelIdeal.main_v4) = v0 c
          ∧ r.2.mem ((c.tc : Thread Cert.KvwKernelIdeal.nD Cert.KvwKernelIdeal.τ).loc Cert.KvwKernelIdeal.main_v5) = v1 c
          ∧ r.2.mem ((c.tc : Thread Cert.KvwKernelIdeal.nD Cert.KvwKernelIdeal.τ).loc Cert.KvwKernelIdeal.main_arg0) = m ((c.tc : Thread Cert.KvwKernelIdeal.nD Cert.KvwKernelIdeal.τ).loc Cert.KvwKernelIdeal.main_arg0)
          ∧ r.2.mem ((c.tc : Thread Cert.KvwKernelIdeal.nD Cert.KvwKernelIdeal.τ).loc Cert.KvwKernelIdeal.main_arg1) = m ((c.tc : Thread Cert.KvwKernelIdeal.nD Cert.KvwKernelIdeal.τ).loc Cert.KvwKernelIdeal.main_arg1)
          ∧ r.2.mem ((c.tc : Thread Cert.KvwKernelIdeal.nD Cert.KvwKernelIdeal.τ).loc Cert.KvwKernelIdeal.main_arg2) = m ((c.tc : Thread Cert.KvwKernelIdeal.nD Cert.KvwKernelIdeal.τ).loc Cert.KvwKernelIdeal.main_arg2)
          ∧ r.2.mem ((c.tc : Thread Cert.KvwKernelIdeal.nD Cert.KvwKernelIdeal.τ).loc Cert.KvwKernelIdeal.main_arg3) = m ((c.tc : Thread Cert.KvwKernelIdeal.nD Cert.KvwKernelIdeal.τ).loc Cert.KvwKernelIdeal.main_arg3))
      ∧ θ_run (Cert.KvwRefIdeal.defs (F := Ideal)) (onTc (τ := Cert.KvwRefIdeal.τ) (Cert.KvwRefIdeal.main (F := Ideal))) ⟨m', fun _ => 0, g'⟩ (fun r => ∀ c : Dev Cert.KvwRefIdeal.nD,
          r.2.mem ((c.tc : Thread Cert.KvwRefIdeal.nD Cert.KvwRefIdeal.τ).loc Cert.KvwRefIdeal.main_v20) = v0 c
          ∧ r.2.mem ((c.tc : Thread Cert.KvwRefIdeal.nD Cert.KvwRefIdeal.τ).loc Cert.KvwRefIdeal.main_v21) = v1 c
          ∧ r.2.mem ((c.tc : Thread Cert.KvwRefIdeal.nD Cert.KvwRefIdeal.τ).loc Cert.KvwRefIdeal.main_arg0) = m' ((c.tc : Thread Cert.KvwRefIdeal.nD Cert.KvwRefIdeal.τ).loc Cert.KvwRefIdeal.main_arg0)
          ∧ r.2.mem ((c.tc : Thread Cert.KvwRefIdeal.nD Cert.KvwRefIdeal.τ).loc Cert.KvwRefIdeal.main_arg1) = m' ((c.tc : Thread Cert.KvwRefIdeal.nD Cert.KvwRefIdeal.τ).loc Cert.KvwRefIdeal.main_arg1)
          ∧ r.2.mem ((c.tc : Thread Cert.KvwRefIdeal.nD Cert.KvwRefIdeal.τ).loc Cert.KvwRefIdeal.main_arg2) = m' ((c.tc : Thread Cert.KvwRefIdeal.nD Cert.KvwRefIdeal.τ).loc Cert.KvwRefIdeal.main_arg2)
          ∧ r.2.mem ((c.tc : Thread Cert.KvwRefIdeal.nD Cert.KvwRefIdeal.τ).loc Cert.KvwRefIdeal.main_arg3) = m' ((c.tc : Thread Cert.KvwRefIdeal.nD Cert.KvwRefIdeal.τ).loc Cert.KvwRefIdeal.main_arg3))

def preserves_UpwKernel_UpwKernelIdeal : Prop :=
  True

def algebraic_UpwKernelIdeal_UpwRefIdeal [hUpwKernelIdeal : Cert.UpwKernelIdeal.Facts] [hUpwRefIdeal : Cert.UpwRefIdeal.Facts] : Prop :=
  ∀ (m : (ℓ : Loc Cert.UpwKernelIdeal.nD Cert.UpwKernelIdeal.τ Cert.UpwKernelIdeal.sig) → Buf (Elt Ideal) ℓ) (g : Dev Cert.UpwKernelIdeal.nD → PrngReg)
    (m' : (ℓ : Loc Cert.UpwRefIdeal.nD Cert.UpwRefIdeal.τ Cert.UpwRefIdeal.sig) → Buf (Elt Ideal) ℓ) (g' : Dev Cert.UpwRefIdeal.nD → PrngReg), Pre_UpwKernelIdeal m →
    (∀ c : Dev Cert.UpwKernelIdeal.nD,
      m' ((c.tc : Thread Cert.UpwRefIdeal.nD Cert.UpwRefIdeal.τ).loc Cert.UpwRefIdeal.main_arg0) = m ((c.tc : Thread Cert.UpwKernelIdeal.nD Cert.UpwKernelIdeal.τ).loc Cert.UpwKernelIdeal.main_arg0)
      ∧ m' ((c.tc : Thread Cert.UpwRefIdeal.nD Cert.UpwRefIdeal.τ).loc Cert.UpwRefIdeal.main_arg1) = m ((c.tc : Thread Cert.UpwKernelIdeal.nD Cert.UpwKernelIdeal.τ).loc Cert.UpwKernelIdeal.main_arg1)
      ∧ m' ((c.tc : Thread Cert.UpwRefIdeal.nD Cert.UpwRefIdeal.τ).loc Cert.UpwRefIdeal.main_arg2) = m ((c.tc : Thread Cert.UpwKernelIdeal.nD Cert.UpwKernelIdeal.τ).loc Cert.UpwKernelIdeal.main_arg2)) →
    ∃ (v0 : (c : Dev Cert.UpwKernelIdeal.nD) → Buf (Elt Ideal) ((c.tc : Thread Cert.UpwKernelIdeal.nD Cert.UpwKernelIdeal.τ).loc Cert.UpwKernelIdeal.main_v8)),
      θ_run (Cert.UpwKernelIdeal.defs (F := Ideal)) (onTc (τ := Cert.UpwKernelIdeal.τ) (Cert.UpwKernelIdeal.main (F := Ideal))) ⟨m, fun _ => 0, g⟩ (fun r => ∀ c : Dev Cert.UpwKernelIdeal.nD,
          r.2.mem ((c.tc : Thread Cert.UpwKernelIdeal.nD Cert.UpwKernelIdeal.τ).loc Cert.UpwKernelIdeal.main_v8) = v0 c
          ∧ r.2.mem ((c.tc : Thread Cert.UpwKernelIdeal.nD Cert.UpwKernelIdeal.τ).loc Cert.UpwKernelIdeal.main_arg0) = m ((c.tc : Thread Cert.UpwKernelIdeal.nD Cert.UpwKernelIdeal.τ).loc Cert.UpwKernelIdeal.main_arg0)
          ∧ r.2.mem ((c.tc : Thread Cert.UpwKernelIdeal.nD Cert.UpwKernelIdeal.τ).loc Cert.UpwKernelIdeal.main_arg1) = m ((c.tc : Thread Cert.UpwKernelIdeal.nD Cert.UpwKernelIdeal.τ).loc Cert.UpwKernelIdeal.main_arg1)
          ∧ r.2.mem ((c.tc : Thread Cert.UpwKernelIdeal.nD Cert.UpwKernelIdeal.τ).loc Cert.UpwKernelIdeal.main_arg2) = m ((c.tc : Thread Cert.UpwKernelIdeal.nD Cert.UpwKernelIdeal.τ).loc Cert.UpwKernelIdeal.main_arg2))
      ∧ θ_run (Cert.UpwRefIdeal.defs (F := Ideal)) (onTc (τ := Cert.UpwRefIdeal.τ) (Cert.UpwRefIdeal.main (F := Ideal))) ⟨m', fun _ => 0, g'⟩ (fun r => ∀ c : Dev Cert.UpwRefIdeal.nD,
          r.2.mem ((c.tc : Thread Cert.UpwRefIdeal.nD Cert.UpwRefIdeal.τ).loc Cert.UpwRefIdeal.main_v17) = v0 c
          ∧ r.2.mem ((c.tc : Thread Cert.UpwRefIdeal.nD Cert.UpwRefIdeal.τ).loc Cert.UpwRefIdeal.main_arg0) = m' ((c.tc : Thread Cert.UpwRefIdeal.nD Cert.UpwRefIdeal.τ).loc Cert.UpwRefIdeal.main_arg0)
          ∧ r.2.mem ((c.tc : Thread Cert.UpwRefIdeal.nD Cert.UpwRefIdeal.τ).loc Cert.UpwRefIdeal.main_arg1) = m' ((c.tc : Thread Cert.UpwRefIdeal.nD Cert.UpwRefIdeal.τ).loc Cert.UpwRefIdeal.main_arg1)
          ∧ r.2.mem ((c.tc : Thread Cert.UpwRefIdeal.nD Cert.UpwRefIdeal.τ).loc Cert.UpwRefIdeal.main_arg2) = m' ((c.tc : Thread Cert.UpwRefIdeal.nD Cert.UpwRefIdeal.τ).loc Cert.UpwRefIdeal.main_arg2))

def preserves_InwKernel_InwKernelIdeal : Prop :=
  True

def algebraic_InwKernelIdeal_InwRefIdeal [hInwKernelIdeal : Cert.InwKernelIdeal.Facts] [hInwRefIdeal : Cert.InwRefIdeal.Facts] : Prop :=
  ∀ (m : (ℓ : Loc Cert.InwKernelIdeal.nD Cert.InwKernelIdeal.τ Cert.InwKernelIdeal.sig) → Buf (Elt Ideal) ℓ) (g : Dev Cert.InwKernelIdeal.nD → PrngReg)
    (m' : (ℓ : Loc Cert.InwRefIdeal.nD Cert.InwRefIdeal.τ Cert.InwRefIdeal.sig) → Buf (Elt Ideal) ℓ) (g' : Dev Cert.InwRefIdeal.nD → PrngReg), Pre_InwKernelIdeal m →
    (∀ c : Dev Cert.InwKernelIdeal.nD,
      m' ((c.tc : Thread Cert.InwRefIdeal.nD Cert.InwRefIdeal.τ).loc Cert.InwRefIdeal.main_arg0) = m ((c.tc : Thread Cert.InwKernelIdeal.nD Cert.InwKernelIdeal.τ).loc Cert.InwKernelIdeal.main_arg0)
      ∧ m' ((c.tc : Thread Cert.InwRefIdeal.nD Cert.InwRefIdeal.τ).loc Cert.InwRefIdeal.main_arg1) = m ((c.tc : Thread Cert.InwKernelIdeal.nD Cert.InwKernelIdeal.τ).loc Cert.InwKernelIdeal.main_arg1)
      ∧ m' ((c.tc : Thread Cert.InwRefIdeal.nD Cert.InwRefIdeal.τ).loc Cert.InwRefIdeal.main_arg2) = m ((c.tc : Thread Cert.InwKernelIdeal.nD Cert.InwKernelIdeal.τ).loc Cert.InwKernelIdeal.main_arg2)) →
    ∃ (v0 : (c : Dev Cert.InwKernelIdeal.nD) → Buf (Elt Ideal) ((c.tc : Thread Cert.InwKernelIdeal.nD Cert.InwKernelIdeal.τ).loc Cert.InwKernelIdeal.main_v5)),
      θ_run (Cert.InwKernelIdeal.defs (F := Ideal)) (onTc (τ := Cert.InwKernelIdeal.τ) (Cert.InwKernelIdeal.main (F := Ideal))) ⟨m, fun _ => 0, g⟩ (fun r => ∀ c : Dev Cert.InwKernelIdeal.nD,
          r.2.mem ((c.tc : Thread Cert.InwKernelIdeal.nD Cert.InwKernelIdeal.τ).loc Cert.InwKernelIdeal.main_v5) = v0 c
          ∧ r.2.mem ((c.tc : Thread Cert.InwKernelIdeal.nD Cert.InwKernelIdeal.τ).loc Cert.InwKernelIdeal.main_arg0) = m ((c.tc : Thread Cert.InwKernelIdeal.nD Cert.InwKernelIdeal.τ).loc Cert.InwKernelIdeal.main_arg0)
          ∧ r.2.mem ((c.tc : Thread Cert.InwKernelIdeal.nD Cert.InwKernelIdeal.τ).loc Cert.InwKernelIdeal.main_arg1) = m ((c.tc : Thread Cert.InwKernelIdeal.nD Cert.InwKernelIdeal.τ).loc Cert.InwKernelIdeal.main_arg1)
          ∧ r.2.mem ((c.tc : Thread Cert.InwKernelIdeal.nD Cert.InwKernelIdeal.τ).loc Cert.InwKernelIdeal.main_arg2) = m ((c.tc : Thread Cert.InwKernelIdeal.nD Cert.InwKernelIdeal.τ).loc Cert.InwKernelIdeal.main_arg2))
      ∧ θ_run (Cert.InwRefIdeal.defs (F := Ideal)) (onTc (τ := Cert.InwRefIdeal.τ) (Cert.InwRefIdeal.main (F := Ideal))) ⟨m', fun _ => 0, g'⟩ (fun r => ∀ c : Dev Cert.InwRefIdeal.nD,
          r.2.mem ((c.tc : Thread Cert.InwRefIdeal.nD Cert.InwRefIdeal.τ).loc Cert.InwRefIdeal.main_v17) = v0 c
          ∧ r.2.mem ((c.tc : Thread Cert.InwRefIdeal.nD Cert.InwRefIdeal.τ).loc Cert.InwRefIdeal.main_arg0) = m' ((c.tc : Thread Cert.InwRefIdeal.nD Cert.InwRefIdeal.τ).loc Cert.InwRefIdeal.main_arg0)
          ∧ r.2.mem ((c.tc : Thread Cert.InwRefIdeal.nD Cert.InwRefIdeal.τ).loc Cert.InwRefIdeal.main_arg1) = m' ((c.tc : Thread Cert.InwRefIdeal.nD Cert.InwRefIdeal.τ).loc Cert.InwRefIdeal.main_arg1)
          ∧ r.2.mem ((c.tc : Thread Cert.InwRefIdeal.nD Cert.InwRefIdeal.τ).loc Cert.InwRefIdeal.main_arg2) = m' ((c.tc : Thread Cert.InwRefIdeal.nD Cert.InwRefIdeal.τ).loc Cert.InwRefIdeal.main_arg2))

def preserves_SbfKernel_SbfKernelIdeal : Prop :=
  IdealRules.named_const.Statement Cert.SbfKernelIdeal.κ "log2_e" .f32 0x3FB8AA3B#32 (((Real.log 2)⁻¹ : ℝ) : EReal)

def algebraic_SbfKernelIdeal_SbfRefIdeal_pre_sbf_finite [hSbfKernelIdeal : Cert.SbfKernelIdeal.Facts] [hSbfRefIdeal : Cert.SbfRefIdeal.Facts] [hPre_sbf_finite : Cert.Pre_sbf_finite.Facts] : Prop :=
  ∀ (m : (ℓ : Loc Cert.SbfKernelIdeal.nD Cert.SbfKernelIdeal.τ Cert.SbfKernelIdeal.sig) → Buf (Elt Ideal) ℓ) (g : Dev Cert.SbfKernelIdeal.nD → PrngReg)
    (m' : (ℓ : Loc Cert.SbfRefIdeal.nD Cert.SbfRefIdeal.τ Cert.SbfRefIdeal.sig) → Buf (Elt Ideal) ℓ) (g' : Dev Cert.SbfRefIdeal.nD → PrngReg), Pre_SbfKernelIdeal_sbf_finite m →
    (∀ c : Dev Cert.SbfKernelIdeal.nD,
      m' ((c.tc : Thread Cert.SbfRefIdeal.nD Cert.SbfRefIdeal.τ).loc Cert.SbfRefIdeal.main_arg0) = m ((c.tc : Thread Cert.SbfKernelIdeal.nD Cert.SbfKernelIdeal.τ).loc Cert.SbfKernelIdeal.main_arg0)
      ∧ m' ((c.tc : Thread Cert.SbfRefIdeal.nD Cert.SbfRefIdeal.τ).loc Cert.SbfRefIdeal.main_arg1) = m ((c.tc : Thread Cert.SbfKernelIdeal.nD Cert.SbfKernelIdeal.τ).loc Cert.SbfKernelIdeal.main_arg1)
      ∧ m' ((c.tc : Thread Cert.SbfRefIdeal.nD Cert.SbfRefIdeal.τ).loc Cert.SbfRefIdeal.main_arg2) = m ((c.tc : Thread Cert.SbfKernelIdeal.nD Cert.SbfKernelIdeal.τ).loc Cert.SbfKernelIdeal.main_arg2)) →
    ∃ (v0 : (c : Dev Cert.SbfKernelIdeal.nD) → Buf (Elt Ideal) ((c.tc : Thread Cert.SbfKernelIdeal.nD Cert.SbfKernelIdeal.τ).loc Cert.SbfKernelIdeal.main_v4_0)) (v1 : (c : Dev Cert.SbfKernelIdeal.nD) → Buf (Elt Ideal) ((c.tc : Thread Cert.SbfKernelIdeal.nD Cert.SbfKernelIdeal.τ).loc Cert.SbfKernelIdeal.main_v4_1)),
      θ_run (Cert.SbfKernelIdeal.defs (F := Ideal)) (onTc (τ := Cert.SbfKernelIdeal.τ) (Cert.SbfKernelIdeal.main (F := Ideal))) ⟨m, fun _ => 0, g⟩ (fun r => ∀ c : Dev Cert.SbfKernelIdeal.nD,
          r.2.mem ((c.tc : Thread Cert.SbfKernelIdeal.nD Cert.SbfKernelIdeal.τ).loc Cert.SbfKernelIdeal.main_v4_0) = v0 c
          ∧ r.2.mem ((c.tc : Thread Cert.SbfKernelIdeal.nD Cert.SbfKernelIdeal.τ).loc Cert.SbfKernelIdeal.main_v4_1) = v1 c
          ∧ r.2.mem ((c.tc : Thread Cert.SbfKernelIdeal.nD Cert.SbfKernelIdeal.τ).loc Cert.SbfKernelIdeal.main_arg0) = m ((c.tc : Thread Cert.SbfKernelIdeal.nD Cert.SbfKernelIdeal.τ).loc Cert.SbfKernelIdeal.main_arg0)
          ∧ r.2.mem ((c.tc : Thread Cert.SbfKernelIdeal.nD Cert.SbfKernelIdeal.τ).loc Cert.SbfKernelIdeal.main_arg1) = m ((c.tc : Thread Cert.SbfKernelIdeal.nD Cert.SbfKernelIdeal.τ).loc Cert.SbfKernelIdeal.main_arg1)
          ∧ r.2.mem ((c.tc : Thread Cert.SbfKernelIdeal.nD Cert.SbfKernelIdeal.τ).loc Cert.SbfKernelIdeal.main_arg2) = m ((c.tc : Thread Cert.SbfKernelIdeal.nD Cert.SbfKernelIdeal.τ).loc Cert.SbfKernelIdeal.main_arg2))
      ∧ θ_run (Cert.SbfRefIdeal.defs (F := Ideal)) (onTc (τ := Cert.SbfRefIdeal.τ) (Cert.SbfRefIdeal.main (F := Ideal))) ⟨m', fun _ => 0, g'⟩ (fun r => ∀ c : Dev Cert.SbfRefIdeal.nD,
          r.2.mem ((c.tc : Thread Cert.SbfRefIdeal.nD Cert.SbfRefIdeal.τ).loc Cert.SbfRefIdeal.main_v53) = v0 c
          ∧ r.2.mem ((c.tc : Thread Cert.SbfRefIdeal.nD Cert.SbfRefIdeal.τ).loc Cert.SbfRefIdeal.main_v25) = v1 c
          ∧ r.2.mem ((c.tc : Thread Cert.SbfRefIdeal.nD Cert.SbfRefIdeal.τ).loc Cert.SbfRefIdeal.main_arg0) = m' ((c.tc : Thread Cert.SbfRefIdeal.nD Cert.SbfRefIdeal.τ).loc Cert.SbfRefIdeal.main_arg0)
          ∧ r.2.mem ((c.tc : Thread Cert.SbfRefIdeal.nD Cert.SbfRefIdeal.τ).loc Cert.SbfRefIdeal.main_arg1) = m' ((c.tc : Thread Cert.SbfRefIdeal.nD Cert.SbfRefIdeal.τ).loc Cert.SbfRefIdeal.main_arg1)
          ∧ r.2.mem ((c.tc : Thread Cert.SbfRefIdeal.nD Cert.SbfRefIdeal.τ).loc Cert.SbfRefIdeal.main_arg2) = m' ((c.tc : Thread Cert.SbfRefIdeal.nD Cert.SbfRefIdeal.τ).loc Cert.SbfRefIdeal.main_arg2))

def preserves_SsdKernel_SsdKernelIdeal : Prop :=
  True

def algebraic_SsdKernelIdeal_SsdRefIdeal_pre_ssd_finite [hSsdKernelIdeal : Cert.SsdKernelIdeal.Facts] [hSsdRefIdeal : Cert.SsdRefIdeal.Facts] [hPre_ssd_finite : Cert.Pre_ssd_finite.Facts] : Prop :=
  ∀ (m : (ℓ : Loc Cert.SsdKernelIdeal.nD Cert.SsdKernelIdeal.τ Cert.SsdKernelIdeal.sig) → Buf (Elt Ideal) ℓ) (g : Dev Cert.SsdKernelIdeal.nD → PrngReg)
    (m' : (ℓ : Loc Cert.SsdRefIdeal.nD Cert.SsdRefIdeal.τ Cert.SsdRefIdeal.sig) → Buf (Elt Ideal) ℓ) (g' : Dev Cert.SsdRefIdeal.nD → PrngReg), Pre_SsdKernelIdeal_ssd_finite m →
    (∀ c : Dev Cert.SsdKernelIdeal.nD,
      m' ((c.tc : Thread Cert.SsdRefIdeal.nD Cert.SsdRefIdeal.τ).loc Cert.SsdRefIdeal.main_arg0) = m ((c.tc : Thread Cert.SsdKernelIdeal.nD Cert.SsdKernelIdeal.τ).loc Cert.SsdKernelIdeal.main_arg0)
      ∧ m' ((c.tc : Thread Cert.SsdRefIdeal.nD Cert.SsdRefIdeal.τ).loc Cert.SsdRefIdeal.main_arg1) = m ((c.tc : Thread Cert.SsdKernelIdeal.nD Cert.SsdKernelIdeal.τ).loc Cert.SsdKernelIdeal.main_arg1)
      ∧ m' ((c.tc : Thread Cert.SsdRefIdeal.nD Cert.SsdRefIdeal.τ).loc Cert.SsdRefIdeal.main_arg2) = m ((c.tc : Thread Cert.SsdKernelIdeal.nD Cert.SsdKernelIdeal.τ).loc Cert.SsdKernelIdeal.main_arg2)
      ∧ m' ((c.tc : Thread Cert.SsdRefIdeal.nD Cert.SsdRefIdeal.τ).loc Cert.SsdRefIdeal.main_arg3) = m ((c.tc : Thread Cert.SsdKernelIdeal.nD Cert.SsdKernelIdeal.τ).loc Cert.SsdKernelIdeal.main_arg3)
      ∧ m' ((c.tc : Thread Cert.SsdRefIdeal.nD Cert.SsdRefIdeal.τ).loc Cert.SsdRefIdeal.main_arg4) = m ((c.tc : Thread Cert.SsdKernelIdeal.nD Cert.SsdKernelIdeal.τ).loc Cert.SsdKernelIdeal.main_arg4)
      ∧ m' ((c.tc : Thread Cert.SsdRefIdeal.nD Cert.SsdRefIdeal.τ).loc Cert.SsdRefIdeal.main_arg5) = m ((c.tc : Thread Cert.SsdKernelIdeal.nD Cert.SsdKernelIdeal.τ).loc Cert.SsdKernelIdeal.main_arg5)) →
    ∃ (v0 : (c : Dev Cert.SsdKernelIdeal.nD) → Buf (Elt Ideal) ((c.tc : Thread Cert.SsdKernelIdeal.nD Cert.SsdKernelIdeal.τ).loc Cert.SsdKernelIdeal.main_v13_0)) (v1 : (c : Dev Cert.SsdKernelIdeal.nD) → Buf (Elt Ideal) ((c.tc : Thread Cert.SsdKernelIdeal.nD Cert.SsdKernelIdeal.τ).loc Cert.SsdKernelIdeal.main_v13_1)) (v2 : (c : Dev Cert.SsdKernelIdeal.nD) → Buf (Elt Ideal) ((c.tc : Thread Cert.SsdKernelIdeal.nD Cert.SsdKernelIdeal.τ).loc Cert.SsdKernelIdeal.main_v13_2)),
      θ_run (Cert.SsdKernelIdeal.defs (F := Ideal)) (onTc (τ := Cert.SsdKernelIdeal.τ) (Cert.SsdKernelIdeal.main (F := Ideal))) ⟨m, fun _ => 0, g⟩ (fun r => ∀ c : Dev Cert.SsdKernelIdeal.nD,
          r.2.mem ((c.tc : Thread Cert.SsdKernelIdeal.nD Cert.SsdKernelIdeal.τ).loc Cert.SsdKernelIdeal.main_v13_0) = v0 c
          ∧ r.2.mem ((c.tc : Thread Cert.SsdKernelIdeal.nD Cert.SsdKernelIdeal.τ).loc Cert.SsdKernelIdeal.main_v13_1) = v1 c
          ∧ r.2.mem ((c.tc : Thread Cert.SsdKernelIdeal.nD Cert.SsdKernelIdeal.τ).loc Cert.SsdKernelIdeal.main_v13_2) = v2 c
          ∧ r.2.mem ((c.tc : Thread Cert.SsdKernelIdeal.nD Cert.SsdKernelIdeal.τ).loc Cert.SsdKernelIdeal.main_arg0) = m ((c.tc : Thread Cert.SsdKernelIdeal.nD Cert.SsdKernelIdeal.τ).loc Cert.SsdKernelIdeal.main_arg0)
          ∧ r.2.mem ((c.tc : Thread Cert.SsdKernelIdeal.nD Cert.SsdKernelIdeal.τ).loc Cert.SsdKernelIdeal.main_arg1) = m ((c.tc : Thread Cert.SsdKernelIdeal.nD Cert.SsdKernelIdeal.τ).loc Cert.SsdKernelIdeal.main_arg1)
          ∧ r.2.mem ((c.tc : Thread Cert.SsdKernelIdeal.nD Cert.SsdKernelIdeal.τ).loc Cert.SsdKernelIdeal.main_arg2) = m ((c.tc : Thread Cert.SsdKernelIdeal.nD Cert.SsdKernelIdeal.τ).loc Cert.SsdKernelIdeal.main_arg2)
          ∧ r.2.mem ((c.tc : Thread Cert.SsdKernelIdeal.nD Cert.SsdKernelIdeal.τ).loc Cert.SsdKernelIdeal.main_arg3) = m ((c.tc : Thread Cert.SsdKernelIdeal.nD Cert.SsdKernelIdeal.τ).loc Cert.SsdKernelIdeal.main_arg3)
          ∧ r.2.mem ((c.tc : Thread Cert.SsdKernelIdeal.nD Cert.SsdKernelIdeal.τ).loc Cert.SsdKernelIdeal.main_arg4) = m ((c.tc : Thread Cert.SsdKernelIdeal.nD Cert.SsdKernelIdeal.τ).loc Cert.SsdKernelIdeal.main_arg4)
          ∧ r.2.mem ((c.tc : Thread Cert.SsdKernelIdeal.nD Cert.SsdKernelIdeal.τ).loc Cert.SsdKernelIdeal.main_arg5) = m ((c.tc : Thread Cert.SsdKernelIdeal.nD Cert.SsdKernelIdeal.τ).loc Cert.SsdKernelIdeal.main_arg5))
      ∧ θ_run (Cert.SsdRefIdeal.defs (F := Ideal)) (onTc (τ := Cert.SsdRefIdeal.τ) (Cert.SsdRefIdeal.main (F := Ideal))) ⟨m', fun _ => 0, g'⟩ (fun r => ∀ c : Dev Cert.SsdRefIdeal.nD,
          r.2.mem ((c.tc : Thread Cert.SsdRefIdeal.nD Cert.SsdRefIdeal.τ).loc Cert.SsdRefIdeal.main_v73) = v0 c
          ∧ r.2.mem ((c.tc : Thread Cert.SsdRefIdeal.nD Cert.SsdRefIdeal.τ).loc Cert.SsdRefIdeal.main_v94) = v1 c
          ∧ r.2.mem ((c.tc : Thread Cert.SsdRefIdeal.nD Cert.SsdRefIdeal.τ).loc Cert.SsdRefIdeal.main_v93) = v2 c
          ∧ r.2.mem ((c.tc : Thread Cert.SsdRefIdeal.nD Cert.SsdRefIdeal.τ).loc Cert.SsdRefIdeal.main_arg0) = m' ((c.tc : Thread Cert.SsdRefIdeal.nD Cert.SsdRefIdeal.τ).loc Cert.SsdRefIdeal.main_arg0)
          ∧ r.2.mem ((c.tc : Thread Cert.SsdRefIdeal.nD Cert.SsdRefIdeal.τ).loc Cert.SsdRefIdeal.main_arg1) = m' ((c.tc : Thread Cert.SsdRefIdeal.nD Cert.SsdRefIdeal.τ).loc Cert.SsdRefIdeal.main_arg1)
          ∧ r.2.mem ((c.tc : Thread Cert.SsdRefIdeal.nD Cert.SsdRefIdeal.τ).loc Cert.SsdRefIdeal.main_arg2) = m' ((c.tc : Thread Cert.SsdRefIdeal.nD Cert.SsdRefIdeal.τ).loc Cert.SsdRefIdeal.main_arg2)
          ∧ r.2.mem ((c.tc : Thread Cert.SsdRefIdeal.nD Cert.SsdRefIdeal.τ).loc Cert.SsdRefIdeal.main_arg3) = m' ((c.tc : Thread Cert.SsdRefIdeal.nD Cert.SsdRefIdeal.τ).loc Cert.SsdRefIdeal.main_arg3)
          ∧ r.2.mem ((c.tc : Thread Cert.SsdRefIdeal.nD Cert.SsdRefIdeal.τ).loc Cert.SsdRefIdeal.main_arg4) = m' ((c.tc : Thread Cert.SsdRefIdeal.nD Cert.SsdRefIdeal.τ).loc Cert.SsdRefIdeal.main_arg4)
          ∧ r.2.mem ((c.tc : Thread Cert.SsdRefIdeal.nD Cert.SsdRefIdeal.τ).loc Cert.SsdRefIdeal.main_arg5) = m' ((c.tc : Thread Cert.SsdRefIdeal.nD Cert.SsdRefIdeal.τ).loc Cert.SsdRefIdeal.main_arg5))

def preserves_ActKernel_ActKernelIdeal : Prop :=
  True

def algebraic_ActKernelIdeal_ActRefIdeal [hActKernelIdeal : Cert.ActKernelIdeal.Facts] [hActRefIdeal : Cert.ActRefIdeal.Facts] : Prop :=
  ∀ (m : (ℓ : Loc Cert.ActKernelIdeal.nD Cert.ActKernelIdeal.τ Cert.ActKernelIdeal.sig) → Buf (Elt Ideal) ℓ) (g : Dev Cert.ActKernelIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActKernelIdeal m →
    (∀ c : Dev Cert.ActKernelIdeal.nD,
      m' ((c.tc : Thread Cert.ActRefIdeal.nD Cert.ActRefIdeal.τ).loc Cert.ActRefIdeal.main_arg0) = m ((c.tc : Thread Cert.ActKernelIdeal.nD Cert.ActKernelIdeal.τ).loc Cert.ActKernelIdeal.main_arg0)
      ∧ m' ((c.tc : Thread Cert.ActRefIdeal.nD Cert.ActRefIdeal.τ).loc Cert.ActRefIdeal.main_arg1) = m ((c.tc : Thread Cert.ActKernelIdeal.nD Cert.ActKernelIdeal.τ).loc Cert.ActKernelIdeal.main_arg1)
      ∧ m' ((c.tc : Thread Cert.ActRefIdeal.nD Cert.ActRefIdeal.τ).loc Cert.ActRefIdeal.main_arg2) = m ((c.tc : Thread Cert.ActKernelIdeal.nD Cert.ActKernelIdeal.τ).loc Cert.ActKernelIdeal.main_arg2)) →
    ∃ (v0 : (c : Dev Cert.ActKernelIdeal.nD) → Buf (Elt Ideal) ((c.tc : Thread Cert.ActKernelIdeal.nD Cert.ActKernelIdeal.τ).loc Cert.ActKernelIdeal.main_v2)),
      θ_run (Cert.ActKernelIdeal.defs (F := Ideal)) (onTc (τ := Cert.ActKernelIdeal.τ) (Cert.ActKernelIdeal.main (F := Ideal))) ⟨m, fun _ => 0, g⟩ (fun r => ∀ c : Dev Cert.ActKernelIdeal.nD,
          r.2.mem ((c.tc : Thread Cert.ActKernelIdeal.nD Cert.ActKernelIdeal.τ).loc Cert.ActKernelIdeal.main_v2) = v0 c
          ∧ r.2.mem ((c.tc : Thread Cert.ActKernelIdeal.nD Cert.ActKernelIdeal.τ).loc Cert.ActKernelIdeal.main_arg0) = m ((c.tc : Thread Cert.ActKernelIdeal.nD Cert.ActKernelIdeal.τ).loc Cert.ActKernelIdeal.main_arg0)
          ∧ r.2.mem ((c.tc : Thread Cert.ActKernelIdeal.nD Cert.ActKernelIdeal.τ).loc Cert.ActKernelIdeal.main_arg1) = m ((c.tc : Thread Cert.ActKernelIdeal.nD Cert.ActKernelIdeal.τ).loc Cert.ActKernelIdeal.main_arg1)
          ∧ r.2.mem ((c.tc : Thread Cert.ActKernelIdeal.nD Cert.ActKernelIdeal.τ).loc Cert.ActKernelIdeal.main_arg2) = m ((c.tc : Thread Cert.ActKernelIdeal.nD Cert.ActKernelIdeal.τ).loc Cert.ActKernelIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v33) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_FfnKernel_FfnKernelIdeal : Prop :=
  True

def algebraic_FfnKernelIdeal_FfnRefIdeal [hFfnKernelIdeal : Cert.FfnKernelIdeal.Facts] [hFfnRefIdeal : Cert.FfnRefIdeal.Facts] : Prop :=
  ∀ (m : (ℓ : Loc Cert.FfnKernelIdeal.nD Cert.FfnKernelIdeal.τ Cert.FfnKernelIdeal.sig) → Buf (Elt Ideal) ℓ) (g : Dev Cert.FfnKernelIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnKernelIdeal m →
    (∀ c : Dev Cert.FfnKernelIdeal.nD,
      m' ((c.tc : Thread Cert.FfnRefIdeal.nD Cert.FfnRefIdeal.τ).loc Cert.FfnRefIdeal.main_arg0) = m ((c.tc : Thread Cert.FfnKernelIdeal.nD Cert.FfnKernelIdeal.τ).loc Cert.FfnKernelIdeal.main_arg0)
      ∧ m' ((c.tc : Thread Cert.FfnRefIdeal.nD Cert.FfnRefIdeal.τ).loc Cert.FfnRefIdeal.main_arg1) = m ((c.tc : Thread Cert.FfnKernelIdeal.nD Cert.FfnKernelIdeal.τ).loc Cert.FfnKernelIdeal.main_arg1)
      ∧ m' ((c.tc : Thread Cert.FfnRefIdeal.nD Cert.FfnRefIdeal.τ).loc Cert.FfnRefIdeal.main_arg2) = m ((c.tc : Thread Cert.FfnKernelIdeal.nD Cert.FfnKernelIdeal.τ).loc Cert.FfnKernelIdeal.main_arg2)) →
    ∃ (v0 : (c : Dev Cert.FfnKernelIdeal.nD) → Buf (Elt Ideal) ((c.tc : Thread Cert.FfnKernelIdeal.nD Cert.FfnKernelIdeal.τ).loc Cert.FfnKernelIdeal.main_v7)),
      θ_run (Cert.FfnKernelIdeal.defs (F := Ideal)) (onTc (τ := Cert.FfnKernelIdeal.τ) (Cert.FfnKernelIdeal.main (F := Ideal))) ⟨m, fun _ => 0, g⟩ (fun r => ∀ c : Dev Cert.FfnKernelIdeal.nD,
          r.2.mem ((c.tc : Thread Cert.FfnKernelIdeal.nD Cert.FfnKernelIdeal.τ).loc Cert.FfnKernelIdeal.main_v7) = v0 c
          ∧ r.2.mem ((c.tc : Thread Cert.FfnKernelIdeal.nD Cert.FfnKernelIdeal.τ).loc Cert.FfnKernelIdeal.main_arg0) = m ((c.tc : Thread Cert.FfnKernelIdeal.nD Cert.FfnKernelIdeal.τ).loc Cert.FfnKernelIdeal.main_arg0)
          ∧ r.2.mem ((c.tc : Thread Cert.FfnKernelIdeal.nD Cert.FfnKernelIdeal.τ).loc Cert.FfnKernelIdeal.main_arg1) = m ((c.tc : Thread Cert.FfnKernelIdeal.nD Cert.FfnKernelIdeal.τ).loc Cert.FfnKernelIdeal.main_arg1)
          ∧ r.2.mem ((c.tc : Thread Cert.FfnKernelIdeal.nD Cert.FfnKernelIdeal.τ).loc Cert.FfnKernelIdeal.main_arg2) = m ((c.tc : Thread Cert.FfnKernelIdeal.nD Cert.FfnKernelIdeal.τ).loc Cert.FfnKernelIdeal.main_arg2))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v29) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2))

def preserves_NqKernel_NqKernelIdeal : Prop :=
  True

def algebraic_NqKernelIdeal_NqRefIdeal [hNqKernelIdeal : Cert.NqKernelIdeal.Facts] [hNqRefIdeal : Cert.NqRefIdeal.Facts] : Prop :=
  ∀ (m : (ℓ : Loc Cert.NqKernelIdeal.nD Cert.NqKernelIdeal.τ Cert.NqKernelIdeal.sig) → Buf (Elt Ideal) ℓ) (g : Dev Cert.NqKernelIdeal.nD → PrngReg)
    (m' : (ℓ : Loc Cert.NqRefIdeal.nD Cert.NqRefIdeal.τ Cert.NqRefIdeal.sig) → Buf (Elt Ideal) ℓ) (g' : Dev Cert.NqRefIdeal.nD → PrngReg), Pre_NqKernelIdeal m →
    (∀ c : Dev Cert.NqKernelIdeal.nD,
      m' ((c.tc : Thread Cert.NqRefIdeal.nD Cert.NqRefIdeal.τ).loc Cert.NqRefIdeal.main_arg0) = m ((c.tc : Thread Cert.NqKernelIdeal.nD Cert.NqKernelIdeal.τ).loc Cert.NqKernelIdeal.main_arg0)
      ∧ m' ((c.tc : Thread Cert.NqRefIdeal.nD Cert.NqRefIdeal.τ).loc Cert.NqRefIdeal.main_arg1) = m ((c.tc : Thread Cert.NqKernelIdeal.nD Cert.NqKernelIdeal.τ).loc Cert.NqKernelIdeal.main_arg1)
      ∧ m' ((c.tc : Thread Cert.NqRefIdeal.nD Cert.NqRefIdeal.τ).loc Cert.NqRefIdeal.main_arg2) = m ((c.tc : Thread Cert.NqKernelIdeal.nD Cert.NqKernelIdeal.τ).loc Cert.NqKernelIdeal.main_arg2)) →
    ∃ (v0 : (c : Dev Cert.NqKernelIdeal.nD) → Buf (Elt Ideal) ((c.tc : Thread Cert.NqKernelIdeal.nD Cert.NqKernelIdeal.τ).loc Cert.NqKernelIdeal.main_v2)),
      θ_run (Cert.NqKernelIdeal.defs (F := Ideal)) (onTc (τ := Cert.NqKernelIdeal.τ) (Cert.NqKernelIdeal.main (F := Ideal))) ⟨m, fun _ => 0, g⟩ (fun r => ∀ c : Dev Cert.NqKernelIdeal.nD,
          r.2.mem ((c.tc : Thread Cert.NqKernelIdeal.nD Cert.NqKernelIdeal.τ).loc Cert.NqKernelIdeal.main_v2) = v0 c
          ∧ r.2.mem ((c.tc : Thread Cert.NqKernelIdeal.nD Cert.NqKernelIdeal.τ).loc Cert.NqKernelIdeal.main_arg0) = m ((c.tc : Thread Cert.NqKernelIdeal.nD Cert.NqKernelIdeal.τ).loc Cert.NqKernelIdeal.main_arg0)
          ∧ r.2.mem ((c.tc : Thread Cert.NqKernelIdeal.nD Cert.NqKernelIdeal.τ).loc Cert.NqKernelIdeal.main_arg1) = m ((c.tc : Thread Cert.NqKernelIdeal.nD Cert.NqKernelIdeal.τ).loc Cert.NqKernelIdeal.main_arg1)
          ∧ r.2.mem ((c.tc : Thread Cert.NqKernelIdeal.nD Cert.NqKernelIdeal.τ).loc Cert.NqKernelIdeal.main_arg2) = m ((c.tc : Thread Cert.NqKernelIdeal.nD Cert.NqKernelIdeal.τ).loc Cert.NqKernelIdeal.main_arg2))
      ∧ θ_run (Cert.NqRefIdeal.defs (F := Ideal)) (onTc (τ := Cert.NqRefIdeal.τ) (Cert.NqRefIdeal.main (F := Ideal))) ⟨m', fun _ => 0, g'⟩ (fun r => ∀ c : Dev Cert.NqRefIdeal.nD,
          r.2.mem ((c.tc : Thread Cert.NqRefIdeal.nD Cert.NqRefIdeal.τ).loc Cert.NqRefIdeal.main_v14) = v0 c
          ∧ r.2.mem ((c.tc : Thread Cert.NqRefIdeal.nD Cert.NqRefIdeal.τ).loc Cert.NqRefIdeal.main_arg0) = m' ((c.tc : Thread Cert.NqRefIdeal.nD Cert.NqRefIdeal.τ).loc Cert.NqRefIdeal.main_arg0)
          ∧ r.2.mem ((c.tc : Thread Cert.NqRefIdeal.nD Cert.NqRefIdeal.τ).loc Cert.NqRefIdeal.main_arg1) = m' ((c.tc : Thread Cert.NqRefIdeal.nD Cert.NqRefIdeal.τ).loc Cert.NqRefIdeal.main_arg1)
          ∧ r.2.mem ((c.tc : Thread Cert.NqRefIdeal.nD Cert.NqRefIdeal.τ).loc Cert.NqRefIdeal.main_arg2) = m' ((c.tc : Thread Cert.NqRefIdeal.nD Cert.NqRefIdeal.τ).loc Cert.NqRefIdeal.main_arg2))

def preserves_NupKernel_NupKernelIdeal : Prop :=
  True

def algebraic_NupKernelIdeal_NupRefIdeal [hNupKernelIdeal : Cert.NupKernelIdeal.Facts] [hNupRefIdeal : Cert.NupRefIdeal.Facts] : Prop :=
  ∀ (m : (ℓ : Loc Cert.NupKernelIdeal.nD Cert.NupKernelIdeal.τ Cert.NupKernelIdeal.sig) → Buf (Elt Ideal) ℓ) (g : Dev Cert.NupKernelIdeal.nD → PrngReg)
    (m' : (ℓ : Loc Cert.NupRefIdeal.nD Cert.NupRefIdeal.τ Cert.NupRefIdeal.sig) → Buf (Elt Ideal) ℓ) (g' : Dev Cert.NupRefIdeal.nD → PrngReg), Pre_NupKernelIdeal m →
    (∀ c : Dev Cert.NupKernelIdeal.nD,
      m' ((c.tc : Thread Cert.NupRefIdeal.nD Cert.NupRefIdeal.τ).loc Cert.NupRefIdeal.main_arg0) = m ((c.tc : Thread Cert.NupKernelIdeal.nD Cert.NupKernelIdeal.τ).loc Cert.NupKernelIdeal.main_arg0)
      ∧ m' ((c.tc : Thread Cert.NupRefIdeal.nD Cert.NupRefIdeal.τ).loc Cert.NupRefIdeal.main_arg1) = m ((c.tc : Thread Cert.NupKernelIdeal.nD Cert.NupKernelIdeal.τ).loc Cert.NupKernelIdeal.main_arg1)
      ∧ m' ((c.tc : Thread Cert.NupRefIdeal.nD Cert.NupRefIdeal.τ).loc Cert.NupRefIdeal.main_arg2) = m ((c.tc : Thread Cert.NupKernelIdeal.nD Cert.NupKernelIdeal.τ).loc Cert.NupKernelIdeal.main_arg2)) →
    ∃ (v0 : (c : Dev Cert.NupKernelIdeal.nD) → Buf (Elt Ideal) ((c.tc : Thread Cert.NupKernelIdeal.nD Cert.NupKernelIdeal.τ).loc Cert.NupKernelIdeal.main_v3)),
      θ_run (Cert.NupKernelIdeal.defs (F := Ideal)) (onTc (τ := Cert.NupKernelIdeal.τ) (Cert.NupKernelIdeal.main (F := Ideal))) ⟨m, fun _ => 0, g⟩ (fun r => ∀ c : Dev Cert.NupKernelIdeal.nD,
          r.2.mem ((c.tc : Thread Cert.NupKernelIdeal.nD Cert.NupKernelIdeal.τ).loc Cert.NupKernelIdeal.main_v3) = v0 c
          ∧ r.2.mem ((c.tc : Thread Cert.NupKernelIdeal.nD Cert.NupKernelIdeal.τ).loc Cert.NupKernelIdeal.main_arg0) = m ((c.tc : Thread Cert.NupKernelIdeal.nD Cert.NupKernelIdeal.τ).loc Cert.NupKernelIdeal.main_arg0)
          ∧ r.2.mem ((c.tc : Thread Cert.NupKernelIdeal.nD Cert.NupKernelIdeal.τ).loc Cert.NupKernelIdeal.main_arg1) = m ((c.tc : Thread Cert.NupKernelIdeal.nD Cert.NupKernelIdeal.τ).loc Cert.NupKernelIdeal.main_arg1)
          ∧ r.2.mem ((c.tc : Thread Cert.NupKernelIdeal.nD Cert.NupKernelIdeal.τ).loc Cert.NupKernelIdeal.main_arg2) = m ((c.tc : Thread Cert.NupKernelIdeal.nD Cert.NupKernelIdeal.τ).loc Cert.NupKernelIdeal.main_arg2))
      ∧ θ_run (Cert.NupRefIdeal.defs (F := Ideal)) (onTc (τ := Cert.NupRefIdeal.τ) (Cert.NupRefIdeal.main (F := Ideal))) ⟨m', fun _ => 0, g'⟩ (fun r => ∀ c : Dev Cert.NupRefIdeal.nD,
          r.2.mem ((c.tc : Thread Cert.NupRefIdeal.nD Cert.NupRefIdeal.τ).loc Cert.NupRefIdeal.main_v19) = v0 c
          ∧ r.2.mem ((c.tc : Thread Cert.NupRefIdeal.nD Cert.NupRefIdeal.τ).loc Cert.NupRefIdeal.main_arg0) = m' ((c.tc : Thread Cert.NupRefIdeal.nD Cert.NupRefIdeal.τ).loc Cert.NupRefIdeal.main_arg0)
          ∧ r.2.mem ((c.tc : Thread Cert.NupRefIdeal.nD Cert.NupRefIdeal.τ).loc Cert.NupRefIdeal.main_arg1) = m' ((c.tc : Thread Cert.NupRefIdeal.nD Cert.NupRefIdeal.τ).loc Cert.NupRefIdeal.main_arg1)
          ∧ r.2.mem ((c.tc : Thread Cert.NupRefIdeal.nD Cert.NupRefIdeal.τ).loc Cert.NupRefIdeal.main_arg2) = m' ((c.tc : Thread Cert.NupRefIdeal.nD Cert.NupRefIdeal.τ).loc Cert.NupRefIdeal.main_arg2))

def preserves_NinKernel_NinKernelIdeal : Prop :=
  True

def algebraic_NinKernelIdeal_NinRefIdeal [hNinKernelIdeal : Cert.NinKernelIdeal.Facts] [hNinRefIdeal : Cert.NinRefIdeal.Facts] : Prop :=
  ∀ (m : (ℓ : Loc Cert.NinKernelIdeal.nD Cert.NinKernelIdeal.τ Cert.NinKernelIdeal.sig) → Buf (Elt Ideal) ℓ) (g : Dev Cert.NinKernelIdeal.nD → PrngReg)
    (m' : (ℓ : Loc Cert.NinRefIdeal.nD Cert.NinRefIdeal.τ Cert.NinRefIdeal.sig) → Buf (Elt Ideal) ℓ) (g' : Dev Cert.NinRefIdeal.nD → PrngReg), Pre_NinKernelIdeal m →
    (∀ c : Dev Cert.NinKernelIdeal.nD,
      m' ((c.tc : Thread Cert.NinRefIdeal.nD Cert.NinRefIdeal.τ).loc Cert.NinRefIdeal.main_arg0) = m ((c.tc : Thread Cert.NinKernelIdeal.nD Cert.NinKernelIdeal.τ).loc Cert.NinKernelIdeal.main_arg0)
      ∧ m' ((c.tc : Thread Cert.NinRefIdeal.nD Cert.NinRefIdeal.τ).loc Cert.NinRefIdeal.main_arg1) = m ((c.tc : Thread Cert.NinKernelIdeal.nD Cert.NinKernelIdeal.τ).loc Cert.NinKernelIdeal.main_arg1)
      ∧ m' ((c.tc : Thread Cert.NinRefIdeal.nD Cert.NinRefIdeal.τ).loc Cert.NinRefIdeal.main_arg2) = m ((c.tc : Thread Cert.NinKernelIdeal.nD Cert.NinKernelIdeal.τ).loc Cert.NinKernelIdeal.main_arg2)) →
    ∃ (v0 : (c : Dev Cert.NinKernelIdeal.nD) → Buf (Elt Ideal) ((c.tc : Thread Cert.NinKernelIdeal.nD Cert.NinKernelIdeal.τ).loc Cert.NinKernelIdeal.main_v4)),
      θ_run (Cert.NinKernelIdeal.defs (F := Ideal)) (onTc (τ := Cert.NinKernelIdeal.τ) (Cert.NinKernelIdeal.main (F := Ideal))) ⟨m, fun _ => 0, g⟩ (fun r => ∀ c : Dev Cert.NinKernelIdeal.nD,
          r.2.mem ((c.tc : Thread Cert.NinKernelIdeal.nD Cert.NinKernelIdeal.τ).loc Cert.NinKernelIdeal.main_v4) = v0 c
          ∧ r.2.mem ((c.tc : Thread Cert.NinKernelIdeal.nD Cert.NinKernelIdeal.τ).loc Cert.NinKernelIdeal.main_arg0) = m ((c.tc : Thread Cert.NinKernelIdeal.nD Cert.NinKernelIdeal.τ).loc Cert.NinKernelIdeal.main_arg0)
          ∧ r.2.mem ((c.tc : Thread Cert.NinKernelIdeal.nD Cert.NinKernelIdeal.τ).loc Cert.NinKernelIdeal.main_arg1) = m ((c.tc : Thread Cert.NinKernelIdeal.nD Cert.NinKernelIdeal.τ).loc Cert.NinKernelIdeal.main_arg1)
          ∧ r.2.mem ((c.tc : Thread Cert.NinKernelIdeal.nD Cert.NinKernelIdeal.τ).loc Cert.NinKernelIdeal.main_arg2) = m ((c.tc : Thread Cert.NinKernelIdeal.nD Cert.NinKernelIdeal.τ).loc Cert.NinKernelIdeal.main_arg2))
      ∧ θ_run (Cert.NinRefIdeal.defs (F := Ideal)) (onTc (τ := Cert.NinRefIdeal.τ) (Cert.NinRefIdeal.main (F := Ideal))) ⟨m', fun _ => 0, g'⟩ (fun r => ∀ c : Dev Cert.NinRefIdeal.nD,
          r.2.mem ((c.tc : Thread Cert.NinRefIdeal.nD Cert.NinRefIdeal.τ).loc Cert.NinRefIdeal.main_v14) = v0 c
          ∧ r.2.mem ((c.tc : Thread Cert.NinRefIdeal.nD Cert.NinRefIdeal.τ).loc Cert.NinRefIdeal.main_arg0) = m' ((c.tc : Thread Cert.NinRefIdeal.nD Cert.NinRefIdeal.τ).loc Cert.NinRefIdeal.main_arg0)
          ∧ r.2.mem ((c.tc : Thread Cert.NinRefIdeal.nD Cert.NinRefIdeal.τ).loc Cert.NinRefIdeal.main_arg1) = m' ((c.tc : Thread Cert.NinRefIdeal.nD Cert.NinRefIdeal.τ).loc Cert.NinRefIdeal.main_arg1)
          ∧ r.2.mem ((c.tc : Thread Cert.NinRefIdeal.nD Cert.NinRefIdeal.τ).loc Cert.NinRefIdeal.main_arg2) = m' ((c.tc : Thread Cert.NinRefIdeal.nD Cert.NinRefIdeal.τ).loc Cert.NinRefIdeal.main_arg2))

def preserves_DnKernel_DnKernelIdeal : Prop :=
  True

def algebraic_DnKernelIdeal_DnRefIdeal [hDnKernelIdeal : Cert.DnKernelIdeal.Facts] [hDnRefIdeal : Cert.DnRefIdeal.Facts] : Prop :=
  ∀ (m : (ℓ : Loc Cert.DnKernelIdeal.nD Cert.DnKernelIdeal.τ Cert.DnKernelIdeal.sig) → Buf (Elt Ideal) ℓ) (g : Dev Cert.DnKernelIdeal.nD → PrngReg)
    (m' : (ℓ : Loc Cert.DnRefIdeal.nD Cert.DnRefIdeal.τ Cert.DnRefIdeal.sig) → Buf (Elt Ideal) ℓ) (g' : Dev Cert.DnRefIdeal.nD → PrngReg), Pre_DnKernelIdeal m →
    (∀ c : Dev Cert.DnKernelIdeal.nD,
      m' ((c.tc : Thread Cert.DnRefIdeal.nD Cert.DnRefIdeal.τ).loc Cert.DnRefIdeal.main_arg0) = m ((c.tc : Thread Cert.DnKernelIdeal.nD Cert.DnKernelIdeal.τ).loc Cert.DnKernelIdeal.main_arg0)
      ∧ m' ((c.tc : Thread Cert.DnRefIdeal.nD Cert.DnRefIdeal.τ).loc Cert.DnRefIdeal.main_arg1) = m ((c.tc : Thread Cert.DnKernelIdeal.nD Cert.DnKernelIdeal.τ).loc Cert.DnKernelIdeal.main_arg1)
      ∧ m' ((c.tc : Thread Cert.DnRefIdeal.nD Cert.DnRefIdeal.τ).loc Cert.DnRefIdeal.main_arg2) = m ((c.tc : Thread Cert.DnKernelIdeal.nD Cert.DnKernelIdeal.τ).loc Cert.DnKernelIdeal.main_arg2)) →
    ∃ (v0 : (c : Dev Cert.DnKernelIdeal.nD) → Buf (Elt Ideal) ((c.tc : Thread Cert.DnKernelIdeal.nD Cert.DnKernelIdeal.τ).loc Cert.DnKernelIdeal.main_v2)),
      θ_run (Cert.DnKernelIdeal.defs (F := Ideal)) (onTc (τ := Cert.DnKernelIdeal.τ) (Cert.DnKernelIdeal.main (F := Ideal))) ⟨m, fun _ => 0, g⟩ (fun r => ∀ c : Dev Cert.DnKernelIdeal.nD,
          r.2.mem ((c.tc : Thread Cert.DnKernelIdeal.nD Cert.DnKernelIdeal.τ).loc Cert.DnKernelIdeal.main_v2) = v0 c
          ∧ r.2.mem ((c.tc : Thread Cert.DnKernelIdeal.nD Cert.DnKernelIdeal.τ).loc Cert.DnKernelIdeal.main_arg0) = m ((c.tc : Thread Cert.DnKernelIdeal.nD Cert.DnKernelIdeal.τ).loc Cert.DnKernelIdeal.main_arg0)
          ∧ r.2.mem ((c.tc : Thread Cert.DnKernelIdeal.nD Cert.DnKernelIdeal.τ).loc Cert.DnKernelIdeal.main_arg1) = m ((c.tc : Thread Cert.DnKernelIdeal.nD Cert.DnKernelIdeal.τ).loc Cert.DnKernelIdeal.main_arg1)
          ∧ r.2.mem ((c.tc : Thread Cert.DnKernelIdeal.nD Cert.DnKernelIdeal.τ).loc Cert.DnKernelIdeal.main_arg2) = m ((c.tc : Thread Cert.DnKernelIdeal.nD Cert.DnKernelIdeal.τ).loc Cert.DnKernelIdeal.main_arg2))
      ∧ θ_run (Cert.DnRefIdeal.defs (F := Ideal)) (onTc (τ := Cert.DnRefIdeal.τ) (Cert.DnRefIdeal.main (F := Ideal))) ⟨m', fun _ => 0, g'⟩ (fun r => ∀ c : Dev Cert.DnRefIdeal.nD,
          r.2.mem ((c.tc : Thread Cert.DnRefIdeal.nD Cert.DnRefIdeal.τ).loc Cert.DnRefIdeal.main_v1) = v0 c
          ∧ r.2.mem ((c.tc : Thread Cert.DnRefIdeal.nD Cert.DnRefIdeal.τ).loc Cert.DnRefIdeal.main_arg0) = m' ((c.tc : Thread Cert.DnRefIdeal.nD Cert.DnRefIdeal.τ).loc Cert.DnRefIdeal.main_arg0)
          ∧ r.2.mem ((c.tc : Thread Cert.DnRefIdeal.nD Cert.DnRefIdeal.τ).loc Cert.DnRefIdeal.main_arg1) = m' ((c.tc : Thread Cert.DnRefIdeal.nD Cert.DnRefIdeal.τ).loc Cert.DnRefIdeal.main_arg1)
          ∧ r.2.mem ((c.tc : Thread Cert.DnRefIdeal.nD Cert.DnRefIdeal.τ).loc Cert.DnRefIdeal.main_arg2) = m' ((c.tc : Thread Cert.DnRefIdeal.nD Cert.DnRefIdeal.τ).loc Cert.DnRefIdeal.main_arg2))

def preserves_DdKernel_DdKernelIdeal : Prop :=
  True

def algebraic_DdKernelIdeal_DdRefIdeal [hDdKernelIdeal : Cert.DdKernelIdeal.Facts] [hDdRefIdeal : Cert.DdRefIdeal.Facts] : Prop :=
  ∀ (m : (ℓ : Loc Cert.DdKernelIdeal.nD Cert.DdKernelIdeal.τ Cert.DdKernelIdeal.sig) → Buf (Elt Ideal) ℓ) (g : Dev Cert.DdKernelIdeal.nD → PrngReg)
    (m' : (ℓ : Loc Cert.DdRefIdeal.nD Cert.DdRefIdeal.τ Cert.DdRefIdeal.sig) → Buf (Elt Ideal) ℓ) (g' : Dev Cert.DdRefIdeal.nD → PrngReg), Pre_DdKernelIdeal m →
    (∀ c : Dev Cert.DdKernelIdeal.nD,
      m' ((c.tc : Thread Cert.DdRefIdeal.nD Cert.DdRefIdeal.τ).loc Cert.DdRefIdeal.main_arg0) = m ((c.tc : Thread Cert.DdKernelIdeal.nD Cert.DdKernelIdeal.τ).loc Cert.DdKernelIdeal.main_arg0)
      ∧ m' ((c.tc : Thread Cert.DdRefIdeal.nD Cert.DdRefIdeal.τ).loc Cert.DdRefIdeal.main_arg1) = m ((c.tc : Thread Cert.DdKernelIdeal.nD Cert.DdKernelIdeal.τ).loc Cert.DdKernelIdeal.main_arg1)) →
    ∃ (v0 : (c : Dev Cert.DdKernelIdeal.nD) → Buf (Elt Ideal) ((c.tc : Thread Cert.DdKernelIdeal.nD Cert.DdKernelIdeal.τ).loc Cert.DdKernelIdeal.main_v1)),
      θ_run (Cert.DdKernelIdeal.defs (F := Ideal)) (onTc (τ := Cert.DdKernelIdeal.τ) (Cert.DdKernelIdeal.main (F := Ideal))) ⟨m, fun _ => 0, g⟩ (fun r => ∀ c : Dev Cert.DdKernelIdeal.nD,
          r.2.mem ((c.tc : Thread Cert.DdKernelIdeal.nD Cert.DdKernelIdeal.τ).loc Cert.DdKernelIdeal.main_v1) = v0 c
          ∧ r.2.mem ((c.tc : Thread Cert.DdKernelIdeal.nD Cert.DdKernelIdeal.τ).loc Cert.DdKernelIdeal.main_arg0) = m ((c.tc : Thread Cert.DdKernelIdeal.nD Cert.DdKernelIdeal.τ).loc Cert.DdKernelIdeal.main_arg0)
          ∧ r.2.mem ((c.tc : Thread Cert.DdKernelIdeal.nD Cert.DdKernelIdeal.τ).loc Cert.DdKernelIdeal.main_arg1) = m ((c.tc : Thread Cert.DdKernelIdeal.nD Cert.DdKernelIdeal.τ).loc Cert.DdKernelIdeal.main_arg1))
      ∧ θ_run (Cert.DdRefIdeal.defs (F := Ideal)) (onTc (τ := Cert.DdRefIdeal.τ) (Cert.DdRefIdeal.main (F := Ideal))) ⟨m', fun _ => 0, g'⟩ (fun r => ∀ c : Dev Cert.DdRefIdeal.nD,
          r.2.mem ((c.tc : Thread Cert.DdRefIdeal.nD Cert.DdRefIdeal.τ).loc Cert.DdRefIdeal.main_v3) = v0 c
          ∧ r.2.mem ((c.tc : Thread Cert.DdRefIdeal.nD Cert.DdRefIdeal.τ).loc Cert.DdRefIdeal.main_arg0) = m' ((c.tc : Thread Cert.DdRefIdeal.nD Cert.DdRefIdeal.τ).loc Cert.DdRefIdeal.main_arg0)
          ∧ r.2.mem ((c.tc : Thread Cert.DdRefIdeal.nD Cert.DdRefIdeal.τ).loc Cert.DdRefIdeal.main_arg1) = m' ((c.tc : Thread Cert.DdRefIdeal.nD Cert.DdRefIdeal.τ).loc Cert.DdRefIdeal.main_arg1))

def preserves_DwKernel_DwKernelIdeal : Prop :=
  True

def algebraic_DwKernelIdeal_DwRefIdeal [hDwKernelIdeal : Cert.DwKernelIdeal.Facts] [hDwRefIdeal : Cert.DwRefIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwRefIdeal.nD Cert.DwRefIdeal.τ Cert.DwRefIdeal.sig) → Buf (Elt Ideal) ℓ) (g' : Dev Cert.DwRefIdeal.nD → PrngReg), Pre_DwKernelIdeal m →
    (∀ c : Dev Cert.DwKernelIdeal.nD,
      m' ((c.tc : Thread Cert.DwRefIdeal.nD Cert.DwRefIdeal.τ).loc Cert.DwRefIdeal.main_arg0) = m ((c.tc : Thread Cert.DwKernelIdeal.nD Cert.DwKernelIdeal.τ).loc Cert.DwKernelIdeal.main_arg0)
      ∧ m' ((c.tc : Thread Cert.DwRefIdeal.nD Cert.DwRefIdeal.τ).loc Cert.DwRefIdeal.main_arg1) = m ((c.tc : Thread Cert.DwKernelIdeal.nD Cert.DwKernelIdeal.τ).loc Cert.DwKernelIdeal.main_arg1)) →
    ∃ (v0 : (c : Dev Cert.DwKernelIdeal.nD) → Buf (Elt Ideal) ((c.tc : Thread Cert.DwKernelIdeal.nD Cert.DwKernelIdeal.τ).loc Cert.DwKernelIdeal.main_v1)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v1) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1))
      ∧ θ_run (Cert.DwRefIdeal.defs (F := Ideal)) (onTc (τ := Cert.DwRefIdeal.τ) (Cert.DwRefIdeal.main (F := Ideal))) ⟨m', fun _ => 0, g'⟩ (fun r => ∀ c : Dev Cert.DwRefIdeal.nD,
          r.2.mem ((c.tc : Thread Cert.DwRefIdeal.nD Cert.DwRefIdeal.τ).loc Cert.DwRefIdeal.main_v4) = v0 c
          ∧ r.2.mem ((c.tc : Thread Cert.DwRefIdeal.nD Cert.DwRefIdeal.τ).loc Cert.DwRefIdeal.main_arg0) = m' ((c.tc : Thread Cert.DwRefIdeal.nD Cert.DwRefIdeal.τ).loc Cert.DwRefIdeal.main_arg0)
          ∧ r.2.mem ((c.tc : Thread Cert.DwRefIdeal.nD Cert.DwRefIdeal.τ).loc Cert.DwRefIdeal.main_arg1) = m' ((c.tc : Thread Cert.DwRefIdeal.nD Cert.DwRefIdeal.τ).loc Cert.DwRefIdeal.main_arg1))

def preserves_OptKernel_OptKernelIdeal : Prop :=
  True

def algebraic_OptKernelIdeal_OptRefIdeal [hOptKernelIdeal : Cert.OptKernelIdeal.Facts] [hOptRefIdeal : Cert.OptRefIdeal.Facts] : Prop :=
  ∀ (m : (ℓ : Loc Cert.OptKernelIdeal.nD Cert.OptKernelIdeal.τ Cert.OptKernelIdeal.sig) → Buf (Elt Ideal) ℓ) (g : Dev Cert.OptKernelIdeal.nD → PrngReg)
    (m' : (ℓ : Loc Cert.OptRefIdeal.nD Cert.OptRefIdeal.τ Cert.OptRefIdeal.sig) → Buf (Elt Ideal) ℓ) (g' : Dev Cert.OptRefIdeal.nD → PrngReg), Pre_OptKernelIdeal m →
    (∀ c : Dev Cert.OptKernelIdeal.nD,
      m' ((c.tc : Thread Cert.OptRefIdeal.nD Cert.OptRefIdeal.τ).loc Cert.OptRefIdeal.main_arg0) = m ((c.tc : Thread Cert.OptKernelIdeal.nD Cert.OptKernelIdeal.τ).loc Cert.OptKernelIdeal.main_arg0)
      ∧ m' ((c.tc : Thread Cert.OptRefIdeal.nD Cert.OptRefIdeal.τ).loc Cert.OptRefIdeal.main_arg1) = m ((c.tc : Thread Cert.OptKernelIdeal.nD Cert.OptKernelIdeal.τ).loc Cert.OptKernelIdeal.main_arg1)
      ∧ m' ((c.tc : Thread Cert.OptRefIdeal.nD Cert.OptRefIdeal.τ).loc Cert.OptRefIdeal.main_arg2) = m ((c.tc : Thread Cert.OptKernelIdeal.nD Cert.OptKernelIdeal.τ).loc Cert.OptKernelIdeal.main_arg2)
      ∧ m' ((c.tc : Thread Cert.OptRefIdeal.nD Cert.OptRefIdeal.τ).loc Cert.OptRefIdeal.main_arg3) = m ((c.tc : Thread Cert.OptKernelIdeal.nD Cert.OptKernelIdeal.τ).loc Cert.OptKernelIdeal.main_arg3)
      ∧ m' ((c.tc : Thread Cert.OptRefIdeal.nD Cert.OptRefIdeal.τ).loc Cert.OptRefIdeal.main_arg4) = m ((c.tc : Thread Cert.OptKernelIdeal.nD Cert.OptKernelIdeal.τ).loc Cert.OptKernelIdeal.main_arg4)) →
    ∃ (v0 : (c : Dev Cert.OptKernelIdeal.nD) → Buf (Elt Ideal) ((c.tc : Thread Cert.OptKernelIdeal.nD Cert.OptKernelIdeal.τ).loc Cert.OptKernelIdeal.main_v5_0)) (v1 : (c : Dev Cert.OptKernelIdeal.nD) → Buf (Elt Ideal) ((c.tc : Thread Cert.OptKernelIdeal.nD Cert.OptKernelIdeal.τ).loc Cert.OptKernelIdeal.main_v5_1)) (v2 : (c : Dev Cert.OptKernelIdeal.nD) → Buf (Elt Ideal) ((c.tc : Thread Cert.OptKernelIdeal.nD Cert.OptKernelIdeal.τ).loc Cert.OptKernelIdeal.main_v5_2)) (v3 : (c : Dev Cert.OptKernelIdeal.nD) → Buf (Elt Ideal) ((c.tc : Thread Cert.OptKernelIdeal.nD Cert.OptKernelIdeal.τ).loc Cert.OptKernelIdeal.main_v5_3)),
      θ_run (Cert.OptKernelIdeal.defs (F := Ideal)) (onTc (τ := Cert.OptKernelIdeal.τ) (Cert.OptKernelIdeal.main (F := Ideal))) ⟨m, fun _ => 0, g⟩ (fun r => ∀ c : Dev Cert.OptKernelIdeal.nD,
          r.2.mem ((c.tc : Thread Cert.OptKernelIdeal.nD Cert.OptKernelIdeal.τ).loc Cert.OptKernelIdeal.main_v5_0) = v0 c
          ∧ r.2.mem ((c.tc : Thread Cert.OptKernelIdeal.nD Cert.OptKernelIdeal.τ).loc Cert.OptKernelIdeal.main_v5_1) = v1 c
          ∧ r.2.mem ((c.tc : Thread Cert.OptKernelIdeal.nD Cert.OptKernelIdeal.τ).loc Cert.OptKernelIdeal.main_v5_2) = v2 c
          ∧ r.2.mem ((c.tc : Thread Cert.OptKernelIdeal.nD Cert.OptKernelIdeal.τ).loc Cert.OptKernelIdeal.main_v5_3) = v3 c
          ∧ r.2.mem ((c.tc : Thread Cert.OptKernelIdeal.nD Cert.OptKernelIdeal.τ).loc Cert.OptKernelIdeal.main_arg0) = m ((c.tc : Thread Cert.OptKernelIdeal.nD Cert.OptKernelIdeal.τ).loc Cert.OptKernelIdeal.main_arg0)
          ∧ r.2.mem ((c.tc : Thread Cert.OptKernelIdeal.nD Cert.OptKernelIdeal.τ).loc Cert.OptKernelIdeal.main_arg1) = m ((c.tc : Thread Cert.OptKernelIdeal.nD Cert.OptKernelIdeal.τ).loc Cert.OptKernelIdeal.main_arg1)
          ∧ r.2.mem ((c.tc : Thread Cert.OptKernelIdeal.nD Cert.OptKernelIdeal.τ).loc Cert.OptKernelIdeal.main_arg2) = m ((c.tc : Thread Cert.OptKernelIdeal.nD Cert.OptKernelIdeal.τ).loc Cert.OptKernelIdeal.main_arg2)
          ∧ r.2.mem ((c.tc : Thread Cert.OptKernelIdeal.nD Cert.OptKernelIdeal.τ).loc Cert.OptKernelIdeal.main_arg3) = m ((c.tc : Thread Cert.OptKernelIdeal.nD Cert.OptKernelIdeal.τ).loc Cert.OptKernelIdeal.main_arg3)
          ∧ r.2.mem ((c.tc : Thread Cert.OptKernelIdeal.nD Cert.OptKernelIdeal.τ).loc Cert.OptKernelIdeal.main_arg4) = m ((c.tc : Thread Cert.OptKernelIdeal.nD Cert.OptKernelIdeal.τ).loc Cert.OptKernelIdeal.main_arg4))
      ∧ θ_run (Cert.OptRefIdeal.defs (F := Ideal)) (onTc (τ := Cert.OptRefIdeal.τ) (Cert.OptRefIdeal.main (F := Ideal))) ⟨m', fun _ => 0, g'⟩ (fun r => ∀ c : Dev Cert.OptRefIdeal.nD,
          r.2.mem ((c.tc : Thread Cert.OptRefIdeal.nD Cert.OptRefIdeal.τ).loc Cert.OptRefIdeal.main_v29) = v0 c
          ∧ r.2.mem ((c.tc : Thread Cert.OptRefIdeal.nD Cert.OptRefIdeal.τ).loc Cert.OptRefIdeal.main_v30) = v1 c
          ∧ r.2.mem ((c.tc : Thread Cert.OptRefIdeal.nD Cert.OptRefIdeal.τ).loc Cert.OptRefIdeal.main_v31) = v2 c
          ∧ r.2.mem ((c.tc : Thread Cert.OptRefIdeal.nD Cert.OptRefIdeal.τ).loc Cert.OptRefIdeal.main_v32) = v3 c
          ∧ r.2.mem ((c.tc : Thread Cert.OptRefIdeal.nD Cert.OptRefIdeal.τ).loc Cert.OptRefIdeal.main_arg0) = m' ((c.tc : Thread Cert.OptRefIdeal.nD Cert.OptRefIdeal.τ).loc Cert.OptRefIdeal.main_arg0)
          ∧ r.2.mem ((c.tc : Thread Cert.OptRefIdeal.nD Cert.OptRefIdeal.τ).loc Cert.OptRefIdeal.main_arg1) = m' ((c.tc : Thread Cert.OptRefIdeal.nD Cert.OptRefIdeal.τ).loc Cert.OptRefIdeal.main_arg1)
          ∧ r.2.mem ((c.tc : Thread Cert.OptRefIdeal.nD Cert.OptRefIdeal.τ).loc Cert.OptRefIdeal.main_arg2) = m' ((c.tc : Thread Cert.OptRefIdeal.nD Cert.OptRefIdeal.τ).loc Cert.OptRefIdeal.main_arg2)
          ∧ r.2.mem ((c.tc : Thread Cert.OptRefIdeal.nD Cert.OptRefIdeal.τ).loc Cert.OptRefIdeal.main_arg3) = m' ((c.tc : Thread Cert.OptRefIdeal.nD Cert.OptRefIdeal.τ).loc Cert.OptRefIdeal.main_arg3)
          ∧ r.2.mem ((c.tc : Thread Cert.OptRefIdeal.nD Cert.OptRefIdeal.τ).loc Cert.OptRefIdeal.main_arg4) = m' ((c.tc : Thread Cert.OptRefIdeal.nD Cert.OptRefIdeal.τ).loc Cert.OptRefIdeal.main_arg4))

def preserves_PutKernel_PutKernelIdeal : Prop :=
  True

def algebraic_PutKernelIdeal_PutRefIdeal [hPutKernelIdeal : Cert.PutKernelIdeal.Facts] [hPutRefIdeal : Cert.PutRefIdeal.Facts] : Prop :=
  ∀ (m : (ℓ : Loc Cert.PutKernelIdeal.nD Cert.PutKernelIdeal.τ Cert.PutKernelIdeal.sig) → Buf (Elt Ideal) ℓ) (g : Dev Cert.PutKernelIdeal.nD → PrngReg)
    (m' : (ℓ : Loc Cert.PutRefIdeal.nD Cert.PutRefIdeal.τ Cert.PutRefIdeal.sig) → Buf (Elt Ideal) ℓ) (g' : Dev Cert.PutRefIdeal.nD → PrngReg), Pre_PutKernelIdeal m →
    (∀ c : Dev Cert.PutKernelIdeal.nD,
      m' ((c.tc : Thread Cert.PutRefIdeal.nD Cert.PutRefIdeal.τ).loc Cert.PutRefIdeal.main_arg0) = m ((c.tc : Thread Cert.PutKernelIdeal.nD Cert.PutKernelIdeal.τ).loc Cert.PutKernelIdeal.main_arg0)
      ∧ m' ((c.tc : Thread Cert.PutRefIdeal.nD Cert.PutRefIdeal.τ).loc Cert.PutRefIdeal.main_arg1) = m ((c.tc : Thread Cert.PutKernelIdeal.nD Cert.PutKernelIdeal.τ).loc Cert.PutKernelIdeal.main_arg1)) →
    ∃ (v0 : (c : Dev Cert.PutKernelIdeal.nD) → Buf (Elt Ideal) ((c.tc : Thread Cert.PutKernelIdeal.nD Cert.PutKernelIdeal.τ).loc Cert.PutKernelIdeal.main_v3)),
      θ_run (Cert.PutKernelIdeal.defs (F := Ideal)) (onTc (τ := Cert.PutKernelIdeal.τ) (Cert.PutKernelIdeal.main (F := Ideal))) ⟨m, fun _ => 0, g⟩ (fun r => ∀ c : Dev Cert.PutKernelIdeal.nD,
          r.2.mem ((c.tc : Thread Cert.PutKernelIdeal.nD Cert.PutKernelIdeal.τ).loc Cert.PutKernelIdeal.main_v3) = v0 c
          ∧ r.2.mem ((c.tc : Thread Cert.PutKernelIdeal.nD Cert.PutKernelIdeal.τ).loc Cert.PutKernelIdeal.main_arg0) = m ((c.tc : Thread Cert.PutKernelIdeal.nD Cert.PutKernelIdeal.τ).loc Cert.PutKernelIdeal.main_arg0)
          ∧ r.2.mem ((c.tc : Thread Cert.PutKernelIdeal.nD Cert.PutKernelIdeal.τ).loc Cert.PutKernelIdeal.main_arg1) = m ((c.tc : Thread Cert.PutKernelIdeal.nD Cert.PutKernelIdeal.τ).loc Cert.PutKernelIdeal.main_arg1))
      ∧ θ_run (Cert.PutRefIdeal.defs (F := Ideal)) (onTc (τ := Cert.PutRefIdeal.τ) (Cert.PutRefIdeal.main (F := Ideal))) ⟨m', fun _ => 0, g'⟩ (fun r => ∀ c : Dev Cert.PutRefIdeal.nD,
          r.2.mem ((c.tc : Thread Cert.PutRefIdeal.nD Cert.PutRefIdeal.τ).loc Cert.PutRefIdeal.main_v3) = v0 c
          ∧ r.2.mem ((c.tc : Thread Cert.PutRefIdeal.nD Cert.PutRefIdeal.τ).loc Cert.PutRefIdeal.main_arg0) = m' ((c.tc : Thread Cert.PutRefIdeal.nD Cert.PutRefIdeal.τ).loc Cert.PutRefIdeal.main_arg0)
          ∧ r.2.mem ((c.tc : Thread Cert.PutRefIdeal.nD Cert.PutRefIdeal.τ).loc Cert.PutRefIdeal.main_arg1) = m' ((c.tc : Thread Cert.PutRefIdeal.nD Cert.PutRefIdeal.τ).loc Cert.PutRefIdeal.main_arg1))

def preserves_StkKernel_StkKernelIdeal : Prop :=
  True

def algebraic_StkKernelIdeal_StkRefIdeal [hStkKernelIdeal : Cert.StkKernelIdeal.Facts] [hStkRefIdeal : Cert.StkRefIdeal.Facts] : Prop :=
  ∀ (m : (ℓ : Loc Cert.StkKernelIdeal.nD Cert.StkKernelIdeal.τ Cert.StkKernelIdeal.sig) → Buf (Elt Ideal) ℓ) (g : Dev Cert.StkKernelIdeal.nD → PrngReg)
    (m' : (ℓ : Loc Cert.StkRefIdeal.nD Cert.StkRefIdeal.τ Cert.StkRefIdeal.sig) → Buf (Elt Ideal) ℓ) (g' : Dev Cert.StkRefIdeal.nD → PrngReg), Pre_StkKernelIdeal m →
    (∀ c : Dev Cert.StkKernelIdeal.nD,
      m' ((c.tc : Thread Cert.StkRefIdeal.nD Cert.StkRefIdeal.τ).loc Cert.StkRefIdeal.main_arg0) = m ((c.tc : Thread Cert.StkKernelIdeal.nD Cert.StkKernelIdeal.τ).loc Cert.StkKernelIdeal.main_arg0)) →
    ∃ (v0 : (c : Dev Cert.StkKernelIdeal.nD) → Buf (Elt Ideal) ((c.tc : Thread Cert.StkKernelIdeal.nD Cert.StkKernelIdeal.τ).loc Cert.StkKernelIdeal.main_v1)),
      θ_run (Cert.StkKernelIdeal.defs (F := Ideal)) (onTc (τ := Cert.StkKernelIdeal.τ) (Cert.StkKernelIdeal.main (F := Ideal))) ⟨m, fun _ => 0, g⟩ (fun r => ∀ c : Dev Cert.StkKernelIdeal.nD,
          r.2.mem ((c.tc : Thread Cert.StkKernelIdeal.nD Cert.StkKernelIdeal.τ).loc Cert.StkKernelIdeal.main_v1) = v0 c
          ∧ r.2.mem ((c.tc : Thread Cert.StkKernelIdeal.nD Cert.StkKernelIdeal.τ).loc Cert.StkKernelIdeal.main_arg0) = m ((c.tc : Thread Cert.StkKernelIdeal.nD Cert.StkKernelIdeal.τ).loc Cert.StkKernelIdeal.main_arg0))
      ∧ θ_run (Cert.StkRefIdeal.defs (F := Ideal)) (onTc (τ := Cert.StkRefIdeal.τ) (Cert.StkRefIdeal.main (F := Ideal))) ⟨m', fun _ => 0, g'⟩ (fun r => ∀ c : Dev Cert.StkRefIdeal.nD,
          r.2.mem ((c.tc : Thread Cert.StkRefIdeal.nD Cert.StkRefIdeal.τ).loc Cert.StkRefIdeal.main_v3) = v0 c
          ∧ r.2.mem ((c.tc : Thread Cert.StkRefIdeal.nD Cert.StkRefIdeal.τ).loc Cert.StkRefIdeal.main_arg0) = m' ((c.tc : Thread Cert.StkRefIdeal.nD Cert.StkRefIdeal.τ).loc Cert.StkRefIdeal.main_arg0))

def preserves_UnsKernel_UnsKernelIdeal : Prop :=
  True

def algebraic_UnsKernelIdeal_UnsRefIdeal [hUnsKernelIdeal : Cert.UnsKernelIdeal.Facts] [hUnsRefIdeal : Cert.UnsRefIdeal.Facts] : Prop :=
  ∀ (m : (ℓ : Loc Cert.UnsKernelIdeal.nD Cert.UnsKernelIdeal.τ Cert.UnsKernelIdeal.sig) → Buf (Elt Ideal) ℓ) (g : Dev Cert.UnsKernelIdeal.nD → PrngReg)
    (m' : (ℓ : Loc Cert.UnsRefIdeal.nD Cert.UnsRefIdeal.τ Cert.UnsRefIdeal.sig) → Buf (Elt Ideal) ℓ) (g' : Dev Cert.UnsRefIdeal.nD → PrngReg), Pre_UnsKernelIdeal m →
    (∀ c : Dev Cert.UnsKernelIdeal.nD,
      m' ((c.tc : Thread Cert.UnsRefIdeal.nD Cert.UnsRefIdeal.τ).loc Cert.UnsRefIdeal.main_arg0) = m ((c.tc : Thread Cert.UnsKernelIdeal.nD Cert.UnsKernelIdeal.τ).loc Cert.UnsKernelIdeal.main_arg0)) →
    ∃ (v0 : (c : Dev Cert.UnsKernelIdeal.nD) → Buf (Elt Ideal) ((c.tc : Thread Cert.UnsKernelIdeal.nD Cert.UnsKernelIdeal.τ).loc Cert.UnsKernelIdeal.main_v1)),
      θ_run (Cert.UnsKernelIdeal.defs (F := Ideal)) (onTc (τ := Cert.UnsKernelIdeal.τ) (Cert.UnsKernelIdeal.main (F := Ideal))) ⟨m, fun _ => 0, g⟩ (fun r => ∀ c : Dev Cert.UnsKernelIdeal.nD,
          r.2.mem ((c.tc : Thread Cert.UnsKernelIdeal.nD Cert.UnsKernelIdeal.τ).loc Cert.UnsKernelIdeal.main_v1) = v0 c
          ∧ r.2.mem ((c.tc : Thread Cert.UnsKernelIdeal.nD Cert.UnsKernelIdeal.τ).loc Cert.UnsKernelIdeal.main_arg0) = m ((c.tc : Thread Cert.UnsKernelIdeal.nD Cert.UnsKernelIdeal.τ).loc Cert.UnsKernelIdeal.main_arg0))
      ∧ θ_run (Cert.UnsRefIdeal.defs (F := Ideal)) (onTc (τ := Cert.UnsRefIdeal.τ) (Cert.UnsRefIdeal.main (F := Ideal))) ⟨m', fun _ => 0, g'⟩ (fun r => ∀ c : Dev Cert.UnsRefIdeal.nD,
          r.2.mem ((c.tc : Thread Cert.UnsRefIdeal.nD Cert.UnsRefIdeal.τ).loc Cert.UnsRefIdeal.main_v2) = v0 c
          ∧ r.2.mem ((c.tc : Thread Cert.UnsRefIdeal.nD Cert.UnsRefIdeal.τ).loc Cert.UnsRefIdeal.main_arg0) = m' ((c.tc : Thread Cert.UnsRefIdeal.nD Cert.UnsRefIdeal.τ).loc Cert.UnsRefIdeal.main_arg0))

def Claim : Prop :=
  ∃ (hLossKernel : Cert.LossKernel.Facts) (hLossKernelIdeal : Cert.LossKernelIdeal.Facts) (hLossRefIdeal : Cert.LossRefIdeal.Facts) (hGateKernel : Cert.GateKernel.Facts) (hGateKernelIdeal : Cert.GateKernelIdeal.Facts) (hGateRefIdeal : Cert.GateRefIdeal.Facts) (hConvKernel : Cert.ConvKernel.Facts) (hConvKernelIdeal : Cert.ConvKernelIdeal.Facts) (hConvRefIdeal : Cert.ConvRefIdeal.Facts) (hSiluKernel : Cert.SiluKernel.Facts) (hSiluKernelIdeal : Cert.SiluKernelIdeal.Facts) (hSiluRefIdeal : Cert.SiluRefIdeal.Facts) (hXbcKernel : Cert.XbcKernel.Facts) (hXbcKernelIdeal : Cert.XbcKernelIdeal.Facts) (hXbcRefIdeal : Cert.XbcRefIdeal.Facts) (hQKernel : Cert.QKernel.Facts) (hQKernelIdeal : Cert.QKernelIdeal.Facts) (hQRefIdeal : Cert.QRefIdeal.Facts) (hSbaKernel : Cert.SbaKernel.Facts) (hSbaKernelIdeal : Cert.SbaKernelIdeal.Facts) (hSbaRefIdeal : Cert.SbaRefIdeal.Facts) (hKvKernel : Cert.KvKernel.Facts) (hKvKernelIdeal : Cert.KvKernelIdeal.Facts) (hKvRefIdeal : Cert.KvRefIdeal.Facts) (hUpKernel : Cert.UpKernel.Facts) (hUpKernelIdeal : Cert.UpKernelIdeal.Facts) (hUpRefIdeal : Cert.UpRefIdeal.Facts) (hInKernel : Cert.InKernel.Facts) (hInKernelIdeal : Cert.InKernelIdeal.Facts) (hInRefIdeal : Cert.InRefIdeal.Facts) (hQwKernel : Cert.QwKernel.Facts) (hQwKernelIdeal : Cert.QwKernelIdeal.Facts) (hQwRefIdeal : Cert.QwRefIdeal.Facts) (hKvwKernel : Cert.KvwKernel.Facts) (hKvwKernelIdeal : Cert.KvwKernelIdeal.Facts) (hKvwRefIdeal : Cert.KvwRefIdeal.Facts) (hUpwKernel : Cert.UpwKernel.Facts) (hUpwKernelIdeal : Cert.UpwKernelIdeal.Facts) (hUpwRefIdeal : Cert.UpwRefIdeal.Facts) (hInwKernel : Cert.InwKernel.Facts) (hInwKernelIdeal : Cert.InwKernelIdeal.Facts) (hInwRefIdeal : Cert.InwRefIdeal.Facts) (hSbfKernel : Cert.SbfKernel.Facts) (hSbfKernelIdeal : Cert.SbfKernelIdeal.Facts) (hSbfRefIdeal : Cert.SbfRefIdeal.Facts) (hSsdKernel : Cert.SsdKernel.Facts) (hSsdKernelIdeal : Cert.SsdKernelIdeal.Facts) (hSsdRefIdeal : Cert.SsdRefIdeal.Facts) (hActKernel : Cert.ActKernel.Facts) (hActKernelIdeal : Cert.ActKernelIdeal.Facts) (hActRefIdeal : Cert.ActRefIdeal.Facts) (hFfnKernel : Cert.FfnKernel.Facts) (hFfnKernelIdeal : Cert.FfnKernelIdeal.Facts) (hFfnRefIdeal : Cert.FfnRefIdeal.Facts) (hNqKernel : Cert.NqKernel.Facts) (hNqKernelIdeal : Cert.NqKernelIdeal.Facts) (hNqRefIdeal : Cert.NqRefIdeal.Facts) (hNupKernel : Cert.NupKernel.Facts) (hNupKernelIdeal : Cert.NupKernelIdeal.Facts) (hNupRefIdeal : Cert.NupRefIdeal.Facts) (hNinKernel : Cert.NinKernel.Facts) (hNinKernelIdeal : Cert.NinKernelIdeal.Facts) (hNinRefIdeal : Cert.NinRefIdeal.Facts) (hDnKernel : Cert.DnKernel.Facts) (hDnKernelIdeal : Cert.DnKernelIdeal.Facts) (hDnRefIdeal : Cert.DnRefIdeal.Facts) (hDdKernel : Cert.DdKernel.Facts) (hDdKernelIdeal : Cert.DdKernelIdeal.Facts) (hDdRefIdeal : Cert.DdRefIdeal.Facts) (hDwKernel : Cert.DwKernel.Facts) (hDwKernelIdeal : Cert.DwKernelIdeal.Facts) (hDwRefIdeal : Cert.DwRefIdeal.Facts) (hOptKernel : Cert.OptKernel.Facts) (hOptKernelIdeal : Cert.OptKernelIdeal.Facts) (hOptRefIdeal : Cert.OptRefIdeal.Facts) (hPutKernel : Cert.PutKernel.Facts) (hPutKernelIdeal : Cert.PutKernelIdeal.Facts) (hPutRefIdeal : Cert.PutRefIdeal.Facts) (hStkKernel : Cert.StkKernel.Facts) (hStkKernelIdeal : Cert.StkKernelIdeal.Facts) (hStkRefIdeal : Cert.StkRefIdeal.Facts) (hUnsKernel : Cert.UnsKernel.Facts) (hUnsKernelIdeal : Cert.UnsKernelIdeal.Facts) (hUnsRefIdeal : Cert.UnsRefIdeal.Facts) (hPre_loss_finite : Cert.Pre_loss_finite.Facts) (hPre_gate_finite : Cert.Pre_gate_finite.Facts) (hPre_silu_finite : Cert.Pre_silu_finite.Facts) (hPre_q_finite : Cert.Pre_q_finite.Facts) (hPre_sba_finite : Cert.Pre_sba_finite.Facts) (hPre_kv_finite : Cert.Pre_kv_finite.Facts) (hPre_up_finite : Cert.Pre_up_finite.Facts) (hPre_in_finite : Cert.Pre_in_finite.Facts) (hPre_sbf_finite : Cert.Pre_sbf_finite.Facts) (hPre_ssd_finite : Cert.Pre_ssd_finite.Facts),
    quiescent_LossKernel (hLossKernel := hLossKernel)
    ∧ quiescent_LossKernelIdeal (hLossKernelIdeal := hLossKernelIdeal)
    ∧ quiescent_LossKernelIdeal_pre_loss_finite (hLossKernelIdeal := hLossKernelIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_GateKernel (hGateKernel := hGateKernel)
    ∧ quiescent_GateKernelIdeal (hGateKernelIdeal := hGateKernelIdeal)
    ∧ quiescent_GateKernelIdeal_pre_gate_finite (hGateKernelIdeal := hGateKernelIdeal) (hPre_gate_finite := hPre_gate_finite)
    ∧ quiescent_GateRefIdeal (hGateRefIdeal := hGateRefIdeal)
    ∧ quiescent_GateRefIdeal_pre_gate_finite (hGateRefIdeal := hGateRefIdeal) (hPre_gate_finite := hPre_gate_finite)
    ∧ quiescent_ConvKernel (hConvKernel := hConvKernel)
    ∧ quiescent_ConvKernelIdeal (hConvKernelIdeal := hConvKernelIdeal)
    ∧ quiescent_ConvRefIdeal (hConvRefIdeal := hConvRefIdeal)
    ∧ quiescent_SiluKernel (hSiluKernel := hSiluKernel)
    ∧ quiescent_SiluKernelIdeal (hSiluKernelIdeal := hSiluKernelIdeal)
    ∧ quiescent_SiluKernelIdeal_pre_silu_finite (hSiluKernelIdeal := hSiluKernelIdeal) (hPre_silu_finite := hPre_silu_finite)
    ∧ quiescent_SiluRefIdeal (hSiluRefIdeal := hSiluRefIdeal)
    ∧ quiescent_SiluRefIdeal_pre_silu_finite (hSiluRefIdeal := hSiluRefIdeal) (hPre_silu_finite := hPre_silu_finite)
    ∧ quiescent_XbcKernel (hXbcKernel := hXbcKernel)
    ∧ quiescent_XbcKernelIdeal (hXbcKernelIdeal := hXbcKernelIdeal)
    ∧ quiescent_XbcRefIdeal (hXbcRefIdeal := hXbcRefIdeal)
    ∧ quiescent_QKernel (hQKernel := hQKernel)
    ∧ quiescent_QKernelIdeal (hQKernelIdeal := hQKernelIdeal)
    ∧ quiescent_QKernelIdeal_pre_q_finite (hQKernelIdeal := hQKernelIdeal) (hPre_q_finite := hPre_q_finite)
    ∧ quiescent_QRefIdeal (hQRefIdeal := hQRefIdeal)
    ∧ quiescent_QRefIdeal_pre_q_finite (hQRefIdeal := hQRefIdeal) (hPre_q_finite := hPre_q_finite)
    ∧ quiescent_SbaKernel (hSbaKernel := hSbaKernel)
    ∧ quiescent_SbaKernelIdeal (hSbaKernelIdeal := hSbaKernelIdeal)
    ∧ quiescent_SbaKernelIdeal_pre_sba_finite (hSbaKernelIdeal := hSbaKernelIdeal) (hPre_sba_finite := hPre_sba_finite)
    ∧ quiescent_SbaRefIdeal (hSbaRefIdeal := hSbaRefIdeal)
    ∧ quiescent_SbaRefIdeal_pre_sba_finite (hSbaRefIdeal := hSbaRefIdeal) (hPre_sba_finite := hPre_sba_finite)
    ∧ quiescent_KvKernel (hKvKernel := hKvKernel)
    ∧ quiescent_KvKernelIdeal (hKvKernelIdeal := hKvKernelIdeal)
    ∧ quiescent_KvKernelIdeal_pre_kv_finite (hKvKernelIdeal := hKvKernelIdeal) (hPre_kv_finite := hPre_kv_finite)
    ∧ quiescent_KvRefIdeal (hKvRefIdeal := hKvRefIdeal)
    ∧ quiescent_KvRefIdeal_pre_kv_finite (hKvRefIdeal := hKvRefIdeal) (hPre_kv_finite := hPre_kv_finite)
    ∧ quiescent_UpKernel (hUpKernel := hUpKernel)
    ∧ quiescent_UpKernelIdeal (hUpKernelIdeal := hUpKernelIdeal)
    ∧ quiescent_UpKernelIdeal_pre_up_finite (hUpKernelIdeal := hUpKernelIdeal) (hPre_up_finite := hPre_up_finite)
    ∧ quiescent_UpRefIdeal (hUpRefIdeal := hUpRefIdeal)
    ∧ quiescent_UpRefIdeal_pre_up_finite (hUpRefIdeal := hUpRefIdeal) (hPre_up_finite := hPre_up_finite)
    ∧ quiescent_InKernel (hInKernel := hInKernel)
    ∧ quiescent_InKernelIdeal (hInKernelIdeal := hInKernelIdeal)
    ∧ quiescent_InKernelIdeal_pre_in_finite (hInKernelIdeal := hInKernelIdeal) (hPre_in_finite := hPre_in_finite)
    ∧ quiescent_InRefIdeal (hInRefIdeal := hInRefIdeal)
    ∧ quiescent_InRefIdeal_pre_in_finite (hInRefIdeal := hInRefIdeal) (hPre_in_finite := hPre_in_finite)
    ∧ quiescent_QwKernel (hQwKernel := hQwKernel)
    ∧ quiescent_QwKernelIdeal (hQwKernelIdeal := hQwKernelIdeal)
    ∧ quiescent_QwRefIdeal (hQwRefIdeal := hQwRefIdeal)
    ∧ quiescent_KvwKernel (hKvwKernel := hKvwKernel)
    ∧ quiescent_KvwKernelIdeal (hKvwKernelIdeal := hKvwKernelIdeal)
    ∧ quiescent_KvwRefIdeal (hKvwRefIdeal := hKvwRefIdeal)
    ∧ quiescent_UpwKernel (hUpwKernel := hUpwKernel)
    ∧ quiescent_UpwKernelIdeal (hUpwKernelIdeal := hUpwKernelIdeal)
    ∧ quiescent_UpwRefIdeal (hUpwRefIdeal := hUpwRefIdeal)
    ∧ quiescent_InwKernel (hInwKernel := hInwKernel)
    ∧ quiescent_InwKernelIdeal (hInwKernelIdeal := hInwKernelIdeal)
    ∧ quiescent_InwRefIdeal (hInwRefIdeal := hInwRefIdeal)
    ∧ quiescent_SbfKernel (hSbfKernel := hSbfKernel)
    ∧ quiescent_SbfKernelIdeal (hSbfKernelIdeal := hSbfKernelIdeal)
    ∧ quiescent_SbfKernelIdeal_pre_sbf_finite (hSbfKernelIdeal := hSbfKernelIdeal) (hPre_sbf_finite := hPre_sbf_finite)
    ∧ quiescent_SbfRefIdeal (hSbfRefIdeal := hSbfRefIdeal)
    ∧ quiescent_SbfRefIdeal_pre_sbf_finite (hSbfRefIdeal := hSbfRefIdeal) (hPre_sbf_finite := hPre_sbf_finite)
    ∧ quiescent_SsdKernel (hSsdKernel := hSsdKernel)
    ∧ quiescent_SsdKernelIdeal (hSsdKernelIdeal := hSsdKernelIdeal)
    ∧ quiescent_SsdKernelIdeal_pre_ssd_finite (hSsdKernelIdeal := hSsdKernelIdeal) (hPre_ssd_finite := hPre_ssd_finite)
    ∧ quiescent_SsdRefIdeal (hSsdRefIdeal := hSsdRefIdeal)
    ∧ quiescent_SsdRefIdeal_pre_ssd_finite (hSsdRefIdeal := hSsdRefIdeal) (hPre_ssd_finite := hPre_ssd_finite)
    ∧ quiescent_ActKernel (hActKernel := hActKernel)
    ∧ quiescent_ActKernelIdeal (hActKernelIdeal := hActKernelIdeal)
    ∧ quiescent_ActRefIdeal (hActRefIdeal := hActRefIdeal)
    ∧ quiescent_FfnKernel (hFfnKernel := hFfnKernel)
    ∧ quiescent_FfnKernelIdeal (hFfnKernelIdeal := hFfnKernelIdeal)
    ∧ quiescent_FfnRefIdeal (hFfnRefIdeal := hFfnRefIdeal)
    ∧ quiescent_NqKernel (hNqKernel := hNqKernel)
    ∧ quiescent_NqKernelIdeal (hNqKernelIdeal := hNqKernelIdeal)
    ∧ quiescent_NqRefIdeal (hNqRefIdeal := hNqRefIdeal)
    ∧ quiescent_NupKernel (hNupKernel := hNupKernel)
    ∧ quiescent_NupKernelIdeal (hNupKernelIdeal := hNupKernelIdeal)
    ∧ quiescent_NupRefIdeal (hNupRefIdeal := hNupRefIdeal)
    ∧ quiescent_NinKernel (hNinKernel := hNinKernel)
    ∧ quiescent_NinKernelIdeal (hNinKernelIdeal := hNinKernelIdeal)
    ∧ quiescent_NinRefIdeal (hNinRefIdeal := hNinRefIdeal)
    ∧ quiescent_DnKernel (hDnKernel := hDnKernel)
    ∧ quiescent_DnKernelIdeal (hDnKernelIdeal := hDnKernelIdeal)
    ∧ quiescent_DnRefIdeal (hDnRefIdeal := hDnRefIdeal)
    ∧ quiescent_DdKernel (hDdKernel := hDdKernel)
    ∧ quiescent_DdKernelIdeal (hDdKernelIdeal := hDdKernelIdeal)
    ∧ quiescent_DdRefIdeal (hDdRefIdeal := hDdRefIdeal)
    ∧ quiescent_DwKernel (hDwKernel := hDwKernel)
    ∧ quiescent_DwKernelIdeal (hDwKernelIdeal := hDwKernelIdeal)
    ∧ quiescent_DwRefIdeal (hDwRefIdeal := hDwRefIdeal)
    ∧ quiescent_OptKernel (hOptKernel := hOptKernel)
    ∧ quiescent_OptKernelIdeal (hOptKernelIdeal := hOptKernelIdeal)
    ∧ quiescent_OptRefIdeal (hOptRefIdeal := hOptRefIdeal)
    ∧ quiescent_PutKernel (hPutKernel := hPutKernel)
    ∧ quiescent_PutKernelIdeal (hPutKernelIdeal := hPutKernelIdeal)
    ∧ quiescent_PutRefIdeal (hPutRefIdeal := hPutRefIdeal)
    ∧ quiescent_StkKernel (hStkKernel := hStkKernel)
    ∧ quiescent_StkKernelIdeal (hStkKernelIdeal := hStkKernelIdeal)
    ∧ quiescent_StkRefIdeal (hStkRefIdeal := hStkRefIdeal)
    ∧ quiescent_UnsKernel (hUnsKernel := hUnsKernel)
    ∧ quiescent_UnsKernelIdeal (hUnsKernelIdeal := hUnsKernelIdeal)
    ∧ quiescent_UnsRefIdeal (hUnsRefIdeal := hUnsRefIdeal)
    ∧ preserves_LossKernel_LossKernelIdeal
    ∧ algebraic_LossKernelIdeal_LossRefIdeal_pre_loss_finite (hLossKernelIdeal := hLossKernelIdeal) (hLossRefIdeal := hLossRefIdeal) (hPre_loss_finite := hPre_loss_finite)
    ∧ preserves_GateKernel_GateKernelIdeal
    ∧ algebraic_GateKernelIdeal_GateRefIdeal_pre_gate_finite (hGateKernelIdeal := hGateKernelIdeal) (hGateRefIdeal := hGateRefIdeal) (hPre_gate_finite := hPre_gate_finite)
    ∧ preserves_ConvKernel_ConvKernelIdeal
    ∧ algebraic_ConvKernelIdeal_ConvRefIdeal (hConvKernelIdeal := hConvKernelIdeal) (hConvRefIdeal := hConvRefIdeal)
    ∧ preserves_SiluKernel_SiluKernelIdeal
    ∧ algebraic_SiluKernelIdeal_SiluRefIdeal_pre_silu_finite (hSiluKernelIdeal := hSiluKernelIdeal) (hSiluRefIdeal := hSiluRefIdeal) (hPre_silu_finite := hPre_silu_finite)
    ∧ preserves_XbcKernel_XbcKernelIdeal
    ∧ algebraic_XbcKernelIdeal_XbcRefIdeal (hXbcKernelIdeal := hXbcKernelIdeal) (hXbcRefIdeal := hXbcRefIdeal)
    ∧ preserves_QKernel_QKernelIdeal
    ∧ algebraic_QKernelIdeal_QRefIdeal_pre_q_finite (hQKernelIdeal := hQKernelIdeal) (hQRefIdeal := hQRefIdeal) (hPre_q_finite := hPre_q_finite)
    ∧ preserves_SbaKernel_SbaKernelIdeal
    ∧ algebraic_SbaKernelIdeal_SbaRefIdeal_pre_sba_finite (hSbaKernelIdeal := hSbaKernelIdeal) (hSbaRefIdeal := hSbaRefIdeal) (hPre_sba_finite := hPre_sba_finite)
    ∧ preserves_KvKernel_KvKernelIdeal
    ∧ algebraic_KvKernelIdeal_KvRefIdeal_pre_kv_finite (hKvKernelIdeal := hKvKernelIdeal) (hKvRefIdeal := hKvRefIdeal) (hPre_kv_finite := hPre_kv_finite)
    ∧ preserves_UpKernel_UpKernelIdeal
    ∧ algebraic_UpKernelIdeal_UpRefIdeal_pre_up_finite (hUpKernelIdeal := hUpKernelIdeal) (hUpRefIdeal := hUpRefIdeal) (hPre_up_finite := hPre_up_finite)
    ∧ preserves_InKernel_InKernelIdeal
    ∧ algebraic_InKernelIdeal_InRefIdeal_pre_in_finite (hInKernelIdeal := hInKernelIdeal) (hInRefIdeal := hInRefIdeal) (hPre_in_finite := hPre_in_finite)
    ∧ preserves_QwKernel_QwKernelIdeal
    ∧ algebraic_QwKernelIdeal_QwRefIdeal (hQwKernelIdeal := hQwKernelIdeal) (hQwRefIdeal := hQwRefIdeal)
    ∧ preserves_KvwKernel_KvwKernelIdeal
    ∧ algebraic_KvwKernelIdeal_KvwRefIdeal (hKvwKernelIdeal := hKvwKernelIdeal) (hKvwRefIdeal := hKvwRefIdeal)
    ∧ preserves_UpwKernel_UpwKernelIdeal
    ∧ algebraic_UpwKernelIdeal_UpwRefIdeal (hUpwKernelIdeal := hUpwKernelIdeal) (hUpwRefIdeal := hUpwRefIdeal)
    ∧ preserves_InwKernel_InwKernelIdeal
    ∧ algebraic_InwKernelIdeal_InwRefIdeal (hInwKernelIdeal := hInwKernelIdeal) (hInwRefIdeal := hInwRefIdeal)
    ∧ preserves_SbfKernel_SbfKernelIdeal
    ∧ algebraic_SbfKernelIdeal_SbfRefIdeal_pre_sbf_finite (hSbfKernelIdeal := hSbfKernelIdeal) (hSbfRefIdeal := hSbfRefIdeal) (hPre_sbf_finite := hPre_sbf_finite)
    ∧ preserves_SsdKernel_SsdKernelIdeal
    ∧ algebraic_SsdKernelIdeal_SsdRefIdeal_pre_ssd_finite (hSsdKernelIdeal := hSsdKernelIdeal) (hSsdRefIdeal := hSsdRefIdeal) (hPre_ssd_finite := hPre_ssd_finite)
    ∧ preserves_ActKernel_ActKernelIdeal
    ∧ algebraic_ActKernelIdeal_ActRefIdeal (hActKernelIdeal := hActKernelIdeal) (hActRefIdeal := hActRefIdeal)
    ∧ preserves_FfnKernel_FfnKernelIdeal
    ∧ algebraic_FfnKernelIdeal_FfnRefIdeal (hFfnKernelIdeal := hFfnKernelIdeal) (hFfnRefIdeal := hFfnRefIdeal)
    ∧ preserves_NqKernel_NqKernelIdeal
    ∧ algebraic_NqKernelIdeal_NqRefIdeal (hNqKernelIdeal := hNqKernelIdeal) (hNqRefIdeal := hNqRefIdeal)
    ∧ preserves_NupKernel_NupKernelIdeal
    ∧ algebraic_NupKernelIdeal_NupRefIdeal (hNupKernelIdeal := hNupKernelIdeal) (hNupRefIdeal := hNupRefIdeal)
    ∧ preserves_NinKernel_NinKernelIdeal
    ∧ algebraic_NinKernelIdeal_NinRefIdeal (hNinKernelIdeal := hNinKernelIdeal) (hNinRefIdeal := hNinRefIdeal)
    ∧ preserves_DnKernel_DnKernelIdeal
    ∧ algebraic_DnKernelIdeal_DnRefIdeal (hDnKernelIdeal := hDnKernelIdeal) (hDnRefIdeal := hDnRefIdeal)
    ∧ preserves_DdKernel_DdKernelIdeal
    ∧ algebraic_DdKernelIdeal_DdRefIdeal (hDdKernelIdeal := hDdKernelIdeal) (hDdRefIdeal := hDdRefIdeal)
    ∧ preserves_DwKernel_DwKernelIdeal
    ∧ algebraic_DwKernelIdeal_DwRefIdeal (hDwKernelIdeal := hDwKernelIdeal) (hDwRefIdeal := hDwRefIdeal)
    ∧ preserves_OptKernel_OptKernelIdeal
    ∧ algebraic_OptKernelIdeal_OptRefIdeal (hOptKernelIdeal := hOptKernelIdeal) (hOptRefIdeal := hOptRefIdeal)
    ∧ preserves_PutKernel_PutKernelIdeal
    ∧ algebraic_PutKernelIdeal_PutRefIdeal (hPutKernelIdeal := hPutKernelIdeal) (hPutRefIdeal := hPutRefIdeal)
    ∧ preserves_StkKernel_StkKernelIdeal
    ∧ algebraic_StkKernelIdeal_StkRefIdeal (hStkKernelIdeal := hStkKernelIdeal) (hStkRefIdeal := hStkRefIdeal)
    ∧ preserves_UnsKernel_UnsKernelIdeal
    ∧ algebraic_UnsKernelIdeal_UnsRefIdeal (hUnsKernelIdeal := hUnsKernelIdeal) (hUnsRefIdeal := hUnsRefIdeal)
-- ==== Pre_gate_finite.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩

class Facts : Prop where
  bcast_S_S4096x5632 : S_.BroadcastsInDim S4096x5632 (![] : Fin 0 → Fin S4096x5632.rank)
  bcast_S_S3x5632 : S_.BroadcastsInDim S3x5632 (![] : Fin 0 → Fin S3x5632.rank)
  bcast_S_S5632 : S_.BroadcastsInDim S5632 (![] : Fin 0 → Fin S5632.rank)
  bcast_S_S4096x2816 : S_.BroadcastsInDim S4096x2816 (![] : Fin 0 → Fin S4096x2816.rank)

variable [Facts]

def fn {F : FTy → Type} [FloatOps F] (main_arg0 : FVec F S4096x5632 .f32) (main_arg1 : FVec F S3x5632 .f32) (main_arg2 : FVec F S5632 .f32) (main_arg3 : FVec F S4096x2816 .f32) : IVec S4096x5632 1 × IVec S3x5632 1 × IVec S5632 1 × IVec S4096x2816 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S4096x2816 .f32 := Host.absf main_arg3
  let main_cst_2 : FVec F S_ .f32 := constant S_ .f32 0x7F800000#32
  let main_v10 : FVec F S4096x2816 .f32 := broadcastInDim S4096x2816 ![] bcast_S_S4096x2816 main_cst_2
  let main_v11 : IVec S4096x2816 1 := cmpf .olt main_v9 main_v10
  (main_v2, main_v5, main_v8, main_v11)
-- ==== Pre_in_finite.lean ====
abbrev S4096x5152 : Shape := ⟨2, ![4096, 5152]⟩
abbrev S1024x5152 : Shape := ⟨2, ![1024, 5152]⟩
abbrev S4096x1024 : Shape := ⟨2, ![4096, 1024]⟩
abbrev S1024 : Shape := ⟨1, ![1024]⟩
abbrev S_ : Shape := ⟨0, ![]⟩

class Facts : Prop where
  bcast_S_S4096x5152 : S_.BroadcastsInDim S4096x5152 (![] : Fin 0 → Fin S4096x5152.rank)
  bcast_S_S1024x5152 : S_.BroadcastsInDim S1024x5152 (![] : Fin 0 → Fin S1024x5152.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x5152 .f32) (main_arg1 : FVec F S1024x5152 .f32) (main_arg2 : FVec F S4096x1024 .f32) (main_arg3 : FVec F S1024 .f32) (main_arg4 : FVec F S4096x1024 .f32) : IVec S4096x5152 1 × IVec S1024x5152 1 × IVec S4096x1024 1 × IVec S1024 1 :=
  let main_v0 : FVec F S4096x5152 .f32 := Host.absf main_arg0
  let main_cst : FVec F S_ .f32 := constant S_ .f32 0x7F800000#32
  let main_v1 : FVec F S4096x5152 .f32 := broadcastInDim S4096x5152 ![] bcast_S_S4096x5152 main_cst
  let main_v2 : IVec S4096x5152 1 := cmpf .olt main_v0 main_v1
  let main_v3 : FVec F S1024x5152 .f32 := Host.absf main_arg1
  let main_cst_0 : FVec F S_ .f32 := constant S_ .f32 0x7F800000#32
  let main_v4 : FVec F S1024x5152 .f32 := broadcastInDim S1024x5152 ![] bcast_S_S1024x5152 main_cst_0
  let main_v5 : IVec S1024x5152 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_kv_finite.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024x1024 .f32) (main_arg3 : FVec F S1024x1024 .f32) (main_arg4 : FVec F S4096x1024 .f32) (main_arg5 : FVec F S1024 .f32) (main_arg6 : FVec F S4096x1024 .f32) : IVec S4096x1024 1 × IVec S4096x1024 1 × IVec S1024x1024 1 × IVec S1024x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024x1024 .f32 := Host.absf main_arg2
  let main_cst_1 : FVec F S_ .f32 := constant S_ .f32 0x7F800000#32
  let main_v7 : FVec F S1024x1024 .f32 := broadcastInDim S1024x1024 ![] bcast_S_S1024x1024 main_cst_1
  let main_v8 : IVec S1024x1024 1 := cmpf .olt main_v6 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_v12 : FVec F S4096x1024 .f32 := Host.absf main_arg4
  let main_cst_3 : FVec F S_ .f32 := constant S_ .f32 0x7F800000#32
  let main_v13 : FVec F S4096x1024 .f32 := broadcastInDim S4096x1024 ![] bcast_S_S4096x1024 main_cst_3
  let main_v14 : IVec S4096x1024 1 := cmpf .olt main_v12 main_v13
  let main_v15 : FVec F S1024 .f32 := Host.absf main_arg5
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_loss_finite.lean ====
abbrev S4096x1024 : Shape := ⟨2, ![4096, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x1024 .f32) (main_arg1 : FVec F S4096x1024 .f32) (main_arg2 : FVec F S1024 .f32) : IVec S4096x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  (main_v2, main_v5, main_v8)
-- ==== Pre_q_finite.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x1024 .f32) (main_arg2 : FVec F S4096x1024 .f32) (main_arg3 : FVec F S1024 .f32) (main_arg4 : FVec F S4096x1024 .f32) : IVec S4096x1024 1 × IVec S1024x1024 1 × IVec S4096x1024 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== Pre_sba_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) : IVec S4096x1024 1 × IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  (main_v2, main_v5, main_v8, main_v11)
-- ==== Pre_sbf_finite.lean ====
abbrev S4096x1024 : Shape := ⟨2, ![4096, 1024]⟩
abbrev S_ : Shape := ⟨0, ![]⟩

class Facts : Prop where
  bcast_S_S4096x1024 : S_.BroadcastsInDim S4096x1024 (![] : Fin 0 → Fin S4096x1024.rank)

variable [Facts]

def fn {F : FTy → Type} [FloatOps F] (main_arg0 : FVec F S4096x1024 .f32) (main_arg1 : FVec F S4096x1024 .f32) (main_arg2 : FVec F S4096x1024 .f32) : IVec S4096x1024 1 × IVec S4096x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  (main_v2, main_v5, main_v8)
-- ==== Pre_silu_finite.lean ====
abbrev S4096x5152 : Shape := ⟨2, ![4096, 5152]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩

class Facts : Prop where
  slices_S4096x5152_S4096x3072_0_2048 : S4096x5152.Slices ![0, 2048] S4096x3072
  bcast_S_S4096x3072 : S_.BroadcastsInDim S4096x3072 (![] : Fin 0 → Fin S4096x3072.rank)
  bcast_S_S4x3072 : S_.BroadcastsInDim S4x3072 (![] : Fin 0 → Fin S4x3072.rank)
  bcast_S_S3072 : S_.BroadcastsInDim S3072 (![] : Fin 0 → Fin S3072.rank)

variable [Facts]

def fn {F : FTy → Type} [FloatOps F] (main_arg0 : FVec F S4096x5152 .f32) (main_arg1 : FVec F S4x3072 .f32) (main_arg2 : FVec F S3072 .f32) (main_arg3 : FVec F S4096x3072 .f32) : IVec S4096x3072 1 × IVec S4x3072 1 × IVec S3072 1 × IVec S4096x3072 1 :=
  let main_v0 : FVec F S4096x3072 .f32 := (extractStridedSlice S4096x3072 ![0, 2048] · slices_S4096x5152_S4096x3072_0_2048) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S4x3072 .f32 := Host.absf main_arg1
  let main_cst_0 : FVec F S_ .f32 := constant S_ .f32 0x7F800000#32
  let main_v5 : FVec F S4x3072 .f32 := broadcastInDim S4x3072 ![] bcast_S_S4x3072 main_cst_0
  let main_v6 : IVec S4x3072 1 := cmpf .olt main_v4 main_v5
  let main_v7 : FVec F S3072 .f32 := Host.absf main_arg2
  let main_cst_1 : FVec F S_ .f32 := constant S_ .f32 0x7F800000#32
  let main_v8 : FVec F S3072 .f32 := broadcastInDim S3072 ![] bcast_S_S3072 main_cst_1
  let main_v9 : IVec S3072 1 := cmpf .olt main_v7 main_v8
  let main_v10 : FVec F S4096x3072 .f32 := Host.absf main_arg3
  let main_cst_2 : FVec F S_ .f32 := constant S_ .f32 0x7F800000#32
  let main_v11 : FVec F S4096x3072 .f32 := broadcastInDim S4096x3072 ![] bcast_S_S4096x3072 main_cst_2
  let main_v12 : IVec S4096x3072 1 := cmpf .olt main_v10 main_v11
  (main_v3, main_v6, main_v9, main_v12)
-- ==== Pre_ssd_finite.lean ====
abbrev S4096x3072 : Shape := ⟨2, ![4096, 3072]⟩
abbrev S4096x5376 : Shape := ⟨2, ![4096, 5376]⟩
abbrev S32 : Shape := ⟨1, ![32]⟩
abbrev S2048 : Shape := ⟨1, ![2048]⟩
abbrev S_ : Shape := ⟨0, ![]⟩

class Facts : Prop where
  bcast_S_S4096x3072 : S_.BroadcastsInDim S4096x3072 (![] : Fin 0 → Fin S4096x3072.rank)
  bcast_S_S4096x5376 : S_.BroadcastsInDim S4096x5376 (![] : Fin 0 → Fin S4096x5376.rank)
  bcast_S_S32 : S_.BroadcastsInDim S32 (![] : Fin 0 → Fin S32.rank)
  bcast_S_S2048 : S_.BroadcastsInDim S2048 (![] : Fin 0 → Fin S2048.rank)

variable [Facts]

def fn {F : FTy → Type} [FloatOps F] (main_arg0 : FVec F S4096x3072 .f32) (main_arg1 : FVec F S4096x5376 .f32) (main_arg2 : FVec F S32 .f32) (main_arg3 : FVec F S32 .f32) (main_arg4 : FVec F S32 .f32) (main_arg5 : FVec F S2048 .f32) : IVec S4096x3072 1 × IVec S4096x5376 1 × IVec S32 1 × IVec S32 1 × IVec S32 1 × IVec S2048 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x5376 .f32 := Host.absf main_arg1
  let main_cst_0 : FVec F S_ .f32 := constant S_ .f32 0x7F800000#32
  let main_v4 : FVec F S4096x5376 .f32 := broadcastInDim S4096x5376 ![] bcast_S_S4096x5376 main_cst_0
  let main_v5 : IVec S4096x5376 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_v12 : FVec F S32 .f32 := Host.absf main_arg4
  let main_cst_3 : FVec F S_ .f32 := constant S_ .f32 0x7F800000#32
  let main_v13 : FVec F S32 .f32 := broadcastInDim S32 ![] bcast_S_S32 main_cst_3
  let main_v14 : IVec S32 1 := cmpf .olt main_v12 main_v13
  let main_v15 : FVec F S2048 .f32 := Host.absf main_arg5
  let main_cst_4 : FVec F S_ .f32 := constant S_ .f32 0x7F800000#32
  let main_v16 : FVec F S2048 .f32 := broadcastInDim S2048 ![] bcast_S_S2048 main_cst_4
  let main_v17 : IVec S2048 1 := cmpf .olt main_v15 main_v16
  (main_v2, main_v5, main_v8, main_v11, main_v14, main_v17)
-- ==== Pre_up_finite.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩

class Facts : Prop where
  bcast_S_S4096x5632 : S_.BroadcastsInDim S4096x5632 (![] : Fin 0 → Fin S4096x5632.rank)
  bcast_S_S1024x5632 : S_.BroadcastsInDim S1024x5632 (![] : Fin 0 → Fin S1024x5632.rank)
  bcast_S_S4096x1024 : S_.BroadcastsInDim S4096x1024 (![] : Fin 0 → Fin S4096x1024.rank)
  bcast_S_S1024 : S_.BroadcastsInDim S1024 (![] : Fin 0 → Fin S1024.rank)

variable [Facts]

def fn {F : FTy → Type} [FloatOps F] (main_arg0 : FVec F S4096x5632 .f32) (main_arg1 : FVec F S1024x5632 .f32) (main_arg2 : FVec F S4096x1024 .f32) (main_arg3 : FVec F S1024 .f32) (main_arg4 : FVec F S4096x1024 .f32) : IVec S4096x5632 1 × IVec S1024x5632 1 × IVec S4096x1024 1 × IVec S1024 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_v3 : FVec F S1024x5632 .f32 := Host.absf main_arg1
  let main_cst_0 : FVec F S_ .f32 := constant S_ .f32 0x7F800000#32
  let main_v4 : FVec F S1024x5632 .f32 := broadcastInDim S1024x5632 ![] bcast_S_S1024x5632 main_cst_0
  let main_v5 : IVec S1024x5632 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  (main_v2, main_v5, main_v8, main_v11)
-- ==== LossKernel.lean ====
abbrev S4096x1024 : Shape := ⟨2, ![4096, 1024]⟩
abbrev S1024 : Shape := ⟨1, ![1024]⟩
abbrev S1x1024 : Shape := ⟨2, ![1, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 10
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S1x128, .f32⟩
  | .hbm, ⟨5, _⟩ => ⟨S4096x1024, .f32⟩
  | .hbm, ⟨6, _⟩ => ⟨S1x1024, .f32⟩
  | .hbm, ⟨7, _⟩ => ⟨S1x1, .f32⟩
  | .hbm, ⟨8, _⟩ => ⟨S_, .f32⟩
  | .hbm, ⟨9, _⟩ => ⟨S1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v44 : BitVec 1 := Scalar.cmpi .eq arg0 c0_i32
  let v45 : BitVec 32 := Scalar.extui v44
  let c0_i32_17 : BitVec 32 := 0#32
  let v46 : BitVec 1 := Scalar.cmpi .ne v45 c0_i32_17
  v46

def k0_cond2 (i : grid0.Coords) : BitVec 1 :=
  let arg0 : BitVec 32 := BitVec.ofNat 32 (i 0).val
  let c0_i32_18 : BitVec 32 := 0#32
  let v47 : BitVec 1 := Scalar.cmpi .sgt arg0 c0_i32_18
  let v48 : BitVec 32 := Scalar.extui v47
  let c0_i32_19 : BitVec 32 := 0#32
  let v49 : BitVec 1 := Scalar.cmpi .ne v48 c0_i32_19
  v49

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x1024, .f32⟩
  | .hbm, ⟨59, _⟩ => ⟨S4096x1024, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩

abbrev nD : Nat := 1
abbrev τ : Topo := Topo.v7x

variable {F : FTy → Type} [FloatOps F]
-- ==== GateKernel.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x5632 : Shape := ⟨2, ![1, 5632]⟩
abbrev S2x3x2816 : Shape := ⟨3, ![2, 3, 2816]⟩
abbrev S2x1x2816 : Shape := ⟨3, ![2, 1, 2816]⟩
abbrev S2x256x1408 : Shape := ⟨3, ![2, 256, 1408]⟩
abbrev S2x16x1408 : Shape := ⟨3, ![2, 16, 1408]⟩
abbrev S3x1408 : Shape := ⟨2, ![3, 1408]⟩
abbrev S1x1408 : Shape := ⟨2, ![1, 1408]⟩
abbrev S256x1408 : Shape := ⟨2, ![256, 1408]⟩
abbrev S2x3x1408 : Shape := ⟨3, ![2, 3, 1408]⟩
abbrev S2x1x1408 : Shape := ⟨3, ![2, 1, 1408]⟩
abbrev S2x8x1408 : Shape := ⟨3, ![2, 8, 1408]⟩
abbrev S1x256x1408 : Shape := ⟨3, ![1, 256, 1408]⟩
abbrev S1x8x1408 : Shape := ⟨3, ![1, 8, 1408]⟩
abbrev S8x1408 : Shape := ⟨2, ![8, 1408]⟩
abbrev S248x1408 : Shape := ⟨2, ![248, 1408]⟩
abbrev S1x1x1408 : Shape := ⟨3, ![1, 1, 1408]⟩
abbrev S1408 : Shape := ⟨1, ![1408]⟩
abbrev S1x3x2816 : Shape := ⟨3, ![1, 3, 2816]⟩
abbrev S3x2816 : Shape := ⟨2, ![3, 2816]⟩
abbrev S1x1x2816 : Shape := ⟨3, ![1, 1, 2816]⟩
abbrev S1x2816 : Shape := ⟨2, ![1, 2816]⟩

abbrev nBuf : Space → Nat
  | .hbm => 26
  | .vmem => 20
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S1x4096x2816, .f32⟩
  | .hbm, ⟨7, _⟩ => ⟨S1x4096x2816, .f32⟩
  | .hbm, ⟨8, _⟩ => ⟨S2x4096x2816, .f32⟩
  | .hbm, ⟨9, _⟩ => ⟨S2x4096x2816, .bf16⟩
  | .hbm, ⟨10, _⟩ => ⟨S1x5632, .f32⟩
  | .hbm, ⟨11, _⟩ => ⟨S4096x2816, .bf16⟩
  | .hbm, ⟨12, _⟩ => ⟨S2x4096x2816, .bf16⟩
  | .hbm, ⟨13, _⟩ => ⟨S2x3x2816, .f32⟩
  | .hbm, ⟨14, _⟩ => ⟨S2x1x2816, .f32⟩
  | .hbm, ⟨15, _⟩ => ⟨S1x3x2816, .f32⟩
  | .hbm, ⟨16, _⟩ => ⟨S3x2816, .f32⟩
  | .hbm, ⟨17, _⟩ => ⟨S1x3x2816, .f32⟩
  | .hbm, ⟨18, _⟩ => ⟨S3x2816, .f32⟩
  | .hbm, ⟨19, _⟩ => ⟨S3x5632, .f32⟩
  | .hbm, ⟨20, _⟩ => ⟨S1x1x2816, .f32⟩
  | .hbm, ⟨21, _⟩ => ⟨S1x2816, .f32⟩
  | .hbm, ⟨22, _⟩ => ⟨S1x1x2816, .f32⟩
  | .hbm, ⟨23, _⟩ => ⟨S1x2816, .f32⟩
  | .hbm, ⟨24, _⟩ => ⟨S1x5632, .f32⟩
  | .hbm, ⟨25, _⟩ => ⟨S5632, .f32⟩
  | .local _ .vmem, ⟨0, _⟩ => ⟨S2x256x1408, .bf16⟩
  | .local _ .vmem, ⟨1, _⟩ => ⟨S2x256x1408, .bf16⟩
  | .local _ .vmem, ⟨2, _⟩ => ⟨S2x16x1408, .bf16⟩
  | .local _ .vmem, ⟨3, _⟩ => ⟨S2x16x1408, .bf16⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | .local _ .vmem, ⟨14, _⟩ => ⟨S2x256x1408, .bf16⟩
  | .local _ .vmem, ⟨15, _⟩ => ⟨S2x256x1408, .bf16⟩
  | .local _ .vmem, ⟨16, _⟩ => ⟨S2x3x1408, .f32⟩
  | .local _ .vmem, ⟨17, _⟩ => ⟨S2x3x1408, .f32⟩
  | .local _ .vmem, ⟨18, _⟩ => ⟨S2x1x1408, .f32⟩
  | .local _ .vmem, ⟨19, _⟩ => ⟨S2x1x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x3x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x1408 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== GateRefIdeal.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S1x4096x2816 : Shape := ⟨3, ![1, 4096, 2816]⟩
abbrev S2x4096x2816 : Shape := ⟨3, ![2, 4096, 2816]⟩

abbrev nBuf : Space → Nat
  | .hbm => 97
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S_, .f32⟩
  | .hbm, ⟨5, _⟩ => ⟨S2x5632, .f32⟩
  | .hbm, ⟨6, _⟩ => ⟨S4098x5632, .f32⟩
  | .hbm, ⟨7, _⟩ => ⟨S4096x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S4096x5632, .f32⟩
  | .hbm, ⟨12, _⟩ => ⟨S4096x5632, .f32⟩
  | .hbm, ⟨13, _⟩ => ⟨S1x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S_, .f32⟩
  | .hbm, ⟨35, _⟩ => ⟨S4096x2816, .f32⟩
  | .hbm, ⟨36, _⟩ => ⟨S4096x2816, .f32⟩
  | .hbm, ⟨37, _⟩ => ⟨S_, .f32⟩
  | .hbm, ⟨38, _⟩ => ⟨S4096x2816, .f32⟩
  | .hbm, ⟨39, _⟩ => ⟨S4096x2816, .f32⟩
  | .hbm, ⟨40, _⟩ => ⟨S_, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S4096x2816, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x5632, .f32⟩
  | .hbm, ⟨54, _⟩ => ⟨S_, .f32⟩
  | .hbm, ⟨55, _⟩ => ⟨S4096x5632, .f32⟩
  | .hbm, ⟨56, _⟩ => ⟨S4096x5632, .f32⟩
  | .hbm, ⟨57, _⟩ => ⟨S4096x5632, .f32⟩
  | .hbm, ⟨58, _⟩ => ⟨S_, .f32⟩
  | .hbm, ⟨59, _⟩ => ⟨S5632, .f32⟩
  | .hbm, ⟨60, _⟩ => ⟨S1x5632, .f32⟩
  | .hbm, ⟨61, _⟩ => ⟨S_, .f32⟩
  | .hbm, ⟨62, _⟩ => ⟨S5632, .f32⟩
  | .hbm, ⟨63, _⟩ => ⟨S1x5632, .f32⟩
  | .hbm, ⟨64, _⟩ => ⟨S_, .f32⟩
  | .hbm, ⟨65, _⟩ => ⟨S3x5632, .f32⟩
  | .hbm, ⟨66, _⟩ => ⟨S4096x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S5632, .f32⟩
  | .hbm, ⟨72, _⟩ => ⟨S1x5632, .f32⟩
  | .hbm, ⟨73, _⟩ => ⟨S_, .f32⟩
  | .hbm, ⟨74, _⟩ => ⟨S3x5632, .f32⟩
  | .hbm, ⟨75, _⟩ => ⟨S3x5632, .f32⟩
  | .hbm, ⟨76, _⟩ => ⟨S_, .f32⟩
  | .hbm, ⟨77, _⟩ => ⟨S5632, .f32⟩
  | .hbm, ⟨78, _⟩ => ⟨S1x5632, .f32⟩
  | .hbm, ⟨79, _⟩ => ⟨S_, .f32⟩
  | .hbm, ⟨80, _⟩ => ⟨S5632, .f32⟩
  | .hbm, ⟨81, _⟩ => ⟨S4096x5632, .f32⟩
  | .hbm, ⟨82, _⟩ => ⟨S_, .f32⟩
  | .hbm, ⟨83, _⟩ => ⟨S5632, .f32⟩
  | .hbm, ⟨84, _⟩ => ⟨S1x5632, .f32⟩
  | .hbm, ⟨85, _⟩ => ⟨S_, .f32⟩
  | .hbm, ⟨86, _⟩ => ⟨S5632, .f32⟩
  | .hbm, ⟨87, _⟩ => ⟨S1x5632, .f32⟩
  | .hbm, ⟨88, _⟩ => ⟨S_, .f32⟩
  | .hbm, ⟨89, _⟩ => ⟨S3x5632, .f32⟩
  | .hbm, ⟨90, _⟩ => ⟨S3x5632, .f32⟩
  | .hbm, ⟨91, _⟩ => ⟨S4096x2816, .f32⟩
  | .hbm, ⟨92, _⟩ => ⟨S4096x2816, .f32⟩
  | .hbm, ⟨93, _⟩ => ⟨S1x4096x2816, .f32⟩
  | .hbm, ⟨94, _⟩ => ⟨S1x4096x2816, .f32⟩
  | .hbm, ⟨95, _⟩ => ⟨S2x4096x2816, .f32⟩
  | .hbm, ⟨96, _⟩ => ⟨S2x4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_call0_v0 : Ref sig .tc := ⟨.hbm, 32, rfl⟩
abbrev main_call0_v1 : Ref sig .tc := ⟨.hbm, 33, rfl⟩
abbrev main_call0_cst : Ref sig .tc := ⟨.hbm, 34, rfl⟩
abbrev main_call0_v2 : Ref sig .tc := ⟨.hbm, 35, rfl⟩
abbrev main_call0_v3 : Ref sig .tc := ⟨.hbm, 36, rfl⟩
abbrev main_call0_cst_0 : Ref sig .tc := ⟨.hbm, 37, rfl⟩
abbrev main_call0_v4 : Ref sig .tc := ⟨.hbm, 38, rfl⟩
abbrev main_v27_2 : Ref sig .tc := ⟨.hbm, 39, rfl⟩
abbrev main_call0_cst_1 : Ref sig .tc := ⟨.hbm, 40, rfl⟩
abbrev main_call0_v6 : Ref sig .tc := ⟨.hbm, 41, rfl⟩
abbrev main_call0_v7 : Ref sig .tc := ⟨.hbm, 42, rfl⟩
abbrev main_v27_1 : Ref sig .tc := ⟨.hbm, 43, rfl⟩
abbrev main_v27_0 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v31 : Ref sig .tc := ⟨.hbm, 51, rfl⟩
abbrev main_cst_0 : Ref sig .tc := ⟨.hbm, 52, rfl⟩
abbrev main_v32 : Ref sig .tc := ⟨.hbm, 53, rfl⟩
abbrev main_cst_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_2 : Ref sig .tc := ⟨.hbm, 58, rfl⟩
abbrev main_v36 : Ref sig .tc := ⟨.hbm, 59, rfl⟩
abbrev main_v37 : Ref sig .tc := ⟨.hbm, 60, rfl⟩
abbrev main_cst_3 : Ref sig .tc := ⟨.hbm, 61, rfl⟩
abbrev main_v38 : Ref sig .tc := ⟨.hbm, 62, rfl⟩
abbrev main_v39 : Ref sig .tc := ⟨.hbm, 63, rfl⟩
abbrev main_cst_4 : Ref sig .tc := ⟨.hbm, 64, rfl⟩
abbrev main_v40 : Ref sig .tc := ⟨.hbm, 65, rfl⟩
abbrev main_v41 : Ref sig .tc := ⟨.hbm, 66, rfl⟩
abbrev main_cst_5 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_cst_9 : Ref sig .tc := ⟨.hbm, 79, rfl⟩
abbrev main_v50 : Ref sig .tc := ⟨.hbm, 80, rfl⟩
abbrev main_v51 : Ref sig .tc := ⟨.hbm, 81, rfl⟩
abbrev main_cst_10 : Ref sig .tc := ⟨.hbm, 82, rfl⟩
abbrev main_v52 : Ref sig .tc := ⟨.hbm, 83, rfl⟩
abbrev main_v53 : Ref sig .tc := ⟨.hbm, 84, rfl⟩
abbrev main_cst_11 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]
-- ==== ConvKernel.lean ====
abbrev S4096x5632 : Shape := ⟨2, ![4096, 5632]⟩
abbrev S3x5632 : Shape := ⟨2, ![3, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x256x1408 : Shape := ⟨3, ![1, 256, 1408]⟩
abbrev S1x16x1408 : Shape := ⟨3, ![1, 16, 1408]⟩
abbrev S3x1408 : Shape := ⟨2, ![3, 1408]⟩
abbrev S256x1408 : Shape := ⟨2, ![256, 1408]⟩
abbrev S16x1408 : Shape := ⟨2, ![16, 1408]⟩
abbrev S8x1408 : Shape := ⟨2, ![8, 1408]⟩
abbrev S1x1408 : Shape := ⟨2, ![1, 1408]⟩
abbrev S248x1408 : Shape := ⟨2, ![248, 1408]⟩

abbrev nBuf : Space → Nat
  | .hbm => 9
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S4096x2816, .f32⟩
  | .hbm, ⟨3, _⟩ => ⟨S4096x2816, .f32⟩
  | .hbm, ⟨4, _⟩ => ⟨S1x4096x2816, .f32⟩
  | .hbm, ⟨5, _⟩ => ⟨S1x4096x2816, .f32⟩
  | .hbm, ⟨6, _⟩ => ⟨S2x4096x2816, .f32⟩
  | .hbm, ⟨7, _⟩ => ⟨S2x4096x2816, .bf16⟩
  | .hbm, ⟨8, _⟩ => ⟨S2x4096x2816, .bf16⟩
  | .local _ .vmem, ⟨0, _⟩ => ⟨S1x256x1408, .bf16⟩
  | .local _ .vmem, ⟨1, _⟩ => ⟨S1x256x1408, .bf16⟩
  | .local _ .vmem, ⟨2, _⟩ => ⟨S1x16x1408, .bf16⟩
  | .local _ .vmem, ⟨3, _⟩ => ⟨S1x16x1408, .bf16⟩
  | .local _ .vmem, ⟨4, _⟩ => ⟨S3x1408, .f32⟩
  | .local _ .vmem, ⟨5, _⟩ => ⟨S3x1408, .f32⟩
  | .local _ .vmem, ⟨6, _⟩ => ⟨S1x256x1408, .bf16⟩
  | .local _ .vmem, ⟨7, _⟩ => ⟨S1x256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  ![arg0.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ConvRefIdeal.lean ====
abbrev S4096x5632 : Shape := ⟨2, ![4096, 5632]⟩
abbrev S3x5632 : Shape := ⟨2, ![3, 5632]⟩
abbrev S_ : Shape := ⟨0, ![]⟩
abbrev S5632 : Shape := ⟨1, ![5632]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 58
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S_, .f32⟩
  | .hbm, ⟨3, _⟩ => ⟨S4096x5632, .f32⟩
  | .hbm, ⟨4, _⟩ => ⟨S_, .f32⟩
  | .hbm, ⟨5, _⟩ => ⟨S5632, .f32⟩
  | .hbm, ⟨6, _⟩ => ⟨S_, .f32⟩
  | .hbm, ⟨7, _⟩ => ⟨S2x5632, .f32⟩
  | .hbm, ⟨8, _⟩ => ⟨S4098x5632, .f32⟩
  | .hbm, ⟨9, _⟩ => ⟨S_, .f32⟩
  | .hbm, ⟨10, _⟩ => ⟨S2x5632, .f32⟩
  | .hbm, ⟨11, _⟩ => ⟨S4096x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S4096x5632, .f32⟩
  | .hbm, ⟨16, _⟩ => ⟨S4096x5632, .f32⟩
  | .hbm, ⟨17, _⟩ => ⟨S1x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S4096x5632, .f32⟩
  | .hbm, ⟨32, _⟩ => ⟨S4096x5632, .f32⟩
  | .hbm, ⟨33, _⟩ => ⟨S4096x5632, .f32⟩
  | .hbm, ⟨34, _⟩ => ⟨S4096x5632, .f32⟩
  | .hbm, ⟨35, _⟩ => ⟨S4096x5632, .f32⟩
  | .hbm, ⟨36, _⟩ => ⟨S4096x5632, .f32⟩
  | .hbm, ⟨37, _⟩ => ⟨S4096x5632, .f32⟩
  | .hbm, ⟨38, _⟩ => ⟨S_, .f32⟩
  | .hbm, ⟨39, _⟩ => ⟨S4098x5632, .f32⟩
  | .hbm, ⟨40, _⟩ => ⟨S4096x5632, .f32⟩
  | .hbm, ⟨41, _⟩ => ⟨S4096x5632, .f32⟩
  | .hbm, ⟨42, _⟩ => ⟨S_, .f32⟩
  | .hbm, ⟨43, _⟩ => ⟨S4098x5632, .f32⟩
  | .hbm, ⟨44, _⟩ => ⟨S4098x5632, .f32⟩
  | .hbm, ⟨45, _⟩ => ⟨S4096x5632, .f32⟩
  | .hbm, ⟨46, _⟩ => ⟨S4096x5632, .f32⟩
  | .hbm, ⟨47, _⟩ => ⟨S_, .f32⟩
  | .hbm, ⟨48, _⟩ => ⟨S4098x5632, .f32⟩
  | .hbm, ⟨49, _⟩ => ⟨S4098x5632, .f32⟩
  | .hbm, ⟨50, _⟩ => ⟨S2x5632, .f32⟩
  | .hbm, ⟨51, _⟩ => ⟨S4096x5632, .f32⟩
  | .hbm, ⟨52, _⟩ => ⟨S4096x2816, .f32⟩
  | .hbm, ⟨53, _⟩ => ⟨S4096x2816, .f32⟩
  | .hbm, ⟨54, _⟩ => ⟨S1x4096x2816, .f32⟩
  | .hbm, ⟨55, _⟩ => ⟨S1x4096x2816, .f32⟩
  | .hbm, ⟨56, _⟩ => ⟨S2x4096x2816, .f32⟩
  | .hbm, ⟨57, _⟩ => ⟨S2x4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_cst_1 : Ref sig .tc := ⟨.hbm, 6, rfl⟩
abbrev main_v2 : Ref sig .tc := ⟨.hbm, 7, rfl⟩
abbrev main_v3 : Ref sig .tc := ⟨.hbm, 8, rfl⟩
abbrev main_cst_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_3 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_4 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_5 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩

abbrev nD : Nat := 1
abbrev τ : Topo := Topo.v7x

variable {F : FTy → Type} [FloatOps F]
-- ==== SiluKernel.lean ====
abbrev S4096x5152 : Shape := ⟨2, ![4096, 5152]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S4096x5376 : Shape := ⟨2, ![4096, 5376]⟩
abbrev S1x3072 : Shape := ⟨2, ![1, 3072]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩
abbrev S512 : Shape := ⟨1, ![512]⟩

abbrev nBuf : Space → Nat
  | .hbm => 12
  | .vmem => 16
  | .smem => 0
  | _ => 0

abbrev bufTy : (tb : Table) → Fin (tcTables nBuf tb) → BufTy
  | .hbm, ⟨0, _⟩ => ⟨S4096x5152, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S_, .i32⟩
  | .hbm, ⟨5, _⟩ => ⟨S_, .f32⟩
  | .hbm, ⟨6, _⟩ => ⟨S4096x5376, .f32⟩
  | .hbm, ⟨7, _⟩ => ⟨S1x3072, .f32⟩
  | .hbm, ⟨8, _⟩ => ⟨S4096x3072, .f32⟩
  | .hbm, ⟨9, _⟩ => ⟨S4x3072, .f32⟩
  | .hbm, ⟨10, _⟩ => ⟨S1x3072, .f32⟩
  | .hbm, ⟨11, _⟩ => ⟨S3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S4x512, .f32⟩
  | .local _ .vmem, ⟨13, _⟩ => ⟨S4x512, .f32⟩
  | .local _ .vmem, ⟨14, _⟩ => ⟨S1x512, .f32⟩
  | .local _ .vmem, ⟨15, _⟩ => ⟨S1x512, .f32⟩
  | _, _ => ⟨S4096x5152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SiluRefIdeal.lean ====
abbrev S4096x5152 : Shape := ⟨2, ![4096, 5152]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 99
  | .vmem => 0
  | .smem => 0
  | _ => 0

abbrev bufTy : (tb : Table) → Fin (tcTables nBuf tb) → BufTy
  | .hbm, ⟨0, _⟩ => ⟨S4096x5152, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S4096x3072, .f32⟩
  | .hbm, ⟨5, _⟩ => ⟨S_, .f32⟩
  | .hbm, ⟨6, _⟩ => ⟨S3x3072, .f32⟩
  | .hbm, ⟨7, _⟩ => ⟨S4099x3072, .f32⟩
  | .hbm, ⟨8, _⟩ => ⟨S4096x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S4096x3072, .f32⟩
  | .hbm, ⟨13, _⟩ => ⟨S4096x3072, .f32⟩
  | .hbm, ⟨14, _⟩ => ⟨S1x3072, .f32⟩
  | .hbm, ⟨15, _⟩ => ⟨S4096x3072, .f32⟩
  | .hbm, ⟨16, _⟩ => ⟨S4096x3072, .f32⟩
  | .hbm, ⟨17, _⟩ => ⟨S4096x3072, .f32⟩
  | .hbm, ⟨18, _⟩ => ⟨S1x3072, .f32⟩
  | .hbm, ⟨19, _⟩ => ⟨S3072, .f32⟩
  | .hbm, ⟨20, _⟩ => ⟨S1x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S4096x3072, .f32⟩
  | .hbm, ⟨25, _⟩ => ⟨S1x3072, .f32⟩
  | .hbm, ⟨26, _⟩ => ⟨S3072, .f32⟩
  | .hbm, ⟨27, _⟩ => ⟨S1x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S4096x3072, .f32⟩
  | .hbm, ⟨40, _⟩ => ⟨S_, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S_, .f32⟩
  | .hbm, ⟨47, _⟩ => ⟨S4096x3072, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S4096x3072, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S3072, .f32⟩
  | .hbm, ⟨58, _⟩ => ⟨S1x3072, .f32⟩
  | .hbm, ⟨59, _⟩ => ⟨S_, .f32⟩
  | .hbm, ⟨60, _⟩ => ⟨S3072, .f32⟩
  | .hbm, ⟨61, _⟩ => ⟨S1x3072, .f32⟩
  | .hbm, ⟨62, _⟩ => ⟨S_, .f32⟩
  | .hbm, ⟨63, _⟩ => ⟨S4x3072, .f32⟩
  | .hbm, ⟨64, _⟩ => ⟨S4096x3072, .f32⟩
  | .hbm, ⟨65, _⟩ => ⟨S_, .f32⟩
  | .hbm, ⟨66, _⟩ => ⟨S3072, .f32⟩
  | .hbm, ⟨67, _⟩ => ⟨S1x3072, .f32⟩
  | .hbm, ⟨68, _⟩ => ⟨S_, .f32⟩
  | .hbm, ⟨69, _⟩ => ⟨S3072, .f32⟩
  | .hbm, ⟨70, _⟩ => ⟨S1x3072, .f32⟩
  | .hbm, ⟨71, _⟩ => ⟨S_, .f32⟩
  | .hbm, ⟨72, _⟩ => ⟨S4x3072, .f32⟩
  | .hbm, ⟨73, _⟩ => ⟨S4x3072, .f32⟩
  | .hbm, ⟨74, _⟩ => ⟨S4096x3072, .f32⟩
  | .hbm, ⟨75, _⟩ => ⟨S_, .f32⟩
  | .hbm, ⟨76, _⟩ => ⟨S3072, .f32⟩
  | .hbm, ⟨77, _⟩ => ⟨S1x3072, .f32⟩
  | .hbm, ⟨78, _⟩ => ⟨S_, .f32⟩
  | .hbm, ⟨79, _⟩ => ⟨S3072, .f32⟩
  | .hbm, ⟨80, _⟩ => ⟨S1x3072, .f32⟩
  | .hbm, ⟨81, _⟩ => ⟨S_, .f32⟩
  | .hbm, ⟨82, _⟩ => ⟨S4x3072, .f32⟩
  | .hbm, ⟨83, _⟩ => ⟨S4x3072, .f32⟩
  | .hbm, ⟨84, _⟩ => ⟨S_, .f32⟩
  | .hbm, ⟨85, _⟩ => ⟨S3072, .f32⟩
  | .hbm, ⟨86, _⟩ => ⟨S1x3072, .f32⟩
  | .hbm, ⟨87, _⟩ => ⟨S_, .f32⟩
  | .hbm, ⟨88, _⟩ => ⟨S3072, .f32⟩
  | .hbm, ⟨89, _⟩ => ⟨S4096x3072, .f32⟩
  | .hbm, ⟨90, _⟩ => ⟨S_, .f32⟩
  | .hbm, ⟨91, _⟩ => ⟨S3072, .f32⟩
  | .hbm, ⟨92, _⟩ => ⟨S1x3072, .f32⟩
  | .hbm, ⟨93, _⟩ => ⟨S_, .f32⟩
  | .hbm, ⟨94, _⟩ => ⟨S3072, .f32⟩
  | .hbm, ⟨95, _⟩ => ⟨S1x3072, .f32⟩
  | .hbm, ⟨96, _⟩ => ⟨S_, .f32⟩
  | .hbm, ⟨97, _⟩ => ⟨S4x3072, .f32⟩
  | .hbm, ⟨98, _⟩ => ⟨S4x3072, .f32⟩
  | _, _ => ⟨S4096x5152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v33_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v33_1 : Ref sig .tc := ⟨.hbm, 49, rfl⟩
abbrev main_v33_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v34 : Ref sig .tc := ⟨.hbm, 54, rfl⟩
abbrev main_v35 : Ref sig .tc := ⟨.hbm, 55, rfl⟩
abbrev main_cst_0 : Ref sig .tc := ⟨.hbm, 56, rfl⟩
abbrev main_v36 : Ref sig .tc := ⟨.hbm, 57, rfl⟩
abbrev main_v37 : Ref sig .tc := ⟨.hbm, 58, rfl⟩
abbrev main_cst_1 : Ref sig .tc := ⟨.hbm, 59, rfl⟩
abbrev main_v38 : Ref sig .tc := ⟨.hbm, 60, rfl⟩
abbrev main_v39 : Ref sig .tc := ⟨.hbm, 61, rfl⟩
abbrev main_cst_2 : Ref sig .tc := ⟨.hbm, 62, rfl⟩
abbrev main_v40 : Ref sig .tc := ⟨.hbm, 63, rfl⟩
abbrev main_v41 : Ref sig .tc := ⟨.hbm, 64, rfl⟩
abbrev main_cst_3 : Ref sig .tc := ⟨.hbm, 65, rfl⟩
abbrev main_v42 : Ref sig .tc := ⟨.hbm, 66, rfl⟩
abbrev main_v43 : Ref sig .tc := ⟨.hbm, 67, rfl⟩
abbrev main_cst_4 : Ref sig .tc := ⟨.hbm, 68, rfl⟩
abbrev main_v44 : Ref sig .tc := ⟨.hbm, 69, rfl⟩
abbrev main_v45 : Ref sig .tc := ⟨.hbm, 70, rfl⟩
abbrev main_cst_5 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_6 : Ref sig .tc := ⟨.hbm, 75, rfl⟩
abbrev main_v49 : Ref sig .tc := ⟨.hbm, 76, rfl⟩
abbrev main_v50 : Ref sig .tc := ⟨.hbm, 77, rfl⟩
abbrev main_cst_7 : Ref sig .tc := ⟨.hbm, 78, rfl⟩
abbrev main_v51 : Ref sig .tc := ⟨.hbm, 79, rfl⟩
abbrev main_v52 : Ref sig .tc := ⟨.hbm, 80, rfl⟩
abbrev main_cst_8 : Ref sig .tc := ⟨.hbm, 81, rfl⟩
abbrev main_v53 : Ref sig .tc := ⟨.hbm, 82, rfl⟩
abbrev main_v54 : Ref sig .tc := ⟨.hbm, 83, rfl⟩
abbrev main_cst_9 : Ref sig .tc := ⟨.hbm, 84, rfl⟩
abbrev main_v55 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_cst_11 : Ref sig .tc := ⟨.hbm, 90, rfl⟩
abbrev main_v59 : Ref sig .tc := ⟨.hbm, 91, rfl⟩
abbrev main_v60 : Ref sig .tc := ⟨.hbm, 92, rfl⟩
abbrev main_cst_12 : Ref sig .tc := ⟨.hbm, 93, rfl⟩
abbrev main_v61 : Ref sig .tc := ⟨.hbm, 94, rfl⟩
abbrev main_v62 : Ref sig .tc := ⟨.hbm, 95, rfl⟩
abbrev main_cst_13 : Ref sig .tc := ⟨.hbm, 96, rfl⟩
abbrev main_v63 : Ref sig .tc := ⟨.hbm, 97, rfl⟩
abbrev main_v64 : Ref sig .tc := ⟨.hbm, 98, rfl⟩

abbrev nD : Nat := 1
abbrev τ : Topo := Topo.v7x

variable {F : FTy → Type} [FloatOps F]
-- ==== XbcKernel.lean ====
abbrev S4096x3072 : Shape := ⟨2, ![4096, 3072]⟩
abbrev S4x3072 : Shape := ⟨2, ![4, 3072]⟩
abbrev S4096x5376 : Shape := ⟨2, ![4096, 5376]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩

abbrev nBuf : Space → Nat
  | .hbm => 5
  | .vmem => 8
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x5376, .f32⟩
  | .hbm, ⟨3, _⟩ => ⟨S4096x5376, .bf16⟩
  | .hbm, ⟨4, _⟩ => ⟨S4096x5376, .bf16⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S512x512, .bf16⟩
  | .local _ .vmem, ⟨7, _⟩ => ⟨S512x512, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== XbcRefIdeal.lean ====
abbrev S4096x3072 : Shape := ⟨2, ![4096, 3072]⟩
abbrev S4x3072 : Shape := ⟨2, ![4, 3072]⟩
abbrev S4096x5376 : Shape := ⟨2, ![4096, 5376]⟩
abbrev S_ : Shape := ⟨0, ![]⟩
abbrev S3072 : Shape := ⟨1, ![3072]⟩
abbrev S3x3072 : Shape := ⟨2, ![3, 3072]⟩
abbrev S4099x3072 : Shape := ⟨2, ![4099, 3072]⟩
abbrev S1x3072 : Shape := ⟨2, ![1, 3072]⟩
abbrev S4096x2048 : Shape := ⟨2, ![4096, 2048]⟩
abbrev S4096x256 : Shape := ⟨2, ![4096, 256]⟩

abbrev nBuf : Space → Nat
  | .hbm => 79
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4x3072, .f32⟩
  | .hbm, ⟨2, _⟩ => ⟨S4096x5376, .f32⟩
  | .hbm, ⟨3, _⟩ => ⟨S_, .f32⟩
  | .hbm, ⟨4, _⟩ => ⟨S4096x5376, .f32⟩
  | .hbm, ⟨5, _⟩ => ⟨S4096x3072, .f32⟩
  | .hbm, ⟨6, _⟩ => ⟨S_, .f32⟩
  | .hbm, ⟨7, _⟩ => ⟨S3072, .f32⟩
  | .hbm, ⟨8, _⟩ => ⟨S_, .f32⟩
  | .hbm, ⟨9, _⟩ => ⟨S3x3072, .f32⟩
  | .hbm, ⟨10, _⟩ => ⟨S4099x3072, .f32⟩
  | .hbm, ⟨11, _⟩ => ⟨S_, .f32⟩
  | .hbm, ⟨12, _⟩ => ⟨S3x3072, .f32⟩
  | .hbm, ⟨13, _⟩ => ⟨S4096x3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S4096x3072, .f32⟩
  | .hbm, ⟨18, _⟩ => ⟨S4096x3072, .f32⟩
  | .hbm, ⟨19, _⟩ => ⟨S1x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S4096x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S4096x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S1x3072, .f32⟩
  | .hbm, ⟨38, _⟩ => ⟨S3072, .f32⟩
  | .hbm, ⟨39, _⟩ => ⟨S1x3072, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S4096x2048, .f32⟩
  | .hbm, ⟨44, _⟩ => ⟨S4096x256, .f32⟩
  | .hbm, ⟨45, _⟩ => ⟨S4096x2048, .f32⟩
  | .hbm, ⟨46, _⟩ => ⟨S4096x256, .f32⟩
  | .hbm, ⟨47, _⟩ => ⟨S_, .f32⟩
  | .hbm, ⟨48, _⟩ => ⟨S4096x5376, .f32⟩
  | .hbm, ⟨49, _⟩ => ⟨S_, .f32⟩
  | .hbm, ⟨50, _⟩ => ⟨S4096x5376, .f32⟩
  | .hbm, ⟨51, _⟩ => ⟨S4096x5376, .f32⟩
  | .hbm, ⟨52, _⟩ => ⟨S4096x3072, .f32⟩
  | .hbm, ⟨53, _⟩ => ⟨S4096x3072, .f32⟩
  | .hbm, ⟨54, _⟩ => ⟨S4096x3072, .f32⟩
  | .hbm, ⟨55, _⟩ => ⟨S4096x3072, .f32⟩
  | .hbm, ⟨56, _⟩ => ⟨S_, .f32⟩
  | .hbm, ⟨57, _⟩ => ⟨S4099x3072, .f32⟩
  | .hbm, ⟨58, _⟩ => ⟨S4096x3072, .f32⟩
  | .hbm, ⟨59, _⟩ => ⟨S4096x3072, .f32⟩
  | .hbm, ⟨60, _⟩ => ⟨S_, .f32⟩
  | .hbm, ⟨61, _⟩ => ⟨S4099x3072, .f32⟩
  | .hbm, ⟨62, _⟩ => ⟨S4099x3072, .f32⟩
  | .hbm, ⟨63, _⟩ => ⟨S4096x3072, .f32⟩
  | .hbm, ⟨64, _⟩ => ⟨S4096x3072, .f32⟩
  | .hbm, ⟨65, _⟩ => ⟨S_, .f32⟩
  | .hbm, ⟨66, _⟩ => ⟨S4099x3072, .f32⟩
  | .hbm, ⟨67, _⟩ => ⟨S4099x3072, .f32⟩
  | .hbm, ⟨68, _⟩ => ⟨S4096x3072, .f32⟩
  | .hbm, ⟨69, _⟩ => ⟨S4096x3072, .f32⟩
  | .hbm, ⟨70, _⟩ => ⟨S_, .f32⟩
  | .hbm, ⟨71, _⟩ => ⟨S4099x3072, .f32⟩
  | .hbm, ⟨72, _⟩ => ⟨S4099x3072, .f32⟩
  | .hbm, ⟨73, _⟩ => ⟨S3x3072, .f32⟩
  | .hbm, ⟨74, _⟩ => ⟨S4096x3072, .f32⟩
  | .hbm, ⟨75, _⟩ => ⟨S_, .f32⟩
  | .hbm, ⟨76, _⟩ => ⟨S4096x5376, .f32⟩
  | .hbm, ⟨77, _⟩ => ⟨S4096x5376, .f32⟩
  | .hbm, ⟨78, _⟩ => ⟨S4096x5376, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_cst_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_3 : Ref sig .tc := ⟨.hbm, 47, rfl⟩
abbrev main_v40 : Ref sig .tc := ⟨.hbm, 48, rfl⟩
abbrev main_cst_4 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_cst_7 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_9 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩

abbrev nD : Nat := 1
abbrev τ : Topo := Topo.v7x

variable {F : FTy → Type} [FloatOps F]
-- ==== QKernel.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S4096x1024, .f32⟩
  | .hbm, ⟨9, _⟩ => ⟨S1x1024, .f32⟩
  | .hbm, ⟨10, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | .local _ .vmem, ⟨11, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_26 : BitVec 32 := 0#32
  let v48 : BitVec 1 := Scalar.cmpi .eq arg0 c0_i32_26
  let v49 : BitVec 32 := Scalar.extui v48
  let c0_i32_27 : BitVec 32 := 0#32
  let v50 : BitVec 1 := Scalar.cmpi .ne v49 c0_i32_27
  v50

def k0_cond4 (i : grid0.Coords) : BitVec 1 :=
  let arg0 : BitVec 32 := BitVec.ofNat 32 (i 0).val
  let c0_i32_28 : BitVec 32 := 0#32
  let v51 : BitVec 1 := Scalar.cmpi .sgt arg0 c0_i32_28
  let v52 : BitVec 32 := Scalar.extui v51
  let c0_i32_29 : BitVec 32 := 0#32
  let v53 : BitVec 1 := Scalar.cmpi .ne v52 c0_i32_29
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== QRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== SbaKernel.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S8x2x4096 : Shape := ⟨3, ![8, 2, 4096]⟩
abbrev S8x4096x2 : Shape := ⟨3, ![8, 4096, 2]⟩
abbrev S8x4096x2x64 : Shape := ⟨4, ![8, 4096, 2, 64]⟩
abbrev S8x4096x128 : Shape := ⟨3, ![8, 4096, 128]⟩
abbrev S4096x2048 : Shape := ⟨2, ![4096, 2048]⟩
abbrev S512x128 : Shape := ⟨2, ![512, 128]⟩
abbrev S4096x128 : Shape := ⟨2, ![4096, 128]⟩
abbrev S1x512x128 : Shape := ⟨3, ![1, 512, 128]⟩
abbrev S2x1024x512 : Shape := ⟨3, ![2, 1024, 512]⟩
abbrev S1024x1 : Shape := ⟨2, ![1024, 1]⟩
abbrev S1024x128 : Shape := ⟨2, ![1024, 128]⟩
abbrev S256x256 : Shape := ⟨2, ![256, 256]⟩
abbrev S128x128 : Shape := ⟨2, ![128, 128]⟩
abbrev S256x128 : Shape := ⟨2, ![256, 128]⟩
abbrev S1x128x1 : Shape := ⟨3, ![1, 128, 1]⟩
abbrev S128x1 : Shape := ⟨2, ![128, 1]⟩
abbrev S256x1 : Shape := ⟨2, ![256, 1]⟩
abbrev S1024x512 : Shape := ⟨2, ![1024, 512]⟩
abbrev S1x1024x512 : Shape := ⟨3, ![1, 1024, 512]⟩
abbrev S1x256x256 : Shape := ⟨3, ![1, 256, 256]⟩

abbrev nBuf : Space → Nat
  | .hbm => 58
  | .vmem => 26
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x16x64, .f32⟩
  | .hbm, ⟨5, _⟩ => ⟨S16x4096x64, .f32⟩
  | .hbm, ⟨6, _⟩ => ⟨S4096x16x64, .f32⟩
  | .hbm, ⟨7, _⟩ => ⟨S16x4096x64, .f32⟩
  | .hbm, ⟨8, _⟩ => ⟨S16x4096x4096, .f32⟩
  | .hbm, ⟨9, _⟩ => ⟨S_, .f32⟩
  | .hbm, ⟨10, _⟩ => ⟨S16x4096x4096, .f32⟩
  | .hbm, ⟨11, _⟩ => ⟨S16x4096x4096, .f32⟩
  | .hbm, ⟨12, _⟩ => ⟨S4096, .i32⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S_, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S16x4096x4096, .f32⟩
  | .hbm, ⟨23, _⟩ => ⟨S16x4096x4096, .i1⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S16x4096x4096, .f32⟩
  | .hbm, ⟨33, _⟩ => ⟨S_, .f32⟩
  | .hbm, ⟨34, _⟩ => ⟨S_, .f32⟩
  | .hbm, ⟨35, _⟩ => ⟨S16x4096x4096, .i1⟩
  | .hbm, ⟨36, _⟩ => ⟨S16x4096x4096, .f32⟩
  | .hbm, ⟨37, _⟩ => ⟨S16x4096x4096, .f32⟩
  | .hbm, ⟨38, _⟩ => ⟨S_, .f32⟩
  | .hbm, ⟨39, _⟩ => ⟨S16x4096, .f32⟩
  | .hbm, ⟨40, _⟩ => ⟨S16x4096, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S16x4096, .f32⟩
  | .hbm, ⟨45, _⟩ => ⟨S16x4096, .f32⟩
  | .hbm, ⟨46, _⟩ => ⟨S8x2x4096, .f32⟩
  | .hbm, ⟨47, _⟩ => ⟨S8x4096x2, .f32⟩
  | .hbm, ⟨48, _⟩ => ⟨S8x4096x2x64, .f32⟩
  | .hbm, ⟨49, _⟩ => ⟨S8x4096x128, .f32⟩
  | .hbm, ⟨50, _⟩ => ⟨S4096x1024, .bf16⟩
  | .hbm, ⟨51, _⟩ => ⟨S4096x1024, .bf16⟩
  | .hbm, ⟨52, _⟩ => ⟨S4096x2048, .bf16⟩
  | .hbm, ⟨53, _⟩ => ⟨S4096x1024, .bf16⟩
  | .hbm, ⟨54, _⟩ => ⟨S4096x1024, .bf16⟩
  | .hbm, ⟨55, _⟩ => ⟨S4096x1024, .bf16⟩
  | .hbm, ⟨56, _⟩ => ⟨S4096x1024, .bf16⟩
  | .hbm, ⟨57, _⟩ => ⟨S4096x1024, .bf16⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S1x512x128, .f32⟩
  | .local _ .vmem, ⟨7, _⟩ => ⟨S1x512x128, .f32⟩
  | .local _ .vmem, ⟨8, _⟩ => ⟨S512x128, .bf16⟩
  | .local _ .vmem, ⟨9, _⟩ => ⟨S512x128, .bf16⟩
  | .local _ .vmem, ⟨10, _⟩ => ⟨S512x128, .bf16⟩
  | .local _ .vmem, ⟨11, _⟩ => ⟨S512x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .f32⟩
  | .local _ .vmem, ⟨17, _⟩ => ⟨S4096x128, .f32⟩
  | .local _ .vmem, ⟨18, _⟩ => ⟨S2x1024x512, .f32⟩
  | .local _ .vmem, ⟨19, _⟩ => ⟨S2x1024x512, .f32⟩
  | .local _ .vmem, ⟨20, _⟩ => ⟨S2x1024x512, .bf16⟩
  | .local _ .vmem, ⟨21, _⟩ => ⟨S2x1024x512, .bf16⟩
  | .local _ .vmem, ⟨22, _⟩ => ⟨S1024x1, .f32⟩
  | .local _ .vmem, ⟨23, _⟩ => ⟨S1024x1, .f32⟩
  | .local _ .vmem, ⟨24, _⟩ => ⟨S1024x1, .f32⟩
  | .local _ .vmem, ⟨25, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_v15 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31_0 : Ref sig .tc := ⟨.hbm, 55, rfl⟩
abbrev main_v31_1 : Ref sig .tc := ⟨.hbm, 56, rfl⟩
abbrev main_v31_2 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

def k0_mult1 : BitVec 32 :=
  let c0_i32_76 : BitVec 32 := 0#32
  c0_i32_76
@[reducible] def k0_t1_loop (i : grid0.Coords) : Scf.Loop 32 :=
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_95 : BitVec 32 := 1#32
  ⟨c0_i32_92, v185, c1_i32_95⟩
def k0_mult2 (i : grid0.Coords) (k0_t1 : Fin (k0_t1_loop i).trips) : BitVec 32 :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let c1_i32_319 : BitVec 32 := 1#32
  let v663 : BitVec 32 := Scalar.addi v242 c1_i32_319
  let c512_i32 : BitVec 32 := 512#32
  let v664 : BitVec 32 := Scalar.muli v663 c512_i32
  v664
def k0_off1 (i : grid0.Coords) (k0_t1 : Fin (k0_t1_loop i).trips) (c1_i32_319 : BitVec 32) : Fin 2 → Nat :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let v663 : BitVec 32 := Scalar.addi v242 c1_i32_319
  let c512_i32 : BitVec 32 := 512#32
  let v664 : BitVec 32 := Scalar.muli v663 c512_i32
  let v665 : BitVec 32 := v664
  let v666 : Index := Scalar.indexCast v665
  let c0_320 : Index := 0#32
  ![v666.toNat, 0]
def k0_mult3 (i : grid0.Coords) (k0_t1 : Fin (k0_t1_loop i).trips) : BitVec 32 :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let c1_i32_330 : BitVec 32 := 1#32
  let v680 : BitVec 32 := Scalar.subi v242 c1_i32_330
  let c0_i32_331 : BitVec 32 := 0#32
  let v681 : BitVec 32 := Scalar.maxsi v680 c0_i32_331
  let c512_i32_332 : BitVec 32 := 512#32
  let v682 : BitVec 32 := Scalar.muli v681 c512_i32_332
  v682
def k0_off2 (i : grid0.Coords) (k0_t1 : Fin (k0_t1_loop i).trips) : Fin 2 → Nat :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let c1_i32_330 : BitVec 32 := 1#32
  let v680 : BitVec 32 := Scalar.subi v242 c1_i32_330
  let c0_i32_331 : BitVec 32 := 0#32
  let v681 : BitVec 32 := Scalar.maxsi v680 c0_i32_331
  let c512_i32_332 : BitVec 32 := 512#32
  let v682 : BitVec 32 := Scalar.muli v681 c512_i32_332
  let v683 : BitVec 32 := v682
  let v686 : Index := Scalar.indexCast v683
  let c0_336 : Index := 0#32
  ![v686.toNat, 0]
def k0_mult4 (i : grid0.Coords) (k0_t1 : Fin (k0_t1_loop i).trips) : BitVec 32 :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let c2_i32_543 : BitVec 32 := 2#32
  let v1133 : BitVec 32 := Scalar.addi v242 c2_i32_543
  let c512_i32_544 : BitVec 32 := 512#32
  let v1134 : BitVec 32 := Scalar.muli v1133 c512_i32_544
  v1134
def k0_mult5 (i : grid0.Coords) (k0_t1 : Fin (k0_t1_loop i).trips) : BitVec 32 :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let c512_i32_555 : BitVec 32 := 512#32
  let v1150 : BitVec 32 := Scalar.muli v242 c512_i32_555
  v1150
def k0_off3 (i : grid0.Coords) (k0_t1 : Fin (k0_t1_loop i).trips) : Fin 2 → Nat :=
  let c2_i32_126 : BitVec 32 := 2#32
  let c0_i32_92 : BitVec 32 := 0#32
  let c1_i32_95 : BitVec 32 := 1#32
  let arg20 : BitVec 32 := Scf.iv c0_i32_92 c1_i32_95 k0_t1
  let v242 : BitVec 32 := Scalar.muli c2_i32_126 arg20
  let c512_i32_555 : BitVec 32 := 512#32
  let v1150 : BitVec 32 := Scalar.muli v242 c512_i32_555
  let v1151 : BitVec 32 := v1150
  let v1154 : Index := Scalar.indexCast v1151
  let c0_559 : Index := 0#32
  ![v1154.toNat, 0]
@[reducible] def k0_t2_loop (i : grid0.Coords) : Scf.Loop 32 :=
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let v182 : BitVec 32 := Scalar.addi c0_i32_92 v181
  let c1_i32_96 : BitVec 32 := 1#32
  ⟨v185, v182, c1_i32_96⟩
def k0_mult6 (i : grid0.Coords) (k0_t2 : Fin (k0_t2_loop i).trips) : BitVec 32 :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let c1_i32_319 : BitVec 32 := 1#32
  let v663 : BitVec 32 := Scalar.addi v242 c1_i32_319
  let c512_i32 : BitVec 32 := 512#32
  let v664 : BitVec 32 := Scalar.muli v663 c512_i32
  v664
def k0_off4 (i : grid0.Coords) (k0_t2 : Fin (k0_t2_loop i).trips) (c1_i32_319 : BitVec 32) : Fin 2 → Nat :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let v663 : BitVec 32 := Scalar.addi v242 c1_i32_319
  let c512_i32 : BitVec 32 := 512#32
  let v664 : BitVec 32 := Scalar.muli v663 c512_i32
  let v665 : BitVec 32 := v664
  let v666 : Index := Scalar.indexCast v665
  let c0_320 : Index := 0#32
  ![v666.toNat, 0]
def k0_mult7 (i : grid0.Coords) (k0_t2 : Fin (k0_t2_loop i).trips) : BitVec 32 :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let c1_i32_330 : BitVec 32 := 1#32
  let v680 : BitVec 32 := Scalar.subi v242 c1_i32_330
  let c0_i32_331 : BitVec 32 := 0#32
  let v681 : BitVec 32 := Scalar.maxsi v680 c0_i32_331
  let c512_i32_332 : BitVec 32 := 512#32
  let v682 : BitVec 32 := Scalar.muli v681 c512_i32_332
  v682
def k0_off5 (i : grid0.Coords) (k0_t2 : Fin (k0_t2_loop i).trips) : Fin 2 → Nat :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let c1_i32_330 : BitVec 32 := 1#32
  let v680 : BitVec 32 := Scalar.subi v242 c1_i32_330
  let c0_i32_331 : BitVec 32 := 0#32
  let v681 : BitVec 32 := Scalar.maxsi v680 c0_i32_331
  let c512_i32_332 : BitVec 32 := 512#32
  let v682 : BitVec 32 := Scalar.muli v681 c512_i32_332
  let v683 : BitVec 32 := v682
  let v686 : Index := Scalar.indexCast v683
  let c0_336 : Index := 0#32
  ![v686.toNat, 0]
def k0_mult8 (i : grid0.Coords) (k0_t2 : Fin (k0_t2_loop i).trips) : BitVec 32 :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let c2_i32_543 : BitVec 32 := 2#32
  let v1133 : BitVec 32 := Scalar.addi v242 c2_i32_543
  let c512_i32_544 : BitVec 32 := 512#32
  let v1134 : BitVec 32 := Scalar.muli v1133 c512_i32_544
  v1134
def k0_mult9 (i : grid0.Coords) (k0_t2 : Fin (k0_t2_loop i).trips) : BitVec 32 :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let c512_i32_555 : BitVec 32 := 512#32
  let v1150 : BitVec 32 := Scalar.muli v242 c512_i32_555
  v1150
def k0_off6 (i : grid0.Coords) (k0_t2 : Fin (k0_t2_loop i).trips) : Fin 2 → Nat :=
  let c2_i32_126 : BitVec 32 := 2#32
  let c0_i32_92 : BitVec 32 := 0#32
  let arg1 : BitVec 32 := BitVec.ofNat 32 (i 1).val
  let c0_i32_87 : BitVec 32 := 0#32
  let v165 : BitVec 1 := Scalar.cmpi .sgt arg1 c0_i32_87
  let v166 : BitVec 32 := Scalar.extui v165
  let c0_i32_88 : BitVec 32 := 0#32
  let v167 : BitVec 1 := Scalar.cmpi .slt arg1 c0_i32_88
  let v168 : BitVec 32 := Scalar.extui v167
  let v169 : BitVec 32 := Scalar.subi v166 v168
  let c2_i32 : BitVec 32 := 2#32
  let c0_i32_89 : BitVec 32 := 0#32
  let v170 : BitVec 1 := Scalar.cmpi .sgt c2_i32 c0_i32_89
  let v171 : BitVec 32 := Scalar.extui v170
  let c0_i32_90 : BitVec 32 := 0#32
  let v172 : BitVec 1 := Scalar.cmpi .slt c2_i32 c0_i32_90
  let v173 : BitVec 32 := Scalar.extui v172
  let v174 : BitVec 32 := Scalar.subi v171 v173
  let v175 : BitVec 1 := Scalar.cmpi .ne v169 v174
  let v176 : BitVec 32 := Scalar.remsi arg1 c2_i32
  let c0_i32_91 : BitVec 32 := 0#32
  let v177 : BitVec 1 := Scalar.cmpi .ne v176 c0_i32_91
  let v178 : BitVec 1 := Scalar.andi v175 v177
  let v164 : BitVec 32 := Scalar.divsi arg1 c2_i32
  let c1_i32 : BitVec 32 := 1#32
  let v179 : BitVec 32 := Scalar.subi v164 c1_i32
  let v180 : BitVec 32 := Scalar.select v178 v179 v164
  let v181 : BitVec 32 := Scalar.subi v180 c0_i32_92
  let c1_i32_94 : BitVec 32 := 1#32
  let v183 : BitVec 32 := Scalar.divsi v181 c1_i32_94
  let v184 : BitVec 32 := Scalar.muli v183 c1_i32_94
  let v185 : BitVec 32 := Scalar.addi c0_i32_92 v184
  let c1_i32_96 : BitVec 32 := 1#32
  let arg20 : BitVec 32 := Scf.iv v185 c1_i32_96 k0_t2
  let v242 : BitVec 32 := Scalar.muli c2_i32_126 arg20
  let c512_i32_555 : BitVec 32 := 512#32
  let v1150 : BitVec 32 := Scalar.muli v242 c512_i32_555
  let v1151 : BitVec 32 := v1150
  let v1154 : Index := Scalar.indexCast v1151
  let c0_559 : Index := 0#32
  ![v1154.toNat, 0]
def k0_cond2 (i : grid0.Coords) : BitVec 1 :=
  let arg1 : BitVec 32 := BitVec.ofNat 32 (i 1).val
  let c2_i32_97 : BitVec 32 := 2#32
  let v188 : BitVec 32 := Scalar.remsi arg1 c2_i32_97
  let c1_i32_98 : BitVec 32 := 1#32
  let v189 : BitVec 1 := Scalar.cmpi .eq v188 c1_i32_98
  let v_true : BitVec 1 := 1#1
  let v190 : BitVec 1 := Scalar.xori v189 v_true
  let v191 : BitVec 32 := Scalar.extui v190
  let c0_i32_99 : BitVec 32 := 0#32
  let v192 : BitVec 1 := Scalar.cmpi .ne v191 c0_i32_99
  v192

def k0_mult10 (i : grid0.Coords) : BitVec 32 :=
  let arg1 : BitVec 32 := BitVec.ofNat 32 (i 1).val
  let c1_i32_321 : BitVec 32 := 1#32
  let v654 : BitVec 32 := Scalar.subi arg1 c1_i32_321
  let c0_i32_322 : BitVec 32 := 0#32
  let v655 : BitVec 32 := Scalar.maxsi v654 c0_i32_322
  let c512_i32 : BitVec 32 := 512#32
  let v656 : BitVec 32 := Scalar.muli v655 c512_i32
  v656
def k0_off7 (i : grid0.Coords) : Fin 2 → Nat :=
  let arg1 : BitVec 32 := BitVec.ofNat 32 (i 1).val
  let c1_i32_321 : BitVec 32 := 1#32
  let v654 : BitVec 32 := Scalar.subi arg1 c1_i32_321
  let c0_i32_322 : BitVec 32 := 0#32
  let v655 : BitVec 32 := Scalar.maxsi v654 c0_i32_322
  let c512_i32 : BitVec 32 := 512#32
  let v656 : BitVec 32 := Scalar.muli v655 c512_i32
  let v657 : BitVec 32 := v656
  let v660 : Index := Scalar.indexCast v657
  let c0_326 : Index := 0#32
  ![v660.toNat, 0]
def k0_mult11 (i : grid0.Coords) : BitVec 32 :=
  let arg1 : BitVec 32 := BitVec.ofNat 32 (i 1).val
  let c512_i32_341 : BitVec 32 := 512#32
  let v687 : BitVec 32 := Scalar.muli arg1 c512_i32_341
  v687
def k0_off8 (i : grid0.Coords) : Fin 2 → Nat :=
  let arg1 : BitVec 32 := BitVec.ofNat 32 (i 1).val
  let c512_i32_341 : BitVec 32 := 512#32
  let v687 : BitVec 32 := Scalar.muli arg1 c512_i32_341
  let v688 : BitVec 32 := v687
  let v691 : Index := Scalar.indexCast v688
  let c0_345 : Index := 0#32
  ![v691.toNat, 0]
def k0_cond3 (i : grid0.Coords) : BitVec 1 :=
  let arg1 : BitVec 32 := BitVec.ofNat 32 (i 1).val
  let c2_i32_97 : BitVec 32 := 2#32
  let v188 : BitVec 32 := Scalar.remsi arg1 c2_i32_97
  let c1_i32_98 : BitVec 32 := 1#32
  let v189 : BitVec 1 := Scalar.cmpi .eq v188 c1_i32_98
  let v193 : BitVec 32 := Scalar.extui v189
  let c0_i32_100 : BitVec 32 := 0#32
  let v194 : BitVec 1 := Scalar.cmpi .ne v193 c0_i32_100
  v194

def k0_mult12 (i : grid0.Coords) : BitVec 32 :=
  let arg1 : BitVec 32 := BitVec.ofNat 32 (i 1).val
  let c512_i32 : BitVec 32 := 512#32
  let v662 : BitVec 32 := Scalar.muli arg1 c512_i32
  v662
def k0_off9 (i : grid0.Coords) : Fin 2 → Nat :=
  let arg1 : BitVec 32 := BitVec.ofNat 32 (i 1).val
  let c512_i32 : BitVec 32 := 512#32
  let v662 : BitVec 32 := Scalar.muli arg1 c512_i32
  let v663 : BitVec 32 := v662
  let v664 : Index := Scalar.indexCast v663
  let c0_318 : Index := 0#32
  ![v664.toNat, 0]
def k0_mult13 (i : grid0.Coords) : BitVec 32 :=
  let arg1 : BitVec 32 := BitVec.ofNat 32 (i 1).val
  let c2_i32_328 : BitVec 32 := 2#32
  let v678 : BitVec 32 := Scalar.subi arg1 c2_i32_328
  let c0_i32_329 : BitVec 32 := 0#32
  let v679 : BitVec 32 := Scalar.maxsi v678 c0_i32_329
  let c512_i32_330 : BitVec 32 := 512#32
  let v680 : BitVec 32 := Scalar.muli v679 c512_i32_330
  v680
def k0_off10 (i : grid0.Coords) : Fin 2 → Nat :=
  let arg1 : BitVec 32 := BitVec.ofNat 32 (i 1).val
  let c2_i32_328 : BitVec 32 := 2#32
  let v678 : BitVec 32 := Scalar.subi arg1 c2_i32_328
  let c0_i32_329 : BitVec 32 := 0#32
  let v679 : BitVec 32 := Scalar.maxsi v678 c0_i32_329
  let c512_i32_330 : BitVec 32 := 512#32
  let v680 : BitVec 32 := Scalar.muli v679 c512_i32_330
  let v681 : BitVec 32 := v680
  let v684 : Index := Scalar.indexCast v681
  let c0_334 : Index := 0#32
  ![v684.toNat, 0]
def k0_mult14 (i : grid0.Coords) : BitVec 32 :=
  let arg1 : BitVec 32 := BitVec.ofNat 32 (i 1).val
  let c1_i32_544 : BitVec 32 := 1#32
  let v1123 : BitVec 32 := Scalar.subi arg1 c1_i32_544
  let c512_i32_545 : BitVec 32 := 512#32
  let v1124 : BitVec 32 := Scalar.muli v1123 c512_i32_545
  v1124
def k0_off11 (i : grid0.Coords) : Fin 2 → Nat :=
  let arg1 : BitVec 32 := BitVec.ofNat 32 (i 1).val
  let c1_i32_544 : BitVec 32 := 1#32
  let v1123 : BitVec 32 := Scalar.subi arg1 c1_i32_544
  let c512_i32_545 : BitVec 32 := 512#32
  let v1124 : BitVec 32 := Scalar.muli v1123 c512_i32_545
  let v1125 : BitVec 32 := v1124
  let v1128 : Index := Scalar.indexCast v1125
  let c0_549 : Index := 0#32
  ![v1128.toNat, 0]
def k0_mult15 (i : grid0.Coords) : BitVec 32 :=
  let arg1 : BitVec 32 := BitVec.ofNat 32 (i 1).val
  let c512_i32_564 : BitVec 32 := 512#32
  let v1155 : BitVec 32 := Scalar.muli arg1 c512_i32_564
  v1155
def k0_cond4 (i : grid0.Coords) : BitVec 1 :=
  let arg1 : BitVec 32 := BitVec.ofNat 32 (i 1).val
  let c7_i32 : BitVec 32 := 7#32
  let v239 : BitVec 1 := Scalar.cmpi .eq arg1 c7_i32
  let v240 : BitVec 32 := Scalar.extui v239
  let c0_i32_125 : BitVec 32 := 0#32
  let v241 : BitVec 1 := Scalar.cmpi .ne v240 c0_i32_125
  v241

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbaKernelIdeal.lean ====
variable {F : FTy → Type} [FloatOps F] [Named F]
def κ : String → Option EReal := fun
  | "log2_e" => some (((Real.log 2)⁻¹ : ℝ) : EReal)
  | _ => none
-- ==== SbaRefIdeal.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x64x4096 : Shape := ⟨3, ![16, 64, 4096]⟩

abbrev nBuf : Space → Nat
  | .hbm => 175
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x16x64, .f32⟩
  | 5 => ⟨S16x4096x64, .f32⟩
  | 6 => ⟨S4096x16x64, .f32⟩
  | 7 => ⟨S16x4096x64, .f32⟩
  | 8 => ⟨S16x4096x4096, .f32⟩
  | 9 => ⟨S_, .f32⟩
  | 10 => ⟨S16x4096x4096, .f32⟩
  | 11 => ⟨S16x4096x4096, .f32⟩
  | 12 => ⟨S4096, .i32⟩
  | 13 => ⟨S1x4096, .i32⟩
  | 14 => ⟨S4096x1, .i32⟩
  | 15 => ⟨S4096x4096, .i32⟩
  | 16 => ⟨S4096x4096, .i32⟩
  | 17 => ⟨S4096x4096, .i1⟩
  | 18 => ⟨S_, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .i1⟩
  | 24 => ⟨S16x4096x4096, .f32⟩
  | 25 => ⟨S16x4096x4096, .f32⟩
  | 26 => ⟨S16x4096x4096, .f32⟩
  | 27 => ⟨S16x4096x4096, .f32⟩
  | 28 => ⟨S16x4096x4096, .f32⟩
  | 29 => ⟨S16x4096x4096, .f32⟩
  | 30 => ⟨S16x4096x4096, .f32⟩
  | 31 => ⟨S16x4096x4096, .f32⟩
  | 32 => ⟨S_, .f32⟩
  | 33 => ⟨S16x4096x4096, .f32⟩
  | 34 => ⟨S16x4096x4096, .i1⟩
  | 35 => ⟨S_, .f32⟩
  | 36 => ⟨S16x4096x4096, .f32⟩
  | 37 => ⟨S16x4096x4096, .f32⟩
  | 38 => ⟨S_, .f32⟩
  | 39 => ⟨S16x4096x4096, .f32⟩
  | 40 => ⟨S16x4096x4096, .i1⟩
  | 41 => ⟨S_, .f32⟩
  | 42 => ⟨S16x4096x4096, .f32⟩
  | 43 => ⟨S16x4096x4096, .f32⟩
  | 44 => ⟨S16x4096x4096, .f32⟩
  | 45 => ⟨S16x4096x4096, .f32⟩
  | 46 => ⟨S_, .f32⟩
  | 47 => ⟨S_, .f32⟩
  | 48 => ⟨S_, .i1⟩
  | 49 => ⟨S_, .f32⟩
  | 50 => ⟨S_, .f32⟩
  | 51 => ⟨S_, .f32⟩
  | 52 => ⟨S_, .f32⟩
  | 53 => ⟨S16x4096x4096, .f32⟩
  | 54 => ⟨S16x4096x4096, .i1⟩
  | 55 => ⟨S_, .f32⟩
  | 56 => ⟨S16x4096x4096, .f32⟩
  | 57 => ⟨S16x4096x4096, .f32⟩
  | 58 => ⟨S16x4096x4096, .f32⟩
  | 59 => ⟨S16x4096x4096, .f32⟩
  | 60 => ⟨S16x4096x4096, .f32⟩
  | 61 => ⟨S_, .f32⟩
  | 62 => ⟨S16x4096x4096, .f32⟩
  | 63 => ⟨S16x4096x4096, .f32⟩
  | 64 => ⟨S16x4096x4096, .f32⟩
  | 65 => ⟨S_, .f32⟩
  | 66 => ⟨S_, .f32⟩
  | 67 => ⟨S16x4096x4096, .i1⟩
  | 68 => ⟨S16x4096x4096, .f32⟩
  | 69 => ⟨S16x4096x4096, .f32⟩
  | 70 => ⟨S_, .f32⟩
  | 71 => ⟨S16x4096x4096, .f32⟩
  | 72 => ⟨S_, .f32⟩
  | 73 => ⟨S_, .f32⟩
  | 74 => ⟨S16x4096x4096, .f32⟩
  | 75 => ⟨S16x4096x4096, .f32⟩
  | 76 => ⟨S16x4096x4096, .f32⟩
  | 77 => ⟨S_, .f32⟩
  | 78 => ⟨S16x4096x4096, .f32⟩
  | 79 => ⟨S16x4096x4096, .f32⟩
  | 80 => ⟨S16x4096x4096, .f32⟩
  | 81 => ⟨S16x4096x4096, .f32⟩
  | 82 => ⟨S16x4096x4096, .i1⟩
  | 83 => ⟨S16x4096x4096, .f32⟩
  | 84 => ⟨S16x4096x4096, .f32⟩
  | 85 => ⟨S16x4096x4096, .f32⟩
  | 86 => ⟨S16x4096x4096, .f32⟩
  | 87 => ⟨S16x4096x4096, .f32⟩
  | 88 => ⟨S16x4096x4096, .f32⟩
  | 89 => ⟨S16x4096x4096, .f32⟩
  | 90 => ⟨S16x4096x4096, .f32⟩
  | 91 => ⟨S_, .f32⟩
  | 92 => ⟨S16x4096x4096, .f32⟩
  | 93 => ⟨S16x4096x4096, .i1⟩
  | 94 => ⟨S_, .f32⟩
  | 95 => ⟨S16x4096x4096, .f32⟩
  | 96 => ⟨S16x4096x4096, .f32⟩
  | 97 => ⟨S_, .f32⟩
  | 98 => ⟨S16x4096x4096, .f32⟩
  | 99 => ⟨S16x4096x4096, .i1⟩
  | 100 => ⟨S_, .f32⟩
  | 101 => ⟨S16x4096x4096, .f32⟩
  | 102 => ⟨S16x4096x4096, .f32⟩
  | 103 => ⟨S16x4096x4096, .f32⟩
  | 104 => ⟨S16x4096x4096, .f32⟩
  | 105 => ⟨S_, .f32⟩
  | 106 => ⟨S_, .f32⟩
  | 107 => ⟨S_, .i1⟩
  | 108 => ⟨S_, .f32⟩
  | 109 => ⟨S_, .f32⟩
  | 110 => ⟨S_, .f32⟩
  | 111 => ⟨S_, .f32⟩
  | 112 => ⟨S16x4096x4096, .f32⟩
  | 113 => ⟨S16x4096x4096, .i1⟩
  | 114 => ⟨S_, .f32⟩
  | 115 => ⟨S16x4096x4096, .f32⟩
  | 116 => ⟨S16x4096x4096, .f32⟩
  | 117 => ⟨S16x4096x4096, .f32⟩
  | 118 => ⟨S16x4096x4096, .f32⟩
  | 119 => ⟨S16x4096x4096, .f32⟩
  | 120 => ⟨S_, .f32⟩
  | 121 => ⟨S16x4096x4096, .f32⟩
  | 122 => ⟨S16x4096x4096, .f32⟩
  | 123 => ⟨S16x4096x4096, .f32⟩
  | 124 => ⟨S16x4096x4096, .f32⟩
  | 125 => ⟨S16x4096x4096, .f32⟩
  | 126 => ⟨S_, .f32⟩
  | 127 => ⟨S_, .f32⟩
  | _ => ⟨S4096x1024, .f32⟩

abbrev hbmTy0_1 (i : Nat) : BufTy := match i % 128 with
  | 0 => ⟨S16x4096x4096, .i1⟩
  | 1 => ⟨S16x4096x4096, .f32⟩
  | 2 => ⟨S16x4096x4096, .f32⟩
  | 3 => ⟨S_, .f32⟩
  | 4 => ⟨S16x4096x4096, .f32⟩
  | 5 => ⟨S4096x16x64, .f32⟩
  | 6 => ⟨S16x4096x64, .f32⟩
  | 7 => ⟨S16x4096x64, .f32⟩
  | 8 => ⟨S4096x16x64, .f32⟩
  | 9 => ⟨S4096x1024, .f32⟩
  | 10 => ⟨S4096x16x64, .f32⟩
  | 11 => ⟨S16x4096x64, .f32⟩
  | 12 => ⟨S16x64x4096, .f32⟩
  | 13 => ⟨S16x4096x64, .f32⟩
  | 14 => ⟨S16x4096x4096, .f32⟩
  | 15 => ⟨S4096x16x64, .f32⟩
  | 16 => ⟨S4096x1024, .f32⟩
  | 17 => ⟨S_, .f32⟩
  | 18 => ⟨S16x4096x4096, .f32⟩
  | 19 => ⟨S16x4096x4096, .f32⟩
  | 20 => ⟨S16x4096x4096, .f32⟩
  | 21 => ⟨S16x4096x4096, .f32⟩
  | 22 => ⟨S16x4096x4096, .f32⟩
  | 23 => ⟨S16x4096x4096, .f32⟩
  | 24 => ⟨S16x4096x4096, .f32⟩
  | 25 => ⟨S_, .f32⟩
  | 26 => ⟨S_, .f32⟩
  | 27 => ⟨S16x4096x4096, .f32⟩
  | 28 => ⟨S16x4096x4096, .f32⟩
  | 29 => ⟨S_, .f32⟩
  | 30 => ⟨S16x4096x4096, .f32⟩
  | 31 => ⟨S16x4096x4096, .f32⟩
  | 32 => ⟨S16x4096x4096, .f32⟩
  | 33 => ⟨S16x4096x4096, .f32⟩
  | 34 => ⟨S16x4096x4096, .f32⟩
  | 35 => ⟨S_, .f32⟩
  | 36 => ⟨S16x4096x4096, .f32⟩
  | 37 => ⟨S16x4096x4096, .f32⟩
  | 38 => ⟨S16x4096x64, .f32⟩
  | 39 => ⟨S16x4096x64, .f32⟩
  | 40 => ⟨S4096x16x64, .f32⟩
  | 41 => ⟨S4096x1024, .f32⟩
  | 42 => ⟨S4096x16x64, .f32⟩
  | 43 => ⟨S4096x1024, .f32⟩
  | 44 => ⟨S4096x1024, .bf16⟩
  | 45 => ⟨S4096x1024, .bf16⟩
  | 46 => ⟨S4096x1024, .bf16⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_cst : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_v13_0 : Ref sig .tc := ⟨.hbm, 31, rfl⟩
abbrev main_call0_cst_0 : Ref sig .tc := ⟨.hbm, 32, rfl⟩
abbrev main_call0_v13 : Ref sig .tc := ⟨.hbm, 33, rfl⟩
abbrev main_call0_v14 : Ref sig .tc := ⟨.hbm, 34, rfl⟩
abbrev main_call0_cst_1 : Ref sig .tc := ⟨.hbm, 35, rfl⟩
abbrev main_call0_v15 : Ref sig .tc := ⟨.hbm, 36, rfl⟩
abbrev main_call0_v16 : Ref sig .tc := ⟨.hbm, 37, rfl⟩
abbrev main_call0_cst_2 : Ref sig .tc := ⟨.hbm, 38, rfl⟩
abbrev main_call0_v17 : Ref sig .tc := ⟨.hbm, 39, rfl⟩
abbrev main_call0_v18 : Ref sig .tc := ⟨.hbm, 40, rfl⟩
abbrev main_call0_cst_3 : Ref sig .tc := ⟨.hbm, 41, rfl⟩
abbrev main_call0_v19 : Ref sig .tc := ⟨.hbm, 42, rfl⟩
abbrev main_call0_v20 : Ref sig .tc := ⟨.hbm, 43, rfl⟩
abbrev main_call0_v21 : Ref sig .tc := ⟨.hbm, 44, rfl⟩
abbrev main_v13_1 : Ref sig .tc := ⟨.hbm, 45, rfl⟩
abbrev main_call0_cst_4 : Ref sig .tc := ⟨.hbm, 46, rfl⟩
abbrev main_call0_cst_5 : Ref sig .tc := ⟨.hbm, 47, rfl⟩
abbrev main_call0_v23 : Ref sig .tc := ⟨.hbm, 48, rfl⟩
abbrev main_call0_cst_6 : Ref sig .tc := ⟨.hbm, 49, rfl⟩
abbrev main_call0_cst_7 : Ref sig .tc := ⟨.hbm, 50, rfl⟩
abbrev main_call0_v24 : Ref sig .tc := ⟨.hbm, 51, rfl⟩
abbrev main_call0_cst_8 : Ref sig .tc := ⟨.hbm, 52, rfl⟩
abbrev main_call0_v25 : Ref sig .tc := ⟨.hbm, 53, rfl⟩
abbrev main_call0_v26 : Ref sig .tc := ⟨.hbm, 54, rfl⟩
abbrev main_call0_cst_9 : Ref sig .tc := ⟨.hbm, 55, rfl⟩
abbrev main_call0_v27 : Ref sig .tc := ⟨.hbm, 56, rfl⟩
abbrev main_call0_v28 : Ref sig .tc := ⟨.hbm, 57, rfl⟩
abbrev main_call0_v29 : Ref sig .tc := ⟨.hbm, 58, rfl⟩
abbrev main_call0_v30 : Ref sig .tc := ⟨.hbm, 59, rfl⟩
abbrev main_call0_v31 : Ref sig .tc := ⟨.hbm, 60, rfl⟩
abbrev main_call0_cst_10 : Ref sig .tc := ⟨.hbm, 61, rfl⟩
abbrev main_call0_v32 : Ref sig .tc := ⟨.hbm, 62, rfl⟩
abbrev main_v13_2 : Ref sig .tc := ⟨.hbm, 63, rfl⟩
abbrev main_v14 : Ref sig .tc := ⟨.hbm, 64, rfl⟩
abbrev main_cst_0 : Ref sig .tc := ⟨.hbm, 65, rfl⟩
abbrev main_call1_v0 : Ref sig .tc := ⟨.hbm, 66, rfl⟩
abbrev main_v15_1 : Ref sig .tc := ⟨.hbm, 67, rfl⟩
abbrev main_call1_v2 : Ref sig .tc := ⟨.hbm, 68, rfl⟩
abbrev main_v15_0 : Ref sig .tc := ⟨.hbm, 69, rfl⟩
abbrev main_call1_cst : Ref sig .tc := ⟨.hbm, 70, rfl⟩
abbrev main_v15_2 : Ref sig .tc := ⟨.hbm, 71, rfl⟩
abbrev main_call2_cst : Ref sig .tc := ⟨.hbm, 72, rfl⟩
abbrev main_call2_v0 : Ref sig .tc := ⟨.hbm, 73, rfl⟩
abbrev main_v16 : Ref sig .tc := ⟨.hbm, 74, rfl⟩
abbrev main_v17 : Ref sig .tc := ⟨.hbm, 75, rfl⟩
abbrev main_call3_v0 : Ref sig .tc := ⟨.hbm, 76, rfl⟩
abbrev main_call3_call0_cst : Ref sig .tc := ⟨.hbm, 77, rfl⟩
abbrev main_call3_call0_v0 : Ref sig .tc := ⟨.hbm, 78, rfl⟩
abbrev main_call3_call0_v1 : Ref sig .tc := ⟨.hbm, 79, rfl⟩
abbrev main_call3_call0_v2 : Ref sig .tc := ⟨.hbm, 80, rfl⟩
abbrev main_call3_call0_v3 : Ref sig .tc := ⟨.hbm, 81, rfl⟩
abbrev main_call3_call0_v4 : Ref sig .tc := ⟨.hbm, 82, rfl⟩
abbrev main_call3_call0_v5 : Ref sig .tc := ⟨.hbm, 83, rfl⟩
abbrev main_call3_call0_v6 : Ref sig .tc := ⟨.hbm, 84, rfl⟩
abbrev main_call3_call0_v7 : Ref sig .tc := ⟨.hbm, 85, rfl⟩
abbrev main_call3_call0_v8 : Ref sig .tc := ⟨.hbm, 86, rfl⟩
abbrev main_call3_call0_v9 : Ref sig .tc := ⟨.hbm, 87, rfl⟩
abbrev main_call3_call0_v10 : Ref sig .tc := ⟨.hbm, 88, rfl⟩
abbrev main_call3_call0_v11 : Ref sig .tc := ⟨.hbm, 89, rfl⟩
abbrev main_call3_v1_0 : Ref sig .tc := ⟨.hbm, 90, rfl⟩
abbrev main_call3_call0_cst_0 : Ref sig .tc := ⟨.hbm, 91, rfl⟩
abbrev main_call3_call0_v13 : Ref sig .tc := ⟨.hbm, 92, rfl⟩
abbrev main_call3_call0_v14 : Ref sig .tc := ⟨.hbm, 93, rfl⟩
abbrev main_call3_call0_cst_1 : Ref sig .tc := ⟨.hbm, 94, rfl⟩
abbrev main_call3_call0_v15 : Ref sig .tc := ⟨.hbm, 95, rfl⟩
abbrev main_call3_call0_v16 : Ref sig .tc := ⟨.hbm, 96, rfl⟩
abbrev main_call3_call0_cst_2 : Ref sig .tc := ⟨.hbm, 97, rfl⟩
abbrev main_call3_call0_v17 : Ref sig .tc := ⟨.hbm, 98, rfl⟩
abbrev main_call3_call0_v18 : Ref sig .tc := ⟨.hbm, 99, rfl⟩
abbrev main_call3_call0_cst_3 : Ref sig .tc := ⟨.hbm, 100, rfl⟩
abbrev main_call3_call0_v19 : Ref sig .tc := ⟨.hbm, 101, rfl⟩
abbrev main_call3_call0_v20 : Ref sig .tc := ⟨.hbm, 102, rfl⟩
abbrev main_call3_call0_v21 : Ref sig .tc := ⟨.hbm, 103, rfl⟩
abbrev main_v18_1 : Ref sig .tc := ⟨.hbm, 104, rfl⟩
abbrev main_call3_call0_cst_4 : Ref sig .tc := ⟨.hbm, 105, rfl⟩
abbrev main_call3_call0_cst_5 : Ref sig .tc := ⟨.hbm, 106, rfl⟩
abbrev main_call3_call0_v23 : Ref sig .tc := ⟨.hbm, 107, rfl⟩
abbrev main_call3_call0_cst_6 : Ref sig .tc := ⟨.hbm, 108, rfl⟩
abbrev main_call3_call0_cst_7 : Ref sig .tc := ⟨.hbm, 109, rfl⟩
abbrev main_call3_call0_v24 : Ref sig .tc := ⟨.hbm, 110, rfl⟩
abbrev main_call3_call0_cst_8 : Ref sig .tc := ⟨.hbm, 111, rfl⟩
abbrev main_call3_call0_v25 : Ref sig .tc := ⟨.hbm, 112, rfl⟩
abbrev main_call3_call0_v26 : Ref sig .tc := ⟨.hbm, 113, rfl⟩
abbrev main_call3_call0_cst_9 : Ref sig .tc := ⟨.hbm, 114, rfl⟩
abbrev main_call3_call0_v27 : Ref sig .tc := ⟨.hbm, 115, rfl⟩
abbrev main_call3_call0_v28 : Ref sig .tc := ⟨.hbm, 116, rfl⟩
abbrev main_call3_call0_v29 : Ref sig .tc := ⟨.hbm, 117, rfl⟩
abbrev main_call3_call0_v30 : Ref sig .tc := ⟨.hbm, 118, rfl⟩
abbrev main_call3_call0_v31 : Ref sig .tc := ⟨.hbm, 119, rfl⟩
abbrev main_call3_call0_cst_10 : Ref sig .tc := ⟨.hbm, 120, rfl⟩
abbrev main_call3_call0_v32 : Ref sig .tc := ⟨.hbm, 121, rfl⟩
abbrev main_v18_2 : Ref sig .tc := ⟨.hbm, 122, rfl⟩
abbrev main_v18_0 : Ref sig .tc := ⟨.hbm, 123, rfl⟩
abbrev main_v19 : Ref sig .tc := ⟨.hbm, 124, rfl⟩
abbrev main_v20 : Ref sig .tc := ⟨.hbm, 125, rfl⟩
abbrev main_cst_1 : Ref sig .tc := ⟨.hbm, 126, rfl⟩
abbrev main_call4_v0 : Ref sig .tc := ⟨.hbm, 127, rfl⟩
abbrev main_v21_1 : Ref sig .tc := ⟨.hbm, 128, rfl⟩
abbrev main_call4_v2 : Ref sig .tc := ⟨.hbm, 129, rfl⟩
abbrev main_v21_0 : Ref sig .tc := ⟨.hbm, 130, rfl⟩
abbrev main_call4_cst : Ref sig .tc := ⟨.hbm, 131, rfl⟩
abbrev main_v21_2 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_v41 : Ref sig .tc := ⟨.hbm, 160, rfl⟩
abbrev main_v42 : Ref sig .tc := ⟨.hbm, 161, rfl⟩
abbrev main_v43 : Ref sig .tc := ⟨.hbm, 162, rfl⟩
abbrev main_cst_2 : Ref sig .tc := ⟨.hbm, 163, rfl⟩
abbrev main_v44 : Ref sig .tc := ⟨.hbm, 164, rfl⟩
abbrev main_v45 : Ref sig .tc := ⟨.hbm, 165, rfl⟩
abbrev main_v46 : Ref sig .tc := ⟨.hbm, 166, rfl⟩
abbrev main_v47 : Ref sig .tc := ⟨.hbm, 167, rfl⟩
abbrev main_v48 : Ref sig .tc := ⟨.hbm, 168, rfl⟩
abbrev main_v49 : Ref sig .tc := ⟨.hbm, 169, rfl⟩
abbrev main_v50 : Ref sig .tc := ⟨.hbm, 170, rfl⟩
abbrev main_v51 : Ref sig .tc := ⟨.hbm, 171, rfl⟩
abbrev main_v52 : Ref sig .tc := ⟨.hbm, 172, rfl⟩
abbrev main_v53 : Ref sig .tc := ⟨.hbm, 173, rfl⟩
abbrev main_v54 : Ref sig .tc := ⟨.hbm, 174, rfl⟩

abbrev nD : Nat := 1
abbrev τ : Topo := Topo.v7x

variable {F : FTy → Type} [FloatOps F]
-- ==== KvKernel.lean ====
abbrev S4096x1024 : Shape := ⟨2, ![4096, 1024]⟩
abbrev S1024x1024 : Shape := ⟨2, ![1024, 1024]⟩
abbrev S1024 : Shape := ⟨1, ![1024]⟩
abbrev S4096x2048 : Shape := ⟨2, ![4096, 2048]⟩
abbrev S1024x2048 : Shape := ⟨2, ![1024, 2048]⟩
abbrev S1x1024 : Shape := ⟨2, ![1, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x2048, .f32⟩
  | .hbm, ⟨8, _⟩ => ⟨S1024x2048, .f32⟩
  | .hbm, ⟨9, _⟩ => ⟨S4096x2048, .bf16⟩
  | .hbm, ⟨10, _⟩ => ⟨S1024x2048, .bf16⟩
  | .hbm, ⟨11, _⟩ => ⟨S1x1024, .f32⟩
  | .hbm, ⟨12, _⟩ => ⟨S4096x1024, .f32⟩
  | .hbm, ⟨13, _⟩ => ⟨S1x1024, .f32⟩
  | .hbm, ⟨14, _⟩ => ⟨S1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond4 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== KvRefIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S4096, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩

abbrev nD : Nat := 1
abbrev τ : Topo := Topo.v7x

variable {F : FTy → Type} [FloatOps F]
-- ==== UpKernel.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S5632x1024 : Shape := ⟨2, ![5632, 1024]⟩
abbrev S1x1024 : Shape := ⟨2, ![1, 1024]⟩
abbrev S1x1024x1408 : Shape := ⟨3, ![1, 1024, 1408]⟩
abbrev S1408x1024 : Shape := ⟨2, ![1408, 1024]⟩
abbrev S1024x1024 : Shape := ⟨2, ![1024, 1024]⟩
abbrev S1024x1408 : Shape := ⟨2, ![1024, 1408]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S5632x1024, .f32⟩
  | .hbm, ⟨12, _⟩ => ⟨S5632x1024, .bf16⟩
  | .hbm, ⟨13, _⟩ => ⟨S1x1024, .f32⟩
  | .hbm, ⟨14, _⟩ => ⟨S4096x1024, .f32⟩
  | .hbm, ⟨15, _⟩ => ⟨S1x1024, .f32⟩
  | .hbm, ⟨16, _⟩ => ⟨S1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_9 : BitVec 32 := 0#32
  let v15 : BitVec 1 := Scalar.cmpi .ne v14 c0_i32_9
  v15

def k0_cond3 (i : grid0.Coords) : BitVec 1 :=
  let arg0 : BitVec 32 := BitVec.ofNat 32 (i 0).val
  let c0_i32_26 : BitVec 32 := 0#32
  let v48 : BitVec 1 := Scalar.cmpi .eq arg0 c0_i32_26
  let v49 : BitVec 32 := Scalar.extui v48
  let c0_i32_27 : BitVec 32 := 0#32
  let v50 : BitVec 1 := Scalar.cmpi .ne v49 c0_i32_27
  v50

def k0_cond4 (i : grid0.Coords) : BitVec 1 :=
  let arg0 : BitVec 32 := BitVec.ofNat 32 (i 0).val
  let c0_i32_28 : BitVec 32 := 0#32
  let v51 : BitVec 1 := Scalar.cmpi .sgt arg0 c0_i32_28
  let v52 : BitVec 32 := Scalar.extui v51
  let c0_i32_29 : BitVec 32 := 0#32
  let v53 : BitVec 1 := Scalar.cmpi .ne v52 c0_i32_29
  v53

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c2_i32_0 : BitVec 32 := 2#32
  let v1 : BitVec 32 := Scalar.remsi arg2 c2_i32_0
  let c0_i32 : BitVec 32 := 0#32
  ![v0.toNat, arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== UpRefIdeal.lean ====
abbrev S4096x5632 : Shape := ⟨2, ![4096, 5632]⟩
abbrev S1024x5632 : Shape := ⟨2, ![1024, 5632]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S1024x5632, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== InKernel.lean ====
abbrev S4096x5152 : Shape := ⟨2, ![4096, 5152]⟩
abbrev S1024x5152 : Shape := ⟨2, ![1024, 5152]⟩
abbrev S4096x1024 : Shape := ⟨2, ![4096, 1024]⟩
abbrev S1024 : Shape := ⟨1, ![1024]⟩
abbrev S_ : Shape := ⟨0, ![]⟩
abbrev S4096x5376 : Shape := ⟨2, ![4096, 5376]⟩
abbrev S5152x1024 : Shape := ⟨2, ![5152, 1024]⟩
abbrev S5376x1024 : Shape := ⟨2, ![5376, 1024]⟩
abbrev S1x1024 : Shape := ⟨2, ![1, 1024]⟩
abbrev S1024x1792 : Shape := ⟨2, ![1024, 1792]⟩
abbrev S1792x1024 : Shape := ⟨2, ![1792, 1024]⟩
abbrev S1024x1024 : Shape := ⟨2, ![1024, 1024]⟩
abbrev S1024x1 : Shape := ⟨2, ![1024, 1]⟩

abbrev nBuf : Space → Nat
  | .hbm => 18
  | .vmem => 13
  | .smem => 0
  | _ => 0

abbrev bufTy : (tb : Table) → Fin (tcTables nBuf tb) → BufTy
  | .hbm, ⟨0, _⟩ => ⟨S4096x5152, .f32⟩
  | .hbm, ⟨1, _⟩ => ⟨S1024x5152, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S_, .i32⟩
  | .hbm, ⟨6, _⟩ => ⟨S_, .f32⟩
  | .hbm, ⟨7, _⟩ => ⟨S4096x5376, .f32⟩
  | .hbm, ⟨8, _⟩ => ⟨S5152x1024, .f32⟩
  | .hbm, ⟨9, _⟩ => ⟨S_, .i32⟩
  | .hbm, ⟨10, _⟩ => ⟨S_, .f32⟩
  | .hbm, ⟨11, _⟩ => ⟨S5376x1024, .f32⟩
  | .hbm, ⟨12, _⟩ => ⟨S4096x5376, .bf16⟩
  | .hbm, ⟨13, _⟩ => ⟨S5376x1024, .bf16⟩
  | .hbm, ⟨14, _⟩ => ⟨S1x1024, .f32⟩
  | .hbm, ⟨15, _⟩ => ⟨S4096x1024, .f32⟩
  | .hbm, ⟨16, _⟩ => ⟨S1x1024, .f32⟩
  | .hbm, ⟨17, _⟩ => ⟨S1024, .f32⟩
  | .local _ .vmem, ⟨0, _⟩ => ⟨S1024x1792, .bf16⟩
  | .local _ .vmem, ⟨1, _⟩ => ⟨S1024x1792, .bf16⟩
  | .local _ .vmem, ⟨2, _⟩ => ⟨S1792x1024, .bf16⟩
  | .local _ .vmem, ⟨3, _⟩ => ⟨S1792x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S4096x5152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![4, 1, 3], ![false, false, false]⟩

def k0_cond2 (i : grid0.Coords) : BitVec 1 :=
  let arg2 : BitVec 32 := BitVec.ofNat 32 (i 2).val
  let c2_i32 : BitVec 32 := 2#32
  let v13 : BitVec 1 := Scalar.cmpi .eq arg2 c2_i32
  let v14 : BitVec 32 := Scalar.extui v13
  let c0_i32_8 : BitVec 32 := 0#32
  let v15 : BitVec 1 := Scalar.cmpi .ne v14 c0_i32_8
  v15

def k0_cond3 (i : grid0.Coords) : BitVec 1 :=
  let arg0 : BitVec 32 := BitVec.ofNat 32 (i 0).val
  let c0_i32_25 : BitVec 32 := 0#32
  let v48 : BitVec 1 := Scalar.cmpi .eq arg0 c0_i32_25
  let v49 : BitVec 32 := Scalar.extui v48
  let c0_i32_26 : BitVec 32 := 0#32
  let v50 : BitVec 1 := Scalar.cmpi .ne v49 c0_i32_26
  v50

def k0_cond4 (i : grid0.Coords) : BitVec 1 :=
  let arg0 : BitVec 32 := BitVec.ofNat 32 (i 0).val
  let c0_i32_27 : BitVec 32 := 0#32
  let v51 : BitVec 1 := Scalar.cmpi .sgt arg0 c0_i32_27
  let v52 : BitVec 32 := Scalar.extui v51
  let c0_i32_28 : BitVec 32 := 0#32
  let v53 : BitVec 1 := Scalar.cmpi .ne v52 c0_i32_28
  v53

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== InRefIdeal.lean ====
abbrev S4096x5152 : Shape := ⟨2, ![4096, 5152]⟩
abbrev S1024x5152 : Shape := ⟨2, ![1024, 5152]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 53
  | .vmem => 0
  | .smem => 0
  | _ => 0

abbrev bufTy : (tb : Table) → Fin (tcTables nBuf tb) → BufTy
  | .hbm, ⟨0, _⟩ => ⟨S4096x5152, .f32⟩
  | .hbm, ⟨1, _⟩ => ⟨S1024x5152, .f32⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x5152, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S4096x1024, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | _, _ => ⟨S4096x5152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== QwKernel.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S4096x1024, .bf16⟩
  | .hbm, ⟨4, _⟩ => ⟨S1x1024, .f32⟩
  | .hbm, ⟨5, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== QwRefIdeal.lean ====
abbrev S4096x1024 : Shape := ⟨2, ![4096, 1024]⟩
abbrev S1024 : Shape := ⟨1, ![1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1024x1024, .f32⟩
  | .hbm, ⟨23, _⟩ => ⟨S1024x1024, .f32⟩
  | .hbm, ⟨24, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== KvwKernel.lean ====
abbrev S4096x1024 : Shape := ⟨2, ![4096, 1024]⟩
abbrev S1024 : Shape := ⟨1, ![1024]⟩
abbrev S4096x2048 : Shape := ⟨2, ![4096, 2048]⟩
abbrev S1x1024 : Shape := ⟨2, ![1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 10
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S4096x2048, .f32⟩
  | .hbm, ⟨5, _⟩ => ⟨S4096x2048, .bf16⟩
  | .hbm, ⟨6, _⟩ => ⟨S1x1024, .f32⟩
  | .hbm, ⟨7, _⟩ => ⟨S1024x2048, .bf16⟩
  | .hbm, ⟨8, _⟩ => ⟨S1024x1024, .bf16⟩
  | .hbm, ⟨9, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 4], ![false, false, false]⟩

def k0_cond2 (i : grid0.Coords) : BitVec 1 :=
  let arg2 : BitVec 32 := BitVec.ofNat 32 (i 2).val
  let c3_i32 : BitVec 32 := 3#32
  let v27 : BitVec 1 := Scalar.cmpi .eq arg2 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== KvwRefIdeal.lean ====
abbrev S4096x1024 : Shape := ⟨2, ![4096, 1024]⟩
abbrev S1024 : Shape := ⟨1, ![1024]⟩
abbrev S_ : Shape := ⟨0, ![]⟩
abbrev S1024x1024 : Shape := ⟨2, ![1024, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 30
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024, .f32⟩
  | .hbm, ⟨4, _⟩ => ⟨S_, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1024x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== UpwKernel.lean ====
abbrev S4096x5632 : Shape := ⟨2, ![4096, 5632]⟩
abbrev S4096x1024 : Shape := ⟨2, ![4096, 1024]⟩
abbrev S1024 : Shape := ⟨1, ![1024]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x1024 : Shape := ⟨2, ![1, 1024]⟩
abbrev S5632x1024 : Shape := ⟨2, ![5632, 1024]⟩
abbrev S1x1024x2816 : Shape := ⟨3, ![1, 1024, 2816]⟩
abbrev S1024x1024 : Shape := ⟨2, ![1024, 1024]⟩
abbrev S2816x1024 : Shape := ⟨2, ![2816, 1024]⟩
abbrev S1024x1 : Shape := ⟨2, ![1024, 1]⟩
abbrev S1024x2816 : Shape := ⟨2, ![1024, 2816]⟩
abbrev S1024x5632 : Shape := ⟨2, ![1024, 5632]⟩

abbrev nBuf : Space → Nat
  | .hbm => 12
  | .vmem => 8
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1024, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S1x1024, .f32⟩
  | .hbm, ⟨10, _⟩ => ⟨S5632x1024, .bf16⟩
  | .hbm, ⟨11, _⟩ => ⟨S1024x5632, .bf16⟩
  | .local _ .vmem, ⟨0, _⟩ => ⟨S1x1024x2816, .bf16⟩
  | .local _ .vmem, ⟨1, _⟩ => ⟨S1x1024x2816, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S2816x1024, .bf16⟩
  | .local _ .vmem, ⟨6, _⟩ => ⟨S2816x1024, .bf16⟩
  | .local _ .vmem, ⟨7, _⟩ => ⟨S2816x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_14 : BitVec 32 := 0#32
  let v29 : BitVec 1 := Scalar.cmpi .ne v28 c0_i32_14
  v29

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c1_i32_0 : BitVec 32 := 1#32
  let v1 : BitVec 32 := Scalar.remsi arg0 c1_i32_0
  let c0_i32 : BitVec 32 := 0#32
  ![v0.toNat, arg1.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpwRefIdeal.lean ====
abbrev S4096x5632 : Shape := ⟨2, ![4096, 5632]⟩
abbrev S4096x1024 : Shape := ⟨2, ![4096, 1024]⟩
abbrev S1024 : Shape := ⟨1, ![1024]⟩
abbrev S_ : Shape := ⟨0, ![]⟩
abbrev S1024x5632 : Shape := ⟨2, ![1024, 5632]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x5632, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5632, .f32⟩
  | .hbm, ⟨22, _⟩ => ⟨S5632x1024, .f32⟩
  | .hbm, ⟨23, _⟩ => ⟨S1024x5632, .f32⟩
  | .hbm, ⟨24, _⟩ => ⟨S1024x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== InwKernel.lean ====
abbrev S4096x5152 : Shape := ⟨2, ![4096, 5152]⟩
abbrev S4096x1024 : Shape := ⟨2, ![4096, 1024]⟩
abbrev S1024 : Shape := ⟨1, ![1024]⟩
abbrev S_ : Shape := ⟨0, ![]⟩
abbrev S4096x5376 : Shape := ⟨2, ![4096, 5376]⟩
abbrev S1x1024 : Shape := ⟨2, ![1, 1024]⟩
abbrev S5376x1024 : Shape := ⟨2, ![5376, 1024]⟩
abbrev S1024x1792 : Shape := ⟨2, ![1024, 1792]⟩
abbrev S1024x1024 : Shape := ⟨2, ![1024, 1024]⟩
abbrev S1792x1024 : Shape := ⟨2, ![1792, 1024]⟩
abbrev S1024x1 : Shape := ⟨2, ![1024, 1]⟩
abbrev S5152x1024 : Shape := ⟨2, ![5152, 1024]⟩
abbrev S1024x5152 : Shape := ⟨2, ![1024, 5152]⟩

abbrev nBuf : Space → Nat
  | .hbm => 11
  | .vmem => 8
  | .smem => 0
  | _ => 0

abbrev bufTy : (tb : Table) → Fin (tcTables nBuf tb) → BufTy
  | .hbm, ⟨0, _⟩ => ⟨S4096x5152, .f32⟩
  | .hbm, ⟨1, _⟩ => ⟨S4096x1024, .f32⟩
  | .hbm, ⟨2, _⟩ => ⟨S1024, .f32⟩
  | .hbm, ⟨3, _⟩ => ⟨S_, .i32⟩
  | .hbm, ⟨4, _⟩ => ⟨S_, .f32⟩
  | .hbm, ⟨5, _⟩ => ⟨S4096x5376, .f32⟩
  | .hbm, ⟨6, _⟩ => ⟨S4096x5376, .bf16⟩
  | .hbm, ⟨7, _⟩ => ⟨S1x1024, .f32⟩
  | .hbm, ⟨8, _⟩ => ⟨S5376x1024, .bf16⟩
  | .hbm, ⟨9, _⟩ => ⟨S5152x1024, .bf16⟩
  | .hbm, ⟨10, _⟩ => ⟨S1024x5152, .bf16⟩
  | .local _ .vmem, ⟨0, _⟩ => ⟨S1024x1792, .bf16⟩
  | .local _ .vmem, ⟨1, _⟩ => ⟨S1024x1792, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1792x1024, .bf16⟩
  | .local _ .vmem, ⟨6, _⟩ => ⟨S1792x1024, .bf16⟩
  | .local _ .vmem, ⟨7, _⟩ => ⟨S1792x1024, .f32⟩
  | _, _ => ⟨S4096x5152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![3, 4], ![false, false]⟩

def k0_cond2 (i : grid0.Coords) : BitVec 1 :=
  let arg1 : BitVec 32 := BitVec.ofNat 32 (i 1).val
  let c3_i32 : BitVec 32 := 3#32
  let v27 : BitVec 1 := Scalar.cmpi .eq arg1 c3_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== InwRefIdeal.lean ====
abbrev S4096x5152 : Shape := ⟨2, ![4096, 5152]⟩
abbrev S4096x1024 : Shape := ⟨2, ![4096, 1024]⟩
abbrev S1024 : Shape := ⟨1, ![1024]⟩
abbrev S_ : Shape := ⟨0, ![]⟩
abbrev S1024x5152 : Shape := ⟨2, ![1024, 5152]⟩
abbrev S4096 : Shape := ⟨1, ![4096]⟩
abbrev S4096x1 : Shape := ⟨2, ![4096, 1]⟩
abbrev S1x1024 : Shape := ⟨2, ![1, 1024]⟩
abbrev S5152x1024 : Shape := ⟨2, ![5152, 1024]⟩

abbrev nBuf : Space → Nat
  | .hbm => 25
  | .vmem => 0
  | .smem => 0
  | _ => 0

abbrev bufTy : (tb : Table) → Fin (tcTables nBuf tb) → BufTy
  | .hbm, ⟨0, _⟩ => ⟨S4096x5152, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S1024x5152, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x5152, .f32⟩
  | .hbm, ⟨22, _⟩ => ⟨S5152x1024, .f32⟩
  | .hbm, ⟨23, _⟩ => ⟨S1024x5152, .f32⟩
  | .hbm, ⟨24, _⟩ => ⟨S1024x5152, .bf16⟩
  | _, _ => ⟨S4096x5152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== SbfKernel.lean ====
abbrev S4096x1024 : Shape := ⟨2, ![4096, 1024]⟩
abbrev S4096x2048 : Shape := ⟨2, ![4096, 2048]⟩
abbrev S8x4096x128 : Shape := ⟨3, ![8, 4096, 128]⟩
abbrev S512x128 : Shape := ⟨2, ![512, 128]⟩
abbrev S4096x128 : Shape := ⟨2, ![4096, 128]⟩
abbrev S1x512x128 : Shape := ⟨3, ![1, 512, 128]⟩
abbrev S2x1024x512 : Shape := ⟨3, ![2, 1024, 512]⟩
abbrev S1024x1 : Shape := ⟨2, ![1024, 1]⟩
abbrev S1024x128 : Shape := ⟨2, ![1024, 128]⟩
abbrev S256x256 : Shape := ⟨2, ![256, 256]⟩
abbrev S128x128 : Shape := ⟨2, ![128, 128]⟩
abbrev S256x128 : Shape := ⟨2, ![256, 128]⟩
abbrev S1024x512 : Shape := ⟨2, ![1024, 512]⟩
abbrev S1x1024x512 : Shape := ⟨3, ![1, 1024, 512]⟩
abbrev S256x1 : Shape := ⟨2, ![256, 1]⟩
abbrev S1x256x256 : Shape := ⟨3, ![1, 256, 256]⟩
abbrev S1x128x128 : Shape := ⟨3, ![1, 128, 128]⟩

abbrev nBuf : Space → Nat
  | .hbm => 9
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S4096x2048, .bf16⟩
  | .hbm, ⟨6, _⟩ => ⟨S4096x1024, .bf16⟩
  | .hbm, ⟨7, _⟩ => ⟨S4096x1024, .bf16⟩
  | .hbm, ⟨8, _⟩ => ⟨S8x4096x128, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x128, .f32⟩
  | .local _ .vmem, ⟨9, _⟩ => ⟨S1x512x128, .f32⟩
  | .local _ .vmem, ⟨10, _⟩ => ⟨S2x1024x512, .f32⟩
  | .local _ .vmem, ⟨11, _⟩ => ⟨S2x1024x512, .bf16⟩
  | .local _ .vmem, ⟨12, _⟩ => ⟨S1024x1, .f32⟩
  | .local _ .vmem, ⟨13, _⟩ => ⟨S1024x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v59 : BitVec 32 := Scalar.muli arg1 c512_i32
  v59
def k0_off1 (i : grid0.Coords) : Fin 2 → Nat :=
  let arg1 : BitVec 32 := BitVec.ofNat 32 (i 1).val
  let c512_i32 : BitVec 32 := 512#32
  let v59 : BitVec 32 := Scalar.muli arg1 c512_i32
  let v60 : BitVec 32 := v59
  let v61 : Index := Scalar.indexCast v60
  let c0_20 : Index := 0#32
  ![v61.toNat, 0]
def k0_mult2 (i : grid0.Coords) : BitVec 32 :=
  let arg1 : BitVec 32 := BitVec.ofNat 32 (i 1).val
  let c1_i32 : BitVec 32 := 1#32
  let v336 : BitVec 32 := Scalar.subi arg1 c1_i32
  let c0_i32_139 : BitVec 32 := 0#32
  let v337 : BitVec 32 := Scalar.maxsi v336 c0_i32_139
  let c512_i32_140 : BitVec 32 := 512#32
  let v338 : BitVec 32 := Scalar.muli v337 c512_i32_140
  v338
def k0_off2 (i : grid0.Coords) : Fin 2 → Nat :=
  let arg1 : BitVec 32 := BitVec.ofNat 32 (i 1).val
  let c1_i32 : BitVec 32 := 1#32
  let v336 : BitVec 32 := Scalar.subi arg1 c1_i32
  let c0_i32_139 : BitVec 32 := 0#32
  let v337 : BitVec 32 := Scalar.maxsi v336 c0_i32_139
  let c512_i32_140 : BitVec 32 := 512#32
  let v338 : BitVec 32 := Scalar.muli v337 c512_i32_140
  let v339 : BitVec 32 := v338
  let v340 : Index := Scalar.indexCast v339
  let c0_141 : Index := 0#32
  ![v340.toNat, 0]
@[reducible] def k0_t1_loop (i : grid0.Coords) : Scf.Loop 32 :=
  let c0_i32_151 : BitVec 32 := 0#32
  let arg1 : BitVec 32 := BitVec.ofNat 32 (i 1).val
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_154 : BitVec 32 := 1#32
  ⟨c0_i32_151, v368, c1_i32_154⟩
def k0_mult3 (i : grid0.Coords) (k0_t1 : Fin (k0_t1_loop i).trips) : BitVec 32 :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v720 : BitVec 32 := Scalar.subi arg1 v463
  let c1_i32_318 : BitVec 32 := 1#32
  let v721 : BitVec 32 := Scalar.subi v720 c1_i32_318
  let c0_i32_319 : BitVec 32 := 0#32
  let v722 : BitVec 32 := Scalar.maxsi v721 c0_i32_319
  let c512_i32_320 : BitVec 32 := 512#32
  let v723 : BitVec 32 := Scalar.muli v722 c512_i32_320
  v723
def k0_off3 (i : grid0.Coords) (k0_t1 : Fin (k0_t1_loop i).trips) (c1_i32_318 : BitVec 32) : Fin 2 → Nat :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v720 : BitVec 32 := Scalar.subi arg1 v463
  let v721 : BitVec 32 := Scalar.subi v720 c1_i32_318
  let c0_i32_319 : BitVec 32 := 0#32
  let v722 : BitVec 32 := Scalar.maxsi v721 c0_i32_319
  let c512_i32_320 : BitVec 32 := 512#32
  let v723 : BitVec 32 := Scalar.muli v722 c512_i32_320
  let v724 : BitVec 32 := v723
  let v725 : Index := Scalar.indexCast v724
  let c0_321 : Index := 0#32
  ![v725.toNat, 0]
def k0_mult4 (i : grid0.Coords) (k0_t1 : Fin (k0_t1_loop i).trips) : BitVec 32 :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v732 : BitVec 32 := Scalar.subi arg1 v463
  let c1_i32_326 : BitVec 32 := 1#32
  let v733 : BitVec 32 := Scalar.addi v732 c1_i32_326
  let c512_i32_327 : BitVec 32 := 512#32
  let v734 : BitVec 32 := Scalar.muli v733 c512_i32_327
  v734
def k0_off4 (i : grid0.Coords) (k0_t1 : Fin (k0_t1_loop i).trips) : Fin 2 → Nat :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v732 : BitVec 32 := Scalar.subi arg1 v463
  let c1_i32_326 : BitVec 32 := 1#32
  let v733 : BitVec 32 := Scalar.addi v732 c1_i32_326
  let c512_i32_327 : BitVec 32 := 512#32
  let v734 : BitVec 32 := Scalar.muli v733 c512_i32_327
  let v735 : BitVec 32 := v734
  let v739 : Index := Scalar.indexCast v735
  let c0_333 : Index := 0#32
  ![v739.toNat, 0]
def k0_mult5 (i : grid0.Coords) (k0_t1 : Fin (k0_t1_loop i).trips) : BitVec 32 :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v1003 : BitVec 32 := Scalar.subi arg1 v463
  let c2_i32_449 : BitVec 32 := 2#32
  let v1004 : BitVec 32 := Scalar.subi v1003 c2_i32_449
  let c0_i32_450 : BitVec 32 := 0#32
  let v1005 : BitVec 32 := Scalar.maxsi v1004 c0_i32_450
  let c512_i32_451 : BitVec 32 := 512#32
  let v1006 : BitVec 32 := Scalar.muli v1005 c512_i32_451
  v1006
def k0_mult6 (i : grid0.Coords) (k0_t1 : Fin (k0_t1_loop i).trips) : BitVec 32 :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v1015 : BitVec 32 := Scalar.subi arg1 v463
  let c512_i32_457 : BitVec 32 := 512#32
  let v1016 : BitVec 32 := Scalar.muli v1015 c512_i32_457
  v1016
def k0_off5 (i : grid0.Coords) (k0_t1 : Fin (k0_t1_loop i).trips) : Fin 2 → Nat :=
  let arg1 : BitVec 32 := BitVec.ofNat 32 (i 1).val
  let c2_i32_204 : BitVec 32 := 2#32
  let c0_i32_151 : BitVec 32 := 0#32
  let c1_i32_154 : BitVec 32 := 1#32
  let arg11 : BitVec 32 := Scf.iv c0_i32_151 c1_i32_154 k0_t1
  let v462 : BitVec 32 := Scalar.muli c2_i32_204 arg11
  let c1_i32_205 : BitVec 32 := 1#32
  let v463 : BitVec 32 := Scalar.addi v462 c1_i32_205
  let v1015 : BitVec 32 := Scalar.subi arg1 v463
  let c512_i32_457 : BitVec 32 := 512#32
  let v1016 : BitVec 32 := Scalar.muli v1015 c512_i32_457
  let v1017 : BitVec 32 := v1016
  let v1021 : Index := Scalar.indexCast v1017
  let c0_463 : Index := 0#32
  ![v1021.toNat, 0]
@[reducible] def k0_t2_loop (i : grid0.Coords) : Scf.Loop 32 :=
  let c0_i32_151 : BitVec 32 := 0#32
  let arg1 : BitVec 32 := BitVec.ofNat 32 (i 1).val
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let v365 : BitVec 32 := Scalar.addi c0_i32_151 v364
  let c1_i32_155 : BitVec 32 := 1#32
  ⟨v368, v365, c1_i32_155⟩
def k0_mult7 (i : grid0.Coords) (k0_t2 : Fin (k0_t2_loop i).trips) : BitVec 32 :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v720 : BitVec 32 := Scalar.subi arg1 v463
  let c1_i32_318 : BitVec 32 := 1#32
  let v721 : BitVec 32 := Scalar.subi v720 c1_i32_318
  let c0_i32_319 : BitVec 32 := 0#32
  let v722 : BitVec 32 := Scalar.maxsi v721 c0_i32_319
  let c512_i32_320 : BitVec 32 := 512#32
  let v723 : BitVec 32 := Scalar.muli v722 c512_i32_320
  v723
def k0_off6 (i : grid0.Coords) (k0_t2 : Fin (k0_t2_loop i).trips) (c1_i32_318 : BitVec 32) : Fin 2 → Nat :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v720 : BitVec 32 := Scalar.subi arg1 v463
  let v721 : BitVec 32 := Scalar.subi v720 c1_i32_318
  let c0_i32_319 : BitVec 32 := 0#32
  let v722 : BitVec 32 := Scalar.maxsi v721 c0_i32_319
  let c512_i32_320 : BitVec 32 := 512#32
  let v723 : BitVec 32 := Scalar.muli v722 c512_i32_320
  let v724 : BitVec 32 := v723
  let v725 : Index := Scalar.indexCast v724
  let c0_321 : Index := 0#32
  ![v725.toNat, 0]
def k0_mult8 (i : grid0.Coords) (k0_t2 : Fin (k0_t2_loop i).trips) : BitVec 32 :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v732 : BitVec 32 := Scalar.subi arg1 v463
  let c1_i32_326 : BitVec 32 := 1#32
  let v733 : BitVec 32 := Scalar.addi v732 c1_i32_326
  let c512_i32_327 : BitVec 32 := 512#32
  let v734 : BitVec 32 := Scalar.muli v733 c512_i32_327
  v734
def k0_off7 (i : grid0.Coords) (k0_t2 : Fin (k0_t2_loop i).trips) : Fin 2 → Nat :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v732 : BitVec 32 := Scalar.subi arg1 v463
  let c1_i32_326 : BitVec 32 := 1#32
  let v733 : BitVec 32 := Scalar.addi v732 c1_i32_326
  let c512_i32_327 : BitVec 32 := 512#32
  let v734 : BitVec 32 := Scalar.muli v733 c512_i32_327
  let v735 : BitVec 32 := v734
  let v739 : Index := Scalar.indexCast v735
  let c0_333 : Index := 0#32
  ![v739.toNat, 0]
def k0_mult9 (i : grid0.Coords) (k0_t2 : Fin (k0_t2_loop i).trips) : BitVec 32 :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v1003 : BitVec 32 := Scalar.subi arg1 v463
  let c2_i32_449 : BitVec 32 := 2#32
  let v1004 : BitVec 32 := Scalar.subi v1003 c2_i32_449
  let c0_i32_450 : BitVec 32 := 0#32
  let v1005 : BitVec 32 := Scalar.maxsi v1004 c0_i32_450
  let c512_i32_451 : BitVec 32 := 512#32
  let v1006 : BitVec 32 := Scalar.muli v1005 c512_i32_451
  v1006
def k0_mult10 (i : grid0.Coords) (k0_t2 : Fin (k0_t2_loop i).trips) : BitVec 32 :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v1015 : BitVec 32 := Scalar.subi arg1 v463
  let c512_i32_457 : BitVec 32 := 512#32
  let v1016 : BitVec 32 := Scalar.muli v1015 c512_i32_457
  v1016
def k0_off8 (i : grid0.Coords) (k0_t2 : Fin (k0_t2_loop i).trips) : Fin 2 → Nat :=
  let arg1 : BitVec 32 := BitVec.ofNat 32 (i 1).val
  let c2_i32_204 : BitVec 32 := 2#32
  let c0_i32_151 : BitVec 32 := 0#32
  let c0_i32_145 : BitVec 32 := 0#32
  let v348 : BitVec 1 := Scalar.cmpi .sgt arg1 c0_i32_145
  let v349 : BitVec 32 := Scalar.extui v348
  let c0_i32_146 : BitVec 32 := 0#32
  let v350 : BitVec 1 := Scalar.cmpi .slt arg1 c0_i32_146
  let v351 : BitVec 32 := Scalar.extui v350
  let v352 : BitVec 32 := Scalar.subi v349 v351
  let c2_i32 : BitVec 32 := 2#32
  let c0_i32_147 : BitVec 32 := 0#32
  let v353 : BitVec 1 := Scalar.cmpi .sgt c2_i32 c0_i32_147
  let v354 : BitVec 32 := Scalar.extui v353
  let c0_i32_148 : BitVec 32 := 0#32
  let v355 : BitVec 1 := Scalar.cmpi .slt c2_i32 c0_i32_148
  let v356 : BitVec 32 := Scalar.extui v355
  let v357 : BitVec 32 := Scalar.subi v354 v356
  let v358 : BitVec 1 := Scalar.cmpi .ne v352 v357
  let v359 : BitVec 32 := Scalar.remsi arg1 c2_i32
  let c0_i32_149 : BitVec 32 := 0#32
  let v360 : BitVec 1 := Scalar.cmpi .ne v359 c0_i32_149
  let v361 : BitVec 1 := Scalar.andi v358 v360
  let v347 : BitVec 32 := Scalar.divsi arg1 c2_i32
  let c1_i32_150 : BitVec 32 := 1#32
  let v362 : BitVec 32 := Scalar.subi v347 c1_i32_150
  let v363 : BitVec 32 := Scalar.select v361 v362 v347
  let v364 : BitVec 32 := Scalar.subi v363 c0_i32_151
  let c1_i32_153 : BitVec 32 := 1#32
  let v366 : BitVec 32 := Scalar.divsi v364 c1_i32_153
  let v367 : BitVec 32 := Scalar.muli v366 c1_i32_153
  let v368 : BitVec 32 := Scalar.addi c0_i32_151 v367
  let c1_i32_155 : BitVec 32 := 1#32
  let arg11 : BitVec 32 := Scf.iv v368 c1_i32_155 k0_t2
  let v462 : BitVec 32 := Scalar.muli c2_i32_204 arg11
  let c1_i32_205 : BitVec 32 := 1#32
  let v463 : BitVec 32 := Scalar.addi v462 c1_i32_205
  let v1015 : BitVec 32 := Scalar.subi arg1 v463
  let c512_i32_457 : BitVec 32 := 512#32
  let v1016 : BitVec 32 := Scalar.muli v1015 c512_i32_457
  let v1017 : BitVec 32 := v1016
  let v1021 : Index := Scalar.indexCast v1017
  let c0_463 : Index := 0#32
  ![v1021.toNat, 0]
def k0_cond1 (i : grid0.Coords) : BitVec 1 :=
  let arg1 : BitVec 32 := BitVec.ofNat 32 (i 1).val
  let c2_i32_156 : BitVec 32 := 2#32
  let v371 : BitVec 32 := Scalar.remsi arg1 c2_i32_156
  let c1_i32_157 : BitVec 32 := 1#32
  let v372 : BitVec 1 := Scalar.cmpi .eq v371 c1_i32_157
  let v_true : BitVec 1 := 1#1
  let v373 : BitVec 1 := Scalar.xori v372 v_true
  let v374 : BitVec 32 := Scalar.extui v373
  let c0_i32_158 : BitVec 32 := 0#32
  let v375 : BitVec 1 := Scalar.cmpi .ne v374 c0_i32_158
  v375

def k0_mult11 : BitVec 32 :=
  let c0_i32_204 : BitVec 32 := 0#32
  c0_i32_204
def k0_cond2 (i : grid0.Coords) : BitVec 1 :=
  let arg1 : BitVec 32 := BitVec.ofNat 32 (i 1).val
  let c2_i32_156 : BitVec 32 := 2#32
  let v371 : BitVec 32 := Scalar.remsi arg1 c2_i32_156
  let c1_i32_157 : BitVec 32 := 1#32
  let v372 : BitVec 1 := Scalar.cmpi .eq v371 c1_i32_157
  let v376 : BitVec 32 := Scalar.extui v372
  let c0_i32_159 : BitVec 32 := 0#32
  let v377 : BitVec 1 := Scalar.cmpi .ne v376 c0_i32_159
  v377

def k0_mult12 : BitVec 32 :=
  let c512_i32_316 : BitVec 32 := 512#32
  c512_i32_316
def k0_mult13 : BitVec 32 :=
  let c0_i32_326 : BitVec 32 := 0#32
  c0_i32_326
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== SbfKernelIdeal.lean ====
variable {F : FTy → Type} [FloatOps F] [Named F]
def κ : String → Option EReal := fun
  | "log2_e" => some (((Real.log 2)⁻¹ : ℝ) : EReal)
  | _ => none
-- ==== SbfRefIdeal.lean ====
abbrev S4096x1024 : Shape := ⟨2, ![4096, 1024]⟩
abbrev S4096x16x64 : Shape := ⟨3, ![4096, 16, 64]⟩
abbrev S16x4096x64 : Shape := ⟨3, ![16, 4096, 64]⟩
abbrev S16x4096x4096 : Shape := ⟨3, ![16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x4096 : Shape := ⟨2, ![16, 4096]⟩
abbrev S8x2x4096 : Shape := ⟨3, ![8, 2, 4096]⟩
abbrev S8x4096x2 : Shape := ⟨3, ![8, 4096, 2]⟩
abbrev S8x4096x2x64 : Shape := ⟨4, ![8, 4096, 2, 64]⟩
abbrev S8x4096x128 : Shape := ⟨3, ![8, 4096, 128]⟩

abbrev nBuf : Space → Nat
  | .hbm => 116
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x16x64, .f32⟩
  | .hbm, ⟨4, _⟩ => ⟨S16x4096x64, .f32⟩
  | .hbm, ⟨5, _⟩ => ⟨S4096x16x64, .f32⟩
  | .hbm, ⟨6, _⟩ => ⟨S16x4096x64, .f32⟩
  | .hbm, ⟨7, _⟩ => ⟨S16x4096x4096, .f32⟩
  | .hbm, ⟨8, _⟩ => ⟨S_, .f32⟩
  | .hbm, ⟨9, _⟩ => ⟨S16x4096x4096, .f32⟩
  | .hbm, ⟨10, _⟩ => ⟨S16x4096x4096, .f32⟩
  | .hbm, ⟨11, _⟩ => ⟨S4096, .i32⟩
  | .hbm, ⟨12, _⟩ => ⟨S1x4096, .i32⟩
  | .hbm, ⟨13, _⟩ => ⟨S4096x1, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .f32⟩
  | .hbm, ⟨18, _⟩ => ⟨S16x4096x4096, .f32⟩
  | .hbm, ⟨19, _⟩ => ⟨S16x4096x4096, .f32⟩
  | .hbm, ⟨20, _⟩ => ⟨S16x4096x4096, .f32⟩
  | .hbm, ⟨21, _⟩ => ⟨S16x4096x4096, .f32⟩
  | .hbm, ⟨22, _⟩ => ⟨S16x4096x4096, .i1⟩
  | .hbm, ⟨23, _⟩ => ⟨S16x4096x4096, .f32⟩
  | .hbm, ⟨24, _⟩ => ⟨S16x4096x4096, .f32⟩
  | .hbm, ⟨25, _⟩ => ⟨S16x4096x4096, .f32⟩
  | .hbm, ⟨26, _⟩ => ⟨S16x4096x4096, .f32⟩
  | .hbm, ⟨27, _⟩ => ⟨S16x4096x4096, .f32⟩
  | .hbm, ⟨28, _⟩ => ⟨S16x4096x4096, .f32⟩
  | .hbm, ⟨29, _⟩ => ⟨S16x4096x4096, .f32⟩
  | .hbm, ⟨30, _⟩ => ⟨S16x4096x4096, .f32⟩
  | .hbm, ⟨31, _⟩ => ⟨S16x4096x4096, .f32⟩
  | .hbm, ⟨32, _⟩ => ⟨S_, .f32⟩
  | .hbm, ⟨33, _⟩ => ⟨S_, .f32⟩
  | .hbm, ⟨34, _⟩ => ⟨S16x4096x4096, .i1⟩
  | .hbm, ⟨35, _⟩ => ⟨S16x4096x4096, .f32⟩
  | .hbm, ⟨36, _⟩ => ⟨S16x4096x4096, .f32⟩
  | .hbm, ⟨37, _⟩ => ⟨S_, .f32⟩
  | .hbm, ⟨38, _⟩ => ⟨S16x4096, .f32⟩
  | .hbm, ⟨39, _⟩ => ⟨S16x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S16x4096, .f32⟩
  | .hbm, ⟨44, _⟩ => ⟨S16x4096, .f32⟩
  | .hbm, ⟨45, _⟩ => ⟨S8x2x4096, .f32⟩
  | .hbm, ⟨46, _⟩ => ⟨S8x4096x2, .f32⟩
  | .hbm, ⟨47, _⟩ => ⟨S8x4096x2x64, .f32⟩
  | .hbm, ⟨48, _⟩ => ⟨S8x4096x128, .f32⟩
  | .hbm, ⟨49, _⟩ => ⟨S4096x16x64, .f32⟩
  | .hbm, ⟨50, _⟩ => ⟨S16x4096x64, .f32⟩
  | .hbm, ⟨51, _⟩ => ⟨S4096x16x64, .f32⟩
  | .hbm, ⟨52, _⟩ => ⟨S16x4096x64, .f32⟩
  | .hbm, ⟨53, _⟩ => ⟨S16x4096x4096, .f32⟩
  | .hbm, ⟨54, _⟩ => ⟨S_, .f32⟩
  | .hbm, ⟨55, _⟩ => ⟨S16x4096x4096, .f32⟩
  | .hbm, ⟨56, _⟩ => ⟨S16x4096x4096, .f32⟩
  | .hbm, ⟨57, _⟩ => ⟨S4096, .i32⟩
  | .hbm, ⟨58, _⟩ => ⟨S1x4096, .i32⟩
  | .hbm, ⟨59, _⟩ => ⟨S4096x1, .i32⟩
  | .hbm, ⟨60, _⟩ => ⟨S4096x4096, .i32⟩
  | .hbm, ⟨61, _⟩ => ⟨S4096x4096, .i32⟩
  | .hbm, ⟨62, _⟩ => ⟨S4096x4096, .i1⟩
  | .hbm, ⟨63, _⟩ => ⟨S_, .f32⟩
  | .hbm, ⟨64, _⟩ => ⟨S16x4096x4096, .f32⟩
  | .hbm, ⟨65, _⟩ => ⟨S16x4096x4096, .f32⟩
  | .hbm, ⟨66, _⟩ => ⟨S16x4096x4096, .f32⟩
  | .hbm, ⟨67, _⟩ => ⟨S16x4096x4096, .f32⟩
  | .hbm, ⟨68, _⟩ => ⟨S16x4096x4096, .i1⟩
  | .hbm, ⟨69, _⟩ => ⟨S16x4096x4096, .f32⟩
  | .hbm, ⟨70, _⟩ => ⟨S16x4096x4096, .f32⟩
  | .hbm, ⟨71, _⟩ => ⟨S16x4096x4096, .f32⟩
  | .hbm, ⟨72, _⟩ => ⟨S16x4096x4096, .f32⟩
  | .hbm, ⟨73, _⟩ => ⟨S16x4096x4096, .f32⟩
  | .hbm, ⟨74, _⟩ => ⟨S16x4096x4096, .f32⟩
  | .hbm, ⟨75, _⟩ => ⟨S16x4096x4096, .f32⟩
  | .hbm, ⟨76, _⟩ => ⟨S16x4096x4096, .f32⟩
  | .hbm, ⟨77, _⟩ => ⟨S16x4096x4096, .f32⟩
  | .hbm, ⟨78, _⟩ => ⟨S_, .f32⟩
  | .hbm, ⟨79, _⟩ => ⟨S_, .f32⟩
  | .hbm, ⟨80, _⟩ => ⟨S16x4096x4096, .i1⟩
  | .hbm, ⟨81, _⟩ => ⟨S16x4096x4096, .f32⟩
  | .hbm, ⟨82, _⟩ => ⟨S16x4096x4096, .f32⟩
  | .hbm, ⟨83, _⟩ => ⟨S_, .f32⟩
  | .hbm, ⟨84, _⟩ => ⟨S_, .f32⟩
  | .hbm, ⟨85, _⟩ => ⟨S16x4096x4096, .f32⟩
  | .hbm, ⟨86, _⟩ => ⟨S16x4096x4096, .f32⟩
  | .hbm, ⟨87, _⟩ => ⟨S16x4096x4096, .f32⟩
  | .hbm, ⟨88, _⟩ => ⟨S_, .f32⟩
  | .hbm, ⟨89, _⟩ => ⟨S16x4096x4096, .f32⟩
  | .hbm, ⟨90, _⟩ => ⟨S16x4096x4096, .f32⟩
  | .hbm, ⟨91, _⟩ => ⟨S16x4096x4096, .f32⟩
  | .hbm, ⟨92, _⟩ => ⟨S16x4096x4096, .f32⟩
  | .hbm, ⟨93, _⟩ => ⟨S16x4096x4096, .i1⟩
  | .hbm, ⟨94, _⟩ => ⟨S16x4096x4096, .f32⟩
  | .hbm, ⟨95, _⟩ => ⟨S16x4096x4096, .f32⟩
  | .hbm, ⟨96, _⟩ => ⟨S16x4096x4096, .f32⟩
  | .hbm, ⟨97, _⟩ => ⟨S16x4096x4096, .f32⟩
  | .hbm, ⟨98, _⟩ => ⟨S16x4096x4096, .f32⟩
  | .hbm, ⟨99, _⟩ => ⟨S16x4096x4096, .f32⟩
  | .hbm, ⟨100, _⟩ => ⟨S16x4096x4096, .f32⟩
  | .hbm, ⟨101, _⟩ => ⟨S16x4096x4096, .f32⟩
  | .hbm, ⟨102, _⟩ => ⟨S16x4096x4096, .f32⟩
  | .hbm, ⟨103, _⟩ => ⟨S16x4096x4096, .f32⟩
  | .hbm, ⟨104, _⟩ => ⟨S16x4096x4096, .f32⟩
  | .hbm, ⟨105, _⟩ => ⟨S_, .f32⟩
  | .hbm, ⟨106, _⟩ => ⟨S_, .f32⟩
  | .hbm, ⟨107, _⟩ => ⟨S16x4096x4096, .i1⟩
  | .hbm, ⟨108, _⟩ => ⟨S16x4096x4096, .f32⟩
  | .hbm, ⟨109, _⟩ => ⟨S16x4096x4096, .f32⟩
  | .hbm, ⟨110, _⟩ => ⟨S4096x16x64, .f32⟩
  | .hbm, ⟨111, _⟩ => ⟨S16x4096x64, .f32⟩
  | .hbm, ⟨112, _⟩ => ⟨S16x4096x64, .f32⟩
  | .hbm, ⟨113, _⟩ => ⟨S4096x16x64, .f32⟩
  | .hbm, ⟨114, _⟩ => ⟨S4096x1024, .f32⟩
  | .hbm, ⟨115, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v13 : Ref sig .tc := ⟨.hbm, 30, rfl⟩
abbrev main_v14 : Ref sig .tc := ⟨.hbm, 31, rfl⟩
abbrev main_cst_0 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v15 : Ref sig .tc := ⟨.hbm, 36, rfl⟩
abbrev main_cst_1 : Ref sig .tc := ⟨.hbm, 37, rfl⟩
abbrev main_v16 : Ref sig .tc := ⟨.hbm, 38, rfl⟩
abbrev main_v17 : Ref sig .tc := ⟨.hbm, 39, rfl⟩
abbrev main_cst_2 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_cst_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_cst : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_v6 : Ref sig .tc := ⟨.hbm, 70, rfl⟩
abbrev main_call2_v7 : Ref sig .tc := ⟨.hbm, 71, rfl⟩
abbrev main_call2_v8 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_v39 : Ref sig .tc := ⟨.hbm, 76, rfl⟩
abbrev main_v40 : Ref sig .tc := ⟨.hbm, 77, rfl⟩
abbrev main_cst_4 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v41 : Ref sig .tc := ⟨.hbm, 82, rfl⟩
abbrev main_call4_cst : Ref sig .tc := ⟨.hbm, 83, rfl⟩
abbrev main_call4_v0 : Ref sig .tc := ⟨.hbm, 84, rfl⟩
abbrev main_v42 : Ref sig .tc := ⟨.hbm, 85, rfl⟩
abbrev main_v43 : Ref sig .tc := ⟨.hbm, 86, rfl⟩
abbrev main_call5_v0 : Ref sig .tc := ⟨.hbm, 87, rfl⟩
abbrev main_call5_call0_cst : Ref sig .tc := ⟨.hbm, 88, rfl⟩
abbrev main_call5_call0_v0 : Ref sig .tc := ⟨.hbm, 89, rfl⟩
abbrev main_call5_call0_v1 : Ref sig .tc := ⟨.hbm, 90, rfl⟩
abbrev main_call5_call0_v2 : Ref sig .tc := ⟨.hbm, 91, rfl⟩
abbrev main_call5_call0_v3 : Ref sig .tc := ⟨.hbm, 92, rfl⟩
abbrev main_call5_call0_v4 : Ref sig .tc := ⟨.hbm, 93, rfl⟩
abbrev main_call5_call0_v5 : Ref sig .tc := ⟨.hbm, 94, rfl⟩
abbrev main_call5_call0_v6 : Ref sig .tc := ⟨.hbm, 95, rfl⟩
abbrev main_call5_call0_v7 : Ref sig .tc := ⟨.hbm, 96, rfl⟩
abbrev main_call5_call0_v8 : Ref sig .tc := ⟨.hbm, 97, rfl⟩
abbrev main_call5_call0_v9 : Ref sig .tc := ⟨.hbm, 98, rfl⟩
abbrev main_call5_call0_v10 : Ref sig .tc := ⟨.hbm, 99, rfl⟩
abbrev main_call5_call0_v11 : Ref sig .tc := ⟨.hbm, 100, rfl⟩
abbrev main_call5_v1 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_5 : Ref sig .tc := ⟨.hbm, 105, rfl⟩
abbrev main_call6_v0 : Ref sig .tc := ⟨.hbm, 106, rfl⟩
abbrev main_call6_v1 : Ref sig .tc := ⟨.hbm, 107, rfl⟩
abbrev main_call6_v2 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩

abbrev nD : Nat := 1
abbrev τ : Topo := Topo.v7x

variable {F : FTy → Type} [FloatOps F]
-- ==== SsdKernel.lean ====
abbrev S4096x3072 : Shape := ⟨2, ![4096, 3072]⟩
abbrev S4096x5376 : Shape := ⟨2, ![4096, 5376]⟩
abbrev S32 : Shape := ⟨1, ![32]⟩
abbrev S2048 : Shape := ⟨1, ![2048]⟩
abbrev S4096x32 : Shape := ⟨2, ![4096, 32]⟩
abbrev S4096x4x8 : Shape := ⟨3, ![4096, 4, 8]⟩
abbrev S4x4096x8 : Shape := ⟨3, ![4, 4096, 8]⟩
abbrev S_ : Shape := ⟨0, ![]⟩
abbrev S4x4096x128 : Shape := ⟨3, ![4, 4096, 128]⟩
abbrev S4x8 : Shape := ⟨2, ![4, 8]⟩
abbrev S4x1x8 : Shape := ⟨3, ![4, 1, 8]⟩
abbrev S4x3x8 : Shape := ⟨3, ![4, 3, 8]⟩
abbrev S4x8x128 : Shape := ⟨3, ![4, 8, 128]⟩
abbrev S1x2048 : Shape := ⟨2, ![1, 2048]⟩
abbrev S4096x2048 : Shape := ⟨2, ![4096, 2048]⟩
abbrev S4x32x4x128x128 : Shape := ⟨5, ![4, 32, 4, 128, 128]⟩
abbrev S128x2048 : Shape := ⟨2, ![128, 2048]⟩
abbrev S128x512 : Shape := ⟨2, ![128, 512]⟩
abbrev S4x128x128 : Shape := ⟨3, ![4, 128, 128]⟩
abbrev S4x1x4x128x128 : Shape := ⟨5, ![4, 1, 4, 128, 128]⟩
abbrev S4x4x128x128 : Shape := ⟨4, ![4, 4, 128, 128]⟩
abbrev S1x8x128 : Shape := ⟨3, ![1, 8, 128]⟩
abbrev S8x128 : Shape := ⟨2, ![8, 128]⟩
abbrev S1x128x128 : Shape := ⟨3, ![1, 128, 128]⟩
abbrev S128x128 : Shape := ⟨2, ![128, 128]⟩
abbrev S1x128 : Shape := ⟨2, ![1, 128]⟩
abbrev S128x384 : Shape := ⟨2, ![128, 384]⟩
abbrev S384x512 : Shape := ⟨2, ![384, 512]⟩
abbrev S128x1 : Shape := ⟨2, ![128, 1]⟩
abbrev S1x4x128x128 : Shape := ⟨4, ![1, 4, 128, 128]⟩
abbrev S1x1x4x128x128 : Shape := ⟨5, ![1, 1, 4, 128, 128]⟩
abbrev S1x1 : Shape := ⟨2, ![1, 1]⟩
abbrev S512x128 : Shape := ⟨2, ![512, 128]⟩
abbrev S128x1024 : Shape := ⟨2, ![128, 1024]⟩
abbrev S1024x128 : Shape := ⟨2, ![1024, 128]⟩
abbrev S1x512 : Shape := ⟨2, ![1, 512]⟩

abbrev nBuf : Space → Nat
  | .hbm => 26
  | .vmem => 19
  | .smem => 0
  | _ => 0

abbrev bufTy : (tb : Table) → Fin (tcTables nBuf tb) → BufTy
  | .hbm, ⟨0, _⟩ => ⟨S4096x3072, .f32⟩
  | .hbm, ⟨1, _⟩ => ⟨S4096x5376, .f32⟩
  | .hbm, ⟨2, _⟩ => ⟨S32, .f32⟩
  | .hbm, ⟨3, _⟩ => ⟨S32, .f32⟩
  | .hbm, ⟨4, _⟩ => ⟨S32, .f32⟩
  | .hbm, ⟨5, _⟩ => ⟨S2048, .f32⟩
  | .hbm, ⟨6, _⟩ => ⟨S4096x32, .f32⟩
  | .hbm, ⟨7, _⟩ => ⟨S4096x4x8, .f32⟩
  | .hbm, ⟨8, _⟩ => ⟨S4x4096x8, .f32⟩
  | .hbm, ⟨9, _⟩ => ⟨S_, .i32⟩
  | .hbm, ⟨10, _⟩ => ⟨S_, .f32⟩
  | .hbm, ⟨11, _⟩ => ⟨S4x4096x128, .f32⟩
  | .hbm, ⟨12, _⟩ => ⟨S4x8, .f32⟩
  | .hbm, ⟨13, _⟩ => ⟨S4x8, .f32⟩
  | .hbm, ⟨14, _⟩ => ⟨S4x8, .f32⟩
  | .hbm, ⟨15, _⟩ => ⟨S4x1x8, .f32⟩
  | .hbm, ⟨16, _⟩ => ⟨S4x1x8, .f32⟩
  | .hbm, ⟨17, _⟩ => ⟨S4x1x8, .f32⟩
  | .hbm, ⟨18, _⟩ => ⟨S4x3x8, .f32⟩
  | .hbm, ⟨19, _⟩ => ⟨S_, .i32⟩
  | .hbm, ⟨20, _⟩ => ⟨S_, .f32⟩
  | .hbm, ⟨21, _⟩ => ⟨S4x8x128, .f32⟩
  | .hbm, ⟨22, _⟩ => ⟨S1x2048, .f32⟩
  | .hbm, ⟨23, _⟩ => ⟨S4096x2048, .f32⟩
  | .hbm, ⟨24, _⟩ => ⟨S4096x2048, .bf16⟩
  | .hbm, ⟨25, _⟩ => ⟨S4x32x4x128x128, .f32⟩
  | .local _ .vmem, ⟨0, _⟩ => ⟨S128x2048, .f32⟩
  | .local _ .vmem, ⟨1, _⟩ => ⟨S128x2048, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S4x128x128, .f32⟩
  | .local _ .vmem, ⟨7, _⟩ => ⟨S4x128x128, .f32⟩
  | .local _ .vmem, ⟨8, _⟩ => ⟨S4x8x128, .f32⟩
  | .local _ .vmem, ⟨9, _⟩ => ⟨S128x2048, .f32⟩
  | .local _ .vmem, ⟨10, _⟩ => ⟨S128x2048, .f32⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .bf16⟩
  | .local _ .vmem, ⟨15, _⟩ => ⟨S128x2048, .bf16⟩
  | .local _ .vmem, ⟨16, _⟩ => ⟨S4x1x4x128x128, .f32⟩
  | .local _ .vmem, ⟨17, _⟩ => ⟨S4x1x4x128x128, .f32⟩
  | .local _ .vmem, ⟨18, _⟩ => ⟨S4x4x128x128, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v13_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1x4x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== SsdRefIdeal.lean ====
abbrev S4096x3072 : Shape := ⟨2, ![4096, 3072]⟩
abbrev S4096x5376 : Shape := ⟨2, ![4096, 5376]⟩
abbrev S32 : Shape := ⟨1, ![32]⟩
abbrev S2048 : Shape := ⟨1, ![2048]⟩
abbrev S4096x2048 : Shape := ⟨2, ![4096, 2048]⟩
abbrev S4096x32 : Shape := ⟨2, ![4096, 32]⟩
abbrev S4096x32x64 : Shape := ⟨3, ![4096, 32, 64]⟩
abbrev S4096x512 : Shape := ⟨2, ![4096, 512]⟩
abbrev S4096x4x128 : Shape := ⟨3, ![4096, 4, 128]⟩
abbrev S1x32 : Shape := ⟨2, ![1, 32]⟩
abbrev S_ : Shape := ⟨0, ![]⟩
abbrev S4096x32x1 : Shape := ⟨3, ![4096, 32, 1]⟩
abbrev S32x128x4x8x64 : Shape := ⟨5, ![32, 128, 4, 8, 64]⟩
abbrev S32x128x4x8 : Shape := ⟨4, ![32, 128, 4, 8]⟩
abbrev S4x8x32x128 : Shape := ⟨4, ![4, 8, 32, 128]⟩
abbrev S32x128x4x128 : Shape := ⟨4, ![32, 128, 4, 128]⟩
abbrev S4x8x32x128x1 : Shape := ⟨5, ![4, 8, 32, 128, 1]⟩
abbrev S4x8x32x1x128 : Shape := ⟨5, ![4, 8, 32, 1, 128]⟩
abbrev S4x8x32x128x128 : Shape := ⟨5, ![4, 8, 32, 128, 128]⟩
abbrev S128x128 : Shape := ⟨2, ![128, 128]⟩
abbrev S32x4x128x128 : Shape := ⟨4, ![32, 4, 128, 128]⟩
abbrev S4x32x128x128 : Shape := ⟨4, ![4, 32, 128, 128]⟩
abbrev S4x1x32x128x128 : Shape := ⟨5, ![4, 1, 32, 128, 128]⟩
abbrev S32x4x8x64x128 : Shape := ⟨5, ![32, 4, 8, 64, 128]⟩
abbrev S4x8x32x1 : Shape := ⟨4, ![4, 8, 32, 1]⟩
abbrev S32x128x4x8x1 : Shape := ⟨5, ![32, 128, 4, 8, 1]⟩
abbrev S4x8x32 : Shape := ⟨3, ![4, 8, 32]⟩
abbrev S4x8x64x128 : Shape := ⟨4, ![4, 8, 64, 128]⟩
abbrev S32x4x8 : Shape := ⟨3, ![32, 4, 8]⟩
abbrev S1x4x8x64x128 : Shape := ⟨5, ![1, 4, 8, 64, 128]⟩
abbrev S1x4x8 : Shape := ⟨3, ![1, 4, 8]⟩
abbrev S4x8 : Shape := ⟨2, ![4, 8]⟩
abbrev S4x8x1x1 : Shape := ⟨4, ![4, 8, 1, 1]⟩
abbrev S32x1 : Shape := ⟨2, ![32, 1]⟩
abbrev S1x32x1 : Shape := ⟨3, ![1, 32, 1]⟩
abbrev S4096x4x512 : Shape := ⟨3, ![4096, 4, 512]⟩
abbrev S4x512 : Shape := ⟨2, ![4, 512]⟩
abbrev S4096x4 : Shape := ⟨2, ![4096, 4]⟩
abbrev S4096x4x1 : Shape := ⟨3, ![4096, 4, 1]⟩
abbrev S1x4x512 : Shape := ⟨3, ![1, 4, 512]⟩
abbrev S32x4x4x128x128 : Shape := ⟨5, ![32, 4, 4, 128, 128]⟩
abbrev S4x32x4x128x128 : Shape := ⟨5, ![4, 32, 4, 128, 128]⟩

abbrev nBuf : Space → Nat
  | .hbm => 173
  | .vmem => 0
  | .smem => 0
  | _ => 0

abbrev hbmTy0_0 (i : Nat) : BufTy := match i % 128 with
  | 0 => ⟨S4096x3072, .f32⟩
  | 1 => ⟨S4096x5376, .f32⟩
  | 2 => ⟨S32, .f32⟩
  | 3 => ⟨S32, .f32⟩
  | 4 => ⟨S32, .f32⟩
  | 5 => ⟨S2048, .f32⟩
  | 6 => ⟨S4096x2048, .f32⟩
  | 7 => ⟨S4096x32, .f32⟩
  | 8 => ⟨S4096x2048, .f32⟩
  | 9 => ⟨S4096x32x64, .f32⟩
  | 10 => ⟨S4096x512, .f32⟩
  | 11 => ⟨S4096x4x128, .f32⟩
  | 12 => ⟨S4096x512, .f32⟩
  | 13 => ⟨S4096x4x128, .f32⟩
  | 14 => ⟨S1x32, .f32⟩
  | 15 => ⟨S4096x32, .f32⟩
  | 16 => ⟨S4096x32, .f32⟩
  | 17 => ⟨S_, .f32⟩
  | 18 => ⟨S4096x32, .f32⟩
  | 19 => ⟨S4096x32, .f32⟩
  | 20 => ⟨S4096x32, .f32⟩
  | 21 => ⟨S4096x32, .f32⟩
  | 22 => ⟨S4096x32, .i1⟩
  | 23 => ⟨S4096x32, .f32⟩
  | 24 => ⟨S4096x32, .f32⟩
  | 25 => ⟨S4096x32, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S32, .f32⟩
  | 32 => ⟨S32, .f32⟩
  | 33 => ⟨S4096x32x1, .f32⟩
  | 34 => ⟨S4096x32x64, .f32⟩
  | 35 => ⟨S4096x32x64, .f32⟩
  | 36 => ⟨S32x128x4x8x64, .f32⟩
  | 37 => ⟨S1x32, .f32⟩
  | 38 => ⟨S4096x32, .f32⟩
  | 39 => ⟨S4096x32, .f32⟩
  | 40 => ⟨S32x128x4x8, .f32⟩
  | 41 => ⟨S4x8x32x128, .f32⟩
  | 42 => ⟨S32x128x4x128, .f32⟩
  | 43 => ⟨S32x128x4x128, .f32⟩
  | 44 => ⟨S_, .f32⟩
  | 45 => ⟨S_, .f32⟩
  | 46 => ⟨S4x8x32x128, .f32⟩
  | 47 => ⟨S_, .f32⟩
  | 48 => ⟨S_, .f32⟩
  | 49 => ⟨S4x8x32x128, .f32⟩
  | 50 => ⟨S4x8x32x128x1, .f32⟩
  | 51 => ⟨S4x8x32x1x128, .f32⟩
  | 52 => ⟨S4x8x32x128x128, .f32⟩
  | 53 => ⟨S4x8x32x128x128, .f32⟩
  | 54 => ⟨S4x8x32x128x128, .f32⟩
  | 55 => ⟨S_, .i1⟩
  | 56 => ⟨S128x128, .i1⟩
  | 57 => ⟨S128x128, .i32⟩
  | 58 => ⟨S_, .i32⟩
  | 59 => ⟨S128x128, .i32⟩
  | 60 => ⟨S128x128, .i32⟩
  | 61 => ⟨S128x128, .i32⟩
  | 62 => ⟨S128x128, .i1⟩
  | 63 => ⟨S_, .i1⟩
  | 64 => ⟨S128x128, .i1⟩
  | 65 => ⟨S128x128, .i1⟩
  | 66 => ⟨S_, .f32⟩
  | 67 => ⟨S_, .f32⟩
  | 68 => ⟨S4x8x32x128x128, .i1⟩
  | 69 => ⟨S4x8x32x128x128, .f32⟩
  | 70 => ⟨S4x8x32x128x128, .f32⟩
  | 71 => ⟨S4x8x32x128x128, .f32⟩
  | 72 => ⟨S32x4x128x128, .f32⟩
  | 73 => ⟨S4x32x128x128, .f32⟩
  | 74 => ⟨S4x1x32x128x128, .f32⟩
  | 75 => ⟨S4x8x32x128x128, .f32⟩
  | 76 => ⟨S4x8x32x128x128, .f32⟩
  | 77 => ⟨S32x4x8x64x128, .f32⟩
  | 78 => ⟨S32x128x4x8x64, .f32⟩
  | 79 => ⟨S4x8x32x1, .f32⟩
  | 80 => ⟨S4x8x32x128, .f32⟩
  | 81 => ⟨S4x8x32x128, .f32⟩
  | 82 => ⟨S4x8x32x128, .f32⟩
  | 83 => ⟨S32x128x4x8, .f32⟩
  | 84 => ⟨S32x128x4x8x1, .f32⟩
  | 85 => ⟨S32x128x4x8x64, .f32⟩
  | 86 => ⟨S32x128x4x8x64, .f32⟩
  | 87 => ⟨S32x4x8x64x128, .f32⟩
  | 88 => ⟨S4x8x32x1, .f32⟩
  | 89 => ⟨S4x8x32, .f32⟩
  | 90 => ⟨S4x8x32, .f32⟩
  | 91 => ⟨S_, .f32⟩
  | 92 => ⟨S4x8x64x128, .f32⟩
  | 93 => ⟨S32x4x8, .f32⟩
  | 94 => ⟨S_, .f32⟩
  | 95 => ⟨S32x4x8x64x128, .f32⟩
  | 96 => ⟨S_, .i32⟩
  | 97 => ⟨S32x4x8x64x128, .f32⟩
  | 98 => ⟨S32x4x8, .f32⟩
  | 99 => ⟨S_, .i32⟩
  | 100 => ⟨S4x8x64x128, .f32⟩
  | 101 => ⟨S32x4x8x64x128, .f32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S1x4x8x64x128, .f32⟩
  | 109 => ⟨S4x8x64x128, .f32⟩
  | 110 => ⟨S_, .i32⟩
  | 111 => ⟨S_, .i32⟩
  | 112 => ⟨S1x4x8, .f32⟩
  | 113 => ⟨S4x8, .f32⟩
  | 114 => ⟨S4x8x1x1, .f32⟩
  | 115 => ⟨S4x8x64x128, .f32⟩
  | 116 => ⟨S4x8x64x128, .f32⟩
  | 117 => ⟨S4x8x64x128, .f32⟩
  | 118 => ⟨S1x4x8x64x128, .f32⟩
  | 119 => ⟨S_, .i32⟩
  | 120 => ⟨S_, .i32⟩
  | 121 => ⟨S_, .i32⟩
  | 122 => ⟨S_, .i32⟩
  | 123 => ⟨S32x4x8x64x128, .f32⟩
  | 124 => ⟨S_, .i32⟩
  | 125 => ⟨S_, .i32⟩
  | 126 => ⟨S32x4x8x64x128, .f32⟩
  | 127 => ⟨S32x128x4x8x64, .f32⟩
  | _ => ⟨S4096x3072, .f32⟩

abbrev hbmTy0_1 (i : Nat) : BufTy := match i % 128 with
  | 0 => ⟨S4x8x32x128, .f32⟩
  | 1 => ⟨S32x128x4x8, .f32⟩
  | 2 => ⟨S32x128x4x8x1, .f32⟩
  | 3 => ⟨S32x128x4x8x64, .f32⟩
  | 4 => ⟨S32x128x4x8x64, .f32⟩
  | 5 => ⟨S32x128x4x8x64, .f32⟩
  | 6 => ⟨S4096x32x64, .f32⟩
  | 7 => ⟨S32x1, .f32⟩
  | 8 => ⟨S1x32x1, .f32⟩
  | 9 => ⟨S4096x32x64, .f32⟩
  | 10 => ⟨S4096x32x64, .f32⟩
  | 11 => ⟨S4096x32x64, .f32⟩
  | 12 => ⟨S4096x2048, .f32⟩
  | 13 => ⟨S4096x2048, .f32⟩
  | 14 => ⟨S4096x2048, .f32⟩
  | 15 => ⟨S_, .f32⟩
  | 16 => ⟨S4096x2048, .f32⟩
  | 17 => ⟨S4096x2048, .f32⟩
  | 18 => ⟨S_, .f32⟩
  | 19 => ⟨S4096x2048, .f32⟩
  | 20 => ⟨S4096x2048, .f32⟩
  | 21 => ⟨S4096x2048, .f32⟩
  | 22 => ⟨S4096x2048, .f32⟩
  | 23 => ⟨S4096x4x512, .f32⟩
  | 24 => ⟨S4x512, .f32⟩
  | 25 => ⟨S4096x4x512, .f32⟩
  | 26 => ⟨S_, .f32⟩
  | 27 => ⟨S4096x4, .f32⟩
  | 28 => ⟨S4096x4x1, .f32⟩
  | 29 => ⟨S_, .f32⟩
  | 30 => ⟨S4096x4x1, .f32⟩
  | 31 => ⟨S4096x4x1, .f32⟩
  | 32 => ⟨S_, .f32⟩
  | 33 => ⟨S4096x4x1, .f32⟩
  | 34 => ⟨S4096x4x1, .f32⟩
  | 35 => ⟨S4096x4x1, .f32⟩
  | 36 => ⟨S4096x4x512, .f32⟩
  | 37 => ⟨S4096x4x512, .f32⟩
  | 38 => ⟨S1x4x512, .f32⟩
  | 39 => ⟨S4096x4x512, .f32⟩
  | 40 => ⟨S4096x4x512, .f32⟩
  | 41 => ⟨S4096x2048, .f32⟩
  | 42 => ⟨S32x4x4x128x128, .f32⟩
  | 43 => ⟨S4x32x4x128x128, .f32⟩
  | 44 => ⟨S4096x2048, .bf16⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_cst : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_call1_call0_cst : Ref sig .tc := ⟨.hbm, 44, rfl⟩
abbrev main_call1_call0_v0 : Ref sig .tc := ⟨.hbm, 45, rfl⟩
abbrev main_v25 : Ref sig .tc := ⟨.hbm, 46, rfl⟩
abbrev main_call2_call0_cst : Ref sig .tc := ⟨.hbm, 47, rfl⟩
abbrev main_call2_call0_v0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_c : Ref sig .tc := ⟨.hbm, 55, rfl⟩
abbrev main_v32 : Ref sig .tc := ⟨.hbm, 56, rfl⟩
abbrev main_call3_v0 : Ref sig .tc := ⟨.hbm, 57, rfl⟩
abbrev main_call3_c : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_call3_c_0 : Ref sig .tc := ⟨.hbm, 63, rfl⟩
abbrev main_call3_v5 : Ref sig .tc := ⟨.hbm, 64, rfl⟩
abbrev main_v33 : Ref sig .tc := ⟨.hbm, 65, rfl⟩
abbrev main_cst : Ref sig .tc := ⟨.hbm, 66, rfl⟩
abbrev main_call4_v0 : Ref sig .tc := ⟨.hbm, 67, rfl⟩
abbrev main_call4_v1 : Ref sig .tc := ⟨.hbm, 68, rfl⟩
abbrev main_call4_v2 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_cst_0 : Ref sig .tc := ⟨.hbm, 91, rfl⟩
abbrev main_v55 : Ref sig .tc := ⟨.hbm, 92, rfl⟩
abbrev main_v56 : Ref sig .tc := ⟨.hbm, 93, rfl⟩
abbrev main_cst_1 : Ref sig .tc := ⟨.hbm, 94, rfl⟩
abbrev main_v57 : Ref sig .tc := ⟨.hbm, 95, rfl⟩
abbrev main_c_2 : Ref sig .tc := ⟨.hbm, 96, rfl⟩
abbrev main_v58_0 : Ref sig .tc := ⟨.hbm, 97, rfl⟩
abbrev main_v58_1 : Ref sig .tc := ⟨.hbm, 98, rfl⟩
abbrev main_v58_2 : Ref sig .tc := ⟨.hbm, 99, rfl⟩
abbrev main_v58_3 : Ref sig .tc := ⟨.hbm, 100, rfl⟩
abbrev main_v58_4 : Ref sig .tc := ⟨.hbm, 101, rfl⟩
abbrev main_while0c_c_10 : Ref sig .tc := ⟨.hbm, 102, rfl⟩
abbrev main_while0c_v95 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_call5_c_2 : Ref sig .tc := ⟨.hbm, 107, rfl⟩
abbrev main_while0b_call5_v0 : Ref sig .tc := ⟨.hbm, 108, rfl⟩
abbrev main_while0b_v95 : Ref sig .tc := ⟨.hbm, 109, rfl⟩
abbrev main_while0b_call6_c : Ref sig .tc := ⟨.hbm, 110, rfl⟩
abbrev main_while0b_call6_c_0 : Ref sig .tc := ⟨.hbm, 111, rfl⟩
abbrev main_while0b_call6_v0 : Ref sig .tc := ⟨.hbm, 112, rfl⟩
abbrev main_while0b_v96 : Ref sig .tc := ⟨.hbm, 113, rfl⟩
abbrev main_while0b_v97 : Ref sig .tc := ⟨.hbm, 114, rfl⟩
abbrev main_while0b_v98 : Ref sig .tc := ⟨.hbm, 115, rfl⟩
abbrev main_while0b_v99 : Ref sig .tc := ⟨.hbm, 116, rfl⟩
abbrev main_while0b_v100 : Ref sig .tc := ⟨.hbm, 117, rfl⟩
abbrev main_while0b_call7_v0 : Ref sig .tc := ⟨.hbm, 118, rfl⟩
abbrev main_while0b_call7_c : Ref sig .tc := ⟨.hbm, 119, rfl⟩
abbrev main_while0b_call7_c_0 : Ref sig .tc := ⟨.hbm, 120, rfl⟩
abbrev main_while0b_call7_c_1 : Ref sig .tc := ⟨.hbm, 121, rfl⟩
abbrev main_while0b_call7_c_2 : Ref sig .tc := ⟨.hbm, 122, rfl⟩
abbrev main_while0b_v101 : Ref sig .tc := ⟨.hbm, 123, rfl⟩
abbrev main_while0b_c_10 : Ref sig .tc := ⟨.hbm, 124, rfl⟩
abbrev main_while0b_v102 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_call8_v0 : Ref sig .tc := ⟨.hbm, 141, rfl⟩
abbrev main_call8_v1 : Ref sig .tc := ⟨.hbm, 142, rfl⟩
abbrev main_call8_cst : Ref sig .tc := ⟨.hbm, 143, rfl⟩
abbrev main_call8_v2 : Ref sig .tc := ⟨.hbm, 144, rfl⟩
abbrev main_call8_v3 : Ref sig .tc := ⟨.hbm, 145, rfl⟩
abbrev main_call8_cst_0 : Ref sig .tc := ⟨.hbm, 146, rfl⟩
abbrev main_call8_v4 : Ref sig .tc := ⟨.hbm, 147, rfl⟩
abbrev main_call8_v5 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_cst_3 : Ref sig .tc := ⟨.hbm, 154, rfl⟩
abbrev main_v79 : Ref sig .tc := ⟨.hbm, 155, rfl⟩
abbrev main_v80 : Ref sig .tc := ⟨.hbm, 156, rfl⟩
abbrev main_cst_4 : Ref sig .tc := ⟨.hbm, 157, rfl⟩
abbrev main_v81 : Ref sig .tc := ⟨.hbm, 158, rfl⟩
abbrev main_v82 : Ref sig .tc := ⟨.hbm, 159, rfl⟩
abbrev main_cst_5 : Ref sig .tc := ⟨.hbm, 160, rfl⟩
abbrev main_v83 : Ref sig .tc := ⟨.hbm, 161, rfl⟩
abbrev main_v84 : Ref sig .tc := ⟨.hbm, 162, rfl⟩
abbrev main_v85 : Ref sig .tc := ⟨.hbm, 163, rfl⟩
abbrev main_v86 : Ref sig .tc := ⟨.hbm, 164, rfl⟩
abbrev main_v87 : Ref sig .tc := ⟨.hbm, 165, rfl⟩
abbrev main_v88 : Ref sig .tc := ⟨.hbm, 166, rfl⟩
abbrev main_v89 : Ref sig .tc := ⟨.hbm, 167, rfl⟩
abbrev main_v90 : Ref sig .tc := ⟨.hbm, 168, rfl⟩
abbrev main_v91 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩

abbrev nD : Nat := 1
abbrev τ : Topo := Topo.v7x

variable {F : FTy → Type} [FloatOps F]

abbrev main_while0_count : Scf.Loop 32 := ⟨0#32, 32#32, 1#32⟩
-- ==== ActKernel.lean ====
abbrev S4096x5152 : Shape := ⟨2, ![4096, 5152]⟩
abbrev S4x3072 : Shape := ⟨2, ![4, 3072]⟩
abbrev S3072 : Shape := ⟨1, ![3072]⟩
abbrev S_ : Shape := ⟨0, ![]⟩
abbrev S4096x5376 : Shape := ⟨2, ![4096, 5376]⟩
abbrev S1x3072 : Shape := ⟨2, ![1, 3072]⟩
abbrev S4096x3072 : Shape := ⟨2, ![4096, 3072]⟩
abbrev S512x512 : Shape := ⟨2, ![512, 512]⟩
abbrev S8x512 : Shape := ⟨2, ![8, 512]⟩
abbrev S4x512 : Shape := ⟨2, ![4, 512]⟩
abbrev S1x512 : Shape := ⟨2, ![1, 512]⟩
abbrev S504x512 : Shape := ⟨2, ![504, 512]⟩

abbrev nBuf : Space → Nat
  | .hbm => 8
  | .vmem => 10
  | .smem => 0
  | _ => 0

abbrev bufTy : (tb : Table) → Fin (tcTables nBuf tb) → BufTy
  | .hbm, ⟨0, _⟩ => ⟨S4096x5152, .f32⟩
  | .hbm, ⟨1, _⟩ => ⟨S4x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S4096x5376, .f32⟩
  | .hbm, ⟨6, _⟩ => ⟨S1x3072, .f32⟩
  | .hbm, ⟨7, _⟩ => ⟨S4096x3072, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | _, _ => ⟨S4096x5152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg1 c64_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi arg0 c4_i32
  let c0_i32_0 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ActRefIdeal.lean ====
abbrev S4096x5152 : Shape := ⟨2, ![4096, 5152]⟩
abbrev S4x3072 : Shape := ⟨2, ![4, 3072]⟩
abbrev S3072 : Shape := ⟨1, ![3072]⟩
abbrev S4096x3072 : Shape := ⟨2, ![4096, 3072]⟩
abbrev S_ : Shape := ⟨0, ![]⟩
abbrev S3x3072 : Shape := ⟨2, ![3, 3072]⟩
abbrev S4099x3072 : Shape := ⟨2, ![4099, 3072]⟩
abbrev S1x3072 : Shape := ⟨2, ![1, 3072]⟩

abbrev nBuf : Space → Nat
  | .hbm => 46
  | .vmem => 0
  | .smem => 0
  | _ => 0

abbrev bufTy : (tb : Table) → Fin (tcTables nBuf tb) → BufTy
  | .hbm, ⟨0, _⟩ => ⟨S4096x5152, .f32⟩
  | .hbm, ⟨1, _⟩ => ⟨S4x3072, .f32⟩
  | .hbm, ⟨2, _⟩ => ⟨S3072, .f32⟩
  | .hbm, ⟨3, _⟩ => ⟨S4096x3072, .f32⟩
  | .hbm, ⟨4, _⟩ => ⟨S_, .f32⟩
  | .hbm, ⟨5, _⟩ => ⟨S3x3072, .f32⟩
  | .hbm, ⟨6, _⟩ => ⟨S4099x3072, .f32⟩
  | .hbm, ⟨7, _⟩ => ⟨S4096x3072, .f32⟩
  | .hbm, ⟨8, _⟩ => ⟨S1x3072, .f32⟩
  | .hbm, ⟨9, _⟩ => ⟨S3072, .f32⟩
  | .hbm, ⟨10, _⟩ => ⟨S1x3072, .f32⟩
  | .hbm, ⟨11, _⟩ => ⟨S4096x3072, .f32⟩
  | .hbm, ⟨12, _⟩ => ⟨S4096x3072, .f32⟩
  | .hbm, ⟨13, _⟩ => ⟨S1x3072, .f32⟩
  | .hbm, ⟨14, _⟩ => ⟨S4096x3072, .f32⟩
  | .hbm, ⟨15, _⟩ => ⟨S4096x3072, .f32⟩
  | .hbm, ⟨16, _⟩ => ⟨S4096x3072, .f32⟩
  | .hbm, ⟨17, _⟩ => ⟨S1x3072, .f32⟩
  | .hbm, ⟨18, _⟩ => ⟨S3072, .f32⟩
  | .hbm, ⟨19, _⟩ => ⟨S1x3072, .f32⟩
  | .hbm, ⟨20, _⟩ => ⟨S4096x3072, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S1x3072, .f32⟩
  | .hbm, ⟨25, _⟩ => ⟨S3072, .f32⟩
  | .hbm, ⟨26, _⟩ => ⟨S1x3072, .f32⟩
  | .hbm, ⟨27, _⟩ => ⟨S4096x3072, .f32⟩
  | .hbm, ⟨28, _⟩ => ⟨S4096x3072, .f32⟩
  | .hbm, ⟨29, _⟩ => ⟨S4096x3072, .f32⟩
  | .hbm, ⟨30, _⟩ => ⟨S4096x3072, .f32⟩
  | .hbm, ⟨31, _⟩ => ⟨S1x3072, .f32⟩
  | .hbm, ⟨32, _⟩ => ⟨S3072, .f32⟩
  | .hbm, ⟨33, _⟩ => ⟨S1x3072, .f32⟩
  | .hbm, ⟨34, _⟩ => ⟨S4096x3072, .f32⟩
  | .hbm, ⟨35, _⟩ => ⟨S4096x3072, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S_, .f32⟩
  | .hbm, ⟨43, _⟩ => ⟨S4096x3072, .f32⟩
  | .hbm, ⟨44, _⟩ => ⟨S4096x3072, .f32⟩
  | .hbm, ⟨45, _⟩ => ⟨S4096x3072, .f32⟩
  | _, _ => ⟨S4096x5152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v33 : Ref sig .tc := ⟨.hbm, 45, rfl⟩

abbrev nD : Nat := 1
abbrev τ : Topo := Topo.v7x

variable {F : FTy → Type} [FloatOps F]
-- ==== FfnKernel.lean ====
abbrev S4096x5632 : Shape := ⟨2, ![4096, 5632]⟩
abbrev S3x5632 : Shape := ⟨2, ![3, 5632]⟩
abbrev S5632 : Shape := ⟨1, ![5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S1x5632 : Shape := ⟨2, ![1, 5632]⟩
abbrev S2x256x1408 : Shape := ⟨3, ![2, 256, 1408]⟩
abbrev S2x16x1408 : Shape := ⟨3, ![2, 16, 1408]⟩
abbrev S3x1408 : Shape := ⟨2, ![3, 1408]⟩
abbrev S1x1408 : Shape := ⟨2, ![1, 1408]⟩
abbrev S256x1408 : Shape := ⟨2, ![256, 1408]⟩
abbrev S2x8x1408 : Shape := ⟨3, ![2, 8, 1408]⟩
abbrev S1x256x1408 : Shape := ⟨3, ![1, 256, 1408]⟩
abbrev S1x8x1408 : Shape := ⟨3, ![1, 8, 1408]⟩
abbrev S8x1408 : Shape := ⟨2, ![8, 1408]⟩
abbrev S248x1408 : Shape := ⟨2, ![248, 1408]⟩

abbrev nBuf : Space → Nat
  | .hbm => 11
  | .vmem => 14
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S4096x2816, .f32⟩
  | .hbm, ⟨4, _⟩ => ⟨S4096x2816, .f32⟩
  | .hbm, ⟨5, _⟩ => ⟨S1x4096x2816, .f32⟩
  | .hbm, ⟨6, _⟩ => ⟨S1x4096x2816, .f32⟩
  | .hbm, ⟨7, _⟩ => ⟨S2x4096x2816, .f32⟩
  | .hbm, ⟨8, _⟩ => ⟨S2x4096x2816, .bf16⟩
  | .hbm, ⟨9, _⟩ => ⟨S1x5632, .f32⟩
  | .hbm, ⟨10, _⟩ => ⟨S4096x2816, .bf16⟩
  | .local _ .vmem, ⟨0, _⟩ => ⟨S2x256x1408, .bf16⟩
  | .local _ .vmem, ⟨1, _⟩ => ⟨S2x256x1408, .bf16⟩
  | .local _ .vmem, ⟨2, _⟩ => ⟨S2x16x1408, .bf16⟩
  | .local _ .vmem, ⟨3, _⟩ => ⟨S2x16x1408, .bf16⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | .local _ .vmem, ⟨8, _⟩ => ⟨S1x1408, .f32⟩
  | .local _ .vmem, ⟨9, _⟩ => ⟨S1x1408, .f32⟩
  | .local _ .vmem, ⟨10, _⟩ => ⟨S1x1408, .f32⟩
  | .local _ .vmem, ⟨11, _⟩ => ⟨S1x1408, .f32⟩
  | .local _ .vmem, ⟨12, _⟩ => ⟨S256x1408, .bf16⟩
  | .local _ .vmem, ⟨13, _⟩ => ⟨S256x1408, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![c0_i32_0.toNat, v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S3x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnRefIdeal.lean ====
abbrev S4096x5632 : Shape := ⟨2, ![4096, 5632]⟩
abbrev S3x5632 : Shape := ⟨2, ![3, 5632]⟩
abbrev S5632 : Shape := ⟨1, ![5632]⟩
abbrev S_ : Shape := ⟨0, ![]⟩
abbrev S2x5632 : Shape := ⟨2, ![2, 5632]⟩
abbrev S4098x5632 : Shape := ⟨2, ![4098, 5632]⟩
abbrev S1x5632 : Shape := ⟨2, ![1, 5632]⟩
abbrev S4096x2816 : Shape := ⟨2, ![4096, 2816]⟩

abbrev nBuf : Space → Nat
  | .hbm => 42
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S3x5632, .f32⟩
  | .hbm, ⟨2, _⟩ => ⟨S5632, .f32⟩
  | .hbm, ⟨3, _⟩ => ⟨S_, .f32⟩
  | .hbm, ⟨4, _⟩ => ⟨S2x5632, .f32⟩
  | .hbm, ⟨5, _⟩ => ⟨S4098x5632, .f32⟩
  | .hbm, ⟨6, _⟩ => ⟨S4096x5632, .f32⟩
  | .hbm, ⟨7, _⟩ => ⟨S1x5632, .f32⟩
  | .hbm, ⟨8, _⟩ => ⟨S5632, .f32⟩
  | .hbm, ⟨9, _⟩ => ⟨S1x5632, .f32⟩
  | .hbm, ⟨10, _⟩ => ⟨S4096x5632, .f32⟩
  | .hbm, ⟨11, _⟩ => ⟨S4096x5632, .f32⟩
  | .hbm, ⟨12, _⟩ => ⟨S1x5632, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S1x5632, .f32⟩
  | .hbm, ⟨17, _⟩ => ⟨S5632, .f32⟩
  | .hbm, ⟨18, _⟩ => ⟨S1x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S1x5632, .f32⟩
  | .hbm, ⟨24, _⟩ => ⟨S5632, .f32⟩
  | .hbm, ⟨25, _⟩ => ⟨S1x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x2816, .f32⟩
  | .hbm, ⟨41, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== NqKernel.lean ====
abbrev S4096x1024 : Shape := ⟨2, ![4096, 1024]⟩
abbrev S1024 : Shape := ⟨1, ![1024]⟩
abbrev S1024x1024 : Shape := ⟨2, ![1024, 1024]⟩
abbrev S1x1024 : Shape := ⟨2, ![1, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S1024x1024, .bf16⟩
  | .hbm, ⟨4, _⟩ => ⟨S1x1024, .f32⟩
  | .hbm, ⟨5, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NqRefIdeal.lean ====
abbrev S4096x1024 : Shape := ⟨2, ![4096, 1024]⟩
abbrev S1024 : Shape := ⟨1, ![1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x1024, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== NupKernel.lean ====
abbrev S4096x1024 : Shape := ⟨2, ![4096, 1024]⟩
abbrev S1024 : Shape := ⟨1, ![1024]⟩
abbrev S1024x5632 : Shape := ⟨2, ![1024, 5632]⟩
abbrev S5632x1024 : Shape := ⟨2, ![5632, 1024]⟩
abbrev S1x1024 : Shape := ⟨2, ![1, 1024]⟩
abbrev S2x4096x2816 : Shape := ⟨3, ![2, 4096, 2816]⟩
abbrev S1024x1024 : Shape := ⟨2, ![1024, 1024]⟩
abbrev S2816x1024 : Shape := ⟨2, ![2816, 1024]⟩
abbrev S1x1024x2816 : Shape := ⟨3, ![1, 1024, 2816]⟩
abbrev S1024x1 : Shape := ⟨2, ![1024, 1]⟩
abbrev S1024x2816 : Shape := ⟨2, ![1024, 2816]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S5632x1024, .f32⟩
  | .hbm, ⟨4, _⟩ => ⟨S5632x1024, .bf16⟩
  | .hbm, ⟨5, _⟩ => ⟨S1x1024, .f32⟩
  | .hbm, ⟨6, _⟩ => ⟨S2x4096x2816, .bf16⟩
  | .local _ .vmem, ⟨0, _⟩ => ⟨S1024x1024, .f32⟩
  | .local _ .vmem, ⟨1, _⟩ => ⟨S1024x1024, .f32⟩
  | .local _ .vmem, ⟨2, _⟩ => ⟨S2816x1024, .bf16⟩
  | .local _ .vmem, ⟨3, _⟩ => ⟨S2816x1024, .bf16⟩
  | .local _ .vmem, ⟨4, _⟩ => ⟨S1x1024, .f32⟩
  | .local _ .vmem, ⟨5, _⟩ => ⟨S1x1024x2816, .bf16⟩
  | .local _ .vmem, ⟨6, _⟩ => ⟨S1x1024x2816, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NupRefIdeal.lean ====
abbrev S4096x1024 : Shape := ⟨2, ![4096, 1024]⟩
abbrev S1024 : Shape := ⟨1, ![1024]⟩
abbrev S1024x5632 : Shape := ⟨2, ![1024, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5632, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5632, .f32⟩
  | .hbm, ⟨20, _⟩ => ⟨S4096x2816, .f32⟩
  | .hbm, ⟨21, _⟩ => ⟨S4096x2816, .f32⟩
  | .hbm, ⟨22, _⟩ => ⟨S1x4096x2816, .f32⟩
  | .hbm, ⟨23, _⟩ => ⟨S1x4096x2816, .f32⟩
  | .hbm, ⟨24, _⟩ => ⟨S2x4096x2816, .f32⟩
  | .hbm, ⟨25, _⟩ => ⟨S2x4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== NinKernel.lean ====
abbrev S4096x1024 : Shape := ⟨2, ![4096, 1024]⟩
abbrev S1024 : Shape := ⟨1, ![1024]⟩
abbrev S1024x5152 : Shape := ⟨2, ![1024, 5152]⟩
abbrev S5152x1024 : Shape := ⟨2, ![5152, 1024]⟩
abbrev S_ : Shape := ⟨0, ![]⟩
abbrev S5376x1024 : Shape := ⟨2, ![5376, 1024]⟩
abbrev S1x1024 : Shape := ⟨2, ![1, 1024]⟩
abbrev S4096x5376 : Shape := ⟨2, ![4096, 5376]⟩
abbrev S1024x1024 : Shape := ⟨2, ![1024, 1024]⟩
abbrev S1792x1024 : Shape := ⟨2, ![1792, 1024]⟩
abbrev S1024x1792 : Shape := ⟨2, ![1024, 1792]⟩
abbrev S1024x1 : Shape := ⟨2, ![1024, 1]⟩

abbrev nBuf : Space → Nat
  | .hbm => 10
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5152, .f32⟩
  | .hbm, ⟨3, _⟩ => ⟨S5152x1024, .f32⟩
  | .hbm, ⟨4, _⟩ => ⟨S_, .i32⟩
  | .hbm, ⟨5, _⟩ => ⟨S_, .f32⟩
  | .hbm, ⟨6, _⟩ => ⟨S5376x1024, .f32⟩
  | .hbm, ⟨7, _⟩ => ⟨S5376x1024, .bf16⟩
  | .hbm, ⟨8, _⟩ => ⟨S1x1024, .f32⟩
  | .hbm, ⟨9, _⟩ => ⟨S4096x5376, .f32⟩
  | .local _ .vmem, ⟨0, _⟩ => ⟨S1024x1024, .f32⟩
  | .local _ .vmem, ⟨1, _⟩ => ⟨S1024x1024, .f32⟩
  | .local _ .vmem, ⟨2, _⟩ => ⟨S1792x1024, .bf16⟩
  | .local _ .vmem, ⟨3, _⟩ => ⟨S1792x1024, .bf16⟩
  | .local _ .vmem, ⟨4, _⟩ => ⟨S1x1024, .f32⟩
  | .local _ .vmem, ⟨5, _⟩ => ⟨S1024x1792, .f32⟩
  | .local _ .vmem, ⟨6, _⟩ => ⟨S1024x1792, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1792x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== NinRefIdeal.lean ====
abbrev S4096x1024 : Shape := ⟨2, ![4096, 1024]⟩
abbrev S1024 : Shape := ⟨1, ![1024]⟩
abbrev S1024x5152 : Shape := ⟨2, ![1024, 5152]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5152 : Shape := ⟨2, ![4096, 5152]⟩
abbrev S4096x5376 : Shape := ⟨2, ![4096, 5376]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1024x5152, .f32⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S1x1024, .f32⟩
  | .hbm, ⟨17, _⟩ => ⟨S4096x1024, .f32⟩
  | .hbm, ⟨18, _⟩ => ⟨S4096x1024, .f32⟩
  | .hbm, ⟨19, _⟩ => ⟨S4096x5152, .f32⟩
  | .hbm, ⟨20, _⟩ => ⟨S_, .i32⟩
  | .hbm, ⟨21, _⟩ => ⟨S_, .f32⟩
  | .hbm, ⟨22, _⟩ => ⟨S4096x5376, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c : Ref sig .tc := ⟨.hbm, 20, rfl⟩
abbrev main_call0_v0 : Ref sig .tc := ⟨.hbm, 21, rfl⟩
abbrev main_v14 : Ref sig .tc := ⟨.hbm, 22, rfl⟩

abbrev nD : Nat := 1
abbrev τ : Topo := Topo.v7x

variable {F : FTy → Type} [FloatOps F]
-- ==== DnKernel.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S2816x1024, .bf16⟩
  | .hbm, ⟨5, _⟩ => ⟨S4096x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DnRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== DdKernel.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S2816x1024, .bf16⟩
  | .hbm, ⟨3, _⟩ => ⟨S4096x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DdRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .f32⟩
  | .hbm, ⟨2, _⟩ => ⟨S_, .f32⟩
  | .hbm, ⟨3, _⟩ => ⟨S4096x2816, .f32⟩
  | .hbm, ⟨4, _⟩ => ⟨S4096x1024, .f32⟩
  | .hbm, ⟨5, _⟩ => ⟨S4096x2816, .f32⟩
  | .hbm, ⟨6, _⟩ => ⟨S4096x2816, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DwKernel.lean ====
abbrev S4096x2816 : Shape := ⟨2, ![4096, 2816]⟩
abbrev S4096x1024 : Shape := ⟨2, ![4096, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S4096x2816, .bf16⟩
  | .hbm, ⟨3, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .f32⟩
  | .local _ .vmem, ⟨3, _⟩ => ⟨S1024x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OptKernel.lean ====
abbrev S8x352x1024 : Shape := ⟨3, ![8, 352, 1024]⟩
abbrev S2x352x1024 : Shape := ⟨3, ![2, 352, 1024]⟩
abbrev S704x1024 : Shape := ⟨2, ![704, 1024]⟩
abbrev S352x1024 : Shape := ⟨2, ![352, 1024]⟩
abbrev S1x352x1024 : Shape := ⟨3, ![1, 352, 1024]⟩

abbrev nBuf : Space → Nat
  | .hbm => 14
  | .vmem => 18
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .bf16⟩
  | .hbm, ⟨6, _⟩ => ⟨S8x352x1024, .bf16⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S8x352x1024, .bf16⟩
  | .local _ .vmem, ⟨3, _⟩ => ⟨S8x352x1024, .bf16⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .vmem, ⟨10, _⟩ => ⟨S352x1024, .f32⟩
  | .local _ .vmem, ⟨11, _⟩ => ⟨S352x1024, .f32⟩
  | .local _ .vmem, ⟨12, _⟩ => ⟨S352x1024, .f32⟩
  | .local _ .vmem, ⟨13, _⟩ => ⟨S352x1024, .f32⟩
  | .local _ .vmem, ⟨14, _⟩ => ⟨S352x1024, .f32⟩
  | .local _ .vmem, ⟨15, _⟩ => ⟨S352x1024, .f32⟩
  | .local _ .vmem, ⟨16, _⟩ => ⟨S352x1024, .f32⟩
  | .local _ .vmem, ⟨17, _⟩ => ⟨S352x1024, .f32⟩
  | _, _ => ⟨S8x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  ![c0_i32_2.toNat, v2.toNat, arg1.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg0 c1_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  let c0_i32_2 : BitVec 32 := 0#32
  ![c0_i32_1.toNat, v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== OptRefIdeal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩
abbrev S704x1024 : Shape := ⟨2, ![704, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x352x1024, .f32⟩
  | .hbm, ⟨1, _⟩ => ⟨S8x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S1x352x1024, .f32⟩
  | .hbm, ⟨10, _⟩ => ⟨S1x352x1024, .f32⟩
  | .hbm, ⟨11, _⟩ => ⟨S2x352x1024, .f32⟩
  | .hbm, ⟨12, _⟩ => ⟨S_, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S2x352x1024, .f32⟩
  | .hbm, ⟨23, _⟩ => ⟨S_, .f32⟩
  | .hbm, ⟨24, _⟩ => ⟨S2x352x1024, .f32⟩
  | .hbm, ⟨25, _⟩ => ⟨S2x352x1024, .f32⟩
  | .hbm, ⟨26, _⟩ => ⟨S2x352x1024, .f32⟩
  | .hbm, ⟨27, _⟩ => ⟨S_, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | .hbm, ⟨37, _⟩ => ⟨S2x352x1024, .f32⟩
  | .hbm, ⟨38, _⟩ => ⟨S_, .f32⟩
  | .hbm, ⟨39, _⟩ => ⟨S2x352x1024, .f32⟩
  | .hbm, ⟨40, _⟩ => ⟨S2x352x1024, .f32⟩
  | .hbm, ⟨41, _⟩ => ⟨S2x352x1024, .f32⟩
  | .hbm, ⟨42, _⟩ => ⟨S_, .f32⟩
  | .hbm, ⟨43, _⟩ => ⟨S2x352x1024, .f32⟩
  | .hbm, ⟨44, _⟩ => ⟨S2x352x1024, .f32⟩
  | .hbm, ⟨45, _⟩ => ⟨S704x1024, .f32⟩
  | .hbm, ⟨46, _⟩ => ⟨S704x1024, .f32⟩
  | .hbm, ⟨47, _⟩ => ⟨S704x1024, .f32⟩
  | .hbm, ⟨48, _⟩ => ⟨S704x1024, .f32⟩
  | _, _ => ⟨S8x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩

abbrev nD : Nat := 1
abbrev τ : Topo := Topo.v7x

variable {F : FTy → Type} [FloatOps F]
-- ==== PutKernel.lean ====
abbrev S4096x5376 : Shape := ⟨2, ![4096, 5376]⟩
abbrev S4096x32 : Shape := ⟨2, ![4096, 32]⟩
abbrev S_ : Shape := ⟨0, ![]⟩
abbrev S4096x256 : Shape := ⟨2, ![4096, 256]⟩
abbrev S512x256 : Shape := ⟨2, ![512, 256]⟩

abbrev nBuf : Space → Nat
  | .hbm => 8
  | .vmem => 4
  | .smem => 0
  | _ => 0

abbrev bufTy : (tb : Table) → Fin (tcTables nBuf tb) → BufTy
  | .hbm, ⟨0, _⟩ => ⟨S4096x5376, .f32⟩
  | .hbm, ⟨1, _⟩ => ⟨S4096x32, .f32⟩
  | .hbm, ⟨2, _⟩ => ⟨S4096x5376, .bf16⟩
  | .hbm, ⟨3, _⟩ => ⟨S4096x32, .bf16⟩
  | .hbm, ⟨4, _⟩ => ⟨S_, .i32⟩
  | .hbm, ⟨5, _⟩ => ⟨S_, .bf16⟩
  | .hbm, ⟨6, _⟩ => ⟨S4096x256, .bf16⟩
  | .hbm, ⟨7, _⟩ => ⟨S4096x5376, .bf16⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | _, _ => ⟨S4096x5376, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== PutRefIdeal.lean ====
abbrev S4096x5376 : Shape := ⟨2, ![4096, 5376]⟩
abbrev S4096x32 : Shape := ⟨2, ![4096, 32]⟩
abbrev S_ : Shape := ⟨0, ![]⟩
abbrev S4096x224 : Shape := ⟨2, ![4096, 224]⟩
abbrev S4096x5120 : Shape := ⟨2, ![4096, 5120]⟩

abbrev nBuf : Space → Nat
  | .hbm => 7
  | .vmem => 0
  | .smem => 0
  | _ => 0

abbrev bufTy : (tb : Table) → Fin (tcTables nBuf tb) → BufTy
  | .hbm, ⟨0, _⟩ => ⟨S4096x5376, .f32⟩
  | .hbm, ⟨1, _⟩ => ⟨S4096x32, .f32⟩
  | .hbm, ⟨2, _⟩ => ⟨S_, .f32⟩
  | .hbm, ⟨3, _⟩ => ⟨S4096x224, .f32⟩
  | .hbm, ⟨4, _⟩ => ⟨S4096x5120, .f32⟩
  | .hbm, ⟨5, _⟩ => ⟨S4096x5376, .f32⟩
  | .hbm, ⟨6, _⟩ => ⟨S4096x5376, .bf16⟩
  | _, _ => ⟨S4096x5376, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== StkKernel.lean ====
abbrev S8x644x1024 : Shape := ⟨3, ![8, 644, 1024]⟩
abbrev S5376x1024 : Shape := ⟨2, ![5376, 1024]⟩
abbrev S8x644x256 : Shape := ⟨3, ![8, 644, 256]⟩
abbrev S5376x256 : Shape := ⟨2, ![5376, 256]⟩
abbrev S1x644x256 : Shape := ⟨3, ![1, 644, 256]⟩
abbrev S644x256 : Shape := ⟨2, ![644, 256]⟩
abbrev S224x256 : Shape := ⟨2, ![224, 256]⟩

abbrev nBuf : Space → Nat
  | .hbm => 3
  | .vmem => 4
  | .smem => 0
  | _ => 0

abbrev bufTy : (tb : Table) → Fin (tcTables nBuf tb) → BufTy
  | .hbm, ⟨0, _⟩ => ⟨S8x644x1024, .f32⟩
  | .hbm, ⟨1, _⟩ => ⟨S8x644x1024, .bf16⟩
  | .hbm, ⟨2, _⟩ => ⟨S5376x1024, .bf16⟩
  | .local _ .vmem, ⟨0, _⟩ => ⟨S8x644x256, .bf16⟩
  | .local _ .vmem, ⟨1, _⟩ => ⟨S8x644x256, .bf16⟩
  | .local _ .vmem, ⟨2, _⟩ => ⟨S5376x256, .bf16⟩
  | .local _ .vmem, ⟨3, _⟩ => ⟨S5376x256, .bf16⟩
  | _, _ => ⟨S8x644x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x644x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5376x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== StkRefIdeal.lean ====
abbrev S8x644x1024 : Shape := ⟨3, ![8, 644, 1024]⟩
abbrev S_ : Shape := ⟨0, ![]⟩
abbrev S224x1024 : Shape := ⟨2, ![224, 1024]⟩
abbrev S5152x1024 : Shape := ⟨2, ![5152, 1024]⟩
abbrev S5376x1024 : Shape := ⟨2, ![5376, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8x644x1024, .f32⟩
  | .hbm, ⟨1, _⟩ => ⟨S_, .f32⟩
  | .hbm, ⟨2, _⟩ => ⟨S224x1024, .f32⟩
  | .hbm, ⟨3, _⟩ => ⟨S5152x1024, .f32⟩
  | .hbm, ⟨4, _⟩ => ⟨S5376x1024, .f32⟩
  | .hbm, ⟨5, _⟩ => ⟨S5376x1024, .bf16⟩
  | _, _ => ⟨S8x644x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== UnsKernel.lean ====
abbrev S5376x1024 : Shape := ⟨2, ![5376, 1024]⟩
abbrev S8x644x1024 : Shape := ⟨3, ![8, 644, 1024]⟩
abbrev S5376x256 : Shape := ⟨2, ![5376, 256]⟩
abbrev S8x644x256 : Shape := ⟨3, ![8, 644, 256]⟩
abbrev S644x256 : Shape := ⟨2, ![644, 256]⟩
abbrev S1x644x256 : Shape := ⟨3, ![1, 644, 256]⟩

abbrev nBuf : Space → Nat
  | .hbm => 3
  | .vmem => 4
  | .smem => 0
  | _ => 0

abbrev bufTy : (tb : Table) → Fin (tcTables nBuf tb) → BufTy
  | .hbm, ⟨0, _⟩ => ⟨S5376x1024, .f32⟩
  | .hbm, ⟨1, _⟩ => ⟨S5376x1024, .bf16⟩
  | .hbm, ⟨2, _⟩ => ⟨S8x644x1024, .bf16⟩
  | .local _ .vmem, ⟨0, _⟩ => ⟨S5376x256, .bf16⟩
  | .local _ .vmem, ⟨1, _⟩ => ⟨S5376x256, .bf16⟩
  | .local _ .vmem, ⟨2, _⟩ => ⟨S8x644x256, .bf16⟩
  | .local _ .vmem, ⟨3, _⟩ => ⟨S8x644x256, .bf16⟩
  | _, _ => ⟨S5376x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S5376x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x644x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== UnsRefIdeal.lean ====
abbrev S5376x1024 : Shape := ⟨2, ![5376, 1024]⟩
abbrev S5152x1024 : Shape := ⟨2, ![5152, 1024]⟩
abbrev S8x644x1024 : Shape := ⟨3, ![8, 644, 1024]⟩

abbrev nBuf : Space → Nat
  | .hbm => 4
  | .vmem => 0
  | .smem => 0
  | _ => 0

abbrev bufTy : (tb : Table) → Fin (tcTables nBuf tb) → BufTy
  | .hbm, ⟨0, _⟩ => ⟨S5376x1024, .f32⟩
  | .hbm, ⟨1, _⟩ => ⟨S5152x1024, .f32⟩
  | .hbm, ⟨2, _⟩ => ⟨S8x644x1024, .f32⟩
  | .hbm, ⟨3, _⟩ => ⟨S8x644x1024, .bf16⟩
  | _, _ => ⟨S5376x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Proof.Reals.lean ====
/- Extended reals that are real: the operations of an idealized program on finite values, as the operations of `ℝ`. -/
module

public import Idealize.ShloMosaic.PureOps
public import Idealize.ShloMosaic.Lib.Pipeline.ValueKit

@[expose] public section

noncomputable section

namespace Cert.Reals

open Idealize.ShloMosaic

/-- A finite sum of reals, summed as extended reals. -/
theorem sum_coe {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The quotient of two reals, the divisor not zero. -/
theorem div_coe_coe (a : ℝ) {b : ℝ} (hb : b ≠ 0) : Ideal.div (a : EReal) (b : EReal) = ((a / b : ℝ) : EReal) := by
  rw [Ideal.div_coe hb, ← EReal.coe_mul, mul_one_div]

/-- The reciprocal square root of a positive real. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The logarithm of a positive real. -/
theorem log_coe_pos {r : ℝ} (hr : 0 < r) : Ideal.log (r : EReal) = ((Real.log r : ℝ) : EReal) := by
  rw [Ideal.log_coe, if_neg (not_le.mpr hr)]

/-- The pattern of f32's positive infinity. -/
theorem ofBits_inf : Ideal.ofBits .f32 0x7F800000#32 = ⊤ := by simp [Ideal.ofBits, Ideal.ieee]

/-- The pattern of f32's one half. -/
theorem ofBits_half : Ideal.ofBits .f32 0x3F000000#32 = (((1 : ℝ) / 2 : ℝ) : EReal) := by
  simp [Ideal.ofBits, Ideal.ieee, -EReal.coe_mul]; norm_num

/-- The pattern of f32's minus one half. -/
theorem ofBits_neg_half : Ideal.ofBits .f32 0xBF000000#32 = ((-(1 / 2) : ℝ) : EReal) := by
  simp [Ideal.ofBits, Ideal.ieee, -EReal.coe_mul]; norm_num

/-- The pattern of f32's two. -/
theorem ofBits_two : Ideal.ofBits .f32 0x40000000#32 = ((2 : ℝ) : EReal) := by
  simp [Ideal.ofBits, Ideal.ieee, -EReal.coe_mul]; norm_num

/-- The pattern of f32's 1024. -/
theorem ofBits_1024 : Ideal.ofBits .f32 0x44800000#32 = ((1024 : ℝ) : EReal) := by
  simp [Ideal.ofBits, Ideal.ieee, -EReal.coe_mul]; norm_num

/-- The pattern of f32's 1/1024. -/
theorem ofBits_inv_1024 : Ideal.ofBits .f32 0x3A800000#32 = (((1 : ℝ) / 1024 : ℝ) : EReal) := by
  simp [Ideal.ofBits, Ideal.ieee, -EReal.coe_mul]; norm_num

/-- What is added under the square root of a norm: the value of the f32 nearest `10⁻⁶`. -/
def eps : ℝ := 8796093 / 8796093022208

/-- It is positive. -/
theorem eps_pos : 0 < eps := by norm_num [eps]

/-- Its pattern. -/
theorem ofBits_eps : Ideal.ofBits .f32 0x358637BD#32 = (eps : EReal) := by
  simp [Ideal.ofBits, Ideal.ieee, -EReal.coe_mul, eps]; norm_num

/-- An extended real of magnitude below infinity is a real. -/
theorem exists_real_of_cmp {x : EReal} (h : Ideal.cmp .olt (max x (-x)) ⊤ = 1#1) : ∃ r : ℝ, x = (r : EReal) := by
  have h' : max x (-x) < ⊤ := by
    by_contra hn
    simp [Ideal.cmp, hn] at h
  obtain ⟨h1, h2⟩ := max_lt_iff.mp h'
  induction x using EReal.rec with
  | bot => exact absurd h2 (by simp)
  | coe r => exact ⟨r, rfl⟩
  | top => exact absurd h1 (by simp)

/-- An array of extended reals each of magnitude below infinity is an array of reals. -/
theorem exists_reals {ι : Type} {X : ι → EReal} (h : ∀ i, Ideal.cmp .olt (max (X i) (-(X i))) ⊤ = 1#1) :
    ∃ x : ι → ℝ, X = fun i => ((x i : ℝ) : EReal) := by
  choose x hx using fun i => exists_real_of_cmp (h i)
  exact ⟨x, funext hx⟩

/-- The pattern of f32's one. -/
theorem ofBits_one : Ideal.ofBits .f32 0x3F800000#32 = ((1 : ℝ) : EReal) := by
  simp [Ideal.ofBits, Ideal.ieee, -EReal.coe_mul]; norm_num

/-- The logistic function, through the hyperbolic tangent. -/
theorem half_tanh (x : ℝ) : 1 / 2 * Real.tanh (1 / 2 * x) + 1 / 2 = 1 / (1 + Real.exp (-x)) := by
  have e : Real.exp (-x) = Real.exp (-(1 / 2 * x)) * Real.exp (-(1 / 2 * x)) := by rw [← Real.exp_add]; ring_nf
  have h : Real.exp (1 / 2 * x) * Real.exp (-(1 / 2 * x)) = 1 := by rw [← Real.exp_add]; simp
  have ha := Real.exp_pos (1 / 2 * x)
  have hb := Real.exp_pos (-(1 / 2 * x))
  rw [Real.tanh_eq_sinh_div_cosh, Real.sinh_eq, Real.cosh_eq, e]
  generalize Real.exp (1 / 2 * x) = a at *
  generalize Real.exp (-(1 / 2 * x)) = b at *
  field_simp
  nlinarith

end Cert.Reals

end
-- ==== Proof.Loss.lean ====
module

public import proofs.«01_k».proof.Proof.Gen.LossKernelIdeal.Frame
public import proofs.«01_k».proof.Proof.Gen.LossRefIdeal.Read
public import proofs.«01_k».proof.Proof.Reals

@[expose] public section

set_option maxRecDepth 16384

noncomputable section

open Idealize.ShloMosaic Idealize.ShloMosaic.TcCoe Idealize.SL.Sem

namespace Cert.Loss

/-- The reciprocal root mean square of a row. -/
def rs (a : Fin 1024 → ℝ) : ℝ := (Real.sqrt ((∑ k, a k * a k) / 1024 + Reals.eps))⁻¹
/-- The normed row minus the target's. -/
def err (a b w : Fin 1024 → ℝ) (k : Fin 1024) : ℝ := a k * rs a * w k - b k
/-- The mean of the squared error of a row. -/
def lossRow (a b w : Fin 1024 → ℝ) : ℝ := (∑ k, err a b w k * err a b w k) / 1024
/-- The gradient at the normed row, times the gain. -/
def dxh (a b w : Fin 1024 → ℝ) (k : Fin 1024) : ℝ := err a b w k * (1 / 1024) * w k
/-- The gradient at the row. -/
def dhRow (a b w : Fin 1024 → ℝ) (k : Fin 1024) : ℝ :=
  rs a * (dxh a b w k - a k * rs a * ((∑ l, dxh a b w l * (a l * rs a)) / 1024))
/-- A row's part of the gain's gradient. -/
def dwRow (a b w : Fin 1024 → ℝ) (k : Fin 1024) : ℝ := err a b w k * (1 / 1024) * (a k * rs a)

theorem pos_ms (a : Fin 1024 → ℝ) : 0 < (∑ k, a k * a k) / 1024 + Reals.eps :=
  add_pos_of_nonneg_of_pos (div_nonneg (Finset.sum_nonneg fun k _ => mul_self_nonneg _) (by norm_num)) Reals.eps_pos

/-- The reciprocal of the mean square is the reciprocal root's square. -/
theorem div_ms (a : Fin 1024 → ℝ) : rs a / ((∑ k, a k * a k) / 1024 + Reals.eps) = rs a * (rs a * rs a) := by
  rw [div_eq_mul_inv]
  refine congrArg (rs a * ·) ?_
  rw [rs, ← mul_inv, Real.mul_self_sqrt (pos_ms a).le]

section Kernel
open Cert.LossKernelIdeal Cert.LossKernelIdeal.Gen

variable (h t : S512x1024.Idx → ℝ) (w : S1x1024.Idx → ℝ)

theorem pay6_apply (r : Fin 512) :
    k0_pay6 (F := Ideal) (fun i => (h i : EReal)) (ix2 r 0 : S512x1.Idx) = ((rs fun k => h (ix2 r k) : ℝ) : EReal) := by
  pointwise [k0_pay6]
  simp only [Reals.ofBits_1024, Reals.ofBits_eps, ← EReal.coe_mul, Reals.sum_coe, Reals.div_coe_coe _ (show (1024 : ℝ) ≠ 0 by norm_num),
    ← EReal.coe_add]
  exact Reals.rsqrt_coe_pos (pos_ms _)

theorem pay7_apply (r : Fin 512) (l : Fin 1024) :
    k0_pay7 (F := Ideal) (fun i => (h i : EReal)) (ix2 r l) = ((h (ix2 r l) * (rs fun k => h (ix2 r k)) : ℝ) : EReal) := by
  pointwise [k0_pay7]
  rw [pay6_apply, EReal.coe_mul]

theorem pay8_apply (r : Fin 512) (l : Fin 1024) :
    k0_pay8 (F := Ideal) (fun i => (h i : EReal)) (fun i => (w i : EReal)) (fun i => (t i : EReal)) (ix2 r l)
      = ((err (fun k => h (ix2 r k)) (fun k => t (ix2 r k)) (fun k => w (ix2 0 k)) l : ℝ) : EReal) := by
  pointwise [k0_pay8, k0_pay5]
  rw [pay7_apply]
  simp only [← EReal.coe_mul, ← EReal.coe_sub]; rfl

theorem pay9_apply :
    k0_pay9 (F := Ideal) (fun i => (h i : EReal)) (fun i => (w i : EReal)) (fun i => (t i : EReal)) (ix2 0 0 : S1x1.Idx)
      = ((1 / 2 * ∑ r : Fin 512, lossRow (fun k => h (ix2 r k)) (fun k => t (ix2 r k)) (fun k => w (ix2 0 k)) : ℝ) : EReal) := by
  pointwise [k0_pay9]
  simp only [pay8_apply, Reals.ofBits_1024, Reals.ofBits_half, ← EReal.coe_mul, Reals.sum_coe, Reals.div_coe_coe _ (show (1024 : ℝ) ≠ 0 by norm_num)]
  rfl

theorem pay10_apply (r : Fin 512) (l : Fin 1024) :
    k0_pay10 (F := Ideal) (fun i => (h i : EReal)) (fun i => (w i : EReal)) (fun i => (t i : EReal)) (ix2 r l)
      = ((err (fun k => h (ix2 r k)) (fun k => t (ix2 r k)) (fun k => w (ix2 0 k)) l * (1 / 1024) : ℝ) : EReal) := by
  pointwise [k0_pay10]
  rw [pay8_apply, Reals.ofBits_inv_1024, ← EReal.coe_mul]

theorem pay11_apply (r : Fin 512) (l : Fin 1024) :
    k0_pay11 (F := Ideal) (fun i => (h i : EReal)) (fun i => (w i : EReal)) (fun i => (t i : EReal)) (ix2 r l)
      = ((dhRow (fun k => h (ix2 r k)) (fun k => t (ix2 r k)) (fun k => w (ix2 0 k)) l : ℝ) : EReal) := by
  pointwise [k0_pay11, k0_pay5]
  simp only [pay10_apply, pay7_apply, pay6_apply, Reals.ofBits_1024, ← EReal.coe_mul, Reals.sum_coe,
    Reals.div_coe_coe _ (show (1024 : ℝ) ≠ 0 by norm_num), ← EReal.coe_sub]
  rfl

theorem pay1_apply (j : Fin 1) (l : Fin 1024) :
    k0_pay1 (F := Ideal) (k0_pay7 (fun i => (h i : EReal))) (k0_pay10 (fun i => (h i : EReal)) (fun i => (w i : EReal)) (fun i => (t i : EReal))) (ix2 j l)
      = ((∑ r : Fin 512, dwRow (fun k => h (ix2 r k)) (fun k => t (ix2 r k)) (fun k => w (ix2 0 k)) l : ℝ) : EReal) := by
  pointwise [k0_pay1]
  simp only [pay10_apply, pay7_apply, ← EReal.coe_mul, Reals.sum_coe]
  rfl

end Kernel

section Reference
open Cert.LossRefIdeal Cert.LossRefIdeal.Read

variable (h t : S4096x1024.Idx → ℝ) (w : S1024.Idx → ℝ)

abbrev row (i : Fin 4096) : Fin 1024 → ℝ := fun k => h (ix2 i k)
abbrev gain : Fin 1024 → ℝ := fun k => w (ix1 k)

theorem v6_apply (i : Fin 4096) : val_main_v6 (F := Ideal) (fun i => (h i : EReal)) (ix2 i 0 : S4096x1.Idx)
    = (((∑ k, row h i k * row h i k) / 1024 + Reals.eps : ℝ) : EReal) := by
  pointwise [val_main_v6, val_main_v5, val_main_v4, val_main_v3, val_main_v2, val_main_v1, val_main_v0, val_main_cst, val_main_cst_0, val_main_cst_1]
  simp only [Reals.ofBits_1024, Reals.ofBits_eps, ← EReal.coe_mul, Reals.sum_coe, Reals.div_coe_coe _ (show (1024 : ℝ) ≠ 0 by norm_num),
    ← EReal.coe_add]

theorem v7_apply (i : Fin 4096) : val_main_v7 (F := Ideal) (fun i => (h i : EReal)) (ix2 i 0 : S4096x1.Idx) = ((rs (row h i) : ℝ) : EReal) := by
  pointwise [val_main_v7]
  rw [v6_apply]
  exact Reals.rsqrt_coe_pos (pos_ms _)

theorem v12_apply (i : Fin 4096) (l : Fin 1024) : val_main_v12 (F := Ideal) (fun i => (h i : EReal)) (ix2 i l) = ((row h i l * rs (row h i) : ℝ) : EReal) := by
  pointwise [val_main_v12, val_main_v11]
  rw [v7_apply, EReal.coe_mul]

theorem v16_apply (i : Fin 4096) (l : Fin 1024) :
    val_main_v16 (F := Ideal) (fun i => (h i : EReal)) (fun i => (t i : EReal)) (fun i => (w i : EReal)) (ix2 i l)
      = ((err (row h i) (row t i) (gain w) l : ℝ) : EReal) := by
  pointwise [val_main_v16, val_main_v15, val_main_v14, val_main_v13]
  rw [v12_apply]
  simp only [← EReal.coe_mul, ← EReal.coe_sub]; rfl

/-- The reference's loss: half the sum of the rows' mean squared errors. -/
theorem v24_apply : val_main_v24 (F := Ideal) (fun i => (h i : EReal)) (fun i => (t i : EReal)) (fun i => (w i : EReal)) ix0
    = ((1 / 2 * ∑ i : Fin 4096, lossRow (row h i) (row t i) (gain w) : ℝ) : EReal) := by
  pointwise [val_main_v24, val_main_v23, val_main_v22, val_main_v21, val_main_v20, val_main_v17, val_main_cst_3, val_main_cst_4, val_main_cst_5,
    val_main_cst_6, val_main_cst_7]
  simp only [v16_apply, Reals.ofBits_1024, Reals.ofBits_half, ← EReal.coe_mul, Reals.sum_coe, Reals.div_coe_coe _ (show (1024 : ℝ) ≠ 0 by norm_num)]
  rfl

theorem v30_apply (i : Fin 4096) (l : Fin 1024) :
    val_main_v30 (F := Ideal) (fun i => (h i : EReal)) (fun i => (t i : EReal)) (fun i => (w i : EReal)) (ix2 i l)
      = ((err (row h i) (row t i) (gain w) l * (1 / 1024) : ℝ) : EReal) := by
  pointwise [val_main_v30, val_main_v29, val_main_v28, val_main_v27, val_main_v26, val_main_v25, val_main_v19, val_main_v18, val_main_cst_3, val_main_cst_8,
    val_main_cst_9, val_main_cst_10]
  simp only [v16_apply, Reals.ofBits_1024, Reals.ofBits_half, Reals.ofBits_two, ← EReal.coe_mul, Reals.div_coe_coe _ (show (1024 : ℝ) ≠ 0 by norm_num)]
  exact congrArg _ (by ring)

theorem v35_apply (i : Fin 4096) (l : Fin 1024) :
    val_main_v35 (F := Ideal) (fun i => (h i : EReal)) (fun i => (t i : EReal)) (fun i => (w i : EReal)) (ix2 i l)
      = ((dxh (row h i) (row t i) (gain w) l : ℝ) : EReal) := by
  pointwise [val_main_v35, val_main_v34, val_main_v13]
  rw [v30_apply, ← EReal.coe_mul]; rfl

/-- The reference's gradient of the gain. -/
theorem v36_apply (l : Fin 1024) :
    val_main_v36 (F := Ideal) (fun i => (h i : EReal)) (fun i => (t i : EReal)) (fun i => (w i : EReal)) (ix1 l)
      = ((∑ i : Fin 4096, dwRow (row h i) (row t i) (gain w) l : ℝ) : EReal) := by
  pointwise [val_main_v36, val_main_v33, val_main_v32, val_main_v31, val_main_cst_11, val_main_cst_12]
  simp only [Fin.sum_univ_one, v12_apply, v30_apply, ← EReal.coe_mul, Reals.sum_coe, dwRow, mul_comm]

/-- The reference's gradient of the row: the derivative of the reciprocal root is minus half its cube. -/
theorem v50_apply (i : Fin 4096) (l : Fin 1024) :
    val_main_v50 (F := Ideal) (fun i => (h i : EReal)) (fun i => (t i : EReal)) (fun i => (w i : EReal)) (ix2 i l)
      = ((dhRow (row h i) (row t i) (gain w) l : ℝ) : EReal) := by
  pointwise [val_main_v50, val_main_v49, val_main_v48, val_main_v47, val_main_v46, val_main_v45, val_main_v44, val_main_v43, val_main_v42,
    val_main_v41, val_main_v40, val_main_v39, val_main_v38, val_main_v37, val_main_v10, val_main_v9, val_main_v8, val_main_cst_2, val_main_cst_13,
    val_main_cst_14, val_main_cst_15]
  have hms := pos_ms (row h i)
  simp only [Fin.sum_univ_one, Fin.isValue, v35_apply, v7_apply, v6_apply, Reals.ofBits_1024, Reals.ofBits_neg_half, ← EReal.coe_mul, ← EReal.coe_add, Reals.sum_coe,
    Reals.div_coe_coe _ (show (1024 : ℝ) ≠ 0 by norm_num), Reals.div_coe_coe _ hms.ne']
  have e : ∑ x, h (ix2 i x) * dxh (row h i) (row t i) (gain w) x = ∑ l, dxh (row h i) (row t i) (gain w) l * row h i l :=
    Finset.sum_congr rfl fun k _ => mul_comm _ _
  have e' : ∑ x, dxh (row h i) (row t i) (gain w) x * (row h i x * rs (row h i))
      = (∑ l, dxh (row h i) (row t i) (gain w) l * row h i l) * rs (row h i) := by
    rw [Finset.sum_mul]; exact Finset.sum_congr rfl fun k _ => by ring
  refine congrArg _ ?_
  rw [dhRow, e, e', div_ms (row h i)]
  ring
end Reference
end Cert.Loss
end
-- ==== Proof.LossValue.lean ====
/- What the loss kernel's result arrays hold: the loss, the rows' gradient, the gain's gradient. -/
module

public import proofs.«01_k».proof.Proof.Loss
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.LossKernelIdeal.Value
open Cert.LossKernelIdeal Cert.LossKernelIdeal.Gen Cert.Loss

variable (m : (ℓ : Loc nD τ sig) → Buf (Elt Ideal) ℓ) (c : Dev nD)
variable (h t : S4096x1024.Idx → ℝ) (w : S1024.Idx → ℝ)

/-- The three arguments hold real numbers. -/
structure Args : Prop where
  h : m ((c.tc : Thread nD τ).loc main_arg0) = fun i => (h i : EReal)
  t : m ((c.tc : Thread nD τ).loc main_arg1) = fun i => (t i : EReal)
  w : m ((c.tc : Thread nD τ).loc main_arg2) = fun i => (w i : EReal)

theorem idx : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![0, 0] :=
  (by decide +kernel : ∀ t : Fin grid0.N, _)

/-- Row `r` of the block at point `n`. -/
def rowAt (n : Fin cfg0.N) (r : Fin 512) : Fin 4096 := ⟨n.val * 512 + r.val, by have := n.isLt; have : cfg0.N = 8 := N_0; omega⟩
def blk (x : S4096x1024.Idx → ℝ) (n : Fin cfg0.N) : S512x1024.Idx → ℝ := fun i => x (ix2 (rowAt n (i 0)) (i 1))
def gainBlk : S1x1024.Idx → ℝ := fun i => w (ix1 (i 1))

variable {m c h t w}

theorem iblk_h (H : Args m c h t w) (n : Fin cfg0.N) : iblk m c 0 n = fun i => (blk h n i : EReal) := by
  funext i
  idx_vars i
  refine Eq.trans (b := m ((c.tc : Thread nD τ).loc main_arg0) (ix2 (rowAt n i0) i1)) ?_ (by rw [H.h]; rfl)
  blk_point [iblk, V, idx n, rowAt]

theorem iblk_t (H : Args m c h t w) (n : Fin cfg0.N) : iblk m c 1 n = fun i => (blk t n i : EReal) := by
  funext i
  idx_vars i
  refine Eq.trans (b := m ((c.tc : Thread nD τ).loc main_arg1) (ix2 (rowAt n i0) i1)) ?_ (by rw [H.t]; rfl)
  blk_point [iblk, V, idx n, rowAt]

theorem iblk_w (H : Args m c h t w) (n : Fin cfg0.N) : iblk m c 2 n = fun i => (gainBlk w i : EReal) := by
  funext i
  idx_vars i
  refine Eq.trans (b := m ((c.tc : Thread nD τ).loc main_arg2) (ix1 i1)) ?_ (by rw [H.w]; rfl)
  have hV : V m c (Pipeline.arrRef spec0 2) = shapeCast S1x1024 (m ((c.tc : Thread nD τ).loc main_arg2)) shapeCasts_S1024_S1x1024 := by
    unfold V
    after_results_simp <;> rfl
  refine Eq.trans (b := V m c (Pipeline.arrRef spec0 2) (ix2 i0 i1 : S1x1024.Idx)) ?_ ?_
  · blk_point [iblk, idx n]
  · rw [hV]
    pointwise

theorem lt8 (n : Fin cfg0.N) : n.val < 8 := by have := n.isLt; have : cfg0.N = 8 := N_0; omega

theorem rows (n : Fin cfg0.N) (r : Fin 512) : (fun k => blk h n (ix2 r k)) = row h (rowAt n r) := rfl

/-- The three results as arrays. -/
def lossOut (h t : S4096x1024.Idx → ℝ) (w : S1024.Idx → ℝ) : S1x128.Idx → EReal :=
  fun _ => ((1 / 2 * ∑ i, lossRow (row h i) (row t i) (gain w) : ℝ) : EReal)
def dhOut (h t : S4096x1024.Idx → ℝ) (w : S1024.Idx → ℝ) : S4096x1024.Idx → EReal :=
  fun i => ((dhRow (row h (i 0)) (row t (i 0)) (gain w) (i 1) : ℝ) : EReal)
def dwOut (h t : S4096x1024.Idx → ℝ) (w : S1024.Idx → ℝ) : S1x1024.Idx → EReal :=
  fun j => ((∑ i, dwRow (row h i) (row t i) (gain w) (j 1) : ℝ) : EReal)

/-- The rows' gradient: every block of it is written once, from its own rows. -/
theorem final_dh (H : Args m c h t w) :
    (dats m 0 c).arrAt 4 cfg0.N = dhOut h t w := by
  refine (dats m 0 c).arrAt_eq_of_covers 4 _ (by decide +kernel) fun n _ y => ?_
  blk_simp
  rw [after0_4]
  have e : (outsAt0 m c n.val n.isLt).2.1 = k0_pay11 (iblk m c 0 n) (iblk m c 2 n) (iblk m c 1 n) := by
    by_cases h0 : n.val % 8 = 0
    · rw [outsAt0_A m c n h0 (by have := lt8 n; omega)]
      frame_out
    · rw [outsAt0_B m c n h0 (by omega)]
      frame_out
  rw [e, iblk_h H, iblk_w H, iblk_t H]
  idx_vars y
  refine ((pay11_apply (blk h n) (blk t n) (gainBlk w) y0 y1).trans
    (show _ = dhOut h t w (ix2 (rowAt n y0) y1) from rfl)).trans ?_
  generalize dhOut h t w = X
  blk_point [idx n, rowAt]

/-- A sum over the points' rows is the sum over all rows. -/
theorem sum_points (f : Fin 4096 → ℝ) : ∑ n : Fin cfg0.N, ∑ r : Fin 512, f (rowAt n r) = ∑ i, f i := by
  exact Fin.sum_mul_add_fin cfg0.N 512 f (by rw [show cfg0.N = 8 from N_0])

/-- The loss: the points' half sums, one after the other. -/
theorem final_loss (H : Args m c h t w) :
    (dats m 0 c).arrAt 3 cfg0.N = lossOut h t w := by
  refine (dats m 0 c).arrAt_eq_of_after_last 3 t0_7 (by decide +kernel) _ fun j => ?_
  blk_simp
  rw [after0_3, Pipeline.eq_sum_fin_of_reset_step_apply_last (fun n h => (outsAt0 m c n h).1) 8 (fun _ => 0)
    (fun n _ => ((1 / 2 * ∑ r, lossRow (row h (rowAt n r)) (row t (rowAt n r)) (gain w) : ℝ) : EReal))
    (fun n hn j => by
      rw [outsAt0_A m c n hn (by have := lt8 n; omega)]; frame_out
      rw [iblk_h H, iblk_w H, iblk_t H]
      idx_vars j
      pointwise [k0_pay2]
      exact pay9_apply _ _ _)
    (fun n hn j => by
      rw [outsAt0_B m c n hn (by omega)]; frame_out
      rw [iblk_h H, iblk_w H, iblk_t H]
      idx_vars j
      pointwise [k0_pay3, k0_pay2]
      exact congrArg _ (pay9_apply _ _ _)) (le_of_eq N_0) t0_7 rfl j]
  rw [zero_add, Reals.sum_coe, ← Finset.mul_sum]
  exact congrArg (fun r : ℝ => ((1 / 2 * r : ℝ) : EReal)) (sum_points fun i => lossRow (row h i) (row t i) (gain w))

/-- The gain's gradient: the points' column sums, one after the other. -/
theorem final_dw (H : Args m c h t w) :
    (dats m 0 c).arrAt 5 cfg0.N = dwOut h t w := by
  refine (dats m 0 c).arrAt_eq_of_after_last 5 t0_7 (by decide +kernel) _ fun j => ?_
  blk_simp
  rw [after0_5, Pipeline.eq_sum_fin_of_reset_step_apply_last (fun n h => (outsAt0 m c n h).2.2) 8 (fun _ => 0)
    (fun n j => ((∑ r, dwRow (row h (rowAt n r)) (row t (rowAt n r)) (gain w) (j 1) : ℝ) : EReal))
    (fun n hn j => by
      rw [outsAt0_A m c n hn (by have := lt8 n; omega)]; frame_out
      rw [iblk_h H, iblk_w H, iblk_t H]
      idx_vars j
      rw [zero_add]
      exact pay1_apply _ _ _ j0 j1)
    (fun n hn j => by
      rw [outsAt0_B m c n hn (by omega)]; frame_out
      rw [iblk_h H, iblk_w H, iblk_t H]
      idx_vars j
      pointwise [k0_pay4]
      exact congrArg _ (pay1_apply _ _ _ j0 j1)) (le_of_eq N_0) t0_7 rfl j]
  rw [zero_add, Reals.sum_coe]
  exact congrArg (fun r : ℝ => (r : EReal)) (sum_points fun i => dwRow (row h i) (row t i) (gain w) (j 1))

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host lines after the kernel take the loss out of its block. -/
theorem tail_loss (H : Args m c h t w) : Pipeline.afterTail₀ cfgs (dats m) 0 (V0 m) [hostOps1] c main_v3
    = fun _ => ((1 / 2 * ∑ i, lossRow (row h i) (row t i) (gain w) : ℝ) : EReal) := by
  have e : left m c (Proc.devRef .tc (Pipeline.arrRef spec0 3)) = lossOut h t w :=
    (Pipeline.withArrays_arr spec0 winFacts0.arr_inj c (V0 m c) (fun w => (dats m 0 c).arrAt w cfg0.N) 3).trans (final_loss H)
  show StableHlo.after hostOps1 (left m c) (Proc.devRef .tc main_v3) = _
  generalize left m c = W at e
  after_results_simp
  rw [show W (Proc.devRef .tc main_v1_0) = lossOut h t w from e]
  rfl

/-- They flatten the gain's gradient. -/
theorem tail_dw (H : Args m c h t w) : Pipeline.afterTail₀ cfgs (dats m) 0 (V0 m) [hostOps1] c main_v4
    = fun j : S1024.Idx => ((∑ i, dwRow (row h i) (row t i) (gain w) (j 0) : ℝ) : EReal) := by
  have e : left m c (Proc.devRef .tc (Pipeline.arrRef spec0 5)) = dwOut h t w :=
    (Pipeline.withArrays_arr spec0 winFacts0.arr_inj c (V0 m c) (fun w => (dats m 0 c).arrAt w cfg0.N) 5).trans (final_dw H)
  show StableHlo.after hostOps1 (left m c) (Proc.devRef .tc main_v4) = _
  generalize left m c = W at e
  after_results_simp
  rw [show W (Proc.devRef .tc main_v1_2) = dwOut h t w from e]
  funext j
  idx_vars j
  pointwise
  rfl

end Cert.LossKernelIdeal.Value
end
-- ==== Proof.LossPre.lean ====
/- The loss head's precondition: finite arguments are real arrays. -/
module

public import proofs.«01_k».proof.Defs
public import proofs.«01_k».proof.Proof.Reals

@[expose] public section

noncomputable section

open Idealize.ShloMosaic Idealize.ShloMosaic.TcCoe Idealize.SL.Sem

namespace Cert.Pre_loss_finite

instance facts : Facts where
  bcast_S_S4096x1024 := by decide
  bcast_S_S1024 := by decide

/-- Arguments of finite size are arrays of real numbers. -/
theorem reals {a b : FVec Ideal S4096x1024 .f32} {w : FVec Ideal S1024 .f32}
    (h : (fn (F := Ideal) a b w).1 = fun _ => 1#1) (h' : (fn (F := Ideal) a b w).2.1 = fun _ => 1#1)
    (h'' : (fn (F := Ideal) a b w).2.2 = fun _ => 1#1) :
    (∃ x : S4096x1024.Idx → ℝ, a = fun i => (x i : EReal)) ∧ (∃ x : S4096x1024.Idx → ℝ, b = fun i => (x i : EReal))
      ∧ ∃ x : S1024.Idx → ℝ, w = fun i => (x i : EReal) :=
  ⟨Reals.exists_reals fun i => Reals.ofBits_inf ▸ congrFun h i, Reals.exists_reals fun i => Reals.ofBits_inf ▸ congrFun h' i,
    Reals.exists_reals fun i => Reals.ofBits_inf ▸ congrFun h'' i⟩

end Cert.Pre_loss_finite
end
-- ==== Proof.LossClaim.lean ====
/- The loss head's equation: kernel and reference end with the same three results. -/
module

public import proofs.«01_k».proof.Proof.LossValue
public import proofs.«01_k».proof.Proof.LossPre
public import proofs.«01_k».proof.Proof.Gen.LossRefIdeal.Run

@[expose] public section

set_option maxRecDepth 16384

noncomputable section

open Idealize.ShloMosaic Idealize.ShloMosaic.TcCoe Idealize.SL.Sem

namespace Cert.Loss

/-- The loss, the rows' gradient and the gain's gradient of real arguments. -/
def loss (h t : LossKernelIdeal.S4096x1024.Idx → ℝ) (w : LossKernelIdeal.S1024.Idx → ℝ) : LossKernelIdeal.S_.Idx → EReal :=
  fun _ => ((1 / 2 * ∑ i, lossRow (row h i) (row t i) (gain w) : ℝ) : EReal)
def dw (h t : LossKernelIdeal.S4096x1024.Idx → ℝ) (w : LossKernelIdeal.S1024.Idx → ℝ) : LossKernelIdeal.S1024.Idx → EReal :=
  fun j => ((∑ i, dwRow (row h i) (row t i) (gain w) (j 0) : ℝ) : EReal)

open Cert.LossKernelIdeal.Value (Args dhOut)

section Kernel
open Cert.LossKernelIdeal

theorem args (m : (ℓ : Loc nD τ sig) → Buf (Elt Ideal) ℓ) (hpre : Cert.Pre_LossKernelIdeal_loss_finite m) (c : Dev nD) :
    ∃ h t w, Args m c h t w := by
  obtain ⟨⟨h, hh⟩, ⟨t, ht⟩, w, hw⟩ := Cert.Pre_loss_finite.reals (hpre c).1 (hpre c).2.1 (hpre c).2.2
  exact ⟨h, t, w, hh, ht, hw⟩

/-- The kernel ends with them. -/
theorem kernel_run (m : (ℓ : Loc nD τ sig) → Buf (Elt Ideal) ℓ) (g : Dev nD → PrngReg) {h t : Dev nD → LossKernelIdeal.S4096x1024.Idx → ℝ} {w : Dev nD → LossKernelIdeal.S1024.Idx → ℝ} (H : ∀ c, Args m c (h c) (t c) (w c)) :
    θ_run (defs (F := Ideal)) (onTc (τ := τ) (main (F := Ideal))) ⟨m, fun _ => 0, g⟩ fun r => ∀ c : Dev nD,
      r.2.mem ((c.tc : Thread nD τ).loc main_v3) = loss (h c) (t c) (w c)
      ∧ r.2.mem ((c.tc : Thread nD τ).loc main_v1_1) = dhOut (h c) (t c) (w c)
      ∧ r.2.mem ((c.tc : Thread nD τ).loc main_v4) = dw (h c) (t c) (w c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c =>
    ⟨((hr.2 c).2 main_v3 (Pipeline.mem_restRefs_of main_v3 rfl (by decide))).trans (Value.tail_loss (H c)),
      ((hr.2 c).1 4).trans (Value.final_dh (H c)),
      ((hr.2 c).2 main_v4 (Pipeline.mem_restRefs_of main_v4 rfl (by decide))).trans (Value.tail_dw (H c)), hr.1 c⟩
end Kernel

section Reference
open Cert.LossRefIdeal

/-- The reference ends with them. -/
theorem reference_run (m : (ℓ : Loc nD τ sig) → Buf (Elt Ideal) ℓ) (g : Dev nD → PrngReg) {h t : Dev nD → LossKernelIdeal.S4096x1024.Idx → ℝ} {w : Dev nD → LossKernelIdeal.S1024.Idx → ℝ}
    (hh : ∀ c : Dev nD, m ((c.tc : Thread nD τ).loc main_arg0) = fun i => (h c i : EReal))
    (ht : ∀ c : Dev nD, m ((c.tc : Thread nD τ).loc main_arg1) = fun i => (t c i : EReal))
    (hw : ∀ c : Dev nD, m ((c.tc : Thread nD τ).loc main_arg2) = fun i => (w c i : EReal)) :
    θ_run (defs (F := Ideal)) (onTc (τ := τ) (main (F := Ideal))) ⟨m, fun _ => 0, g⟩ fun r => ∀ c : Dev nD,
      r.2.mem ((c.tc : Thread nD τ).loc main_v24) = loss (h c) (t c) (w c)
      ∧ r.2.mem ((c.tc : Thread nD τ).loc main_v50) = dhOut (h c) (t c) (w c)
      ∧ r.2.mem ((c.tc : Thread nD τ).loc main_v36) = dw (h c) (t c) (w c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2, h3, h4⟩ := hr c
    refine ⟨h1.trans ?_, h2.trans ?_, h3.trans ?_, h4⟩
    · rw [Read.val_main_v24_eq, hh, ht, hw]
      funext i
      obtain rfl : i = ix0 := funext fun a => a.elim0
      exact v24_apply _ _ _
    · rw [Read.val_main_v50_eq, hh, ht, hw]
      funext i
      idx_vars i
      exact v50_apply _ _ _ _ _
    · rw [Read.val_main_v36_eq, hh, ht, hw]
      funext i
      idx_vars i
      exact v36_apply _ _ _ _
end Reference

/-- The reference runs and leaves its arguments; it has no semaphores. -/
theorem reference_frame : Cert.quiescent_LossRefIdeal := fun m g _ =>
  θ_run_mono (Cert.LossRefIdeal.Value.run (F := Ideal) m g) fun r hr => ⟨fun c => (hr c).2.2.2, sem_eq_zero_of_no_sems (by decide) r.2⟩

/-- The loss head computes the loss and its gradients at the rows and at the gain. -/
theorem algebraic : Cert.algebraic_LossKernelIdeal_LossRefIdeal_pre_loss_finite := by
  intro m g m' g' hpre hagree
  choose h t w H using args m hpre
  exact ⟨_, _, _, kernel_run m g H, reference_run m' g' (fun c => (hagree c).1.trans (H c).h) (fun c => (hagree c).2.1.trans (H c).t)
    fun c => (hagree c).2.2.trans (H c).w⟩

end Cert.Loss
end
-- ==== Proof.Halo.lean ====
/- A block of rows with the rows beside it: what the convolution kernels read through their shifts. -/
module

public import Mathlib.Data.EReal.Operations
public import Idealize.ShloMosaic.Lib.Pointwise

@[expose] public section

noncomputable section

open Idealize.ShloMosaic

namespace Cert.Halo

/-- A column of `T` rows, zero below its end. -/
def ext {T : ℕ} (x : Fin T → EReal) (t : ℕ) : EReal := if h : t < T then x ⟨t, h⟩ else 0

theorem ext_of_lt {T : ℕ} {x : Fin T → EReal} {t : ℕ} (h : t < T) : ext x t = x ⟨t, h⟩ := dif_pos h
theorem ext_of_le {T : ℕ} {x : Fin T → EReal} {t : ℕ} (h : T ≤ t) : ext x t = 0 := dif_neg (by omega)

/-- The column with eight zero rows ahead of it. -/
def pre {T : ℕ} (x : Fin T → EReal) (t : ℕ) : EReal := if t < 8 then 0 else ext x (t - 8)

theorem pre_of_lt {T : ℕ} {x : Fin T → EReal} {t : ℕ} (h : t < 8) : pre x t = 0 := if_pos h
theorem pre_of_le {T : ℕ} {x : Fin T → EReal} {t : ℕ} (h : 8 ≤ t) (h' : t - 8 < T) : pre x t = x ⟨t - 8, h'⟩ :=
  (if_neg (by omega)).trans (ext_of_lt h')

/-- A value kept where `b` holds: the product with one or zero. -/
def keep (b : Prop) [Decidable b] (x : EReal) : EReal := x * (if b then 1 else 0)

theorem keep_of {b : Prop} [Decidable b] (h : b) (x : EReal) : keep b x = x := by rw [keep, if_pos h, mul_one]
theorem keep_of_not {b : Prop} [Decidable b] (h : ¬ b) (x : EReal) : keep b x = 0 := by rw [keep, if_neg h, mul_zero]

/-- Of eight rows moved up by `s`, the last `s` come from the next rows. -/
theorem sge_eq (r s : Fin 8) : IntOp.cmpi .sge (IntOp.addi (BitVec.ofNat 32 r) (BitVec.ofNat 32 s)) 8#32 = if 8 ≤ r.val + s.val then 1#1 else 0#1 := by
  revert r s; decide

/-- Of eight rows moved down by `s`, the first `s` come from the rows before. -/
theorem slt_eq (r s : Fin 8) : IntOp.cmpi .slt (BitVec.ofNat 32 r) (BitVec.ofNat 32 s) = if r.val < s.val then 1#1 else 0#1 := by
  revert r s; decide

/-- The factor that clears the rows after the last block. -/
theorem notlast_eq (b : Fin 16) : (Scalar.extui (Scalar.cmpi .slt (BitVec.ofNat 32 b) 15#32) : BitVec 32).toInt = if b.val < 15 then 1 else 0 := by
  revert b; decide

theorem notlast8_eq (b : Fin 8) : (Scalar.extui (Scalar.cmpi .slt (BitVec.ofNat 32 b) 7#32) : BitVec 32).toInt = if b.val < 7 then 1 else 0 := by
  revert b; decide

/-- The factor that clears the rows before the first block. -/
theorem notfirst_eq (b : Fin 16) : (Scalar.extui (Scalar.cmpi .sgt (BitVec.ofNat 32 b) 0#32) : BitVec 32).toInt = if 0 < b.val then 1 else 0 := by
  revert b; decide

theorem notfirst8_eq (b : Fin 8) : (Scalar.extui (Scalar.cmpi .sgt (BitVec.ofNat 32 b) 0#32) : BitVec 32).toInt = if 0 < b.val then 1 else 0 := by
  revert b; decide

/-- Eight rows' end of a block, moved up by `s`: the row `s` later, in the block or after it. -/
theorem up_eq {T : ℕ} (x : Fin T → EReal) (tt b : ℕ) (h8 : 8 ≤ tt) (s : Fin 8) (d : Fin tt → EReal) (n : Fin 8 → EReal)
    (hd : ∀ r : Fin tt, d r = ext x (b * tt + r)) (hn : ∀ q : Fin 8, n q = ext x (b * tt + tt + q)) (r : Fin tt)
    (p : Fin tt) (hp : p.val = (r + tt - (tt - s.val)) % tt) (q : Fin 8) (hq : q.val = (r - (tt - 8) + 8 - (8 - s.val)) % 8)
    (p' : Fin tt) (hp' : p'.val = tt - 8 + q.val) :
    (if _h : r.val < tt - 8 then d p else
      Scalar.select (IntOp.cmpi .sge (IntOp.addi (BitVec.ofNat 32 (r - (tt - 8))) (BitVec.ofNat 32 s)) 8#32) (n q) (d p')) = ext x (b * tt + r + s) := by
  have hr := r.isLt
  have hs := s.isLt
  have ht : 0 < tt := by omega
  split
  · rw [hd, hp]
    congr 1
    rw [show r.val + tt - (tt - s.val) = r + s by omega, Nat.mod_eq_of_lt (by omega), add_assoc]
  · rename_i h
    have e := sge_eq ⟨r - (tt - 8), by omega⟩ s
    dsimp only at e
    rw [e]
    rw [show r.val - (tt - 8) + 8 - (8 - s.val) = r - (tt - 8) + s by omega] at hq
    split
    · rename_i h'
      refine (hn q).trans (congrArg _ ?_)
      rw [hq, Nat.mod_eq_sub_mod h', Nat.mod_eq_of_lt (by omega)]
      omega
    · rename_i h'
      refine (hd p').trans (congrArg _ ?_)
      rw [hp', hq, Nat.mod_eq_of_lt (by omega)]
      omega

/-- Eight rows' start of a block, moved down by `s`: the row `s` earlier, in the block or before it. -/
theorem down_eq (g : ℕ → EReal) (tt b : ℕ) (h8 : 8 ≤ tt) (s : Fin 8) (d : Fin tt → EReal) (n : Fin 8 → EReal)
    (hd : ∀ r : Fin tt, d r = g (b * tt + r + 8)) (hn : ∀ q : Fin 8, n q = g (b * tt + q)) (r : Fin tt)
    (q : Fin 8) (hq : q.val = (r + 8 - s) % 8) (p' : Fin tt) (hp' : p'.val = q.val)
    (p : Fin tt) (hp : p.val = (8 + (r - 8) + tt - s) % tt) :
    (if _h : r.val < 8 then Scalar.select (IntOp.cmpi .slt (BitVec.ofNat 32 r) (BitVec.ofNat 32 s)) (n q) (d p') else d p)
      = g (b * tt + r + 8 - s) := by
  have hr := r.isLt
  have hs := s.isLt
  split
  · rename_i h
    have e := slt_eq ⟨r, h⟩ s
    dsimp only at e
    rw [e]
    split
    · rename_i h'
      refine (hn q).trans (congrArg g ?_)
      rw [hq, Nat.mod_eq_of_lt (by omega)]
      omega
    · rename_i h'
      refine (hd p').trans (congrArg g ?_)
      rw [hp', hq, Nat.mod_eq_sub_mod (by omega), Nat.mod_eq_of_lt (by omega)]
      omega
  · rename_i h
    refine (hd p).trans (congrArg g ?_)
    rw [hp, show 8 + (r.val - 8) + tt - s.val = tt + (r - s) by omega, Nat.add_mod_left, Nat.mod_eq_of_lt (by omega)]
    omega

end Cert.Halo
end
-- ==== Proof.Logistic.lean ====
/- The logistic function and the activation made of it, through the hyperbolic tangent and through the exponential. -/
module

public import proofs.«01_k».proof.Proof.Reals

@[expose] public section

noncomputable section

open Idealize.ShloMosaic

namespace Cert.Logistic

/-- The activation's gradient as the kernel writes it, through the hyperbolic tangent. -/
def dtanh (h e : EReal) : EReal :=
  e * ((Ideal.ofBits .f32 0x3F000000#32 * Ideal.tanh (Ideal.ofBits .f32 0x3F000000#32 * h) + Ideal.ofBits .f32 0x3F000000#32)
    * (Ideal.ofBits .f32 0x3F800000#32 + h * (Ideal.ofBits .f32 0x3F800000#32
      - (Ideal.ofBits .f32 0x3F000000#32 * Ideal.tanh (Ideal.ofBits .f32 0x3F000000#32 * h) + Ideal.ofBits .f32 0x3F000000#32))))

/-- The activation as the kernel writes it. -/
def stanh (h : EReal) : EReal :=
  h * (Ideal.ofBits .f32 0x3F000000#32 * Ideal.tanh (Ideal.ofBits .f32 0x3F000000#32 * h) + Ideal.ofBits .f32 0x3F000000#32)

/-- The activation's gradient as the reference writes it, through the logistic function. -/
def dlogi (h e : EReal) : EReal :=
  e * Ideal.div (Ideal.ofBits .f32 0x3F800000#32) (Ideal.ofBits .f32 0x3F800000#32 + Ideal.exp (-h))
    + h * e * (Ideal.div (Ideal.ofBits .f32 0x3F800000#32) (Ideal.ofBits .f32 0x3F800000#32 + Ideal.exp (-h))
      * (Ideal.ofBits .f32 0x3F800000#32 - Ideal.div (Ideal.ofBits .f32 0x3F800000#32) (Ideal.ofBits .f32 0x3F800000#32 + Ideal.exp (-h))))

/-- On real numbers the two are one. -/
theorem dlogi_eq (h e : ℝ) : dlogi h e = dtanh h e := by
  have hp : (1 : ℝ) + Real.exp (-h) ≠ 0 := by have := Real.exp_pos (-h); linarith
  unfold dlogi dtanh
  rw [Reals.ofBits_half, Reals.ofBits_one, ← EReal.coe_neg, Ideal.exp_coe, ← EReal.coe_add, Reals.div_coe_coe _ hp, ← EReal.coe_mul (1 / 2) h, Ideal.tanh_coe]
  simp only [← EReal.coe_mul, ← EReal.coe_add, ← EReal.coe_sub]
  rw [Reals.half_tanh]
  exact congrArg _ (by ring)

/-- The activation as the reference writes it. -/
def slogi (h : EReal) : EReal :=
  h * Ideal.div (Ideal.ofBits .f32 0x3F800000#32) (Ideal.ofBits .f32 0x3F800000#32 + Ideal.exp (-h))

theorem slogi_eq (h : ℝ) : slogi h = stanh h := by
  have hp : (1 : ℝ) + Real.exp (-h) ≠ 0 := by have := Real.exp_pos (-h); linarith
  unfold slogi stanh
  rw [Reals.ofBits_half, Reals.ofBits_one, ← EReal.coe_neg, Ideal.exp_coe, ← EReal.coe_add, Reals.div_coe_coe _ hp, ← EReal.coe_mul (1 / 2) h, Ideal.tanh_coe]
  simp only [← EReal.coe_mul, ← EReal.coe_add]
  rw [Reals.half_tanh]

/-- They agree at the infinities too. -/
theorem slogi_all (h : EReal) : slogi h = stanh h := by
  induction h using EReal.rec with
  | bot =>
    unfold slogi stanh
    rw [Reals.ofBits_half, Reals.ofBits_one, EReal.neg_bot, Ideal.exp_top, EReal.coe_add_top, EReal.coe_mul_bot_of_pos (by norm_num), Ideal.tanh_bot,
      show Ideal.div ((1 : ℝ) : EReal) ⊤ = 0 by simp [Ideal.div], show ((1 / 2 : ℝ) : EReal) * -1 + ((1 / 2 : ℝ) : EReal) = 0 by
        rw [mul_neg_one, ← EReal.coe_neg, ← EReal.coe_add]; norm_num]
  | coe r => exact slogi_eq r
  | top =>
    unfold slogi stanh
    rw [Reals.ofBits_half, Reals.ofBits_one, EReal.neg_top, Ideal.exp_bot, add_zero, EReal.coe_mul_top_of_pos (by norm_num), Ideal.tanh_top,
      Reals.div_coe_coe _ one_ne_zero, mul_one, ← EReal.coe_add]
    norm_num

end Cert.Logistic
end
-- ==== Proof.Gate.lean ====
/- The gated convolution's gradient: the kernel's blocks of both halves and the sums over them. -/
module

public import proofs.«01_k».proof.Proof.Halo
public import proofs.«01_k».proof.Proof.Logistic
public import proofs.«01_k».proof.Proof.Gen.GateKernelIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.GateKernelIdeal.Value
open Cert.GateKernelIdeal Cert.GateKernelIdeal.Gen Cert.Halo Cert.Logistic

theorem pay3_apply (i : grid0.Coords) (n : S2x16x1408.Idx → EReal) (h : Fin 2) (q : Fin 8) (c : Fin 1408) :
    k0_pay3 (F := Ideal) i n (ix3 h q c) = keep (0 < (i 1).val) (n (ix3 h ⟨8 + q.val, by omega⟩ c)) := by
  unfold keep
  pointwise [k0_pay3]
  rw [show (Scalar.extui (Scalar.cmpi CmpIPredicate.sgt (BitVec.ofNat 32 (i 1).val) 0#32) : BitVec 32).toInt = _ from notfirst_eq (i 1)]
  split <;> simp

theorem pay5_apply (i : grid0.Coords) (n : S2x16x1408.Idx → EReal) (q : Fin 8) (c : Fin 1408) :
    k0_pay5 (F := Ideal) i n (ix2 q c) = keep (0 < (i 1).val) (n (ix3 0 ⟨8 + q.val, by omega⟩ c)) := by
  rw [← pay3_apply]
  pointwise [k0_pay5]

section
variable {i : grid0.Coords} {d : S2x256x1408.Idx → EReal} {n : S2x16x1408.Idx → EReal} {b : ℕ} {g : ℕ → EReal} {c : Fin 1408} {h : Fin 2}

section
variable (hd : ∀ r : Fin 256, d (ix3 0 r c) = g (b * 256 + r + 8)) (hn : ∀ q : Fin 8, keep (0 < (i 1).val) (n (ix3 0 ⟨8 + q.val, by omega⟩ c)) = g (b * 256 + q))
include hd hn

theorem pay6_apply (r : Fin 256) : k0_pay6 (F := Ideal) i d n (ix2 r c) = g (b * 256 + r + 8 - 2) := by
  pointwise [k0_pay6, k0_pay4, k0_pay2, k0_pay8, k0_pay9]
  simp only [pay5_apply]
  exact down_eq g 256 b (by omega) 2 (fun r => d (ix3 0 r c)) (fun q => keep (0 < (i 1).val) (n (ix3 0 ⟨8 + q.val, by omega⟩ c))) hd hn r
    ⟨_, Nat.mod_lt _ (by omega)⟩ rfl ⟨_, by omega⟩ rfl ⟨_, Nat.mod_lt _ (by omega)⟩ rfl

theorem pay11_apply (r : Fin 256) :
    k0_pay11 (F := Ideal) (k0_pay8 d) (k0_pay9 d) (k0_pay10 i n) (iota Kind.tc S8x1408 32 [0] iota_S8x1408_d0_w32) 1#32 (ix2 r c) = g (b * 256 + r + 8 - 1) := by
  pointwise [k0_pay11, k0_pay4, k0_pay2, k0_pay8, k0_pay9, k0_pay10]
  simp only [pay5_apply]
  exact down_eq g 256 b (by omega) 1 (fun r => d (ix3 0 r c)) (fun q => keep (0 < (i 1).val) (n (ix3 0 ⟨8 + q.val, by omega⟩ c))) hd hn r
    ⟨_, Nat.mod_lt _ (by omega)⟩ rfl ⟨_, by omega⟩ rfl ⟨_, Nat.mod_lt _ (by omega)⟩ rfl
end

section
variable (hd : ∀ r : Fin 256, d (ix3 1 r c) = g (b * 256 + r + 8)) (hn : ∀ q : Fin 8, keep (0 < (i 1).val) (n (ix3 1 ⟨8 + q.val, by omega⟩ c)) = g (b * 256 + q))
include hd hn

theorem pay15_apply (r : Fin 256) : k0_pay15 (F := Ideal) (k0_pay2 d) (k0_pay3 i n) (ix2 r c) = g (b * 256 + r + 8 - 2) := by
  pointwise [k0_pay15, k0_pay2, k0_pay13, k0_pay14]
  simp only [pay3_apply]
  exact down_eq g 256 b (by omega) 2 (fun r => d (ix3 1 r c)) (fun q => keep (0 < (i 1).val) (n (ix3 1 ⟨8 + q.val, by omega⟩ c))) hd hn r
    ⟨_, Nat.mod_lt _ (by omega)⟩ rfl ⟨_, by omega⟩ rfl ⟨_, Nat.mod_lt _ (by omega)⟩ rfl

theorem pay17_apply (r : Fin 256) : k0_pay17 (F := Ideal) (k0_pay2 d) (k0_pay3 i n) (ix2 r c) = g (b * 256 + r + 8 - 1) := by
  pointwise [k0_pay17, k0_pay2, k0_pay13, k0_pay14]
  simp only [pay3_apply]
  exact down_eq g 256 b (by omega) 1 (fun r => d (ix3 1 r c)) (fun q => keep (0 < (i 1).val) (n (ix3 1 ⟨8 + q.val, by omega⟩ c))) hd hn r
    ⟨_, Nat.mod_lt _ (by omega)⟩ rfl ⟨_, by omega⟩ rfl ⟨_, Nat.mod_lt _ (by omega)⟩ rfl
end
end

/-- A convolution's value at row `t` of the column: the bias and three products. -/
def conv (g : ℕ → EReal) (b w0 w1 w2 : EReal) (t : ℕ) : EReal :=
  b + g (t + 8 - 2) * w0 + g (t + 8 - 1) * w1 + g (t + 8) * w2

theorem pay12_apply {i : grid0.Coords} {d : S2x256x1408.Idx → EReal} {n : S2x16x1408.Idx → EReal} {b : ℕ} {g : ℕ → EReal} {c : Fin 1408}
    (hd : ∀ r : Fin 256, d (ix3 0 r c) = g (b * 256 + r + 8)) (hn : ∀ q : Fin 8, keep (0 < (i 1).val) (n (ix3 0 ⟨8 + q.val, by omega⟩ c)) = g (b * 256 + q))
    (w : S3x1408.Idx → EReal) (v : S1x1408.Idx → EReal) (r : Fin 256) :
    k0_pay12 (F := Ideal) (k0_pay4 d) w (k0_pay7 i d n w v) (k0_pay8 d) (k0_pay9 d) (k0_pay10 i n) (iota Kind.tc S8x1408 32 [0] iota_S8x1408_d0_w32) 1#32 (ix2 r c)
      = conv g (v (ix2 0 c)) (w (ix2 0 c)) (w (ix2 1 c)) (w (ix2 2 c)) (b * 256 + r) := by
  unfold conv
  rw [← pay6_apply hd hn, ← pay11_apply hd hn, ← hd]
  pointwise [k0_pay12, k0_pay7, k0_pay4, k0_pay2]

/-- The up half's gate value, as the kernel adds it up. -/
theorem up_apply {i : grid0.Coords} {d : S2x256x1408.Idx → EReal} {n : S2x16x1408.Idx → EReal} {b : ℕ} {g : ℕ → EReal} {c : Fin 1408}
    (hd : ∀ r : Fin 256, d (ix3 1 r c) = g (b * 256 + r + 8)) (hn : ∀ q : Fin 8, keep (0 < (i 1).val) (n (ix3 1 ⟨8 + q.val, by omega⟩ c)) = g (b * 256 + q))
    (w : S3x1408.Idx → EReal) (v : S1x1408.Idx → EReal) (r : Fin 256) :
    k0_pay16 (F := Ideal) (k0_pay2 d) (k0_pay3 i n) w v (ix2 r c) + k0_pay18 (F := Ideal) (k0_pay2 d) (k0_pay3 i n) w (ix2 r c)
        + k0_pay13 (F := Ideal) (k0_pay2 d) (ix2 r c) * w (ix2 2 c)
      = conv g (v (ix2 0 c)) (w (ix2 0 c)) (w (ix2 1 c)) (w (ix2 2 c)) (b * 256 + r) := by
  unfold conv
  rw [← pay15_apply hd hn, ← pay17_apply hd hn, ← hd]
  pointwise [k0_pay16, k0_pay18, k0_pay13, k0_pay2]

theorem pay21_apply (h v x y : S256x1408.Idx → EReal) (w : S3x1408.Idx → EReal) (e : S256x1408.Idx → EReal) (r : Fin 256) (c : Fin 1408) :
    k0_pay21 (F := Ideal) h v w x y e (ix2 r c)
      = dtanh (h (ix2 r c)) (e (ix2 r c) * (x (ix2 r c) + y (ix2 r c) + v (ix2 r c) * w (ix2 2 c))) := by
  unfold dtanh
  pointwise [k0_pay21, k0_pay20, k0_pay19]

theorem pay22_apply (h e : S256x1408.Idx → EReal) (r : Fin 256) (c : Fin 1408) :
    k0_pay22 (F := Ideal) h e (ix2 r c) = e (ix2 r c) * stanh (h (ix2 r c)) := by
  unfold stanh
  pointwise [k0_pay22, k0_pay20, k0_pay19]

theorem pay28_apply (a : S256x1408.Idx → EReal) (o : S1x1x1408.Idx → EReal) (c : Fin 1408) :
    k0_pay28 (F := Ideal) a (k0_pay27 o) (ix3 0 0 c) = o (ix3 0 0 c) + ∑ r : Fin 256, a (ix2 r c) := by
  pointwise [k0_pay28, k0_pay27]

theorem pay29_apply (a : S256x1408.Idx → EReal) (o : S1x1x1408.Idx → EReal) (c : Fin 1408) :
    k0_pay29 (F := Ideal) a o (ix3 0 0 c) = o (ix3 0 0 c) + ∑ r : Fin 256, a (ix2 r c) := by
  pointwise [k0_pay29]

theorem pay30_apply (a d : S256x1408.Idx → EReal) (o : S1x1x1408.Idx → EReal) (c : Fin 1408) :
    k0_pay30 (F := Ideal) a d o (ix3 0 0 c) = o (ix3 0 0 c) + ∑ r : Fin 256, d (ix2 r c) * a (ix2 r c) := by
  pointwise [k0_pay30]

theorem pay31_apply (a d : S256x1408.Idx → EReal) (o : S1x1x1408.Idx → EReal) (c : Fin 1408) :
    k0_pay31 (F := Ideal) a d o (ix3 0 0 c) = o (ix3 0 0 c) + ∑ r : Fin 256, d (ix2 r c) * a (ix2 r c) := by
  pointwise [k0_pay31]

theorem pay32_apply (a d : S256x1408.Idx → EReal) (o : S1x1x1408.Idx → EReal) (c : Fin 1408) :
    k0_pay32 (F := Ideal) a d o (ix3 0 0 c) = o (ix3 0 0 c) + ∑ r : Fin 256, d (ix2 r c) * a (ix2 r c) := by
  pointwise [k0_pay32]

theorem pay33_apply (a d : S256x1408.Idx → EReal) (o : S1x1x1408.Idx → EReal) (c : Fin 1408) :
    k0_pay33 (F := Ideal) a d o (ix3 0 0 c) = o (ix3 0 0 c) + ∑ r : Fin 256, d (ix2 r c) * a (ix2 r c) := by
  pointwise [k0_pay33]

theorem pay34_apply (a d : S256x1408.Idx → EReal) (o : S1x1x1408.Idx → EReal) (c : Fin 1408) :
    k0_pay34 (F := Ideal) a d o (ix3 0 0 c) = o (ix3 0 0 c) + ∑ r : Fin 256, d (ix2 r c) * a (ix2 r c) := by
  pointwise [k0_pay34]

theorem pay36_apply (a d : S256x1408.Idx → EReal) (o : S1x1x1408.Idx → EReal) (c : Fin 1408) :
    k0_pay1 (F := Ideal) (k0_pay35 o) (k0_pay36 a d) (ix3 0 0 c) = o (ix3 0 0 c) + ∑ r : Fin 256, d (ix2 r c) * a (ix2 r c) := by
  pointwise [k0_pay1, k0_pay35, k0_pay36]

theorem pay25_apply (y : S2x3x1408.Idx) : k0_pay25 (F := Ideal) y = (0 : EReal) := by
  idx_vars y
  pointwise [k0_pay25]

theorem pay26_apply (y : S2x1x1408.Idx) : k0_pay26 (F := Ideal) y = (0 : EReal) := by
  idx_vars y
  pointwise [k0_pay26]

/-- One row's rectangle places its column in that row. -/
theorem emb_row (h : Fin 2) (k : Fin 3) (hb) (j : Fin 1408) : (Rect.unit (s := S2x3x1408) ![h.val, k.val, 0] ![1, 1, 1408] hb).emb (ix3 0 0 j) = ix3 h k j := by
  funext a
  refine Fin.ext ?_
  match a with
  | ⟨0, _⟩ => simp [Rect.emb, Rect.unit]
  | ⟨1, _⟩ => simp [Rect.emb, Rect.unit]
  | ⟨2, _⟩ => simp [Rect.emb, Rect.unit]

theorem mem_row (h : Fin 2) (k : Fin 3) (hb) (j : Fin 1408) : (ix3 h k j : S2x3x1408.Idx) ∈ (Rect.unit (s := S2x3x1408) ![h.val, k.val, 0] ![1, 1, 1408] hb).set :=
  Rect.mem_set_unit.mpr fun a => match a with
    | ⟨0, _⟩ => ⟨le_refl _, Nat.lt_succ_self _⟩
    | ⟨1, _⟩ => ⟨le_refl _, Nat.lt_succ_self _⟩
    | ⟨2, _⟩ => ⟨Nat.zero_le _, show j.val < 0 + 1408 by omega⟩

theorem emb_half (h : Fin 2) (hb) (j : Fin 1408) : (Rect.unit (s := S2x1x1408) ![h.val, 0, 0] ![1, 1, 1408] hb).emb (ix3 0 0 j) = ix3 h 0 j := by
  funext a
  refine Fin.ext ?_
  match a with
  | ⟨0, _⟩ => simp [Rect.emb, Rect.unit]
  | ⟨1, _⟩ => simp [Rect.emb, Rect.unit]
  | ⟨2, _⟩ => simp [Rect.emb, Rect.unit]

theorem mem_half (h : Fin 2) (hb) (j : Fin 1408) : (ix3 h 0 j : S2x1x1408.Idx) ∈ (Rect.unit (s := S2x1x1408) ![h.val, 0, 0] ![1, 1, 1408] hb).set :=
  Rect.mem_set_unit.mpr fun a => match a with
    | ⟨0, _⟩ => ⟨le_refl _, Nat.lt_succ_self _⟩
    | ⟨1, _⟩ => ⟨Nat.zero_le _, Nat.zero_lt_one⟩
    | ⟨2, _⟩ => ⟨Nat.zero_le _, show j.val < 0 + 1408 by omega⟩

theorem emb_block (h : Fin 2) (hb) (r : Fin 256) (j : Fin 1408) : (Rect.unit (s := S2x256x1408) ![h.val, 0, 0] ![1, 256, 1408] hb).emb (ix3 0 r j) = ix3 h r j := by
  funext a
  refine Fin.ext ?_
  match a with
  | ⟨0, _⟩ => simp [Rect.emb, Rect.unit]
  | ⟨1, _⟩ => simp [Rect.emb, Rect.unit]
  | ⟨2, _⟩ => simp [Rect.emb, Rect.unit]

theorem mem_block (h : Fin 2) (hb) (r : Fin 256) (j : Fin 1408) : (ix3 h r j : S2x256x1408.Idx) ∈ (Rect.unit (s := S2x256x1408) ![h.val, 0, 0] ![1, 256, 1408] hb).set :=
  Rect.mem_set_unit.mpr fun a => match a with
    | ⟨0, _⟩ => ⟨le_refl _, Nat.lt_succ_self _⟩
    | ⟨1, _⟩ => ⟨Nat.zero_le _, show r.val < 0 + 256 by omega⟩
    | ⟨2, _⟩ => ⟨Nat.zero_le _, show j.val < 0 + 1408 by omega⟩

theorem row_eq (x : S1x1x1408.Idx) : x = ix3 0 0 (x 2) := by
  idx_vars x
  obtain rfl : x0 = 0 := Subsingleton.elim _ _
  obtain rfl : x1 = 0 := Subsingleton.elim _ _
  rfl

theorem half_eq (x : S2x1x1408.Idx) : x = ix3 (x 0) 0 (x 2) := by
  idx_vars x
  obtain rfl : x1 = 0 := Subsingleton.elim _ _
  rfl

theorem block_eq (x : S1x256x1408.Idx) : x = ix3 0 (x 1) (x 2) := by
  idx_vars x
  obtain rfl : x0 = 0 := Subsingleton.elim _ _
  rfl

theorem pay23_apply (h v x y : S256x1408.Idx → EReal) (w : S3x1408.Idx → EReal) (e : S256x1408.Idx → EReal) (r : Fin 256) (c : Fin 1408) :
    k0_pay23 (F := Ideal) h v w x y e (ix3 0 r c) = k0_pay21 (F := Ideal) h v w x y e (ix2 r c) := by
  pointwise [k0_pay23]

theorem pay24_apply (h e : S256x1408.Idx → EReal) (r : Fin 256) (c : Fin 1408) :
    k0_pay24 (F := Ideal) h e (ix3 0 r c) = k0_pay22 (F := Ideal) h e (ix2 r c) := by
  pointwise [k0_pay24]

variable (m : (ℓ : Loc nD τ sig) → Buf (Elt Ideal) ℓ) (c : Dev nD)

/-- The columns that a row's products take, of one block. -/
def lags (n : Fin cfg0.N) (h : Fin 2) (k : Fin 3) : S256x1408.Idx → EReal :=
  (![![k0_pay6 (F := Ideal) (grid0.coords n) (iblk m c 0 n) (iblk m c 1 n),
      k0_pay11 (k0_pay8 (iblk m c 0 n)) (k0_pay9 (iblk m c 0 n)) (k0_pay10 (grid0.coords n) (iblk m c 1 n)) (iota Kind.tc S8x1408 32 [0] iota_S8x1408_d0_w32) 1#32,
      k0_pay4 (iblk m c 0 n)],
    ![k0_pay15 (k0_pay2 (iblk m c 0 n)) (k0_pay3 (grid0.coords n) (iblk m c 1 n)),
      k0_pay17 (k0_pay2 (iblk m c 0 n)) (k0_pay3 (grid0.coords n) (iblk m c 1 n)), k0_pay13 (k0_pay2 (iblk m c 0 n))]] : Fin 2 → Fin 3 → S256x1408.Idx → EReal) h k

/-- The gate's value before its activation, of one block. -/
def blockH (n : Fin cfg0.N) : S256x1408.Idx → EReal :=
  k0_pay12 (F := Ideal) (k0_pay4 (iblk m c 0 n)) (iblk m c 2 n) (k0_pay7 (grid0.coords n) (iblk m c 0 n) (iblk m c 1 n) (iblk m c 2 n) (iblk m c 4 n))
    (k0_pay8 (iblk m c 0 n)) (k0_pay9 (iblk m c 0 n)) (k0_pay10 (grid0.coords n) (iblk m c 1 n)) (iota Kind.tc S8x1408 32 [0] iota_S8x1408_d0_w32) 1#32

/-- One block of the gradient at both halves. -/
def blockD (n : Fin cfg0.N) (h : Fin 2) : S256x1408.Idx → EReal :=
  (![k0_pay21 (F := Ideal) (blockH m c n) (k0_pay13 (k0_pay2 (iblk m c 0 n))) (iblk m c 3 n)
      (k0_pay16 (k0_pay2 (iblk m c 0 n)) (k0_pay3 (grid0.coords n) (iblk m c 1 n)) (iblk m c 3 n) (iblk m c 5 n))
      (k0_pay18 (k0_pay2 (iblk m c 0 n)) (k0_pay3 (grid0.coords n) (iblk m c 1 n)) (iblk m c 3 n)) (iblk m c 6 n),
    k0_pay22 (blockH m c n) (iblk m c 6 n)] : Fin 2 → S256x1408.Idx → EReal) h

/-- The sums that a block adds to each row. -/
def adds (n : Fin cfg0.N) : S2x3x1408.Idx → Elt Ideal .f32 :=
  fun y => (∑ r : Fin 256, blockD m c n (y 0) (ix2 r (y 2)) * lags m c n (y 0) (y 1) (ix2 r (y 2)) : EReal)
def addsb (n : Fin cfg0.N) : S2x1x1408.Idx → Elt Ideal .f32 :=
  fun y => (∑ r : Fin 256, blockD m c n (y 0) (ix2 r (y 2)) : EReal)
def blocks (n : Fin cfg0.N) : S2x256x1408.Idx → Elt Ideal .bf16 :=
  fun y => (blockD m c n (y 0) (ix2 (y 1) (y 2)) : EReal)

theorem outs1_A (n : Fin cfg0.N) (h : n.val % 16 = 0) (q : Fin 2) (k : Fin 3) (j : Fin 1408) :
    (outsAt0 m c n.val n.isLt).2.1 (ix3 q k j) = adds m c n (ix3 q k j) := by
  rw [outsAt0_A m c n h]
  frame_out
  simp (disch := decide) only [↓View.readCov_skip, ↓View.readCov_fill]
  refine View.canon_append_of_piecesOf (adds m c n) [_] [_, _, _, _, _, _]
    ⟨fun x => ?_, fun x => ?_, fun x => ?_, fun x => ?_, fun x => ?_, fun x => ?_, trivial⟩ (ix3 q k j) ?_
  · rw [row_eq x]
    exact (pay36_apply _ _ _ _).trans ((congrArg (· + _) (pay25_apply _)).trans ((zero_add _).trans (congrArg (adds m c n) (emb_row 1 2 inb_S2x3x1408_S1x1x1408_1_2_0 _)).symm))
  · rw [row_eq x]
    exact (pay34_apply _ _ _ _).trans ((congrArg (· + _) (pay25_apply _)).trans ((zero_add _).trans (congrArg (adds m c n) (emb_row 0 2 inb_S2x3x1408_S1x1x1408_0_2_0 _)).symm))
  · rw [row_eq x]
    exact (pay33_apply _ _ _ _).trans ((congrArg (· + _) (pay25_apply _)).trans ((zero_add _).trans (congrArg (adds m c n) (emb_row 1 1 inb_S2x3x1408_S1x1x1408_1_1_0 _)).symm))
  · rw [row_eq x]
    exact (pay32_apply _ _ _ _).trans ((congrArg (· + _) (pay25_apply _)).trans ((zero_add _).trans (congrArg (adds m c n) (emb_row 0 1 inb_S2x3x1408_S1x1x1408_0_1_0 _)).symm))
  · rw [row_eq x]
    exact (pay31_apply _ _ _ _).trans ((congrArg (· + _) (pay25_apply _)).trans ((zero_add _).trans (congrArg (adds m c n) (emb_row 1 0 inb_S2x3x1408_S1x1x1408_1_0_0 _)).symm))
  · rw [row_eq x]
    exact (pay30_apply _ _ _ _).trans ((congrArg (· + _) (pay25_apply _)).trans ((zero_add _).trans (congrArg (adds m c n) (emb_row 0 0 inb_S2x3x1408_S1x1x1408_0_0_0 _)).symm))
  · match q, k with
    | 0, 0 => exact ⟨_, List.Mem.tail _ (List.Mem.tail _ (List.Mem.tail _ (List.Mem.tail _ (List.Mem.tail _ (List.Mem.head _))))), mem_row 0 0 inb_S2x3x1408_S1x1x1408_0_0_0 j⟩
    | 1, 0 => exact ⟨_, List.Mem.tail _ (List.Mem.tail _ (List.Mem.tail _ (List.Mem.tail _ (List.Mem.head _)))), mem_row 1 0 inb_S2x3x1408_S1x1x1408_1_0_0 j⟩
    | 0, 1 => exact ⟨_, List.Mem.tail _ (List.Mem.tail _ (List.Mem.tail _ (List.Mem.head _))), mem_row 0 1 inb_S2x3x1408_S1x1x1408_0_1_0 j⟩
    | 1, 1 => exact ⟨_, List.Mem.tail _ (List.Mem.tail _ (List.Mem.head _)), mem_row 1 1 inb_S2x3x1408_S1x1x1408_1_1_0 j⟩
    | 0, 2 => exact ⟨_, List.Mem.tail _ (List.Mem.head _), mem_row 0 2 inb_S2x3x1408_S1x1x1408_0_2_0 j⟩
    | 1, 2 => exact ⟨_, List.Mem.head _, mem_row 1 2 inb_S2x3x1408_S1x1x1408_1_2_0 j⟩

theorem outs1_B (n : Fin cfg0.N) (h : ¬ n.val % 16 = 0) (q : Fin 2) (k : Fin 3) (j : Fin 1408) :
    (outsAt0 m c n.val n.isLt).2.1 (ix3 q k j) = (outsAt0 m c (n.val - 1) (by omega)).2.1 (ix3 q k j) + adds m c n (ix3 q k j) := by
  rw [outsAt0_B m c n h]
  frame_out
  generalize (outsAt0 m c (n.val - 1) _).2.1 = o
  refine View.canon_append_of_piecesOf (fun y => o y + adds m c n y : S2x3x1408.Idx → Elt Ideal .f32) [] [_, _, _, _, _, _]
    ⟨fun x => ?_, fun x => ?_, fun x => ?_, fun x => ?_, fun x => ?_, fun x => ?_, trivial⟩ (ix3 q k j) ?_
  · rw [row_eq x]
    exact (pay36_apply _ _ _ _).trans (congrArg₂ (· + ·) rfl (congrArg (adds m c n) (emb_row 1 2 inb_S2x3x1408_S1x1x1408_1_2_0 _)).symm)
  · rw [row_eq x]
    exact (pay34_apply _ _ _ _).trans (congrArg₂ (· + ·) rfl (congrArg (adds m c n) (emb_row 0 2 inb_S2x3x1408_S1x1x1408_0_2_0 _)).symm)
  · rw [row_eq x]
    exact (pay33_apply _ _ _ _).trans (congrArg₂ (· + ·) rfl (congrArg (adds m c n) (emb_row 1 1 inb_S2x3x1408_S1x1x1408_1_1_0 _)).symm)
  · rw [row_eq x]
    exact (pay32_apply _ _ _ _).trans (congrArg₂ (· + ·) rfl (congrArg (adds m c n) (emb_row 0 1 inb_S2x3x1408_S1x1x1408_0_1_0 _)).symm)
  · rw [row_eq x]
    exact (pay31_apply _ _ _ _).trans (congrArg₂ (· + ·) rfl (congrArg (adds m c n) (emb_row 1 0 inb_S2x3x1408_S1x1x1408_1_0_0 _)).symm)
  · rw [row_eq x]
    exact (pay30_apply _ _ _ _).trans (congrArg₂ (· + ·) rfl (congrArg (adds m c n) (emb_row 0 0 inb_S2x3x1408_S1x1x1408_0_0_0 _)).symm)
  · match q, k with
    | 0, 0 => exact ⟨_, List.Mem.tail _ (List.Mem.tail _ (List.Mem.tail _ (List.Mem.tail _ (List.Mem.tail _ (List.Mem.head _))))), mem_row 0 0 inb_S2x3x1408_S1x1x1408_0_0_0 j⟩
    | 1, 0 => exact ⟨_, List.Mem.tail _ (List.Mem.tail _ (List.Mem.tail _ (List.Mem.tail _ (List.Mem.head _)))), mem_row 1 0 inb_S2x3x1408_S1x1x1408_1_0_0 j⟩
    | 0, 1 => exact ⟨_, List.Mem.tail _ (List.Mem.tail _ (List.Mem.tail _ (List.Mem.head _))), mem_row 0 1 inb_S2x3x1408_S1x1x1408_0_1_0 j⟩
    | 1, 1 => exact ⟨_, List.Mem.tail _ (List.Mem.tail _ (List.Mem.head _)), mem_row 1 1 inb_S2x3x1408_S1x1x1408_1_1_0 j⟩
    | 0, 2 => exact ⟨_, List.Mem.tail _ (List.Mem.head _), mem_row 0 2 inb_S2x3x1408_S1x1x1408_0_2_0 j⟩
    | 1, 2 => exact ⟨_, List.Mem.head _, mem_row 1 2 inb_S2x3x1408_S1x1x1408_1_2_0 j⟩

theorem outs2_A (n : Fin cfg0.N) (h : n.val % 16 = 0) (q : Fin 2) (j : Fin 1408) :
    (outsAt0 m c n.val n.isLt).2.2 (ix3 q 0 j) = addsb m c n (ix3 q 0 j) := by
  rw [outsAt0_A m c n h]
  frame_out
  simp (disch := decide) only [↓View.readCov_skip, ↓View.readCov_fill]
  refine View.canon_append_of_piecesOf (addsb m c n) [_] [_, _] ⟨fun x => ?_, fun x => ?_, trivial⟩ (ix3 q 0 j) ?_
  · rw [row_eq x]
    exact (pay29_apply _ _ _).trans ((congrArg (· + _) (pay26_apply _)).trans ((zero_add _).trans (congrArg (addsb m c n) (emb_half 1 inb_S2x1x1408_S1x1x1408_1_0_0 _)).symm))
  · rw [row_eq x]
    exact (pay28_apply _ _ _).trans ((congrArg (· + _) (pay26_apply _)).trans ((zero_add _).trans (congrArg (addsb m c n) (emb_half 0 inb_S2x1x1408_S1x1x1408_0_0_0 _)).symm))
  · match q with
    | 0 => exact ⟨_, List.Mem.tail _ (List.Mem.head _), mem_half 0 inb_S2x1x1408_S1x1x1408_0_0_0 j⟩
    | 1 => exact ⟨_, List.Mem.head _, mem_half 1 inb_S2x1x1408_S1x1x1408_1_0_0 j⟩

theorem outs2_B (n : Fin cfg0.N) (h : ¬ n.val % 16 = 0) (q : Fin 2) (j : Fin 1408) :
    (outsAt0 m c n.val n.isLt).2.2 (ix3 q 0 j) = (outsAt0 m c (n.val - 1) (by omega)).2.2 (ix3 q 0 j) + addsb m c n (ix3 q 0 j) := by
  rw [outsAt0_B m c n h]
  frame_out
  generalize (outsAt0 m c (n.val - 1) _).2.2 = o
  refine View.canon_append_of_piecesOf (fun y => o y + addsb m c n y : S2x1x1408.Idx → Elt Ideal .f32) [] [_, _] ⟨fun x => ?_, fun x => ?_, trivial⟩ (ix3 q 0 j) ?_
  · rw [row_eq x]
    exact (pay29_apply _ _ _).trans (congrArg₂ (· + ·) rfl (congrArg (addsb m c n) (emb_half 1 inb_S2x1x1408_S1x1x1408_1_0_0 _)).symm)
  · rw [row_eq x]
    exact (pay28_apply _ _ _).trans (congrArg₂ (· + ·) rfl (congrArg (addsb m c n) (emb_half 0 inb_S2x1x1408_S1x1x1408_0_0_0 _)).symm)
  · match q with
    | 0 => exact ⟨_, List.Mem.tail _ (List.Mem.head _), mem_half 0 inb_S2x1x1408_S1x1x1408_0_0_0 j⟩
    | 1 => exact ⟨_, List.Mem.head _, mem_half 1 inb_S2x1x1408_S1x1x1408_1_0_0 j⟩

theorem outs0 (n : Fin cfg0.N) (q : Fin 2) (r : Fin 256) (j : Fin 1408) : (outsAt0 m c n.val n.isLt).1 (ix3 q r j) = blocks m c n (ix3 q r j) := by
  by_cases h : n.val % 16 = 0
  · rw [outsAt0_A m c n h]
    frame_out
    refine View.canon_append_of_piecesOf (blocks m c n) [] [_, _] ⟨fun x => ?_, fun x => ?_, trivial⟩ (ix3 q r j) ?_
    · rw [block_eq x]
      exact (pay24_apply _ _ _ _).trans (congrArg (blocks m c n) (emb_block 1 inb_S2x256x1408_S1x256x1408_1_0_0 _ _)).symm
    · rw [block_eq x]
      exact (pay23_apply _ _ _ _ _ _ _ _).trans (congrArg (blocks m c n) (emb_block 0 inb_S2x256x1408_S1x256x1408_0_0_0 _ _)).symm
    · match q with
      | 0 => exact ⟨_, List.Mem.tail _ (List.Mem.head _), mem_block 0 inb_S2x256x1408_S1x256x1408_0_0_0 r j⟩
      | 1 => exact ⟨_, List.Mem.head _, mem_block 1 inb_S2x256x1408_S1x256x1408_1_0_0 r j⟩
  · rw [outsAt0_B m c n h]
    frame_out
    refine View.canon_append_of_piecesOf (blocks m c n) [] [_, _] ⟨fun x => ?_, fun x => ?_, trivial⟩ (ix3 q r j) ?_
    · rw [block_eq x]
      exact (pay24_apply _ _ _ _).trans (congrArg (blocks m c n) (emb_block 1 inb_S2x256x1408_S1x256x1408_1_0_0 _ _)).symm
    · rw [block_eq x]
      exact (pay23_apply _ _ _ _ _ _ _ _).trans (congrArg (blocks m c n) (emb_block 0 inb_S2x256x1408_S1x256x1408_0_0_0 _ _)).symm
    · match q with
      | 0 => exact ⟨_, List.Mem.tail _ (List.Mem.head _), mem_block 0 inb_S2x256x1408_S1x256x1408_0_0_0 r j⟩
      | 1 => exact ⟨_, List.Mem.head _, mem_block 1 inb_S2x256x1408_S1x256x1408_1_0_0 r j⟩

end Cert.GateKernelIdeal.Value
end
-- ==== Proof.GateValue.lean ====
/- The gated convolution's gradient: the kernel's arrays, the reference's, and the two claims. -/
module

public import proofs.«01_k».proof.Proof.Gate
public import proofs.«01_k».proof.Proof.Gen.GateRefIdeal.Read
public import proofs.«01_k».proof.Defs

@[expose] public section

set_option maxRecDepth 16384

noncomputable section

open Idealize.ShloMosaic Idealize.ShloMosaic.TcCoe Idealize.SL.Sem

namespace Cert.GateKernelIdeal.Value
open Cert.GateKernelIdeal Cert.GateKernelIdeal.Gen Cert.Halo Cert.Logistic

variable (m : (ℓ : Loc nD τ sig) → Buf (Elt Ideal) ℓ) (c : Dev nD)

theorem idx : ∀ t : Fin cfg0.N, win0_0.index t = ![0, t.val % 16, t.val / 16] ∧ win0_1.index t = ![0, t.val % 16 * 16 - 1, t.val / 16]
    ∧ win0_2.index t = ![0, t.val / 16] ∧ win0_3.index t = ![0, t.val / 16 + 2] ∧ win0_4.index t = ![0, t.val / 16] ∧ win0_5.index t = ![0, t.val / 16 + 2]
    ∧ win0_6.index t = ![t.val % 16, t.val / 16] ∧ win0_7.index t = ![0, t.val % 16, t.val / 16] ∧ win0_8.index t = ![0, 0, t.val / 16]
    ∧ win0_9.index t = ![0, 0, t.val / 16] ∧ (grid0.coords t 1).val = t.val % 16 :=
  (by decide +kernel : ∀ t : Fin grid0.N, _)

theorem lt32 (n : Fin cfg0.N) : n.val < 32 := by have := n.isLt; have : cfg0.N = 32 := N_0; omega

/-- The channel, in its half, of column `c` of point `n`'s block. -/
def chan (n : Fin cfg0.N) (c : Fin 1408) : Fin 2816 := ⟨n.val / 16 * 1408 + c, by have := lt32 n; omega⟩

/-- The channel of a half, among both. -/
def wide (h : Fin 2) (j : Fin 2816) : Fin 5632 := ⟨h.val * 2816 + j, by omega⟩

/-- The arguments. -/
abbrev X : S4096x5632.Idx → EReal := m ((c.tc : Thread nD τ).loc main_arg0)
abbrev W : S3x5632.Idx → EReal := m ((c.tc : Thread nD τ).loc main_arg1)
abbrev B : S5632.Idx → EReal := m ((c.tc : Thread nD τ).loc main_arg2)
abbrev E : S4096x2816.Idx → EReal := m ((c.tc : Thread nD τ).loc main_arg3)

/-- A channel's column, with zero rows ahead. -/
def col (x : S4096x5632.Idx → EReal) (j : Fin 5632) : ℕ → EReal := pre fun t => x (ix2 t j)

variable {m c}

theorem V0_apply (h : Fin 2) (t : Fin 4096) (j : Fin 2816) : (V m c (Pipeline.arrRef spec0 0) : S2x4096x2816.Idx → EReal) (ix3 h t j) = X m c (ix2 t (wide h j)) := by
  have e : V m c (Pipeline.arrRef spec0 0) = truncf (F := Ideal) .bf16 (concatenate S2x4096x2816 0
      [⟨S1x4096x2816, broadcastInDim S1x4096x2816 ![1, 2] bcast_S4096x2816_S1x4096x2816_1_2 (extractStridedSlice S4096x2816 ![0, 0] (X m c) slices_S4096x5632_S4096x2816_0_0)⟩,
        ⟨S1x4096x2816, broadcastInDim S1x4096x2816 ![1, 2] bcast_S4096x2816_S1x4096x2816_1_2 (extractStridedSlice S4096x2816 ![0, 2816] (X m c) slices_S4096x5632_S4096x2816_0_2816)⟩]
      concatenates_S1x4096x2816_S1x4096x2816_S2x4096x2816_d0) bitsLt_bf16_f32 := by
    unfold V
    after_results_simp <;> rfl
  rw [e]
  match h with
  | 0 =>
    pointwise [wide]
  | 1 =>
    pointwise [wide]

theorem iblk_0 (n : Fin cfg0.N) (h : Fin 2) (j : Fin 1408) (r : Fin 256) :
    iblk m c 0 n (ix3 h r j : S2x256x1408.Idx) = col (X m c) (wide h (chan n j)) (n.val % 16 * 256 + r + 8) := by
  have := lt32 n
  unfold col
  rw [pre_of_le (by omega) (by omega)]
  refine Eq.trans ?_ (V0_apply (m := m) (c := c) h ⟨n.val % 16 * 256 + r + 8 - 8, by omega⟩ (chan n j))
  blk_point [iblk, idx n, chan]

theorem iblk_1 (n : Fin cfg0.N) (h : Fin 2) (j : Fin 1408) (q : Fin 8) :
    keep (0 < (grid0.coords n 1).val) (iblk m c 1 n (ix3 h ⟨8 + q.val, by omega⟩ j : S2x16x1408.Idx)) = col (X m c) (wide h (chan n j)) (n.val % 16 * 256 + q) := by
  have := lt32 n
  have hi := (idx n).2.2.2.2.2.2.2.2.2.2
  unfold col
  by_cases h0 : 0 < n.val % 16
  · rw [pre_of_le (by omega) (by omega), keep_of (by omega)]
    refine Eq.trans ?_ (V0_apply (m := m) (c := c) h ⟨n.val % 16 * 256 + q - 8, by omega⟩ (chan n j))
    blk_point [iblk, idx n, chan]
  · rw [pre_of_lt (by omega), keep_of_not (by omega)]

theorem iblk_w (n : Fin cfg0.N) (k : Fin 3) (j : Fin 1408) : iblk m c 2 n (ix2 k j : S3x1408.Idx) = W m c (ix2 k (wide 0 (chan n j))) := by
  blk_point [iblk, V, idx n, chan, wide]

theorem iblk_w' (n : Fin cfg0.N) (k : Fin 3) (j : Fin 1408) : iblk m c 3 n (ix2 k j : S3x1408.Idx) = W m c (ix2 k (wide 1 (chan n j))) := by
  blk_point [iblk, V, idx n, chan, wide]

theorem iblk_b (n : Fin cfg0.N) (j : Fin 1408) : iblk m c 4 n (ix2 0 j : S1x1408.Idx) = B m c (ix1 (wide 0 (chan n j))) := by
  have hV : V m c (Pipeline.arrRef spec0 4) = shapeCast S1x5632 (B m c) shapeCasts_S5632_S1x5632 := by
    unfold V
    after_results_simp <;> rfl
  refine Eq.trans (b := V m c (Pipeline.arrRef spec0 4) (ix2 0 (wide 0 (chan n j)) : S1x5632.Idx)) ?_ ?_
  · blk_point [iblk, idx n, chan, wide]
  · rw [hV]
    pointwise

theorem iblk_b' (n : Fin cfg0.N) (j : Fin 1408) : iblk m c 5 n (ix2 0 j : S1x1408.Idx) = B m c (ix1 (wide 1 (chan n j))) := by
  have hV : V m c (Pipeline.arrRef spec0 5) = shapeCast S1x5632 (B m c) shapeCasts_S5632_S1x5632 := by
    unfold V
    after_results_simp <;> rfl
  refine Eq.trans (b := V m c (Pipeline.arrRef spec0 5) (ix2 0 (wide 1 (chan n j)) : S1x5632.Idx)) ?_ ?_
  · blk_point [iblk, idx n, chan, wide]
  · rw [hV]
    pointwise

theorem iblk_e (n : Fin cfg0.N) (r : Fin 256) (j : Fin 1408) :
    iblk m c 6 n (ix2 r j : S256x1408.Idx) = E m c (ix2 ⟨n.val % 16 * 256 + r, by omega⟩ (chan n j)) := by
  have hV : V m c (Pipeline.arrRef spec0 6) = truncf (F := Ideal) .bf16 (E m c) bitsLt_bf16_f32 := by
    unfold V
    after_results_simp <;> rfl
  refine Eq.trans (b := V m c (Pipeline.arrRef spec0 6) (ix2 ⟨n.val % 16 * 256 + r, by omega⟩ (chan n j) : S4096x2816.Idx)) ?_ ?_
  · blk_point [iblk, idx n, chan]
  · rw [hV]
    pointwise

/-- A channel's convolution. -/
def H (x : S4096x5632.Idx → EReal) (w : S3x5632.Idx → EReal) (b : S5632.Idx → EReal) (t : Fin 4096) (j : Fin 5632) : EReal :=
  conv (col x j) (b (ix1 j)) (w (ix2 0 j)) (w (ix2 1 j)) (w (ix2 2 j)) t

/-- The gradient at row `t` of channel `j` of each half: under the gate's activation, and under the product with it. -/
def D (x : S4096x5632.Idx → EReal) (w : S3x5632.Idx → EReal) (b : S5632.Idx → EReal) (e : S4096x2816.Idx → EReal) (h : Fin 2) (t : Fin 4096) (j : Fin 2816) : EReal :=
  (![dtanh (H x w b t (wide 0 j)) (e (ix2 t j) * H x w b t (wide 1 j)), e (ix2 t j) * stanh (H x w b t (wide 0 j))] : Fin 2 → EReal) h

/-- The three arrays as the kernel lays them out, by halves. -/
def dOut (x : S4096x5632.Idx → EReal) (w : S3x5632.Idx → EReal) (b : S5632.Idx → EReal) (e : S4096x2816.Idx → EReal) : S2x4096x2816.Idx → EReal :=
  fun i => D x w b e (i 0) (i 1) (i 2)
def dwHalves (x : S4096x5632.Idx → EReal) (w : S3x5632.Idx → EReal) (b : S5632.Idx → EReal) (e : S4096x2816.Idx → EReal) : S2x3x2816.Idx → EReal :=
  fun i => ∑ t : Fin 4096, D x w b e (i 0) t (i 2) * col x (wide (i 0) (i 2)) (t + 8 - (2 - (i 1).val))
def dbHalves (x : S4096x5632.Idx → EReal) (w : S3x5632.Idx → EReal) (b : S5632.Idx → EReal) (e : S4096x2816.Idx → EReal) : S2x1x2816.Idx → EReal :=
  fun i => ∑ t : Fin 4096, D x w b e (i 0) t (i 2)

theorem blockH_apply (n : Fin cfg0.N) (r : Fin 256) (j : Fin 1408) :
    blockH m c n (ix2 r j) = H (X m c) (W m c) (B m c) ⟨n.val % 16 * 256 + r, by omega⟩ (wide 0 (chan n j)) := by
  unfold blockH
  rw [pay12_apply (iblk_0 n 0 j) (iblk_1 n 0 j), iblk_w, iblk_w, iblk_w, iblk_b]
  rfl

theorem blockD_apply (n : Fin cfg0.N) (h : Fin 2) (r : Fin 256) (j : Fin 1408) :
    blockD m c n h (ix2 r j) = D (X m c) (W m c) (B m c) (E m c) h ⟨n.val % 16 * 256 + r, by omega⟩ (chan n j) := by
  match h with
  | 0 =>
    refine (pay21_apply _ _ _ _ _ _ _ _).trans ?_
    rw [blockH_apply, up_apply (iblk_0 n 1 j) (iblk_1 n 1 j), iblk_w', iblk_w', iblk_w', iblk_b', iblk_e]
    rfl
  | 1 =>
    refine (pay22_apply _ _ _ _).trans ?_
    rw [blockH_apply, iblk_e]
    rfl

theorem lags_apply (n : Fin cfg0.N) (h : Fin 2) (k : Fin 3) (r : Fin 256) (j : Fin 1408) :
    lags m c n h k (ix2 r j) = col (X m c) (wide h (chan n j)) (n.val % 16 * 256 + r + 8 - (2 - k.val)) := by
  match h, k with
  | 0, 0 => exact pay6_apply (iblk_0 n 0 j) (iblk_1 n 0 j) r
  | 0, 1 => exact pay11_apply (iblk_0 n 0 j) (iblk_1 n 0 j) r
  | 0, 2 =>
    refine Eq.trans ?_ (iblk_0 n 0 j r)
    show k0_pay4 (F := Ideal) (iblk m c 0 n) (ix2 r j) = _
    pointwise [k0_pay4, k0_pay2]
  | 1, 0 => exact pay15_apply (iblk_0 n 1 j) (iblk_1 n 1 j) r
  | 1, 1 => exact pay17_apply (iblk_0 n 1 j) (iblk_1 n 1 j) r
  | 1, 2 =>
    refine Eq.trans ?_ (iblk_0 n 1 j r)
    show k0_pay13 (F := Ideal) (k0_pay2 (iblk m c 0 n)) (ix2 r j) = _
    pointwise [k0_pay13, k0_pay2]

theorem final_d : (dats m 0 c).arrAt 7 cfg0.N = dOut (X m c) (W m c) (B m c) (E m c) := by
  refine (dats m 0 c).arrAt_eq_of_covers 7 _ (by decide +kernel) fun n _ y => ?_
  blk_simp
  rw [after0_7]
  idx_vars y
  refine ((outs0 m c n y0 y1 y2).trans ((blockD_apply n y0 y1 y2).trans
    (show _ = dOut (X m c) (W m c) (B m c) (E m c) (ix3 y0 ⟨n.val % 16 * 256 + y1, by omega⟩ (chan n y2)) from rfl))).trans ?_
  generalize dOut (X m c) (W m c) (B m c) (E m c) = Y
  blk_point [idx n, chan]

theorem flush8 : ∀ t : Fin cfg0.N, win0_8.flush t = true → t.val % 16 = 15 := (by decide +kernel : ∀ t : Fin grid0.N, _)
theorem flush9 : ∀ t : Fin cfg0.N, win0_9.flush t = true → t.val % 16 = 15 := (by decide +kernel : ∀ t : Fin grid0.N, _)

/-- A sum over a channel block's points and their rows is the sum over all rows. -/
theorem sum_points (f : Fin 4096 → EReal) (q : ℕ) : ∑ s : Fin 16, ∑ r : Fin 256, f ⟨(16 * q + s.val) % 16 * 256 + r, by omega⟩ = ∑ i, f i := by
  refine Eq.trans ?_ (Fin.sum_mul_add_fin 16 256 f rfl)
  refine Finset.sum_congr rfl fun s _ => Finset.sum_congr rfl fun r _ => congrArg f (Fin.ext ?_)
  show (16 * q + s.val) % 16 * 256 + r.val = s.val * 256 + r.val
  omega

theorem chan_run (n : Fin cfg0.N) (h7 : n.val % 16 = 15) (s : Fin 16) (j : Fin 1408) :
    chan (⟨16 * (n.val / 16) + s.val, Pipeline.run_point_lt_of_flush n h7 s⟩ : Fin cfg0.N) j = chan n j := by
  refine Fin.ext ?_
  show (16 * (n.val / 16) + s.val) / 16 * 1408 + j.val = n.val / 16 * 1408 + j.val
  omega

theorem final_dw : (dats m 0 c).arrAt 8 cfg0.N = dwHalves (X m c) (W m c) (B m c) (E m c) := by
  refine (dats m 0 c).arrAt_eq_of_covers 8 _ (by decide +kernel) fun n hn y => ?_
  have h7 := flush8 n hn
  blk_simp
  rw [after0_8]
  idx_vars y
  refine (Pipeline.eq_sum_fin_of_reset_step_apply_of_flush (N := cfg0.N) (M := EReal) (ι := S2x3x1408.Idx) (fun n h => (outsAt0 m c n h).2.1) 16 (fun _ => 0) (adds m c)
    (fun n h0 i => by idx_vars i; exact (outs1_A m c n h0 i0 i1 i2).trans (zero_add _).symm) (fun n h0 i => by idx_vars i; exact outs1_B m c n h0 i0 i1 i2) n h7 (ix3 y0 y1 y2)).trans ?_
  rw [zero_add]
  refine Eq.trans (b := dwHalves (X m c) (W m c) (B m c) (E m c) (ix3 y0 y1 (chan n y2))) ?_ ?_
  · refine Eq.trans ?_ (sum_points (fun t => D (X m c) (W m c) (B m c) (E m c) y0 t (chan n y2) * col (X m c) (wide y0 (chan n y2)) (t + 8 - (2 - y1.val))) (n.val / 16))
    refine Finset.sum_congr rfl fun s _ => Finset.sum_congr rfl fun r _ => ?_
    refine (congrArg₂ (· * ·) (blockD_apply _ y0 r y2) (lags_apply _ y0 y1 r y2)).trans ?_
    rw [chan_run n h7 s y2]
  · generalize dwHalves (X m c) (W m c) (B m c) (E m c) = Y
    blk_point [idx n, chan]

theorem final_db : (dats m 0 c).arrAt 9 cfg0.N = dbHalves (X m c) (W m c) (B m c) (E m c) := by
  refine (dats m 0 c).arrAt_eq_of_covers 9 _ (by decide +kernel) fun n hn y => ?_
  have h7 := flush9 n hn
  blk_simp
  rw [after0_9, half_eq y]
  generalize y 0 = y0
  generalize y 2 = y2
  refine (Pipeline.eq_sum_fin_of_reset_step_apply_of_flush (N := cfg0.N) (M := EReal) (ι := S2x1x1408.Idx) (fun n h => (outsAt0 m c n h).2.2) 16 (fun _ => 0) (addsb m c)
    (fun n h0 i => by rw [half_eq i]; exact (outs2_A m c n h0 (i 0) (i 2)).trans (zero_add _).symm)
    (fun n h0 i => by rw [half_eq i]; exact outs2_B m c n h0 (i 0) (i 2)) n h7 (ix3 y0 0 y2)).trans ?_
  rw [zero_add]
  refine Eq.trans (b := dbHalves (X m c) (W m c) (B m c) (E m c) (ix3 y0 0 (chan n y2))) ?_ ?_
  · refine Eq.trans ?_ (sum_points (fun t => D (X m c) (W m c) (B m c) (E m c) y0 t (chan n y2)) (n.val / 16))
    refine Finset.sum_congr rfl fun s _ => Finset.sum_congr rfl fun r _ => ?_
    refine (blockD_apply _ y0 r y2).trans ?_
    rw [chan_run n h7 s y2]
  · generalize dbHalves (X m c) (W m c) (B m c) (E m c) = Y
    blk_point [idx n, chan]

/-- The two halves side by side. -/
def sides (f : Fin 2 → Fin 2816 → EReal) (j : Fin 5632) : EReal :=
  if h : j.val < 2816 then f 0 ⟨j.val, h⟩ else f 1 ⟨j.val - 2816, by omega⟩
def dwOut (x : S4096x5632.Idx → EReal) (w : S3x5632.Idx → EReal) (b : S5632.Idx → EReal) (e : S4096x2816.Idx → EReal) : S3x5632.Idx → EReal :=
  fun i => sides (fun h j => dwHalves x w b e (ix3 h (i 0) j)) (i 1)
def dbOut (x : S4096x5632.Idx → EReal) (w : S3x5632.Idx → EReal) (b : S5632.Idx → EReal) (e : S4096x2816.Idx → EReal) : S5632.Idx → EReal :=
  fun i => sides (fun h j => dbHalves x w b e (ix3 h 0 j)) (i 0)

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host lines after the kernel put the filter's halves side by side. -/
theorem tail_dw : Pipeline.afterTail₀ cfgs (dats m) 0 (V0 m) [hostOps1] c main_v13 = dwOut (X m c) (W m c) (B m c) (E m c) := by
  have e : left m c (Proc.devRef .tc (Pipeline.arrRef spec0 8)) = dwHalves (X m c) (W m c) (B m c) (E m c) :=
    (Pipeline.withArrays_arr_shared spec0 c (V0 m c) (fun w => (dats m 0 c).arrAt w cfg0.N) ((dats m 0 c).arrAt_sharedIn launch₀0.sharedIn (V0 m c) (A_eq m c) cfg0.N) 8).trans final_dw
  show StableHlo.after hostOps1 (left m c) (Proc.devRef .tc main_v13) = _
  generalize left m c = W' at e
  have h : StableHlo.after hostOps1 W' (Proc.devRef .tc main_v13) = concatenate S3x5632 1
      [⟨S3x2816, shapeCast S3x2816 (extractStridedSlice S1x3x2816 ![0, 0, 0] (W' (Proc.devRef .tc main_v8_1)) slices_S2x3x2816_S1x3x2816_0_0_0) shapeCasts_S1x3x2816_S3x2816⟩,
        ⟨S3x2816, shapeCast S3x2816 (extractStridedSlice S1x3x2816 ![1, 0, 0] (W' (Proc.devRef .tc main_v8_1)) slices_S2x3x2816_S1x3x2816_1_0_0) shapeCasts_S1x3x2816_S3x2816⟩]
      concatenates_S3x2816_S3x2816_S3x5632_d1 := by
    after_results_simp <;> rfl
  rw [h, show W' (Proc.devRef .tc main_v8_1) = _ from e]
  unfold dwOut
  generalize dwHalves (X m c) (W m c) (B m c) (E m c) = Y
  funext j
  idx_vars j
  unfold sides
  pointwise

/-- The host lines after the kernel put the bias's halves side by side. -/
theorem tail_db : Pipeline.afterTail₀ cfgs (dats m) 0 (V0 m) [hostOps1] c main_v19 = dbOut (X m c) (W m c) (B m c) (E m c) := by
  have e : left m c (Proc.devRef .tc (Pipeline.arrRef spec0 9)) = dbHalves (X m c) (W m c) (B m c) (E m c) :=
    (Pipeline.withArrays_arr_shared spec0 c (V0 m c) (fun w => (dats m 0 c).arrAt w cfg0.N) ((dats m 0 c).arrAt_sharedIn launch₀0.sharedIn (V0 m c) (A_eq m c) cfg0.N) 9).trans final_db
  show StableHlo.after hostOps1 (left m c) (Proc.devRef .tc main_v19) = _
  generalize left m c = W' at e
  have h : StableHlo.after hostOps1 W' (Proc.devRef .tc main_v19) = shapeCast S5632 (concatenate S1x5632 1
      [⟨S1x2816, shapeCast S1x2816 (extractStridedSlice S1x1x2816 ![0, 0, 0] (W' (Proc.devRef .tc main_v8_2)) slices_S2x1x2816_S1x1x2816_0_0_0) shapeCasts_S1x1x2816_S1x2816⟩,
        ⟨S1x2816, shapeCast S1x2816 (extractStridedSlice S1x1x2816 ![1, 0, 0] (W' (Proc.devRef .tc main_v8_2)) slices_S2x1x2816_S1x1x2816_1_0_0) shapeCasts_S1x1x2816_S1x2816⟩]
      concatenates_S1x2816_S1x2816_S1x5632_d1) shapeCasts_S1x5632_S5632 := by
    after_results_simp <;> rfl
  rw [h, show W' (Proc.devRef .tc main_v8_2) = _ from e]
  unfold dbOut
  generalize dbHalves (X m c) (W m c) (B m c) (E m c) = Y
  funext j
  idx_vars j
  unfold sides
  pointwise

/-- The kernel ends with the three. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v8_0) = dOut (X m c) (W m c) (B m c) (E m c)
      ∧ r.2.mem ((c.tc : Thread nD τ).loc main_v13) = dwOut (X m c) (W m c) (B m c) (E m c)
      ∧ r.2.mem ((c.tc : Thread nD τ).loc main_v19) = dbOut (X m c) (W m c) (B m c) (E m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (Gen.unchanged m g) (Gen.run_main m g)) fun r hr c =>
    ⟨((hr.2 c).1 7).trans final_d, ((hr.2 c).2 main_v13 (Pipeline.mem_restRefs_of main_v13 rfl (by decide))).trans tail_dw,
      ((hr.2 c).2 main_v19 (Pipeline.mem_restRefs_of main_v19 rfl (by decide))).trans tail_db, hr.1 c⟩

end Cert.GateKernelIdeal.Value

namespace Cert.GateRefIdeal.Value
open Cert.GateRefIdeal Cert.GateRefIdeal.Read Cert.Halo Cert.Logistic Cert.GateKernelIdeal.Value

variable (x0 : S4096x5632.Idx → EReal) (x1 : S3x5632.Idx → EReal) (x2 : S5632.Idx → EReal) (x3 : S4096x2816.Idx → EReal)

theorem v1_apply (t : Fin 4096) (c : Fin 5632) (k : ℕ) (hk : k < 3) (p : Fin 4098) (hp : p.val = k + t.val) :
    val_main_v1 (F := Ideal) x0 (ix2 p c) = col x0 c (t + 8 - (2 - k)) := by
  pointwise [val_main_v1, val_main_v0, val_main_cst]
  unfold col
  split
  · rw [pre_of_lt (by omega)]
  · rw [pre_of_le (by omega) (by omega)]
    exact congrArg (fun t => x0 (ix2 t _)) (Fin.ext (show p.val - 2 = t.val + 8 - (2 - k) - 8 by omega))

theorem v24_apply (t : Fin 4096) (c : Fin 5632) : val_main_v24 (F := Ideal) x0 x1 x2 (ix2 t c) = H x0 x1 x2 t c := by
  pointwise [val_main_v24, val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3, val_main_v2]
  rw [v1_apply x0 t c 0 (by omega) _ (Nat.zero_add _).symm, v1_apply x0 t c 1 (by omega) _ rfl, v1_apply x0 t c 2 (by omega) _ rfl]
  rfl

theorem v31_apply (t : Fin 4096) (c : Fin 2816) : val_main_v31 (F := Ideal) x0 x1 x2 x3 (ix2 t c)
    = dlogi (val_main_v24 (F := Ideal) x0 x1 x2 (ix2 t (wide 0 c))) (x3 (ix2 t c) * val_main_v24 (F := Ideal) x0 x1 x2 (ix2 t (wide 1 c))) := by
  unfold dlogi
  pointwise [val_main_v31, val_main_v30, val_main_v27_0, val_main_v27_1, val_main_v27_2, val_main_v26, val_main_v25, val_main_call0_v0, val_main_call0_v1, val_main_call0_v2, val_main_call0_v3,
    val_main_call0_v4, val_main_call0_v6, val_main_call0_v7, val_main_call0_cst, val_main_call0_cst_0, val_main_call0_cst_1, val_main_call1_v0,
    val_main_call1_v1, val_main_call1_v2, wide]

theorem v29_apply (t : Fin 4096) (c : Fin 2816) : val_main_v29 (F := Ideal) x0 x1 x2 x3 (ix2 t c)
    = slogi (val_main_v24 (F := Ideal) x0 x1 x2 (ix2 t (wide 0 c))) * x3 (ix2 t c) := by
  unfold slogi
  pointwise [val_main_v29, val_main_v27_0, val_main_v27_2, val_main_v25, val_main_call0_v0, val_main_call0_v1, val_main_call0_v2, val_main_call0_v3,
    val_main_call0_v4, val_main_call0_cst, val_main_call0_cst_0, wide]

theorem v34_apply (t : Fin 4096) (c : Fin 5632) : val_main_v34 (F := Ideal) x0 x1 x2 x3 (ix2 t c)
    = sides (fun h j => (![val_main_v31 (F := Ideal) x0 x1 x2 x3 (ix2 t j), val_main_v29 (F := Ideal) x0 x1 x2 x3 (ix2 t j)] : Fin 2 → EReal) h) c := by
  pointwise [val_main_v34, val_main_v33, val_main_v32, val_main_cst_0, val_main_cst_1]
  unfold sides
  by_cases h : c.val < 2816
  · rw [dif_neg (by omega), dif_pos h, dif_pos h, zero_add]
    rfl
  · rw [dif_pos (by omega), dif_neg h, dif_neg h, add_zero]
    rfl

theorem v50_apply (c : Fin 5632) : val_main_v50 (F := Ideal) x0 x1 x2 x3 (ix1 c) = ∑ t : Fin 4096, val_main_v34 (F := Ideal) x0 x1 x2 x3 (ix2 t c) := by
  pointwise [val_main_v50, val_main_v49, val_main_v48, val_main_cst_8, val_main_cst_9]
  exact Fin.sum_univ_one _

theorem v57_apply (k : Fin 3) (c : Fin 5632) : val_main_v57 (F := Ideal) x0 x1 x2 x3 (ix2 k c)
    = ∑ t : Fin 4096, val_main_v34 (F := Ideal) x0 x1 x2 x3 (ix2 t c) * col x0 c (t + 8 - (2 - k.val)) := by
  pointwise [val_main_v57, val_main_v56, val_main_v55, val_main_v54, val_main_v53, val_main_v52,
    val_main_v51, val_main_v47, val_main_v46, val_main_v45, val_main_v44, val_main_v43, val_main_v42, val_main_v41,
    val_main_v40, val_main_v39, val_main_v38, val_main_v37, val_main_v36, val_main_v35, val_main_v18, val_main_v11, val_main_v2,
    val_main_cst_2, val_main_cst_3, val_main_cst_4, val_main_cst_5, val_main_cst_6, val_main_cst_7, val_main_cst_10,
    val_main_cst_11, val_main_cst_12]
  have e := fun (k : ℕ) (hk : k < 3) (p : Fin 4096 → Fin 4098) (hp : ∀ t, (p t).val = k + t.val) => Finset.sum_congr (rfl : (Finset.univ : Finset (Fin 4096)) = _)
    fun t _ => (congrArg (· * val_main_v34 (F := Ideal) x0 x1 x2 x3 (ix2 t c)) (v1_apply x0 t c k hk (p t) (hp t))).trans (mul_comm _ _)
  match k with
  | 0 =>
    rw [dif_neg (by decide), dif_neg (by decide), dif_pos (by decide), zero_add, zero_add]
    exact (Fin.sum_univ_one _).trans (e 0 (by omega) _ fun _ => (Nat.zero_add _).symm)
  | 1 =>
    rw [dif_neg (by decide), dif_pos (by decide), dif_neg (by decide), zero_add, add_zero]
    exact (Fin.sum_univ_one _).trans (e 1 (by omega) _ fun _ => rfl)
  | 2 =>
    rw [dif_pos (by decide), dif_neg (by decide), dif_neg (by decide), add_zero, add_zero]
    exact (Fin.sum_univ_one _).trans (e 2 (by omega) _ fun _ => rfl)

/-- Arguments that are real numbers. -/
structure Args (x0 : S4096x5632.Idx → EReal) (x1 : S3x5632.Idx → EReal) (x2 : S5632.Idx → EReal) (x3 : S4096x2816.Idx → EReal) : Prop where
  x : ∃ f : S4096x5632.Idx → ℝ, x0 = fun i => (f i : EReal)
  w : ∃ f : S3x5632.Idx → ℝ, x1 = fun i => (f i : EReal)
  b : ∃ f : S5632.Idx → ℝ, x2 = fun i => (f i : EReal)
  e : ∃ f : S4096x2816.Idx → ℝ, x3 = fun i => (f i : EReal)

variable {x0 x1 x2 x3}

theorem H_real (A : Args x0 x1 x2 x3) (t : Fin 4096) (c : Fin 5632) : ∃ r : ℝ, H x0 x1 x2 t c = r := by
  obtain ⟨f, rfl⟩ := A.x
  obtain ⟨w, rfl⟩ := A.w
  obtain ⟨b, rfl⟩ := A.b
  have hc : ∀ n, n < 4096 + 8 → ∃ r : ℝ, col (fun i => (f i : EReal)) c n = r := fun n hn => by
    unfold col
    by_cases h : n < 8
    · exact ⟨0, pre_of_lt h⟩
    · exact ⟨_, pre_of_le (by omega) (by omega)⟩
  unfold H conv
  obtain ⟨r0, h0⟩ := hc (t + 8 - 2) (by omega)
  obtain ⟨r1, h1⟩ := hc (t + 8 - 1) (by omega)
  obtain ⟨r2, h2⟩ := hc (t + 8) (by omega)
  rw [h0, h1, h2]
  simp only [← EReal.coe_mul, ← EReal.coe_add]
  exact ⟨_, rfl⟩

theorem v34_eq (A : Args x0 x1 x2 x3) (t : Fin 4096) (c : Fin 5632) :
    val_main_v34 (F := Ideal) x0 x1 x2 x3 (ix2 t c) = sides (fun h j => D x0 x1 x2 x3 h t j) c := by
  rw [v34_apply]
  refine congrArg (sides · c) (funext fun h => funext fun j => ?_)
  obtain ⟨e, he⟩ := A.e
  obtain ⟨g, hg⟩ := H_real A t (wide 0 j)
  obtain ⟨u, hu⟩ := H_real A t (wide 1 j)
  match h with
  | 0 =>
    show val_main_v31 (F := Ideal) x0 x1 x2 x3 (ix2 t j) = dtanh _ _
    rw [v31_apply, v24_apply, v24_apply, hg, hu, congrFun he (ix2 t j)]
    simp only [← EReal.coe_mul]
    exact dlogi_eq _ _
  | 1 =>
    show val_main_v29 (F := Ideal) x0 x1 x2 x3 (ix2 t j) = _ * stanh _
    rw [v29_apply, v24_apply, hg, slogi_eq, mul_comm]

theorem sides_wide (f : Fin 2 → Fin 2816 → EReal) (h : Fin 2) (j : Fin 2816) : sides f (wide h j) = f h j := by
  unfold sides wide
  match h with
  | 0 =>
    exact (dif_pos (show 0 * 2816 + j.val < 2816 by omega)).trans (congrArg (f 0) (Fin.ext (by show 0 * 2816 + j.val = j.val; omega)))
  | 1 =>
    exact (dif_neg (show ¬ 1 * 2816 + j.val < 2816 by omega)).trans (congrArg (f 1) (Fin.ext (by show 1 * 2816 + j.val - 2816 = j.val; omega)))

theorem v63_apply (h : Fin 2) (t : Fin 4096) (j : Fin 2816) : val_main_v63 (F := Ideal) x0 x1 x2 x3 (ix3 h t j)
    = val_main_v34 (F := Ideal) x0 x1 x2 x3 (ix2 t (wide h j)) := by
  match h with
  | 0 => pointwise [val_main_v63, val_main_v62, val_main_v61, val_main_v60, val_main_v59, val_main_v58, wide]
  | 1 => pointwise [val_main_v63, val_main_v62, val_main_v61, val_main_v60, val_main_v59, val_main_v58, wide]

theorem sum_sides (f : Fin 2 → Fin 2816 → Fin 4096 → EReal) (g : Fin 5632 → Fin 4096 → EReal) (j : Fin 5632) :
    ∑ t, sides (fun h j => f h j t) j * g j t = sides (fun h j => ∑ t, f h j t * g (wide h j) t) j := by
  unfold sides wide
  split
  · refine Finset.sum_congr rfl fun t _ => congrArg (_ * g · t) (Fin.ext ?_)
    show j.val = 0 * 2816 + j.val
    omega
  · refine Finset.sum_congr rfl fun t _ => congrArg (_ * g · t) (Fin.ext ?_)
    show j.val = 1 * 2816 + (j.val - 2816)
    omega

theorem sum_sides_one (f : Fin 2 → Fin 2816 → Fin 4096 → EReal) (j : Fin 5632) :
    ∑ t, sides (fun h j => f h j t) j = sides (fun h j => ∑ t, f h j t) j := by
  unfold sides
  split <;> rfl

/-- The reference ends with the three. -/
theorem reference_run (m : (ℓ : Loc nD τ sig) → Buf (Elt Ideal) ℓ) (g : Dev nD → PrngReg) (A : ∀ c : Dev nD, Args (m ((c.tc : Thread nD τ).loc main_arg0))
      (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v63) = dOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v57) = dwOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v50) = dbOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h1, h2, h3, h4⟩ := hr c
    refine ⟨h1.trans ?_, h2.trans ?_, h3.trans ?_, h4⟩
    · rw [Read.val_main_v63_eq]
      funext i
      idx_vars i
      exact (v63_apply _ _ _).trans ((v34_eq (A c) _ _).trans (sides_wide _ _ _))
    · rw [Read.val_main_v57_eq]
      funext i
      idx_vars i
      exact (v57_apply _ _ _ _ _ _).trans ((Finset.sum_congr rfl fun t _ => congrArg (· * _) (v34_eq (A c) t _)).trans
        (sum_sides (fun h j t => D _ _ _ _ h t j) (fun j t => col _ j (t + 8 - (2 - i0.val))) i1))
    · rw [Read.val_main_v50_eq]
      funext i
      idx_vars i
      exact (v50_apply _ _ _ _ _).trans ((Finset.sum_congr rfl fun t _ => v34_eq (A c) t _).trans (sum_sides_one (fun h j t => D _ _ _ _ h t j) i0))

end Cert.GateRefIdeal.Value

namespace Cert.Pre_gate_finite

instance facts : Facts where
  bcast_S_S4096x5632 := by decide
  bcast_S_S3x5632 := by decide
  bcast_S_S5632 := by decide
  bcast_S_S4096x2816 := by decide

end Cert.Pre_gate_finite

namespace Cert.Gate
open Cert.GateKernelIdeal Cert.GateRefIdeal.Value

/-- The reference runs and leaves its arguments; it has no semaphores. -/
theorem reference_frame : Cert.quiescent_GateRefIdeal := fun m g _ =>
  θ_run_mono (Cert.GateRefIdeal.Value.run (F := Ideal) m g) fun r hr => ⟨fun c => (hr c).2.2.2, sem_eq_zero_of_no_sems (by decide) r.2⟩

/-- Arguments of finite size are arrays of real numbers. -/
theorem args (m : (ℓ : Loc nD τ sig) → Buf (Elt Ideal) ℓ) (hpre : Cert.Pre_GateKernelIdeal_gate_finite m) (c : Dev nD) :
    Args (m ((c.tc : Thread nD τ).loc main_arg0)) (m ((c.tc : Thread nD τ).loc main_arg1)) (m ((c.tc : Thread nD τ).loc main_arg2))
      (m ((c.tc : Thread nD τ).loc main_arg3)) := by
  obtain ⟨h1, h2, h3, h4⟩ := hpre c
  exact ⟨Reals.exists_reals fun i => Reals.ofBits_inf ▸ congrFun h1 i, Reals.exists_reals fun i => Reals.ofBits_inf ▸ congrFun h2 i,
    Reals.exists_reals fun i => Reals.ofBits_inf ▸ congrFun h3 i, Reals.exists_reals fun i => Reals.ofBits_inf ▸ congrFun h4 i⟩

/-- The kernel computes the gated convolution's gradient: under the gate, at the filter and at the bias. -/
theorem algebraic : Cert.algebraic_GateKernelIdeal_GateRefIdeal_pre_gate_finite := by
  intro m g m' g' hpre hagree
  refine ⟨_, _, _, GateKernelIdeal.Value.kernel_run m g, θ_run_mono (GateRefIdeal.Value.reference_run m' g' fun c => ?_) fun r hr c => ?_⟩
  · rw [(hagree c).1, (hagree c).2.1, (hagree c).2.2.1, (hagree c).2.2.2]
    exact args m hpre c
  · obtain ⟨h1, h2, h3, h4⟩ := hr c
    rw [(hagree c).1, (hagree c).2.1, (hagree c).2.2.1, (hagree c).2.2.2] at h1 h2 h3
    exact ⟨h1, h2, h3, h4⟩

end Cert.Gate
end
-- ==== Proof.Conv.lean ====
/- The FFN convolution's input gradient: the kernel's blocks, the reference's stages, and their equation. -/
module

public import proofs.«01_k».proof.Proof.Halo
public import proofs.«01_k».proof.Proof.Gen.ConvKernelIdeal.Frame
public import proofs.«01_k».proof.Proof.Gen.ConvRefIdeal.Read
public import proofs.«01_k».proof.Proof.Gen.ConvRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ConvKernelIdeal.Value
open Cert.ConvKernelIdeal Cert.ConvKernelIdeal.Gen Cert.Halo

theorem pay3_apply (i : grid0.Coords) (n : S1x16x1408.Idx → EReal) (r : Fin 8) (c : Fin 1408) :
    k0_pay3 (F := Ideal) i n (ix2 r c) = keep ((i 2).val < 15) (n (ix3 0 ⟨r, by omega⟩ c)) := by
  unfold keep
  pointwise [k0_pay3]
  rw [show (Scalar.extui (Scalar.cmpi CmpIPredicate.slt (BitVec.ofNat 32 (i 2).val) 15#32) : BitVec 32).toInt = _ from notlast_eq (i 2)]
  split <;> simp

/-- A block of the result: each row with the two rows after it. -/
theorem out_apply (i : grid0.Coords) (d : S1x256x1408.Idx → EReal) (n : S1x16x1408.Idx → EReal) (w : S3x1408.Idx → EReal)
    (b : ℕ) (x : Fin 4096 → EReal) (c : Fin 1408) (hd : ∀ r : Fin 256, d (ix3 0 r c) = ext x (b * 256 + r))
    (hn : ∀ q : Fin 8, keep ((i 2).val < 15) (n (ix3 0 ⟨q, by omega⟩ c)) = ext x (b * 256 + 256 + q)) (r : Fin 256) :
    out0_3 (F := Ideal) i d n w (ix3 0 r c)
      = ext x (b * 256 + r) * w (ix2 2 c) + ext x (b * 256 + r + 1) * w (ix2 1 c) + ext x (b * 256 + r + 2) * w (ix2 0 c) := by
  frame_out
  pointwise [k0_pay1, k0_pay4, k0_pay5, k0_pay6, k0_pay7, k0_pay8, k0_pay2]
  simp only [pay3_apply]
  have up := fun s => up_eq x 256 b (by omega) s (fun r => d (ix3 0 r c)) (fun q => keep ((i 2).val < 15) (n (ix3 0 ⟨q, by omega⟩ c))) hd hn r
  exact congrArg₂ (· + ·) (congrArg₂ (· + ·) (congrArg (· * _) (hd r)) (congrArg (· * _) (up 1 ⟨_, Nat.mod_lt _ (by omega)⟩ rfl ⟨_, Nat.mod_lt _ (by omega)⟩ rfl ⟨_, by omega⟩ rfl)))
    (congrArg (· * _) (up 2 ⟨_, Nat.mod_lt _ (by omega)⟩ rfl ⟨_, Nat.mod_lt _ (by omega)⟩ rfl ⟨_, by omega⟩ rfl))

theorem idx : ∀ t : Fin cfg0.N, win0_0.index t = ![t.val / 32, t.val % 16, t.val / 16 % 2]
    ∧ win0_1.index t = ![t.val / 32, min (t.val % 16 * 16 + 16) 255, t.val / 16 % 2] ∧ win0_2.index t = ![0, t.val / 16]
    ∧ win0_3.index t = ![t.val / 32, t.val % 16, t.val / 16 % 2] ∧ (grid0.coords t 2).val = t.val % 16 :=
  (by decide +kernel : ∀ t : Fin grid0.N, _)

theorem lt64 (n : Fin cfg0.N) : n.val < 64 := by have := n.isLt; have : cfg0.N = 64 := N_0; omega

/-- The channel of column `c` of point `n`'s block. -/
def chan (n : Fin cfg0.N) (c : Fin 1408) : Fin 5632 := ⟨n.val / 16 * 1408 + c, by have := lt64 n; omega⟩

/-- A channel's gradient at row `t`: of the output's gradient at the rows that the row reaches. -/
def back (x : S4096x5632.Idx → EReal) (w : S3x5632.Idx → EReal) (t : Fin 4096) (j : Fin 5632) : EReal :=
  ext (fun t => x (ix2 t j)) t * w (ix2 2 j) + ext (fun t => x (ix2 t j)) (t + 1) * w (ix2 1 j) + ext (fun t => x (ix2 t j)) (t + 2) * w (ix2 0 j)

/-- The two halves of the channels, as the kernel keeps them. -/
def out (x : S4096x5632.Idx → EReal) (w : S3x5632.Idx → EReal) : S2x4096x2816.Idx → EReal :=
  fun i => back x w (i 1) ⟨(i 0).val * 2816 + (i 2).val, by have h0 : (i 0).val < 2 := (i 0).isLt; have h2 : (i 2).val < 2816 := (i 2).isLt; omega⟩

variable (m : (ℓ : Loc nD τ sig) → Buf (Elt Ideal) ℓ) (c : Dev nD)

/-- The arguments. -/
abbrev X : S4096x5632.Idx → EReal := m ((c.tc : Thread nD τ).loc main_arg0)
abbrev W : S3x5632.Idx → EReal := m ((c.tc : Thread nD τ).loc main_arg1)

theorem V_halves (h : Fin 2) (t : Fin 4096) (j : Fin 2816) :
    V m c (Pipeline.arrRef spec0 0) (ix3 h t j) = X m c (ix2 t ⟨h.val * 2816 + j, by omega⟩) := by
  have hV : V m c (Pipeline.arrRef spec0 0) = truncf (F := Ideal) .bf16 (concatenate S2x4096x2816 0
      [⟨S1x4096x2816, broadcastInDim S1x4096x2816 ![1, 2] bcast_S4096x2816_S1x4096x2816_1_2 (extractStridedSlice S4096x2816 ![0, 0] (X m c) slices_S4096x5632_S4096x2816_0_0)⟩,
        ⟨S1x4096x2816, broadcastInDim S1x4096x2816 ![1, 2] bcast_S4096x2816_S1x4096x2816_1_2 (extractStridedSlice S4096x2816 ![0, 2816] (X m c) slices_S4096x5632_S4096x2816_0_2816)⟩]
      concatenates_S1x4096x2816_S1x4096x2816_S2x4096x2816_d0) bitsLt_bf16_f32 := by
    unfold V
    after_results_simp <;> rfl
  rw [hV]
  pointwise
  split
  · exact congrArg (fun j => X m c (ix2 t j)) (Fin.ext (by dsimp only; omega))
  · exact congrArg (fun j => X m c (ix2 t j)) (Fin.ext (by dsimp only; omega))

variable {m c}

theorem iblk_d (n : Fin cfg0.N) (r : Fin 256) (j : Fin 1408) :
    iblk m c 0 n (ix3 0 r j : S1x256x1408.Idx) = ext (fun t => X m c (ix2 t (chan n j))) (n.val % 16 * 256 + r) := by
  have := lt64 n
  rw [ext_of_lt (by omega : n.val % 16 * 256 + r.val < 4096)]
  refine Eq.trans ?_ ((V_halves m c ⟨n.val / 32, by omega⟩ ⟨n.val % 16 * 256 + r, by omega⟩ ⟨n.val / 16 % 2 * 1408 + j, by omega⟩).trans ?_)
  · blk_point [iblk, idx n]
  · exact congrArg (fun j => X m c (ix2 _ j)) (Fin.ext (by dsimp only [chan]; omega))

theorem iblk_n (n : Fin cfg0.N) (q : Fin 8) (j : Fin 1408) :
    keep ((grid0.coords n 2).val < 15) (iblk m c 1 n (ix3 0 ⟨q, by omega⟩ j : S1x16x1408.Idx))
      = ext (fun t => X m c (ix2 t (chan n j))) (n.val % 16 * 256 + 256 + q) := by
  have := lt64 n
  have hi := (idx n).2.2.2.2
  by_cases h : n.val % 16 < 15
  · rw [ext_of_lt (by omega : n.val % 16 * 256 + 256 + q.val < 4096), keep_of (by omega)]
    refine Eq.trans ?_ ((V_halves m c ⟨n.val / 32, by omega⟩ ⟨n.val % 16 * 256 + 256 + q, by omega⟩ ⟨n.val / 16 % 2 * 1408 + j, by omega⟩).trans ?_)
    · blk_point [iblk, idx n]
    · exact congrArg (fun j => X m c (ix2 _ j)) (Fin.ext (by dsimp only [chan]; omega))
  · rw [ext_of_le (by omega), keep_of_not (by omega)]

theorem iblk_w (n : Fin cfg0.N) (k : Fin 3) (j : Fin 1408) : iblk m c 2 n (ix2 k j : S3x1408.Idx) = W m c (ix2 k (chan n j)) := by
  blk_point [iblk, V, idx n, chan]

/-- Every block is written once. -/
theorem final : (dats m 0 c).arrAt 3 cfg0.N = out (X m c) (W m c) := by
  refine (dats m 0 c).arrAt_eq_of_covers 3 _ (by decide +kernel) fun n _ y => ?_
  blk_simp
  rw [after0_3]
  idx_vars y
  obtain rfl : y0 = 0 := Fin.fin_one_eq_zero _
  refine (out_apply (grid0.coords n) (iblk m c 0 n) (iblk m c 1 n) (iblk m c 2 n) (n.val % 16) (fun t => X m c (ix2 t (chan n y2))) y2
    (fun r => iblk_d n r y2) (fun q => iblk_n n q y2) y1).trans ?_
  rw [iblk_w, iblk_w, iblk_w]
  have := lt64 n
  refine Eq.trans (b := back (X m c) (W m c) ⟨n.val % 16 * 256 + y1, by omega⟩ (chan n y2)) rfl (Eq.trans (b := out (X m c) (W m c)
    (ix3 ⟨n.val / 32, by omega⟩ ⟨n.val % 16 * 256 + y1, by omega⟩ ⟨n.val / 16 % 2 * 1408 + y2, by omega⟩)) ?_ ?_)
  · exact congrArg (back _ _ _) (Fin.ext (show n.val / 16 * 1408 + y2.val = n.val / 32 * 2816 + (n.val / 16 % 2 * 1408 + y2.val) by omega))
  · generalize out (X m c) (W m c) = Y
    blk_point [idx n]

/-- The kernel ends with the gradient. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6) = out (X m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (Gen.unchanged m g) (Gen.run_main m g)) fun r hr c => ⟨((hr.2 c).1 3).trans final, hr.1 c⟩

end Cert.ConvKernelIdeal.Value

namespace Cert.ConvRefIdeal.Value
open Cert.ConvRefIdeal Cert.ConvRefIdeal.Read Cert.Halo Cert.ConvKernelIdeal.Value

theorem v42_apply (x0 : S4096x5632.Idx → EReal) (x1 : S3x5632.Idx → EReal) (t : Fin 4096) (c : Fin 5632) :
    val_main_v42 (F := Ideal) x0 x1 (ix2 t c) = back x0 x1 t c := by
  pointwise [val_main_v42, val_main_v40, val_main_v39, val_main_v36, val_main_v35, val_main_v32, val_main_v31, val_main_v34, val_main_v38,
    val_main_v28, val_main_v29, val_main_v30, val_main_v33, val_main_v37, val_main_v8, val_main_v17, val_main_v24, val_main_v7, val_main_v6,
    val_main_v16, val_main_v15, val_main_v23, val_main_v22, val_main_cst_3, val_main_cst_4, val_main_cst_5]
  refine congrArg₂ (· + ·) (congrArg₂ (· + ·) (congrArg (· * _) (ext_of_lt (x := fun t => x0 (ix2 t c)) t.isLt).symm) ?_) ?_
  · split
    · rw [ext_of_lt (by omega)]
      exact congrArg (fun t => x0 (ix2 t c) * x1 (ix2 1 c)) (Fin.ext (by dsimp only; omega))
    · rw [ext_of_le (by omega), zero_mul]
  · split
    · rw [ext_of_lt (by omega)]
      exact congrArg (fun t => x0 (ix2 t c) * x1 (ix2 0 c)) (Fin.ext (by dsimp only; omega))
    · rw [ext_of_le (by omega), zero_mul]

theorem v48_apply (x0 : S4096x5632.Idx → EReal) (x1 : S3x5632.Idx → EReal) (h : Fin 2) (t : Fin 4096) (c : Fin 2816) :
    val_main_v48 (F := Ideal) x0 x1 (ix3 h t c) = back x0 x1 t ⟨h.val * 2816 + c, by omega⟩ := by
  pointwise [val_main_v48, val_main_v47, val_main_v45, val_main_v46, val_main_v43, val_main_v44]
  rw [v42_apply, v42_apply]
  split
  · exact congrArg (back x0 x1 t) (Fin.ext (by dsimp only; omega))
  · exact congrArg (back x0 x1 t) (Fin.ext (by dsimp only; omega))

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v48) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Value.run m g) fun r hr c => by
    obtain ⟨h1, h2⟩ := hr c
    refine ⟨h1.trans ?_, h2⟩
    rw [Read.val_main_v48_eq]
    funext i
    idx_vars i
    exact v48_apply _ _ _ _ _

end Cert.ConvRefIdeal.Value

namespace Cert.Conv

/-- The reference runs and leaves its arguments; it has no semaphores. -/
theorem reference_frame : Cert.quiescent_ConvRefIdeal := fun m g _ =>
  θ_run_mono (Cert.ConvRefIdeal.Value.run (F := Ideal) m g) fun r hr => ⟨fun c => (hr c).2, sem_eq_zero_of_no_sems (by decide) r.2⟩

/-- The kernel computes the FFN convolution's gradient at its input. -/
theorem algebraic : Cert.algebraic_ConvKernelIdeal_ConvRefIdeal := by
  intro m g m' g' _ hagree
  refine ⟨_, ConvKernelIdeal.Value.kernel_run m g, θ_run_mono (ConvRefIdeal.Value.reference_run m' g') fun r hr c => ?_⟩
  obtain ⟨h1, h2⟩ := hr c
  rw [(hagree c).1, (hagree c).2] at h1
  exact ⟨h1, h2⟩

end Cert.Conv
end
-- ==== Proof.Silu.lean ====
/- The Mamba convolution's gradient under its activation: the kernel's blocks and the sums over them. -/
module

public import proofs.«01_k».proof.Proof.Halo
public import proofs.«01_k».proof.Proof.Logistic
public import proofs.«01_k».proof.Proof.Gen.SiluKernelIdeal.Frame
public import proofs.«01_k».proof.Proof.Gen.SiluRefIdeal.Read
public import proofs.«01_k».proof.Proof.Gen.SiluRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.SiluKernelIdeal.Value
open Cert.SiluKernelIdeal Cert.SiluKernelIdeal.Gen Cert.Halo Cert.Logistic

theorem pay2_apply (i : grid0.Coords) (n : S8x512.Idx → EReal) (r : Fin 8) (c : Fin 512) :
    k0_pay2 (F := Ideal) i n (ix2 r c) = keep (0 < (i 1).val) (n (ix2 r c)) := by
  unfold keep
  pointwise [k0_pay2]
  rw [show (Scalar.extui (Scalar.cmpi CmpIPredicate.sgt (BitVec.ofNat 32 (i 1).val) 0#32) : BitVec 32).toInt = _ from notfirst8_eq (i 1)]
  split <;> simp

section
variable {i : grid0.Coords} {d : S512x512.Idx → EReal} {n : S8x512.Idx → EReal} {b : ℕ} {g : ℕ → EReal} {c : Fin 512}
  (hd : ∀ r : Fin 512, d (ix2 r c) = g (b * 512 + r + 8)) (hn : ∀ q : Fin 8, keep (0 < (i 1).val) (n (ix2 q c)) = g (b * 512 + q))
include hd hn

theorem pay3_apply (r : Fin 512) : k0_pay3 (F := Ideal) i d n (ix2 r c) = g (b * 512 + r + 8 - 3) := by
  pointwise [k0_pay3, k0_pay1]
  simp only [pay2_apply]
  exact down_eq g 512 b (by omega) 3 (fun r => d (ix2 r c)) (fun q => keep (0 < (i 1).val) (n (ix2 q c))) hd hn r
    ⟨_, Nat.mod_lt _ (by omega)⟩ rfl ⟨_, by omega⟩ rfl ⟨_, Nat.mod_lt _ (by omega)⟩ rfl

theorem pay4_apply (r : Fin 512) : k0_pay4 (F := Ideal) i d n (ix2 r c) = g (b * 512 + r + 8 - 2) := by
  pointwise [k0_pay4, k0_pay1]
  simp only [pay2_apply]
  exact down_eq g 512 b (by omega) 2 (fun r => d (ix2 r c)) (fun q => keep (0 < (i 1).val) (n (ix2 q c))) hd hn r
    ⟨_, Nat.mod_lt _ (by omega)⟩ rfl ⟨_, by omega⟩ rfl ⟨_, Nat.mod_lt _ (by omega)⟩ rfl

theorem pay6_apply (r : Fin 512) : k0_pay6 (F := Ideal) (k0_pay1 d) (k0_pay2 i n) (ix2 r c) = g (b * 512 + r + 8 - 1) := by
  pointwise [k0_pay6, k0_pay1]
  simp only [pay2_apply]
  exact down_eq g 512 b (by omega) 1 (fun r => d (ix2 r c)) (fun q => keep (0 < (i 1).val) (n (ix2 q c))) hd hn r
    ⟨_, Nat.mod_lt _ (by omega)⟩ rfl ⟨_, by omega⟩ rfl ⟨_, Nat.mod_lt _ (by omega)⟩ rfl

end

/-- A convolution's value at row `t` of the column: the bias and four products. -/
def conv (g : ℕ → EReal) (b w0 w1 w2 w3 : EReal) (t : ℕ) : EReal :=
  b + g (t + 8 - 3) * w0 + g (t + 8 - 2) * w1 + g (t + 8 - 1) * w2 + g (t + 8) * w3

theorem pay7_apply {i : grid0.Coords} {d : S512x512.Idx → EReal} {n : S8x512.Idx → EReal} {b : ℕ} {g : ℕ → EReal} {c : Fin 512}
    (hd : ∀ r : Fin 512, d (ix2 r c) = g (b * 512 + r + 8)) (hn : ∀ q : Fin 8, keep (0 < (i 1).val) (n (ix2 q c)) = g (b * 512 + q))
    (w : S4x512.Idx → EReal) (v : S1x512.Idx → EReal) (e : S512x512.Idx → EReal) (r : Fin 512) :
    k0_pay7 (F := Ideal) (k0_pay1 d) (k0_pay2 i n) w (k0_pay5 i d n w v) e (ix2 r c)
      = dtanh (conv g (v (ix2 0 c)) (w (ix2 0 c)) (w (ix2 1 c)) (w (ix2 2 c)) (w (ix2 3 c)) (b * 512 + r)) (e (ix2 r c)) := by
  have e1 : k0_pay5 (F := Ideal) i d n w v (ix2 r c) = v (ix2 0 c) + g (b * 512 + r + 8 - 3) * w (ix2 0 c) + g (b * 512 + r + 8 - 2) * w (ix2 1 c) := by
    rw [← pay3_apply hd hn, ← pay4_apply hd hn]
    pointwise [k0_pay5]
  have e2 : conv g (v (ix2 0 c)) (w (ix2 0 c)) (w (ix2 1 c)) (w (ix2 2 c)) (w (ix2 3 c)) (b * 512 + r)
      = k0_pay5 (F := Ideal) i d n w v (ix2 r c) + k0_pay6 (F := Ideal) (k0_pay1 d) (k0_pay2 i n) (ix2 r c) * w (ix2 2 c) + d (ix2 r c) * w (ix2 3 c) := by
    rw [e1, pay6_apply hd hn, hd]
    rfl
  rw [e2]
  unfold dtanh
  pointwise [k0_pay7, k0_pay1]

theorem pay11_apply (p : S512x512.Idx → EReal) (q : S8x512.Idx → EReal) (w : S4x512.Idx → EReal) (v e : S512x512.Idx → EReal) (o : S1x512.Idx → EReal) (c : Fin 512) :
    k0_pay12 (F := Ideal) (k0_pay10 o) (k0_pay11 p q w v e) (ix2 0 c) = o (ix2 0 c) + ∑ r : Fin 512, k0_pay7 p q w v e (ix2 r c) := by
  pointwise [k0_pay12, k0_pay10, k0_pay11]

theorem pay13_apply (a d : S512x512.Idx → EReal) (o : S1x512.Idx → EReal) (c : Fin 512) :
    k0_pay13 (F := Ideal) a d o (ix2 0 c) = o (ix2 0 c) + ∑ r : Fin 512, d (ix2 r c) * a (ix2 r c) := by
  pointwise [k0_pay13]

theorem pay14_apply (a d : S512x512.Idx → EReal) (o : S1x512.Idx → EReal) (c : Fin 512) :
    k0_pay14 (F := Ideal) a d o (ix2 0 c) = o (ix2 0 c) + ∑ r : Fin 512, d (ix2 r c) * a (ix2 r c) := by
  pointwise [k0_pay14]

theorem pay15_apply (a d : S512x512.Idx → EReal) (o : S1x512.Idx → EReal) (c : Fin 512) :
    k0_pay15 (F := Ideal) a d o (ix2 0 c) = o (ix2 0 c) + ∑ r : Fin 512, d (ix2 r c) * a (ix2 r c) := by
  pointwise [k0_pay15]

theorem pay16_apply (a d : S512x512.Idx → EReal) (o : S1x512.Idx → EReal) (c : Fin 512) :
    k0_pay16 (F := Ideal) a d o (ix2 0 c) = o (ix2 0 c) + ∑ r : Fin 512, d (ix2 r c) * a (ix2 r c) := by
  pointwise [k0_pay16]

/-- One row's rectangle places its column in that row. -/
theorem emb_row (k : Fin 4) (h) (j : Fin 512) : (Rect.unit (s := S4x512) ![k.val, 0] ![1, 512] h).emb (ix2 0 j) = ix2 k j := by
  funext a
  refine Fin.ext ?_
  match a with
  | ⟨0, _⟩ => simp [Rect.emb, Rect.unit]
  | ⟨1, _⟩ => simp [Rect.emb, Rect.unit]

variable (m : (ℓ : Loc nD τ sig) → Buf (Elt Ideal) ℓ) (c : Dev nD)

/-- The four columns that a row's products take, of one block. -/
def lags (n : Fin cfg0.N) (k : Fin 4) : S512x512.Idx → EReal :=
  ![k0_pay3 (F := Ideal) (grid0.coords n) (X0_0 m c n) (X0_1 m c n), k0_pay4 (grid0.coords n) (X0_0 m c n) (X0_1 m c n),
    k0_pay6 (k0_pay1 (X0_0 m c n)) (k0_pay2 (grid0.coords n) (X0_1 m c n)), k0_pay1 (X0_0 m c n)] k

/-- One block of the gradient under the activation. -/
def blockD (n : Fin cfg0.N) : S512x512.Idx → EReal :=
  k0_pay7 (F := Ideal) (k0_pay1 (X0_0 m c n)) (k0_pay2 (grid0.coords n) (X0_1 m c n)) (iblk m c 2 n)
    (k0_pay5 (grid0.coords n) (X0_0 m c n) (X0_1 m c n) (iblk m c 2 n) (iblk m c 3 n)) (iblk m c 4 n)

theorem mem_row (k : Fin 4) (h) (j : Fin 512) : (ix2 k j : S4x512.Idx) ∈ (Rect.unit (s := S4x512) ![k.val, 0] ![1, 512] h).set :=
  Rect.mem_set_unit.mpr fun a => match a with
    | ⟨0, _⟩ => ⟨le_refl _, Nat.lt_succ_self _⟩
    | ⟨1, _⟩ => ⟨Nat.zero_le _, show j.val < 0 + 512 by omega⟩

theorem pay8_apply (y : S4x512.Idx) : k0_pay8 (F := Ideal) y = (0 : EReal) := by
  idx_vars y
  pointwise [k0_pay8]

theorem pay9_apply (y : S1x512.Idx) : k0_pay9 (F := Ideal) y = (0 : EReal) := by
  idx_vars y
  pointwise [k0_pay9]

theorem row_eq (x : S1x512.Idx) : x = ix2 0 (x 1) := by
  idx_vars x
  exact congrArg (ix2 · x1) (Subsingleton.elim _ _)

/-- The sums that a block adds to each row. -/
def adds (n : Fin cfg0.N) : S4x512.Idx → Elt Ideal .f32 :=
  fun y => (∑ r : Fin 512, blockD m c n (ix2 r (y 1)) * lags m c n (y 0) (ix2 r (y 1)) : EReal)

theorem outs1_A (n : Fin cfg0.N) (h : n.val % 8 = 0) (k : Fin 4) (j : Fin 512) :
    (outsAt0 m c n.val n.isLt).2.1 (ix2 k j) = adds m c n (ix2 k j) := by
  rw [outsAt0_A m c n h]
  frame_out
  simp (disch := decide) only [↓View.readCov_skip, ↓View.readCov_fill]
  refine View.canon_append_of_piecesOf (adds m c n) [_] [_, _, _, _]
    ⟨fun x => ?_, fun x => ?_, fun x => ?_, fun x => ?_, trivial⟩ (ix2 k j) ?_
  · rw [row_eq x]
    exact (pay16_apply _ _ _ _).trans ((congrArg (· + _) (pay8_apply _)).trans ((zero_add _).trans (congrArg (adds m c n) (emb_row 3 inb_S4x512_S1x512_3_0 _)).symm))
  · rw [row_eq x]
    exact (pay15_apply _ _ _ _).trans ((congrArg (· + _) (pay8_apply _)).trans ((zero_add _).trans (congrArg (adds m c n) (emb_row 2 inb_S4x512_S1x512_2_0 _)).symm))
  · rw [row_eq x]
    exact (pay14_apply _ _ _ _).trans ((congrArg (· + _) (pay8_apply _)).trans ((zero_add _).trans (congrArg (adds m c n) (emb_row 1 inb_S4x512_S1x512_1_0 _)).symm))
  · rw [row_eq x]
    exact (pay13_apply _ _ _ _).trans ((congrArg (· + _) (pay8_apply _)).trans ((zero_add _).trans (congrArg (adds m c n) (emb_row 0 inb_S4x512_S1x512_0_0 _)).symm))
  · match k with
    | 0 => exact ⟨_, List.Mem.tail _ (List.Mem.tail _ (List.Mem.tail _ (List.Mem.head _))), mem_row 0 inb_S4x512_S1x512_0_0 j⟩
    | 1 => exact ⟨_, List.Mem.tail _ (List.Mem.tail _ (List.Mem.head _)), mem_row 1 inb_S4x512_S1x512_1_0 j⟩
    | 2 => exact ⟨_, List.Mem.tail _ (List.Mem.head _), mem_row 2 inb_S4x512_S1x512_2_0 j⟩
    | 3 => exact ⟨_, List.Mem.head _, mem_row 3 inb_S4x512_S1x512_3_0 j⟩

theorem outs1_B (n : Fin cfg0.N) (h : ¬ n.val % 8 = 0) (k : Fin 4) (j : Fin 512) :
    (outsAt0 m c n.val n.isLt).2.1 (ix2 k j) = (outsAt0 m c (n.val - 1) (by omega)).2.1 (ix2 k j) + adds m c n (ix2 k j) := by
  rw [outsAt0_B m c n h]
  frame_out
  generalize (outsAt0 m c (n.val - 1) _).2.1 = o
  canon_tiles x hx
  · obtain rfl : k = 3 := Fin.ext (show k.val = 3 by have : k.val = 3 + (x 0).val := hx0; omega)
    obtain rfl : x 1 = j := Fin.ext hx1.symm
    rw [row_eq x]
    exact (pay16_apply _ _ _ _).trans (congrArg (· + _) (congrArg o (emb_row 3 _ _)))
  · obtain rfl : k = 2 := Fin.ext (show k.val = 2 by have : k.val = 2 + (x 0).val := hx0; omega)
    obtain rfl : x 1 = j := Fin.ext hx1.symm
    rw [row_eq x]
    exact (pay15_apply _ _ _ _).trans (congrArg (· + _) (congrArg o (emb_row 2 _ _)))
  · obtain rfl : k = 1 := Fin.ext (show k.val = 1 by have : k.val = 1 + (x 0).val := hx0; omega)
    obtain rfl : x 1 = j := Fin.ext hx1.symm
    rw [row_eq x]
    exact (pay14_apply _ _ _ _).trans (congrArg (· + _) (congrArg o (emb_row 1 _ _)))
  · obtain rfl : k = 0 := Fin.ext (show k.val = 0 by have : k.val = (x 0).val := hx0; omega)
    obtain rfl : x 1 = j := Fin.ext hx1.symm
    rw [row_eq x]
    exact (pay13_apply _ _ _ _).trans (congrArg (· + _) (congrArg o (emb_row 0 _ _)))

theorem outs2_A (n : Fin cfg0.N) (h : n.val % 8 = 0) (j : Fin 512) :
    (outsAt0 m c n.val n.isLt).2.2 (ix2 0 j) = (∑ r : Fin 512, blockD m c n (ix2 r j) : EReal) := by
  rw [outsAt0_A m c n h]
  frame_out
  exact (pay11_apply _ _ _ _ _ _ _).trans ((congrArg (· + _) (pay9_apply _)).trans (zero_add _))

theorem outs2_B (n : Fin cfg0.N) (h : ¬ n.val % 8 = 0) (j : Fin 512) :
    (outsAt0 m c n.val n.isLt).2.2 (ix2 0 j)
      = (outsAt0 m c (n.val - 1) (by omega)).2.2 (ix2 0 j) + (∑ r : Fin 512, blockD m c n (ix2 r j) : EReal) := by
  rw [outsAt0_B m c n h]
  frame_out
  exact pay11_apply _ _ _ _ _ _ _

theorem outs0 (n : Fin cfg0.N) : (outsAt0 m c n.val n.isLt).1 = blockD m c n := by
  by_cases h : n.val % 8 = 0
  · rw [outsAt0_A m c n h]
    frame_out
    rfl
  · rw [outsAt0_B m c n h]
    frame_out
    rfl

theorem idx : ∀ t : Fin cfg0.N, win0_0.index t = ![t.val % 8, t.val / 8 + 4] ∧ win0_1.index t = ![t.val % 8 * 64 - 1, t.val / 8 + 4]
    ∧ win0_2.index t = ![0, t.val / 8] ∧ win0_3.index t = ![0, t.val / 8] ∧ win0_4.index t = ![t.val % 8, t.val / 8]
    ∧ win0_5.index t = ![t.val % 8, t.val / 8] ∧ win0_6.index t = ![0, t.val / 8] ∧ win0_7.index t = ![0, t.val / 8]
    ∧ (grid0.coords t 1).val = t.val % 8 :=
  (by decide +kernel : ∀ t : Fin grid0.N, _)

theorem lt48 (n : Fin cfg0.N) : n.val < 48 := by have := n.isLt; have : cfg0.N = 48 := N_0; omega

/-- The channel of column `c` of point `n`'s block. -/
def chan (n : Fin cfg0.N) (c : Fin 512) : Fin 3072 := ⟨n.val / 8 * 512 + c, by have := lt48 n; omega⟩

/-- The arguments. -/
abbrev X : S4096x5152.Idx → EReal := m ((c.tc : Thread nD τ).loc main_arg0)
abbrev W : S4x3072.Idx → EReal := m ((c.tc : Thread nD τ).loc main_arg1)
abbrev B : S3072.Idx → EReal := m ((c.tc : Thread nD τ).loc main_arg2)
abbrev E : S4096x3072.Idx → EReal := m ((c.tc : Thread nD τ).loc main_arg3)

/-- A channel's column of the projection, with zero rows ahead. -/
def col (x : S4096x5152.Idx → EReal) (j : Fin 3072) : ℕ → EReal := pre fun t => x (ix2 t ⟨2048 + j.val, by omega⟩)

variable {m c}

theorem V0_apply (t : Fin 4096) (j : Fin 3072) : (V m c (Pipeline.arrRef spec0 0) : S4096x5376.Idx → EReal) (ix2 t ⟨2048 + j.val, by omega⟩) = X m c (ix2 t ⟨2048 + j.val, by omega⟩) := by
  have h : V m c (Pipeline.arrRef spec0 0) = pad S4096x5376 ![0, 0] ![0, 224] ![0, 0] (X m c) (sitofp (F := Ideal) .f32 (constantI S_ 32 0#32)) pads_S4096x5152_S4096x5376_000_02240 h_S_ := by
    unfold V
    after_results_simp <;> rfl
  rw [h]
  pointwise
  exact dif_pos (by omega)

theorem iblk_0 (n : Fin cfg0.N) (r j : Fin 512) :
    X0_0 m c n (ix2 r j : S512x512.Idx) = col (X m c) (chan n j) (n.val % 8 * 512 + r + 8) := by
  have := lt48 n
  unfold X0_0 Pipeline.Window.fill
  rw [dif_pos (moved0_0 n _)]
  unfold col
  rw [pre_of_le (by omega) (by omega)]
  refine Eq.trans ?_ (V0_apply (m := m) (c := c) ⟨n.val % 8 * 512 + r + 8 - 8, by omega⟩ (chan n j))
  blk_point [iblk, idx n, chan]

theorem iblk_1 (n : Fin cfg0.N) (q : Fin 8) (j : Fin 512) :
    keep (0 < (grid0.coords n 1).val) (X0_1 m c n (ix2 q j : S8x512.Idx)) = col (X m c) (chan n j) (n.val % 8 * 512 + q) := by
  have := lt48 n
  have hi := (idx n).2.2.2.2.2.2.2.2
  unfold col
  by_cases h : 0 < n.val % 8
  · rw [pre_of_le (by omega) (by omega), keep_of (by omega)]
    unfold X0_1 Pipeline.Window.fill
    rw [dif_pos (moved0_1 n _)]
    refine Eq.trans ?_ (V0_apply (m := m) (c := c) ⟨n.val % 8 * 512 + q - 8, by omega⟩ (chan n j))
    blk_point [iblk, idx n, chan]
  · rw [pre_of_lt (by omega), keep_of_not (by omega)]

theorem iblk_w (n : Fin cfg0.N) (k : Fin 4) (j : Fin 512) : iblk m c 2 n (ix2 k j : S4x512.Idx) = W m c (ix2 k (chan n j)) := by
  blk_point [iblk, V, idx n, chan]

theorem iblk_b (n : Fin cfg0.N) (j : Fin 512) : iblk m c 3 n (ix2 0 j : S1x512.Idx) = B m c (ix1 (chan n j)) := by
  have hV : V m c (Pipeline.arrRef spec0 3) = shapeCast S1x3072 (B m c) shapeCasts_S3072_S1x3072 := by
    unfold V
    after_results_simp <;> rfl
  refine Eq.trans (b := V m c (Pipeline.arrRef spec0 3) (ix2 0 (chan n j) : S1x3072.Idx)) ?_ ?_
  · blk_point [iblk, idx n, chan]
  · rw [hV]
    pointwise

theorem iblk_e (n : Fin cfg0.N) (r j : Fin 512) :
    iblk m c 4 n (ix2 r j : S512x512.Idx) = E m c (ix2 ⟨n.val % 8 * 512 + r, by omega⟩ (chan n j)) := by
  blk_point [iblk, V, idx n, chan]

/-- The gradient under the activation, at row `t` of channel `j`. -/
def D (x : S4096x5152.Idx → EReal) (w : S4x3072.Idx → EReal) (b : S3072.Idx → EReal) (e : S4096x3072.Idx → EReal) (t : Fin 4096) (j : Fin 3072) : EReal :=
  dtanh (conv (col x j) (b (ix1 j)) (w (ix2 0 j)) (w (ix2 1 j)) (w (ix2 2 j)) (w (ix2 3 j)) t) (e (ix2 t j))

/-- The three results as arrays. -/
def dOut (x : S4096x5152.Idx → EReal) (w : S4x3072.Idx → EReal) (b : S3072.Idx → EReal) (e : S4096x3072.Idx → EReal) : S4096x3072.Idx → EReal :=
  fun i => D x w b e (i 0) (i 1)
def dwOut (x : S4096x5152.Idx → EReal) (w : S4x3072.Idx → EReal) (b : S3072.Idx → EReal) (e : S4096x3072.Idx → EReal) : S4x3072.Idx → EReal :=
  fun i => ∑ t : Fin 4096, D x w b e t (i 1) * col x (i 1) (t + 8 - (3 - (i 0).val))
def dbOut (x : S4096x5152.Idx → EReal) (w : S4x3072.Idx → EReal) (b : S3072.Idx → EReal) (e : S4096x3072.Idx → EReal) : S3072.Idx → EReal :=
  fun i => ∑ t : Fin 4096, D x w b e t (i 0)

theorem blockD_apply (n : Fin cfg0.N) (r j : Fin 512) :
    blockD m c n (ix2 r j) = D (X m c) (W m c) (B m c) (E m c) ⟨n.val % 8 * 512 + r, by omega⟩ (chan n j) := by
  unfold blockD
  rw [pay7_apply (iblk_0 n · j) (iblk_1 n · j), iblk_w, iblk_w, iblk_w, iblk_w, iblk_b, iblk_e]
  rfl

theorem lags_apply (n : Fin cfg0.N) (k : Fin 4) (r j : Fin 512) :
    lags m c n k (ix2 r j) = col (X m c) (chan n j) (n.val % 8 * 512 + r + 8 - (3 - k.val)) := by
  match k with
  | 0 => exact pay3_apply (iblk_0 n · j) (iblk_1 n · j) r
  | 1 => exact pay4_apply (iblk_0 n · j) (iblk_1 n · j) r
  | 2 => exact pay6_apply (iblk_0 n · j) (iblk_1 n · j) r
  | 3 =>
    refine Eq.trans ?_ (iblk_0 n r j)
    show k0_pay1 (F := Ideal) (X0_0 m c n) (ix2 r j) = _
    pointwise [k0_pay1]

theorem final_d : (dats m 0 c).arrAt 5 cfg0.N = dOut (X m c) (W m c) (B m c) (E m c) := by
  refine (dats m 0 c).arrAt_eq_of_covers 5 _ (by decide +kernel) fun n _ y => ?_
  blk_simp
  rw [after0_5, outs0]
  idx_vars y
  refine ((blockD_apply n y0 y1).trans (show _ = dOut (X m c) (W m c) (B m c) (E m c) (ix2 ⟨n.val % 8 * 512 + y0, by omega⟩ (chan n y1)) from rfl)).trans ?_
  generalize dOut (X m c) (W m c) (B m c) (E m c) = Y
  blk_point [idx n, chan]

theorem flush6 : ∀ t : Fin cfg0.N, win0_6.flush t = true → t.val % 8 = 7 := (by decide +kernel : ∀ t : Fin grid0.N, _)
theorem flush7 : ∀ t : Fin cfg0.N, win0_7.flush t = true → t.val % 8 = 7 := (by decide +kernel : ∀ t : Fin grid0.N, _)

/-- A sum over a channel block's points and their rows is the sum over all rows. -/
theorem sum_points (f : Fin 4096 → EReal) (q : ℕ) : ∑ s : Fin 8, ∑ r : Fin 512, f ⟨(8 * q + s.val) % 8 * 512 + r, by omega⟩ = ∑ i, f i := by
  refine Eq.trans ?_ (Fin.sum_mul_add_fin 8 512 f rfl)
  refine Finset.sum_congr rfl fun s _ => Finset.sum_congr rfl fun r _ => congrArg f (Fin.ext ?_)
  show (8 * q + s.val) % 8 * 512 + r.val = s.val * 512 + r.val
  omega

theorem final_dw : (dats m 0 c).arrAt 6 cfg0.N = dwOut (X m c) (W m c) (B m c) (E m c) := by
  refine (dats m 0 c).arrAt_eq_of_covers 6 _ (by decide +kernel) fun n hn y => ?_
  have h7 := flush6 n hn
  blk_simp
  rw [after0_6]
  idx_vars y
  refine (Pipeline.eq_sum_fin_of_reset_step_apply_of_flush (N := cfg0.N) (M := EReal) (ι := S4x512.Idx) (fun n h => (outsAt0 m c n h).2.1) 8 (fun _ => 0) (adds m c)
    (fun n h0 i => by idx_vars i; exact (outs1_A m c n h0 i0 i1).trans (zero_add _).symm) (fun n h0 i => by idx_vars i; exact outs1_B m c n h0 i0 i1) n h7 (ix2 y0 y1)).trans ?_
  rw [zero_add]
  refine Eq.trans (b := dwOut (X m c) (W m c) (B m c) (E m c) (ix2 y0 (chan n y1))) ?_ ?_
  · refine Eq.trans ?_ (sum_points (fun t => D (X m c) (W m c) (B m c) (E m c) t (chan n y1) * col (X m c) (chan n y1) (t + 8 - (3 - y0.val))) (n.val / 8))
    refine Finset.sum_congr rfl fun s _ => Finset.sum_congr rfl fun r _ => ?_
    refine (congrArg₂ (· * ·) (blockD_apply _ r y1) (lags_apply _ y0 r y1)).trans ?_
    have hc : chan (⟨8 * (n.val / 8) + s.val, Pipeline.run_point_lt_of_flush n h7 s⟩ : Fin cfg0.N) y1 = chan n y1 := by
      refine Fin.ext ?_
      show (8 * (n.val / 8) + s.val) / 8 * 512 + y1.val = n.val / 8 * 512 + y1.val
      omega
    rw [hc]
  · generalize dwOut (X m c) (W m c) (B m c) (E m c) = Y
    blk_point [idx n, chan]

def dbRow (x : S4096x5152.Idx → EReal) (w : S4x3072.Idx → EReal) (b : S3072.Idx → EReal) (e : S4096x3072.Idx → EReal) : S1x3072.Idx → EReal :=
  fun i => dbOut x w b e (ix1 (i 1))

theorem final_db : (dats m 0 c).arrAt 7 cfg0.N = dbRow (X m c) (W m c) (B m c) (E m c) := by
  refine (dats m 0 c).arrAt_eq_of_covers 7 _ (by decide +kernel) fun n hn y => ?_
  have h7 := flush7 n hn
  blk_simp
  rw [after0_7, row_eq y]
  generalize y 1 = y1
  refine (Pipeline.eq_sum_fin_of_reset_step_apply_of_flush (N := cfg0.N) (M := EReal) (ι := S1x512.Idx) (fun n h => (outsAt0 m c n h).2.2) 8 (fun _ => 0)
    (fun n i => ∑ r : Fin 512, blockD m c n (ix2 r (i 1)))
    (fun n h0 i => by rw [row_eq i]; exact (outs2_A m c n h0 (i 1)).trans (zero_add _).symm) (fun n h0 i => by rw [row_eq i]; exact outs2_B m c n h0 (i 1)) n h7 (ix2 0 y1)).trans ?_
  rw [zero_add]
  refine Eq.trans (b := dbRow (X m c) (W m c) (B m c) (E m c) (ix2 0 (chan n y1))) ?_ ?_
  · refine Eq.trans ?_ (sum_points (fun t => D (X m c) (W m c) (B m c) (E m c) t (chan n y1)) (n.val / 8))
    refine Finset.sum_congr rfl fun s _ => Finset.sum_congr rfl fun r _ => ?_
    refine (blockD_apply _ r y1).trans ?_
    refine congrArg (D _ _ _ _ _) (Fin.ext ?_)
    show (8 * (n.val / 8) + s.val) / 8 * 512 + y1.val = n.val / 8 * 512 + y1.val
    omega
  · generalize dbRow (X m c) (W m c) (B m c) (E m c) = Y
    blk_point [idx n, chan]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host line after the kernel flattens the bias's gradient. -/
theorem tail_db : Pipeline.afterTail₀ cfgs (dats m) 0 (V0 m) [hostOps1] c main_v3 = dbOut (X m c) (W m c) (B m c) (E m c) := by
  have e : left m c (Proc.devRef .tc (Pipeline.arrRef spec0 7)) = dbRow (X m c) (W m c) (B m c) (E m c) :=
    (Pipeline.withArrays_arr_shared spec0 c (V0 m c) (fun w => (dats m 0 c).arrAt w cfg0.N) ((dats m 0 c).arrAt_sharedIn launch₀0.sharedIn (V0 m c) (A_eq m c) cfg0.N) 7).trans final_db
  show StableHlo.after hostOps1 (left m c) (Proc.devRef .tc main_v3) = _
  generalize left m c = W' at e
  after_results_simp
  rw [show W' (Proc.devRef .tc main_v2_2) = _ from e]
  funext j
  idx_vars j
  pointwise
  rfl

/-- The kernel ends with the three. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2_0) = dOut (X m c) (W m c) (B m c) (E m c)
      ∧ r.2.mem ((c.tc : Thread nD τ).loc main_v2_1) = dwOut (X m c) (W m c) (B m c) (E m c)
      ∧ r.2.mem ((c.tc : Thread nD τ).loc main_v3) = dbOut (X m c) (W m c) (B m c) (E m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (Gen.unchanged m g) (Gen.run_main m g)) fun r hr c =>
    ⟨((hr.2 c).1 5).trans final_d, ((hr.2 c).1 6).trans final_dw,
      ((hr.2 c).2 main_v3 (Pipeline.mem_restRefs_of main_v3 rfl (by decide))).trans tail_db, hr.1 c⟩

end Cert.SiluKernelIdeal.Value

namespace Cert.SiluRefIdeal.Value
open Cert.SiluRefIdeal Cert.SiluRefIdeal.Read Cert.Halo Cert.Logistic Cert.SiluKernelIdeal.Value

variable (x0 : S4096x5152.Idx → EReal) (x1 : S4x3072.Idx → EReal) (x2 : S3072.Idx → EReal) (x3 : S4096x3072.Idx → EReal)

theorem v2_apply (t : Fin 4096) (c : Fin 3072) (k : ℕ) (hk : k < 4) (p : Fin 4099) (hp : p.val = k + t.val) :
    val_main_v2 (F := Ideal) x0 (ix2 p c) = col x0 c (t + 8 - (3 - k)) := by
  pointwise [val_main_v2, val_main_v1, val_main_v0, val_main_cst]
  unfold col
  split
  · rw [pre_of_lt (by omega)]
  · rw [pre_of_le (by omega) (by omega)]
    exact congrArg (fun t => x0 (ix2 t _)) (Fin.ext (show p.val - 3 = t.val + 8 - (3 - k) - 8 by omega))

theorem v32_apply (t : Fin 4096) (c : Fin 3072) : val_main_v32 (F := Ideal) x0 x1 x2 (ix2 t c)
    = conv (col x0 c) (x2 (ix1 c)) (x1 (ix2 0 c)) (x1 (ix2 1 c)) (x1 (ix2 2 c)) (x1 (ix2 3 c)) t := by
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_v13, val_main_v12, val_main_v11, val_main_v10, val_main_v9, val_main_v8, val_main_v7, val_main_v6, val_main_v5, val_main_v4, val_main_v3]
  rw [v2_apply x0 t c 0 (by omega) _ (Nat.zero_add _).symm, v2_apply x0 t c 1 (by omega) _ rfl, v2_apply x0 t c 2 (by omega) _ rfl, v2_apply x0 t c 3 (by omega) _ rfl]
  rfl

theorem v34_apply (t : Fin 4096) (c : Fin 3072) : val_main_v34 (F := Ideal) x0 x1 x2 x3 (ix2 t c)
    = dlogi (val_main_v32 (F := Ideal) x0 x1 x2 (ix2 t c)) (x3 (ix2 t c)) := by
  unfold dlogi
  pointwise [val_main_v34, val_main_v33_0, val_main_v33_1, val_main_v33_2, val_main_call0_v0, val_main_call0_v1, val_main_call0_v2, val_main_call0_v3,
    val_main_call0_v4, val_main_call0_v6, val_main_call0_v7, val_main_call0_cst, val_main_call0_cst_0, val_main_call0_cst_1, val_main_call1_v0,
    val_main_call1_v1, val_main_call1_v2]

theorem v57_apply (c : Fin 3072) : val_main_v57 (F := Ideal) x0 x1 x2 x3 (ix1 c) = ∑ t : Fin 4096, val_main_v34 (F := Ideal) x0 x1 x2 x3 (ix2 t c) := by
  pointwise [val_main_v57, val_main_v56, val_main_v55, val_main_cst_9, val_main_cst_10]
  exact Fin.sum_univ_one _

theorem v64_apply (k : Fin 4) (c : Fin 3072) : val_main_v64 (F := Ideal) x0 x1 x2 x3 (ix2 k c)
    = ∑ t : Fin 4096, val_main_v34 (F := Ideal) x0 x1 x2 x3 (ix2 t c) * col x0 c (t + 8 - (3 - k.val)) := by
  pointwise [val_main_v64, val_main_v63, val_main_v62, val_main_v61, val_main_v60, val_main_v59, val_main_v58, val_main_v54, val_main_v53, val_main_v52,
    val_main_v51, val_main_v50, val_main_v49, val_main_v48, val_main_v47, val_main_v46, val_main_v45, val_main_v44, val_main_v43, val_main_v42, val_main_v41,
    val_main_v40, val_main_v39, val_main_v38, val_main_v37, val_main_v36, val_main_v35, val_main_v26, val_main_v19, val_main_v12, val_main_v3,
    val_main_cst_0, val_main_cst_1, val_main_cst_2, val_main_cst_3, val_main_cst_4, val_main_cst_5, val_main_cst_6, val_main_cst_7, val_main_cst_8,
    val_main_cst_11, val_main_cst_12, val_main_cst_13]
  have e := fun (k : ℕ) (hk : k < 4) (p : Fin 4096 → Fin 4099) (hp : ∀ t, (p t).val = k + t.val) => Finset.sum_congr (rfl : (Finset.univ : Finset (Fin 4096)) = _)
    fun t _ => (congrArg (· * val_main_v34 (F := Ideal) x0 x1 x2 x3 (ix2 t c)) (v2_apply x0 t c k hk (p t) (hp t))).trans (mul_comm _ _)
  match k with
  | 0 =>
    rw [dif_neg (by decide), dif_neg (by decide), dif_neg (by decide), dif_pos (by decide), zero_add, zero_add, zero_add]
    exact (Fin.sum_univ_one _).trans (e 0 (by omega) _ fun _ => (Nat.zero_add _).symm)
  | 1 =>
    rw [dif_neg (by decide), dif_neg (by decide), dif_pos (by decide), dif_neg (by decide), zero_add, zero_add, add_zero]
    exact (Fin.sum_univ_one _).trans (e 1 (by omega) _ fun _ => rfl)
  | 2 =>
    rw [dif_neg (by decide), dif_pos (by decide), dif_neg (by decide), dif_neg (by decide), zero_add, add_zero, add_zero]
    exact (Fin.sum_univ_one _).trans (e 2 (by omega) _ fun _ => rfl)
  | 3 =>
    rw [dif_pos (by decide), dif_neg (by decide), dif_neg (by decide), dif_neg (by decide), add_zero, add_zero, add_zero]
    exact (Fin.sum_univ_one _).trans (e 3 (by omega) _ fun _ => rfl)

/-- Arguments that are real numbers where the precondition asks it. -/
structure Args (x0 : S4096x5152.Idx → EReal) (x1 : S4x3072.Idx → EReal) (x2 : S3072.Idx → EReal) (x3 : S4096x3072.Idx → EReal) : Prop where
  x : ∃ f : Fin 4096 → Fin 3072 → ℝ, ∀ t c, x0 (ix2 t ⟨2048 + c.val, by omega⟩) = f t c
  w : ∃ f : S4x3072.Idx → ℝ, x1 = fun i => (f i : EReal)
  b : ∃ f : S3072.Idx → ℝ, x2 = fun i => (f i : EReal)
  e : ∃ f : S4096x3072.Idx → ℝ, x3 = fun i => (f i : EReal)

variable {x0 x1 x2 x3}

theorem v34_eq (H : Args x0 x1 x2 x3) (t : Fin 4096) (c : Fin 3072) :
    val_main_v34 (F := Ideal) x0 x1 x2 x3 (ix2 t c) = D x0 x1 x2 x3 t c := by
  obtain ⟨f, hf⟩ := H.x
  obtain ⟨w, rfl⟩ := H.w
  obtain ⟨b, rfl⟩ := H.b
  obtain ⟨e, rfl⟩ := H.e
  have hc : ∀ n, n < 4096 + 8 → ∃ r : ℝ, col x0 c n = r := fun n hn => by
    unfold col
    by_cases h : n < 8
    · exact ⟨0, pre_of_lt h⟩
    · exact ⟨_, (pre_of_le (by omega) (by omega)).trans (hf _ _)⟩
  rw [v34_apply, v32_apply]
  unfold D conv
  obtain ⟨r0, h0⟩ := hc (t + 8 - 3) (by omega)
  obtain ⟨r1, h1⟩ := hc (t + 8 - 2) (by omega)
  obtain ⟨r2, h2⟩ := hc (t + 8 - 1) (by omega)
  obtain ⟨r3, h3⟩ := hc (t + 8) (by omega)
  rw [h0, h1, h2, h3]
  simp only [← EReal.coe_mul, ← EReal.coe_add]
  exact dlogi_eq _ _

/-- The reference ends with the three. -/
theorem reference_run (m : (ℓ : Loc nD τ sig) → Buf (Elt Ideal) ℓ) (g : Dev nD → PrngReg) (H : ∀ c : Dev nD, Args (m ((c.tc : Thread nD τ).loc main_arg0))
      (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v34) = dOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v64) = dwOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_v57) = dbOut (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h1, h2, h3, h4⟩ := hr c
    refine ⟨h1.trans ?_, h2.trans ?_, h3.trans ?_, h4⟩
    · rw [Read.val_main_v34_eq]
      funext i
      idx_vars i
      exact v34_eq (H c) _ _
    · rw [Read.val_main_v64_eq]
      funext i
      idx_vars i
      exact (v64_apply _ _ _ _ _ _).trans (Finset.sum_congr rfl fun t _ => congrArg (· * _) (v34_eq (H c) t _))
    · rw [Read.val_main_v57_eq]
      funext i
      idx_vars i
      exact (v57_apply _ _ _ _ _).trans (Finset.sum_congr rfl fun t _ => v34_eq (H c) t _)

end Cert.SiluRefIdeal.Value

namespace Cert.Pre_silu_finite

instance facts : Facts where
  slices_S4096x5152_S4096x3072_0_2048 := by decide
  bcast_S_S4096x3072 := by decide
  bcast_S_S4x3072 := by decide
  bcast_S_S3072 := by decide

end Cert.Pre_silu_finite

namespace Cert.Silu
open Cert.SiluKernelIdeal Cert.SiluRefIdeal.Value

/-- The reference runs and leaves its arguments; it has no semaphores. -/
theorem reference_frame : Cert.quiescent_SiluRefIdeal := fun m g _ =>
  θ_run_mono (Cert.SiluRefIdeal.Value.run (F := Ideal) m g) fun r hr => ⟨fun c => (hr c).2.2.2, sem_eq_zero_of_no_sems (by decide) r.2⟩

/-- Arguments of finite size are arrays of real numbers. -/
theorem args (m : (ℓ : Loc nD τ sig) → Buf (Elt Ideal) ℓ) (hpre : Cert.Pre_SiluKernelIdeal_silu_finite m) (c : Dev nD) :
    Args (m ((c.tc : Thread nD τ).loc main_arg0)) (m ((c.tc : Thread nD τ).loc main_arg1)) (m ((c.tc : Thread nD τ).loc main_arg2))
      (m ((c.tc : Thread nD τ).loc main_arg3)) := by
  obtain ⟨h1, h2, h3, h4⟩ := hpre c
  refine ⟨?_, Reals.exists_reals fun i => Reals.ofBits_inf ▸ congrFun h2 i, Reals.exists_reals fun i => Reals.ofBits_inf ▸ congrFun h3 i,
    Reals.exists_reals fun i => Reals.ofBits_inf ▸ congrFun h4 i⟩
  obtain ⟨f, hf⟩ : ∃ f : S4096x3072.Idx → ℝ, extractStridedSlice S4096x3072 ![0, 2048] (m ((c.tc : Thread nD τ).loc main_arg0) : S4096x5152.Idx → EReal)
      Pre_silu_finite.facts.slices_S4096x5152_S4096x3072_0_2048 = fun i => (f i : EReal) :=
    Reals.exists_reals fun i => Reals.ofBits_inf ▸ congrFun h1 i
  refine ⟨fun t c' => f (ix2 t c'), fun t c' => Eq.trans ?_ (congrFun hf (ix2 t c'))⟩
  pointwise

/-- The kernel computes the Mamba convolution's gradient under its activation, at its input, its filter and its bias. -/
theorem algebraic : Cert.algebraic_SiluKernelIdeal_SiluRefIdeal_pre_silu_finite := by
  intro m g m' g' hpre hagree
  refine ⟨_, _, _, SiluKernelIdeal.Value.kernel_run m g, θ_run_mono (SiluRefIdeal.Value.reference_run m' g' fun c => ?_) fun r hr c => ?_⟩
  · rw [(hagree c).1, (hagree c).2.1, (hagree c).2.2.1, (hagree c).2.2.2]
    exact args m hpre c
  · obtain ⟨h1, h2, h3, h4⟩ := hr c
    rw [(hagree c).1, (hagree c).2.1, (hagree c).2.2.1, (hagree c).2.2.2] at h1 h2 h3
    exact ⟨h1, h2, h3, h4⟩

end Cert.Silu
end
-- ==== Proof.Xbc.lean ====
/- The Mamba convolution's input gradient, written between the gradients beside it: the kernel's blocks, the reference's
   stages, and their equation. -/
module

public import proofs.«01_k».proof.Proof.Halo
public import proofs.«01_k».proof.Proof.Gen.XbcKernelIdeal.Frame
public import proofs.«01_k».proof.Proof.Gen.XbcRefIdeal.Read
public import proofs.«01_k».proof.Proof.Gen.XbcRefIdeal.Run
public import proofs.«01_k».proof.Defs
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.XbcKernelIdeal.Value
open Cert.XbcKernelIdeal Cert.XbcKernelIdeal.Gen Cert.Halo

theorem pay2_apply (i : grid0.Coords) (n : S8x512.Idx → EReal) (r : Fin 8) (c : Fin 512) :
    k0_pay2 (F := Ideal) i n (ix2 r c) = keep ((i 1).val < 7) (n (ix2 r c)) := by
  unfold keep
  pointwise [k0_pay2]
  rw [show (Scalar.extui (Scalar.cmpi CmpIPredicate.slt (BitVec.ofNat 32 (i 1).val) 7#32) : BitVec 32).toInt = _ from notlast8_eq (i 1)]
  split <;> simp

/-- A block of the result: each row with the three rows after it. -/
theorem pay1_apply (i : grid0.Coords) (d : S512x512.Idx → EReal) (n : S8x512.Idx → EReal) (w : S4x512.Idx → EReal)
    (b : ℕ) (x : Fin 4096 → EReal) (c : Fin 512) (hd : ∀ r : Fin 512, d (ix2 r c) = ext x (b * 512 + r))
    (hn : ∀ q : Fin 8, keep ((i 1).val < 7) (n (ix2 q c)) = ext x (b * 512 + 512 + q)) (r : Fin 512) :
    k0_pay1 (F := Ideal) d (k0_pay2 i n) w (k0_pay3 i d n w) (k0_pay4 i d n) (k0_pay5 w) (ix2 r c)
      = ext x (b * 512 + r) * w (ix2 3 c) + ext x (b * 512 + r + 1) * w (ix2 2 c) + ext x (b * 512 + r + 2) * w (ix2 1 c)
        + ext x (b * 512 + r + 3) * w (ix2 0 c) := by
  pointwise [k0_pay1, k0_pay3, k0_pay4, k0_pay5]
  simp only [pay2_apply]
  have up := fun s => up_eq x 512 b (by omega) s (fun r => d (ix2 r c)) (fun q => keep ((i 1).val < 7) (n (ix2 q c))) hd hn r
  exact congrArg₂ (· + ·) (congrArg₂ (· + ·) (congrArg₂ (· + ·) (congrArg (· * _) (hd r))
      (congrArg (· * _) (up 1 ⟨_, Nat.mod_lt _ (by omega)⟩ rfl ⟨_, Nat.mod_lt _ (by omega)⟩ rfl ⟨_, by omega⟩ rfl)))
      (congrArg (· * _) (up 2 ⟨_, Nat.mod_lt _ (by omega)⟩ rfl ⟨_, Nat.mod_lt _ (by omega)⟩ rfl ⟨_, by omega⟩ rfl)))
    (congrArg (· * _) (up 3 ⟨_, Nat.mod_lt _ (by omega)⟩ rfl ⟨_, Nat.mod_lt _ (by omega)⟩ rfl ⟨_, by omega⟩ rfl))

theorem idx : ∀ t : Fin cfg0.N, win0_0.index t = ![t.val % 8, t.val / 8] ∧ win0_1.index t = ![min (t.val % 8 * 64 + 64) 511, t.val / 8]
    ∧ win0_2.index t = ![0, t.val / 8] ∧ win0_3.index t = ![t.val % 8, t.val / 8 + 4] ∧ (grid0.coords t 1).val = t.val % 8 :=
  (by decide +kernel : ∀ t : Fin grid0.N, _)

theorem lt48 (n : Fin cfg0.N) : n.val < 48 := by have := n.isLt; have : cfg0.N = 48 := N_0; omega

/-- The channel of column `c` of point `n`'s block. -/
def chan (n : Fin cfg0.N) (c : Fin 512) : Fin 3072 := ⟨n.val / 8 * 512 + c, by have := lt48 n; omega⟩

/-- A channel's gradient at row `t`: of the output's gradient at the rows that the row reaches. -/
def back (x : S4096x3072.Idx → EReal) (w : S4x3072.Idx → EReal) (t : Fin 4096) (j : Fin 3072) : EReal :=
  ext (fun t => x (ix2 t j)) t * w (ix2 3 j) + ext (fun t => x (ix2 t j)) (t + 1) * w (ix2 2 j) + ext (fun t => x (ix2 t j)) (t + 2) * w (ix2 1 j)
    + ext (fun t => x (ix2 t j)) (t + 3) * w (ix2 0 j)

/-- The projection's gradient: the convolution's in its columns, the ones given beside them. -/
def out (x : S4096x3072.Idx → EReal) (w : S4x3072.Idx → EReal) (z : S4096x5376.Idx → EReal) : S4096x5376.Idx → EReal :=
  fun i => if h : 2048 ≤ (i 1).val ∧ (i 1).val < 5120 then back x w (i 0) ⟨(i 1).val - 2048, by omega⟩ else z i

variable (m : (ℓ : Loc nD τ sig) → Buf (Elt Ideal) ℓ) (c : Dev nD)

/-- The arguments. -/
abbrev X : S4096x3072.Idx → EReal := m ((c.tc : Thread nD τ).loc main_arg0)
abbrev W : S4x3072.Idx → EReal := m ((c.tc : Thread nD τ).loc main_arg1)
abbrev Z : S4096x5376.Idx → EReal := m ((c.tc : Thread nD τ).loc main_arg2)

variable {m c}

theorem iblk_d (n : Fin cfg0.N) (r j : Fin 512) :
    iblk m c 0 n (ix2 r j : S512x512.Idx) = ext (fun t => X m c (ix2 t (chan n j))) (n.val % 8 * 512 + r) := by
  have := lt48 n
  rw [ext_of_lt (by omega : n.val % 8 * 512 + r.val < 4096)]
  blk_point [iblk, V, idx n, chan]

theorem iblk_n (n : Fin cfg0.N) (q : Fin 8) (j : Fin 512) :
    keep ((grid0.coords n 1).val < 7) (iblk m c 1 n (ix2 q j : S8x512.Idx))
      = ext (fun t => X m c (ix2 t (chan n j))) (n.val % 8 * 512 + 512 + q) := by
  have := lt48 n
  have hi := (idx n).2.2.2.2
  by_cases h : n.val % 8 < 7
  · rw [ext_of_lt (by omega : n.val % 8 * 512 + 512 + q.val < 4096), keep_of (by omega)]
    blk_point [iblk, V, idx n, chan]
  · rw [ext_of_le (by omega), keep_of_not (by omega)]

theorem iblk_w (n : Fin cfg0.N) (k : Fin 4) (j : Fin 512) : iblk m c 2 n (ix2 k j : S4x512.Idx) = W m c (ix2 k (chan n j)) := by
  blk_point [iblk, V, idx n, chan]

/-- The columns' blocks are each written once; the array held the other columns before. -/
theorem final : (dats m 0 c).arrAt 3 cfg0.N = out (X m c) (W m c) (Z m c) := by
  refine (dats m 0 c).arrAt_eq_of_coversWhere_of_agree 3 _ (fun β => 4 ≤ β (1 : Fin 2) ∧ β (1 : Fin 2) < 10) (by decide +kernel) (fun n _ y => ?_) (fun j hj => ?_)
  · blk_simp
    rw [after0_3]
    unfold outsAt0
    frame_out
    generalize e : (win0 3).xinj (grid0.coords n) y = z
    have e0 : (y 0).val = (z 0).val := by rw [← e]
    have e1 : (y 1).val = (z 1).val := by rw [← e]
    have h0 : (z 0).val < 512 := (z 0).isLt
    have h1 : (z 1).val < 512 := (z 1).isLt
    idx_vars z
    refine (pay1_apply (grid0.coords n) (iblk m c 0 n) (iblk m c 1 n) (iblk m c 2 n) (n.val % 8) (fun t => X m c (ix2 t (chan n z1))) z1
      (fun r => iblk_d n r z1) (fun q => iblk_n n q z1) z0).trans ?_
    rw [iblk_w, iblk_w, iblk_w, iblk_w]
    have := lt48 n
    refine Eq.trans (b := back (X m c) (W m c) ⟨n.val % 8 * 512 + z0, by omega⟩ (chan n z1)) rfl (Eq.trans (b := out (X m c) (W m c) (Z m c)
      (ix2 ⟨n.val % 8 * 512 + z0, by omega⟩ ⟨(n.val / 8 + 4) * 512 + z1, by omega⟩)) ?_ (congrArg (out (X m c) (W m c) (Z m c)) ?_))
    · refine Eq.trans ?_ (dif_pos ⟨show 2048 ≤ (n.val / 8 + 4) * 512 + z1.val by omega, show (n.val / 8 + 4) * 512 + z1.val < 5120 by omega⟩).symm
      exact congrArg (back _ _ _) (Fin.ext (show n.val / 8 * 512 + z1.val = (n.val / 8 + 4) * 512 + z1.val - 2048 by omega))
    · funext a
      refine Fin.ext ?_
      match a with
      | ⟨0, _⟩ =>
        refine Eq.symm ?_
        blk_simp [idx n]
        exact congrArg (n.val % 8 * 512 + ·) e0
      | ⟨1, _⟩ =>
        refine Eq.symm ?_
        blk_simp [idx n]
        exact congrArg ((n.val / 8 + 4) * 512 + ·) e1
  · blk_simp [Pipeline.Window.cell_apply] at hj ⊢
    have hV : (dats m 0 c).A 3 = truncf (F := Ideal) .bf16 (Z m c) bitsLt_bf16_f32 := by
      rw [A_eq]
      unfold V
      after_results_simp <;> rfl
    rw [hV]
    refine Eq.trans ?_ (dif_neg (show ¬ (2048 ≤ (j 1).val ∧ (j 1).val < 5120) by omega)).symm
    rfl

/-- The kernel ends with the gradient. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = out (X m c) (W m c) (Z m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 3).trans final, hr.1 c⟩

end Cert.XbcKernelIdeal.Value

namespace Cert.XbcRefIdeal.Value
open Cert.XbcRefIdeal Cert.XbcRefIdeal.Read Cert.Halo Cert.XbcKernelIdeal.Value

theorem v61_apply (x0 : S4096x3072.Idx → EReal) (x1 : S4x3072.Idx → EReal) (t : Fin 4096) (c : Fin 3072) :
    val_main_v61 (F := Ideal) x0 x1 (ix2 t c) = back x0 x1 t c := by
  pointwise [val_main_v61, val_main_v59, val_main_v58, val_main_v55, val_main_v54, val_main_v51, val_main_v50, val_main_v47, val_main_v46,
    val_main_v49, val_main_v53, val_main_v57, val_main_v43, val_main_v44, val_main_v45, val_main_v48, val_main_v52, val_main_v56,
    val_main_v32, val_main_v31, val_main_v30, val_main_v25, val_main_v24, val_main_v23, val_main_v18, val_main_v17, val_main_v16,
    val_main_v9, val_main_v8, val_main_v7, val_main_cst_5, val_main_cst_6, val_main_cst_7, val_main_cst_8]
  refine congrArg₂ (· + ·) (congrArg₂ (· + ·) (congrArg₂ (· + ·) (congrArg (· * _) (ext_of_lt (x := fun t => x0 (ix2 t c)) t.isLt).symm) ?_) ?_) ?_
  · split
    · rw [ext_of_lt (by omega)]
      exact congrArg (fun t => x0 (ix2 t c) * x1 (ix2 2 c)) (Fin.ext (by dsimp only; omega))
    · rw [ext_of_le (by omega), zero_mul]
  · split
    · rw [ext_of_lt (by omega)]
      exact congrArg (fun t => x0 (ix2 t c) * x1 (ix2 1 c)) (Fin.ext (by dsimp only; omega))
    · rw [ext_of_le (by omega), zero_mul]
  · split
    · rw [ext_of_lt (by omega)]
      exact congrArg (fun t => x0 (ix2 t c) * x1 (ix2 0 c)) (Fin.ext (by dsimp only; omega))
    · rw [ext_of_le (by omega), zero_mul]

theorem v64_apply (x0 : S4096x3072.Idx → EReal) (x1 : S4x3072.Idx → EReal) (x2 : S4096x5376.Idx → EReal) (t : Fin 4096) (c : Fin 5376) :
    val_main_v64 (F := Ideal) x0 x1 x2 (ix2 t c) = out x0 x1 x2 (ix2 t c) := by
  pointwise [val_main_v64, val_main_v63, val_main_v62, val_main_v42, val_main_v41, val_main_v40, val_main_v39, val_main_v38, val_main_cst_3,
    val_main_cst_4, val_main_cst_9]
  rw [show out x0 x1 x2 (ix2 t c) = if h : 2048 ≤ c.val ∧ c.val < 5120 then back x0 x1 t ⟨c.val - 2048, by omega⟩ else x2 (ix2 t c) from rfl]
  by_cases h : 2048 ≤ c.val ∧ c.val < 5120
  · rw [dif_neg (by omega), dif_neg (by omega), dif_pos (by omega), dif_pos h, v61_apply, zero_add, zero_add]
  · rw [dif_neg (by omega : ¬ (2048 ≤ c.val ∧ c.val - 2048 < 3072)), dif_neg h, add_zero]
    by_cases h' : c.val < 2048
    · rw [dif_neg (by omega), dif_pos h', zero_add]
    · rw [dif_pos (by omega), dif_neg h', add_zero]
      exact congrArg (fun c => x2 (ix2 t c)) (Fin.ext (by dsimp only; omega))

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v64)
        = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v64_eq]
    funext i
    idx_vars i
    exact v64_apply _ _ _ _ _

end Cert.XbcRefIdeal.Value

namespace Cert.Xbc

/-- The reference runs and leaves its arguments; it has no semaphores. -/
theorem reference_frame : Cert.quiescent_XbcRefIdeal := fun m g _ =>
  θ_run_mono (Cert.XbcRefIdeal.Value.run (F := Ideal) m g) fun r hr => ⟨fun c => (hr c).2, sem_eq_zero_of_no_sems (by decide) r.2⟩

/-- The kernel computes the Mamba convolution's gradient at its input. -/
theorem algebraic : Cert.algebraic_XbcKernelIdeal_XbcRefIdeal := by
  intro m g m' g' _ hagree
  refine ⟨_, XbcKernelIdeal.Value.kernel_run m g, θ_run_mono (XbcRefIdeal.Value.reference_run m' g') fun r hr c => ?_⟩
  obtain ⟨h1, h2⟩ := hr c
  rw [(hagree c).1, (hagree c).2.1, (hagree c).2.2] at h1
  exact ⟨h1, h2⟩

end Cert.Xbc
end
-- ==== Proof.Norm.lean ====
/- One row of the norm's gradient, as the kernel writes it and as the reference does. -/
module

public import proofs.«01_k».proof.Proof.Reals

@[expose] public section

noncomputable section

open Idealize.ShloMosaic

namespace Cert.Norm

/-- The mean square of a row, with epsilon, and its inverse root. -/
def meansq (h : Fin 1024 → EReal) : EReal := Ideal.div (∑ j, h j * h j) (Ideal.ofBits .f32 0x44800000#32) + Ideal.ofBits .f32 0x358637BD#32
def scale (h : Fin 1024 → EReal) : EReal := Ideal.rsqrt (meansq h)

/-- The kernel's gradient at the norm's input, over a residual. -/
def dinK (h w u : Fin 1024 → EReal) (r : EReal) (j : Fin 1024) : EReal :=
  r + scale h * (u j * w j - h j * scale h * Ideal.div (∑ q, u q * w q * (h q * scale h)) (Ideal.ofBits .f32 0x44800000#32))

/-- The reference's factor of the row, and its gradient at the norm's input. -/
def factor (h w u : Fin 1024 → EReal) : EReal :=
  Ideal.div ((∑ q, h q * (u q * w q)) * (Ideal.ofBits .f32 0xBF000000#32 * Ideal.div (scale h) (meansq h))) (Ideal.ofBits .f32 0x44800000#32)
def dinR (h w u : Fin 1024 → EReal) (r : EReal) (j : Fin 1024) : EReal :=
  r + u j * w j * scale h + h j * factor h w u + factor h w u * h j

theorem dinR_eq (h w u : Fin 1024 → ℝ) (r : EReal) (j : Fin 1024) :
    dinR (fun j => h j) (fun j => w j) (fun j => u j) r j = dinK (fun j => h j) (fun j => w j) (fun j => u j) r j := by
  obtain ⟨v, hv, hp⟩ : ∃ v : ℝ, meansq (fun j => (h j : EReal)) = (v : EReal) ∧ 0 < v := by
    refine ⟨(∑ j, h j * h j) / 1024 + Reals.eps, ?_, ?_⟩
    · unfold meansq
      simp only [← EReal.coe_mul]
      rw [Reals.sum_coe, Reals.ofBits_1024, Reals.ofBits_eps, Reals.div_coe_coe _ (by norm_num), ← EReal.coe_add]
    · have := Reals.eps_pos
      have : 0 ≤ ∑ j, h j * h j := Finset.sum_nonneg fun j _ => mul_self_nonneg _
      positivity
  have hs : scale (fun j => (h j : EReal)) = (((Real.sqrt v)⁻¹ : ℝ) : EReal) := by
    unfold scale
    rw [hv, Reals.rsqrt_coe_pos hp]
  have hq : (Real.sqrt v)⁻¹ * (Real.sqrt v)⁻¹ = v⁻¹ := by
    rw [← mul_inv, Real.mul_self_sqrt hp.le]
  unfold dinR dinK factor
  rw [hs, hv, Reals.ofBits_1024, Reals.ofBits_neg_half, Reals.div_coe_coe _ hp.ne']
  generalize (Real.sqrt v)⁻¹ = s at hq
  simp only [← EReal.coe_mul]
  rw [Reals.sum_coe, Reals.sum_coe]
  simp only [← EReal.coe_mul, Reals.div_coe_coe _ (show (1024 : ℝ) ≠ 0 by norm_num), ← EReal.coe_sub, add_assoc, ← EReal.coe_add]
  refine congrArg (fun x : ℝ => r + (x : EReal)) ?_
  have e : ∑ q, u q * w q * (h q * s) = s * ∑ q, h q * (u q * w q) := by
    rw [Finset.mul_sum]
    exact Finset.sum_congr rfl fun q _ => by ring
  rw [e, div_eq_mul_inv s v, ← hq]
  ring

end Cert.Norm
end
-- ==== Proof.Q.lean ====
/- The query projection's gradient at its normalised input: the kernel's arrays, the reference's, and the two claims. -/
module

public import proofs.«01_k».proof.Proof.Norm
public import proofs.«01_k».proof.Proof.Gen.QKernelIdeal.Frame
public import proofs.«01_k».proof.Proof.Gen.QRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.QKernelIdeal.Value
open Cert.QKernelIdeal Cert.QKernelIdeal.Gen Cert.Norm

theorem pay4_apply (h : S1024x1024.Idx → EReal) (r : Fin 1024) : k0_pay4 (F := Ideal) h (ix2 r 0) = scale fun j => h (ix2 r j) := by
  unfold scale meansq
  pointwise [k0_pay4]

theorem pay6_apply (u h : S1024x1024.Idx → EReal) (w : S1x1024.Idx → EReal) (e : S1024x1024.Idx → EReal) (r j : Fin 1024) :
    k0_pay6 (F := Ideal) u h w e (ix2 r j) = dinK (fun j => h (ix2 r j)) (fun j => w (ix2 0 j)) (fun j => u (ix2 r j)) (e (ix2 r j)) j := by
  unfold dinK
  simp only [← pay4_apply]
  pointwise [k0_pay6, k0_pay5]

theorem pay7_apply (u h : S1024x1024.Idx → EReal) (j : Fin 1024) :
    k0_pay7 (F := Ideal) u h (ix2 0 j) = ∑ r : Fin 1024, u (ix2 r j) * (h (ix2 r j) * scale fun j => h (ix2 r j)) := by
  simp only [← pay4_apply]
  pointwise [k0_pay7, k0_pay5]

theorem pay3_apply (a o : S1x1024.Idx → EReal) (j : Fin 1024) : k0_pay3 (F := Ideal) a o (ix2 0 j) = o (ix2 0 j) + a (ix2 0 j) := by
  pointwise [k0_pay3]

theorem pay2_apply (d w : S1024x1024.Idx → EReal) (r j : Fin 1024) :
    k0_pay2 (F := Ideal) (k0_pay1 (F := Ideal)) d w (ix2 r j) = ∑ q : Fin 1024, d (ix2 r q) * w (ix2 j q) := by
  pointwise [k0_pay2, k0_pay1]

variable (m : (ℓ : Loc nD τ sig) → Buf (Elt Ideal) ℓ) (c : Dev nD)

/-- One block of the product's gradient. -/
def blockU (n : Fin cfg0.N) : S1024x1024.Idx → EReal := k0_pay2 (F := Ideal) (k0_pay1 (F := Ideal)) (iblk m c 0 n) (iblk m c 1 n)

theorem lt4 (n : Fin cfg0.N) : n.val < 4 := by have := n.isLt; have : cfg0.N = 4 := N_0; omega

theorem outs0 (n : Fin cfg0.N) : (outsAt0 m c n.val n.isLt).1 = k0_pay6 (F := Ideal) (blockU m c n) (iblk m c 2 n) (iblk m c 3 n) (iblk m c 4 n) := by
  have := lt4 n
  by_cases h : n.val % 4 = 0
  · rw [outsAt0_A m c n h (by omega)]
    frame_out
    rfl
  · rw [outsAt0_B m c n h (by omega)]
    frame_out
    rfl

theorem outs1_A (n : Fin cfg0.N) (h : n.val % 4 = 0) (j : Fin 1024) :
    (outsAt0 m c n.val n.isLt).2 (ix2 0 j) = k0_pay7 (F := Ideal) (blockU m c n) (iblk m c 2 n) (ix2 0 j) := by
  have := lt4 n
  rw [outsAt0_A m c n h (by omega)]
  frame_out
  rfl

theorem outs1_B (n : Fin cfg0.N) (h : ¬ n.val % 4 = 0) (j : Fin 1024) :
    (outsAt0 m c n.val n.isLt).2 (ix2 0 j) = (outsAt0 m c (n.val - 1) (by omega)).2 (ix2 0 j) + k0_pay7 (F := Ideal) (blockU m c n) (iblk m c 2 n) (ix2 0 j) := by
  have := lt4 n
  rw [outsAt0_B m c n h (by omega)]
  frame_out
  exact pay3_apply _ _ _

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The row of the sequence that is row `r` of point `n`'s block. -/
def row (n : Fin cfg0.N) (r : Fin 1024) : Fin 4096 := ⟨n.val * 1024 + r, by have := lt4 n; omega⟩

/-- The arguments. -/
abbrev DY : S4096x1024.Idx → EReal := m ((c.tc : Thread nD τ).loc main_arg0)
abbrev W : S1024x1024.Idx → EReal := m ((c.tc : Thread nD τ).loc main_arg1)
abbrev H : S4096x1024.Idx → EReal := m ((c.tc : Thread nD τ).loc main_arg2)
abbrev NW : S1024.Idx → EReal := m ((c.tc : Thread nD τ).loc main_arg3)
abbrev R : S4096x1024.Idx → EReal := m ((c.tc : Thread nD τ).loc main_arg4)

variable {m c}

theorem iblk_dy (n : Fin cfg0.N) (r j : Fin 1024) : iblk m c 0 n (ix2 r j : S1024x1024.Idx) = DY m c (ix2 (row n r) j) := by
  have hV : V m c (Pipeline.arrRef spec0 0) = truncf (F := Ideal) .bf16 (DY m c) bitsLt_bf16_f32 := by
    unfold V
    after_results_simp <;> rfl
  refine Eq.trans (b := V m c (Pipeline.arrRef spec0 0) (ix2 (row n r) j : S4096x1024.Idx)) ?_ ?_
  · blk_point [iblk, idx n, row]
  · rw [hV]
    pointwise

theorem iblk_w (n : Fin cfg0.N) (r j : Fin 1024) : iblk m c 1 n (ix2 r j : S1024x1024.Idx) = W m c (ix2 r j) := by
  have hV : V m c (Pipeline.arrRef spec0 1) = truncf (F := Ideal) .bf16 (W m c) bitsLt_bf16_f32 := by
    unfold V
    after_results_simp <;> rfl
  refine Eq.trans (b := V m c (Pipeline.arrRef spec0 1) (ix2 r j : S1024x1024.Idx)) ?_ ?_
  · blk_point [iblk, idx n]
  · rw [hV]
    pointwise

theorem iblk_h (n : Fin cfg0.N) (r j : Fin 1024) : iblk m c 2 n (ix2 r j : S1024x1024.Idx) = H m c (ix2 (row n r) j) := by
  blk_point [iblk, V, idx n, row]

theorem iblk_nw (n : Fin cfg0.N) (j : Fin 1024) : iblk m c 3 n (ix2 0 j : S1x1024.Idx) = NW m c (ix1 j) := by
  have hV : V m c (Pipeline.arrRef spec0 3) = shapeCast S1x1024 (NW m c) shapeCasts_S1024_S1x1024 := by
    unfold V
    after_results_simp <;> rfl
  refine Eq.trans (b := V m c (Pipeline.arrRef spec0 3) (ix2 0 j : S1x1024.Idx)) ?_ ?_
  · blk_point [iblk, idx n]
  · rw [hV]
    pointwise

theorem iblk_r (n : Fin cfg0.N) (r j : Fin 1024) : iblk m c 4 n (ix2 r j : S1024x1024.Idx) = R m c (ix2 (row n r) j) := by
  blk_point [iblk, V, idx n, row]

/-- The gradient at the projection's input. -/
def U (d : S4096x1024.Idx → EReal) (w : S1024x1024.Idx → EReal) (t : Fin 4096) (j : Fin 1024) : EReal := ∑ q : Fin 1024, d (ix2 t q) * w (ix2 j q)

/-- The two results as arrays. -/
def dhOut (d : S4096x1024.Idx → EReal) (w : S1024x1024.Idx → EReal) (h : S4096x1024.Idx → EReal) (nw : S1024.Idx → EReal) (r : S4096x1024.Idx → EReal) : S4096x1024.Idx → EReal :=
  fun i => dinK (fun j => h (ix2 (i 0) j)) (fun j => nw (ix1 j)) (U d w (i 0)) (r i) (i 1)
def dnwOut (d : S4096x1024.Idx → EReal) (w : S1024x1024.Idx → EReal) (h : S4096x1024.Idx → EReal) : S1024.Idx → EReal :=
  fun i => ∑ t : Fin 4096, U d w t (i 0) * (h (ix2 t (i 0)) * scale fun j => h (ix2 t j))
def dnwRow (d : S4096x1024.Idx → EReal) (w : S1024x1024.Idx → EReal) (h : S4096x1024.Idx → EReal) : S1x1024.Idx → EReal :=
  fun i => dnwOut d w h (ix1 (i 1))

theorem blockU_apply (n : Fin cfg0.N) (r j : Fin 1024) : blockU m c n (ix2 r j) = U (DY m c) (W m c) (row n r) j := by
  unfold blockU U
  rw [pay2_apply]
  exact Finset.sum_congr rfl fun q _ => congrArg₂ (· * ·) (iblk_dy n r q) (iblk_w n j q)

theorem pay7_block (n : Fin cfg0.N) (j : Fin 1024) : k0_pay7 (F := Ideal) (blockU m c n) (iblk m c 2 n) (ix2 0 j)
    = ∑ r : Fin 1024, U (DY m c) (W m c) (row n r) j * (H m c (ix2 (row n r) j) * scale fun j => H m c (ix2 (row n r) j)) := by
  rw [pay7_apply]
  simp only [iblk_h, blockU_apply]

theorem final_dh : (dats m 0 c).arrAt 5 cfg0.N = dhOut (DY m c) (W m c) (H m c) (NW m c) (R m c) := by
  refine (dats m 0 c).arrAt_eq_of_covers 5 _ (by decide +kernel) fun n _ y => ?_
  blk_simp
  rw [after0_5, outs0]
  idx_vars y
  refine Eq.trans (b := dhOut (DY m c) (W m c) (H m c) (NW m c) (R m c) (ix2 (row n y0) y1)) ?_ ?_
  · rw [pay6_apply]
    simp only [iblk_h, iblk_nw, iblk_r, blockU_apply]
    rfl
  · generalize dhOut (DY m c) (W m c) (H m c) (NW m c) (R m c) = Y
    blk_point [idx n, row]

theorem flush6 : ∀ t : Fin cfg0.N, win0_6.flush t = true → t.val % 4 = 3 := (by decide +kernel : ∀ t : Fin grid0.N, _)

theorem row_eq (x : S1x1024.Idx) : x = ix2 0 (x 1) := by
  idx_vars x
  exact congrArg (ix2 · x1) (Subsingleton.elim _ _)

theorem final_dnw : (dats m 0 c).arrAt 6 cfg0.N = dnwRow (DY m c) (W m c) (H m c) := by
  refine (dats m 0 c).arrAt_eq_of_covers 6 _ (by decide +kernel) fun n hn y => ?_
  have h3 := flush6 n hn
  have := lt4 n
  blk_simp
  rw [after0_6, row_eq y]
  generalize y 1 = y1
  refine (Pipeline.eq_sum_fin_of_reset_step_apply_of_flush (N := cfg0.N) (M := EReal) (ι := S1x1024.Idx) (fun n h => (outsAt0 m c n h).2) 4 (fun _ => 0)
    (fun n i => k0_pay7 (F := Ideal) (blockU m c n) (iblk m c 2 n) (ix2 0 (i 1)))
    (fun n h0 i => by rw [row_eq i]; exact (outs1_A m c n h0 (i 1)).trans (zero_add _).symm) (fun n h0 i => by rw [row_eq i]; exact outs1_B m c n h0 (i 1)) n h3 (ix2 0 y1)).trans ?_
  rw [zero_add]
  refine Eq.trans (b := dnwRow (DY m c) (W m c) (H m c) (ix2 0 y1)) ?_ ?_
  · refine Eq.trans ?_ (Fin.sum_mul_add_fin 4 1024 (fun t => U (DY m c) (W m c) t y1 * (H m c (ix2 t y1) * scale fun j => H m c (ix2 t j))) rfl)
    refine Finset.sum_congr rfl fun s _ => (pay7_block _ _).trans (Finset.sum_congr rfl fun r _ => ?_)
    have hr : row (⟨4 * (n.val / 4) + s.val, Pipeline.run_point_lt_of_flush n h3 s⟩ : Fin cfg0.N) r = ⟨s.val * 1024 + r.val, by omega⟩ := by
      refine Fin.ext ?_
      show (4 * (n.val / 4) + s.val) * 1024 + r.val = s.val * 1024 + r.val
      omega
    rw [hr]
    rfl
  · generalize dnwRow (DY m c) (W m c) (H m c) = Y
    blk_point [idx n]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host line after the kernel flattens the norm weight's gradient. -/
theorem tail_dnw : Pipeline.afterTail₀ cfgs (dats m) 0 (V0 m) [hostOps1] c main_v4 = dnwOut (DY m c) (W m c) (H m c) := by
  have e : left m c (Proc.devRef .tc (Pipeline.arrRef spec0 6)) = dnwRow (DY m c) (W m c) (H m c) :=
    (Pipeline.withArrays_arr spec0 winFacts0.arr_inj c (V0 m c) (fun w => (dats m 0 c).arrAt w cfg0.N) 6).trans final_dnw
  show StableHlo.after hostOps1 (left m c) (Proc.devRef .tc main_v4) = _
  generalize left m c = W' at e
  after_results_simp
  rw [show W' (Proc.devRef .tc main_v3_1) = _ from e]
  funext j
  idx_vars j
  pointwise
  rfl

/-- The kernel ends with the two. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3_0) = dhOut (DY m c) (W m c) (H m c) (NW m c) (R m c)
      ∧ r.2.mem ((c.tc : Thread nD τ).loc main_v4) = dnwOut (DY m c) (W m c) (H m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (Gen.unchanged m g) (Gen.run_main m g)) fun r hr c =>
    ⟨((hr.2 c).1 5).trans final_dh, ((hr.2 c).2 main_v4 (Pipeline.mem_restRefs_of main_v4 rfl (by decide))).trans tail_dnw, hr.1 c⟩

end Cert.QKernelIdeal.Value

namespace Cert.QRefIdeal.Value
open Cert.QRefIdeal Cert.QRefIdeal.Read Cert.Norm Cert.QKernelIdeal.Value

variable (x0 : S4096x1024.Idx → EReal) (x1 : S1024x1024.Idx → EReal) (x2 : S4096x1024.Idx → EReal) (x3 : S1024.Idx → EReal) (x4 : S4096x1024.Idx → EReal)

theorem v6_apply (t : Fin 4096) : val_main_v6 (F := Ideal) x2 (ix2 t 0) = meansq fun j => x2 (ix2 t j) := by
  unfold meansq
  pointwise [val_main_v6, val_main_v5, val_main_v4, val_main_v3, val_main_v2, val_main_v1, val_main_v0, val_main_cst, val_main_cst_0, val_main_cst_1]

theorem v7_apply (t : Fin 4096) : val_main_v7 (F := Ideal) x2 (ix2 t 0) = scale fun j => x2 (ix2 t j) := by
  unfold scale
  rw [← v6_apply]
  pointwise [val_main_v7]

theorem v17_apply (t : Fin 4096) (j : Fin 1024) : val_main_v17 (F := Ideal) x0 x1 (ix2 t j) = U x0 x1 t j := by
  unfold U
  pointwise [val_main_v17]

theorem v23_apply (j : Fin 1024) : val_main_v23 (F := Ideal) x0 x1 x2 (ix1 j) = dnwOut x0 x1 x2 (ix1 j) := by
  pointwise [val_main_v23, val_main_v20, val_main_v19, val_main_v18, val_main_v12, val_main_v11, val_main_cst_3, val_main_cst_4]
  refine (Fin.sum_univ_one _).trans (Finset.sum_congr rfl fun t _ => ?_)
  rw [v7_apply, v17_apply, mul_comm]
  rfl

theorem v34_apply (t : Fin 4096) (j : Fin 1024) : val_main_v34 (F := Ideal) x0 x1 x2 x3 (ix2 t j)
    = factor (fun j => x2 (ix2 t j)) (fun j => x3 (ix1 j)) (U x0 x1 t) := by
  unfold factor
  rw [← v6_apply, ← v7_apply]
  simp only [← v17_apply]
  pointwise [val_main_v34, val_main_v33, val_main_v32, val_main_v31, val_main_v30, val_main_v26, val_main_v25, val_main_v24, val_main_v22, val_main_v21, val_main_v13,
    val_main_v10, val_main_v9, val_main_v8, val_main_cst_2, val_main_cst_5, val_main_cst_6, val_main_cst_7]
  exact Fin.sum_univ_one _

theorem v38_apply (t : Fin 4096) (j : Fin 1024) : val_main_v38 (F := Ideal) x0 x1 x2 x3 x4 (ix2 t j)
    = dinR (fun j => x2 (ix2 t j)) (fun j => x3 (ix1 j)) (U x0 x1 t) (x4 (ix2 t j)) j := by
  unfold dinR
  rw [← v34_apply x0 x1 x2 x3 t j, ← v7_apply, ← v17_apply]
  pointwise [val_main_v38, val_main_v37, val_main_v36, val_main_v35, val_main_v29, val_main_v28, val_main_v27, val_main_v22, val_main_v21, val_main_v13]

/-- Arguments that are real numbers where the precondition asks it. -/
structure Args (x0 : S4096x1024.Idx → EReal) (x1 : S1024x1024.Idx → EReal) (x2 : S4096x1024.Idx → EReal) (x3 : S1024.Idx → EReal) : Prop where
  d : ∃ f : S4096x1024.Idx → ℝ, x0 = fun i => (f i : EReal)
  w : ∃ f : S1024x1024.Idx → ℝ, x1 = fun i => (f i : EReal)
  h : ∃ f : S4096x1024.Idx → ℝ, x2 = fun i => (f i : EReal)
  nw : ∃ f : S1024.Idx → ℝ, x3 = fun i => (f i : EReal)

variable {x0 x1 x2 x3 x4}

theorem v38_eq (A : Args x0 x1 x2 x3) (t : Fin 4096) (j : Fin 1024) :
    val_main_v38 (F := Ideal) x0 x1 x2 x3 x4 (ix2 t j) = dhOut x0 x1 x2 x3 x4 (ix2 t j) := by
  obtain ⟨d, rfl⟩ := A.d
  obtain ⟨w, rfl⟩ := A.w
  obtain ⟨h, rfl⟩ := A.h
  obtain ⟨nw, rfl⟩ := A.nw
  rw [v38_apply]
  have hu : U (fun i => (d i : EReal)) (fun i => (w i : EReal)) t = fun j => ((∑ q : Fin 1024, d (ix2 t q) * w (ix2 j q) : ℝ) : EReal) := by
    funext j
    unfold U
    simp only [← EReal.coe_mul]
    exact Reals.sum_coe _ _
  unfold dhOut
  show _ = dinK _ _ (U (fun i => (d i : EReal)) (fun i => (w i : EReal)) t) _ j
  rw [hu]
  exact dinR_eq _ _ _ _ _

/-- The reference ends with the two. -/
theorem reference_run (m : (ℓ : Loc nD τ sig) → Buf (Elt Ideal) ℓ) (g : Dev nD → PrngReg) (A : ∀ c : Dev nD, Args (m ((c.tc : Thread nD τ).loc main_arg0))
      (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v38) = dhOut (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_v23) = dnwOut (m ((c.tc : Thread nD τ).loc main_arg0)) (m ((c.tc : Thread nD τ).loc main_arg1))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Value.run m g) fun r hr c => by
    obtain ⟨h1, h2, h3⟩ := hr c
    refine ⟨h1.trans ?_, h2.trans ?_, h3⟩
    · rw [Read.val_main_v38_eq]
      funext i
      idx_vars i
      exact v38_eq (A c) _ _
    · rw [Read.val_main_v23_eq]
      funext i
      idx_vars i
      exact v23_apply _ _ _ _

end Cert.QRefIdeal.Value

namespace Cert.Pre_q_finite

instance facts : Facts where
  bcast_S_S4096x1024 := by decide
  bcast_S_S1024x1024 := by decide
  bcast_S_S1024 := by decide

end Cert.Pre_q_finite

namespace Cert.Q
open Cert.QKernelIdeal Cert.QRefIdeal.Value

/-- The reference runs and leaves its arguments; it has no semaphores. -/
theorem reference_frame : Cert.quiescent_QRefIdeal := fun m g _ =>
  θ_run_mono (Cert.QRefIdeal.Value.run (F := Ideal) m g) fun r hr => ⟨fun c => (hr c).2.2, sem_eq_zero_of_no_sems (by decide) r.2⟩

/-- Arguments of finite size are arrays of real numbers. -/
theorem args (m : (ℓ : Loc nD τ sig) → Buf (Elt Ideal) ℓ) (hpre : Cert.Pre_QKernelIdeal_q_finite m) (c : Dev nD) :
    Args (m ((c.tc : Thread nD τ).loc main_arg0)) (m ((c.tc : Thread nD τ).loc main_arg1)) (m ((c.tc : Thread nD τ).loc main_arg2))
      (m ((c.tc : Thread nD τ).loc main_arg3)) := by
  obtain ⟨h1, h2, h3, h4⟩ := hpre c
  exact ⟨Reals.exists_reals fun i => Reals.ofBits_inf ▸ congrFun h1 i, Reals.exists_reals fun i => Reals.ofBits_inf ▸ congrFun h2 i,
    Reals.exists_reals fun i => Reals.ofBits_inf ▸ congrFun h3 i, Reals.exists_reals fun i => Reals.ofBits_inf ▸ congrFun h4 i⟩

/-- The kernel computes the query projection's gradient at the stream and at the norm's weight. -/
theorem algebraic : Cert.algebraic_QKernelIdeal_QRefIdeal_pre_q_finite := by
  intro m g m' g' hpre hagree
  refine ⟨_, _, QKernelIdeal.Value.kernel_run m g, θ_run_mono (QRefIdeal.Value.reference_run m' g' fun c => ?_) fun r hr c => ?_⟩
  · rw [(hagree c).1, (hagree c).2.1, (hagree c).2.2.1, (hagree c).2.2.2.1]
    exact args m hpre c
  · obtain ⟨h1, h2, h3⟩ := hr c
    rw [(hagree c).1, (hagree c).2.1, (hagree c).2.2.1, (hagree c).2.2.2.1, (hagree c).2.2.2.2] at h1
    rw [(hagree c).1, (hagree c).2.1, (hagree c).2.2.1] at h2
    exact ⟨h1, h2, h3⟩

end Cert.Q
end
-- ==== Proof.Run.lean ====
/- Straight-line programs over a family of whole buffers: what they leave, as a function of what the buffers held. -/
module

public import Idealize.ShloMosaic.Lib.Pipeline.Kit
public import Idealize.ShloMosaic.Lib.Scf
public import Idealize.ShloMosaic.Lib.Memref

@[expose] public section

noncomputable section

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

namespace Cert.Run

/-- A finite family of buffers. -/
structure Bufs where
  B : Type
  fin : Fintype B
  dec : DecidableEq B
  shape : B → Shape
  elt : B → EltTy

attribute [instance] Bufs.fin Bufs.dec

/-- What the buffers hold. -/
abbrev Bufs.St (K : Bufs) (Val : EltTy → Type) := (b : K.B) → (K.shape b).Idx → Val (K.elt b)

/-- A rectangle of a whole buffer can be stored to. -/
def CanStore {s : Shape} (r : Rect s) (e : EltTy) : Prop :=
  ∀ {sig : RefSig} (m : Memref sig .tc .vmem s e), m.IsWhole → (m.access r).Stores Finset.univ

/-- A window of a buffer: a rectangle, perhaps with axes of one place dropped. -/
inductive Win (s : Shape) : Shape → Type
  | cut (r : Rect s) (h : ∀ a, r.stride a = 1) : Win s r.shape
  | drop (r : Rect s) (h : ∀ a, r.stride a = 1) (s' : Shape) (hs : r.shape.Squeezes s') : Win s s'

/-- The window of a memref. -/
def Win.at {s s' : Shape} {e : EltTy} {sig : RefSig} (w : Win s s') (m : Memref sig .tc .vmem s e) : Memref sig .tc .vmem s' e :=
  match w with
  | .cut r h => m.slice r h
  | .drop r h s' hs => (m.slice r h).squeeze s' hs

/-- The window's places in the buffer. -/
def Win.emb {s s' : Shape} (w : Win s s') : s'.Idx → s.Idx :=
  match w with
  | .cut r _ => r.emb
  | .drop r _ _ hs => fun x => r.emb (Shape.reshapeEquiv hs.numel_eq x)

theorem Win.emb_injective {s s' : Shape} (w : Win s s') : Function.Injective w.emb := by
  cases w with
  | cut r h => exact r.emb.injective
  | drop r h _ hs => exact r.emb.injective.comp (Shape.reshapeEquiv hs.numel_eq).injective

/-- A rectangle of a window of a whole buffer can be stored to. -/
def CanStoreIn {s s' : Shape} (w : Win s s') (r : Rect s') (e : EltTy) : Prop :=
  ∀ {sig : RefSig} (m : Memref sig .tc .vmem s e), m.IsWhole → ((w.at m).access r).Stores Finset.univ

/-- Loads and stores, in some monad. -/
structure Ops (K : Bufs) (Val : EltTy → Type) (m : Type → Type 1) where
  load (b : K.B) (r : Rect (K.shape b)) (h : 0 < r.shape.numel) : m (r.shape.Idx → Val (K.elt b))
  store (b : K.B) (r : Rect (K.shape b)) (w : r.shape.Idx → Val (K.elt b)) (h : CanStore r (K.elt b)) : m PUnit
  loadIn {s' : Shape} (b : K.B) (w : Win (K.shape b) s') (r : Rect s') (h : 0 < r.shape.numel) : m (r.shape.Idx → Val (K.elt b))
  storeIn {s' : Shape} (b : K.B) (w : Win (K.shape b) s') (r : Rect s') (v : r.shape.Idx → Val (K.elt b)) (h : CanStoreIn w r (K.elt b)) : m PUnit

/-- `v` with the places `e` names replaced. -/
def putAt {X Y α : Type} (e : X → Y) (w : X → α) (v : Y → α) (y : Y) : α :=
  open Classical in if h : ∃ x, e x = y then w h.choose else v y

theorem putAt_emb {X Y α : Type} {e : X → Y} (he : Function.Injective e) (w : X → α) (v : Y → α) (x : X) : putAt e w v (e x) = w x := by
  have h : ∃ x', e x' = e x := ⟨x, rfl⟩
  unfold putAt
  rw [dif_pos h]
  exact congrArg w (he h.choose_spec)

theorem putAt_of_not {X Y α : Type} (e : X → Y) (w : X → α) (v : Y → α) (y : Y) (h : ∀ x, e x ≠ y) : putAt e w v y = v y :=
  dif_neg fun ⟨x, hx⟩ => h x hx

/-- `v` with the rectangle's places replaced. -/
def put {s : Shape} {α : Type} (r : Rect s) (w : r.shape.Idx → α) (v : s.Idx → α) (y : s.Idx) : α :=
  if h : ∃ x, r.emb x = y then w h.choose else v y

theorem put_emb {s : Shape} {α : Type} (r : Rect s) (w : r.shape.Idx → α) (v : s.Idx → α) (x : r.shape.Idx) :
    put r w v (r.emb x) = w x := by
  have h : ∃ x', r.emb x' = r.emb x := ⟨x, rfl⟩
  unfold put
  rw [dif_pos h]
  exact congrArg w (r.emb.injective h.choose_spec)

theorem put_of_not {s : Shape} {α : Type} (r : Rect s) (w : r.shape.Idx → α) (v : s.Idx → α) (y : s.Idx)
    (h : ∀ x, r.emb x ≠ y) : put r w v y = v y :=
  dif_neg fun ⟨x, hx⟩ => h x hx

/-- Functions of the state that also leave a state. -/
def Den (St : Type) (α : Type) : Type 1 := ULift.{1} (St → α × St)

def Den.run {St α : Type} (f : Den St α) (st : St) : α × St := f.down st

instance (St : Type) : Monad (Den St) where
  pure a := ⟨fun st => (a, st)⟩
  bind f k := ⟨fun st => (k (f.run st).1).run (f.run st).2⟩

variable {K : Bufs} {Val : EltTy → Type}

@[simp] theorem Den.run_pure {St α : Type} (a : α) (st : St) : (pure a : Den St α).run st = (a, st) := rfl
@[simp] theorem Den.run_bind {St α β : Type} (f : Den St α) (k : α → Den St β) (st : St) :
    (f >>= k).run st = (k (f.run st).1).run (f.run st).2 := rfl

/-- The operations on states. -/
def stOps (K : Bufs) (Val : EltTy → Type) : Ops K Val (Den (K.St Val)) where
  load b r _ := ⟨fun st => (fun x => st b (r.emb x), st)⟩
  store b r w _ := ⟨fun st => (⟨⟩, Function.update st b (put r w (st b)))⟩
  loadIn b w r _ := ⟨fun st => (fun x => st b (w.emb (r.emb x)), st)⟩
  storeIn b w r v _ := ⟨fun st => (⟨⟩, Function.update st b (putAt (fun x => w.emb (r.emb x)) v (st b)))⟩

@[simp] theorem run_load (b : K.B) (r : Rect (K.shape b)) (h : 0 < r.shape.numel) (st : K.St Val) :
    ((stOps K Val).load b r h).run st = (fun x => st b (r.emb x), st) := rfl
@[simp] theorem run_store (b : K.B) (r : Rect (K.shape b)) (w) (h : CanStore r (K.elt b)) (st : K.St Val) :
    ((stOps K Val).store b r w h).run st = (⟨⟩, Function.update st b (put r w (st b))) := rfl
@[simp] theorem run_loadIn {s' : Shape} (b : K.B) (w : Win (K.shape b) s') (r : Rect s') (h : 0 < r.shape.numel) (st : K.St Val) :
    ((stOps K Val).loadIn b w r h).run st = (fun x => st b (w.emb (r.emb x)), st) := rfl
@[simp] theorem run_storeIn {s' : Shape} (b : K.B) (w : Win (K.shape b) s') (r : Rect s') (v) (h : CanStoreIn w r (K.elt b)) (st : K.St Val) :
    ((stOps K Val).storeIn b w r v h).run st = (⟨⟩, Function.update st b (putAt (fun x => w.emb (r.emb x)) v (st b))) := rfl

variable {nD : Nat} {τ : Topo} {sig : RefSig} {Λ : Labels}
variable {Ix Name U Lvl : Type} [DecidableEq Ix] [DecidableEq Name] [URA U] [Preorder Lvl]
local notation "𝕄" => MT nD τ sig Ix Val Name U Lvl

/-- Memrefs that name the buffers. -/
abbrev Bufs.At (K : Bufs) (sig : RefSig) := (b : K.B) → Memref sig .tc .vmem (K.shape b) (K.elt b)

/-- The operations as effects of the machine. -/
def progOps (M : K.At sig) (hM : ∀ b, (M b).IsWhole) : Ops K Val (Prog (TpuEff nD τ sig Val Λ .tc)) where
  load b r h := Prog.lift (.load (M b) r.toLoadRect (View.loadsAt_vmem h))
  store b r w h := Prog.lift (.store (M b) r w Finset.univ (h (M b) (hM b)) (.inl rfl))
  loadIn b w r h := Prog.lift (.load (w.at (M b)) r.toLoadRect (View.loadsAt_vmem h))
  storeIn b w r v h := Prog.lift (.store (w.at (M b)) r v Finset.univ (h (M b) (hM b)) (.inl rfl))

/-- Every buffer held whole, at a state. -/
def holds (c : Dev nD) (M : K.At sig) (st : K.St Val) : sProp 𝕄 :=
  bigSep Finset.univ fun b => owns (c : Thread nD τ) (M b) fullShare (st b)

theorem holds_split (c : Dev nD) (M : K.At sig) (st : K.St Val) (b : K.B) :
    (holds (Ix := Ix) (Name := Name) (U := U) (Lvl := Lvl) c M st : sProp 𝕄)
      = iprop(owns (c : Thread nD τ) (M b) fullShare (st b) ∗ bigSep (Finset.univ.erase b) fun b => owns (c : Thread nD τ) (M b) fullShare (st b)) :=
  bigSep_univ_split b

theorem holds_update (c : Dev nD) (M : K.At sig) (st : K.St Val) (b : K.B) (v) :
    (holds (Ix := Ix) (Name := Name) (U := U) (Lvl := Lvl) c M (Function.update st b v) : sProp 𝕄)
      = iprop(owns (c : Thread nD τ) (M b) fullShare v ∗ bigSep (Finset.univ.erase b) fun b => owns (c : Thread nD τ) (M b) fullShare (st b)) := by
  unfold holds
  rw [bigSep_univ_split b, Function.update_self]
  exact congrArg _ (bigSep_congr fun i hi => by rw [Function.update_of_ne (Finset.ne_of_mem_erase hi)])

variable {defs : Defs nD τ sig Val Λ} (𝒱 : Variants) (c : Dev nD) (bd : Option 𝒱.V) (E : Set Name)

/-- The program computes the function: run from any state it ends at what the function leaves. -/
def Does (Ix U Lvl : Type) [DecidableEq Ix] [URA U] [Preorder Lvl] (defs : Defs nD τ sig Val Λ) (𝒱 : Variants) (c : Dev nD) (bd : Option 𝒱.V) (E : Set Name)
    (M : K.At sig) {α : Type} (p : Prog (TpuEff nD τ sig Val Λ .tc) α) (f : Den (K.St Val) α) : Prop :=
  ∀ (st : K.St Val) (Q : α → sProp (MT nD τ sig Ix Val Name U Lvl)),
    iprop(holds c M st ∗ (holds c M (f.run st).2 -∗ Q (f.run st).1)) ⊢ wp frame (wpE defs 𝒱 (c : Thread nD τ) bd) E p Q

variable {M : K.At sig}

theorem Does.pure {α : Type} (a : α) : Does (Val := Val) (Λ := Λ) Ix U Lvl defs 𝒱 c bd E M (pure a) (pure a) := by
  intro st Q
  show _ ⊢ wp _ _ _ (Prog.ret a) Q
  rw [wp_ret, Den.run_pure]
  dsimp only
  iintro ⟨H, HQ⟩
  imodintro
  iapply HQ
  iexact H

theorem Does.bind {α β : Type} {p : Prog (TpuEff nD τ sig Val Λ .tc) α} {f : Den (K.St Val) α}
    {q : α → Prog (TpuEff nD τ sig Val Λ .tc) β} {g : α → Den (K.St Val) β}
    (hp : Does Ix U Lvl defs 𝒱 c bd E M p f) (hq : ∀ a, Does Ix U Lvl defs 𝒱 c bd E M (q a) (g a)) :
    Does Ix U Lvl defs 𝒱 c bd E M (p >>= q) (f >>= g) := by
  intro st Q
  rw [wp_bind]
  refine .trans ?_ (hp st _)
  iintro ⟨H, HQ⟩
  isplitl [H]
  · iexact H
  iintro H
  iapply (hq (f.run st).1 (f.run st).2 Q)
  isplitl [H]
  · iexact H
  iexact HQ

theorem Does.load (hM : ∀ b, (M b).IsWhole) (b : K.B) (r : Rect (K.shape b)) (h : 0 < r.shape.numel) :
    Does (Val := Val) (Λ := Λ) Ix U Lvl defs 𝒱 c bd E M ((progOps M hM).load b r h) ((stOps K Val).load b r h) := by
  intro st Q
  rw [run_load]
  dsimp only
  rw [holds_split c M st b]
  unfold owns
  iintro ⟨⟨⟨%f, %hf, H⟩, HR⟩, HQ⟩
  iapply (wp_load_rect 𝒱 (c : Thread nD τ) bd E (m := M b) (r := r) (S := (M b).view.set) (View.set_slice_subset _ r)) $$ [H]
  · iexact H
  iintro H
  rw [wp_ret]
  imodintro
  have e : ((M b).access r).read Val f = fun x => st b (r.emb x) := by rw [← hf]; rfl
  rw [e]
  iapply HQ
  isplitl [H]
  · iexists f; isplitr; · ipureintro; exact hf
    iexact H
  iexact HR

theorem Does.store (hM : ∀ b, (M b).IsWhole) (b : K.B) (r : Rect (K.shape b)) (w) (h : CanStore r (K.elt b)) :
    Does (Val := Val) (Λ := Λ) Ix U Lvl defs 𝒱 c bd E M ((progOps M hM).store b r w h) ((stOps K Val).store b r w h) := by
  intro st Q
  rw [run_store]
  dsimp only
  rw [holds_update, holds_split c M st b]
  unfold owns
  iintro ⟨⟨⟨%f, %hf, H⟩, HR⟩, HQ⟩
  iapply (wp_store 𝒱 (c : Thread nD τ) bd E (m := M b) (r := r) (w := w) (Mk := Finset.univ) (S := (M b).view.set) (View.set_slice_subset _ r)) $$ [H]
  · iexact H
  iintro H
  rw [wp_ret]
  imodintro
  iapply HQ
  isplitl [H]
  · iexists ((M b).access r).write Val f w Finset.univ
    isplitr
    · ipureintro
      funext y
      by_cases hy : ∃ x, r.emb x = y
      · obtain ⟨x, rfl⟩ := hy
        rw [put_emb]
        exact View.read_slice_write_emb _ _ _ (Finset.mem_univ x)
      · rw [put_of_not _ _ _ _ fun x hx => hy ⟨x, hx⟩, ← hf]
        exact View.read_slice_write_of_not_mem _ _ _ _ (by simpa using fun x hx => hy ⟨x, hx⟩)
    iexact H
  iexact HR

theorem Does.loadIn (hM : ∀ b, (M b).IsWhole) {s' : Shape} (b : K.B) (w : Win (K.shape b) s') (r : Rect s') (h : 0 < r.shape.numel) :
    Does (Val := Val) (Λ := Λ) Ix U Lvl defs 𝒱 c bd E M ((progOps M hM).loadIn b w r h) ((stOps K Val).loadIn b w r h) := by
  intro st Q
  rw [run_loadIn]
  dsimp only
  rw [holds_split c M st b]
  unfold owns
  cases w with
  | cut r₀ h₀ =>
    iintro ⟨⟨⟨%f, %hf, H⟩, HR⟩, HQ⟩
    iapply (wp_load_rect 𝒱 (c : Thread nD τ) bd E (m := (M b).slice r₀ h₀) (r := r) (S := (M b).view.set) (fun i hi => by
      obtain ⟨x, -, rfl⟩ := Finset.mem_map.1 hi
      exact Finset.mem_map.2 ⟨_, Finset.mem_univ _, rfl⟩)) $$ [H]
    · iexact H
    iintro H
    rw [wp_ret]
    imodintro
    have hr : View.read Val (((M b).slice r₀ h₀).access r) f = fun x => st b (Win.emb (.cut r₀ h₀) (r.emb x)) := by rw [← hf]; rfl
    rw [hr]
    iapply HQ
    isplitl [H]
    · iexists f; isplitr; · ipureintro; exact hf
      iexact H
    iexact HR
  | drop r₀ h₀ s₀ hs₀ =>
    iintro ⟨⟨⟨%f, %hf, H⟩, HR⟩, HQ⟩
    iapply (wp_load_rect 𝒱 (c : Thread nD τ) bd E (m := ((M b).slice r₀ h₀).squeeze _ hs₀) (r := r) (S := (M b).view.set) (fun i hi => by
      obtain ⟨x, -, rfl⟩ := Finset.mem_map.1 hi
      exact Finset.mem_map.2 ⟨_, Finset.mem_univ _, rfl⟩)) $$ [H]
    · iexact H
    iintro H
    rw [wp_ret]
    imodintro
    have hr : View.read Val ((((M b).slice r₀ h₀).squeeze _ hs₀).access r) f = fun x => st b (Win.emb (.drop r₀ h₀ _ hs₀) (r.emb x)) := by rw [← hf]; rfl
    rw [hr]
    iapply HQ
    isplitl [H]
    · iexists f; isplitr; · ipureintro; exact hf
      iexact H
    iexact HR

theorem Does.storeIn (hM : ∀ b, (M b).IsWhole) {s' : Shape} (b : K.B) (w : Win (K.shape b) s') (r : Rect s') (v) (h : CanStoreIn w r (K.elt b)) :
    Does (Val := Val) (Λ := Λ) Ix U Lvl defs 𝒱 c bd E M ((progOps M hM).storeIn b w r v h) ((stOps K Val).storeIn b w r v h) := by
  intro st Q
  rw [run_storeIn]
  dsimp only
  rw [holds_update, holds_split c M st b]
  unfold owns
  have inj : Function.Injective fun x => w.emb (r.emb x) := w.emb_injective.comp r.emb.injective
  cases w with
  | cut r₀ h₀ =>
    iintro ⟨⟨⟨%f, %hf, H⟩, HR⟩, HQ⟩
    iapply (wp_store 𝒱 (c : Thread nD τ) bd E (m := (M b).slice r₀ h₀) (r := r) (w := v) (Mk := Finset.univ) (S := (M b).view.set) (fun i hi => by
      obtain ⟨x, -, rfl⟩ := Finset.mem_map.1 hi
      exact Finset.mem_map.2 ⟨_, Finset.mem_univ _, rfl⟩)) $$ [H]
    · iexact H
    iintro H
    rw [wp_ret]
    imodintro
    iapply HQ
    isplitl [H]
    · iexists (((M b).slice r₀ h₀).access r).write Val f v Finset.univ
      isplitr
      · ipureintro
        funext y
        by_cases hy : ∃ x, Win.emb (.cut r₀ h₀) (r.emb x) = y
        · obtain ⟨x, rfl⟩ := hy
          rw [putAt_emb inj]
          exact congrFun (View.read_write_univ (v := ((M b).slice r₀ h₀).access r) f v) x
        · rw [putAt_of_not _ _ _ _ fun x hx => hy ⟨x, hx⟩, ← hf]
          refine congrArg (cast _) (View.write_of_not_mem _ _ _ fun hm => ?_)
          obtain ⟨x, -, hx⟩ := Finset.mem_map.1 hm
          exact hy ⟨x, (M b).view.emb.injective hx⟩
      iexact H
    iexact HR
  | drop r₀ h₀ s₀ hs₀ =>
    iintro ⟨⟨⟨%f, %hf, H⟩, HR⟩, HQ⟩
    iapply (wp_store 𝒱 (c : Thread nD τ) bd E (m := ((M b).slice r₀ h₀).squeeze _ hs₀) (r := r) (w := v) (Mk := Finset.univ) (S := (M b).view.set) (fun i hi => by
      obtain ⟨x, -, rfl⟩ := Finset.mem_map.1 hi
      exact Finset.mem_map.2 ⟨_, Finset.mem_univ _, rfl⟩)) $$ [H]
    · iexact H
    iintro H
    rw [wp_ret]
    imodintro
    iapply HQ
    isplitl [H]
    · iexists ((((M b).slice r₀ h₀).squeeze _ hs₀).access r).write Val f v Finset.univ
      isplitr
      · ipureintro
        funext y
        by_cases hy : ∃ x, Win.emb (.drop r₀ h₀ _ hs₀) (r.emb x) = y
        · obtain ⟨x, rfl⟩ := hy
          rw [putAt_emb inj]
          exact congrFun (View.read_write_univ (v := (((M b).slice r₀ h₀).squeeze _ hs₀).access r) f v) x
        · rw [putAt_of_not _ _ _ _ fun x hx => hy ⟨x, hx⟩, ← hf]
          refine congrArg (cast _) (View.write_of_not_mem _ _ _ fun hm => ?_)
          obtain ⟨x, -, hx⟩ := Finset.mem_map.1 hm
          exact hy ⟨x, (M b).view.emb.injective hx⟩
      iexact H
    iexact HR

theorem Does.of_eq {α : Type} {p p' : Prog (TpuEff nD τ sig Val Λ .tc) α} {f : Den (K.St Val) α} (h : p' = p)
    (hp : Does Ix U Lvl defs 𝒱 c bd E M p f) : Does Ix U Lvl defs 𝒱 c bd E M p' f := h ▸ hp

theorem Does.ite {α : Type} (P : Prop) [Decidable P] {p q : Prog (TpuEff nD τ sig Val Λ .tc) α} {f g : Den (K.St Val) α}
    (hp : P → Does Ix U Lvl defs 𝒱 c bd E M p f) (hq : ¬P → Does Ix U Lvl defs 𝒱 c bd E M q g) :
    Does Ix U Lvl defs 𝒱 c bd E M (if P then p else q) (if P then f else g) := by
  split
  · exact hp ‹_›
  · exact hq ‹_›

theorem Does.dite {α : Type} (P : Prop) [Decidable P] {p : P → Prog (TpuEff nD τ sig Val Λ .tc) α} {q : ¬P → Prog (TpuEff nD τ sig Val Λ .tc) α}
    {f : P → Den (K.St Val) α} {g : ¬P → Den (K.St Val) α}
    (hp : ∀ h, Does Ix U Lvl defs 𝒱 c bd E M (p h) (f h)) (hq : ∀ h, Does Ix U Lvl defs 𝒱 c bd E M (q h) (g h)) :
    Does Ix U Lvl defs 𝒱 c bd E M (if h : P then p h else q h) (if h : P then f h else g h) := by
  split
  · exact hp _
  · exact hq _

/-- A counted loop on states. -/
def loopFrom {St σ : Type} {n : ℕ} (body : Fin n → σ → Den St σ) : (k : ℕ) → k ≤ n → σ → Den St σ
  | 0, _, a => Pure.pure a
  | k + 1, h, a => loopFrom body k (by omega) a >>= body ⟨k, h⟩

def loop {St σ : Type} {n : ℕ} (body : Fin n → σ → Den St σ) (a : σ) : Den St σ := loopFrom body n le_rfl a

theorem Does.for {σ : Type} {w : ℕ} (lb ub s : BitVec w) (hok : Scf.OK lb ub s) (init : σ)
    {body : Fin (Scf.trips lb ub s) → σ → Prog (TpuEff nD τ sig Val Λ .tc) σ} {g : Fin (Scf.trips lb ub s) → σ → Den (K.St Val) σ}
    (hb : ∀ k a, Does Ix U Lvl defs 𝒱 c bd E M (body k a) (g k a)) :
    Does Ix U Lvl defs 𝒱 c bd E M (Scf.for lb ub s hok init body) (loop g init) := by
  intro st Q
  refine .trans ?_ (Scf.wp_for frame (wpE defs 𝒱 (c : Thread nD τ) bd) E lb ub s hok init body
    (fun k a => iprop(∃ h : k ≤ Scf.trips lb ub s, ⌜a = ((loopFrom g k h init).run st).1⌝ ∗ holds c M ((loopFrom g k h init).run st).2)) ?_)
  · iintro ⟨H, HQ⟩
    isplitl [H]
    · iexists Nat.zero_le _
      isplitr
      · ipureintro; rfl
      iexact H
    iintro %a ⟨%h, %ha, H⟩
    subst ha
    unfold loop
    iapply HQ
    iexact H
  · intro k a
    iintro ⟨%h, %ha, H⟩
    iapply (hb k a _ _)
    subst ha
    isplitl [H]
    · iexact H
    iintro H
    iexists k.isLt
    isplitr
    · ipureintro; rfl
    iexact H

/-- A relation between programs over two sets of operations that every way of putting them together keeps. -/
structure Rel {m₁ m₂ : Type → Type 1} [Monad m₁] [Monad m₂] (O₁ : Ops K Val m₁) (O₂ : Ops K Val m₂) where
  R : {α : Type} → m₁ α → m₂ α → Prop
  pure : ∀ {α : Type} (a : α), R (Pure.pure a) (Pure.pure a)
  bind : ∀ {α β : Type} {p : m₁ α} {p' : m₂ α} {q : α → m₁ β} {q' : α → m₂ β}, R p p' → (∀ a, R (q a) (q' a)) → R (p >>= q) (p' >>= q')
  load : ∀ b r h, R (O₁.load b r h) (O₂.load b r h)
  store : ∀ b r w h, R (O₁.store b r w h) (O₂.store b r w h)
  loadIn : ∀ {s' : Shape} b (w : Win (K.shape b) s') r h, R (O₁.loadIn b w r h) (O₂.loadIn b w r h)
  storeIn : ∀ {s' : Shape} b (w : Win (K.shape b) s') r v h, R (O₁.storeIn b w r v h) (O₂.storeIn b w r v h)

def doesRel (hM : ∀ b, (M b).IsWhole) : Rel (progOps (nD := nD) (τ := τ) (Val := Val) (Λ := Λ) M hM) (stOps K Val) where
  R p f := Does Ix U Lvl defs 𝒱 c bd E M p f
  pure := Does.pure 𝒱 c bd E
  bind := Does.bind 𝒱 c bd E
  load := Does.load 𝒱 c bd E hM
  store := Does.store 𝒱 c bd E hM
  loadIn := Does.loadIn 𝒱 c bd E hM
  storeIn := Does.storeIn 𝒱 c bd E hM

end Cert.Run
-- ==== Proof.SbaText.lean ====
/- One grid point of the attention's backward kernel, written once over any loads and stores. -/
module

public import proofs.«01_k».proof.Proof.Run
public import proofs.«01_k».proof.Proof.Gen.SbaKernelIdeal

@[expose] public section

noncomputable section

open Idealize.ShloMosaic Idealize.ShloMosaic.TcCoe
open Idealize.SL.Sem

namespace Cert.Sba

open Cert.Run Cert.SbaKernelIdeal Cert.SbaKernelIdeal.Gen

/-- The buffers: the five inputs' and three results' blocks and the ten scratch buffers. -/
inductive Buf
  | q | k | v | lt | g | dq | dk | dv | ka | va | z | da | a | dz | pc | pe | ls | qa
  deriving DecidableEq

def Buf.all : List Buf := [.q, .k, .v, .lt, .g, .dq, .dk, .dv, .ka, .va, .z, .da, .a, .dz, .pc, .pe, .ls, .qa]

instance : Fintype Buf := ⟨⟨Buf.all, by decide⟩, by intro x; cases x <;> decide⟩

@[reducible] noncomputable def Buf.shape : Buf → Shape
  | .q | .g | .dq => S512x128
  | .k | .v | .dk | .dv | .ka | .va => S4096x128
  | .lt => S1x512x128
  | .z | .da | .a | .dz => S2x1024x512
  | .pc | .pe | .ls => S1024x1
  | .qa => S1024x128

@[reducible] noncomputable def Buf.elt : Buf → EltTy
  | .q | .k | .v | .g | .dq | .dk | .dv | .a | .dz => .bf16
  | .lt | .ka | .va | .z | .da | .pc | .pe | .ls | .qa => .f32

@[reducible] noncomputable def K : Bufs := ⟨Buf, inferInstance, inferInstance, Buf.shape, Buf.elt⟩

/-! ## Equal programs -/

theorem bind_eq {E : Type → Type} {α β : Type} {p p' : Prog E α} {k k' : α → Prog E β} (h : p = p') (hk : ∀ a, k a = k' a) : p >>= k = p' >>= k' := by
  rw [h, funext hk]

theorem for_eq {E : Type → Type} {σ : Type} (l : Scf.Loop 32) (hok : l.OK) (init : σ) {b b' : Fin l.trips → σ → Prog E σ} (h : ∀ k a, b k a = b' k a) :
    Scf.Loop.for l hok init b = Scf.Loop.for l hok init b' := by
  rw [funext fun k => funext fun a => h k a]

theorem dite_jp {E : Type → Type} {β : Type} {c : Prop} [Decidable c] {A : c → Prog E PUnit} {B : c → Prog E β} {J : Prog E β}
    (h : ∀ hc, B hc = A hc >>= fun _ => J) : dite c B (fun _ => J) = dite c A (fun _ => pure ⟨⟩) >>= fun _ => J := by
  split
  · exact h _
  · rfl

/-! ## The rectangles -/

theorem inb_sub (s : Fin 2) (a : Fin 4) (b : Fin 2) : ∀ d, (![s.val, 256 * a.val, 256 * b.val] : Fin 3 → Nat) d + S1x256x256.size d ≤ S2x1024x512.size d := by
  revert s a b; decide
theorem inb_slot (s : Fin 2) : ∀ d, (![s.val, 0, 0] : Fin 3 → Nat) d + S1x1024x512.size d ≤ S2x1024x512.size d := by
  revert s; decide
theorem inb_row (a : Fin 4) : ∀ d, (![256 * a.val, 0] : Fin 2 → Nat) d + S256x1.size d ≤ S1024x1.size d := by
  revert a; decide
theorem inb_qrow (a : Fin 4) : ∀ d, (![256 * a.val, 0] : Fin 2 → Nat) d + S256x128.size d ≤ S1024x128.size d := by
  revert a; decide
theorem inb_irow (a : Fin 4) : ∀ d, (![128 * a.val, 0] : Fin 2 → Nat) d + S128x128.size d ≤ S512x128.size d := by
  revert a; decide
theorem inb_lrow (a : Fin 4) (h : Fin 2) : ∀ d, (![0, 128 * a.val, 64 * h.val] : Fin 3 → Nat) d + S1x128x1.size d ≤ S1x512x128.size d := by
  revert a h; decide

/-- A tile of 256 query rows and 256 keys of one slot. -/
noncomputable abbrev sub (s : Fin 2) (a : Fin 4) (b : Fin 2) : Rect S2x1024x512 :=
  Rect.unit (s := S2x1024x512) ![s.val, 256 * a.val, 256 * b.val] S1x256x256.size (inb_sub s a b)
noncomputable abbrev slot (s : Fin 2) : Rect S2x1024x512 := Rect.unit (s := S2x1024x512) ![s.val, 0, 0] S1x1024x512.size (inb_slot s)
noncomputable abbrev row (a : Fin 4) : Rect S1024x1 := Rect.unit (s := S1024x1) ![256 * a.val, 0] S256x1.size (inb_row a)
noncomputable abbrev qrow (a : Fin 4) : Rect S1024x128 := Rect.unit (s := S1024x128) ![256 * a.val, 0] S256x128.size (inb_qrow a)
noncomputable abbrev irow (a : Fin 4) : Rect S512x128 := Rect.unit (s := S512x128) ![128 * a.val, 0] S128x128.size (inb_irow a)
noncomputable abbrev lrow (a : Fin 4) (h : Fin 2) : Rect S1x512x128 := Rect.unit (s := S1x512x128) ![0, 128 * a.val, 64 * h.val] S1x128x1.size (inb_lrow a h)
noncomputable abbrev wkey : Rect S4096x128 := Rect.unit (s := S4096x128) ![0, 0] S4096x128.size inb_S4096x128_S4096x128_0_0
noncomputable abbrev wrow : Rect S1024x1 := Rect.unit (s := S1024x1) ![0, 0] S1024x1.size inb_S1024x1_S1024x1_0_0
noncomputable abbrev wqa : Rect S1024x128 := Rect.unit (s := S1024x128) ![0, 0] S1024x128.size inb_S1024x128_S1024x128_0_0
/-- A block of 512 keys. -/
noncomputable abbrev keys (o : Fin 2 → ℕ) (h : ∀ d, o d + S512x128.size d ≤ S4096x128.size d) : Rect S4096x128 :=
  Rect.unit (s := S4096x128) o S512x128.size h

theorem st_bits {s : Shape} (r : Rect s) (h : 0 < r.shape.numel) : CanStore r .f32 :=
  fun _ _ => View.stores_vmem_bits_univ h rfl
theorem st_packed {s : Shape} (r : Rect s) (h : 0 < r.shape.numel) (hp : r.PackedRows (EltTy.packing .bf16)) : CanStore r .bf16 :=
  fun _ hm => View.stores_vmem h (hm.storeExact_slice rfl _ hp) (fun _ => rfl)

theorem packed_sub (s : Fin 2) (a : Fin 4) (b : Fin 2) : (sub s a b).PackedRows (EltTy.packing .bf16) := by
  revert s a b; decide
theorem packed_slot (s : Fin 2) : (slot s).PackedRows (EltTy.packing .bf16) := by
  revert s; decide
theorem packed_irow (a : Fin 4) : (irow a).PackedRows (EltTy.packing .bf16) := by
  revert a; decide

variable {F : FTy → Type} [FloatOps F]

/-! ## The arithmetic of one tile -/

/-- Ones where the earlier index is at most (`incl`), or below (`excl`), the later. -/
noncomputable def incl : FVec F S256x256 .bf16 :=
  truncf .bf16 (sitofp .f32 (extui 32 (cmpi .sle (iota .tc S256x256 32 [0] iota_S256x256_d0_w32) (iota .tc S256x256 32 [1] iota_S256x256_d1_w32)) natLt_1_32)) bitsLt_bf16_f32
noncomputable def excl : FVec F S256x256 .bf16 :=
  truncf .bf16 (sitofp .f32 (extui 32 (cmpi .slt (iota .tc S256x256 32 [0] iota_S256x256_d0_w32) (iota .tc S256x256 32 [1] iota_S256x256_d1_w32)) natLt_1_32)) bitsLt_bf16_f32

/-- Keys before the query, where the tile meets the diagonal. -/
noncomputable def mask (a : Fin 4) (b : Fin 2) : IVec S256x256 1 :=
  cmpi .slt (addi (broadcast S256x256 (BitVec.ofNat 32 (256 * b.val))) (iota .tc S256x256 32 [1] iota_S256x256_d1_w32))
    (addi (broadcast S256x256 (BitVec.ofNat 32 (128 * a.val)))
      (select (cmpi .sge (iota .tc S256x256 32 [0] iota_S256x256_d0_w32) (broadcast S256x256 128#32))
        (subi (iota .tc S256x256 32 [0] iota_S256x256_d0_w32) (broadcast S256x256 128#32)) (iota .tc S256x256 32 [0] iota_S256x256_d0_w32)))

/-- What is done with a tile: all of it, the keys before the query, or nothing. -/
inductive Kind | full | masked | skip

noncomputable def kind : Bool → Fin 4 → Fin 2 → Kind
  | false, _, _ => .full
  | true, 0, 0 | true, 1, 0 | true, 2, 1 | true, 3, 1 => .masked
  | true, 2, 0 | true, 3, 0 => .full
  | true, 0, 1 | true, 1, 1 => .skip

noncomputable def sel (κ : Kind) (a : Fin 4) (b : Fin 2) (x : FVec F S256x256 .f32) : FVec F S256x256 .f32 :=
  match κ with
  | .masked => select (mask a b) x (broadcast S256x256 (Scalar.ofBits .f32 0x00000000#32))
  | _ => x

noncomputable def soft (L : F .f32) (z : FVec F S256x256 .f32) : FVec F S256x256 .f32 :=
  addf (maximumf (mulf z (broadcast S256x256 L)) (broadcast S256x256 (Scalar.ofBits .f32 0x00000000#32)))
    (mulf (log (addf (broadcast S256x256 (Scalar.ofBits .f32 0x3F800000#32))
      (exp2 (subf (broadcast S256x256 (Scalar.ofBits .f32 0x00000000#32)) (absf (mulf z (broadcast S256x256 L))))))) (broadcast S256x256 L))

noncomputable def lgs (L : F .f32) (z : FVec F S256x256 .f32) : FVec F S256x256 .f32 := subf (mulf z (broadcast S256x256 L)) (soft L z)

noncomputable def blkP (L : F .f32) (κ : Kind) (a : Fin 4) (b : Fin 2) (pc : FVec F S256x1 .f32) (z : FVec F S256x256 .f32) : FVec F S256x256 .f32 :=
  addf (broadcastTo S256x256 pc broadcasts_S256x1_S256x256)
    (matmul dot_S256x256_S256x256_S256x256_1_0_0_1_n_n none (truncf .bf16 (sel κ a b (soft L z)) bitsLt_bf16_f32) incl (constant S256x256 .f32 0x00000000#32))

noncomputable def blkA (L : F .f32) (κ : Kind) (a : Fin 4) (b : Fin 2) (lt pc : FVec F S256x1 .f32) (z : FVec F S256x256 .f32) : FVec F S256x256 .f32 :=
  sel κ a b (exp2 (subf (lgs L z) (subf (broadcastTo S256x256 lt broadcasts_S256x1_S256x256) (blkP L κ a b pc z))))

noncomputable def blkE (L : F .f32) (κ : Kind) (a : Fin 4) (b : Fin 2) (lt pc : FVec F S256x1 .f32) (z da : FVec F S256x256 .f32) : FVec F S256x256 .f32 :=
  mulf da (blkA L κ a b lt pc z)

noncomputable def blkPE (L : F .f32) (κ : Kind) (a : Fin 4) (b : Fin 2) (lt pc pe : FVec F S256x1 .f32) (z da : FVec F S256x256 .f32) : FVec F S256x256 .f32 :=
  addf (broadcastTo S256x256 pe broadcasts_S256x1_S256x256)
    (matmul dot_S256x256_S256x256_S256x256_1_0_0_1_n_n none (truncf .bf16 (blkE L κ a b lt pc z da) bitsLt_bf16_f32) excl (constant S256x256 .f32 0x00000000#32))

noncomputable def blkD (L : F .f32) (κ : Kind) (a : Fin 4) (b : Fin 2) (lt pc pe : FVec F S256x1 .f32) (z da : FVec F S256x256 .f32) : FVec F S256x256 .f32 :=
  sel κ a b (subf (blkE L κ a b lt pc z da) (mulf (exp2 (lgs L z)) (addf (blkE L κ a b lt pc z da) (blkPE L κ a b lt pc pe z da))))

noncomputable def newPc (L : F .f32) (κ : Kind) (a : Fin 4) (b : Fin 2) (pc : FVec F S256x1 .f32) (z : FVec F S256x256 .f32) : FVec F S256x1 .f32 :=
  extractStridedSlice S256x1 ![0, 255] (blkP L κ a b pc z) slices_S256x256_o0_255_S256x1

noncomputable def newPe (L : F .f32) (κ : Kind) (a : Fin 4) (b : Fin 2) (lt pc pe : FVec F S256x1 .f32) (z da : FVec F S256x256 .f32) : FVec F S256x1 .f32 :=
  addf (extractStridedSlice S256x1 ![0, 255] (blkPE L κ a b lt pc pe z da) slices_S256x256_o0_255_S256x1)
    (extractStridedSlice S256x1 ![0, 255] (blkE L κ a b lt pc z da) slices_S256x256_o0_255_S256x1)

/-! ## The pieces -/

variable {m : Type → Type 1} [Monad m] (ops : Ops K (Elt F) m)

noncomputable abbrev cast2 {e : EltTy} (v : Vec F S1x256x256 e) : Vec F S256x256 e := shapeCast S256x256 v shapeCasts_S1x256x256_S256x256
noncomputable abbrev cast3 {e : EltTy} (v : Vec F S256x256 e) : Vec F S1x256x256 e := shapeCast S1x256x256 v shapeCasts_S256x256_S1x256x256

/-- The weights and the logits' gradient of one tile stored, as rounded. -/
noncomputable def putTile (s : Fin 2) (a : Fin 4) (b : Fin 2) (A D : FVec F S256x256 .bf16) : m PUnit := do
  let _ ← ops.load .a (sub s a b) h_S1x256x256
  ops.store .a (sub s a b) (cast3 A) (st_packed _ h_S1x256x256 (packed_sub s a b))
  let _ ← ops.load .dz (sub s a b) h_S1x256x256
  ops.store .dz (sub s a b) (cast3 D) (st_packed _ h_S1x256x256 (packed_sub s a b))

/-- One tile: what it leaves of the running sums. -/
noncomputable def tile (L : F .f32) (κ : Kind) (s : Fin 2) (a : Fin 4) (b : Fin 2) (lt : FVec F S256x1 .f32) (p : FVec F S256x1 .f32 × FVec F S256x1 .f32) :
    m (FVec F S256x1 .f32 × FVec F S256x1 .f32) :=
  match κ with
  | .skip => do
    putTile ops s a b (broadcast S256x256 (Scalar.ofBits .bf16 0x0000#16)) (broadcast S256x256 (Scalar.ofBits .bf16 0x0000#16))
    pure p
  | κ => do
    let z ← ops.load .z (sub s a b) h_S1x256x256
    let da ← ops.load .da (sub s a b) h_S1x256x256
    putTile ops s a b (truncf .bf16 (blkA L κ a b lt p.1 (cast2 (F := F) (e := .f32) z)) bitsLt_bf16_f32)
      (truncf .bf16 (blkD L κ a b lt p.1 p.2 (cast2 (F := F) (e := .f32) z) (cast2 (F := F) (e := .f32) da)) bitsLt_bf16_f32)
    pure (newPc L κ a b p.1 (cast2 (F := F) (e := .f32) z), newPe L κ a b lt p.1 p.2 (cast2 (F := F) (e := .f32) z) (cast2 (F := F) (e := .f32) da))

/-- A strip of 256 query rows against one block of keys. -/
noncomputable def strip (L : F .f32) (diag : Bool) (s : Fin 2) (a : Fin 4) : m PUnit := do
  let pc ← ops.load .pc (row a) h_S256x1
  let pe ← ops.load .pe (row a) h_S256x1
  let lt ← ops.load .ls (row a) h_S256x1
  let p ← tile ops L (kind diag a 0) s a 0 lt (pc, pe)
  let p' ← tile ops L (kind diag a 1) s a 1 lt p
  let _ ← ops.load .pc (row a) h_S256x1
  ops.store .pc (row a) (shapeCast S256x1 (α := F .f32) p'.1 shapeCasts_S256x1_S256x1) (st_bits _ h_S256x1)
  let _ ← ops.load .pe (row a) h_S256x1
  ops.store .pe (row a) (shapeCast S256x1 (α := F .f32) p'.2 shapeCasts_S256x1_S256x1) (st_bits _ h_S256x1)

noncomputable def gradients (L : F .f32) (diag : Bool) (s : Fin 2) : m PUnit := do
  strip ops L diag s 0
  strip ops L diag s 1
  strip ops L diag s 2
  strip ops L diag s 3

/-- The products of the queries with a block of keys, and of the results' gradient with their values. -/
noncomputable def scores (q g : FVec F S1024x128 .bf16) (o : Fin 2 → ℕ) (h : ∀ d, o d + S512x128.size d ≤ S4096x128.size d) (s : Fin 2) : m PUnit := do
  let k ← ops.load .k (keys o h) h_S512x128
  let _ ← ops.load .z (slot s) h_S1x1024x512
  ops.store .z (slot s) (shapeCast S1x1024x512 (α := F .f32) (matmul dot_S1024x128_S512x128_S1024x512_1_1_0_0_n_n none q (shapeCast S512x128 k shapeCasts_S512x128_S512x128)
    (constant S1024x512 .f32 0x00000000#32)) shapeCasts_S1024x512_S1x1024x512) (st_bits _ h_S1x1024x512)
  let v ← ops.load .v (keys o h) h_S512x128
  let _ ← ops.load .da (slot s) h_S1x1024x512
  ops.store .da (slot s) (shapeCast S1x1024x512 (α := F .f32) (matmul dot_S1024x128_S512x128_S1024x512_1_1_0_0_n_n none g (shapeCast S512x128 v shapeCasts_S512x128_S512x128)
    (constant S1024x512 .f32 0x00000000#32)) shapeCasts_S1024x512_S1x1024x512) (st_bits _ h_S1x1024x512)

noncomputable abbrev flat {e : EltTy} (v : Vec F S1x1024x512 e) : Vec F S1024x512 e := shapeCast S1024x512 v shapeCasts_S1x1024x512_S1024x512

/-- One block's share of the three gradients added. -/
noncomputable def products (q g : FVec F S1024x128 .bf16) (o : Fin 2 → ℕ) (h : ∀ d, o d + S512x128.size d ≤ S4096x128.size d) (s : Fin 2) : m PUnit := do
  let dz ← ops.load .dz (slot s) h_S1x1024x512
  let ka ← ops.load .ka (keys o h) h_S512x128
  let _ ← ops.load .ka (keys o h) h_S512x128
  ops.store .ka (keys o h) (shapeCast S512x128 (α := F .f32) (addf ka (matmul dot_S1024x512_S1024x128_S512x128_0_0_1_1_n_n none (flat (F := F) (e := .bf16) dz) q
    (constant S512x128 .f32 0x00000000#32))) shapeCasts_S512x128_S512x128) (st_bits _ h_S512x128)
  let va ← ops.load .va (keys o h) h_S512x128
  let A ← ops.load .a (slot s) h_S1x1024x512
  let _ ← ops.load .va (keys o h) h_S512x128
  ops.store .va (keys o h) (shapeCast S512x128 (α := F .f32) (addf va (matmul dot_S1024x512_S1024x128_S512x128_0_0_1_1_n_n none (flat (F := F) (e := .bf16) A) g
    (constant S512x128 .f32 0x00000000#32))) shapeCasts_S512x128_S512x128) (st_bits _ h_S512x128)
  let qa ← ops.load .qa wqa h_S1024x128
  let k ← ops.load .k (keys o h) h_S512x128
  let _ ← ops.load .qa wqa h_S1024x128
  ops.store .qa wqa (shapeCast S1024x128 (α := F .f32) (addf qa (matmul dot_S1024x512_S512x128_S1024x128_1_0_0_1_n_n none (flat (F := F) (e := .bf16) dz)
    (shapeCast S512x128 k shapeCasts_S512x128_S512x128) (constant S1024x128 .f32 0x00000000#32))) shapeCasts_S1024x128_S1024x128) (st_bits _ h_S1024x128)

/-- Two key blocks of the main loop: their gradients, the next blocks' scores, the blocks' before products. -/
noncomputable def trip (L : F .f32) (q g : FVec F S1024x128 .bf16) (o1 o2 o3 o4 : Fin 2 → ℕ) (h1 : ∀ d, o1 d + S512x128.size d ≤ S4096x128.size d)
    (h2 : ∀ d, o2 d + S512x128.size d ≤ S4096x128.size d) (h3 : ∀ d, o3 d + S512x128.size d ≤ S4096x128.size d)
    (h4 : ∀ d, o4 d + S512x128.size d ≤ S4096x128.size d) : m PUnit := do
  gradients ops L false 0
  scores ops q g o1 h1 1
  products ops q g o2 h2 1
  gradients ops L false 1
  scores ops q g o3 h3 0
  products ops q g o4 h4 0

/-- The last block where their number is even: the diagonal one stands in slot 0. -/
noncomputable def even (L : F .f32) (q g : FVec F S1024x128 .bf16) (o1 o2 : Fin 2 → ℕ) (h1 : ∀ d, o1 d + S512x128.size d ≤ S4096x128.size d)
    (h2 : ∀ d, o2 d + S512x128.size d ≤ S4096x128.size d) : m PUnit := do
  gradients ops L true 0
  products ops q g o1 h1 1
  products ops q g o2 h2 0

/-- The last two blocks where it is odd. -/
noncomputable def odd (L : F .f32) (q g : FVec F S1024x128 .bf16) (o1 o2 o3 : Fin 2 → ℕ) (h1 : ∀ d, o1 d + S512x128.size d ≤ S4096x128.size d)
    (h2 : ∀ d, o2 d + S512x128.size d ≤ S4096x128.size d) (h3 : ∀ d, o3 d + S512x128.size d ≤ S4096x128.size d) : m PUnit := do
  gradients ops L false 0
  scores ops q g o1 h1 1
  products ops q g o2 h2 1
  gradients ops L true 1
  products ops q g o3 h3 0
  products ops q g o1 h1 1

/-- The accumulators of the key and value gradients cleared. -/
noncomputable def clear : m PUnit := do
  let _ ← ops.load .ka wkey h_S4096x128
  ops.store .ka wkey (shapeCast S4096x128 (α := F .f32) (broadcast S4096x128 (Scalar.ofBits .f32 0x00000000#32)) shapeCasts_S4096x128_S4096x128) (st_bits _ h_S4096x128)
  let _ ← ops.load .va wkey h_S4096x128
  ops.store .va wkey (shapeCast S4096x128 (α := F .f32) (broadcast S4096x128 (Scalar.ofBits .f32 0x00000000#32)) shapeCasts_S4096x128_S4096x128) (st_bits _ h_S4096x128)

/-- The lanes of the first head of the pair. -/
noncomputable def lanes : IVec S128x128 1 := cmpi .slt (iota .tc S128x128 32 [1] iota_S128x128_d1_w32) (broadcast S128x128 64#32)

/-- The rows of both heads, one under the other, each with the other head's lanes zero. -/
noncomputable def split (x : FVec F S128x128 .bf16) : FVec F S256x128 .bf16 :=
  concatenate S256x128 0 [⟨S128x128, select lanes x (broadcast S128x128 (Scalar.ofBits .bf16 0x0000#16))⟩,
    ⟨S128x128, select lanes (broadcast S128x128 (Scalar.ofBits .bf16 0x0000#16)) x⟩] concatenates_S128x128_S128x128_S256x128_d0

noncomputable def headStrip (a : Fin 4) : m (FVec F S256x128 .bf16 × FVec F S256x128 .bf16) := do
  let q ← ops.load .q (irow a) h_S128x128
  let g ← ops.load .g (irow a) h_S128x128
  let l0 ← ops.load .lt (lrow a 0) h_S1x128x1
  let l1 ← ops.load .lt (lrow a 1) h_S1x128x1
  let _ ← ops.load .ls (row a) h_S256x1
  ops.store .ls (row a) (shapeCast S256x1 (α := F .f32) (concatenate S256x1 0 [⟨S128x1, shapeCast S128x1 (α := F .f32) l0 shapeCasts_S1x128x1_S128x1⟩,
    ⟨S128x1, shapeCast S128x1 (α := F .f32) l1 shapeCasts_S1x128x1_S128x1⟩] concatenates_S128x1_S128x1_S256x1_d0) shapeCasts_S256x1_S256x1) (st_bits _ h_S256x1)
  pure (split (mulf (shapeCast S128x128 (α := F .bf16) q shapeCasts_S128x128_S128x128) (broadcast S128x128 (Scalar.ofBits .bf16 0x3E00#16))),
    split (shapeCast S128x128 (α := F .bf16) g shapeCasts_S128x128_S128x128))

noncomputable def stack (x0 x1 x2 x3 : FVec F S256x128 .bf16) : FVec F S1024x128 .bf16 :=
  concatenate S1024x128 0 [⟨S256x128, x0⟩, ⟨S256x128, x1⟩, ⟨S256x128, x2⟩, ⟨S256x128, x3⟩] concatenates_S256x128_S256x128_S256x128_S256x128_S1024x128_d0

/-- The rows laid out and the point's scratch set, up to the first block's scores. -/
noncomputable def head : m (FVec F S1024x128 .bf16 × FVec F S1024x128 .bf16) := do
  let x0 ← headStrip ops 0
  let x1 ← headStrip ops 1
  let x2 ← headStrip ops 2
  let x3 ← headStrip ops 3
  let _ ← ops.load .pc wrow h_S1024x1
  ops.store .pc wrow (shapeCast S1024x1 (α := F .f32) (broadcast S1024x1 (Scalar.ofBits .f32 0x00000000#32)) shapeCasts_S1024x1_S1024x1) (st_bits _ h_S1024x1)
  let _ ← ops.load .pe wrow h_S1024x1
  ops.store .pe wrow (shapeCast S1024x1 (α := F .f32) (broadcast S1024x1 (Scalar.ofBits .f32 0x00000000#32)) shapeCasts_S1024x1_S1024x1) (st_bits _ h_S1024x1)
  let _ ← ops.load .a (slot 1) h_S1x1024x512
  ops.store .a (slot 1) (shapeCast S1x1024x512 (α := F .bf16) (broadcast S1024x512 (Scalar.ofBits .bf16 0x0000#16)) shapeCasts_S1024x512_S1x1024x512)
    (st_packed _ h_S1x1024x512 (packed_slot 1))
  let _ ← ops.load .dz (slot 1) h_S1x1024x512
  ops.store .dz (slot 1) (shapeCast S1x1024x512 (α := F .bf16) (broadcast S1024x512 (Scalar.ofBits .bf16 0x0000#16)) shapeCasts_S1024x512_S1x1024x512)
    (st_packed _ h_S1x1024x512 (packed_slot 1))
  let _ ← ops.load .qa wqa h_S1024x128
  ops.store .qa wqa (shapeCast S1024x128 (α := F .f32) (broadcast S1024x128 (Scalar.ofBits .f32 0x00000000#32)) shapeCasts_S1024x128_S1024x128) (st_bits _ h_S1024x128)
  scores ops (stack x0.1 x1.1 x2.1 x3.1) (stack x0.2 x1.2 x2.2 x3.2) ![0, 0] inb_S4096x128_S512x128_0_0 0
  pure (stack x0.1 x1.1 x2.1 x3.1, stack x0.2 x1.2 x2.2 x3.2)

/-- The lanes of both heads brought together and scaled. -/
noncomputable def join (x : FVec F S256x128 .f32) : FVec F S128x128 .bf16 :=
  truncf .bf16 (mulf (select lanes (extractStridedSlice S128x128 ![0, 0] x slices_S256x128_o0_0_S128x128) (extractStridedSlice S128x128 ![128, 0] x slices_S256x128_o128_0_S128x128))
    (broadcast S128x128 (Scalar.ofBits .f32 0x3E000000#32))) bitsLt_bf16_f32

noncomputable def tailStrip (a : Fin 4) : m PUnit := do
  let x ← ops.load .qa (qrow a) h_S256x128
  let _ ← ops.load .dq (irow a) h_S128x128
  ops.store .dq (irow a) (join x) (st_packed _ h_S128x128 (packed_irow a))

noncomputable def tail : m PUnit := do
  tailStrip ops 0
  tailStrip ops 1
  tailStrip ops 2
  tailStrip ops 3

/-- The key and value gradients of the pair of heads written out. -/
noncomputable def flush : m PUnit := do
  let ka ← ops.load .ka wkey h_S4096x128
  let _ ← ops.load .dk wkey h_S4096x128
  ops.store .dk wkey (truncf .bf16 (ka : FVec F S4096x128 .f32) bitsLt_bf16_f32) (st_packed _ h_S4096x128 packedbf16_S4096x128_S4096x128_0_0)
  let va ← ops.load .va wkey h_S4096x128
  let _ ← ops.load .dv wkey h_S4096x128
  ops.store .dv wkey (truncf .bf16 (va : FVec F S4096x128 .f32) bitsLt_bf16_f32) (st_packed _ h_S4096x128 packedbf16_S4096x128_S4096x128_0_0)

end Cert.Sba
-- ==== Proof.SbaPointIdeal.lean ====
/- The printed body of one grid point is the text. -/
module

public import proofs.«01_k».proof.Proof.SbaText
public import proofs.«01_k».proof.Proof.Gen.SbaKernelIdeal
public import Idealize.ShloMosaic.Lib.Tactic
@[expose] public section
noncomputable section
open Idealize.ShloMosaic Idealize.ShloMosaic.TcCoe
open Idealize.SL.Sem
namespace Cert.SbaKernelIdeal.Point
open Cert.Run Cert.Sba Cert.SbaKernelIdeal Cert.SbaKernelIdeal.Gen

variable {F : FTy → Type} [FloatOps F] [Named F]

/-- The constant of the printed body that stands for `log₂ e`. -/
abbrev kap : F .f32 := Named.named κ "log2_e" 0x3FB8AA3B#32

/-- Whether the grid point is a pair of heads' first. -/
def cond1 (i : grid0.Coords) : BitVec 1 :=
  Scalar.cmpi .ne (Scalar.extui (Scalar.cmpi .eq (BitVec.ofNat 32 (i 1).val) 0#32) : BitVec 32) 0#32

/-- One grid point, over any loads, stores and loops. -/
def point {m : Type → Type 1} [Monad m] (ops : Ops K (Elt F) m)
    (lp : (l : Scf.Loop 32) → l.OK → BitVec 32 → (Fin l.trips → BitVec 32 → m (BitVec 32)) → m (BitVec 32)) (i : grid0.Coords) : m PUnit :=
  (if _h : cond1 i = 1#1 then clear ops else pure ⟨⟩) >>= fun _ =>
  head ops >>= fun x =>
  lp (k0_t1_loop i) (k0_t1_ok i) 0#32 (fun t _ => do
    trip ops kap x.1 x.2 (k0_off1 i t 1#32) (k0_off2 i t) (k0_off1 i t 2#32) (k0_off3 i t) (k0_off1_inb i t 0) (k0_off2_inb i t) (k0_off1_inb i t 1) (k0_off3_inb i t)
    pure 0#32) >>= fun a =>
  lp (k0_t2_loop i) (k0_t2_ok i) a (fun t _ => do
    trip ops kap x.1 x.2 (k0_off4 i t 1#32) (k0_off5 i t) (k0_off4 i t 2#32) (k0_off6 i t) (k0_off4_inb i t 0) (k0_off5_inb i t) (k0_off4_inb i t 1) (k0_off6_inb i t)
    pure 0#32) >>= fun _ =>
  (if h : k0_cond2 i = 1#1 then even ops kap x.1 x.2 (k0_off7 i) (k0_off8 i) (k0_off7_inb i h) (k0_off8_inb i h) else pure ⟨⟩) >>= fun _ =>
  (if h : k0_cond3 i = 1#1 then odd ops kap x.1 x.2 (k0_off9 i) (k0_off10 i) (k0_off11 i) (k0_off9_inb i h) (k0_off10_inb i h) (k0_off11_inb i h) else pure ⟨⟩) >>= fun _ =>
  tail ops >>= fun _ =>
  (if _h : k0_cond4 i = 1#1 then flush ops else pure ⟨⟩)

variable (M : K.At sig) (hM : ∀ b, (M b).IsWhole)

abbrev P : Ops K (Elt F) (Prog (TpuEff nD τ sig (Elt F) Λ₀ .tc)) := progOps M hM

/-- Half the number of key blocks before the diagonal one, as the kernel computes it. -/
def half (i : grid0.Coords) : BitVec 32 :=
  let arg1 : BitVec 32 := BitVec.ofNat 32 (i 1).val
  let c2_i32 : BitVec 32 := 2#32
  let v165 : BitVec 1 := Scalar.cmpi .sgt arg1 0#32
  let v166 : BitVec 32 := Scalar.extui v165
  let v167 : BitVec 1 := Scalar.cmpi .slt arg1 0#32
  let v168 : BitVec 32 := Scalar.extui v167
  let v170 : BitVec 1 := Scalar.cmpi .sgt c2_i32 0#32
  let v171 : BitVec 32 := Scalar.extui v170
  let v172 : BitVec 1 := Scalar.cmpi .slt c2_i32 0#32
  let v173 : BitVec 32 := Scalar.extui v172
  let v175 : BitVec 1 := Scalar.cmpi .ne (Scalar.subi v166 v168) (Scalar.subi v171 v173)
  let v177 : BitVec 1 := Scalar.cmpi .ne (Scalar.remsi arg1 c2_i32) 0#32
  Scalar.select (Scalar.andi v175 v177) (Scalar.subi (Scalar.divsi arg1 c2_i32) 1#32) (Scalar.divsi arg1 c2_i32)

theorem part90_eq (i : grid0.Coords) (q g : FVec F S1024x128 .bf16) (v : BitVec 32) :
    k0_part90 i (M .q) (hM .q) (M .k) (hM .k) (M .v) (hM .v) (M .lt) (hM .lt) (M .g) (hM .g) (M .dq) (hM .dq) (M .dk) (hM .dk) (M .dv) (hM .dv) (M .ka) (hM .ka) (M .va) (hM .va) (M .z) (hM .z) (M .da) (hM .da) (M .a) (hM .a) (M .dz) (hM .dz) (M .pc) (hM .pc) (M .pe) (hM .pe) (M .ls) (hM .ls) (M .qa) (hM .qa) (BitVec.ofNat 32 (i 1).val) incl excl q g v =
    Scf.Loop.for (k0_t1_loop i) (k0_t1_ok i) 0#32 (fun t _ => do
      trip (P M hM) kap q g (k0_off1 i t 1#32) (k0_off2 i t) (k0_off1 i t 2#32) (k0_off3 i t) (k0_off1_inb i t 0) (k0_off2_inb i t) (k0_off1_inb i t 1) (k0_off3_inb i t)
      pure 0#32) >>= fun v186 =>
    Scf.Loop.for (k0_t2_loop i) (k0_t2_ok i) v186 (fun t _ => do
      trip (P M hM) kap q g (k0_off4 i t 1#32) (k0_off5 i t) (k0_off4 i t 2#32) (k0_off6 i t) (k0_off4_inb i t 0) (k0_off5_inb i t) (k0_off4_inb i t 1) (k0_off6_inb i t)
      pure 0#32) >>= fun _ =>
    (if h : k0_cond2 i = 1#1 then even (P M hM) kap q g (k0_off7 i) (k0_off8 i) (k0_off7_inb i h) (k0_off8_inb i h) else pure ⟨⟩) >>= fun _ =>
    (if h : k0_cond3 i = 1#1 then odd (P M hM) kap q g (k0_off9 i) (k0_off10 i) (k0_off11 i) (k0_off9_inb i h) (k0_off10_inb i h) (k0_off11_inb i h) else pure ⟨⟩) >>= fun _ => (do
      tailStrip (P M hM) 0
      let x ← (P M hM).load .qa (qrow 1) h_S256x128
      pure (join x)) := by
  unfold k0_part90
  show Bind.bind _ _ = Bind.bind _ _
  refine bind_eq (for_eq _ _ _ fun t a => ?_) fun v186 => ?_
  · sl_kernel_rfl
  show Bind.bind _ _ = Bind.bind _ _
  refine bind_eq (for_eq _ _ _ fun t a => ?_) fun v187 => ?_
  · sl_kernel_rfl
  dsimp only
  refine (dite_jp fun h => ?_).trans (bind_eq rfl fun _ => ?_)
  · sl_kernel_rfl
  refine (dite_jp fun h => ?_).trans (bind_eq rfl fun _ => ?_)
  · sl_kernel_rfl
  sl_kernel_rfl

theorem body_eq (i : grid0.Coords) :
    cc0_sba_bwd (F := F) i (M .q) (hM .q) (M .k) (hM .k) (M .v) (hM .v) (M .lt) (hM .lt) (M .g) (hM .g) (M .dq) (hM .dq) (M .dk) (hM .dk) (M .dv) (hM .dv) (M .ka) (hM .ka) (M .va) (hM .va) (M .z) (hM .z) (M .da) (hM .da) (M .a) (hM .a) (M .dz) (hM .dz) (M .pc) (hM .pc) (M .pe) (hM .pe) (M .ls) (hM .ls) (M .qa) (hM .qa) = point (P M hM) Scf.Loop.for i := by
  unfold cc0_sba_bwd k0_part85
  refine (bind_eq (dite_jp (A := fun _ => clear (P M hM)) fun h => ?_) fun _ => rfl).trans ?_
  rotate_left 1
  refine (Prog.bind_assoc ..).trans (bind_eq rfl fun _ => ?_)
  refine Eq.trans (b := head (P M hM) >>= fun x => k0_part90 i (M .q) (hM .q) (M .k) (hM .k) (M .v) (hM .v) (M .lt) (hM .lt) (M .g) (hM .g) (M .dq) (hM .dq) (M .dk) (hM .dk) (M .dv) (hM .dv) (M .ka) (hM .ka) (M .va) (hM .va) (M .z) (hM .z) (M .da) (hM .da) (M .a) (hM .a) (M .dz) (hM .dz) (M .pc) (hM .pc) (M .pe) (hM .pe) (M .ls) (hM .ls) (M .qa) (hM .qa) (BitVec.ofNat 32 (i 1).val) incl excl x.1 x.2 (half i) >>= fun v => do
    let _ ← (P M hM).load .dq (irow 1) h_S128x128
    (P M hM).store .dq (irow 1) v (st_packed _ h_S128x128 (packed_irow 1))
    tailStrip (P M hM) 2
    tailStrip (P M hM) 3
    if _h : k0_cond4 i = 1#1 then flush (P M hM) >>= fun _ => pure ⟨⟩ else pure ⟨⟩) ?_ (bind_eq rfl fun x => ?_)
  · sl_kernel_rfl
  · rw [part90_eq]
    refine (Prog.bind_assoc ..).trans (bind_eq rfl fun _ => ?_)
    refine (Prog.bind_assoc ..).trans (bind_eq rfl fun _ => ?_)
    refine (Prog.bind_assoc ..).trans (bind_eq rfl fun _ => ?_)
    refine (Prog.bind_assoc ..).trans (bind_eq rfl fun _ => ?_)
    sl_kernel_rfl
  · sl_kernel_rfl

end Cert.SbaKernelIdeal.Point
-- ==== Proof.SbaTile.lean ====
/- The arithmetic of one tile of the attention's backward kernel, on real numbers. -/
module

public import proofs.«01_k».proof.Proof.SbaText
public import proofs.«01_k».proof.Proof.SbaPointIdeal
public import proofs.«01_k».proof.Proof.Reals
public import Idealize.ShloMosaic.Lib.Pointwise

@[expose] public section

set_option maxRecDepth 16384

noncomputable section

open Idealize.ShloMosaic Idealize.ShloMosaic.TcCoe

namespace Cert.Sba

open Cert.Run Cert.SbaKernelIdeal Cert.SbaKernelIdeal.Gen

/-- `log₂ (1 + eᶻ)`, and the logistic function. -/
def sp (z : ℝ) : ℝ := Real.log (1 + Real.exp z) / Real.log 2
def sg (z : ℝ) : ℝ := Real.exp z / (1 + Real.exp z)

theorem kap_eq : SbaKernelIdeal.Point.kap (F := Ideal) = (((Real.log 2)⁻¹ : ℝ) : EReal) := by
  rfl

theorem log2_pos : 0 < Real.log 2 := Real.log_pos (by norm_num)

theorem rpow_two (x : ℝ) : Real.rpow 2 (x / Real.log 2) = Real.exp x := by
  show (2 : ℝ) ^ (x / Real.log 2) = _
  rw [Real.rpow_def_of_pos (by norm_num), mul_div_cancel₀ _ log2_pos.ne']

theorem softplus_eq (z : ℝ) : max z 0 + Real.log (1 + Real.exp (-|z|)) = Real.log (1 + Real.exp z) := by
  rcases le_total 0 z with h | h
  · rw [max_eq_left h, abs_of_nonneg h]
    have e : 1 + Real.exp z = Real.exp z * (1 + Real.exp (-z)) := by
      rw [mul_add, ← Real.exp_add]; simp; ring
    rw [e, Real.log_mul (Real.exp_ne_zero _) (by positivity), Real.log_exp]
  · rw [max_eq_right h, abs_of_nonpos h, neg_neg, zero_add]

theorem soft_apply (x : FVec Ideal S256x256 .f32) (z : ℝ) (y : S256x256.Idx) (h : x y = (z : EReal)) :
    soft (F := Ideal) SbaKernelIdeal.Point.kap x y = (sp z : EReal) := by
  show max (x y * SbaKernelIdeal.Point.kap (F := Ideal)) (Ideal.ofBits .f32 0x00000000#32)
    + Ideal.log (Ideal.ofBits .f32 0x3F800000#32 + Ideal.exp2 (Ideal.ofBits .f32 0x00000000#32 - max (x y * SbaKernelIdeal.Point.kap (F := Ideal)) (-(x y * SbaKernelIdeal.Point.kap (F := Ideal))))) * SbaKernelIdeal.Point.kap (F := Ideal) = _
  rw [h, kap_eq, Reals.ofBits_one, show Ideal.ofBits .f32 0x00000000#32 = ((0 : ℝ) : EReal) by simp [Ideal.ofBits, Ideal.ieee], ← EReal.coe_mul, ← EReal.coe_neg,
    ← EReal.coe_strictMono.monotone.map_max, ← EReal.coe_strictMono.monotone.map_max, ← EReal.coe_sub, Ideal.exp2_coe, ← EReal.coe_add]
  have e : (0 : ℝ) - max (z * (Real.log 2)⁻¹) (-(z * (Real.log 2)⁻¹)) = (-|z|) / Real.log 2 := by
    rw [show max (z * (Real.log 2)⁻¹) (-(z * (Real.log 2)⁻¹)) = |z * (Real.log 2)⁻¹| from rfl, abs_mul, abs_of_pos (inv_pos.mpr log2_pos)]
    ring
  rw [e, rpow_two, Reals.log_coe_pos (by positivity), ← EReal.coe_mul, ← EReal.coe_add]
  refine congrArg _ ?_
  rw [sp, ← softplus_eq z, add_div, div_eq_mul_inv (Real.log _)]
  congr 1
  rcases le_total 0 z with h | h
  · rw [max_eq_left h, max_eq_left (mul_nonneg h (inv_pos.mpr log2_pos).le), div_eq_mul_inv]
  · rw [max_eq_right h, max_eq_right (mul_nonpos_of_nonpos_of_nonneg h (inv_pos.mpr log2_pos).le), zero_div]

theorem lgs_apply (x : FVec Ideal S256x256 .f32) (z : ℝ) (y : S256x256.Idx) (h : x y = (z : EReal)) :
    lgs (F := Ideal) SbaKernelIdeal.Point.kap x y = ((z / Real.log 2 - sp z : ℝ) : EReal) := by
  show x y * SbaKernelIdeal.Point.kap (F := Ideal) - soft (F := Ideal) SbaKernelIdeal.Point.kap x y = _
  rw [soft_apply x z y h, h, kap_eq, ← EReal.coe_mul, ← EReal.coe_sub, div_eq_mul_inv]

theorem toInt_small (n : ℕ) (h : n < 2 ^ 31) : (BitVec.ofNat 32 n).toInt = n := by
  rw [BitVec.toInt_eq_toNat_cond, BitVec.toNat_ofNat]
  have : n % 2 ^ 32 = n := Nat.mod_eq_of_lt (by omega)
  rw [this, if_pos (by omega)]

theorem sle_small {m n : ℕ} (hm : m < 2 ^ 31) (hn : n < 2 ^ 31) : IntOp.cmpi .sle (BitVec.ofNat 32 m) (BitVec.ofNat 32 n) = if m ≤ n then 1#1 else 0#1 := by
  simp only [IntOp.cmpi, BitVec.sle_eq_decide, toInt_small m hm, toInt_small n hn, Nat.cast_le]
  split <;> simp [*]

theorem slt_small {m n : ℕ} (hm : m < 2 ^ 31) (hn : n < 2 ^ 31) : IntOp.cmpi .slt (BitVec.ofNat 32 m) (BitVec.ofNat 32 n) = if m < n then 1#1 else 0#1 := by
  simp only [IntOp.cmpi, BitVec.slt_eq_decide, toInt_small m hm, toInt_small n hn, Nat.cast_lt]
  split <;> simp [*]

theorem sge_small {m n : ℕ} (hm : m < 2 ^ 31) (hn : n < 2 ^ 31) : IntOp.cmpi .sge (BitVec.ofNat 32 m) (BitVec.ofNat 32 n) = if n ≤ m then 1#1 else 0#1 := by
  simp only [IntOp.cmpi, BitVec.sle_eq_decide, toInt_small m hm, toInt_small n hn, Nat.cast_le]
  split <;> simp [*]

theorem incl_apply (k c : Fin 256) : incl (F := Ideal) (ix2 k c) = ((if k.val ≤ c.val then 1 else 0 : ℝ) : EReal) := by
  have e : incl (F := Ideal) (ix2 k c) = FloatOps.sitofp (F := Ideal) .f32 (BitVec.setWidth 32 (IntOp.cmpi .sle (BitVec.ofNat 32 k.val) (BitVec.ofNat 32 c.val))) := by
    pointwise [incl]
  rw [e, sle_small (by omega) (by omega)]
  show (((BitVec.setWidth 32 (if k.val ≤ c.val then 1#1 else 0#1)).toInt : ℝ) : EReal) = _
  split <;> simp

theorem excl_apply (k c : Fin 256) : excl (F := Ideal) (ix2 k c) = ((if k.val < c.val then 1 else 0 : ℝ) : EReal) := by
  have e : excl (F := Ideal) (ix2 k c) = FloatOps.sitofp (F := Ideal) .f32 (BitVec.setWidth 32 (IntOp.cmpi .slt (BitVec.ofNat 32 k.val) (BitVec.ofNat 32 c.val))) := by
    pointwise [excl]
  rw [e, slt_small (by omega) (by omega)]
  show (((BitVec.setWidth 32 (if k.val < c.val then 1#1 else 0#1)).toInt : ℝ) : EReal) = _
  split <;> simp

theorem mask_apply (a : Fin 4) (b : Fin 2) (ρ c : Fin 256) : mask a b (ix2 ρ c) = if 256 * b.val + c.val < 128 * a.val + ρ.val % 128 then 1#1 else 0#1 := by
  have e : mask a b (ix2 ρ c) = IntOp.cmpi .slt (IntOp.addi (BitVec.ofNat 32 (256 * b.val)) (BitVec.ofNat 32 c.val)) (IntOp.addi (BitVec.ofNat 32 (128 * a.val))
      (if IntOp.cmpi .sge (BitVec.ofNat 32 ρ.val) 128#32 = 1#1 then BitVec.ofNat 32 ρ.val - 128#32 else BitVec.ofNat 32 ρ.val)) := by
    pointwise [mask]
    rfl
  have hs : (if IntOp.cmpi .sge (BitVec.ofNat 32 ρ.val) 128#32 = 1#1 then BitVec.ofNat 32 ρ.val - 128#32 else BitVec.ofNat 32 ρ.val) = BitVec.ofNat 32 (ρ.val % 128) := by
    rw [sge_small (n := 128) (by omega) (by omega)]
    by_cases h : 128 ≤ ρ.val
    · rw [if_pos h, if_pos rfl]
      apply BitVec.eq_of_toNat_eq
      rw [BitVec.toNat_sub, BitVec.toNat_ofNat, BitVec.toNat_ofNat, BitVec.toNat_ofNat]
      omega
    · rw [if_neg h, if_neg (by decide), Nat.mod_eq_of_lt (by omega)]
  rw [e, hs]
  unfold IntOp.addi
  rw [← BitVec.ofNat_add, ← BitVec.ofNat_add, slt_small (by omega) (by omega)]

theorem blkP_apply (κ : Kind) (a : Fin 4) (b : Fin 2) (pc : FVec Ideal S256x1 .f32) (z : FVec Ideal S256x256 .f32) (ρ c : Fin 256) :
    blkP (F := Ideal) SbaKernelIdeal.Point.kap κ a b pc z (ix2 ρ c) = pc (ix2 ρ 0) + ∑ k : Fin 256, sel κ a b (soft (F := Ideal) SbaKernelIdeal.Point.kap z) (ix2 ρ k) * incl (F := Ideal) (ix2 k c) := by
  pointwise [blkP]

theorem blkPE_apply (κ : Kind) (a : Fin 4) (b : Fin 2) (lt pc pe : FVec Ideal S256x1 .f32) (z da : FVec Ideal S256x256 .f32) (ρ c : Fin 256) :
    blkPE (F := Ideal) SbaKernelIdeal.Point.kap κ a b lt pc pe z da (ix2 ρ c) = pe (ix2 ρ 0) + ∑ k : Fin 256, blkE (F := Ideal) SbaKernelIdeal.Point.kap κ a b lt pc z da (ix2 ρ k) * excl (F := Ideal) (ix2 k c) := by
  pointwise [blkPE]

/-- What a tile's choice of keys is. -/
def keeps : Kind → Fin 4 → Fin 2 → ℕ → ℕ → Prop
  | .full, _, _, _, _ => True
  | .masked, a, b, ρ, c => 256 * b.val + c < 128 * a.val + ρ % 128
  | .skip, _, _, _, _ => False

theorem sel_apply {κ : Kind} (hκ : κ ≠ .skip) (a : Fin 4) (b : Fin 2) (x : FVec Ideal S256x256 .f32) (ρ c : Fin 256) {p : Prop} [Decidable p] (hp : keeps κ a b ρ.val c.val ↔ p)
    (r : ℝ) (h : x (ix2 ρ c) = (r : EReal)) : sel (F := Ideal) κ a b x (ix2 ρ c) = ((if p then r else 0 : ℝ) : EReal) := by
  cases κ
  · rw [if_pos (hp.mp trivial)]; exact h
  · show (if mask a b (ix2 ρ c) = 1#1 then x (ix2 ρ c) else Ideal.ofBits .f32 0x00000000#32) = _
    rw [mask_apply, h]
    have hp' : (256 * b.val + c.val < 128 * a.val + ρ.val % 128) ↔ p := hp
    by_cases hq : p
    · rw [if_pos (hp'.mpr hq), if_pos rfl, if_pos hq]
    · rw [if_neg (fun h => hq (hp'.mp h)), if_neg (by decide), if_neg hq]
      simp [Ideal.ofBits, Ideal.ieee]
  · exact absurd rfl hκ

/-! ## Real rows -/

/-- A query row: how many keys come before it, its logarithm's total, its logits and its weights' gradients. -/
structure Row where
  lim : ℕ
  lt : ℝ
  z : ℕ → ℝ
  da : ℕ → ℝ

namespace Row
variable (R : Row)

def S (j : ℕ) : ℝ := if j < R.lim then sp (R.z j) else 0
def P (n : ℕ) : ℝ := ∑ j ∈ Finset.range n, R.S j
def g (j : ℕ) : ℝ := Real.rpow 2 (R.z j / Real.log 2 - sp (R.z j))
def A (j : ℕ) : ℝ := if j < R.lim then Real.rpow 2 (R.z j / Real.log 2 - sp (R.z j) - (R.lt - R.P (j + 1))) else 0
def E (j : ℕ) : ℝ := R.da j * R.A j
def PE (n : ℕ) : ℝ := ∑ j ∈ Finset.range n, R.E j
def D (j : ℕ) : ℝ := if j < R.lim then R.E j - R.g j * (R.E j + R.PE j) else 0

end Row

theorem sum_le (f : ℕ → ℝ) (m : ℕ) (c : Fin 256) : ∑ k : Fin 256, f (m + k.val) * (if k.val ≤ c.val then 1 else 0) = ∑ j ∈ Finset.range (c.val + 1), f (m + j) := by
  rw [Fin.sum_univ_eq_sum_range (fun k => f (m + k) * (if k ≤ c.val then 1 else 0)) 256]
  simp only [mul_ite, mul_one, mul_zero]
  rw [← Finset.sum_filter]
  refine Finset.sum_congr (Finset.ext fun k => ?_) fun _ _ => rfl
  have := c.isLt
  simp only [Finset.mem_filter, Finset.mem_range]
  omega

theorem sum_lt (f : ℕ → ℝ) (m : ℕ) (c : Fin 256) : ∑ k : Fin 256, f (m + k.val) * (if k.val < c.val then 1 else 0) = ∑ j ∈ Finset.range c.val, f (m + j) := by
  rw [Fin.sum_univ_eq_sum_range (fun k => f (m + k) * (if k < c.val then 1 else 0)) 256]
  simp only [mul_ite, mul_one, mul_zero]
  rw [← Finset.sum_filter]
  refine Finset.sum_congr (Finset.ext fun k => ?_) fun _ _ => rfl
  have := c.isLt
  simp only [Finset.mem_filter, Finset.mem_range]
  omega

section tile

variable {κ : Kind} (hκ : κ ≠ .skip) {a : Fin 4} {b : Fin 2} {lt pc pe : FVec Ideal S256x1 .f32} {z da : FVec Ideal S256x256 .f32} {R : Fin 256 → Row} {m : ℕ}
  (hp : ∀ ρ c : Fin 256, keeps κ a b ρ.val c.val ↔ m + c.val < (R ρ).lim)
  (hlt : ∀ ρ : Fin 256, lt (ix2 ρ 0) = ((R ρ).lt : EReal)) (hpc : ∀ ρ : Fin 256, pc (ix2 ρ 0) = ((R ρ).P m : EReal)) (hpe : ∀ ρ : Fin 256, pe (ix2 ρ 0) = ((R ρ).PE m : EReal))
  (hz : ∀ ρ c : Fin 256, z (ix2 ρ c) = ((R ρ).z (m + c.val) : EReal)) (hda : ∀ ρ c : Fin 256, da (ix2 ρ c) = ((R ρ).da (m + c.val) : EReal))

include hκ hp hpc hz in
theorem blkP_real (ρ c : Fin 256) : blkP (F := Ideal) SbaKernelIdeal.Point.kap κ a b pc z (ix2 ρ c) = ((R ρ).P (m + c.val + 1) : EReal) := by
  have e : ∀ k : Fin 256, sel (F := Ideal) κ a b (soft (F := Ideal) SbaKernelIdeal.Point.kap z) (ix2 ρ k) * incl (F := Ideal) (ix2 k c)
      = (((R ρ).S (m + k.val) * (if k.val ≤ c.val then 1 else 0) : ℝ) : EReal) := fun k => by
    rw [sel_apply hκ a b _ ρ k (hp ρ k) _ (soft_apply _ _ _ (hz ρ k)), incl_apply, ← EReal.coe_mul]
    rfl
  rw [blkP_apply, Finset.sum_congr rfl fun k _ => e k, Reals.sum_coe, hpc, ← EReal.coe_add, sum_le, add_assoc m]
  unfold Row.P
  rw [Finset.sum_range_add _ m]

include hκ hp hpc hz hlt in
theorem blkA_real (ρ c : Fin 256) : blkA (F := Ideal) SbaKernelIdeal.Point.kap κ a b lt pc z (ix2 ρ c) = ((R ρ).A (m + c.val) : EReal) := by
  unfold blkA
  refine (sel_apply hκ a b _ ρ c (hp ρ c) (Real.rpow 2 ((R ρ).z (m + c.val) / Real.log 2 - sp ((R ρ).z (m + c.val)) - ((R ρ).lt - (R ρ).P (m + c.val + 1)))) ?_).trans rfl
  have e : exp2 (F := Ideal) (subf (lgs (F := Ideal) SbaKernelIdeal.Point.kap z) (subf (broadcastTo S256x256 lt broadcasts_S256x1_S256x256) (blkP (F := Ideal) SbaKernelIdeal.Point.kap κ a b pc z))) (ix2 ρ c)
      = Ideal.exp2 (lgs (F := Ideal) SbaKernelIdeal.Point.kap z (ix2 ρ c) - (lt (ix2 ρ 0) - blkP (F := Ideal) SbaKernelIdeal.Point.kap κ a b pc z (ix2 ρ c))) := by
    pointwise []
    rfl
  rw [e, lgs_apply _ _ _ (hz ρ c), blkP_real hκ hp hpc hz, hlt, ← EReal.coe_sub, ← EReal.coe_sub, Ideal.exp2_coe]

include hκ hp hpc hz hlt hda in
theorem blkE_real (ρ c : Fin 256) : blkE (F := Ideal) SbaKernelIdeal.Point.kap κ a b lt pc z da (ix2 ρ c) = ((R ρ).E (m + c.val) : EReal) := by
  show da (ix2 ρ c) * blkA (F := Ideal) SbaKernelIdeal.Point.kap κ a b lt pc z (ix2 ρ c) = _
  rw [blkA_real hκ hp hlt hpc hz, hda, ← EReal.coe_mul]
  rfl

include hκ hp hpc hpe hz hlt hda in
theorem blkPE_real (ρ c : Fin 256) : blkPE (F := Ideal) SbaKernelIdeal.Point.kap κ a b lt pc pe z da (ix2 ρ c) = ((R ρ).PE (m + c.val) : EReal) := by
  have e : ∀ k : Fin 256, blkE (F := Ideal) SbaKernelIdeal.Point.kap κ a b lt pc z da (ix2 ρ k) * excl (F := Ideal) (ix2 k c)
      = (((R ρ).E (m + k.val) * (if k.val < c.val then 1 else 0) : ℝ) : EReal) := fun k => by
    rw [blkE_real hκ hp hlt hpc hz hda, excl_apply, ← EReal.coe_mul]
  rw [blkPE_apply, Finset.sum_congr rfl fun k _ => e k, Reals.sum_coe, hpe, ← EReal.coe_add, sum_lt]
  unfold Row.PE
  rw [Finset.sum_range_add _ m]

include hκ hp hpc hpe hz hlt hda in
theorem blkD_real (ρ c : Fin 256) : blkD (F := Ideal) SbaKernelIdeal.Point.kap κ a b lt pc pe z da (ix2 ρ c) = ((R ρ).D (m + c.val) : EReal) := by
  unfold blkD
  refine (sel_apply hκ a b _ ρ c (hp ρ c) ((R ρ).E (m + c.val) - (R ρ).g (m + c.val) * ((R ρ).E (m + c.val) + (R ρ).PE (m + c.val))) ?_).trans rfl
  show blkE (F := Ideal) SbaKernelIdeal.Point.kap κ a b lt pc z da (ix2 ρ c) - Ideal.exp2 (lgs (F := Ideal) SbaKernelIdeal.Point.kap z (ix2 ρ c))
    * (blkE (F := Ideal) SbaKernelIdeal.Point.kap κ a b lt pc z da (ix2 ρ c) + blkPE (F := Ideal) SbaKernelIdeal.Point.kap κ a b lt pc pe z da (ix2 ρ c)) = _
  rw [blkE_real hκ hp hlt hpc hz hda, blkPE_real hκ hp hlt hpc hpe hz hda, lgs_apply _ _ _ (hz ρ c), Ideal.exp2_coe, ← EReal.coe_add, ← EReal.coe_mul, ← EReal.coe_sub]
  rfl

include hκ hp hpc hz in
theorem newPc_real (ρ : Fin 256) : newPc (F := Ideal) SbaKernelIdeal.Point.kap κ a b pc z (ix2 ρ 0) = ((R ρ).P (m + 256) : EReal) := by
  have e : newPc (F := Ideal) SbaKernelIdeal.Point.kap κ a b pc z (ix2 ρ 0) = blkP (F := Ideal) SbaKernelIdeal.Point.kap κ a b pc z (ix2 ρ 255) := by pointwise [newPc]
  rw [e, blkP_real hκ hp hpc hz]
  rfl

include hκ hp hpc hpe hz hlt hda in
theorem newPe_real (ρ : Fin 256) : newPe (F := Ideal) SbaKernelIdeal.Point.kap κ a b lt pc pe z da (ix2 ρ 0) = ((R ρ).PE (m + 256) : EReal) := by
  have e : newPe (F := Ideal) SbaKernelIdeal.Point.kap κ a b lt pc pe z da (ix2 ρ 0) = blkPE (F := Ideal) SbaKernelIdeal.Point.kap κ a b lt pc pe z da (ix2 ρ 255)
    + blkE (F := Ideal) SbaKernelIdeal.Point.kap κ a b lt pc z da (ix2 ρ 255) := by pointwise [newPe]
  rw [e, blkPE_real hκ hp hlt hpc hpe hz hda, blkE_real hκ hp hlt hpc hz hda, ← EReal.coe_add]
  unfold Row.PE
  rw [show m + 256 = m + 255 + 1 from rfl, Finset.sum_range_succ]
  rfl

end tile

/-- Where no key of the tile comes before the query, the sums stay and the weights and gradients are zero. -/
theorem Row.zero_past (R : Row) {j : ℕ} (h : R.lim ≤ j) : R.S j = 0 ∧ R.A j = 0 ∧ R.E j = 0 ∧ R.D j = 0 := by
  have hn : ¬j < R.lim := by omega
  refine ⟨if_neg hn, if_neg hn, ?_, if_neg hn⟩
  rw [Row.E, Row.A, if_neg hn, mul_zero]

theorem Row.P_past (R : Row) {m : ℕ} (h : R.lim ≤ m) (n : ℕ) : R.P (m + n) = R.P m ∧ R.PE (m + n) = R.PE m := by
  unfold Row.P Row.PE
  rw [Finset.sum_range_add, Finset.sum_range_add, Finset.sum_eq_zero fun j _ => (R.zero_past (j := m + j) (by omega)).1,
    Finset.sum_eq_zero fun j _ => (R.zero_past (j := m + j) (by omega)).2.2.1]
  exact ⟨add_zero _, add_zero _⟩

end Cert.Sba
-- ==== Proof.SbaStep.lean ====
/- What the steps of one grid point of the attention's backward kernel leave, on real numbers. -/
module

public import proofs.«01_k».proof.Proof.SbaTile

@[expose] public section

set_option maxRecDepth 16384

noncomputable section

open Idealize.ShloMosaic Idealize.ShloMosaic.TcCoe

namespace Cert.Sba

open Cert.Run Cert.SbaKernelIdeal Cert.SbaKernelIdeal.Gen

/-! ## Places of the rectangles -/

theorem put_in {s : Shape} {α : Type} (r : Rect s) (w : r.shape.Idx → α) (v : s.Idx → α) {y : s.Idx} (x : r.shape.Idx) (h : r.emb x = y) : put r w v y = w x := by
  subst h; exact put_emb r w v x

theorem put_out {s : Shape} {α : Type} (r : Rect s) (w : r.shape.Idx → α) (v : s.Idx → α) (y : s.Idx) (d : Fin s.rank) (n l : ℕ)
    (hs : r.stride d = 1) (ho : r.off d = n) (hl : r.shape.size d = l) (h : (y d).val < n ∨ n + l ≤ (y d).val) : put r w v y = v y :=
  put_of_not _ _ _ _ fun x hx => by
    have e : (y d).val = r.off d + r.stride d * (x d).val := by rw [← hx]; rfl
    have hx : (x d).val < r.shape.size d := (x d).isLt
    have hx' := lt_of_lt_of_eq hx hl
    rw [hs, ho] at e
    omega

theorem sub_emb {s : Fin 2} {a : Fin 4} {b : Fin 2} {r : Fin 1024} {j : Fin 512} {ρ c : Fin 256} (hr : r.val = 256 * a.val + ρ.val) (hj : j.val = 256 * b.val + c.val) :
    (sub s a b).emb (ix3 0 ρ c) = ix3 s r j := by
  funext d; apply Fin.ext; rw [Rect.emb_apply]
  fin_cases d
  · show s.val + 1 * 0 = s.val; omega
  · show 256 * a.val + 1 * ρ.val = r.val; omega
  · show 256 * b.val + 1 * c.val = j.val; omega

theorem slot_emb {s : Fin 2} (r : Fin 1024) (j : Fin 512) : (slot s).emb (ix3 0 r j) = ix3 s r j := by
  funext d; apply Fin.ext; rw [Rect.emb_apply]
  fin_cases d
  · show s.val + 1 * 0 = s.val; omega
  · show 0 + 1 * r.val = r.val; omega
  · show 0 + 1 * j.val = j.val; omega

theorem row_emb {a : Fin 4} {r : Fin 1024} {ρ : Fin 256} (hr : r.val = 256 * a.val + ρ.val) : (row a).emb (ix2 ρ 0) = ix2 r 0 := by
  funext d; apply Fin.ext; rw [Rect.emb_apply]
  fin_cases d
  · show 256 * a.val + 1 * ρ.val = r.val; omega
  · show 0 + 1 * 0 = 0; omega

theorem put_sub {α : Type} (s : Fin 2) (a : Fin 4) (b : Fin 2) (w : S1x256x256.Idx → α) (v : S2x1024x512.Idx → α) (s' : Fin 2) (r : Fin 1024) (j : Fin 512)
    (h : s' ≠ s ∨ r.val / 256 ≠ a.val ∨ j.val / 256 ≠ b.val) : put (sub s a b) w v (ix3 s' r j) = v (ix3 s' r j) := by
  rcases h with h | h | h
  · exact put_out (sub s a b) w v _ 0 s.val 1 rfl rfl rfl (by rw [ix3_0]; omega)
  · exact put_out (sub s a b) w v _ 1 (256 * a.val) 256 rfl rfl rfl (by rw [ix3_1]; omega)
  · exact put_out (sub s a b) w v _ 2 (256 * b.val) 256 rfl rfl rfl (by rw [ix3_2]; omega)

theorem put_row {α : Type} (a : Fin 4) (w : S256x1.Idx → α) (v : S1024x1.Idx → α) (r : Fin 1024)
    (h : r.val / 256 ≠ a.val) : put (row a) w v (ix2 r 0) = v (ix2 r 0) := by
  exact put_out (row a) w v _ 0 (256 * a.val) 256 rfl rfl rfl (by rw [ix2_0]; omega)

theorem put_slot {α : Type} (s : Fin 2) (w : S1x1024x512.Idx → α) (v : S2x1024x512.Idx → α) (s' : Fin 2) (r : Fin 1024) (j : Fin 512)
    (h : s' ≠ s) : put (slot s) w v (ix3 s' r j) = v (ix3 s' r j) := by
  exact put_out (slot s) w v _ 0 s.val 1 rfl rfl rfl (by rw [ix3_0]; omega)

theorem cast2_apply {e : EltTy} (v : Vec Ideal S1x256x256 e) (ρ c : Fin 256) : cast2 (F := Ideal) v (ix2 ρ c) = v (ix3 0 ρ c) := by pointwise []
theorem cast3_apply {e : EltTy} (v : Vec Ideal S256x256 e) (ρ c : Fin 256) : cast3 (F := Ideal) v (ix3 0 ρ c) = v (ix2 ρ c) := by pointwise []

abbrev St := K.St (Elt Ideal)
abbrev O := stOps K (Elt Ideal)
abbrev kp : Ideal .f32 := SbaKernelIdeal.Point.kap (F := Ideal)

/-! ## A tile -/

/-- A tile's weights and gradients put in their places. -/
def put2 (st : St) (s : Fin 2) (a : Fin 4) (b : Fin 2) (A D : FVec Ideal S256x256 .bf16) : St :=
  Function.update (Function.update st .a (put (sub s a b) (cast3 (F := Ideal) (e := .bf16) A) (st .a))) .dz (put (sub s a b) (cast3 (F := Ideal) (e := .bf16) D) (st .dz))

theorem put2_other (st : St) (s : Fin 2) (a : Fin 4) (b : Fin 2) (A D) (x : Buf) (h1 : x ≠ .a) (h2 : x ≠ .dz) : put2 st s a b A D x = st x := by
  unfold put2
  rw [Function.update_of_ne h2, Function.update_of_ne h1]
theorem put2_a (st : St) (s : Fin 2) (a : Fin 4) (b : Fin 2) (A D) : put2 st s a b A D .a = put (sub s a b) (cast3 (F := Ideal) (e := .bf16) A) (st .a) := by
  unfold put2
  rw [Function.update_of_ne (by decide), Function.update_self]
theorem put2_dz (st : St) (s : Fin 2) (a : Fin 4) (b : Fin 2) (A D) : put2 st s a b A D .dz = put (sub s a b) (cast3 (F := Ideal) (e := .bf16) D) (st .dz) := by
  unfold put2
  rw [Function.update_self]

theorem putTile_run (st : St) (s : Fin 2) (a : Fin 4) (b : Fin 2) (A D) : (putTile O s a b A D).run st = (⟨⟩, put2 st s a b A D) := rfl

/-- The loaded tile. -/
def tl (st : St) (s : Fin 2) (a : Fin 4) (b : Fin 2) : FVec Ideal S256x256 .f32 := cast2 (F := Ideal) (e := .f32) fun x => st .z ((sub s a b).emb x)
def tg (st : St) (s : Fin 2) (a : Fin 4) (b : Fin 2) : FVec Ideal S256x256 .f32 := cast2 (F := Ideal) (e := .f32) fun x => st .da ((sub s a b).emb x)

theorem tile_run (κ : Kind) (hκ : κ ≠ .skip) (st : St) (s : Fin 2) (a : Fin 4) (b : Fin 2) (lt : FVec Ideal S256x1 .f32) (p : FVec Ideal S256x1 .f32 × FVec Ideal S256x1 .f32) :
    (tile O kp κ s a b lt p).run st = ((newPc (F := Ideal) kp κ a b p.1 (tl st s a b), newPe (F := Ideal) kp κ a b lt p.1 p.2 (tl st s a b) (tg st s a b)),
      put2 st s a b (blkA (F := Ideal) kp κ a b lt p.1 (tl st s a b)) (blkD (F := Ideal) kp κ a b lt p.1 p.2 (tl st s a b) (tg st s a b))) := by
  cases κ
  · rfl
  · rfl
  · exact absurd rfl hκ

theorem tile_run_skip (st : St) (s : Fin 2) (a : Fin 4) (b : Fin 2) (lt : FVec Ideal S256x1 .f32) (p : FVec Ideal S256x1 .f32 × FVec Ideal S256x1 .f32) :
    (tile O kp .skip s a b lt p).run st = (p, put2 st s a b (broadcast S256x256 (Scalar.ofBits .bf16 0x0000#16)) (broadcast S256x256 (Scalar.ofBits .bf16 0x0000#16))) := rfl

/-- What one tile of a strip leaves: its sums moved on by its keys, its weights and gradients in their places, all else as it was. -/
structure TileDone (R : ℕ → Row) (s : Fin 2) (a : Fin 4) (b : Fin 2) (m : ℕ) (st st' : St) (p' : FVec Ideal S256x1 .f32 × FVec Ideal S256x1 .f32) : Prop where
  other : ∀ x : Buf, x ≠ .a → x ≠ .dz → st' x = st x
  pc : ∀ ρ : Fin 256, p'.1 (ix2 ρ 0) = ((R (256 * a.val + ρ.val)).P (m + 256) : EReal)
  pe : ∀ ρ : Fin 256, p'.2 (ix2 ρ 0) = ((R (256 * a.val + ρ.val)).PE (m + 256) : EReal)
  inA : ∀ (r : Fin 1024) (j : Fin 512), r.val / 256 = a.val → j.val / 256 = b.val → st' .a (ix3 s r j) = ((R r.val).A (m + j.val % 256) : EReal)
  inD : ∀ (r : Fin 1024) (j : Fin 512), r.val / 256 = a.val → j.val / 256 = b.val → st' .dz (ix3 s r j) = ((R r.val).D (m + j.val % 256) : EReal)
  outA : ∀ (s' : Fin 2) (r : Fin 1024) (j : Fin 512), (s' ≠ s ∨ r.val / 256 ≠ a.val ∨ j.val / 256 ≠ b.val) → st' .a (ix3 s' r j) = st .a (ix3 s' r j)
  outD : ∀ (s' : Fin 2) (r : Fin 1024) (j : Fin 512), (s' ≠ s ∨ r.val / 256 ≠ a.val ∨ j.val / 256 ≠ b.val) → st' .dz (ix3 s' r j) = st .dz (ix3 s' r j)

theorem put2_done {R : ℕ → Row} {s : Fin 2} {a : Fin 4} {b : Fin 2} {m : ℕ} {st : St} {p' : FVec Ideal S256x1 .f32 × FVec Ideal S256x1 .f32} {A D : FVec Ideal S256x256 .bf16}
    (hpc : ∀ ρ : Fin 256, p'.1 (ix2 ρ 0) = ((R (256 * a.val + ρ.val)).P (m + 256) : EReal))
    (hpe : ∀ ρ : Fin 256, p'.2 (ix2 ρ 0) = ((R (256 * a.val + ρ.val)).PE (m + 256) : EReal))
    (hA : ∀ ρ c : Fin 256, A (ix2 ρ c) = ((R (256 * a.val + ρ.val)).A (m + c.val) : EReal))
    (hD : ∀ ρ c : Fin 256, D (ix2 ρ c) = ((R (256 * a.val + ρ.val)).D (m + c.val) : EReal)) :
    TileDone R s a b m st (put2 st s a b A D) p' where
  other x h1 h2 := put2_other st s a b A D x h1 h2
  pc := hpc
  pe := hpe
  inA r j hr hj := by
    have e1 : r.val = 256 * a.val + r.val % 256 := by omega
    rw [put2_a, put_in _ _ _ _ (sub_emb (ρ := ⟨r.val % 256, by omega⟩) (c := ⟨j.val % 256, by omega⟩) e1 (by simp only []; omega))]
    refine (cast3_apply _ _ _).trans ((hA _ _).trans ?_)
    simp only [← e1]
  inD r j hr hj := by
    have e1 : r.val = 256 * a.val + r.val % 256 := by omega
    rw [put2_dz, put_in _ _ _ _ (sub_emb (ρ := ⟨r.val % 256, by omega⟩) (c := ⟨j.val % 256, by omega⟩) e1 (by simp only []; omega))]
    refine (cast3_apply _ _ _).trans ((hD _ _).trans ?_)
    simp only [← e1]
  outA s' r j h := by rw [put2_a]; exact put_sub s a b _ _ s' r j h
  outD s' r j h := by rw [put2_dz]; exact put_sub s a b _ _ s' r j h

/-- One tile done. -/
theorem tile_done {R : ℕ → Row} (κ : Kind) {s : Fin 2} {a : Fin 4} {b : Fin 2} {m : ℕ} {st : St} {lt : FVec Ideal S256x1 .f32} {p : FVec Ideal S256x1 .f32 × FVec Ideal S256x1 .f32}
    (hp : ∀ ρ c : Fin 256, keeps κ a b ρ.val c.val ↔ m + c.val < (R (256 * a.val + ρ.val)).lim)
    (hlt : ∀ ρ : Fin 256, lt (ix2 ρ 0) = ((R (256 * a.val + ρ.val)).lt : EReal))
    (hpc : ∀ ρ : Fin 256, p.1 (ix2 ρ 0) = ((R (256 * a.val + ρ.val)).P m : EReal))
    (hpe : ∀ ρ : Fin 256, p.2 (ix2 ρ 0) = ((R (256 * a.val + ρ.val)).PE m : EReal))
    (hz : ∀ (r : Fin 1024) (j : Fin 512), r.val / 256 = a.val → j.val / 256 = b.val → st .z (ix3 s r j) = ((R r.val).z (m + j.val % 256) : EReal))
    (hda : ∀ (r : Fin 1024) (j : Fin 512), r.val / 256 = a.val → j.val / 256 = b.val → st .da (ix3 s r j) = ((R r.val).da (m + j.val % 256) : EReal)) :
    TileDone R s a b m st ((tile O kp κ s a b lt p).run st).2 ((tile O kp κ s a b lt p).run st).1 := by
  have ea : ∀ ρ : Fin 256, 256 * a.val + ρ.val < 1024 := fun ρ => by omega
  have eb : ∀ c : Fin 256, 256 * b.val + c.val < 512 := fun c => by omega
  have hz' : ∀ ρ c : Fin 256, tl st s a b (ix2 ρ c) = ((R (256 * a.val + ρ.val)).z (m + c.val) : EReal) := fun ρ c => by
    unfold tl
    rw [cast2_apply]
    rw [sub_emb (r := ⟨256 * a.val + ρ.val, ea ρ⟩) (j := ⟨256 * b.val + c.val, eb c⟩) rfl rfl, hz _ _ (by simp only []; omega) (by simp only []; omega)]
    simp only []
    rw [show (256 * b.val + c.val) % 256 = c.val by omega]
  have hda' : ∀ ρ c : Fin 256, tg st s a b (ix2 ρ c) = ((R (256 * a.val + ρ.val)).da (m + c.val) : EReal) := fun ρ c => by
    unfold tg
    rw [cast2_apply]
    rw [sub_emb (r := ⟨256 * a.val + ρ.val, ea ρ⟩) (j := ⟨256 * b.val + c.val, eb c⟩) rfl rfl, hda _ _ (by simp only []; omega) (by simp only []; omega)]
    simp only []
    rw [show (256 * b.val + c.val) % 256 = c.val by omega]
  by_cases hκ : κ = .skip
  · subst hκ
    have hn : ∀ ρ c : Fin 256, (R (256 * a.val + ρ.val)).lim ≤ m + c.val := fun ρ c => by
      have := (hp ρ c).not.mp (fun h => h)
      omega
    have h0 : ∀ ρ : Fin 256, (R (256 * a.val + ρ.val)).lim ≤ m := fun ρ => hn ρ 0
    have hb : Ideal.ofBits .bf16 0x0000#16 = ((0 : ℝ) : EReal) := by simp [Ideal.ofBits, Ideal.ieee]
    rw [tile_run_skip]
    refine put2_done (fun ρ => ?_) (fun ρ => ?_) (fun ρ c => ?_) (fun ρ c => ?_)
    · rw [((R _).P_past (h0 ρ) 256).1]; exact hpc ρ
    · rw [((R _).P_past (h0 ρ) 256).2]; exact hpe ρ
    · rw [((R _).zero_past (hn ρ c)).2.1]; exact hb
    · rw [((R _).zero_past (hn ρ c)).2.2.2]; exact hb
  · rw [tile_run κ hκ]
    exact put2_done (newPc_real hκ (R := fun ρ => R (256 * a.val + ρ.val)) hp hpc hz') (newPe_real hκ (R := fun ρ => R (256 * a.val + ρ.val)) hp hlt hpc hpe hz' hda')
      (blkA_real hκ (R := fun ρ => R (256 * a.val + ρ.val)) hp hlt hpc hz') (blkD_real hκ (R := fun ρ => R (256 * a.val + ρ.val)) hp hlt hpc hpe hz' hda')

/-! ## A strip -/

theorem keeps_iff {R : ℕ → Row} {I n : ℕ} {diag : Bool} (hlim : ∀ r, r < 1024 → (R r).lim = 512 * I + 128 * (r / 256) + r % 128)
    (hd : (diag = true ∧ n = I) ∨ (diag = false ∧ n < I)) (a : Fin 4) (b : Fin 2) (ρ c : Fin 256) :
    keeps (kind diag a b) a b ρ.val c.val ↔ 512 * n + 256 * b.val + c.val < (R (256 * a.val + ρ.val)).lim := by
  rw [hlim _ (by omega)]
  have h1 : (256 * a.val + ρ.val) / 256 = a.val := by omega
  have h2 : (256 * a.val + ρ.val) % 128 = ρ.val % 128 := by omega
  rw [h1, h2]
  have := ρ.isLt
  have := c.isLt
  rcases hd with ⟨rfl, rfl⟩ | ⟨rfl, hn⟩
  · fin_cases a <;> fin_cases b <;> simp [kind, keeps] <;> omega
  · simp only [kind, keeps, true_iff]
    omega

/-- The gradients of one key block taken of the first `q` strips. -/
structure GradTo (R : ℕ → Row) (s : Fin 2) (n q : ℕ) (st0 st : St) : Prop where
  other : ∀ x : Buf, x ≠ .a → x ≠ .dz → x ≠ .pc → x ≠ .pe → st x = st0 x
  pc : ∀ r : Fin 1024, st .pc (ix2 r 0) = ((R r.val).P (if r.val / 256 < q then 512 * n + 512 else 512 * n) : EReal)
  pe : ∀ r : Fin 1024, st .pe (ix2 r 0) = ((R r.val).PE (if r.val / 256 < q then 512 * n + 512 else 512 * n) : EReal)
  inA : ∀ (r : Fin 1024) (j : Fin 512), r.val / 256 < q → st .a (ix3 s r j) = ((R r.val).A (512 * n + j.val) : EReal)
  inD : ∀ (r : Fin 1024) (j : Fin 512), r.val / 256 < q → st .dz (ix3 s r j) = ((R r.val).D (512 * n + j.val) : EReal)
  outA : ∀ (s' : Fin 2) (r : Fin 1024) (j : Fin 512), s' ≠ s → st .a (ix3 s' r j) = st0 .a (ix3 s' r j)
  outD : ∀ (s' : Fin 2) (r : Fin 1024) (j : Fin 512), s' ≠ s → st .dz (ix3 s' r j) = st0 .dz (ix3 s' r j)

theorem castrow_apply (v : FVec Ideal S256x1 .f32) (ρ : Fin 256) : shapeCast S256x1 (α := Ideal .f32) v shapeCasts_S256x1_S256x1 (ix2 ρ 0) = v (ix2 ρ 0) := by pointwise []

/-- The strip's sums put in their places. -/
def putRow (st : St) (a : Fin 4) (p : FVec Ideal S256x1 .f32 × FVec Ideal S256x1 .f32) : St :=
  Function.update (Function.update st .pc (put (row a) (shapeCast S256x1 (α := Ideal .f32) p.1 shapeCasts_S256x1_S256x1) (st .pc)))
    .pe (put (row a) (shapeCast S256x1 (α := Ideal .f32) p.2 shapeCasts_S256x1_S256x1) (st .pe))

theorem putRow_other (st : St) (a : Fin 4) (p) (x : Buf) (h1 : x ≠ .pc) (h2 : x ≠ .pe) : putRow st a p x = st x := by
  unfold putRow
  rw [Function.update_of_ne h2, Function.update_of_ne h1]
theorem putRow_pc (st : St) (a : Fin 4) (p) (r : Fin 1024) : putRow st a p .pc (ix2 r 0) = if r.val / 256 = a.val then p.1 (ix2 ⟨r.val % 256, by omega⟩ 0) else st .pc (ix2 r 0) := by
  unfold putRow
  rw [Function.update_of_ne (by decide), Function.update_self]
  split
  · rw [put_in _ _ _ _ (row_emb (a := a) (r := r) (ρ := ⟨r.val % 256, by omega⟩) (by simp only []; omega)), castrow_apply]
  · next h => exact put_row a _ _ r h
theorem putRow_pe (st : St) (a : Fin 4) (p) (r : Fin 1024) : putRow st a p .pe (ix2 r 0) = if r.val / 256 = a.val then p.2 (ix2 ⟨r.val % 256, by omega⟩ 0) else st .pe (ix2 r 0) := by
  unfold putRow
  rw [Function.update_self]
  split
  · rw [put_in _ _ _ _ (row_emb (a := a) (r := r) (ρ := ⟨r.val % 256, by omega⟩) (by simp only []; omega)), castrow_apply]
  · next h => exact put_row a _ _ r h

theorem strip_run (diag : Bool) (s : Fin 2) (a : Fin 4) (st : St) :
    (strip O kp diag s a).run st =
      (let lt : FVec Ideal S256x1 .f32 := fun y => st .ls ((row a).emb y)
       let t1 := (tile O kp (kind diag a 0) s a 0 lt (fun y => st .pc ((row a).emb y), fun y => st .pe ((row a).emb y))).run st
       let t2 := (tile O kp (kind diag a 1) s a 1 lt t1.1).run t1.2
       (⟨⟩, putRow t2.2 a t2.1)) := rfl

theorem strip_done {R : ℕ → Row} {I n : ℕ} {diag : Bool} (hlim : ∀ r, r < 1024 → (R r).lim = 512 * I + 128 * (r / 256) + r % 128)
    (hd : (diag = true ∧ n = I) ∨ (diag = false ∧ n < I)) {s : Fin 2} (a : Fin 4) {st0 st : St}
    (hls : ∀ r : Fin 1024, st0 .ls (ix2 r 0) = ((R r.val).lt : EReal))
    (hz : ∀ (r : Fin 1024) (j : Fin 512), st0 .z (ix3 s r j) = ((R r.val).z (512 * n + j.val) : EReal))
    (hda : ∀ (r : Fin 1024) (j : Fin 512), st0 .da (ix3 s r j) = ((R r.val).da (512 * n + j.val) : EReal))
    (h : GradTo R s n a.val st0 st) : GradTo R s n (a.val + 1) st0 ((strip O kp diag s a).run st).2 := by
  rw [strip_run]
  dsimp only
  have ea : ∀ ρ : Fin 256, 256 * a.val + ρ.val < 1024 := fun ρ => by omega
  have hlt : ∀ ρ : Fin 256, (fun y => st .ls ((row a).emb y) : FVec Ideal S256x1 .f32) (ix2 ρ 0) = ((R (256 * a.val + ρ.val)).lt : EReal) := fun ρ => by
    show st .ls ((row a).emb (ix2 ρ 0)) = _
    rw [row_emb (r := ⟨256 * a.val + ρ.val, ea ρ⟩) rfl, h.other .ls (by decide) (by decide) (by decide) (by decide), hls]
  generalize hL : (fun y => st .ls ((row a).emb y) : FVec Ideal S256x1 .f32) = lt at hlt ⊢
  have hpc : ∀ ρ : Fin 256, st .pc ((row a).emb (ix2 ρ 0)) = ((R (256 * a.val + ρ.val)).P (512 * n) : EReal) := fun ρ => by
    rw [row_emb (r := ⟨256 * a.val + ρ.val, ea ρ⟩) rfl, h.pc, if_neg (by simp only []; omega)]
  have hpe : ∀ ρ : Fin 256, st .pe ((row a).emb (ix2 ρ 0)) = ((R (256 * a.val + ρ.val)).PE (512 * n) : EReal) := fun ρ => by
    rw [row_emb (r := ⟨256 * a.val + ρ.val, ea ρ⟩) rfl, h.pe, if_neg (by simp only []; omega)]
  have T1 := tile_done (R := R) (kind diag a 0) (s := s) (a := a) (b := 0) (m := 512 * n) (st := st) (lt := lt)
    (p := (fun y => st .pc ((row a).emb y), fun y => st .pe ((row a).emb y)))
    (fun ρ c => (keeps_iff hlim hd a 0 ρ c).trans (by simp)) hlt hpc hpe
    (fun r j _ hj => by rw [h.other .z (by decide) (by decide) (by decide) (by decide), hz, Nat.mod_eq_of_lt (show j.val < 256 by simp at hj; omega)])
    (fun r j _ hj => by rw [h.other .da (by decide) (by decide) (by decide) (by decide), hda, Nat.mod_eq_of_lt (show j.val < 256 by simp at hj; omega)])
  generalize (tile O kp (kind diag a 0) s a 0 lt (fun y => st .pc ((row a).emb y), fun y => st .pe ((row a).emb y))).run st = t1 at T1 ⊢
  have T2 := tile_done (R := R) (kind diag a 1) (s := s) (a := a) (b := 1) (m := 512 * n + 256) (st := t1.2) (lt := lt) (p := t1.1)
    (fun ρ c => (keeps_iff hlim hd a 1 ρ c).trans (by simp)) hlt T1.pc T1.pe
    (fun r j _ hj => by
      have e : 512 * n + 256 + j.val % 256 = 512 * n + j.val := by simp at hj; omega
      rw [T1.other .z (by decide) (by decide), h.other .z (by decide) (by decide) (by decide) (by decide), hz, e])
    (fun r j _ hj => by
      have e : 512 * n + 256 + j.val % 256 = 512 * n + j.val := by simp at hj; omega
      rw [T1.other .da (by decide) (by decide), h.other .da (by decide) (by decide) (by decide) (by decide), hda, e])
  generalize (tile O kp (kind diag a 1) s a 1 lt t1.1).run t1.2 = t2 at T2 ⊢
  refine ⟨fun x h1 h2 h3 h4 => ?_, fun r => ?_, fun r => ?_, fun r j hr => ?_, fun r j hr => ?_, fun s' r j hs => ?_, fun s' r j hs => ?_⟩
  · rw [putRow_other _ _ _ x h3 h4, T2.other x h1 h2, T1.other x h1 h2, h.other x h1 h2 h3 h4]
  · rw [putRow_pc]
    split
    · next hr =>
      rw [T2.pc, if_pos (by omega)]
      simp only [show 256 * a.val + r.val % 256 = r.val by omega, show 512 * n + 256 + 256 = 512 * n + 512 by omega]
    · next hr =>
      rw [T2.other .pc (by decide) (by decide), T1.other .pc (by decide) (by decide), h.pc]
      simp only [show (r.val / 256 < a.val + 1) ↔ (r.val / 256 < a.val) by omega]
  · rw [putRow_pe]
    split
    · next hr =>
      rw [T2.pe, if_pos (by omega)]
      simp only [show 256 * a.val + r.val % 256 = r.val by omega, show 512 * n + 256 + 256 = 512 * n + 512 by omega]
    · next hr =>
      rw [T2.other .pe (by decide) (by decide), T1.other .pe (by decide) (by decide), h.pe]
      simp only [show (r.val / 256 < a.val + 1) ↔ (r.val / 256 < a.val) by omega]
  · rw [putRow_other _ _ _ .a (by decide) (by decide)]
    by_cases hr' : r.val / 256 = a.val
    · by_cases hj : j.val / 256 = 1
      · rw [T2.inA r j hr' hj, show 512 * n + 256 + j.val % 256 = 512 * n + j.val by omega]
      · rw [T2.outA s r j (.inr (.inr hj)), T1.inA r j hr' (by simp only [Fin.val_zero]; omega), Nat.mod_eq_of_lt (show j.val < 256 by omega)]
    · rw [T2.outA s r j (.inr (.inl hr')), T1.outA s r j (.inr (.inl hr')), h.inA r j (by omega)]
  · rw [putRow_other _ _ _ .dz (by decide) (by decide)]
    by_cases hr' : r.val / 256 = a.val
    · by_cases hj : j.val / 256 = 1
      · rw [T2.inD r j hr' hj, show 512 * n + 256 + j.val % 256 = 512 * n + j.val by omega]
      · rw [T2.outD s r j (.inr (.inr hj)), T1.inD r j hr' (by simp only [Fin.val_zero]; omega), Nat.mod_eq_of_lt (show j.val < 256 by omega)]
    · rw [T2.outD s r j (.inr (.inl hr')), T1.outD s r j (.inr (.inl hr')), h.inD r j (by omega)]
  · rw [putRow_other _ _ _ .a (by decide) (by decide), T2.outA s' r j (.inl hs), T1.outA s' r j (.inl hs), h.outA s' r j hs]
  · rw [putRow_other _ _ _ .dz (by decide) (by decide), T2.outD s' r j (.inl hs), T1.outD s' r j (.inl hs), h.outD s' r j hs]

/-- The gradients of one key block taken. -/
theorem gradients_done {R : ℕ → Row} {I n : ℕ} {diag : Bool} (hlim : ∀ r, r < 1024 → (R r).lim = 512 * I + 128 * (r / 256) + r % 128)
    (hd : (diag = true ∧ n = I) ∨ (diag = false ∧ n < I)) {s : Fin 2} {st : St}
    (hls : ∀ r : Fin 1024, st .ls (ix2 r 0) = ((R r.val).lt : EReal))
    (hz : ∀ (r : Fin 1024) (j : Fin 512), st .z (ix3 s r j) = ((R r.val).z (512 * n + j.val) : EReal))
    (hda : ∀ (r : Fin 1024) (j : Fin 512), st .da (ix3 s r j) = ((R r.val).da (512 * n + j.val) : EReal))
    (hpc : ∀ r : Fin 1024, st .pc (ix2 r 0) = ((R r.val).P (512 * n) : EReal))
    (hpe : ∀ r : Fin 1024, st .pe (ix2 r 0) = ((R r.val).PE (512 * n) : EReal)) :
    GradTo R s n 4 st ((gradients O kp diag s).run st).2 := by
  have h0 : GradTo R s n 0 st st := ⟨fun _ _ _ _ _ => rfl, fun r => (hpc r).trans (by simp), fun r => (hpe r).trans (by simp), fun _ _ h => absurd h (by omega), fun _ _ h => absurd h (by omega), fun _ _ _ _ => rfl, fun _ _ _ _ => rfl⟩
  unfold gradients
  rw [Den.run_bind, Den.run_bind, Den.run_bind]
  have h1 := strip_done hlim hd 0 hls hz hda h0
  generalize ((strip O kp diag s 0).run st) = t1 at h1 ⊢
  have h2 := strip_done hlim hd 1 hls hz hda h1
  generalize ((strip O kp diag s 1).run t1.2) = t2 at h2 ⊢
  have h3 := strip_done hlim hd 2 hls hz hda h2
  generalize ((strip O kp diag s 2).run t2.2) = t3 at h3 ⊢
  exact strip_done hlim hd 3 hls hz hda h3

end Cert.Sba
-- ==== Proof.SbaMul.lean ====
/- The products of one grid point of the attention's backward kernel: scores, and the three gradients' sums. -/
module

public import proofs.«01_k».proof.Proof.SbaStep

@[expose] public section

set_option maxRecDepth 16384

noncomputable section

open Idealize.ShloMosaic Idealize.ShloMosaic.TcCoe

namespace Cert.Sba

open Cert.Run Cert.SbaKernelIdeal Cert.SbaKernelIdeal.Gen

theorem keys_emb {J : ℕ} (h) {y : Fin 4096} {j : Fin 512} (c : Fin 128) (hy : y.val = 512 * J + j.val) : (keys ![512 * J, 0] h).emb (ix2 j c) = ix2 y c := by
  funext d; apply Fin.ext; rw [Rect.emb_apply]
  fin_cases d
  · show 512 * J + 1 * j.val = y.val; omega
  · show 0 + 1 * c.val = c.val; omega

theorem put_keys {α : Type} {J : ℕ} (h) (w : S512x128.Idx → α) (v : S4096x128.Idx → α) (y : Fin 4096) (c : Fin 128) (hy : y.val / 512 ≠ J) :
    put (keys ![512 * J, 0] h) w v (ix2 y c) = v (ix2 y c) :=
  put_out (keys ![512 * J, 0] h) w v _ 0 (512 * J) 512 rfl rfl rfl (by rw [ix2_0]; omega)

theorem wqa_emb (r : Fin 1024) (c : Fin 128) : wqa.emb (ix2 r c) = ix2 r c := by
  funext d; apply Fin.ext; rw [Rect.emb_apply]
  fin_cases d
  · show 0 + 1 * r.val = r.val; omega
  · show 0 + 1 * c.val = c.val; omega
theorem wkey_emb (r : Fin 4096) (c : Fin 128) : wkey.emb (ix2 r c) = ix2 r c := by
  funext d; apply Fin.ext; rw [Rect.emb_apply]
  fin_cases d
  · show 0 + 1 * r.val = r.val; omega
  · show 0 + 1 * c.val = c.val; omega
theorem wrow_emb (r : Fin 1024) : wrow.emb (ix2 r 0) = ix2 r 0 := by
  funext d; apply Fin.ext; rw [Rect.emb_apply]
  fin_cases d
  · show 0 + 1 * r.val = r.val; omega
  · show 0 + 1 * 0 = 0; omega

/-! ## Scores -/

/-- The block of scores stored. -/
def dots (q : FVec Ideal S1024x128 .bf16) (k : FVec Ideal S512x128 .bf16) : FVec Ideal S1x1024x512 .f32 :=
  shapeCast S1x1024x512 (α := Ideal .f32) (matmul (φ₁ := .bf16) dot_S1024x128_S512x128_S1024x512_1_1_0_0_n_n none q (shapeCast S512x128 k shapeCasts_S512x128_S512x128)
    (constant S1024x512 .f32 0x00000000#32)) shapeCasts_S1024x512_S1x1024x512

theorem dots_apply (q : FVec Ideal S1024x128 .bf16) (k : FVec Ideal S512x128 .bf16) (r : Fin 1024) (j : Fin 512) :
    dots q k (ix3 0 r j) = ∑ c : Fin 128, q (ix2 r c) * k (ix2 j c) := by
  pointwise [dots]

def scoresSt (st : St) (q g : FVec Ideal S1024x128 .bf16) (o : Fin 2 → ℕ) (h : ∀ d, o d + S512x128.size d ≤ S4096x128.size d) (s : Fin 2) : St :=
  Function.update (Function.update st .z (put (slot s) (dots q fun x => st .k ((keys o h).emb x)) (st .z)))
    .da (put (slot s) (dots g fun x => st .v ((keys o h).emb x)) (st .da))

theorem scores_run (st : St) (q g : FVec Ideal S1024x128 .bf16) (o : Fin 2 → ℕ) (h : ∀ d, o d + S512x128.size d ≤ S4096x128.size d) (s : Fin 2) :
    ((scores O q g o h s).run st).2 = scoresSt st q g o h s := rfl

theorem scores_other (st : St) (q g : FVec Ideal S1024x128 .bf16) (o : Fin 2 → ℕ) (h : ∀ d, o d + S512x128.size d ≤ S4096x128.size d) (s : Fin 2) (x : Buf) (h1 : x ≠ .z) (h2 : x ≠ .da) : scoresSt st q g o h s x = st x := by
  unfold scoresSt
  rw [Function.update_of_ne h2, Function.update_of_ne h1]
theorem scores_z (st : St) (q g : FVec Ideal S1024x128 .bf16) (o : Fin 2 → ℕ) (h : ∀ d, o d + S512x128.size d ≤ S4096x128.size d) (s : Fin 2) :
    scoresSt st q g o h s .z = put (slot s) (dots q fun x => st .k ((keys o h).emb x)) (st .z) := by
  unfold scoresSt
  rw [Function.update_of_ne (by decide), Function.update_self]
theorem scores_da (st : St) (q g : FVec Ideal S1024x128 .bf16) (o : Fin 2 → ℕ) (h : ∀ d, o d + S512x128.size d ≤ S4096x128.size d) (s : Fin 2) :
    scoresSt st q g o h s .da = put (slot s) (dots g fun x => st .v ((keys o h).emb x)) (st .da) := by
  unfold scoresSt
  rw [Function.update_self]

/-- A slot's scores are those of a key block. -/
def Scored (R : ℕ → Row) (s : Fin 2) (J : ℕ) (st : St) : Prop :=
  ∀ (r : Fin 1024) (j : Fin 512), st .z (ix3 s r j) = ((R r.val).z (512 * J + j.val) : EReal) ∧ st .da (ix3 s r j) = ((R r.val).da (512 * J + j.val) : EReal)

/-- The point's data: rows, keys, and what the rows are made of. -/
structure Data where
  R : ℕ → Row
  q : ℕ → ℕ → ℝ
  g : ℕ → ℕ → ℝ
  k : ℕ → ℕ → ℝ
  v : ℕ → ℕ → ℝ
  I : ℕ
  hI : I < 8
  lim : ∀ r, r < 1024 → (R r).lim = 512 * I + 128 * (r / 256) + r % 128
  z : ∀ r j, (R r).z j = ∑ c : Fin 128, q r c.val * k j c.val
  da : ∀ r j, (R r).da j = ∑ c : Fin 128, g r c.val * v j c.val

variable (X : Data)

/-- The keys and values held. -/
structure Keys (st : St) : Prop where
  k : ∀ (y : Fin 4096) (c : Fin 128), st .k (ix2 y c) = (X.k y.val c.val : EReal)
  v : ∀ (y : Fin 4096) (c : Fin 128), st .v (ix2 y c) = (X.v y.val c.val : EReal)

variable {X} {q g : FVec Ideal S1024x128 .bf16} (hq : ∀ (r : Fin 1024) (c : Fin 128), q (ix2 r c) = (X.q r.val c.val : EReal))
  (hg : ∀ (r : Fin 1024) (c : Fin 128), g (ix2 r c) = (X.g r.val c.val : EReal))

include hq hg in
theorem scores_scored {st : St} (hk : Keys X st) {J : ℕ} (hJ : J < 8) {o : Fin 2 → ℕ} (h) (ho : o = ![512 * J, 0]) (s : Fin 2) : Scored X.R s J (scoresSt st q g o h s) := by
  subst ho
  intro r j
  rw [scores_z, scores_da, put_in _ _ _ _ (slot_emb r j), put_in _ _ _ _ (slot_emb r j), dots_apply, dots_apply, X.z, X.da]
  have hj := j.isLt
  constructor
  · rw [← Reals.sum_coe]
    refine Finset.sum_congr rfl fun c _ => ?_
    rw [keys_emb (y := ⟨512 * J + j.val, by omega⟩) h c rfl, hk.k, hq, ← EReal.coe_mul]
  · rw [← Reals.sum_coe]
    refine Finset.sum_congr rfl fun c _ => ?_
    rw [keys_emb (y := ⟨512 * J + j.val, by omega⟩) h c rfl, hk.v, hg, ← EReal.coe_mul]

theorem scores_keep {st : St} {o : Fin 2 → ℕ} (h) (s s' : Fin 2) (hs : s' ≠ s) {R : ℕ → Row} {J : ℕ} (H : Scored R s' J st) : Scored R s' J (scoresSt st q g o h s) := by
  intro r j
  rw [scores_z, scores_da]
  exact ⟨(put_slot s _ _ s' r j hs).trans (H r j).1, (put_slot s _ _ s' r j hs).trans (H r j).2⟩

/-! ## Products -/

/-- A key block's sum with its rows' products added. -/
def addKey (d : FVec Ideal S1x1024x512 .bf16) (q : FVec Ideal S1024x128 .bf16) (old : FVec Ideal S512x128 .f32) : FVec Ideal S512x128 .f32 :=
  shapeCast S512x128 (α := Ideal .f32) (addf old (matmul (φ₁ := .bf16) dot_S1024x512_S1024x128_S512x128_0_0_1_1_n_n none (flat (F := Ideal) (e := .bf16) d) q
    (constant S512x128 .f32 0x00000000#32))) shapeCasts_S512x128_S512x128
theorem addKey_apply (d : FVec Ideal S1x1024x512 .bf16) (q : FVec Ideal S1024x128 .bf16) (old : FVec Ideal S512x128 .f32) (j : Fin 512) (c : Fin 128) :
    addKey d q old (ix2 j c) = old (ix2 j c) + ∑ r : Fin 1024, d (ix3 0 r j) * q (ix2 r c) := by
  pointwise [addKey]

def addRow (d : FVec Ideal S1x1024x512 .bf16) (k : FVec Ideal S512x128 .bf16) (old : FVec Ideal S1024x128 .f32) : FVec Ideal S1024x128 .f32 :=
  shapeCast S1024x128 (α := Ideal .f32) (addf old (matmul (φ₁ := .bf16) dot_S1024x512_S512x128_S1024x128_1_0_0_1_n_n none (flat (F := Ideal) (e := .bf16) d)
    (shapeCast S512x128 k shapeCasts_S512x128_S512x128) (constant S1024x128 .f32 0x00000000#32))) shapeCasts_S1024x128_S1024x128
theorem addRow_apply (d : FVec Ideal S1x1024x512 .bf16) (k : FVec Ideal S512x128 .bf16) (old : FVec Ideal S1024x128 .f32) (r : Fin 1024) (c : Fin 128) :
    addRow d k old (ix2 r c) = old (ix2 r c) + ∑ j : Fin 512, d (ix3 0 r j) * k (ix2 j c) := by
  pointwise [addRow]

def productsSt (st : St) (q g : FVec Ideal S1024x128 .bf16) (o : Fin 2 → ℕ) (h : ∀ d, o d + S512x128.size d ≤ S4096x128.size d) (s : Fin 2) : St :=
  Function.update (Function.update (Function.update st .ka (put (keys o h) (addKey (fun x => st .dz ((slot s).emb x)) q fun x => st .ka ((keys o h).emb x)) (st .ka)))
    .va (put (keys o h) (addKey (fun x => st .a ((slot s).emb x)) g fun x => st .va ((keys o h).emb x)) (st .va)))
    .qa (put wqa (addRow (fun x => st .dz ((slot s).emb x)) (fun x => st .k ((keys o h).emb x)) fun x => st .qa (wqa.emb x)) (st .qa))

theorem products_run (st : St) (q g : FVec Ideal S1024x128 .bf16) (o : Fin 2 → ℕ) (h : ∀ d, o d + S512x128.size d ≤ S4096x128.size d) (s : Fin 2) :
    ((products O q g o h s).run st).2 = productsSt st q g o h s := rfl

theorem products_other (st : St) (q g : FVec Ideal S1024x128 .bf16) (o : Fin 2 → ℕ) (h : ∀ d, o d + S512x128.size d ≤ S4096x128.size d) (s : Fin 2) (x : Buf) (h1 : x ≠ .ka) (h2 : x ≠ .va) (h3 : x ≠ .qa) :
    productsSt st q g o h s x = st x := by
  unfold productsSt
  rw [Function.update_of_ne h3, Function.update_of_ne h2, Function.update_of_ne h1]
theorem products_ka (st : St) (q g : FVec Ideal S1024x128 .bf16) (o : Fin 2 → ℕ) (h : ∀ d, o d + S512x128.size d ≤ S4096x128.size d) (s : Fin 2) :
    productsSt st q g o h s .ka = put (keys o h) (addKey (fun x => st .dz ((slot s).emb x)) q fun x => st .ka ((keys o h).emb x)) (st .ka) := by
  unfold productsSt
  rw [Function.update_of_ne (by decide), Function.update_of_ne (by decide), Function.update_self]
theorem products_va (st : St) (q g : FVec Ideal S1024x128 .bf16) (o : Fin 2 → ℕ) (h : ∀ d, o d + S512x128.size d ≤ S4096x128.size d) (s : Fin 2) :
    productsSt st q g o h s .va = put (keys o h) (addKey (fun x => st .a ((slot s).emb x)) g fun x => st .va ((keys o h).emb x)) (st .va) := by
  unfold productsSt
  rw [Function.update_of_ne (by decide), Function.update_self]
theorem products_qa (st : St) (q g : FVec Ideal S1024x128 .bf16) (o : Fin 2 → ℕ) (h : ∀ d, o d + S512x128.size d ≤ S4096x128.size d) (s : Fin 2) :
    productsSt st q g o h s .qa = put wqa (addRow (fun x => st .dz ((slot s).emb x)) (fun x => st .k ((keys o h).emb x)) fun x => st .qa (wqa.emb x)) (st .qa) := by
  unfold productsSt
  rw [Function.update_self]

/-- A slot's weights and logits' gradients are those of a key block. -/
def Graded (R : ℕ → Row) (s : Fin 2) (J : ℕ) (st : St) : Prop :=
  ∀ (r : Fin 1024) (j : Fin 512), st .a (ix3 s r j) = ((R r.val).A (512 * J + j.val) : EReal) ∧ st .dz (ix3 s r j) = ((R r.val).D (512 * J + j.val) : EReal)

/-- The point's share of the key, value and query gradients, of the first keys. -/
def Data.K (X : Data) (y c : ℕ) : ℝ := ∑ r : Fin 1024, (X.R r.val).D y * X.q r.val c
def Data.V (X : Data) (y c : ℕ) : ℝ := ∑ r : Fin 1024, (X.R r.val).A y * X.g r.val c
def Data.Q (X : Data) (n : ℕ) (r c : ℕ) : ℝ := ∑ j ∈ Finset.range n, (X.R r).D j * X.k j c

/-- The sums hold what the point began with and its share up to a key block. -/
structure Summed (X : Data) (K0 V0 : ℕ → ℕ → ℝ) (N : ℕ) (st : St) : Prop where
  ka : ∀ (y : Fin 4096) (c : Fin 128), st .ka (ix2 y c) = ((K0 y.val c.val + if y.val < 512 * N then X.K y.val c.val else 0 : ℝ) : EReal)
  va : ∀ (y : Fin 4096) (c : Fin 128), st .va (ix2 y c) = ((V0 y.val c.val + if y.val < 512 * N then X.V y.val c.val else 0 : ℝ) : EReal)
  qa : ∀ (r : Fin 1024) (c : Fin 128), st .qa (ix2 r c) = ((X.Q (512 * N) r.val c.val : ℝ) : EReal)

theorem Data.past (X : Data) (r : Fin 1024) {j : ℕ} (h : 4096 ≤ j) : (X.R r.val).A j = 0 ∧ (X.R r.val).D j = 0 := by
  have := X.lim r.val r.isLt
  have := X.hI
  have h := (X.R r.val).zero_past (j := j) (by omega)
  exact ⟨h.2.1, h.2.2.2⟩

include hq hg in
/-- The products of the block after the summed ones, or of none. -/
theorem products_summed {st : St} (hk : Keys X st) {K0 V0 : ℕ → ℕ → ℝ} {N N' J B : ℕ} (hJ : J < 8) {o : Fin 2 → ℕ} (h) (ho : o = ![512 * J, 0]) {s : Fin 2}
    (hG : Graded X.R s B st) (hS : Summed X K0 V0 N st) (hB : (B = J ∧ J = N ∧ N' = N + 1) ∨ (B = 8 ∧ N' = N)) :
    Summed X K0 V0 N' (productsSt st q g o h s) := by
  subst ho
  have hA : ∀ (y : Fin 4096) (c : Fin 128) (f : ℕ → ℕ → ℝ) (x : FVec Ideal S1x1024x512 .bf16) (w : FVec Ideal S1024x128 .bf16) (W0 : ℕ → ℕ → ℝ) (u : ℕ → ℕ → ℝ) (old : S4096x128.Idx → EReal),
      (∀ (r : Fin 1024) (j : Fin 512), x (ix3 0 r j) = (f r.val (512 * B + j.val) : EReal)) → (∀ (r : Fin 1024) (c : Fin 128), w (ix2 r c) = (u r.val c.val : EReal)) →
      (∀ (r : Fin 1024) (j : ℕ), 4096 ≤ j → f r.val j = 0) →
      (old (ix2 y c) = ((W0 y.val c.val + if y.val < 512 * N then ∑ r : Fin 1024, f r.val y.val * u r.val c.val else 0 : ℝ) : EReal)) →
      put (keys ![512 * J, 0] h) (addKey x w fun i => old ((keys ![512 * J, 0] h).emb i)) old (ix2 y c)
        = ((W0 y.val c.val + if y.val < 512 * N' then ∑ r : Fin 1024, f r.val y.val * u r.val c.val else 0 : ℝ) : EReal) := by
    intro y c f x w W0 u old hx hw hf hold
    by_cases hy : y.val / 512 = J
    · have e := keys_emb (J := J) h (y := y) (j := ⟨y.val % 512, by omega⟩) c (by simp only []; omega)
      rw [put_in _ _ _ _ e, addKey_apply, e, hold]
      rcases hB with ⟨hB, hN, hN'⟩ | ⟨hB, hN'⟩
      · rw [if_neg (by omega), if_pos (by omega), add_zero, EReal.coe_add, ← Reals.sum_coe]
        refine congrArg _ (Finset.sum_congr rfl fun r _ => ?_)
        rw [hx, hw, ← EReal.coe_mul]
        simp only [show 512 * B + y.val % 512 = y.val by omega]
      · have e0 : ∑ r : Fin 1024, x (ix3 0 r ⟨y.val % 512, by omega⟩) * w (ix2 r c) = 0 := Finset.sum_eq_zero fun r _ => by
          rw [hx, hf r _ (by omega), EReal.coe_zero, zero_mul]
        rw [hN', e0, add_zero]
    · refine (put_keys h _ old y c hy).trans (hold.trans ?_)
      rcases hB with ⟨hB, hN, hN'⟩ | ⟨hB, hN'⟩
      · simp only [show y.val < 512 * N' ↔ y.val < 512 * N by omega]
      · rw [hN']
  refine ⟨fun y c => ?_, fun y c => ?_, fun r c => ?_⟩
  · rw [products_ka]
    exact hA y c (fun r j => (X.R r).D j) _ q K0 X.q (st .ka) (fun r j => by rw [slot_emb, (hG r j).2]) hq (fun r j hj => (X.past r hj).2) (hS.ka y c)
  · rw [products_va]
    exact hA y c (fun r j => (X.R r).A j) _ g V0 X.g (st .va) (fun r j => by rw [slot_emb, (hG r j).1]) hg (fun r j hj => (X.past r hj).1) (hS.va y c)
  · rw [products_qa, put_in _ _ _ _ (wqa_emb r c), addRow_apply, wqa_emb, hS.qa]
    have hj : ∀ j : Fin 512, st .dz ((slot s).emb (ix3 0 r j)) * st .k ((keys ![512 * J, 0] h).emb (ix2 j c)) = (((X.R r.val).D (512 * B + j.val) * X.k (512 * J + j.val) c.val : ℝ) : EReal) := fun j => by
      have := j.isLt
      rw [slot_emb, (hG r j).2, keys_emb (y := ⟨512 * J + j.val, by omega⟩) h c rfl, hk.k, ← EReal.coe_mul]
    rw [Finset.sum_congr rfl fun j _ => hj j, Reals.sum_coe, ← EReal.coe_add]
    refine congrArg _ ?_
    rcases hB with ⟨hB, hN, hN'⟩ | ⟨hB, hN'⟩
    · subst hB hN
      rw [hN', Data.Q, Data.Q, show 512 * (B + 1) = 512 * B + 512 by omega, Finset.sum_range_add _ (512 * B), Fin.sum_univ_eq_sum_range (fun j => (X.R r.val).D (512 * B + j) * X.k (512 * B + j) c.val) 512]
    · rw [hN', Finset.sum_eq_zero fun j _ => ?_, add_zero]
      rw [(X.past r (by omega)).2, zero_mul]

end Cert.Sba
-- ==== Proof.SbaRel.lean ====
/- Each piece of the grid point's text over one set of operations stands in the relation to the same over another. -/
module

public import proofs.«01_k».proof.Proof.SbaText

@[expose] public section

noncomputable section

open Idealize.ShloMosaic Idealize.ShloMosaic.TcCoe
open Idealize.SL Idealize.SL.RA Idealize.SL.Sem

namespace Cert.Sba

open Cert.Run Cert.SbaKernelIdeal Cert.SbaKernelIdeal.Gen

variable {F : FTy → Type} [FloatOps F]
variable {m₁ m₂ : Type → Type 1} [Monad m₁] [Monad m₂] {O₁ : Ops K (Elt F) m₁} {O₂ : Ops K (Elt F) m₂} (H : Rel O₁ O₂)

theorem rel_putTile (s : Fin 2) (a : Fin 4) (b : Fin 2) (A B : FVec F S256x256 .bf16) :
    H.R (putTile O₁ s a b A B) (putTile O₂ s a b A B) := by
  unfold putTile
  repeat' first
    | with_reducible refine H.bind ?_ fun _ => ?_
    | exact H.load _ _ _
    | exact H.store _ _ _ _
    | exact H.pure _

theorem rel_tile (L : F .f32) (κ : Kind) (s : Fin 2) (a : Fin 4) (b : Fin 2) (lt : FVec F S256x1 .f32) (p : FVec F S256x1 .f32 × FVec F S256x1 .f32) :
    H.R (tile O₁ L κ s a b lt p) (tile O₂ L κ s a b lt p) := by
  unfold tile
  cases κ <;> dsimp only
  all_goals
    repeat' first
      | with_reducible refine H.bind ?_ fun _ => ?_
      | exact H.load _ _ _
      | exact H.store _ _ _ _
      | exact H.pure _
      | exact rel_putTile H ..

theorem rel_strip (L : F .f32) (d : Bool) (s : Fin 2) (a : Fin 4) :
    H.R (strip O₁ L d s a) (strip O₂ L d s a) := by
  unfold strip
  repeat' first
    | with_reducible refine H.bind ?_ fun _ => ?_
    | exact H.load _ _ _
    | exact H.store _ _ _ _
    | exact H.pure _
    | exact rel_tile H ..

theorem rel_gradients (L : F .f32) (d : Bool) (s : Fin 2) :
    H.R (gradients O₁ L d s) (gradients O₂ L d s) := by
  unfold gradients
  repeat' first
    | with_reducible refine H.bind ?_ fun _ => ?_
    | exact H.load _ _ _
    | exact H.store _ _ _ _
    | exact H.pure _
    | exact rel_strip H ..

theorem rel_scores (q g : FVec F S1024x128 .bf16) (o1 : Fin 2 → ℕ) (h1 : ∀ d, o1 d + S512x128.size d ≤ S4096x128.size d) (s : Fin 2) :
    H.R (scores O₁ q g o1 h1 s) (scores O₂ q g o1 h1 s) := by
  unfold scores
  repeat' first
    | with_reducible refine H.bind ?_ fun _ => ?_
    | exact H.load _ _ _
    | exact H.store _ _ _ _
    | exact H.pure _

theorem rel_products (q g : FVec F S1024x128 .bf16) (o1 : Fin 2 → ℕ) (h1 : ∀ d, o1 d + S512x128.size d ≤ S4096x128.size d) (s : Fin 2) :
    H.R (products O₁ q g o1 h1 s) (products O₂ q g o1 h1 s) := by
  unfold products
  repeat' first
    | with_reducible refine H.bind ?_ fun _ => ?_
    | exact H.load _ _ _
    | exact H.store _ _ _ _
    | exact H.pure _

theorem rel_trip (L : F .f32) (q g : FVec F S1024x128 .bf16) (o1 : Fin 2 → ℕ) (o2 : Fin 2 → ℕ) (o3 : Fin 2 → ℕ) (o4 : Fin 2 → ℕ) (h1 : ∀ d, o1 d + S512x128.size d ≤ S4096x128.size d) (h2 : ∀ d, o2 d + S512x128.size d ≤ S4096x128.size d) (h3 : ∀ d, o3 d + S512x128.size d ≤ S4096x128.size d) (h4 : ∀ d, o4 d + S512x128.size d ≤ S4096x128.size d) :
    H.R (trip O₁ L q g o1 o2 o3 o4 h1 h2 h3 h4) (trip O₂ L q g o1 o2 o3 o4 h1 h2 h3 h4) := by
  unfold trip
  repeat' first
    | with_reducible refine H.bind ?_ fun _ => ?_
    | exact H.load _ _ _
    | exact H.store _ _ _ _
    | exact H.pure _
    | exact rel_gradients H ..
    | exact rel_scores H ..
    | exact rel_products H ..

theorem rel_even (L : F .f32) (q g : FVec F S1024x128 .bf16) (o1 : Fin 2 → ℕ) (o2 : Fin 2 → ℕ) (h1 : ∀ d, o1 d + S512x128.size d ≤ S4096x128.size d) (h2 : ∀ d, o2 d + S512x128.size d ≤ S4096x128.size d) :
    H.R (even O₁ L q g o1 o2 h1 h2) (even O₂ L q g o1 o2 h1 h2) := by
  unfold even
  repeat' first
    | with_reducible refine H.bind ?_ fun _ => ?_
    | exact H.load _ _ _
    | exact H.store _ _ _ _
    | exact H.pure _
    | exact rel_gradients H ..
    | exact rel_scores H ..
    | exact rel_products H ..

theorem rel_odd (L : F .f32) (q g : FVec F S1024x128 .bf16) (o1 : Fin 2 → ℕ) (o2 : Fin 2 → ℕ) (o3 : Fin 2 → ℕ) (h1 : ∀ d, o1 d + S512x128.size d ≤ S4096x128.size d) (h2 : ∀ d, o2 d + S512x128.size d ≤ S4096x128.size d) (h3 : ∀ d, o3 d + S512x128.size d ≤ S4096x128.size d) :
    H.R (odd O₁ L q g o1 o2 o3 h1 h2 h3) (odd O₂ L q g o1 o2 o3 h1 h2 h3) := by
  unfold odd
  repeat' first
    | with_reducible refine H.bind ?_ fun _ => ?_
    | exact H.load _ _ _
    | exact H.store _ _ _ _
    | exact H.pure _
    | exact rel_gradients H ..
    | exact rel_scores H ..
    | exact rel_products H ..

theorem rel_clear  :
    H.R (clear O₁) (clear O₂) := by
  unfold clear
  repeat' first
    | with_reducible refine H.bind ?_ fun _ => ?_
    | exact H.load _ _ _
    | exact H.store _ _ _ _
    | exact H.pure _

theorem rel_headStrip (a : Fin 4) :
    H.R (headStrip O₁ a) (headStrip O₂ a) := by
  unfold headStrip
  repeat' first
    | with_reducible refine H.bind ?_ fun _ => ?_
    | exact H.load _ _ _
    | exact H.store _ _ _ _
    | exact H.pure _

theorem rel_head  :
    H.R (head O₁) (head O₂) := by
  unfold head
  repeat' first
    | with_reducible refine H.bind ?_ fun _ => ?_
    | exact H.load _ _ _
    | exact H.store _ _ _ _
    | exact H.pure _
    | exact rel_headStrip H ..
    | exact rel_scores H ..

theorem rel_tailStrip (a : Fin 4) :
    H.R (tailStrip O₁ a) (tailStrip O₂ a) := by
  unfold tailStrip
  repeat' first
    | with_reducible refine H.bind ?_ fun _ => ?_
    | exact H.load _ _ _
    | exact H.store _ _ _ _
    | exact H.pure _

theorem rel_tail  :
    H.R (tail O₁) (tail O₂) := by
  unfold tail
  repeat' first
    | with_reducible refine H.bind ?_ fun _ => ?_
    | exact H.load _ _ _
    | exact H.store _ _ _ _
    | exact H.pure _
    | exact rel_tailStrip H ..

theorem rel_flush  :
    H.R (flush O₁) (flush O₂) := by
  unfold flush
  repeat' first
    | with_reducible refine H.bind ?_ fun _ => ?_
    | exact H.load _ _ _
    | exact H.store _ _ _ _
    | exact H.pure _

end Cert.Sba
-- ==== Proof.SbaDoIdeal.lean ====
/- The kernel's run: each grid point computes what its text says of the buffers' contents. -/
module

public import proofs.«01_k».proof.Proof.SbaRel
public import proofs.«01_k».proof.Proof.SbaPointIdeal
public import proofs.«01_k».proof.Proof.Gen.SbaKernelIdeal.Frame
public import Idealize.ShloMosaic.Lib.Tactic
public import Idealize.ShloMosaic.Lib.Pipeline.FrameBody
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
namespace Cert.SbaKernelIdeal.Point
open Cert.Run Cert.Sba Cert.SbaKernelIdeal Cert.SbaKernelIdeal.Gen

variable {F : FTy → Type} [FloatOps F] [Named F]

local notation "𝕄" => MT nD τ sig Unit (Elt F) ℕ (UR sig nD τ) ℕ

/-- The whole grid point's text stands in the relation, given loops that keep it. -/
theorem rel_point {m₁ m₂ : Type → Type 1} [Monad m₁] [Monad m₂] {O₁ : Ops K (Elt F) m₁} {O₂ : Ops K (Elt F) m₂} (H : Rel O₁ O₂)
    {lp₁ : (l : Scf.Loop 32) → l.OK → BitVec 32 → (Fin l.trips → BitVec 32 → m₁ (BitVec 32)) → m₁ (BitVec 32)}
    {lp₂ : (l : Scf.Loop 32) → l.OK → BitVec 32 → (Fin l.trips → BitVec 32 → m₂ (BitVec 32)) → m₂ (BitVec 32)}
    (hl : ∀ l hok a b b', (∀ k x, H.R (b k x) (b' k x)) → H.R (lp₁ l hok a b) (lp₂ l hok a b')) (i : grid0.Coords) :
    H.R (point O₁ lp₁ i) (point O₂ lp₂ i) := by
  unfold point
  refine H.bind ?_ fun _ => H.bind (rel_head H) fun x => H.bind (hl _ _ _ _ _ fun t _ => H.bind (rel_trip H ..) fun _ => H.pure _) fun a =>
    H.bind (hl _ _ _ _ _ fun t _ => H.bind (rel_trip H ..) fun _ => H.pure _) fun _ => H.bind ?_ fun _ => H.bind ?_ fun _ => H.bind (rel_tail H) fun _ => ?_
  · by_cases h : cond1 i = 1#1
    · simp only [dif_pos h]; exact rel_clear H
    · simp only [dif_neg h]; exact H.pure _
  · by_cases h : k0_cond2 i = 1#1
    · simp only [dif_pos h]; exact rel_even H ..
    · simp only [dif_neg h]; exact H.pure _
  · by_cases h : k0_cond3 i = 1#1
    · simp only [dif_pos h]; exact rel_odd H ..
    · simp only [dif_neg h]; exact H.pure _
  · by_cases h : k0_cond4 i = 1#1
    · simp only [dif_pos h]; exact rel_flush H
    · simp only [dif_neg h]; exact H.pure _

/-- What a grid point computes, as a function of the buffers' contents. -/
def fn (i : grid0.Coords) : Den (K.St (Elt F)) PUnit := point (stOps K (Elt F)) (fun _ _ a b => loop b a) i

theorem does_body (𝒱 : Variants) (c : Dev nD) (bd : Option 𝒱.V) (E : Set ℕ) (M : K.At sig) (hM : ∀ b, (M b).IsWhole) (i : grid0.Coords) :
    Does Unit (UR sig nD τ) ℕ (defs₀ (F := F)) 𝒱 c bd E M
      (cc0_sba_bwd (F := F) i (M .q) (hM .q) (M .k) (hM .k) (M .v) (hM .v) (M .lt) (hM .lt) (M .g) (hM .g) (M .dq) (hM .dq) (M .dk) (hM .dk) (M .dv) (hM .dv) (M .ka) (hM .ka) (M .va) (hM .va) (M .z) (hM .z) (M .da) (hM .da) (M .a) (hM .a) (M .dz) (hM .dz) (M .pc) (hM .pc) (M .pe) (hM .pe) (M .ls) (hM .ls) (M .qa) (hM .qa))
      (fn i) := by
  rw [body_eq]
  exact rel_point (doesRel 𝒱 c bd E hM) (fun l hok a b b' hb => Does.for 𝒱 c bd E l.lb l.ub l.st hok a hb) i

/-- The memrefs of grid point `t`: the windows' current buffers and the scratch buffers. -/
def at_ (t : Fin cfg0.N) : K.At sig
  | .q => st0_0 t | .k => st0_1 t | .v => st0_2 t | .lt => st0_3 t | .g => st0_4 t
  | .dq => st0_5 t | .dk => st0_6 t | .dv => st0_7 t
  | .ka => Memref.whole cc0_scratch0 | .va => Memref.whole cc0_scratch1 | .z => Memref.whole cc0_scratch2
  | .da => Memref.whole cc0_scratch3 | .a => Memref.whole cc0_scratch4 | .dz => Memref.whole cc0_scratch5
  | .pc => Memref.whole cc0_scratch6 | .pe => Memref.whole cc0_scratch7 | .ls => Memref.whole cc0_scratch8
  | .qa => Memref.whole cc0_scratch9

theorem at_whole (t : Fin cfg0.N) : ∀ b, (at_ t b).IsWhole
  | .q => hstage0_0 ((cfg0.slots t 0).cast nbuf0_0) | .k => hstage0_1 ((cfg0.slots t 1).cast nbuf0_1)
  | .v => hstage0_2 ((cfg0.slots t 2).cast nbuf0_2) | .lt => hstage0_3 ((cfg0.slots t 3).cast nbuf0_3)
  | .g => hstage0_4 ((cfg0.slots t 4).cast nbuf0_4) | .dq => hstage0_5 ((cfg0.slots t 5).cast nbuf0_5)
  | .dk => hstage0_6 ((cfg0.slots t 6).cast nbuf0_6) | .dv => hstage0_7 ((cfg0.slots t 7).cast nbuf0_7)
  | .ka => Memref.isWhole_whole _ | .va => Memref.isWhole_whole _ | .z => Memref.isWhole_whole _ | .da => Memref.isWhole_whole _
  | .a => Memref.isWhole_whole _ | .dz => Memref.isWhole_whole _ | .pc => Memref.isWhole_whole _ | .pe => Memref.isWhole_whole _
  | .ls => Memref.isWhole_whole _ | .qa => Memref.isWhole_whole _

/-- The windows' buffers' contents. -/
abbrev Wins (F : FTy → Type) := (w : Fin cfg0.W) → (cfg0.win w).block.Idx → Elt F (cfg0.win w).elt

/-- A state from the windows' contents and the scratch buffers' of another. -/
def withWins (Y : Wins F) (st : K.St (Elt F)) : K.St (Elt F)
  | .q => Y 0 | .k => Y 1 | .v => Y 2 | .lt => Y 3 | .g => Y 4 | .dq => Y 5 | .dk => Y 6 | .dv => Y 7
  | .ka => st .ka | .va => st .va | .z => st .z | .da => st .da | .a => st .a | .dz => st .dz | .pc => st .pc | .pe => st .pe
  | .ls => st .ls | .qa => st .qa

/-- The windows' contents in a state. -/
def wins (st : K.St (Elt F)) : Wins F
  | 0 => st .q | 1 => st .k | 2 => st .v | 3 => st .lt | 4 => st .g | 5 => st .dq | 6 => st .dk | 7 => st .dv

/-- The scratch buffers held at a state. -/
def scratch (c : Dev nD) (st : K.St (Elt F)) : sProp 𝕄 :=
  iprop((((c : Thread nD τ).loc cc0_scratch0) ↦{fullShare} st .ka) ∗ (((c : Thread nD τ).loc cc0_scratch1) ↦{fullShare} st .va)
    ∗ (((c : Thread nD τ).loc cc0_scratch2) ↦{fullShare} st .z) ∗ (((c : Thread nD τ).loc cc0_scratch3) ↦{fullShare} st .da)
    ∗ (((c : Thread nD τ).loc cc0_scratch4) ↦{fullShare} st .a) ∗ (((c : Thread nD τ).loc cc0_scratch5) ↦{fullShare} st .dz)
    ∗ (((c : Thread nD τ).loc cc0_scratch6) ↦{fullShare} st .pc) ∗ (((c : Thread nD τ).loc cc0_scratch7) ↦{fullShare} st .pe)
    ∗ (((c : Thread nD τ).loc cc0_scratch8) ↦{fullShare} st .ls) ∗ (((c : Thread nD τ).loc cc0_scratch9) ↦{fullShare} st .qa))

variable (m : (ℓ : Loc nD τ sig) → Buf (Elt F) ℓ)

/-- What a proof says of a run: an invariant of the scratch buffers before each point, and what each point leaves in each window. -/
structure Says (F : FTy → Type) where
  inv : ℕ → K.St (Elt F) → Prop
  after : (w : Fin cfg0.W) → Fin cfg0.N → (Y X : (cfg0.win w).block.Idx → Elt F (cfg0.win w).elt) → Prop

/-- The proof data of a run. -/
def rdat (S : Dev nD → Says F) (c : Dev nD) : RDat τ (Elt F) Unit ℕ (UR sig nD τ) ℕ (cfgs 0) c where
  A w := V m c (Pipeline.arrRef spec0 w)
  after := (S c).after
  Φ t := iprop((∃ st, ⌜(S c).inv t.val st⌝ ∗ scratch c st) ∗ ∃ r, prngReg c r)
  q w := Pipeline.shareOf spec0 w
  owed _ := 0

theorem defs₀_row (t : Fin cfg0.N) : defs₀ (F := F) .tc cfg0.body (cfg0.bodyArgs t (cfg0.slots t)) = bodyAt0 t := by
  unfold defs₀; rw [Defs.onTc_tc]

theorem regroup {M : Type} [URA M] (A₀ A₁ A₂ A₃ A₄ A₅ A₆ A₇ S : sProp M) :
    iprop(A₀ ∗ A₁ ∗ A₂ ∗ A₃ ∗ A₄ ∗ A₅ ∗ A₆ ∗ A₇ ∗ S) = iprop((A₀ ∗ A₁ ∗ A₂ ∗ A₃ ∗ A₄ ∗ A₅ ∗ A₆ ∗ A₇) ∗ S) := by
  have h₁ : iprop(A₀ ∗ A₁ ∗ A₂ ∗ A₃ ∗ A₄ ∗ A₅ ∗ A₆ ∗ A₇ ∗ S) ⊢ iprop((A₀ ∗ A₁ ∗ A₂ ∗ A₃ ∗ A₄ ∗ A₅ ∗ A₆ ∗ A₇) ∗ S) := by
    iintro ⟨H0, H1, H2, H3, H4, H5, H6, H7, H⟩
    iframe
  have h₂ : iprop((A₀ ∗ A₁ ∗ A₂ ∗ A₃ ∗ A₄ ∗ A₅ ∗ A₆ ∗ A₇) ∗ S) ⊢ iprop(A₀ ∗ A₁ ∗ A₂ ∗ A₃ ∗ A₄ ∗ A₅ ∗ A₆ ∗ A₇ ∗ S) := by
    iintro ⟨⟨H0, H1, H2, H3, H4, H5, H6, H7⟩, H⟩
    iframe
  exact BI.equiv_iff.mp ⟨h₁, h₂⟩

theorem holds_eq (c : Dev nD) (t : Fin cfg0.N) (st : K.St (Elt F)) :
    (holds c (at_ t) st : sProp 𝕄) = iprop((bigSep Finset.univ fun w => owns (c : Thread nD τ) ((cfg0.win w).stage (cfg0.slots t w)) fullShare (wins st w)) ∗ scratch c st) := by
  unfold holds scratch
  rw [bigSep_W0, bigSep_univ_eq_bigSepL Buf.all (by decide) (by decide)]
  simp only [← owns_whole]
  exact regroup ..

theorem leaves_of {α : Type} {p : α → Prop} {A : α → sProp 𝕄} {x : α} (h : p x) : A x ⊢ iprop(∃ X, ⌜p X⌝ ∗ A X) := by
  iintro H
  iexists x
  isplitr
  · ipureintro; exact h
  iexact H

theorem body_obligation (S : Dev nD → Says F) (c : Dev nD)
    (hs : ∀ (t : Fin cfg0.N) (Y : Wins F) st, (∀ w, (rdat m S c).Finds w t (Y w)) → (S c).inv t.val st →
      (S c).inv (t.val + 1) ((fn (grid0.coords t)).run (withWins Y st)).2
      ∧ ∀ w, (S c).after w t (Y w) (wins ((fn (grid0.coords t)).run (withWins Y st)).2 w)) :
    (rdat m S c).BodyObligation (defs₀ (F := F)) Variants.none () Set.univ := by
  intro t Y hY
  rw [defs₀_row, show (rdat m S c).owesAt () t.succ = (rdat m S c).owesAt () t.castSucc from rfl,
    show (rdat m S c).Φ t.castSucc = iprop((∃ st, ⌜(S c).inv t.val st⌝ ∗ scratch c st) ∗ ∃ r, prngReg c r) from rfl,
    show (rdat m S c).Φ t.succ = iprop((∃ st, ⌜(S c).inv (t.val + 1) st⌝ ∗ scratch c st) ∗ ∃ r, prngReg c r) from rfl]
  iintro ⟨⟨⟨%st, %hi, Hs⟩, Hr⟩, Ho, Hw⟩
  have h := hs t Y st hY hi
  iapply (does_body Variants.none c none Set.univ (at_ t) (at_whole t) (grid0.coords t) (withWins Y st) _)
  rw [holds_eq, holds_eq]
  isplitl [Hs Hw]
  · isplitl [Hw]
    · iapply (show (bigSep Finset.univ fun w => owns (c : Thread nD τ) ((cfg0.win w).stage (cfg0.slots t w)) fullShare (Y w) : sProp 𝕄)
        ⊢ bigSep Finset.univ fun w => owns (c : Thread nD τ) ((cfg0.win w).stage (cfg0.slots t w)) fullShare (wins (withWins Y st) w) from by
          rw [bigSep_W0, bigSep_W0]; exact .rfl)
      iexact Hw
    · iexact Hs
  iintro ⟨Hw, Hs⟩
  isplitl [Hs Hr]
  · isplitl [Hs]
    · iexists _
      isplitr
      · ipureintro; exact h.1
      iexact Hs
    · iexact Hr
  isplitl [Ho]
  · iexact Ho
  iapply (show (bigSep Finset.univ fun w => owns (c : Thread nD τ) ((cfg0.win w).stage (cfg0.slots t w)) fullShare (wins ((fn (grid0.coords t)).run (withWins Y st)).2 w) : sProp 𝕄)
      ⊢ bigSep Finset.univ fun w => iprop(∃ X, ⌜(S c).after w t (Y w) X⌝ ∗ owns (c : Thread nD τ) ((cfg0.win w).stage (cfg0.slots t w)) fullShare X) from
    bigSep_mono fun w _ => leaves_of (h.2 w))
  iexact Hw

theorem elt_nonempty (e : EltTy) : Nonempty (Elt F e) := inferInstance

/-- Some state. -/
def blank : K.St (Elt F) := fun _ _ => Classical.choice (elt_nonempty _)

theorem enter (S : Dev nD → Says F) (c : Dev nD) (h0 : ∀ st, (S c).inv 0 st) :
    (Pipeline.ΦA spec0 c : sProp 𝕄) ⊢ (rdat m S c).Φ 0 := by
  rw [show (rdat m S c).Φ 0 = iprop((∃ st, ⌜(S c).inv 0 st⌝ ∗ scratch c st) ∗ ∃ r, prngReg c r) from rfl]
  unfold Pipeline.ΦA
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩⟩, Hr⟩
  isplitr [Hr]
  · iexists (fun
      | .q => blank .q | .k => blank .k | .v => blank .v | .lt => blank .lt | .g => blank .g | .dq => blank .dq | .dk => blank .dk | .dv => blank .dv
      | .ka => f0 | .va => f1 | .z => f2 | .da => f3 | .a => f4 | .dz => f5 | .pc => f6 | .pe => f7 | .ls => f8 | .qa => f9 : K.St (Elt F))
    isplitr
    · ipureintro; exact h0 _
    unfold scratch
    dsimp only
    iframe
  · iexact Hr

theorem leave (S : Dev nD → Says F) (c : Dev nD) :
    (rdat m S c).Φ (Fin.last (cfgs 0).N) ⊢ (Pipeline.ΦA spec0 c : sProp 𝕄) := by
  rw [show (rdat m S c).Φ (Fin.last (cfgs 0).N) = iprop((∃ st, ⌜(S c).inv (cfgs 0).N st⌝ ∗ scratch c st) ∗ ∃ r, prngReg c r) from rfl]
  unfold Pipeline.ΦA scratch
  rw [scopedRest0_eq]
  iintro ⟨⟨%st, -, H0, H1, H2, H3, H4, H5, H6, H7, H8, H9⟩, Hr⟩
  isplitr [Hr]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  · iexact Hr

variable (ρ : Dev nD → PrngReg)

set_option backward.isDefEq.respectTransparency.types false in
set_option maxHeartbeats 800000 in
/-- The run: the arrays end at contents the proof data allow, everything else as at the region's entry, and every counter at zero. -/
theorem run_main (S : Dev nD → Says F) (h0 : ∀ c st, (S c).inv 0 st)
    (hs : ∀ c (t : Fin cfg0.N) (Y : Wins F) st, (∀ w, (rdat m S c).Finds w t (Y w)) → (S c).inv t.val st →
      (S c).inv (t.val + 1) ((fn (grid0.coords t)).run (withWins Y st)).2
      ∧ ∀ w, (S c).after w t (Y w) (wins ((fn (grid0.coords t)).run (withWins Y st)).2 w)) :
    θ_run defs (onTc (τ := τ) (main (F := F))) (s₀ m ρ) (fun r => RDat.FramePost (cfgs 0) (rdat m S) (V m) r ∧ r.2.sem = fun _ => 0) :=
  Pipeline.RDat.θ_run_frame_track_shared (Q' := _) cfgs (0 : Fin 1) launch₀0 defs₀ Variants.none (rdat m S) m ρ main
    (fun c => body_obligation m S c (hs c)) (fun _ _ _ => rfl) (fun _ _ => rfl) (V m) (hmain m Variants.none) (fun _ _ => rfl)
    (fun c => enter m S c (h0 c)) (fun c => leave m S c)

/-- The arguments end unchanged. -/
theorem frame_of (S : Dev nD → Says F) (r : PUnit × MemSt nD τ sig (Elt F)) (h : RDat.FramePost (cfgs 0) (rdat m S) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨frame_of m _ r h.1, h.2⟩)
    (run_main m ρ (fun _ => ⟨fun _ _ => True, fun _ _ _ _ => True⟩) (fun _ _ => trivial) fun _ _ _ _ _ _ => ⟨trivial, fun _ => trivial⟩)

end Cert.SbaKernelIdeal.Point
-- ==== Proof.SbaFlow.lean ====
/- One grid point of the attention's backward kernel from end to end, on real numbers. -/
module

public import proofs.«01_k».proof.Proof.SbaMul
public import proofs.«01_k».proof.Proof.SbaDoIdeal

@[expose] public section

set_option maxRecDepth 16384

noncomputable section

open Idealize.ShloMosaic Idealize.ShloMosaic.TcCoe

namespace Cert.Sba

open Cert.Run Cert.SbaKernelIdeal Cert.SbaKernelIdeal.Gen

/-! ## Offsets and conditions -/

theorem off1 : ∀ (i : grid0.Coords) (t : Fin (k0_t1_loop i).trips) (d : Fin 2), k0_off1 i t (BitVec.ofNat 32 (1 + d.val)) = ![512 * (2 * t.val + 1 + d.val), 0] := by decide +kernel
theorem off2 : ∀ (i : grid0.Coords) (t : Fin (k0_t1_loop i).trips), k0_off2 i t = ![512 * (2 * t.val - 1), 0] := by decide +kernel
theorem off3 : ∀ (i : grid0.Coords) (t : Fin (k0_t1_loop i).trips), k0_off3 i t = ![512 * (2 * t.val), 0] := by decide +kernel
theorem off7 : ∀ (i : grid0.Coords), k0_cond2 i = 1#1 → k0_off7 i = ![512 * ((i 1).val - 1), 0] := by decide +kernel
theorem off8 : ∀ (i : grid0.Coords), k0_cond2 i = 1#1 → k0_off8 i = ![512 * (i 1).val, 0] := by decide +kernel
theorem off9 : ∀ (i : grid0.Coords), k0_cond3 i = 1#1 → k0_off9 i = ![512 * (i 1).val, 0] := by decide +kernel
theorem off10 : ∀ (i : grid0.Coords), k0_cond3 i = 1#1 → k0_off10 i = ![512 * ((i 1).val - 2), 0] := by decide +kernel
theorem off11 : ∀ (i : grid0.Coords), k0_cond3 i = 1#1 → k0_off11 i = ![512 * ((i 1).val - 1), 0] := by decide +kernel
theorem trips1 : ∀ (i : grid0.Coords), (k0_t1_loop i).trips = (i 1).val / 2 := by decide +kernel
theorem trips2 : ∀ (i : grid0.Coords), (k0_t2_loop i).trips = 0 := by decide +kernel
theorem cond1_iff : ∀ (i : grid0.Coords), SbaKernelIdeal.Point.cond1 i = 1#1 ↔ (i 1).val = 0 := by decide +kernel
theorem cond2_iff : ∀ (i : grid0.Coords), k0_cond2 i = 1#1 ↔ (i 1).val % 2 = 0 := by decide +kernel
theorem cond3_iff : ∀ (i : grid0.Coords), k0_cond3 i = 1#1 ↔ (i 1).val % 2 = 1 := by decide +kernel
theorem cond4_iff : ∀ (i : grid0.Coords), k0_cond4 i = 1#1 ↔ (i 1).val = 7 := by decide +kernel

/-! ## Between the steps -/

/-- Buffers no step of the key blocks stores to. -/
def Still (x : Buf) : Prop := x ≠ .z ∧ x ≠ .da ∧ x ≠ .a ∧ x ≠ .dz ∧ x ≠ .pc ∧ x ≠ .pe ∧ x ≠ .ka ∧ x ≠ .va ∧ x ≠ .qa

instance (x : Buf) : Decidable (Still x) := by unfold Still; infer_instance

/-- Key blocks `n` graded and `N` summed. -/
structure Mid (X : Data) (K0 V0 : ℕ → ℕ → ℝ) (st0 : St) (n N : ℕ) (st : St) : Prop where
  same : ∀ x : Buf, Still x → st x = st0 x
  keys : Keys X st
  ls : ∀ r : Fin 1024, st .ls (ix2 r 0) = ((X.R r.val).lt : EReal)
  pc : ∀ r : Fin 1024, st .pc (ix2 r 0) = ((X.R r.val).P (512 * n) : EReal)
  pe : ∀ r : Fin 1024, st .pe (ix2 r 0) = ((X.R r.val).PE (512 * n) : EReal)
  sum : Summed X K0 V0 N st

variable {X : Data} {K0 V0 : ℕ → ℕ → ℝ} {st0 : St}

theorem grad_step {n N : ℕ} {diag : Bool} (hd : (diag = true ∧ n = X.I) ∨ (diag = false ∧ n < X.I)) (s : Fin 2) {st : St} (hM : Mid X K0 V0 st0 n N st) (hS : Scored X.R s n st) :
    Mid X K0 V0 st0 (n + 1) N ((gradients O kp diag s).run st).2 ∧ Graded X.R s n ((gradients O kp diag s).run st).2
      ∧ (∀ s' J, Scored X.R s' J st → Scored X.R s' J ((gradients O kp diag s).run st).2)
      ∧ ∀ s' J, s' ≠ s → Graded X.R s' J st → Graded X.R s' J ((gradients O kp diag s).run st).2 := by
  have h := gradients_done (R := X.R) X.lim hd (s := s) (st := st) hM.ls (fun r j => (hS r j).1) (fun r j => (hS r j).2) hM.pc hM.pe
  generalize ((gradients O kp diag s).run st).2 = st' at h ⊢
  have e : ∀ x : Buf, x ≠ .a → x ≠ .dz → x ≠ .pc → x ≠ .pe → st' x = st x := h.other
  refine ⟨⟨fun x hx => ?_, ⟨?_, ?_⟩, ?_, fun r => ?_, fun r => ?_, ⟨?_, ?_, ?_⟩⟩, fun r j => ⟨h.inA r j (by omega), h.inD r j (by omega)⟩, fun s' J H r j => ?_, fun s' J hs H r j => ?_⟩
  · rw [e x hx.2.2.1 hx.2.2.2.1 hx.2.2.2.2.1 hx.2.2.2.2.2.1, hM.same x hx]
  · rw [e .k (by decide) (by decide) (by decide) (by decide)]; exact hM.keys.k
  · rw [e .v (by decide) (by decide) (by decide) (by decide)]; exact hM.keys.v
  · rw [e .ls (by decide) (by decide) (by decide) (by decide)]; exact hM.ls
  · rw [h.pc, if_pos (by omega), Nat.mul_add]
  · rw [h.pe, if_pos (by omega), Nat.mul_add]
  · rw [e .ka (by decide) (by decide) (by decide) (by decide)]; exact hM.sum.ka
  · rw [e .va (by decide) (by decide) (by decide) (by decide)]; exact hM.sum.va
  · rw [e .qa (by decide) (by decide) (by decide) (by decide)]; exact hM.sum.qa
  · rw [e .z (by decide) (by decide) (by decide) (by decide), e .da (by decide) (by decide) (by decide) (by decide)]; exact H r j
  · rw [h.outA s' r j hs, h.outD s' r j hs]; exact H r j

variable {q g : FVec Ideal S1024x128 .bf16} (hq : ∀ (r : Fin 1024) (c : Fin 128), q (ix2 r c) = (X.q r.val c.val : EReal))
  (hg : ∀ (r : Fin 1024) (c : Fin 128), g (ix2 r c) = (X.g r.val c.val : EReal))

include hq hg in
theorem score_step {n N J : ℕ} (hJ : J < 8) {o : Fin 2 → ℕ} (h : ∀ d, o d + S512x128.size d ≤ S4096x128.size d) (ho : o = ![512 * J, 0]) (s : Fin 2) {st : St}
    (hM : Mid X K0 V0 st0 n N st) :
    Mid X K0 V0 st0 n N ((scores O q g o h s).run st).2 ∧ Scored X.R s J ((scores O q g o h s).run st).2
      ∧ (∀ s' J, s' ≠ s → Scored X.R s' J st → Scored X.R s' J ((scores O q g o h s).run st).2)
      ∧ ∀ s' J, Graded X.R s' J st → Graded X.R s' J ((scores O q g o h s).run st).2 := by
  rw [scores_run]
  have e := scores_other st q g o h s
  refine ⟨⟨fun x hx => ?_, ⟨?_, ?_⟩, ?_, ?_, ?_, ⟨?_, ?_, ?_⟩⟩, scores_scored hq hg hM.keys hJ h ho s, fun s' J hs H => scores_keep h s s' hs H, fun s' J H r j => ?_⟩
  · rw [e x hx.1 hx.2.1, hM.same x hx]
  · rw [e .k (by decide) (by decide)]; exact hM.keys.k
  · rw [e .v (by decide) (by decide)]; exact hM.keys.v
  · rw [e .ls (by decide) (by decide)]; exact hM.ls
  · rw [e .pc (by decide) (by decide)]; exact hM.pc
  · rw [e .pe (by decide) (by decide)]; exact hM.pe
  · rw [e .ka (by decide) (by decide)]; exact hM.sum.ka
  · rw [e .va (by decide) (by decide)]; exact hM.sum.va
  · rw [e .qa (by decide) (by decide)]; exact hM.sum.qa
  · rw [e .a (by decide) (by decide), e .dz (by decide) (by decide)]; exact H r j

include hq hg in
theorem prod_step {n N N' J B : ℕ} (hJ : J < 8) {o : Fin 2 → ℕ} (h : ∀ d, o d + S512x128.size d ≤ S4096x128.size d) (ho : o = ![512 * J, 0]) (s : Fin 2) {st : St}
    (hM : Mid X K0 V0 st0 n N st) (hG : Graded X.R s B st) (hB : (B = J ∧ J = N ∧ N' = N + 1) ∨ (B = 8 ∧ N' = N)) :
    Mid X K0 V0 st0 n N' ((products O q g o h s).run st).2
      ∧ (∀ s' J, Scored X.R s' J st → Scored X.R s' J ((products O q g o h s).run st).2)
      ∧ ∀ s' J, Graded X.R s' J st → Graded X.R s' J ((products O q g o h s).run st).2 := by
  rw [products_run]
  have e := products_other st q g o h s
  refine ⟨⟨fun x hx => ?_, ⟨?_, ?_⟩, ?_, ?_, ?_, products_summed hq hg hM.keys hJ h ho hG hM.sum hB⟩, fun s' J H r j => ?_, fun s' J H r j => ?_⟩
  · rw [e x hx.2.2.2.2.2.2.1 hx.2.2.2.2.2.2.2.1 hx.2.2.2.2.2.2.2.2, hM.same x hx]
  · rw [e .k (by decide) (by decide) (by decide)]; exact hM.keys.k
  · rw [e .v (by decide) (by decide) (by decide)]; exact hM.keys.v
  · rw [e .ls (by decide) (by decide) (by decide)]; exact hM.ls
  · rw [e .pc (by decide) (by decide) (by decide)]; exact hM.pc
  · rw [e .pe (by decide) (by decide) (by decide)]; exact hM.pe
  · rw [e .z (by decide) (by decide) (by decide), e .da (by decide) (by decide) (by decide)]; exact H r j
  · rw [e .a (by decide) (by decide) (by decide), e .dz (by decide) (by decide) (by decide)]; exact H r j

/-! ## Trips of the main loop -/

/-- Before trip `u`: block `2u` scored in slot 0, block `2u − 1` graded in slot 1 (or none). -/
def Inv (X : Data) (K0 V0 : ℕ → ℕ → ℝ) (st0 : St) (u : ℕ) (st : St) : Prop :=
  Mid X K0 V0 st0 (2 * u) (2 * u - 1) st ∧ Scored X.R 0 (2 * u) st ∧ Graded X.R 1 (if u = 0 then 8 else 2 * u - 1) st

include hq hg in
theorem trip_step {u : ℕ} (hu : 2 * u + 2 ≤ X.I) {o1 o2 o3 o4 : Fin 2 → ℕ} (h1 : ∀ d, o1 d + S512x128.size d ≤ S4096x128.size d) (h2 : ∀ d, o2 d + S512x128.size d ≤ S4096x128.size d)
    (h3 : ∀ d, o3 d + S512x128.size d ≤ S4096x128.size d) (h4 : ∀ d, o4 d + S512x128.size d ≤ S4096x128.size d)
    (e1 : o1 = ![512 * (2 * u + 1), 0]) (e2 : o2 = ![512 * (2 * u - 1), 0]) (e3 : o3 = ![512 * (2 * u + 2), 0]) (e4 : o4 = ![512 * (2 * u), 0]) {st : St} (H : Inv X K0 V0 st0 u st) :
    Inv X K0 V0 st0 (u + 1) ((trip O kp q g o1 o2 o3 o4 h1 h2 h3 h4).run st).2 := by
  have hI := X.hI
  obtain ⟨M, S, G⟩ := H
  unfold trip
  rw [Den.run_bind, Den.run_bind, Den.run_bind, Den.run_bind, Den.run_bind]
  obtain ⟨M, G0, kS, kG⟩ := grad_step (.inr ⟨rfl, by omega⟩) 0 M S
  replace G := kG 1 _ (by decide) G
  clear kS kG S
  generalize (gradients O kp false 0).run st = t at M G0 G ⊢
  obtain ⟨M, S, -, kG⟩ := score_step hq hg (J := 2 * u + 1) (by omega) h1 e1 1 M
  replace G := kG 1 _ G
  replace G0 := kG 0 _ G0
  clear kG
  generalize (scores O q g o1 h1 1).run t.2 = t at M S G0 G ⊢
  obtain ⟨M, kS, kG⟩ := prod_step hq hg (N' := 2 * u) (J := 2 * u - 1) (by omega) h2 e2 1 M G (by
    by_cases h : u = 0
    · exact .inr ⟨if_pos h, by omega⟩
    · exact .inl ⟨if_neg h, by omega, by omega⟩)
  replace S := kS 1 _ S
  replace G0 := kG 0 _ G0
  clear kG kS G
  generalize (products O q g o2 h2 1).run t.2 = t at M S G0 ⊢
  obtain ⟨M, G, -, kG⟩ := grad_step (.inr ⟨rfl, by omega⟩) 1 M S
  replace G0 := kG 0 _ (by decide) G0
  clear kG S
  generalize (gradients O kp false 1).run t.2 = t at M G0 G ⊢
  obtain ⟨M, S, -, kG⟩ := score_step hq hg (J := 2 * u + 2) (by omega) h3 e3 0 M
  replace G := kG 1 _ G
  replace G0 := kG 0 _ G0
  clear kG
  generalize (scores O q g o3 h3 0).run t.2 = t at M S G0 G ⊢
  obtain ⟨M, kS, kG⟩ := prod_step hq hg (N' := 2 * u + 1) (J := 2 * u) (by omega) h4 e4 0 M G0 (.inl ⟨rfl, rfl, rfl⟩)
  exact ⟨M, kS 0 _ S, by rw [if_neg (by omega)]; exact kG 1 _ G⟩

include hq hg in
theorem even_step {u : ℕ} (hu : X.I = 2 * u) {o1 o2 : Fin 2 → ℕ} (h1 : ∀ d, o1 d + S512x128.size d ≤ S4096x128.size d) (h2 : ∀ d, o2 d + S512x128.size d ≤ S4096x128.size d)
    (e1 : o1 = ![512 * (X.I - 1), 0]) (e2 : o2 = ![512 * X.I, 0]) {st : St} (H : Inv X K0 V0 st0 u st) :
    Mid X K0 V0 st0 (X.I + 1) (X.I + 1) ((even O kp q g o1 o2 h1 h2).run st).2 := by
  have hI := X.hI
  obtain ⟨M, S, G⟩ := H
  rw [← hu] at M S
  unfold even
  rw [Den.run_bind, Den.run_bind]
  obtain ⟨M, G0, kS, kG⟩ := grad_step (.inl ⟨rfl, rfl⟩) 0 M S
  replace G := kG 1 _ (by decide) G
  clear kS kG S
  generalize (gradients O kp true 0).run st = t at M G0 G ⊢
  obtain ⟨M, -, kG⟩ := prod_step hq hg (N' := X.I) (J := X.I - 1) (by omega) h1 e1 1 M G (by
    by_cases h : u = 0
    · exact .inr ⟨if_pos h, by omega⟩
    · exact .inl ⟨by rw [if_neg h]; omega, by omega, by omega⟩)
  replace G0 := kG 0 _ G0
  clear kG G
  generalize (products O q g o1 h1 1).run t.2 = t at M G0 ⊢
  exact (prod_step hq hg (J := X.I) (by omega) h2 e2 0 M G0 (.inl ⟨rfl, rfl, rfl⟩)).1

include hq hg in
theorem odd_step {u : ℕ} (hu : X.I = 2 * u + 1) {o1 o2 o3 : Fin 2 → ℕ} (h1 : ∀ d, o1 d + S512x128.size d ≤ S4096x128.size d) (h2 : ∀ d, o2 d + S512x128.size d ≤ S4096x128.size d)
    (h3 : ∀ d, o3 d + S512x128.size d ≤ S4096x128.size d)
    (e1 : o1 = ![512 * X.I, 0]) (e2 : o2 = ![512 * (X.I - 2), 0]) (e3 : o3 = ![512 * (X.I - 1), 0]) {st : St} (H : Inv X K0 V0 st0 u st) :
    Mid X K0 V0 st0 (X.I + 1) (X.I + 1) ((odd O kp q g o1 o2 o3 h1 h2 h3).run st).2 := by
  have hI := X.hI
  obtain ⟨M, S, G⟩ := H
  unfold odd
  rw [Den.run_bind, Den.run_bind, Den.run_bind, Den.run_bind, Den.run_bind]
  obtain ⟨M, G0, kS, kG⟩ := grad_step (.inr ⟨rfl, by omega⟩) 0 M S
  replace G := kG 1 _ (by decide) G
  clear kS kG S
  generalize (gradients O kp false 0).run st = t at M G0 G ⊢
  obtain ⟨M, S, -, kG⟩ := score_step hq hg (J := X.I) (by omega) h1 e1 1 M
  replace G := kG 1 _ G
  replace G0 := kG 0 _ G0
  clear kG
  generalize (scores O q g o1 h1 1).run t.2 = t at M S G0 G ⊢
  obtain ⟨M, kS, kG⟩ := prod_step hq hg (N' := 2 * u) (J := X.I - 2) (by omega) h2 e2 1 M G (by
    by_cases h : u = 0
    · exact .inr ⟨if_pos h, by omega⟩
    · exact .inl ⟨by rw [if_neg h]; omega, by omega, by omega⟩)
  replace S := kS 1 _ S
  replace G0 := kG 0 _ G0
  clear kG kS G
  generalize (products O q g o2 h2 1).run t.2 = t at M S G0 ⊢
  rw [← hu] at M
  obtain ⟨M, G, -, kG⟩ := grad_step (.inl ⟨rfl, rfl⟩) 1 M S
  replace G0 := kG 0 _ (by decide) G0
  clear kG S
  generalize (gradients O kp true 1).run t.2 = t at M G0 G ⊢
  obtain ⟨M, -, kG⟩ := prod_step hq hg (N' := X.I) (J := X.I - 1) (by omega) h3 e3 0 M G0 (.inl ⟨by omega, by omega, by omega⟩)
  replace G := kG 1 _ G
  generalize (products O q g o3 h3 0).run t.2 = t at M G ⊢
  exact (prod_step hq hg (J := X.I) (by omega) h1 e1 1 M G (.inl ⟨rfl, rfl, rfl⟩)).1

include hq hg in
/-- The main loop. -/
theorem loop_inv (i : grid0.Coords) (hi : (i 1).val = X.I) {st : St} (H : Inv X K0 V0 st0 0 st) (a : BitVec 32) :
    ∀ (u : ℕ) (hu : u ≤ (k0_t1_loop i).trips), Inv X K0 V0 st0 u ((loopFrom (fun t (_ : BitVec 32) => (trip O kp q g (k0_off1 i t 1#32) (k0_off2 i t) (k0_off1 i t 2#32) (k0_off3 i t)
      (k0_off1_inb i t 0) (k0_off2_inb i t) (k0_off1_inb i t 1) (k0_off3_inb i t) >>= fun _ => pure 0#32 : Den St (BitVec 32))) u hu a).run st).2
  | 0, _ => H
  | u + 1, hu => by
    have ih := loop_inv i hi H a u (by omega)
    rw [loopFrom, Den.run_bind, Den.run_bind]
    refine trip_step hq hg (u := u) ?_ _ _ _ _ (off1 i ⟨u, hu⟩ 0) (off2 i ⟨u, hu⟩) (off1 i ⟨u, hu⟩ 1) (off3 i ⟨u, hu⟩) ih
    have := trips1 i
    omega

/-! ## The rows laid out -/

theorem lanes_apply (i c : Fin 128) : lanes (ix2 i c) = if c.val < 64 then 1#1 else 0#1 := by
  have e : lanes (ix2 i c) = IntOp.cmpi .slt (BitVec.ofNat 32 c.val) 64#32 := by pointwise [lanes]
  rw [e, slt_small (n := 64) (by omega) (by omega)]

theorem split_apply (x : FVec Ideal S128x128 .bf16) (ρ : Fin 256) (c : Fin 128) :
    split (F := Ideal) x (ix2 ρ c) = if c.val / 64 = ρ.val / 128 then x (ix2 ⟨ρ.val % 128, by omega⟩ c) else 0 := by
  have e : split (F := Ideal) x (ix2 ρ c) = if h : ρ.val < 128 then (if lanes (ix2 ⟨ρ.val, h⟩ c) = 1#1 then x (ix2 ⟨ρ.val, h⟩ c) else 0)
      else (if lanes (ix2 ⟨ρ.val - 128, by omega⟩ c) = 1#1 then 0 else x (ix2 ⟨ρ.val - 128, by omega⟩ c)) := by
    pointwise [split]
    rfl
  rw [e]
  have hc := c.isLt
  by_cases h : ρ.val < 128
  · rw [dif_pos h, lanes_apply]
    by_cases hc' : c.val < 64
    · rw [if_pos hc', if_pos rfl, if_pos (by omega)]
      simp only [Nat.mod_eq_of_lt h]
    · rw [if_neg hc', if_neg (by decide), if_neg (by omega)]
  · rw [dif_neg h, lanes_apply]
    by_cases hc' : c.val < 64
    · rw [if_pos hc', if_pos rfl, if_neg (by omega)]
    · rw [if_neg hc', if_neg (by decide), if_pos (by omega)]
      simp only [show ρ.val % 128 = ρ.val - 128 by omega]

theorem stack_apply (x : Fin 4 → FVec Ideal S256x128 .bf16) (r : Fin 1024) (c : Fin 128) :
    stack (F := Ideal) (x 0) (x 1) (x 2) (x 3) (ix2 r c) = x ⟨r.val / 256, by omega⟩ (ix2 ⟨r.val % 256, by omega⟩ c) := by
  have hr := r.isLt
  have e : stack (F := Ideal) (x 0) (x 1) (x 2) (x 3) (ix2 r c) = if h : r.val < 256 then x 0 (ix2 ⟨r.val, h⟩ c)
      else if h : r.val - 256 < 256 then x 1 (ix2 ⟨r.val - 256, h⟩ c)
      else if h : r.val - 256 - 256 < 256 then x 2 (ix2 ⟨r.val - 256 - 256, h⟩ c) else x 3 (ix2 ⟨r.val - 256 - 256 - 256, by omega⟩ c) := by
    pointwise [stack]
  rw [e]
  split_ifs with h1 h2 h3
  · simp only [show r.val / 256 = 0 by omega, show r.val % 256 = r.val by omega]; rfl
  · simp only [show r.val / 256 = 1 by omega, show r.val % 256 = r.val - 256 by omega]; rfl
  · simp only [show r.val / 256 = 2 by omega, show r.val % 256 = r.val - 256 - 256 by omega]; rfl
  · simp only [show r.val / 256 = 3 by omega, show r.val % 256 = r.val - 256 - 256 - 256 by omega]; rfl

theorem ofBits_eighth : Ideal.ofBits .f32 0x3E000000#32 = ((1 / 8 : ℝ) : EReal) := by
  simp [Ideal.ofBits, Ideal.ieee, -EReal.coe_mul]; norm_num
theorem ofBits_eighth' : Ideal.ofBits .bf16 0x3E00#16 = ((1 / 8 : ℝ) : EReal) := by
  simp [Ideal.ofBits, Ideal.ieee, -EReal.coe_mul]; norm_num

theorem join_apply (x : FVec Ideal S256x128 .f32) (i : Fin 128) (c : Fin 128) :
    join (F := Ideal) x (ix2 i c) = x (ix2 ⟨128 * (c.val / 64) + i.val, by omega⟩ c) * ((1 / 8 : ℝ) : EReal) := by
  have hc := c.isLt
  have e : join (F := Ideal) x (ix2 i c) = (if lanes (ix2 i c) = 1#1 then x (ix2 ⟨i.val, by omega⟩ c) else x (ix2 ⟨128 + i.val, by omega⟩ c)) * Ideal.ofBits .f32 0x3E000000#32 := by
    pointwise [join]
    rfl
  rw [e, lanes_apply, ofBits_eighth]
  by_cases hc' : c.val < 64
  · rw [if_pos hc', if_pos rfl]
    simp only [show 128 * (c.val / 64) + i.val = i.val by omega]
  · rw [if_neg hc', if_neg (by decide)]
    simp only [show 128 * (c.val / 64) + i.val = 128 + i.val by omega]

theorem irow_emb {a : Fin 4} {r : Fin 512} {i : Fin 128} (c : Fin 128) (hr : r.val = 128 * a.val + i.val) : (irow a).emb (ix2 i c) = ix2 r c := by
  funext d; apply Fin.ext; rw [Rect.emb_apply]
  fin_cases d
  · show 128 * a.val + 1 * i.val = r.val; omega
  · show 0 + 1 * c.val = c.val; omega
theorem qrow_emb {a : Fin 4} {r : Fin 1024} {ρ : Fin 256} (c : Fin 128) (hr : r.val = 256 * a.val + ρ.val) : (qrow a).emb (ix2 ρ c) = ix2 r c := by
  funext d; apply Fin.ext; rw [Rect.emb_apply]
  fin_cases d
  · show 256 * a.val + 1 * ρ.val = r.val; omega
  · show 0 + 1 * c.val = c.val; omega
theorem lrow_emb {a : Fin 4} {h : Fin 2} {r : Fin 512} {l : Fin 128} {i : Fin 128} (hr : r.val = 128 * a.val + i.val) (hl : l.val = 64 * h.val) : (lrow a h).emb (ix3 0 i 0) = ix3 0 r l := by
  funext d; apply Fin.ext; rw [Rect.emb_apply]
  fin_cases d
  · show 0 + 1 * 0 = 0; omega
  · show 128 * a.val + 1 * i.val = r.val; omega
  · show 64 * h.val + 1 * 0 = l.val; omega
theorem put_irow {α : Type} (a : Fin 4) (w : S128x128.Idx → α) (v : S512x128.Idx → α) (r : Fin 512) (c : Fin 128)
    (h : r.val / 128 ≠ a.val) : put (irow a) w v (ix2 r c) = v (ix2 r c) :=
  put_out (irow a) w v _ 0 (128 * a.val) 128 rfl rfl rfl (by rw [ix2_0]; omega)

/-- The column of totals of one strip. -/
def totals (l0 l1 : FVec Ideal S1x128x1 .f32) : FVec Ideal S256x1 .f32 :=
  shapeCast S256x1 (α := Ideal .f32) (concatenate S256x1 0 [⟨S128x1, shapeCast S128x1 (α := Ideal .f32) l0 shapeCasts_S1x128x1_S128x1⟩,
    ⟨S128x1, shapeCast S128x1 (α := Ideal .f32) l1 shapeCasts_S1x128x1_S128x1⟩] concatenates_S128x1_S128x1_S256x1_d0) shapeCasts_S256x1_S256x1
theorem totals_apply (l0 l1 : FVec Ideal S1x128x1 .f32) (ρ : Fin 256) :
    totals l0 l1 (ix2 ρ 0) = if h : ρ.val < 128 then l0 (ix3 0 ⟨ρ.val, h⟩ 0) else l1 (ix3 0 ⟨ρ.val - 128, by omega⟩ 0) := by
  pointwise [totals]

/-- One strip's rows of the queries, scaled, or of the results' gradient. -/
def stripQ (st : St) (a : Fin 4) : FVec Ideal S256x128 .bf16 :=
  split (F := Ideal) (mulf (F := Ideal) (φ := .bf16) (shapeCast S128x128 (α := Ideal .bf16) (fun x => st .q ((irow a).emb x)) shapeCasts_S128x128_S128x128) (broadcast S128x128 (Scalar.ofBits .bf16 0x3E00#16)))
def stripG (st : St) (a : Fin 4) : FVec Ideal S256x128 .bf16 :=
  split (F := Ideal) (shapeCast S128x128 (α := Ideal .bf16) (fun x => st .g ((irow a).emb x)) shapeCasts_S128x128_S128x128)

def putLs (st : St) (a : Fin 4) : St :=
  Function.update st .ls (put (row a) (totals (fun x => st .lt ((lrow a 0).emb x)) fun x => st .lt ((lrow a 1).emb x)) (st .ls))

theorem headStrip_run (st : St) (a : Fin 4) : (headStrip O a).run st = ((stripQ st a, stripG st a), putLs st a) := rfl
theorem putLs_other (st : St) (a : Fin 4) (x : Buf) (h : x ≠ .ls) : putLs st a x = st x := by
  unfold putLs; rw [Function.update_of_ne h]
theorem putLs_ls (st : St) (a : Fin 4) : putLs st a .ls = put (row a) (totals (fun x => st .lt ((lrow a 0).emb x)) fun x => st .lt ((lrow a 1).emb x)) (st .ls) := by
  unfold putLs; rw [Function.update_self]

/-- The block a point reads: queries, keys, values, the results' gradient, the totals of each head. -/
structure Block where
  q : ℕ → ℕ → ℝ
  k : ℕ → ℕ → ℝ
  v : ℕ → ℕ → ℝ
  g : ℕ → ℕ → ℝ
  lt : ℕ → ℕ → ℝ

/-- The query of a row and its head. -/
def qi (r : ℕ) : ℕ := 128 * (r / 256) + r % 128
def hd (r : ℕ) : ℕ := r % 256 / 128

def Block.Q (B : Block) (r c : ℕ) : ℝ := if c / 64 = hd r then B.q (qi r) c * (1 / 8) else 0
def Block.G (B : Block) (r c : ℕ) : ℝ := if c / 64 = hd r then B.g (qi r) c else 0

/-- The point's data. -/
def Block.data (B : Block) (I : ℕ) (hI : I < 8) : Data where
  R r := ⟨512 * I + qi r, B.lt (qi r) (hd r), fun j => ∑ c : Fin 128, B.Q r c.val * B.k j c.val, fun j => ∑ c : Fin 128, B.G r c.val * B.v j c.val⟩
  q := B.Q
  g := B.G
  k := B.k
  v := B.v
  I := I
  hI := hI
  lim r _ := by show 512 * I + qi r = _; unfold qi; omega
  z _ _ := rfl
  da _ _ := rfl

/-- The blocks held. -/
structure Reads (B : Block) (st : St) : Prop where
  q : ∀ (i : Fin 512) (c : Fin 128), st .q (ix2 i c) = (B.q i.val c.val : EReal)
  g : ∀ (i : Fin 512) (c : Fin 128), st .g (ix2 i c) = (B.g i.val c.val : EReal)
  k : ∀ (y : Fin 4096) (c : Fin 128), st .k (ix2 y c) = (B.k y.val c.val : EReal)
  v : ∀ (y : Fin 4096) (c : Fin 128), st .v (ix2 y c) = (B.v y.val c.val : EReal)
  lt : ∀ (i : Fin 512) (h : Fin 2), st .lt (ix3 0 i ⟨64 * h.val, by omega⟩) = (B.lt i.val h.val : EReal)

theorem stripQ_apply {B : Block} {st : St} (H : Reads B st) (r : Fin 1024) (c : Fin 128) :
    stripQ st ⟨r.val / 256, by omega⟩ (ix2 ⟨r.val % 256, by omega⟩ c) = (B.Q r.val c.val : EReal) := by
  unfold stripQ Block.Q
  rw [split_apply]
  unfold hd qi
  by_cases h : c.val / 64 = r.val % 256 / 128
  · rw [if_pos h, if_pos h]
    have e : ∀ (x : FVec Ideal S128x128 .bf16) (i : Fin 128), mulf (F := Ideal) (φ := .bf16) (shapeCast S128x128 (α := Ideal .bf16) x shapeCasts_S128x128_S128x128) (broadcast S128x128 (Scalar.ofBits .bf16 0x3E00#16)) (ix2 i c)
        = x (ix2 i c) * Ideal.ofBits .bf16 0x3E00#16 := fun x i => by pointwise []
    rw [e, ofBits_eighth', irow_emb (r := ⟨128 * (r.val / 256) + r.val % 128, by omega⟩) c (by simp only []; omega), H.q, ← EReal.coe_mul]
  · rw [if_neg h, if_neg h]; rfl

theorem stripG_apply {B : Block} {st : St} (H : Reads B st) (r : Fin 1024) (c : Fin 128) :
    stripG st ⟨r.val / 256, by omega⟩ (ix2 ⟨r.val % 256, by omega⟩ c) = (B.G r.val c.val : EReal) := by
  unfold stripG Block.G
  rw [split_apply]
  unfold hd qi
  by_cases h : c.val / 64 = r.val % 256 / 128
  · rw [if_pos h, if_pos h]
    have e : ∀ (x : FVec Ideal S128x128 .bf16) (i : Fin 128), shapeCast S128x128 (α := Ideal .bf16) x shapeCasts_S128x128_S128x128 (ix2 i c) = x (ix2 i c) := fun x i => by pointwise []
    rw [e, irow_emb (r := ⟨128 * (r.val / 256) + r.val % 128, by omega⟩) c (by simp only []; omega), H.g]
  · rw [if_neg h, if_neg h]; rfl

/-- The totals laid out in the first `n` strips. -/
structure LsTo (B : Block) (n : ℕ) (st0 st : St) : Prop where
  other : ∀ x : Buf, x ≠ .ls → st x = st0 x
  ls : ∀ r : Fin 1024, r.val / 256 < n → st .ls (ix2 r 0) = (B.lt (qi r.val) (hd r.val) : EReal)

theorem putLs_to {B : Block} (a : Fin 4) {st0 st : St} (H : Reads B st0) (h : LsTo B a.val st0 st) : LsTo B (a.val + 1) st0 (putLs st a) where
  other x hx := by rw [putLs_other _ _ _ hx, h.other x hx]
  ls r hr := by
    rw [putLs_ls]
    by_cases ha : r.val / 256 = a.val
    · rw [put_in _ _ _ _ (row_emb (a := a) (r := r) (ρ := ⟨r.val % 256, by omega⟩) (by simp only []; omega)), totals_apply]
      by_cases hh : r.val % 256 < 128
      · rw [dif_pos hh, lrow_emb (r := ⟨qi r.val, by unfold qi; omega⟩) (l := ⟨64 * (0 : Fin 2).val, by decide⟩) (by simp only [qi]; omega) rfl, h.other .lt (by decide), H.lt]
        simp only [hd, show r.val % 256 / 128 = 0 by omega]
        rfl
      · rw [dif_neg hh, lrow_emb (r := ⟨qi r.val, by unfold qi; omega⟩) (l := ⟨64 * (1 : Fin 2).val, by decide⟩) (by simp only [qi]; omega) rfl, h.other .lt (by decide), H.lt]
        simp only [hd, show r.val % 256 / 128 = 1 by omega]
        rfl
    · exact (put_row a _ _ r ha).trans (h.ls r (by omega))

theorem stripQ_congr {st0 st : St} (h : st .q = st0 .q) (a : Fin 4) : stripQ st a = stripQ st0 a := by unfold stripQ; rw [h]
theorem stripG_congr {st0 st : St} (h : st .g = st0 .g) (a : Fin 4) : stripG st a = stripG st0 a := by unfold stripG; rw [h]

end Cert.Sba
-- ==== Proof.SbaWhole.lean ====
/- What a whole grid point of the attention's backward kernel leaves. -/
module

public import proofs.«01_k».proof.Proof.SbaFlow

@[expose] public section

set_option maxRecDepth 16384

noncomputable section

open Idealize.ShloMosaic Idealize.ShloMosaic.TcCoe

namespace Cert.Sba

open Cert.Run Cert.SbaKernelIdeal Cert.SbaKernelIdeal.Gen

/-! ## The head -/

def zRow : FVec Ideal S1024x1 .f32 := shapeCast S1024x1 (α := Ideal .f32) (broadcast S1024x1 (Scalar.ofBits .f32 0x00000000#32)) shapeCasts_S1024x1_S1024x1
def zSlot : FVec Ideal S1x1024x512 .bf16 := shapeCast S1x1024x512 (α := Ideal .bf16) (broadcast S1024x512 (Scalar.ofBits .bf16 0x0000#16)) shapeCasts_S1024x512_S1x1024x512
def zQa : FVec Ideal S1024x128 .f32 := shapeCast S1024x128 (α := Ideal .f32) (broadcast S1024x128 (Scalar.ofBits .f32 0x00000000#32)) shapeCasts_S1024x128_S1024x128
def zKey : FVec Ideal S4096x128 .f32 := shapeCast S4096x128 (α := Ideal .f32) (broadcast S4096x128 (Scalar.ofBits .f32 0x00000000#32)) shapeCasts_S4096x128_S4096x128

theorem zero_f : Ideal.ofBits .f32 0x00000000#32 = (0 : EReal) := by simp [Ideal.ofBits, Ideal.ieee]
theorem zero_b : Ideal.ofBits .bf16 0x0000#16 = (0 : EReal) := by simp [Ideal.ofBits, Ideal.ieee]

theorem zRow_apply (r : Fin 1024) : zRow (ix2 r 0) = 0 := by
  have e : zRow (ix2 r 0) = Ideal.ofBits .f32 0x00000000#32 := by pointwise [zRow]
  rw [e, zero_f]
theorem zSlot_apply (r : Fin 1024) (j : Fin 512) : zSlot (ix3 0 r j) = 0 := by
  have e : zSlot (ix3 0 r j) = Ideal.ofBits .bf16 0x0000#16 := by pointwise [zSlot]
  rw [e, zero_b]
theorem zQa_apply (r : Fin 1024) (c : Fin 128) : zQa (ix2 r c) = 0 := by
  have e : zQa (ix2 r c) = Ideal.ofBits .f32 0x00000000#32 := by pointwise [zQa]
  rw [e, zero_f]
theorem zKey_apply (r : Fin 4096) (c : Fin 128) : zKey (ix2 r c) = 0 := by
  have e : zKey (ix2 r c) = Ideal.ofBits .f32 0x00000000#32 := by pointwise [zKey]
  rw [e, zero_f]

/-- A store into one buffer. -/
def upd (x : Buf) (r : Rect (K.shape x)) (w : r.shape.Idx → Elt Ideal (K.elt x)) (st : St) : St := Function.update st x (put r w (st x))
theorem upd_ne {x y : Buf} (h : y ≠ x) (r : Rect (K.shape x)) (w) (st : St) : upd x r w st y = st y := by unfold upd; rw [Function.update_of_ne h]
theorem upd_same (x : Buf) (r : Rect (K.shape x)) (w) (st : St) : upd x r w st x = put r w (st x) := by unfold upd; rw [Function.update_self]

def zeroed (st : St) : St :=
  upd .qa wqa zQa (upd .dz (slot 1) zSlot (upd .a (slot 1) zSlot (upd .pe wrow zRow (upd .pc wrow zRow st))))

theorem zeroed_other (st : St) (x : Buf) (h0 : x ≠ .qa) (h1 : x ≠ .dz) (h2 : x ≠ .a) (h3 : x ≠ .pe) (h4 : x ≠ .pc) : zeroed st x = st x := by
  unfold zeroed
  rw [upd_ne h0, upd_ne h1, upd_ne h2, upd_ne h3, upd_ne h4]
theorem zeroed_qa (st : St) (r : Fin 1024) (c : Fin 128) : zeroed st .qa (ix2 r c) = 0 := by
  unfold zeroed
  rw [upd_same, put_in _ _ _ _ (wqa_emb r c), zQa_apply]
theorem zeroed_dz (st : St) (r : Fin 1024) (j : Fin 512) : zeroed st .dz (ix3 1 r j) = 0 := by
  unfold zeroed
  rw [upd_ne (by decide), upd_same, put_in _ _ _ _ (slot_emb r j), zSlot_apply]
theorem zeroed_a (st : St) (r : Fin 1024) (j : Fin 512) : zeroed st .a (ix3 1 r j) = 0 := by
  unfold zeroed
  rw [upd_ne (by decide), upd_ne (by decide), upd_same, put_in _ _ _ _ (slot_emb r j), zSlot_apply]
theorem zeroed_pe (st : St) (r : Fin 1024) : zeroed st .pe (ix2 r 0) = 0 := by
  unfold zeroed
  rw [upd_ne (by decide), upd_ne (by decide), upd_ne (by decide), upd_same, put_in _ _ _ _ (wrow_emb r), zRow_apply]
theorem zeroed_pc (st : St) (r : Fin 1024) : zeroed st .pc (ix2 r 0) = 0 := by
  unfold zeroed
  rw [upd_ne (by decide), upd_ne (by decide), upd_ne (by decide), upd_ne (by decide), upd_same, put_in _ _ _ _ (wrow_emb r), zRow_apply]

def laid (st : St) : St := putLs (putLs (putLs (putLs st 0) 1) 2) 3

def headQ (st : St) : FVec Ideal S1024x128 .bf16 := stack (F := Ideal) (stripQ st 0) (stripQ (putLs st 0) 1) (stripQ (putLs (putLs st 0) 1) 2) (stripQ (putLs (putLs (putLs st 0) 1) 2) 3)
def headG (st : St) : FVec Ideal S1024x128 .bf16 := stack (F := Ideal) (stripG st 0) (stripG (putLs st 0) 1) (stripG (putLs (putLs st 0) 1) 2) (stripG (putLs (putLs (putLs st 0) 1) 2) 3)

theorem head_run (st : St) : (head O).run st = ((headQ st, headG st), ((scores O (headQ st) (headG st) ![0, 0] inb_S4096x128_S512x128_0_0 0).run (zeroed (laid st))).2) := rfl

theorem laid_to {B : Block} {st : St} (H : Reads B st) : LsTo B 4 st (laid st) := by
  have h0 : LsTo B 0 st st := ⟨fun _ _ => rfl, fun _ h => absurd h (by omega)⟩
  exact putLs_to 3 H (putLs_to 2 H (putLs_to 1 H (putLs_to 0 H h0)))

theorem headQ_apply {B : Block} {st : St} (H : Reads B st) (r : Fin 1024) (c : Fin 128) : headQ st (ix2 r c) = (B.Q r.val c.val : EReal) := by
  have e : headQ st = stack (F := Ideal) (stripQ st 0) (stripQ st 1) (stripQ st 2) (stripQ st 3) := by
    unfold headQ
    rw [stripQ_congr (st0 := st) (a := 1) (by rw [putLs_other _ _ _ (by decide)]), stripQ_congr (st0 := st) (a := 2) (by rw [putLs_other _ _ _ (by decide), putLs_other _ _ _ (by decide)]),
      stripQ_congr (st0 := st) (a := 3) (by rw [putLs_other _ _ _ (by decide), putLs_other _ _ _ (by decide), putLs_other _ _ _ (by decide)])]
  rw [e, stack_apply (stripQ st), stripQ_apply H]
theorem headG_apply {B : Block} {st : St} (H : Reads B st) (r : Fin 1024) (c : Fin 128) : headG st (ix2 r c) = (B.G r.val c.val : EReal) := by
  have e : headG st = stack (F := Ideal) (stripG st 0) (stripG st 1) (stripG st 2) (stripG st 3) := by
    unfold headG
    rw [stripG_congr (st0 := st) (a := 1) (by rw [putLs_other _ _ _ (by decide)]), stripG_congr (st0 := st) (a := 2) (by rw [putLs_other _ _ _ (by decide), putLs_other _ _ _ (by decide)]),
      stripG_congr (st0 := st) (a := 3) (by rw [putLs_other _ _ _ (by decide), putLs_other _ _ _ (by decide), putLs_other _ _ _ (by decide)])]
  rw [e, stack_apply (stripG st), stripG_apply H]

/-- Sums of keys and values held. -/
def Sums (K0 V0 : ℕ → ℕ → ℝ) (st : St) : Prop :=
  (∀ (y : Fin 4096) (c : Fin 128), st .ka (ix2 y c) = (K0 y.val c.val : EReal)) ∧ ∀ (y : Fin 4096) (c : Fin 128), st .va (ix2 y c) = (V0 y.val c.val : EReal)

theorem head_inv {B : Block} {I : ℕ} (hI : I < 8) {K0 V0 : ℕ → ℕ → ℝ} {st : St} (H : Reads B st) (hS : Sums K0 V0 st) :
    Inv (B.data I hI) K0 V0 (laid st) 0 ((head O).run st).2 := by
  rw [head_run]
  have L := laid_to H
  have M : Mid (B.data I hI) K0 V0 (laid st) 0 0 (zeroed (laid st)) := by
    refine ⟨fun x hx => zeroed_other _ _ hx.2.2.2.2.2.2.2.2 hx.2.2.2.1 hx.2.2.1 hx.2.2.2.2.2.1 hx.2.2.2.2.1, ⟨?_, ?_⟩, fun r => ?_, fun r => ?_, fun r => ?_, ⟨?_, ?_, ?_⟩⟩
    · rw [zeroed_other _ _ (by decide) (by decide) (by decide) (by decide) (by decide), L.other .k (by decide)]; exact H.k
    · rw [zeroed_other _ _ (by decide) (by decide) (by decide) (by decide) (by decide), L.other .v (by decide)]; exact H.v
    · rw [zeroed_other _ _ (by decide) (by decide) (by decide) (by decide) (by decide)]; exact L.ls r (by omega)
    · rw [zeroed_pc]; simp [Row.P]
    · rw [zeroed_pe]; simp [Row.PE]
    · rw [zeroed_other _ _ (by decide) (by decide) (by decide) (by decide) (by decide), L.other .ka (by decide)]; simpa using hS.1
    · rw [zeroed_other _ _ (by decide) (by decide) (by decide) (by decide) (by decide), L.other .va (by decide)]; simpa using hS.2
    · intro r c; rw [zeroed_qa]; simp [Data.Q]
  have G : Graded (B.data I hI).R 1 8 (zeroed (laid st)) := fun r j => by
    have := (B.data I hI).past r (j := 512 * 8 + j.val) (by omega)
    rw [zeroed_a, zeroed_dz, this.1, this.2]
    exact ⟨rfl, rfl⟩
  obtain ⟨M', S, -, kG⟩ := score_step (X := B.data I hI) (headQ_apply H) (headG_apply H) (J := 0) (by omega) inb_S4096x128_S512x128_0_0 rfl 0 M
  exact ⟨M', S, kG 1 8 G⟩

/-! ## The tail -/

theorem tailStrip_run (st : St) (a : Fin 4) : (tailStrip O a).run st = (⟨⟩, upd .dq (irow a) (join (F := Ideal) fun y => st .qa ((qrow a).emb y)) st) := rfl

/-- The query gradients of the first `n` strips written out. -/
structure DqTo (f : ℕ → ℕ → ℝ) (n : ℕ) (st0 st : St) : Prop where
  other : ∀ x : Buf, x ≠ .dq → st x = st0 x
  dq : ∀ (i : Fin 512) (c : Fin 128), i.val / 128 < n → st .dq (ix2 i c) = ((f (256 * (i.val / 128) + 128 * (c.val / 64) + i.val % 128) c.val * (1 / 8) : ℝ) : EReal)

theorem tailStrip_to {f : ℕ → ℕ → ℝ} (a : Fin 4) {st0 st : St} (hf : ∀ (r : Fin 1024) (c : Fin 128), st0 .qa (ix2 r c) = (f r.val c.val : EReal)) (h : DqTo f a.val st0 st) :
    DqTo f (a.val + 1) st0 ((tailStrip O a).run st).2 := by
  rw [tailStrip_run]
  dsimp only
  refine ⟨fun x hx => by rw [upd_ne hx, h.other x hx], fun i c hi => ?_⟩
  rw [upd_same]
  have hc := c.isLt
  by_cases ha : i.val / 128 = a.val
  · rw [put_in _ _ _ _ (irow_emb (a := a) (r := i) (i := ⟨i.val % 128, by omega⟩) c (by simp only []; omega)), join_apply,
      qrow_emb (a := a) (r := ⟨256 * (i.val / 128) + 128 * (c.val / 64) + i.val % 128, by omega⟩) c (by simp only []; omega), h.other .qa (by decide), hf, ← EReal.coe_mul]
  · exact (put_irow a _ _ i c ha).trans (h.dq i c (by omega))

theorem tail_done {f : ℕ → ℕ → ℝ} {st : St} (hf : ∀ (r : Fin 1024) (c : Fin 128), st .qa (ix2 r c) = (f r.val c.val : EReal)) :
    DqTo f 4 st ((tail O).run st).2 := by
  have h0 : DqTo f 0 st st := ⟨fun _ _ => rfl, fun _ _ h => absurd h (by omega)⟩
  unfold tail
  rw [Den.run_bind, Den.run_bind, Den.run_bind]
  exact tailStrip_to 3 hf (tailStrip_to 2 hf (tailStrip_to 1 hf (tailStrip_to 0 hf h0)))

theorem clear_run (st : St) : (clear O).run st = (⟨⟩, upd .va wkey zKey (upd .ka wkey zKey st)) := rfl
theorem flush_run (st : St) : (flush O).run st = (⟨⟩, upd .dv wkey (fun y => st .va (wkey.emb y)) (upd .dk wkey (fun y => st .ka (wkey.emb y)) st)) := rfl

/-! ## The point -/

/-- What the sums were before, as a point takes them: zero for the first query block. -/
def begun (I : ℕ) (f : ℕ → ℕ → ℝ) (y c : ℕ) : ℝ := if I = 0 then 0 else f y c

structure Done (B : Block) (I : ℕ) (hI : I < 8) (K0 V0 : ℕ → ℕ → ℝ) (st0 st : St) : Prop where
  same : ∀ x : Buf, x = .q ∨ x = .k ∨ x = .v ∨ x = .lt ∨ x = .g → st x = st0 x
  sums : Sums (fun y c => begun I K0 y c + (B.data I hI).K y c) (fun y c => begun I V0 y c + (B.data I hI).V y c) st
  dq : ∀ (i : Fin 512) (c : Fin 128), st .dq (ix2 i c) = (((B.data I hI).Q 4096 (256 * (i.val / 128) + 128 * (c.val / 64) + i.val % 128) c.val * (1 / 8) : ℝ) : EReal)
  dk : I = 7 → ∀ (y : Fin 4096) (c : Fin 128), st .dk (ix2 y c) = ((begun I K0 y.val c.val + (B.data I hI).K y.val c.val : ℝ) : EReal)
  dv : I = 7 → ∀ (y : Fin 4096) (c : Fin 128), st .dv (ix2 y c) = ((begun I V0 y.val c.val + (B.data I hI).V y.val c.val : ℝ) : EReal)

theorem Data.late (X : Data) {r j : ℕ} (hr : r < 1024) (h : 512 * (X.I + 1) ≤ j) : (X.R r).A j = 0 ∧ (X.R r).D j = 0 := by
  have := X.lim r hr
  have h := (X.R r).zero_past (j := j) (by omega)
  exact ⟨h.2.1, h.2.2.2⟩

theorem Data.K_late (X : Data) {y : ℕ} (c : ℕ) (h : 512 * (X.I + 1) ≤ y) : X.K y c = 0 :=
  Finset.sum_eq_zero fun r _ => by rw [(X.late r.isLt h).2, zero_mul]
theorem Data.V_late (X : Data) {y : ℕ} (c : ℕ) (h : 512 * (X.I + 1) ≤ y) : X.V y c = 0 :=
  Finset.sum_eq_zero fun r _ => by rw [(X.late r.isLt h).1, zero_mul]
theorem Data.Q_late (X : Data) {r : ℕ} (hr : r < 1024) (c : ℕ) : X.Q (512 * (X.I + 1)) r c = X.Q 4096 r c := by
  have := X.hI
  refine Finset.sum_subset (fun j hj => ?_) fun j _ hj => ?_
  · simp only [Finset.mem_range] at hj ⊢; omega
  · rw [(X.late hr (by simpa using hj)).2, zero_mul]

theorem loopFrom_none {n : ℕ} (h : n = 0) (b : Fin n → BitVec 32 → Den St (BitVec 32)) (a : BitVec 32) : loopFrom b n le_rfl a = pure a := by
  subst h; rfl

theorem point_done {B : Block} (i : grid0.Coords) {I : ℕ} (hI : I < 8) (hi : (i 1).val = I) {K0 V0 : ℕ → ℕ → ℝ} {st : St} (H : Reads B st) (hS : I ≠ 0 → Sums K0 V0 st) :
    Done B I hI K0 V0 st ((SbaKernelIdeal.Point.fn (F := Ideal) i).run st).2 := by
  unfold SbaKernelIdeal.Point.fn SbaKernelIdeal.Point.point loop
  rw [Den.run_bind, Den.run_bind, Den.run_bind, Den.run_bind, Den.run_bind, Den.run_bind, Den.run_bind]
  obtain ⟨st1, e1, h1, hS1⟩ : ∃ st1, ((if _h : SbaKernelIdeal.Point.cond1 i = 1#1 then clear O else pure ⟨⟩ : Den St PUnit).run st).2 = st1
      ∧ (∀ x : Buf, x ≠ .ka → x ≠ .va → st1 x = st x) ∧ Sums (begun I K0) (begun I V0) st1 := by
    refine ⟨_, rfl, ?_⟩
    by_cases h : I = 0
    · rw [dif_pos ((cond1_iff i).2 (by omega)), clear_run]
      dsimp only
      refine ⟨fun x hx hy => by rw [upd_ne hy, upd_ne hx], fun y c => ?_, fun y c => ?_⟩
      · rw [upd_ne (by decide), upd_same, put_in _ _ _ _ (wkey_emb y c), zKey_apply]; simp [begun, h]
      · rw [upd_same, put_in _ _ _ _ (wkey_emb y c), zKey_apply]; simp [begun, h]
    · rw [dif_neg (fun e => h (by have := (cond1_iff i).1 e; omega))]
      refine ⟨fun x _ _ => rfl, fun y c => ?_, fun y c => ?_⟩
      · simpa [begun, h] using (hS h).1 y c
      · simpa [begun, h] using (hS h).2 y c
  rw [e1]
  clear e1
  have H1 : Reads B st1 := by
    refine ⟨?_, ?_, ?_, ?_, ?_⟩
    · rw [h1 _ (by decide) (by decide)]; exact H.q
    · rw [h1 _ (by decide) (by decide)]; exact H.g
    · rw [h1 _ (by decide) (by decide)]; exact H.k
    · rw [h1 _ (by decide) (by decide)]; exact H.v
    · rw [h1 _ (by decide) (by decide)]; exact H.lt
  have N := head_inv hI H1 hS1
  have eq : ((head O).run st1).1 = (headQ st1, headG st1) := by rw [head_run]
  have hq := headQ_apply H1
  have hg := headG_apply H1
  have hL : ∀ x : Buf, x ≠ .ls → laid st1 x = st1 x := (laid_to H1).other
  rw [eq]
  generalize headQ st1 = q at hq ⊢
  generalize headG st1 = g at hg ⊢
  generalize ((head O).run st1).2 = st2 at N ⊢
  generalize laid st1 = stL at N hL
  dsimp only
  have N := loop_inv (X := B.data I hI) hq hg i hi N 0#32 _ le_rfl
  rw [loopFrom_none (trips2 i)]
  show Done B I hI K0 V0 st _
  generalize (loopFrom (fun t (_ : BitVec 32) => (trip O kp q g (k0_off1 i t 1#32) (k0_off2 i t) (k0_off1 i t 2#32) (k0_off3 i t)
      (k0_off1_inb i t 0) (k0_off2_inb i t) (k0_off1_inb i t 1) (k0_off3_inb i t) >>= fun _ => pure 0#32 : Den St (BitVec 32))) (k0_t1_loop i).trips le_rfl 0#32).run st2 = t3 at N ⊢
  have eT : (k0_t1_loop i).trips = I / 2 := by rw [trips1 i, hi]
  rw [eT] at N
  have fin : ∀ stF : St, Mid (B.data I hI) (begun I K0) (begun I V0) stL (I + 1) (I + 1) stF →
      Done B I hI K0 V0 st ((if _h : k0_cond4 i = 1#1 then flush O else pure ⟨⟩ : Den St PUnit).run ((tail O).run stF).2).2 := by
    intro stF M
    have T := tail_done M.sum.qa
    generalize ((tail O).run stF).2 = stT at T ⊢
    have hk : ∀ (y : Fin 4096) (c : Fin 128), stT .ka (ix2 y c) = ((begun I K0 y.val c.val + (B.data I hI).K y.val c.val : ℝ) : EReal) := fun y c => by
      rw [T.other .ka (by decide), M.sum.ka]
      by_cases hy : y.val < 512 * (I + 1)
      · rw [if_pos hy]
      · rw [if_neg hy, (B.data I hI).K_late _ (by show 512 * (I + 1) ≤ _; omega)]
    have hv : ∀ (y : Fin 4096) (c : Fin 128), stT .va (ix2 y c) = ((begun I V0 y.val c.val + (B.data I hI).V y.val c.val : ℝ) : EReal) := fun y c => by
      rw [T.other .va (by decide), M.sum.va]
      by_cases hy : y.val < 512 * (I + 1)
      · rw [if_pos hy]
      · rw [if_neg hy, (B.data I hI).V_late _ (by show 512 * (I + 1) ≤ _; omega)]
    have hd : ∀ (j : Fin 512) (c : Fin 128), stT .dq (ix2 j c) = (((B.data I hI).Q 4096 (256 * (j.val / 128) + 128 * (c.val / 64) + j.val % 128) c.val * (1 / 8) : ℝ) : EReal) := fun j c => by
      have hc := c.isLt
      rw [T.dq j c (by omega), show I + 1 = (B.data I hI).I + 1 from rfl, (B.data I hI).Q_late (by omega)]
    have hs : ∀ x : Buf, x = .q ∨ x = .k ∨ x = .v ∨ x = .lt ∨ x = .g → stT x = st x := fun x hx => by
      rw [T.other x (by rcases hx with rfl | rfl | rfl | rfl | rfl <;> decide), M.same x (by rcases hx with rfl | rfl | rfl | rfl | rfl <;> decide),
        hL x (by rcases hx with rfl | rfl | rfl | rfl | rfl <;> decide), h1 x (by rcases hx with rfl | rfl | rfl | rfl | rfl <;> decide) (by rcases hx with rfl | rfl | rfl | rfl | rfl <;> decide)]
    by_cases h7 : I = 7
    · rw [dif_pos ((cond4_iff i).2 (by omega)), flush_run]
      dsimp only
      refine ⟨fun x hx => ?_, ⟨fun y c => ?_, fun y c => ?_⟩, fun j c => ?_, fun _ y c => ?_, fun _ y c => ?_⟩
      · rw [upd_ne (by rcases hx with rfl | rfl | rfl | rfl | rfl <;> decide), upd_ne (by rcases hx with rfl | rfl | rfl | rfl | rfl <;> decide), hs x hx]
      · rw [upd_ne (by decide), upd_ne (by decide), hk]
      · rw [upd_ne (by decide), upd_ne (by decide), hv]
      · rw [upd_ne (by decide), upd_ne (by decide), hd]
      · rw [upd_ne (by decide), upd_same, put_in _ _ _ _ (wkey_emb y c), wkey_emb, hk]
      · rw [upd_same, put_in _ _ _ _ (wkey_emb y c), wkey_emb, hv]
    · rw [dif_neg (fun e => h7 (by have := (cond4_iff i).1 e; omega))]
      exact ⟨hs, ⟨hk, hv⟩, hd, fun e => absurd e h7, fun e => absurd e h7⟩
  by_cases hp : I % 2 = 0
  · have c2 := (cond2_iff i).2 (by omega)
    have c3 : ¬ k0_cond3 i = 1#1 := fun e => by have := (cond3_iff i).1 e; omega
    rw [dif_pos c2, dif_neg c3]
    exact fin _ (even_step (X := B.data I hI) hq hg (by show I = _; omega) (k0_off7_inb i c2) (k0_off8_inb i c2) ((off7 i c2).trans (by rw [hi]; rfl)) ((off8 i c2).trans (by rw [hi]; rfl)) N)
  · have c3 := (cond3_iff i).2 (by omega)
    have c2 : ¬ k0_cond2 i = 1#1 := fun e => by have := (cond2_iff i).1 e; omega
    rw [dif_neg c2, dif_pos c3]
    exact fin _ (odd_step (X := B.data I hI) hq hg (by show I = _; omega) (k0_off9_inb i c3) (k0_off10_inb i c3) (k0_off11_inb i c3) ((off9 i c3).trans (by rw [hi]; rfl))
      ((off10 i c3).trans (by rw [hi]; rfl)) ((off11 i c3).trans (by rw [hi]; rfl)) N)

end Cert.Sba
-- ==== Proof.SbaRefValue.lean ====
/- The attention's gradients as the reference computes them, on real numbers. -/
module

public import proofs.«01_k».proof.Proof.SbaTile
public import proofs.«01_k».proof.Proof.Gen.SbaRefIdeal.Read
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Sba

/-- The arguments as real numbers. -/
structure Args where
  q : ℕ → ℕ → ℝ
  k : ℕ → ℕ → ℝ
  v : ℕ → ℕ → ℝ
  g : ℕ → ℕ → ℝ

namespace Args
variable (X : Args)

def z (h i j : ℕ) : ℝ := (∑ d : Fin 64, X.q i (h * 64 + d.val) * X.k j (h * 64 + d.val)) * (1 / 8)
def da (h i j : ℕ) : ℝ := ∑ d : Fin 64, X.g i (h * 64 + d.val) * X.v j (h * 64 + d.val)
def lt (h i : ℕ) : ℝ := ∑ j ∈ Finset.range 4096, if j < i then sp (X.z h i j) else 0
/-- One query of one head. -/
def row (h i : ℕ) : Row := ⟨i, X.lt h i, X.z h i, X.da h i⟩
def dq (i d : ℕ) : ℝ := (∑ j : Fin 4096, (X.row (d / 64) i).D j.val * X.k j.val d) * (1 / 8)
def dk (j d : ℕ) : ℝ := (∑ i : Fin 4096, (X.row (d / 64) i.val).D j * X.q i.val d) * (1 / 8)
def dv (j d : ℕ) : ℝ := ∑ i : Fin 4096, (X.row (d / 64) i.val).A j * X.g i.val d

end Args

end Cert.Sba

namespace Cert.SbaRefIdeal.Value
open Cert.SbaRefIdeal Cert.SbaRefIdeal.Read Cert.Sba

/-! ## Running sums -/

theorem foldl_add {ι : Type} (l : List ι) (t : ι → EReal) (v : EReal) : l.foldl (fun r n => r + t n) v = v + (l.map t).sum := by
  induction l generalizing v with
  | nil => simp
  | cons a l ih => rw [List.foldl_cons, ih, List.map_cons, List.sum_cons, add_assoc]

/-- The window's positions. -/
def along (N : ℕ) : Fin N ≃ (⟨3, ![1, 1, N]⟩ : Shape).Idx where
  toFun w := ix3 0 0 w
  invFun i := i 2
  left_inv _ := rfl
  right_inv i := by
    funext d
    fin_cases d
    · exact Subsingleton.elim (α := Fin 1) _ _
    · exact Subsingleton.elim (α := Fin 1) _ _
    · rfl

theorem window_sum {A B N : ℕ} (lo hi : ℕ) (x : (⟨3, ![A, B, N]⟩ : Shape).Idx → EReal) (init : S_.Idx → EReal) (hinit : init ix0 = 0)
    (H : (⟨3, ![A, B, N]⟩ : Shape).ReduceWindows ![1, 1, N] ![1, 1, 1] ![0, 0, lo] ![0, 0, hi] (⟨3, ![A, B, N]⟩ : Shape)) (hu : 0 < S_.numel) (h : Fin A) (i : Fin B) (j : Fin N) :
    Host.reduceWindowAdd (F := Ideal) (φ := .f32) ![1, 1, N] ![1, 1, 1] ![0, 0, lo] ![0, 0, hi] x init H hu (ix3 h i j)
      = ∑ w : Fin N, if hw : lo ≤ j.val + w.val ∧ j.val + w.val - lo < N then x (ix3 h i ⟨j.val + w.val - lo, hw.2⟩) else 0 := by
  have hv : init (Shape.Idx.first hu) = 0 := (congrArg init (funext fun a => a.elim0)).trans hinit
  unfold Host.reduceWindowAdd
  show Host.reduceWindow (α := EReal) (fun a b => a + b) ![1, 1, N] ![1, 1, 1] ![0, 0, lo] ![0, 0, hi] x (fun _ : (⟨0, ![]⟩ : Shape).Idx => init (Shape.Idx.first hu)) H (by decide) (ix3 h i j) = _
  unfold Host.reduceWindow
  dsimp only
  rw [foldl_add, hv, zero_add, ← Fin.sum_univ_def, ← Equiv.sum_comp (Shape.rowMajor _), ← Equiv.sum_comp (along N)]
  refine Finset.sum_congr rfl fun w _ => ?_
  simp only [Equiv.symm_apply_apply]
  by_cases hw : lo ≤ j.val + w.val ∧ j.val + w.val - lo < N
  · rw [dif_pos hw, dif_pos]
    · refine congrArg x (funext fun a => Fin.ext ?_)
      fin_cases a
      · show h.val * 1 + 0 - 0 = h.val; omega
      · show i.val * 1 + 0 - 0 = i.val; omega
      · show j.val * 1 + w.val - lo = j.val + w.val - lo; omega
    · intro a
      fin_cases a
      · show 0 ≤ h.val * 1 + 0 ∧ h.val * 1 + 0 - 0 < A; have := h.isLt; omega
      · show 0 ≤ i.val * 1 + 0 ∧ i.val * 1 + 0 - 0 < B; have := i.isLt; omega
      · show lo ≤ j.val * 1 + w.val ∧ j.val * 1 + w.val - lo < N; omega
  · rw [dif_neg hw, dif_neg]
    intro h'
    have h2 : lo ≤ j.val * 1 + w.val ∧ j.val * 1 + w.val - lo < N := h' 2
    exact hw (by omega)

theorem shift_from (f : ℕ → ℝ) {j N : ℕ} (h : j ≤ N) : ∑ w ∈ Finset.range N, (if j + w < N then f (j + w) else 0) = ∑ n ∈ Finset.range N, f n - ∑ n ∈ Finset.range j, f n := by
  obtain ⟨m, rfl⟩ := Nat.exists_eq_add_of_le h
  rw [Finset.sum_range_add f j m, Nat.add_comm j m, Finset.sum_range_add _ m j]
  rw [Finset.sum_eq_zero (s := Finset.range j) fun w _ => if_neg (by omega), add_zero, add_sub_cancel_left]
  exact Finset.sum_congr rfl fun w hw => if_pos (by have := Finset.mem_range.1 hw; omega)

theorem shift_to (f : ℕ → ℝ) {j N : ℕ} (h : j ≤ N) : ∑ w ∈ Finset.range (N + 1), (if N ≤ j + w then f (j + w - N) else 0) = ∑ n ∈ Finset.range (j + 1), f n := by
  obtain ⟨a, rfl⟩ := Nat.exists_eq_add_of_le' h
  rw [Nat.add_assoc a j 1]
  rw [Finset.sum_range_add, Finset.sum_eq_zero fun w hw => if_neg (by have := Finset.mem_range.1 hw; omega), zero_add]
  exact Finset.sum_congr rfl fun w _ => by rw [if_pos (by omega), show j + (a + w) - (a + j) = w by omega]

/-- The sum from a place on, and the sum up to it. -/
theorem window_from {f : ℕ → ℝ} (x : S16x4096x4096.Idx → EReal) (init : S_.Idx → EReal) (hinit : init ix0 = 0) (H) (hu : 0 < S_.numel) (h : Fin 16) (i j : Fin 4096)
    (hx : ∀ j : Fin 4096, x (ix3 h i j) = (f j.val : EReal)) :
    Host.reduceWindowAdd (F := Ideal) (φ := .f32) (s := S16x4096x4096) (t := S16x4096x4096) ![1, 1, 4096] ![1, 1, 1] ![0, 0, 0] ![0, 0, 4095] x init H hu (ix3 h i j)
      = ((∑ n ∈ Finset.range 4096, f n - ∑ n ∈ Finset.range j.val, f n : ℝ) : EReal) := by
  refine (window_sum (A := 16) (B := 4096) (N := 4096) 0 4095 x init hinit H hu h i j).trans ?_
  have e : ∀ w : Fin 4096, (if hw : 0 ≤ j.val + w.val ∧ j.val + w.val - 0 < 4096 then x (ix3 h i ⟨j.val + w.val - 0, hw.2⟩) else 0)
      = ((if j.val + w.val < 4096 then f (j.val + w.val) else 0 : ℝ) : EReal) := fun w => by
    by_cases hw : j.val + w.val < 4096
    · rw [dif_pos ⟨by omega, by omega⟩, hx, if_pos hw]; rfl
    · rw [dif_neg (by omega), if_neg hw]; rfl
  simp only [e]
  rw [Reals.sum_coe, Fin.sum_univ_eq_sum_range (fun w => if j.val + w < 4096 then f (j.val + w) else 0) 4096]
  refine congrArg _ ?_
  have hj := j.isLt
  exact shift_from f hj.le

theorem window_to {f : ℕ → ℝ} (x : S16x4096x4096.Idx → EReal) (init : S_.Idx → EReal) (hinit : init ix0 = 0) (H) (hu : 0 < S_.numel) (h : Fin 16) (i j : Fin 4096)
    (hx : ∀ j : Fin 4096, x (ix3 h i j) = (f j.val : EReal)) :
    Host.reduceWindowAdd (F := Ideal) (φ := .f32) (s := S16x4096x4096) (t := S16x4096x4096) ![1, 1, 4096] ![1, 1, 1] ![0, 0, 4095] ![0, 0, 0] x init H hu (ix3 h i j)
      = ((∑ n ∈ Finset.range (j.val + 1), f n : ℝ) : EReal) := by
  refine (window_sum (A := 16) (B := 4096) (N := 4096) 4095 0 x init hinit H hu h i j).trans ?_
  have e : ∀ w : Fin 4096, (if hw : 4095 ≤ j.val + w.val ∧ j.val + w.val - 4095 < 4096 then x (ix3 h i ⟨j.val + w.val - 4095, hw.2⟩) else 0)
      = ((if 4095 ≤ j.val + w.val then f (j.val + w.val - 4095) else 0 : ℝ) : EReal) := fun w => by
    by_cases hw : 4095 ≤ j.val + w.val
    · rw [dif_pos ⟨by omega, by omega⟩, hx, if_pos hw]
    · rw [dif_neg (by omega), if_neg hw]; rfl
  simp only [e]
  rw [Reals.sum_coe, Fin.sum_univ_eq_sum_range (fun w => if 4095 ≤ j.val + w then f (j.val + w - 4095) else 0) 4096]
  refine congrArg _ ?_
  exact shift_to f (N := 4095) (by omega)

/-! ## Entry by entry -/

variable (x0 x1 x2 x3 : S4096x1024.Idx → EReal)

theorem v6_entry (h : Fin 16) (i j : Fin 4096) : val_main_v6 (F := Ideal) x0 x1 (ix3 h i j)
    = (∑ d : Fin 64, x0 (ix2 i ⟨h.val * 64 + d.val, by omega⟩) * x1 (ix2 j ⟨h.val * 64 + d.val, by omega⟩)) * Ideal.ofBits .f32 0x3E000000#32 := by
  pointwise [val_main_v6, val_main_v5, val_main_v4, val_main_v3, val_main_v2, val_main_v1, val_main_v0, val_main_cst]

theorem mask_entry (h : Fin 16) (i j : Fin 4096) : val_main_v15_1 (F := Ideal) (ix3 h i j) = if j.val < i.val then 1#1 else 0#1 := by
  have e : val_main_v15_1 (F := Ideal) (ix3 h i j) = IntOp.cmpi .slt (BitVec.ofNat 32 j.val) (BitVec.ofNat 32 i.val) := by
    pointwise [val_main_v15_1, val_main_v12, val_main_v11, val_main_v10, val_main_v9, val_main_v8, val_main_v7]
  rw [e, slt_small (by omega) (by omega)]

/-- `log (1 + eᶻ)` and its slope. -/
def lo (z : ℝ) : ℝ := Real.log (1 + Real.exp z)

theorem sp_eq (z : ℝ) : sp z = lo z / Real.log 2 := rfl

theorem lo_neg (z : ℝ) : lo (-z) = lo z - z := by
  have e : 1 + Real.exp z = Real.exp z * (1 + Real.exp (-z)) := by
    rw [mul_add, ← Real.exp_add]; simp; ring
  unfold lo
  rw [e, Real.log_mul (Real.exp_ne_zero _) (by positivity), Real.log_exp]
  ring

theorem exp_sub_lo (z : ℝ) : Real.exp (z - lo z) = sg z := by
  unfold lo sg
  rw [Real.exp_sub, Real.exp_log (by positivity)]

theorem soft_coe (z : ℝ) : (if (z : EReal) ≠ (z : EReal) then (z : EReal) else max (z : EReal) 0 + Ideal.log1p (Ideal.exp (-(FloatOps.absf (F := Ideal) (φ := .f32) (z : EReal) : EReal)))) = (lo z : EReal) := by
  rw [if_neg (fun h => h rfl)]
  show max (z : EReal) 0 + Ideal.log (1 + Ideal.exp (-(max (z : EReal) (-(z : EReal))))) = _
  have e0 : max (z : EReal) 0 = ((max z 0 : ℝ) : EReal) := (EReal.coe_strictMono.monotone.map_max (a := z) (b := 0)).symm
  have e1 : max (z : EReal) (-(z : EReal)) = ((|z| : ℝ) : EReal) := (EReal.coe_strictMono.monotone.map_max (a := z) (b := -z)).symm
  rw [e0, e1, ← EReal.coe_neg, Ideal.exp_coe, ← EReal.coe_one, ← EReal.coe_add, Reals.log_coe_pos (by positivity), ← EReal.coe_add, softplus_eq]
  rfl

theorem ne_top (z : ℝ) : ¬ (z : EReal) = Ideal.ofBits .f32 0x7F800000#32 := by rw [Reals.ofBits_inf]; exact EReal.coe_ne_top z

theorem eighth : Ideal.ofBits .f32 0x3E000000#32 = ((1 / 8 : ℝ) : EReal) := by
  simp [Ideal.ofBits, Ideal.ieee, -EReal.coe_mul]; norm_num
theorem zero_bits : Ideal.ofBits .f32 0x00000000#32 = ((0 : ℝ) : EReal) := by simp [Ideal.ofBits, Ideal.ieee]

/-- The arguments are these real numbers. -/
structure Holds (X : Args) (x0 x1 x2 x3 : S4096x1024.Idx → EReal) : Prop where
  q : ∀ (i : Fin 4096) (d : Fin 1024), x0 (ix2 i d) = (X.q i.val d.val : EReal)
  k : ∀ (i : Fin 4096) (d : Fin 1024), x1 (ix2 i d) = (X.k i.val d.val : EReal)
  v : ∀ (i : Fin 4096) (d : Fin 1024), x2 (ix2 i d) = (X.v i.val d.val : EReal)
  g : ∀ (i : Fin 4096) (d : Fin 1024), x3 (ix2 i d) = (X.g i.val d.val : EReal)

variable {X : Args} {x0 x1 x2 x3} (H : Holds X x0 x1 x2 x3)
include H

theorem z_eq (h : Fin 16) (i j : Fin 4096) : val_main_v6 (F := Ideal) x0 x1 (ix3 h i j) = (X.z h.val i.val j.val : EReal) := by
  rw [v6_entry, eighth]
  simp only [H.q, H.k, ← EReal.coe_mul]
  rw [Reals.sum_coe, ← EReal.coe_mul]
  rfl

theorem soft_eq (h : Fin 16) (i j : Fin 4096) : val_main_v13_0 (F := Ideal) x0 x1 (ix3 h i j) = (lo (X.z h.val i.val j.val) : EReal) := by
  refine Eq.trans ?_ (soft_coe (X.z h.val i.val j.val))
  rw [← z_eq H]
  pointwise [val_main_v13_0, val_main_call0_v4, val_main_call0_v6, val_main_call0_v11, val_main_call0_v1, val_main_call0_v10, val_main_call0_v9, val_main_call0_v8, val_main_call0_v7, val_main_call0_v3,
    val_main_call0_v2, val_main_call0_v0, val_main_call0_v5, val_main_call0_cst]

theorem slope_eq (h : Fin 16) (i j : Fin 4096) : val_main_v13_1 (F := Ideal) x0 x1 (ix3 h i j) = (sg (X.z h.val i.val j.val) : EReal) := by
  pointwise [val_main_v13_1, val_main_call0_v21, val_main_call0_v20, val_main_call0_v19, val_main_call0_v18, val_main_call0_v17, val_main_call0_v16, val_main_call0_v15, val_main_call0_v14, val_main_call0_v13,
    val_main_call0_cst_0, val_main_call0_cst_1, val_main_call0_cst_2, val_main_call0_cst_3]
  rw [z_eq H, soft_eq H, if_neg (ne_top _), if_neg (ne_top _), ← EReal.coe_sub, Ideal.exp_coe, exp_sub_lo]

theorem softN_eq (h : Fin 16) (i j : Fin 4096) : val_main_call3_v1_0 (F := Ideal) x0 x1 (ix3 h i j) = (lo (-X.z h.val i.val j.val) : EReal) := by
  refine Eq.trans ?_ (soft_coe (-X.z h.val i.val j.val))
  rw [EReal.coe_neg, ← z_eq H]
  pointwise [val_main_call3_v1_0, val_main_call3_call0_v4, val_main_call3_call0_v6, val_main_call3_call0_v11, val_main_call3_call0_v1, val_main_call3_call0_v10, val_main_call3_call0_v9, val_main_call3_call0_v8, val_main_call3_call0_v7, val_main_call3_call0_v3,
    val_main_call3_call0_v2, val_main_call3_call0_v0, val_main_call3_call0_v5, val_main_call3_call0_cst, val_main_call3_v0]

theorem slopeN_eq (h : Fin 16) (i j : Fin 4096) : val_main_v18_1 (F := Ideal) x0 x1 (ix3 h i j) = (sg (-X.z h.val i.val j.val) : EReal) := by
  pointwise [val_main_v18_1, val_main_call3_call0_v21, val_main_call3_call0_v20, val_main_call3_call0_v19, val_main_call3_call0_v18, val_main_call3_call0_v17, val_main_call3_call0_v16, val_main_call3_call0_v15, val_main_call3_call0_v14, val_main_call3_call0_v13,
    val_main_call3_call0_cst_0, val_main_call3_call0_cst_1, val_main_call3_call0_cst_2, val_main_call3_call0_cst_3, val_main_call3_v0]
  rw [z_eq H, softN_eq H, ← EReal.coe_neg, if_neg (ne_top _), if_neg (ne_top _), ← EReal.coe_sub, Ideal.exp_coe, exp_sub_lo]

/-- The masked logarithms. -/
def lom (X : Args) (h i j : ℕ) : ℝ := if j < i then -lo (X.z h i j) else 0

theorem lom_eq (h : Fin 16) (i j : Fin 4096) : val_main_v15_0 (F := Ideal) x0 x1 (ix3 h i j) = (lom X h.val i.val j.val : EReal) := by
  pointwise [val_main_v15_0, val_main_v14, val_main_call1_v2, val_main_call1_v0, val_main_cst_0]
  rw [mask_entry, soft_eq H]
  unfold lom
  split_ifs
  · show -(lo _ : EReal) = _; rw [← EReal.coe_neg]
  · show Ideal.ofBits .f32 0x00000000#32 = _; rw [zero_bits]

/-- The weight, also where the mask is closed. -/
def wt (X : Args) (h i j : ℕ) : ℝ :=
  Real.exp (-lo (-X.z h i j) + (∑ n ∈ Finset.range 4096, lom X h i n - ∑ n ∈ Finset.range j, lom X h i n - lom X h i j))

theorem wt_eq (h : Fin 16) (i j : Fin 4096) : val_main_v20 (F := Ideal) x0 x1 (ix3 h i j) = (wt X h.val i.val j.val : EReal) := by
  pointwise [val_main_v20, val_main_v19, val_main_v17, val_main_v18_0]
  have e : val_main_v16 (F := Ideal) x0 x1 (ix3 h i j) = ((∑ n ∈ Finset.range 4096, lom X h.val i.val n - ∑ n ∈ Finset.range j.val, lom X h.val i.val n : ℝ) : EReal) :=
    window_from _ _ (by pointwise [val_main_call2_v0, val_main_call2_cst]) _ _ h i j fun j => lom_eq H h i j
  rw [e, softN_eq H, lom_eq H, ← EReal.coe_neg, ← EReal.coe_sub, ← EReal.coe_add, Ideal.exp_coe]
  rfl

/-- The weight and its gradient. -/
def att (X : Args) (h i j : ℕ) : ℝ := if j < i then wt X h i j else 0
def datt (X : Args) (h i j : ℕ) : ℝ := if j < i then X.da h i j * wt X h i j else 0

theorem att_eq (h : Fin 16) (i j : Fin 4096) : val_main_v21_0 (F := Ideal) x0 x1 (ix3 h i j) = (att X h.val i.val j.val : EReal) := by
  pointwise [val_main_v21_0, val_main_v21_1, val_main_call4_v2, val_main_call4_v0, val_main_cst_1]
  rw [show val_main_v12 (F := Ideal) (ix2 i j) = _ from mask_entry h i j, wt_eq H]
  unfold att
  split_ifs
  · rfl
  · show Ideal.ofBits .f32 0x00000000#32 = _; rw [zero_bits]

theorem datt_eq (h : Fin 16) (i j : Fin 4096) : val_main_v35 (F := Ideal) x0 x1 x2 x3 (ix3 h i j) = (datt X h.val i.val j.val : EReal) := by
  pointwise [val_main_v35, val_main_v34, val_main_v21_1, val_main_call5_v0, val_main_call5_cst, val_main_v31, val_main_v28, val_main_v27, val_main_v23, val_main_v22]
  rw [show val_main_v12 (F := Ideal) (ix2 i j) = _ from mask_entry h i j, wt_eq H]
  simp only [H.g, H.v, ← EReal.coe_mul]
  rw [Reals.sum_coe]
  unfold datt
  split_ifs
  · exact (EReal.coe_mul _ _).symm
  · rfl

/-- The gradient at the products. -/
def dzz (X : Args) (h i j : ℕ) : ℝ :=
  (-(-datt X h i j * sg (-X.z h i j)) + -(if j < i then -datt X h i j + ∑ n ∈ Finset.range (j + 1), datt X h i n else 0) * sg (X.z h i j)) * (1 / 8)

theorem dzz_eq (h : Fin 16) (i j : Fin 4096) : val_main_v45 (F := Ideal) x0 x1 x2 x3 (ix3 h i j) = (dzz X h.val i.val j.val : EReal) := by
  pointwise [val_main_v45, val_main_v44, val_main_cst_2, val_main_v43, val_main_v42, val_main_v41, val_main_v40, val_main_call8_v0, val_main_call8_cst, val_main_v39, val_main_v37, val_main_v36, val_main_call6_v1, val_main_call6_v0]
  have e : val_main_v38 (F := Ideal) x0 x1 x2 x3 (ix3 h i j) = ((∑ n ∈ Finset.range (j.val + 1), datt X h.val i.val n : ℝ) : EReal) :=
    window_to _ _ (by pointwise [val_main_call7_v0, val_main_call7_cst]) _ _ h i j fun j => datt_eq H h i j
  rw [e, mask_entry, datt_eq H, slopeN_eq H, slope_eq H, eighth]
  have em : ∀ a : ℝ, Scalar.select (if j.val < i.val then 1#1 else 0#1) (a : EReal) 0 = ((if j.val < i.val then a else 0 : ℝ) : EReal) := fun a => by
    split_ifs <;> rfl
  rw [← EReal.coe_neg, ← EReal.coe_add, em]
  simp only [← EReal.coe_neg, ← EReal.coe_add, ← EReal.coe_mul]
  rfl

/-! ## The results -/

omit H

theorem lom_S (X : Args) (h i j : ℕ) : (X.row h i).S j = -lom X h i j / Real.log 2 := by
  unfold Row.S lom
  show (if j < i then sp (X.z h i j) else 0) = _
  split_ifs
  · rw [neg_neg, sp_eq]
  · simp

theorem lt_lom (X : Args) (h i : ℕ) : X.lt h i = -(∑ n ∈ Finset.range 4096, lom X h i n) / Real.log 2 := by
  rw [← Finset.sum_neg_distrib, Finset.sum_div]
  exact Finset.sum_congr rfl fun n _ => lom_S X h i n

theorem P_lom (X : Args) (h i n : ℕ) : (X.row h i).P n = -(∑ n ∈ Finset.range n, lom X h i n) / Real.log 2 := by
  rw [← Finset.sum_neg_distrib, Finset.sum_div]
  exact Finset.sum_congr rfl fun n _ => lom_S X h i n

theorem att_A (X : Args) (h i j : ℕ) : att X h i j = (X.row h i).A j := by
  unfold att Row.A
  refine if_congr Iff.rfl ?_ rfl
  show wt X h i j = Real.rpow 2 (X.z h i j / Real.log 2 - sp (X.z h i j) - (X.lt h i - (X.row h i).P (j + 1)))
  rw [lt_lom, P_lom, sp_eq, ← sub_div, ← sub_div, ← sub_div, rpow_two, Finset.sum_range_succ _ j]
  unfold wt
  rw [lo_neg]
  generalize ∑ n ∈ Finset.range 4096, lom X h i n = a
  congr 1
  ring

theorem datt_E (X : Args) (h i j : ℕ) : datt X h i j = (X.row h i).E j := by
  unfold Row.E
  rw [← att_A]
  unfold datt att
  rw [mul_ite, mul_zero]
  rfl

theorem sg_neg (z : ℝ) : sg (-z) = 1 - sg z := by
  unfold sg
  rw [Real.exp_neg]
  have := Real.exp_pos z
  field_simp
  ring

theorem dzz_D (X : Args) (h i j : ℕ) : dzz X h i j = (X.row h i).D j * (1 / 8) := by
  unfold dzz Row.D
  congr 1
  have e : (X.row h i).g j = sg (X.z h i j) := by
    unfold Row.g
    show Real.rpow 2 (X.z h i j / Real.log 2 - sp (X.z h i j)) = _
    rw [sp_eq, ← sub_div, rpow_two, exp_sub_lo]
  by_cases hj : j < i
  · rw [if_pos hj, if_pos (show j < (X.row h i).lim from hj), e, sg_neg]
    unfold Row.PE
    simp only [datt_E, Finset.sum_range_succ]
    ring
  · rw [if_neg hj, if_neg (show ¬ j < (X.row h i).lim from hj)]
    unfold datt
    rw [if_neg hj]
    ring

include H

theorem dq_eq (i : Fin 4096) (d : Fin 1024) : val_main_v52 (F := Ideal) x0 x1 x2 x3 (ix2 i d) = (X.dq i.val d.val : EReal) := by
  pointwise [val_main_v52, val_main_v51, val_main_v50, val_main_v47, val_main_v3, val_main_v2]
  simp only [dzz_eq H, H.k, ← EReal.coe_mul, dzz_D]
  rw [Reals.sum_coe]
  unfold Args.dq
  rw [Finset.sum_mul]
  exact congrArg _ (Finset.sum_congr rfl fun j _ => mul_right_comm _ _ _)

theorem dk_eq (j : Fin 4096) (d : Fin 1024) : val_main_v53 (F := Ideal) x0 x1 x2 x3 (ix2 j d) = (X.dk j.val d.val : EReal) := by
  pointwise [val_main_v53, val_main_v49, val_main_v48, val_main_v46, val_main_v1, val_main_v0]
  simp only [dzz_eq H, H.q, ← EReal.coe_mul, dzz_D]
  rw [Reals.sum_coe]
  unfold Args.dk
  rw [Finset.sum_mul]
  exact congrArg _ (Finset.sum_congr rfl fun j _ => mul_right_comm _ _ _)

theorem dv_eq (j : Fin 4096) (d : Fin 1024) : val_main_v54 (F := Ideal) x0 x1 x3 (ix2 j d) = (X.dv j.val d.val : EReal) := by
  pointwise [val_main_v54, val_main_v33, val_main_v32, val_main_v30, val_main_v29, val_main_v28, val_main_v27]
  simp only [att_eq H, H.g, ← EReal.coe_mul, att_A]
  rw [Reals.sum_coe]
  exact congrArg _ (Finset.sum_congr rfl fun j _ => mul_comm _ _)

/-- An array of real numbers by its entries. -/
def arr (f : ℕ → ℕ → ℝ) : S4096x1024.Idx → EReal := fun i => (f (i 0).val (i 1).val : EReal)

omit H in
/-- The reference ends with the three gradients. -/
theorem reference_run (m : (ℓ : Loc nD τ sig) → Buf (Elt Ideal) ℓ) (g : Dev nD → PrngReg) (X : Dev nD → Args) (H : ∀ c : Dev nD, Holds (X c) (m ((c.tc : Thread nD τ).loc main_arg0))
      (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v52) = arr (X c).dq
      ∧ r.2.mem ((c.tc : Thread nD τ).loc main_v53) = arr (X c).dk
      ∧ r.2.mem ((c.tc : Thread nD τ).loc main_v54) = arr (X c).dv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h1, h2, h3, h4⟩ := hr c
    refine ⟨h1.trans ?_, h2.trans ?_, h3.trans ?_, h4⟩
    · rw [Read.val_main_v52_eq]
      funext i
      idx_vars i
      exact dq_eq (H c) _ _
    · rw [Read.val_main_v53_eq]
      funext i
      idx_vars i
      exact dk_eq (H c) _ _
    · rw [Read.val_main_v54_eq]
      funext i
      idx_vars i
      exact dv_eq (H c) _ _

end Cert.SbaRefIdeal.Value
-- ==== Proof.SbaBlock.lean ====
/- The grid points' sums are the reference's: a pair of heads in lanes, eight blocks of queries. -/
module

public import proofs.«01_k».proof.Proof.SbaWhole
public import proofs.«01_k».proof.Proof.SbaRefValue

@[expose] public section

set_option maxRecDepth 16384

noncomputable section

open Idealize.ShloMosaic

namespace Cert.Sba

/-- The blocks of head pair `p` and query block `I`. -/
def Args.block (X : Args) (p I : ℕ) : Block where
  q r c := X.q (512 * I + r) (128 * p + c)
  k j c := X.k j (128 * p + c)
  v j c := X.v j (128 * p + c)
  g r c := X.g (512 * I + r) (128 * p + c)
  lt r h := X.lt (2 * p + h) (512 * I + r)

theorem hd_lt (r : ℕ) : hd r < 2 := by unfold hd; omega

/-- A sum over the lanes of one head. -/
theorem half_sum (f : ℕ → ℝ) {h : ℕ} (hh : h < 2) : ∑ c : Fin 128, (if c.val / 64 = h then f c.val else 0) = ∑ d : Fin 64, f (64 * h + d.val) := by
  rw [Fin.sum_univ_eq_sum_range (fun c => if c / 64 = h then f c else 0) 128, Fin.sum_univ_eq_sum_range (fun d => f (64 * h + d)) 64, ← Finset.sum_filter]
  refine Finset.sum_nbij' (fun c => c % 64) (fun d => 64 * h + d) ?_ ?_ ?_ ?_ ?_
  · intro c hc; simp only [Finset.mem_filter, Finset.mem_range] at *; omega
  · intro d hd; simp only [Finset.mem_filter, Finset.mem_range] at *; omega
  · intro c hc; simp only [Finset.mem_filter, Finset.mem_range] at *; omega
  · intro d hd; simp only [Finset.mem_range] at *; omega
  · intro c hc; simp only [Finset.mem_filter, Finset.mem_range] at *; congr 1; omega

/-- A sum over the rows of one head. -/
theorem rows_sum (f : ℕ → ℝ) {e : ℕ} (he : e < 2) : ∑ r : Fin 1024, (if e = hd r.val then f (qi r.val) else 0) = ∑ i ∈ Finset.range 512, f i := by
  rw [Fin.sum_univ_eq_sum_range (fun r => if e = hd r then f (qi r) else 0) 1024, ← Finset.sum_filter]
  refine Finset.sum_nbij' qi (fun i => 256 * (i / 128) + 128 * e + i % 128) ?_ ?_ ?_ ?_ ?_
  · intro r hr
    obtain ⟨h1, h2⟩ := Finset.mem_filter.1 hr
    have h3 := Finset.mem_range.1 h1
    refine Finset.mem_range.2 ?_
    unfold qi; omega
  · intro i hi
    have h3 := Finset.mem_range.1 hi
    refine Finset.mem_filter.2 ⟨Finset.mem_range.2 (by omega), ?_⟩
    unfold hd; omega
  · intro r hr
    obtain ⟨h1, h2⟩ := Finset.mem_filter.1 hr
    have h3 := Finset.mem_range.1 h1
    unfold hd at h2
    unfold qi; omega
  · intro i hi
    have h3 := Finset.mem_range.1 hi
    unfold qi; omega
  · intro r hr; rfl

variable (X : Args) (p I : ℕ) (hI : I < 8)

theorem row_eq (r : ℕ) : ((X.block p I).data I hI).R r = X.row (2 * p + hd r) (512 * I + qi r) := by
  have hz : ((X.block p I).data I hI).R r = ⟨512 * I + qi r, X.lt (2 * p + hd r) (512 * I + qi r), fun j => ∑ c : Fin 128, (X.block p I).Q r c.val * X.k j (128 * p + c.val),
      fun j => ∑ c : Fin 128, (X.block p I).G r c.val * X.v j (128 * p + c.val)⟩ := rfl
  rw [hz]
  unfold Args.row
  congr 1
  · funext j
    unfold Args.z
    have e : ∀ c : Fin 128, (X.block p I).Q r c.val * X.k j (128 * p + c.val)
        = if c.val / 64 = hd r then (fun c => X.q (512 * I + qi r) (128 * p + c) * X.k j (128 * p + c) * (1 / 8)) c.val else 0 := fun c => by
      unfold Block.Q
      rw [ite_mul, zero_mul]
      refine if_congr Iff.rfl ?_ rfl
      show X.q (512 * I + qi r) (128 * p + c.val) * (1 / 8) * _ = _
      ring
    rw [Finset.sum_congr rfl fun c _ => e c, half_sum (fun c => X.q (512 * I + qi r) (128 * p + c) * X.k j (128 * p + c) * (1 / 8)) (hd_lt r), Finset.sum_mul]
    refine Finset.sum_congr rfl fun d _ => ?_
    rw [show (2 * p + hd r) * 64 + d.val = 128 * p + (64 * hd r + d.val) by ring]
  · funext j
    unfold Args.da
    have e : ∀ c : Fin 128, (X.block p I).G r c.val * X.v j (128 * p + c.val)
        = if c.val / 64 = hd r then (fun c => X.g (512 * I + qi r) (128 * p + c) * X.v j (128 * p + c)) c.val else 0 := fun c => by
      unfold Block.G
      rw [ite_mul, zero_mul]
      rfl
    rw [Finset.sum_congr rfl fun c _ => e c, half_sum (fun c => X.g (512 * I + qi r) (128 * p + c) * X.v j (128 * p + c)) (hd_lt r)]
    refine Finset.sum_congr rfl fun d _ => ?_
    rw [show (2 * p + hd r) * 64 + d.val = 128 * p + (64 * hd r + d.val) by ring]

/-- The sums over the queries before block `I`. -/
def Args.K0 (y c : ℕ) : ℝ := ∑ i ∈ Finset.range (512 * I), (X.row (2 * p + c / 64) i).D y * (X.q i (128 * p + c) * (1 / 8))
def Args.V0 (y c : ℕ) : ℝ := ∑ i ∈ Finset.range (512 * I), (X.row (2 * p + c / 64) i).A y * X.g i (128 * p + c)

theorem K_eq (y : ℕ) {c : ℕ} (hc : c < 128) : ((X.block p I).data I hI).K y c
    = ∑ i ∈ Finset.range 512, (X.row (2 * p + c / 64) (512 * I + i)).D y * (X.q (512 * I + i) (128 * p + c) * (1 / 8)) := by
  rw [← rows_sum (fun i => (X.row (2 * p + c / 64) (512 * I + i)).D y * (X.q (512 * I + i) (128 * p + c) * (1 / 8))) (e := c / 64) (by omega)]
  unfold Data.K
  refine Finset.sum_congr rfl fun r _ => ?_
  rw [row_eq]
  show _ * (X.block p I).Q r.val c = _
  unfold Block.Q
  rw [mul_ite, mul_zero]
  split_ifs with h
  · rw [h]; rfl
  · rfl

theorem V_eq (y : ℕ) {c : ℕ} (hc : c < 128) : ((X.block p I).data I hI).V y c
    = ∑ i ∈ Finset.range 512, (X.row (2 * p + c / 64) (512 * I + i)).A y * X.g (512 * I + i) (128 * p + c) := by
  rw [← rows_sum (fun i => (X.row (2 * p + c / 64) (512 * I + i)).A y * X.g (512 * I + i) (128 * p + c)) (e := c / 64) (by omega)]
  unfold Data.V
  refine Finset.sum_congr rfl fun r _ => ?_
  rw [row_eq]
  show _ * (X.block p I).G r.val c = _
  unfold Block.G
  rw [mul_ite, mul_zero]
  split_ifs with h
  · rw [h]; rfl
  · rfl

theorem K_step (y : ℕ) {c : ℕ} (hc : c < 128) : begun I (X.K0 p I) y c + ((X.block p I).data I hI).K y c = X.K0 p (I + 1) y c := by
  have e : begun I (X.K0 p I) y c = X.K0 p I y c := by
    unfold begun
    by_cases h : I = 0
    · subst h; rw [if_pos rfl]; rfl
    · rw [if_neg h]
  rw [e, K_eq X p I hI y hc]
  unfold Args.K0
  rw [Nat.mul_succ, Finset.sum_range_add]

theorem V_step (y : ℕ) {c : ℕ} (hc : c < 128) : begun I (X.V0 p I) y c + ((X.block p I).data I hI).V y c = X.V0 p (I + 1) y c := by
  have e : begun I (X.V0 p I) y c = X.V0 p I y c := by
    unfold begun
    by_cases h : I = 0
    · subst h; rw [if_pos rfl]; rfl
    · rw [if_neg h]
  rw [e, V_eq X p I hI y hc]
  unfold Args.V0
  rw [Nat.mul_succ, Finset.sum_range_add]

theorem K_all (y : ℕ) {c : ℕ} (hc : c < 128) : X.K0 p 8 y c = X.dk y (128 * p + c) := by
  unfold Args.K0 Args.dk
  rw [Fin.sum_univ_eq_sum_range (fun i => (X.row ((128 * p + c) / 64) i).D y * X.q i (128 * p + c)) 4096, Finset.sum_mul, show (128 * p + c) / 64 = 2 * p + c / 64 by omega]
  exact Finset.sum_congr rfl fun i _ => (mul_assoc ..).symm

theorem V_all (y : ℕ) {c : ℕ} (hc : c < 128) : X.V0 p 8 y c = X.dv y (128 * p + c) := by
  unfold Args.V0 Args.dv
  rw [Fin.sum_univ_eq_sum_range (fun i => (X.row ((128 * p + c) / 64) i).A y * X.g i (128 * p + c)) 4096, show (128 * p + c) / 64 = 2 * p + c / 64 by omega]

theorem Q_eq {i c : ℕ} (hi : i < 512) (hc : c < 128) :
    ((X.block p I).data I hI).Q 4096 (256 * (i / 128) + 128 * (c / 64) + i % 128) c * (1 / 8) = X.dq (512 * I + i) (128 * p + c) := by
  unfold Data.Q Args.dq
  rw [row_eq, Fin.sum_univ_eq_sum_range (fun j => (X.row ((128 * p + c) / 64) (512 * I + i)).D j * X.k j (128 * p + c)) 4096, show (128 * p + c) / 64 = 2 * p + c / 64 by omega,
    show hd (256 * (i / 128) + 128 * (c / 64) + i % 128) = c / 64 by unfold hd; omega, show qi (256 * (i / 128) + 128 * (c / 64) + i % 128) = i by unfold qi; omega]
  rfl

end Cert.Sba

end
-- ==== Proof.SbaHost.lean ====
/- What the host lines hand the attention's backward kernel. -/
module

public import proofs.«01_k».proof.Proof.SbaBlock
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem

namespace Cert.SbaKernelIdeal.Value
open Cert.SbaKernelIdeal Cert.SbaKernelIdeal.Gen Cert.Sba Cert.SbaRefIdeal.Value

/-! ## The logarithms' totals -/

section
variable (q k : FVec Ideal S4096x1024 .f32)

def hz : FVec Ideal S16x4096x4096 .f32 :=
  mulf (F := Ideal) (Host.dotGeneral (F := Ideal) dot_S16x4096x64_S16x4096x64_S16x4096x4096_2_2_1_1_0_0 none
      (transpose S16x4096x64 [1, 0, 2] (shapeCast S4096x16x64 (α := Ideal .f32) q shapeCasts_S4096x1024_S4096x16x64) transposes_S4096x16x64_S16x4096x64_1_0_2)
      (transpose S16x4096x64 [1, 0, 2] (shapeCast S4096x16x64 (α := Ideal .f32) k shapeCasts_S4096x1024_S4096x16x64) transposes_S4096x16x64_S16x4096x64_1_0_2))
    (broadcastInDim S16x4096x4096 ![] bcast_S_S16x4096x4096 (constant (F := Ideal) S_ .f32 0x3E000000#32))
def hmask : IVec S4096x4096 1 :=
  cmpi .slt (broadcastInDim S4096x4096 ![0, 1] bcast_S1x4096_S4096x4096_0_1 (broadcastInDim S1x4096 ![1] bcast_S4096_S1x4096_1 (iotaInDim S4096 32 0)))
    (broadcastInDim S4096x4096 ![0, 1] bcast_S4096x1_S4096x4096_0_1 (broadcastInDim S4096x1 ![0] bcast_S4096_S4096x1_0 (iotaInDim S4096 32 0)))
def zero3 : FVec Ideal S16x4096x4096 .f32 := broadcastInDim S16x4096x4096 ![] bcast_S_S16x4096x4096 (constant (F := Ideal) S_ .f32 0x00000000#32)
def hsoft (z : FVec Ideal S16x4096x4096 .f32) : FVec Ideal S16x4096x4096 .f32 :=
  select (cmpf (F := Ideal) .une (subf (F := Ideal) z zero3) (subf (F := Ideal) z zero3)) (addf (F := Ideal) z zero3)
    (addf (F := Ideal) (maximumf (F := Ideal) z zero3) (Host.log1p (F := Ideal) (Host.exp (F := Ideal) (Host.negf (F := Ideal) (Host.absf (F := Ideal) (subf (F := Ideal) z zero3))))))
def hlom : FVec Ideal S16x4096x4096 .f32 :=
  select (broadcastInDim S16x4096x4096 ![1, 2] bcast_S4096x4096_S16x4096x4096_1_2 hmask) (Host.negf (F := Ideal) (hsoft (hz q k))) zero3
def hlt2 : FVec Ideal S16x4096 .f32 :=
  Host.divf (F := Ideal) (Host.negf (F := Ideal) (Host.reduceAdd (F := Ideal) (hlom q k) (constant (F := Ideal) S_ .f32 0x00000000#32) reducesTo_S16x4096x4096_S16x4096_d2 h_S_))
    (broadcastInDim S16x4096 ![] bcast_S_S16x4096 (Host.log (F := Ideal) (constant (F := Ideal) S_ .f32 0x40000000#32)))
def hlt : FVec Ideal S8x4096x128 .f32 :=
  shapeCast S8x4096x128 (α := Ideal .f32) (broadcastInDim S8x4096x2x64 ![0, 1, 2] bcast_S8x4096x2_S8x4096x2x64_0_1_2
    (transpose S8x4096x2 [0, 2, 1] (shapeCast S8x2x4096 (α := Ideal .f32) (hlt2 q k) shapeCasts_S16x4096_S8x2x4096) transposes_S8x2x4096_S8x4096x2_0_2_1)) shapeCasts_S8x4096x2x64_S8x4096x128

end

theorem hz_entry (q k : S4096x1024.Idx → EReal) (h : Fin 16) (i j : Fin 4096) : hz q k (ix3 h i j)
    = (∑ d : Fin 64, q (ix2 i ⟨h.val * 64 + d.val, by omega⟩) * k (ix2 j ⟨h.val * 64 + d.val, by omega⟩)) * Ideal.ofBits .f32 0x3E000000#32 := by
  pointwise [hz]

theorem hmask_entry (i j : Fin 4096) : hmask (ix2 i j) = if j.val < i.val then 1#1 else 0#1 := by
  have e : hmask (ix2 i j) = IntOp.cmpi .slt (BitVec.ofNat 32 j.val) (BitVec.ofNat 32 i.val) := by
    pointwise [hmask]
  rw [e, slt_small (by omega) (by omega)]

variable {X : Args} {x0 x1 x2 x3 : S4096x1024.Idx → EReal} (H : Holds X x0 x1 x2 x3)
include H

theorem hz_eq (h : Fin 16) (i j : Fin 4096) : hz x0 x1 (ix3 h i j) = (X.z h.val i.val j.val : EReal) := by
  rw [hz_entry, eighth]
  simp only [H.q, H.k, ← EReal.coe_mul]
  rw [Reals.sum_coe, ← EReal.coe_mul]
  rfl

theorem hsoft_eq (h : Fin 16) (i j : Fin 4096) : hsoft (hz x0 x1) (ix3 h i j) = (lo (X.z h.val i.val j.val) : EReal) := by
  refine Eq.trans ?_ (soft_coe (X.z h.val i.val j.val))
  rw [← hz_eq H]
  pointwise [hsoft, zero3]

theorem hlom_eq (h : Fin 16) (i j : Fin 4096) : hlom x0 x1 (ix3 h i j) = (lom X h.val i.val j.val : EReal) := by
  pointwise [hlom, zero3]
  rw [hmask_entry, hsoft_eq H]
  unfold lom
  split_ifs
  · show -(lo _ : EReal) = _; rw [← EReal.coe_neg]
  · rfl

theorem hlt2_eq (h : Fin 16) (i : Fin 4096) : hlt2 x0 x1 (ix2 h i) = (X.lt h.val i.val : EReal) := by
  pointwise [hlt2]
  simp only [hlom_eq H]
  rw [Reals.sum_coe, Reals.ofBits_two, Reals.log_coe_pos (by norm_num), Fin.sum_univ_eq_sum_range (fun j => lom X h.val i.val j) 4096, lt_lom, ← EReal.coe_neg, Reals.div_coe_coe _ (Real.log_pos (by norm_num)).ne']

theorem hlt_eq (p : Fin 8) (i : Fin 4096) (h : Fin 2) : hlt x0 x1 (ix3 p i ⟨64 * h.val, by omega⟩) = (X.lt (2 * p.val + h.val) i.val : EReal) := by
  have := hlt2_eq H ⟨2 * p.val + h.val, by omega⟩ i
  rw [← this]
  pointwise [hlt]
  simp only [Nat.mul_comm]

end Cert.SbaKernelIdeal.Value

end
-- ==== Proof.SbaArrays.lean ====
/- The arrays the attention's backward kernel finds. -/
module

public import proofs.«01_k».proof.Proof.SbaHost
public import proofs.«01_k».proof.Proof.SbaDoIdeal
public import proofs.«01_k».proof.Proof.Gen.SbaKernelIdeal.Frame
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (RDat)

namespace Cert.SbaKernelIdeal.Value
open Cert.Run Cert.SbaKernelIdeal Cert.SbaKernelIdeal.Gen Cert.SbaKernelIdeal.Point Cert.Sba Cert.SbaRefIdeal.Value

variable (m : (ℓ : Loc nD τ sig) → Buf (Elt Ideal) ℓ) (c : Dev nD)

/-- The arguments. -/
abbrev A0 : S4096x1024.Idx → EReal := m ((c.tc : Thread nD τ).loc main_arg0)
abbrev A1 : S4096x1024.Idx → EReal := m ((c.tc : Thread nD τ).loc main_arg1)
abbrev A2 : S4096x1024.Idx → EReal := m ((c.tc : Thread nD τ).loc main_arg2)
abbrev A3 : S4096x1024.Idx → EReal := m ((c.tc : Thread nD τ).loc main_arg3)

/-! ## The arrays at entry -/

theorem V_q : V m c (Pipeline.arrRef spec0 0) = truncf (F := Ideal) .bf16 (A0 m c) bitsLt_bf16_f32 := by
  unfold V
  after_results_simp <;> rfl

theorem V_g : V m c (Pipeline.arrRef spec0 4) = truncf (F := Ideal) .bf16 (A3 m c) bitsLt_bf16_f32 := by
  unfold V
  after_results_simp <;> rfl

/-- Keys and values side by side. -/
def kv (k v : FVec Ideal S4096x1024 .f32) : FVec Ideal S4096x2048 .bf16 :=
  concatenate S4096x2048 1 [⟨S4096x1024, truncf (F := Ideal) .bf16 k bitsLt_bf16_f32⟩, ⟨S4096x1024, truncf (F := Ideal) .bf16 v bitsLt_bf16_f32⟩] concatenates_S4096x1024_S4096x1024_S4096x2048_d1

theorem V_kv : V m c (Pipeline.arrRef spec0 1) = kv (A1 m c) (A2 m c) := by
  unfold V
  after_results_simp <;> rfl

theorem V_lt : V m c (Pipeline.arrRef spec0 3) = hlt (A0 m c) (A1 m c) := by
  unfold V
  after_results_simp <;> rfl

theorem kv_k (k v : S4096x1024.Idx → EReal) (j : Fin 4096) (d : Fin 1024) : kv k v (ix2 j ⟨d.val, by omega⟩) = k (ix2 j d) := by
  pointwise [kv]

theorem kv_v (k v : S4096x1024.Idx → EReal) (j : Fin 4096) (d : Fin 1024) : kv k v (ix2 j ⟨1024 + d.val, by omega⟩) = v (ix2 j d) := by
  pointwise [kv]

end Cert.SbaKernelIdeal.Value

end
-- ==== Proof.SbaClaim.lean ====
/- The claims about the attention's backward call. -/
module

public import proofs.«01_k».proof.Defs
public import proofs.«01_k».proof.Proof.SbaDoIdeal
public import proofs.«01_k».proof.Proof.Gen.SbaKernel
public import proofs.«01_k».proof.Proof.Gen.SbaRefIdeal.Read
public import proofs.«01_k».proof.Proof.Reals
public import Idealize.ShloMosaic.Lib.Tactic

@[expose] public section

noncomputable section

open Idealize.ShloMosaic Idealize.ShloMosaic.TcCoe Idealize.SL.Sem

namespace Cert.Sba

/-- The constant named `log₂ e` stands for that real. -/
theorem preserves : Cert.preserves_SbaKernel_SbaKernelIdeal :=
  IdealRules.named_const.statement Cert.SbaKernelIdeal.κ "log2_e" .f32 0x3FB8AA3B#32 (((Real.log 2)⁻¹ : ℝ) : EReal) rfl

/-- A named constant read as its printed bits. -/
@[reducible] def named : Named Bits := ⟨fun _ _ {φ} b => FloatOps.ofBits φ b⟩

theorem cast_of {p q : Prop} (h : p = q) (hp : p) : q := h ▸ hp

/-- The kernel runs and leaves its arguments: the idealized text's frame, which holds of every float, at the kernel's own floats. -/
theorem kernel_frame : Cert.quiescent_SbaKernel := fun m g _ =>
  cast_of (by sl_kernel_rfl) (@Cert.SbaKernelIdeal.Point.frame Bits _ named m g)

/-- The reference runs and leaves its arguments; it has no semaphores. -/
theorem reference_frame : Cert.quiescent_SbaRefIdeal := fun m g _ =>
  θ_run_mono (Cert.SbaRefIdeal.Value.run (F := Ideal) m g) fun r hr => ⟨fun c => (hr c).2.2.2, sem_eq_zero_of_no_sems (by decide) r.2⟩

end Cert.Sba
-- ==== Proof.SbaValue.lean ====
/- The attention's backward kernel's results, and the claim. -/
module

public import proofs.«01_k».proof.Proof.SbaArrays
public import proofs.«01_k».proof.Proof.SbaClaim

@[expose] public section

set_option maxRecDepth 16384

noncomputable section

open Idealize.ShloMosaic Idealize.ShloMosaic.TcCoe Idealize.SL.Sem
open Idealize.ShloMosaic.Pipeline (RDat)

namespace Cert.SbaKernelIdeal.Value
open Cert.Run Cert.SbaKernelIdeal Cert.SbaKernelIdeal.Gen Cert.SbaKernelIdeal.Point Cert.Sba Cert.SbaRefIdeal.Value

variable (m : (ℓ : Loc nD τ sig) → Buf (Elt Ideal) ℓ) (c : Dev nD)

/-! ## The blocks -/

theorem idx : ∀ t : Fin cfg0.N, win0_0.index t = ![t.val % 8, t.val / 8] ∧ win0_1.index t = ![0, t.val / 8] ∧ win0_2.index t = ![0, 8 + t.val / 8]
    ∧ win0_3.index t = ![t.val / 8, t.val % 8, 0] ∧ win0_4.index t = ![t.val % 8, t.val / 8] ∧ win0_5.index t = ![t.val % 8, t.val / 8]
    ∧ win0_6.index t = ![0, t.val / 8] ∧ win0_7.index t = ![0, t.val / 8] :=
  (by decide +kernel : ∀ t : Fin grid0.N, _)

theorem coord : ∀ t : Fin cfg0.N, (grid0.coords t 1).val = t.val % 8 :=
  (by decide +kernel : ∀ t : Fin grid0.N, _)

theorem lt64 (t : Fin cfg0.N) : t.val < 64 := by have := t.isLt; have : cfg0.N = 64 := N_0; omega

variable {m c} {X : Args} (H : Holds X (A0 m c) (A1 m c) (A2 m c) (A3 m c))
include H

theorem iblk_q (t : Fin cfg0.N) (i : Fin 512) (l : Fin 128) :
    Gen.iblk m c 0 t (ix2 i l : S512x128.Idx) = ((X.block (t.val / 8) (t.val % 8)).q i.val l.val : EReal) := by
  have h := lt64 t
  refine Eq.trans (b := V m c (Pipeline.arrRef spec0 0) (ix2 ⟨512 * (t.val % 8) + i.val, by omega⟩ ⟨128 * (t.val / 8) + l.val, by omega⟩ : S4096x1024.Idx)) ?_ ?_
  · blk_point [iblk, idx t]
  · rw [V_q]
    exact H.q ⟨512 * (t.val % 8) + i.val, by omega⟩ ⟨128 * (t.val / 8) + l.val, by omega⟩

theorem iblk_g (t : Fin cfg0.N) (i : Fin 512) (l : Fin 128) :
    Gen.iblk m c 4 t (ix2 i l : S512x128.Idx) = ((X.block (t.val / 8) (t.val % 8)).g i.val l.val : EReal) := by
  have h := lt64 t
  refine Eq.trans (b := V m c (Pipeline.arrRef spec0 4) (ix2 ⟨512 * (t.val % 8) + i.val, by omega⟩ ⟨128 * (t.val / 8) + l.val, by omega⟩ : S4096x1024.Idx)) ?_ ?_
  · blk_point [iblk, idx t]
  · rw [V_g]
    exact H.g ⟨512 * (t.val % 8) + i.val, by omega⟩ ⟨128 * (t.val / 8) + l.val, by omega⟩

theorem iblk_k (t : Fin cfg0.N) (y : Fin 4096) (l : Fin 128) :
    Gen.iblk m c 1 t (ix2 y l : S4096x128.Idx) = ((X.block (t.val / 8) (t.val % 8)).k y.val l.val : EReal) := by
  have h := lt64 t
  refine Eq.trans (b := V m c (Pipeline.arrRef spec0 1) (ix2 y ⟨128 * (t.val / 8) + l.val, by omega⟩ : S4096x2048.Idx)) ?_ ?_
  · blk_point [iblk, idx t]
  · rw [V_kv]
    exact (kv_k (A1 m c) (A2 m c) y ⟨128 * (t.val / 8) + l.val, by omega⟩).trans (H.k _ _)

theorem iblk_v (t : Fin cfg0.N) (y : Fin 4096) (l : Fin 128) :
    Gen.iblk m c 2 t (ix2 y l : S4096x128.Idx) = ((X.block (t.val / 8) (t.val % 8)).v y.val l.val : EReal) := by
  have h := lt64 t
  refine Eq.trans (b := V m c (Pipeline.arrRef spec0 1) (ix2 y ⟨1024 + (128 * (t.val / 8) + l.val), by omega⟩ : S4096x2048.Idx)) ?_ ?_
  · blk_point [iblk, idx t]
  · rw [V_kv]
    exact (kv_v (A1 m c) (A2 m c) y ⟨128 * (t.val / 8) + l.val, by omega⟩).trans (H.v _ _)

theorem iblk_lt (t : Fin cfg0.N) (i : Fin 512) (h : Fin 2) :
    Gen.iblk m c 3 t (ix3 0 i ⟨64 * h.val, by omega⟩ : S1x512x128.Idx) = ((X.block (t.val / 8) (t.val % 8)).lt i.val h.val : EReal) := by
  have ht := lt64 t
  refine Eq.trans (b := V m c (Pipeline.arrRef spec0 3) (ix3 ⟨t.val / 8, by omega⟩ ⟨512 * (t.val % 8) + i.val, by omega⟩ ⟨64 * h.val, by omega⟩ : S8x4096x128.Idx)) ?_ ?_
  · blk_point [iblk, idx t]
  · rw [V_lt]
    exact hlt_eq H ⟨t.val / 8, by omega⟩ ⟨512 * (t.val % 8) + i.val, by omega⟩ h

omit H

/-! ## What the run says -/

/-- The sums of the pair's earlier blocks before each point; a point leaves the blocks it reads and its gradients. -/
def tells (X : Args) : Says Ideal where
  inv t st := t % 8 ≠ 0 → Sums (X.K0 (t / 8) (t % 8)) (X.V0 (t / 8) (t % 8)) st
  after
    | 0, _, Y, Z => Z = Y
    | 1, _, Y, Z => Z = Y
    | 2, _, Y, Z => Z = Y
    | 3, _, Y, Z => Z = Y
    | 4, _, Y, Z => Z = Y
    | 5, t, _, Z => ∀ (i : Fin 512) (l : Fin 128), Z (ix2 i l) = (X.dq (512 * (t.val % 8) + i.val) (128 * (t.val / 8) + l.val) : EReal)
    | 6, t, _, Z => t.val % 8 = 7 → ∀ (y : Fin 4096) (l : Fin 128), Z (ix2 y l) = (X.dk y.val (128 * (t.val / 8) + l.val) : EReal)
    | 7, t, _, Z => t.val % 8 = 7 → ∀ (y : Fin 4096) (l : Fin 128), Z (ix2 y l) = (X.dv y.val (128 * (t.val / 8) + l.val) : EReal)

variable (m c) (Xs : Dev nD → Args)

abbrev rd := rdat m (fun c => tells (Xs c)) c

theorem finds_q (t : Fin cfg0.N) (Y) (h : (rd m c Xs).Finds 0 t Y) : Y = Gen.iblk m c 0 t := by
  obtain ⟨d, rfl⟩ := ((rd m c Xs).finds_of_fetch (fetch0_0 t) Y).1 h
  rfl
theorem finds_lt (t : Fin cfg0.N) (Y) (h : (rd m c Xs).Finds 3 t Y) : Y = Gen.iblk m c 3 t := by
  obtain ⟨d, rfl⟩ := ((rd m c Xs).finds_of_fetch (fetch0_3 t) Y).1 h
  rfl
theorem finds_g (t : Fin cfg0.N) (Y) (h : (rd m c Xs).Finds 4 t Y) : Y = Gen.iblk m c 4 t := by
  obtain ⟨d, rfl⟩ := ((rd m c Xs).finds_of_fetch (fetch0_4 t) Y).1 h
  rfl

theorem noflush : ∀ t : Fin cfg0.N, win0_1.flush t = false ∧ win0_2.flush t = false :=
  (by decide +kernel : ∀ t : Fin grid0.N, _)

variable {m c Xs} (Hs : ∀ c, Holds (Xs c) (A0 m c) (A1 m c) (A2 m c) (A3 m c))
include Hs

theorem finds_k (n : ℕ) (hn : n < cfg0.N) (Y) (h : (rd m c Xs).Finds 1 ⟨n, hn⟩ Y) (y : Fin 4096) (l : Fin 128) :
    Y (ix2 y l) = ((Xs c).k y.val (128 * (n / 8) + l.val) : EReal) := by
  induction n generalizing Y with
  | zero =>
    obtain ⟨d, rfl⟩ := ((rd m c Xs).finds_of_fetch ((fetch0_1 _).2 rfl) Y).1 h
    exact iblk_k (Hs c) ⟨0, hn⟩ y l
  | succ n ih =>
    by_cases h8 : (n + 1) % 8 = 0
    · obtain ⟨d, rfl⟩ := ((rd m c Xs).finds_of_fetch ((fetch0_1 ⟨n + 1, hn⟩).2 h8) Y).1 h
      exact iblk_k (Hs c) ⟨n + 1, hn⟩ y l
    · have hf : (cfg0.win 1).fetch ⟨n + 1, hn⟩ = false := Bool.eq_false_iff.2 fun e => h8 ((fetch0_1 _).1 e)
      obtain ⟨Y', hY, e⟩ := (((rd m c Xs).finds_of_pos hf (Nat.succ_ne_zero n) Y).1 h).resolve_left (by rw [show _ = false from (noflush _).1]; exact Bool.false_ne_true)
      have e' : Y = Y' := e
      rw [e', ih (by omega) Y' hY, show (n + 1) / 8 = n / 8 by omega]

theorem finds_v (n : ℕ) (hn : n < cfg0.N) (Y) (h : (rd m c Xs).Finds 2 ⟨n, hn⟩ Y) (y : Fin 4096) (l : Fin 128) :
    Y (ix2 y l) = ((Xs c).v y.val (128 * (n / 8) + l.val) : EReal) := by
  induction n generalizing Y with
  | zero =>
    obtain ⟨d, rfl⟩ := ((rd m c Xs).finds_of_fetch ((fetch0_2 _).2 rfl) Y).1 h
    exact iblk_v (Hs c) ⟨0, hn⟩ y l
  | succ n ih =>
    by_cases h8 : (n + 1) % 8 = 0
    · obtain ⟨d, rfl⟩ := ((rd m c Xs).finds_of_fetch ((fetch0_2 ⟨n + 1, hn⟩).2 h8) Y).1 h
      exact iblk_v (Hs c) ⟨n + 1, hn⟩ y l
    · have hf : (cfg0.win 2).fetch ⟨n + 1, hn⟩ = false := Bool.eq_false_iff.2 fun e => h8 ((fetch0_2 _).1 e)
      obtain ⟨Y', hY, e⟩ := (((rd m c Xs).finds_of_pos hf (Nat.succ_ne_zero n) Y).1 h).resolve_left (by rw [show _ = false from (noflush _).2]; exact Bool.false_ne_true)
      have e' : Y = Y' := e
      rw [e', ih (by omega) Y' hY, show (n + 1) / 8 = n / 8 by omega]

theorem reads (t : Fin cfg0.N) (Y : Wins Ideal) (st) (h : ∀ w, (rd m c Xs).Finds w t (Y w)) : Reads ((Xs c).block (t.val / 8) (t.val % 8)) (withWins Y st) where
  q i l := (congrFun (finds_q m c Xs t _ (h 0)) _).trans (iblk_q (Hs c) t i l)
  g i l := (congrFun (finds_g m c Xs t _ (h 4)) _).trans (iblk_g (Hs c) t i l)
  k y l := finds_k Hs t.val t.isLt _ (h 1) y l
  v y l := finds_v Hs t.val t.isLt _ (h 2) y l
  lt i r := (congrFun (finds_lt m c Xs t _ (h 3)) _).trans (iblk_lt (Hs c) t i r)

theorem point_says (t : Fin cfg0.N) (Y : Wins Ideal) (st) (h : ∀ w, (rd m c Xs).Finds w t (Y w)) (hi : (tells (Xs c)).inv t.val st) :
    (tells (Xs c)).inv (t.val + 1) ((fn (grid0.coords t)).run (withWins Y st)).2
      ∧ ∀ w, (tells (Xs c)).after w t (Y w) (wins ((fn (grid0.coords t)).run (withWins Y st)).2 w) := by
  have hI : t.val % 8 < 8 := by omega
  have hS : t.val % 8 ≠ 0 → Sums ((Xs c).K0 (t.val / 8) (t.val % 8)) ((Xs c).V0 (t.val / 8) (t.val % 8)) (withWins Y st) := fun h0 => ⟨(hi h0).1, (hi h0).2⟩
  have D := point_done (grid0.coords t) hI (coord t) (reads Hs t Y st h) hS
  generalize ((fn (F := Ideal) (grid0.coords t)).run (withWins Y st)).2 = st' at D ⊢
  refine ⟨fun h0 => ⟨fun y l => ?_, fun y l => ?_⟩, fun w => ?_⟩
  · refine (D.sums.1 y l).trans (congrArg _ ?_)
    dsimp only
    rw [K_step _ _ _ hI y.val l.isLt, show (t.val + 1) / 8 = t.val / 8 by omega, show (t.val + 1) % 8 = t.val % 8 + 1 by omega]
  · refine (D.sums.2 y l).trans (congrArg _ ?_)
    dsimp only
    rw [V_step _ _ _ hI y.val l.isLt, show (t.val + 1) / 8 = t.val / 8 by omega, show (t.val + 1) % 8 = t.val % 8 + 1 by omega]
  · fin_cases w
    · exact D.same .q (by decide)
    · exact D.same .k (by decide)
    · exact D.same .v (by decide)
    · exact D.same .lt (by decide)
    · exact D.same .g (by decide)
    · exact fun i l => (D.dq i l).trans (congrArg _ (Q_eq _ _ _ hI i.isLt l.isLt))
    · intro h7 y l
      refine (D.dk h7 y l).trans (congrArg _ ?_)
      rw [K_step _ _ _ hI y.val l.isLt, show t.val % 8 + 1 = 8 by omega, K_all _ _ _ l.isLt]
    · intro h7 y l
      refine (D.dv h7 y l).trans (congrArg _ ?_)
      rw [V_step _ _ _ hI y.val l.isLt, show t.val % 8 + 1 = 8 by omega, V_all _ _ _ l.isLt]

omit Hs

/-! ## The arrays -/

variable (m c Xs)

/-- The gradients each point writes back. -/
def wrote : Pipeline.Dat τ (Elt Ideal) Unit ℕ (UR sig nD τ) ℕ (cfgs 0) c where
  A w := V m c (Pipeline.arrRef spec0 w)
  after
    | 0, _ => fun _ => (0 : EReal)
    | 1, _ => fun _ => (0 : EReal)
    | 2, _ => fun _ => (0 : EReal)
    | 3, _ => fun _ => (0 : EReal)
    | 4, _ => fun _ => (0 : EReal)
    | 5, t => fun y : S512x128.Idx => ((Xs c).dq (512 * (t.val % 8) + (y 0).val) (128 * (t.val / 8) + (y 1).val) : EReal)
    | 6, t => fun y : S4096x128.Idx => ((Xs c).dk (y 0).val (128 * (t.val / 8) + (y 1).val) : EReal)
    | 7, t => fun y : S4096x128.Idx => ((Xs c).dv (y 0).val (128 * (t.val / 8) + (y 1).val) : EReal)
  Φ _ := Idealize.SL.BI.BIBase.emp
  q w := Pipeline.shareOf spec0 w
  owed _ := 0

theorem arr_eq (w : Fin cfg0.W) (hw : ∀ t, (cfg0.win w).flush t = true → ∀ Z, (rd m c Xs).Leaves w t Z → Z = (wrote m c Xs).after w t) (n : ℕ) (F)
    (h : (rd m c Xs).ArrAt w n F) : F = (wrote m c Xs).arrAt w n := by
  induction n generalizing F with
  | zero => exact h
  | succ n ih =>
    unfold RDat.ArrAt at h
    unfold Pipeline.Dat.arrAt
    dsimp only at h ⊢
    by_cases hn : n < cfg0.N
    · rw [dif_pos hn] at h
      rw [dif_pos hn]
      by_cases hf : (cfg0.win w).flush ⟨n, hn⟩ = true
      · rw [if_pos hf] at h
        rw [if_pos hf]
        obtain ⟨G, Z, hG, hZ, e⟩ := h
        rw [e, ih G hG, hw _ hf Z hZ]
      · rw [if_neg hf] at h
        rw [if_neg hf]
        exact ih F h
    · rw [dif_neg hn] at h
      rw [dif_neg hn]
      exact ih F h

theorem ends_dq (F) (h : (rd m c Xs).ArrAt 5 cfg0.N F) : F = arr (Xs c).dq := by
  rw [arr_eq m c Xs 5 (fun t _ Z hZ => ?_) cfg0.N F h]
  · refine (wrote m c Xs).arrAt_eq_of_covers 5 _ (by decide +kernel) fun t _ y => ?_
    blk_simp
    idx_vars y
    refine Eq.trans (b := arr (Xs c).dq (ix2 ⟨512 * (t.val % 8) + y0.val, by have := lt64 t; omega⟩ ⟨128 * (t.val / 8) + y1.val, by have := lt64 t; omega⟩)) rfl ?_
    generalize arr (Xs c).dq = A
    blk_point [idx t]
  · obtain ⟨Y, -, e⟩ := hZ
    funext y
    idx_vars y
    exact e y0 y1

theorem ends_dk (F) (h : (rd m c Xs).ArrAt 6 cfg0.N F) : F = arr (Xs c).dk := by
  rw [arr_eq m c Xs 6 (fun t hf Z hZ => ?_) cfg0.N F h]
  · refine (wrote m c Xs).arrAt_eq_of_covers 6 _ (by decide +kernel) fun t _ y => ?_
    blk_simp
    idx_vars y
    refine Eq.trans (b := arr (Xs c).dk (ix2 y0 ⟨128 * (t.val / 8) + y1.val, by have := lt64 t; omega⟩)) rfl ?_
    generalize arr (Xs c).dk = A
    blk_point [idx t]
  · obtain ⟨Y, -, e⟩ := hZ
    funext y
    idx_vars y
    exact e ((flush0_6 t).1 hf) y0 y1

theorem ends_dv (F) (h : (rd m c Xs).ArrAt 7 cfg0.N F) : F = arr (Xs c).dv := by
  rw [arr_eq m c Xs 7 (fun t hf Z hZ => ?_) cfg0.N F h]
  · refine (wrote m c Xs).arrAt_eq_of_covers 7 _ (by decide +kernel) fun t _ y => ?_
    blk_simp
    idx_vars y
    refine Eq.trans (b := arr (Xs c).dv (ix2 y0 ⟨128 * (t.val / 8) + y1.val, by have := lt64 t; omega⟩)) rfl ?_
    generalize arr (Xs c).dv = A
    blk_point [idx t]
  · obtain ⟨Y, -, e⟩ := hZ
    funext y
    idx_vars y
    exact e ((flush0_7 t).1 hf) y0 y1

/-- The kernel ends with the three gradients. -/
theorem kernel_run (g : Dev nD → PrngReg) (Hs : ∀ c, Holds (Xs c) (A0 m c) (A1 m c) (A2 m c) (A3 m c)) :
    θ_run (defs (F := Ideal)) (onTc (τ := τ) (main (F := Ideal))) ⟨m, fun _ => 0, g⟩ fun r => ∀ c : Dev nD,
      r.2.mem ((c.tc : Thread nD τ).loc main_v31_0) = arr (Xs c).dq
      ∧ r.2.mem ((c.tc : Thread nD τ).loc main_v31_1) = arr (Xs c).dk
      ∧ r.2.mem ((c.tc : Thread nD τ).loc main_v31_2) = arr (Xs c).dv
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (run_main m g (fun c => tells (Xs c)) (fun c st h0 => absurd rfl h0) fun c t Y st h hi => point_says Hs t Y st h hi) fun r hr c =>
    ⟨ends_dq m c Xs _ ((hr.1 c).1 5), ends_dk m c Xs _ ((hr.1 c).1 6), ends_dv m c Xs _ ((hr.1 c).1 7), frame_of m _ r hr.1 c⟩

end Cert.SbaKernelIdeal.Value

namespace Cert.Pre_sba_finite

instance facts : Facts where
  bcast_S_S4096x1024 := by decide

end Cert.Pre_sba_finite

namespace Cert.Sba
open Cert.SbaKernelIdeal Cert.SbaKernelIdeal.Value Cert.SbaRefIdeal.Value

/-- An array of real numbers, read at any two numbers. -/
def entries (x : S4096x1024.Idx → EReal) (i d : ℕ) : ℝ := if h : i < 4096 ∧ d < 1024 then (x (ix2 ⟨i, h.1⟩ ⟨d, h.2⟩)).toReal else 0

theorem entries_eq {x : S4096x1024.Idx → EReal} (hx : ∃ f : S4096x1024.Idx → ℝ, x = fun i => (f i : EReal)) (i : Fin 4096) (d : Fin 1024) :
    x (ix2 i d) = (entries x i.val d.val : EReal) := by
  obtain ⟨f, rfl⟩ := hx
  unfold entries
  rw [dif_pos ⟨i.isLt, d.isLt⟩]
  rfl

/-- The arguments' real numbers. -/
def reals (m : (ℓ : Loc nD τ sig) → Idealize.ShloMosaic.Buf (Elt Ideal) ℓ) (c : Dev nD) : Args := ⟨entries (A0 m c), entries (A1 m c), entries (A2 m c), entries (A3 m c)⟩

theorem holds (m : (ℓ : Loc nD τ sig) → Idealize.ShloMosaic.Buf (Elt Ideal) ℓ) (hpre : Cert.Pre_SbaKernelIdeal_sba_finite m) (c : Dev nD) :
    Holds (reals m c) (A0 m c) (A1 m c) (A2 m c) (A3 m c) := by
  obtain ⟨h1, h2, h3, h4⟩ := hpre c
  exact ⟨entries_eq (Reals.exists_reals fun i => Reals.ofBits_inf ▸ congrFun h1 i), entries_eq (Reals.exists_reals fun i => Reals.ofBits_inf ▸ congrFun h2 i),
    entries_eq (Reals.exists_reals fun i => Reals.ofBits_inf ▸ congrFun h3 i), entries_eq (Reals.exists_reals fun i => Reals.ofBits_inf ▸ congrFun h4 i)⟩

/-- The kernel computes the attention's gradients at the queries, the keys and the values. -/
theorem algebraic : Cert.algebraic_SbaKernelIdeal_SbaRefIdeal_pre_sba_finite := by
  intro m g m' g' hpre hagree
  refine ⟨_, _, _, SbaKernelIdeal.Value.kernel_run m (reals m) g (holds m hpre), θ_run_mono (SbaRefIdeal.Value.reference_run m' g' (reals m) fun c => ?_) fun r hr c => ?_⟩
  · rw [(hagree c).1, (hagree c).2.1, (hagree c).2.2.1, (hagree c).2.2.2]
    exact holds m hpre c
  · exact hr c

end Cert.Sba

end
-- ==== Proof.Proj.lean ====
/- A projection's gradient at its normalised input, from the gradient at the normalised rows: both results as arrays. -/
module

public import proofs.«01_k».proof.Proof.Norm
public import Idealize.ShloMosaic.Lib.Pipeline.ValueKit
public import Idealize.ShloMosaic.Lib.Pointwise

@[expose] public section

noncomputable section

open Idealize.ShloMosaic

namespace Cert.Proj
open Cert.Norm

abbrev Seq : Shape := ⟨2, ![4096, 1024]⟩
abbrev Line : Shape := ⟨1, ![1024]⟩
abbrev Row : Shape := ⟨2, ![1, 1024]⟩

/-- The gradient at the stream, over a residual, and the gradient at the norm's weight, flat and as a row. -/
def dh (u : Fin 4096 → Fin 1024 → EReal) (h : Seq.Idx → EReal) (nw : Line.Idx → EReal) (r : Seq.Idx → EReal) : Seq.Idx → EReal :=
  fun i => dinK (fun j => h (ix2 (i 0) j)) (fun j => nw (ix1 j)) (u (i 0)) (r i) (i 1)
def dnw (u : Fin 4096 → Fin 1024 → EReal) (h : Seq.Idx → EReal) : Line.Idx → EReal :=
  fun i => ∑ t : Fin 4096, u t (i 0) * (h (ix2 t (i 0)) * scale fun j => h (ix2 t j))
def dnwRow (u : Fin 4096 → Fin 1024 → EReal) (h : Seq.Idx → EReal) : Row.Idx → EReal := fun i => dnw u h (ix1 (i 1))

/-- The stream's gradient as the reference writes it. -/
theorem dh_eq {u : Fin 4096 → Fin 1024 → EReal} {h : Seq.Idx → EReal} {nw : Line.Idx → EReal} (r : Seq.Idx → EReal)
    (hu : ∃ f : Fin 4096 → Fin 1024 → ℝ, u = fun t j => (f t j : EReal)) (hh : ∃ f : Seq.Idx → ℝ, h = fun i => (f i : EReal))
    (hn : ∃ f : Line.Idx → ℝ, nw = fun i => (f i : EReal)) (t : Fin 4096) (j : Fin 1024) :
    dinR (fun j => h (ix2 t j)) (fun j => nw (ix1 j)) (u t) (r (ix2 t j)) j = dh u h nw r (ix2 t j) := by
  obtain ⟨u, rfl⟩ := hu
  obtain ⟨h, rfl⟩ := hh
  obtain ⟨nw, rfl⟩ := hn
  exact dinR_eq _ _ _ _ _

/-- The row of the sequence that is row `r` of block `b`. -/
def row (b : Fin 4) (r : Fin 1024) : Fin 4096 := ⟨b.val * 1024 + r, by omega⟩

/-- One block's part of the weight's gradient. -/
def part (u : Fin 4096 → Fin 1024 → EReal) (h : Seq.Idx → EReal) (b : Fin 4) (j : Fin 1024) : EReal :=
  ∑ r : Fin 1024, u (row b r) j * (h (ix2 (row b r) j) * scale fun j => h (ix2 (row b r) j))

theorem dnw_eq (u : Fin 4096 → Fin 1024 → EReal) (h : Seq.Idx → EReal) (j : Fin 1024) :
    part u h 0 j + part u h 1 j + part u h 2 j + part u h 3 j = dnw u h (ix1 j) := by
  rw [← Fin.sum_univ_four fun b => part u h b j]
  exact Fin.sum_mul_add_fin 4 1024 (fun t => u t j * (h (ix2 t j) * scale fun j => h (ix2 t j))) rfl

/-- A product of two arrays of real numbers is real. -/
theorem sum_real {ι : Type} [Fintype ι] {a b : Fin 4096 → Fin 1024 → ι → EReal} (ha : ∃ f : Fin 4096 → Fin 1024 → ι → ℝ, a = fun t j q => (f t j q : EReal))
    (hb : ∃ f : Fin 4096 → Fin 1024 → ι → ℝ, b = fun t j q => (f t j q : EReal)) :
    ∃ f : Fin 4096 → Fin 1024 → ℝ, (fun t j => ∑ q, a t j q * b t j q) = fun t j => (f t j : EReal) := by
  obtain ⟨a, rfl⟩ := ha
  obtain ⟨b, rfl⟩ := hb
  refine ⟨fun t j => ∑ q, a t j q * b t j q, ?_⟩
  funext t j
  simp only [← EReal.coe_mul]
  exact Reals.sum_coe _ _

/-- A row gathered block by block is the weight's gradient. -/
theorem dnw_last {u : Fin 4096 → Fin 1024 → EReal} {h : Seq.Idx → EReal} (o : Fin 4 → Fin 1024 → EReal) (j : Fin 1024)
    (h0 : o 0 j = part u h 0 j) (hs : ∀ b : Fin 3, o b.succ j = o b.castSucc j + part u h b.succ j) : o 3 j = dnw u h (ix1 j) := by
  have h1 := hs 0
  have h2 := hs 1
  have h3 := hs 2
  refine Eq.trans h3 ?_
  rw [show o (Fin.castSucc 2) j = _ from h2, show o (Fin.castSucc 1) j = _ from h1, show o (Fin.castSucc 0) j = _ from h0]
  exact dnw_eq u h j

theorem row_eq (x : Row.Idx) : x = ix2 0 (x 1) := by
  idx_vars x
  exact congrArg (ix2 · x1) (Subsingleton.elim _ _)

end Cert.Proj
end
-- ==== Proof.Kv.lean ====
/- The key and value projections' gradient at their normalised input: the kernel's arrays, the reference's, and the two claims. -/
module

public import proofs.«01_k».proof.Proof.Q
public import proofs.«01_k».proof.Proof.Proj
public import proofs.«01_k».proof.Proof.Gen.KvKernelIdeal.Frame
public import proofs.«01_k».proof.Proof.Gen.KvRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KvKernelIdeal.Value
open Cert.KvKernelIdeal Cert.KvKernelIdeal.Gen Cert.Norm Cert.Proj

theorem pay2_apply (a d w : S1024x1024.Idx → EReal) (r j : Fin 1024) :
    k0_pay2 (F := Ideal) a d w (ix2 r j) = a (ix2 r j) + ∑ q : Fin 1024, d (ix2 r q) * w (ix2 j q) := by
  pointwise [k0_pay2]

theorem pay1_apply (r j : Fin 1024) : k0_pay1 (F := Ideal) (ix2 r j) = 0 := by
  pointwise [k0_pay1]

variable (m : (ℓ : Loc nD τ sig) → Buf (Elt Ideal) ℓ) (c : Dev nD)

theorem lt8 (n : Fin cfg0.N) : n.val < 8 := by have := n.isLt; have : cfg0.N = 8 := N_0; omega

/-- The accumulated product after a point. -/
abbrev acc (n : Fin cfg0.N) : S1024x1024.Idx → EReal := (outsAt0 m c n.val n.isLt).2.2

theorem acc_A (n : Fin cfg0.N) (h : n.val % 2 = 0) : acc m c n = k0_pay2 (F := Ideal) (k0_pay1 (F := Ideal)) (iblk m c 0 n) (iblk m c 1 n) := by
  unfold acc
  rw [outsAt0_A m c n h (by omega)]
  frame_out

theorem acc_B (n : Fin cfg0.N) (h : ¬ n.val % 2 = 0) :
    acc m c n = k0_pay2 (F := Ideal) (outsAt0 m c (n.val - 1) (by omega)).2.2 (iblk m c 0 n) (iblk m c 1 n) := by
  unfold acc
  have := lt8 n
  by_cases h2 : n.val < 2
  · rw [outsAt0_B m c n h (by omega) h2 (by omega)]
    frame_out
    rw [read_unread_whole]
  · rw [outsAt0_C m c n h (by omega) h2 (by omega)]
    frame_out
    rw [read_unread_whole]

theorem outs0 (n : Fin cfg0.N) (h : n.val % 2 = 1) :
    (outsAt0 m c n.val n.isLt).1 = k0_pay6 (F := Ideal) (acc m c n) (iblk m c 2 n) (iblk m c 3 n) (iblk m c 4 n) := by
  rw [acc_B m c n (by omega)]
  have := lt8 n
  by_cases h2 : n.val < 2
  · rw [outsAt0_B m c n (by omega) h h2 (by omega)]
    frame_out
    rw [read_unread_whole]
  · rw [outsAt0_C m c n (by omega) h h2 (by omega)]
    frame_out
    rw [read_unread_whole]

theorem outs1_A (n : Fin cfg0.N) (h : n.val % 2 = 0) (h0 : ¬ n.val = 0) :
    (outsAt0 m c n.val n.isLt).2.1 = (outsAt0 m c (n.val - 1) (by omega)).2.1 := by
  rw [outsAt0_A m c n h (by omega)]
  obtain ⟨n, hn⟩ := n
  cases n with
  | zero => exact absurd rfl h0
  | succ n => rfl

theorem outs1_B (n : Fin cfg0.N) (h : n.val % 2 = 1) (h2 : n.val < 2) :
    (outsAt0 m c n.val n.isLt).2.1 = k0_pay7 (F := Ideal) (acc m c n) (iblk m c 2 n) := by
  rw [acc_B m c n (by omega), outsAt0_B m c n (by omega) h h2 (by omega)]
  frame_out
  rw [read_unread_whole]

theorem outs1_C (n : Fin cfg0.N) (h : n.val % 2 = 1) (h2 : ¬ n.val < 2) :
    (outsAt0 m c n.val n.isLt).2.1 = k0_pay3 (F := Ideal) (k0_pay7 (F := Ideal) (acc m c n) (iblk m c 2 n)) (outsAt0 m c (n.val - 1) (by omega)).2.1 := by
  rw [acc_B m c n (by omega), outsAt0_C m c n (by omega) h h2 (by omega)]
  frame_out
  rw [read_unread_whole]

theorem idx : ∀ t : Fin cfg0.N, win0_0.index t = ![t.val / 2, t.val % 2] ∧ win0_1.index t = ![0, t.val % 2] ∧ win0_2.index t = ![t.val / 2, 0]
    ∧ win0_3.index t = ![0, 0] ∧ win0_4.index t = ![t.val / 2, 0] ∧ win0_5.index t = ![t.val / 2, 0] ∧ win0_6.index t = ![0, 0] :=
  (by decide +kernel : ∀ t : Fin grid0.N, _)

/-- The block of rows of a point. -/
def blk (n : Fin cfg0.N) : Fin 4 := ⟨n.val / 2, by have := lt8 n; omega⟩

/-- The arguments. -/
abbrev DK : S4096x1024.Idx → EReal := m ((c.tc : Thread nD τ).loc main_arg0)
abbrev DV : S4096x1024.Idx → EReal := m ((c.tc : Thread nD τ).loc main_arg1)
abbrev WK : S1024x1024.Idx → EReal := m ((c.tc : Thread nD τ).loc main_arg2)
abbrev WV : S1024x1024.Idx → EReal := m ((c.tc : Thread nD τ).loc main_arg3)
abbrev H : S4096x1024.Idx → EReal := m ((c.tc : Thread nD τ).loc main_arg4)
abbrev NW : S1024.Idx → EReal := m ((c.tc : Thread nD τ).loc main_arg5)
abbrev R : S4096x1024.Idx → EReal := m ((c.tc : Thread nD τ).loc main_arg6)

/-- The gradients side by side, and the weights. -/
def dkv (a b : S4096x1024.Idx → EReal) : S4096x2048.Idx → EReal :=
  truncf (F := Ideal) .bf16 (concatenate S4096x2048 1 [⟨S4096x1024, a⟩, ⟨S4096x1024, b⟩] concatenates_S4096x1024_S4096x1024_S4096x2048_d1) bitsLt_bf16_f32
def wkv (a b : S1024x1024.Idx → EReal) : S1024x2048.Idx → EReal :=
  truncf (F := Ideal) .bf16 (concatenate S1024x2048 1 [⟨S1024x1024, a⟩, ⟨S1024x1024, b⟩] concatenates_S1024x1024_S1024x1024_S1024x2048_d1) bitsLt_bf16_f32

theorem dkv_k (a b : S4096x1024.Idx → EReal) (t : Fin 4096) (j : Fin 1024) : dkv a b (ix2 t ⟨j.val, by omega⟩) = a (ix2 t j) := by
  pointwise [dkv]
theorem dkv_v (a b : S4096x1024.Idx → EReal) (t : Fin 4096) (j : Fin 1024) : dkv a b (ix2 t ⟨1024 + j.val, by omega⟩) = b (ix2 t j) := by
  pointwise [dkv]
theorem wkv_k (a b : S1024x1024.Idx → EReal) (t j : Fin 1024) : wkv a b (ix2 t ⟨j.val, by omega⟩) = a (ix2 t j) := by
  pointwise [wkv]
theorem wkv_v (a b : S1024x1024.Idx → EReal) (t j : Fin 1024) : wkv a b (ix2 t ⟨1024 + j.val, by omega⟩) = b (ix2 t j) := by
  pointwise [wkv]

variable {m c}

theorem iblk_d (n : Fin cfg0.N) (r j : Fin 1024) :
    iblk m c 0 n (ix2 r j : S1024x1024.Idx) = dkv (DK m c) (DV m c) (ix2 (row (blk n) r) ⟨n.val % 2 * 1024 + j, by omega⟩) := by
  have hV : V m c (Pipeline.arrRef spec0 0) = dkv (DK m c) (DV m c) := by
    unfold V
    after_results_simp <;> rfl
  rw [← hV]
  blk_point [iblk, idx n, row, blk]

theorem iblk_w (n : Fin cfg0.N) (r j : Fin 1024) :
    iblk m c 1 n (ix2 r j : S1024x1024.Idx) = wkv (WK m c) (WV m c) (ix2 r ⟨n.val % 2 * 1024 + j, by omega⟩) := by
  have hV : V m c (Pipeline.arrRef spec0 1) = wkv (WK m c) (WV m c) := by
    unfold V
    after_results_simp <;> rfl
  rw [← hV]
  blk_point [iblk, idx n]

theorem iblk_h (n : Fin cfg0.N) (r j : Fin 1024) : iblk m c 2 n (ix2 r j : S1024x1024.Idx) = H m c (ix2 (row (blk n) r) j) := by
  blk_point [iblk, V, idx n, row, blk]

theorem iblk_nw (n : Fin cfg0.N) (j : Fin 1024) : iblk m c 3 n (ix2 0 j : S1x1024.Idx) = NW m c (ix1 j) := by
  have hV : V m c (Pipeline.arrRef spec0 3) = shapeCast S1x1024 (NW m c) shapeCasts_S1024_S1x1024 := by
    unfold V
    after_results_simp <;> rfl
  refine Eq.trans (b := V m c (Pipeline.arrRef spec0 3) (ix2 0 j : S1x1024.Idx)) ?_ ?_
  · blk_point [iblk, idx n]
  · rw [hV]
    pointwise

theorem iblk_r (n : Fin cfg0.N) (r j : Fin 1024) : iblk m c 4 n (ix2 r j : S1024x1024.Idx) = R m c (ix2 (row (blk n) r) j) := by
  blk_point [iblk, V, idx n, row, blk]

/-- The gradient at the projections' input. -/
def U (dk dv : S4096x1024.Idx → EReal) (wk wv : S1024x1024.Idx → EReal) (t : Fin 4096) (j : Fin 1024) : EReal :=
  (∑ q : Fin 1024, dk (ix2 t q) * wk (ix2 j q)) + ∑ q : Fin 1024, dv (ix2 t q) * wv (ix2 j q)

variable (m c) in
abbrev u : Fin 4096 → Fin 1024 → EReal := U (DK m c) (DV m c) (WK m c) (WV m c)

/-- The two blocks a point multiplies. -/
abbrev blkD (m : (ℓ : Loc nD τ sig) → Buf (Elt Ideal) ℓ) (c : Dev nD) (n : Fin cfg0.N) : S1024x1024.Idx → EReal := iblk m c 0 n
abbrev blkW (m : (ℓ : Loc nD τ sig) → Buf (Elt Ideal) ℓ) (c : Dev nD) (n : Fin cfg0.N) : S1024x1024.Idx → EReal := iblk m c 1 n

/-- What a point adds to the accumulated product. -/
def term (m : (ℓ : Loc nD τ sig) → Buf (Elt Ideal) ℓ) (c : Dev nD) (n : Fin cfg0.N) (r j : Fin 1024) : EReal :=
  ∑ q : Fin 1024, blkD m c n (ix2 r q) * blkW m c n (ix2 j q)

theorem term_k (n : Fin cfg0.N) (h : n.val % 2 = 0) (r j : Fin 1024) :
    term m c n r j = ∑ q : Fin 1024, DK m c (ix2 (row (blk n) r) q) * WK m c (ix2 j q) := by
  refine Finset.sum_congr rfl fun q _ => congrArg₂ (· * ·) ?_ ?_
  · refine (iblk_d n r q).trans ?_
    rw [← dkv_k (DK m c) (DV m c)]
    exact congrArg (fun k => dkv (DK m c) (DV m c) (ix2 (row (blk n) r) k)) (Fin.ext (by show n.val % 2 * 1024 + q.val = q.val; omega))
  · refine (iblk_w n j q).trans ?_
    rw [← wkv_k (WK m c) (WV m c)]
    exact congrArg (fun k => wkv (WK m c) (WV m c) (ix2 j k)) (Fin.ext (by show n.val % 2 * 1024 + q.val = q.val; omega))

theorem term_v (n : Fin cfg0.N) (h : n.val % 2 = 1) (r j : Fin 1024) :
    term m c n r j = ∑ q : Fin 1024, DV m c (ix2 (row (blk n) r) q) * WV m c (ix2 j q) := by
  refine Finset.sum_congr rfl fun q _ => congrArg₂ (· * ·) ?_ ?_
  · refine (iblk_d n r q).trans ?_
    rw [← dkv_v (DK m c) (DV m c)]
    exact congrArg (fun k => dkv (DK m c) (DV m c) (ix2 (row (blk n) r) k)) (Fin.ext (by show n.val % 2 * 1024 + q.val = 1024 + q.val; omega))
  · refine (iblk_w n j q).trans ?_
    rw [← wkv_v (WK m c) (WV m c)]
    exact congrArg (fun k => wkv (WK m c) (WV m c) (ix2 j k)) (Fin.ext (by show n.val % 2 * 1024 + q.val = 1024 + q.val; omega))

theorem acc_apply (n : Fin cfg0.N) (h : n.val % 2 = 1) (r j : Fin 1024) : acc m c n (ix2 r j) = u m c (row (blk n) r) j := by
  have e := Pipeline.eq_sum_fin_of_reset_step_apply_of_flush (N := cfg0.N) (M := EReal) (ι := S1024x1024.Idx) (fun n h => (outsAt0 m c n h).2.2) 2 (fun _ => 0)
    (fun n i => term m c n (i 0) (i 1))
    (fun n h0 i => by
      idx_vars i
      refine (congrFun (acc_A m c n h0) _).trans ((pay2_apply _ _ _ _ _).trans ?_)
      rw [pay1_apply]
      rfl)
    (fun n h0 i => by
      idx_vars i
      exact (congrFun (acc_B m c n h0) _).trans (pay2_apply _ _ _ _ _))
    n h (ix2 r j)
  refine e.trans ?_
  rw [zero_add, Fin.sum_univ_two]
  refine congrArg₂ (· + ·) ?_ ?_
  · refine (term_k ⟨2 * (n.val / 2) + (0 : Fin 2).val, _⟩ (by show (2 * (n.val / 2) + 0) % 2 = 0; omega) r j).trans ?_
    rw [show blk ⟨2 * (n.val / 2) + (0 : Fin 2).val, _⟩ = blk n from Fin.ext (by show (2 * (n.val / 2) + 0) / 2 = n.val / 2; omega)]
  · refine (term_v ⟨2 * (n.val / 2) + (1 : Fin 2).val, _⟩ (by show (2 * (n.val / 2) + 1) % 2 = 1; omega) r j).trans ?_
    rw [show blk ⟨2 * (n.val / 2) + (1 : Fin 2).val, _⟩ = blk n from Fin.ext (by show (2 * (n.val / 2) + 1) / 2 = n.val / 2; omega)]

theorem pay7_block (n : Fin cfg0.N) (h : n.val % 2 = 1) (j : Fin 1024) : k0_pay7 (F := Ideal) (acc m c n) (iblk m c 2 n) (ix2 0 j)
    = part (u m c) (H m c) (blk n) j := by
  refine (QKernelIdeal.Value.pay7_apply (acc m c n) (iblk m c 2 n) j).trans ?_
  simp only [iblk_h, acc_apply n h]
  rfl

theorem flush5 : ∀ t : Fin cfg0.N, win0_5.flush t = true → t.val % 2 = 1 := (by decide +kernel : ∀ t : Fin grid0.N, _)
theorem flush6 : ∀ t : Fin cfg0.N, win0_6.flush t = true → t.val = 7 := (by decide +kernel : ∀ t : Fin grid0.N, _)

theorem final_dh : (dats m 0 c).arrAt 5 cfg0.N = dh (u m c) (H m c) (NW m c) (R m c) := by
  refine (dats m 0 c).arrAt_eq_of_covers 5 _ (by decide +kernel) fun n hn y => ?_
  have h1 := flush5 n hn
  blk_simp
  rw [after0_5, outs0 m c n h1]
  idx_vars y
  refine Eq.trans (b := dh (u m c) (H m c) (NW m c) (R m c) (ix2 (row (blk n) y0) y1)) ?_ ?_
  · refine (QKernelIdeal.Value.pay6_apply (acc m c n) (iblk m c 2 n) (iblk m c 3 n) (iblk m c 4 n) y0 y1).trans ?_
    simp only [iblk_h, iblk_nw, iblk_r, acc_apply n h1]
    rfl
  · generalize dh (u m c) (H m c) (NW m c) (R m c) = Y
    blk_point [idx n, row, blk]

/-- The norm weight's gradient as gathered after a block of rows. -/
def gathered (m : (ℓ : Loc nD τ sig) → Buf (Elt Ideal) ℓ) (c : Dev nD) (b : Fin 4) (j : Fin 1024) : EReal :=
  (outsAt0 m c (2 * b.val + 1) (by have : cfg0.N = 8 := N_0; omega)).2.1 (ix2 0 j)

theorem gathered_at (k : ℕ) (hk : k < cfg0.N) (b : Fin 4) (j : Fin 1024) (h : k = 2 * b.val + 1) : (outsAt0 m c k hk).2.1 (ix2 0 j) = gathered m c b j := by
  subst h
  rfl

theorem gathered_0 (j : Fin 1024) : gathered m c 0 j = part (u m c) (H m c) 0 j := by
  generalize hn : (⟨1, by rw [show cfg0.N = 8 from N_0]; omega⟩ : Fin cfg0.N) = n
  have hnv : n.val = 1 := by rw [← hn]
  have e := congrFun (outs1_B m c n (by omega) (by omega)) (ix2 0 j)
  rw [gathered_at n.val n.isLt 0 j hnv] at e
  refine e.trans ((pay7_block n (by omega) j).trans ?_)
  rw [show blk n = 0 from Fin.ext (by show n.val / 2 = 0; omega)]

theorem gathered_succ (b : Fin 3) (j : Fin 1024) : gathered m c b.succ j = gathered m c b.castSucc j + part (u m c) (H m c) b.succ j := by
  have hv : b.succ.val = b.val + 1 := rfl
  have hb : 2 * b.succ.val + 1 < cfg0.N := by rw [show cfg0.N = 8 from N_0]; omega
  generalize hn : (⟨2 * b.succ.val + 1, hb⟩ : Fin cfg0.N) = n
  have hnv : n.val = 2 * b.val + 3 := by rw [← hn]; show 2 * (b.val + 1) + 1 = _; omega
  have e := congrFun (outs1_C m c n (by omega) (by omega)) (ix2 0 j)
  have e' := congrFun (outs1_A m c ⟨n.val - 1, by omega⟩ (by show (n.val - 1) % 2 = 0; omega) (by show ¬ n.val - 1 = 0; omega)) (ix2 0 j)
  rw [gathered_at n.val n.isLt b.succ j (by omega)] at e
  refine e.trans ((QKernelIdeal.Value.pay3_apply _ _ j).trans (congrArg₂ (· + ·) ?_ ?_))
  · exact e'.trans (gathered_at _ _ b.castSucc j (by show n.val - 1 - 1 = 2 * b.val + 1; omega))
  · refine (pay7_block n (by omega) j).trans ?_
    rw [show blk n = b.succ from Fin.ext (by show n.val / 2 = b.val + 1; omega)]

theorem final_dnw : (dats m 0 c).arrAt 6 cfg0.N = dnwRow (u m c) (H m c) := by
  refine (dats m 0 c).arrAt_eq_of_covers 6 _ (by decide +kernel) fun n hn y => ?_
  have h7 := flush6 n hn
  blk_simp
  rw [after0_6, row_eq y]
  generalize y 1 = y1
  refine Eq.trans (b := dnwRow (u m c) (H m c) (ix2 0 y1)) ?_ ?_
  · refine (gathered_at n.val n.isLt 3 y1 h7).trans ?_
    exact dnw_last (gathered m c) y1 (gathered_0 y1) fun b => gathered_succ b y1
  · generalize dnwRow (u m c) (H m c) = Y
    blk_point [idx n]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host line after the kernel flattens the norm weight's gradient. -/
theorem tail_dnw : Pipeline.afterTail₀ cfgs (dats m) 0 (V0 m) [hostOps1] c main_v6 = dnw (u m c) (H m c) := by
  have e : left m c (Proc.devRef .tc (Pipeline.arrRef spec0 6)) = dnwRow (u m c) (H m c) :=
    (Pipeline.withArrays_arr spec0 winFacts0.arr_inj c (V0 m c) (fun w => (dats m 0 c).arrAt w cfg0.N) 6).trans final_dnw
  show StableHlo.after hostOps1 (left m c) (Proc.devRef .tc main_v6) = _
  generalize left m c = W' at e
  after_results_simp
  rw [show W' (Proc.devRef .tc main_v5_1) = _ from e]
  funext j
  idx_vars j
  pointwise
  rfl

/-- The kernel ends with the two. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5_0) = dh (u m c) (H m c) (NW m c) (R m c)
      ∧ r.2.mem ((c.tc : Thread nD τ).loc main_v6) = dnw (u m c) (H m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (θ_run_and (Gen.unchanged m g) (Gen.run_main m g)) fun r hr c =>
    ⟨((hr.2 c).1 5).trans final_dh, ((hr.2 c).2 main_v6 (Pipeline.mem_restRefs_of main_v6 rfl (by decide))).trans tail_dnw, hr.1 c⟩

end Cert.KvKernelIdeal.Value

namespace Cert.KvRefIdeal.Value
open Cert.KvRefIdeal Cert.KvRefIdeal.Read Cert.Norm Cert.Proj Cert.KvKernelIdeal.Value

variable (x0 x1 : S4096x1024.Idx → EReal) (x2 x3 : S1024x1024.Idx → EReal) (x4 : S4096x1024.Idx → EReal) (x5 : S1024.Idx → EReal) (x6 : S4096x1024.Idx → EReal)

theorem v6_apply (t : Fin 4096) : val_main_v6 (F := Ideal) x4 (ix2 t 0) = meansq fun j => x4 (ix2 t j) := by
  unfold meansq
  pointwise [val_main_v6, val_main_v5, val_main_v4, val_main_v3, val_main_v2, val_main_v1, val_main_v0, val_main_cst, val_main_cst_0, val_main_cst_1]

theorem v7_apply (t : Fin 4096) : val_main_v7 (F := Ideal) x4 (ix2 t 0) = scale fun j => x4 (ix2 t j) := by
  unfold scale
  rw [← v6_apply]
  pointwise [val_main_v7]

theorem v20_apply (t : Fin 4096) (j : Fin 1024) : val_main_v20 (F := Ideal) x0 x1 x2 x3 (ix2 t j) = U x0 x1 x2 x3 t j := by
  unfold U
  rw [add_comm]
  pointwise [val_main_v20, val_main_v18, val_main_v19]

theorem v26_apply (j : Fin 1024) : val_main_v26 (F := Ideal) x0 x1 x2 x3 x4 (ix1 j) = dnw (U x0 x1 x2 x3) x4 (ix1 j) := by
  pointwise [val_main_v26, val_main_v23, val_main_v22, val_main_v21, val_main_v12, val_main_v11, val_main_cst_3, val_main_cst_4]
  refine (Fin.sum_univ_one _).trans (Finset.sum_congr rfl fun t _ => ?_)
  rw [v7_apply, v20_apply, mul_comm]
  rfl

theorem v37_apply (t : Fin 4096) (j : Fin 1024) : val_main_v37 (F := Ideal) x0 x1 x2 x3 x4 x5 (ix2 t j)
    = factor (fun j => x4 (ix2 t j)) (fun j => x5 (ix1 j)) (U x0 x1 x2 x3 t) := by
  unfold factor
  rw [← v6_apply, ← v7_apply]
  simp only [← v20_apply]
  pointwise [val_main_v37, val_main_v36, val_main_v35, val_main_v34, val_main_v33, val_main_v29, val_main_v28, val_main_v27, val_main_v25, val_main_v24, val_main_v13,
    val_main_v10, val_main_v9, val_main_v8, val_main_cst_2, val_main_cst_5, val_main_cst_6, val_main_cst_7]
  exact Fin.sum_univ_one _

theorem v41_apply (t : Fin 4096) (j : Fin 1024) : val_main_v41 (F := Ideal) x0 x1 x2 x3 x4 x5 x6 (ix2 t j)
    = dinR (fun j => x4 (ix2 t j)) (fun j => x5 (ix1 j)) (U x0 x1 x2 x3 t) (x6 (ix2 t j)) j := by
  unfold dinR
  rw [← v37_apply x0 x1 x2 x3 x4 x5 t j, ← v7_apply, ← v20_apply]
  pointwise [val_main_v41, val_main_v40, val_main_v39, val_main_v38, val_main_v32, val_main_v31, val_main_v30, val_main_v25, val_main_v24, val_main_v13]

/-- Arguments that are real numbers where the precondition asks it. -/
structure Args (x0 x1 : S4096x1024.Idx → EReal) (x2 x3 : S1024x1024.Idx → EReal) (x4 : S4096x1024.Idx → EReal) (x5 : S1024.Idx → EReal) : Prop where
  dk : ∃ f : S4096x1024.Idx → ℝ, x0 = fun i => (f i : EReal)
  dv : ∃ f : S4096x1024.Idx → ℝ, x1 = fun i => (f i : EReal)
  wk : ∃ f : S1024x1024.Idx → ℝ, x2 = fun i => (f i : EReal)
  wv : ∃ f : S1024x1024.Idx → ℝ, x3 = fun i => (f i : EReal)
  h : ∃ f : S4096x1024.Idx → ℝ, x4 = fun i => (f i : EReal)
  nw : ∃ f : S1024.Idx → ℝ, x5 = fun i => (f i : EReal)

variable {x0 x1 x2 x3 x4 x5}

theorem Args.u (A : Args x0 x1 x2 x3 x4 x5) : ∃ f : Fin 4096 → Fin 1024 → ℝ, U x0 x1 x2 x3 = fun t j => (f t j : EReal) := by
  obtain ⟨a, rfl⟩ := A.dk
  obtain ⟨b, rfl⟩ := A.dv
  obtain ⟨p, rfl⟩ := A.wk
  obtain ⟨q, rfl⟩ := A.wv
  refine ⟨fun t j => (∑ k : Fin 1024, a (ix2 t k) * p (ix2 j k)) + ∑ k : Fin 1024, b (ix2 t k) * q (ix2 j k), ?_⟩
  funext t j
  unfold U
  rw [EReal.coe_add]
  simp only [← EReal.coe_mul]
  exact congrArg₂ (· + ·) (Reals.sum_coe _ _) (Reals.sum_coe _ _)

/-- The reference ends with the two. -/
theorem reference_run (m : (ℓ : Loc nD τ sig) → Buf (Elt Ideal) ℓ) (g : Dev nD → PrngReg) (A : ∀ c : Dev nD, Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))) :
    θ_run (defs (F := Ideal)) (onTc (τ := τ) (main (F := Ideal))) ⟨m, fun _ => 0, g⟩ fun r => ∀ c : Dev nD,
      r.2.mem ((c.tc : Thread nD τ).loc main_v41) = dh (U (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4)) (m ((c.tc : Thread nD τ).loc main_arg5)) (m ((c.tc : Thread nD τ).loc main_arg6))
      ∧ r.2.mem ((c.tc : Thread nD τ).loc main_v26) = dnw (U (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  θ_run_mono (Value.run m g) fun r hr c => by
    obtain ⟨h1, h2, h3⟩ := hr c
    refine ⟨h1.trans ?_, h2.trans ?_, h3⟩
    · rw [Read.val_main_v41_eq]
      funext i
      idx_vars i
      exact (v41_apply _ _ _ _ _ _ _ _ _).trans (dh_eq _ (A c).u (A c).h (A c).nw _ _)
    · rw [Read.val_main_v26_eq]
      funext i
      idx_vars i
      exact v26_apply _ _ _ _ _ _

end Cert.KvRefIdeal.Value

namespace Cert.Pre_kv_finite

instance facts : Facts where
  bcast_S_S4096x1024 := by decide
  bcast_S_S1024x1024 := by decide
  bcast_S_S1024 := by decide

end Cert.Pre_kv_finite

namespace Cert.Kv
open Cert.KvKernelIdeal Cert.KvRefIdeal.Value

/-- The reference runs and leaves its arguments; it has no semaphores. -/
theorem reference_frame : Cert.quiescent_KvRefIdeal := fun m g _ =>
  θ_run_mono (Cert.KvRefIdeal.Value.run (F := Ideal) m g) fun r hr => ⟨fun c => (hr c).2.2, sem_eq_zero_of_no_sems (by decide) r.2⟩

/-- Arguments of finite size are arrays of real numbers. -/
theorem args (m : (ℓ : Loc nD τ sig) → Buf (Elt Ideal) ℓ) (hpre : Cert.Pre_KvKernelIdeal_kv_finite m) (c : Dev nD) : Args (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  obtain ⟨h1, h2, h3, h4, h5, h6⟩ := hpre c
  exact ⟨Reals.exists_reals fun i => Reals.ofBits_inf ▸ congrFun h1 i, Reals.exists_reals fun i => Reals.ofBits_inf ▸ congrFun h2 i,
    Reals.exists_reals fun i => Reals.ofBits_inf ▸ congrFun h3 i, Reals.exists_reals fun i => Reals.ofBits_inf ▸ congrFun h4 i,
    Reals.exists_reals fun i => Reals.ofBits_inf ▸ congrFun h5 i, Reals.exists_reals fun i => Reals.ofBits_inf ▸ congrFun h6 i⟩

/-- The kernel computes the key and value projections' gradient at the stream and at the norm's weight. -/
theorem algebraic : Cert.algebraic_KvKernelIdeal_KvRefIdeal_pre_kv_finite := by
  intro m g m' g' hpre hagree
  refine ⟨_, _, KvKernelIdeal.Value.kernel_run m g, θ_run_mono (KvRefIdeal.Value.reference_run m' g' fun c => ?_) fun r hr c => ?_⟩
  · obtain ⟨e0, e1, e2, e3, e4, e5, -⟩ := hagree c
    rw [e0, e1, e2, e3, e4, e5]
    exact args m hpre c
  · obtain ⟨e0, e1, e2, e3, e4, e5, e6⟩ := hagree c
    obtain ⟨h1, h2, h3⟩ := hr c
    rw [e0, e1, e2, e3, e4, e5, e6] at h1
    rw [e0, e1, e2, e3, e4] at h2
    exact ⟨h1, h2, h3⟩

end Cert.Kv
end
-- ==== Proof.Up.lean ====
/- The feed-forward's first projection's gradient at its normalised input: the kernel's arrays, the reference's, and the two claims. -/
module

public import proofs.«01_k».proof.Proof.Q
public import proofs.«01_k».proof.Proof.Proj
public import proofs.«01_k».proof.Proof.Gen.UpKernelIdeal.Frame
public import proofs.«01_k».proof.Proof.Gen.UpRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UpKernelIdeal.Value
open Cert.UpKernelIdeal Cert.UpKernelIdeal.Gen Cert.Norm Cert.Proj

theorem pay2_apply (a : S1024x1024.Idx → EReal) (d : S1x1024x1408.Idx → EReal) (w : S1408x1024.Idx → EReal) (r j : Fin 1024) :
    k0_pay2 (F := Ideal) a d w (ix2 r j) = a (ix2 r j) + ∑ q : Fin 1408, d (ix3 0 r q) * w (ix2 q j) := by
  pointwise [k0_pay2]

theorem pay1_apply (r j : Fin 1024) : k0_pay1 (F := Ideal) (ix2 r j) = 0 := by
  pointwise [k0_pay1]

variable (m : (ℓ : Loc nD τ sig) → Buf (Elt Ideal) ℓ) (c : Dev nD)

theorem ltN (n : Fin cfg0.N) : n.val < 16 := lt_of_lt_of_eq n.isLt N_0

/-- The accumulated product after a point. -/
abbrev acc (n : Fin cfg0.N) : S1024x1024.Idx → EReal := (outsAt0 m c n.val n.isLt).2.2

theorem acc_A (n : Fin cfg0.N) (h : n.val % 4 = 0) : acc m c n = k0_pay2 (F := Ideal) (k0_pay1 (F := Ideal)) (iblk m c 0 n) (iblk m c 1 n) := by
  unfold acc
  rw [outsAt0_A m c n h (by omega)]
  frame_out

theorem acc_step (n : Fin cfg0.N) (h : ¬ n.val % 4 = 0) :
    acc m c n = k0_pay2 (F := Ideal) (outsAt0 m c (n.val - 1) (by omega)).2.2 (iblk m c 0 n) (iblk m c 1 n) := by
  unfold acc
  by_cases h1 : n.val % 4 = 3
  · by_cases h2 : n.val < 4
    · rw [outsAt0_C m c n h h1 h2 (by omega)]
      frame_out
      rw [read_unread_whole]
    · rw [outsAt0_D m c n h h1 h2 (by omega)]
      frame_out
      rw [read_unread_whole]
  · rw [outsAt0_B m c n h h1]
    frame_out
    rw [read_unread_whole]

theorem outs0 (n : Fin cfg0.N) (h : n.val % 4 = 3) :
    (outsAt0 m c n.val n.isLt).1 = k0_pay6 (F := Ideal) (acc m c n) (iblk m c 2 n) (iblk m c 3 n) (iblk m c 4 n) := by
  rw [acc_step m c n (by omega)]
  by_cases h2 : n.val < 4
  · rw [outsAt0_C m c n (by omega) h h2 (by omega)]
    frame_out
    rw [read_unread_whole]
  · rw [outsAt0_D m c n (by omega) h h2 (by omega)]
    frame_out
    rw [read_unread_whole]

theorem outs1_idle (n : Fin cfg0.N) (h : ¬ n.val % 4 = 3) (h0 : ¬ n.val = 0) :
    (outsAt0 m c n.val n.isLt).2.1 = (outsAt0 m c (n.val - 1) (by omega)).2.1 := by
  by_cases ha : n.val % 4 = 0
  · rw [outsAt0_A m c n ha h]
    obtain ⟨n, hn⟩ := n
    cases n with
    | zero => exact absurd rfl h0
    | succ n => rfl
  · rw [outsAt0_B m c n ha h]
    obtain ⟨n, hn⟩ := n
    cases n with
    | zero => exact absurd rfl h0
    | succ n => rfl

theorem outs1_first (n : Fin cfg0.N) (h : n.val % 4 = 3) (h2 : n.val < 4) :
    (outsAt0 m c n.val n.isLt).2.1 = k0_pay7 (F := Ideal) (acc m c n) (iblk m c 2 n) := by
  rw [acc_step m c n (by omega), outsAt0_C m c n (by omega) h h2 (by omega)]
  frame_out
  rw [read_unread_whole]

theorem outs1_step (n : Fin cfg0.N) (h : n.val % 4 = 3) (h2 : ¬ n.val < 4) :
    (outsAt0 m c n.val n.isLt).2.1 = k0_pay3 (F := Ideal) (k0_pay7 (F := Ideal) (acc m c n) (iblk m c 2 n)) (outsAt0 m c (n.val - 1) (by omega)).2.1 := by
  rw [acc_step m c n (by omega), outsAt0_D m c n (by omega) h h2 (by omega)]
  frame_out
  rw [read_unread_whole]

theorem idx : ∀ t : Fin cfg0.N, win0_0.index t = ![t.val % 4 / 2, t.val / 4, t.val % 4 % 2] ∧ win0_1.index t = ![t.val % 4, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

/-- The block of rows of a point. -/
def blk (n : Fin cfg0.N) : Fin 4 := ⟨n.val / 4, by have := ltN n; omega⟩

/-- The arguments. -/
abbrev DY : S4096x5632.Idx → EReal := m ((c.tc : Thread nD τ).loc main_arg0)
abbrev W : S1024x5632.Idx → EReal := m ((c.tc : Thread nD τ).loc main_arg1)
abbrev H : S4096x1024.Idx → EReal := m ((c.tc : Thread nD τ).loc main_arg2)
abbrev NW : S1024.Idx → EReal := m ((c.tc : Thread nD τ).loc main_arg3)
abbrev R : S4096x1024.Idx → EReal := m ((c.tc : Thread nD τ).loc main_arg4)

/-- The gradient's two halves stacked, and the weight transposed. -/
def stacked (d : S4096x5632.Idx → EReal) : S2x4096x2816.Idx → EReal :=
  truncf (F := Ideal) .bf16 (concatenate S2x4096x2816 0
    [⟨S1x4096x2816, broadcastInDim S1x4096x2816 ![1, 2] bcast_S4096x2816_S1x4096x2816_1_2 (extractStridedSlice S4096x2816 ![0, 0] d slices_S4096x5632_S4096x2816_0_0)⟩,
     ⟨S1x4096x2816, broadcastInDim S1x4096x2816 ![1, 2] bcast_S4096x2816_S1x4096x2816_1_2 (extractStridedSlice S4096x2816 ![0, 2816] d slices_S4096x5632_S4096x2816_0_2816)⟩]
    concatenates_S1x4096x2816_S1x4096x2816_S2x4096x2816_d0) bitsLt_bf16_f32
def flipped (w : S1024x5632.Idx → EReal) : S5632x1024.Idx → EReal :=
  truncf (F := Ideal) .bf16 (transpose S5632x1024 [1, 0] w transposes_S1024x5632_S5632x1024_1_0) bitsLt_bf16_f32

theorem stacked_0 (d : S4096x5632.Idx → EReal) (t : Fin 4096) (p : Fin 2816) : stacked d (ix3 0 t p) = d (ix2 t ⟨p.val, by omega⟩) := by
  pointwise [stacked]
theorem stacked_1 (d : S4096x5632.Idx → EReal) (t : Fin 4096) (p : Fin 2816) : stacked d (ix3 1 t p) = d (ix2 t ⟨2816 + p.val, by omega⟩) := by
  pointwise [stacked]
theorem flipped_apply (w : S1024x5632.Idx → EReal) (p : Fin 5632) (j : Fin 1024) : flipped w (ix2 p j) = w (ix2 j p) := by
  pointwise [flipped]

/-- A block of a half's columns is a block of the columns. -/
theorem stacked_block (d : S4096x5632.Idx → EReal) (t : Fin 4096) (k : Fin 4) (q : Fin 1408) :
    stacked d (ix3 ⟨k.val / 2, by omega⟩ t ⟨k.val % 2 * 1408 + q.val, by omega⟩) = d (ix2 t ⟨k.val * 1408 + q.val, by omega⟩) := by
  by_cases h : k.val < 2
  · rw [show (⟨k.val / 2, by omega⟩ : Fin 2) = 0 from Fin.ext (by show k.val / 2 = 0; omega), stacked_0]
    exact congrArg (fun p => d (ix2 t p)) (Fin.ext (by show k.val % 2 * 1408 + q.val = k.val * 1408 + q.val; omega))
  · rw [show (⟨k.val / 2, by omega⟩ : Fin 2) = 1 from Fin.ext (by show k.val / 2 = 1; omega), stacked_1]
    exact congrArg (fun p => d (ix2 t p)) (Fin.ext (by show 2816 + (k.val % 2 * 1408 + q.val) = k.val * 1408 + q.val; omega))

/-- The two blocks a point multiplies. -/
abbrev blkD (n : Fin cfg0.N) : S1x1024x1408.Idx → EReal := iblk m c 0 n
abbrev blkW (n : Fin cfg0.N) : S1408x1024.Idx → EReal := iblk m c 1 n

variable {m c}

theorem iblk_d (n : Fin cfg0.N) (k : Fin 4) (hk : n.val % 4 = k.val) (r : Fin 1024) (q : Fin 1408) :
    blkD m c n (ix3 0 r q) = DY m c (ix2 (row (blk n) r) ⟨k.val * 1408 + q.val, by omega⟩) := by
  have hV : V m c (Pipeline.arrRef spec0 0) = stacked (DY m c) := by
    unfold V
    after_results_simp <;> rfl
  rw [← stacked_block (DY m c) _ k q, ← hV]
  unfold blkD
  have h0 := (idx n).1
  rw [hk] at h0
  blk_point [iblk, h0, row, blk]

theorem iblk_w (n : Fin cfg0.N) (k : Fin 4) (hk : n.val % 4 = k.val) (q : Fin 1408) (j : Fin 1024) :
    blkW m c n (ix2 q j) = W m c (ix2 j ⟨k.val * 1408 + q.val, by omega⟩) := by
  have hV : V m c (Pipeline.arrRef spec0 1) = flipped (W m c) := by
    unfold V
    after_results_simp <;> rfl
  rw [← flipped_apply (W m c), ← hV]
  unfold blkW
  have h0 := (idx n).2.1
  rw [hk] at h0
  blk_point [iblk, h0]

theorem iblk_h (n : Fin cfg0.N) (r j : Fin 1024) : iblk m c 2 n (ix2 r j : S1024x1024.Idx) = H m c (ix2 (row (blk n) r) j) := by
  blk_point [iblk, V, idx n, row, blk]

theorem iblk_nw (n : Fin cfg0.N) (j : Fin 1024) : iblk m c 3 n (ix2 0 j : S1x1024.Idx) = NW m c (ix1 j) := by
  have hV : V m c (Pipeline.arrRef spec0 3) = shapeCast S1x1024 (NW m c) shapeCasts_S1024_S1x1024 := by
    unfold V
    after_results_simp <;> rfl
  refine Eq.trans (b := V m c (Pipeline.arrRef spec0 3) (ix2 0 j : S1x1024.Idx)) ?_ ?_
  · blk_point [iblk, idx n]
  · rw [hV]
    pointwise

theorem iblk_r (n : Fin cfg0.N) (r j : Fin 1024) : iblk m c 4 n (ix2 r j : S1024x1024.Idx) = R m c (ix2 (row (blk n) r) j) := by
  blk_point [iblk, V, idx n, row, blk]

/-- The gradient at the projection's input. -/
def U (d : S4096x5632.Idx → EReal) (w : S1024x5632.Idx → EReal) (t : Fin 4096) (j : Fin 1024) : EReal := ∑ q : Fin 5632, d (ix2 t q) * w (ix2 j q)

variable (m c) in
abbrev u : Fin 4096 → Fin 1024 → EReal := U (DY m c) (W m c)

/-- What a point adds to the accumulated product. -/
def term (m : (ℓ : Loc nD τ sig) → Buf (Elt Ideal) ℓ) (c : Dev nD) (n : Fin cfg0.N) (r j : Fin 1024) : EReal :=
  ∑ q : Fin 1408, blkD m c n (ix3 0 r q) * blkW m c n (ix2 q j)

theorem acc_apply (n : Fin cfg0.N) (h : n.val % 4 = 3) (r j : Fin 1024) : acc m c n (ix2 r j) = u m c (row (blk n) r) j := by
  have e := Pipeline.eq_sum_fin_of_reset_step_apply_of_flush (N := cfg0.N) (M := EReal) (ι := S1024x1024.Idx) (fun n h => (outsAt0 m c n h).2.2) 4 (fun _ => 0)
    (fun n i => term m c n (i 0) (i 1))
    (fun n h0 i => by
      idx_vars i
      refine (congrFun (acc_A m c n h0) _).trans ((pay2_apply _ _ _ _ _).trans ?_)
      rw [pay1_apply]
      rfl)
    (fun n h0 i => by
      idx_vars i
      exact (congrFun (acc_step m c n h0) _).trans (pay2_apply _ _ _ _ _))
    n h (ix2 r j)
  refine e.trans ?_
  rw [zero_add]
  have hs : ∀ s : Fin 4, 4 * (n.val / 4) + s.val < cfg0.N := fun s => by
    have := ltN n
    exact lt_of_lt_of_eq (by omega) N_0.symm
  have hb : ∀ s : Fin 4, blk ⟨4 * (n.val / 4) + s.val, hs s⟩ = blk n := fun s => Fin.ext (by show (4 * (n.val / 4) + s.val) / 4 = n.val / 4; omega)
  have hm : ∀ s : Fin 4, (4 * (n.val / 4) + s.val) % 4 = s.val := fun s => by omega
  refine Eq.trans ?_ (Fin.sum_mul_add_fin 4 1408 (fun p => DY m c (ix2 (row (blk n) r) p) * W m c (ix2 j p)) rfl)
  refine Finset.sum_congr rfl fun s _ => Finset.sum_congr rfl fun q _ => congrArg₂ (· * ·) ?_ ?_
  · refine (iblk_d _ s (hm s) r q).trans ?_
    rw [hb s]
  · exact iblk_w _ s (hm s) q j

theorem pay7_block (n : Fin cfg0.N) (h : n.val % 4 = 3) (j : Fin 1024) : k0_pay7 (F := Ideal) (acc m c n) (iblk m c 2 n) (ix2 0 j)
    = part (u m c) (H m c) (blk n) j := by
  refine (QKernelIdeal.Value.pay7_apply (acc m c n) (iblk m c 2 n) j).trans ?_
  simp only [iblk_h, acc_apply n h]
  rfl

theorem flush5 : ∀ t : Fin cfg0.N, win0_5.flush t = true → t.val % 4 = 3 := (by decide +kernel : ∀ t : Fin grid0.N, _)
theorem flush6 : ∀ t : Fin cfg0.N, win0_6.flush t = true → t.val = 15 := (by decide +kernel : ∀ t : Fin grid0.N, _)

theorem final_dh : (dats m 0 c).arrAt 5 cfg0.N = dh (u m c) (H m c) (NW m c) (R m c) := by
  refine (dats m 0 c).arrAt_eq_of_covers 5 _ (by decide +kernel) fun n hn y => ?_
  have h1 := flush5 n hn
  blk_simp
  rw [after0_5, outs0 m c n h1]
  idx_vars y
  refine Eq.trans (b := dh (u m c) (H m c) (NW m c) (R m c) (ix2 (row (blk n) y0) y1)) ?_ ?_
  · refine (QKernelIdeal.Value.pay6_apply (acc m c n) (iblk m c 2 n) (iblk m c 3 n) (iblk m c 4 n) y0 y1).trans ?_
    simp only [iblk_h, iblk_nw, iblk_r, acc_apply n h1]
    rfl
  · generalize dh (u m c) (H m c) (NW m c) (R m c) = Y
    blk_point [idx n, row, blk]

/-- The norm weight's gradient as gathered after a block of rows. -/
def gathered (m : (ℓ : Loc nD τ sig) → Buf (Elt Ideal) ℓ) (c : Dev nD) (b : Fin 4) (j : Fin 1024) : EReal :=
  (outsAt0 m c (4 * b.val + 3) (by rw [show cfg0.N = 16 from N_0]; omega)).2.1 (ix2 0 j)

theorem gathered_at (k : ℕ) (hk : k < cfg0.N) (b : Fin 4) (j : Fin 1024) (h : k = 4 * b.val + 3) : (outsAt0 m c k hk).2.1 (ix2 0 j) = gathered m c b j := by
  subst h
  rfl

theorem gathered_0 (j : Fin 1024) : gathered m c 0 j = part (u m c) (H m c) 0 j := by
  generalize hn : (⟨3, by rw [show cfg0.N = 16 from N_0]; omega⟩ : Fin cfg0.N) = n
  have hnv : n.val = 3 := by rw [← hn]
  have e := congrFun (outs1_first m c n (by omega) (by omega)) (ix2 0 j)
  rw [gathered_at n.val n.isLt 0 j hnv] at e
  refine e.trans ((pay7_block n (by omega) j).trans ?_)
  rw [show blk n = 0 from Fin.ext (by show n.val / 4 = 0; omega)]

/-- Inside a block of rows the gathered row stays. -/
theorem idle (k : ℕ) (hk : k < cfg0.N) (h : ¬ k % 4 = 3) (h0 : ¬ k = 0) : (outsAt0 m c k hk).2.1 = (outsAt0 m c (k - 1) (by omega)).2.1 :=
  outs1_idle m c ⟨k, hk⟩ h h0

theorem gathered_succ (b : Fin 3) (j : Fin 1024) : gathered m c b.succ j = gathered m c b.castSucc j + part (u m c) (H m c) b.succ j := by
  have hv : b.succ.val = b.val + 1 := rfl
  have hb : 4 * b.succ.val + 3 < cfg0.N := by rw [show cfg0.N = 16 from N_0]; omega
  generalize hn : (⟨4 * b.succ.val + 3, hb⟩ : Fin cfg0.N) = n
  have hnv : n.val = 4 * b.val + 7 := by rw [← hn]; show 4 * (b.val + 1) + 3 = _; omega
  have e := congrFun (outs1_step m c n (by omega) (by omega)) (ix2 0 j)
  rw [gathered_at n.val n.isLt b.succ j (by omega)] at e
  refine e.trans ((QKernelIdeal.Value.pay3_apply _ _ j).trans (congrArg₂ (· + ·) ?_ ?_))
  · rw [idle _ _ (by omega) (by omega), idle _ _ (by omega) (by omega), idle _ _ (by omega) (by omega)]
    exact gathered_at _ _ b.castSucc j (by show n.val - 1 - 1 - 1 - 1 = 4 * b.val + 3; omega)
  · refine (pay7_block n (by omega) j).trans ?_
    rw [show blk n = b.succ from Fin.ext (by show n.val / 4 = b.val + 1; omega)]

theorem final_dnw : (dats m 0 c).arrAt 6 cfg0.N = dnwRow (u m c) (H m c) := by
  refine (dats m 0 c).arrAt_eq_of_covers 6 _ (by decide +kernel) fun n hn y => ?_
  have h7 := flush6 n hn
  blk_simp
  rw [after0_6, row_eq y]
  generalize y 1 = y1
  refine Eq.trans (b := dnwRow (u m c) (H m c) (ix2 0 y1)) ?_ ?_
  · refine (gathered_at n.val n.isLt 3 y1 h7).trans ?_
    exact dnw_last (gathered m c) y1 (gathered_0 y1) fun b => gathered_succ b y1
  · generalize dnwRow (u m c) (H m c) = Y
    blk_point [idx n]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host line after the kernel flattens the norm weight's gradient. -/
theorem tail_dnw : Pipeline.afterTail₀ cfgs (dats m) 0 (V0 m) [hostOps1] c main_v10 = dnw (u m c) (H m c) := by
  have e : left m c (Proc.devRef .tc (Pipeline.arrRef spec0 6)) = dnwRow (u m c) (H m c) :=
    (Pipeline.withArrays_arr spec0 winFacts0.arr_inj c (V0 m c) (fun w => (dats m 0 c).arrAt w cfg0.N) 6).trans final_dnw
  show StableHlo.after hostOps1 (left m c) (Proc.devRef .tc main_v10) = _
  generalize left m c = W' at e
  after_results_simp
  rw [show W' (Proc.devRef .tc main_v9_1) = _ from e]
  funext j
  idx_vars j
  pointwise
  rfl

/-- The kernel ends with the two. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v9_0) = dh (u m c) (H m c) (NW m c) (R m c)
      ∧ r.2.mem ((c.tc : Thread nD τ).loc main_v10) = dnw (u m c) (H m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (Gen.unchanged m g) (Gen.run_main m g)) fun r hr c =>
    ⟨((hr.2 c).1 5).trans final_dh, ((hr.2 c).2 main_v10 (Pipeline.mem_restRefs_of main_v10 rfl (by decide))).trans tail_dnw, hr.1 c⟩

end Cert.UpKernelIdeal.Value

namespace Cert.UpRefIdeal.Value
open Cert.UpRefIdeal Cert.UpRefIdeal.Read Cert.Norm Cert.Proj Cert.UpKernelIdeal.Value

variable (x0 : S4096x5632.Idx → EReal) (x1 : S1024x5632.Idx → EReal) (x2 : S4096x1024.Idx → EReal) (x3 : S1024.Idx → EReal) (x4 : S4096x1024.Idx → EReal)

theorem v6_apply (t : Fin 4096) : val_main_v6 (F := Ideal) x2 (ix2 t 0) = meansq fun j => x2 (ix2 t j) := by
  unfold meansq
  pointwise [val_main_v6, val_main_v5, val_main_v4, val_main_v3, val_main_v2, val_main_v1, val_main_v0, val_main_cst, val_main_cst_0, val_main_cst_1]

theorem v7_apply (t : Fin 4096) : val_main_v7 (F := Ideal) x2 (ix2 t 0) = scale fun j => x2 (ix2 t j) := by
  unfold scale
  rw [← v6_apply]
  pointwise [val_main_v7]

theorem v17_apply (t : Fin 4096) (j : Fin 1024) : val_main_v17 (F := Ideal) x0 x1 (ix2 t j) = U x0 x1 t j := by
  unfold U
  pointwise [val_main_v17]

theorem v23_apply (j : Fin 1024) : val_main_v23 (F := Ideal) x0 x1 x2 (ix1 j) = dnw (U x0 x1) x2 (ix1 j) := by
  pointwise [val_main_v23, val_main_v20, val_main_v19, val_main_v18, val_main_v12, val_main_v11, val_main_cst_3, val_main_cst_4]
  refine (Fin.sum_univ_one _).trans (Finset.sum_congr rfl fun t _ => ?_)
  rw [v7_apply, v17_apply, mul_comm]
  rfl

theorem v34_apply (t : Fin 4096) (j : Fin 1024) : val_main_v34 (F := Ideal) x0 x1 x2 x3 (ix2 t j)
    = factor (fun j => x2 (ix2 t j)) (fun j => x3 (ix1 j)) (U x0 x1 t) := by
  unfold factor
  rw [← v6_apply, ← v7_apply]
  simp only [← v17_apply]
  pointwise [val_main_v34, val_main_v33, val_main_v32, val_main_v31, val_main_v30, val_main_v26, val_main_v25, val_main_v24, val_main_v22, val_main_v21, val_main_v13,
    val_main_v10, val_main_v9, val_main_v8, val_main_cst_2, val_main_cst_5, val_main_cst_6, val_main_cst_7]
  exact Fin.sum_univ_one _

theorem v38_apply (t : Fin 4096) (j : Fin 1024) : val_main_v38 (F := Ideal) x0 x1 x2 x3 x4 (ix2 t j)
    = dinR (fun j => x2 (ix2 t j)) (fun j => x3 (ix1 j)) (U x0 x1 t) (x4 (ix2 t j)) j := by
  unfold dinR
  rw [← v34_apply x0 x1 x2 x3 t j, ← v7_apply, ← v17_apply]
  pointwise [val_main_v38, val_main_v37, val_main_v36, val_main_v35, val_main_v29, val_main_v28, val_main_v27, val_main_v22, val_main_v21, val_main_v13]

/-- Arguments that are real numbers where the precondition asks it. -/
structure Args (x0 : S4096x5632.Idx → EReal) (x1 : S1024x5632.Idx → EReal) (x2 : S4096x1024.Idx → EReal) (x3 : S1024.Idx → EReal) : Prop where
  d : ∃ f : S4096x5632.Idx → ℝ, x0 = fun i => (f i : EReal)
  w : ∃ f : S1024x5632.Idx → ℝ, x1 = fun i => (f i : EReal)
  h : ∃ f : S4096x1024.Idx → ℝ, x2 = fun i => (f i : EReal)
  nw : ∃ f : S1024.Idx → ℝ, x3 = fun i => (f i : EReal)

variable {x0 x1 x2 x3 x4}

theorem Args.u (A : Args x0 x1 x2 x3) : ∃ f : Fin 4096 → Fin 1024 → ℝ, U x0 x1 = fun t j => (f t j : EReal) := by
  obtain ⟨d, rfl⟩ := A.d
  obtain ⟨w, rfl⟩ := A.w
  exact sum_real ⟨fun t _ q => d (ix2 t q), rfl⟩ ⟨fun _ j q => w (ix2 j q), rfl⟩

/-- The reference ends with the two. -/
theorem reference_run (m : (ℓ : Loc nD τ sig) → Buf (Elt Ideal) ℓ) (g : Dev nD → PrngReg) (A : ∀ c : Dev nD, Args (m ((c.tc : Thread nD τ).loc main_arg0))
      (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v38) = dh (U (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
      ∧ r.2.mem ((c.tc : Thread nD τ).loc main_v23) = dnw (U (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Value.run m g) fun r hr c => by
    obtain ⟨h1, h2, h3⟩ := hr c
    refine ⟨h1.trans ?_, h2.trans ?_, h3⟩
    · rw [Read.val_main_v38_eq]
      funext i
      idx_vars i
      exact (v38_apply _ _ _ _ _ _ _).trans (dh_eq _ (A c).u (A c).h (A c).nw _ _)
    · rw [Read.val_main_v23_eq]
      funext i
      idx_vars i
      exact v23_apply _ _ _ _

end Cert.UpRefIdeal.Value

namespace Cert.Pre_up_finite

instance facts : Facts where
  bcast_S_S4096x5632 := by decide
  bcast_S_S1024x5632 := by decide
  bcast_S_S4096x1024 := by decide
  bcast_S_S1024 := by decide

end Cert.Pre_up_finite

namespace Cert.Up
open Cert.UpKernelIdeal Cert.UpRefIdeal.Value

/-- The reference runs and leaves its arguments; it has no semaphores. -/
theorem reference_frame : Cert.quiescent_UpRefIdeal := fun m g _ =>
  θ_run_mono (Cert.UpRefIdeal.Value.run (F := Ideal) m g) fun r hr => ⟨fun c => (hr c).2.2, sem_eq_zero_of_no_sems (by decide) r.2⟩

/-- Arguments of finite size are arrays of real numbers. -/
theorem args (m : (ℓ : Loc nD τ sig) → Buf (Elt Ideal) ℓ) (hpre : Cert.Pre_UpKernelIdeal_up_finite m) (c : Dev nD) :
    Args (m ((c.tc : Thread nD τ).loc main_arg0)) (m ((c.tc : Thread nD τ).loc main_arg1)) (m ((c.tc : Thread nD τ).loc main_arg2))
      (m ((c.tc : Thread nD τ).loc main_arg3)) := by
  obtain ⟨h1, h2, h3, h4⟩ := hpre c
  exact ⟨Reals.exists_reals fun i => Reals.ofBits_inf ▸ congrFun h1 i, Reals.exists_reals fun i => Reals.ofBits_inf ▸ congrFun h2 i,
    Reals.exists_reals fun i => Reals.ofBits_inf ▸ congrFun h3 i, Reals.exists_reals fun i => Reals.ofBits_inf ▸ congrFun h4 i⟩

/-- The kernel computes the feed-forward's first projection's gradient at the stream and at the norm's weight. -/
theorem algebraic : Cert.algebraic_UpKernelIdeal_UpRefIdeal_pre_up_finite := by
  intro m g m' g' hpre hagree
  refine ⟨_, _, UpKernelIdeal.Value.kernel_run m g, θ_run_mono (UpRefIdeal.Value.reference_run m' g' fun c => ?_) fun r hr c => ?_⟩
  · rw [(hagree c).1, (hagree c).2.1, (hagree c).2.2.1, (hagree c).2.2.2.1]
    exact args m hpre c
  · obtain ⟨h1, h2, h3⟩ := hr c
    rw [(hagree c).1, (hagree c).2.1, (hagree c).2.2.1, (hagree c).2.2.2.1, (hagree c).2.2.2.2] at h1
    rw [(hagree c).1, (hagree c).2.1, (hagree c).2.2.1] at h2
    exact ⟨h1, h2, h3⟩

end Cert.Up
end
-- ==== Proof.In.lean ====
/- The state-space layer's input projection's gradient at its normalised input: the kernel's arrays, the reference's, and the two claims. -/
module

public import proofs.«01_k».proof.Proof.Q
public import proofs.«01_k».proof.Proof.Proj
public import proofs.«01_k».proof.Proof.Gen.InKernelIdeal.Frame
public import proofs.«01_k».proof.Proof.Gen.InRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InKernelIdeal.Value
open Cert.InKernelIdeal Cert.InKernelIdeal.Gen Cert.Norm Cert.Proj

theorem pay2_apply (a : S1024x1024.Idx → EReal) (d : S1024x1792.Idx → EReal) (w : S1792x1024.Idx → EReal) (r j : Fin 1024) :
    k0_pay2 (F := Ideal) a d w (ix2 r j) = a (ix2 r j) + ∑ q : Fin 1792, d (ix2 r q) * w (ix2 q j) := by
  pointwise [k0_pay2]

theorem pay1_apply (r j : Fin 1024) : k0_pay1 (F := Ideal) (ix2 r j) = 0 := by
  pointwise [k0_pay1]

variable (m : (ℓ : Loc nD τ sig) → Buf (Elt Ideal) ℓ) (c : Dev nD)

theorem ltN (n : Fin cfg0.N) : n.val < 12 := lt_of_lt_of_eq n.isLt N_0

/-- The accumulated product after a point. -/
abbrev acc (n : Fin cfg0.N) : S1024x1024.Idx → EReal := (outsAt0 m c n.val n.isLt).2.2

theorem acc_A (n : Fin cfg0.N) (h : n.val % 3 = 0) : acc m c n = k0_pay2 (F := Ideal) (k0_pay1 (F := Ideal)) (iblk m c 0 n) (iblk m c 1 n) := by
  unfold acc
  rw [outsAt0_A m c n h (by omega)]
  frame_out

theorem acc_step (n : Fin cfg0.N) (h : ¬ n.val % 3 = 0) :
    acc m c n = k0_pay2 (F := Ideal) (outsAt0 m c (n.val - 1) (by omega)).2.2 (iblk m c 0 n) (iblk m c 1 n) := by
  unfold acc
  by_cases h1 : n.val % 3 = 2
  · by_cases h2 : n.val < 3
    · rw [outsAt0_C m c n h h1 h2 (by omega)]
      frame_out
      rw [read_unread_whole]
    · rw [outsAt0_D m c n h h1 h2 (by omega)]
      frame_out
      rw [read_unread_whole]
  · rw [outsAt0_B m c n h h1]
    frame_out
    rw [read_unread_whole]

theorem outs0 (n : Fin cfg0.N) (h : n.val % 3 = 2) :
    (outsAt0 m c n.val n.isLt).1 = k0_pay6 (F := Ideal) (acc m c n) (iblk m c 2 n) (iblk m c 3 n) (iblk m c 4 n) := by
  rw [acc_step m c n (by omega)]
  by_cases h2 : n.val < 3
  · rw [outsAt0_C m c n (by omega) h h2 (by omega)]
    frame_out
    rw [read_unread_whole]
  · rw [outsAt0_D m c n (by omega) h h2 (by omega)]
    frame_out
    rw [read_unread_whole]

theorem outs1_idle (n : Fin cfg0.N) (h : ¬ n.val % 3 = 2) (h0 : ¬ n.val = 0) :
    (outsAt0 m c n.val n.isLt).2.1 = (outsAt0 m c (n.val - 1) (by omega)).2.1 := by
  by_cases ha : n.val % 3 = 0
  · rw [outsAt0_A m c n ha h]
    obtain ⟨n, hn⟩ := n
    cases n with
    | zero => exact absurd rfl h0
    | succ n => rfl
  · rw [outsAt0_B m c n ha h]
    obtain ⟨n, hn⟩ := n
    cases n with
    | zero => exact absurd rfl h0
    | succ n => rfl

theorem outs1_first (n : Fin cfg0.N) (h : n.val % 3 = 2) (h2 : n.val < 3) :
    (outsAt0 m c n.val n.isLt).2.1 = k0_pay7 (F := Ideal) (acc m c n) (iblk m c 2 n) := by
  rw [acc_step m c n (by omega), outsAt0_C m c n (by omega) h h2 (by omega)]
  frame_out
  rw [read_unread_whole]

theorem outs1_step (n : Fin cfg0.N) (h : n.val % 3 = 2) (h2 : ¬ n.val < 3) :
    (outsAt0 m c n.val n.isLt).2.1 = k0_pay3 (F := Ideal) (k0_pay7 (F := Ideal) (acc m c n) (iblk m c 2 n)) (outsAt0 m c (n.val - 1) (by omega)).2.1 := by
  rw [acc_step m c n (by omega), outsAt0_D m c n (by omega) h h2 (by omega)]
  frame_out
  rw [read_unread_whole]

theorem idx : ∀ t : Fin cfg0.N, win0_0.index t = ![t.val / 3, t.val % 3] ∧ win0_1.index t = ![t.val % 3, 0] ∧ win0_2.index t = ![t.val / 3, 0]
    ∧ win0_3.index t = ![0, 0] ∧ win0_4.index t = ![t.val / 3, 0] ∧ win0_5.index t = ![t.val / 3, 0] ∧ win0_6.index t = ![0, 0] :=
  (by decide +kernel : ∀ t : Fin grid0.N, _)

/-- The block of rows of a point. -/
def blk (n : Fin cfg0.N) : Fin 4 := ⟨n.val / 3, by have := ltN n; omega⟩

/-- The arguments. -/
abbrev DY : S4096x5152.Idx → EReal := m ((c.tc : Thread nD τ).loc main_arg0)
abbrev W : S1024x5152.Idx → EReal := m ((c.tc : Thread nD τ).loc main_arg1)
abbrev H : S4096x1024.Idx → EReal := m ((c.tc : Thread nD τ).loc main_arg2)
abbrev NW : S1024.Idx → EReal := m ((c.tc : Thread nD τ).loc main_arg3)
abbrev R : S4096x1024.Idx → EReal := m ((c.tc : Thread nD τ).loc main_arg4)

/-- The gradient's columns and the transposed weight's rows filled up with zeros. -/
def wide (d : S4096x5152.Idx → EReal) : S4096x5376.Idx → EReal :=
  truncf (F := Ideal) .bf16 (pad S4096x5376 ![0, 0] ![0, 224] ![0, 0] d (sitofp (F := Ideal) .f32 (constantI S_ 32 0#32)) pads_S4096x5152_S4096x5376_000_02240 h_S_) bitsLt_bf16_f32
def tall (w : S1024x5152.Idx → EReal) : S5376x1024.Idx → EReal :=
  truncf (F := Ideal) .bf16 (pad S5376x1024 ![0, 0] ![224, 0] ![0, 0] (transpose S5152x1024 [1, 0] w transposes_S1024x5152_S5152x1024_1_0)
    (sitofp (F := Ideal) .f32 (constantI S_ 32 0#32)) pads_S5152x1024_S5376x1024_02240_000 h_S_) bitsLt_bf16_f32

theorem wide_in (d : S4096x5152.Idx → EReal) (t : Fin 4096) (p : Fin 5152) : wide d (ix2 t ⟨p.val, by omega⟩) = d (ix2 t p) := by
  pointwise [wide]
theorem wide_out (d : S4096x5152.Idx → EReal) (t : Fin 4096) (p : Fin 224) : wide d (ix2 t ⟨5152 + p.val, by omega⟩) = 0 := by
  pointwise [wide]
  show (((0#32 : BitVec 32).toInt : ℝ) : EReal) = 0
  simp
theorem tall_in (w : S1024x5152.Idx → EReal) (p : Fin 5152) (j : Fin 1024) : tall w (ix2 ⟨p.val, by omega⟩ j) = w (ix2 j p) := by
  pointwise [tall]

/-- The two blocks a point multiplies. -/
abbrev blkD (n : Fin cfg0.N) : S1024x1792.Idx → EReal := iblk m c 0 n
abbrev blkW (n : Fin cfg0.N) : S1792x1024.Idx → EReal := iblk m c 1 n

variable {m c}

theorem iblk_d (n : Fin cfg0.N) (k : Fin 3) (hk : n.val % 3 = k.val) (r : Fin 1024) (q : Fin 1792) :
    blkD m c n (ix2 r q) = wide (DY m c) (ix2 (row (blk n) r) ⟨k.val * 1792 + q.val, by omega⟩) := by
  have hV : V m c (Pipeline.arrRef spec0 0) = wide (DY m c) := by
    unfold V
    after_results_simp <;> rfl
  rw [← hV]
  unfold blkD
  have h0 := (idx n).1
  rw [hk] at h0
  blk_point [iblk, h0, row, blk]

theorem iblk_w (n : Fin cfg0.N) (k : Fin 3) (hk : n.val % 3 = k.val) (q : Fin 1792) (j : Fin 1024) :
    blkW m c n (ix2 q j) = tall (W m c) (ix2 ⟨k.val * 1792 + q.val, by omega⟩ j) := by
  have hV : V m c (Pipeline.arrRef spec0 1) = tall (W m c) := by
    unfold V
    after_results_simp <;> rfl
  rw [← hV]
  unfold blkW
  have h0 := (idx n).2.1
  rw [hk] at h0
  blk_point [iblk, h0]

/-- The filled columns add nothing. -/
theorem sum_wide (d : S4096x5152.Idx → EReal) (w : S1024x5152.Idx → EReal) (t : Fin 4096) (j : Fin 1024) :
    ∑ p : Fin 5376, wide d (ix2 t p) * tall w (ix2 p j) = ∑ p : Fin 5152, d (ix2 t p) * w (ix2 j p) := by
  refine (Fin.sum_univ_add (a := 5152) (b := 224) fun p => wide d (ix2 t p) * tall w (ix2 p j)).trans ?_
  refine (congrArg₂ (· + ·) (Finset.sum_congr rfl fun p _ => ?_) (Finset.sum_eq_zero fun p _ => ?_)).trans (add_zero _)
  · exact congrArg₂ (· * ·) (wide_in d t p) (tall_in w p j)
  · exact (congrArg (· * _) (wide_out d t p)).trans (zero_mul _)

theorem iblk_h (n : Fin cfg0.N) (r j : Fin 1024) : iblk m c 2 n (ix2 r j : S1024x1024.Idx) = H m c (ix2 (row (blk n) r) j) := by
  blk_point [iblk, V, idx n, row, blk]

theorem iblk_nw (n : Fin cfg0.N) (j : Fin 1024) : iblk m c 3 n (ix2 0 j : S1x1024.Idx) = NW m c (ix1 j) := by
  have hV : V m c (Pipeline.arrRef spec0 3) = shapeCast S1x1024 (NW m c) shapeCasts_S1024_S1x1024 := by
    unfold V
    after_results_simp <;> rfl
  refine Eq.trans (b := V m c (Pipeline.arrRef spec0 3) (ix2 0 j : S1x1024.Idx)) ?_ ?_
  · blk_point [iblk, idx n]
  · rw [hV]
    pointwise

theorem iblk_r (n : Fin cfg0.N) (r j : Fin 1024) : iblk m c 4 n (ix2 r j : S1024x1024.Idx) = R m c (ix2 (row (blk n) r) j) := by
  blk_point [iblk, V, idx n, row, blk]

/-- The gradient at the projection's input. -/
def U (d : S4096x5152.Idx → EReal) (w : S1024x5152.Idx → EReal) (t : Fin 4096) (j : Fin 1024) : EReal := ∑ q : Fin 5152, d (ix2 t q) * w (ix2 j q)

variable (m c) in
abbrev u : Fin 4096 → Fin 1024 → EReal := U (DY m c) (W m c)

/-- What a point adds to the accumulated product. -/
def term (m : (ℓ : Loc nD τ sig) → Buf (Elt Ideal) ℓ) (c : Dev nD) (n : Fin cfg0.N) (r j : Fin 1024) : EReal :=
  ∑ q : Fin 1792, blkD m c n (ix2 r q) * blkW m c n (ix2 q j)

theorem acc_apply (n : Fin cfg0.N) (h : n.val % 3 = 2) (r j : Fin 1024) : acc m c n (ix2 r j) = u m c (row (blk n) r) j := by
  have e := Pipeline.eq_sum_fin_of_reset_step_apply_of_flush (N := cfg0.N) (M := EReal) (ι := S1024x1024.Idx) (fun n h => (outsAt0 m c n h).2.2) 3 (fun _ => 0)
    (fun n i => term m c n (i 0) (i 1))
    (fun n h0 i => by
      idx_vars i
      refine (congrFun (acc_A m c n h0) _).trans ((pay2_apply _ _ _ _ _).trans ?_)
      rw [pay1_apply]
      rfl)
    (fun n h0 i => by
      idx_vars i
      exact (congrFun (acc_step m c n h0) _).trans (pay2_apply _ _ _ _ _))
    n h (ix2 r j)
  refine e.trans ?_
  rw [zero_add]
  have hs : ∀ s : Fin 3, 3 * (n.val / 3) + s.val < cfg0.N := fun s => by
    have := ltN n
    exact lt_of_lt_of_eq (by omega) N_0.symm
  have hb : ∀ s : Fin 3, blk ⟨3 * (n.val / 3) + s.val, hs s⟩ = blk n := fun s => Fin.ext (by show (3 * (n.val / 3) + s.val) / 3 = n.val / 3; omega)
  have hm : ∀ s : Fin 3, (3 * (n.val / 3) + s.val) % 3 = s.val := fun s => by omega
  refine Eq.trans ?_ (sum_wide (DY m c) (W m c) (row (blk n) r) j)
  refine Eq.trans ?_ (Fin.sum_mul_add_fin 3 1792 (fun p => wide (DY m c) (ix2 (row (blk n) r) p) * tall (W m c) (ix2 p j)) rfl)
  refine Finset.sum_congr rfl fun s _ => Finset.sum_congr rfl fun q _ => congrArg₂ (· * ·) ?_ ?_
  · refine (iblk_d _ s (hm s) r q).trans ?_
    rw [hb s]
  · exact iblk_w _ s (hm s) q j

theorem pay7_block (n : Fin cfg0.N) (h : n.val % 3 = 2) (j : Fin 1024) : k0_pay7 (F := Ideal) (acc m c n) (iblk m c 2 n) (ix2 0 j)
    = part (u m c) (H m c) (blk n) j := by
  refine (QKernelIdeal.Value.pay7_apply (acc m c n) (iblk m c 2 n) j).trans ?_
  simp only [iblk_h, acc_apply n h]
  rfl

theorem flush5 : ∀ t : Fin cfg0.N, win0_5.flush t = true → t.val % 3 = 2 := (by decide +kernel : ∀ t : Fin grid0.N, _)
theorem flush6 : ∀ t : Fin cfg0.N, win0_6.flush t = true → t.val = 11 := (by decide +kernel : ∀ t : Fin grid0.N, _)

theorem final_dh : (dats m 0 c).arrAt 5 cfg0.N = dh (u m c) (H m c) (NW m c) (R m c) := by
  refine (dats m 0 c).arrAt_eq_of_covers 5 _ (by decide +kernel) fun n hn y => ?_
  have h1 := flush5 n hn
  blk_simp
  rw [after0_5, outs0 m c n h1]
  idx_vars y
  refine Eq.trans (b := dh (u m c) (H m c) (NW m c) (R m c) (ix2 (row (blk n) y0) y1)) ?_ ?_
  · refine (QKernelIdeal.Value.pay6_apply (acc m c n) (iblk m c 2 n) (iblk m c 3 n) (iblk m c 4 n) y0 y1).trans ?_
    simp only [iblk_h, iblk_nw, iblk_r, acc_apply n h1]
    rfl
  · generalize dh (u m c) (H m c) (NW m c) (R m c) = Y
    blk_point [idx n, row, blk]

/-- The norm weight's gradient as gathered after a block of rows. -/
def gathered (m : (ℓ : Loc nD τ sig) → Buf (Elt Ideal) ℓ) (c : Dev nD) (b : Fin 4) (j : Fin 1024) : EReal :=
  (outsAt0 m c (3 * b.val + 2) (by rw [show cfg0.N = 12 from N_0]; omega)).2.1 (ix2 0 j)

theorem gathered_at (k : ℕ) (hk : k < cfg0.N) (b : Fin 4) (j : Fin 1024) (h : k = 3 * b.val + 2) : (outsAt0 m c k hk).2.1 (ix2 0 j) = gathered m c b j := by
  subst h
  rfl

theorem gathered_0 (j : Fin 1024) : gathered m c 0 j = part (u m c) (H m c) 0 j := by
  generalize hn : (⟨2, by rw [show cfg0.N = 12 from N_0]; omega⟩ : Fin cfg0.N) = n
  have hnv : n.val = 2 := by rw [← hn]
  have e := congrFun (outs1_first m c n (by omega) (by omega)) (ix2 0 j)
  rw [gathered_at n.val n.isLt 0 j hnv] at e
  refine e.trans ((pay7_block n (by omega) j).trans ?_)
  rw [show blk n = 0 from Fin.ext (by show n.val / 3 = 0; omega)]

/-- Inside a block of rows the gathered row stays. -/
theorem idle (k : ℕ) (hk : k < cfg0.N) (h : ¬ k % 3 = 2) (h0 : ¬ k = 0) : (outsAt0 m c k hk).2.1 = (outsAt0 m c (k - 1) (by omega)).2.1 :=
  outs1_idle m c ⟨k, hk⟩ h h0

theorem gathered_succ (b : Fin 3) (j : Fin 1024) : gathered m c b.succ j = gathered m c b.castSucc j + part (u m c) (H m c) b.succ j := by
  have hv : b.succ.val = b.val + 1 := rfl
  have hb : 3 * b.succ.val + 2 < cfg0.N := by rw [show cfg0.N = 12 from N_0]; omega
  generalize hn : (⟨3 * b.succ.val + 2, hb⟩ : Fin cfg0.N) = n
  have hnv : n.val = 3 * b.val + 5 := by rw [← hn]; show 3 * (b.val + 1) + 2 = _; omega
  have e := congrFun (outs1_step m c n (by omega) (by omega)) (ix2 0 j)
  rw [gathered_at n.val n.isLt b.succ j (by omega)] at e
  refine e.trans ((QKernelIdeal.Value.pay3_apply _ _ j).trans (congrArg₂ (· + ·) ?_ ?_))
  · rw [idle _ _ (by omega) (by omega), idle _ _ (by omega) (by omega)]
    exact gathered_at _ _ b.castSucc j (by show n.val - 1 - 1 - 1 = 3 * b.val + 2; omega)
  · refine (pay7_block n (by omega) j).trans ?_
    rw [show blk n = b.succ from Fin.ext (by show n.val / 3 = b.val + 1; omega)]

theorem final_dnw : (dats m 0 c).arrAt 6 cfg0.N = dnwRow (u m c) (H m c) := by
  refine (dats m 0 c).arrAt_eq_of_covers 6 _ (by decide +kernel) fun n hn y => ?_
  have h7 := flush6 n hn
  blk_simp
  rw [after0_6, row_eq y]
  generalize y 1 = y1
  refine Eq.trans (b := dnwRow (u m c) (H m c) (ix2 0 y1)) ?_ ?_
  · refine (gathered_at n.val n.isLt 3 y1 h7).trans ?_
    exact dnw_last (gathered m c) y1 (gathered_0 y1) fun b => gathered_succ b y1
  · generalize dnwRow (u m c) (H m c) = Y
    blk_point [idx n]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

/-- The host line after the kernel flattens the norm weight's gradient. -/
theorem tail_dnw : Pipeline.afterTail₀ cfgs (dats m) 0 (V0 m) [hostOps1] c main_v7 = dnw (u m c) (H m c) := by
  have e : left m c (Proc.devRef .tc (Pipeline.arrRef spec0 6)) = dnwRow (u m c) (H m c) :=
    (Pipeline.withArrays_arr spec0 winFacts0.arr_inj c (V0 m c) (fun w => (dats m 0 c).arrAt w cfg0.N) 6).trans final_dnw
  show StableHlo.after hostOps1 (left m c) (Proc.devRef .tc main_v7) = _
  generalize left m c = W' at e
  after_results_simp
  rw [show W' (Proc.devRef .tc main_v6_1) = _ from e]
  funext j
  idx_vars j
  pointwise
  rfl

/-- The kernel ends with the two. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6_0) = dh (u m c) (H m c) (NW m c) (R m c)
      ∧ r.2.mem ((c.tc : Thread nD τ).loc main_v7) = dnw (u m c) (H m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (Gen.unchanged m g) (Gen.run_main m g)) fun r hr c =>
    ⟨((hr.2 c).1 5).trans final_dh, ((hr.2 c).2 main_v7 (Pipeline.mem_restRefs_of main_v7 rfl (by decide))).trans tail_dnw, hr.1 c⟩

end Cert.InKernelIdeal.Value

namespace Cert.InRefIdeal.Value
open Cert.InRefIdeal Cert.InRefIdeal.Read Cert.Norm Cert.Proj Cert.InKernelIdeal.Value

variable (x0 : S4096x5152.Idx → EReal) (x1 : S1024x5152.Idx → EReal) (x2 : S4096x1024.Idx → EReal) (x3 : S1024.Idx → EReal) (x4 : S4096x1024.Idx → EReal)

theorem v6_apply (t : Fin 4096) : val_main_v6 (F := Ideal) x2 (ix2 t 0) = meansq fun j => x2 (ix2 t j) := by
  unfold meansq
  pointwise [val_main_v6, val_main_v5, val_main_v4, val_main_v3, val_main_v2, val_main_v1, val_main_v0, val_main_cst, val_main_cst_0, val_main_cst_1]

theorem v7_apply (t : Fin 4096) : val_main_v7 (F := Ideal) x2 (ix2 t 0) = scale fun j => x2 (ix2 t j) := by
  unfold scale
  rw [← v6_apply]
  pointwise [val_main_v7]

theorem v17_apply (t : Fin 4096) (j : Fin 1024) : val_main_v17 (F := Ideal) x0 x1 (ix2 t j) = U x0 x1 t j := by
  unfold U
  pointwise [val_main_v17]

theorem v23_apply (j : Fin 1024) : val_main_v23 (F := Ideal) x0 x1 x2 (ix1 j) = dnw (U x0 x1) x2 (ix1 j) := by
  pointwise [val_main_v23, val_main_v20, val_main_v19, val_main_v18, val_main_v12, val_main_v11, val_main_cst_3, val_main_cst_4]
  refine (Fin.sum_univ_one _).trans (Finset.sum_congr rfl fun t _ => ?_)
  rw [v7_apply, v17_apply, mul_comm]
  rfl

theorem v34_apply (t : Fin 4096) (j : Fin 1024) : val_main_v34 (F := Ideal) x0 x1 x2 x3 (ix2 t j)
    = factor (fun j => x2 (ix2 t j)) (fun j => x3 (ix1 j)) (U x0 x1 t) := by
  unfold factor
  rw [← v6_apply, ← v7_apply]
  simp only [← v17_apply]
  pointwise [val_main_v34, val_main_v33, val_main_v32, val_main_v31, val_main_v30, val_main_v26, val_main_v25, val_main_v24, val_main_v22, val_main_v21, val_main_v13,
    val_main_v10, val_main_v9, val_main_v8, val_main_cst_2, val_main_cst_5, val_main_cst_6, val_main_cst_7]
  exact Fin.sum_univ_one _

theorem v38_apply (t : Fin 4096) (j : Fin 1024) : val_main_v38 (F := Ideal) x0 x1 x2 x3 x4 (ix2 t j)
    = dinR (fun j => x2 (ix2 t j)) (fun j => x3 (ix1 j)) (U x0 x1 t) (x4 (ix2 t j)) j := by
  unfold dinR
  rw [← v34_apply x0 x1 x2 x3 t j, ← v7_apply, ← v17_apply]
  pointwise [val_main_v38, val_main_v37, val_main_v36, val_main_v35, val_main_v29, val_main_v28, val_main_v27, val_main_v22, val_main_v21, val_main_v13]

/-- Arguments that are real numbers where the precondition asks it. -/
structure Args (x0 : S4096x5152.Idx → EReal) (x1 : S1024x5152.Idx → EReal) (x2 : S4096x1024.Idx → EReal) (x3 : S1024.Idx → EReal) : Prop where
  d : ∃ f : S4096x5152.Idx → ℝ, x0 = fun i => (f i : EReal)
  w : ∃ f : S1024x5152.Idx → ℝ, x1 = fun i => (f i : EReal)
  h : ∃ f : S4096x1024.Idx → ℝ, x2 = fun i => (f i : EReal)
  nw : ∃ f : S1024.Idx → ℝ, x3 = fun i => (f i : EReal)

variable {x0 x1 x2 x3 x4}

theorem Args.u (A : Args x0 x1 x2 x3) : ∃ f : Fin 4096 → Fin 1024 → ℝ, U x0 x1 = fun t j => (f t j : EReal) := by
  obtain ⟨d, rfl⟩ := A.d
  obtain ⟨w, rfl⟩ := A.w
  exact sum_real ⟨fun t _ q => d (ix2 t q), rfl⟩ ⟨fun _ j q => w (ix2 j q), rfl⟩

/-- The reference ends with the two. -/
theorem reference_run (m : (ℓ : Loc nD τ sig) → Buf (Elt Ideal) ℓ) (g : Dev nD → PrngReg) (A : ∀ c : Dev nD, Args (m ((c.tc : Thread nD τ).loc main_arg0))
      (m ((c.tc : Thread nD τ).loc main_arg1)) (m ((c.tc : Thread nD τ).loc main_arg2)) (m ((c.tc : Thread nD τ).loc main_arg3))) :
    θ_run (defs (F := Ideal)) (onTc (τ := τ) (main (F := Ideal))) ⟨m, fun _ => 0, g⟩ fun r => ∀ c : Dev nD,
      r.2.mem ((c.tc : Thread nD τ).loc main_v38) = dh (U (m ((c.tc : Thread nD τ).loc main_arg0)) (m ((c.tc : Thread nD τ).loc main_arg1)))
        (m ((c.tc : Thread nD τ).loc main_arg2)) (m ((c.tc : Thread nD τ).loc main_arg3)) (m ((c.tc : Thread nD τ).loc main_arg4))
      ∧ r.2.mem ((c.tc : Thread nD τ).loc main_v23) = dnw (U (m ((c.tc : Thread nD τ).loc main_arg0)) (m ((c.tc : Thread nD τ).loc main_arg1)))
        (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Value.run m g) fun r hr c => by
    obtain ⟨h1, h2, h3⟩ := hr c
    refine ⟨h1.trans ?_, h2.trans ?_, h3⟩
    · rw [Read.val_main_v38_eq]
      funext i
      idx_vars i
      exact (v38_apply _ _ _ _ _ _ _).trans (dh_eq _ (A c).u (A c).h (A c).nw _ _)
    · rw [Read.val_main_v23_eq]
      funext i
      idx_vars i
      exact v23_apply _ _ _ _

end Cert.InRefIdeal.Value

namespace Cert.Pre_in_finite

instance facts : Facts where
  bcast_S_S4096x5152 := by decide
  bcast_S_S1024x5152 := by decide
  bcast_S_S4096x1024 := by decide
  bcast_S_S1024 := by decide

end Cert.Pre_in_finite

namespace Cert.In
open Cert.InKernelIdeal Cert.InRefIdeal.Value

/-- The reference runs and leaves its arguments; it has no semaphores. -/
theorem reference_frame : Cert.quiescent_InRefIdeal := fun m g _ =>
  θ_run_mono (Cert.InRefIdeal.Value.run (F := Ideal) m g) fun r hr => ⟨fun c => (hr c).2.2, sem_eq_zero_of_no_sems (by decide) r.2⟩

/-- Arguments of finite size are arrays of real numbers. -/
theorem args (m : (ℓ : Loc nD τ sig) → Buf (Elt Ideal) ℓ) (hpre : Cert.Pre_InKernelIdeal_in_finite m) (c : Dev nD) :
    Args (m ((c.tc : Thread nD τ).loc main_arg0)) (m ((c.tc : Thread nD τ).loc main_arg1)) (m ((c.tc : Thread nD τ).loc main_arg2))
      (m ((c.tc : Thread nD τ).loc main_arg3)) := by
  obtain ⟨h1, h2, h3, h4⟩ := hpre c
  exact ⟨Reals.exists_reals fun i => Reals.ofBits_inf ▸ congrFun h1 i, Reals.exists_reals fun i => Reals.ofBits_inf ▸ congrFun h2 i,
    Reals.exists_reals fun i => Reals.ofBits_inf ▸ congrFun h3 i, Reals.exists_reals fun i => Reals.ofBits_inf ▸ congrFun h4 i⟩

/-- The kernel computes the state-space layer's input projection's gradient at the stream and at the norm's weight. -/
theorem algebraic : Cert.algebraic_InKernelIdeal_InRefIdeal_pre_in_finite := by
  intro m g m' g' hpre hagree
  refine ⟨_, _, InKernelIdeal.Value.kernel_run m g, θ_run_mono (InRefIdeal.Value.reference_run m' g' fun c => ?_) fun r hr c => ?_⟩
  · rw [(hagree c).1, (hagree c).2.1, (hagree c).2.2.1, (hagree c).2.2.2.1]
    exact args m hpre c
  · obtain ⟨h1, h2, h3⟩ := hr c
    rw [(hagree c).1, (hagree c).2.1, (hagree c).2.2.1, (hagree c).2.2.2.1, (hagree c).2.2.2.2] at h1
    rw [(hagree c).1, (hagree c).2.1, (hagree c).2.2.1] at h2
    exact ⟨h1, h2, h3⟩

end Cert.In
end
-- ==== Proof.Weight.lean ====
/- A weight's gradient from the normalised rows: the sum over the sequence, taken in four blocks of rows. -/
module

public import proofs.«01_k».proof.Proof.Proj

@[expose] public section

noncomputable section

open Idealize.ShloMosaic

namespace Cert.Weight
open Cert.Norm Cert.Proj

/-- A normalised row. -/
def normed (h : Fin 1024 → EReal) (w : Fin 1024 → EReal) (i : Fin 1024) : EReal := h i * scale h * w i

/-- One column of the gradient against the normalised rows. -/
def grad (d : Fin 4096 → EReal) (h : Seq.Idx → EReal) (nw : Line.Idx → EReal) (i : Fin 1024) : EReal :=
  ∑ t : Fin 4096, d t * normed (fun j => h (ix2 t j)) (fun j => nw (ix1 j)) i

/-- One block of rows of it. -/
def share (d : Fin 4096 → EReal) (h : Seq.Idx → EReal) (nw : Line.Idx → EReal) (i : Fin 1024) (b : Fin 4) : EReal :=
  ∑ r : Fin 1024, d (row b r) * normed (fun j => h (ix2 (row b r) j)) (fun j => nw (ix1 j)) i

theorem sum_share (d : Fin 4096 → EReal) (h : Seq.Idx → EReal) (nw : Line.Idx → EReal) (i : Fin 1024) : ∑ b : Fin 4, share d h nw i b = grad d h nw i :=
  Fin.sum_mul_add_fin 4 1024 (fun t => d t * normed (fun j => h (ix2 t j)) (fun j => nw (ix1 j)) i) rfl

end Cert.Weight
end
-- ==== Proof.Qw.lean ====
/- The query projection's gradient at its weight: the kernel's arrays, the reference's, and the two claims. -/
module

public import proofs.«01_k».proof.Proof.Weight
public import proofs.«01_k».proof.Proof.Gen.QwKernelIdeal.Frame
public import proofs.«01_k».proof.Proof.Gen.QwRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.QwKernelIdeal.Value
open Cert.QwKernelIdeal Cert.QwKernelIdeal.Gen Cert.Norm Cert.Proj Cert.Weight

theorem pay2_apply (h : S1024x1024.Idx → EReal) (w : S1x1024.Idx → EReal) (a : S1024x1024.Idx → EReal) (d : S1024x1024.Idx → EReal) (i : Fin 1024) (q : Fin 1024) :
    k0_pay2 (F := Ideal) h w a d (ix2 i q) = a (ix2 i q) + ∑ r : Fin 1024, d (ix2 r q) * normed (fun j => h (ix2 r j)) (fun j => w (ix2 0 j)) i := by
  unfold normed scale meansq
  pointwise [k0_pay2]
  refine congrArg (_ + ·) (Finset.sum_congr rfl fun r _ => mul_comm _ _)

theorem pay1_apply (i : Fin 1024) (q : Fin 1024) : k0_pay1 (F := Ideal) (ix2 i q) = 0 := by
  pointwise [k0_pay1]

theorem pay3_apply (a : S1024x1024.Idx → EReal) (i : Fin 1024) (q : Fin 1024) : k0_pay3 (F := Ideal) a (ix2 i q) = a (ix2 i q) := by
  pointwise [k0_pay3]

variable (m : (ℓ : Loc nD τ sig) → Buf (Elt Ideal) ℓ) (c : Dev nD)

theorem ltN (n : Fin cfg0.N) : n.val < 4 := lt_of_lt_of_eq n.isLt N_0

/-- The blocks a point reads, and the accumulated product after it. -/
abbrev blkH (n : Fin cfg0.N) : S1024x1024.Idx → EReal := iblk m c 0 n
abbrev blkW (n : Fin cfg0.N) : S1x1024.Idx → EReal := iblk m c 2 n
abbrev blkD (n : Fin cfg0.N) : S1024x1024.Idx → EReal := iblk m c 1 n
abbrev acc (n : Fin cfg0.N) : S1024x1024.Idx → EReal := (outsAt0 m c n.val n.isLt).2

theorem acc_A (n : Fin cfg0.N) (h : n.val % 4 = 0) : acc m c n = k0_pay2 (F := Ideal) (blkH m c n) (blkW m c n) (k0_pay1 (F := Ideal)) (blkD m c n) := by
  unfold acc
  rw [outsAt0_A m c n h (by omega)]
  frame_out

theorem acc_step (n : Fin cfg0.N) (h : ¬ n.val % 4 = 0) :
    acc m c n = k0_pay2 (F := Ideal) (blkH m c n) (blkW m c n) (outsAt0 m c (n.val - 1) (by omega)).2 (blkD m c n) := by
  unfold acc
  by_cases h1 : n.val % 4 = 3
  · rw [outsAt0_C m c n h h1]
    frame_out
    rw [read_unread_whole]
  · rw [outsAt0_B m c n h h1]
    frame_out
    rw [read_unread_whole]

theorem outs0 (n : Fin cfg0.N) (h : n.val % 4 = 3) : (outsAt0 m c n.val n.isLt).1 = k0_pay3 (F := Ideal) (acc m c n) := by
  rw [acc_step m c n (by omega), outsAt0_C m c n (by omega) h]
  frame_out
  rw [read_unread_whole]

theorem idx : ∀ t : Fin cfg0.N, win0_0.index t = ![t.val % 4, 0] ∧ win0_1.index t = ![t.val % 4, t.val / 4] ∧ win0_2.index t = ![0, 0]
    ∧ win0_3.index t = ![0, t.val / 4] :=
  (by decide +kernel : ∀ t : Fin grid0.N, _)

/-- The arguments. -/
abbrev DY : S4096x1024.Idx → EReal := m ((c.tc : Thread nD τ).loc main_arg0)
abbrev H : S4096x1024.Idx → EReal := m ((c.tc : Thread nD τ).loc main_arg1)
abbrev NW : S1024.Idx → EReal := m ((c.tc : Thread nD τ).loc main_arg2)

/-- A column of the gradient at the product. -/
def col (p : Fin 1024) (t : Fin 4096) : EReal := DY m c (ix2 t p)

variable {m c}

theorem iblk_h (n : Fin cfg0.N) (k : Fin 4) (hk : n.val % 4 = k.val) (r j : Fin 1024) : blkH m c n (ix2 r j) = H m c (ix2 (row k r) j) := by
  have h0 := (idx n).1
  rw [hk] at h0
  unfold blkH
  blk_point [iblk, V, h0, row]

theorem iblk_nw (n : Fin cfg0.N) (j : Fin 1024) : blkW m c n (ix2 0 j) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · unfold blkW
    blk_point [iblk, idx n]
  · rw [hV]
    pointwise

theorem iblk_d (n : Fin cfg0.N) (k : Fin 4) (hk : n.val % 4 = k.val) (r q : Fin 1024) :
    blkD m c n (ix2 r q) = col m c ⟨n.val / 4 * 1024 + q.val, by have := ltN n; omega⟩ (row k r) := by
  have hV : V m c (Pipeline.arrRef spec0 1) = truncf (F := Ideal) .bf16 (DY m c) bitsLt_bf16_f32 := by
    unfold V
    after_results_simp <;> rfl
  refine Eq.trans (b := V m c (Pipeline.arrRef spec0 1) (ix2 (row k r) ⟨n.val / 4 * 1024 + q.val, by have := ltN n; omega⟩ : S4096x1024.Idx)) ?_ ?_
  · have h0 := (idx n).2.1
    rw [hk] at h0
    unfold blkD
    blk_point [iblk, h0, row]
  · rw [hV]
    unfold col
    pointwise

/-- The result as the kernel writes it. -/
def wide_grad (m : (ℓ : Loc nD τ sig) → Buf (Elt Ideal) ℓ) (c : Dev nD) : S1024x1024.Idx → EReal :=
  fun x => grad (col m c (x 1)) (H m c) (NW m c) (x 0)

/-- The block of columns of a point. -/
def place (n : Fin cfg0.N) (q : Fin 1024) : Fin 1024 := ⟨n.val / 4 * 1024 + q.val, by have := ltN n; omega⟩

theorem acc_apply (n : Fin cfg0.N) (h : n.val % 4 = 3) (i : Fin 1024) (q : Fin 1024) : acc m c n (ix2 i q) = grad (col m c (place n q)) (H m c) (NW m c) i := by
  have e := Pipeline.eq_sum_fin_of_reset_step_apply_of_flush (N := cfg0.N) (M := EReal) (ι := S1024x1024.Idx) (fun n h => (outsAt0 m c n h).2) 4 (fun _ => 0)
    (fun n x => share (col m c (place n (x 1))) (H m c) (NW m c) (x 0) ⟨n.val % 4, by omega⟩)
    (fun n h0 x => by
      idx_vars x
      refine (congrFun (acc_A m c n h0) _).trans ((pay2_apply _ _ _ _ _ _).trans ?_)
      rw [pay1_apply]
      refine congrArg (0 + ·) (Finset.sum_congr rfl fun r _ => ?_)
      simp only [iblk_h n ⟨n.val % 4, by omega⟩ rfl, iblk_nw, iblk_d n ⟨n.val % 4, by omega⟩ rfl]
      rfl)
    (fun n h0 x => by
      idx_vars x
      refine (congrFun (acc_step m c n h0) _).trans ((pay2_apply _ _ _ _ _ _).trans ?_)
      refine congrArg (_ + ·) (Finset.sum_congr rfl fun r _ => ?_)
      simp only [iblk_h n ⟨n.val % 4, by omega⟩ rfl, iblk_nw, iblk_d n ⟨n.val % 4, by omega⟩ rfl]
      rfl)
    n h (ix2 i q)
  refine e.trans ?_
  rw [zero_add]
  refine Eq.trans (Finset.sum_congr rfl fun s _ => ?_) (sum_share (col m c (place n q)) (H m c) (NW m c) i)
  have hb : 4 * (n.val / 4) + s.val < cfg0.N := by
    have := ltN n
    exact lt_of_lt_of_eq (by omega) N_0.symm
  refine congrArg₂ (fun p b => share (col m c p) (H m c) (NW m c) i b) (Fin.ext ?_) (Fin.ext ?_)
  · show (4 * (n.val / 4) + s.val) / 4 * 1024 + q.val = n.val / 4 * 1024 + q.val
    omega
  · show (4 * (n.val / 4) + s.val) % 4 = s.val
    omega

theorem flush3 : ∀ t : Fin cfg0.N, win0_3.flush t = true → t.val % 4 = 3 := (by decide +kernel : ∀ t : Fin grid0.N, _)

theorem final : (dats m 0 c).arrAt 3 cfg0.N = wide_grad m c := by
  refine (dats m 0 c).arrAt_eq_of_covers 3 _ (by decide +kernel) fun n hn y => ?_
  have h1 := flush3 n hn
  blk_simp
  rw [after0_3, outs0 m c n h1]
  idx_vars y
  refine Eq.trans (b := wide_grad m c (ix2 y0 (place n y1))) ?_ ?_
  · refine (pay3_apply _ _ _).trans ((acc_apply n h1 _ _).trans ?_)
    rfl
  · generalize wide_grad m c = Y
    blk_point [idx n, place]

/-- The kernel ends with the gradient. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = (fun x => grad (fun t => (m ((c.tc : Thread nD τ).loc main_arg0) : S4096x1024.Idx → EReal) (ix2 t (x 1)))
        (m ((c.tc : Thread nD τ).loc main_arg1)) (m ((c.tc : Thread nD τ).loc main_arg2)) (x 0) : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 3).trans final, hr.1 c⟩

end Cert.QwKernelIdeal.Value

namespace Cert.QwRefIdeal.Value
open Cert.QwRefIdeal Cert.QwRefIdeal.Read Cert.Norm Cert.Weight

variable (x0 : S4096x1024.Idx → EReal) (x1 : S4096x1024.Idx → EReal) (x2 : S1024.Idx → EReal)

theorem v13_apply (t : Fin 4096) (i : Fin 1024) : val_main_v13 (F := Ideal) x1 x2 (ix2 t i) = normed (fun j => x1 (ix2 t j)) (fun j => x2 (ix1 j)) i := by
  unfold normed scale meansq
  pointwise [val_main_v13, val_main_v12, val_main_v11, val_main_v10, val_main_v9, val_main_v8, val_main_v7, val_main_v6, val_main_v5, val_main_v4, val_main_v3, val_main_v2,
    val_main_v1, val_main_cst, val_main_cst_0, val_main_cst_1, val_main_cst_2]

theorem v17_apply (i : Fin 1024) (p : Fin 1024) : val_main_v17 (F := Ideal) x0 x1 x2 (ix2 i p) = grad (fun t => x0 (ix2 t p)) x1 x2 i := by
  unfold grad
  simp only [← v13_apply]
  pointwise [val_main_v17, val_main_v16, val_main_v15]

/-- The reference ends with the gradient. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = (fun x => grad (fun t => (m ((c.tc : Thread nD τ).loc main_arg0) : S4096x1024.Idx → EReal) (ix2 t (x 1)))
        (m ((c.tc : Thread nD τ).loc main_arg1)) (m ((c.tc : Thread nD τ).loc main_arg2)) (x 0) : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v17_eq]
    funext x
    idx_vars x
    exact v17_apply _ _ _ _ _

end Cert.QwRefIdeal.Value

namespace Cert.Qw
open Cert.QwKernelIdeal

/-- The reference runs and leaves its arguments; it has no semaphores. -/
theorem reference_frame : Cert.quiescent_QwRefIdeal := fun m g _ =>
  θ_run_mono (Cert.QwRefIdeal.Value.run (F := Ideal) m g) fun r hr => ⟨fun c => (hr c).2, sem_eq_zero_of_no_sems (by decide) r.2⟩

/-- The kernel computes the query projection's gradient at its weight. -/
theorem algebraic : Cert.algebraic_QwKernelIdeal_QwRefIdeal := by
  intro m g m' g' _ hagree
  refine ⟨_, QwKernelIdeal.Value.kernel_run m g, θ_run_mono (QwRefIdeal.Value.reference_run m' g') fun r hr c => ?_⟩
  obtain ⟨e0, e1, e2⟩ := hagree c
  obtain ⟨h1, h2⟩ := hr c
  rw [e0, e1, e2] at h1
  exact ⟨h1, h2⟩

end Cert.Qw
end
-- ==== Proof.Kvw.lean ====
/- The key and value projections' gradients at their weights: the kernel's arrays, the reference's, and the two claims. -/
module

public import proofs.«01_k».proof.Proof.Weight
public import proofs.«01_k».proof.Proof.Kv
public import proofs.«01_k».proof.Proof.Gen.KvwKernelIdeal.Frame
public import proofs.«01_k».proof.Proof.Gen.KvwRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.KvwKernelIdeal.Value
open Cert.KvwKernelIdeal Cert.KvwKernelIdeal.Gen Cert.Norm Cert.Proj Cert.Weight

theorem pay2_apply (h : S1024x1024.Idx → EReal) (w : S1x1024.Idx → EReal) (a : S1024x1024.Idx → EReal) (d : S1024x1024.Idx → EReal) (i : Fin 1024) (q : Fin 1024) :
    k0_pay2 (F := Ideal) h w a d (ix2 i q) = a (ix2 i q) + ∑ r : Fin 1024, d (ix2 r q) * normed (fun j => h (ix2 r j)) (fun j => w (ix2 0 j)) i := by
  unfold normed scale meansq
  pointwise [k0_pay2]
  refine congrArg (_ + ·) (Finset.sum_congr rfl fun r _ => mul_comm _ _)

theorem pay1_apply (i : Fin 1024) (q : Fin 1024) : k0_pay1 (F := Ideal) (ix2 i q) = 0 := by
  pointwise [k0_pay1]

theorem pay3_apply (a : S1024x1024.Idx → EReal) (i : Fin 1024) (q : Fin 1024) : k0_pay3 (F := Ideal) a (ix2 i q) = a (ix2 i q) := by
  pointwise [k0_pay3]

variable (m : (ℓ : Loc nD τ sig) → Buf (Elt Ideal) ℓ) (c : Dev nD)

theorem ltN (n : Fin cfg0.N) : n.val < 8 := lt_of_lt_of_eq n.isLt N_0

/-- The blocks a point reads, and the accumulated product after it. -/
abbrev blkH (n : Fin cfg0.N) : S1024x1024.Idx → EReal := iblk m c 0 n
abbrev blkW (n : Fin cfg0.N) : S1x1024.Idx → EReal := iblk m c 2 n
abbrev blkD (n : Fin cfg0.N) : S1024x1024.Idx → EReal := iblk m c 1 n
abbrev acc (n : Fin cfg0.N) : S1024x1024.Idx → EReal := (outsAt0 m c n.val n.isLt).2

theorem acc_A (n : Fin cfg0.N) (h : n.val % 4 = 0) : acc m c n = k0_pay2 (F := Ideal) (blkH m c n) (blkW m c n) (k0_pay1 (F := Ideal)) (blkD m c n) := by
  unfold acc
  rw [outsAt0_A m c n h (by omega)]
  frame_out

theorem acc_step (n : Fin cfg0.N) (h : ¬ n.val % 4 = 0) :
    acc m c n = k0_pay2 (F := Ideal) (blkH m c n) (blkW m c n) (outsAt0 m c (n.val - 1) (by omega)).2 (blkD m c n) := by
  unfold acc
  by_cases h1 : n.val % 4 = 3
  · rw [outsAt0_C m c n h h1]
    frame_out
    rw [read_unread_whole]
  · rw [outsAt0_B m c n h h1]
    frame_out
    rw [read_unread_whole]

theorem outs0 (n : Fin cfg0.N) (h : n.val % 4 = 3) : (outsAt0 m c n.val n.isLt).1 = k0_pay3 (F := Ideal) (acc m c n) := by
  rw [acc_step m c n (by omega), outsAt0_C m c n (by omega) h]
  frame_out
  rw [read_unread_whole]

theorem idx : ∀ t : Fin cfg0.N, win0_0.index t = ![t.val % 4, 0] ∧ win0_1.index t = ![t.val % 4, t.val / 4] ∧ win0_2.index t = ![0, 0]
    ∧ win0_3.index t = ![0, t.val / 4] :=
  (by decide +kernel : ∀ t : Fin grid0.N, _)

/-- The arguments. -/
abbrev DK : S4096x1024.Idx → EReal := m ((c.tc : Thread nD τ).loc main_arg0)
abbrev DV : S4096x1024.Idx → EReal := m ((c.tc : Thread nD τ).loc main_arg1)
abbrev H : S4096x1024.Idx → EReal := m ((c.tc : Thread nD τ).loc main_arg2)
abbrev NW : S1024.Idx → EReal := m ((c.tc : Thread nD τ).loc main_arg3)

/-- A column of the gradient at the product. -/
def col (p : Fin 2048) (t : Fin 4096) : EReal := KvKernelIdeal.Value.dkv (DK m c) (DV m c) (ix2 t p)

variable {m c}

theorem iblk_h (n : Fin cfg0.N) (k : Fin 4) (hk : n.val % 4 = k.val) (r j : Fin 1024) : blkH m c n (ix2 r j) = H m c (ix2 (row k r) j) := by
  have h0 := (idx n).1
  rw [hk] at h0
  unfold blkH
  blk_point [iblk, V, h0, row]

theorem iblk_nw (n : Fin cfg0.N) (j : Fin 1024) : blkW m c n (ix2 0 j) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · unfold blkW
    blk_point [iblk, idx n]
  · rw [hV]
    pointwise

theorem iblk_d (n : Fin cfg0.N) (k : Fin 4) (hk : n.val % 4 = k.val) (r q : Fin 1024) :
    blkD m c n (ix2 r q) = col m c ⟨n.val / 4 * 1024 + q.val, by have := ltN n; omega⟩ (row k r) := by
  have hV : V m c (Pipeline.arrRef spec0 1) = KvKernelIdeal.Value.dkv (DK m c) (DV m c) := by
    unfold V
    after_results_simp <;> rfl
  unfold col
  rw [← hV]
  have h0 := (idx n).2.1
  rw [hk] at h0
  unfold blkD
  blk_point [iblk, h0, row]

/-- The result as the kernel writes it. -/
def wide_grad (m : (ℓ : Loc nD τ sig) → Buf (Elt Ideal) ℓ) (c : Dev nD) : S1024x2048.Idx → EReal :=
  fun x => grad (col m c (x 1)) (H m c) (NW m c) (x 0)

/-- The block of columns of a point. -/
def place (n : Fin cfg0.N) (q : Fin 1024) : Fin 2048 := ⟨n.val / 4 * 1024 + q.val, by have := ltN n; omega⟩

theorem acc_apply (n : Fin cfg0.N) (h : n.val % 4 = 3) (i : Fin 1024) (q : Fin 1024) : acc m c n (ix2 i q) = grad (col m c (place n q)) (H m c) (NW m c) i := by
  have e := Pipeline.eq_sum_fin_of_reset_step_apply_of_flush (N := cfg0.N) (M := EReal) (ι := S1024x1024.Idx) (fun n h => (outsAt0 m c n h).2) 4 (fun _ => 0)
    (fun n x => share (col m c (place n (x 1))) (H m c) (NW m c) (x 0) ⟨n.val % 4, by omega⟩)
    (fun n h0 x => by
      idx_vars x
      refine (congrFun (acc_A m c n h0) _).trans ((pay2_apply _ _ _ _ _ _).trans ?_)
      rw [pay1_apply]
      refine congrArg (0 + ·) (Finset.sum_congr rfl fun r _ => ?_)
      simp only [iblk_h n ⟨n.val % 4, by omega⟩ rfl, iblk_nw, iblk_d n ⟨n.val % 4, by omega⟩ rfl]
      rfl)
    (fun n h0 x => by
      idx_vars x
      refine (congrFun (acc_step m c n h0) _).trans ((pay2_apply _ _ _ _ _ _).trans ?_)
      refine congrArg (_ + ·) (Finset.sum_congr rfl fun r _ => ?_)
      simp only [iblk_h n ⟨n.val % 4, by omega⟩ rfl, iblk_nw, iblk_d n ⟨n.val % 4, by omega⟩ rfl]
      rfl)
    n h (ix2 i q)
  refine e.trans ?_
  rw [zero_add]
  refine Eq.trans (Finset.sum_congr rfl fun s _ => ?_) (sum_share (col m c (place n q)) (H m c) (NW m c) i)
  have hb : 4 * (n.val / 4) + s.val < cfg0.N := by
    have := ltN n
    exact lt_of_lt_of_eq (by omega) N_0.symm
  refine congrArg₂ (fun p b => share (col m c p) (H m c) (NW m c) i b) (Fin.ext ?_) (Fin.ext ?_)
  · show (4 * (n.val / 4) + s.val) / 4 * 1024 + q.val = n.val / 4 * 1024 + q.val
    omega
  · show (4 * (n.val / 4) + s.val) % 4 = s.val
    omega

theorem flush3 : ∀ t : Fin cfg0.N, win0_3.flush t = true → t.val % 4 = 3 := (by decide +kernel : ∀ t : Fin grid0.N, _)

theorem final : (dats m 0 c).arrAt 3 cfg0.N = wide_grad m c := by
  refine (dats m 0 c).arrAt_eq_of_covers 3 _ (by decide +kernel) fun n hn y => ?_
  have h1 := flush3 n hn
  blk_simp
  rw [after0_3, outs0 m c n h1]
  idx_vars y
  refine Eq.trans (b := wide_grad m c (ix2 y0 (place n y1))) ?_ ?_
  · refine (pay3_apply _ _ _).trans ((acc_apply n h1 _ _).trans ?_)
    rfl
  · generalize wide_grad m c = Y
    blk_point [idx n, place]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

theorem left_final : left m c (Proc.devRef .tc (Pipeline.arrRef spec0 3)) = wide_grad m c :=
  (Pipeline.withArrays_arr spec0 winFacts0.arr_inj c (V0 m c) (fun w => (dats m 0 c).arrAt w cfg0.N) 3).trans final

/-- The host lines after the kernel part the two gradients. -/
theorem tail_k : Pipeline.afterTail₀ cfgs (dats m) 0 (V0 m) [hostOps1] c main_v4 = (fun x => grad (fun t => DK m c (ix2 t (x 1))) (H m c) (NW m c) (x 0) : S1024x1024.Idx → EReal) := by
  have e := left_final (m := m) (c := c)
  show StableHlo.after hostOps1 (left m c) (Proc.devRef .tc main_v4) = _
  generalize left m c = W' at e
  after_results_simp
  rw [show W' (Proc.devRef .tc main_v3) = _ from e]
  funext x
  idx_vars x
  refine Eq.trans (b := wide_grad m c (ix2 x0 ⟨x1.val, by omega⟩)) ?_ ?_
  · generalize wide_grad m c = Y
    pointwise
  · exact congrArg (fun d => grad d (H m c) (NW m c) x0) (funext fun t => KvKernelIdeal.Value.dkv_k (DK m c) (DV m c) t x1)

/-- The second. -/
theorem tail_v : Pipeline.afterTail₀ cfgs (dats m) 0 (V0 m) [hostOps1] c main_v5 = (fun x => grad (fun t => DV m c (ix2 t (x 1))) (H m c) (NW m c) (x 0) : S1024x1024.Idx → EReal) := by
  have e := left_final (m := m) (c := c)
  show StableHlo.after hostOps1 (left m c) (Proc.devRef .tc main_v5) = _
  generalize left m c = W' at e
  after_results_simp
  rw [show W' (Proc.devRef .tc main_v3) = _ from e]
  funext x
  idx_vars x
  refine Eq.trans (b := wide_grad m c (ix2 x0 ⟨1024 + x1.val, by omega⟩)) ?_ ?_
  · generalize wide_grad m c = Y
    pointwise
  · exact congrArg (fun d => grad d (H m c) (NW m c) x0) (funext fun t => KvKernelIdeal.Value.dkv_v (DK m c) (DV m c) t x1)

/-- The kernel ends with the two gradients. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = (fun x => grad (fun t => (m ((c.tc : Thread nD τ).loc main_arg0) : S4096x1024.Idx → EReal) (ix2 t (x 1)))
        (m ((c.tc : Thread nD τ).loc main_arg2)) (m ((c.tc : Thread nD τ).loc main_arg3)) (x 0) : S1024x1024.Idx → EReal)
      ∧ r.2.mem ((c.tc : Thread nD τ).loc main_v5) = (fun x => grad (fun t => (m ((c.tc : Thread nD τ).loc main_arg1) : S4096x1024.Idx → EReal) (ix2 t (x 1)))
        (m ((c.tc : Thread nD τ).loc main_arg2)) (m ((c.tc : Thread nD τ).loc main_arg3)) (x 0) : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (θ_run_and (Gen.unchanged m g) (Gen.run_main m g)) fun r hr c =>
    ⟨((hr.2 c).2 main_v4 (Pipeline.mem_restRefs_of main_v4 rfl (by decide))).trans tail_k,
      ((hr.2 c).2 main_v5 (Pipeline.mem_restRefs_of main_v5 rfl (by decide))).trans tail_v, hr.1 c⟩

end Cert.KvwKernelIdeal.Value

namespace Cert.KvwRefIdeal.Value
open Cert.KvwRefIdeal Cert.KvwRefIdeal.Read Cert.Norm Cert.Weight

variable (x0 x1 x2 : S4096x1024.Idx → EReal) (x3 : S1024.Idx → EReal)

theorem v13_apply (t : Fin 4096) (i : Fin 1024) : val_main_v13 (F := Ideal) x2 x3 (ix2 t i) = normed (fun j => x2 (ix2 t j)) (fun j => x3 (ix1 j)) i := by
  unfold normed scale meansq
  pointwise [val_main_v13, val_main_v12, val_main_v11, val_main_v10, val_main_v9, val_main_v8, val_main_v7, val_main_v6, val_main_v5, val_main_v4, val_main_v3, val_main_v2,
    val_main_v1, val_main_cst, val_main_cst_0, val_main_cst_1, val_main_cst_2]

theorem v20_apply (i p : Fin 1024) : val_main_v20 (F := Ideal) x0 x2 x3 (ix2 i p) = grad (fun t => x0 (ix2 t p)) x2 x3 i := by
  unfold grad
  simp only [← v13_apply]
  pointwise [val_main_v20, val_main_v19, val_main_v18]

theorem v21_apply (i p : Fin 1024) : val_main_v21 (F := Ideal) x1 x2 x3 (ix2 i p) = grad (fun t => x1 (ix2 t p)) x2 x3 i := by
  unfold grad
  simp only [← v13_apply]
  pointwise [val_main_v21, val_main_v17, val_main_v16]

/-- The reference ends with the two gradients. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v20) = (fun x => grad (fun t => (m ((c.tc : Thread nD τ).loc main_arg0) : S4096x1024.Idx → EReal) (ix2 t (x 1)))
        (m ((c.tc : Thread nD τ).loc main_arg2)) (m ((c.tc : Thread nD τ).loc main_arg3)) (x 0) : S1024x1024.Idx → EReal)
      ∧ r.2.mem ((c.tc : Thread nD τ).loc main_v21) = (fun x => grad (fun t => (m ((c.tc : Thread nD τ).loc main_arg1) : S4096x1024.Idx → EReal) (ix2 t (x 1)))
        (m ((c.tc : Thread nD τ).loc main_arg2)) (m ((c.tc : Thread nD τ).loc main_arg3)) (x 0) : S1024x1024.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  θ_run_mono (Value.run m g) fun r hr c => by
    obtain ⟨h1, h2, h3⟩ := hr c
    refine ⟨h1.trans ?_, h2.trans ?_, h3⟩
    · rw [Read.val_main_v20_eq]
      funext x
      idx_vars x
      exact v20_apply _ _ _ _ _
    · rw [Read.val_main_v21_eq]
      funext x
      idx_vars x
      exact v21_apply _ _ _ _ _

end Cert.KvwRefIdeal.Value

namespace Cert.Kvw
open Cert.KvwKernelIdeal

/-- The reference runs and leaves its arguments; it has no semaphores. -/
theorem reference_frame : Cert.quiescent_KvwRefIdeal := fun m g _ =>
  θ_run_mono (Cert.KvwRefIdeal.Value.run (F := Ideal) m g) fun r hr => ⟨fun c => (hr c).2.2, sem_eq_zero_of_no_sems (by decide) r.2⟩

/-- The kernel computes the key and value projections' gradients at their weights. -/
theorem algebraic : Cert.algebraic_KvwKernelIdeal_KvwRefIdeal := by
  intro m g m' g' _ hagree
  refine ⟨_, _, KvwKernelIdeal.Value.kernel_run m g, θ_run_mono (KvwRefIdeal.Value.reference_run m' g') fun r hr c => ?_⟩
  obtain ⟨e0, e1, e2, e3⟩ := hagree c
  obtain ⟨h1, h2, h3⟩ := hr c
  rw [e0, e2, e3] at h1
  rw [e1, e2, e3] at h2
  exact ⟨h1, h2, h3⟩

end Cert.Kvw
end
-- ==== Proof.Upw.lean ====
/- The feed-forward's first projection's gradient at its weight: the kernel's arrays, the reference's, and the two claims. -/
module

public import proofs.«01_k».proof.Proof.Weight
public import proofs.«01_k».proof.Proof.Up
public import proofs.«01_k».proof.Proof.Gen.UpwKernelIdeal.Frame
public import proofs.«01_k».proof.Proof.Gen.UpwRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UpwKernelIdeal.Value
open Cert.UpwKernelIdeal Cert.UpwKernelIdeal.Gen Cert.Norm Cert.Proj Cert.Weight

theorem pay2_apply (h : S1024x1024.Idx → EReal) (w : S1x1024.Idx → EReal) (a : S2816x1024.Idx → EReal) (d : S1x1024x2816.Idx → EReal) (i : Fin 1024) (q : Fin 2816) :
    k0_pay2 (F := Ideal) h w a d (ix2 q i) = a (ix2 q i) + ∑ r : Fin 1024, d (ix3 0 r q) * normed (fun j => h (ix2 r j)) (fun j => w (ix2 0 j)) i := by
  unfold normed scale meansq
  pointwise [k0_pay2]

theorem pay1_apply (i : Fin 1024) (q : Fin 2816) : k0_pay1 (F := Ideal) (ix2 q i) = 0 := by
  pointwise [k0_pay1]

theorem pay3_apply (a : S2816x1024.Idx → EReal) (i : Fin 1024) (q : Fin 2816) : k0_pay3 (F := Ideal) a (ix2 q i) = a (ix2 q i) := by
  pointwise [k0_pay3]

variable (m : (ℓ : Loc nD τ sig) → Buf (Elt Ideal) ℓ) (c : Dev nD)

theorem ltN (n : Fin cfg0.N) : n.val < 8 := lt_of_lt_of_eq n.isLt N_0

/-- The blocks a point reads, and the accumulated product after it. -/
abbrev blkH (n : Fin cfg0.N) : S1024x1024.Idx → EReal := iblk m c 1 n
abbrev blkW (n : Fin cfg0.N) : S1x1024.Idx → EReal := iblk m c 2 n
abbrev blkD (n : Fin cfg0.N) : S1x1024x2816.Idx → EReal := iblk m c 0 n
abbrev acc (n : Fin cfg0.N) : S2816x1024.Idx → EReal := (outsAt0 m c n.val n.isLt).2

theorem acc_A (n : Fin cfg0.N) (h : n.val % 4 = 0) : acc m c n = k0_pay2 (F := Ideal) (blkH m c n) (blkW m c n) (k0_pay1 (F := Ideal)) (blkD m c n) := by
  unfold acc
  rw [outsAt0_A m c n h (by omega)]
  frame_out

theorem acc_step (n : Fin cfg0.N) (h : ¬ n.val % 4 = 0) :
    acc m c n = k0_pay2 (F := Ideal) (blkH m c n) (blkW m c n) (outsAt0 m c (n.val - 1) (by omega)).2 (blkD m c n) := by
  unfold acc
  by_cases h1 : n.val % 4 = 3
  · rw [outsAt0_C m c n h h1]
    frame_out
    rw [read_unread_whole]
  · rw [outsAt0_B m c n h h1]
    frame_out
    rw [read_unread_whole]

theorem outs0 (n : Fin cfg0.N) (h : n.val % 4 = 3) : (outsAt0 m c n.val n.isLt).1 = k0_pay3 (F := Ideal) (acc m c n) := by
  rw [acc_step m c n (by omega), outsAt0_C m c n (by omega) h]
  frame_out
  rw [read_unread_whole]

theorem idx : ∀ t : Fin cfg0.N, win0_1.index t = ![t.val % 4, 0] ∧ win0_0.index t = ![t.val / 4, t.val % 4, 0] ∧ win0_2.index t = ![0, 0]
    ∧ win0_3.index t = ![t.val / 4, 0] :=
  (by decide +kernel : ∀ t : Fin grid0.N, _)

/-- The arguments. -/
abbrev DY : S4096x5632.Idx → EReal := m ((c.tc : Thread nD τ).loc main_arg0)
abbrev H : S4096x1024.Idx → EReal := m ((c.tc : Thread nD τ).loc main_arg1)
abbrev NW : S1024.Idx → EReal := m ((c.tc : Thread nD τ).loc main_arg2)

/-- A column of the gradient at the product. -/
def col (p : Fin 5632) (t : Fin 4096) : EReal := DY m c (ix2 t p)

variable {m c}

theorem iblk_h (n : Fin cfg0.N) (k : Fin 4) (hk : n.val % 4 = k.val) (r j : Fin 1024) : blkH m c n (ix2 r j) = H m c (ix2 (row k r) j) := by
  have h0 := (idx n).1
  rw [hk] at h0
  unfold blkH
  blk_point [iblk, V, h0, row]

theorem iblk_nw (n : Fin cfg0.N) (j : Fin 1024) : blkW m c n (ix2 0 j) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · unfold blkW
    blk_point [iblk, idx n]
  · rw [hV]
    pointwise

/-- A half's column is a column. -/
theorem stacked_half (d : S4096x5632.Idx → EReal) (t : Fin 4096) (b : Fin 2) (q : Fin 2816) :
    UpKernelIdeal.Value.stacked d (ix3 b t q) = d (ix2 t ⟨b.val * 2816 + q.val, by omega⟩) := by
  obtain ⟨b, hb⟩ := b
  by_cases h : b = 0
  · subst h
    refine (UpKernelIdeal.Value.stacked_0 d t q).trans (congrArg (fun p => d (ix2 t p)) (Fin.ext ?_))
    show q.val = 0 * 2816 + q.val
    omega
  · obtain rfl : b = 1 := by omega
    refine (UpKernelIdeal.Value.stacked_1 d t q).trans (congrArg (fun p => d (ix2 t p)) (Fin.ext ?_))
    show 2816 + q.val = 1 * 2816 + q.val
    omega

theorem iblk_d (n : Fin cfg0.N) (k : Fin 4) (hk : n.val % 4 = k.val) (r : Fin 1024) (q : Fin 2816) :
    blkD m c n (ix3 0 r q) = col m c ⟨n.val / 4 * 2816 + q.val, by have := ltN n; omega⟩ (row k r) := by
  have hV : V m c (Pipeline.arrRef spec0 0) = UpKernelIdeal.Value.stacked (DY m c) := by
    unfold V
    after_results_simp <;> rfl
  refine Eq.trans ?_ (stacked_half (DY m c) (row k r) ⟨n.val / 4, by have := ltN n; omega⟩ q)
  rw [← hV]
  have h0 := (idx n).2.1
  rw [hk] at h0
  unfold blkD
  blk_point [iblk, h0, row]

/-- The result as the kernel writes it. -/
def wide_grad (m : (ℓ : Loc nD τ sig) → Buf (Elt Ideal) ℓ) (c : Dev nD) : S5632x1024.Idx → EReal :=
  fun x => grad (col m c (x 0)) (H m c) (NW m c) (x 1)

/-- The block of columns of a point. -/
def place (n : Fin cfg0.N) (q : Fin 2816) : Fin 5632 := ⟨n.val / 4 * 2816 + q.val, by have := ltN n; omega⟩

theorem acc_apply (n : Fin cfg0.N) (h : n.val % 4 = 3) (i : Fin 1024) (q : Fin 2816) : acc m c n (ix2 q i) = grad (col m c (place n q)) (H m c) (NW m c) i := by
  have e := Pipeline.eq_sum_fin_of_reset_step_apply_of_flush (N := cfg0.N) (M := EReal) (ι := S2816x1024.Idx) (fun n h => (outsAt0 m c n h).2) 4 (fun _ => 0)
    (fun n x => share (col m c (place n (x 0))) (H m c) (NW m c) (x 1) ⟨n.val % 4, by omega⟩)
    (fun n h0 x => by
      idx_vars x
      refine (congrFun (acc_A m c n h0) _).trans ((pay2_apply _ _ _ _ _ _).trans ?_)
      rw [pay1_apply]
      refine congrArg (0 + ·) (Finset.sum_congr rfl fun r _ => ?_)
      simp only [iblk_h n ⟨n.val % 4, by omega⟩ rfl, iblk_nw, iblk_d n ⟨n.val % 4, by omega⟩ rfl]
      rfl)
    (fun n h0 x => by
      idx_vars x
      refine (congrFun (acc_step m c n h0) _).trans ((pay2_apply _ _ _ _ _ _).trans ?_)
      refine congrArg (_ + ·) (Finset.sum_congr rfl fun r _ => ?_)
      simp only [iblk_h n ⟨n.val % 4, by omega⟩ rfl, iblk_nw, iblk_d n ⟨n.val % 4, by omega⟩ rfl]
      rfl)
    n h (ix2 q i)
  refine e.trans ?_
  rw [zero_add]
  refine Eq.trans (Finset.sum_congr rfl fun s _ => ?_) (sum_share (col m c (place n q)) (H m c) (NW m c) i)
  have hb : 4 * (n.val / 4) + s.val < cfg0.N := by
    have := ltN n
    exact lt_of_lt_of_eq (by omega) N_0.symm
  refine congrArg₂ (fun p b => share (col m c p) (H m c) (NW m c) i b) (Fin.ext ?_) (Fin.ext ?_)
  · show (4 * (n.val / 4) + s.val) / 4 * 2816 + q.val = n.val / 4 * 2816 + q.val
    omega
  · show (4 * (n.val / 4) + s.val) % 4 = s.val
    omega

theorem flush3 : ∀ t : Fin cfg0.N, win0_3.flush t = true → t.val % 4 = 3 := (by decide +kernel : ∀ t : Fin grid0.N, _)

theorem final : (dats m 0 c).arrAt 3 cfg0.N = wide_grad m c := by
  refine (dats m 0 c).arrAt_eq_of_covers 3 _ (by decide +kernel) fun n hn y => ?_
  have h1 := flush3 n hn
  blk_simp
  rw [after0_3, outs0 m c n h1]
  idx_vars y
  refine Eq.trans (b := wide_grad m c (ix2 (place n y0) y1)) ?_ ?_
  · refine (pay3_apply _ _ _).trans ((acc_apply n h1 _ _).trans ?_)
    rfl
  · generalize wide_grad m c = Y
    blk_point [idx n, place]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

theorem left_final : left m c (Proc.devRef .tc (Pipeline.arrRef spec0 3)) = wide_grad m c :=
  (Pipeline.withArrays_arr spec0 winFacts0.arr_inj c (V0 m c) (fun w => (dats m 0 c).arrAt w cfg0.N) 3).trans final

/-- The host line after the kernel turns the gradient. -/
theorem tail : Pipeline.afterTail₀ cfgs (dats m) 0 (V0 m) [hostOps1] c main_v8 = (fun x => grad (fun t => DY m c (ix2 t (x 1))) (H m c) (NW m c) (x 0) : S1024x5632.Idx → EReal) := by
  have e := left_final (m := m) (c := c)
  show StableHlo.after hostOps1 (left m c) (Proc.devRef .tc main_v8) = _
  generalize left m c = W' at e
  after_results_simp
  rw [show W' (Proc.devRef .tc main_v7) = _ from e]
  funext x
  idx_vars x
  pointwise
  rfl

/-- The kernel ends with the gradient. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v8) = (fun x => grad (fun t => (m ((c.tc : Thread nD τ).loc main_arg0) : S4096x5632.Idx → EReal) (ix2 t (x 1)))
        (m ((c.tc : Thread nD τ).loc main_arg1)) (m ((c.tc : Thread nD τ).loc main_arg2)) (x 0) : S1024x5632.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).2 main_v8 (Pipeline.mem_restRefs_of main_v8 rfl (by decide))).trans tail, hr.1 c⟩

end Cert.UpwKernelIdeal.Value

namespace Cert.UpwRefIdeal.Value
open Cert.UpwRefIdeal Cert.UpwRefIdeal.Read Cert.Norm Cert.Weight

variable (x0 : S4096x5632.Idx → EReal) (x1 : S4096x1024.Idx → EReal) (x2 : S1024.Idx → EReal)

theorem v13_apply (t : Fin 4096) (i : Fin 1024) : val_main_v13 (F := Ideal) x1 x2 (ix2 t i) = normed (fun j => x1 (ix2 t j)) (fun j => x2 (ix1 j)) i := by
  unfold normed scale meansq
  pointwise [val_main_v13, val_main_v12, val_main_v11, val_main_v10, val_main_v9, val_main_v8, val_main_v7, val_main_v6, val_main_v5, val_main_v4, val_main_v3, val_main_v2,
    val_main_v1, val_main_cst, val_main_cst_0, val_main_cst_1, val_main_cst_2]

theorem v17_apply (i : Fin 1024) (p : Fin 5632) : val_main_v17 (F := Ideal) x0 x1 x2 (ix2 i p) = grad (fun t => x0 (ix2 t p)) x1 x2 i := by
  unfold grad
  simp only [← v13_apply]
  pointwise [val_main_v17, val_main_v16, val_main_v15]

/-- The reference ends with the gradient. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = (fun x => grad (fun t => (m ((c.tc : Thread nD τ).loc main_arg0) : S4096x5632.Idx → EReal) (ix2 t (x 1)))
        (m ((c.tc : Thread nD τ).loc main_arg1)) (m ((c.tc : Thread nD τ).loc main_arg2)) (x 0) : S1024x5632.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v17_eq]
    funext x
    idx_vars x
    exact v17_apply _ _ _ _ _

end Cert.UpwRefIdeal.Value

namespace Cert.Upw
open Cert.UpwKernelIdeal

/-- The reference runs and leaves its arguments; it has no semaphores. -/
theorem reference_frame : Cert.quiescent_UpwRefIdeal := fun m g _ =>
  θ_run_mono (Cert.UpwRefIdeal.Value.run (F := Ideal) m g) fun r hr => ⟨fun c => (hr c).2, sem_eq_zero_of_no_sems (by decide) r.2⟩

/-- The kernel computes the feed-forward's first projection's gradient at its weight. -/
theorem algebraic : Cert.algebraic_UpwKernelIdeal_UpwRefIdeal := by
  intro m g m' g' _ hagree
  refine ⟨_, UpwKernelIdeal.Value.kernel_run m g, θ_run_mono (UpwRefIdeal.Value.reference_run m' g') fun r hr c => ?_⟩
  obtain ⟨e0, e1, e2⟩ := hagree c
  obtain ⟨h1, h2⟩ := hr c
  rw [e0, e1, e2] at h1
  exact ⟨h1, h2⟩

end Cert.Upw
end
-- ==== Proof.Inw.lean ====
/- The state-space layer's input projection's gradient at its weight: the kernel's arrays, the reference's, and the two claims. -/
module

public import proofs.«01_k».proof.Proof.Weight
public import proofs.«01_k».proof.Proof.In
public import proofs.«01_k».proof.Proof.Gen.InwKernelIdeal.Frame
public import proofs.«01_k».proof.Proof.Gen.InwRefIdeal.Read
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InwKernelIdeal.Value
open Cert.InwKernelIdeal Cert.InwKernelIdeal.Gen Cert.Norm Cert.Proj Cert.Weight

theorem pay2_apply (h : S1024x1024.Idx → EReal) (w : S1x1024.Idx → EReal) (a : S1792x1024.Idx → EReal) (d : S1024x1792.Idx → EReal) (i : Fin 1024) (q : Fin 1792) :
    k0_pay2 (F := Ideal) h w a d (ix2 q i) = a (ix2 q i) + ∑ r : Fin 1024, d (ix2 r q) * normed (fun j => h (ix2 r j)) (fun j => w (ix2 0 j)) i := by
  unfold normed scale meansq
  pointwise [k0_pay2]

theorem pay1_apply (i : Fin 1024) (q : Fin 1792) : k0_pay1 (F := Ideal) (ix2 q i) = 0 := by
  pointwise [k0_pay1]

theorem pay3_apply (a : S1792x1024.Idx → EReal) (i : Fin 1024) (q : Fin 1792) : k0_pay3 (F := Ideal) a (ix2 q i) = a (ix2 q i) := by
  pointwise [k0_pay3]

variable (m : (ℓ : Loc nD τ sig) → Buf (Elt Ideal) ℓ) (c : Dev nD)

theorem ltN (n : Fin cfg0.N) : n.val < 12 := lt_of_lt_of_eq n.isLt N_0

/-- The blocks a point reads, and the accumulated product after it. -/
abbrev blkH (n : Fin cfg0.N) : S1024x1024.Idx → EReal := iblk m c 1 n
abbrev blkW (n : Fin cfg0.N) : S1x1024.Idx → EReal := iblk m c 2 n
abbrev blkD (n : Fin cfg0.N) : S1024x1792.Idx → EReal := iblk m c 0 n
abbrev acc (n : Fin cfg0.N) : S1792x1024.Idx → EReal := (outsAt0 m c n.val n.isLt).2

theorem acc_A (n : Fin cfg0.N) (h : n.val % 4 = 0) : acc m c n = k0_pay2 (F := Ideal) (blkH m c n) (blkW m c n) (k0_pay1 (F := Ideal)) (blkD m c n) := by
  unfold acc
  rw [outsAt0_A m c n h (by omega)]
  frame_out

theorem acc_step (n : Fin cfg0.N) (h : ¬ n.val % 4 = 0) :
    acc m c n = k0_pay2 (F := Ideal) (blkH m c n) (blkW m c n) (outsAt0 m c (n.val - 1) (by omega)).2 (blkD m c n) := by
  unfold acc
  by_cases h1 : n.val % 4 = 3
  · rw [outsAt0_C m c n h h1]
    frame_out
    rw [read_unread_whole]
  · rw [outsAt0_B m c n h h1]
    frame_out
    rw [read_unread_whole]

theorem outs0 (n : Fin cfg0.N) (h : n.val % 4 = 3) : (outsAt0 m c n.val n.isLt).1 = k0_pay3 (F := Ideal) (acc m c n) := by
  rw [acc_step m c n (by omega), outsAt0_C m c n (by omega) h]
  frame_out
  rw [read_unread_whole]

theorem idx : ∀ t : Fin cfg0.N, win0_1.index t = ![t.val % 4, 0] ∧ win0_0.index t = ![t.val % 4, t.val / 4] ∧ win0_2.index t = ![0, 0]
    ∧ win0_3.index t = ![t.val / 4, 0] :=
  (by decide +kernel : ∀ t : Fin grid0.N, _)

/-- The arguments. -/
abbrev DY : S4096x5152.Idx → EReal := m ((c.tc : Thread nD τ).loc main_arg0)
abbrev H : S4096x1024.Idx → EReal := m ((c.tc : Thread nD τ).loc main_arg1)
abbrev NW : S1024.Idx → EReal := m ((c.tc : Thread nD τ).loc main_arg2)

/-- A column of the gradient at the product. -/
def col (p : Fin 5376) (t : Fin 4096) : EReal := InKernelIdeal.Value.wide (DY m c) (ix2 t p)

variable {m c}

theorem iblk_h (n : Fin cfg0.N) (k : Fin 4) (hk : n.val % 4 = k.val) (r j : Fin 1024) : blkH m c n (ix2 r j) = H m c (ix2 (row k r) j) := by
  have h0 := (idx n).1
  rw [hk] at h0
  unfold blkH
  blk_point [iblk, V, h0, row]

theorem iblk_nw (n : Fin cfg0.N) (j : Fin 1024) : blkW m c n (ix2 0 j) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · unfold blkW
    blk_point [iblk, idx n]
  · rw [hV]
    pointwise

theorem iblk_d (n : Fin cfg0.N) (k : Fin 4) (hk : n.val % 4 = k.val) (r : Fin 1024) (q : Fin 1792) :
    blkD m c n (ix2 r q) = col m c ⟨n.val / 4 * 1792 + q.val, by have := ltN n; omega⟩ (row k r) := by
  have hV : V m c (Pipeline.arrRef spec0 0) = InKernelIdeal.Value.wide (DY m c) := by
    unfold V
    after_results_simp <;> rfl
  unfold col
  rw [← hV]
  have h0 := (idx n).2.1
  rw [hk] at h0
  unfold blkD
  blk_point [iblk, h0, row]

/-- The result as the kernel writes it. -/
def wide_grad (m : (ℓ : Loc nD τ sig) → Buf (Elt Ideal) ℓ) (c : Dev nD) : S5376x1024.Idx → EReal :=
  fun x => grad (col m c (x 0)) (H m c) (NW m c) (x 1)

/-- The block of columns of a point. -/
def place (n : Fin cfg0.N) (q : Fin 1792) : Fin 5376 := ⟨n.val / 4 * 1792 + q.val, by have := ltN n; omega⟩

theorem acc_apply (n : Fin cfg0.N) (h : n.val % 4 = 3) (i : Fin 1024) (q : Fin 1792) : acc m c n (ix2 q i) = grad (col m c (place n q)) (H m c) (NW m c) i := by
  have e := Pipeline.eq_sum_fin_of_reset_step_apply_of_flush (N := cfg0.N) (M := EReal) (ι := S1792x1024.Idx) (fun n h => (outsAt0 m c n h).2) 4 (fun _ => 0)
    (fun n x => share (col m c (place n (x 0))) (H m c) (NW m c) (x 1) ⟨n.val % 4, by omega⟩)
    (fun n h0 x => by
      idx_vars x
      refine (congrFun (acc_A m c n h0) _).trans ((pay2_apply _ _ _ _ _ _).trans ?_)
      rw [pay1_apply]
      refine congrArg (0 + ·) (Finset.sum_congr rfl fun r _ => ?_)
      simp only [iblk_h n ⟨n.val % 4, by omega⟩ rfl, iblk_nw, iblk_d n ⟨n.val % 4, by omega⟩ rfl]
      rfl)
    (fun n h0 x => by
      idx_vars x
      refine (congrFun (acc_step m c n h0) _).trans ((pay2_apply _ _ _ _ _ _).trans ?_)
      refine congrArg (_ + ·) (Finset.sum_congr rfl fun r _ => ?_)
      simp only [iblk_h n ⟨n.val % 4, by omega⟩ rfl, iblk_nw, iblk_d n ⟨n.val % 4, by omega⟩ rfl]
      rfl)
    n h (ix2 q i)
  refine e.trans ?_
  rw [zero_add]
  refine Eq.trans (Finset.sum_congr rfl fun s _ => ?_) (sum_share (col m c (place n q)) (H m c) (NW m c) i)
  have hb : 4 * (n.val / 4) + s.val < cfg0.N := by
    have := ltN n
    exact lt_of_lt_of_eq (by omega) N_0.symm
  refine congrArg₂ (fun p b => share (col m c p) (H m c) (NW m c) i b) (Fin.ext ?_) (Fin.ext ?_)
  · show (4 * (n.val / 4) + s.val) / 4 * 1792 + q.val = n.val / 4 * 1792 + q.val
    omega
  · show (4 * (n.val / 4) + s.val) % 4 = s.val
    omega

theorem flush3 : ∀ t : Fin cfg0.N, win0_3.flush t = true → t.val % 4 = 3 := (by decide +kernel : ∀ t : Fin grid0.N, _)

theorem final : (dats m 0 c).arrAt 3 cfg0.N = wide_grad m c := by
  refine (dats m 0 c).arrAt_eq_of_covers 3 _ (by decide +kernel) fun n hn y => ?_
  have h1 := flush3 n hn
  blk_simp
  rw [after0_3, outs0 m c n h1]
  idx_vars y
  refine Eq.trans (b := wide_grad m c (ix2 (place n y0) y1)) ?_ ?_
  · refine (pay3_apply _ _ _).trans ((acc_apply n h1 _ _).trans ?_)
    rfl
  · generalize wide_grad m c = Y
    blk_point [idx n, place]

/-- The arrays as the kernel leaves them. -/
abbrev left (m : (ℓ : Loc nD τ sig) → Buf (Elt Ideal) ℓ) (c : Dev nD) : Valuation τ sig (Elt Ideal) :=
  Pipeline.withArrays spec0 c (V0 m c) fun w => (dats m 0 c).arrAt w cfg0.N

theorem left_final : left m c (Proc.devRef .tc (Pipeline.arrRef spec0 3)) = wide_grad m c :=
  (Pipeline.withArrays_arr spec0 winFacts0.arr_inj c (V0 m c) (fun w => (dats m 0 c).arrAt w cfg0.N) 3).trans final

/-- The host lines after the kernel drop the filled rows and turn the gradient. -/
theorem tail : Pipeline.afterTail₀ cfgs (dats m) 0 (V0 m) [hostOps1] c main_v5 = (fun x => grad (fun t => DY m c (ix2 t (x 1))) (H m c) (NW m c) (x 0) : S1024x5152.Idx → EReal) := by
  have e := left_final (m := m) (c := c)
  show StableHlo.after hostOps1 (left m c) (Proc.devRef .tc main_v5) = _
  generalize left m c = W' at e
  after_results_simp
  rw [show W' (Proc.devRef .tc main_v3) = _ from e]
  funext x
  idx_vars x
  refine Eq.trans (b := wide_grad m c (ix2 ⟨x1.val, by omega⟩ x0)) ?_ ?_
  · generalize wide_grad m c = Y
    pointwise
  · exact congrArg (fun d => grad d (H m c) (NW m c) x0) (funext fun t => InKernelIdeal.Value.wide_in (DY m c) t x1)

/-- The kernel ends with the gradient. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5) = (fun x => grad (fun t => (m ((c.tc : Thread nD τ).loc main_arg0) : S4096x5152.Idx → EReal) (ix2 t (x 1)))
        (m ((c.tc : Thread nD τ).loc main_arg1)) (m ((c.tc : Thread nD τ).loc main_arg2)) (x 0) : S1024x5152.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).2 main_v5 (Pipeline.mem_restRefs_of main_v5 rfl (by decide))).trans tail, hr.1 c⟩

end Cert.InwKernelIdeal.Value

namespace Cert.InwRefIdeal.Value
open Cert.InwRefIdeal Cert.InwRefIdeal.Read Cert.Norm Cert.Weight

variable (x0 : S4096x5152.Idx → EReal) (x1 : S4096x1024.Idx → EReal) (x2 : S1024.Idx → EReal)

theorem v13_apply (t : Fin 4096) (i : Fin 1024) : val_main_v13 (F := Ideal) x1 x2 (ix2 t i) = normed (fun j => x1 (ix2 t j)) (fun j => x2 (ix1 j)) i := by
  unfold normed scale meansq
  pointwise [val_main_v13, val_main_v12, val_main_v11, val_main_v10, val_main_v9, val_main_v8, val_main_v7, val_main_v6, val_main_v5, val_main_v4, val_main_v3, val_main_v2,
    val_main_v1, val_main_cst, val_main_cst_0, val_main_cst_1, val_main_cst_2]

theorem v17_apply (i : Fin 1024) (p : Fin 5152) : val_main_v17 (F := Ideal) x0 x1 x2 (ix2 i p) = grad (fun t => x0 (ix2 t p)) x1 x2 i := by
  unfold grad
  simp only [← v13_apply]
  pointwise [val_main_v17, val_main_v16, val_main_v15]

/-- The reference ends with the gradient. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v17) = (fun x => grad (fun t => (m ((c.tc : Thread nD τ).loc main_arg0) : S4096x5152.Idx → EReal) (ix2 t (x 1)))
        (m ((c.tc : Thread nD τ).loc main_arg1)) (m ((c.tc : Thread nD τ).loc main_arg2)) (x 0) : S1024x5152.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v17_eq]
    funext x
    idx_vars x
    exact v17_apply _ _ _ _ _

end Cert.InwRefIdeal.Value

namespace Cert.Inw
open Cert.InwKernelIdeal

/-- The reference runs and leaves its arguments; it has no semaphores. -/
theorem reference_frame : Cert.quiescent_InwRefIdeal := fun m g _ =>
  θ_run_mono (Cert.InwRefIdeal.Value.run (F := Ideal) m g) fun r hr => ⟨fun c => (hr c).2, sem_eq_zero_of_no_sems (by decide) r.2⟩

/-- The kernel computes the state-space layer's input projection's gradient at its weight. -/
theorem algebraic : Cert.algebraic_InwKernelIdeal_InwRefIdeal := by
  intro m g m' g' _ hagree
  refine ⟨_, InwKernelIdeal.Value.kernel_run m g, θ_run_mono (InwRefIdeal.Value.reference_run m' g') fun r hr c => ?_⟩
  obtain ⟨e0, e1, e2⟩ := hagree c
  obtain ⟨h1, h2⟩ := hr c
  rw [e0, e1, e2] at h1
  exact ⟨h1, h2⟩

end Cert.Inw
end
-- ==== Proof.SbfText.lean ====
/- One grid point of the attention's forward kernel, written once over any loads and stores. -/
module

public import proofs.«01_k».proof.Proof.SbaText
public import proofs.«01_k».proof.Proof.Gen.SbfKernelIdeal

@[expose] public section

noncomputable section

open Idealize.ShloMosaic Idealize.ShloMosaic.TcCoe
open Idealize.SL.Sem

namespace Cert.Sbf

open Cert.Run Cert.SbaKernelIdeal Cert.SbaKernelIdeal.Gen
open Cert.Sba (sub slot row qrow irow wrow wqa keys st_bits st_packed packed_sub packed_irow kind sel soft cast2 cast3 flat split stack lanes)

/-- The buffers: the three inputs' and two results' blocks and the four scratch buffers. -/
inductive Buf
  | q | k | v | o | lt | z | a | c | acc
  deriving DecidableEq

def Buf.all : List Buf := [.q, .k, .v, .o, .lt, .z, .a, .c, .acc]

instance : Fintype Buf := ⟨⟨Buf.all, by decide⟩, by intro x; cases x <;> decide⟩

@[reducible] noncomputable def Buf.shape : Buf → Shape
  | .q | .o => S512x128
  | .k | .v => S4096x128
  | .lt => S1x512x128
  | .z | .a => S2x1024x512
  | .c => S1024x1
  | .acc => S1024x128

@[reducible] noncomputable def Buf.elt : Buf → EltTy
  | .q | .k | .v | .o | .a => .bf16
  | .lt | .z | .c | .acc => .f32

@[reducible] noncomputable def K : Bufs := ⟨Buf, inferInstance, inferInstance, Buf.shape, Buf.elt⟩

theorem inb_lblk (a : Fin 4) : ∀ d, (![0, 128 * a.val, 0] : Fin 3 → Nat) d + SbfKernelIdeal.S1x128x128.size d ≤ S1x512x128.size d := by
  revert a; decide

noncomputable abbrev lblk (a : Fin 4) : Rect S1x512x128 :=
  Rect.unit (s := S1x512x128) ![0, 128 * a.val, 0] SbfKernelIdeal.S1x128x128.size (inb_lblk a)

variable {F : FTy → Type} [FloatOps F]

/-! ## The arithmetic of one tile -/

/-- Ones where the earlier index is above the later. -/
noncomputable def later : FVec F S256x256 .bf16 :=
  truncf .bf16 (sitofp .f32 (extui 32 (cmpi .sgt (iota .tc S256x256 32 [0] iota_S256x256_d0_w32) (iota .tc S256x256 32 [1] iota_S256x256_d1_w32)) natLt_1_32)) bitsLt_bf16_f32

noncomputable def blkR (L : F .f32) (κ : Sba.Kind) (a : Fin 4) (b : Fin 2) (c : FVec F S256x1 .f32) (z : FVec F S256x256 .f32) : FVec F S256x256 .f32 :=
  addf (broadcastTo S256x256 c broadcasts_S256x1_S256x256)
    (matmul dot_S256x256_S256x256_S256x256_1_0_0_1_n_n none (truncf .bf16 (sel κ a b (soft L z)) bitsLt_bf16_f32) later (constant S256x256 .f32 0x00000000#32))

noncomputable def blkA (L : F .f32) (κ : Sba.Kind) (a : Fin 4) (b : Fin 2) (c : FVec F S256x1 .f32) (z : FVec F S256x256 .f32) : FVec F S256x256 .f32 :=
  sel κ a b (exp2 (subf (subf (mulf z (broadcast S256x256 L)) (sel κ a b (soft L z))) (blkR L κ a b c z)))

noncomputable def newC (L : F .f32) (κ : Sba.Kind) (a : Fin 4) (b : Fin 2) (c : FVec F S256x1 .f32) (z : FVec F S256x256 .f32) : FVec F S256x1 .f32 :=
  addf (extractStridedSlice S256x1 ![0, 0] (blkR L κ a b c z) SbfKernelIdeal.Gen.slices_S256x256_o0_0_S256x1)
    (extractStridedSlice S256x1 ![0, 0] (sel κ a b (soft L z)) SbfKernelIdeal.Gen.slices_S256x256_o0_0_S256x1)

/-! ## The pieces -/

variable {m : Type → Type 1} [Monad m] (ops : Ops K (Elt F) m)

/-- The weights of one tile stored, as rounded. -/
noncomputable def putTile (s : Fin 2) (a : Fin 4) (b : Fin 2) (A : FVec F S256x256 .bf16) : m PUnit := do
  let _ ← ops.load .a (sub s a b) h_S1x256x256
  ops.store .a (sub s a b) (cast3 A) (st_packed _ h_S1x256x256 (packed_sub s a b))

/-- One tile: what it leaves of the running sum. -/
noncomputable def tile (L : F .f32) (κ : Sba.Kind) (s : Fin 2) (a : Fin 4) (b : Fin 2) (c : FVec F S256x1 .f32) : m (FVec F S256x1 .f32) :=
  match κ with
  | .skip => do
    putTile ops s a b (broadcast S256x256 (Scalar.ofBits .bf16 0x0000#16))
    pure c
  | κ => do
    let z ← ops.load .z (sub s a b) h_S1x256x256
    putTile ops s a b (truncf .bf16 (blkA L κ a b c (cast2 (F := F) (e := .f32) z)) bitsLt_bf16_f32)
    pure (newC L κ a b c (cast2 (F := F) (e := .f32) z))

/-- A strip of 256 query rows against one block of keys, the later keys first. -/
noncomputable def strip (L : F .f32) (diag : Bool) (s : Fin 2) (a : Fin 4) : m PUnit := do
  let c ← ops.load .c (row a) h_S256x1
  let c' ← tile ops L (kind diag a 1) s a 1 c
  let c'' ← tile ops L (kind diag a 0) s a 0 c'
  let _ ← ops.load .c (row a) h_S256x1
  ops.store .c (row a) (shapeCast S256x1 (α := F .f32) c'' shapeCasts_S256x1_S256x1) (st_bits _ h_S256x1)

noncomputable def weights (L : F .f32) (diag : Bool) (s : Fin 2) : m PUnit := do
  strip ops L diag s 0
  strip ops L diag s 1
  strip ops L diag s 2
  strip ops L diag s 3

/-- The products of the queries with a block of keys. -/
noncomputable def scores (q : FVec F S1024x128 .bf16) (o : Fin 2 → ℕ) (h : ∀ d, o d + S512x128.size d ≤ S4096x128.size d) (s : Fin 2) : m PUnit := do
  let k ← ops.load .k (keys o h) h_S512x128
  let _ ← ops.load .z (slot s) h_S1x1024x512
  ops.store .z (slot s) (shapeCast S1x1024x512 (α := F .f32) (matmul dot_S1024x128_S512x128_S1024x512_1_1_0_0_n_n none q (shapeCast S512x128 k shapeCasts_S512x128_S512x128)
    (constant S1024x512 .f32 0x00000000#32)) shapeCasts_S1024x512_S1x1024x512) (st_bits _ h_S1x1024x512)

/-- One block's weighted values added. -/
noncomputable def values (o : Fin 2 → ℕ) (h : ∀ d, o d + S512x128.size d ≤ S4096x128.size d) (s : Fin 2) : m PUnit := do
  let x ← ops.load .acc wqa h_S1024x128
  let A ← ops.load .a (slot s) h_S1x1024x512
  let v ← ops.load .v (keys o h) h_S512x128
  let _ ← ops.load .acc wqa h_S1024x128
  ops.store .acc wqa (shapeCast S1024x128 (α := F .f32) (addf x (matmul dot_S1024x512_S512x128_S1024x128_1_0_0_1_n_n none (flat (F := F) (e := .bf16) A)
    (shapeCast S512x128 v shapeCasts_S512x128_S512x128) (constant S1024x128 .f32 0x00000000#32))) shapeCasts_S1024x128_S1024x128) (st_bits _ h_S1024x128)

/-- Two key blocks of the main loop: their weights, the next blocks' scores, the values of the blocks before. -/
noncomputable def trip (L : F .f32) (q : FVec F S1024x128 .bf16) (o1 o2 o3 o4 : Fin 2 → ℕ) (h1 : ∀ d, o1 d + S512x128.size d ≤ S4096x128.size d)
    (h2 : ∀ d, o2 d + S512x128.size d ≤ S4096x128.size d) (h3 : ∀ d, o3 d + S512x128.size d ≤ S4096x128.size d)
    (h4 : ∀ d, o4 d + S512x128.size d ≤ S4096x128.size d) : m PUnit := do
  weights ops L false 1
  scores ops q o1 h1 0
  values ops o2 h2 0
  weights ops L false 0
  scores ops q o3 h3 1
  values ops o4 h4 1

/-- The last two blocks where the number of those before the diagonal is odd. -/
noncomputable def odd (L : F .f32) : m PUnit := do
  weights ops L false 1
  values ops ![512, 0] SbfKernelIdeal.Gen.inb_S4096x128_S512x128_512_0 0
  values ops ![0, 0] inb_S4096x128_S512x128_0_0 1

noncomputable def headStrip (a : Fin 4) : m (FVec F S256x128 .bf16) := do
  let q ← ops.load .q (irow a) h_S128x128
  pure (split (mulf (shapeCast S128x128 (α := F .bf16) q shapeCasts_S128x128_S128x128) (broadcast S128x128 (Scalar.ofBits .bf16 0x3E00#16))))

/-- The rows laid out, the running sum and the accumulator cleared, the diagonal block's weights, the scores of the block before it. -/
noncomputable def head (L : F .f32) (o1 o2 : Fin 2 → ℕ) (h1 : ∀ d, o1 d + S512x128.size d ≤ S4096x128.size d)
    (h2 : ∀ d, o2 d + S512x128.size d ≤ S4096x128.size d) : m (FVec F S1024x128 .bf16) := do
  let x0 ← headStrip ops 0
  let x1 ← headStrip ops 1
  let x2 ← headStrip ops 2
  let x3 ← headStrip ops 3
  let _ ← ops.load .c wrow h_S1024x1
  ops.store .c wrow (shapeCast S1024x1 (α := F .f32) (broadcast S1024x1 (Scalar.ofBits .f32 0x00000000#32)) shapeCasts_S1024x1_S1024x1) (st_bits _ h_S1024x1)
  let _ ← ops.load .acc wqa h_S1024x128
  ops.store .acc wqa (shapeCast S1024x128 (α := F .f32) (broadcast S1024x128 (Scalar.ofBits .f32 0x00000000#32)) shapeCasts_S1024x128_S1024x128) (st_bits _ h_S1024x128)
  scores ops (stack x0 x1 x2 x3) o1 h1 0
  weights ops L true 0
  scores ops (stack x0 x1 x2 x3) o2 h2 1
  pure (stack x0 x1 x2 x3)

/-- The lanes of both heads brought together. -/
noncomputable def join (x : FVec F S256x128 .f32) : FVec F S128x128 .f32 :=
  select lanes (extractStridedSlice S128x128 ![0, 0] x slices_S256x128_o0_0_S128x128) (extractStridedSlice S128x128 ![128, 0] x slices_S256x128_o128_0_S128x128)

/-- The running sums along the lanes. -/
noncomputable def spread (c : FVec F S256x1 .f32) : FVec F S256x128 .f32 :=
  broadcastTo S256x128 (shapeCast S256x1 (α := F .f32) c shapeCasts_S256x1_S256x1) SbfKernelIdeal.Gen.broadcasts_S256x1_S256x128

noncomputable def tailStrip (a : Fin 4) : m PUnit := do
  let x ← ops.load .acc (qrow a) h_S256x128
  let _ ← ops.load .o (irow a) h_S128x128
  ops.store .o (irow a) (truncf .bf16 (join x) bitsLt_bf16_f32) (st_packed _ h_S128x128 (packed_irow a))
  let c ← ops.load .c (row a) h_S256x1
  let _ ← ops.load .lt (lblk a) SbfKernelIdeal.Gen.h_S1x128x128
  ops.store .lt (lblk a) (shapeCast SbfKernelIdeal.S1x128x128 (join (spread c)) SbfKernelIdeal.Gen.shapeCasts_S128x128_S1x128x128) (st_bits _ SbfKernelIdeal.Gen.h_S1x128x128)

noncomputable def tail : m PUnit := do
  tailStrip ops 0
  tailStrip ops 1
  tailStrip ops 2
  tailStrip ops 3

end Cert.Sbf
-- ==== Proof.SbfStep.lean ====
/- What the weights' steps of the attention's forward kernel leave, on real numbers. -/
module

public import proofs.«01_k».proof.Proof.SbfText
public import proofs.«01_k».proof.Proof.SbaStep

@[expose] public section

set_option maxRecDepth 16384

noncomputable section

open Idealize.ShloMosaic Idealize.ShloMosaic.TcCoe

namespace Cert.Sbf

open Cert.Run Cert.SbaKernelIdeal Cert.SbaKernelIdeal.Gen
open Cert.Sba (Row kp keeps keeps_iff sel_apply soft_apply sub row kind put_in put_sub put_row sub_emb row_emb castrow_apply cast2 cast3 cast2_apply cast3_apply sel soft)

abbrev St := K.St (Elt Ideal)
abbrev O := stOps K (Elt Ideal)

/-! ## The arithmetic of one tile -/

theorem sgt_small {m n : ℕ} (hm : m < 2 ^ 31) (hn : n < 2 ^ 31) : IntOp.cmpi .sgt (BitVec.ofNat 32 m) (BitVec.ofNat 32 n) = if n < m then 1#1 else 0#1 := by
  simp only [IntOp.cmpi, BitVec.slt_eq_decide, Sba.toInt_small m hm, Sba.toInt_small n hn, Nat.cast_lt]
  split <;> simp [*]

theorem later_apply (k c : Fin 256) : later (F := Ideal) (ix2 k c) = ((if c.val < k.val then 1 else 0 : ℝ) : EReal) := by
  have e : later (F := Ideal) (ix2 k c) = FloatOps.sitofp (F := Ideal) .f32 (BitVec.setWidth 32 (IntOp.cmpi .sgt (BitVec.ofNat 32 k.val) (BitVec.ofNat 32 c.val))) := by
    pointwise [later]
  rw [e, sgt_small (by omega) (by omega)]
  show (((BitVec.setWidth 32 (if c.val < k.val then 1#1 else 0#1)).toInt : ℝ) : EReal) = _
  split <;> simp

theorem sum_gt (f : ℕ → ℝ) (m : ℕ) (c : Fin 256) : ∑ k : Fin 256, f (m + k.val) * (if c.val < k.val then 1 else 0)
    = ∑ j ∈ Finset.range 256, f (m + j) - ∑ j ∈ Finset.range (c.val + 1), f (m + j) := by
  rw [← Sba.sum_le f m c, ← Fin.sum_univ_eq_sum_range (fun j => f (m + j)) 256, ← Finset.sum_sub_distrib]
  refine Finset.sum_congr rfl fun k _ => ?_
  by_cases h : c.val < k.val
  · rw [if_pos h, if_neg (by omega)]; ring
  · rw [if_neg h, if_pos (by omega)]; ring

theorem blkR_apply (κ : Sba.Kind) (a : Fin 4) (b : Fin 2) (c : FVec Ideal S256x1 .f32) (z : FVec Ideal S256x256 .f32) (ρ y : Fin 256) :
    blkR (F := Ideal) kp κ a b c z (ix2 ρ y) = c (ix2 ρ 0) + ∑ k : Fin 256, sel κ a b (soft (F := Ideal) kp z) (ix2 ρ k) * later (F := Ideal) (ix2 k y) := by
  pointwise [blkR]

section tile

variable {κ : Sba.Kind} (hκ : κ ≠ .skip) {a : Fin 4} {b : Fin 2} {c : FVec Ideal S256x1 .f32} {z : FVec Ideal S256x256 .f32} {R : Fin 256 → Row} {m : ℕ}
  (hp : ∀ ρ c : Fin 256, keeps κ a b ρ.val c.val ↔ m + c.val < (R ρ).lim)
  (hc : ∀ ρ : Fin 256, c (ix2 ρ 0) = (((R ρ).lt - (R ρ).P (m + 256) : ℝ) : EReal))
  (hz : ∀ ρ c : Fin 256, z (ix2 ρ c) = ((R ρ).z (m + c.val) : EReal))
include hκ hp hz

theorem selS_real (ρ y : Fin 256) : sel (F := Ideal) κ a b (soft (F := Ideal) kp z) (ix2 ρ y) = ((R ρ).S (m + y.val) : EReal) :=
  (sel_apply hκ a b _ ρ y (hp ρ y) _ (soft_apply _ _ _ (hz ρ y))).trans rfl

include hc

theorem blkR_real (ρ y : Fin 256) : blkR (F := Ideal) kp κ a b c z (ix2 ρ y) = (((R ρ).lt - (R ρ).P (m + y.val + 1) : ℝ) : EReal) := by
  have e : ∀ k : Fin 256, sel (F := Ideal) κ a b (soft (F := Ideal) kp z) (ix2 ρ k) * later (F := Ideal) (ix2 k y)
      = (((R ρ).S (m + k.val) * (if y.val < k.val then 1 else 0) : ℝ) : EReal) := fun k => by
    rw [selS_real hκ hp hz, later_apply, ← EReal.coe_mul]
  rw [blkR_apply, Finset.sum_congr rfl fun k _ => e k, Reals.sum_coe, hc, ← EReal.coe_add, sum_gt, add_assoc m]
  unfold Row.P
  rw [Finset.sum_range_add _ m, Finset.sum_range_add _ m]
  congr 1
  ring

theorem blkA_real (ρ y : Fin 256) : blkA (F := Ideal) kp κ a b c z (ix2 ρ y) = ((R ρ).A (m + y.val) : EReal) := by
  unfold blkA
  refine (sel_apply hκ a b _ ρ y (hp ρ y) (Real.rpow 2 ((R ρ).z (m + y.val) / Real.log 2 - (R ρ).S (m + y.val) - ((R ρ).lt - (R ρ).P (m + y.val + 1)))) ?_).trans ?_
  · have e : exp2 (F := Ideal) (subf (subf (mulf z (broadcast S256x256 kp)) (sel κ a b (soft (F := Ideal) kp z))) (blkR (F := Ideal) kp κ a b c z)) (ix2 ρ y)
        = Ideal.exp2 (z (ix2 ρ y) * kp - sel (F := Ideal) κ a b (soft (F := Ideal) kp z) (ix2 ρ y) - blkR (F := Ideal) kp κ a b c z (ix2 ρ y)) := by
      pointwise []
      rfl
    rw [e, hz, selS_real hκ hp hz, blkR_real hκ hp hc hz, show kp = _ from Sba.kap_eq, ← EReal.coe_mul, ← EReal.coe_sub, ← EReal.coe_sub, Ideal.exp2_coe, div_eq_mul_inv]
  · refine congrArg _ ?_
    unfold Row.A Row.S
    split_ifs <;> rfl

theorem newC_real (ρ : Fin 256) : newC (F := Ideal) kp κ a b c z (ix2 ρ 0) = (((R ρ).lt - (R ρ).P m : ℝ) : EReal) := by
  have e : newC (F := Ideal) kp κ a b c z (ix2 ρ 0) = blkR (F := Ideal) kp κ a b c z (ix2 ρ 0) + sel (F := Ideal) κ a b (soft (F := Ideal) kp z) (ix2 ρ 0) := by pointwise [newC]
  rw [e, blkR_real hκ hp hc hz, selS_real hκ hp hz, ← EReal.coe_add]
  unfold Row.P
  simp only [Fin.val_zero, add_zero]
  rw [Finset.sum_range_succ]
  congr 1
  ring

end tile

/-! ## A tile -/

/-- A store into one buffer. -/
def upd (x : Buf) (r : Rect (K.shape x)) (w : r.shape.Idx → Elt Ideal (K.elt x)) (st : St) : St := Function.update st x (put r w (st x))
theorem upd_ne {x y : Buf} (h : y ≠ x) (r : Rect (K.shape x)) (w) (st : St) : upd x r w st y = st y := by unfold upd; rw [Function.update_of_ne h]
theorem upd_same (x : Buf) (r : Rect (K.shape x)) (w) (st : St) : upd x r w st x = put r w (st x) := by unfold upd; rw [Function.update_self]

/-- A tile's weights put in their place. -/
def putA (st : St) (s : Fin 2) (a : Fin 4) (b : Fin 2) (A : FVec Ideal S256x256 .bf16) : St := upd .a (sub s a b) (cast3 (F := Ideal) (e := .bf16) A) st

/-- The loaded tile. -/
def tl (st : St) (s : Fin 2) (a : Fin 4) (b : Fin 2) : FVec Ideal S256x256 .f32 := cast2 (F := Ideal) (e := .f32) fun x => st .z ((sub s a b).emb x)

theorem tile_run (κ : Sba.Kind) (hκ : κ ≠ .skip) (st : St) (s : Fin 2) (a : Fin 4) (b : Fin 2) (c : FVec Ideal S256x1 .f32) :
    (tile O kp κ s a b c).run st = (newC (F := Ideal) kp κ a b c (tl st s a b), putA st s a b (blkA (F := Ideal) kp κ a b c (tl st s a b))) := by
  cases κ
  · rfl
  · rfl
  · exact absurd rfl hκ

theorem tile_run_skip (st : St) (s : Fin 2) (a : Fin 4) (b : Fin 2) (c : FVec Ideal S256x1 .f32) :
    (tile O kp .skip s a b c).run st = (c, putA st s a b (broadcast S256x256 (Scalar.ofBits .bf16 0x0000#16))) := rfl

/-- What one tile of a strip leaves: its sum moved back over its keys, its weights in their place, all else as it was. -/
structure TileDone (R : ℕ → Row) (s : Fin 2) (a : Fin 4) (b : Fin 2) (m : ℕ) (st st' : St) (c' : FVec Ideal S256x1 .f32) : Prop where
  other : ∀ x : Buf, x ≠ .a → st' x = st x
  c : ∀ ρ : Fin 256, c' (ix2 ρ 0) = (((R (256 * a.val + ρ.val)).lt - (R (256 * a.val + ρ.val)).P m : ℝ) : EReal)
  inA : ∀ (r : Fin 1024) (j : Fin 512), r.val / 256 = a.val → j.val / 256 = b.val → st' .a (ix3 s r j) = ((R r.val).A (m + j.val % 256) : EReal)
  outA : ∀ (s' : Fin 2) (r : Fin 1024) (j : Fin 512), (s' ≠ s ∨ r.val / 256 ≠ a.val ∨ j.val / 256 ≠ b.val) → st' .a (ix3 s' r j) = st .a (ix3 s' r j)

theorem putA_done {R : ℕ → Row} {s : Fin 2} {a : Fin 4} {b : Fin 2} {m : ℕ} {st : St} {c' : FVec Ideal S256x1 .f32} {A : FVec Ideal S256x256 .bf16}
    (hc : ∀ ρ : Fin 256, c' (ix2 ρ 0) = (((R (256 * a.val + ρ.val)).lt - (R (256 * a.val + ρ.val)).P m : ℝ) : EReal))
    (hA : ∀ ρ c : Fin 256, A (ix2 ρ c) = ((R (256 * a.val + ρ.val)).A (m + c.val) : EReal)) :
    TileDone R s a b m st (putA st s a b A) c' where
  other x h := upd_ne h _ _ _
  c := hc
  inA r j hr hj := by
    have e1 : r.val = 256 * a.val + r.val % 256 := by omega
    unfold putA
    rw [upd_same, put_in _ _ _ _ (sub_emb (ρ := ⟨r.val % 256, by omega⟩) (c := ⟨j.val % 256, by omega⟩) e1 (by simp only []; omega))]
    refine (cast3_apply _ _ _).trans ((hA _ _).trans ?_)
    simp only [← e1]
  outA s' r j h := by unfold putA; rw [upd_same]; exact put_sub s a b _ _ s' r j h

/-- One tile done. -/
theorem tile_done {R : ℕ → Row} (κ : Sba.Kind) {s : Fin 2} {a : Fin 4} {b : Fin 2} {m : ℕ} {st : St} {c : FVec Ideal S256x1 .f32}
    (hp : ∀ ρ c : Fin 256, keeps κ a b ρ.val c.val ↔ m + c.val < (R (256 * a.val + ρ.val)).lim)
    (hc : ∀ ρ : Fin 256, c (ix2 ρ 0) = (((R (256 * a.val + ρ.val)).lt - (R (256 * a.val + ρ.val)).P (m + 256) : ℝ) : EReal))
    (hz : ∀ (r : Fin 1024) (j : Fin 512), r.val / 256 = a.val → j.val / 256 = b.val → st .z (ix3 s r j) = ((R r.val).z (m + j.val % 256) : EReal)) :
    TileDone R s a b m st ((tile O kp κ s a b c).run st).2 ((tile O kp κ s a b c).run st).1 := by
  have ea : ∀ ρ : Fin 256, 256 * a.val + ρ.val < 1024 := fun ρ => by omega
  have eb : ∀ c : Fin 256, 256 * b.val + c.val < 512 := fun c => by omega
  have hz' : ∀ ρ c : Fin 256, tl st s a b (ix2 ρ c) = ((R (256 * a.val + ρ.val)).z (m + c.val) : EReal) := fun ρ c => by
    unfold tl
    rw [cast2_apply]
    rw [sub_emb (r := ⟨256 * a.val + ρ.val, ea ρ⟩) (j := ⟨256 * b.val + c.val, eb c⟩) rfl rfl, hz _ _ (by simp only []; omega) (by simp only []; omega)]
    simp only []
    rw [show (256 * b.val + c.val) % 256 = c.val by omega]
  by_cases hκ : κ = .skip
  · subst hκ
    have hn : ∀ ρ c : Fin 256, (R (256 * a.val + ρ.val)).lim ≤ m + c.val := fun ρ c => by
      have := (hp ρ c).not.mp (fun h => h)
      omega
    have hb : Ideal.ofBits .bf16 0x0000#16 = ((0 : ℝ) : EReal) := by simp [Ideal.ofBits, Ideal.ieee]
    rw [tile_run_skip]
    refine putA_done (fun ρ => ?_) (fun ρ c => ?_)
    · have e := ((R (256 * a.val + ρ.val)).P_past (m := m) (by simpa using hn ρ 0) 256).1
      rw [← e]; exact hc ρ
    · rw [((R _).zero_past (hn ρ c)).2.1]; exact hb
  · rw [tile_run κ hκ]
    exact putA_done (newC_real hκ (R := fun ρ => R (256 * a.val + ρ.val)) hp hc hz') (blkA_real hκ (R := fun ρ => R (256 * a.val + ρ.val)) hp hc hz')

/-! ## A strip -/

/-- The weights of one key block taken of the first `q` strips. -/
structure WeighTo (R : ℕ → Row) (s : Fin 2) (n q : ℕ) (st0 st : St) : Prop where
  other : ∀ x : Buf, x ≠ .a → x ≠ .c → st x = st0 x
  c : ∀ r : Fin 1024, st .c (ix2 r 0) = (((R r.val).lt - (R r.val).P (if r.val / 256 < q then 512 * n else 512 * n + 512) : ℝ) : EReal)
  inA : ∀ (r : Fin 1024) (j : Fin 512), r.val / 256 < q → st .a (ix3 s r j) = ((R r.val).A (512 * n + j.val) : EReal)
  outA : ∀ (s' : Fin 2) (r : Fin 1024) (j : Fin 512), s' ≠ s → st .a (ix3 s' r j) = st0 .a (ix3 s' r j)

/-- The strip's sum put in its place. -/
def putRow (st : St) (a : Fin 4) (c : FVec Ideal S256x1 .f32) : St := upd .c (row a) (shapeCast S256x1 (α := Ideal .f32) c shapeCasts_S256x1_S256x1) st

theorem putRow_c (st : St) (a : Fin 4) (c) (r : Fin 1024) : putRow st a c .c (ix2 r 0) = if r.val / 256 = a.val then c (ix2 ⟨r.val % 256, by omega⟩ 0) else st .c (ix2 r 0) := by
  unfold putRow
  rw [upd_same]
  split
  · rw [put_in _ _ _ _ (row_emb (a := a) (r := r) (ρ := ⟨r.val % 256, by omega⟩) (by simp only []; omega)), castrow_apply]
  · next h => exact put_row a _ _ r h

theorem strip_run (diag : Bool) (s : Fin 2) (a : Fin 4) (st : St) :
    (strip O kp diag s a).run st =
      (let t1 := (tile O kp (kind diag a 1) s a 1 (fun y => st .c ((row a).emb y))).run st
       let t2 := (tile O kp (kind diag a 0) s a 0 t1.1).run t1.2
       (⟨⟩, putRow t2.2 a t2.1)) := rfl

theorem strip_done {R : ℕ → Row} {I n : ℕ} {diag : Bool} (hlim : ∀ r, r < 1024 → (R r).lim = 512 * I + 128 * (r / 256) + r % 128)
    (hd : (diag = true ∧ n = I) ∨ (diag = false ∧ n < I)) {s : Fin 2} (a : Fin 4) {st0 st : St}
    (hz : ∀ (r : Fin 1024) (j : Fin 512), st0 .z (ix3 s r j) = ((R r.val).z (512 * n + j.val) : EReal))
    (h : WeighTo R s n a.val st0 st) : WeighTo R s n (a.val + 1) st0 ((strip O kp diag s a).run st).2 := by
  rw [strip_run]
  dsimp only
  have ea : ∀ ρ : Fin 256, 256 * a.val + ρ.val < 1024 := fun ρ => by omega
  have hc : ∀ ρ : Fin 256, (fun y => st .c ((row a).emb y) : FVec Ideal S256x1 .f32) (ix2 ρ 0) = (((R (256 * a.val + ρ.val)).lt - (R (256 * a.val + ρ.val)).P (512 * n + 256 + 256) : ℝ) : EReal) := fun ρ => by
    show st .c ((row a).emb (ix2 ρ 0)) = _
    rw [row_emb (r := ⟨256 * a.val + ρ.val, ea ρ⟩) rfl, h.c, if_neg (by simp only []; omega)]
  generalize (fun y => st .c ((row a).emb y) : FVec Ideal S256x1 .f32) = c at hc ⊢
  have T1 := tile_done (R := R) (kind diag a 1) (s := s) (a := a) (b := 1) (m := 512 * n + 256) (st := st) (c := c)
    (fun ρ c => (keeps_iff hlim hd a 1 ρ c).trans (by simp)) hc
    (fun r j _ hj => by
      have e : 512 * n + 256 + j.val % 256 = 512 * n + j.val := by simp at hj; omega
      rw [h.other .z (by decide) (by decide), hz, e])
  generalize (tile O kp (kind diag a 1) s a 1 c).run st = t1 at T1 ⊢
  have T2 := tile_done (R := R) (kind diag a 0) (s := s) (a := a) (b := 0) (m := 512 * n) (st := t1.2) (c := t1.1)
    (fun ρ c => (keeps_iff hlim hd a 0 ρ c).trans (by simp)) T1.c
    (fun r j _ hj => by rw [T1.other .z (by decide), h.other .z (by decide) (by decide), hz, Nat.mod_eq_of_lt (show j.val < 256 by simp at hj; omega)])
  generalize (tile O kp (kind diag a 0) s a 0 t1.1).run t1.2 = t2 at T2 ⊢
  refine ⟨fun x h1 h2 => ?_, fun r => ?_, fun r j hr => ?_, fun s' r j hs => ?_⟩
  · unfold putRow; rw [upd_ne h2, T2.other x h1, T1.other x h1, h.other x h1 h2]
  · rw [putRow_c]
    split
    · next hr =>
      rw [T2.c, if_pos (by omega)]
      simp only [show 256 * a.val + r.val % 256 = r.val by omega]
    · next hr =>
      rw [T2.other .c (by decide), T1.other .c (by decide), h.c]
      simp only [show (r.val / 256 < a.val + 1) ↔ (r.val / 256 < a.val) by omega]
  · unfold putRow
    rw [upd_ne (by decide)]
    by_cases hr' : r.val / 256 = a.val
    · by_cases hj : j.val / 256 = 0
      · rw [T2.inA r j hr' hj, Nat.mod_eq_of_lt (show j.val < 256 by omega)]
      · rw [T2.outA s r j (.inr (.inr hj)), T1.inA r j hr' (by simp only [Fin.val_one]; omega), show 512 * n + 256 + j.val % 256 = 512 * n + j.val by omega]
    · rw [T2.outA s r j (.inr (.inl hr')), T1.outA s r j (.inr (.inl hr')), h.inA r j (by omega)]
  · unfold putRow
    rw [upd_ne (by decide), T2.outA s' r j (.inl hs), T1.outA s' r j (.inl hs), h.outA s' r j hs]

/-- The weights of one key block taken. -/
theorem weights_done {R : ℕ → Row} {I n : ℕ} {diag : Bool} (hlim : ∀ r, r < 1024 → (R r).lim = 512 * I + 128 * (r / 256) + r % 128)
    (hd : (diag = true ∧ n = I) ∨ (diag = false ∧ n < I)) {s : Fin 2} {st : St}
    (hz : ∀ (r : Fin 1024) (j : Fin 512), st .z (ix3 s r j) = ((R r.val).z (512 * n + j.val) : EReal))
    (hc : ∀ r : Fin 1024, st .c (ix2 r 0) = (((R r.val).lt - (R r.val).P (512 * n + 512) : ℝ) : EReal)) :
    WeighTo R s n 4 st ((weights O kp diag s).run st).2 := by
  have h0 : WeighTo R s n 0 st st := ⟨fun _ _ _ => rfl, fun r => (hc r).trans (by simp), fun _ _ h => absurd h (by omega), fun _ _ _ _ => rfl⟩
  unfold weights
  rw [Den.run_bind, Den.run_bind, Den.run_bind]
  have h1 := strip_done hlim hd 0 hz h0
  generalize ((strip O kp diag s 0).run st) = t1 at h1 ⊢
  have h2 := strip_done hlim hd 1 hz h1
  generalize ((strip O kp diag s 1).run t1.2) = t2 at h2 ⊢
  have h3 := strip_done hlim hd 2 hz h2
  generalize ((strip O kp diag s 2).run t2.2) = t3 at h3 ⊢
  exact strip_done hlim hd 3 hz h3

end Cert.Sbf
-- ==== Proof.SbfRel.lean ====
/- Each piece of the grid point's text over one set of operations stands in the relation to the same over another. -/
module

public import proofs.«01_k».proof.Proof.SbfText

@[expose] public section

noncomputable section

open Idealize.ShloMosaic Idealize.ShloMosaic.TcCoe
open Idealize.SL Idealize.SL.RA Idealize.SL.Sem

namespace Cert.Sbf

open Cert.Run Cert.SbaKernelIdeal Cert.SbaKernelIdeal.Gen

variable {F : FTy → Type} [FloatOps F]
variable {m₁ m₂ : Type → Type 1} [Monad m₁] [Monad m₂] {O₁ : Ops K (Elt F) m₁} {O₂ : Ops K (Elt F) m₂} (H : Rel O₁ O₂)

theorem rel_putTile (s : Fin 2) (a : Fin 4) (b : Fin 2) (A : FVec F S256x256 .bf16) :
    H.R (putTile O₁ s a b A) (putTile O₂ s a b A) := by
  unfold putTile
  repeat' first
    | with_reducible refine H.bind ?_ fun _ => ?_
    | exact H.load _ _ _
    | exact H.store _ _ _ _
    | exact H.pure _

theorem rel_tile (L : F .f32) (κ : Sba.Kind) (s : Fin 2) (a : Fin 4) (b : Fin 2) (c : FVec F S256x1 .f32) :
    H.R (tile O₁ L κ s a b c) (tile O₂ L κ s a b c) := by
  unfold tile
  cases κ <;> dsimp only
  all_goals
    repeat' first
      | with_reducible refine H.bind ?_ fun _ => ?_
      | exact H.load _ _ _
      | exact H.store _ _ _ _
      | exact H.pure _
      | exact rel_putTile H ..

theorem rel_strip (L : F .f32) (d : Bool) (s : Fin 2) (a : Fin 4) :
    H.R (strip O₁ L d s a) (strip O₂ L d s a) := by
  unfold strip
  repeat' first
    | with_reducible refine H.bind ?_ fun _ => ?_
    | exact H.load _ _ _
    | exact H.store _ _ _ _
    | exact H.pure _
    | exact rel_tile H ..

theorem rel_weights (L : F .f32) (d : Bool) (s : Fin 2) :
    H.R (weights O₁ L d s) (weights O₂ L d s) := by
  unfold weights
  repeat' first
    | with_reducible refine H.bind ?_ fun _ => ?_
    | exact H.load _ _ _
    | exact H.store _ _ _ _
    | exact H.pure _
    | exact rel_strip H ..

theorem rel_scores (q : FVec F S1024x128 .bf16) (o1 : Fin 2 → ℕ) (h1 : ∀ d, o1 d + S512x128.size d ≤ S4096x128.size d) (s : Fin 2) :
    H.R (scores O₁ q o1 h1 s) (scores O₂ q o1 h1 s) := by
  unfold scores
  repeat' first
    | with_reducible refine H.bind ?_ fun _ => ?_
    | exact H.load _ _ _
    | exact H.store _ _ _ _
    | exact H.pure _

theorem rel_values (o1 : Fin 2 → ℕ) (h1 : ∀ d, o1 d + S512x128.size d ≤ S4096x128.size d) (s : Fin 2) :
    H.R (values O₁ o1 h1 s) (values O₂ o1 h1 s) := by
  unfold values
  repeat' first
    | with_reducible refine H.bind ?_ fun _ => ?_
    | exact H.load _ _ _
    | exact H.store _ _ _ _
    | exact H.pure _

theorem rel_trip (L : F .f32) (q : FVec F S1024x128 .bf16) (o1 : Fin 2 → ℕ) (o2 : Fin 2 → ℕ) (o3 : Fin 2 → ℕ) (o4 : Fin 2 → ℕ) (h1 : ∀ d, o1 d + S512x128.size d ≤ S4096x128.size d) (h2 : ∀ d, o2 d + S512x128.size d ≤ S4096x128.size d) (h3 : ∀ d, o3 d + S512x128.size d ≤ S4096x128.size d) (h4 : ∀ d, o4 d + S512x128.size d ≤ S4096x128.size d) :
    H.R (trip O₁ L q o1 o2 o3 o4 h1 h2 h3 h4) (trip O₂ L q o1 o2 o3 o4 h1 h2 h3 h4) := by
  unfold trip
  repeat' first
    | with_reducible refine H.bind ?_ fun _ => ?_
    | exact H.load _ _ _
    | exact H.store _ _ _ _
    | exact H.pure _
    | exact rel_weights H ..
    | exact rel_scores H ..
    | exact rel_values H ..

theorem rel_odd (L : F .f32) :
    H.R (odd O₁ L) (odd O₂ L) := by
  unfold odd
  repeat' first
    | with_reducible refine H.bind ?_ fun _ => ?_
    | exact H.load _ _ _
    | exact H.store _ _ _ _
    | exact H.pure _
    | exact rel_weights H ..
    | exact rel_values H ..

theorem rel_headStrip (a : Fin 4) :
    H.R (headStrip O₁ a) (headStrip O₂ a) := by
  unfold headStrip
  repeat' first
    | with_reducible refine H.bind ?_ fun _ => ?_
    | exact H.load _ _ _
    | exact H.store _ _ _ _
    | exact H.pure _

theorem rel_head (L : F .f32) (o1 : Fin 2 → ℕ) (o2 : Fin 2 → ℕ) (h1 : ∀ d, o1 d + S512x128.size d ≤ S4096x128.size d) (h2 : ∀ d, o2 d + S512x128.size d ≤ S4096x128.size d) :
    H.R (head O₁ L o1 o2 h1 h2) (head O₂ L o1 o2 h1 h2) := by
  unfold head
  repeat' first
    | with_reducible refine H.bind ?_ fun _ => ?_
    | exact H.load _ _ _
    | exact H.store _ _ _ _
    | exact H.pure _
    | exact rel_headStrip H ..
    | exact rel_scores H ..
    | exact rel_weights H ..

theorem rel_tailStrip (a : Fin 4) :
    H.R (tailStrip O₁ a) (tailStrip O₂ a) := by
  unfold tailStrip
  repeat' first
    | with_reducible refine H.bind ?_ fun _ => ?_
    | exact H.load _ _ _
    | exact H.store _ _ _ _
    | exact H.pure _

theorem rel_tail  :
    H.R (tail O₁ ) (tail O₂ ) := by
  unfold tail
  repeat' first
    | with_reducible refine H.bind ?_ fun _ => ?_
    | exact H.load _ _ _
    | exact H.store _ _ _ _
    | exact H.pure _
    | exact rel_tailStrip H ..

end Cert.Sbf
-- ==== Proof.SbfPointIdeal.lean ====
/- The printed body of one grid point is the text. -/
module

public import proofs.«01_k».proof.Proof.SbfText
public import proofs.«01_k».proof.Proof.Gen.SbfKernelIdeal
public import Idealize.ShloMosaic.Lib.Tactic
@[expose] public section
noncomputable section
open Idealize.ShloMosaic Idealize.ShloMosaic.TcCoe
open Idealize.SL.Sem
namespace Cert.SbfKernelIdeal.Point
open Cert.Run Cert.Sbf Cert.SbfKernelIdeal Cert.SbfKernelIdeal.Gen
open Cert.Sba (bind_eq for_eq dite_jp)

variable {F : FTy → Type} [FloatOps F] [Named F]

/-- The constant of the printed body that stands for `log₂ e`. -/
abbrev kap : F .f32 := Named.named κ "log2_e" 0x3FB8AA3B#32

/-- One grid point, over any loads, stores and loops. -/
def point {m : Type → Type 1} [Monad m] (ops : Ops K (Elt F) m)
    (lp : (l : Scf.Loop 32) → l.OK → BitVec 32 → (Fin l.trips → BitVec 32 → m (BitVec 32)) → m (BitVec 32)) (i : grid0.Coords) : m PUnit :=
  head ops kap (k0_off1 i) (k0_off2 i) (k0_off1_inb i) (k0_off2_inb i) >>= fun x =>
  lp (k0_t1_loop i) (k0_t1_ok i) 0#32 (fun t _ => do
    trip ops kap x (k0_off3 i t 1#32) (k0_off4 i t) (k0_off3 i t 2#32) (k0_off5 i t) (k0_off3_inb i t 0) (k0_off4_inb i t) (k0_off3_inb i t 1) (k0_off5_inb i t)
    pure 0#32) >>= fun a =>
  lp (k0_t2_loop i) (k0_t2_ok i) a (fun t _ => do
    trip ops kap x (k0_off6 i t 1#32) (k0_off7 i t) (k0_off6 i t 2#32) (k0_off8 i t) (k0_off6_inb i t 0) (k0_off7_inb i t) (k0_off6_inb i t 1) (k0_off8_inb i t)
    pure 0#32) >>= fun _ =>
  (if _h : k0_cond1 i = 1#1 then values ops ![0, 0] inb_S4096x128_S512x128_0_0 0 else pure ⟨⟩) >>= fun _ =>
  (if _h : k0_cond2 i = 1#1 then odd ops kap else pure ⟨⟩) >>= fun _ =>
  tail ops

variable (M : K.At sig) (hM : ∀ b, (M b).IsWhole)

abbrev P : Ops K (Elt F) (Prog (TpuEff nD τ sig (Elt F) Λ₀ .tc)) := progOps M hM

/-- What the body computes before its loops of the number of their trips. -/
def half (i : grid0.Coords) : Σ' (_ : BitVec 32) (_ : BitVec 32) (_ : BitVec 32) (_ : BitVec 32), BitVec 32 :=
  let arg1 : BitVec 32 := BitVec.ofNat 32 (i 1).val
  let c2_i32 : BitVec 32 := 2#32
  ⟨c2_i32, Scalar.divsi arg1 c2_i32, Scalar.subi (Scalar.extui (Scalar.cmpi .sgt arg1 0#32)) (Scalar.extui (Scalar.cmpi .slt arg1 0#32)),
    Scalar.extui (Scalar.cmpi .sgt c2_i32 0#32), Scalar.extui (Scalar.cmpi .slt c2_i32 0#32)⟩

theorem part45_eq (i : grid0.Coords) (q : FVec F S1024x128 .bf16) :
    k0_part45 i (M .q) (hM .q) (M .k) (hM .k) (M .v) (hM .v) (M .o) (hM .o) (M .lt) (hM .lt) (M .z) (hM .z) (M .a) (hM .a) (M .c) (hM .c) (M .acc) (hM .acc) (BitVec.ofNat 32 (i 1).val) later q (half i).1 (half i).2.1 (half i).2.2.1 (half i).2.2.2.1 (half i).2.2.2.2 =
    Scf.Loop.for (k0_t1_loop i) (k0_t1_ok i) 0#32 (fun t _ => do
      trip (P M hM) kap q (k0_off3 i t 1#32) (k0_off4 i t) (k0_off3 i t 2#32) (k0_off5 i t) (k0_off3_inb i t 0) (k0_off4_inb i t) (k0_off3_inb i t 1) (k0_off5_inb i t)
      pure 0#32) >>= fun a =>
    Scf.Loop.for (k0_t2_loop i) (k0_t2_ok i) a (fun t _ => do
      trip (P M hM) kap q (k0_off6 i t 1#32) (k0_off7 i t) (k0_off6 i t 2#32) (k0_off8 i t) (k0_off6_inb i t 0) (k0_off7_inb i t) (k0_off6_inb i t 1) (k0_off8_inb i t)
      pure 0#32) >>= fun _ =>
    (if _h : k0_cond1 i = 1#1 then values (P M hM) ![0, 0] inb_S4096x128_S512x128_0_0 0 else pure ⟨⟩) >>= fun _ =>
    (if _h : k0_cond2 i = 1#1 then odd (P M hM) kap else pure ⟨⟩) >>= fun _ => (do
      let x ← (P M hM).load .acc (Sba.qrow 0) h_S256x128
      let _ ← (P M hM).load .o (Sba.irow 0) h_S128x128
      (P M hM).store .o (Sba.irow 0) (truncf .bf16 (join x) bitsLt_bf16_f32) (Sba.st_packed _ h_S128x128 (Sba.packed_irow 0))
      let c ← (P M hM).load .c (Sba.row 0) h_S256x1
      pure ⟨spread c, Sba.lanes, extractStridedSlice S128x128 ![0, 0] (spread c) slices_S256x128_o0_0_S128x128⟩) := by
  unfold k0_part45
  show Bind.bind _ _ = Bind.bind _ _
  refine bind_eq (for_eq _ _ _ fun t a => ?_) fun v369 => ?_
  · sl_kernel_rfl
  show Bind.bind _ _ = Bind.bind _ _
  refine bind_eq (for_eq _ _ _ fun t a => ?_) fun v370 => ?_
  · sl_kernel_rfl
  dsimp only
  refine (dite_jp fun h => ?_).trans (bind_eq rfl fun _ => ?_)
  · sl_kernel_rfl
  refine (dite_jp fun h => ?_).trans (bind_eq rfl fun _ => ?_)
  · sl_kernel_rfl
  sl_kernel_rfl

theorem part47_eq (i : grid0.Coords) :
    k0_part47 (F := F) i (M .q) (hM .q) (M .k) (hM .k) (M .v) (hM .v) (M .o) (hM .o) (M .lt) (hM .lt) (M .z) (hM .z) (M .a) (hM .a) (M .c) (hM .c) (M .acc) (hM .acc) = head (P M hM) kap (k0_off1 i) (k0_off2 i) (k0_off1_inb i) (k0_off2_inb i) >>= fun x =>
    k0_part45 i (M .q) (hM .q) (M .k) (hM .k) (M .v) (hM .v) (M .o) (hM .o) (M .lt) (hM .lt) (M .z) (hM .z) (M .a) (hM .a) (M .c) (hM .c) (M .acc) (hM .acc) (BitVec.ofNat 32 (i 1).val) later x (half i).1 (half i).2.1 (half i).2.2.1 (half i).2.2.2.1 (half i).2.2.2.2 >>= fun y => (do
      let _ ← (P M hM).load .lt (lblk 0) h_S1x128x128
      (P M hM).store .lt (lblk 0) (shapeCast S1x128x128 (select y.2.1 y.2.2 (extractStridedSlice S128x128 ![128, 0] y.1 slices_S256x128_o128_0_S128x128)) shapeCasts_S128x128_S1x128x128) (Sba.st_bits _ h_S1x128x128)
      tailStrip (P M hM) 1
      tailStrip (P M hM) 2
      let x ← (P M hM).load .acc (Sba.qrow 3) h_S256x128
      let _ ← (P M hM).load .o (Sba.irow 3) h_S128x128
      (P M hM).store .o (Sba.irow 3) (truncf .bf16 (join x) bitsLt_bf16_f32) (Sba.st_packed _ h_S128x128 (Sba.packed_irow 3))
      let c ← (P M hM).load .c (Sba.row 3) h_S256x1
      let _ ← (P M hM).load .lt (lblk 3) h_S1x128x128
      pure (join (spread c))) := by
  unfold k0_part47
  sl_kernel_rfl

theorem body_eq (i : grid0.Coords) :
    cc0_sba_fwd (F := F) i (M .q) (hM .q) (M .k) (hM .k) (M .v) (hM .v) (M .o) (hM .o) (M .lt) (hM .lt) (M .z) (hM .z) (M .a) (hM .a) (M .c) (hM .c) (M .acc) (hM .acc) = point (P M hM) Scf.Loop.for i := by
  unfold cc0_sba_fwd point
  rw [part47_eq]
  refine (Prog.bind_assoc ..).trans (bind_eq rfl fun x => ?_)
  rw [part45_eq]
  refine (Prog.bind_assoc ..).trans ?_
  refine (Prog.bind_assoc ..).trans (bind_eq rfl fun _ => ?_)
  refine (Prog.bind_assoc ..).trans (bind_eq rfl fun _ => ?_)
  refine (Prog.bind_assoc ..).trans (bind_eq rfl fun _ => ?_)
  refine (Prog.bind_assoc ..).trans (bind_eq rfl fun _ => ?_)
  sl_kernel_rfl

end Cert.SbfKernelIdeal.Point
-- ==== Proof.SbfDoIdeal.lean ====
/- The kernel's run: each grid point computes what its text says of the buffers' contents. -/
module

public import proofs.«01_k».proof.Proof.SbfRel
public import proofs.«01_k».proof.Proof.SbfPointIdeal
public import proofs.«01_k».proof.Proof.Gen.SbfKernelIdeal.Frame
public import Idealize.ShloMosaic.Lib.Tactic
public import Idealize.ShloMosaic.Lib.Pipeline.FrameBody
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
namespace Cert.SbfKernelIdeal.Point
open Cert.Run Cert.Sbf Cert.SbfKernelIdeal Cert.SbfKernelIdeal.Gen

variable {F : FTy → Type} [FloatOps F] [Named F]

local notation "𝕄" => MT nD τ sig Unit (Elt F) ℕ (UR sig nD τ) ℕ

/-- The whole grid point's text stands in the relation, given loops that keep it. -/
theorem rel_point {m₁ m₂ : Type → Type 1} [Monad m₁] [Monad m₂] {O₁ : Ops K (Elt F) m₁} {O₂ : Ops K (Elt F) m₂} (H : Rel O₁ O₂)
    {lp₁ : (l : Scf.Loop 32) → l.OK → BitVec 32 → (Fin l.trips → BitVec 32 → m₁ (BitVec 32)) → m₁ (BitVec 32)}
    {lp₂ : (l : Scf.Loop 32) → l.OK → BitVec 32 → (Fin l.trips → BitVec 32 → m₂ (BitVec 32)) → m₂ (BitVec 32)}
    (hl : ∀ l hok a b b', (∀ k x, H.R (b k x) (b' k x)) → H.R (lp₁ l hok a b) (lp₂ l hok a b')) (i : grid0.Coords) :
    H.R (point O₁ lp₁ i) (point O₂ lp₂ i) := by
  unfold point
  refine H.bind (rel_head H ..) fun x => H.bind (hl _ _ _ _ _ fun t _ => H.bind (rel_trip H ..) fun _ => H.pure _) fun a =>
    H.bind (hl _ _ _ _ _ fun t _ => H.bind (rel_trip H ..) fun _ => H.pure _) fun _ => H.bind ?_ fun _ => H.bind ?_ fun _ => rel_tail H
  · by_cases h : k0_cond1 i = 1#1
    · simp only [dif_pos h]; exact rel_values H ..
    · simp only [dif_neg h]; exact H.pure _
  · by_cases h : k0_cond2 i = 1#1
    · simp only [dif_pos h]; exact rel_odd H ..
    · simp only [dif_neg h]; exact H.pure _

/-- What a grid point computes, as a function of the buffers' contents. -/
def fn (i : grid0.Coords) : Den (K.St (Elt F)) PUnit := point (stOps K (Elt F)) (fun _ _ a b => loop b a) i

theorem does_body (𝒱 : Variants) (c : Dev nD) (bd : Option 𝒱.V) (E : Set ℕ) (M : K.At sig) (hM : ∀ b, (M b).IsWhole) (i : grid0.Coords) :
    Does Unit (UR sig nD τ) ℕ (defs₀ (F := F)) 𝒱 c bd E M
      (cc0_sba_fwd (F := F) i (M .q) (hM .q) (M .k) (hM .k) (M .v) (hM .v) (M .o) (hM .o) (M .lt) (hM .lt) (M .z) (hM .z) (M .a) (hM .a) (M .c) (hM .c) (M .acc) (hM .acc))
      (fn i) := by
  rw [body_eq]
  exact rel_point (doesRel 𝒱 c bd E hM) (fun l hok a b b' hb => Does.for 𝒱 c bd E l.lb l.ub l.st hok a hb) i

/-- The memrefs of grid point `t`: the windows' current buffers and the scratch buffers. -/
def at_ (t : Fin cfg0.N) : K.At sig
  | .q => st0_0 t | .k => st0_1 t | .v => st0_2 t | .o => st0_3 t | .lt => st0_4 t
  | .z => Memref.whole cc0_scratch0 | .a => Memref.whole cc0_scratch1 | .c => Memref.whole cc0_scratch2 | .acc => Memref.whole cc0_scratch3

theorem at_whole (t : Fin cfg0.N) : ∀ b, (at_ t b).IsWhole
  | .q => hstage0_0 ((cfg0.slots t 0).cast nbuf0_0) | .k => hstage0_1 ((cfg0.slots t 1).cast nbuf0_1)
  | .v => hstage0_2 ((cfg0.slots t 2).cast nbuf0_2) | .o => hstage0_3 ((cfg0.slots t 3).cast nbuf0_3)
  | .lt => hstage0_4 ((cfg0.slots t 4).cast nbuf0_4)
  | .z => Memref.isWhole_whole _ | .a => Memref.isWhole_whole _ | .c => Memref.isWhole_whole _ | .acc => Memref.isWhole_whole _

/-- The windows' buffers' contents. -/
abbrev Wins (F : FTy → Type) := (w : Fin cfg0.W) → (cfg0.win w).block.Idx → Elt F (cfg0.win w).elt

/-- A state from the windows' contents and the scratch buffers' of another. -/
def withWins (Y : Wins F) (st : K.St (Elt F)) : K.St (Elt F)
  | .q => Y 0 | .k => Y 1 | .v => Y 2 | .o => Y 3 | .lt => Y 4
  | .z => st .z | .a => st .a | .c => st .c | .acc => st .acc

/-- The windows' contents in a state. -/
def wins (st : K.St (Elt F)) : Wins F
  | 0 => st .q | 1 => st .k | 2 => st .v | 3 => st .o | 4 => st .lt

/-- The scratch buffers held at a state. -/
def scratch (c : Dev nD) (st : K.St (Elt F)) : sProp 𝕄 :=
  iprop((((c : Thread nD τ).loc cc0_scratch0) ↦{fullShare} st .z) ∗ (((c : Thread nD τ).loc cc0_scratch1) ↦{fullShare} st .a)
    ∗ (((c : Thread nD τ).loc cc0_scratch2) ↦{fullShare} st .c) ∗ (((c : Thread nD τ).loc cc0_scratch3) ↦{fullShare} st .acc))

variable (m : (ℓ : Loc nD τ sig) → Buf (Elt F) ℓ)

/-- What a proof says of a run: what each point leaves in each window. -/
abbrev Says (F : FTy → Type) := (w : Fin cfg0.W) → Fin cfg0.N → (Y X : (cfg0.win w).block.Idx → Elt F (cfg0.win w).elt) → Prop

/-- The proof data of a run. -/
def rdat (S : Dev nD → Says F) (c : Dev nD) : RDat τ (Elt F) Unit ℕ (UR sig nD τ) ℕ (cfgs 0) c where
  A w := V m c (Pipeline.arrRef spec0 w)
  after := S c
  Φ t := iprop((∃ st, scratch c st) ∗ ∃ r, prngReg c r)
  q w := Pipeline.shareOf spec0 w
  owed _ := 0

theorem defs₀_row (t : Fin cfg0.N) : defs₀ (F := F) .tc cfg0.body (cfg0.bodyArgs t (cfg0.slots t)) = bodyAt0 t := by
  unfold defs₀; rw [Defs.onTc_tc]

theorem regroup {M : Type} [URA M] (A₀ A₁ A₂ A₃ A₄ S : sProp M) :
    iprop(A₀ ∗ A₁ ∗ A₂ ∗ A₃ ∗ A₄ ∗ S) = iprop((A₀ ∗ A₁ ∗ A₂ ∗ A₃ ∗ A₄) ∗ S) := by
  have h₁ : iprop(A₀ ∗ A₁ ∗ A₂ ∗ A₃ ∗ A₄ ∗ S) ⊢ iprop((A₀ ∗ A₁ ∗ A₂ ∗ A₃ ∗ A₄) ∗ S) := by
    iintro ⟨H0, H1, H2, H3, H4, H⟩
    iframe
  have h₂ : iprop((A₀ ∗ A₁ ∗ A₂ ∗ A₃ ∗ A₄) ∗ S) ⊢ iprop(A₀ ∗ A₁ ∗ A₂ ∗ A₃ ∗ A₄ ∗ S) := by
    iintro ⟨⟨H0, H1, H2, H3, H4⟩, H⟩
    iframe
  exact BI.equiv_iff.mp ⟨h₁, h₂⟩

theorem holds_eq (c : Dev nD) (t : Fin cfg0.N) (st : K.St (Elt F)) :
    (holds c (at_ t) st : sProp 𝕄) = iprop((bigSep Finset.univ fun w => owns (c : Thread nD τ) ((cfg0.win w).stage (cfg0.slots t w)) fullShare (wins st w)) ∗ scratch c st) := by
  unfold holds scratch
  rw [bigSep_W0, bigSep_univ_eq_bigSepL Buf.all (by decide) (by decide)]
  simp only [← owns_whole]
  exact regroup ..

theorem leaves_of {α : Type} {p : α → Prop} {A : α → sProp 𝕄} {x : α} (h : p x) : A x ⊢ iprop(∃ X, ⌜p X⌝ ∗ A X) := by
  iintro H
  iexists x
  isplitr
  · ipureintro; exact h
  iexact H

theorem body_obligation (S : Dev nD → Says F) (c : Dev nD)
    (hs : ∀ (t : Fin cfg0.N) (Y : Wins F) st, (∀ w, (rdat m S c).Finds w t (Y w)) →
      ∀ w, S c w t (Y w) (wins ((fn (grid0.coords t)).run (withWins Y st)).2 w)) :
    (rdat m S c).BodyObligation (defs₀ (F := F)) Variants.none () Set.univ := by
  intro t Y hY
  rw [defs₀_row, show (rdat m S c).owesAt () t.succ = (rdat m S c).owesAt () t.castSucc from rfl,
    show (rdat m S c).Φ t.castSucc = iprop((∃ st, scratch c st) ∗ ∃ r, prngReg c r) from rfl,
    show (rdat m S c).Φ t.succ = iprop((∃ st, scratch c st) ∗ ∃ r, prngReg c r) from rfl]
  iintro ⟨⟨⟨%st, Hs⟩, Hr⟩, Ho, Hw⟩
  have h := hs t Y st hY
  iapply (does_body Variants.none c none Set.univ (at_ t) (at_whole t) (grid0.coords t) (withWins Y st) _)
  rw [holds_eq, holds_eq]
  isplitl [Hs Hw]
  · isplitl [Hw]
    · iapply (show (bigSep Finset.univ fun w => owns (c : Thread nD τ) ((cfg0.win w).stage (cfg0.slots t w)) fullShare (Y w) : sProp 𝕄)
        ⊢ bigSep Finset.univ fun w => owns (c : Thread nD τ) ((cfg0.win w).stage (cfg0.slots t w)) fullShare (wins (withWins Y st) w) from by
          rw [bigSep_W0, bigSep_W0]; exact .rfl)
      iexact Hw
    · iexact Hs
  iintro ⟨Hw, Hs⟩
  isplitl [Hs Hr]
  · isplitl [Hs]
    · iexists _
      iexact Hs
    · iexact Hr
  isplitl [Ho]
  · iexact Ho
  iapply (show (bigSep Finset.univ fun w => owns (c : Thread nD τ) ((cfg0.win w).stage (cfg0.slots t w)) fullShare (wins ((fn (grid0.coords t)).run (withWins Y st)).2 w) : sProp 𝕄)
      ⊢ bigSep Finset.univ fun w => iprop(∃ X, ⌜S c w t (Y w) X⌝ ∗ owns (c : Thread nD τ) ((cfg0.win w).stage (cfg0.slots t w)) fullShare X) from
    bigSep_mono fun w _ => leaves_of (h w))
  iexact Hw

theorem elt_nonempty (e : EltTy) : Nonempty (Elt F e) := inferInstance

/-- Some state. -/
def blank : K.St (Elt F) := fun _ _ => Classical.choice (elt_nonempty _)

theorem enter (S : Dev nD → Says F) (c : Dev nD) :
    (Pipeline.ΦA spec0 c : sProp 𝕄) ⊢ (rdat m S c).Φ 0 := by
  rw [show (rdat m S c).Φ 0 = iprop((∃ st, scratch c st) ∗ ∃ r, prngReg c r) from rfl]
  unfold Pipeline.ΦA
  rw [scopedRest0_eq]
  iintro ⟨⟨⟨%f0, H0⟩, ⟨%f1, H1⟩, ⟨%f2, H2⟩, ⟨%f3, H3⟩⟩, Hr⟩
  isplitr [Hr]
  · iexists (fun
      | .q => blank .q | .k => blank .k | .v => blank .v | .o => blank .o | .lt => blank .lt
      | .z => f0 | .a => f1 | .c => f2 | .acc => f3 : K.St (Elt F))
    unfold scratch
    dsimp only
    iframe
  · iexact Hr

theorem leave (S : Dev nD → Says F) (c : Dev nD) :
    (rdat m S c).Φ (Fin.last (cfgs 0).N) ⊢ (Pipeline.ΦA spec0 c : sProp 𝕄) := by
  rw [show (rdat m S c).Φ (Fin.last (cfgs 0).N) = iprop((∃ st, scratch c st) ∗ ∃ r, prngReg c r) from rfl]
  unfold Pipeline.ΦA scratch
  rw [scopedRest0_eq]
  iintro ⟨⟨%st, H0, H1, H2, H3⟩, Hr⟩
  isplitr [Hr]
  · isplitl [H0]; · iexists _; iexact H0
    isplitl [H1]; · iexists _; iexact H1
    isplitl [H2]; · iexists _; iexact H2
    iexists _; iexact H3
  · iexact Hr

variable (ρ : Dev nD → PrngReg)

set_option backward.isDefEq.respectTransparency.types false in
set_option maxHeartbeats 800000 in
/-- The run: the arrays end at contents the proof data allow, everything else as at the region's entry, and every counter at zero. -/
theorem run_main (S : Dev nD → Says F)
    (hs : ∀ c (t : Fin cfg0.N) (Y : Wins F) st, (∀ w, (rdat m S c).Finds w t (Y w)) →
      ∀ w, S c w t (Y w) (wins ((fn (grid0.coords t)).run (withWins Y st)).2 w)) :
    θ_run defs (onTc (τ := τ) (main (F := F))) (s₀ m ρ) (fun r => RDat.FramePost (cfgs 0) (rdat m S) (V m) r ∧ r.2.sem = fun _ => 0) :=
  Pipeline.RDat.θ_run_frame_track_shared (Q' := _) cfgs (0 : Fin 1) launch₀0 defs₀ Variants.none (rdat m S) m ρ main
    (fun c => body_obligation m S c (hs c)) (fun _ _ _ => rfl) (fun _ _ => rfl) (V m) (hmain m Variants.none) (fun _ _ => rfl)
    (fun c => enter m S c) (fun c => leave m S c)

/-- The arguments end unchanged. -/
theorem frame_of (S : Dev nD → Says F) (r : PUnit × MemSt nD τ sig (Elt F)) (h : RDat.FramePost (cfgs 0) (rdat m S) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨frame_of m _ r h.1, h.2⟩)
    (run_main m ρ (fun _ _ _ _ _ => True) fun _ _ _ _ _ _ => trivial)

end Cert.SbfKernelIdeal.Point
-- ==== Proof.SbfFlow.lean ====
/- One grid point of the attention's forward kernel from end to end, on real numbers. -/
module

public import proofs.«01_k».proof.Proof.SbfStep
public import proofs.«01_k».proof.Proof.SbfDoIdeal
public import proofs.«01_k».proof.Proof.SbaWhole

@[expose] public section

set_option maxRecDepth 16384

noncomputable section

open Idealize.ShloMosaic Idealize.ShloMosaic.TcCoe

namespace Cert.Sbf

open Cert.Run Cert.SbfKernelIdeal Cert.SbfKernelIdeal.Gen
open Cert.Sba (Row Data Block kp put_in put_out put_slot put_row sub row slot qrow irow wrow wqa keys slot_emb row_emb qrow_emb irow_emb wrow_emb wqa_emb keys_emb split stack lanes lanes_apply qi hd)

/-! ## Offsets and conditions -/

theorem off1 : ∀ i : grid0.Coords, k0_off1 i = ![512 * (i 1).val, 0] := by decide +kernel
theorem off2 : ∀ i : grid0.Coords, k0_off2 i = ![512 * ((i 1).val - 1), 0] := by decide +kernel
theorem off3 : ∀ (i : grid0.Coords) (t : Fin (k0_t1_loop i).trips) (d : Fin 2), k0_off3 i t (BitVec.ofNat 32 (1 + d.val)) = ![512 * ((i 1).val - (2 * t.val + 2 + d.val)), 0] := by decide +kernel
theorem off4 : ∀ (i : grid0.Coords) (t : Fin (k0_t1_loop i).trips), k0_off4 i t = ![512 * ((i 1).val - 2 * t.val), 0] := by decide +kernel
theorem off5 : ∀ (i : grid0.Coords) (t : Fin (k0_t1_loop i).trips), k0_off5 i t = ![512 * ((i 1).val - (2 * t.val + 1)), 0] := by decide +kernel
theorem trips1 : ∀ (i : grid0.Coords), (k0_t1_loop i).trips = (i 1).val / 2 := by decide +kernel
theorem trips2 : ∀ (i : grid0.Coords), (k0_t2_loop i).trips = 0 := by decide +kernel
theorem cond1_iff : ∀ (i : grid0.Coords), k0_cond1 i = 1#1 ↔ (i 1).val % 2 = 0 := by decide +kernel
theorem cond2_iff : ∀ (i : grid0.Coords), k0_cond2 i = 1#1 ↔ (i 1).val % 2 = 1 := by decide +kernel

/-! ## Between the steps -/

/-- Buffers no step of the key blocks stores to. -/
def Still (x : Buf) : Prop := x ≠ .z ∧ x ≠ .a ∧ x ≠ .c ∧ x ≠ .acc

instance (x : Buf) : Decidable (Still x) := by unfold Still; infer_instance

/-- A row's weighted values, of the first keys. -/
def out (X : Data) (n r c : ℕ) : ℝ := ∑ j ∈ Finset.range n, (X.R r).A j * X.v j c

/-- Key blocks from `n` on weighed and from `N` on summed. -/
structure Mid (X : Data) (st0 : St) (n N : ℕ) (st : St) : Prop where
  same : ∀ x : Buf, Still x → st x = st0 x
  k : ∀ (y : Fin 4096) (c : Fin 128), st .k (ix2 y c) = (X.k y.val c.val : EReal)
  v : ∀ (y : Fin 4096) (c : Fin 128), st .v (ix2 y c) = (X.v y.val c.val : EReal)
  c : ∀ r : Fin 1024, st .c (ix2 r 0) = (((X.R r.val).lt - (X.R r.val).P (512 * n) : ℝ) : EReal)
  acc : ∀ (r : Fin 1024) (c : Fin 128), st .acc (ix2 r c) = ((out X 4096 r.val c.val - out X (512 * N) r.val c.val : ℝ) : EReal)

/-- A slot's scores are those of a key block. -/
def Scored (X : Data) (s : Fin 2) (J : ℕ) (st : St) : Prop :=
  ∀ (r : Fin 1024) (j : Fin 512), st .z (ix3 s r j) = ((X.R r.val).z (512 * J + j.val) : EReal)

/-- A slot's weights are those of a key block. -/
def Weighed (X : Data) (s : Fin 2) (J : ℕ) (st : St) : Prop :=
  ∀ (r : Fin 1024) (j : Fin 512), st .a (ix3 s r j) = ((X.R r.val).A (512 * J + j.val) : EReal)

variable {X : Data} {st0 : St}

theorem weigh_step {n N : ℕ} {diag : Bool} (hd : (diag = true ∧ n = X.I) ∨ (diag = false ∧ n < X.I)) (s : Fin 2) {st : St} (hM : Mid X st0 (n + 1) N st) (hS : Scored X s n st) :
    Mid X st0 n N ((weights O kp diag s).run st).2 ∧ Weighed X s n ((weights O kp diag s).run st).2
      ∧ (∀ s' J, Scored X s' J st → Scored X s' J ((weights O kp diag s).run st).2)
      ∧ ∀ s' J, s' ≠ s → Weighed X s' J st → Weighed X s' J ((weights O kp diag s).run st).2 := by
  have h := weights_done (R := X.R) X.lim hd (s := s) (st := st) hS hM.c
  generalize ((weights O kp diag s).run st).2 = st' at h ⊢
  have e : ∀ x : Buf, x ≠ .a → x ≠ .c → st' x = st x := h.other
  refine ⟨⟨fun x hx => ?_, ?_, ?_, fun r => ?_, ?_⟩, fun r j => h.inA r j (by omega), fun s' J H r j => ?_, fun s' J hs H r j => ?_⟩
  · rw [e x hx.2.1 hx.2.2.1, hM.same x hx]
  · rw [e .k (by decide) (by decide)]; exact hM.k
  · rw [e .v (by decide) (by decide)]; exact hM.v
  · rw [h.c, if_pos (by omega)]
  · rw [e .acc (by decide) (by decide)]; exact hM.acc
  · rw [e .z (by decide) (by decide)]; exact H r j
  · rw [h.outA s' r j hs]; exact H r j

theorem scores_run (st : St) (q : FVec Ideal S1024x128 .bf16) (o : Fin 2 → ℕ) (h : ∀ d, o d + S512x128.size d ≤ S4096x128.size d) (s : Fin 2) :
    ((scores O q o h s).run st).2 = upd .z (slot s) (Sba.dots q fun x => st .k ((keys o h).emb x)) st := rfl

variable {q : FVec Ideal S1024x128 .bf16} (hq : ∀ (r : Fin 1024) (c : Fin 128), q (ix2 r c) = (X.q r.val c.val : EReal))

include hq in
theorem score_step {n N J : ℕ} (hJ : J < 8) {o : Fin 2 → ℕ} (h : ∀ d, o d + S512x128.size d ≤ S4096x128.size d) (ho : o = ![512 * J, 0]) (s : Fin 2) {st : St}
    (hM : Mid X st0 n N st) :
    Mid X st0 n N ((scores O q o h s).run st).2 ∧ Scored X s J ((scores O q o h s).run st).2
      ∧ (∀ s' J, s' ≠ s → Scored X s' J st → Scored X s' J ((scores O q o h s).run st).2)
      ∧ ∀ s' J, Weighed X s' J st → Weighed X s' J ((scores O q o h s).run st).2 := by
  rw [scores_run]
  subst ho
  refine ⟨⟨fun x hx => ?_, ?_, ?_, ?_, ?_⟩, fun r j => ?_, fun s' J hs H r j => ?_, fun s' J H r j => ?_⟩
  · rw [upd_ne hx.1, hM.same x hx]
  · rw [upd_ne (by decide)]; exact hM.k
  · rw [upd_ne (by decide)]; exact hM.v
  · rw [upd_ne (by decide)]; exact hM.c
  · rw [upd_ne (by decide)]; exact hM.acc
  · have hj := j.isLt
    rw [upd_same, put_in _ _ _ _ (slot_emb r j), Sba.dots_apply, X.z, ← Reals.sum_coe]
    refine Finset.sum_congr rfl fun c _ => ?_
    rw [keys_emb (y := ⟨512 * J + j.val, by omega⟩) h c rfl, hM.k, hq, ← EReal.coe_mul]
  · rw [upd_same]; exact (put_slot s _ _ s' r j hs).trans (H r j)
  · rw [upd_ne (by decide)]; exact H r j

theorem values_run (st : St) (o : Fin 2 → ℕ) (h : ∀ d, o d + S512x128.size d ≤ S4096x128.size d) (s : Fin 2) :
    ((values O o h s).run st).2 = upd .acc wqa (Sba.addRow (fun x => st .a ((slot s).emb x)) (fun x => st .v ((keys o h).emb x)) fun x => st .acc (wqa.emb x)) st := rfl

theorem value_step {n N : ℕ} (hN : N < 8) {o : Fin 2 → ℕ} (h : ∀ d, o d + S512x128.size d ≤ S4096x128.size d) (ho : o = ![512 * N, 0]) (s : Fin 2) {st : St}
    (hM : Mid X st0 n (N + 1) st) (hW : Weighed X s N st) :
    Mid X st0 n N ((values O o h s).run st).2
      ∧ (∀ s' J, Scored X s' J st → Scored X s' J ((values O o h s).run st).2)
      ∧ ∀ s' J, Weighed X s' J st → Weighed X s' J ((values O o h s).run st).2 := by
  rw [values_run]
  subst ho
  refine ⟨⟨fun x hx => ?_, ?_, ?_, ?_, fun r c => ?_⟩, fun s' J H r j => ?_, fun s' J H r j => ?_⟩
  · rw [upd_ne hx.2.2.2, hM.same x hx]
  · rw [upd_ne (by decide)]; exact hM.k
  · rw [upd_ne (by decide)]; exact hM.v
  · rw [upd_ne (by decide)]; exact hM.c
  · rw [upd_same, put_in _ _ _ _ (wqa_emb r c), Sba.addRow_apply, wqa_emb, hM.acc]
    have hj : ∀ j : Fin 512, st .a ((slot s).emb (ix3 0 r j)) * st .v ((keys ![512 * N, 0] h).emb (ix2 j c)) = (((X.R r.val).A (512 * N + j.val) * X.v (512 * N + j.val) c.val : ℝ) : EReal) := fun j => by
      have := j.isLt
      rw [slot_emb, hW r j, keys_emb (y := ⟨512 * N + j.val, by omega⟩) h c rfl, hM.v, ← EReal.coe_mul]
    rw [Finset.sum_congr rfl fun j _ => hj j, Reals.sum_coe, ← EReal.coe_add]
    refine congrArg _ ?_
    have e : out X (512 * (N + 1)) r.val c.val = out X (512 * N) r.val c.val + ∑ j : Fin 512, (X.R r.val).A (512 * N + j.val) * X.v (512 * N + j.val) c.val := by
      rw [out, out, Nat.mul_succ, Finset.sum_range_add _ (512 * N), Fin.sum_univ_eq_sum_range (fun j => (X.R r.val).A (512 * N + j) * X.v (512 * N + j) c.val) 512]
    rw [e]
    ring
  · rw [upd_ne (by decide)]; exact H r j
  · rw [upd_ne (by decide)]; exact H r j

/-! ## Trips of the main loop -/

/-- Before trip `u`: the block `2u` before the diagonal weighed in slot 0, the block before it scored in slot 1. -/
def Inv (X : Data) (st0 : St) (u : ℕ) (st : St) : Prop :=
  Mid X st0 (X.I - 2 * u) (X.I - 2 * u + 1) st ∧ Weighed X 0 (X.I - 2 * u) st ∧ Scored X 1 (X.I - (2 * u + 1)) st

include hq in
theorem trip_step {u : ℕ} (hu : 2 * u + 2 ≤ X.I) {o1 o2 o3 o4 : Fin 2 → ℕ} (h1 : ∀ d, o1 d + S512x128.size d ≤ S4096x128.size d) (h2 : ∀ d, o2 d + S512x128.size d ≤ S4096x128.size d)
    (h3 : ∀ d, o3 d + S512x128.size d ≤ S4096x128.size d) (h4 : ∀ d, o4 d + S512x128.size d ≤ S4096x128.size d)
    (e1 : o1 = ![512 * (X.I - (2 * u + 2)), 0]) (e2 : o2 = ![512 * (X.I - 2 * u), 0]) (e3 : o3 = ![512 * (X.I - (2 * u + 3)), 0]) (e4 : o4 = ![512 * (X.I - (2 * u + 1)), 0])
    {st : St} (H : Inv X st0 u st) : Inv X st0 (u + 1) ((trip O kp q o1 o2 o3 o4 h1 h2 h3 h4).run st).2 := by
  have hI := X.hI
  obtain ⟨M, W, S⟩ := H
  rw [show X.I - 2 * u = X.I - (2 * u + 1) + 1 by omega] at M W e2
  unfold trip
  rw [Den.run_bind, Den.run_bind, Den.run_bind, Den.run_bind, Den.run_bind]
  obtain ⟨M, W1, -, kW⟩ := weigh_step (.inr ⟨rfl, by omega⟩) 1 M S
  replace W := kW 0 _ (by decide) W
  clear kW S
  generalize (weights O kp false 1).run st = t at M W W1 ⊢
  obtain ⟨M, S, -, kW⟩ := score_step hq (J := X.I - (2 * u + 2)) (by omega) h1 e1 0 M
  replace W := kW 0 _ W
  replace W1 := kW 1 _ W1
  clear kW
  generalize (scores O q o1 h1 0).run t.2 = t at M S W W1 ⊢
  obtain ⟨M, kS, kW⟩ := value_step (by omega) h2 e2 0 M W
  replace S := kS 0 _ S
  replace W1 := kW 1 _ W1
  clear kW kS W
  generalize (values O o2 h2 0).run t.2 = t at M S W1 ⊢
  have M' := M
  rw [show X.I - (2 * u + 1) = X.I - (2 * u + 2) + 1 by omega] at M
  obtain ⟨M, W, -, kW⟩ := weigh_step (.inr ⟨rfl, by omega⟩) 0 M S
  replace W1 := kW 1 _ (by decide) W1
  clear kW S M'
  generalize (weights O kp false 0).run t.2 = t at M W W1 ⊢
  obtain ⟨M, S, -, kW⟩ := score_step hq (J := X.I - (2 * u + 3)) (by omega) h3 e3 1 M
  replace W := kW 0 _ W
  replace W1 := kW 1 _ W1
  clear kW
  generalize (scores O q o3 h3 1).run t.2 = t at M S W W1 ⊢
  rw [show X.I - (2 * u + 1) = X.I - (2 * u + 2) + 1 by omega] at W1 e4
  obtain ⟨M, kS, kW⟩ := value_step (by omega) h4 e4 1 M W1
  exact ⟨M, kW 0 _ W, kS 1 _ S⟩

include hq in
/-- The main loop. -/
theorem loop_inv (i : grid0.Coords) (hi : (i 1).val = X.I) {st : St} (H : Inv X st0 0 st) (a : BitVec 32) :
    ∀ (u : ℕ) (hu : u ≤ (k0_t1_loop i).trips), Inv X st0 u ((loopFrom (fun t (_ : BitVec 32) => (trip O kp q (k0_off3 i t 1#32) (k0_off4 i t) (k0_off3 i t 2#32) (k0_off5 i t)
      (k0_off3_inb i t 0) (k0_off4_inb i t) (k0_off3_inb i t 1) (k0_off5_inb i t) >>= fun _ => pure 0#32 : Den St (BitVec 32))) u hu a).run st).2
  | 0, _ => H
  | u + 1, hu => by
    have ih := loop_inv i hi H a u (by omega)
    rw [loopFrom, Den.run_bind, Den.run_bind]
    refine trip_step hq (u := u) ?_ _ _ _ _ ((off3 i ⟨u, hu⟩ 0).trans (by rw [hi]; rfl)) ((off4 i ⟨u, hu⟩).trans (by rw [hi])) ((off3 i ⟨u, hu⟩ 1).trans (by rw [hi]; rfl)) ((off5 i ⟨u, hu⟩).trans (by rw [hi])) ih
    have := trips1 i
    omega

theorem odd_step {u : ℕ} (hu : X.I = 2 * u + 1) {st : St} (H : Inv X st0 u st) : Mid X st0 0 0 ((odd O kp).run st).2 := by
  have hI := X.hI
  obtain ⟨M, W, S⟩ := H
  rw [show X.I - 2 * u = 1 by omega] at M W
  rw [show X.I - (2 * u + 1) = 0 by omega] at S
  unfold odd
  rw [Den.run_bind, Den.run_bind]
  obtain ⟨M, W1, -, kW⟩ := weigh_step (n := 0) (.inr ⟨rfl, by omega⟩) 1 M S
  replace W := kW 0 _ (by decide) W
  clear kW
  generalize (weights O kp false 1).run st = t at M W W1 ⊢
  obtain ⟨M, -, kW⟩ := value_step (N := 1) (by omega) inb_S4096x128_S512x128_512_0 rfl 0 M W
  replace W1 := kW 1 _ W1
  clear kW
  generalize (values O ![512, 0] inb_S4096x128_S512x128_512_0 0).run t.2 = t at M W1 ⊢
  exact (value_step (N := 0) (by omega) inb_S4096x128_S512x128_0_0 rfl 1 M W1).1

theorem even_step {u : ℕ} (hu : X.I = 2 * u) {st : St} (H : Inv X st0 u st) : Mid X st0 0 0 ((values O ![0, 0] inb_S4096x128_S512x128_0_0 0).run st).2 := by
  obtain ⟨M, W, -⟩ := H
  rw [show X.I - 2 * u = 0 by omega] at M W
  exact (value_step (N := 0) (by omega) inb_S4096x128_S512x128_0_0 rfl 0 M W).1

/-! ## The head -/

/-- The blocks held. -/
structure Reads (B : Block) (st : St) : Prop where
  q : ∀ (i : Fin 512) (c : Fin 128), st .q (ix2 i c) = (B.q i.val c.val : EReal)
  k : ∀ (y : Fin 4096) (c : Fin 128), st .k (ix2 y c) = (B.k y.val c.val : EReal)
  v : ∀ (y : Fin 4096) (c : Fin 128), st .v (ix2 y c) = (B.v y.val c.val : EReal)

/-- One strip's rows of the queries, scaled. -/
def stripQ (st : St) (a : Fin 4) : FVec Ideal S256x128 .bf16 :=
  split (F := Ideal) (mulf (F := Ideal) (φ := .bf16) (shapeCast S128x128 (α := Ideal .bf16) (fun x => st .q ((irow a).emb x)) shapeCasts_S128x128_S128x128) (broadcast S128x128 (Scalar.ofBits .bf16 0x3E00#16)))

theorem stripQ_apply {B : Block} {st : St} (H : Reads B st) (r : Fin 1024) (c : Fin 128) :
    stripQ st ⟨r.val / 256, by omega⟩ (ix2 ⟨r.val % 256, by omega⟩ c) = (B.Q r.val c.val : EReal) := by
  unfold stripQ Block.Q
  rw [Sba.split_apply]
  unfold hd qi
  by_cases h : c.val / 64 = r.val % 256 / 128
  · rw [if_pos h, if_pos h]
    have e : ∀ (x : FVec Ideal S128x128 .bf16) (i : Fin 128), mulf (F := Ideal) (φ := .bf16) (shapeCast S128x128 (α := Ideal .bf16) x shapeCasts_S128x128_S128x128) (broadcast S128x128 (Scalar.ofBits .bf16 0x3E00#16)) (ix2 i c)
        = x (ix2 i c) * Ideal.ofBits .bf16 0x3E00#16 := fun x i => by pointwise []
    rw [e, Sba.ofBits_eighth', irow_emb (r := ⟨128 * (r.val / 256) + r.val % 128, by omega⟩) c (by simp only []; omega), H.q, ← EReal.coe_mul]
  · rw [if_neg h, if_neg h]; rfl

def headQ (st : St) : FVec Ideal S1024x128 .bf16 := stack (F := Ideal) (stripQ st 0) (stripQ st 1) (stripQ st 2) (stripQ st 3)

theorem headQ_apply {B : Block} {st : St} (H : Reads B st) (r : Fin 1024) (c : Fin 128) : headQ st (ix2 r c) = (B.Q r.val c.val : EReal) := by
  unfold headQ
  rw [Sba.stack_apply (stripQ st), stripQ_apply H]

def zeroed (st : St) : St := upd .acc wqa Sba.zQa (upd .c wrow Sba.zRow st)

theorem head_run (st : St) (o1 o2 : Fin 2 → ℕ) (h1 h2) : (head O kp o1 o2 h1 h2).run st =
    (headQ st, ((scores O (headQ st) o2 h2 1).run ((weights O kp true 0).run ((scores O (headQ st) o1 h1 0).run (zeroed st)).2).2).2) := rfl

theorem out_late (X : Data) {r : ℕ} (hr : r < 1024) (c : ℕ) : out X (512 * (X.I + 1)) r c = out X 4096 r c := by
  have := X.hI
  refine Finset.sum_subset (fun j hj => ?_) fun j _ hj => ?_
  · simp only [Finset.mem_range] at hj ⊢; omega
  · rw [(X.late hr (by simpa using hj)).1, zero_mul]

theorem P_late (X : Data) {r : ℕ} (hr : r < 1024) : (X.R r).P 4096 = (X.R r).P (512 * (X.I + 1)) := by
  have := X.hI
  have := X.lim r hr
  have e := ((X.R r).P_past (m := 512 * (X.I + 1)) (by omega) (4096 - 512 * (X.I + 1))).1
  rwa [show 512 * (X.I + 1) + (4096 - 512 * (X.I + 1)) = 4096 by omega] at e

theorem head_inv {B : Block} {I : ℕ} (hI : I < 8) (hlt : ∀ r, r < 1024 → ((B.data I hI).R r).lt = ((B.data I hI).R r).P 4096) {o1 o2 : Fin 2 → ℕ} (h1 h2)
    (e1 : o1 = ![512 * I, 0]) (e2 : o2 = ![512 * (I - 1), 0]) {st : St} (H : Reads B st) :
    Inv (B.data I hI) st 0 ((head O kp o1 o2 h1 h2).run st).2 := by
  rw [head_run]
  dsimp only
  have hq := headQ_apply H
  generalize headQ st = q at hq ⊢
  have M : Mid (B.data I hI) st (I + 1) (I + 1) (zeroed st) := by
    unfold zeroed
    refine ⟨fun x hx => by rw [upd_ne hx.2.2.2, upd_ne hx.2.2.1], ?_, ?_, fun r => ?_, fun r c => ?_⟩
    · rw [upd_ne (by decide), upd_ne (by decide)]; exact H.k
    · rw [upd_ne (by decide), upd_ne (by decide)]; exact H.v
    · rw [upd_ne (by decide), upd_same, put_in _ _ _ _ (wrow_emb r), Sba.zRow_apply, hlt _ r.isLt, P_late _ r.isLt]
      simp [Block.data]
    · rw [upd_same, put_in _ _ _ _ (wqa_emb r c), Sba.zQa_apply, ← out_late _ r.isLt]
      simp [Block.data]
  obtain ⟨M, S, -, -⟩ := score_step (X := B.data I hI) hq hI h1 e1 0 M
  generalize (scores O q o1 h1 0).run (zeroed st) = t at M S ⊢
  obtain ⟨M, W, -, -⟩ := weigh_step (.inl ⟨rfl, rfl⟩) 0 M S
  generalize (weights O kp true 0).run t.2 = t at M W ⊢
  obtain ⟨M, S, -, kW⟩ := score_step (X := B.data I hI) hq (J := I - 1) (by omega) h2 e2 1 M
  exact ⟨M, kW 0 _ W, S⟩

/-! ## The tail -/

theorem join_apply (x : FVec Ideal S256x128 .f32) (i : Fin 128) (c : Fin 128) :
    join (F := Ideal) x (ix2 i c) = x (ix2 ⟨128 * (c.val / 64) + i.val, by omega⟩ c) := by
  have hc := c.isLt
  have e : join (F := Ideal) x (ix2 i c) = if lanes (ix2 i c) = 1#1 then x (ix2 ⟨i.val, by omega⟩ c) else x (ix2 ⟨128 + i.val, by omega⟩ c) := by
    pointwise [join]
    rfl
  rw [e, lanes_apply]
  by_cases hc' : c.val < 64
  · rw [if_pos hc', if_pos rfl]
    simp only [show 128 * (c.val / 64) + i.val = i.val by omega]
  · rw [if_neg hc', if_neg (by decide)]
    simp only [show 128 * (c.val / 64) + i.val = 128 + i.val by omega]

/-- The joined running sums as stored. -/
def totals (c : FVec Ideal S256x1 .f32) : FVec Ideal S1x128x128 .f32 := shapeCast S1x128x128 (α := Ideal .f32) (join (F := Ideal) (spread (F := Ideal) c)) shapeCasts_S128x128_S1x128x128

theorem totals_apply (c : FVec Ideal S256x1 .f32) (i l : Fin 128) : totals c (ix3 0 i l) = c (ix2 ⟨128 * (l.val / 64) + i.val, by omega⟩ 0) := by
  have e : totals c (ix3 0 i l) = join (F := Ideal) (spread (F := Ideal) c) (ix2 i l) := by pointwise [totals]
  rw [e, join_apply]
  pointwise [spread]

theorem lblk_emb {a : Fin 4} {r : Fin 512} {i : Fin 128} (l : Fin 128) (hr : r.val = 128 * a.val + i.val) : (lblk a).emb (ix3 0 i l) = ix3 0 r l := by
  funext d; apply Fin.ext; rw [Rect.emb_apply]
  fin_cases d
  · show 0 + 1 * 0 = 0; omega
  · show 128 * a.val + 1 * i.val = r.val; omega
  · show 0 + 1 * l.val = l.val; omega
theorem put_lblk {α : Type} (a : Fin 4) (w : S1x128x128.Idx → α) (v : S1x512x128.Idx → α) (r : Fin 512) (l : Fin 128)
    (h : r.val / 128 ≠ a.val) : put (lblk a) w v (ix3 0 r l) = v (ix3 0 r l) :=
  put_out (lblk a) w v _ 1 (128 * a.val) 128 rfl rfl rfl (by rw [ix3_1]; omega)

theorem tailStrip_run (st : St) (a : Fin 4) : (tailStrip O a).run st = (⟨⟩, upd .lt (lblk a) (totals fun y => st .c ((row a).emb y))
    (upd .o (irow a) (join (F := Ideal) fun y => st .acc ((qrow a).emb y)) st)) := rfl

/-- The results of the first `n` strips written out. -/
structure OutTo (f : ℕ → ℕ → ℝ) (g : ℕ → ℝ) (n : ℕ) (st0 st : St) : Prop where
  other : ∀ x : Buf, x ≠ .o → x ≠ .lt → st x = st0 x
  o : ∀ (i : Fin 512) (c : Fin 128), i.val / 128 < n → st .o (ix2 i c) = (f (256 * (i.val / 128) + 128 * (c.val / 64) + i.val % 128) c.val : EReal)
  lt : ∀ (i : Fin 512) (c : Fin 128), i.val / 128 < n → st .lt (ix3 0 i c) = (g (256 * (i.val / 128) + 128 * (c.val / 64) + i.val % 128) : EReal)

theorem tailStrip_to {f : ℕ → ℕ → ℝ} {g : ℕ → ℝ} (a : Fin 4) {st0 st : St} (hf : ∀ (r : Fin 1024) (c : Fin 128), st0 .acc (ix2 r c) = (f r.val c.val : EReal))
    (hg : ∀ r : Fin 1024, st0 .c (ix2 r 0) = (g r.val : EReal)) (h : OutTo f g a.val st0 st) : OutTo f g (a.val + 1) st0 ((tailStrip O a).run st).2 := by
  rw [tailStrip_run]
  dsimp only
  refine ⟨fun x hx hy => by rw [upd_ne hy, upd_ne hx, h.other x hx hy], fun i c hi => ?_, fun i c hi => ?_⟩
  · rw [upd_ne (by decide), upd_same]
    have hc := c.isLt
    by_cases ha : i.val / 128 = a.val
    · rw [put_in _ _ _ _ (irow_emb (a := a) (r := i) (i := ⟨i.val % 128, by omega⟩) c (by simp only []; omega)), join_apply,
        qrow_emb (a := a) (r := ⟨256 * (i.val / 128) + 128 * (c.val / 64) + i.val % 128, by omega⟩) c (by simp only []; omega), h.other .acc (by decide) (by decide), hf]
    · exact (Sba.put_irow a _ _ i c ha).trans (h.o i c (by omega))
  · rw [upd_same]
    have hc := c.isLt
    by_cases ha : i.val / 128 = a.val
    · rw [put_in _ _ _ _ (lblk_emb (a := a) (r := i) (i := ⟨i.val % 128, by omega⟩) c (by simp only []; omega)), totals_apply,
        row_emb (a := a) (r := ⟨256 * (i.val / 128) + 128 * (c.val / 64) + i.val % 128, by omega⟩) (by simp only []; omega), h.other .c (by decide) (by decide), hg]
    · refine (put_lblk a _ _ i c ha).trans ?_
      rw [upd_ne (by decide)]
      exact h.lt i c (by omega)

theorem tail_done {f : ℕ → ℕ → ℝ} {g : ℕ → ℝ} {st : St} (hf : ∀ (r : Fin 1024) (c : Fin 128), st .acc (ix2 r c) = (f r.val c.val : EReal))
    (hg : ∀ r : Fin 1024, st .c (ix2 r 0) = (g r.val : EReal)) : OutTo f g 4 st ((tail O).run st).2 := by
  have h0 : OutTo f g 0 st st := ⟨fun _ _ _ => rfl, fun _ _ h => absurd h (by omega), fun _ _ h => absurd h (by omega)⟩
  unfold tail
  rw [Den.run_bind, Den.run_bind, Den.run_bind]
  exact tailStrip_to 3 hf hg (tailStrip_to 2 hf hg (tailStrip_to 1 hf hg (tailStrip_to 0 hf hg h0)))

/-! ## The point -/

theorem kap_same : SbfKernelIdeal.Point.kap (F := Ideal) = kp := rfl

structure Done (B : Block) (I : ℕ) (hI : I < 8) (st0 st : St) : Prop where
  same : ∀ x : Buf, x = .q ∨ x = .k ∨ x = .v → st x = st0 x
  o : ∀ (i : Fin 512) (c : Fin 128), st .o (ix2 i c) = (out (B.data I hI) 4096 (256 * (i.val / 128) + 128 * (c.val / 64) + i.val % 128) c.val : EReal)
  lt : ∀ (i : Fin 512) (c : Fin 128), st .lt (ix3 0 i c) = (((B.data I hI).R (256 * (i.val / 128) + 128 * (c.val / 64) + i.val % 128)).lt : EReal)

theorem loopFrom_none {n : ℕ} (h : n = 0) (b : Fin n → BitVec 32 → Den St (BitVec 32)) (a : BitVec 32) : loopFrom b n le_rfl a = pure a := by
  subst h; rfl

theorem point_done {B : Block} (i : grid0.Coords) {I : ℕ} (hI : I < 8) (hi : (i 1).val = I)
    (hlt : ∀ r, r < 1024 → ((B.data I hI).R r).lt = ((B.data I hI).R r).P 4096) {st : St} (H : Reads B st) :
    Done B I hI st ((SbfKernelIdeal.Point.fn (F := Ideal) i).run st).2 := by
  unfold SbfKernelIdeal.Point.fn SbfKernelIdeal.Point.point loop
  rw [kap_same, Den.run_bind, Den.run_bind, Den.run_bind, Den.run_bind, Den.run_bind]
  have N := head_inv hI hlt (k0_off1_inb i) (k0_off2_inb i) ((off1 i).trans (by rw [hi])) ((off2 i).trans (by rw [hi])) H
  have eq : ((head O kp (k0_off1 i) (k0_off2 i) (k0_off1_inb i) (k0_off2_inb i)).run st).1 = headQ st := by rw [head_run]
  have hq := headQ_apply H
  rw [eq]
  generalize headQ st = q at hq ⊢
  generalize ((head O kp (k0_off1 i) (k0_off2 i) (k0_off1_inb i) (k0_off2_inb i)).run st).2 = st2 at N ⊢
  dsimp only
  have N := loop_inv (X := B.data I hI) hq i hi N 0#32 _ le_rfl
  rw [loopFrom_none (trips2 i)]
  show Done B I hI st _
  generalize (loopFrom (fun t (_ : BitVec 32) => (trip O kp q (k0_off3 i t 1#32) (k0_off4 i t) (k0_off3 i t 2#32) (k0_off5 i t)
      (k0_off3_inb i t 0) (k0_off4_inb i t) (k0_off3_inb i t 1) (k0_off5_inb i t) >>= fun _ => pure 0#32 : Den St (BitVec 32))) (k0_t1_loop i).trips le_rfl 0#32).run st2 = t3 at N ⊢
  have eT : (k0_t1_loop i).trips = I / 2 := by rw [trips1 i, hi]
  rw [eT] at N
  have fin : ∀ stF : St, Mid (B.data I hI) st 0 0 stF → Done B I hI st ((tail O).run stF).2 := by
    intro stF M
    have T := tail_done (f := fun r c => out (B.data I hI) 4096 r c - out (B.data I hI) (512 * 0) r c) (g := fun r => ((B.data I hI).R r).lt - ((B.data I hI).R r).P (512 * 0)) M.acc M.c
    refine ⟨fun x hx => ?_, fun j c => ?_, fun j c => ?_⟩
    · rw [T.other x (by rcases hx with rfl | rfl | rfl <;> decide) (by rcases hx with rfl | rfl | rfl <;> decide), M.same x (by rcases hx with rfl | rfl | rfl <;> decide)]
    · rw [T.o j c (by omega)]; simp [out]
    · rw [T.lt j c (by omega)]; simp [Row.P]
  by_cases hp : I % 2 = 0
  · have c1 := (cond1_iff i).2 (by omega)
    have c2 : ¬ k0_cond2 i = 1#1 := fun e => by have := (cond2_iff i).1 e; omega
    rw [dif_pos c1, dif_neg c2]
    exact fin _ (even_step (X := B.data I hI) (by show I = _; omega) N)
  · have c2 := (cond2_iff i).2 (by omega)
    have c1 : ¬ k0_cond1 i = 1#1 := fun e => by have := (cond1_iff i).1 e; omega
    rw [dif_neg c1, dif_pos c2]
    exact fin _ (odd_step (X := B.data I hI) (by show I = _; omega) N)

end Cert.Sbf
-- ==== Proof.SbfRefValue.lean ====
/- The attention's results and totals as the reference computes them, on real numbers. -/
module

public import proofs.«01_k».proof.Proof.SbaHost
public import proofs.«01_k».proof.Proof.Gen.SbfRefIdeal.Read

@[expose] public section

set_option maxRecDepth 16384

noncomputable section

open Idealize.ShloMosaic Idealize.ShloMosaic.TcCoe Idealize.SL.Sem

namespace Cert.SbfRefIdeal.Value
open Cert.SbfRefIdeal Cert.SbfRefIdeal.Read Cert.Sba Cert.SbaRefIdeal.Value
open Cert.SbaKernelIdeal.Value (hz hmask hsoft hlom hlt2 hlt hz_eq hmask_entry hlom_eq hlt2_eq zero3)

/-- A weighted sum of values. -/
def o (X : Args) (i d : ℕ) : ℝ := ∑ j : Fin 4096, (X.row (d / 64) i).A j.val * X.v j.val d

section
variable (x0 x1 : S4096x1024.Idx → EReal)

theorem v25_same : val_main_v25 (F := Ideal) x0 x1 = hlt x0 x1 := rfl
theorem v32_same : val_main_v32 (F := Ideal) x0 x1 = hz x0 x1 := rfl
theorem v38_same : val_main_v38 (F := Ideal) = hmask := rfl
theorem v41_same : val_main_v41 (F := Ideal) x0 x1 = hlom x0 x1 := rfl
end

variable {X : Args} {x0 x1 x2 x3 : S4096x1024.Idx → EReal} (H : Holds X x0 x1 x2 x3)
include H

theorem lt_eq (p : Fin 8) (i : Fin 4096) (l : Fin 128) : val_main_v25 (F := Ideal) x0 x1 (ix3 p i l) = (X.lt (2 * p.val + l.val / 64) i.val : EReal) := by
  rw [← hlt2_eq H ⟨2 * p.val + l.val / 64, by omega⟩ i, v25_same]
  pointwise [hlt]
  simp only [Nat.mul_comm]

theorem softN_eq (h : Fin 16) (i j : Fin 4096) : val_main_call5_v1 (F := Ideal) x0 x1 (ix3 h i j) = (lo (-X.z h.val i.val j.val) : EReal) := by
  refine Eq.trans ?_ (soft_coe (-X.z h.val i.val j.val))
  rw [EReal.coe_neg, ← hz_eq H, ← v32_same]
  pointwise [val_main_call5_v1, val_main_call5_call0_v4, val_main_call5_call0_v6, val_main_call5_call0_v11, val_main_call5_call0_v1, val_main_call5_call0_v10, val_main_call5_call0_v9, val_main_call5_call0_v8, val_main_call5_call0_v7, val_main_call5_call0_v3,
    val_main_call5_call0_v2, val_main_call5_call0_v0, val_main_call5_call0_v5, val_main_call5_call0_cst, val_main_call5_v0]

theorem wt_eq (h : Fin 16) (i j : Fin 4096) : val_main_v46 (F := Ideal) x0 x1 (ix3 h i j) = (wt X h.val i.val j.val : EReal) := by
  pointwise [val_main_v46, val_main_v45, val_main_v43, val_main_v44]
  have e : val_main_v42 (F := Ideal) x0 x1 (ix3 h i j) = ((∑ n ∈ Finset.range 4096, lom X h.val i.val n - ∑ n ∈ Finset.range j.val, lom X h.val i.val n : ℝ) : EReal) :=
    window_from _ _ (by pointwise [val_main_call4_v0, val_main_call4_cst]) _ _ h i j fun j => hlom_eq H h i j
  rw [e, softN_eq H, v41_same, hlom_eq H, ← EReal.coe_neg, ← EReal.coe_sub, ← EReal.coe_add, Ideal.exp_coe]
  rfl

theorem att_eq (h : Fin 16) (i j : Fin 4096) : val_main_v47 (F := Ideal) x0 x1 (ix3 h i j) = (att X h.val i.val j.val : EReal) := by
  pointwise [val_main_v47, val_main_call6_v1, val_main_call6_v2, val_main_call6_v0, val_main_cst_5]
  rw [v38_same, hmask_entry i j, wt_eq H]
  unfold att
  split_ifs
  · rfl
  · show Ideal.ofBits .f32 0x00000000#32 = _; rw [zero_bits]

theorem o_eq (i : Fin 4096) (d : Fin 1024) : val_main_v53 (F := Ideal) x0 x1 x2 (ix2 i d) = (o X i.val d.val : EReal) := by
  pointwise [val_main_v53, val_main_v52, val_main_v51, val_main_v50, val_main_v49, val_main_v48]
  simp only [att_eq H, H.v, ← EReal.coe_mul, att_A]
  rw [Reals.sum_coe]
  rfl

/-- The totals by their entries. -/
def lts (f : ℕ → ℕ → ℝ) : S8x4096x128.Idx → EReal := fun i => (f (2 * (i 0).val + (i 2).val / 64) (i 1).val : EReal)

omit H in
/-- The reference ends with the results and the totals. -/
theorem reference_run (m : (ℓ : Loc nD τ sig) → Buf (Elt Ideal) ℓ) (g : Dev nD → PrngReg) (X : Dev nD → Args) (x3 : S4096x1024.Idx → EReal) (H : ∀ c : Dev nD, Holds (X c) (m ((c.tc : Thread nD τ).loc main_arg0))
      (m ((c.tc : Thread nD τ).loc main_arg1)) (m ((c.tc : Thread nD τ).loc main_arg2)) x3) :
    θ_run (defs (F := Ideal)) (onTc (τ := τ) (main (F := Ideal))) ⟨m, fun _ => 0, g⟩ fun r => ∀ c : Dev nD,
      r.2.mem ((c.tc : Thread nD τ).loc main_v53) = arr (o (X c))
      ∧ r.2.mem ((c.tc : Thread nD τ).loc main_v25) = lts (X c).lt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2, h3⟩ := hr c
    refine ⟨h1.trans ?_, h2.trans ?_, h3⟩
    · rw [Read.val_main_v53_eq]
      funext i
      idx_vars i
      exact o_eq (H c) _ _
    · rw [Read.val_main_v25_eq]
      funext i
      idx_vars i
      exact lt_eq (H c) _ _ _

end Cert.SbfRefIdeal.Value

end
-- ==== Proof.SbfClaim.lean ====
/- The claims about the attention's forward call. -/
module

public import proofs.«01_k».proof.Defs
public import proofs.«01_k».proof.Proof.SbfDoIdeal
public import proofs.«01_k».proof.Proof.Gen.SbfKernel
public import proofs.«01_k».proof.Proof.Gen.SbfRefIdeal.Read
public import proofs.«01_k».proof.Proof.SbaClaim
public import Idealize.ShloMosaic.Lib.Tactic

@[expose] public section

noncomputable section

open Idealize.ShloMosaic Idealize.ShloMosaic.TcCoe Idealize.SL.Sem

namespace Cert.Sbf

/-- The constant named `log₂ e` stands for that real. -/
theorem preserves : Cert.preserves_SbfKernel_SbfKernelIdeal :=
  IdealRules.named_const.statement Cert.SbfKernelIdeal.κ "log2_e" .f32 0x3FB8AA3B#32 (((Real.log 2)⁻¹ : ℝ) : EReal) rfl

/-- The kernel runs and leaves its arguments: the idealized text's frame, which holds of every float, at the kernel's own floats. -/
theorem kernel_frame : Cert.quiescent_SbfKernel := fun m g _ =>
  Sba.cast_of (by sl_kernel_rfl) (@Cert.SbfKernelIdeal.Point.frame Bits _ Sba.named m g)

/-- The reference runs and leaves its arguments; it has no semaphores. -/
theorem reference_frame : Cert.quiescent_SbfRefIdeal := fun m g _ =>
  θ_run_mono (Cert.SbfRefIdeal.Value.run (F := Ideal) m g) fun r hr => ⟨fun c => (hr c).2.2, sem_eq_zero_of_no_sems (by decide) r.2⟩

end Cert.Sbf
-- ==== Proof.SbfValue.lean ====
/- The attention's forward kernel's results, and the claim. -/
module

public import proofs.«01_k».proof.Proof.SbfFlow
public import proofs.«01_k».proof.Proof.SbfRefValue
public import proofs.«01_k».proof.Proof.SbfClaim
public import proofs.«01_k».proof.Proof.SbaValue
public import proofs.«01_k».proof.Proof.Gen.SbfKernelIdeal.Frame

@[expose] public section

set_option maxRecDepth 16384

noncomputable section

open Idealize.ShloMosaic Idealize.ShloMosaic.TcCoe Idealize.SL.Sem
open Idealize.ShloMosaic.Pipeline (RDat)

namespace Cert.SbfKernelIdeal.Value
open Cert.Run Cert.SbfKernelIdeal Cert.SbfKernelIdeal.Gen Cert.SbfKernelIdeal.Point Cert.SbaRefIdeal.Value
open Cert.Sba (Args Row Data Block hd qi row_eq)
open Cert.Sbf (Reads Done out point_done)
open Cert.SbfRefIdeal.Value (o lts)
open Cert.SbaKernelIdeal.Value (kv kv_k kv_v)

variable (m : (ℓ : Loc nD τ sig) → Buf (Elt Ideal) ℓ) (c : Dev nD)

/-- The arguments. -/
abbrev A0 : S4096x1024.Idx → EReal := m ((c.tc : Thread nD τ).loc main_arg0)
abbrev A1 : S4096x1024.Idx → EReal := m ((c.tc : Thread nD τ).loc main_arg1)
abbrev A2 : S4096x1024.Idx → EReal := m ((c.tc : Thread nD τ).loc main_arg2)
/-- No gradient. -/
abbrev A3 : S4096x1024.Idx → EReal := fun _ => ((0 : ℝ) : EReal)

theorem V_q : V m c (Pipeline.arrRef spec0 0) = truncf (F := Ideal) .bf16 (A0 m c) bitsLt_bf16_f32 := by
  unfold V
  after_results_simp <;> rfl

theorem V_kv : V m c (Pipeline.arrRef spec0 1) = kv (A1 m c) (A2 m c) := by
  unfold V
  after_results_simp <;> rfl

/-! ## The blocks -/

theorem idx : ∀ t : Fin cfg0.N, win0_0.index t = ![t.val % 8, t.val / 8] ∧ win0_1.index t = ![0, t.val / 8] ∧ win0_2.index t = ![0, 8 + t.val / 8]
    ∧ win0_3.index t = ![t.val % 8, t.val / 8] ∧ win0_4.index t = ![t.val / 8, t.val % 8, 0] :=
  (by decide +kernel : ∀ t : Fin grid0.N, _)

theorem coord : ∀ t : Fin cfg0.N, (grid0.coords t 1).val = t.val % 8 :=
  (by decide +kernel : ∀ t : Fin grid0.N, _)

theorem lt64 (t : Fin cfg0.N) : t.val < 64 := by have := t.isLt; have : cfg0.N = 64 := N_0; omega

/-- The total of a row is the sum over all its keys. -/
theorem totals (X : Args) (p I : ℕ) (hI : I < 8) (r : ℕ) : (((X.block p I).data I hI).R r).lt = (((X.block p I).data I hI).R r).P 4096 := by
  rw [row_eq]
  rfl

theorem out_eq (X : Args) (p I : ℕ) (hI : I < 8) {i c : ℕ} (hi : i < 512) (hc : c < 128) :
    out ((X.block p I).data I hI) 4096 (256 * (i / 128) + 128 * (c / 64) + i % 128) c = o X (512 * I + i) (128 * p + c) := by
  unfold out o
  rw [row_eq, Fin.sum_univ_eq_sum_range (fun j => (X.row ((128 * p + c) / 64) (512 * I + i)).A j * X.v j (128 * p + c)) 4096, show (128 * p + c) / 64 = 2 * p + c / 64 by omega,
    show hd (256 * (i / 128) + 128 * (c / 64) + i % 128) = c / 64 by unfold hd; omega, show qi (256 * (i / 128) + 128 * (c / 64) + i % 128) = i by unfold qi; omega]
  rfl

theorem lt_block (X : Args) (p I : ℕ) (hI : I < 8) {i c : ℕ} (hi : i < 512) (hc : c < 128) :
    (((X.block p I).data I hI).R (256 * (i / 128) + 128 * (c / 64) + i % 128)).lt = X.lt (2 * p + c / 64) (512 * I + i) := by
  rw [row_eq, show hd (256 * (i / 128) + 128 * (c / 64) + i % 128) = c / 64 by unfold hd; omega, show qi (256 * (i / 128) + 128 * (c / 64) + i % 128) = i by unfold qi; omega]
  rfl

variable {m c} {X : Args} (H : Holds X (A0 m c) (A1 m c) (A2 m c) A3)
include H

theorem iblk_q (t : Fin cfg0.N) (i : Fin 512) (l : Fin 128) :
    Gen.iblk m c 0 t (ix2 i l : S512x128.Idx) = ((X.block (t.val / 8) (t.val % 8)).q i.val l.val : EReal) := by
  have h := lt64 t
  refine Eq.trans (b := V m c (Pipeline.arrRef spec0 0) (ix2 ⟨512 * (t.val % 8) + i.val, by omega⟩ ⟨128 * (t.val / 8) + l.val, by omega⟩ : S4096x1024.Idx)) ?_ ?_
  · blk_point [iblk, idx t]
  · rw [V_q]
    exact H.q ⟨512 * (t.val % 8) + i.val, by omega⟩ ⟨128 * (t.val / 8) + l.val, by omega⟩

theorem iblk_k (t : Fin cfg0.N) (y : Fin 4096) (l : Fin 128) :
    Gen.iblk m c 1 t (ix2 y l : S4096x128.Idx) = (X.k y.val (128 * (t.val / 8) + l.val) : EReal) := by
  have h := lt64 t
  refine Eq.trans (b := V m c (Pipeline.arrRef spec0 1) (ix2 y ⟨128 * (t.val / 8) + l.val, by omega⟩ : S4096x2048.Idx)) ?_ ?_
  · blk_point [iblk, idx t]
  · rw [V_kv]
    exact (kv_k (A1 m c) (A2 m c) y ⟨128 * (t.val / 8) + l.val, by omega⟩).trans (H.k _ _)

theorem iblk_v (t : Fin cfg0.N) (y : Fin 4096) (l : Fin 128) :
    Gen.iblk m c 2 t (ix2 y l : S4096x128.Idx) = (X.v y.val (128 * (t.val / 8) + l.val) : EReal) := by
  have h := lt64 t
  refine Eq.trans (b := V m c (Pipeline.arrRef spec0 1) (ix2 y ⟨1024 + (128 * (t.val / 8) + l.val), by omega⟩ : S4096x2048.Idx)) ?_ ?_
  · blk_point [iblk, idx t]
  · rw [V_kv]
    exact (kv_v (A1 m c) (A2 m c) y ⟨128 * (t.val / 8) + l.val, by omega⟩).trans (H.v _ _)

omit H

/-! ## What the run says -/

/-- A point leaves the blocks it reads, its results and its totals. -/
def tells (X : Args) : Says Ideal
  | 0, _, Y, Z => Z = Y
  | 1, _, Y, Z => Z = Y
  | 2, _, Y, Z => Z = Y
  | 3, t, _, Z => ∀ (i : Fin 512) (l : Fin 128), Z (ix2 i l) = (o X (512 * (t.val % 8) + i.val) (128 * (t.val / 8) + l.val) : EReal)
  | 4, t, _, Z => ∀ (i : Fin 512) (l : Fin 128), Z (ix3 0 i l) = (X.lt (2 * (t.val / 8) + l.val / 64) (512 * (t.val % 8) + i.val) : EReal)

variable (m c) (Xs : Dev nD → Args)

abbrev rd := rdat m (fun c => tells (Xs c)) c

theorem finds_q (t : Fin cfg0.N) (Y) (h : (rd m c Xs).Finds 0 t Y) : Y = Gen.iblk m c 0 t := by
  obtain ⟨d, rfl⟩ := ((rd m c Xs).finds_of_fetch (fetch0_0 t) Y).1 h
  rfl

theorem noflush : ∀ t : Fin cfg0.N, win0_1.flush t = false ∧ win0_2.flush t = false :=
  (by decide +kernel : ∀ t : Fin grid0.N, _)

variable {m c Xs} (Hs : ∀ c, Holds (Xs c) (A0 m c) (A1 m c) (A2 m c) A3)
include Hs

theorem finds_k (n : ℕ) (hn : n < cfg0.N) (Y) (h : (rd m c Xs).Finds 1 ⟨n, hn⟩ Y) (y : Fin 4096) (l : Fin 128) :
    Y (ix2 y l) = ((Xs c).k y.val (128 * (n / 8) + l.val) : EReal) := by
  induction n generalizing Y with
  | zero =>
    obtain ⟨d, rfl⟩ := ((rd m c Xs).finds_of_fetch ((fetch0_1 _).2 rfl) Y).1 h
    exact iblk_k (Hs c) ⟨0, hn⟩ y l
  | succ n ih =>
    by_cases h8 : (n + 1) % 8 = 0
    · obtain ⟨d, rfl⟩ := ((rd m c Xs).finds_of_fetch ((fetch0_1 ⟨n + 1, hn⟩).2 h8) Y).1 h
      exact iblk_k (Hs c) ⟨n + 1, hn⟩ y l
    · have hf : (cfg0.win 1).fetch ⟨n + 1, hn⟩ = false := Bool.eq_false_iff.2 fun e => h8 ((fetch0_1 _).1 e)
      obtain ⟨Y', hY, e⟩ := (((rd m c Xs).finds_of_pos hf (Nat.succ_ne_zero n) Y).1 h).resolve_left (by rw [show _ = false from (noflush _).1]; exact Bool.false_ne_true)
      have e' : Y = Y' := e
      rw [e', ih (by omega) Y' hY, show (n + 1) / 8 = n / 8 by omega]

theorem finds_v (n : ℕ) (hn : n < cfg0.N) (Y) (h : (rd m c Xs).Finds 2 ⟨n, hn⟩ Y) (y : Fin 4096) (l : Fin 128) :
    Y (ix2 y l) = ((Xs c).v y.val (128 * (n / 8) + l.val) : EReal) := by
  induction n generalizing Y with
  | zero =>
    obtain ⟨d, rfl⟩ := ((rd m c Xs).finds_of_fetch ((fetch0_2 _).2 rfl) Y).1 h
    exact iblk_v (Hs c) ⟨0, hn⟩ y l
  | succ n ih =>
    by_cases h8 : (n + 1) % 8 = 0
    · obtain ⟨d, rfl⟩ := ((rd m c Xs).finds_of_fetch ((fetch0_2 ⟨n + 1, hn⟩).2 h8) Y).1 h
      exact iblk_v (Hs c) ⟨n + 1, hn⟩ y l
    · have hf : (cfg0.win 2).fetch ⟨n + 1, hn⟩ = false := Bool.eq_false_iff.2 fun e => h8 ((fetch0_2 _).1 e)
      obtain ⟨Y', hY, e⟩ := (((rd m c Xs).finds_of_pos hf (Nat.succ_ne_zero n) Y).1 h).resolve_left (by rw [show _ = false from (noflush _).2]; exact Bool.false_ne_true)
      have e' : Y = Y' := e
      rw [e', ih (by omega) Y' hY, show (n + 1) / 8 = n / 8 by omega]

theorem reads (t : Fin cfg0.N) (Y : Wins Ideal) (st) (h : ∀ w, (rd m c Xs).Finds w t (Y w)) : Reads ((Xs c).block (t.val / 8) (t.val % 8)) (withWins Y st) where
  q i l := (congrFun (finds_q m c Xs t _ (h 0)) _).trans (iblk_q (Hs c) t i l)
  k y l := finds_k Hs t.val t.isLt _ (h 1) y l
  v y l := finds_v Hs t.val t.isLt _ (h 2) y l

theorem point_says (t : Fin cfg0.N) (Y : Wins Ideal) (st) (h : ∀ w, (rd m c Xs).Finds w t (Y w)) :
    ∀ w, tells (Xs c) w t (Y w) (wins ((fn (grid0.coords t)).run (withWins Y st)).2 w) := by
  have hI : t.val % 8 < 8 := by omega
  have D := point_done (grid0.coords t) hI (coord t) (fun r _ => totals (Xs c) (t.val / 8) (t.val % 8) hI r) (reads Hs t Y st h)
  generalize ((fn (F := Ideal) (grid0.coords t)).run (withWins Y st)).2 = st' at D ⊢
  intro w
  fin_cases w
  · exact D.same .q (by decide)
  · exact D.same .k (by decide)
  · exact D.same .v (by decide)
  · exact fun i l => (D.o i l).trans (congrArg _ (out_eq _ _ _ hI i.isLt l.isLt))
  · exact fun i l => (D.lt i l).trans (congrArg _ (lt_block _ _ _ hI i.isLt l.isLt))

omit Hs

/-! ## The arrays -/

variable (m c Xs)

/-- The results each point writes back. -/
def wrote : Pipeline.Dat τ (Elt Ideal) Unit ℕ (UR sig nD τ) ℕ (cfgs 0) c where
  A w := V m c (Pipeline.arrRef spec0 w)
  after
    | 0, _ => fun _ => (0 : EReal)
    | 1, _ => fun _ => (0 : EReal)
    | 2, _ => fun _ => (0 : EReal)
    | 3, t => fun y : S512x128.Idx => (o (Xs c) (512 * (t.val % 8) + (y 0).val) (128 * (t.val / 8) + (y 1).val) : EReal)
    | 4, t => fun y : S1x512x128.Idx => ((Xs c).lt (2 * (t.val / 8) + (y 2).val / 64) (512 * (t.val % 8) + (y 1).val) : EReal)
  Φ _ := Idealize.SL.BI.BIBase.emp
  q w := Pipeline.shareOf spec0 w
  owed _ := 0

theorem arr_eq (w : Fin cfg0.W) (hw : ∀ t, (cfg0.win w).flush t = true → ∀ Z, (rd m c Xs).Leaves w t Z → Z = (wrote m c Xs).after w t) (n : ℕ) (F)
    (h : (rd m c Xs).ArrAt w n F) : F = (wrote m c Xs).arrAt w n := by
  induction n generalizing F with
  | zero => exact h
  | succ n ih =>
    unfold RDat.ArrAt at h
    unfold Pipeline.Dat.arrAt
    dsimp only at h ⊢
    by_cases hn : n < cfg0.N
    · rw [dif_pos hn] at h
      rw [dif_pos hn]
      by_cases hf : (cfg0.win w).flush ⟨n, hn⟩ = true
      · rw [if_pos hf] at h
        rw [if_pos hf]
        obtain ⟨G, Z, hG, hZ, e⟩ := h
        rw [e, ih G hG, hw _ hf Z hZ]
      · rw [if_neg hf] at h
        rw [if_neg hf]
        exact ih F h
    · rw [dif_neg hn] at h
      rw [dif_neg hn]
      exact ih F h

theorem ends_o (F) (h : (rd m c Xs).ArrAt 3 cfg0.N F) : F = arr (o (Xs c)) := by
  rw [arr_eq m c Xs 3 (fun t _ Z hZ => ?_) cfg0.N F h]
  · refine (wrote m c Xs).arrAt_eq_of_covers 3 _ (by decide +kernel) fun t _ y => ?_
    blk_simp
    idx_vars y
    refine Eq.trans (b := arr (o (Xs c)) (ix2 ⟨512 * (t.val % 8) + y0.val, by have := lt64 t; omega⟩ ⟨128 * (t.val / 8) + y1.val, by have := lt64 t; omega⟩)) rfl ?_
    generalize arr (o (Xs c)) = A
    blk_point [idx t]
  · obtain ⟨Y, -, e⟩ := hZ
    funext y
    idx_vars y
    exact e y0 y1

theorem ends_lt (F) (h : (rd m c Xs).ArrAt 4 cfg0.N F) : F = lts (Xs c).lt := by
  rw [arr_eq m c Xs 4 (fun t _ Z hZ => ?_) cfg0.N F h]
  · refine (wrote m c Xs).arrAt_eq_of_covers 4 _ (by decide +kernel) fun t _ y => ?_
    blk_simp
    idx_vars y
    refine Eq.trans (b := lts (Xs c).lt (ix3 ⟨t.val / 8, by have := lt64 t; omega⟩ ⟨512 * (t.val % 8) + y1.val, by have := lt64 t; omega⟩ y2)) rfl ?_
    generalize lts (Xs c).lt = A
    blk_point [idx t]
  · obtain ⟨Y, -, e⟩ := hZ
    funext y
    idx_vars y
    obtain rfl : y0 = (0 : Fin 1) := Fin.fin_one_eq_zero y0
    exact e y1 y2

/-- The kernel ends with the results and the totals. -/
theorem kernel_run (g : Dev nD → PrngReg) (Hs : ∀ c, Holds (Xs c) (A0 m c) (A1 m c) (A2 m c) A3) :
    θ_run (defs (F := Ideal)) (onTc (τ := τ) (main (F := Ideal))) ⟨m, fun _ => 0, g⟩ fun r => ∀ c : Dev nD,
      r.2.mem ((c.tc : Thread nD τ).loc main_v4_0) = arr (o (Xs c))
      ∧ r.2.mem ((c.tc : Thread nD τ).loc main_v4_1) = lts (Xs c).lt
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (run_main m g (fun c => tells (Xs c)) fun c t Y st h => point_says Hs t Y st h) fun r hr c =>
    ⟨ends_o m c Xs _ ((hr.1 c).1 3), ends_lt m c Xs _ ((hr.1 c).1 4), frame_of m _ r hr.1 c⟩

end Cert.SbfKernelIdeal.Value

namespace Cert.Pre_sbf_finite

instance facts : Facts where
  bcast_S_S4096x1024 := by decide

end Cert.Pre_sbf_finite

namespace Cert.Sbf
open Cert.SbfKernelIdeal Cert.SbfKernelIdeal.Value Cert.SbaRefIdeal.Value
open Cert.Sba (Args entries entries_eq)

/-- The arguments' real numbers. -/
def reals (m : (ℓ : Loc nD τ sig) → Idealize.ShloMosaic.Buf (Elt Ideal) ℓ) (c : Dev nD) : Args := ⟨entries (A0 m c), entries (A1 m c), entries (A2 m c), fun _ _ => 0⟩

theorem holds (m : (ℓ : Loc nD τ sig) → Idealize.ShloMosaic.Buf (Elt Ideal) ℓ) (hpre : Cert.Pre_SbfKernelIdeal_sbf_finite m) (c : Dev nD) :
    Holds (reals m c) (A0 m c) (A1 m c) (A2 m c) A3 := by
  obtain ⟨h1, h2, h3⟩ := hpre c
  exact ⟨entries_eq (Reals.exists_reals fun i => Reals.ofBits_inf ▸ congrFun h1 i), entries_eq (Reals.exists_reals fun i => Reals.ofBits_inf ▸ congrFun h2 i),
    entries_eq (Reals.exists_reals fun i => Reals.ofBits_inf ▸ congrFun h3 i), fun _ _ => rfl⟩

/-- The kernel computes the attention and the totals of its logarithms. -/
theorem algebraic : Cert.algebraic_SbfKernelIdeal_SbfRefIdeal_pre_sbf_finite := by
  intro m g m' g' hpre hagree
  refine ⟨_, _, SbfKernelIdeal.Value.kernel_run m (reals m) g (holds m hpre), θ_run_mono (SbfRefIdeal.Value.reference_run m' g' (reals m) A3 fun c => ?_) fun r hr c => ?_⟩
  · rw [(hagree c).1, (hagree c).2.1, (hagree c).2.2]
    exact holds m hpre c
  · exact hr c

end Cert.Sbf

end
-- ==== Proof.SsdText.lean ====
/- One grid point of the state-space recurrence's forward kernel, written once over any loads and stores. -/
module

public import proofs.«01_k».proof.Proof.SbaText
public import proofs.«01_k».proof.Proof.Gen.SsdKernelIdeal

@[expose] public section

noncomputable section

open Idealize.ShloMosaic Idealize.ShloMosaic.TcCoe
open Idealize.SL.Sem

namespace Cert.Ssd

open Cert.Run Cert.SsdKernelIdeal Cert.SsdKernelIdeal.Gen
open Cert.Sba (st_bits st_packed)

/-- The buffers: the seven inputs' and three results' blocks and the carried state. -/
inductive Buf
  | xs | b | c | dt | par | z | gnw | y | yn | st | h
  deriving DecidableEq

def Buf.all : List Buf := [.xs, .b, .c, .dt, .par, .z, .gnw, .y, .yn, .st, .h]

instance : Fintype Buf := ⟨⟨Buf.all, by decide⟩, by intro x; cases x <;> decide⟩

@[reducible] noncomputable def Buf.shape : Buf → Shape
  | .xs | .z | .y | .yn => S128x2048
  | .b | .c => S128x512
  | .dt => S4x128x128
  | .par => S4x8x128
  | .gnw => S1x2048
  | .st => S4x1x4x128x128
  | .h => S4x4x128x128

@[reducible] noncomputable def Buf.elt : Buf → EltTy
  | .yn => .bf16
  | _ => .f32

@[reducible] noncomputable def K : Bufs := ⟨Buf, inferInstance, inferInstance, Buf.shape, Buf.elt⟩

/-! ## The rectangles and windows of group `g`, pair of heads `p` -/

theorem inb_par (g : Fin 4) : ∀ d, (![g.val, 0, 0] : Fin 3 → Nat) d + S1x8x128.size d ≤ S4x8x128.size d := by revert g; decide
theorem inb_dt (g : Fin 4) : ∀ d, (![g.val, 0, 0] : Fin 3 → Nat) d + S1x128x128.size d ≤ S4x128x128.size d := by revert g; decide
theorem inb_pair (p : Fin 4) : ∀ d, (![0, 128 * p.val] : Fin 2 → Nat) d + S128x128.size d ≤ S128x512.size d := by revert p; decide
theorem inb_group (g : Fin 4) : ∀ d, (![0, 512 * g.val] : Fin 2 → Nat) d + S128x512.size d ≤ S128x2048.size d := by revert g; decide
theorem inb_gnw (g : Fin 4) : ∀ d, (![0, 512 * g.val] : Fin 2 → Nat) d + S1x512.size d ≤ S1x2048.size d := by revert g; decide
theorem inb_h (g : Fin 4) : ∀ d, (![g.val, 0, 0, 0] : Fin 4 → Nat) d + S1x4x128x128.size d ≤ S4x4x128x128.size d := by revert g; decide
theorem inb_st (g : Fin 4) : ∀ d, (![g.val, 0, 0, 0, 0] : Fin 5 → Nat) d + S1x1x4x128x128.size d ≤ S4x1x4x128x128.size d := by revert g; decide

noncomputable abbrev parR (g : Fin 4) : Rect S4x8x128 := Rect.unit (s := S4x8x128) ![g.val, 0, 0] S1x8x128.size (inb_par g)
noncomputable abbrev dtR (g : Fin 4) : Rect S4x128x128 := Rect.unit (s := S4x128x128) ![g.val, 0, 0] S1x128x128.size (inb_dt g)
noncomputable abbrev pairR (p : Fin 4) : Rect S128x512 := Rect.unit (s := S128x512) ![0, 128 * p.val] S128x128.size (inb_pair p)
noncomputable abbrev groupR (g : Fin 4) : Rect S128x2048 := Rect.unit (s := S128x2048) ![0, 512 * g.val] S128x512.size (inb_group g)
noncomputable abbrev gnwR (g : Fin 4) : Rect S1x2048 := Rect.unit (s := S1x2048) ![0, 512 * g.val] S1x512.size (inb_gnw g)
noncomputable abbrev wholeR : Rect S4x4x128x128 := Rect.unit (s := S4x4x128x128) ![0, 0, 0, 0] S4x4x128x128.size inb_S4x4x128x128_S4x4x128x128_0_0_0_0

/-- A group's columns. -/
noncomputable abbrev groupW (g : Fin 4) : Win S128x2048 S128x512 := .cut (groupR g) fun _ => rfl
/-- A group's states. -/
noncomputable abbrev hW (g : Fin 4) : Win S4x4x128x128 S4x128x128 :=
  .drop (Rect.unit (s := S4x4x128x128) ![g.val, 0, 0, 0] S1x4x128x128.size (inb_h g)) (fun _ => rfl) S4x128x128 squeezes_S1x4x128x128_S4x128x128
noncomputable abbrev stW (g : Fin 4) : Win S4x1x4x128x128 S4x128x128 :=
  .drop (Rect.unit (s := S4x1x4x128x128) ![g.val, 0, 0, 0, 0] S1x1x4x128x128.size (inb_st g)) (fun _ => rfl) S4x128x128 squeezes_S1x1x4x128x128_S4x128x128

theorem packed_group (g : Fin 4) : (groupR g).PackedRows (EltTy.packing .bf16) := by
  revert g; decide

theorem st_in {s s' : Shape} (w : Win s s') (r : Rect s') (h : 0 < r.shape.numel) : CanStoreIn w r .f32 :=
  fun _ _ => View.stores_vmem_bits_univ h rfl

theorem slices_col (h : Fin 8) : S128x128.Slices ![0, h.val] S128x1 := by revert h; decide
theorem slices_row (h : Fin 8) : S128x128.Slices ![h.val, 0] S1x128 := by revert h; decide
theorem slices_one (h : Fin 8) : S1x128.Slices ![0, h.val] S1x1 := by revert h; decide
theorem slices_pair (p : Fin 4) : S128x512.Slices ![0, 128 * p.val] S128x128 := by revert p; decide

variable {F : FTy → Type} [FloatOps F]

/-! ## The arithmetic -/

/-- What a group's grid point loads first. -/
structure Blk (F : FTy → Type) [FloatOps F] where
  par : FVec F S8x128 .f32
  raw : FVec F S128x128 .f32
  bb : FVec F S128x128 .bf16
  cb : FVec F S128x128 .bf16

noncomputable def zero2 : FVec F S128x128 .f32 := broadcast S128x128 (Scalar.ofBits .f32 0x00000000#32)

/-- The softplus. -/
noncomputable def soft (x : FVec F S128x128 .f32) : FVec F S128x128 .f32 :=
  addf (maximumf x zero2) (log (addf (broadcast S128x128 (Scalar.ofBits .f32 0x3F800000#32)) (exp (subf zero2 (absf x)))))

noncomputable def dt (k : Blk F) : FVec F S128x128 .f32 :=
  soft (addf k.raw (broadcastTo S128x128 (extractStridedSlice S1x128 ![0, 0] k.par slices_S8x128_o0_0_S1x128) broadcasts_S1x128_S128x128))

noncomputable def decay (k : Blk F) : FVec F S1x128 .f32 :=
  subf (broadcast S1x128 (Scalar.ofBits .f32 0x00000000#32)) (exp (extractStridedSlice S1x128 ![1, 0] k.par slices_S8x128_o1_0_S1x128))

/-- Each row plus the row `n` above it. -/
noncomputable def step (n : BitVec 32) (x : FVec F S128x128 .f32) : FVec F S128x128 .f32 :=
  addf x (select (cmpi .sge (iota .tc S128x128 32 [0] iota_S128x128_d0_w32) (broadcast S128x128 n)) (dynamicRotate 0 n none x rotates_S128x128_d0) zero2)

/-- The sums down the rows. -/
noncomputable def sums (x : FVec F S128x128 .f32) : FVec F S128x128 .f32 :=
  step 64#32 (step 32#32 (step 16#32 (step 8#32 (step 4#32 (step 2#32 (step 1#32 x))))))

noncomputable def cs (k : Blk F) : FVec F S128x128 .f32 := sums (mulf (dt k) (broadcastTo S128x128 (decay k) broadcasts_S1x128_S128x128))

noncomputable def last (k : Blk F) : FVec F S1x128 .f32 := extractStridedSlice S1x128 ![127, 0] (cs k) slices_S128x128_o127_0_S1x128

noncomputable def toEnd (k : Blk F) : FVec F S128x128 .f32 := exp (subf (broadcastTo S128x128 (last k) broadcasts_S1x128_S128x128) (cs k))

noncomputable def dsk (k : Blk F) : FVec F S1x128 .f32 := extractStridedSlice S1x128 ![2, 0] k.par slices_S8x128_o2_0_S1x128

noncomputable def scores (k : Blk F) : FVec F S128x128 .f32 :=
  matmul dot_S128x128_S128x128_S128x128_1_1_0_0_n_n none k.cb k.bb (constant S128x128 .f32 0x00000000#32)

noncomputable def tril : IVec S128x128 1 := cmpi .sle (iota .tc S128x128 32 [1] iota_S128x128_d1_w32) (iota .tc S128x128 32 [0] iota_S128x128_d0_w32)
noncomputable def lo : IVec S128x128 1 := cmpi .slt (iota .tc S128x128 32 [1] iota_S128x128_d1_w32) (broadcast S128x128 64#32)
noncomputable def lo1 : IVec S1x128 1 := cmpi .slt (iota .tc S1x128 32 [1] iota_S1x128_d1_w32) (broadcast S1x128 64#32)

noncomputable def pick : FVec F S128x512 .bf16 :=
  truncf .bf16 (sitofp .f32 (extui 32 (cmpi .eq (iota .tc S128x512 32 [0] iota_S128x512_d0_w32) (shrsi (iota .tc S128x512 32 [1] iota_S128x512_d1_w32) (broadcast S128x512 6#32))) natLt_1_32)) bitsLt_bf16_f32

/-- A value's rounding, and what it leaves of the value. -/
noncomputable def hi {s : Shape} (x : FVec F s .f32) : FVec F s .bf16 := truncf .bf16 x bitsLt_bf16_f32
noncomputable def rest {s : Shape} (x : FVec F s .f32) : FVec F s .f32 := subf x (extf .f32 (hi x) bitsLt_bf16_f32)

/-- Each head's column spread over the head's 64 columns. -/
noncomputable def spread (x : FVec F S128x128 .f32) : FVec F S128x512 .f32 :=
  matmul dot_S128x384_S384x512_S128x512_1_0_0_1_n_n none
    (concatenate S128x384 1 [⟨S128x128, hi x⟩, ⟨S128x128, hi (rest x)⟩, ⟨S128x128, hi (rest (rest x))⟩] concatenates_S128x128_S128x128_S128x128_S128x384_d1)
    (concatenate S384x512 0 [⟨S128x512, pick⟩, ⟨S128x512, pick⟩, ⟨S128x512, pick⟩] concatenates_S128x512_S128x512_S128x512_S384x512_d0)
    (constant S128x512 .f32 0x00000000#32)

/-- A pair's columns of the spread values. -/
noncomputable def cols (p : Fin 4) (x : FVec F S128x128 .f32) : FVec F S128x128 .f32 :=
  extractStridedSlice S128x128 ![0, 128 * p.val] (spread x) (slices_pair p)

noncomputable def xd (p : Fin 4) (k : Blk F) (x : FVec F S128x128 .f32) : FVec F S128x128 .f32 := mulf x (cols p (dt k))

/-- The decays between two rows of the head `h`. -/
noncomputable def between (h : Fin 8) (k : Blk F) : FVec F S128x128 .f32 :=
  select tril (exp (minimumf (subf (broadcastTo S128x128 (extractStridedSlice S128x1 ![0, h.val] (cs k) (slices_col h)) broadcasts_S128x1_S128x128)
    (broadcastTo S128x128 (extractStridedSlice S1x128 ![h.val, 0] (transpose S128x128 [1, 0] (cs k) transposes_S128x128_p1_0_S128x128) (slices_row h)) broadcasts_S1x128_S128x128)) zero2)) zero2

noncomputable def within (h : Fin 8) (k : Blk F) (v : FVec F S128x128 .f32) : FVec F S128x128 .f32 :=
  matmul dot_S128x128_S128x128_S128x128_1_0_0_1_n_n none (truncf .bf16 (mulf (scores k) (between h k)) bitsLt_bf16_f32) (truncf .bf16 v bitsLt_bf16_f32)
    (constant S128x128 .f32 0x00000000#32)

noncomputable def one (h : Fin 8) (v : FVec F S1x128 .f32) : FVec F S1x128 .f32 :=
  broadcastTo S1x128 (shapeCast S1x1 (α := F .f32) (extractStridedSlice S1x1 ![0, h.val] v (slices_one h)) shapeCasts_S1x1_S1x1) broadcasts_S1x1_S1x128

/-- The first and the second head of a pair. -/
abbrev hA (p : Fin 4) : Fin 8 := ⟨2 * p.val, by omega⟩
abbrev hB (p : Fin 4) : Fin 8 := ⟨2 * p.val + 1, by omega⟩

/-- The values of both heads of a pair, each along its half of the lanes. -/
noncomputable def both (p : Fin 4) (v : FVec F S1x128 .f32) : FVec F S128x128 .f32 :=
  broadcastTo S128x128 (select lo1 (one (hA p) v) (one (hB p) v)) broadcasts_S1x128_S128x128

/-- The results of a pair of heads. -/
noncomputable def yOf (p : Fin 4) (k : Blk F) (x H : FVec F S128x128 .f32) : FVec F S128x128 .f32 :=
  addf (addf (select lo (within (hA p) k (xd p k x)) (within (hB p) k (xd p k x)))
    (mulf (matmul dot_S128x128_S128x128_S128x128_1_0_0_1_n_n none k.cb (truncf .bf16 H bitsLt_bf16_f32) (constant S128x128 .f32 0x00000000#32)) (cols p (exp (cs k)))))
    (mulf (both p (dsk k)) x)

/-- The next state of a pair of heads. -/
noncomputable def next (p : Fin 4) (k : Blk F) (x H : FVec F S128x128 .f32) : FVec F S128x128 .f32 :=
  addf (mulf H (both p (exp (last k))))
    (matmul dot_S128x128_S128x128_S128x128_0_0_1_1_n_n none k.bb (truncf .bf16 (mulf (xd p k x) (cols p (toEnd k))) bitsLt_bf16_f32) (constant S128x128 .f32 0x00000000#32))

noncomputable def half : FVec F S128x512 .f32 := broadcast S128x512 (Scalar.ofBits .f32 0x3F000000#32)

/-- The gated results. -/
noncomputable def gated (z y : FVec F S128x512 .f32) : FVec F S128x512 .f32 :=
  mulf y (mulf z (addf (mulf half (tanh (mulf half z))) half))

noncomputable def ones : FVec F S512x128 .bf16 :=
  truncf .bf16 (sitofp .f32 (extui 32 (cmpi .sge (iota .tc S512x128 32 [0] iota_S512x128_d0_w32) (broadcast S512x128 0#32)) natLt_1_32)) bitsLt_bf16_f32

/-- The sums of the rows, along every lane. -/
noncomputable def rows (x : FVec F S128x512 .f32) : FVec F S128x128 .f32 :=
  matmul dot_S128x1024_S1024x128_S128x128_1_0_0_1_n_n none
    (concatenate S128x1024 1 [⟨S128x512, hi x⟩, ⟨S128x512, hi (rest x)⟩] concatenates_S128x512_S128x512_S128x1024_d1)
    (concatenate S1024x128 0 [⟨S512x128, ones⟩, ⟨S512x128, ones⟩] concatenates_S512x128_S512x128_S1024x128_d0) (constant S128x128 .f32 0x00000000#32)

noncomputable def scale (x : FVec F S128x512 .f32) : FVec F S128x128 .f32 :=
  rsqrt (addf (mulf (rows (mulf x x)) (broadcast S128x128 (Scalar.ofBits .f32 0x3B000000#32))) (broadcast S128x128 (Scalar.ofBits .f32 0x358637BD#32)))

/-- The normed results of a group. -/
noncomputable def normed (w : FVec F S1x512 .f32) (x : FVec F S128x512 .f32) : FVec F S128x512 .bf16 :=
  truncf .bf16 (mulf (mulf x (concatenate S128x512 1 [⟨S128x128, scale x⟩, ⟨S128x128, scale x⟩, ⟨S128x128, scale x⟩, ⟨S128x128, scale x⟩]
    concatenates_S128x128_S128x128_S128x128_S128x128_S128x512_d1)) (broadcastTo S128x512 w broadcasts_S1x512_S128x512)) bitsLt_bf16_f32

/-! ## The pieces -/

variable {m : Type → Type 1} [Monad m] (ops : Ops K (Elt F) m)

/-- The states cleared. -/
noncomputable def clear : m PUnit := do
  let _ ← ops.load .h wholeR h_S4x4x128x128
  ops.store .h wholeR (shapeCast S4x4x128x128 (α := F .f32) (broadcast S4x4x128x128 (Scalar.ofBits .f32 0x00000000#32)) shapeCasts_S4x4x128x128_S4x4x128x128) (st_bits _ h_S4x4x128x128)

noncomputable def common (g : Fin 4) : m (Blk F) := do
  let par ← ops.load .par (parR g) h_S1x8x128
  let raw ← ops.load .dt (dtR g) h_S1x128x128
  let b ← ops.load .b (pairR g) h_S128x128
  let c ← ops.load .c (pairR g) h_S128x128
  pure ⟨shapeCast S8x128 (α := F .f32) par shapeCasts_S1x8x128_S8x128, shapeCast S128x128 (α := F .f32) raw shapeCasts_S1x128x128_S128x128,
    truncf (F := F) (φ := .f32) .bf16 b bitsLt_bf16_f32, truncf (F := F) (φ := .f32) .bf16 c bitsLt_bf16_f32⟩

noncomputable def xload (g p : Fin 4) : m (FVec F S128x128 .f32) := ops.loadIn .xs (groupW g) (pairR p) h_S128x128

noncomputable def tail (g p : Fin 4) (k : Blk F) (x : FVec F S128x128 .f32) : m PUnit := do
  let H ← ops.loadIn .h (hW g) (dtR p) h_S1x128x128
  let _ ← ops.loadIn .st (stW g) (dtR p) h_S1x128x128
  ops.storeIn .st (stW g) (dtR p) (shapeCast S1x128x128 (α := F .f32) (shapeCast S128x128 (α := F .f32) H shapeCasts_S1x128x128_S128x128) shapeCasts_S128x128_S1x128x128) (st_in _ _ h_S1x128x128)
  let _ ← ops.loadIn .y (groupW g) (pairR p) h_S128x128
  ops.storeIn .y (groupW g) (pairR p) (yOf p k x (shapeCast S128x128 (α := F .f32) H shapeCasts_S1x128x128_S128x128)) (st_in _ _ h_S128x128)
  let _ ← ops.loadIn .h (hW g) (dtR p) h_S1x128x128
  ops.storeIn .h (hW g) (dtR p) (shapeCast S1x128x128 (α := F .f32) (next p k x (shapeCast S128x128 (α := F .f32) H shapeCasts_S1x128x128_S128x128)) shapeCasts_S128x128_S1x128x128) (st_in _ _ h_S1x128x128)

/-- A pair of heads of each group. -/
noncomputable def tails (p : Fin 4) (k0 k1 k2 k3 : Blk F) (x0 x1 x2 x3 : FVec F S128x128 .f32) : m PUnit := do
  tail ops 0 p k0 x0
  tail ops 1 p k1 x1
  tail ops 2 p k2 x2
  tail ops 3 p k3 x3

noncomputable def round (p : Fin 4) (k0 k1 k2 k3 : Blk F) : m PUnit := do
  let x0 ← xload ops 0 p
  let x1 ← xload ops 1 p
  let x2 ← xload ops 2 p
  let x3 ← xload ops 3 p
  tails ops p k0 k1 k2 k3 x0 x1 x2 x3

noncomputable def final (g : Fin 4) : m PUnit := do
  let z ← ops.load .z (groupR g) h_S128x512
  let y ← ops.load .y (groupR g) h_S128x512
  let w ← ops.load .gnw (gnwR g) h_S1x512
  let _ ← ops.load .yn (groupR g) h_S128x512
  ops.store .yn (groupR g) (normed (shapeCast S1x512 (α := F .f32) w shapeCasts_S1x512_S1x512) (gated z (shapeCast S128x512 (α := F .f32) y shapeCasts_S128x512_S128x512)))
    (st_packed _ h_S128x512 (packed_group g))

/-- One grid point, the states cleared at the first. -/
noncomputable def point (first : Prop) [Decidable first] : m PUnit :=
  (if _h : first then clear ops else pure ⟨⟩) >>= fun _ => do
  let k0 ← common ops 0
  let x0 ← xload ops 0 0
  let k1 ← common ops 1
  let x1 ← xload ops 1 0
  let k2 ← common ops 2
  let x2 ← xload ops 2 0
  let k3 ← common ops 3
  let x3 ← xload ops 3 0
  tails ops 0 k0 k1 k2 k3 x0 x1 x2 x3
  round ops 1 k0 k1 k2 k3
  round ops 2 k0 k1 k2 k3
  round ops 3 k0 k1 k2 k3
  final ops 0
  final ops 1
  final ops 2
  final ops 3

/-! ## Related operations -/

variable {m₁ m₂ : Type → Type 1} [Monad m₁] [Monad m₂] {O₁ : Ops K (Elt F) m₁} {O₂ : Ops K (Elt F) m₂} (H : Rel O₁ O₂)
include H

theorem rel_clear : H.R (clear O₁) (clear O₂) :=
  H.bind (H.load _ _ _) fun _ => H.store _ _ _ _

theorem rel_common (g : Fin 4) : H.R (common O₁ g) (common O₂ g) :=
  H.bind (H.load _ _ _) fun _ => H.bind (H.load _ _ _) fun _ => H.bind (H.load _ _ _) fun _ => H.bind (H.load _ _ _) fun _ => H.pure _

theorem rel_xload (g p : Fin 4) : H.R (xload O₁ g p) (xload O₂ g p) := H.loadIn _ _ _ _

theorem rel_tail (g p : Fin 4) (k : Blk F) (x : FVec F S128x128 .f32) : H.R (tail O₁ g p k x) (tail O₂ g p k x) :=
  H.bind (H.loadIn _ _ _ _) fun _ => H.bind (H.loadIn _ _ _ _) fun _ => H.bind (H.storeIn _ _ _ _ _) fun _ => H.bind (H.loadIn _ _ _ _) fun _ =>
    H.bind (H.storeIn _ _ _ _ _) fun _ => H.bind (H.loadIn _ _ _ _) fun _ => H.storeIn _ _ _ _ _

theorem rel_tails (p : Fin 4) (k0 k1 k2 k3 : Blk F) (x0 x1 x2 x3 : FVec F S128x128 .f32) :
    H.R (tails O₁ p k0 k1 k2 k3 x0 x1 x2 x3) (tails O₂ p k0 k1 k2 k3 x0 x1 x2 x3) :=
  H.bind (rel_tail H ..) fun _ => H.bind (rel_tail H ..) fun _ => H.bind (rel_tail H ..) fun _ => rel_tail H ..

theorem rel_round (p : Fin 4) (k0 k1 k2 k3 : Blk F) : H.R (round O₁ p k0 k1 k2 k3) (round O₂ p k0 k1 k2 k3) :=
  H.bind (rel_xload H ..) fun _ => H.bind (rel_xload H ..) fun _ => H.bind (rel_xload H ..) fun _ => H.bind (rel_xload H ..) fun _ => rel_tails H ..

theorem rel_final (g : Fin 4) : H.R (final O₁ g) (final O₂ g) :=
  H.bind (H.load _ _ _) fun _ => H.bind (H.load _ _ _) fun _ => H.bind (H.load _ _ _) fun _ => H.bind (H.load _ _ _) fun _ => H.store _ _ _ _

theorem rel_point (first : Prop) [Decidable first] : H.R (point O₁ first) (point O₂ first) := by
  unfold point
  refine H.bind ?_ fun _ => ?_
  · by_cases h : first
    · simp only [dif_pos h]; exact rel_clear H
    · simp only [dif_neg h]; exact H.pure _
  repeat' first
    | with_reducible refine H.bind ?_ fun _ => ?_
    | exact rel_common H ..
    | exact rel_xload H ..
    | exact rel_tails H ..
    | exact rel_round H ..
    | exact rel_final H ..

end Cert.Ssd
-- ==== Proof.SsdPointIdeal.lean ====
/- The printed body of one grid point is the text. -/
module

public import proofs.«01_k».proof.Proof.SsdText
public import Idealize.ShloMosaic.Lib.Tactic
@[expose] public section
noncomputable section
open Idealize.ShloMosaic Idealize.ShloMosaic.TcCoe
open Idealize.SL.Sem
namespace Cert.SsdKernelIdeal.Point
open Cert.Run Cert.Ssd Cert.SsdKernelIdeal Cert.SsdKernelIdeal.Gen

variable {F : FTy → Type} [FloatOps F]

/-- Whether a point is the first. -/
abbrev isFirst (i : grid0.Coords) : Prop := Scalar.cmpi .ne (Scalar.extui (Scalar.cmpi .eq (BitVec.ofNat 32 (i 0).val) 0#32) : BitVec 32) 0#32 = 1#1

variable (M : K.At sig) (hM : ∀ b, (M b).IsWhole)

abbrev P : Ops K (Elt F) (Prog (TpuEff nD τ sig (Elt F) Λ₀ .tc)) := progOps M hM

/-- The first part after the states are cleared. -/
def opening : Prog (TpuEff nD τ sig (Elt F) Λ₀ .tc) (Σ' (_ : FVec F S8x128 .f32) (_ : FVec F S128x128 .f32) (_ : IVec S128x128 32) (_ : FVec F S128x128 .f32), BitVec 32) := do
  let par ← (P M hM).load .par (parR 0) h_S1x8x128
  let raw ← (P M hM).load .dt (dtR 0) h_S1x128x128
  let p : FVec F S8x128 .f32 := shapeCast S8x128 (α := F .f32) par shapeCasts_S1x8x128_S8x128
  let d : FVec F S128x128 .f32 := soft (addf (shapeCast S128x128 (α := F .f32) raw shapeCasts_S1x128x128_S128x128) (broadcastTo S128x128 (extractStridedSlice S1x128 ![0, 0] p slices_S8x128_o0_0_S1x128) broadcasts_S1x128_S128x128))
  pure ⟨p, d, iota .tc S128x128 32 [0] iota_S128x128_d0_w32,
    step 2#32 (step 1#32 (mulf d (broadcastTo S128x128 (subf (broadcast S1x128 (Scalar.ofBits .f32 0x00000000#32)) (exp (extractStridedSlice S1x128 ![1, 0] p slices_S8x128_o1_0_S1x128))) broadcasts_S1x128_S128x128))), 4#32⟩

theorem part1_eq (i : grid0.Coords) :
    k0_part1 (F := F) i (M .xs) (hM .xs) (M .b) (hM .b) (M .c) (hM .c) (M .dt) (hM .dt) (M .par) (hM .par) (M .z) (hM .z) (M .gnw) (hM .gnw)
      (M .y) (hM .y) (M .yn) (hM .yn) (M .st) (hM .st) (M .h) (hM .h) =
      (if _h : isFirst i then clear (P M hM) else pure ⟨⟩) >>= fun _ => opening M hM := by
  unfold k0_part1
  dsimp only
  refine (Sba.dite_jp fun h => ?_).trans (Sba.bind_eq rfl fun _ => ?_)
  · sl_kernel_rfl
  sl_kernel_rfl

theorem body_eq (i : grid0.Coords) :
    cc0_ssd_fwd (F := F) i (M .xs) (hM .xs) (M .b) (hM .b) (M .c) (hM .c) (M .dt) (hM .dt) (M .par) (hM .par) (M .z) (hM .z) (M .gnw) (hM .gnw)
      (M .y) (hM .y) (M .yn) (hM .yn) (M .st) (hM .st) (M .h) (hM .h) = point (P M hM) (isFirst i) := by
  unfold cc0_ssd_fwd k0_part48 point
  rw [part1_eq]
  by_cases h : isFirst i
  · rw [dif_pos h]
    sl_kernel_rfl
  · rw [dif_neg h]
    sl_kernel_rfl

end Cert.SsdKernelIdeal.Point
-- ==== Proof.SsdDoIdeal.lean ====
/- The kernel's run: each grid point computes what its text says of the buffers' contents. -/
module

public import proofs.«01_k».proof.Proof.SsdPointIdeal
public import proofs.«01_k».proof.Proof.Gen.SsdKernelIdeal.Frame
public import Idealize.ShloMosaic.Lib.Tactic
public import Idealize.ShloMosaic.Lib.Pipeline.FrameBody
@[expose] public section
noncomputable section
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
namespace Cert.SsdKernelIdeal.Point
open Cert.Run Cert.Ssd Cert.SsdKernelIdeal Cert.SsdKernelIdeal.Gen

variable {F : FTy → Type} [FloatOps F]

local notation "𝕄" => MT nD τ sig Unit (Elt F) ℕ (UR sig nD τ) ℕ

/-- What a grid point computes, as a function of the buffers' contents. -/
def fn (i : grid0.Coords) : Den (K.St (Elt F)) PUnit := point (stOps K (Elt F)) (isFirst i)

theorem does_body (𝒱 : Variants) (c : Dev nD) (bd : Option 𝒱.V) (E : Set ℕ) (M : K.At sig) (hM : ∀ b, (M b).IsWhole) (i : grid0.Coords) :
    Does Unit (UR sig nD τ) ℕ (defs₀ (F := F)) 𝒱 c bd E M
      (cc0_ssd_fwd (F := F) i (M .xs) (hM .xs) (M .b) (hM .b) (M .c) (hM .c) (M .dt) (hM .dt) (M .par) (hM .par) (M .z) (hM .z) (M .gnw) (hM .gnw)
        (M .y) (hM .y) (M .yn) (hM .yn) (M .st) (hM .st) (M .h) (hM .h))
      (fn i) := by
  rw [body_eq]
  exact rel_point (doesRel 𝒱 c bd E hM) (isFirst i)

/-- The memrefs of grid point `t`: the windows' current buffers and the carried state. -/
def at_ (t : Fin cfg0.N) : K.At sig
  | .xs => st0_0 t | .b => st0_1 t | .c => st0_2 t | .dt => st0_3 t | .par => st0_4 t | .z => st0_5 t | .gnw => st0_6 t | .y => st0_7 t | .yn => st0_8 t | .st => st0_9 t
  | .h => Memref.whole cc0_scratch0

theorem at_whole (t : Fin cfg0.N) : ∀ b, (at_ t b).IsWhole
  | .xs => hstage0_0 ((cfg0.slots t 0).cast nbuf0_0)
  | .b => hstage0_1 ((cfg0.slots t 1).cast nbuf0_1)
  | .c => hstage0_2 ((cfg0.slots t 2).cast nbuf0_2)
  | .dt => hstage0_3 ((cfg0.slots t 3).cast nbuf0_3)
  | .par => hstage0_4 ((cfg0.slots t 4).cast nbuf0_4)
  | .z => hstage0_5 ((cfg0.slots t 5).cast nbuf0_5)
  | .gnw => hstage0_6 ((cfg0.slots t 6).cast nbuf0_6)
  | .y => hstage0_7 ((cfg0.slots t 7).cast nbuf0_7)
  | .yn => hstage0_8 ((cfg0.slots t 8).cast nbuf0_8)
  | .st => hstage0_9 ((cfg0.slots t 9).cast nbuf0_9)
  | .h => Memref.isWhole_whole _

/-- The windows' buffers' contents. -/
abbrev Wins (F : FTy → Type) := (w : Fin cfg0.W) → (cfg0.win w).block.Idx → Elt F (cfg0.win w).elt

/-- A state from the windows' contents and the carried state. -/
def withWins (Y : Wins F) (h : S4x4x128x128.Idx → Elt F .f32) : K.St (Elt F)
  | .xs => Y 0 | .b => Y 1 | .c => Y 2 | .dt => Y 3 | .par => Y 4 | .z => Y 5 | .gnw => Y 6 | .y => Y 7 | .yn => Y 8 | .st => Y 9
  | .h => h

/-- The windows' contents in a state. -/
def wins (st : K.St (Elt F)) : Wins F
  | 0 => st .xs | 1 => st .b | 2 => st .c | 3 => st .dt | 4 => st .par | 5 => st .z | 6 => st .gnw | 7 => st .y | 8 => st .yn | 9 => st .st

/-- The carried state held. -/
def scratch (c : Dev nD) (h : S4x4x128x128.Idx → Elt F .f32) : sProp 𝕄 :=
  iprop(((c : Thread nD τ).loc cc0_scratch0) ↦{fullShare} h)

variable (m : (ℓ : Loc nD τ sig) → Buf (Elt F) ℓ)

/-- What a proof says of a run: what each point leaves in each window. -/
abbrev Says (F : FTy → Type) := (w : Fin cfg0.W) → Fin cfg0.N → (Y X : (cfg0.win w).block.Idx → Elt F (cfg0.win w).elt) → Prop

/-- What it says of the carried state before each point. -/
abbrev Keeps (F : FTy → Type) := Fin (cfg0.N + 1) → (S4x4x128x128.Idx → Elt F .f32) → Prop

/-- The proof data of a run. -/
def rdat (S : Dev nD → Says F) (I : Dev nD → Keeps F) (c : Dev nD) : RDat τ (Elt F) Unit ℕ (UR sig nD τ) ℕ (cfgs 0) c where
  A w := V m c (Pipeline.arrRef spec0 w)
  after := S c
  Φ t := iprop((∃ h, ⌜I c t h⌝ ∗ scratch c h) ∗ ∃ r, prngReg c r)
  q w := Pipeline.shareOf spec0 w
  owed _ := 0

theorem defs₀_row (t : Fin cfg0.N) : defs₀ (F := F) .tc cfg0.body (cfg0.bodyArgs t (cfg0.slots t)) = bodyAt0 t := by
  unfold defs₀; rw [Defs.onTc_tc]

theorem regroup {M : Type} [URA M] (A0 A1 A2 A3 A4 A5 A6 A7 A8 A9 S : sProp M) :
    iprop(A0 ∗ A1 ∗ A2 ∗ A3 ∗ A4 ∗ A5 ∗ A6 ∗ A7 ∗ A8 ∗ A9 ∗ S) = iprop((A0 ∗ A1 ∗ A2 ∗ A3 ∗ A4 ∗ A5 ∗ A6 ∗ A7 ∗ A8 ∗ A9) ∗ S) := by
  have h₁ : iprop(A0 ∗ A1 ∗ A2 ∗ A3 ∗ A4 ∗ A5 ∗ A6 ∗ A7 ∗ A8 ∗ A9 ∗ S) ⊢ iprop((A0 ∗ A1 ∗ A2 ∗ A3 ∗ A4 ∗ A5 ∗ A6 ∗ A7 ∗ A8 ∗ A9) ∗ S) := by
    iintro ⟨H0, H1, H2, H3, H4, H5, H6, H7, H8, H9, H⟩
    iframe
  have h₂ : iprop((A0 ∗ A1 ∗ A2 ∗ A3 ∗ A4 ∗ A5 ∗ A6 ∗ A7 ∗ A8 ∗ A9) ∗ S) ⊢ iprop(A0 ∗ A1 ∗ A2 ∗ A3 ∗ A4 ∗ A5 ∗ A6 ∗ A7 ∗ A8 ∗ A9 ∗ S) := by
    iintro ⟨⟨H0, H1, H2, H3, H4, H5, H6, H7, H8, H9⟩, H⟩
    iframe
  exact BI.equiv_iff.mp ⟨h₁, h₂⟩

theorem holds_eq (c : Dev nD) (t : Fin cfg0.N) (st : K.St (Elt F)) :
    (holds c (at_ t) st : sProp 𝕄) = iprop((bigSep Finset.univ fun w => owns (c : Thread nD τ) ((cfg0.win w).stage (cfg0.slots t w)) fullShare (wins st w)) ∗ scratch c (st .h)) := by
  unfold holds scratch
  rw [bigSep_W0, bigSep_univ_eq_bigSepL Buf.all (by decide) (by decide)]
  simp only [← owns_whole]
  exact regroup ..

theorem leaves_of {α : Type} {p : α → Prop} {A : α → sProp 𝕄} {x : α} (h : p x) : A x ⊢ iprop(∃ X, ⌜p X⌝ ∗ A X) := by
  iintro H
  iexists x
  isplitr
  · ipureintro; exact h
  iexact H

theorem body_obligation (S : Dev nD → Says F) (I : Dev nD → Keeps F) (c : Dev nD)
    (hs : ∀ (t : Fin cfg0.N) (Y : Wins F) st, I c t.castSucc st → (∀ w, (rdat m S I c).Finds w t (Y w)) →
      (∀ w, S c w t (Y w) (wins ((fn (grid0.coords t)).run (withWins Y st)).2 w)) ∧ I c t.succ (((fn (grid0.coords t)).run (withWins Y st)).2 .h)) :
    (rdat m S I c).BodyObligation (defs₀ (F := F)) Variants.none () Set.univ := by
  intro t Y hY
  rw [defs₀_row, show (rdat m S I c).owesAt () t.succ = (rdat m S I c).owesAt () t.castSucc from rfl,
    show (rdat m S I c).Φ t.castSucc = iprop((∃ h, ⌜I c t.castSucc h⌝ ∗ scratch c h) ∗ ∃ r, prngReg c r) from rfl,
    show (rdat m S I c).Φ t.succ = iprop((∃ h, ⌜I c t.succ h⌝ ∗ scratch c h) ∗ ∃ r, prngReg c r) from rfl]
  iintro ⟨⟨⟨%st, %hi, Hs⟩, Hr⟩, Ho, Hw⟩
  have h := hs t Y st hi hY
  iapply (does_body Variants.none c none Set.univ (at_ t) (at_whole t) (grid0.coords t) (withWins Y st) _)
  rw [holds_eq, holds_eq]
  isplitl [Hs Hw]
  · isplitl [Hw]
    · iapply (show (bigSep Finset.univ fun w => owns (c : Thread nD τ) ((cfg0.win w).stage (cfg0.slots t w)) fullShare (Y w) : sProp 𝕄)
        ⊢ bigSep Finset.univ fun w => owns (c : Thread nD τ) ((cfg0.win w).stage (cfg0.slots t w)) fullShare (wins (withWins Y st) w) from by
          rw [bigSep_W0, bigSep_W0]; exact .rfl)
      iexact Hw
    · iexact Hs
  iintro ⟨Hw, Hs⟩
  isplitl [Hs Hr]
  · isplitl [Hs]
    · iexists _
      isplitr
      · ipureintro; exact h.2
      iexact Hs
    · iexact Hr
  isplitl [Ho]
  · iexact Ho
  iapply (show (bigSep Finset.univ fun w => owns (c : Thread nD τ) ((cfg0.win w).stage (cfg0.slots t w)) fullShare (wins ((fn (grid0.coords t)).run (withWins Y st)).2 w) : sProp 𝕄)
      ⊢ bigSep Finset.univ fun w => iprop(∃ X, ⌜S c w t (Y w) X⌝ ∗ owns (c : Thread nD τ) ((cfg0.win w).stage (cfg0.slots t w)) fullShare X) from
    bigSep_mono fun w _ => leaves_of (h.1 w))
  iexact Hw

theorem enter (S : Dev nD → Says F) (I : Dev nD → Keeps F) (hI : ∀ c h, I c 0 h) (c : Dev nD) :
    (Pipeline.ΦA spec0 c : sProp 𝕄) ⊢ (rdat m S I c).Φ 0 := by
  rw [show (rdat m S I c).Φ 0 = iprop((∃ h, ⌜I c 0 h⌝ ∗ scratch c h) ∗ ∃ r, prngReg c r) from rfl]
  unfold Pipeline.ΦA
  rw [scopedRest0_eq]
  iintro ⟨⟨%f0, H0⟩, Hr⟩
  isplitr [Hr]
  · iexists f0
    isplitr
    · ipureintro; exact hI c f0
    unfold scratch
    iexact H0
  · iexact Hr

theorem leave (S : Dev nD → Says F) (I : Dev nD → Keeps F) (c : Dev nD) :
    (rdat m S I c).Φ (Fin.last (cfgs 0).N) ⊢ (Pipeline.ΦA spec0 c : sProp 𝕄) := by
  rw [show (rdat m S I c).Φ (Fin.last (cfgs 0).N) = iprop((∃ h, ⌜I c (Fin.last (cfgs 0).N) h⌝ ∗ scratch c h) ∗ ∃ r, prngReg c r) from rfl]
  unfold Pipeline.ΦA scratch
  rw [scopedRest0_eq]
  iintro ⟨⟨%st, %hi, H0⟩, Hr⟩
  isplitr [Hr]
  · iexists _; iexact H0
  · iexact Hr

variable (ρ : Dev nD → PrngReg)

set_option backward.isDefEq.respectTransparency.types false in
set_option maxHeartbeats 800000 in
/-- The run: the arrays end at contents the proof data allow, everything else as at the region's entry, and every counter at zero. -/
theorem run_main (S : Dev nD → Says F) (I : Dev nD → Keeps F) (hI : ∀ c h, I c 0 h)
    (hs : ∀ c (t : Fin cfg0.N) (Y : Wins F) st, I c t.castSucc st → (∀ w, (rdat m S I c).Finds w t (Y w)) →
      (∀ w, S c w t (Y w) (wins ((fn (grid0.coords t)).run (withWins Y st)).2 w)) ∧ I c t.succ (((fn (grid0.coords t)).run (withWins Y st)).2 .h)) :
    θ_run defs (onTc (τ := τ) (main (F := F))) (s₀ m ρ) (fun r => RDat.FramePost (cfgs 0) (rdat m S I) (V m) r ∧ r.2.sem = fun _ => 0) :=
  Pipeline.RDat.θ_run_frame_track_shared (Q' := _) cfgs (0 : Fin 1) launch₀0 defs₀ Variants.none (rdat m S I) m ρ main
    (fun c => body_obligation m S I c (hs c)) (fun _ _ _ => rfl) (fun _ _ => rfl) (V m) (hmain m Variants.none) (fun _ _ => rfl)
    (fun c => enter m S I hI c) (fun c => leave m S I c)

/-- The arguments end unchanged. -/
theorem frame_of (S : Dev nD → Says F) (I : Dev nD → Keeps F) (r : PUnit × MemSt nD τ sig (Elt F)) (h : RDat.FramePost (cfgs 0) (rdat m S I) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(cast (congrFun ((rdat m S I c).ArrAt_in 0 rfl _) _) ((h c).1 0)).trans (V_main_arg0 m c), (cast (congrFun ((rdat m S I c).ArrAt_in 5 rfl _) _) ((h c).1 5)).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨frame_of m _ _ r h.1, h.2⟩)
    (run_main m ρ (fun _ _ _ _ _ => True) (fun _ _ _ => True) (fun _ _ => trivial) fun _ _ _ _ _ _ => ⟨fun _ => trivial, trivial⟩)

end Cert.SsdKernelIdeal.Point
-- ==== Proof.SsdClaim.lean ====
/- The reference of the state-space recurrence, run: what its loop and the operations beside it leave alone, and its frame. -/
module

public import proofs.«01_k».proof.Proof.SsdDoIdeal
public import proofs.«01_k».proof.Proof.SbaClaim
public import proofs.«01_k».proof.Proof.Gen.SsdKernel
public import proofs.«01_k».proof.Proof.Gen.SsdRefIdeal.Run
public import proofs.«01_k».proof.Defs
public import Idealize.ShloMosaic.Lib.Tactic

@[expose] public section

set_option maxRecDepth 8192

noncomputable section

open Idealize.ShloMosaic Idealize.ShloMosaic.TcCoe Idealize.SL.Sem Idealize.ShloMosaic.StableHlo

namespace Cert.SsdRefIdeal.Value

open Cert.SsdRefIdeal Cert.SsdRefIdeal.Gen

variable {F : FTy → Type} [FloatOps F]

/-- What the operations after the loop write, one stretch. -/
abbrev wrote10 : List (Ref sig .tc) :=
  [main_v59, main_v60, main_v61, main_v62, main_v63, main_v64, main_v65, main_v66, main_v67, main_v68, main_v69, main_v70, main_v71, main_v72, main_v73]
theorem hostOps0_10_writes : (hostOps0_10 : List (HloOp τ sig (Elt F))).Forall fun op => op.writes ⊆ (wrote10.map (Proc.devRef (τ := τ) .tc)).toFinset :=
  StableHlo.forall_writes_sub_of_map rfl

/-- What the operations after the loop write, the next. -/
abbrev wrote11 : List (Ref sig .tc) :=
  [main_call8_v0, main_call8_v1, main_call8_cst, main_call8_v2, main_call8_v3, main_call8_cst_0, main_call8_v4, main_call8_v5, main_v74]
theorem hostOps0_11_writes : (hostOps0_11 : List (HloOp τ sig (Elt F))).Forall fun op => op.writes ⊆ (wrote11.map (Proc.devRef (τ := τ) .tc)).toFinset :=
  StableHlo.forall_writes_sub_of_map rfl

/-- What the operations after the loop write, the last. -/
abbrev wrote12 : List (Ref sig .tc) :=
  [main_v75, main_v76, main_v77, main_v78, main_cst_3, main_v79, main_v80, main_cst_4, main_v81, main_v82, main_cst_5, main_v83, main_v84, main_v85, main_v86, main_v87, main_v88, main_v89, main_v90, main_v91, main_v92, main_v93, main_v94]
theorem hostOps0_12_writes : (hostOps0_12 : List (HloOp τ sig (Elt F))).Forall fun op => op.writes ⊆ (wrote12.map (Proc.devRef (τ := τ) .tc)).toFinset :=
  StableHlo.forall_writes_sub_of_map rfl

/-- Everything the stretches before the loop write, the loop's, and those after it. -/
abbrev wrotePre : List (List (Ref sig .tc)) := [hostOps0_W, hostOps0_1_W, hostOps0_2_W, hostOps0_3_W, hostOps0_4_W, hostOps0_5_W, hostOps0_6_W, hostOps0_7_W, hostOps0_8_W, hostOps0_9_W]
abbrev wroteBody : List (List (Ref sig .tc)) := [while0Ops0_W, while0Ops0_1_W, while0Ops0_2_W, while0Ops0_3_W, while0Ops0_4_W]
abbrev wrotePost : List (List (Ref sig .tc)) := [wrote10, wrote11, wrote12]

/-- A buffer no stretch before the loop writes is as at the launch. -/
theorem pre_keeps {r : Ref sig .tc} (V : Valuation τ sig (Elt F)) (hr : ∀ W ∈ (wrotePre : List (List (Ref sig .tc))), r ∉ W) :
    afterL preI V (Proc.devRef .tc r) = V (Proc.devRef .tc r) := by
  simp only [List.forall_mem_cons, List.not_mem_nil, false_imp_iff, forall_const, and_true] at hr
  obtain ⟨h0, h1, h2, h3, h4, h5, h6, h7, h8, h9⟩ := hr
  simp only [preI, afterL_cons, afterL_nil]
  rw [after_of_writes_sub hostOps0_9 _ hostOps0_9_writes h9, after_of_writes_sub hostOps0_8 _ hostOps0_8_writes h8, after_of_writes_sub hostOps0_7 _ hostOps0_7_writes h7, after_of_writes_sub hostOps0_6 _ hostOps0_6_writes h6, after_of_writes_sub hostOps0_5 _ hostOps0_5_writes h5, after_of_writes_sub hostOps0_4 _ hostOps0_4_writes h4, after_of_writes_sub hostOps0_3 _ hostOps0_3_writes h3, after_of_writes_sub hostOps0_2 _ hostOps0_2_writes h2, after_of_writes_sub hostOps0_1 _ hostOps0_1_writes h1, after_of_writes_sub hostOps0 _ hostOps0_writes h0]

/-- A buffer the loop's body does not write is as before the trip. -/
theorem body_keeps {r : Ref sig .tc} (V : Valuation τ sig (Elt F)) (hr : ∀ W ∈ (wroteBody : List (List (Ref sig .tc))), r ∉ W) :
    afterL bodyI V (Proc.devRef .tc r) = V (Proc.devRef .tc r) := by
  simp only [List.forall_mem_cons, List.not_mem_nil, false_imp_iff, forall_const, and_true] at hr
  obtain ⟨h0, h1, h2, h3, h4⟩ := hr
  simp only [bodyI, afterL_cons, afterL_nil]
  rw [after_of_writes_sub while0Ops0_4 _ while0Ops0_4_writes h4, after_of_writes_sub while0Ops0_3 _ while0Ops0_3_writes h3, after_of_writes_sub while0Ops0_2 _ while0Ops0_2_writes h2, after_of_writes_sub while0Ops0_1 _ while0Ops0_1_writes h1, after_of_writes_sub while0Ops0 _ while0Ops0_writes h0]

/-- A buffer no stretch after the loop writes is as the loop left it. -/
theorem post_keeps {r : Ref sig .tc} (V : Valuation τ sig (Elt F)) (hr : ∀ W ∈ (wrotePost : List (List (Ref sig .tc))), r ∉ W) :
    afterL postI V (Proc.devRef .tc r) = V (Proc.devRef .tc r) := by
  simp only [List.forall_mem_cons, List.not_mem_nil, false_imp_iff, forall_const, and_true] at hr
  obtain ⟨h0, h1, h2⟩ := hr
  simp only [postI, afterL_cons, afterL_nil]
  rw [after_of_writes_sub hostOps0_12 _ hostOps0_12_writes h2, after_of_writes_sub hostOps0_11 _ hostOps0_11_writes h1, after_of_writes_sub hostOps0_10 _ hostOps0_10_writes h0]

/-- A buffer neither the condition nor the body writes is throughout the loop as at its entry. -/
theorem loop_keeps (m : (ℓ : Loc nD τ sig) → Buf (Elt F) ℓ) (c : Dev nD) {r : Ref sig .tc} (hc : r ∉ condOps_W)
    (hb : ∀ W ∈ (wroteBody : List (List (Ref sig .tc))), r ∉ W) : ∀ k, atK m k c (Proc.devRef .tc r) = entryContents preI m c (Proc.devRef .tc r)
  | 0 => rfl
  | k + 1 => by
    rw [show atK m (k + 1) c = afterL bodyI (after condOps (atK m k c)) from rfl, body_keeps _ hb,
      after_of_writes_sub condOps _ condOps_writes hc, loop_keeps m c hc hb k]

/-- A buffer nothing writes ends as it was at the launch. -/
theorem all_keeps (m : (ℓ : Loc nD τ sig) → Buf (Elt F) ℓ) (c : Dev nD) {r : Ref sig .tc} (hc : r ∉ condOps_W)
    (hp : ∀ W ∈ (wrotePre : List (List (Ref sig .tc))), r ∉ W) (hb : ∀ W ∈ (wroteBody : List (List (Ref sig .tc))), r ∉ W)
    (hq : ∀ W ∈ (wrotePost : List (List (Ref sig .tc))), r ∉ W) :
    finalContents condOps preI bodyI postI 32 m c (Proc.devRef .tc r) = m ((c.tc : Thread nD τ).loc r) := by
  rw [show finalContents condOps preI bodyI postI 32 m c = afterL postI (after condOps (atK m 32 c)) from rfl, post_keeps _ hq,
    after_of_writes_sub condOps _ condOps_writes hc, loop_keeps m c hc hb, show entryContents preI m c = afterL preI (launchContents m c) from rfl,
    pre_keeps _ hp]

/-- What a run of the reference ends with: each buffer at the fold of the operations, the arguments as they were, no counter moved. -/
theorem run (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      (r.2.mem ((c.tc : Thread nD τ).loc main_v73) = finalContents condOps preI bodyI postI 32 m c (Proc.devRef .tc main_v73)
        ∧ r.2.mem ((c.tc : Thread nD τ).loc main_v94) = finalContents condOps preI bodyI postI 32 m c (Proc.devRef .tc main_v94)
        ∧ r.2.mem ((c.tc : Thread nD τ).loc main_v93) = finalContents condOps preI bodyI postI 32 m c (Proc.devRef .tc main_v93))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_mono (run_fold m ρ) fun r hr => ⟨fun c => ⟨⟨hr c _ (by decide), hr c _ (by decide), hr c _ (by decide)⟩,
    (hr c _ (by decide)).trans (all_keeps m c (by decide) (by decide +kernel) (by decide +kernel) (by decide +kernel)),
    (hr c _ (by decide)).trans (all_keeps m c (by decide) (by decide +kernel) (by decide +kernel) (by decide +kernel)),
    (hr c _ (by decide)).trans (all_keeps m c (by decide) (by decide +kernel) (by decide +kernel) (by decide +kernel)),
    (hr c _ (by decide)).trans (all_keeps m c (by decide) (by decide +kernel) (by decide +kernel) (by decide +kernel)),
    (hr c _ (by decide)).trans (all_keeps m c (by decide) (by decide +kernel) (by decide +kernel) (by decide +kernel)),
    (hr c _ (by decide)).trans (all_keeps m c (by decide) (by decide +kernel) (by decide +kernel) (by decide +kernel))⟩,
    sem_eq_zero_of_no_sems (by decide) r.2⟩

end Cert.SsdRefIdeal.Value

namespace Cert.Ssd

/-- The idealized program is the kernel's own, unchanged. -/
theorem preserves : Cert.preserves_SsdKernel_SsdKernelIdeal := trivial

/-- The kernel runs and leaves its arguments: the idealized text's frame, which holds of every float, at the kernel's own floats. -/
theorem kernel_frame : Cert.quiescent_SsdKernel := fun m g _ =>
  Sba.cast_of (by sl_kernel_rfl) (@Cert.SsdKernelIdeal.Point.frame Bits _ m g)

/-- The reference runs and leaves its arguments. -/
theorem reference_frame : Cert.quiescent_SsdRefIdeal := fun m g _ =>
  θ_run_mono (Cert.SsdRefIdeal.Value.run (F := Ideal) m g) fun r hr => ⟨fun c => (hr.1 c).2, hr.2⟩

end Cert.Ssd
-- ==== Proof.SsdTile.lean ====
/- The arithmetic of one group's grid point of the state-space recurrence, on real numbers. -/
module

public import proofs.«01_k».proof.Proof.SsdText
public import proofs.«01_k».proof.Proof.SbaTile
public import proofs.«01_k».proof.Proof.Reals
public import Idealize.ShloMosaic.Lib.Pointwise
public import Idealize.ShloMosaic.Lib.KernelVsHost

@[expose] public section

set_option maxRecDepth 16384

noncomputable section

open Idealize.ShloMosaic Idealize.ShloMosaic.TcCoe

namespace Cert.Ssd

open Cert.Run Cert.SsdKernelIdeal Cert.SsdKernelIdeal.Gen
open Cert.Sba (softplus_eq sle_small slt_small sge_small)

/-- A chunk of a group: the steps' preactivations and their bias, the logarithms of the decay rates, the skip weights, and the two factors of the scores. -/
structure Tile where
  raw : ℕ → ℕ → ℝ
  bias : ℕ → ℝ
  alog : ℕ → ℝ
  dsk : ℕ → ℝ
  B : ℕ → ℕ → ℝ
  C : ℕ → ℕ → ℝ

namespace Tile
variable (T : Tile)

def dt (l j : ℕ) : ℝ := Real.log (1 + Real.exp (T.raw l j + T.bias j))
def a (j : ℕ) : ℝ := -Real.exp (T.alog j)
def da (l j : ℕ) : ℝ := T.dt l j * T.a j
/-- The logarithm of the decay up to a row. -/
def cs (l j : ℕ) : ℝ := ∑ s : Fin 128, if s.val ≤ l then T.da s.val j else 0
def G (l s : ℕ) : ℝ := ∑ n : Fin 128, T.C l n.val * T.B s n.val
/-- The result of the head `h` at a row, of a column of the inputs and of the state. -/
def y (h l : ℕ) (x H : ℕ → ℝ) : ℝ :=
  (∑ s : Fin 128, T.G l s.val * (if s.val ≤ l then Real.exp (T.cs l h - T.cs s.val h) else 0) * (x s.val * T.dt s.val h))
    + (∑ n : Fin 128, T.C l n.val * H n.val) * Real.exp (T.cs l h) + T.dsk h * x l
/-- The next state. -/
def next (h n : ℕ) (x H : ℕ → ℝ) : ℝ :=
  H n * Real.exp (T.cs 127 h) + ∑ l : Fin 128, T.B l.val n * (x l.val * T.dt l.val h * Real.exp (T.cs 127 h - T.cs l.val h))

theorem dt_pos (l j : ℕ) : 0 < T.dt l j := Real.log_pos (by have := Real.exp_pos (T.raw l j + T.bias j); linarith)

theorem da_neg (l j : ℕ) : T.da l j < 0 := mul_neg_of_pos_of_neg (T.dt_pos l j) (neg_neg_of_pos (Real.exp_pos _))

/-- The decay grows along the rows. -/
theorem cs_le {s l : ℕ} (h : s ≤ l) (j : ℕ) : T.cs l j ≤ T.cs s j := by
  refine Finset.sum_le_sum fun i _ => ?_
  by_cases h1 : i.val ≤ s
  · rw [if_pos h1, if_pos (h1.trans h)]
  · rw [if_neg h1]
    split
    · exact (T.da_neg _ _).le
    · exact le_rfl

end Tile

/-- A loaded block holds a chunk. -/
structure Is (k : Blk Ideal) (T : Tile) : Prop where
  bias : ∀ j : Fin 128, k.par (ix2 0 j) = (T.bias j.val : EReal)
  alog : ∀ j : Fin 128, k.par (ix2 1 j) = (T.alog j.val : EReal)
  dsk : ∀ j : Fin 128, k.par (ix2 2 j) = (T.dsk j.val : EReal)
  raw : ∀ l j : Fin 128, k.raw (ix2 l j) = (T.raw l.val j.val : EReal)
  bb : ∀ l n : Fin 128, k.bb (ix2 l n) = (T.B l.val n.val : EReal)
  cb : ∀ l n : Fin 128, k.cb (ix2 l n) = (T.C l.val n.val : EReal)

theorem zero_f32 : Ideal.ofBits .f32 0x00000000#32 = ((0 : ℝ) : EReal) := by simp [Ideal.ofBits, Ideal.ieee]

theorem soft_real (x : FVec Ideal S128x128 .f32) (z : ℝ) (y : S128x128.Idx) (h : x y = (z : EReal)) : soft (F := Ideal) x y = (Real.log (1 + Real.exp z) : EReal) := by
  show max (x y) (Ideal.ofBits .f32 0x00000000#32) + Ideal.log (Ideal.ofBits .f32 0x3F800000#32 + Ideal.exp (Ideal.ofBits .f32 0x00000000#32 - max (x y) (-(x y)))) = _
  rw [h, Reals.ofBits_one, zero_f32, ← EReal.coe_neg, ← EReal.coe_strictMono.monotone.map_max, ← EReal.coe_strictMono.monotone.map_max, ← EReal.coe_sub, Ideal.exp_coe, ← EReal.coe_add,
    Reals.log_coe_pos (by positivity), ← EReal.coe_add, ← softplus_eq z, zero_sub]
  rfl

section tile
variable {k : Blk Ideal} {T : Tile} (hk : Is k T)

include hk in
theorem dt_real (l j : Fin 128) : dt (F := Ideal) k (ix2 l j) = (T.dt l.val j.val : EReal) := by
  refine soft_real _ _ _ ?_
  have e : addf k.raw (broadcastTo S128x128 (extractStridedSlice S1x128 ![0, 0] k.par slices_S8x128_o0_0_S1x128) broadcasts_S1x128_S128x128) (ix2 l j)
      = k.raw (ix2 l j) + k.par (ix2 0 j) := by pointwise []
  rw [e, hk.raw, hk.bias, ← EReal.coe_add]

include hk in
theorem decay_real (j : Fin 128) : decay (F := Ideal) k (ix2 0 j) = (T.a j.val : EReal) := by
  have e : decay (F := Ideal) k (ix2 0 j) = Ideal.ofBits .f32 0x00000000#32 - Ideal.exp (k.par (ix2 1 j)) := by pointwise [decay]
  rw [e, hk.alog, zero_f32, Ideal.exp_coe, ← EReal.coe_sub, zero_sub]
  rfl

end tile

/-! ## The sums down the rows -/

theorem step_apply (n : ℕ) (hn : n < 128) (x : FVec Ideal S128x128 .f32) (f : ℕ → ℝ) (j : Fin 128) (hx : ∀ l : Fin 128, x (ix2 l j) = (f l.val : EReal)) (l : Fin 128) :
    step (F := Ideal) (BitVec.ofNat 32 n) x (ix2 l j) = ((f l.val + if n ≤ l.val then f (l.val - n) else 0 : ℝ) : EReal) := by
  have e : step (F := Ideal) (BitVec.ofNat 32 n) x (ix2 l j) = x (ix2 l j) + (if IntOp.cmpi .sge (BitVec.ofNat 32 l.val) (BitVec.ofNat 32 n) = 1#1
      then dynamicRotate 0 (BitVec.ofNat 32 n) none x rotates_S128x128_d0 (ix2 l j) else Ideal.ofBits .f32 0x00000000#32) := by
    pointwise [step, zero2]
    rfl
  rw [e, sge_small (by omega) (by omega), hx, zero_f32]
  by_cases h : n ≤ l.val
  · rw [if_pos h, if_pos rfl, if_pos h, Idealize.ShloMosaic.dynamicRotate_apply (0 : Fin 2) (BitVec.ofNat 32 n) x rotates_S128x128_d0 (ix2 l j) (ix2 ⟨l.val - n, by omega⟩ j) ?_, hx, ← EReal.coe_add]
    intro b
    fin_cases b
    · show l.val - n = (l.val + 128 - n % 2 ^ 32 % 128) % 128
      omega
    · rfl
  · rw [if_neg h, if_neg (by decide), if_neg h, ← EReal.coe_add]

/-- The sum of the `k` rows down to a row. -/
def psum (f : ℕ → ℝ) (k l : ℕ) : ℝ := ∑ i ∈ Finset.range k, if i ≤ l then f (l - i) else 0

theorem psum_double (f : ℕ → ℝ) (k l : ℕ) : psum f k l + (if k ≤ l then psum f k (l - k) else 0) = psum f (k + k) l := by
  unfold psum
  rw [Finset.sum_range_add]
  congr 1
  by_cases h : k ≤ l
  · rw [if_pos h]
    refine Finset.sum_congr rfl fun i _ => ?_
    by_cases h' : i ≤ l - k
    · rw [if_pos h', if_pos (by omega), Nat.sub_sub]
    · rw [if_neg h', if_neg (by omega)]
  · rw [if_neg h, Finset.sum_eq_zero fun i _ => if_neg (by omega)]

theorem psum_all (f : ℕ → ℝ) (l : Fin 128) : psum f 128 l.val = ∑ s : Fin 128, if s.val ≤ l.val then f s.val else 0 := by
  have hl := l.isLt
  have e : ∀ g : ℕ → ℝ, ∑ i ∈ Finset.range 128, (if i ≤ l.val then g i else 0) = ∑ i ∈ Finset.range (l.val + 1), g i := fun g => by
    rw [← Finset.sum_filter]
    refine Finset.sum_congr (Finset.ext fun k => ?_) fun _ _ => rfl
    simp only [Finset.mem_filter, Finset.mem_range]
    omega
  rw [Fin.sum_univ_eq_sum_range (fun s => if s ≤ l.val then f s else 0) 128, e, psum, e fun i => f (l.val - i)]
  rw [← Finset.sum_range_reflect f (l.val + 1)]
  exact Finset.sum_congr rfl fun i _ => congrArg f (by omega)

theorem sums_real (x : FVec Ideal S128x128 .f32) (f : ℕ → ℝ) (j : Fin 128) (hx : ∀ l : Fin 128, x (ix2 l j) = (f l.val : EReal)) (l : Fin 128) :
    sums (F := Ideal) x (ix2 l j) = ((∑ s : Fin 128, if s.val ≤ l.val then f s.val else 0 : ℝ) : EReal) := by
  have h0 : ∀ l : Fin 128, x (ix2 l j) = (psum f 1 l.val : EReal) := fun l => by
    rw [hx, psum, Finset.sum_range_one, if_pos (Nat.zero_le _), Nat.sub_zero]
  have st : ∀ (n : ℕ) (_ : n < 128) (x : FVec Ideal S128x128 .f32), (∀ l : Fin 128, x (ix2 l j) = (psum f n l.val : EReal)) →
      ∀ l : Fin 128, step (F := Ideal) (BitVec.ofNat 32 n) x (ix2 l j) = (psum f (n + n) l.val : EReal) := fun n hn x hx l => by
    rw [step_apply n hn x (psum f n) j hx l, psum_double]
  rw [← psum_all]
  exact st 64 (by omega) _ (st 32 (by omega) _ (st 16 (by omega) _ (st 8 (by omega) _ (st 4 (by omega) _ (st 2 (by omega) _ (st 1 (by omega) _ h0)))))) l

section tile
variable {k : Blk Ideal} {T : Tile} (hk : Is k T)

include hk in
theorem cs_real (l j : Fin 128) : cs (F := Ideal) k (ix2 l j) = (T.cs l.val j.val : EReal) := by
  refine sums_real _ (fun s => T.da s j.val) j (fun s => ?_) l
  have e : mulf (dt (F := Ideal) k) (broadcastTo S128x128 (decay k) broadcasts_S1x128_S128x128) (ix2 s j) = dt (F := Ideal) k (ix2 s j) * decay k (ix2 0 j) := by pointwise []
  rw [e, dt_real hk, decay_real hk, ← EReal.coe_mul]
  rfl

include hk in
theorem last_real (j : Fin 128) : last (F := Ideal) k (ix2 0 j) = (T.cs 127 j.val : EReal) := by
  have e : last (F := Ideal) k (ix2 0 j) = cs k (ix2 127 j) := by pointwise [last]
  rw [e, cs_real hk]
  rfl

include hk in
theorem toEnd_real (l j : Fin 128) : toEnd (F := Ideal) k (ix2 l j) = (Real.exp (T.cs 127 j.val - T.cs l.val j.val) : EReal) := by
  have e : toEnd (F := Ideal) k (ix2 l j) = Ideal.exp (last k (ix2 0 j) - cs k (ix2 l j)) := by pointwise [toEnd]
  rw [e, last_real hk, cs_real hk, ← EReal.coe_sub, Ideal.exp_coe]

include hk in
theorem scores_real (l s : Fin 128) : scores (F := Ideal) k (ix2 l s) = (T.G l.val s.val : EReal) := by
  have e : scores (F := Ideal) k (ix2 l s) = ∑ n : Fin 128, k.cb (ix2 l n) * k.bb (ix2 s n) := by pointwise [scores]
  rw [e, Finset.sum_congr rfl fun n _ => by rw [hk.cb, hk.bb, ← EReal.coe_mul], Reals.sum_coe]
  rfl

end tile

/-! ## The choices of lanes and rows -/

theorem tril_apply (l s : Fin 128) : tril (ix2 l s) = if s.val ≤ l.val then 1#1 else 0#1 := by
  have e : tril (ix2 l s) = IntOp.cmpi .sle (BitVec.ofNat 32 s.val) (BitVec.ofNat 32 l.val) := by pointwise [tril]
  rw [e, sle_small (by omega) (by omega)]

theorem lo_apply (l j : Fin 128) : lo (ix2 l j) = if j.val < 64 then 1#1 else 0#1 := by
  have e : lo (ix2 l j) = IntOp.cmpi .slt (BitVec.ofNat 32 j.val) 64#32 := by pointwise [lo]
  rw [e, slt_small (n := 64) (by omega) (by omega)]

theorem lo1_apply (j : Fin 128) : lo1 (ix2 0 j) = if j.val < 64 then 1#1 else 0#1 := by
  have e : lo1 (ix2 0 j) = IntOp.cmpi .slt (BitVec.ofNat 32 j.val) 64#32 := by pointwise [lo1]
  rw [e, slt_small (n := 64) (by omega) (by omega)]

theorem bit_real (p : Prop) [Decidable p] : FloatOps.sitofp (F := Ideal) .f32 (BitVec.setWidth 32 (if p then 1#1 else 0#1)) = ((if p then 1 else 0 : ℝ) : EReal) := by
  show (((BitVec.setWidth 32 (if p then 1#1 else 0#1)).toInt : ℝ) : EReal) = _
  split <;> simp

theorem pick_apply (j : Fin 128) (c : Fin 512) : pick (F := Ideal) (ix2 j c) = ((if j.val = c.val / 64 then 1 else 0 : ℝ) : EReal) := by
  have e : pick (F := Ideal) (ix2 j c) = FloatOps.sitofp (F := Ideal) .f32 (BitVec.setWidth 32 (IntOp.cmpi .eq (BitVec.ofNat 32 j.val) (IntOp.shrsi .vector (BitVec.ofNat 32 c.val) 6#32))) := by
    pointwise [pick]
  have hs : IntOp.shrsi .vector (BitVec.ofNat 32 c.val) 6#32 = BitVec.ofNat 32 (c.val / 64) := by
    exact (by decide +kernel : ∀ c : Fin 512, IntOp.shrsi .vector (BitVec.ofNat 32 c.val) 6#32 = BitVec.ofNat 32 (c.val / 64)) c
  have hc : IntOp.cmpi .eq (BitVec.ofNat 32 j.val) (BitVec.ofNat 32 (c.val / 64)) = if j.val = c.val / 64 then 1#1 else 0#1 := by
    have h : (BitVec.ofNat 32 j.val = BitVec.ofNat 32 (c.val / 64)) ↔ j.val = c.val / 64 := by
      rw [← BitVec.toNat_inj, BitVec.toNat_ofNat, BitVec.toNat_ofNat]
      omega
    simp only [IntOp.cmpi, beq_eq_decide, h]
    split <;> simp [*]
  rw [e, hs, hc, bit_real]

theorem ones_apply (j : Fin 512) (c : Fin 128) : ones (F := Ideal) (ix2 j c) = ((1 : ℝ) : EReal) := by
  have e : ones (F := Ideal) (ix2 j c) = FloatOps.sitofp (F := Ideal) .f32 (BitVec.setWidth 32 (IntOp.cmpi .sge (BitVec.ofNat 32 j.val) 0#32)) := by
    pointwise [ones]
  rw [e, sge_small (n := 0) (by omega) (by omega), bit_real, if_pos (Nat.zero_le _)]

theorem rest_real {s : Shape} (x : FVec Ideal s .f32) (i : s.Idx) (r : ℝ) (h : x i = (r : EReal)) : rest (F := Ideal) x i = ((0 : ℝ) : EReal) := by
  show x i - x i = _
  rw [h, ← EReal.coe_sub, sub_self]

theorem sum_zero_mul {n : ℕ} (a b : Fin n → EReal) (h : ∀ j, a j = ((0 : ℝ) : EReal)) : ∑ j, a j * b j = 0 :=
  Finset.sum_eq_zero fun j _ => by rw [h, EReal.coe_zero, zero_mul]

theorem spread_real (x : FVec Ideal S128x128 .f32) (l : Fin 128) (f : ℕ → ℝ) (hx : ∀ j : Fin 128, x (ix2 l j) = (f j.val : EReal)) (c : Fin 512) :
    spread (F := Ideal) x (ix2 l c) = (f (c.val / 64) : EReal) := by
  have e : spread (F := Ideal) x (ix2 l c) = (∑ j : Fin 128, x (ix2 l j) * (pick (F := Ideal) (ix2 j c) : EReal)) + ((∑ j : Fin 128, rest x (ix2 l j) * (pick (F := Ideal) (ix2 j c) : EReal))
      + ∑ j : Fin 128, rest (rest x) (ix2 l j) * (pick (F := Ideal) (ix2 j c) : EReal)) := by
    pointwise [spread]
    rw [Fin.sum_univ_two_halves 128 256 rfl, Fin.sum_univ_two_halves 128 128 rfl]
    refine congrArg₂ _ (Finset.sum_congr rfl fun j _ => ?_) (congrArg₂ _ (Finset.sum_congr rfl fun j _ => ?_) (Finset.sum_congr rfl fun j _ => ?_))
    · simp [hi]; rfl
    · simp [hi]; rfl
    · simp [hi]; rfl
  have h0 : ∀ j : Fin 128, rest (F := Ideal) x (ix2 l j) = ((0 : ℝ) : EReal) := fun j => rest_real x _ _ (hx j)
  have h1 : ∀ j : Fin 128, rest (F := Ideal) (rest x) (ix2 l j) = ((0 : ℝ) : EReal) := fun j => rest_real _ _ _ (h0 j)
  rw [e, Finset.sum_congr rfl fun j _ => by rw [hx, pick_apply, ← EReal.coe_mul], Reals.sum_coe,
    sum_zero_mul (fun j => rest (F := Ideal) x (ix2 l j)) _ h0, sum_zero_mul (fun j => rest (F := Ideal) (rest x) (ix2 l j)) _ h1, add_zero, add_zero]
  refine congrArg _ ?_
  have hc : c.val / 64 < 128 := by omega
  rw [Finset.sum_eq_single (⟨c.val / 64, hc⟩ : Fin 128) (fun b _ hb => by rw [if_neg fun h => hb (Fin.ext h), mul_zero]) fun h => absurd (Finset.mem_univ _) h,
    if_pos rfl, mul_one]

/-- The head a lane of a pair belongs to. -/
def headOf (p : Fin 4) (j : Fin 128) : Fin 8 := if j.val < 64 then hA p else hB p

theorem headOf_val (p : Fin 4) (j : Fin 128) : (headOf p j).val = 2 * p.val + j.val / 64 := by
  unfold headOf
  split
  · show 2 * p.val = _; omega
  · show 2 * p.val + 1 = _; omega

theorem cols_real (p : Fin 4) (x : FVec Ideal S128x128 .f32) (l : Fin 128) (f : ℕ → ℝ) (hx : ∀ j : Fin 128, x (ix2 l j) = (f j.val : EReal)) (j : Fin 128) :
    cols (F := Ideal) p x (ix2 l j) = (f (headOf p j).val : EReal) := by
  have hj : 128 * p.val + j.val < 512 := by omega
  have e : cols (F := Ideal) p x (ix2 l j) = spread x (ix2 l ⟨128 * p.val + j.val, hj⟩) := by pointwise [cols]
  rw [e, spread_real x l f hx, headOf_val]
  exact congrArg (fun n => ((f n : ℝ) : EReal)) (show (128 * p.val + j.val) / 64 = _ by omega)

section tile
variable {k : Blk Ideal} {T : Tile} (hk : Is k T)

include hk in
theorem between_real (h : Fin 8) (l s : Fin 128) : between (F := Ideal) h k (ix2 l s)
    = ((if s.val ≤ l.val then Real.exp (T.cs l.val h.val - T.cs s.val h.val) else 0 : ℝ) : EReal) := by
  have h8 : h.val < 128 := by omega
  have e : between (F := Ideal) h k (ix2 l s) = if tril (ix2 l s) = 1#1 then Ideal.exp (min (cs k (ix2 l ⟨h.val, h8⟩) - cs k (ix2 s ⟨h.val, h8⟩)) (Ideal.ofBits .f32 0x00000000#32))
      else Ideal.ofBits .f32 0x00000000#32 := by
    pointwise [between, zero2]
    rfl
  rw [e, tril_apply, cs_real hk, cs_real hk, zero_f32, ← EReal.coe_sub, ← EReal.coe_strictMono.monotone.map_min, Ideal.exp_coe]
  by_cases hs : s.val ≤ l.val
  · rw [if_pos hs, if_pos rfl, if_pos hs, min_eq_left (sub_nonpos.mpr (T.cs_le hs h.val))]
  · rw [if_neg hs, if_neg (by decide), if_neg hs]

include hk in
theorem within_real (h : Fin 8) (v : FVec Ideal S128x128 .f32) (j : Fin 128) (f : ℕ → ℝ) (hv : ∀ s : Fin 128, v (ix2 s j) = (f s.val : EReal)) (l : Fin 128) :
    within (F := Ideal) h k v (ix2 l j)
      = ((∑ s : Fin 128, T.G l.val s.val * (if s.val ≤ l.val then Real.exp (T.cs l.val h.val - T.cs s.val h.val) else 0) * f s.val : ℝ) : EReal) := by
  have e : within (F := Ideal) h k v (ix2 l j) = ∑ s : Fin 128, scores k (ix2 l s) * between h k (ix2 l s) * v (ix2 s j) := by pointwise [within]
  rw [e, Finset.sum_congr rfl fun s _ => by rw [scores_real hk, between_real hk, hv, ← EReal.coe_mul, ← EReal.coe_mul], Reals.sum_coe]

theorem both_real (p : Fin 4) (v : FVec Ideal S1x128 .f32) (f : ℕ → ℝ) (hv : ∀ j : Fin 128, v (ix2 0 j) = (f j.val : EReal)) (l j : Fin 128) :
    both (F := Ideal) p v (ix2 l j) = (f (headOf p j).val : EReal) := by
  have e : both (F := Ideal) p v (ix2 l j) = if lo1 (ix2 0 j) = 1#1 then v (ix2 0 ⟨(hA p).val, by omega⟩) else v (ix2 0 ⟨(hB p).val, by omega⟩) := by
    pointwise [both, one]
    rfl
  rw [e, lo1_apply, headOf, hv, hv]
  split <;> simp

variable (p : Fin 4) {x H : FVec Ideal S128x128 .f32} (j : Fin 128) {xf Hf : ℕ → ℝ}
  (hx : ∀ l : Fin 128, x (ix2 l j) = (xf l.val : EReal)) (hH : ∀ n : Fin 128, H (ix2 n j) = (Hf n.val : EReal))

include hk hx in
theorem xd_real (l : Fin 128) : xd (F := Ideal) p k x (ix2 l j) = ((xf l.val * T.dt l.val (headOf p j).val : ℝ) : EReal) := by
  show x (ix2 l j) * cols (F := Ideal) p (dt k) (ix2 l j) = _
  rw [hx, cols_real p _ l (fun j => T.dt l.val j) fun j => dt_real hk l j, ← EReal.coe_mul]

include hk hx hH in
theorem yOf_real (l : Fin 128) : yOf (F := Ideal) p k x H (ix2 l j) = (T.y (headOf p j).val l.val xf Hf : EReal) := by
  have e : yOf (F := Ideal) p k x H (ix2 l j) = (if lo (ix2 l j) = 1#1 then within (hA p) k (xd p k x) (ix2 l j) else within (hB p) k (xd p k x) (ix2 l j))
      + (∑ n : Fin 128, k.cb (ix2 l n) * H (ix2 n j)) * cols p (exp (cs k)) (ix2 l j) + both p (dsk k) (ix2 l j) * x (ix2 l j) := by
    pointwise [yOf]
    rfl
  have ed : ∀ j : Fin 128, dsk (F := Ideal) k (ix2 0 j) = (T.dsk j.val : EReal) := fun j => by
    have e : dsk (F := Ideal) k (ix2 0 j) = k.par (ix2 2 j) := by pointwise [dsk]
    rw [e, hk.dsk]
  have ew : (if lo (ix2 l j) = 1#1 then within (hA p) k (xd p k x) (ix2 l j) else within (hB p) k (xd p k x) (ix2 l j)) = within (headOf p j) k (xd p k x) (ix2 l j) := by
    rw [lo_apply, headOf]
    split <;> simp
  have eh : (∑ n : Fin 128, k.cb (ix2 l n) * H (ix2 n j) : EReal) = ((∑ n : Fin 128, T.C l.val n.val * Hf n.val : ℝ) : EReal) := by
    rw [Finset.sum_congr rfl fun n _ => by rw [hk.cb, hH, ← EReal.coe_mul], Reals.sum_coe]
  rw [e, ew, within_real hk _ _ j (fun s => xf s * T.dt s (headOf p j).val) fun s => xd_real hk p j hx s, eh,
    cols_real p _ l (fun j => Real.exp (T.cs l.val j)) fun j => by
      show Ideal.exp (cs (F := Ideal) k (ix2 l j)) = _
      rw [cs_real hk, Ideal.exp_coe],
    both_real p _ T.dsk ed, hx, ← EReal.coe_mul, ← EReal.coe_mul, ← EReal.coe_add, ← EReal.coe_add]
  rfl

include hk hx hH in
theorem next_real (n : Fin 128) : next (F := Ideal) p k x H (ix2 n j) = (T.next (headOf p j).val n.val xf (Hf) : EReal) := by
  have e : next (F := Ideal) p k x H (ix2 n j) = H (ix2 n j) * both p (exp (last k)) (ix2 n j)
      + ∑ l : Fin 128, k.bb (ix2 l n) * (xd p k x (ix2 l j) * cols p (toEnd k) (ix2 l j)) := by
    pointwise [next]
  rw [e, hH, both_real p _ (fun j => Real.exp (T.cs 127 j)) fun j => by
      show Ideal.exp (last (F := Ideal) k (ix2 0 j)) = _
      rw [last_real hk, Ideal.exp_coe],
    Finset.sum_congr rfl fun l _ => by
      rw [hk.bb, xd_real hk p j hx, cols_real p _ l (fun j => Real.exp (T.cs 127 j - T.cs l.val j)) fun j => toEnd_real hk l j, ← EReal.coe_mul, ← EReal.coe_mul],
    Reals.sum_coe, ← EReal.coe_mul, ← EReal.coe_add]
  rfl

end tile

/-! ## The gate and the norm -/

/-- A gated result, and the factor a row's norm divides by. -/
def gate (z y : ℝ) : ℝ := y * (z * (1 / (1 + Real.exp (-z))))
def inv (f : ℕ → ℝ) : ℝ := (Real.sqrt ((∑ c : Fin 512, f c.val * f c.val) / 512 + Reals.eps))⁻¹

theorem gated_real (z y : FVec Ideal S128x512 .f32) (i : S128x512.Idx) (a b : ℝ) (hz : z i = (a : EReal)) (hy : y i = (b : EReal)) :
    gated (F := Ideal) z y i = (gate a b : EReal) := by
  show y i * (z i * (Ideal.ofBits .f32 0x3F000000#32 * Ideal.tanh (Ideal.ofBits .f32 0x3F000000#32 * z i) + Ideal.ofBits .f32 0x3F000000#32)) = _
  rw [hz, hy, Reals.ofBits_half, ← EReal.coe_mul, Ideal.tanh_coe, ← EReal.coe_mul, ← EReal.coe_add, ← EReal.coe_mul, ← EReal.coe_mul, Reals.half_tanh]
  rfl

theorem rows_real (x : FVec Ideal S128x512 .f32) (l : Fin 128) (f : ℕ → ℝ) (hx : ∀ c : Fin 512, x (ix2 l c) = (f c.val : EReal)) (j : Fin 128) :
    rows (F := Ideal) x (ix2 l j) = ((∑ c : Fin 512, f c.val : ℝ) : EReal) := by
  have e : rows (F := Ideal) x (ix2 l j) = (∑ c : Fin 512, x (ix2 l c) * (ones (F := Ideal) (ix2 c j) : EReal)) + ∑ c : Fin 512, rest x (ix2 l c) * (ones (F := Ideal) (ix2 c j) : EReal) := by
    pointwise [rows, hi]
  rw [e, Finset.sum_congr rfl fun c _ => by rw [hx, ones_apply, ← EReal.coe_mul, mul_one], Reals.sum_coe,
    sum_zero_mul (fun c => rest (F := Ideal) x (ix2 l c)) _ fun c => rest_real x _ _ (hx c), add_zero]

theorem ofBits_inv_512 : Ideal.ofBits .f32 0x3B000000#32 = (((1 : ℝ) / 512 : ℝ) : EReal) := by
  simp [Ideal.ofBits, Ideal.ieee, -EReal.coe_mul]; norm_num

theorem mean_pos (f : ℕ → ℝ) : 0 < (∑ c : Fin 512, f c.val * f c.val) / 512 + Reals.eps :=
  add_pos_of_nonneg_of_pos (div_nonneg (Finset.sum_nonneg fun c _ => mul_self_nonneg _) (by norm_num)) Reals.eps_pos

theorem scale_real (x : FVec Ideal S128x512 .f32) (l : Fin 128) (f : ℕ → ℝ) (hx : ∀ c : Fin 512, x (ix2 l c) = (f c.val : EReal)) (j : Fin 128) :
    scale (F := Ideal) x (ix2 l j) = (inv f : EReal) := by
  show Ideal.rsqrt (rows (F := Ideal) (mulf x x) (ix2 l j) * Ideal.ofBits .f32 0x3B000000#32 + Ideal.ofBits .f32 0x358637BD#32) = _
  rw [rows_real _ l (fun c => f c * f c) (fun c => by show x (ix2 l c) * x (ix2 l c) = _; rw [hx, ← EReal.coe_mul]), ofBits_inv_512, Reals.ofBits_eps,
    ← EReal.coe_mul, ← EReal.coe_add, mul_one_div, Reals.rsqrt_coe_pos (mean_pos f)]
  rfl

theorem normed_real (w : FVec Ideal S1x512 .f32) (x : FVec Ideal S128x512 .f32) (l : Fin 128) (f g : ℕ → ℝ) (hx : ∀ c : Fin 512, x (ix2 l c) = (f c.val : EReal))
    (hw : ∀ c : Fin 512, w (ix2 0 c) = (g c.val : EReal)) (c : Fin 512) : normed (F := Ideal) w x (ix2 l c) = ((f c.val * inv f * g c.val : ℝ) : EReal) := by
  have e : ∃ j : Fin 128, normed (F := Ideal) w x (ix2 l c) = x (ix2 l c) * scale x (ix2 l j) * w (ix2 0 c) := by
    pointwise [normed]
    split
    · exact ⟨_, rfl⟩
    split
    · exact ⟨_, rfl⟩
    split
    · exact ⟨_, rfl⟩
    exact ⟨_, rfl⟩
  obtain ⟨j, e⟩ := e
  rw [e, hx, hw, scale_real x l f hx, ← EReal.coe_mul, ← EReal.coe_mul]

end Cert.Ssd
-- ==== Proof.SsdFlow.lean ====
/- One grid point of the state-space recurrence's forward kernel: what it leaves, on real numbers. -/
module

public import proofs.«01_k».proof.Proof.SsdTile
public import Idealize.ShloMosaic.Lib.ValueLayout

@[expose] public section

set_option maxRecDepth 16384

noncomputable section

open Idealize.ShloMosaic Idealize.ShloMosaic.TcCoe

namespace Cert.Ssd

open Cert.Run Cert.SsdKernelIdeal Cert.SsdKernelIdeal.Gen
open Idealize.ShloMosaic.ValueIdx (reshapeEquiv_ix3_1abc reshapeEquiv_ix3_11abc)

/-- The arguments' real numbers: the convolution's result, the input product, the steps' bias, the logarithms of the decay rates, the skip weights and the norm's weights. -/
structure Data where
  X : ℕ → ℕ → ℝ
  Z : ℕ → ℕ → ℝ
  bias : ℕ → ℝ
  alog : ℕ → ℝ
  D : ℕ → ℝ
  w : ℕ → ℝ

namespace Data
variable (D : Data)

/-- The chunk `c` of the group `g`. -/
def tile (c g : ℕ) : Tile where
  raw l j := if j < 8 then D.Z (128 * c + l) (5120 + (8 * g + j)) else 0
  bias j := if j < 8 then D.bias (8 * g + j) else 0
  alog j := if j < 8 then D.alog (8 * g + j) else 0
  dsk j := if j < 8 then D.D (8 * g + j) else 0
  B l n := D.X (128 * c + l) (2048 + (128 * g + n))
  C l n := D.X (128 * c + l) (2560 + (128 * g + n))

/-- A column of the inputs of a chunk. -/
def x (c g q l : ℕ) : ℝ := D.X (128 * c + l) (512 * g + q)

/-- The state of the column `q` of the group `g` before the chunk. -/
def H (g q : ℕ) : ℕ → ℕ → ℝ
  | 0 => fun _ => 0
  | c + 1 => fun n => (D.tile c g).next (q / 64) n (D.x c g q) (H g q c)

/-- The results. -/
def y (c l g q : ℕ) : ℝ := (D.tile c g).y (q / 64) l (D.x c g q) (D.H g q c)
/-- The gated results. -/
def gz (c l g q : ℕ) : ℝ := gate (D.Z (128 * c + l) (512 * g + q)) (D.y c l g q)
/-- The normed results. -/
def yn (c l g q : ℕ) : ℝ := D.gz c l g q * inv (D.gz c l g) * D.w (512 * g + q)

end Data

abbrev St := K.St (Elt Ideal)

/-! ## Places -/

theorem h_emb (g p : Fin 4) (n j : Fin 128) : (hW g).emb ((dtR p).emb (ix3 0 n j)) = ix4 g p n j := by
  have e : (dtR p).emb (ix3 0 n j) = ix3 p n j := by
    funext d; apply Fin.ext; rw [Rect.emb_apply]
    fin_cases d
    · show p.val + 1 * 0 = p.val; omega
    · show 0 + 1 * n.val = n.val; omega
    · show 0 + 1 * j.val = j.val; omega
  rw [e]
  refine (congrArg (Rect.unit (s := S4x4x128x128) ![g.val, 0, 0, 0] S1x4x128x128.size (inb_h g)).emb (reshapeEquiv_ix3_1abc _ p n j)).trans ?_
  funext d; apply Fin.ext; rw [Rect.emb_apply]
  fin_cases d
  · show g.val + 1 * 0 = g.val; omega
  · show 0 + 1 * p.val = p.val; omega
  · show 0 + 1 * n.val = n.val; omega
  · show 0 + 1 * j.val = j.val; omega

theorem st_emb (g p : Fin 4) (n j : Fin 128) : (stW g).emb ((dtR p).emb (ix3 0 n j)) = ix5 g 0 p n j := by
  have e : (dtR p).emb (ix3 0 n j) = ix3 p n j := by
    funext d; apply Fin.ext; rw [Rect.emb_apply]
    fin_cases d
    · show p.val + 1 * 0 = p.val; omega
    · show 0 + 1 * n.val = n.val; omega
    · show 0 + 1 * j.val = j.val; omega
  rw [e]
  refine (congrArg (Rect.unit (s := S4x1x4x128x128) ![g.val, 0, 0, 0, 0] S1x1x4x128x128.size (inb_st g)).emb (reshapeEquiv_ix3_11abc _ p n j)).trans ?_
  funext d; apply Fin.ext; rw [Rect.emb_apply]
  fin_cases d
  · show g.val + 1 * 0 = g.val; omega
  · show 0 + 1 * 0 = 0; omega
  · show 0 + 1 * p.val = p.val; omega
  · show 0 + 1 * n.val = n.val; omega
  · show 0 + 1 * j.val = j.val; omega

/-- The column of a lane. -/
abbrev colAt (g p : Fin 4) (j : Fin 128) : Fin 2048 := ⟨512 * g.val + (128 * p.val + j.val), by omega⟩

theorem g_emb (g : Fin 4) (l : Fin 128) (q : Fin 512) : (groupR g).emb (ix2 l q) = ix2 l ⟨512 * g.val + q.val, by omega⟩ := by
  funext d; apply Fin.ext; rw [Rect.emb_apply]
  fin_cases d
  · show 0 + 1 * l.val = l.val; omega
  · show 512 * g.val + 1 * q.val = 512 * g.val + q.val; omega

theorem pair_emb (p : Fin 4) (l j : Fin 128) : (pairR p).emb (ix2 l j) = ix2 l ⟨128 * p.val + j.val, by omega⟩ := by
  funext d; apply Fin.ext; rw [Rect.emb_apply]
  fin_cases d
  · show 0 + 1 * l.val = l.val; omega
  · show 128 * p.val + 1 * j.val = 128 * p.val + j.val; omega

theorem y_emb (g p : Fin 4) (l j : Fin 128) : (groupW g).emb ((pairR p).emb (ix2 l j)) = ix2 l (colAt g p j) := by
  rw [pair_emb]
  exact g_emb g l _

theorem inj_in {s s' : Shape} (w : Win s s') (r : Rect s') : Function.Injective fun x => w.emb (r.emb x) := w.emb_injective.comp r.emb.injective

/-! ## The casts of the loads and stores -/

theorem cast_par (f : S1x8x128.Idx → EReal) (r : Fin 8) (j : Fin 128) : shapeCast S8x128 (α := Ideal .f32) f shapeCasts_S1x8x128_S8x128 (ix2 r j) = f (ix3 0 r j) := by pointwise []
theorem cast_in (f : S1x128x128.Idx → EReal) (l j : Fin 128) : shapeCast S128x128 (α := Ideal .f32) f shapeCasts_S1x128x128_S128x128 (ix2 l j) = f (ix3 0 l j) := by pointwise []
theorem cast_out (f : S128x128.Idx → EReal) (l j : Fin 128) : shapeCast S1x128x128 (α := Ideal .f32) f shapeCasts_S128x128_S1x128x128 (ix3 0 l j) = f (ix2 l j) := by pointwise []
theorem cast_same {s : Shape} (h : s.ShapeCasts s) (f : s.Idx → EReal) (y : s.Idx) : shapeCast s (α := Ideal .f32) f h y = f y := by
  show f (Shape.reshapeEquiv _ y) = _
  rw [Shape.reshapeEquiv_self]

/-! ## The states during a point -/

/-- A state reads the chunk `c`. -/
structure Reads (D : Data) (c : ℕ) (σ : St) : Prop where
  xs : ∀ (l : Fin 128) (j : Fin 2048), σ .xs (ix2 l j) = (D.X (128 * c + l.val) j.val : EReal)
  b : ∀ (l : Fin 128) (n : Fin 512), σ .b (ix2 l n) = (D.X (128 * c + l.val) (2048 + n.val) : EReal)
  cc : ∀ (l : Fin 128) (n : Fin 512), σ .c (ix2 l n) = (D.X (128 * c + l.val) (2560 + n.val) : EReal)
  dt : ∀ (g : Fin 4) (l j : Fin 128), σ .dt (ix3 g l j) = ((D.tile c g.val).raw l.val j.val : EReal)
  bias : ∀ (g : Fin 4) (j : Fin 128), σ .par (ix3 g 0 j) = ((D.tile c g.val).bias j.val : EReal)
  alog : ∀ (g : Fin 4) (j : Fin 128), σ .par (ix3 g 1 j) = ((D.tile c g.val).alog j.val : EReal)
  dsk : ∀ (g : Fin 4) (j : Fin 128), σ .par (ix3 g 2 j) = ((D.tile c g.val).dsk j.val : EReal)
  z : ∀ (l : Fin 128) (j : Fin 2048), σ .z (ix2 l j) = (D.Z (128 * c + l.val) j.val : EReal)
  gnw : ∀ j : Fin 2048, σ .gnw (ix2 0 j) = (D.w j.val : EReal)

theorem Reads.congr {D : Data} {c : ℕ} {σ σ' : St} (R : Reads D c σ) (h : ∀ b, b ≠ .h → σ' b = σ b) : Reads D c σ' where
  xs l j := (congrFun (h .xs (by decide)) _).trans (R.xs l j)
  b l j := (congrFun (h .b (by decide)) _).trans (R.b l j)
  cc l j := (congrFun (h .c (by decide)) _).trans (R.cc l j)
  dt g l j := (congrFun (h .dt (by decide)) _).trans (R.dt g l j)
  bias g j := (congrFun (h .par (by decide)) _).trans (R.bias g j)
  alog g j := (congrFun (h .par (by decide)) _).trans (R.alog g j)
  dsk g j := (congrFun (h .par (by decide)) _).trans (R.dsk g j)
  z l j := (congrFun (h .z (by decide)) _).trans (R.z l j)
  gnw j := (congrFun (h .gnw (by decide)) _).trans (R.gnw j)

/-- The carried state before the chunk `c`. -/
def Carries (D : Data) (c : ℕ) (h : S4x4x128x128.Idx → EReal) : Prop :=
  ∀ (g p : Fin 4) (n j : Fin 128), h (ix4 g p n j) = (D.H g.val (128 * p.val + j.val) c n.val : EReal)

/-- The first `k` pairs are done. -/
structure Done (D : Data) (c : ℕ) (σ₀ : St) (k : ℕ) (σ : St) : Prop where
  same : ∀ b, b ∉ [Buf.y, Buf.yn, Buf.st, Buf.h] → σ b = σ₀ b
  h : ∀ (g p : Fin 4) (n j : Fin 128), σ .h (ix4 g p n j) = (D.H g.val (128 * p.val + j.val) (if 4 * p.val + g.val < k then c + 1 else c) n.val : EReal)
  st : ∀ (g p : Fin 4), 4 * p.val + g.val < k → ∀ n j : Fin 128, σ .st (ix5 g 0 p n j) = (D.H g.val (128 * p.val + j.val) c n.val : EReal)
  y : ∀ (g p : Fin 4), 4 * p.val + g.val < k → ∀ l j : Fin 128, σ .y (ix2 l (colAt g p j)) = (D.y c l.val g.val (128 * p.val + j.val) : EReal)

variable {D : Data} {c : ℕ} {σ₀ : St} (R : Reads D c σ₀)

abbrev O : Ops K (Elt Ideal) (Den St) := stOps K (Elt Ideal)

include R in
/-- The first loads give the chunk. -/
theorem common_is (g : Fin 4) {k : ℕ} {σ : St} (h : Done D c σ₀ k σ) : Is ((common O g).run σ).1 (D.tile c g.val) ∧ ((common O g).run σ).2 = σ := by
  refine ⟨?_, rfl⟩
  have hp : ∀ (r : Fin 8) (j : Fin 128), ((common O g).run σ).1.par (ix2 r j) = σ₀ .par (ix3 g r j) := fun r j => by
    refine Eq.trans (b := σ .par ((parR g).emb (ix3 0 r j))) ?_ ?_
    · exact cast_par (fun x => σ .par ((parR g).emb x)) r j
    · rw [h.same .par (by decide)]
      refine congrArg (σ₀ .par) ?_
      funext d; apply Fin.ext; rw [Rect.emb_apply]
      fin_cases d
      · show g.val + 1 * 0 = g.val; omega
      · show 0 + 1 * r.val = r.val; omega
      · show 0 + 1 * j.val = j.val; omega
  refine ⟨fun j => (hp 0 j).trans (R.bias g j), fun j => (hp 1 j).trans (R.alog g j), fun j => (hp 2 j).trans (R.dsk g j), fun l j => ?_, fun l n => ?_, fun l n => ?_⟩
  · refine Eq.trans (b := σ .dt ((dtR g).emb (ix3 0 l j))) ?_ ?_
    · exact cast_in (fun x => σ .dt ((dtR g).emb x)) l j
    · rw [h.same .dt (by decide), ← R.dt]
      refine congrArg (σ₀ .dt) ?_
      funext d; apply Fin.ext; rw [Rect.emb_apply]
      fin_cases d
      · show g.val + 1 * 0 = g.val; omega
      · show 0 + 1 * l.val = l.val; omega
      · show 0 + 1 * j.val = j.val; omega
  · show σ .b ((pairR g).emb (ix2 l n)) = _
    rw [h.same .b (by decide), pair_emb, R.b]
    rfl
  · show σ .c ((pairR g).emb (ix2 l n)) = _
    rw [h.same .c (by decide), pair_emb, R.cc]
    rfl

include R in
theorem xload_is (g p : Fin 4) {k : ℕ} {σ : St} (h : Done D c σ₀ k σ) :
    (∀ l j : Fin 128, ((xload O g p).run σ).1 (ix2 l j) = (D.x c g.val (128 * p.val + j.val) l.val : EReal)) ∧ ((xload O g p).run σ).2 = σ := by
  refine ⟨fun l j => ?_, rfl⟩
  show σ .xs ((groupW g).emb ((pairR p).emb (ix2 l j))) = _
  rw [y_emb, h.same .xs (by decide), R.xs]
  rfl

theorem bind_run {α β : Type} (f : Den St α) (k : α → Den St β) (σ : St) : ((f >>= k).run σ).2 = ((k (f.run σ).1).run (f.run σ).2).2 :=
  congrArg Prod.snd (Den.run_bind f k σ)
theorem pure_run {α : Type} (a : α) (σ : St) : ((pure a : Den St α).run σ).2 = σ := Eq.trans rfl rfl
theorem xload_run (g p : Fin 4) (σ : St) : ((xload O g p).run σ).2 = σ := Eq.trans rfl rfl
theorem common_run (g : Fin 4) (σ : St) : ((common O g).run σ).2 = σ := Eq.trans rfl rfl

section stores
variable (g p : Fin 4) (k : Blk Ideal) (x : FVec Ideal S128x128 .f32) (σ : St)

/-- The state a pair of heads loads. -/
def loaded : FVec Ideal S128x128 .f32 := shapeCast S128x128 (α := Ideal .f32) (fun x => σ .h ((hW g).emb ((dtR p).emb x))) shapeCasts_S1x128x128_S128x128

theorem tail_h : ((tail O g p k x).run σ).2 .h
    = putAt (fun x => (hW g).emb ((dtR p).emb x)) (shapeCast S1x128x128 (α := Ideal .f32) (next p k x (loaded g p σ)) shapeCasts_S128x128_S1x128x128) (σ .h) := rfl
theorem tail_st : ((tail O g p k x).run σ).2 .st
    = putAt (fun x => (stW g).emb ((dtR p).emb x)) (shapeCast S1x128x128 (α := Ideal .f32) (loaded g p σ) shapeCasts_S128x128_S1x128x128) (σ .st) := rfl
theorem tail_y : ((tail O g p k x).run σ).2 .y = putAt (fun x => (groupW g).emb ((pairR p).emb x)) (yOf p k x (loaded g p σ)) (σ .y) := rfl

theorem tail_same (b : Buf) (hb : b ∉ [Buf.y, Buf.yn, Buf.st, Buf.h]) : ((tail O g p k x).run σ).2 b = σ b := by
  cases b <;> first | exact absurd (by decide) hb | rfl

theorem store_self (b : Buf) (r : Rect (K.shape b)) (w) (h : CanStore r (K.elt b)) (σ : St) : ((O.store b r w h).run σ).2 b = put r w (σ b) :=
  Function.update_self ..

theorem store_yn (N : FVec Ideal S128x512 .f32 → FVec Ideal S128x512 .f32 → FVec Ideal S1x512 .f32 → FVec Ideal S128x512 .bf16) :
    ((O.load .z (groupR g) h_S128x512 >>= fun z => O.load .y (groupR g) h_S128x512 >>= fun y => O.load .gnw (gnwR g) h_S1x512 >>= fun w =>
      O.load .yn (groupR g) h_S128x512 >>= fun _ => O.store .yn (groupR g) (N z y w) (Cert.Sba.st_packed _ h_S128x512 (packed_group g)) : Den St PUnit).run σ).2 .yn
    = put (groupR g) (N (fun x => σ .z ((groupR g).emb x)) (fun x => σ .y ((groupR g).emb x)) (fun x => σ .gnw ((gnwR g).emb x))) (σ .yn) := by
  rw [bind_run, bind_run, bind_run, bind_run]
  exact store_self .yn _ _ _ σ

theorem final_yn : ((final O g).run σ).2 .yn = put (groupR g) (normed (shapeCast S1x512 (α := Ideal .f32) (fun x => σ .gnw ((gnwR g).emb x)) shapeCasts_S1x512_S1x512)
    (gated (fun x => σ .z ((groupR g).emb x)) (shapeCast S128x512 (α := Ideal .f32) (fun x => σ .y ((groupR g).emb x)) shapeCasts_S128x512_S128x512))) (σ .yn) :=
  store_yn g σ fun z y w => normed (shapeCast S1x512 (α := Ideal .f32) w shapeCasts_S1x512_S1x512) (gated z (shapeCast S128x512 (α := Ideal .f32) y shapeCasts_S128x512_S128x512))

theorem final_same (b : Buf) (hb : b ≠ .yn) : ((final O g).run σ).2 b = σ b := by
  cases b <;> first | exact absurd rfl hb | rfl

theorem clear_h : ((clear O).run σ).2 .h = put wholeR (shapeCast S4x4x128x128 (α := Ideal .f32) (broadcast S4x4x128x128 (Scalar.ofBits .f32 0x00000000#32))
    shapeCasts_S4x4x128x128_S4x4x128x128) (σ .h) := rfl

theorem clear_same (b : Buf) (hb : b ≠ .h) : ((clear O).run σ).2 b = σ b := by
  cases b <;> first | exact absurd rfl hb | rfl

end stores

theorem tail_done (g p : Fin 4) {k : Blk Ideal} {x : FVec Ideal S128x128 .f32} (hk : Is k (D.tile c g.val))
    (hx : ∀ l j : Fin 128, x (ix2 l j) = (D.x c g.val (128 * p.val + j.val) l.val : EReal)) {σ : St} (h : Done D c σ₀ (4 * p.val + g.val) σ) :
    Done D c σ₀ (4 * p.val + g.val + 1) ((tail O g p k x).run σ).2 := by
  have hh : ∀ j : Fin 128, (headOf p j).val = (128 * p.val + j.val) / 64 := fun j => by rw [headOf_val]; omega
  have hH : ∀ n j : Fin 128, loaded g p σ (ix2 n j) = (D.H g.val (128 * p.val + j.val) c n.val : EReal) := fun n j => by
    refine (cast_in (fun x => σ .h ((hW g).emb ((dtR p).emb x))) n j).trans ?_
    show σ .h ((hW g).emb ((dtR p).emb (ix3 0 n j))) = _
    rw [h_emb, h.h, if_neg (by omega)]
  refine ⟨fun b hb => ?_, fun g' p' n j => ?_, fun g' p' hd n j => ?_, fun g' p' hd l j => ?_⟩
  · exact (tail_same g p k x σ b hb).trans (h.same b hb)
  · rw [tail_h]
    by_cases e : g' = g ∧ p' = p
    · obtain ⟨rfl, rfl⟩ := e
      rw [← h_emb, putAt_emb (inj_in (hW g') (dtR p')) _ _ (ix3 0 n j), if_pos (by omega)]
      rw [cast_out, next_real hk p' j (fun l => hx l j) (fun n => hH n j), hh]
      rfl
    · rw [putAt_of_not, h.h]
      · have : (4 * p'.val + g'.val < 4 * p.val + g.val + 1) ↔ (4 * p'.val + g'.val < 4 * p.val + g.val) := by
          constructor
          · intro hl
            by_contra hn
            exact e ⟨Fin.ext (by omega), Fin.ext (by omega)⟩
          · omega
        simp only [this]
      · intro i hi
        idx_vars i
        obtain rfl : i0 = (0 : Fin 1) := Fin.fin_one_eq_zero i0
        rw [h_emb, ix4_inj] at hi
        exact e ⟨hi.1.symm, hi.2.1.symm⟩
  · rw [tail_st]
    by_cases e : g' = g ∧ p' = p
    · obtain ⟨rfl, rfl⟩ := e
      rw [← st_emb, putAt_emb (inj_in (stW g') (dtR p')) _ _ (ix3 0 n j)]
      rw [cast_out, hH]
    · rw [putAt_of_not]
      · refine h.st g' p' ?_ n j
        by_contra hn
        exact e ⟨Fin.ext (by omega), Fin.ext (by omega)⟩
      · intro i hi
        idx_vars i
        obtain rfl : i0 = (0 : Fin 1) := Fin.fin_one_eq_zero i0
        rw [st_emb, ix5_inj] at hi
        exact e ⟨hi.1.symm, hi.2.2.1.symm⟩
  · rw [tail_y]
    by_cases e : g' = g ∧ p' = p
    · obtain ⟨rfl, rfl⟩ := e
      rw [← y_emb, putAt_emb (inj_in (groupW g') (pairR p')) _ _ (ix2 l j), yOf_real hk p' j (fun l => hx l j) (fun n => hH n j), hh]
      rfl
    · rw [putAt_of_not]
      · refine h.y g' p' ?_ l j
        by_contra hn
        exact e ⟨Fin.ext (by omega), Fin.ext (by omega)⟩
      · intro i hi
        idx_vars i
        rw [y_emb, ix2_inj] at hi
        have := congrArg Fin.val hi.2
        simp only at this
        exact e ⟨Fin.ext (by omega), Fin.ext (by omega)⟩

/-- The four groups' chunks. -/
structure All (D : Data) (c : ℕ) (k0 k1 k2 k3 : Blk Ideal) : Prop where
  i0 : Is k0 (D.tile c 0)
  i1 : Is k1 (D.tile c 1)
  i2 : Is k2 (D.tile c 2)
  i3 : Is k3 (D.tile c 3)

theorem tails_done (p : Fin 4) {k0 k1 k2 k3 : Blk Ideal} (A : All D c k0 k1 k2 k3) {x : Fin 4 → FVec Ideal S128x128 .f32}
    (hx : ∀ (g : Fin 4) (l j : Fin 128), x g (ix2 l j) = (D.x c g.val (128 * p.val + j.val) l.val : EReal)) {σ : St} (h : Done D c σ₀ (4 * p.val) σ) :
    Done D c σ₀ (4 * (p.val + 1)) ((tails O p k0 k1 k2 k3 (x 0) (x 1) (x 2) (x 3)).run σ).2 :=
  by
  unfold tails
  simp only [bind_run]
  exact tail_done 3 p A.i3 (hx 3) (tail_done 2 p A.i2 (hx 2) (tail_done 1 p A.i1 (hx 1) (tail_done 0 p A.i0 (hx 0) h)))

include R in
theorem round_done (p : Fin 4) {k0 k1 k2 k3 : Blk Ideal} (A : All D c k0 k1 k2 k3) {σ : St} (h : Done D c σ₀ (4 * p.val) σ) :
    Done D c σ₀ (4 * (p.val + 1)) ((round O p k0 k1 k2 k3).run σ).2 :=
  by
  unfold round
  simp only [bind_run, xload_run]
  exact tails_done p A (x := fun g => ((xload O g p).run σ).1) (fun g => (xload_is R g p h).1) h

/-- The results of the first `k` groups are normed too. -/
structure Normed (D : Data) (c : ℕ) (σ₀ : St) (k : ℕ) (σ : St) : Prop where
  done : Done D c σ₀ 16 σ
  yn : ∀ g : Fin 4, g.val < k → ∀ (l : Fin 128) (q : Fin 512), σ .yn (ix2 l ⟨512 * g.val + q.val, by omega⟩) = (D.yn c l.val g.val q.val : EReal)

theorem Done.y_at {σ : St} (h : Done D c σ₀ 16 σ) (g : Fin 4) (l : Fin 128) (q : Fin 512) :
    σ .y (ix2 l ⟨512 * g.val + q.val, by omega⟩) = (D.y c l.val g.val q.val : EReal) := by
  have e := h.y g ⟨q.val / 128, by omega⟩ (by show 4 * (q.val / 128) + g.val < 16; omega) l ⟨q.val % 128, by omega⟩
  have hq : 128 * (q.val / 128) + q.val % 128 = q.val := by omega
  rw [hq] at e
  refine Eq.trans (congrArg (fun i : Fin 2048 => σ .y (ix2 l i)) (Fin.ext ?_)) e
  show 512 * g.val + q.val = 512 * g.val + (128 * (q.val / 128) + q.val % 128)
  rw [hq]

include R in
theorem final_done (g : Fin 4) {σ : St} (h : Normed D c σ₀ g.val σ) : Normed D c σ₀ (g.val + 1) ((final O g).run σ).2 := by
  refine ⟨⟨fun b hb => ?_, fun g' p' n j => ?_, fun g' p' hd n j => ?_, fun g' p' hd l j => ?_⟩, fun g' hd l q => ?_⟩
  · exact (final_same g σ b fun e => hb (by simp [e])).trans (h.done.same b hb)
  · rw [final_same g σ .h (by decide)]
    exact h.done.h g' p' n j
  · rw [final_same g σ .st (by decide)]
    exact h.done.st g' p' hd n j
  · rw [final_same g σ .y (by decide)]
    exact h.done.y g' p' hd l j
  · rw [final_yn]
    by_cases e : g' = g
    · subst e
      rw [← g_emb, put_emb]
      refine normed_real _ _ l (D.gz c l.val g'.val) (fun q => D.w (512 * g'.val + q)) (fun q => ?_) (fun q => ?_) q
      · refine gated_real _ _ _ _ _ ?_ ?_
        · show σ .z ((groupR g').emb (ix2 l q)) = _
          rw [g_emb, h.done.same .z (by decide), R.z]
        · refine Eq.trans (b := σ .y ((groupR g').emb (ix2 l q))) (cast_same _ _ _) ?_
          rw [g_emb]
          exact h.done.y_at g' l q
      · refine Eq.trans (b := σ .gnw ((gnwR g').emb (ix2 0 q))) (cast_same _ _ _) ?_
        rw [h.done.same .gnw (by decide), ← R.gnw ⟨512 * g'.val + q.val, by omega⟩]
        refine congrArg (σ₀ .gnw) ?_
        funext d; apply Fin.ext; rw [Rect.emb_apply]
        fin_cases d
        · rfl
        · show 512 * g'.val + 1 * q.val = 512 * g'.val + q.val; omega
    · rw [put_of_not]
      · exact h.yn g' (by have : g'.val ≠ g.val := fun h => e (Fin.ext h); omega) l q
      · intro i hi
        idx_vars i
        rw [g_emb, ix2_inj] at hi
        have := congrArg Fin.val hi.2
        simp only at this
        exact e (Fin.ext (by omega))

theorem cleared (D : Data) (σ : St) : Done D 0 ((clear O).run σ).2 0 ((clear O).run σ).2 ∧ ∀ b, b ≠ .h → ((clear O).run σ).2 b = σ b := by
  refine ⟨⟨fun _ _ => rfl, fun g p n j => ?_, fun _ _ hd => absurd hd (Nat.not_lt_zero _), fun _ _ hd => absurd hd (Nat.not_lt_zero _)⟩, fun b hb => clear_same σ b hb⟩
  rw [clear_h]
  have e : wholeR.emb (ix4 g p n j) = ix4 g p n j := by
    funext d; apply Fin.ext; rw [Rect.emb_apply]
    fin_cases d
    · show 0 + 1 * g.val = g.val; omega
    · show 0 + 1 * p.val = p.val; omega
    · show 0 + 1 * n.val = n.val; omega
    · show 0 + 1 * j.val = j.val; omega
  rw [← e, put_emb]
  refine Eq.trans (b := Ideal.ofBits .f32 0x00000000#32) (cast_same _ _ _) ?_
  rw [zero_f32, if_neg (Nat.not_lt_zero _)]
  rfl

include R in
/-- The rest of a point. -/
theorem rest_done {σ : St} (h : Done D c σ₀ 0 σ) : Normed D c σ₀ 4 ((point O False).run σ).2 := by
  have A : All D c ((common O 0).run σ).1 ((common O 1).run σ).1 ((common O 2).run σ).1 ((common O 3).run σ).1 :=
    ⟨(common_is R 0 h).1, (common_is R 1 h).1, (common_is R 2 h).1, (common_is R 3 h).1⟩
  have h1 := tails_done 0 A (x := fun g => ((xload O g 0).run σ).1) (fun g => (xload_is R g 0 h).1) h
  have h4 := round_done R 3 A (round_done R 2 A (round_done R 1 A h1))
  unfold point
  simp only [not_false_eq_true, dif_neg, bind_run, pure_run, common_run, xload_run]
  exact final_done R 3 (final_done R 2 (final_done R 1 (final_done R 0 ⟨h4, fun _ hd => absurd hd (Nat.not_lt_zero _)⟩)))

/-- One grid point. -/
theorem point_done (first : Prop) [Decidable first] (hf : first ↔ c = 0) {σ : St} (R : Reads D c σ) (hc : c ≠ 0 → Carries D c (σ .h)) :
    Normed D c σ 4 ((point O first).run σ).2 := by
  by_cases h : first
  · obtain rfl := hf.1 h
    obtain ⟨h0, hs⟩ := cleared D σ
    have R' : Reads D 0 ((clear O).run σ).2 := R.congr fun b hb => hs b hb
    have e : (point O first).run σ = (point O False).run ((clear O).run σ).2 := by
      unfold point
      rw [dif_pos h, dif_neg not_false, Den.run_bind (clear O), Den.run_bind (pure PUnit.unit), Den.run_pure]
    rw [e]
    have n := rest_done R' h0
    exact ⟨⟨fun b hb => (n.done.same b hb).trans (hs b fun h => hb (by simp [h])), n.done.h, n.done.st, n.done.y⟩, n.yn⟩
  · have e : (point O first).run σ = (point O False).run σ := by
      unfold point
      rw [dif_neg h, dif_neg not_false]
    rw [e]
    exact rest_done R ⟨fun _ _ => rfl, fun g p n j => by rw [if_neg (Nat.not_lt_zero _)]; exact hc (fun h0 => h (hf.2 h0)) g p n j,
      fun _ _ hd => absurd hd (Nat.not_lt_zero _), fun _ _ hd => absurd hd (Nat.not_lt_zero _)⟩

/-! ## The arguments and the results -/

/-- The arguments hold real numbers. -/
structure Holds (D : Data) (A0 : S4096x3072.Idx → EReal) (A1 : S4096x5376.Idx → EReal) (A2 A3 A4 : S32.Idx → EReal) (A5 : S2048.Idx → EReal) : Prop where
  x : ∀ (t : Fin 4096) (j : Fin 3072), A0 (ix2 t j) = (D.X t.val j.val : EReal)
  z : ∀ (t : Fin 4096) (j : Fin 5376), A1 (ix2 t j) = (D.Z t.val j.val : EReal)
  bias : ∀ j : Fin 32, A2 (ix1 j) = (D.bias j.val : EReal)
  alog : ∀ j : Fin 32, A3 (ix1 j) = (D.alog j.val : EReal)
  dsk : ∀ j : Fin 32, A4 (ix1 j) = (D.D j.val : EReal)
  w : ∀ j : Fin 2048, A5 (ix1 j) = (D.w j.val : EReal)

/-- The result of a function of the chunk, the row, the group and the column. -/
def whole (f : ℕ → ℕ → ℕ → ℕ → ℝ) : S4096x2048.Idx → EReal := fun i => (f ((i 0).val / 128) ((i 0).val % 128) ((i 1).val / 512) ((i 1).val % 512) : EReal)

/-- The states before the chunks. -/
def states (D : Data) : S4x32x4x128x128.Idx → EReal := fun i => (D.H (i 0).val (128 * (i 2).val + (i 4).val) (i 1).val (i 3).val : EReal)

end Cert.Ssd
-- ==== Proof.SsdRefOps.lean ====
/- The values of the state-space recurrence's reference, operation by operation. -/
module

public import proofs.«01_k».proof.Proof.SsdClaim
public import proofs.«01_k».proof.Proof.SsdFlow

@[expose] public section

set_option maxRecDepth 16384

noncomputable section

open Idealize.ShloMosaic Idealize.ShloMosaic.TcCoe Idealize.SL.Sem Idealize.ShloMosaic.StableHlo

namespace Cert.SsdRefIdeal.Value
open Cert.SsdRefIdeal Cert.SsdRefIdeal.Gen

/-- An array of extended real numbers. -/
abbrev Arr (s : Shape) := s.Idx → EReal

/-! ## The operations before the loop -/

def zero : Arr S_ := constant (F := Ideal) S_ .f32 0x00000000#32
def fRaw (z : Arr S4096x5376) (b : Arr S32) : Arr S4096x32 :=
  addf (F := Ideal) (φ := .f32) (extractStridedSlice S4096x32 ![0, 5120] z slices_S4096x5376_S4096x32_0_5120) (broadcastInDim S4096x32 ![0, 1] bcast_S1x32_S4096x32_0_1 (broadcastInDim S1x32 ![1] bcast_S32_S1x32_1 b))
def fSoft (x : Arr S4096x32) : Arr S4096x32 :=
  let z : Arr S4096x32 := broadcastInDim S4096x32 ![] bcast_S_S4096x32 zero
  let d : Arr S4096x32 := subf (F := Ideal) (φ := .f32) x z
  select (cmpf (F := Ideal) (φ := .f32) .une d d) (addf (F := Ideal) (φ := .f32) x z)
    (addf (F := Ideal) (φ := .f32) (maximumf (F := Ideal) (φ := .f32) x z) (Host.log1p (F := Ideal) (φ := .f32) (Host.exp (F := Ideal) (φ := .f32) (Host.negf (F := Ideal) (φ := .f32) (Host.absf (F := Ideal) (φ := .f32) d)))))
def fX (x : Arr S4096x3072) : Arr S4096x32x64 := shapeCast S4096x32x64 (α := Ideal .f32) (extractStridedSlice S4096x2048 ![0, 0] x slices_S4096x3072_S4096x2048_0_0) shapeCasts_S4096x2048_S4096x32x64
def fB (x : Arr S4096x3072) : Arr S32x128x4x128 :=
  shapeCast S32x128x4x128 (α := Ideal .f32) (shapeCast S4096x4x128 (α := Ideal .f32) (extractStridedSlice S4096x512 ![0, 2048] x slices_S4096x3072_S4096x512_0_2048) shapeCasts_S4096x512_S4096x4x128) shapeCasts_S4096x4x128_S32x128x4x128
def fC (x : Arr S4096x3072) : Arr S32x128x4x128 :=
  shapeCast S32x128x4x128 (α := Ideal .f32) (shapeCast S4096x4x128 (α := Ideal .f32) (extractStridedSlice S4096x512 ![0, 2560] x slices_S4096x3072_S4096x512_0_2560) shapeCasts_S4096x512_S4096x4x128) shapeCasts_S4096x4x128_S32x128x4x128
def fXd (x : Arr S4096x32x64) (d : Arr S4096x32) : Arr S32x128x4x8x64 :=
  shapeCast S32x128x4x8x64 (α := Ideal .f32) (mulf (F := Ideal) (φ := .f32) x (broadcastInDim S4096x32x64 ![0, 1, 2] bcast_S4096x32x1_S4096x32x64_0_1_2 (broadcastInDim S4096x32x1 ![0, 1] bcast_S4096x32_S4096x32x1_0_1 d)))
    shapeCasts_S4096x32x64_S32x128x4x8x64
def fDa (d : Arr S4096x32) (a : Arr S32) : Arr S4x8x32x128 :=
  transpose S4x8x32x128 [2, 3, 0, 1] (shapeCast S32x128x4x8 (α := Ideal .f32) (mulf (F := Ideal) (φ := .f32) d (broadcastInDim S4096x32 ![0, 1] bcast_S1x32_S4096x32_0_1 (broadcastInDim S1x32 ![1] bcast_S32_S1x32_1
    (Host.negf (F := Ideal) (φ := .f32) (Host.exp (F := Ideal) (φ := .f32) a))))) shapeCasts_S4096x32_S32x128x4x8) transposes_S32x128x4x8_S4x8x32x128_2_3_0_1
def fCum (x : Arr S4x8x32x128) : Arr S4x8x32x128 :=
  Host.reduceWindowAdd (F := Ideal) (φ := .f32) ![1, 1, 1, 128] ![1, 1, 1, 1] ![0, 0, 0, 127] ![0, 0, 0, 0] x (broadcastInDim S_ ![] bcast_S_S_ zero)
    reduceWindows_S4x8x32x128_S4x8x32x128_w1s1p0_0_w1s1p0_0_w1s1p0_0_w128s1p127_0 h_S_
def fDiff (x : Arr S4x8x32x128) : Arr S4x8x32x128x128 :=
  subf (F := Ideal) (φ := .f32) (broadcastInDim S4x8x32x128x128 ![0, 1, 2, 3, 4] bcast_S4x8x32x128x1_S4x8x32x128x128_0_1_2_3_4 (broadcastInDim S4x8x32x128x1 ![0, 1, 2, 3] bcast_S4x8x32x128_S4x8x32x128x1_0_1_2_3 x))
    (broadcastInDim S4x8x32x128x128 ![0, 1, 2, 3, 4] bcast_S4x8x32x1x128_S4x8x32x128x128_0_1_2_3_4 (broadcastInDim S4x8x32x1x128 ![0, 1, 2, 4] bcast_S4x8x32x128_S4x8x32x1x128_0_1_2_4 x))
def fTril : S128x128.Idx → BitVec 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))
def fMask (x : Arr S4x8x32x128x128) : Arr S4x8x32x128x128 :=
  select (broadcastInDim S4x8x32x128x128 ![3, 4] bcast_S128x128_S4x8x32x128x128_3_4 fTril) x (broadcastInDim S4x8x32x128x128 ![] bcast_S_S4x8x32x128x128 (constant (F := Ideal) S_ .f32 0xFF800000#32))
def fL (G : Arr S32x4x128x128) (x : Arr S4x8x32x128x128) : Arr S4x8x32x128x128 :=
  mulf (F := Ideal) (φ := .f32) (broadcastInDim S4x8x32x128x128 ![0, 1, 2, 3, 4] bcast_S4x1x32x128x128_S4x8x32x128x128_0_1_2_3_4 (broadcastInDim S4x1x32x128x128 ![0, 2, 3, 4] bcast_S4x32x128x128_S4x1x32x128x128_0_2_3_4
    (transpose S4x32x128x128 [1, 0, 2, 3] G transposes_S32x4x128x128_S4x32x128x128_1_0_2_3))) (Host.exp (F := Ideal) (φ := .f32) x)
def fG (C B : Arr S32x128x4x128) : Arr S32x4x128x128 := Host.dotGeneral (F := Ideal) (φ₁ := .f32) (φ₂ := .f32) dot_S32x128x4x128_S32x128x4x128_S32x4x128x128_3_3_1_1_02_02 none C B
def fY (x : Arr S32x128x4x8x64) (L : Arr S4x8x32x128x128) : Arr S32x128x4x8x64 :=
  transpose S32x128x4x8x64 [0, 4, 1, 2, 3] (Host.dotGeneral (F := Ideal) (φ₁ := .f32) (φ₂ := .f32) dot_S32x128x4x8x64_S4x8x32x128x128_S32x4x8x64x128_1_4_4_3_023_201 none x L : Arr S32x4x8x64x128) transposes_S32x4x8x64x128_S32x128x4x8x64_0_4_1_2_3
def fLast (cs : Arr S4x8x32x128) : Arr S4x8x32x1 := extractStridedSlice S4x8x32x1 ![0, 0, 0, 127] cs slices_S4x8x32x128_S4x8x32x1_0_0_0_127
def fSpread (x : Arr S4x8x32x128) : Arr S32x128x4x8x64 :=
  broadcastInDim S32x128x4x8x64 ![0, 1, 2, 3, 4] bcast_S32x128x4x8x1_S32x128x4x8x64_0_1_2_3_4 (broadcastInDim S32x128x4x8x1 ![0, 1, 2, 3] bcast_S32x128x4x8_S32x128x4x8x1_0_1_2_3
    (transpose S32x128x4x8 [2, 3, 0, 1] x transposes_S4x8x32x128_S32x128x4x8_2_3_0_1))
def fTail (cs : Arr S4x8x32x128) : Arr S4x8x32x128 := Host.exp (F := Ideal) (φ := .f32) (subf (F := Ideal) (φ := .f32) (broadcastInDim S4x8x32x128 ![0, 1, 2, 3] bcast_S4x8x32x1_S4x8x32x128_0_1_2_3 (fLast cs)) cs)
def fNew (cs : Arr S4x8x32x128) (x : Arr S32x128x4x8x64) (B : Arr S32x128x4x128) : Arr S32x4x8x64x128 :=
  Host.dotGeneral (F := Ideal) (φ₁ := .f32) (φ₂ := .f32) dot_S32x128x4x8x64_S32x128x4x128_S32x4x8x64x128_1_1_34_3_02_02 none (mulf (F := Ideal) (φ := .f32) (fSpread (fTail cs)) x : Arr S32x128x4x8x64) B
def fDecay (cs : Arr S4x8x32x128) : Arr S32x4x8 :=
  transpose S32x4x8 [2, 0, 1] (Host.exp (F := Ideal) (φ := .f32) (shapeCast S4x8x32 (α := Ideal .f32) (fLast cs) shapeCasts_S4x8x32x1_S4x8x32)) transposes_S4x8x32_S32x4x8_2_0_1

/-! ## The operations after it -/

def fOut (H : Arr S32x4x8x64x128) (C : Arr S32x128x4x128) (cs : Arr S4x8x32x128) (y : Arr S32x128x4x8x64) (D : Arr S32) (x : Arr S4096x32x64) : Arr S4096x2048 :=
  shapeCast S4096x2048 (α := Ideal .f32) (addf (F := Ideal) (φ := .f32)
    (shapeCast S4096x32x64 (α := Ideal .f32) (addf (F := Ideal) (φ := .f32) y (mulf (F := Ideal) (φ := .f32)
      (transpose S32x128x4x8x64 [0, 4, 1, 2, 3] (Host.dotGeneral (F := Ideal) (φ₁ := .f32) (φ₂ := .f32) dot_S32x4x8x64x128_S32x128x4x128_S32x4x8x64x128_4_3_23_1_01_02 none H C : Arr S32x4x8x64x128) transposes_S32x4x8x64x128_S32x128x4x8x64_0_4_1_2_3)
      (fSpread (Host.exp (F := Ideal) (φ := .f32) cs)))) shapeCasts_S32x128x4x8x64_S4096x32x64)
    (mulf (F := Ideal) (φ := .f32) (broadcastInDim S4096x32x64 ![0, 1, 2] bcast_S1x32x1_S4096x32x64_0_1_2 (broadcastInDim S1x32x1 ![1, 2] bcast_S32x1_S1x32x1_1_2 (broadcastInDim S32x1 ![0] bcast_S32_S32x1_0 D))) x))
    shapeCasts_S4096x32x64_S4096x2048
def fSilu (z : Arr S4096x2048) : Arr S4096x2048 :=
  let one : Arr S4096x2048 := broadcastInDim S4096x2048 ![] bcast_S_S4096x2048 (constant (F := Ideal) S_ .f32 0x3F800000#32)
  mulf (F := Ideal) (φ := .f32) z (Host.divf (F := Ideal) (φ := .f32) one (addf (F := Ideal) (φ := .f32) one (Host.exp (F := Ideal) (φ := .f32) (Host.negf (F := Ideal) (φ := .f32) z))))
def fGate (y z : Arr S4096x2048) : Arr S4096x4x512 := shapeCast S4096x4x512 (α := Ideal .f32) (mulf (F := Ideal) (φ := .f32) y z) shapeCasts_S4096x2048_S4096x4x512
def fInv (v : Arr S4096x4x512) : Arr S4096x4x1 :=
  Host.rsqrt (F := Ideal) (φ := .f32) (addf (F := Ideal) (φ := .f32) (Host.divf (F := Ideal) (φ := .f32)
    (broadcastInDim S4096x4x1 ![0, 1] bcast_S4096x4_S4096x4x1_0_1 (Host.reduceAdd (F := Ideal) (φ := .f32) (mulf (F := Ideal) (φ := .f32) v v) zero reducesTo_S4096x4x512_S4096x4_d2 h_S_))
    (broadcastInDim S4096x4x1 ![] bcast_S_S4096x4x1 (constant (F := Ideal) S_ .f32 0x44000000#32))) (broadcastInDim S4096x4x1 ![] bcast_S_S4096x4x1 (constant (F := Ideal) S_ .f32 0x358637BD#32)))
def fNormed (v : Arr S4096x4x512) (w : Arr S2048) : Arr S4096x2048 :=
  shapeCast S4096x2048 (α := Ideal .f32) (mulf (F := Ideal) (φ := .f32) (mulf (F := Ideal) (φ := .f32) v (broadcastInDim S4096x4x512 ![0, 1, 2] bcast_S4096x4x1_S4096x4x512_0_1_2 (fInv v)))
    (broadcastInDim S4096x4x512 ![0, 1, 2] bcast_S1x4x512_S4096x4x512_0_1_2 (broadcastInDim S1x4x512 ![1, 2] bcast_S4x512_S1x4x512_1_2 (shapeCast S4x512 (α := Ideal .f32) w shapeCasts_S2048_S4x512)))) shapeCasts_S4096x4x512_S4096x2048
def fStates (H : Arr S32x4x8x64x128) : Arr S4x32x4x128x128 :=
  transpose S4x32x4x128x128 [1, 0, 2, 4, 3] (shapeCast S32x4x4x128x128 (α := Ideal .f32) H shapeCasts_S32x4x8x64x128_S32x4x4x128x128) transposes_S32x4x4x128x128_S4x32x4x128x128_1_0_2_4_3

/-! ## What each stretch writes -/

variable (V : Valuation τ sig (Elt Ideal))

theorem l0_v10 : after hostOps0 V (Proc.devRef .tc main_v10) = fRaw (V (Proc.devRef .tc main_arg1)) (V (Proc.devRef .tc main_arg2)) := by
  after_results_simp <;> rfl
theorem l0_v0 : after hostOps0 V (Proc.devRef .tc main_v0) = extractStridedSlice S4096x2048 ![0, 0] (V (Proc.devRef .tc main_arg1) : Arr S4096x5376) slices_S4096x5376_S4096x2048_0_0 := by
  after_results_simp <;> rfl
theorem l0_v3 : after hostOps0 V (Proc.devRef .tc main_v3) = fX (V (Proc.devRef .tc main_arg0)) := by
  after_results_simp <;> rfl
theorem l0_v5 : after hostOps0 V (Proc.devRef .tc main_v5) = shapeCast S4096x4x128 (α := Ideal .f32) (extractStridedSlice S4096x512 ![0, 2048] (V (Proc.devRef .tc main_arg0) : Arr S4096x3072) slices_S4096x3072_S4096x512_0_2048) shapeCasts_S4096x512_S4096x4x128 := by
  after_results_simp <;> rfl
theorem l0_v7 : after hostOps0 V (Proc.devRef .tc main_v7) = shapeCast S4096x4x128 (α := Ideal .f32) (extractStridedSlice S4096x512 ![0, 2560] (V (Proc.devRef .tc main_arg0) : Arr S4096x3072) slices_S4096x3072_S4096x512_0_2560) shapeCasts_S4096x512_S4096x4x128 := by
  after_results_simp <;> rfl
theorem l1_v11 : after hostOps0_1 V (Proc.devRef .tc main_v11) = fSoft (V (Proc.devRef .tc main_v10)) := by
  after_results_simp <;> rfl
theorem l2_v17 : after hostOps0_2 V (Proc.devRef .tc main_v17) = fXd (V (Proc.devRef .tc main_v3)) (V (Proc.devRef .tc main_v11)) := by
  after_results_simp <;> rfl
theorem l2_v22 : after hostOps0_2 V (Proc.devRef .tc main_v22) = fDa (V (Proc.devRef .tc main_v11)) (V (Proc.devRef .tc main_arg3)) := by
  after_results_simp <;> rfl
theorem l2_v23 : after hostOps0_2 V (Proc.devRef .tc main_v23) = shapeCast S32x128x4x128 (α := Ideal .f32) (V (Proc.devRef .tc main_v5) : Arr S4096x4x128) shapeCasts_S4096x4x128_S32x128x4x128 := by
  after_results_simp <;> rfl
theorem l2_v24 : after hostOps0_2 V (Proc.devRef .tc main_v24) = shapeCast S32x128x4x128 (α := Ideal .f32) (V (Proc.devRef .tc main_v7) : Arr S4096x4x128) shapeCasts_S4096x4x128_S32x128x4x128 := by
  after_results_simp <;> rfl
theorem l3_v25 : after hostOps0_3 V (Proc.devRef .tc main_v25) = fCum (V (Proc.devRef .tc main_v22)) := by
  after_results_simp <;> rfl
theorem l4_v26 : after hostOps0_4 V (Proc.devRef .tc main_v26) = fCum (V (Proc.devRef .tc main_v22)) := by
  after_results_simp <;> rfl
theorem l5_v31 : after hostOps0_5 V (Proc.devRef .tc main_v31) = fDiff (V (Proc.devRef .tc main_v26)) := by
  after_results_simp <;> rfl
theorem l5_v32 : after hostOps0_5 V (Proc.devRef .tc main_v32) = broadcastInDim S128x128 ![] bcast_S_S128x128 (constantI S_ 1 1#1) := by
  after_results_simp <;> rfl
theorem l6_v33 (h : V (Proc.devRef .tc main_v32) = broadcastInDim S128x128 ![] bcast_S_S128x128 (constantI S_ 1 1#1)) : after hostOps0_6 V (Proc.devRef .tc main_v33) = fTril := by
  have e : after hostOps0_6 V (Proc.devRef .tc main_v33) = select (cmpi .sge (addi (iotaInDim S128x128 32 0) (broadcastInDim S128x128 ![] bcast_S_S128x128 (constantI S_ 32 0#32))) (iotaInDim S128x128 32 1))
    (V (Proc.devRef .tc main_v32)) (broadcastInDim S128x128 ![] bcast_S_S128x128 (constantI S_ 1 0#1)) := by
    after_results_simp <;> rfl
  rw [e, h]
  rfl
theorem l7_cst : after hostOps0_7 V (Proc.devRef .tc main_cst) = constant (F := Ideal) S_ .f32 0xFF800000#32 := by
  after_results_simp <;> rfl
theorem l8_v34 (h : V (Proc.devRef .tc main_v33) = fTril) (h' : V (Proc.devRef .tc main_cst) = constant (F := Ideal) S_ .f32 0xFF800000#32) :
    after hostOps0_8 V (Proc.devRef .tc main_v34) = fMask (V (Proc.devRef .tc main_v31)) := by
  have e : after hostOps0_8 V (Proc.devRef .tc main_v34) = select (broadcastInDim S4x8x32x128x128 ![3, 4] bcast_S128x128_S4x8x32x128x128_3_4 (V (Proc.devRef .tc main_v33)))
      (V (Proc.devRef .tc main_v31)) (broadcastInDim S4x8x32x128x128 ![] bcast_S_S4x8x32x128x128 (V (Proc.devRef .tc main_cst))) := by
    after_results_simp <;> rfl
  rw [e, h, h']
  rfl
theorem l9_v42 : after hostOps0_9 V (Proc.devRef .tc main_v42)
    = fY (V (Proc.devRef .tc main_v17)) (fL (fG (V (Proc.devRef .tc main_v24)) (V (Proc.devRef .tc main_v23))) (V (Proc.devRef .tc main_v34))) := by
  after_results_simp <;> rfl
theorem l9_new : after hostOps0_9 V (Proc.devRef .tc main_v58_0) = fNew (V (Proc.devRef .tc main_v25)) (V (Proc.devRef .tc main_v17)) (V (Proc.devRef .tc main_v23)) := by
  after_results_simp <;> rfl
theorem l9_decay : after hostOps0_9 V (Proc.devRef .tc main_v58_1) = fDecay (V (Proc.devRef .tc main_v25)) := by
  after_results_simp <;> rfl
theorem l9_H : after hostOps0_9 V (Proc.devRef .tc main_v58_3) = broadcastInDim S4x8x64x128 ![] bcast_S_S4x8x64x128 zero := by
  after_results_simp <;> rfl

theorem l10_v73 : after hostOps0_10 V (Proc.devRef .tc main_v73)
    = fOut (V (Proc.devRef .tc main_v58_4)) (V (Proc.devRef .tc main_v24)) (V (Proc.devRef .tc main_v25)) (V (Proc.devRef .tc main_v42)) (V (Proc.devRef .tc main_arg4)) (V (Proc.devRef .tc main_v3)) := by
  after_results_simp <;> rfl
theorem l11_v74 : after hostOps0_11 V (Proc.devRef .tc main_v74) = fSilu (V (Proc.devRef .tc main_v0)) := by
  after_results_simp <;> rfl
theorem l12_v94 : after hostOps0_12 V (Proc.devRef .tc main_v94)
    = truncf (F := Ideal) (φ := .f32) .bf16 (fNormed (fGate (V (Proc.devRef .tc main_v73)) (V (Proc.devRef .tc main_v74))) (V (Proc.devRef .tc main_arg5))) bitsLt_bf16_f32 := by
  after_results_simp <;> rfl
theorem l12_v93 : after hostOps0_12 V (Proc.devRef .tc main_v93) = fStates (V (Proc.devRef .tc main_v58_4)) := by
  after_results_simp <;> rfl

/-! ## The whole -/

theorem keepsL : ∀ {Ls : List (List (HloOp τ sig (Elt Ideal)))} {Ws : List (List (Ref sig .tc))},
    List.Forall₂ (fun L W => L.Forall fun op => op.writes ⊆ (W.map (Proc.devRef (τ := τ) .tc)).toFinset) Ls Ws → ∀ (V : Valuation τ sig (Elt Ideal)) {r : Ref sig .tc}, (∀ W ∈ Ws, r ∉ W) →
    afterL Ls V (Proc.devRef .tc r) = V (Proc.devRef .tc r)
  | [], [], _, _, _, _ => rfl
  | L :: Ls, W :: Ws, .cons h hs, V, r, hr => by
    rw [afterL_cons, keepsL hs _ fun W hW => hr W (List.mem_cons_of_mem _ hW), after_of_writes_sub L _ h (hr W List.mem_cons_self)]

theorem preWrites : List.Forall₂ (fun L W => L.Forall fun op => op.writes ⊆ (W.map (Proc.devRef (τ := τ) .tc)).toFinset) (preI (F := Ideal)) wrotePre :=
  .cons hostOps0_writes (.cons hostOps0_1_writes (.cons hostOps0_2_writes (.cons hostOps0_3_writes (.cons hostOps0_4_writes (.cons hostOps0_5_writes (.cons hostOps0_6_writes
    (.cons hostOps0_7_writes (.cons hostOps0_8_writes (.cons hostOps0_9_writes .nil)))))))))

theorem afterL_append' (Ls Ls' : List (List (HloOp τ sig (Elt Ideal)))) (V : Valuation τ sig (Elt Ideal)) : afterL (Ls ++ Ls') V = afterL Ls' (afterL Ls V) := by
  induction Ls generalizing V with
  | nil => rfl
  | cons L Ls ih => exact ih _

/-- The contents after some of the stretches before the loop. -/
abbrev pre (n : ℕ) : Valuation τ sig (Elt Ideal) := afterL ((preI (F := Ideal)).take n) V

/-- A buffer is written by the first stretches only. -/
theorem pre_take (n : ℕ) {r : Ref sig .tc} (hr : ∀ W ∈ (wrotePre.drop n : List (List (Ref sig .tc))), r ∉ W) : afterL preI V (Proc.devRef .tc r) = pre V n (Proc.devRef .tc r) := by
  rw [show afterL preI V = afterL (preI.drop n) (pre V n) by rw [← afterL_append', List.take_append_drop]]
  exact keepsL (List.forall₂_drop n preWrites) _ hr

theorem e_v10 : afterL preI V (Proc.devRef .tc main_v10) = fRaw (V (Proc.devRef .tc main_arg1)) (V (Proc.devRef .tc main_arg2)) := by
  rw [pre_take V 1 (by decide +kernel)]
  exact l0_v10 _
theorem e_v0 : afterL preI V (Proc.devRef .tc main_v0) = extractStridedSlice S4096x2048 ![0, 0] (V (Proc.devRef .tc main_arg1) : Arr S4096x5376) slices_S4096x5376_S4096x2048_0_0 := by
  rw [pre_take V 1 (by decide +kernel)]
  exact l0_v0 _
theorem e_v3 : afterL preI V (Proc.devRef .tc main_v3) = fX (V (Proc.devRef .tc main_arg0)) := by
  rw [pre_take V 1 (by decide +kernel)]
  exact l0_v3 _
theorem e_v11 : afterL preI V (Proc.devRef .tc main_v11) = fSoft (fRaw (V (Proc.devRef .tc main_arg1)) (V (Proc.devRef .tc main_arg2))) := by
  rw [← e_v10, pre_take V 2 (by decide +kernel), pre_take V 1 (r := main_v10) (by decide +kernel)]
  exact l1_v11 _
theorem e_v17 : afterL preI V (Proc.devRef .tc main_v17) = fXd (afterL preI V (Proc.devRef .tc main_v3)) (afterL preI V (Proc.devRef .tc main_v11)) := by
  rw [pre_take V 3 (by decide +kernel), pre_take V 2 (r := main_v3) (by decide +kernel), pre_take V 2 (r := main_v11) (by decide +kernel)]
  exact l2_v17 _
theorem e_v22 : afterL preI V (Proc.devRef .tc main_v22) = fDa (afterL preI V (Proc.devRef .tc main_v11)) (V (Proc.devRef .tc main_arg3)) := by
  rw [← pre_keeps (r := main_arg3) V (by decide +kernel), pre_take V 3 (r := main_v22) (by decide +kernel), pre_take V 2 (r := main_v11) (by decide +kernel), pre_take V 2 (r := main_arg3) (by decide +kernel)]
  exact l2_v22 _
theorem e_v23 : afterL preI V (Proc.devRef .tc main_v23) = fB (V (Proc.devRef .tc main_arg0)) := by
  rw [pre_take V 3 (by decide +kernel)]
  refine (l2_v23 _).trans (congrArg (fun x : Arr S4096x4x128 => shapeCast S32x128x4x128 (α := Ideal .f32) x shapeCasts_S4096x4x128_S32x128x4x128) ?_)
  show pre V 2 (Proc.devRef .tc main_v5) = _
  rw [← pre_take V 2 (r := main_v5) (by decide +kernel), pre_take V 1 (r := main_v5) (by decide +kernel)]
  exact l0_v5 _
theorem e_v24 : afterL preI V (Proc.devRef .tc main_v24) = fC (V (Proc.devRef .tc main_arg0)) := by
  rw [pre_take V 3 (by decide +kernel)]
  refine (l2_v24 _).trans (congrArg (fun x : Arr S4096x4x128 => shapeCast S32x128x4x128 (α := Ideal .f32) x shapeCasts_S4096x4x128_S32x128x4x128) ?_)
  show pre V 2 (Proc.devRef .tc main_v7) = _
  rw [← pre_take V 2 (r := main_v7) (by decide +kernel), pre_take V 1 (r := main_v7) (by decide +kernel)]
  exact l0_v7 _
theorem e_v25 : afterL preI V (Proc.devRef .tc main_v25) = fCum (afterL preI V (Proc.devRef .tc main_v22)) := by
  rw [pre_take V 4 (by decide +kernel), pre_take V 3 (r := main_v22) (by decide +kernel)]
  exact l3_v25 _
theorem e_v26 : afterL preI V (Proc.devRef .tc main_v26) = fCum (afterL preI V (Proc.devRef .tc main_v22)) := by
  rw [pre_take V 5 (by decide +kernel), pre_take V 4 (r := main_v22) (by decide +kernel)]
  exact l4_v26 _
theorem e_v34 : afterL preI V (Proc.devRef .tc main_v34) = fMask (fDiff (afterL preI V (Proc.devRef .tc main_v26))) := by
  have h31 : pre V 8 (Proc.devRef .tc main_v31) = fDiff (afterL preI V (Proc.devRef .tc main_v26)) := by
    rw [← pre_take V 8 (r := main_v31) (by decide +kernel), pre_take V 6 (r := main_v31) (by decide +kernel), pre_take V 5 (r := main_v26) (by decide +kernel)]
    exact l5_v31 _
  have h33 : pre V 8 (Proc.devRef .tc main_v33) = fTril := by
    rw [← pre_take V 8 (r := main_v33) (by decide +kernel), pre_take V 7 (r := main_v33) (by decide +kernel)]
    exact l6_v33 _ (l5_v32 _)
  rw [pre_take V 9 (r := main_v34) (by decide +kernel), ← h31]
  exact l8_v34 _ h33 (l7_cst _)
theorem e_v42 : afterL preI V (Proc.devRef .tc main_v42)
    = fY (afterL preI V (Proc.devRef .tc main_v17)) (fL (fG (afterL preI V (Proc.devRef .tc main_v24)) (afterL preI V (Proc.devRef .tc main_v23))) (afterL preI V (Proc.devRef .tc main_v34))) := by
  rw [pre_take V 10 (r := main_v42) (by decide +kernel), pre_take V 9 (r := main_v17) (by decide +kernel), pre_take V 9 (r := main_v24) (by decide +kernel), pre_take V 9 (r := main_v23) (by decide +kernel),
    pre_take V 9 (r := main_v34) (by decide +kernel)]
  exact l9_v42 _
theorem e_new : afterL preI V (Proc.devRef .tc main_v58_0) = fNew (afterL preI V (Proc.devRef .tc main_v25)) (afterL preI V (Proc.devRef .tc main_v17)) (afterL preI V (Proc.devRef .tc main_v23)) := by
  rw [pre_take V 10 (r := main_v58_0) (by decide +kernel), pre_take V 9 (r := main_v17) (by decide +kernel), pre_take V 9 (r := main_v25) (by decide +kernel), pre_take V 9 (r := main_v23) (by decide +kernel)]
  exact l9_new _
theorem e_decay : afterL preI V (Proc.devRef .tc main_v58_1) = fDecay (afterL preI V (Proc.devRef .tc main_v25)) := by
  rw [pre_take V 10 (r := main_v58_1) (by decide +kernel), pre_take V 9 (r := main_v25) (by decide +kernel)]
  exact l9_decay _
theorem e_H : afterL preI V (Proc.devRef .tc main_v58_3) = broadcastInDim S4x8x64x128 ![] bcast_S_S4x8x64x128 zero := by
  rw [pre_take V 10 (r := main_v58_3) (by decide +kernel)]
  exact l9_H _

/-! ## The end -/

variable (m : (ℓ : Loc nD τ sig) → Buf (Elt Ideal) ℓ) (c : Dev nD)

/-- The contents before the loop, at its end, and at the end. -/
abbrev entry : Valuation τ sig (Elt Ideal) := entryContents preI m c
def left : Valuation τ sig (Elt Ideal) := after condOps (atK m 32 c)
abbrev last : Valuation τ sig (Elt Ideal) := finalContents condOps preI bodyI postI 32 m c

theorem left_keeps {r : Ref sig .tc} (hc : r ∉ condOps_W) (hb : ∀ W ∈ (wroteBody : List (List (Ref sig .tc))), r ∉ W) : left m c (Proc.devRef .tc r) = entry m c (Proc.devRef .tc r) :=
  (after_of_writes_sub condOps _ condOps_writes hc).trans (loop_keeps m c hc hb 32)

theorem left_saved : left m c (Proc.devRef .tc main_v58_4) = atK m 32 c (Proc.devRef .tc main_v58_4) := after_of_writes_sub condOps _ condOps_writes (by decide)

theorem last_eq : last m c = after hostOps0_12 (after hostOps0_11 (after hostOps0_10 (left m c))) := rfl

theorem last_v73 : last m c (Proc.devRef .tc main_v73)
    = fOut (atK m 32 c (Proc.devRef .tc main_v58_4)) (entry m c (Proc.devRef .tc main_v24)) (entry m c (Proc.devRef .tc main_v25)) (entry m c (Proc.devRef .tc main_v42)) (entry m c (Proc.devRef .tc main_arg4)) (entry m c (Proc.devRef .tc main_v3)) := by
  rw [last_eq, after_of_writes_sub hostOps0_12 _ hostOps0_12_writes (r := main_v73) (by decide), after_of_writes_sub hostOps0_11 _ hostOps0_11_writes (r := main_v73) (by decide),
    l10_v73, left_keeps m c (r := main_v24) (by decide) (by decide +kernel), left_keeps m c (r := main_v25) (by decide) (by decide +kernel), left_keeps m c (r := main_v42) (by decide) (by decide +kernel),
    left_keeps m c (r := main_arg4) (by decide) (by decide +kernel), left_keeps m c (r := main_v3) (by decide) (by decide +kernel), left_saved]

theorem last_v93 : last m c (Proc.devRef .tc main_v93) = fStates (atK m 32 c (Proc.devRef .tc main_v58_4)) := by
  rw [last_eq, l12_v93, after_of_writes_sub hostOps0_11 _ hostOps0_11_writes (r := main_v58_4) (by decide),
    after_of_writes_sub hostOps0_10 _ hostOps0_10_writes (r := main_v58_4) (by decide), left_saved]

theorem last_v94 : last m c (Proc.devRef .tc main_v94)
    = truncf (F := Ideal) (φ := .f32) .bf16 (fNormed (fGate (last m c (Proc.devRef .tc main_v73)) (fSilu (entry m c (Proc.devRef .tc main_v0)))) (entry m c (Proc.devRef .tc main_arg5))) bitsLt_bf16_f32 := by
  rw [last_eq, l12_v94, after_of_writes_sub hostOps0_12 _ hostOps0_12_writes (r := main_v73) (by decide), l11_v74, after_of_writes_sub hostOps0_10 _ hostOps0_10_writes (r := main_v0) (by decide),
    after_of_writes_sub hostOps0_11 _ hostOps0_11_writes (r := main_arg5) (by decide), after_of_writes_sub hostOps0_10 _ hostOps0_10_writes (r := main_arg5) (by decide),
    left_keeps m c (r := main_v0) (by decide) (by decide +kernel), left_keeps m c (r := main_arg5) (by decide) (by decide +kernel)]

/-! ## The loop -/

/-- What a loop's trip makes of the states: the old ones' shares and the chunk's own. -/
abbrev slice3 (x : Arr S32x4x8) (k : ℕ) : Arr S4x8 :=
  shapeCast S4x8 (α := Ideal .f32) (Host.dynamicSlice S1x4x8 x (fun a => (((![fun _ => BitVec.ofNat 32 k, constantI S_ 32 0#32, constantI S_ 32 0#32] : Fin 3 → S_.Idx → BitVec 32)) a (Shape.Idx.first h_S_)).toInt) sliceFits_S32x4x8_S1x4x8) shapeCasts_S1x4x8_S4x8
abbrev slice5 (x : Arr S32x4x8x64x128) (k : ℕ) : Arr S4x8x64x128 :=
  shapeCast S4x8x64x128 (α := Ideal .f32) (Host.dynamicSlice S1x4x8x64x128 x (fun a => (((![fun _ => BitVec.ofNat 32 k, constantI S_ 32 0#32, constantI S_ 32 0#32, constantI S_ 32 0#32, constantI S_ 32 0#32] : Fin 5 → S_.Idx → BitVec 32)) a (Shape.Idx.first h_S_)).toInt)
    sliceFits_S32x4x8x64x128_S1x4x8x64x128) shapeCasts_S1x4x8x64x128_S4x8x64x128
abbrev update (x : Arr S32x4x8x64x128) (h : Arr S4x8x64x128) (k : ℕ) : Arr S32x4x8x64x128 :=
  Host.dynamicUpdateSlice x (broadcastInDim S1x4x8x64x128 ![1, 2, 3, 4] bcast_S4x8x64x128_S1x4x8x64x128_1_2_3_4 h : Arr S1x4x8x64x128)
    (fun a => (((![fun _ => BitVec.ofNat 32 k, constantI S_ 32 0#32, constantI S_ 32 0#32, constantI S_ 32 0#32, constantI S_ 32 0#32] : Fin 5 → S_.Idx → BitVec 32)) a (Shape.Idx.first h_S_)).toInt) updateFits_S32x4x8x64x128_S1x4x8x64x128

theorem at3 (k : Fin 32) (a : Fin 3) :
    Host.clampedStart S32x4x8 S1x4x8 rfl (fun a => (((![fun _ => BitVec.ofNat 32 k.val, constantI S_ 32 0#32, constantI S_ 32 0#32] : Fin 3 → S_.Idx → BitVec 32)) a (Shape.Idx.first h_S_)).toInt) a = (![k.val, 0, 0] : Fin 3 → ℕ) a := by
  have hk := k.isLt
  have e := Cert.Sba.toInt_small k.val (by omega)
  fin_cases a
  · refine Host.clampedStart_of_le (s := S32x4x8) (t := S1x4x8) rfl _ 0 k.val ?_ ?_
    · exact e
    · show k.val + 1 ≤ 32
      omega
  · exact Host.clampedStart_of_le (s := S32x4x8) (t := S1x4x8) rfl _ 1 0 (show ((0#32 : BitVec 32).toInt) = 0 by decide) (by decide)
  · exact Host.clampedStart_of_le (s := S32x4x8) (t := S1x4x8) rfl _ 2 0 (show ((0#32 : BitVec 32).toInt) = 0 by decide) (by decide)

theorem at5 (k : Fin 32) (a : Fin 5) :
    Host.clampedStart S32x4x8x64x128 S1x4x8x64x128 rfl (fun a => (((![fun _ => BitVec.ofNat 32 k.val, constantI S_ 32 0#32, constantI S_ 32 0#32, constantI S_ 32 0#32, constantI S_ 32 0#32] : Fin 5 → S_.Idx → BitVec 32)) a (Shape.Idx.first h_S_)).toInt) a
      = (![k.val, 0, 0, 0, 0] : Fin 5 → ℕ) a := by
  have hk := k.isLt
  have e := Cert.Sba.toInt_small k.val (by omega)
  fin_cases a
  · refine Host.clampedStart_of_le (s := S32x4x8x64x128) (t := S1x4x8x64x128) rfl _ 0 k.val ?_ ?_
    · exact e
    · show k.val + 1 ≤ 32
      omega
  · exact Host.clampedStart_of_le (s := S32x4x8x64x128) (t := S1x4x8x64x128) rfl _ 1 0 (show ((0#32 : BitVec 32).toInt) = 0 by decide) (by decide)
  · exact Host.clampedStart_of_le (s := S32x4x8x64x128) (t := S1x4x8x64x128) rfl _ 2 0 (show ((0#32 : BitVec 32).toInt) = 0 by decide) (by decide)
  · exact Host.clampedStart_of_le (s := S32x4x8x64x128) (t := S1x4x8x64x128) rfl _ 3 0 (show ((0#32 : BitVec 32).toInt) = 0 by decide) (by decide)
  · exact Host.clampedStart_of_le (s := S32x4x8x64x128) (t := S1x4x8x64x128) rfl _ 4 0 (show ((0#32 : BitVec 32).toInt) = 0 by decide) (by decide)

theorem slice3_entry (x : Arr S32x4x8) (k : Fin 32) (g : Fin 4) (r : Fin 8) : slice3 x k.val (ix2 g r) = x (ix3 k g r) := by
  pointwise []
  simp only [at3]
  congr 2 <;> exact Fin.ext (Nat.zero_add _)

theorem slice5_entry (x : Arr S32x4x8x64x128) (k : Fin 32) (g : Fin 4) (r : Fin 8) (p : Fin 64) (n : Fin 128) : slice5 x k.val (ix4 g r p n) = x (ix5 k g r p n) := by
  pointwise []
  simp only [at5]
  congr 2 <;> exact Fin.ext (Nat.zero_add _)

theorem update_entry (x : Arr S32x4x8x64x128) (h : Arr S4x8x64x128) (k c : Fin 32) (g : Fin 4) (r : Fin 8) (p : Fin 64) (n : Fin 128) :
    update x h k.val (ix5 c g r p n) = if c.val = k.val then h (ix4 g r p n) else x (ix5 c g r p n) := by
  pointwise []
  simp only [at5]
  by_cases e : c.val = k.val
  · rw [if_pos e, dif_pos]
    · congr 2
    · refine ⟨⟨e.ge, ?_⟩, Nat.zero_le _, Nat.zero_le _, Nat.zero_le _, Nat.zero_le _⟩
      show c.val < k.val + 1
      omega
  · rw [if_neg e, dif_neg]
    rintro ⟨⟨h0, h1⟩, -⟩
    have h0 : k.val ≤ c.val := h0
    have h1 : c.val < k.val + 1 := h1
    omega

/-- The carried buffers before a trip. -/
abbrev trip (k : ℕ) : Valuation τ sig (Elt Ideal) := STEP^[k] (entry m c)

theorem trip_succ (k : ℕ) : trip m c (k + 1) = STEP (trip m c k) := Function.iterate_succ_apply' _ _ _

theorem trip_new (k : ℕ) : trip m c k (Proc.devRef .tc main_v58_0) = entry m c (Proc.devRef .tc main_v58_0) := by
  induction k with
  | zero => rfl
  | succ k ih => rw [trip_succ, STEP_main_v58_0, ih]

theorem trip_decay (k : ℕ) : trip m c k (Proc.devRef .tc main_v58_1) = entry m c (Proc.devRef .tc main_v58_1) := by
  induction k with
  | zero => rfl
  | succ k ih => rw [trip_succ, STEP_main_v58_1, ih]

theorem l9_count : after hostOps0_9 V (Proc.devRef .tc main_v58_2) = constantI S_ 32 0#32 := by
  after_results_simp <;> rfl
theorem e_count : afterL preI V (Proc.devRef .tc main_v58_2) = constantI S_ 32 0#32 := by
  rw [pre_take V 10 (r := main_v58_2) (by decide +kernel)]
  exact l9_count _

theorem trip_count (k : ℕ) : trip m c k (Proc.devRef .tc main_v58_2) = fun _ => BitVec.ofNat 32 k := by
  induction k with
  | zero => exact e_count _
  | succ k ih =>
    rw [trip_succ, STEP_main_v58_2]
    unfold step_main_v58_2
    rw [ih]
    funext i
    exact BitVec.ofNat_add_ofNat k 1

theorem trip_H (k : ℕ) : trip m c (k + 1) (Proc.devRef .tc main_v58_3)
    = addf (F := Ideal) (φ := .f32) (mulf (F := Ideal) (φ := .f32) (trip m c k (Proc.devRef .tc main_v58_3) : Arr S4x8x64x128)
        (broadcastInDim S4x8x64x128 ![0, 1, 2, 3] bcast_S4x8x1x1_S4x8x64x128_0_1_2_3 (broadcastInDim S4x8x1x1 ![0, 1] bcast_S4x8_S4x8x1x1_0_1 (slice3 (entry m c (Proc.devRef .tc main_v58_1)) k))))
      (slice5 (entry m c (Proc.devRef .tc main_v58_0)) k) := by
  rw [trip_succ, STEP_main_v58_3]
  unfold step_main_v58_3
  rw [trip_count, trip_new, trip_decay]
  rfl

theorem trip_saved (k : ℕ) : trip m c (k + 1) (Proc.devRef .tc main_v58_4) = update (trip m c k (Proc.devRef .tc main_v58_4)) (trip m c k (Proc.devRef .tc main_v58_3)) k := by
  rw [trip_succ, STEP_main_v58_4]
  unfold step_main_v58_4
  rw [trip_count]
  rfl

/-- The states before a trip, the chunks' own, and the shares the old ones keep. -/
def tH (k : ℕ) : Arr S4x8x64x128 := trip m c k (Proc.devRef .tc main_v58_3)
def tNew : Arr S32x4x8x64x128 := entry m c (Proc.devRef .tc main_v58_0)
def tDecay : Arr S32x4x8 := entry m c (Proc.devRef .tc main_v58_1)
def tSaved (k : ℕ) : Arr S32x4x8x64x128 := trip m c k (Proc.devRef .tc main_v58_4)

theorem trip_H_entry (k : Fin 32) (g : Fin 4) (r : Fin 8) (p : Fin 64) (n : Fin 128) :
    tH m c (k.val + 1) (ix4 g r p n) = tH m c k.val (ix4 g r p n) * tDecay m c (ix3 k g r) + tNew m c (ix5 k g r p n) := by
  rw [← slice3_entry (tDecay m c), ← slice5_entry (tNew m c)]
  refine (congrFun (trip_H m c k.val) (ix4 g r p n)).trans ?_
  show addf (F := Ideal) (φ := .f32) (mulf (F := Ideal) (φ := .f32) (tH m c k.val) (broadcastInDim S4x8x64x128 ![0, 1, 2, 3] bcast_S4x8x1x1_S4x8x64x128_0_1_2_3
    (broadcastInDim S4x8x1x1 ![0, 1] bcast_S4x8_S4x8x1x1_0_1 (slice3 (tDecay m c) k.val)))) (slice5 (tNew m c) k.val) (ix4 g r p n) = _
  generalize slice3 (tDecay m c) k.val = y
  generalize slice5 (tNew m c) k.val = z
  generalize tH m c k.val = x
  pointwise []

/-- The saved states are the carried ones, in turn. -/
theorem saved_entry (k : ℕ) (hk : k ≤ 32) (j : Fin 32) (hj : j.val < k) (g : Fin 4) (r : Fin 8) (p : Fin 64) (n : Fin 128) :
    tSaved m c k (ix5 j g r p n) = tH m c j.val (ix4 g r p n) := by
  induction k with
  | zero => omega
  | succ k ih =>
    refine (congrFun (trip_saved m c k) (ix5 j g r p n)).trans ?_
    refine (update_entry (tSaved m c k) (tH m c k) ⟨k, by omega⟩ j g r p n).trans ?_
    by_cases e : j.val = k
    · rw [if_pos e, e]
    · rw [if_neg e, ih (by omega) (by omega)]

theorem saved_eq : atK m 32 c (Proc.devRef .tc main_v58_4) = tSaved m c 32 := atK_agree m c 32 _ (by decide)

theorem H_zero (i : S4x8x64x128.Idx) : tH m c 0 i = Ideal.ofBits .f32 0x00000000#32 := congrFun (e_H (launchContents m c)) i

end Cert.SsdRefIdeal.Value

end
-- ==== Proof.SsdRefValue.lean ====
/- The state-space recurrence as the reference computes it, on real numbers. -/
module

public import proofs.«01_k».proof.Proof.SsdRefOps
public import proofs.«01_k».proof.Proof.SbaRefValue

@[expose] public section

set_option maxRecDepth 16384

noncomputable section

open Idealize.ShloMosaic Idealize.ShloMosaic.TcCoe Idealize.SL.Sem

namespace Cert.SsdRefIdeal.Value
open Cert.SsdRefIdeal Cert.SsdRefIdeal.Gen
open Cert.Ssd (Data Tile Holds whole states gate inv mean_pos)
open Cert.SbaRefIdeal.Value (foldl_add soft_coe lo)

/-! ## Running sums -/

/-- The window's positions. -/
def along (N : ℕ) : Fin N ≃ (⟨4, ![1, 1, 1, N]⟩ : Shape).Idx where
  toFun w := ix4 0 0 0 w
  invFun i := i 3
  left_inv _ := rfl
  right_inv i := by
    funext d
    fin_cases d
    · exact Subsingleton.elim (α := Fin 1) _ _
    · exact Subsingleton.elim (α := Fin 1) _ _
    · exact Subsingleton.elim (α := Fin 1) _ _
    · rfl

theorem cum_entry (x : Arr S4x8x32x128) (g : Fin 4) (r : Fin 8) (c : Fin 32) (l : Fin 128) :
    fCum x (ix4 g r c l) = ∑ w : Fin 128, if hw : 127 ≤ l.val + w.val then x (ix4 g r c ⟨l.val + w.val - 127, by omega⟩) else 0 := by
  have hv : (broadcastInDim S_ ![] bcast_S_S_ zero : Arr S_) (Shape.Idx.first h_S_) = 0 := by
    rw [show Shape.Idx.first h_S_ = ix0 from funext fun a => a.elim0]
    pointwise [zero]
  unfold fCum Host.reduceWindowAdd
  show Host.reduceWindow (α := EReal) (fun a b => a + b) ![1, 1, 1, 128] ![1, 1, 1, 1] ![0, 0, 0, 127] ![0, 0, 0, 0] x
    (fun _ : (⟨0, ![]⟩ : Shape).Idx => (broadcastInDim S_ ![] bcast_S_S_ zero : Arr S_) (Shape.Idx.first h_S_)) reduceWindows_S4x8x32x128_S4x8x32x128_w1s1p0_0_w1s1p0_0_w1s1p0_0_w128s1p127_0 (by decide) (ix4 g r c l) = _
  unfold Host.reduceWindow
  dsimp only
  rw [foldl_add, hv, zero_add, ← Fin.sum_univ_def, ← Equiv.sum_comp (Shape.rowMajor _), ← Equiv.sum_comp (along 128)]
  refine Finset.sum_congr rfl fun w _ => ?_
  simp only [Equiv.symm_apply_apply]
  have hl := l.isLt
  have hw' := w.isLt
  by_cases hw : 127 ≤ l.val + w.val
  · rw [dif_pos hw, dif_pos]
    · refine congrArg x (funext fun a => Fin.ext ?_)
      fin_cases a
      · show g.val * 1 + 0 - 0 = g.val; omega
      · show r.val * 1 + 0 - 0 = r.val; omega
      · show c.val * 1 + 0 - 0 = c.val; omega
      · show l.val * 1 + w.val - 127 = l.val + w.val - 127; omega
    · intro a
      fin_cases a
      · show 0 ≤ g.val * 1 + 0 ∧ g.val * 1 + 0 - 0 < 4; have := g.isLt; omega
      · show 0 ≤ r.val * 1 + 0 ∧ r.val * 1 + 0 - 0 < 8; have := r.isLt; omega
      · show 0 ≤ c.val * 1 + 0 ∧ c.val * 1 + 0 - 0 < 32; have := c.isLt; omega
      · show 127 ≤ l.val * 1 + w.val ∧ l.val * 1 + w.val - 127 < 128; omega
  · rw [dif_neg hw, dif_neg]
    intro h'
    have h2 : 127 ≤ l.val * 1 + w.val ∧ l.val * 1 + w.val - 127 < 128 := h' 3
    omega

theorem cum_real (x : Arr S4x8x32x128) (g : Fin 4) (r : Fin 8) (c : Fin 32) (l : Fin 128) (f : ℕ → ℝ) (hx : ∀ l : Fin 128, x (ix4 g r c l) = (f l.val : EReal)) :
    fCum x (ix4 g r c l) = ((∑ s : Fin 128, if s.val ≤ l.val then f s.val else 0 : ℝ) : EReal) := by
  have hl := l.isLt
  rw [cum_entry, Finset.sum_congr rfl fun w _ => show _ = ((if 127 ≤ l.val + w.val then f (l.val + w.val - 127) else 0 : ℝ) : EReal) by
    by_cases hw : 127 ≤ l.val + w.val
    · rw [dif_pos hw, hx, if_pos hw]
    · rw [dif_neg hw, if_neg hw]; rfl]
  rw [Reals.sum_coe, Fin.sum_univ_eq_sum_range (fun w => if 127 ≤ l.val + w then f (l.val + w - 127) else 0) 128, Fin.sum_univ_eq_sum_range (fun s => if s ≤ l.val then f s else 0) 128,
    show Finset.range 128 = Finset.range (127 + 1) from rfl, Cert.SbaRefIdeal.Value.shift_to f (N := 127) (by omega), ← Finset.sum_filter]
  refine congrArg _ (Finset.sum_congr (Finset.ext fun k => ?_) fun _ _ => rfl)
  simp only [Finset.mem_filter, Finset.mem_range]
  omega

/-! ## Entry by entry -/

/-- A row of a chunk, and a head of a group. -/
abbrev row (c : Fin 32) (l : Fin 128) : Fin 4096 := ⟨c.val * 128 + l.val, by omega⟩
abbrev hd (g : Fin 4) (r : Fin 8) : Fin 32 := ⟨g.val * 8 + r.val, by omega⟩

variable (A0 : Arr S4096x3072) (A1 : Arr S4096x5376) (A2 A3 A4 : Arr S32) (A5 : Arr S2048)

abbrev rDt : Arr S4096x32 := fSoft (fRaw A1 A2)
abbrev rXd : Arr S32x128x4x8x64 := fXd (fX A0) (rDt A1 A2)
abbrev rCs : Arr S4x8x32x128 := fCum (fDa (rDt A1 A2) A3)
abbrev rY : Arr S32x128x4x8x64 := fY (rXd A0 A1 A2) (fL (fG (fC A0) (fB A0)) (fMask (fDiff (rCs A1 A2 A3))))
abbrev rNew : Arr S32x4x8x64x128 := fNew (rCs A1 A2 A3) (rXd A0 A1 A2) (fB A0)
abbrev rDecay : Arr S32x4x8 := fDecay (rCs A1 A2 A3)

variable {A0 A1 A2 A3 A4 A5} {D : Data} (H : Holds D A0 A1 A2 A3 A4 A5)
include H

theorem dt_at (c : Fin 32) (l : Fin 128) (g : Fin 4) (r : Fin 8) : rDt A1 A2 (ix2 (row c l) (hd g r)) = ((D.tile c.val g.val).dt l.val r.val : EReal) := by
  have e : fRaw A1 A2 (ix2 (row c l) (hd g r)) = (((D.tile c.val g.val).raw l.val r.val + (D.tile c.val g.val).bias r.val : ℝ) : EReal) := by
    pointwise [fRaw]
    rw [H.z, H.bias, ← EReal.coe_add]
    unfold Data.tile
    simp only [if_pos r.isLt, Nat.mul_comm]
  refine Eq.trans ?_ (soft_coe ((D.tile c.val g.val).raw l.val r.val + (D.tile c.val g.val).bias r.val))
  rw [← e]
  pointwise [fSoft, zero]

theorem x_at (c : Fin 32) (l : Fin 128) (g : Fin 4) (r : Fin 8) (p : Fin 64) : fX A0 (ix3 (row c l) (hd g r) p) = (D.x c.val g.val (64 * r.val + p.val) l.val : EReal) := by
  pointwise [fX]
  rw [H.x]
  unfold Data.x
  show (D.X (c.val * 128 + l.val) ((g.val * 8 + r.val) * 64 + p.val) : EReal) = _
  rw [show c.val * 128 + l.val = 128 * c.val + l.val by omega, show (g.val * 8 + r.val) * 64 + p.val = 512 * g.val + (64 * r.val + p.val) by omega]

theorem b_at (c : Fin 32) (l : Fin 128) (g : Fin 4) (n : Fin 128) : fB A0 (ix4 c l g n) = ((D.tile c.val g.val).B l.val n.val : EReal) := by
  pointwise [fB]
  rw [H.x]
  unfold Data.tile
  simp only [Nat.mul_comm]

theorem c_at (c : Fin 32) (l : Fin 128) (g : Fin 4) (n : Fin 128) : fC A0 (ix4 c l g n) = ((D.tile c.val g.val).C l.val n.val : EReal) := by
  pointwise [fC]
  rw [H.x]
  unfold Data.tile
  simp only [Nat.mul_comm]

theorem xd_at (c : Fin 32) (l : Fin 128) (g : Fin 4) (r : Fin 8) (p : Fin 64) :
    rXd A0 A1 A2 (ix5 c l g r p) = ((D.x c.val g.val (64 * r.val + p.val) l.val * (D.tile c.val g.val).dt l.val r.val : ℝ) : EReal) := by
  have e : rXd A0 A1 A2 (ix5 c l g r p) = fX A0 (ix3 (row c l) (hd g r) p) * rDt A1 A2 (ix2 (row c l) (hd g r)) := by pointwise [rXd, fXd]
  rw [e, x_at H, dt_at H, ← EReal.coe_mul]

theorem da_at (c : Fin 32) (l : Fin 128) (g : Fin 4) (r : Fin 8) : fDa (rDt A1 A2) A3 (ix4 g r c l) = ((D.tile c.val g.val).da l.val r.val : EReal) := by
  have e : fDa (rDt A1 A2) A3 (ix4 g r c l) = rDt A1 A2 (ix2 (row c l) (hd g r)) * -Ideal.exp (A3 (ix1 (hd g r))) := by pointwise [fDa]
  rw [e, dt_at H, H.alog, Ideal.exp_coe, ← EReal.coe_neg, ← EReal.coe_mul]
  unfold Tile.da Tile.a Data.tile
  simp only [if_pos r.isLt, Nat.mul_comm]

theorem cs_at (c : Fin 32) (l : Fin 128) (g : Fin 4) (r : Fin 8) : rCs A1 A2 A3 (ix4 g r c l) = ((D.tile c.val g.val).cs l.val r.val : EReal) :=
  cum_real _ g r c l (fun l => (D.tile c.val g.val).da l r.val) fun l => da_at H c l g r

theorem lower (l s : Fin 128) : fTril (ix2 l s) = if s.val ≤ l.val then 1#1 else 0#1 := by
  have e : fTril (ix2 l s) = Scalar.select (IntOp.cmpi .sge (IntOp.addi (BitVec.ofNat 32 l.val) 0#32) (BitVec.ofNat 32 s.val)) 1#1 0#1 := by pointwise [fTril]
  rw [e, show IntOp.addi (BitVec.ofNat 32 l.val) 0#32 = BitVec.ofNat 32 l.val from BitVec.add_zero _, Cert.Sba.sge_small (by omega) (by omega)]
  split_ifs <;> rfl

theorem mask_at (c : Fin 32) (l s : Fin 128) (g : Fin 4) (r : Fin 8) : Ideal.exp (fMask (fDiff (rCs A1 A2 A3)) (ix5 g r c l s))
    = ((if s.val ≤ l.val then Real.exp ((D.tile c.val g.val).cs l.val r.val - (D.tile c.val g.val).cs s.val r.val) else 0 : ℝ) : EReal) := by
  have e : fMask (fDiff (rCs A1 A2 A3)) (ix5 g r c l s) = Scalar.select (fTril (ix2 l s)) (rCs A1 A2 A3 (ix4 g r c l) - rCs A1 A2 A3 (ix4 g r c s)) (Ideal.ofBits .f32 0xFF800000#32) := by
    pointwise [fMask, fDiff]
  rw [e, lower H, cs_at H, cs_at H, ← EReal.coe_sub]
  split_ifs with h
  · exact Ideal.exp_coe _
  · rw [show Ideal.ofBits .f32 0xFF800000#32 = ⊥ by simp [Ideal.ofBits, Ideal.ieee]]
    exact Ideal.exp_bot

theorem y_at (c : Fin 32) (l : Fin 128) (g : Fin 4) (r : Fin 8) (p : Fin 64) : rY A0 A1 A2 A3 (ix5 c l g r p)
    = ((∑ s : Fin 128, (D.tile c.val g.val).G l.val s.val * (if s.val ≤ l.val then Real.exp ((D.tile c.val g.val).cs l.val r.val - (D.tile c.val g.val).cs s.val r.val) else 0)
      * (D.x c.val g.val (64 * r.val + p.val) s.val * (D.tile c.val g.val).dt s.val r.val) : ℝ) : EReal) := by
  have e : rY A0 A1 A2 A3 (ix5 c l g r p) = ∑ s : Fin 128, rXd A0 A1 A2 (ix5 c s g r p) * (fG (fC A0) (fB A0) (ix4 c g l s) * Ideal.exp (fMask (fDiff (rCs A1 A2 A3)) (ix5 g r c l s))) := by
    pointwise [rY, fY, fL]
  have eG : ∀ s : Fin 128, fG (fC A0) (fB A0) (ix4 c g l s) = ((D.tile c.val g.val).G l.val s.val : EReal) := fun s => by
    have e : fG (fC A0) (fB A0) (ix4 c g l s) = ∑ n : Fin 128, fC A0 (ix4 c l g n) * fB A0 (ix4 c s g n) := by pointwise [fG]
    rw [e, Finset.sum_congr rfl fun n _ => by rw [c_at H, b_at H, ← EReal.coe_mul], Reals.sum_coe]
    rfl
  rw [e, Finset.sum_congr rfl fun s _ => by rw [xd_at H, eG, mask_at H, ← EReal.coe_mul, ← EReal.coe_mul, mul_comm], Reals.sum_coe]

theorem new_at (c : Fin 32) (n : Fin 128) (g : Fin 4) (r : Fin 8) (p : Fin 64) : rNew A0 A1 A2 A3 (ix5 c g r p n)
    = ((∑ l : Fin 128, (D.tile c.val g.val).B l.val n.val * (D.x c.val g.val (64 * r.val + p.val) l.val * (D.tile c.val g.val).dt l.val r.val
      * Real.exp ((D.tile c.val g.val).cs 127 r.val - (D.tile c.val g.val).cs l.val r.val)) : ℝ) : EReal) := by
  have e : rNew A0 A1 A2 A3 (ix5 c g r p n) = ∑ l : Fin 128, Ideal.exp (rCs A1 A2 A3 (ix4 g r c 127) - rCs A1 A2 A3 (ix4 g r c l)) * rXd A0 A1 A2 (ix5 c l g r p) * fB A0 (ix4 c l g n) := by
    pointwise [rNew, fNew, fSpread, fTail, fLast]
  rw [e, Finset.sum_congr rfl fun l _ => by rw [cs_at H, cs_at H, xd_at H, b_at H, ← EReal.coe_sub, Ideal.exp_coe, ← EReal.coe_mul, ← EReal.coe_mul, mul_comm (Real.exp _), mul_comm _ (Tile.B _ _ _)],
    Reals.sum_coe]
  rfl

theorem decay_at (c : Fin 32) (g : Fin 4) (r : Fin 8) : rDecay A1 A2 A3 (ix3 c g r) = (Real.exp ((D.tile c.val g.val).cs 127 r.val) : EReal) := by
  have e : rDecay A1 A2 A3 (ix3 c g r) = Ideal.exp (rCs A1 A2 A3 (ix4 g r c 127)) := by pointwise [rDecay, fDecay, fLast]
  rw [e, cs_at H, Ideal.exp_coe]
  rfl

/-! ## The results -/

/-- The saved states. -/
def Saves (D : Data) (S : Arr S32x4x8x64x128) : Prop :=
  ∀ (c : Fin 32) (g : Fin 4) (r : Fin 8) (p : Fin 64) (n : Fin 128), S (ix5 c g r p n) = (D.H g.val (64 * r.val + p.val) c.val n.val : EReal)

theorem out_eq (S : Arr S32x4x8x64x128) (hS : Saves D S) : fOut S (fC A0) (rCs A1 A2 A3) (rY A0 A1 A2 A3) A4 (fX A0) = whole D.y := by
  funext i
  idx_vars i
  have e : ∀ (c : Fin 32) (l : Fin 128) (g : Fin 4) (r : Fin 8) (p : Fin 64),
      rY A0 A1 A2 A3 (ix5 c l g r p) + (∑ n : Fin 128, S (ix5 c g r p n) * fC A0 (ix4 c l g n)) * Ideal.exp (rCs A1 A2 A3 (ix4 g r c l)) + A4 (ix1 (hd g r)) * fX A0 (ix3 (row c l) (hd g r) p)
        = (D.y c.val l.val g.val (64 * r.val + p.val) : EReal) := fun c l g r p => by
    have eS : ∑ n : Fin 128, S (ix5 c g r p n) * fC A0 (ix4 c l g n) = ((∑ n : Fin 128, (D.tile c.val g.val).C l.val n.val * D.H g.val (64 * r.val + p.val) c.val n.val : ℝ) : EReal) := by
      rw [Finset.sum_congr rfl fun n _ => by rw [hS, c_at H, ← EReal.coe_mul, mul_comm], Reals.sum_coe]
    rw [y_at H, cs_at H, H.dsk, x_at H, Ideal.exp_coe, eS, ← EReal.coe_mul, ← EReal.coe_mul, ← EReal.coe_add, ← EReal.coe_add]
    unfold Data.y Tile.y
    rw [show (64 * r.val + p.val) / 64 = r.val by omega, show (D.tile c.val g.val).dsk r.val = D.D (g.val * 8 + r.val) by unfold Data.tile; simp only [if_pos r.isLt, Nat.mul_comm]]
  have h := e ⟨i0.val / 128, by omega⟩ ⟨i0.val % 128, by omega⟩ ⟨i1.val / 64 / 8, by omega⟩ ⟨i1.val / 64 % 8, by omega⟩ ⟨i1.val % 64, by omega⟩
  have e0 : row ⟨i0.val / 128, by omega⟩ ⟨i0.val % 128, by omega⟩ = i0 := Fin.ext (show i0.val / 128 * 128 + i0.val % 128 = i0.val by omega)
  have e1 : hd ⟨i1.val / 64 / 8, by omega⟩ ⟨i1.val / 64 % 8, by omega⟩ = ⟨i1.val / 64, by omega⟩ := Fin.ext (show i1.val / 64 / 8 * 8 + i1.val / 64 % 8 = i1.val / 64 by omega)
  rw [e0, e1] at h
  refine Eq.trans ?_ (h.trans ?_)
  · generalize rY A0 A1 A2 A3 = y
    generalize rCs A1 A2 A3 = cs
    generalize fC A0 = C
    generalize fX A0 = x
    pointwise [fOut, fSpread]
  · show (D.y (i0.val / 128) (i0.val % 128) (i1.val / 64 / 8) (64 * (i1.val / 64 % 8) + i1.val % 64) : EReal) = (D.y (i0.val / 128) (i0.val % 128) (i1.val / 512) (i1.val % 512) : EReal)
    rw [show i1.val / 64 / 8 = i1.val / 512 by omega, show 64 * (i1.val / 64 % 8) + i1.val % 64 = i1.val % 512 by omega]

theorem gate_at (z : Arr S4096x2048) (hz : ∀ (t : Fin 4096) (j : Fin 2048), z (ix2 t j) = (D.Z t.val j.val : EReal)) (t : Fin 4096) (g : Fin 4) (q : Fin 512) :
    fGate (whole D.y) (fSilu z) (ix3 t g q) = (D.gz (t.val / 128) (t.val % 128) g.val q.val : EReal) := by
  have e : fGate (whole D.y) (fSilu z) (ix3 t g q) = whole D.y (ix2 t ⟨g.val * 512 + q.val, by omega⟩) * (z (ix2 t ⟨g.val * 512 + q.val, by omega⟩) * Ideal.div 1 (1 + Ideal.exp (-z (ix2 t ⟨g.val * 512 + q.val, by omega⟩)))) := by
    pointwise [fGate, fSilu]
  rw [e, hz]
  show (D.y (t.val / 128) (t.val % 128) ((g.val * 512 + q.val) / 512) ((g.val * 512 + q.val) % 512) : EReal) * ((D.Z t.val (g.val * 512 + q.val) : EReal) * Ideal.div ((1 : ℝ) : EReal) (((1 : ℝ) : EReal) + Ideal.exp (-(D.Z t.val (g.val * 512 + q.val) : EReal)))) = _
  rw [← EReal.coe_neg, Ideal.exp_coe, ← EReal.coe_add, Reals.div_coe_coe _ (by positivity), ← EReal.coe_mul, ← EReal.coe_mul]
  unfold Data.gz gate
  rw [show (g.val * 512 + q.val) / 512 = g.val by omega, show (g.val * 512 + q.val) % 512 = q.val by omega, show 128 * (t.val / 128) + t.val % 128 = t.val by omega, Nat.mul_comm 512]

theorem ofBits_512 : Ideal.ofBits .f32 0x44000000#32 = ((512 : ℝ) : EReal) := by
  simp [Ideal.ofBits, Ideal.ieee, -EReal.coe_mul]; norm_num

theorem normed_eq (z : Arr S4096x2048) (hz : ∀ (t : Fin 4096) (j : Fin 2048), z (ix2 t j) = (D.Z t.val j.val : EReal)) : fNormed (fGate (whole D.y) (fSilu z)) A5 = whole D.yn := by
  funext i
  idx_vars i
  have e : ∀ v : Arr S4096x4x512, fNormed v A5 (ix2 i0 i1) = v (ix3 i0 ⟨i1.val / 512, by omega⟩ ⟨i1.val % 512, by omega⟩)
      * Ideal.rsqrt (Ideal.div (∑ c : Fin 512, v (ix3 i0 ⟨i1.val / 512, by omega⟩ c) * v (ix3 i0 ⟨i1.val / 512, by omega⟩ c)) (Ideal.ofBits .f32 0x44000000#32) + Ideal.ofBits .f32 0x358637BD#32) * A5 (ix1 i1) := fun v => by
    pointwise [fNormed, fInv, zero]
  rw [e, H.w, gate_at H z hz, Finset.sum_congr rfl fun c _ => by rw [gate_at H z hz, ← EReal.coe_mul], Reals.sum_coe, ofBits_512 H, Reals.ofBits_eps, Reals.div_coe_coe _ (by norm_num), ← EReal.coe_add,
    Reals.rsqrt_coe_pos (mean_pos fun c => D.gz (i0.val / 128) (i0.val % 128) (i1.val / 512) c), ← EReal.coe_mul, ← EReal.coe_mul]
  show _ = (D.yn (i0.val / 128) (i0.val % 128) (i1.val / 512) (i1.val % 512) : EReal)
  unfold Data.yn Cert.Ssd.inv
  rw [show 512 * (i1.val / 512) + i1.val % 512 = i1.val by omega]

omit H in
theorem states_eq (S : Arr S32x4x8x64x128) (hS : Saves D S) : fStates S = states D := by
  funext i
  idx_vars i
  have e : fStates S (ix5 i0 i1 i2 i3 i4) = S (ix5 i1 i0 ⟨i2.val * 2 + i4.val / 64, by omega⟩ ⟨i4.val % 64, by omega⟩ i3) := by pointwise [fStates]
  rw [e, hS]
  show (D.H i0.val (64 * (i2.val * 2 + i4.val / 64) + i4.val % 64) i1.val i3.val : EReal) = (D.H i0.val (128 * i2.val + i4.val) i1.val i3.val : EReal)
  rw [show 64 * (i2.val * 2 + i4.val / 64) + i4.val % 64 = 128 * i2.val + i4.val by omega]

omit H

/-! ## The run -/

variable (m : (ℓ : Loc nD τ sig) → Buf (Elt Ideal) ℓ) (c : Dev nD)

abbrev B0 : Arr S4096x3072 := m ((c.tc : Thread nD τ).loc main_arg0)
abbrev B1 : Arr S4096x5376 := m ((c.tc : Thread nD τ).loc main_arg1)
abbrev B2 : Arr S32 := m ((c.tc : Thread nD τ).loc main_arg2)
abbrev B3 : Arr S32 := m ((c.tc : Thread nD τ).loc main_arg3)
abbrev B4 : Arr S32 := m ((c.tc : Thread nD τ).loc main_arg4)
abbrev B5 : Arr S2048 := m ((c.tc : Thread nD τ).loc main_arg5)

theorem v11_eq : entry m c (Proc.devRef .tc main_v11) = rDt (B1 m c) (B2 m c) := e_v11 _
theorem v3_eq : entry m c (Proc.devRef .tc main_v3) = fX (B0 m c) := e_v3 _
theorem v23_eq : entry m c (Proc.devRef .tc main_v23) = fB (B0 m c) := e_v23 _
theorem v24_eq : entry m c (Proc.devRef .tc main_v24) = fC (B0 m c) := e_v24 _
theorem v17_eq : entry m c (Proc.devRef .tc main_v17) = rXd (B0 m c) (B1 m c) (B2 m c) := by
  rw [show entry m c (Proc.devRef .tc main_v17) = _ from e_v17 _]
  exact congrArg₂ fXd (v3_eq m c) (v11_eq m c)
theorem v22_eq : entry m c (Proc.devRef .tc main_v22) = fDa (rDt (B1 m c) (B2 m c)) (B3 m c) := by
  rw [show entry m c (Proc.devRef .tc main_v22) = _ from e_v22 _]
  exact congrArg (fDa · (B3 m c)) (v11_eq m c)
theorem v25_eq : entry m c (Proc.devRef .tc main_v25) = rCs (B1 m c) (B2 m c) (B3 m c) := (e_v25 _).trans (congrArg fCum (v22_eq m c))
theorem v26_eq : entry m c (Proc.devRef .tc main_v26) = rCs (B1 m c) (B2 m c) (B3 m c) := (e_v26 _).trans (congrArg fCum (v22_eq m c))
theorem v34_eq : entry m c (Proc.devRef .tc main_v34) = fMask (fDiff (rCs (B1 m c) (B2 m c) (B3 m c))) := (e_v34 _).trans (congrArg (fun x => fMask (fDiff x)) (v26_eq m c))
theorem v42_eq : entry m c (Proc.devRef .tc main_v42) = rY (B0 m c) (B1 m c) (B2 m c) (B3 m c) :=
  (e_v42 _).trans (congrArg₂ fY (v17_eq m c) (congrArg₂ fL (congrArg₂ fG (v24_eq m c) (v23_eq m c)) (v34_eq m c)))
theorem new_eq : tNew m c = rNew (B0 m c) (B1 m c) (B2 m c) (B3 m c) := by
  refine (e_new _).trans ?_
  show fNew (entry m c (Proc.devRef .tc main_v25)) (entry m c (Proc.devRef .tc main_v17)) (entry m c (Proc.devRef .tc main_v23)) = _
  rw [v25_eq, v17_eq, v23_eq]
theorem decay_eq : tDecay m c = rDecay (B1 m c) (B2 m c) (B3 m c) := (e_decay _).trans (congrArg fDecay (v25_eq m c))

variable {m c} (K : Holds D (B0 m c) (B1 m c) (B2 m c) (B3 m c) (B4 m c) (B5 m c))
include K

/-- The state before a trip. -/
theorem H_at (k : ℕ) (hk : k ≤ 32) (g : Fin 4) (r : Fin 8) (p : Fin 64) (n : Fin 128) : tH m c k (ix4 g r p n) = (D.H g.val (64 * r.val + p.val) k n.val : EReal) := by
  induction k with
  | zero => exact (H_zero m c _).trans Cert.Ssd.zero_f32
  | succ k ih =>
    have e := trip_H_entry m c ⟨k, by omega⟩ g r p n
    rw [show (⟨k, by omega⟩ : Fin 32).val = k from rfl] at e
    rw [e, ih (by omega), decay_eq, new_eq, decay_at K, new_at K, ← EReal.coe_mul, ← EReal.coe_add]
    show _ = ((D.tile k g.val).next ((64 * r.val + p.val) / 64) n.val (D.x k g.val (64 * r.val + p.val)) (D.H g.val (64 * r.val + p.val) k) : EReal)
    rw [show (64 * r.val + p.val) / 64 = r.val by omega]
    rfl

theorem saves : Saves D (tSaved m c 32) := fun j g r p n => (saved_entry m c 32 le_rfl j j.isLt g r p n).trans (H_at K j.val j.isLt.le g r p n)

theorem ends_y : last m c (Proc.devRef .tc main_v73) = whole D.y := by
  rw [last_v73, saved_eq, v24_eq, v25_eq, v42_eq, v3_eq, show entry m c (Proc.devRef .tc main_arg4) = B4 m c from pre_keeps _ (by decide +kernel)]
  exact out_eq K _ (saves K)

theorem ends_st : last m c (Proc.devRef .tc main_v93) = states D := by
  rw [last_v93, saved_eq]
  exact states_eq _ (saves K)

theorem ends_yn : last m c (Proc.devRef .tc main_v94) = whole D.yn := by
  rw [last_v94, ends_y K, show entry m c (Proc.devRef .tc main_arg5) = B5 m c from pre_keeps _ (by decide +kernel), show entry m c (Proc.devRef .tc main_v0) = _ from e_v0 _]
  refine Eq.trans ?_ (normed_eq K (extractStridedSlice S4096x2048 ![0, 0] (B1 m c) slices_S4096x5376_S4096x2048_0_0) fun t j => ?_)
  · exact funext fun _ => rfl
  · have e : extractStridedSlice S4096x2048 ![0, 0] (B1 m c) slices_S4096x5376_S4096x2048_0_0 (ix2 t j) = B1 m c (ix2 t ⟨j.val, by omega⟩) := by pointwise []
    rw [e, K.z]

omit K

/-- The reference ends with the same results. -/
theorem reference_run (Ds : Dev nD → Data) (g : Dev nD → PrngReg) (Hs : ∀ c, Holds (Ds c) (B0 m c) (B1 m c) (B2 m c) (B3 m c) (B4 m c) (B5 m c)) :
    θ_run (defs (F := Ideal)) (onTc (τ := τ) (main (F := Ideal))) ⟨m, fun _ => 0, g⟩ fun r => ∀ c : Dev nD,
      r.2.mem ((c.tc : Thread nD τ).loc main_v73) = whole (Ds c).y
      ∧ r.2.mem ((c.tc : Thread nD τ).loc main_v94) = whole (Ds c).yn
      ∧ r.2.mem ((c.tc : Thread nD τ).loc main_v93) = states (Ds c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (run m g) fun r hr c => ⟨((hr.1 c).1.1).trans (ends_y (Hs c)), ((hr.1 c).1.2.1).trans (ends_yn (Hs c)), ((hr.1 c).1.2.2).trans (ends_st (Hs c)), (hr.1 c).2⟩

end Cert.SsdRefIdeal.Value

end
-- ==== Proof.SsdKernelValue.lean ====
/- The state-space recurrence's forward kernel's results. -/
module

public import proofs.«01_k».proof.Proof.SsdFlow
public import proofs.«01_k».proof.Proof.SsdDoIdeal

@[expose] public section

set_option maxRecDepth 16384

noncomputable section

open Idealize.ShloMosaic Idealize.ShloMosaic.TcCoe Idealize.SL.Sem
open Idealize.ShloMosaic.Pipeline (RDat)

namespace Cert.SsdKernelIdeal.Value
open Cert.Run Cert.SsdKernelIdeal Cert.SsdKernelIdeal.Gen Cert.SsdKernelIdeal.Point
open Cert.Ssd (Data Holds Reads Carries Normed whole states point_done)

variable (m : (ℓ : Loc nD τ sig) → Buf (Elt Ideal) ℓ) (c : Dev nD)

/-- The arguments. -/
abbrev A0 : S4096x3072.Idx → EReal := m ((c.tc : Thread nD τ).loc main_arg0)
abbrev A1 : S4096x5376.Idx → EReal := m ((c.tc : Thread nD τ).loc main_arg1)
abbrev A2 : S32.Idx → EReal := m ((c.tc : Thread nD τ).loc main_arg2)
abbrev A3 : S32.Idx → EReal := m ((c.tc : Thread nD τ).loc main_arg3)
abbrev A4 : S32.Idx → EReal := m ((c.tc : Thread nD τ).loc main_arg4)
abbrev A5 : S2048.Idx → EReal := m ((c.tc : Thread nD τ).loc main_arg5)

/-- The padding. -/
abbrev none : FVec Ideal S_ .f32 := sitofp (F := Ideal) .f32 (constantI S_ 32 0#32)

theorem none_apply : FloatOps.sitofp (F := Ideal) FTy.f32 0#32 = ((0 : ℝ) : EReal) := by
  show (((0#32 : BitVec 32).toInt : ℝ) : EReal) = _
  simp

abbrev steps (A : S4096x5376.Idx → EReal) : S4x4096x128.Idx → EReal :=
  pad S4x4096x128 ![0, 0, 0] ![0, 0, 120] ![0, 0, 0] (transpose S4x4096x8 [1, 0, 2] (shapeCast S4096x4x8 (α := Ideal .f32) (extractStridedSlice S4096x32 ![0, 5120] A slices_S4096x5376_S4096x32_0_5120)
    shapeCasts_S4096x32_S4096x4x8) transposes_S4096x4x8_S4x4096x8_1_0_2) none pads_S4x4096x8_S4x4096x128_000_000_01200 h_S_

abbrev row (A : S32.Idx → EReal) : S4x1x8.Idx → EReal := broadcastInDim S4x1x8 ![0, 2] bcast_S4x8_S4x1x8_0_2 (shapeCast S4x8 (α := Ideal .f32) A shapeCasts_S32_S4x8)

abbrev pars (A A' A'' : S32.Idx → EReal) : S4x8x128.Idx → EReal :=
  pad S4x8x128 ![0, 0, 0] ![0, 5, 120] ![0, 0, 0] (concatenate S4x3x8 1 [⟨S4x1x8, row A⟩, ⟨S4x1x8, row A'⟩, ⟨S4x1x8, row A''⟩] concatenates_S4x1x8_S4x1x8_S4x1x8_S4x3x8_d1)
    none pads_S4x3x8_S4x8x128_000_050_01200 h_S_

theorem V_dt : V m c (Pipeline.arrRef spec0 3) = steps (A1 m c) := by
  unfold V
  after_results_simp <;> rfl

theorem V_par : V m c (Pipeline.arrRef spec0 4) = pars (A2 m c) (A3 m c) (A4 m c) := by
  unfold V
  after_results_simp <;> rfl

theorem V_gnw : V m c (Pipeline.arrRef spec0 6) = shapeCast S1x2048 (α := Ideal .f32) (A5 m c) shapeCasts_S2048_S1x2048 := by
  unfold V
  after_results_simp <;> rfl

theorem steps_apply (A : S4096x5376.Idx → EReal) (g : Fin 4) (t : Fin 4096) (j : Fin 128) :
    steps A (ix3 g t j) = if h : j.val < 8 then A (ix2 t ⟨5120 + (8 * g.val + j.val), by omega⟩) else ((0 : ℝ) : EReal) := by
  pointwise [steps]
  split
  · refine congrArg A (congrArg (ix2 t) (Fin.ext ?_))
    show 5120 + (g.val * 8 + j.val) = 5120 + (8 * g.val + j.val)
    omega
  · exact none_apply

theorem pars_apply (A A' A'' : S32.Idx → EReal) (g : Fin 4) (j : Fin 128) :
    pars A A' A'' (ix3 g 0 j) = (if h : j.val < 8 then A (ix1 ⟨8 * g.val + j.val, by omega⟩) else ((0 : ℝ) : EReal))
      ∧ pars A A' A'' (ix3 g 1 j) = (if h : j.val < 8 then A' (ix1 ⟨8 * g.val + j.val, by omega⟩) else ((0 : ℝ) : EReal))
      ∧ pars A A' A'' (ix3 g 2 j) = if h : j.val < 8 then A'' (ix1 ⟨8 * g.val + j.val, by omega⟩) else ((0 : ℝ) : EReal) := by
  have e : ∀ (B : S32.Idx → EReal), (if h : j.val < 8 then B (ix1 ⟨g.val * 8 + j.val, by omega⟩) else FloatOps.sitofp (F := Ideal) FTy.f32 0#32)
      = if h : j.val < 8 then B (ix1 ⟨8 * g.val + j.val, by omega⟩) else ((0 : ℝ) : EReal) := fun B => by
    split
    · refine congrArg B (congrArg ix1 (Fin.ext ?_))
      show g.val * 8 + j.val = 8 * g.val + j.val
      omega
    · exact none_apply
  refine ⟨?_, ?_, ?_⟩ <;> pointwise [pars, row]
  · exact e A
  · exact e A'
  · exact e A''

/-! ## The blocks -/

theorem idx : ∀ t : Fin cfg0.N, win0_0.index t = ![t.val, 0] ∧ win0_1.index t = ![t.val, 4] ∧ win0_2.index t = ![t.val, 5] ∧ win0_3.index t = ![0, t.val, 0]
    ∧ win0_4.index t = ![0, 0, 0] ∧ win0_5.index t = ![t.val, 0] ∧ win0_6.index t = ![0, 0] ∧ win0_7.index t = ![t.val, 0] ∧ win0_8.index t = ![t.val, 0]
    ∧ win0_9.index t = ![0, t.val, 0, 0, 0] :=
  (by decide +kernel : ∀ t : Fin grid0.N, _)

theorem first : ∀ t : Fin cfg0.N, isFirst (grid0.coords t) ↔ t.val = 0 :=
  (by decide +kernel : ∀ t : Fin grid0.N, _)

theorem lt32 (t : Fin cfg0.N) : t.val < 32 := by have := t.isLt; have : cfg0.N = 32 := N_0; omega

variable {m c} {D : Data} (H : Holds D (A0 m c) (A1 m c) (A2 m c) (A3 m c) (A4 m c) (A5 m c))
include H

theorem iblk_xs (t : Fin cfg0.N) (l : Fin 128) (j : Fin 2048) : X0_0 m c t (ix2 l j : S128x2048.Idx) = (D.X (128 * t.val + l.val) j.val : EReal) := by
  have h := lt32 t
  unfold X0_0 Pipeline.Window.fill
  rw [dif_pos (moved0_0 t _)]
  refine Eq.trans (b := V m c (Pipeline.arrRef spec0 0) (ix2 ⟨128 * t.val + l.val, by omega⟩ ⟨j.val, by omega⟩ : S4096x3072.Idx)) ?_ ?_
  · blk_point [iblk, idx t]
  · exact (congrFun (V_main_arg0 m c) _).trans (H.x _ _)

theorem iblk_z (t : Fin cfg0.N) (l : Fin 128) (j : Fin 2048) : X0_5 m c t (ix2 l j : S128x2048.Idx) = (D.Z (128 * t.val + l.val) j.val : EReal) := by
  have h := lt32 t
  unfold X0_5 Pipeline.Window.fill
  rw [dif_pos (moved0_5 t _)]
  refine Eq.trans (b := V m c (Pipeline.arrRef spec0 5) (ix2 ⟨128 * t.val + l.val, by omega⟩ ⟨j.val, by omega⟩ : S4096x5376.Idx)) ?_ ?_
  · blk_point [iblk, idx t]
  · exact (congrFun (V_main_arg1 m c) _).trans (H.z _ _)

theorem iblk_b (t : Fin cfg0.N) (l : Fin 128) (n : Fin 512) : iblk m c 1 t (ix2 l n : S128x512.Idx) = (D.X (128 * t.val + l.val) (2048 + n.val) : EReal) := by
  have h := lt32 t
  refine Eq.trans (b := V m c (Pipeline.arrRef spec0 1) (ix2 ⟨128 * t.val + l.val, by omega⟩ ⟨2048 + n.val, by omega⟩ : S4096x3072.Idx)) ?_ ?_
  · blk_point [iblk, idx t]
  · exact (congrFun (V_main_arg0 m c) _).trans (H.x _ _)

theorem iblk_c (t : Fin cfg0.N) (l : Fin 128) (n : Fin 512) : iblk m c 2 t (ix2 l n : S128x512.Idx) = (D.X (128 * t.val + l.val) (2560 + n.val) : EReal) := by
  have h := lt32 t
  refine Eq.trans (b := V m c (Pipeline.arrRef spec0 2) (ix2 ⟨128 * t.val + l.val, by omega⟩ ⟨2560 + n.val, by omega⟩ : S4096x3072.Idx)) ?_ ?_
  · blk_point [iblk, idx t]
  · exact (congrFun (V_main_arg0 m c) _).trans (H.x _ _)

theorem iblk_dt (t : Fin cfg0.N) (g : Fin 4) (l j : Fin 128) : iblk m c 3 t (ix3 g l j : S4x128x128.Idx) = ((D.tile t.val g.val).raw l.val j.val : EReal) := by
  have h := lt32 t
  refine Eq.trans (b := V m c (Pipeline.arrRef spec0 3) (ix3 g ⟨128 * t.val + l.val, by omega⟩ j : S4x4096x128.Idx)) ?_ ?_
  · blk_point [iblk, idx t]
  · rw [V_dt]
    refine (steps_apply _ _ _ _).trans ?_
    unfold Data.tile
    by_cases h8 : j.val < 8
    · rw [dif_pos h8, H.z]
      simp only [if_pos h8]
    · rw [dif_neg h8]
      simp only [if_neg h8]

theorem iblk_par (t : Fin cfg0.N) (g : Fin 4) (j : Fin 128) : iblk m c 4 t (ix3 g 0 j : S4x8x128.Idx) = ((D.tile t.val g.val).bias j.val : EReal)
    ∧ iblk m c 4 t (ix3 g 1 j : S4x8x128.Idx) = ((D.tile t.val g.val).alog j.val : EReal) ∧ iblk m c 4 t (ix3 g 2 j : S4x8x128.Idx) = ((D.tile t.val g.val).dsk j.val : EReal) := by
  have e : ∀ r : Fin 8, iblk m c 4 t (ix3 g r j : S4x8x128.Idx) = pars (A2 m c) (A3 m c) (A4 m c) (ix3 g r j) := fun r => by
    rw [← V_par]
    blk_point [iblk, idx t]
  obtain ⟨h0, h1, h2⟩ := pars_apply (A2 m c) (A3 m c) (A4 m c) g j
  rw [e, e, e, h0, h1, h2]
  unfold Data.tile
  by_cases h8 : j.val < 8
  · simp only [dif_pos h8, if_pos h8, H.bias, H.alog, H.dsk, and_self]
  · simp only [dif_neg h8, if_neg h8, and_self]

theorem iblk_gnw (t : Fin cfg0.N) (j : Fin 2048) : iblk m c 6 t (ix2 0 j : S1x2048.Idx) = (D.w j.val : EReal) := by
  refine Eq.trans (b := V m c (Pipeline.arrRef spec0 6) (ix2 0 j : S1x2048.Idx)) ?_ ?_
  · blk_point [iblk, idx t]
  · rw [V_gnw]
    refine Eq.trans ?_ (H.w j)
    pointwise []

omit H

/-! ## What the run says -/

/-- A point leaves the blocks it reads, its results and its states. -/
def tells (D : Data) : Says Ideal
  | 0, _, Y, Z => Z = Y
  | 1, _, Y, Z => Z = Y
  | 2, _, Y, Z => Z = Y
  | 3, _, Y, Z => Z = Y
  | 4, _, Y, Z => Z = Y
  | 5, _, Y, Z => Z = Y
  | 6, _, Y, Z => Z = Y
  | 7, t, _, Z => ∀ (g : Fin 4) (l : Fin 128) (q : Fin 512), Z (ix2 l ⟨512 * g.val + q.val, by omega⟩) = (D.y t.val l.val g.val q.val : EReal)
  | 8, t, _, Z => ∀ (g : Fin 4) (l : Fin 128) (q : Fin 512), Z (ix2 l ⟨512 * g.val + q.val, by omega⟩) = (D.yn t.val l.val g.val q.val : EReal)
  | 9, t, _, Z => ∀ (g p : Fin 4) (n j : Fin 128), Z (ix5 g 0 p n j) = (D.H g.val (128 * p.val + j.val) t.val n.val : EReal)

/-- The state carried to a point. -/
def keeps (D : Data) : Keeps Ideal := fun t h => t.val ≠ 0 → Carries D t.val h

variable (m c) (Ds : Dev nD → Data)

abbrev rd := rdat m (fun c => tells (Ds c)) (fun c => keeps (Ds c)) c

theorem finds_par (n : ℕ) (hn : n < cfg0.N) (Y) (h : (rd m c Ds).Finds 4 ⟨n, hn⟩ Y) : Y = iblk m c 4 ⟨0, by have : cfg0.N = 32 := N_0; omega⟩ := by
  induction n generalizing Y with
  | zero =>
    obtain ⟨d, rfl⟩ := ((rd m c Ds).finds_of_fetch ((fetch0_4 _).2 rfl) Y).1 h
    rfl
  | succ n ih =>
    have hN : cfg0.N = 32 := N_0
    have hf : (cfg0.win 4).fetch ⟨n + 1, hn⟩ = false := Bool.eq_false_iff.2 fun e => by
      have := (fetch0_4 _).1 e
      simp only at this
      omega
    obtain ⟨Y', hY, e⟩ := (((rd m c Ds).finds_of_pos hf (Nat.succ_ne_zero n) Y).1 h).resolve_left
      (by rw [show _ = false from (by decide +kernel : ∀ t : Fin grid0.N, win0_4.flush t = false) _]; exact Bool.false_ne_true)
    exact (show Y = Y' from e).trans (ih (by omega) Y' hY)

theorem finds_gnw (n : ℕ) (hn : n < cfg0.N) (Y) (h : (rd m c Ds).Finds 6 ⟨n, hn⟩ Y) : Y = iblk m c 6 ⟨0, by have : cfg0.N = 32 := N_0; omega⟩ := by
  induction n generalizing Y with
  | zero =>
    obtain ⟨d, rfl⟩ := ((rd m c Ds).finds_of_fetch ((fetch0_6 _).2 rfl) Y).1 h
    rfl
  | succ n ih =>
    have hN : cfg0.N = 32 := N_0
    have hf : (cfg0.win 6).fetch ⟨n + 1, hn⟩ = false := Bool.eq_false_iff.2 fun e => by
      have := (fetch0_6 _).1 e
      simp only at this
      omega
    obtain ⟨Y', hY, e⟩ := (((rd m c Ds).finds_of_pos hf (Nat.succ_ne_zero n) Y).1 h).resolve_left
      (by rw [show _ = false from (by decide +kernel : ∀ t : Fin grid0.N, win0_6.flush t = false) _]; exact Bool.false_ne_true)
    exact (show Y = Y' from e).trans (ih (by omega) Y' hY)

variable {m c Ds} (Hs : ∀ c, Holds (Ds c) (A0 m c) (A1 m c) (A2 m c) (A3 m c) (A4 m c) (A5 m c))
include Hs

theorem reads (t : Fin cfg0.N) (Y : Wins Ideal) (st) (h : ∀ w, (rd m c Ds).Finds w t (Y w)) : Reads (Ds c) t.val (withWins Y st) := by
  have h0 : Y 0 = X0_0 m c t := by
    obtain ⟨d, e⟩ := ((rd m c Ds).finds_of_fetch (fetch0_0 t) _).1 (h 0)
    rw [e]
    exact fill0_0 t d dflt0_0 _
  have h5 : Y 5 = X0_5 m c t := by
    obtain ⟨d, e⟩ := ((rd m c Ds).finds_of_fetch (fetch0_5 t) _).1 (h 5)
    rw [e]
    exact fill0_5 t d dflt0_5 _
  have h1 : Y 1 = iblk m c 1 t := by
    obtain ⟨d, e⟩ := ((rd m c Ds).finds_of_fetch (fetch0_1 t) _).1 (h 1)
    rw [e]
    rfl
  have h2 : Y 2 = iblk m c 2 t := by
    obtain ⟨d, e⟩ := ((rd m c Ds).finds_of_fetch (fetch0_2 t) _).1 (h 2)
    rw [e]
    rfl
  have h3 : Y 3 = iblk m c 3 t := by
    obtain ⟨d, e⟩ := ((rd m c Ds).finds_of_fetch (fetch0_3 t) _).1 (h 3)
    rw [e]
    rfl
  have h4 := finds_par m c Ds t.val t.isLt _ (h 4)
  have h6 := finds_gnw m c Ds t.val t.isLt _ (h 6)
  exact {
    xs := fun l j => (congrFun h0 _).trans (iblk_xs (Hs c) t l j)
    b := fun l j => (congrFun h1 _).trans (iblk_b (Hs c) t l j)
    cc := fun l j => (congrFun h2 _).trans (iblk_c (Hs c) t l j)
    dt := fun g l j => (congrFun h3 _).trans (iblk_dt (Hs c) t g l j)
    bias := fun g j => (congrFun h4 _).trans (iblk_par (Hs c) _ g j).1
    alog := fun g j => (congrFun h4 _).trans (iblk_par (Hs c) _ g j).2.1
    dsk := fun g j => (congrFun h4 _).trans (iblk_par (Hs c) _ g j).2.2
    z := fun l j => (congrFun h5 _).trans (iblk_z (Hs c) t l j)
    gnw := fun j => (congrFun h6 _).trans (iblk_gnw (Hs c) _ j) }

theorem point_says (t : Fin cfg0.N) (Y : Wins Ideal) (st) (hst : keeps (Ds c) t.castSucc st) (h : ∀ w, (rd m c Ds).Finds w t (Y w)) :
    (∀ w, tells (Ds c) w t (Y w) (wins ((fn (grid0.coords t)).run (withWins Y st)).2 w)) ∧ keeps (Ds c) t.succ (((fn (grid0.coords t)).run (withWins Y st)).2 .h) := by
  have N : Normed (Ds c) t.val (withWins Y st) 4 ((fn (F := Ideal) (grid0.coords t)).run (withWins Y st)).2 :=
    point_done (isFirst (grid0.coords t)) (first t) (reads Hs t Y st h) fun h0 => hst h0
  generalize ((fn (F := Ideal) (grid0.coords t)).run (withWins Y st)).2 = st' at N ⊢
  refine ⟨fun w => ?_, fun _ g p n j => ?_⟩
  · fin_cases w
    · exact N.done.same .xs (by decide)
    · exact N.done.same .b (by decide)
    · exact N.done.same .c (by decide)
    · exact N.done.same .dt (by decide)
    · exact N.done.same .par (by decide)
    · exact N.done.same .z (by decide)
    · exact N.done.same .gnw (by decide)
    · exact fun g l q => N.done.y_at g l q
    · exact fun g l q => N.yn g g.isLt l q
    · exact fun g p n j => N.done.st g p (by omega) n j
  · rw [N.done.h, if_pos (by omega)]
    rfl

omit Hs

/-! ## The arrays -/

variable (m c Ds)

/-- The results each point writes back. -/
def wrote : Pipeline.Dat τ (Elt Ideal) Unit ℕ (UR sig nD τ) ℕ (cfgs 0) c where
  A w := V m c (Pipeline.arrRef spec0 w)
  after
    | 0, _ => fun _ => (0 : EReal)
    | 1, _ => fun _ => (0 : EReal)
    | 2, _ => fun _ => (0 : EReal)
    | 3, _ => fun _ => (0 : EReal)
    | 4, _ => fun _ => (0 : EReal)
    | 5, _ => fun _ => (0 : EReal)
    | 6, _ => fun _ => (0 : EReal)
    | 7, t => fun y : S128x2048.Idx => ((Ds c).y t.val (y 0).val ((y 1).val / 512) ((y 1).val % 512) : EReal)
    | 8, t => fun y : S128x2048.Idx => ((Ds c).yn t.val (y 0).val ((y 1).val / 512) ((y 1).val % 512) : EReal)
    | 9, t => fun y : S4x1x4x128x128.Idx => ((Ds c).H (y 0).val (128 * (y 2).val + (y 4).val) t.val (y 3).val : EReal)
  Φ _ := Idealize.SL.BI.BIBase.emp
  q w := Pipeline.shareOf spec0 w
  owed _ := 0

theorem arr_eq (w : Fin cfg0.W) (hw : ∀ t, (cfg0.win w).flush t = true → ∀ Z, (rd m c Ds).Leaves w t Z → Z = (wrote m c Ds).after w t) (n : ℕ) (F)
    (h : (rd m c Ds).ArrAt w n F) : F = (wrote m c Ds).arrAt w n := by
  induction n generalizing F with
  | zero => exact h
  | succ n ih =>
    unfold RDat.ArrAt at h
    unfold Pipeline.Dat.arrAt
    dsimp only at h ⊢
    by_cases hn : n < cfg0.N
    · rw [dif_pos hn] at h
      rw [dif_pos hn]
      by_cases hf : (cfg0.win w).flush ⟨n, hn⟩ = true
      · rw [if_pos hf] at h
        rw [if_pos hf]
        obtain ⟨G, Z, hG, hZ, e⟩ := h
        rw [e, ih G hG, hw _ hf Z hZ]
      · rw [if_neg hf] at h
        rw [if_neg hf]
        exact ih F h
    · rw [dif_neg hn] at h
      rw [dif_neg hn]
      exact ih F h

theorem at_col (f : ℕ → ℕ → ℝ) (Z : S128x2048.Idx → EReal) (l : Fin 128) (hZ : ∀ (g : Fin 4) (q : Fin 512), Z (ix2 l ⟨512 * g.val + q.val, by omega⟩) = (f g.val q.val : EReal)) (j : Fin 2048) :
    Z (ix2 l j) = (f (j.val / 512) (j.val % 512) : EReal) := by
  refine Eq.trans (congrArg (fun i : Fin 2048 => Z (ix2 l i)) (Fin.ext ?_)) (hZ ⟨j.val / 512, by omega⟩ ⟨j.val % 512, by omega⟩)
  show j.val = 512 * (j.val / 512) + j.val % 512
  omega

theorem ends_y (F) (h : (rd m c Ds).ArrAt 7 cfg0.N F) : F = whole (Ds c).y := by
  rw [arr_eq m c Ds 7 (fun t _ Z hZ => ?_) cfg0.N F h]
  · refine (wrote m c Ds).arrAt_eq_of_covers 7 _ (by decide +kernel) fun t _ y => ?_
    blk_simp
    idx_vars y
    refine Eq.trans (b := whole (Ds c).y (ix2 ⟨128 * t.val + y0.val, by have := lt32 t; omega⟩ y1)) ?_ ?_
    · show ((Ds c).y t.val y0.val (y1.val / 512) (y1.val % 512) : EReal) = ((Ds c).y ((128 * t.val + y0.val) / 128) ((128 * t.val + y0.val) % 128) (y1.val / 512) (y1.val % 512) : EReal)
      rw [show (128 * t.val + y0.val) / 128 = t.val by omega, show (128 * t.val + y0.val) % 128 = y0.val by omega]
    generalize whole (Ds c).y = A
    blk_point [idx t]
  · obtain ⟨Y, -, e⟩ := hZ
    funext y
    idx_vars y
    exact at_col ((Ds c).y t.val y0.val) _ y0 (fun g q => e g y0 q) y1

theorem ends_yn (F) (h : (rd m c Ds).ArrAt 8 cfg0.N F) : F = whole (Ds c).yn := by
  rw [arr_eq m c Ds 8 (fun t _ Z hZ => ?_) cfg0.N F h]
  · refine (wrote m c Ds).arrAt_eq_of_covers 8 _ (by decide +kernel) fun t _ y => ?_
    blk_simp
    idx_vars y
    refine Eq.trans (b := whole (Ds c).yn (ix2 ⟨128 * t.val + y0.val, by have := lt32 t; omega⟩ y1)) ?_ ?_
    · show ((Ds c).yn t.val y0.val (y1.val / 512) (y1.val % 512) : EReal) = ((Ds c).yn ((128 * t.val + y0.val) / 128) ((128 * t.val + y0.val) % 128) (y1.val / 512) (y1.val % 512) : EReal)
      rw [show (128 * t.val + y0.val) / 128 = t.val by omega, show (128 * t.val + y0.val) % 128 = y0.val by omega]
    generalize whole (Ds c).yn = A
    blk_point [idx t]
  · obtain ⟨Y, -, e⟩ := hZ
    funext y
    idx_vars y
    exact at_col ((Ds c).yn t.val y0.val) _ y0 (fun g q => e g y0 q) y1

theorem ends_st (F) (h : (rd m c Ds).ArrAt 9 cfg0.N F) : F = states (Ds c) := by
  rw [arr_eq m c Ds 9 (fun t _ Z hZ => ?_) cfg0.N F h]
  · refine (wrote m c Ds).arrAt_eq_of_covers 9 _ (by decide +kernel) fun t _ y => ?_
    blk_simp
    idx_vars y
    refine Eq.trans (b := states (Ds c) (ix5 y0 ⟨t.val, lt32 t⟩ y2 y3 y4)) rfl ?_
    generalize states (Ds c) = A
    blk_point [idx t]
  · obtain ⟨Y, -, e⟩ := hZ
    funext y
    idx_vars y
    obtain rfl : y1 = (0 : Fin 1) := Fin.fin_one_eq_zero y1
    exact e y0 y2 y3 y4

/-- The kernel ends with the results, the normed results and the states. -/
theorem kernel_run (g : Dev nD → PrngReg) (Hs : ∀ c, Holds (Ds c) (A0 m c) (A1 m c) (A2 m c) (A3 m c) (A4 m c) (A5 m c)) :
    θ_run (defs (F := Ideal)) (onTc (τ := τ) (main (F := Ideal))) ⟨m, fun _ => 0, g⟩ fun r => ∀ c : Dev nD,
      r.2.mem ((c.tc : Thread nD τ).loc main_v13_0) = whole (Ds c).y
      ∧ r.2.mem ((c.tc : Thread nD τ).loc main_v13_1) = whole (Ds c).yn
      ∧ r.2.mem ((c.tc : Thread nD τ).loc main_v13_2) = states (Ds c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  θ_run_mono (run_main m g (fun c => tells (Ds c)) (fun c => keeps (Ds c)) (fun _ _ h => absurd rfl h) fun c t Y st hst h => point_says Hs t Y st hst h) fun r hr c =>
    ⟨ends_y m c Ds _ ((hr.1 c).1 7), ends_yn m c Ds _ ((hr.1 c).1 8), ends_st m c Ds _ ((hr.1 c).1 9), frame_of m _ _ r hr.1 c⟩

end Cert.SsdKernelIdeal.Value

end
-- ==== Proof.SsdValue.lean ====
/- The state-space recurrence: the kernel's and the reference's results are equal. -/
module

public import proofs.«01_k».proof.Proof.SsdRefValue
public import proofs.«01_k».proof.Proof.SsdKernelValue

@[expose] public section

set_option maxRecDepth 16384

noncomputable section

open Idealize.ShloMosaic Idealize.ShloMosaic.TcCoe Idealize.SL.Sem

namespace Cert.Pre_ssd_finite

instance facts : Facts where
  bcast_S_S4096x3072 := by decide
  bcast_S_S4096x5376 := by decide
  bcast_S_S32 := by decide
  bcast_S_S2048 := by decide

end Cert.Pre_ssd_finite

namespace Cert.Ssd
open Cert.SsdKernelIdeal Cert.SsdKernelIdeal.Value

/-- The real numbers of a matrix, and of a row. -/
def table {M N : ℕ} (A : (⟨2, ![M, N]⟩ : Shape).Idx → EReal) (i j : ℕ) : ℝ := if h : i < M ∧ j < N then (A (ix2 ⟨i, h.1⟩ ⟨j, h.2⟩)).toReal else 0
def vector {N : ℕ} (A : (⟨1, ![N]⟩ : Shape).Idx → EReal) (j : ℕ) : ℝ := if h : j < N then (A (ix1 ⟨j, h⟩)).toReal else 0

theorem table_eq {M N : ℕ} {A : (⟨2, ![M, N]⟩ : Shape).Idx → EReal} (h : ∃ f : (⟨2, ![M, N]⟩ : Shape).Idx → ℝ, A = fun i => (f i : EReal)) (i : Fin M) (j : Fin N) : A (ix2 i j) = (table A i.val j.val : EReal) := by
  obtain ⟨f, rfl⟩ := h
  unfold table
  rw [dif_pos ⟨i.isLt, j.isLt⟩]
  rfl

theorem vector_eq {N : ℕ} {A : (⟨1, ![N]⟩ : Shape).Idx → EReal} (h : ∃ f : (⟨1, ![N]⟩ : Shape).Idx → ℝ, A = fun i => (f i : EReal)) (j : Fin N) : A (ix1 j) = (vector A j.val : EReal) := by
  obtain ⟨f, rfl⟩ := h
  unfold vector
  rw [dif_pos j.isLt]
  rfl

/-- The arguments' real numbers. -/
def reals (m : (ℓ : Loc nD τ sig) → Idealize.ShloMosaic.Buf (Elt Ideal) ℓ) (c : Dev nD) : Data where
  X := table (A0 m c)
  Z := table (A1 m c)
  bias := vector (A2 m c)
  alog := vector (A3 m c)
  D := vector (A4 m c)
  w := vector (A5 m c)

theorem holds (m : (ℓ : Loc nD τ sig) → Idealize.ShloMosaic.Buf (Elt Ideal) ℓ) (hpre : Cert.Pre_SsdKernelIdeal_ssd_finite m) (c : Dev nD) :
    Holds (reals m c) (A0 m c) (A1 m c) (A2 m c) (A3 m c) (A4 m c) (A5 m c) := by
  obtain ⟨h1, h2, h3, h4, h5, h6⟩ := hpre c
  exact ⟨table_eq (Reals.exists_reals fun i => Reals.ofBits_inf ▸ congrFun h1 i), table_eq (Reals.exists_reals fun i => Reals.ofBits_inf ▸ congrFun h2 i),
    vector_eq (Reals.exists_reals fun i => Reals.ofBits_inf ▸ congrFun h3 i), vector_eq (Reals.exists_reals fun i => Reals.ofBits_inf ▸ congrFun h4 i),
    vector_eq (Reals.exists_reals fun i => Reals.ofBits_inf ▸ congrFun h5 i), vector_eq (Reals.exists_reals fun i => Reals.ofBits_inf ▸ congrFun h6 i)⟩

/-- The kernel computes the recurrence, its gated norm and the states it saves. -/
theorem algebraic : Cert.algebraic_SsdKernelIdeal_SsdRefIdeal_pre_ssd_finite := by
  intro m g m' g' hpre hagree
  refine ⟨_, _, _, SsdKernelIdeal.Value.kernel_run m (reals m) g (holds m hpre), θ_run_mono (SsdRefIdeal.Value.reference_run (m := m') (reals m) g' fun c => ?_) fun r hr c => hr c⟩
  obtain ⟨h0, h1, h2, h3, h4, h5⟩ := hagree c
  unfold SsdRefIdeal.Value.B0 SsdRefIdeal.Value.B1 SsdRefIdeal.Value.B2 SsdRefIdeal.Value.B3 SsdRefIdeal.Value.B4 SsdRefIdeal.Value.B5
  rw [h0, h1, h2, h3, h4, h5]
  exact holds m hpre c

end Cert.Ssd

end
-- ==== Proof.Act.lean ====
/- The Mamba convolution with its activation: the kernel's blocks, the reference, and the two claims. -/
module

public import proofs.«01_k».proof.Proof.Silu
public import proofs.«01_k».proof.Proof.Gen.ActKernelIdeal.Frame
public import proofs.«01_k».proof.Proof.Gen.ActRefIdeal.Read
public import proofs.«01_k».proof.Proof.Gen.ActRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ActKernelIdeal.Value
open Cert.ActKernelIdeal Cert.ActKernelIdeal.Gen Cert.Halo Cert.Logistic
open Cert.SiluKernelIdeal.Value (conv col)

theorem pay3_apply (i : grid0.Coords) (n : S8x512.Idx → EReal) (r : Fin 8) (c : Fin 512) :
    k0_pay3 (F := Ideal) i n (ix2 r c) = keep (0 < (i 1).val) (n (ix2 r c)) := by
  unfold keep
  pointwise [k0_pay3]
  rw [show (Scalar.extui (Scalar.cmpi CmpIPredicate.sgt (BitVec.ofNat 32 (i 1).val) 0#32) : BitVec 32).toInt = _ from notfirst8_eq (i 1)]
  split <;> simp

/-- A block of the result: the activation at the convolution's value. -/
theorem pay1_apply {i : grid0.Coords} {d : S512x512.Idx → EReal} {n : S8x512.Idx → EReal} {b : ℕ} {g : ℕ → EReal} {c : Fin 512}
    (hd : ∀ r : Fin 512, d (ix2 r c) = g (b * 512 + r + 8)) (hn : ∀ q : Fin 8, keep (0 < (i 1).val) (n (ix2 q c)) = g (b * 512 + q))
    (w : S4x512.Idx → EReal) (v : S1x512.Idx → EReal) (r : Fin 512) :
    k0_pay1 (F := Ideal) (k0_pay2 d) (k0_pay3 i n) w (k0_pay4 i d n w v) (ix2 r c)
      = stanh (conv g (v (ix2 0 c)) (w (ix2 0 c)) (w (ix2 1 c)) (w (ix2 2 c)) (w (ix2 3 c)) (b * 512 + r)) := by
  have down := fun s => down_eq g 512 b (by omega) s (fun r => d (ix2 r c)) (fun q => keep (0 < (i 1).val) (n (ix2 q c))) hd hn r
  pointwise [k0_pay1, k0_pay2, k0_pay4]
  simp only [pay3_apply]
  refine congrArg stanh ?_
  unfold conv
  rw [← hd r]
  exact congrArg (· + _) (congrArg₂ (· + ·) (congrArg₂ (· + ·) (congrArg (_ + ·) (congrArg (· * _)
    (down 3 ⟨_, Nat.mod_lt _ (by omega)⟩ rfl ⟨_, by omega⟩ rfl ⟨_, Nat.mod_lt _ (by omega)⟩ rfl)))
    (congrArg (· * _) (down 2 ⟨_, Nat.mod_lt _ (by omega)⟩ rfl ⟨_, by omega⟩ rfl ⟨_, Nat.mod_lt _ (by omega)⟩ rfl)))
    (congrArg (· * _) (down 1 ⟨_, Nat.mod_lt _ (by omega)⟩ rfl ⟨_, by omega⟩ rfl ⟨_, Nat.mod_lt _ (by omega)⟩ rfl)))

theorem idx : ∀ t : Fin cfg0.N, win0_0.index t = ![t.val % 8, t.val / 8 + 4] ∧ win0_1.index t = ![t.val % 8 * 64 - 1, t.val / 8 + 4]
    ∧ win0_2.index t = ![0, t.val / 8] ∧ win0_3.index t = ![0, t.val / 8] ∧ win0_4.index t = ![t.val % 8, t.val / 8]
    ∧ (grid0.coords t 1).val = t.val % 8 :=
  (by decide +kernel : ∀ t : Fin grid0.N, _)

theorem lt48 (n : Fin cfg0.N) : n.val < 48 := by have := n.isLt; have : cfg0.N = 48 := N_0; omega

/-- The channel of column `c` of point `n`'s block. -/
def chan (n : Fin cfg0.N) (c : Fin 512) : Fin 3072 := ⟨n.val / 8 * 512 + c, by have := lt48 n; omega⟩

variable (m : (ℓ : Loc nD τ sig) → Buf (Elt Ideal) ℓ) (c : Dev nD)

/-- The arguments. -/
abbrev X : S4096x5152.Idx → EReal := m ((c.tc : Thread nD τ).loc main_arg0)
abbrev W : S4x3072.Idx → EReal := m ((c.tc : Thread nD τ).loc main_arg1)
abbrev B : S3072.Idx → EReal := m ((c.tc : Thread nD τ).loc main_arg2)

/-- The result. -/
def out (x : S4096x5152.Idx → EReal) (w : S4x3072.Idx → EReal) (b : S3072.Idx → EReal) : S4096x3072.Idx → EReal :=
  fun i => stanh (conv (col x (i 1)) (b (ix1 (i 1))) (w (ix2 0 (i 1))) (w (ix2 1 (i 1))) (w (ix2 2 (i 1))) (w (ix2 3 (i 1))) (i 0).val)

variable {m c}

theorem V0_apply (t : Fin 4096) (j : Fin 3072) : (V m c (Pipeline.arrRef spec0 0) : S4096x5376.Idx → EReal) (ix2 t ⟨2048 + j.val, by omega⟩) = X m c (ix2 t ⟨2048 + j.val, by omega⟩) := by
  have h : V m c (Pipeline.arrRef spec0 0) = pad S4096x5376 ![0, 0] ![0, 224] ![0, 0] (X m c) (sitofp (F := Ideal) .f32 (constantI S_ 32 0#32)) pads_S4096x5152_S4096x5376_000_02240 h_S_ := by
    unfold V
    after_results_simp <;> rfl
  rw [h]
  pointwise
  exact dif_pos (by omega)

theorem iblk_0 (n : Fin cfg0.N) (r j : Fin 512) :
    X0_0 m c n (ix2 r j : S512x512.Idx) = col (X m c) (chan n j) (n.val % 8 * 512 + r + 8) := by
  have := lt48 n
  unfold X0_0 Pipeline.Window.fill
  rw [dif_pos (moved0_0 n _)]
  unfold col
  rw [pre_of_le (by omega) (by omega)]
  refine Eq.trans ?_ (V0_apply (m := m) (c := c) ⟨n.val % 8 * 512 + r + 8 - 8, by omega⟩ (chan n j))
  blk_point [iblk, idx n, chan]

theorem iblk_1 (n : Fin cfg0.N) (q : Fin 8) (j : Fin 512) :
    keep (0 < (grid0.coords n 1).val) (X0_1 m c n (ix2 q j : S8x512.Idx)) = col (X m c) (chan n j) (n.val % 8 * 512 + q) := by
  have := lt48 n
  have hi := (idx n).2.2.2.2.2
  unfold col
  by_cases h : 0 < n.val % 8
  · rw [pre_of_le (by omega) (by omega), keep_of (by omega)]
    unfold X0_1 Pipeline.Window.fill
    rw [dif_pos (moved0_1 n _)]
    refine Eq.trans ?_ (V0_apply (m := m) (c := c) ⟨n.val % 8 * 512 + q - 8, by omega⟩ (chan n j))
    blk_point [iblk, idx n, chan]
  · rw [pre_of_lt (by omega), keep_of_not (by omega)]

theorem iblk_w (n : Fin cfg0.N) (k : Fin 4) (j : Fin 512) : iblk m c 2 n (ix2 k j : S4x512.Idx) = W m c (ix2 k (chan n j)) := by
  blk_point [iblk, V, idx n, chan]

theorem iblk_b (n : Fin cfg0.N) (j : Fin 512) : iblk m c 3 n (ix2 0 j : S1x512.Idx) = B m c (ix1 (chan n j)) := by
  have hV : V m c (Pipeline.arrRef spec0 3) = shapeCast S1x3072 (B m c) shapeCasts_S3072_S1x3072 := by
    unfold V
    after_results_simp <;> rfl
  refine Eq.trans (b := V m c (Pipeline.arrRef spec0 3) (ix2 0 (chan n j) : S1x3072.Idx)) ?_ ?_
  · blk_point [iblk, idx n, chan]
  · rw [hV]
    pointwise

theorem outs (n : Fin cfg0.N) : outsAt0 m c n = k0_pay1 (F := Ideal) (k0_pay2 (X0_0 m c n)) (k0_pay3 (grid0.coords n) (X0_1 m c n)) (iblk m c 2 n)
    (k0_pay4 (grid0.coords n) (X0_0 m c n) (X0_1 m c n) (iblk m c 2 n) (iblk m c 3 n)) := by
  unfold outsAt0
  frame_out

/-- Every block is written once. -/
theorem final : (dats m 0 c).arrAt 4 cfg0.N = out (X m c) (W m c) (B m c) := by
  refine (dats m 0 c).arrAt_eq_of_covers 4 _ (by decide +kernel) fun n _ y => ?_
  blk_simp
  rw [after0_4, outs]
  idx_vars y
  refine (pay1_apply (iblk_0 n · y1) (iblk_1 n · y1) _ _ _).trans ?_
  rw [iblk_w, iblk_w, iblk_w, iblk_w, iblk_b]
  refine Eq.trans (b := out (X m c) (W m c) (B m c) (ix2 ⟨n.val % 8 * 512 + y0, by omega⟩ (chan n y1))) rfl ?_
  generalize out (X m c) (W m c) (B m c) = Y
  blk_point [idx n, chan]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = out (X m c) (W m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 4).trans final, hr.1 c⟩

end Cert.ActKernelIdeal.Value

namespace Cert.ActRefIdeal.Value
open Cert.ActRefIdeal Cert.ActRefIdeal.Read Cert.Halo Cert.Logistic Cert.ActKernelIdeal.Value
open Cert.SiluKernelIdeal.Value (conv col)

variable (x0 : S4096x5152.Idx → EReal) (x1 : S4x3072.Idx → EReal) (x2 : S3072.Idx → EReal)

/-- Up to the activation the lines are those of the gradient's reference. -/
theorem v32_eq : val_main_v32 (F := Ideal) x0 x1 x2 = Cert.SiluRefIdeal.Read.val_main_v32 (F := Ideal) x0 x1 x2 := rfl

theorem v33_apply (t : Fin 4096) (c : Fin 3072) : val_main_v33 (F := Ideal) x0 x1 x2 (ix2 t c) = out x0 x1 x2 (ix2 t c) := by
  refine Eq.trans (b := slogi (val_main_v32 (F := Ideal) x0 x1 x2 (ix2 t c))) ?_ ?_
  · unfold slogi
    pointwise [val_main_v33, val_main_call0_v0, val_main_call0_v1, val_main_call0_v2, val_main_call0_v3, val_main_call0_v4, val_main_call0_v5, val_main_call0_cst, val_main_call0_cst_0]
  · rw [slogi_all, v32_eq, Cert.SiluRefIdeal.Value.v32_apply]
    rfl

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v33) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v33_eq]
    funext i
    idx_vars i
    exact v33_apply _ _ _ _ _

end Cert.ActRefIdeal.Value

namespace Cert.Act

/-- The reference runs and leaves its arguments; it has no semaphores. -/
theorem reference_frame : Cert.quiescent_ActRefIdeal := fun m g _ =>
  θ_run_mono (Cert.ActRefIdeal.Value.run (F := Ideal) m g) fun r hr => ⟨fun c => (hr c).2, sem_eq_zero_of_no_sems (by decide) r.2⟩

/-- The kernel computes the Mamba convolution with its activation. -/
theorem algebraic : Cert.algebraic_ActKernelIdeal_ActRefIdeal := by
  intro m g m' g' _ hagree
  refine ⟨_, ActKernelIdeal.Value.kernel_run m g, θ_run_mono (ActRefIdeal.Value.reference_run m' g') fun r hr c => ?_⟩
  obtain ⟨e0, e1, e2⟩ := hagree c
  obtain ⟨h1, h2⟩ := hr c
  rw [e0, e1, e2] at h1
  exact ⟨h1, h2⟩

end Cert.Act
end
-- ==== Proof.Ffn.lean ====
/- The feed-forward convolution with its gate: the kernel's blocks, the reference, and the two claims. -/
module

public import proofs.«01_k».proof.Proof.GateValue
public import proofs.«01_k».proof.Proof.Gen.FfnKernelIdeal.Frame
public import proofs.«01_k».proof.Proof.Gen.FfnRefIdeal.Read
public import proofs.«01_k».proof.Proof.Gen.FfnRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnKernelIdeal.Value
open Cert.FfnKernelIdeal Cert.FfnKernelIdeal.Gen Cert.Halo Cert.Logistic
open Cert.GateKernelIdeal.Value (conv col wide H)

theorem pay3_apply (i : grid0.Coords) (n : S2x16x1408.Idx → EReal) (h : Fin 2) (q : Fin 8) (c : Fin 1408) :
    k0_pay3 (F := Ideal) i n (ix3 h q c) = keep (0 < (i 1).val) (n (ix3 h ⟨8 + q.val, by omega⟩ c)) := by
  unfold keep
  pointwise [k0_pay3]
  rw [show (Scalar.extui (Scalar.cmpi CmpIPredicate.sgt (BitVec.ofNat 32 (i 1).val) 0#32) : BitVec 32).toInt = _ from notfirst_eq (i 1)]
  split <;> simp

section
variable {i : grid0.Coords} {d : S2x256x1408.Idx → EReal} {n : S2x16x1408.Idx → EReal} {b : ℕ} {g : ℕ → EReal} {c : Fin 1408}

/-- The gate's half of a block: the convolution's value. -/
theorem gate_apply (hd : ∀ r : Fin 256, d (ix3 0 r c) = g (b * 256 + r + 8))
    (hn : ∀ q : Fin 8, keep (0 < (i 1).val) (n (ix3 0 ⟨8 + q.val, by omega⟩ c)) = g (b * 256 + q)) (w : S3x1408.Idx → EReal) (v : S1x1408.Idx → EReal) (r : Fin 256) :
    k0_pay10 (F := Ideal) (k0_pay4 d) w (k0_pay6 i d n w v) (k0_pay7 d) (k0_pay8 d) (k0_pay9 i n) (iota Kind.tc S8x1408 32 [0] iota_S8x1408_d0_w32) 1#32 (ix2 r c)
      = conv g (v (ix2 0 c)) (w (ix2 0 c)) (w (ix2 1 c)) (w (ix2 2 c)) (b * 256 + r) := by
  have down := fun s => down_eq g 256 b (by omega) s (fun r => d (ix3 0 r c)) (fun q => keep (0 < (i 1).val) (n (ix3 0 ⟨8 + q.val, by omega⟩ c))) hd hn r
  pointwise [k0_pay10, k0_pay9, k0_pay8, k0_pay7, k0_pay6, k0_pay5, k0_pay4, k0_pay2]
  simp only [pay3_apply]
  unfold conv
  exact congrArg₂ (· + ·) (congrArg₂ (· + ·) (congrArg (_ + ·) (congrArg (· * _)
    (down 2 ⟨_, Nat.mod_lt _ (by omega)⟩ rfl ⟨_, by omega⟩ rfl ⟨_, Nat.mod_lt _ (by omega)⟩ rfl)))
    (congrArg (· * _) (down 1 ⟨_, Nat.mod_lt _ (by omega)⟩ rfl ⟨_, by omega⟩ rfl ⟨_, Nat.mod_lt _ (by omega)⟩ rfl))) (congrArg (· * _) (hd r))

/-- The other half, as the kernel adds it up. -/
theorem up_apply (hd : ∀ r : Fin 256, d (ix3 1 r c) = g (b * 256 + r + 8))
    (hn : ∀ q : Fin 8, keep (0 < (i 1).val) (n (ix3 1 ⟨8 + q.val, by omega⟩ c)) = g (b * 256 + q)) (w : S3x1408.Idx → EReal) (v : S1x1408.Idx → EReal) (r : Fin 256) :
    k0_pay13 (F := Ideal) (k0_pay2 d) (k0_pay3 i n) w v (ix2 r c) + k0_pay14 (F := Ideal) (k0_pay2 d) (k0_pay3 i n) w (ix2 r c)
        + k0_pay11 (F := Ideal) (k0_pay2 d) (ix2 r c) * w (ix2 2 c)
      = conv g (v (ix2 0 c)) (w (ix2 0 c)) (w (ix2 1 c)) (w (ix2 2 c)) (b * 256 + r) := by
  have down := fun s => down_eq g 256 b (by omega) s (fun r => d (ix3 1 r c)) (fun q => keep (0 < (i 1).val) (n (ix3 1 ⟨8 + q.val, by omega⟩ c))) hd hn r
  pointwise [k0_pay13, k0_pay14, k0_pay11, k0_pay12, k0_pay2]
  simp only [pay3_apply]
  unfold conv
  exact congrArg₂ (· + ·) (congrArg₂ (· + ·) (congrArg (_ + ·) (congrArg (· * _)
    (down 2 ⟨_, Nat.mod_lt _ (by omega)⟩ rfl ⟨_, by omega⟩ rfl ⟨_, Nat.mod_lt _ (by omega)⟩ rfl)))
    (congrArg (· * _) (down 1 ⟨_, Nat.mod_lt _ (by omega)⟩ rfl ⟨_, by omega⟩ rfl ⟨_, Nat.mod_lt _ (by omega)⟩ rfl))) (congrArg (· * _) (hd r))

end

theorem pay1_apply (h v x y : S256x1408.Idx → EReal) (w : S3x1408.Idx → EReal) (r : Fin 256) (c : Fin 1408) :
    k0_pay1 (F := Ideal) h v w x y (ix2 r c) = stanh (h (ix2 r c)) * (x (ix2 r c) + y (ix2 r c) + v (ix2 r c) * w (ix2 2 c)) := by
  unfold stanh
  pointwise [k0_pay1]

theorem idx : ∀ t : Fin cfg0.N, win0_0.index t = ![0, t.val % 16, t.val / 16] ∧ win0_1.index t = ![0, t.val % 16 * 16 - 1, t.val / 16]
    ∧ win0_2.index t = ![0, t.val / 16] ∧ win0_3.index t = ![0, t.val / 16 + 2] ∧ win0_4.index t = ![0, t.val / 16] ∧ win0_5.index t = ![0, t.val / 16 + 2]
    ∧ win0_6.index t = ![t.val % 16, t.val / 16] ∧ (grid0.coords t 1).val = t.val % 16 :=
  (by decide +kernel : ∀ t : Fin grid0.N, _)

theorem lt32 (n : Fin cfg0.N) : n.val < 32 := by have := n.isLt; have : cfg0.N = 32 := N_0; omega

/-- The channel, in its half, of column `c` of point `n`'s block. -/
def chan (n : Fin cfg0.N) (c : Fin 1408) : Fin 2816 := ⟨n.val / 16 * 1408 + c, by have := lt32 n; omega⟩

variable (m : (ℓ : Loc nD τ sig) → Buf (Elt Ideal) ℓ) (c : Dev nD)

/-- The arguments. -/
abbrev X : S4096x5632.Idx → EReal := m ((c.tc : Thread nD τ).loc main_arg0)
abbrev W : S3x5632.Idx → EReal := m ((c.tc : Thread nD τ).loc main_arg1)
abbrev B : S5632.Idx → EReal := m ((c.tc : Thread nD τ).loc main_arg2)

/-- The result. -/
def out (x : S4096x5632.Idx → EReal) (w : S3x5632.Idx → EReal) (b : S5632.Idx → EReal) : S4096x2816.Idx → EReal :=
  fun i => stanh (H x w b (i 0) (wide 0 (i 1))) * H x w b (i 0) (wide 1 (i 1))

variable {m c}

theorem V0_apply (h : Fin 2) (t : Fin 4096) (j : Fin 2816) : (V m c (Pipeline.arrRef spec0 0) : S2x4096x2816.Idx → EReal) (ix3 h t j) = X m c (ix2 t (wide h j)) := by
  have e : V m c (Pipeline.arrRef spec0 0) = truncf (F := Ideal) .bf16 (concatenate S2x4096x2816 0
      [⟨S1x4096x2816, broadcastInDim S1x4096x2816 ![1, 2] bcast_S4096x2816_S1x4096x2816_1_2 (extractStridedSlice S4096x2816 ![0, 0] (X m c) slices_S4096x5632_S4096x2816_0_0)⟩,
        ⟨S1x4096x2816, broadcastInDim S1x4096x2816 ![1, 2] bcast_S4096x2816_S1x4096x2816_1_2 (extractStridedSlice S4096x2816 ![0, 2816] (X m c) slices_S4096x5632_S4096x2816_0_2816)⟩]
      concatenates_S1x4096x2816_S1x4096x2816_S2x4096x2816_d0) bitsLt_bf16_f32 := by
    unfold V
    after_results_simp <;> rfl
  rw [e]
  match h with
  | 0 =>
    pointwise [wide]
  | 1 =>
    pointwise [wide]

theorem iblk_0 (n : Fin cfg0.N) (h : Fin 2) (j : Fin 1408) (r : Fin 256) :
    iblk m c 0 n (ix3 h r j : S2x256x1408.Idx) = col (X m c) (wide h (chan n j)) (n.val % 16 * 256 + r + 8) := by
  have := lt32 n
  unfold col
  rw [pre_of_le (by omega) (by omega)]
  refine Eq.trans ?_ (V0_apply (m := m) (c := c) h ⟨n.val % 16 * 256 + r + 8 - 8, by omega⟩ (chan n j))
  blk_point [iblk, idx n, chan]

theorem iblk_1 (n : Fin cfg0.N) (h : Fin 2) (j : Fin 1408) (q : Fin 8) :
    keep (0 < (grid0.coords n 1).val) (iblk m c 1 n (ix3 h ⟨8 + q.val, by omega⟩ j : S2x16x1408.Idx)) = col (X m c) (wide h (chan n j)) (n.val % 16 * 256 + q) := by
  have := lt32 n
  have hi := (idx n).2.2.2.2.2.2.2
  unfold col
  by_cases h0 : 0 < n.val % 16
  · rw [pre_of_le (by omega) (by omega), keep_of (by omega)]
    refine Eq.trans ?_ (V0_apply (m := m) (c := c) h ⟨n.val % 16 * 256 + q - 8, by omega⟩ (chan n j))
    blk_point [iblk, idx n, chan]
  · rw [pre_of_lt (by omega), keep_of_not (by omega)]

theorem iblk_w (n : Fin cfg0.N) (k : Fin 3) (j : Fin 1408) : iblk m c 2 n (ix2 k j : S3x1408.Idx) = W m c (ix2 k (wide 0 (chan n j))) := by
  blk_point [iblk, V, idx n, chan, wide]

theorem iblk_w' (n : Fin cfg0.N) (k : Fin 3) (j : Fin 1408) : iblk m c 3 n (ix2 k j : S3x1408.Idx) = W m c (ix2 k (wide 1 (chan n j))) := by
  blk_point [iblk, V, idx n, chan, wide]

/-- The bias as a row. -/
theorem V4_apply (j : Fin 5632) : (V m c main_v6 : S1x5632.Idx → EReal) (ix2 0 j) = B m c (ix1 j) := by
  have hV : V m c main_v6 = shapeCast S1x5632 (B m c) shapeCasts_S5632_S1x5632 := by
    unfold V
    after_results_simp <;> rfl
  rw [hV]
  pointwise

theorem iblk_b (n : Fin cfg0.N) (j : Fin 1408) : iblk m c 4 n (ix2 0 j : S1x1408.Idx) = B m c (ix1 (wide 0 (chan n j))) := by
  refine Eq.trans ?_ (V4_apply _)
  blk_point [iblk, idx n, chan, wide]

theorem iblk_b' (n : Fin cfg0.N) (j : Fin 1408) : iblk m c 5 n (ix2 0 j : S1x1408.Idx) = B m c (ix1 (wide 1 (chan n j))) := by
  refine Eq.trans ?_ (V4_apply _)
  blk_point [iblk, idx n, chan, wide]

/-- Every block is written once. -/
theorem final : (dats m 0 c).arrAt 6 cfg0.N = out (X m c) (W m c) (B m c) := by
  refine (dats m 0 c).arrAt_eq_of_covers 6 _ (by decide +kernel) fun n _ y => ?_
  blk_simp
  rw [after0_6]
  unfold out0_6 k0_pay15 k0_pay16
  frame_out
  idx_vars y
  refine (pay1_apply _ _ _ _ _ _ _).trans ?_
  rw [gate_apply (iblk_0 n 0 y1) (iblk_1 n 0 y1), up_apply (iblk_0 n 1 y1) (iblk_1 n 1 y1), iblk_w, iblk_w, iblk_w, iblk_b, iblk_w', iblk_w', iblk_w', iblk_b']
  refine Eq.trans (b := out (X m c) (W m c) (B m c) (ix2 ⟨n.val % 16 * 256 + y0, by omega⟩ (chan n y1))) rfl ?_
  generalize out (X m c) (W m c) (B m c) = Y
  blk_point [idx n, chan]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v7) = out (X m c) (W m c) (B m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 6).trans final, hr.1 c⟩

end Cert.FfnKernelIdeal.Value

namespace Cert.FfnRefIdeal.Value
open Cert.FfnRefIdeal Cert.FfnRefIdeal.Read Cert.Halo Cert.Logistic Cert.FfnKernelIdeal.Value
open Cert.GateKernelIdeal.Value (conv col wide H)

variable (x0 : S4096x5632.Idx → EReal) (x1 : S3x5632.Idx → EReal) (x2 : S5632.Idx → EReal)

/-- Up to the gate the lines are those of the gradient's reference. -/
theorem v24_eq : val_main_v24 (F := Ideal) x0 x1 x2 = Cert.GateRefIdeal.Read.val_main_v24 (F := Ideal) x0 x1 x2 := rfl

theorem v29_apply (t : Fin 4096) (c : Fin 2816) : val_main_v29 (F := Ideal) x0 x1 x2 (ix2 t c) = out x0 x1 x2 (ix2 t c) := by
  refine Eq.trans (b := slogi (val_main_v24 (F := Ideal) x0 x1 x2 (ix2 t (wide 0 c))) * val_main_v24 (F := Ideal) x0 x1 x2 (ix2 t (wide 1 c))) ?_ ?_
  · unfold slogi
    pointwise [val_main_v29, val_main_v28, val_main_v27, val_main_v26, val_main_v25, val_main_call0_v0, val_main_call0_v1, val_main_call0_v2, val_main_call0_v3,
      val_main_call0_v4, val_main_call0_v5, val_main_call0_cst, val_main_call0_cst_0, wide]
  · rw [slogi_all, v24_eq, Cert.GateRefIdeal.Value.v24_apply, Cert.GateRefIdeal.Value.v24_apply]
    rfl

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v29) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v29_eq]
    funext i
    idx_vars i
    exact v29_apply _ _ _ _ _

end Cert.FfnRefIdeal.Value

namespace Cert.Ffn

/-- The reference runs and leaves its arguments; it has no semaphores. -/
theorem reference_frame : Cert.quiescent_FfnRefIdeal := fun m g _ =>
  θ_run_mono (Cert.FfnRefIdeal.Value.run (F := Ideal) m g) fun r hr => ⟨fun c => (hr c).2, sem_eq_zero_of_no_sems (by decide) r.2⟩

/-- The kernel computes the feed-forward convolution with its gate. -/
theorem algebraic : Cert.algebraic_FfnKernelIdeal_FfnRefIdeal := by
  intro m g m' g' _ hagree
  refine ⟨_, FfnKernelIdeal.Value.kernel_run m g, θ_run_mono (FfnRefIdeal.Value.reference_run m' g') fun r hr c => ?_⟩
  obtain ⟨e0, e1, e2⟩ := hagree c
  obtain ⟨h1, h2⟩ := hr c
  rw [e0, e1, e2] at h1
  exact ⟨h1, h2⟩

end Cert.Ffn
end
-- ==== Proof.NormProj.lean ====
/- A normalised row's product with a column of a weight. -/
module

public import proofs.«01_k».proof.Proof.Weight

@[expose] public section

noncomputable section

open Idealize.ShloMosaic

namespace Cert.NormProj
open Cert.Norm Cert.Proj Cert.Weight

/-- A normalised row against one column of a weight. -/
def prod (h : Fin 1024 → EReal) (nw : Fin 1024 → EReal) (w : Fin 1024 → EReal) : EReal := ∑ k : Fin 1024, normed h nw k * w k

/-- Row `t` of the sequence against it. -/
def value (h : Seq.Idx → EReal) (nw : Line.Idx → EReal) (w : Fin 1024 → EReal) (t : Fin 4096) : EReal :=
  prod (fun j => h (ix2 t j)) (fun j => nw (ix1 j)) w

/-- Against a column of zeros. -/
theorem value_zero (h : Seq.Idx → EReal) (nw : Line.Idx → EReal) (t : Fin 4096) : value h nw (fun _ => 0) t = 0 := by
  unfold value prod
  simp

end Cert.NormProj
end
-- ==== Proof.Nq.lean ====
/- The query projection after its norm: the kernel's blocks, the reference, and the two claims. -/
module

public import proofs.«01_k».proof.Proof.NormProj
public import proofs.«01_k».proof.Proof.Gen.NqKernelIdeal.Frame
public import proofs.«01_k».proof.Proof.Gen.NqRefIdeal.Read
public import proofs.«01_k».proof.Proof.Gen.NqRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NqKernelIdeal.Value
open Cert.NqKernelIdeal Cert.NqKernelIdeal.Gen Cert.Norm Cert.Proj Cert.Weight Cert.NormProj

theorem pay1_apply (h : S1024x1024.Idx → EReal) (nw : S1x1024.Idx → EReal) (w : S1024x1024.Idx → EReal) (r : Fin 1024) (q : Fin 1024) :
    k0_pay1 (F := Ideal) h nw w (ix2 r q) = prod (fun j => h (ix2 r j)) (fun j => nw (ix2 0 j)) (fun k => w (ix2 k q)) := by
  unfold prod normed scale meansq
  pointwise [k0_pay1]

theorem idx : ∀ t : Fin cfg0.N, win0_0.index t = ![t.val, 0] ∧ win0_1.index t = ![0, 0] ∧ win0_2.index t = ![0, 0] ∧ win0_3.index t = ![t.val, 0] :=
  (by decide +kernel : ∀ t : Fin grid0.N, _)

theorem ltN (n : Fin cfg0.N) : n.val < 4 := lt_of_lt_of_eq n.isLt N_0

/-- The row of the sequence at row `r` of point `n`'s block. -/
def rows (n : Fin cfg0.N) (r : Fin 1024) : Fin 4096 := ⟨n.val * 1024 + r.val, by have := ltN n; omega⟩

variable (m : (ℓ : Loc nD τ sig) → Buf (Elt Ideal) ℓ) (c : Dev nD)

/-- The arguments. -/
abbrev H : S4096x1024.Idx → EReal := m ((c.tc : Thread nD τ).loc main_arg0)
abbrev NW : S1024.Idx → EReal := m ((c.tc : Thread nD τ).loc main_arg1)
abbrev W : S1024x1024.Idx → EReal := m ((c.tc : Thread nD τ).loc main_arg2)

/-- The result. -/
def out (h : S4096x1024.Idx → EReal) (nw : S1024.Idx → EReal) (w : S1024x1024.Idx → EReal) : S4096x1024.Idx → EReal :=
  fun x => value h nw (fun k => w (ix2 k (x 1))) (x 0)

variable {m c}

theorem iblk_h (n : Fin cfg0.N) (r j : Fin 1024) : iblk m c 0 n (ix2 r j : S1024x1024.Idx) = H m c (ix2 (rows n r) j) := by
  blk_point [iblk, V, idx n, rows]

theorem iblk_nw (n : Fin cfg0.N) (j : Fin 1024) : iblk m c 2 n (ix2 0 j : S1x1024.Idx) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · blk_point [iblk, idx n]
  · rw [hV]
    pointwise

theorem iblk_w (n : Fin cfg0.N) (k p : Fin 1024) : iblk m c 1 n (ix2 k p : S1024x1024.Idx) = W m c (ix2 k p) := by
  have hV : V m c (Pipeline.arrRef spec0 1) = truncf (F := Ideal) .bf16 (W m c) bitsLt_bf16_f32 := by
    unfold V
    after_results_simp <;> rfl
  refine Eq.trans (b := V m c (Pipeline.arrRef spec0 1) (ix2 k p : S1024x1024.Idx)) ?_ ?_
  · blk_point [iblk, idx n]
  · rw [hV]
    pointwise

/-- Every block is written once. -/
theorem final : (dats m 0 c).arrAt 3 cfg0.N = out (H m c) (NW m c) (W m c) := by
  refine (dats m 0 c).arrAt_eq_of_covers 3 _ (by decide +kernel) fun n _ y => ?_
  blk_simp
  rw [after0_3]
  frame_out
  idx_vars y
  refine (pay1_apply _ _ _ _ _).trans ?_
  simp only [iblk_h, iblk_nw, iblk_w]
  refine Eq.trans (b := out (H m c) (NW m c) (W m c) (ix2 (rows n y0) y1)) rfl ?_
  generalize out (H m c) (NW m c) (W m c) = Y
  blk_point [idx n, rows]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = out (H m c) (NW m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 3).trans final, hr.1 c⟩

end Cert.NqKernelIdeal.Value

namespace Cert.NqRefIdeal.Value
open Cert.NqRefIdeal Cert.NqRefIdeal.Read Cert.Norm Cert.Weight Cert.NormProj Cert.NqKernelIdeal.Value

variable (x0 : S4096x1024.Idx → EReal) (x1 : S1024.Idx → EReal) (x2 : S1024x1024.Idx → EReal)

theorem v12_apply (t : Fin 4096) (i : Fin 1024) : val_main_v12 (F := Ideal) x0 x1 (ix2 t i) = normed (fun j => x0 (ix2 t j)) (fun j => x1 (ix1 j)) i := by
  unfold normed scale meansq
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

theorem v13_apply (t : Fin 4096) (p : Fin 1024) : val_main_v13 (F := Ideal) x0 x1 x2 (ix2 t p) = value x0 x1 (fun k => x2 (ix2 k p)) t := by
  unfold value prod
  simp only [← v12_apply]
  pointwise [val_main_v13]

theorem v14_out : val_main_v14 (F := Ideal) x0 x1 x2 = out x0 x1 x2 := by
  funext i
  idx_vars i
  refine Eq.trans ?_ (v13_apply x0 x1 x2 i0 i1)
  pointwise [val_main_v14]

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v14) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v14_eq]
    exact v14_out _ _ _

end Cert.NqRefIdeal.Value

namespace Cert.Nq

/-- The reference runs and leaves its arguments; it has no semaphores. -/
theorem reference_frame : Cert.quiescent_NqRefIdeal := fun m g _ =>
  θ_run_mono (Cert.NqRefIdeal.Value.run (F := Ideal) m g) fun r hr => ⟨fun c => (hr c).2, sem_eq_zero_of_no_sems (by decide) r.2⟩

/-- The kernel computes the query projection after its norm. -/
theorem algebraic : Cert.algebraic_NqKernelIdeal_NqRefIdeal := by
  intro m g m' g' _ hagree
  refine ⟨_, NqKernelIdeal.Value.kernel_run m g, θ_run_mono (NqRefIdeal.Value.reference_run m' g') fun r hr c => ?_⟩
  obtain ⟨e0, e1, e2⟩ := hagree c
  obtain ⟨h1, h2⟩ := hr c
  rw [e0, e1, e2] at h1
  exact ⟨h1, h2⟩

end Cert.Nq
end
-- ==== Proof.Nup.lean ====
/- The feed-forward projection after its norm: the kernel's blocks, the reference, and the two claims. -/
module

public import proofs.«01_k».proof.Proof.NormProj
public import proofs.«01_k».proof.Proof.Gen.NupKernelIdeal.Frame
public import proofs.«01_k».proof.Proof.Gen.NupRefIdeal.Read
public import proofs.«01_k».proof.Proof.Gen.NupRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NupKernelIdeal.Value
open Cert.NupKernelIdeal Cert.NupKernelIdeal.Gen Cert.Norm Cert.Proj Cert.Weight Cert.NormProj

theorem pay1_apply (h : S1024x1024.Idx → EReal) (nw : S1x1024.Idx → EReal) (w : S2816x1024.Idx → EReal) (r : Fin 1024) (q : Fin 2816) :
    k0_pay1 (F := Ideal) h nw w (ix3 0 r q) = prod (fun j => h (ix2 r j)) (fun j => nw (ix2 0 j)) (fun k => w (ix2 q k)) := by
  unfold prod normed scale meansq
  pointwise [k0_pay1]

theorem idx : ∀ t : Fin cfg0.N, win0_0.index t = ![t.val / 2, 0] ∧ win0_1.index t = ![t.val % 2, 0] ∧ win0_2.index t = ![0, 0] ∧ win0_3.index t = ![t.val % 2, t.val / 2, 0] :=
  (by decide +kernel : ∀ t : Fin grid0.N, _)

theorem ltN (n : Fin cfg0.N) : n.val < 8 := lt_of_lt_of_eq n.isLt N_0

/-- The row of the sequence at row `r` of point `n`'s block. -/
def rows (n : Fin cfg0.N) (r : Fin 1024) : Fin 4096 := ⟨n.val / 2 * 1024 + r.val, by have := ltN n; omega⟩

/-- The column of the weight at column `q` of it. -/
def cols (n : Fin cfg0.N) (q : Fin 2816) : Fin 5632 := ⟨n.val % 2 * 2816 + q.val, by have := ltN n; omega⟩

variable (m : (ℓ : Loc nD τ sig) → Buf (Elt Ideal) ℓ) (c : Dev nD)

/-- The arguments. -/
abbrev H : S4096x1024.Idx → EReal := m ((c.tc : Thread nD τ).loc main_arg0)
abbrev NW : S1024.Idx → EReal := m ((c.tc : Thread nD τ).loc main_arg1)
abbrev W : S1024x5632.Idx → EReal := m ((c.tc : Thread nD τ).loc main_arg2)

/-- The result: the two halves of the columns one after the other. -/
def out (h : S4096x1024.Idx → EReal) (nw : S1024.Idx → EReal) (w : S1024x5632.Idx → EReal) : S2x4096x2816.Idx → EReal :=
  fun x => value h nw (fun k => w (ix2 k ⟨(x 0).val * 2816 + (x 2).val, by have h0 : (x 0).val < 2 := (x 0).isLt; have h2 : (x 2).val < 2816 := (x 2).isLt; omega⟩)) (x 1)

variable {m c}

theorem iblk_h (n : Fin cfg0.N) (r j : Fin 1024) : iblk m c 0 n (ix2 r j : S1024x1024.Idx) = H m c (ix2 (rows n r) j) := by
  blk_point [iblk, V, idx n, rows]

theorem iblk_nw (n : Fin cfg0.N) (j : Fin 1024) : iblk m c 2 n (ix2 0 j : S1x1024.Idx) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · blk_point [iblk, idx n]
  · rw [hV]
    pointwise

theorem iblk_w (n : Fin cfg0.N) (k : Fin 1024) (q : Fin 2816) : iblk m c 1 n (ix2 q k : S2816x1024.Idx) = W m c (ix2 k (cols n q)) := by
  have hV : V m c (Pipeline.arrRef spec0 1) = truncf (F := Ideal) .bf16 (transpose S5632x1024 [1, 0] (W m c) transposes_S1024x5632_S5632x1024_1_0) bitsLt_bf16_f32 := by
    unfold V
    after_results_simp <;> rfl
  refine Eq.trans (b := V m c (Pipeline.arrRef spec0 1) (ix2 (cols n q) k : S5632x1024.Idx)) ?_ ?_
  · blk_point [iblk, idx n, cols]
  · rw [hV]
    pointwise

/-- Every block is written once. -/
theorem final : (dats m 0 c).arrAt 3 cfg0.N = out (H m c) (NW m c) (W m c) := by
  refine (dats m 0 c).arrAt_eq_of_covers 3 _ (by decide +kernel) fun n _ y => ?_
  blk_simp
  rw [after0_3]
  frame_out
  idx_vars y
  obtain rfl : y0 = 0 := Subsingleton.elim _ _
  refine (pay1_apply _ _ _ _ _).trans ?_
  simp only [iblk_h, iblk_nw, iblk_w]
  refine Eq.trans (b := out (H m c) (NW m c) (W m c) (ix3 ⟨n.val % 2, by omega⟩ (rows n y1) y2)) rfl ?_
  generalize out (H m c) (NW m c) (W m c) = Y
  blk_point [idx n, rows]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = out (H m c) (NW m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 3).trans final, hr.1 c⟩

end Cert.NupKernelIdeal.Value

namespace Cert.NupRefIdeal.Value
open Cert.NupRefIdeal Cert.NupRefIdeal.Read Cert.Norm Cert.Weight Cert.NormProj Cert.NupKernelIdeal.Value

variable (x0 : S4096x1024.Idx → EReal) (x1 : S1024.Idx → EReal) (x2 : S1024x5632.Idx → EReal)

theorem v12_apply (t : Fin 4096) (i : Fin 1024) : val_main_v12 (F := Ideal) x0 x1 (ix2 t i) = normed (fun j => x0 (ix2 t j)) (fun j => x1 (ix1 j)) i := by
  unfold normed scale meansq
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

theorem v13_apply (t : Fin 4096) (p : Fin 5632) : val_main_v13 (F := Ideal) x0 x1 x2 (ix2 t p) = value x0 x1 (fun k => x2 (ix2 k p)) t := by
  unfold value prod
  simp only [← v12_apply]
  pointwise [val_main_v13]

theorem v19_out : val_main_v19 (F := Ideal) x0 x1 x2 = out x0 x1 x2 := by
  funext i
  idx_vars i
  match i0 with
  | 0 =>
    refine Eq.trans ?_ (v13_apply x0 x1 x2 i1 ⟨0 * 2816 + i2.val, by omega⟩)
    pointwise [val_main_v19, val_main_v18, val_main_v17, val_main_v16, val_main_v15, val_main_v14]
  | 1 =>
    refine Eq.trans ?_ (v13_apply x0 x1 x2 i1 ⟨1 * 2816 + i2.val, by omega⟩)
    pointwise [val_main_v19, val_main_v18, val_main_v17, val_main_v16, val_main_v15, val_main_v14]

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v19) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v19_eq]
    exact v19_out _ _ _

end Cert.NupRefIdeal.Value

namespace Cert.Nup

/-- The reference runs and leaves its arguments; it has no semaphores. -/
theorem reference_frame : Cert.quiescent_NupRefIdeal := fun m g _ =>
  θ_run_mono (Cert.NupRefIdeal.Value.run (F := Ideal) m g) fun r hr => ⟨fun c => (hr c).2, sem_eq_zero_of_no_sems (by decide) r.2⟩

/-- The kernel computes the feed-forward projection after its norm. -/
theorem algebraic : Cert.algebraic_NupKernelIdeal_NupRefIdeal := by
  intro m g m' g' _ hagree
  refine ⟨_, NupKernelIdeal.Value.kernel_run m g, θ_run_mono (NupRefIdeal.Value.reference_run m' g') fun r hr c => ?_⟩
  obtain ⟨e0, e1, e2⟩ := hagree c
  obtain ⟨h1, h2⟩ := hr c
  rw [e0, e1, e2] at h1
  exact ⟨h1, h2⟩

end Cert.Nup
end
-- ==== Proof.Nin.lean ====
/- The Mamba input projection after its norm: the kernel's blocks, the reference, and the two claims. -/
module

public import proofs.«01_k».proof.Proof.NormProj
public import proofs.«01_k».proof.Proof.Gen.NinKernelIdeal.Frame
public import proofs.«01_k».proof.Proof.Gen.NinRefIdeal.Read
public import proofs.«01_k».proof.Proof.Gen.NinRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.NinKernelIdeal.Value
open Cert.NinKernelIdeal Cert.NinKernelIdeal.Gen Cert.Norm Cert.Proj Cert.Weight Cert.NormProj

theorem pay1_apply (h : S1024x1024.Idx → EReal) (nw : S1x1024.Idx → EReal) (w : S1792x1024.Idx → EReal) (r : Fin 1024) (q : Fin 1792) :
    k0_pay1 (F := Ideal) h nw w (ix2 r q) = prod (fun j => h (ix2 r j)) (fun j => nw (ix2 0 j)) (fun k => w (ix2 q k)) := by
  unfold prod normed scale meansq
  pointwise [k0_pay1]

theorem idx : ∀ t : Fin cfg0.N, win0_0.index t = ![t.val / 3, 0] ∧ win0_1.index t = ![t.val % 3, 0] ∧ win0_2.index t = ![0, 0] ∧ win0_3.index t = ![t.val / 3, t.val % 3] :=
  (by decide +kernel : ∀ t : Fin grid0.N, _)

theorem ltN (n : Fin cfg0.N) : n.val < 12 := lt_of_lt_of_eq n.isLt N_0

/-- The row of the sequence at row `r` of point `n`'s block. -/
def rows (n : Fin cfg0.N) (r : Fin 1024) : Fin 4096 := ⟨n.val / 3 * 1024 + r.val, by have := ltN n; omega⟩

/-- The column of the weight at column `q` of it. -/
def cols (n : Fin cfg0.N) (q : Fin 1792) : Fin 5376 := ⟨n.val % 3 * 1792 + q.val, by have := ltN n; omega⟩

variable (m : (ℓ : Loc nD τ sig) → Buf (Elt Ideal) ℓ) (c : Dev nD)

/-- The arguments. -/
abbrev H : S4096x1024.Idx → EReal := m ((c.tc : Thread nD τ).loc main_arg0)
abbrev NW : S1024.Idx → EReal := m ((c.tc : Thread nD τ).loc main_arg1)
abbrev W : S1024x5152.Idx → EReal := m ((c.tc : Thread nD τ).loc main_arg2)

/-- The value filled in. -/
theorem pad_zero : (FloatOps.sitofp (F := Ideal) .f32 (0#32 : BitVec 32) : EReal) = 0 := by
  show ((((0#32 : BitVec 32).toInt : ℤ) : ℝ) : EReal) = 0
  simp

/-- A column of the weight, or past its last of zeros. -/
def wcol (w : S1024x5152.Idx → EReal) (p : Fin 5376) (k : Fin 1024) : EReal := if h : p.val < 5152 then w (ix2 k ⟨p.val, h⟩) else 0

/-- The result. -/
def out (h : S4096x1024.Idx → EReal) (nw : S1024.Idx → EReal) (w : S1024x5152.Idx → EReal) : S4096x5376.Idx → EReal :=
  fun x => value h nw (wcol w (x 1)) (x 0)

variable {m c}

theorem iblk_h (n : Fin cfg0.N) (r j : Fin 1024) : iblk m c 0 n (ix2 r j : S1024x1024.Idx) = H m c (ix2 (rows n r) j) := by
  blk_point [iblk, V, idx n, rows]

theorem iblk_nw (n : Fin cfg0.N) (j : Fin 1024) : iblk m c 2 n (ix2 0 j : S1x1024.Idx) = NW m c (ix1 j) := by
  have hV : V m c (Pipeline.arrRef spec0 2) = shapeCast S1x1024 (NW m c) shapeCasts_S1024_S1x1024 := by
    unfold V
    after_results_simp <;> rfl
  refine Eq.trans (b := V m c (Pipeline.arrRef spec0 2) (ix2 0 j : S1x1024.Idx)) ?_ ?_
  · blk_point [iblk, idx n]
  · rw [hV]
    pointwise

theorem iblk_w (n : Fin cfg0.N) (k : Fin 1024) (q : Fin 1792) : iblk m c 1 n (ix2 q k : S1792x1024.Idx) = wcol (W m c) (cols n q) k := by
  have hV : V m c (Pipeline.arrRef spec0 1) = truncf (F := Ideal) .bf16 (pad S5376x1024 ![0, 0] ![224, 0] ![0, 0] (transpose S5152x1024 [1, 0] (W m c) transposes_S1024x5152_S5152x1024_1_0)
      (sitofp (F := Ideal) .f32 (constantI S_ 32 0#32)) pads_S5152x1024_S5376x1024_02240_000 h_S_) bitsLt_bf16_f32 := by
    unfold V
    after_results_simp <;> rfl
  refine Eq.trans (b := V m c (Pipeline.arrRef spec0 1) (ix2 (cols n q) k : S5376x1024.Idx)) ?_ ?_
  · blk_point [iblk, idx n, cols]
  · rw [hV]
    unfold wcol
    pointwise
    split
    · rfl
    · exact pad_zero

/-- Every block is written once. -/
theorem final : (dats m 0 c).arrAt 3 cfg0.N = out (H m c) (NW m c) (W m c) := by
  refine (dats m 0 c).arrAt_eq_of_covers 3 _ (by decide +kernel) fun n _ y => ?_
  blk_simp
  rw [after0_3]
  frame_out
  idx_vars y
  refine (pay1_apply _ _ _ _ _).trans ?_
  simp only [iblk_h, iblk_nw, iblk_w]
  refine Eq.trans (b := out (H m c) (NW m c) (W m c) (ix2 (rows n y0) (cols n y1))) rfl ?_
  generalize out (H m c) (NW m c) (W m c) = Y
  blk_point [idx n, rows, cols]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = out (H m c) (NW m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 3).trans final, hr.1 c⟩

end Cert.NinKernelIdeal.Value

namespace Cert.NinRefIdeal.Value
open Cert.NinRefIdeal Cert.NinRefIdeal.Read Cert.Norm Cert.Weight Cert.NormProj Cert.NinKernelIdeal.Value

variable (x0 : S4096x1024.Idx → EReal) (x1 : S1024.Idx → EReal) (x2 : S1024x5152.Idx → EReal)

theorem v12_apply (t : Fin 4096) (i : Fin 1024) : val_main_v12 (F := Ideal) x0 x1 (ix2 t i) = normed (fun j => x0 (ix2 t j)) (fun j => x1 (ix1 j)) i := by
  unfold normed scale meansq
  pointwise [val_main_v12, val_main_v11, val_main_v10, val_main_v9, val_main_v8, val_main_v7, val_main_v6, val_main_v5, val_main_v4, val_main_v3, val_main_v2, val_main_v1,
    val_main_v0, val_main_cst, val_main_cst_0, val_main_cst_1]

theorem v13_apply (t : Fin 4096) (p : Fin 5152) : val_main_v13 (F := Ideal) x0 x1 x2 (ix2 t p) = value x0 x1 (fun k => x2 (ix2 k p)) t := by
  unfold value prod
  simp only [← v12_apply]
  pointwise [val_main_v13]

theorem v14_out : val_main_v14 (F := Ideal) x0 x1 x2 = out x0 x1 x2 := by
  funext i
  idx_vars i
  refine Eq.trans (b := if h : i1.val < 5152 then val_main_v13 (F := Ideal) x0 x1 x2 (ix2 i0 ⟨i1.val, h⟩) else 0) ?_ ?_
  · pointwise [val_main_v14, val_main_call0_v0, val_main_c]
    split
    · rfl
    · exact pad_zero
  · show _ = value x0 x1 (wcol x2 i1) i0
    unfold wcol
    by_cases h : i1.val < 5152
    · rw [dif_pos h, v13_apply]
      exact congrArg (value x0 x1 · i0) (funext fun k => by rw [dif_pos h])
    · rw [dif_neg h]
      refine (value_zero x0 x1 i0).symm.trans ?_
      exact congrArg (value x0 x1 · i0) (funext fun k => by rw [dif_neg h])

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v14) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v14_eq]
    exact v14_out _ _ _

end Cert.NinRefIdeal.Value

namespace Cert.Nin

/-- The reference runs and leaves its arguments; it has no semaphores. -/
theorem reference_frame : Cert.quiescent_NinRefIdeal := fun m g _ =>
  θ_run_mono (Cert.NinRefIdeal.Value.run (F := Ideal) m g) fun r hr => ⟨fun c => (hr c).2, sem_eq_zero_of_no_sems (by decide) r.2⟩

/-- The kernel computes the Mamba input projection after its norm, with its columns of zeros. -/
theorem algebraic : Cert.algebraic_NinKernelIdeal_NinRefIdeal := by
  intro m g m' g' _ hagree
  refine ⟨_, NinKernelIdeal.Value.kernel_run m g, θ_run_mono (NinRefIdeal.Value.reference_run m' g') fun r hr c => ?_⟩
  obtain ⟨e0, e1, e2⟩ := hagree c
  obtain ⟨h1, h2⟩ := hr c
  rw [e0, e1, e2] at h1
  exact ⟨h1, h2⟩

end Cert.Nin
end
-- ==== Proof.Dn.lean ====
/- The feed-forward's second projection over its residual: the kernel's blocks, the reference, and the two claims. -/
module

public import proofs.«01_k».proof.Proof.Gen.DnKernelIdeal.Frame
public import proofs.«01_k».proof.Proof.Gen.DnRefIdeal.Read
public import proofs.«01_k».proof.Proof.Gen.DnRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DnKernelIdeal.Value
open Cert.DnKernelIdeal Cert.DnKernelIdeal.Gen

theorem pay1_apply (p : S1024x2816.Idx → EReal) (w : S2816x1024.Idx → EReal) (h : S1024x1024.Idx → EReal) (r q : Fin 1024) :
    k0_pay1 (F := Ideal) p w h (ix2 r q) = ∑ k : Fin 2816, p (ix2 r k) * w (ix2 k q) + h (ix2 r q) := by
  pointwise [k0_pay1]

theorem idx : ∀ t : Fin cfg0.N, win0_0.index t = ![t.val, 0] ∧ win0_1.index t = ![0, 0] ∧ win0_2.index t = ![t.val, 0] ∧ win0_3.index t = ![t.val, 0] :=
  (by decide +kernel : ∀ t : Fin grid0.N, _)

theorem ltN (n : Fin cfg0.N) : n.val < 4 := lt_of_lt_of_eq n.isLt N_0

/-- The row of the sequence at row `r` of point `n`'s block. -/
def rows (n : Fin cfg0.N) (r : Fin 1024) : Fin 4096 := ⟨n.val * 1024 + r.val, by have := ltN n; omega⟩

variable (m : (ℓ : Loc nD τ sig) → Buf (Elt Ideal) ℓ) (c : Dev nD)

/-- The arguments. -/
abbrev P : S4096x2816.Idx → EReal := m ((c.tc : Thread nD τ).loc main_arg0)
abbrev W : S2816x1024.Idx → EReal := m ((c.tc : Thread nD τ).loc main_arg1)
abbrev H : S4096x1024.Idx → EReal := m ((c.tc : Thread nD τ).loc main_arg2)

/-- The result. -/
def out (p : S4096x2816.Idx → EReal) (w : S2816x1024.Idx → EReal) (h : S4096x1024.Idx → EReal) : S4096x1024.Idx → EReal :=
  fun x => ∑ k : Fin 2816, p (ix2 (x 0) k) * w (ix2 k (x 1)) + h x

variable {m c}

theorem iblk_p (n : Fin cfg0.N) (r : Fin 1024) (k : Fin 2816) : iblk m c 0 n (ix2 r k : S1024x2816.Idx) = P m c (ix2 (rows n r) k) := by
  have hV : V m c (Pipeline.arrRef spec0 0) = truncf (F := Ideal) .bf16 (P m c) bitsLt_bf16_f32 := by
    unfold V
    after_results_simp <;> rfl
  refine Eq.trans (b := V m c (Pipeline.arrRef spec0 0) (ix2 (rows n r) k : S4096x2816.Idx)) ?_ ?_
  · blk_point [iblk, idx n, rows]
  · rw [hV]
    pointwise

theorem iblk_w (n : Fin cfg0.N) (k : Fin 2816) (q : Fin 1024) : iblk m c 1 n (ix2 k q : S2816x1024.Idx) = W m c (ix2 k q) := by
  have hV : V m c (Pipeline.arrRef spec0 1) = truncf (F := Ideal) .bf16 (W m c) bitsLt_bf16_f32 := by
    unfold V
    after_results_simp <;> rfl
  refine Eq.trans (b := V m c (Pipeline.arrRef spec0 1) (ix2 k q : S2816x1024.Idx)) ?_ ?_
  · blk_point [iblk, idx n]
  · rw [hV]
    pointwise

theorem iblk_h (n : Fin cfg0.N) (r q : Fin 1024) : iblk m c 2 n (ix2 r q : S1024x1024.Idx) = H m c (ix2 (rows n r) q) := by
  blk_point [iblk, V, idx n, rows]

/-- Every block is written once. -/
theorem final : (dats m 0 c).arrAt 3 cfg0.N = out (P m c) (W m c) (H m c) := by
  refine (dats m 0 c).arrAt_eq_of_covers 3 _ (by decide +kernel) fun n _ y => ?_
  blk_simp
  rw [after0_3]
  frame_out
  idx_vars y
  refine (pay1_apply _ _ _ _ _).trans ?_
  simp only [iblk_p, iblk_w, iblk_h]
  refine Eq.trans (b := out (P m c) (W m c) (H m c) (ix2 (rows n y0) y1)) rfl ?_
  generalize out (P m c) (W m c) (H m c) = Y
  blk_point [idx n, rows]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (θ_run_and (Gen.unchanged m g) (Gen.run_main m g)) fun r hr c => ⟨((hr.2 c).1 3).trans final, hr.1 c⟩

end Cert.DnKernelIdeal.Value

namespace Cert.DnRefIdeal.Value
open Cert.DnRefIdeal Cert.DnRefIdeal.Read Cert.DnKernelIdeal.Value

variable (x0 : S4096x2816.Idx → EReal) (x1 : S2816x1024.Idx → EReal) (x2 : S4096x1024.Idx → EReal)

theorem v1_out : val_main_v1 (F := Ideal) x0 x1 x2 = out x0 x1 x2 := by
  funext i
  idx_vars i
  unfold out
  pointwise [val_main_v1, val_main_v0]
  exact add_comm _ _

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  θ_run_mono (Value.run m g) fun r hr c => by
    obtain ⟨h1, h2⟩ := hr c
    refine ⟨h1.trans ?_, h2⟩
    rw [Read.val_main_v1_eq]
    exact v1_out _ _ _

end Cert.DnRefIdeal.Value

namespace Cert.Dn

/-- The reference runs and leaves its arguments; it has no semaphores. -/
theorem reference_frame : Cert.quiescent_DnRefIdeal := fun m g _ =>
  θ_run_mono (Cert.DnRefIdeal.Value.run (F := Ideal) m g) fun r hr => ⟨fun c => (hr c).2, sem_eq_zero_of_no_sems (by decide) r.2⟩

/-- The kernel computes the feed-forward's second projection over its residual. -/
theorem algebraic : Cert.algebraic_DnKernelIdeal_DnRefIdeal := by
  intro m g m' g' _ hagree
  refine ⟨_, DnKernelIdeal.Value.kernel_run m g, θ_run_mono (DnRefIdeal.Value.reference_run m' g') fun r hr c => ?_⟩
  obtain ⟨e0, e1, e2⟩ := hagree c
  obtain ⟨h1, h2⟩ := hr c
  rw [e0, e1, e2] at h1
  exact ⟨h1, h2⟩

end Cert.Dn
end
-- ==== Proof.Dd.lean ====
/- The feed-forward's second projection's gradient at its input: the kernel's blocks, the reference, and the two claims. -/
module

public import proofs.«01_k».proof.Proof.Gen.DdKernelIdeal.Frame
public import proofs.«01_k».proof.Proof.Gen.DdRefIdeal.Read
public import proofs.«01_k».proof.Proof.Gen.DdRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DdKernelIdeal.Value
open Cert.DdKernelIdeal Cert.DdKernelIdeal.Gen

theorem pay_apply (a : S512x2816.Idx → EReal) (d : S512x1024.Idx → EReal) (w : S2816x1024.Idx → EReal) (r : Fin 512) (p : Fin 2816) :
    k0_pay3 (F := Ideal) (k0_pay2 (F := Ideal) a d w) (ix2 r p) = a (ix2 r p) + ∑ k : Fin 1024, d (ix2 r k) * w (ix2 p k) := by
  pointwise [k0_pay3, k0_pay2]

theorem pay1_apply (r : Fin 512) (p : Fin 2816) : k0_pay1 (F := Ideal) (ix2 r p) = 0 := by
  pointwise [k0_pay1]

theorem idx : ∀ t : Fin cfg0.N, win0_0.index t = ![t.val, 0] ∧ win0_1.index t = ![0, 0] ∧ win0_2.index t = ![t.val, 0] :=
  (by decide +kernel : ∀ t : Fin grid0.N, _)

theorem ltN (n : Fin cfg0.N) : n.val < 8 := lt_of_lt_of_eq n.isLt N_0

/-- The row of the sequence at row `r` of point `n`'s block. -/
def rows (n : Fin cfg0.N) (r : Fin 512) : Fin 4096 := ⟨n.val * 512 + r.val, by have := ltN n; omega⟩

variable (m : (ℓ : Loc nD τ sig) → Buf (Elt Ideal) ℓ) (c : Dev nD)

/-- The arguments. -/
abbrev D : S4096x1024.Idx → EReal := m ((c.tc : Thread nD τ).loc main_arg0)
abbrev W : S2816x1024.Idx → EReal := m ((c.tc : Thread nD τ).loc main_arg1)

/-- The result. -/
def out (d : S4096x1024.Idx → EReal) (w : S2816x1024.Idx → EReal) : S4096x2816.Idx → EReal :=
  fun x => ∑ k : Fin 1024, d (ix2 (x 0) k) * w (ix2 (x 1) k)

variable {m c}

theorem iblk_d (n : Fin cfg0.N) (r : Fin 512) (k : Fin 1024) : iblk m c 0 n (ix2 r k : S512x1024.Idx) = D m c (ix2 (rows n r) k) := by
  blk_point [iblk, V, idx n, rows]

theorem iblk_w (n : Fin cfg0.N) (p : Fin 2816) (k : Fin 1024) : iblk m c 1 n (ix2 p k : S2816x1024.Idx) = W m c (ix2 p k) := by
  have hV : V m c (Pipeline.arrRef spec0 1) = truncf (F := Ideal) .bf16 (W m c) bitsLt_bf16_f32 := by
    unfold V
    after_results_simp <;> rfl
  refine Eq.trans (b := V m c (Pipeline.arrRef spec0 1) (ix2 p k : S2816x1024.Idx)) ?_ ?_
  · blk_point [iblk, idx n]
  · rw [hV]
    pointwise

/-- Every block is written once. -/
theorem final : (dats m 0 c).arrAt 2 cfg0.N = out (D m c) (W m c) := by
  refine (dats m 0 c).arrAt_eq_of_covers 2 _ (by decide +kernel) fun n _ y => ?_
  blk_simp
  rw [after0_2]
  unfold outsAt0
  frame_out
  idx_vars y
  refine (pay_apply _ _ _ _ _).trans ?_
  rw [pay1_apply, zero_add]
  simp only [iblk_d, iblk_w]
  refine Eq.trans (b := out (D m c) (W m c) (ix2 (rows n y0) y1)) rfl ?_
  generalize out (D m c) (W m c) = Y
  blk_point [idx n, rows]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (Gen.unchanged m g) (Gen.run_main m g)) fun r hr c => ⟨((hr.2 c).1 2).trans final, hr.1 c⟩

end Cert.DdKernelIdeal.Value

namespace Cert.DdRefIdeal.Value
open Cert.DdRefIdeal Cert.DdRefIdeal.Read Cert.DdKernelIdeal.Value

variable (x0 : S4096x1024.Idx → EReal) (x1 : S2816x1024.Idx → EReal)

theorem v3_out : val_main_v3 (F := Ideal) x0 x1 = out x0 x1 := by
  funext i
  idx_vars i
  unfold out
  pointwise [val_main_v3, val_main_v2]

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Value.run m g) fun r hr c => by
    obtain ⟨h1, h2⟩ := hr c
    refine ⟨h1.trans ?_, h2⟩
    rw [Read.val_main_v3_eq]
    exact v3_out _ _

end Cert.DdRefIdeal.Value

namespace Cert.Dd

/-- The reference runs and leaves its arguments; it has no semaphores. -/
theorem reference_frame : Cert.quiescent_DdRefIdeal := fun m g _ =>
  θ_run_mono (Cert.DdRefIdeal.Value.run (F := Ideal) m g) fun r hr => ⟨fun c => (hr c).2, sem_eq_zero_of_no_sems (by decide) r.2⟩

/-- The kernel computes the gradient at the second projection's input. -/
theorem algebraic : Cert.algebraic_DdKernelIdeal_DdRefIdeal := by
  intro m g m' g' _ hagree
  refine ⟨_, DdKernelIdeal.Value.kernel_run m g, θ_run_mono (DdRefIdeal.Value.reference_run m' g') fun r hr c => ?_⟩
  obtain ⟨e0, e1⟩ := hagree c
  obtain ⟨h1, h2⟩ := hr c
  rw [e0, e1] at h1
  exact ⟨h1, h2⟩

end Cert.Dd
end
-- ==== Proof.Dw.lean ====
/- The feed-forward's second projection's gradient at its weight: the kernel's accumulated blocks, the reference, and the two claims. -/
module

public import proofs.«01_k».proof.Proof.Proj
public import proofs.«01_k».proof.Proof.Gen.DwKernelIdeal.Frame
public import proofs.«01_k».proof.Proof.Gen.DwRefIdeal.Read
public import proofs.«01_k».proof.Proof.Gen.DwRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.DwKernelIdeal.Value
open Cert.DwKernelIdeal Cert.DwKernelIdeal.Gen
open Cert.Proj

theorem pay2_apply (p : S1024x1408.Idx → EReal) (a : S1408x1024.Idx → EReal) (d : S1024x1024.Idx → EReal) (i : Fin 1408) (q : Fin 1024) :
    k0_pay2 (F := Ideal) p a d (ix2 i q) = a (ix2 i q) + ∑ r : Fin 1024, p (ix2 r i) * d (ix2 r q) := by
  pointwise [k0_pay2]

theorem pay1_apply (i : Fin 1408) (q : Fin 1024) : k0_pay1 (F := Ideal) (ix2 i q) = 0 := by
  pointwise [k0_pay1]

theorem pay3_apply (a : S1408x1024.Idx → EReal) (i : Fin 1408) (q : Fin 1024) : k0_pay3 (F := Ideal) a (ix2 i q) = a (ix2 i q) := by
  pointwise [k0_pay3]

variable (m : (ℓ : Loc nD τ sig) → Buf (Elt Ideal) ℓ) (c : Dev nD)

theorem ltN (n : Fin cfg0.N) : n.val < 8 := lt_of_lt_of_eq n.isLt N_0

/-- The blocks a point reads, and the accumulated product after it. -/
abbrev blkP (n : Fin cfg0.N) : S1024x1408.Idx → EReal := iblk m c 0 n
abbrev blkD (n : Fin cfg0.N) : S1024x1024.Idx → EReal := iblk m c 1 n
abbrev acc (n : Fin cfg0.N) : S1408x1024.Idx → EReal := (outsAt0 m c n.val n.isLt).2

theorem acc_A (n : Fin cfg0.N) (h : n.val % 4 = 0) : acc m c n = k0_pay2 (F := Ideal) (blkP m c n) (k0_pay1 (F := Ideal)) (blkD m c n) := by
  unfold acc
  rw [outsAt0_A m c n h (by omega)]
  frame_out

theorem acc_step (n : Fin cfg0.N) (h : ¬ n.val % 4 = 0) :
    acc m c n = k0_pay2 (F := Ideal) (blkP m c n) (outsAt0 m c (n.val - 1) (by omega)).2 (blkD m c n) := by
  unfold acc
  by_cases h1 : n.val % 4 = 3
  · rw [outsAt0_C m c n h h1]
    frame_out
    rw [read_unread_whole]
  · rw [outsAt0_B m c n h h1]
    frame_out
    rw [read_unread_whole]

theorem outs0 (n : Fin cfg0.N) (h : n.val % 4 = 3) : (outsAt0 m c n.val n.isLt).1 = k0_pay3 (F := Ideal) (acc m c n) := by
  rw [acc_step m c n (by omega), outsAt0_C m c n (by omega) h]
  frame_out
  rw [read_unread_whole]

theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

/-- The arguments. -/
abbrev P : S4096x2816.Idx → EReal := m ((c.tc : Thread nD τ).loc main_arg0)
abbrev D : S4096x1024.Idx → EReal := m ((c.tc : Thread nD τ).loc main_arg1)

/-- The block of the weight's rows of a point. -/
def place (n : Fin cfg0.N) (i : Fin 1408) : Fin 2816 := ⟨n.val / 4 * 1408 + i.val, by have := ltN n; omega⟩

/-- The result, and one block of tokens' part of it. -/
def out (p : S4096x2816.Idx → EReal) (d : S4096x1024.Idx → EReal) : S2816x1024.Idx → EReal :=
  fun x => ∑ t : Fin 4096, p (ix2 t (x 0)) * d (ix2 t (x 1))
def share (p : S4096x2816.Idx → EReal) (d : S4096x1024.Idx → EReal) (i : Fin 2816) (q : Fin 1024) (b : Fin 4) : EReal :=
  ∑ r : Fin 1024, p (ix2 (row b r) i) * d (ix2 (row b r) q)

theorem sum_share (p : S4096x2816.Idx → EReal) (d : S4096x1024.Idx → EReal) (i : Fin 2816) (q : Fin 1024) :
    ∑ b : Fin 4, share p d i q b = out p d (ix2 i q) :=
  Fin.sum_mul_add_fin 4 1024 (fun t => p (ix2 t i) * d (ix2 t q)) rfl

variable {m c}

theorem iblk_p (n : Fin cfg0.N) (k : Fin 4) (hk : n.val % 4 = k.val) (r : Fin 1024) (i : Fin 1408) :
    blkP m c n (ix2 r i) = P m c (ix2 (row k r) (place n i)) := by
  have hV : V m c (Pipeline.arrRef spec0 0) = truncf (F := Ideal) .bf16 (P m c) bitsLt_bf16_f32 := by
    unfold V
    after_results_simp <;> rfl
  refine Eq.trans (b := V m c (Pipeline.arrRef spec0 0) (ix2 (row k r) (place n i) : S4096x2816.Idx)) ?_ ?_
  · have h0 := (idx n).1
    rw [hk] at h0
    unfold blkP
    blk_point [iblk, h0, row, place]
  · rw [hV]
    pointwise

theorem iblk_d (n : Fin cfg0.N) (k : Fin 4) (hk : n.val % 4 = k.val) (r q : Fin 1024) : blkD m c n (ix2 r q) = D m c (ix2 (row k r) q) := by
  have h0 := (idx n).2.1
  rw [hk] at h0
  unfold blkD
  blk_point [iblk, V, h0, row]

theorem acc_apply (n : Fin cfg0.N) (h : n.val % 4 = 3) (i : Fin 1408) (q : Fin 1024) : acc m c n (ix2 i q) = out (P m c) (D m c) (ix2 (place n i) q) := by
  have e := Pipeline.eq_sum_fin_of_reset_step_apply_of_flush (N := cfg0.N) (M := EReal) (ι := S1408x1024.Idx) (fun n h => (outsAt0 m c n h).2) 4 (fun _ => 0)
    (fun n x => share (P m c) (D m c) (place n (x 0)) (x 1) ⟨n.val % 4, by omega⟩)
    (fun n h0 x => by
      idx_vars x
      refine (congrFun (acc_A m c n h0) _).trans ((pay2_apply _ _ _ _ _).trans ?_)
      rw [pay1_apply]
      refine congrArg (0 + ·) (Finset.sum_congr rfl fun r _ => ?_)
      simp only [iblk_p n ⟨n.val % 4, by omega⟩ rfl, iblk_d n ⟨n.val % 4, by omega⟩ rfl])
    (fun n h0 x => by
      idx_vars x
      refine (congrFun (acc_step m c n h0) _).trans ((pay2_apply _ _ _ _ _).trans ?_)
      refine congrArg (_ + ·) (Finset.sum_congr rfl fun r _ => ?_)
      simp only [iblk_p n ⟨n.val % 4, by omega⟩ rfl, iblk_d n ⟨n.val % 4, by omega⟩ rfl])
    n h (ix2 i q)
  refine e.trans ?_
  rw [zero_add]
  refine Eq.trans (Finset.sum_congr rfl fun s _ => ?_) (sum_share (P m c) (D m c) (place n i) q)
  refine congrArg₂ (fun p b => share (P m c) (D m c) p q b) (Fin.ext ?_) (Fin.ext ?_)
  · show (4 * (n.val / 4) + s.val) / 4 * 1408 + i.val = n.val / 4 * 1408 + i.val
    omega
  · show (4 * (n.val / 4) + s.val) % 4 = s.val
    omega

theorem flush2 : ∀ t : Fin cfg0.N, win0_2.flush t = true → t.val % 4 = 3 := (by decide +kernel : ∀ t : Fin grid0.N, _)

/-- The last point of each block of rows writes it. -/
theorem final : (dats m 0 c).arrAt 2 cfg0.N = out (P m c) (D m c) := by
  refine (dats m 0 c).arrAt_eq_of_covers 2 _ (by decide +kernel) fun n hn y => ?_
  have h1 := flush2 n hn
  blk_simp
  rw [after0_2, outs0 m c n h1]
  idx_vars y
  refine Eq.trans (b := out (P m c) (D m c) (ix2 (place n y0) y1)) ?_ ?_
  · exact (pay3_apply _ _ _).trans (acc_apply n h1 _ _)
  · generalize out (P m c) (D m c) = Y
    blk_point [idx n, place]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (Gen.unchanged m g) (Gen.run_main m g)) fun r hr c => ⟨((hr.2 c).1 2).trans final, hr.1 c⟩

end Cert.DwKernelIdeal.Value

namespace Cert.DwRefIdeal.Value
open Cert.DwRefIdeal Cert.DwRefIdeal.Read Cert.DwKernelIdeal.Value

variable (x0 : S4096x2816.Idx → EReal) (x1 : S4096x1024.Idx → EReal)

theorem v4_out : val_main_v4 (F := Ideal) x0 x1 = out x0 x1 := by
  funext i
  idx_vars i
  unfold out
  pointwise [val_main_v4, val_main_v3, val_main_v2]
  exact Finset.sum_congr rfl fun t _ => mul_comm _ _

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v4) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Value.run m g) fun r hr c => by
    obtain ⟨h1, h2⟩ := hr c
    refine ⟨h1.trans ?_, h2⟩
    rw [Read.val_main_v4_eq]
    exact v4_out _ _

end Cert.DwRefIdeal.Value

namespace Cert.Dw

/-- The reference runs and leaves its arguments; it has no semaphores. -/
theorem reference_frame : Cert.quiescent_DwRefIdeal := fun m g _ =>
  θ_run_mono (Cert.DwRefIdeal.Value.run (F := Ideal) m g) fun r hr => ⟨fun c => (hr c).2, sem_eq_zero_of_no_sems (by decide) r.2⟩

/-- The kernel computes the gradient at the second projection's weight. -/
theorem algebraic : Cert.algebraic_DwKernelIdeal_DwRefIdeal := by
  intro m g m' g' _ hagree
  refine ⟨_, DwKernelIdeal.Value.kernel_run m g, θ_run_mono (DwRefIdeal.Value.reference_run m' g') fun r hr c => ?_⟩
  obtain ⟨e0, e1⟩ := hagree c
  obtain ⟨h1, h2⟩ := hr c
  rw [e0, e1] at h1
  exact ⟨h1, h2⟩

end Cert.Dw
end
-- ==== Proof.Opt.lean ====
/- The sum of the devices' parts of a weight's gradient and the optimiser's step: the kernel's blocks, the reference, and the two claims. -/
module

public import proofs.«01_k».proof.Proof.Gen.OptKernelIdeal.Frame
public import proofs.«01_k».proof.Proof.Gen.OptRefIdeal.Read
public import proofs.«01_k».proof.Proof.Gen.OptRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OptKernelIdeal.Value
open Cert.OptKernelIdeal Cert.OptKernelIdeal.Gen

/-- The first moment after a gradient. -/
def mom (g m : EReal) : EReal := Ideal.ofBits .f32 0x3F666666#32 * m + Ideal.ofBits .f32 0x3DCCCCCD#32 * g

/-- The second moment after a gradient. -/
def var (g v : EReal) : EReal := Ideal.ofBits .f32 0x3F7FBE77#32 * v + Ideal.ofBits .f32 0x3A83126F#32 * (g * g)

/-- What is added to the weight. -/
def step (g w m v : EReal) : EReal :=
  Ideal.ofBits .f32 0xBA83126F#32 * (Ideal.div (Ideal.div (mom g m) (Ideal.ofBits .f32 0x3F26BD02#32))
      (Ideal.sqrt (Ideal.div (var g v) (Ideal.ofBits .f32 0x3C231ACC#32)) + Ideal.ofBits .f32 0x322BCC77#32)
    + Ideal.ofBits .f32 0x3C23D70A#32 * w)

theorem emb_part (k : Fin 8) (hb) (r : Fin 352) (q : Fin 1024) : (Rect.unit (s := S8x352x1024) ![k.val, 0, 0] S1x352x1024.size hb).emb (ix3 0 r q) = ix3 k r q := by
  funext a
  refine Fin.ext ?_
  match a with
  | ⟨0, _⟩ => simp [Rect.emb, Rect.unit]
  | ⟨1, _⟩ => simp [Rect.emb, Rect.unit]
  | ⟨2, _⟩ => simp [Rect.emb, Rect.unit]

theorem pay4_apply (x : S8x352x1024.Idx → Elt Ideal .bf16) (r : Fin 352) (q : Fin 1024) :
    k0_pay4 (F := Ideal) (View.ld x r0_0) (View.ld x r0_1) (View.ld x r0_2) (View.ld x r0_3) (View.ld x r0_4) (View.ld x r0_5) (View.ld x r0_6) (View.ld x r0_7) (ix2 r q) = ∑ k : Fin 8, (x (ix3 k r q) : EReal) := by
  rw [Fin.sum_univ_eight]
  pointwise [k0_pay4]

theorem coord : ∀ t : Fin grid0.N, BitVec.ofNat 32 (grid0.coords t 0).val = BitVec.ofNat 32 t.val := by decide +kernel

theorem ltN (n : Fin cfg0.N) : n.val < 2 := lt_of_lt_of_eq n.isLt N_0

/-- At the first point the sum is that of the first layer's parts, at the second that of the second's. -/
theorem pay7_apply (n : Fin cfg0.N) (x0 x1 : S8x352x1024.Idx → Elt Ideal .bf16) (x2 x3 x4 : S352x1024.Idx → Elt Ideal .f32) (r : Fin 352) (q : Fin 1024) :
    k0_pay7 (F := Ideal) (grid0.coords n) x0 x1 x2 x3 x4 (ix2 r q) = (if n.val = 0 then ∑ k : Fin 8, (x0 (ix3 k r q) : EReal) else ∑ k : Fin 8, (x1 (ix3 k r q) : EReal)) := by
  unfold k0_pay7
  rw [coord n]
  by_cases h : n.val = 0
  · rw [h, if_pos rfl]
    exact pay4_apply x0 r q
  · rw [show n.val = 1 by have := ltN n; omega, if_neg (by decide)]
    exact pay4_apply x1 r q

theorem pay1_apply (g x : S352x1024.Idx → Elt Ideal .f32) (y : S352x1024.Idx) :
    k0_pay1 (F := Ideal) g (k0_pay6 x) (Scalar.ofBits .f32 0x3F666666#32) y = mom (g y) (x y) := by
  idx_vars y
  unfold mom
  pointwise [k0_pay1, k0_pay6]

theorem pay2_apply (g x : S352x1024.Idx → Elt Ideal .f32) (y : S352x1024.Idx) : k0_pay2 (F := Ideal) g x y = var (g y) (x y) := by
  idx_vars y
  unfold var
  pointwise [k0_pay2]

theorem pay3_apply (g w x v : S352x1024.Idx → Elt Ideal .f32) (y : S352x1024.Idx) :
    k0_pay3 (F := Ideal) g (k0_pay6 x) (Scalar.ofBits .f32 0x3F666666#32) v w y = step (g y) (w y) (x y) (v y) := by
  unfold step
  rw [← pay1_apply, ← pay2_apply]
  idx_vars y
  pointwise [k0_pay3]

theorem idx : ∀ t : Fin cfg0.N, win0_0.index t = ![0, 0, 0] ∧ win0_1.index t = ![0, 0, 0] ∧ win0_2.index t = ![t.val, 0] ∧ win0_3.index t = ![t.val, 0] ∧ win0_4.index t = ![t.val, 0]
    ∧ win0_5.index t = ![t.val, 0] ∧ win0_6.index t = ![t.val, 0] ∧ win0_7.index t = ![t.val, 0] ∧ win0_8.index t = ![t.val, 0] :=
  (by decide +kernel : ∀ t : Fin grid0.N, _)

/-- The row of the layers' rows at row `r` of point `n`'s block. -/
def rows (n : Fin cfg0.N) (r : Fin 352) : Fin 704 := ⟨n.val * 352 + r.val, by have := ltN n; omega⟩

/-- The sum of the devices' parts, layer after layer. -/
def grad (p0 p1 : S8x352x1024.Idx → EReal) (t : Fin 704) (q : Fin 1024) : EReal :=
  if h : t.val < 352 then ∑ k : Fin 8, p0 (ix3 k ⟨t.val, h⟩ q) else ∑ k : Fin 8, p1 (ix3 k ⟨t.val - 352, by omega⟩ q)

/-- An array of the layers by its rows. -/
def row (w : S2x352x1024.Idx → EReal) (t : Fin 704) (q : Fin 1024) : EReal := w (ix3 ⟨t.val / 352, by omega⟩ ⟨t.val % 352, by omega⟩ q)

/-- The sum of the devices' parts, layer after layer. -/
def outG (p0 p1 : S8x352x1024.Idx → EReal) : S704x1024.Idx → EReal := fun i => grad p0 p1 (i 0) (i 1)

/-- What is added to the weight. -/
def outD (p0 p1 : S8x352x1024.Idx → EReal) (w m v : S2x352x1024.Idx → EReal) : S704x1024.Idx → EReal := fun i => step (grad p0 p1 (i 0) (i 1)) (row w (i 0) (i 1)) (row m (i 0) (i 1)) (row v (i 0) (i 1))

/-- The new first moment. -/
def outM (p0 p1 : S8x352x1024.Idx → EReal) (m : S2x352x1024.Idx → EReal) : S704x1024.Idx → EReal := fun i => mom (grad p0 p1 (i 0) (i 1)) (row m (i 0) (i 1))

/-- The new second moment. -/
def outV (p0 p1 : S8x352x1024.Idx → EReal) (v : S2x352x1024.Idx → EReal) : S704x1024.Idx → EReal := fun i => var (grad p0 p1 (i 0) (i 1)) (row v (i 0) (i 1))

variable (m : (ℓ : Loc nD τ sig) → Buf (Elt Ideal) ℓ) (c : Dev nD)

/-- The arguments. -/
abbrev P0 : S8x352x1024.Idx → EReal := m ((c.tc : Thread nD τ).loc main_arg0)
abbrev P1 : S8x352x1024.Idx → EReal := m ((c.tc : Thread nD τ).loc main_arg1)
abbrev W : S2x352x1024.Idx → EReal := m ((c.tc : Thread nD τ).loc main_arg2)
abbrev M : S2x352x1024.Idx → EReal := m ((c.tc : Thread nD τ).loc main_arg3)
abbrev U : S2x352x1024.Idx → EReal := m ((c.tc : Thread nD τ).loc main_arg4)

variable {m c}

theorem iblk_p0 (n : Fin cfg0.N) (k : Fin 8) (r : Fin 352) (q : Fin 1024) : iblk m c 0 n (ix3 k r q : S8x352x1024.Idx) = P0 m c (ix3 k r q) := by
  have hV : V m c (Pipeline.arrRef spec0 0) = truncf (F := Ideal) .bf16 (P0 m c) bitsLt_bf16_f32 := by
    unfold V
    after_results_simp <;> rfl
  refine Eq.trans (b := V m c (Pipeline.arrRef spec0 0) (ix3 k r q : S8x352x1024.Idx)) ?_ ?_
  · blk_point [iblk, idx n]
  · rw [hV]
    rfl

theorem iblk_p1 (n : Fin cfg0.N) (k : Fin 8) (r : Fin 352) (q : Fin 1024) : iblk m c 1 n (ix3 k r q : S8x352x1024.Idx) = P1 m c (ix3 k r q) := by
  have hV : V m c (Pipeline.arrRef spec0 1) = truncf (F := Ideal) .bf16 (P1 m c) bitsLt_bf16_f32 := by
    unfold V
    after_results_simp <;> rfl
  refine Eq.trans (b := V m c (Pipeline.arrRef spec0 1) (ix3 k r q : S8x352x1024.Idx)) ?_ ?_
  · blk_point [iblk, idx n]
  · rw [hV]
    rfl

theorem iblk_w (n : Fin cfg0.N) (r : Fin 352) (q : Fin 1024) : iblk m c 2 n (ix2 r q : S352x1024.Idx) = row (W m c) (rows n r) q := by
  have hV : V m c (Pipeline.arrRef spec0 2) = shapeCast S704x1024 (W m c) shapeCasts_S2x352x1024_S704x1024 := by
    unfold V
    after_results_simp <;> rfl
  refine Eq.trans (b := V m c (Pipeline.arrRef spec0 2) (ix2 (rows n r) q : S704x1024.Idx)) ?_ ?_
  · blk_point [iblk, idx n, rows]
  · rw [hV]
    unfold row
    pointwise

theorem iblk_m (n : Fin cfg0.N) (r : Fin 352) (q : Fin 1024) : iblk m c 3 n (ix2 r q : S352x1024.Idx) = row (M m c) (rows n r) q := by
  have hV : V m c (Pipeline.arrRef spec0 3) = shapeCast S704x1024 (M m c) shapeCasts_S2x352x1024_S704x1024 := by
    unfold V
    after_results_simp <;> rfl
  refine Eq.trans (b := V m c (Pipeline.arrRef spec0 3) (ix2 (rows n r) q : S704x1024.Idx)) ?_ ?_
  · blk_point [iblk, idx n, rows]
  · rw [hV]
    unfold row
    pointwise

theorem iblk_u (n : Fin cfg0.N) (r : Fin 352) (q : Fin 1024) : iblk m c 4 n (ix2 r q : S352x1024.Idx) = row (U m c) (rows n r) q := by
  have hV : V m c (Pipeline.arrRef spec0 4) = shapeCast S704x1024 (U m c) shapeCasts_S2x352x1024_S704x1024 := by
    unfold V
    after_results_simp <;> rfl
  refine Eq.trans (b := V m c (Pipeline.arrRef spec0 4) (ix2 (rows n r) q : S704x1024.Idx)) ?_ ?_
  · blk_point [iblk, idx n, rows]
  · rw [hV]
    unfold row
    pointwise

/-- The sum at a point is the layer's. -/
theorem grad_apply (n : Fin cfg0.N) (r : Fin 352) (q : Fin 1024) :
    k0_pay7 (F := Ideal) (grid0.coords n) (iblk m c 0 n) (iblk m c 1 n) (iblk m c 2 n) (iblk m c 3 n) (iblk m c 4 n) (ix2 r q) = grad (P0 m c) (P1 m c) (rows n r) q := by
  rw [pay7_apply]
  simp only [iblk_p0, iblk_p1]
  have := ltN n
  unfold grad rows
  by_cases h : n.val = 0
  · rw [if_pos h, dif_pos (show n.val * 352 + r.val < 352 by omega)]
    exact Finset.sum_congr rfl fun k _ => congrArg (fun t => P0 m c (ix3 k t q)) (Fin.ext (show r.val = n.val * 352 + r.val by omega))
  · rw [if_neg h, dif_neg (show ¬ n.val * 352 + r.val < 352 by omega)]
    exact Finset.sum_congr rfl fun k _ => congrArg (fun t => P1 m c (ix3 k t q)) (Fin.ext (show r.val = n.val * 352 + r.val - 352 by omega))

theorem final5 : (dats m 0 c).arrAt 5 cfg0.N = outG (P0 m c) (P1 m c) := by
  refine (dats m 0 c).arrAt_eq_of_covers 5 _ (by decide +kernel) fun n _ y => ?_
  blk_simp
  rw [after0_5]
  unfold out0_5
  frame_out
  idx_vars y
  refine (grad_apply n y0 y1).trans ?_
  refine Eq.trans (b := outG (P0 m c) (P1 m c) (ix2 (rows n y0) y1)) rfl ?_
  generalize outG (P0 m c) (P1 m c) = Y
  blk_point [idx n, rows]

theorem final6 : (dats m 0 c).arrAt 6 cfg0.N = outD (P0 m c) (P1 m c) (W m c) (M m c) (U m c) := by
  refine (dats m 0 c).arrAt_eq_of_covers 6 _ (by decide +kernel) fun n _ y => ?_
  blk_simp
  rw [after0_6]
  unfold out0_6 k0_pay8
  frame_out
  idx_vars y
  refine (pay3_apply _ _ _ _ _).trans ?_
  rw [grad_apply, iblk_w, iblk_m, iblk_u]
  refine Eq.trans (b := outD (P0 m c) (P1 m c) (W m c) (M m c) (U m c) (ix2 (rows n y0) y1)) rfl ?_
  generalize outD (P0 m c) (P1 m c) (W m c) (M m c) (U m c) = Y
  blk_point [idx n, rows]

theorem final7 : (dats m 0 c).arrAt 7 cfg0.N = outM (P0 m c) (P1 m c) (M m c) := by
  refine (dats m 0 c).arrAt_eq_of_covers 7 _ (by decide +kernel) fun n _ y => ?_
  blk_simp
  rw [after0_7]
  unfold out0_7 k0_pay8
  frame_out
  idx_vars y
  refine (pay1_apply _ _ _).trans ?_
  rw [grad_apply, iblk_m]
  refine Eq.trans (b := outM (P0 m c) (P1 m c) (M m c) (ix2 (rows n y0) y1)) rfl ?_
  generalize outM (P0 m c) (P1 m c) (M m c) = Y
  blk_point [idx n, rows]

theorem final8 : (dats m 0 c).arrAt 8 cfg0.N = outV (P0 m c) (P1 m c) (U m c) := by
  refine (dats m 0 c).arrAt_eq_of_covers 8 _ (by decide +kernel) fun n _ y => ?_
  blk_simp
  rw [after0_8]
  unfold out0_8
  frame_out
  idx_vars y
  refine (pay2_apply _ _ _).trans ?_
  rw [grad_apply, iblk_u]
  refine Eq.trans (b := outV (P0 m c) (P1 m c) (U m c) (ix2 (rows n y0) y1)) rfl ?_
  generalize outV (P0 m c) (P1 m c) (U m c) = Y
  blk_point [idx n, rows]

/-- The kernel ends with the four. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v5_0) = outG (m ((c.tc : Thread nD τ).loc main_arg0)) (m ((c.tc : Thread nD τ).loc main_arg1))
      ∧ r.2.mem ((c.tc : Thread nD τ).loc main_v5_1) = outD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v5_2) = outM (m ((c.tc : Thread nD τ).loc main_arg0)) (m ((c.tc : Thread nD τ).loc main_arg1)) (m ((c.tc : Thread nD τ).loc main_arg3))
      ∧ r.2.mem ((c.tc : Thread nD τ).loc main_v5_3) = outV (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (θ_run_and (Gen.unchanged m g) (Gen.run_main m g)) fun r hr c =>
    ⟨((hr.2 c).1 5).trans final5, ((hr.2 c).1 6).trans final6, ((hr.2 c).1 7).trans final7, ((hr.2 c).1 8).trans final8, hr.1 c⟩

end Cert.OptKernelIdeal.Value

namespace Cert.OptRefIdeal.Value
open Cert.OptRefIdeal Cert.OptRefIdeal.Read Cert.OptKernelIdeal.Value

variable (x0 x1 : S8x352x1024.Idx → EReal) (x2 x3 x4 : S2x352x1024.Idx → EReal)

/-- The sum of a layer's parts. -/
def part (k : Fin 2) (r : Fin 352) (q : Fin 1024) : EReal := if k.val = 0 then ∑ d : Fin 8, x0 (ix3 d r q) else ∑ d : Fin 8, x1 (ix3 d r q)

theorem v4_apply (k : Fin 2) (r : Fin 352) (q : Fin 1024) : val_main_v4 (F := Ideal) x0 x1 (ix3 k r q) = part x0 x1 k r q := by
  unfold part
  pointwise [val_main_v4, val_main_v3, val_main_v2, val_main_v1, val_main_v0, val_main_cst, val_main_cst_0]
  by_cases h : k.val = 0
  · rw [dif_pos (show k.val < 1 by omega), if_pos h]
  · rw [dif_neg (show ¬ k.val < 1 by omega), if_neg h]

theorem v9_apply (k : Fin 2) (r : Fin 352) (q : Fin 1024) : val_main_v9 (F := Ideal) x0 x1 x3 (ix3 k r q) = mom (part x0 x1 k r q) (x3 (ix3 k r q)) := by
  rw [← v4_apply]
  unfold mom
  pointwise [val_main_v9, val_main_v8, val_main_v7, val_main_v6, val_main_v5, val_main_cst_1, val_main_cst_2]

theorem v15_apply (k : Fin 2) (r : Fin 352) (q : Fin 1024) : val_main_v15 (F := Ideal) x0 x1 x4 (ix3 k r q) = var (part x0 x1 k r q) (x4 (ix3 k r q)) := by
  rw [← v4_apply]
  unfold var
  pointwise [val_main_v15, val_main_v14, val_main_v13, val_main_v12, val_main_v11, val_main_v10, val_main_cst_3, val_main_cst_4]

theorem v28_apply (k : Fin 2) (r : Fin 352) (q : Fin 1024) :
    val_main_v28 (F := Ideal) x0 x1 x2 x3 x4 (ix3 k r q) = step (part x0 x1 k r q) (x2 (ix3 k r q)) (x3 (ix3 k r q)) (x4 (ix3 k r q)) := by
  unfold step
  rw [← v9_apply, ← v15_apply]
  pointwise [val_main_v28, val_main_v27, val_main_v26, val_main_v25, val_main_v24, val_main_v23, val_main_v22, val_main_v21, val_main_v20, val_main_v19, val_main_v18,
    val_main_v17, val_main_v16, val_main_cst_5, val_main_cst_6, val_main_cst_7, val_main_cst_8, val_main_cst_9]

theorem part_row (t : Fin 704) (q : Fin 1024) : part x0 x1 ⟨t.val / 352, by omega⟩ ⟨t.val % 352, by omega⟩ q = grad x0 x1 t q := by
  unfold part grad
  dsimp only
  by_cases h : t.val < 352
  · rw [if_pos (show t.val / 352 = 0 by omega), dif_pos h]
    exact Finset.sum_congr rfl fun k _ => congrArg (fun s => x0 (ix3 k s q)) (Fin.ext (show t.val % 352 = t.val by omega))
  · rw [if_neg (show ¬ t.val / 352 = 0 by omega), dif_neg h]
    exact Finset.sum_congr rfl fun k _ => congrArg (fun s => x1 (ix3 k s q)) (Fin.ext (show t.val % 352 = t.val - 352 by omega))

theorem v29_out : val_main_v29 (F := Ideal) x0 x1 = outG x0 x1 := by
  funext i
  idx_vars i
  refine Eq.trans (b := val_main_v4 (F := Ideal) x0 x1 (ix3 ⟨i0.val / 352, by omega⟩ ⟨i0.val % 352, by omega⟩ i1)) ?_ ?_
  · pointwise [val_main_v29]
  · rw [v4_apply, part_row]
    rfl

theorem v30_out : val_main_v30 (F := Ideal) x0 x1 x2 x3 x4 = outD x0 x1 x2 x3 x4 := by
  funext i
  idx_vars i
  refine Eq.trans (b := val_main_v28 (F := Ideal) x0 x1 x2 x3 x4 (ix3 ⟨i0.val / 352, by omega⟩ ⟨i0.val % 352, by omega⟩ i1)) ?_ ?_
  · pointwise [val_main_v30]
  · rw [v28_apply, part_row]
    rfl

theorem v31_out : val_main_v31 (F := Ideal) x0 x1 x3 = outM x0 x1 x3 := by
  funext i
  idx_vars i
  refine Eq.trans (b := val_main_v9 (F := Ideal) x0 x1 x3 (ix3 ⟨i0.val / 352, by omega⟩ ⟨i0.val % 352, by omega⟩ i1)) ?_ ?_
  · pointwise [val_main_v31]
  · rw [v9_apply, part_row]
    rfl

theorem v32_out : val_main_v32 (F := Ideal) x0 x1 x4 = outV x0 x1 x4 := by
  funext i
  idx_vars i
  refine Eq.trans (b := val_main_v15 (F := Ideal) x0 x1 x4 (ix3 ⟨i0.val / 352, by omega⟩ ⟨i0.val % 352, by omega⟩ i1)) ?_ ?_
  · pointwise [val_main_v32]
  · rw [v15_apply, part_row]
    rfl

/-- The reference ends with the four. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v29) = outG (m ((c.tc : Thread nD τ).loc main_arg0)) (m ((c.tc : Thread nD τ).loc main_arg1))
      ∧ r.2.mem ((c.tc : Thread nD τ).loc main_v30) = outD (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v31) = outM (m ((c.tc : Thread nD τ).loc main_arg0)) (m ((c.tc : Thread nD τ).loc main_arg1)) (m ((c.tc : Thread nD τ).loc main_arg3))
      ∧ r.2.mem ((c.tc : Thread nD τ).loc main_v32) = outV (m ((c.tc : Thread nD τ).loc main_arg0)) (m ((c.tc : Thread nD τ).loc main_arg1)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  θ_run_mono (Value.run m g) fun r hr c => by
    obtain ⟨h1, h2, h3, h4, h5⟩ := hr c
    refine ⟨h1.trans ?_, h2.trans ?_, h3.trans ?_, h4.trans ?_, h5⟩
    · rw [Read.val_main_v29_eq]
      exact v29_out _ _
    · rw [Read.val_main_v30_eq]
      exact v30_out _ _ _ _ _
    · rw [Read.val_main_v31_eq]
      exact v31_out _ _ _
    · rw [Read.val_main_v32_eq]
      exact v32_out _ _ _

end Cert.OptRefIdeal.Value

namespace Cert.Opt

/-- The reference runs and leaves its arguments; it has no semaphores. -/
theorem reference_frame : Cert.quiescent_OptRefIdeal := fun m g _ =>
  θ_run_mono (Cert.OptRefIdeal.Value.run (F := Ideal) m g) fun r hr => ⟨fun c => (hr c).2.2.2.2, sem_eq_zero_of_no_sems (by decide) r.2⟩

/-- The kernel sums the devices' parts and computes the optimiser's step and its two moments. -/
theorem algebraic : Cert.algebraic_OptKernelIdeal_OptRefIdeal := by
  intro m g m' g' _ hagree
  refine ⟨_, _, _, _, OptKernelIdeal.Value.kernel_run m g, θ_run_mono (OptRefIdeal.Value.reference_run m' g') fun r hr c => ?_⟩
  obtain ⟨e0, e1, e2, e3, e4⟩ := hagree c
  obtain ⟨h1, h2, h3, h4, h5⟩ := hr c
  rw [e0, e1] at h1
  rw [e0, e1, e2, e3, e4] at h2
  rw [e0, e1, e3] at h3
  rw [e0, e1, e4] at h4
  exact ⟨h1, h2, h3, h4, h5⟩

end Cert.Opt
end
-- ==== Proof.Put.lean ====
/- The time steps' gradient written into the columns of the Mamba input's gradient: the kernel's blocks, the reference, and the two claims. -/
module

public import proofs.«01_k».proof.Proof.Gen.PutKernelIdeal.Frame
public import proofs.«01_k».proof.Proof.Gen.PutRefIdeal.Read
public import proofs.«01_k».proof.Proof.Gen.PutRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.PutKernelIdeal.Value
open Cert.PutKernelIdeal Cert.PutKernelIdeal.Gen

theorem pay1_apply (x : S512x256.Idx → EReal) (r : Fin 512) (q : Fin 256) : k0_pay1 (F := Ideal) x (ix2 r q) = x (ix2 r q) := by
  pointwise [k0_pay1]

theorem idx : ∀ t : Fin cfg0.N, win0_0.index t = ![t.val, 0] ∧ win0_1.index t = ![t.val, 20] :=
  (by decide +kernel : ∀ t : Fin grid0.N, _)

theorem ltN (n : Fin cfg0.N) : n.val < 8 := lt_of_lt_of_eq n.isLt N_0

/-- The row of the sequence at row `r` of point `n`'s block. -/
def rows (n : Fin cfg0.N) (r : Fin 512) : Fin 4096 := ⟨n.val * 512 + r.val, by have := ltN n; omega⟩

/-- The column of the result at column `q` of a block. -/
def cols (q : Fin 256) : Fin 5376 := ⟨20 * 256 + q.val, by omega⟩

variable (m : (ℓ : Loc nD τ sig) → Buf (Elt Ideal) ℓ) (c : Dev nD)

/-- The arguments. -/
abbrev Z : S4096x5376.Idx → EReal := m ((c.tc : Thread nD τ).loc main_arg0)
abbrev D : S4096x32.Idx → EReal := m ((c.tc : Thread nD τ).loc main_arg1)

/-- The value filled in. -/
theorem pad_zero : (FloatOps.sitofp (F := Ideal) .bf16 (0#32 : BitVec 32) : EReal) = 0 := by
  show ((((0#32 : BitVec 32).toInt : ℤ) : ℝ) : EReal) = 0
  simp

/-- A row of the time steps' gradient, or past its last column of zeros. -/
def wide (d : S4096x32.Idx → EReal) (t : Fin 4096) (q : ℕ) : EReal := if h : q < 32 then d (ix2 t ⟨q, h⟩) else 0

/-- The result. -/
def out (z : S4096x5376.Idx → EReal) (d : S4096x32.Idx → EReal) : S4096x5376.Idx → EReal :=
  fun i => if 5120 ≤ (i 1).val then wide d (i 0) ((i 1).val - 5120) else z i

variable {m c}

theorem iblk_d (n : Fin cfg0.N) (r : Fin 512) (q : Fin 256) : iblk m c 0 n (ix2 r q : S512x256.Idx) = wide (D m c) (rows n r) q.val := by
  have hV : V m c (Pipeline.arrRef spec0 0) = pad S4096x256 ![0, 0] ![0, 224] ![0, 0] (truncf (F := Ideal) .bf16 (D m c) bitsLt_bf16_f32)
      (sitofp (F := Ideal) .bf16 (constantI S_ 32 0#32)) pads_S4096x32_S4096x256_000_02240 h_S_ := by
    unfold V
    after_results_simp <;> rfl
  refine Eq.trans (b := V m c (Pipeline.arrRef spec0 0) (ix2 (rows n r) q : S4096x256.Idx)) ?_ ?_
  · blk_point [iblk, idx n, rows]
  · rw [hV]
    unfold wide
    pointwise
    split
    · rfl
    · exact pad_zero

/-- The columns' blocks are each written once; the array held the other columns before. -/
theorem final : (dats m 0 c).arrAt 1 cfg0.N = out (Z m c) (D m c) := by
  refine (dats m 0 c).arrAt_eq_of_coversWhere_of_agree 1 _ (fun β => β (1 : Fin 2) = 20) (by decide +kernel) (fun n _ y => ?_) (fun j hj => ?_)
  · blk_simp
    rw [after0_1]
    unfold outsAt0
    frame_out
    refine Eq.trans (b := k0_pay1 (F := Ideal) (iblk m c 0 n) ((win0 1).xinj (grid0.coords n) y)) rfl ?_
    generalize e : (win0 1).xinj (grid0.coords n) y = z
    have e0 : (y 0).val = (z 0).val := by rw [← e]
    have e1 : (y 1).val = (z 1).val := by rw [← e]
    idx_vars z
    refine (pay1_apply (iblk m c 0 n) z0 z1).trans ((iblk_d n z0 z1).trans ?_)
    refine Eq.trans (b := out (Z m c) (D m c) (ix2 (rows n z0) (cols z1))) ?_ (congrArg (out (Z m c) (D m c)) ?_)
    · refine Eq.trans ?_ (if_pos (show 5120 ≤ 20 * 256 + z1.val by omega)).symm
      exact congrArg (wide _ _) (show z1.val = 20 * 256 + z1.val - 5120 by omega)
    · funext a
      refine Fin.ext ?_
      match a with
      | ⟨0, _⟩ =>
        refine Eq.symm ?_
        blk_simp [idx n]
        exact congrArg (n.val * 512 + ·) e0
      | ⟨1, _⟩ =>
        refine Eq.symm ?_
        blk_simp [idx n]
        exact congrArg (20 * 256 + ·) e1
  · blk_simp [Pipeline.Window.cell_apply] at hj ⊢
    have hV : (dats m 0 c).A 1 = truncf (F := Ideal) .bf16 (Z m c) bitsLt_bf16_f32 := by
      rw [A_eq]
      unfold V
      after_results_simp <;> rfl
    rw [hV]
    refine Eq.trans ?_ (if_neg ?_).symm
    · rfl
    · intro h
      have h1 : (j 1).val < 5376 := (j 1).isLt
      omega

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (θ_run_and (Gen.unchanged m g) (Gen.run_main m g)) fun r hr c => ⟨((hr.2 c).1 1).trans final, hr.1 c⟩

end Cert.PutKernelIdeal.Value

namespace Cert.PutRefIdeal.Value
open Cert.PutRefIdeal Cert.PutRefIdeal.Read Cert.PutKernelIdeal.Value

theorem v3_out (x0 : S4096x5376.Idx → EReal) (x1 : S4096x32.Idx → EReal) : val_main_v3 (F := Ideal) x0 x1 = out x0 x1 := by
  funext i
  idx_vars i
  refine Eq.trans (b := if 5120 ≤ i1.val then wide x1 i0 (i1.val - 5120) else x0 (ix2 i0 i1)) ?_ rfl
  unfold wide
  pointwise [val_main_v3, val_main_v2, val_main_v1, val_main_v0, val_main_cst]
  by_cases h : i1.val < 5120
  · rw [dif_pos h, if_neg (show ¬ 5120 ≤ i1.val by omega)]
  · rw [dif_neg h, if_pos (show 5120 ≤ i1.val by omega)]

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  θ_run_mono (Value.run m g) fun r hr c => by
    obtain ⟨h1, h2⟩ := hr c
    refine ⟨h1.trans ?_, h2⟩
    rw [Read.val_main_v3_eq]
    exact v3_out _ _

end Cert.PutRefIdeal.Value

namespace Cert.Put

/-- The reference runs and leaves its arguments; it has no semaphores. -/
theorem reference_frame : Cert.quiescent_PutRefIdeal := fun m g _ =>
  θ_run_mono (Cert.PutRefIdeal.Value.run (F := Ideal) m g) fun r hr => ⟨fun c => (hr c).2, sem_eq_zero_of_no_sems (by decide) r.2⟩

/-- The kernel writes the columns of the time steps' gradient, zeros to the block's end, and keeps the others. -/
theorem algebraic : Cert.algebraic_PutKernelIdeal_PutRefIdeal := by
  intro m g m' g' _ hagree
  refine ⟨_, PutKernelIdeal.Value.kernel_run m g, θ_run_mono (PutRefIdeal.Value.reference_run m' g') fun r hr c => ?_⟩
  obtain ⟨e0, e1⟩ := hagree c
  obtain ⟨h1, h2⟩ := hr c
  rw [e0, e1] at h1
  exact ⟨h1, h2⟩

end Cert.Put
end
-- ==== Proof.Stk.lean ====
/- The devices' rows stacked over rows of zeros: the kernel's blocks, the reference, and the two claims. -/
module

public import proofs.«01_k».proof.Proof.Gen.StkKernelIdeal.Frame
public import proofs.«01_k».proof.Proof.Gen.StkRefIdeal.Read
public import proofs.«01_k».proof.Proof.Gen.StkRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.StkKernelIdeal.Value
open Cert.StkKernelIdeal Cert.StkKernelIdeal.Gen

theorem emb_part (k : Fin 8) (hb) (r : Fin 644) (q : Fin 256) : (Rect.unit (s := S8x644x256) ![k.val, 0, 0] S1x644x256.size hb).emb (ix3 0 r q) = ix3 k r q := by
  funext a
  refine Fin.ext ?_
  match a with
  | ⟨0, _⟩ => simp [Rect.emb, Rect.unit]
  | ⟨1, _⟩ => simp [Rect.emb, Rect.unit]
  | ⟨2, _⟩ => simp [Rect.emb, Rect.unit]

theorem emb_rows (k : Fin 8) (hb) (r : Fin 644) (q : Fin 256) :
    (Rect.unit (s := S5376x256) ![k.val * 644, 0] S644x256.size hb).emb (ix2 r q) = ix2 ⟨k.val * 644 + r.val, by omega⟩ q := by
  funext a
  refine Fin.ext ?_
  match a with
  | ⟨0, _⟩ => simp [Rect.emb, Rect.unit]
  | ⟨1, _⟩ => simp [Rect.emb, Rect.unit]

theorem pay3_apply (x : S1x644x256.Idx → Elt Ideal .bf16) (r : Fin 644) (q : Fin 256) : k0_pay3 (F := Ideal) x (ix2 r q) = x (ix3 0 r q) := by
  pointwise [k0_pay3]

theorem pay2_apply (y : S224x256.Idx) : k0_pay2 (F := Ideal) y = (0 : EReal) := by
  idx_vars y
  pointwise [k0_pay2]

/-- A block's rows stacked over rows of zeros. -/
def stack (x : S8x644x256.Idx → Elt Ideal .bf16) : S5376x256.Idx → Elt Ideal .bf16 := fun y =>
  if h : (y 0).val < 5152 then x (ix3 ⟨(y 0).val / 644, by omega⟩ ⟨(y 0).val % 644, by omega⟩ (y 1)) else (0 : EReal)

theorem piece (x : S8x644x256.Idx → Elt Ideal .bf16) (k : Fin 8) (hb) (hb') (y : S644x256.Idx) :
    k0_pay3 (F := Ideal) (View.ld x (Rect.unit (s := S8x644x256) ![k.val, 0, 0] S1x644x256.size hb)) y
      = stack x ((Rect.unit (s := S5376x256) ![k.val * 644, 0] S644x256.size hb').emb y) := by
  idx_vars y
  refine (pay3_apply _ _ _).trans ((congrArg x (emb_part k hb y0 y1)).trans (Eq.trans ?_ (congrArg (stack x) (emb_rows k hb' y0 y1)).symm))
  refine Eq.trans ?_ (dif_pos (show k.val * 644 + y0.val < 5152 by omega)).symm
  exact congrArg₂ (fun k r => x (ix3 k r y1)) (Fin.ext (show k.val = (k.val * 644 + y0.val) / 644 by omega)) (Fin.ext (show y0.val = (k.val * 644 + y0.val) % 644 by omega))

theorem rest (x : S8x644x256.Idx → Elt Ideal .bf16) (hb) (y : S224x256.Idx) :
    k0_pay2 (F := Ideal) y = stack x ((Rect.unit (s := S5376x256) ![5152, 0] S224x256.size hb).emb y) := by
  refine (pay2_apply y).trans (Eq.trans ?_ (dif_neg ?_).symm)
  · rfl
  · simp [Rect.emb, Rect.unit]

theorem idx : ∀ t : Fin cfg0.N, win0_0.index t = ![0, 0, t.val] ∧ win0_1.index t = ![0, t.val] :=
  (by decide +kernel : ∀ t : Fin grid0.N, _)

theorem ltN (n : Fin cfg0.N) : n.val < 4 := lt_of_lt_of_eq n.isLt N_0

/-- The column at column `q` of point `n`'s block. -/
def cols (n : Fin cfg0.N) (q : Fin 256) : Fin 1024 := ⟨n.val * 256 + q.val, by have := ltN n; omega⟩

variable (m : (ℓ : Loc nD τ sig) → Buf (Elt Ideal) ℓ) (c : Dev nD)

/-- The argument. -/
abbrev X : S8x644x1024.Idx → EReal := m ((c.tc : Thread nD τ).loc main_arg0)

/-- The result. -/
def out (x : S8x644x1024.Idx → EReal) : S5376x1024.Idx → EReal := fun i =>
  if h : (i 0).val < 5152 then x (ix3 ⟨(i 0).val / 644, by omega⟩ ⟨(i 0).val % 644, by omega⟩ (i 1)) else 0

variable {m c}

theorem iblk_x (n : Fin cfg0.N) (k : Fin 8) (r : Fin 644) (q : Fin 256) : iblk m c 0 n (ix3 k r q : S8x644x256.Idx) = X m c (ix3 k r (cols n q)) := by
  have hV : V m c (Pipeline.arrRef spec0 0) = truncf (F := Ideal) .bf16 (X m c) bitsLt_bf16_f32 := by
    unfold V
    after_results_simp <;> rfl
  refine Eq.trans (b := V m c (Pipeline.arrRef spec0 0) (ix3 k r (cols n q) : S8x644x1024.Idx)) ?_ ?_
  · blk_point [iblk, idx n, cols]
  · rw [hV]
    rfl

theorem outs (n : Fin cfg0.N) (y : S5376x256.Idx) : outsAt0 m c n y = stack (iblk m c 0 n) y := by
  unfold outsAt0
  frame_out
  exact View.canon_append_of_piecesOf (stack (iblk m c 0 n)) [] [_, _, _, _, _, _, _, _, _]
    ⟨rest (iblk m c 0 n) inb_S5376x256_S224x256_5152_0, piece (iblk m c 0 n) 7 inb_S8x644x256_S1x644x256_7_0_0 inb_S5376x256_S644x256_4508_0,
      piece (iblk m c 0 n) 6 inb_S8x644x256_S1x644x256_6_0_0 inb_S5376x256_S644x256_3864_0,
      piece (iblk m c 0 n) 5 inb_S8x644x256_S1x644x256_5_0_0 inb_S5376x256_S644x256_3220_0,
      piece (iblk m c 0 n) 4 inb_S8x644x256_S1x644x256_4_0_0 inb_S5376x256_S644x256_2576_0,
      piece (iblk m c 0 n) 3 inb_S8x644x256_S1x644x256_3_0_0 inb_S5376x256_S644x256_1932_0,
      piece (iblk m c 0 n) 2 inb_S8x644x256_S1x644x256_2_0_0 inb_S5376x256_S644x256_1288_0,
      piece (iblk m c 0 n) 1 inb_S8x644x256_S1x644x256_1_0_0 inb_S5376x256_S644x256_644_0,
      piece (iblk m c 0 n) 0 inb_S8x644x256_S1x644x256_0_0_0 inb_S5376x256_S644x256_0_0, trivial⟩ y
    (View.cover_of_tiledBy _ ![28, 256] (by sl_kernel_rfl) y)

/-- Every block is written once. -/
theorem final : (dats m 0 c).arrAt 1 cfg0.N = out (X m c) := by
  refine (dats m 0 c).arrAt_eq_of_covers 1 _ (by decide +kernel) fun n _ y => ?_
  blk_simp
  rw [after0_1]
  idx_vars y
  refine (outs n _).trans ?_
  refine Eq.trans (b := out (X m c) (ix2 y0 (cols n y1))) ?_ ?_
  · refine Eq.trans (b := if h : y0.val < 5152 then iblk m c 0 n (ix3 ⟨y0.val / 644, by omega⟩ ⟨y0.val % 644, by omega⟩ y1 : S8x644x256.Idx) else (0 : EReal)) rfl ?_
    simp only [iblk_x]
    rfl
  · generalize out (X m c) = Y
    blk_point [idx n, cols]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = out (m ((c.tc : Thread nD τ).loc main_arg0))
      ∧ r.2.mem ((c.tc : Thread nD τ).loc main_arg0) = m ((c.tc : Thread nD τ).loc main_arg0) :=
  θ_run_mono (θ_run_and (Gen.unchanged m g) (Gen.run_main m g)) fun r hr c => ⟨((hr.2 c).1 1).trans final, hr.1 c⟩

end Cert.StkKernelIdeal.Value

namespace Cert.StkRefIdeal.Value
open Cert.StkRefIdeal Cert.StkRefIdeal.Read Cert.StkKernelIdeal.Value

theorem v3_out (x0 : S8x644x1024.Idx → EReal) : val_main_v3 (F := Ideal) x0 = out x0 := by
  funext i
  idx_vars i
  refine Eq.trans (b := if h : i0.val < 5152 then x0 (ix3 ⟨i0.val / 644, by omega⟩ ⟨i0.val % 644, by omega⟩ i1) else 0) ?_ rfl
  pointwise [val_main_v3, val_main_v2, val_main_v1, val_main_v0, val_main_cst]

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v3) = out (m ((c.tc : Thread nD τ).loc main_arg0))
      ∧ r.2.mem ((c.tc : Thread nD τ).loc main_arg0) = m ((c.tc : Thread nD τ).loc main_arg0) :=
  θ_run_mono (Value.run m g) fun r hr c => by
    obtain ⟨h1, h2⟩ := hr c
    refine ⟨h1.trans ?_, h2⟩
    rw [Read.val_main_v3_eq]
    exact v3_out _

end Cert.StkRefIdeal.Value

namespace Cert.Stk

/-- The reference runs and leaves its arguments; it has no semaphores. -/
theorem reference_frame : Cert.quiescent_StkRefIdeal := fun m g _ =>
  θ_run_mono (Cert.StkRefIdeal.Value.run (F := Ideal) m g) fun r hr => ⟨fun c => (hr c).2, sem_eq_zero_of_no_sems (by decide) r.2⟩

/-- The kernel stacks the devices' rows over rows of zeros. -/
theorem algebraic : Cert.algebraic_StkKernelIdeal_StkRefIdeal := by
  intro m g m' g' _ hagree
  refine ⟨_, StkKernelIdeal.Value.kernel_run m g, θ_run_mono (StkRefIdeal.Value.reference_run m' g') fun r hr c => ?_⟩
  have e0 := hagree c
  obtain ⟨h1, h2⟩ := hr c
  rw [e0] at h1
  exact ⟨h1, h2⟩

end Cert.Stk
end
-- ==== Proof.Uns.lean ====
/- The stacked rows taken apart: the kernel's blocks, the reference, and the two claims. -/
module

public import proofs.«01_k».proof.Proof.Gen.UnsKernelIdeal.Frame
public import proofs.«01_k».proof.Proof.Gen.UnsRefIdeal.Read
public import proofs.«01_k».proof.Proof.Gen.UnsRefIdeal.Run
public import proofs.«01_k».proof.Defs
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.UnsKernelIdeal.Value
open Cert.UnsKernelIdeal Cert.UnsKernelIdeal.Gen

theorem emb_part (k : Fin 8) (hb) (r : Fin 644) (q : Fin 256) : (Rect.unit (s := S8x644x256) ![k.val, 0, 0] S1x644x256.size hb).emb (ix3 0 r q) = ix3 k r q := by
  funext a
  refine Fin.ext ?_
  match a with
  | ⟨0, _⟩ => simp [Rect.emb, Rect.unit]
  | ⟨1, _⟩ => simp [Rect.emb, Rect.unit]
  | ⟨2, _⟩ => simp [Rect.emb, Rect.unit]

theorem emb_rows (k : Fin 8) (hb) (r : Fin 644) (q : Fin 256) :
    (Rect.unit (s := S5376x256) ![k.val * 644, 0] S644x256.size hb).emb (ix2 r q) = ix2 ⟨k.val * 644 + r.val, by omega⟩ q := by
  funext a
  refine Fin.ext ?_
  match a with
  | ⟨0, _⟩ => simp [Rect.emb, Rect.unit]
  | ⟨1, _⟩ => simp [Rect.emb, Rect.unit]

theorem pay4_apply (x : S644x256.Idx → Elt Ideal .bf16) (r : Fin 644) (q : Fin 256) : k0_pay4 (F := Ideal) x (ix3 0 r q) = x (ix2 r q) := by
  pointwise [k0_pay4]

/-- A block's rows taken apart. -/
def apart (x : S5376x256.Idx → Elt Ideal .bf16) : S8x644x256.Idx → Elt Ideal .bf16 := fun y => x (ix2 ⟨(y 0).val * 644 + (y 1).val, by
  have h0 : (y 0).val < 8 := (y 0).isLt
  have h1 : (y 1).val < 644 := (y 1).isLt
  omega⟩ (y 2))

theorem piece (x : S5376x256.Idx → Elt Ideal .bf16) (k : Fin 8) (hb) (hb') (y : S1x644x256.Idx) :
    k0_pay4 (F := Ideal) (View.ld x (Rect.unit (s := S5376x256) ![k.val * 644, 0] S644x256.size hb)) y
      = apart x ((Rect.unit (s := S8x644x256) ![k.val, 0, 0] S1x644x256.size hb').emb y) := by
  idx_vars y
  obtain rfl : y0 = 0 := Subsingleton.elim _ _
  exact (pay4_apply _ _ _).trans ((congrArg x (emb_rows k hb y1 y2)).trans (congrArg (apart x) (emb_part k hb' y1 y2)).symm)

theorem out0_1_apply (x : S5376x256.Idx → Elt Ideal .bf16) (y : S8x644x256.Idx) : out0_1 (F := Ideal) x y = apart x y := by
  unfold out0_1
  exact View.canon_append_of_piecesOf (apart x) [] [_, _, _, _, _, _, _, _]
    ⟨piece x 7 inb_S5376x256_S644x256_4508_0 inb_S8x644x256_S1x644x256_7_0_0,
      piece x 6 inb_S5376x256_S644x256_3864_0 inb_S8x644x256_S1x644x256_6_0_0,
      piece x 5 inb_S5376x256_S644x256_3220_0 inb_S8x644x256_S1x644x256_5_0_0,
      piece x 4 inb_S5376x256_S644x256_2576_0 inb_S8x644x256_S1x644x256_4_0_0,
      piece x 3 inb_S5376x256_S644x256_1932_0 inb_S8x644x256_S1x644x256_3_0_0,
      piece x 2 inb_S5376x256_S644x256_1288_0 inb_S8x644x256_S1x644x256_2_0_0,
      piece x 1 inb_S5376x256_S644x256_644_0 inb_S8x644x256_S1x644x256_1_0_0,
      piece x 0 inb_S5376x256_S644x256_0_0 inb_S8x644x256_S1x644x256_0_0_0, trivial⟩ y (cover0_1 _ _ _ _ _ _ _ _ y)

theorem idx : ∀ t : Fin cfg0.N, win0_0.index t = ![0, t.val] ∧ win0_1.index t = ![0, 0, t.val] :=
  (by decide +kernel : ∀ t : Fin grid0.N, _)

theorem ltN (n : Fin cfg0.N) : n.val < 4 := lt_of_lt_of_eq n.isLt N_0

/-- The column at column `q` of point `n`'s block. -/
def cols (n : Fin cfg0.N) (q : Fin 256) : Fin 1024 := ⟨n.val * 256 + q.val, by have := ltN n; omega⟩

variable (m : (ℓ : Loc nD τ sig) → Buf (Elt Ideal) ℓ) (c : Dev nD)

/-- The argument. -/
abbrev X : S5376x1024.Idx → EReal := m ((c.tc : Thread nD τ).loc main_arg0)

/-- The result. -/
def out (x : S5376x1024.Idx → EReal) : S8x644x1024.Idx → EReal := fun i => x (ix2 ⟨(i 0).val * 644 + (i 1).val, by
  have h0 : (i 0).val < 8 := (i 0).isLt
  have h1 : (i 1).val < 644 := (i 1).isLt
  omega⟩ (i 2))

variable {m c}

theorem iblk_x (n : Fin cfg0.N) (r : Fin 5376) (q : Fin 256) : iblk m c 0 n (ix2 r q : S5376x256.Idx) = X m c (ix2 r (cols n q)) := by
  have hV : V m c (Pipeline.arrRef spec0 0) = truncf (F := Ideal) .bf16 (X m c) bitsLt_bf16_f32 := by
    unfold V
    after_results_simp <;> rfl
  refine Eq.trans (b := V m c (Pipeline.arrRef spec0 0) (ix2 r (cols n q) : S5376x1024.Idx)) ?_ ?_
  · blk_point [iblk, idx n, cols]
  · rw [hV]
    rfl

/-- Every block is written once. -/
theorem final : (dats m 0 c).arrAt 1 cfg0.N = out (X m c) := by
  refine (dats m 0 c).arrAt_eq_of_covers 1 _ (by decide +kernel) fun n _ y => ?_
  blk_simp
  rw [after0_1]
  idx_vars y
  refine (out0_1_apply _ _).trans ((iblk_x n _ y2).trans ?_)
  refine Eq.trans (b := out (X m c) (ix3 y0 y1 (cols n y2))) rfl ?_
  generalize out (X m c) = Y
  blk_point [idx n, cols]

/-- The kernel ends with it. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v1) = out (m ((c.tc : Thread nD τ).loc main_arg0))
      ∧ r.2.mem ((c.tc : Thread nD τ).loc main_arg0) = m ((c.tc : Thread nD τ).loc main_arg0) :=
  θ_run_mono (θ_run_and (Gen.unchanged m g) (Gen.run_main m g)) fun r hr c => ⟨((hr.2 c).1 1).trans final, hr.1 c⟩

end Cert.UnsKernelIdeal.Value

namespace Cert.UnsRefIdeal.Value
open Cert.UnsRefIdeal Cert.UnsRefIdeal.Read Cert.UnsKernelIdeal.Value

theorem v2_out (x0 : S5376x1024.Idx → EReal) : val_main_v2 (F := Ideal) x0 = out x0 := by
  funext i
  idx_vars i
  unfold out
  pointwise [val_main_v2, val_main_v1, val_main_v0]

/-- The reference ends with it. -/
theorem reference_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v2) = out (m ((c.tc : Thread nD τ).loc main_arg0))
      ∧ r.2.mem ((c.tc : Thread nD τ).loc main_arg0) = m ((c.tc : Thread nD τ).loc main_arg0) :=
  θ_run_mono (Value.run m g) fun r hr c => by
    obtain ⟨h1, h2⟩ := hr c
    refine ⟨h1.trans ?_, h2⟩
    rw [Read.val_main_v2_eq]
    exact v2_out _

end Cert.UnsRefIdeal.Value

namespace Cert.Uns

/-- The reference runs and leaves its arguments; it has no semaphores. -/
theorem reference_frame : Cert.quiescent_UnsRefIdeal := fun m g _ =>
  θ_run_mono (Cert.UnsRefIdeal.Value.run (F := Ideal) m g) fun r hr => ⟨fun c => (hr c).2, sem_eq_zero_of_no_sems (by decide) r.2⟩

/-- The kernel takes the stacked rows apart, and leaves the rows past them. -/
theorem algebraic : Cert.algebraic_UnsKernelIdeal_UnsRefIdeal := by
  intro m g m' g' _ hagree
  refine ⟨_, UnsKernelIdeal.Value.kernel_run m g, θ_run_mono (UnsRefIdeal.Value.reference_run m' g') fun r hr c => ?_⟩
  have e0 := hagree c
  obtain ⟨h1, h2⟩ := hr c
  rw [e0] at h1
  exact ⟨h1, h2⟩

end Cert.Uns
end
-- ==== Proof.lean ====
module

public import proofs.«01_k».proof.Defs
public import proofs.«01_k».proof.Proof.Gen.LossKernel
public import proofs.«01_k».proof.Proof.Gen.LossKernel.Skeleton
public import proofs.«01_k».proof.Proof.Gen.LossKernel.Launch
public import proofs.«01_k».proof.Proof.Gen.LossKernel.Points
public import proofs.«01_k».proof.Proof.Gen.LossKernel.Frame
public import proofs.«01_k».proof.Proof.Gen.LossKernelIdeal
public import proofs.«01_k».proof.Proof.Gen.LossKernelIdeal.Skeleton
public import proofs.«01_k».proof.Proof.Gen.LossKernelIdeal.Launch
public import proofs.«01_k».proof.Proof.Gen.LossKernelIdeal.Points
public import proofs.«01_k».proof.Proof.Gen.LossKernelIdeal.Frame
public import proofs.«01_k».proof.Proof.Gen.LossRefIdeal
public import proofs.«01_k».proof.Proof.Gen.LossRefIdeal.Run
public import proofs.«01_k».proof.Proof.Gen.LossRefIdeal.Read
public import proofs.«01_k».proof.Proof.Gen.GateKernel
public import proofs.«01_k».proof.Proof.Gen.GateKernel.Skeleton
public import proofs.«01_k».proof.Proof.Gen.GateKernel.Launch
public import proofs.«01_k».proof.Proof.Gen.GateKernel.Points
public import proofs.«01_k».proof.Proof.Gen.GateKernel.Frame
public import proofs.«01_k».proof.Proof.Gen.GateKernelIdeal
public import proofs.«01_k».proof.Proof.Gen.GateKernelIdeal.Skeleton
public import proofs.«01_k».proof.Proof.Gen.GateKernelIdeal.Launch
public import proofs.«01_k».proof.Proof.Gen.GateKernelIdeal.Points
public import proofs.«01_k».proof.Proof.Gen.GateKernelIdeal.Frame
public import proofs.«01_k».proof.Proof.Gen.GateRefIdeal
public import proofs.«01_k».proof.Proof.Gen.GateRefIdeal.Run
public import proofs.«01_k».proof.Proof.Gen.GateRefIdeal.Read
public import proofs.«01_k».proof.Proof.Gen.ConvKernel
public import proofs.«01_k».proof.Proof.Gen.ConvKernel.Skeleton
public import proofs.«01_k».proof.Proof.Gen.ConvKernel.Launch
public import proofs.«01_k».proof.Proof.Gen.ConvKernel.Points
public import proofs.«01_k».proof.Proof.Gen.ConvKernel.Frame
public import proofs.«01_k».proof.Proof.Gen.ConvKernelIdeal
public import proofs.«01_k».proof.Proof.Gen.ConvKernelIdeal.Skeleton
public import proofs.«01_k».proof.Proof.Gen.ConvKernelIdeal.Launch
public import proofs.«01_k».proof.Proof.Gen.ConvKernelIdeal.Points
public import proofs.«01_k».proof.Proof.Gen.ConvKernelIdeal.Frame
public import proofs.«01_k».proof.Proof.Gen.ConvRefIdeal
public import proofs.«01_k».proof.Proof.Gen.ConvRefIdeal.Run
public import proofs.«01_k».proof.Proof.Gen.ConvRefIdeal.Read
public import proofs.«01_k».proof.Proof.Gen.SiluKernel
public import proofs.«01_k».proof.Proof.Gen.SiluKernel.Skeleton
public import proofs.«01_k».proof.Proof.Gen.SiluKernel.Launch
public import proofs.«01_k».proof.Proof.Gen.SiluKernel.Points
public import proofs.«01_k».proof.Proof.Gen.SiluKernel.Frame
public import proofs.«01_k».proof.Proof.Gen.SiluKernelIdeal
public import proofs.«01_k».proof.Proof.Gen.SiluKernelIdeal.Skeleton
public import proofs.«01_k».proof.Proof.Gen.SiluKernelIdeal.Launch
public import proofs.«01_k».proof.Proof.Gen.SiluKernelIdeal.Points
public import proofs.«01_k».proof.Proof.Gen.SiluKernelIdeal.Frame
public import proofs.«01_k».proof.Proof.Gen.SiluRefIdeal
public import proofs.«01_k».proof.Proof.Gen.SiluRefIdeal.Run
public import proofs.«01_k».proof.Proof.Gen.SiluRefIdeal.Read
public import proofs.«01_k».proof.Proof.Gen.XbcKernel
public import proofs.«01_k».proof.Proof.Gen.XbcKernel.Skeleton
public import proofs.«01_k».proof.Proof.Gen.XbcKernel.Launch
public import proofs.«01_k».proof.Proof.Gen.XbcKernel.Points
public import proofs.«01_k».proof.Proof.Gen.XbcKernel.Frame
public import proofs.«01_k».proof.Proof.Gen.XbcKernelIdeal
public import proofs.«01_k».proof.Proof.Gen.XbcKernelIdeal.Skeleton
public import proofs.«01_k».proof.Proof.Gen.XbcKernelIdeal.Launch
public import proofs.«01_k».proof.Proof.Gen.XbcKernelIdeal.Points
public import proofs.«01_k».proof.Proof.Gen.XbcKernelIdeal.Frame
public import proofs.«01_k».proof.Proof.Gen.XbcRefIdeal
public import proofs.«01_k».proof.Proof.Gen.XbcRefIdeal.Run
public import proofs.«01_k».proof.Proof.Gen.XbcRefIdeal.Read
public import proofs.«01_k».proof.Proof.Gen.QKernel
public import proofs.«01_k».proof.Proof.Gen.QKernel.Skeleton
public import proofs.«01_k».proof.Proof.Gen.QKernel.Launch
public import proofs.«01_k».proof.Proof.Gen.QKernel.Points
public import proofs.«01_k».proof.Proof.Gen.QKernel.Frame
public import proofs.«01_k».proof.Proof.Gen.QKernelIdeal
public import proofs.«01_k».proof.Proof.Gen.QKernelIdeal.Skeleton
public import proofs.«01_k».proof.Proof.Gen.QKernelIdeal.Launch
public import proofs.«01_k».proof.Proof.Gen.QKernelIdeal.Points
public import proofs.«01_k».proof.Proof.Gen.QKernelIdeal.Frame
public import proofs.«01_k».proof.Proof.Gen.QRefIdeal
public import proofs.«01_k».proof.Proof.Gen.QRefIdeal.Run
public import proofs.«01_k».proof.Proof.Gen.QRefIdeal.Read
public import proofs.«01_k».proof.Proof.Gen.KvKernel
public import proofs.«01_k».proof.Proof.Gen.KvKernel.Skeleton
public import proofs.«01_k».proof.Proof.Gen.KvKernel.Launch
public import proofs.«01_k».proof.Proof.Gen.KvKernel.Points
public import proofs.«01_k».proof.Proof.Gen.KvKernel.Frame
public import proofs.«01_k».proof.Proof.Gen.KvKernelIdeal
public import proofs.«01_k».proof.Proof.Gen.KvKernelIdeal.Skeleton
public import proofs.«01_k».proof.Proof.Gen.KvKernelIdeal.Launch
public import proofs.«01_k».proof.Proof.Gen.KvKernelIdeal.Points
public import proofs.«01_k».proof.Proof.Gen.KvKernelIdeal.Frame
public import proofs.«01_k».proof.Proof.Gen.KvRefIdeal
public import proofs.«01_k».proof.Proof.Gen.KvRefIdeal.Run
public import proofs.«01_k».proof.Proof.Gen.KvRefIdeal.Read
public import proofs.«01_k».proof.Proof.Gen.UpKernel
public import proofs.«01_k».proof.Proof.Gen.UpKernel.Skeleton
public import proofs.«01_k».proof.Proof.Gen.UpKernel.Launch
public import proofs.«01_k».proof.Proof.Gen.UpKernel.Points
public import proofs.«01_k».proof.Proof.Gen.UpKernel.Frame
public import proofs.«01_k».proof.Proof.Gen.UpKernelIdeal
public import proofs.«01_k».proof.Proof.Gen.UpKernelIdeal.Skeleton
public import proofs.«01_k».proof.Proof.Gen.UpKernelIdeal.Launch
public import proofs.«01_k».proof.Proof.Gen.UpKernelIdeal.Points
public import proofs.«01_k».proof.Proof.Gen.UpKernelIdeal.Frame
public import proofs.«01_k».proof.Proof.Gen.UpRefIdeal
public import proofs.«01_k».proof.Proof.Gen.UpRefIdeal.Run
public import proofs.«01_k».proof.Proof.Gen.UpRefIdeal.Read
public import proofs.«01_k».proof.Proof.Gen.InKernel
public import proofs.«01_k».proof.Proof.Gen.InKernel.Skeleton
public import proofs.«01_k».proof.Proof.Gen.InKernel.Launch
public import proofs.«01_k».proof.Proof.Gen.InKernel.Points
public import proofs.«01_k».proof.Proof.Gen.InKernel.Frame
public import proofs.«01_k».proof.Proof.Gen.InKernelIdeal
public import proofs.«01_k».proof.Proof.Gen.InKernelIdeal.Skeleton
public import proofs.«01_k».proof.Proof.Gen.InKernelIdeal.Launch
public import proofs.«01_k».proof.Proof.Gen.InKernelIdeal.Points
public import proofs.«01_k».proof.Proof.Gen.InKernelIdeal.Frame
public import proofs.«01_k».proof.Proof.Gen.InRefIdeal
public import proofs.«01_k».proof.Proof.Gen.InRefIdeal.Run
public import proofs.«01_k».proof.Proof.Gen.InRefIdeal.Read
public import proofs.«01_k».proof.Proof.Gen.QwKernel
public import proofs.«01_k».proof.Proof.Gen.QwKernel.Skeleton
public import proofs.«01_k».proof.Proof.Gen.QwKernel.Launch
public import proofs.«01_k».proof.Proof.Gen.QwKernel.Points
public import proofs.«01_k».proof.Proof.Gen.QwKernel.Frame
public import proofs.«01_k».proof.Proof.Gen.QwKernelIdeal
public import proofs.«01_k».proof.Proof.Gen.QwKernelIdeal.Skeleton
public import proofs.«01_k».proof.Proof.Gen.QwKernelIdeal.Launch
public import proofs.«01_k».proof.Proof.Gen.QwKernelIdeal.Points
public import proofs.«01_k».proof.Proof.Gen.QwKernelIdeal.Frame
public import proofs.«01_k».proof.Proof.Gen.QwRefIdeal
public import proofs.«01_k».proof.Proof.Gen.QwRefIdeal.Run
public import proofs.«01_k».proof.Proof.Gen.QwRefIdeal.Read
public import proofs.«01_k».proof.Proof.Gen.KvwKernel
public import proofs.«01_k».proof.Proof.Gen.KvwKernel.Skeleton
public import proofs.«01_k».proof.Proof.Gen.KvwKernel.Launch
public import proofs.«01_k».proof.Proof.Gen.KvwKernel.Points
public import proofs.«01_k».proof.Proof.Gen.KvwKernel.Frame
public import proofs.«01_k».proof.Proof.Gen.KvwKernelIdeal
public import proofs.«01_k».proof.Proof.Gen.KvwKernelIdeal.Skeleton
public import proofs.«01_k».proof.Proof.Gen.KvwKernelIdeal.Launch
public import proofs.«01_k».proof.Proof.Gen.KvwKernelIdeal.Points
public import proofs.«01_k».proof.Proof.Gen.KvwKernelIdeal.Frame
public import proofs.«01_k».proof.Proof.Gen.KvwRefIdeal
public import proofs.«01_k».proof.Proof.Gen.KvwRefIdeal.Run
public import proofs.«01_k».proof.Proof.Gen.KvwRefIdeal.Read
public import proofs.«01_k».proof.Proof.Gen.UpwKernel
public import proofs.«01_k».proof.Proof.Gen.UpwKernel.Skeleton
public import proofs.«01_k».proof.Proof.Gen.UpwKernel.Launch
public import proofs.«01_k».proof.Proof.Gen.UpwKernel.Points
public import proofs.«01_k».proof.Proof.Gen.UpwKernel.Frame
public import proofs.«01_k».proof.Proof.Gen.UpwKernelIdeal
public import proofs.«01_k».proof.Proof.Gen.UpwKernelIdeal.Skeleton
public import proofs.«01_k».proof.Proof.Gen.UpwKernelIdeal.Launch
public import proofs.«01_k».proof.Proof.Gen.UpwKernelIdeal.Points
public import proofs.«01_k».proof.Proof.Gen.UpwKernelIdeal.Frame
public import proofs.«01_k».proof.Proof.Gen.UpwRefIdeal
public import proofs.«01_k».proof.Proof.Gen.UpwRefIdeal.Run
public import proofs.«01_k».proof.Proof.Gen.UpwRefIdeal.Read
public import proofs.«01_k».proof.Proof.Gen.InwKernel
public import proofs.«01_k».proof.Proof.Gen.InwKernel.Skeleton
public import proofs.«01_k».proof.Proof.Gen.InwKernel.Launch
public import proofs.«01_k».proof.Proof.Gen.InwKernel.Points
public import proofs.«01_k».proof.Proof.Gen.InwKernel.Frame
public import proofs.«01_k».proof.Proof.Gen.InwKernelIdeal
public import proofs.«01_k».proof.Proof.Gen.InwKernelIdeal.Skeleton
public import proofs.«01_k».proof.Proof.Gen.InwKernelIdeal.Launch
public import proofs.«01_k».proof.Proof.Gen.InwKernelIdeal.Points
public import proofs.«01_k».proof.Proof.Gen.InwKernelIdeal.Frame
public import proofs.«01_k».proof.Proof.Gen.InwRefIdeal
public import proofs.«01_k».proof.Proof.Gen.InwRefIdeal.Run
public import proofs.«01_k».proof.Proof.Gen.InwRefIdeal.Read
public import proofs.«01_k».proof.Proof.Gen.SbfKernel
public import proofs.«01_k».proof.Proof.Gen.SbfKernel.Skeleton
public import proofs.«01_k».proof.Proof.Gen.SbfKernel.Launch
public import proofs.«01_k».proof.Proof.Gen.SbfKernel.Points
public import proofs.«01_k».proof.Proof.Gen.SbfKernel.Frame
public import proofs.«01_k».proof.Proof.Gen.SbfKernelIdeal
public import proofs.«01_k».proof.Proof.Gen.SbfKernelIdeal.Skeleton
public import proofs.«01_k».proof.Proof.Gen.SbfKernelIdeal.Launch
public import proofs.«01_k».proof.Proof.Gen.SbfKernelIdeal.Points
public import proofs.«01_k».proof.Proof.Gen.SbfKernelIdeal.Frame
public import proofs.«01_k».proof.Proof.Gen.SbfRefIdeal
public import proofs.«01_k».proof.Proof.Gen.SbfRefIdeal.Run
public import proofs.«01_k».proof.Proof.Gen.SbfRefIdeal.Read
public import proofs.«01_k».proof.Proof.Gen.ActKernel
public import proofs.«01_k».proof.Proof.Gen.ActKernel.Skeleton
public import proofs.«01_k».proof.Proof.Gen.ActKernel.Launch
public import proofs.«01_k».proof.Proof.Gen.ActKernel.Points
public import proofs.«01_k».proof.Proof.Gen.ActKernel.Frame
public import proofs.«01_k».proof.Proof.Gen.ActKernelIdeal
public import proofs.«01_k».proof.Proof.Gen.ActKernelIdeal.Skeleton
public import proofs.«01_k».proof.Proof.Gen.ActKernelIdeal.Launch
public import proofs.«01_k».proof.Proof.Gen.ActKernelIdeal.Points
public import proofs.«01_k».proof.Proof.Gen.ActKernelIdeal.Frame
public import proofs.«01_k».proof.Proof.Gen.ActRefIdeal
public import proofs.«01_k».proof.Proof.Gen.ActRefIdeal.Run
public import proofs.«01_k».proof.Proof.Gen.ActRefIdeal.Read
public import proofs.«01_k».proof.Proof.Gen.FfnKernel
public import proofs.«01_k».proof.Proof.Gen.FfnKernel.Skeleton
public import proofs.«01_k».proof.Proof.Gen.FfnKernel.Launch
public import proofs.«01_k».proof.Proof.Gen.FfnKernel.Points
public import proofs.«01_k».proof.Proof.Gen.FfnKernel.Frame
public import proofs.«01_k».proof.Proof.Gen.FfnKernelIdeal
public import proofs.«01_k».proof.Proof.Gen.FfnKernelIdeal.Skeleton
public import proofs.«01_k».proof.Proof.Gen.FfnKernelIdeal.Launch
public import proofs.«01_k».proof.Proof.Gen.FfnKernelIdeal.Points
public import proofs.«01_k».proof.Proof.Gen.FfnKernelIdeal.Frame
public import proofs.«01_k».proof.Proof.Gen.FfnRefIdeal
public import proofs.«01_k».proof.Proof.Gen.FfnRefIdeal.Run
public import proofs.«01_k».proof.Proof.Gen.FfnRefIdeal.Read
public import proofs.«01_k».proof.Proof.Gen.NqKernel
public import proofs.«01_k».proof.Proof.Gen.NqKernel.Skeleton
public import proofs.«01_k».proof.Proof.Gen.NqKernel.Launch
public import proofs.«01_k».proof.Proof.Gen.NqKernel.Points
public import proofs.«01_k».proof.Proof.Gen.NqKernel.Frame
public import proofs.«01_k».proof.Proof.Gen.NqKernelIdeal
public import proofs.«01_k».proof.Proof.Gen.NqKernelIdeal.Skeleton
public import proofs.«01_k».proof.Proof.Gen.NqKernelIdeal.Launch
public import proofs.«01_k».proof.Proof.Gen.NqKernelIdeal.Points
public import proofs.«01_k».proof.Proof.Gen.NqKernelIdeal.Frame
public import proofs.«01_k».proof.Proof.Gen.NqRefIdeal
public import proofs.«01_k».proof.Proof.Gen.NqRefIdeal.Run
public import proofs.«01_k».proof.Proof.Gen.NqRefIdeal.Read
public import proofs.«01_k».proof.Proof.Gen.NupKernel
public import proofs.«01_k».proof.Proof.Gen.NupKernel.Skeleton
public import proofs.«01_k».proof.Proof.Gen.NupKernel.Launch
public import proofs.«01_k».proof.Proof.Gen.NupKernel.Points
public import proofs.«01_k».proof.Proof.Gen.NupKernel.Frame
public import proofs.«01_k».proof.Proof.Gen.NupKernelIdeal
public import proofs.«01_k».proof.Proof.Gen.NupKernelIdeal.Skeleton
public import proofs.«01_k».proof.Proof.Gen.NupKernelIdeal.Launch
public import proofs.«01_k».proof.Proof.Gen.NupKernelIdeal.Points
public import proofs.«01_k».proof.Proof.Gen.NupKernelIdeal.Frame
public import proofs.«01_k».proof.Proof.Gen.NupRefIdeal
public import proofs.«01_k».proof.Proof.Gen.NupRefIdeal.Run
public import proofs.«01_k».proof.Proof.Gen.NupRefIdeal.Read
public import proofs.«01_k».proof.Proof.Gen.NinKernel
public import proofs.«01_k».proof.Proof.Gen.NinKernel.Skeleton
public import proofs.«01_k».proof.Proof.Gen.NinKernel.Launch
public import proofs.«01_k».proof.Proof.Gen.NinKernel.Points
public import proofs.«01_k».proof.Proof.Gen.NinKernel.Frame
public import proofs.«01_k».proof.Proof.Gen.NinKernelIdeal
public import proofs.«01_k».proof.Proof.Gen.NinKernelIdeal.Skeleton
public import proofs.«01_k».proof.Proof.Gen.NinKernelIdeal.Launch
public import proofs.«01_k».proof.Proof.Gen.NinKernelIdeal.Points
public import proofs.«01_k».proof.Proof.Gen.NinKernelIdeal.Frame
public import proofs.«01_k».proof.Proof.Gen.NinRefIdeal
public import proofs.«01_k».proof.Proof.Gen.NinRefIdeal.Run
public import proofs.«01_k».proof.Proof.Gen.NinRefIdeal.Read
public import proofs.«01_k».proof.Proof.Gen.DnKernel
public import proofs.«01_k».proof.Proof.Gen.DnKernel.Skeleton
public import proofs.«01_k».proof.Proof.Gen.DnKernel.Launch
public import proofs.«01_k».proof.Proof.Gen.DnKernel.Points
public import proofs.«01_k».proof.Proof.Gen.DnKernel.Frame
public import proofs.«01_k».proof.Proof.Gen.DnKernelIdeal
public import proofs.«01_k».proof.Proof.Gen.DnKernelIdeal.Skeleton
public import proofs.«01_k».proof.Proof.Gen.DnKernelIdeal.Launch
public import proofs.«01_k».proof.Proof.Gen.DnKernelIdeal.Points
public import proofs.«01_k».proof.Proof.Gen.DnKernelIdeal.Frame
public import proofs.«01_k».proof.Proof.Gen.DnRefIdeal
public import proofs.«01_k».proof.Proof.Gen.DnRefIdeal.Run
public import proofs.«01_k».proof.Proof.Gen.DnRefIdeal.Read
public import proofs.«01_k».proof.Proof.Gen.DdKernel
public import proofs.«01_k».proof.Proof.Gen.DdKernel.Skeleton
public import proofs.«01_k».proof.Proof.Gen.DdKernel.Launch
public import proofs.«01_k».proof.Proof.Gen.DdKernel.Points
public import proofs.«01_k».proof.Proof.Gen.DdKernel.Frame
public import proofs.«01_k».proof.Proof.Gen.DdKernelIdeal
public import proofs.«01_k».proof.Proof.Gen.DdKernelIdeal.Skeleton
public import proofs.«01_k».proof.Proof.Gen.DdKernelIdeal.Launch
public import proofs.«01_k».proof.Proof.Gen.DdKernelIdeal.Points
public import proofs.«01_k».proof.Proof.Gen.DdKernelIdeal.Frame
public import proofs.«01_k».proof.Proof.Gen.DdRefIdeal
public import proofs.«01_k».proof.Proof.Gen.DdRefIdeal.Run
public import proofs.«01_k».proof.Proof.Gen.DdRefIdeal.Read
public import proofs.«01_k».proof.Proof.Gen.DwKernel
public import proofs.«01_k».proof.Proof.Gen.DwKernel.Skeleton
public import proofs.«01_k».proof.Proof.Gen.DwKernel.Launch
public import proofs.«01_k».proof.Proof.Gen.DwKernel.Points
public import proofs.«01_k».proof.Proof.Gen.DwKernel.Frame
public import proofs.«01_k».proof.Proof.Gen.DwKernelIdeal
public import proofs.«01_k».proof.Proof.Gen.DwKernelIdeal.Skeleton
public import proofs.«01_k».proof.Proof.Gen.DwKernelIdeal.Launch
public import proofs.«01_k».proof.Proof.Gen.DwKernelIdeal.Points
public import proofs.«01_k».proof.Proof.Gen.DwKernelIdeal.Frame
public import proofs.«01_k».proof.Proof.Gen.DwRefIdeal
public import proofs.«01_k».proof.Proof.Gen.DwRefIdeal.Run
public import proofs.«01_k».proof.Proof.Gen.DwRefIdeal.Read
public import proofs.«01_k».proof.Proof.Gen.OptKernel
public import proofs.«01_k».proof.Proof.Gen.OptKernel.Skeleton
public import proofs.«01_k».proof.Proof.Gen.OptKernel.Launch
public import proofs.«01_k».proof.Proof.Gen.OptKernel.Points
public import proofs.«01_k».proof.Proof.Gen.OptKernel.Frame
public import proofs.«01_k».proof.Proof.Gen.OptKernelIdeal
public import proofs.«01_k».proof.Proof.Gen.OptKernelIdeal.Skeleton
public import proofs.«01_k».proof.Proof.Gen.OptKernelIdeal.Launch
public import proofs.«01_k».proof.Proof.Gen.OptKernelIdeal.Points
public import proofs.«01_k».proof.Proof.Gen.OptKernelIdeal.Frame
public import proofs.«01_k».proof.Proof.Gen.OptRefIdeal
public import proofs.«01_k».proof.Proof.Gen.OptRefIdeal.Run
public import proofs.«01_k».proof.Proof.Gen.OptRefIdeal.Read
public import proofs.«01_k».proof.Proof.Gen.PutKernel
public import proofs.«01_k».proof.Proof.Gen.PutKernel.Skeleton
public import proofs.«01_k».proof.Proof.Gen.PutKernel.Launch
public import proofs.«01_k».proof.Proof.Gen.PutKernel.Points
public import proofs.«01_k».proof.Proof.Gen.PutKernel.Frame
public import proofs.«01_k».proof.Proof.Gen.PutKernelIdeal
public import proofs.«01_k».proof.Proof.Gen.PutKernelIdeal.Skeleton
public import proofs.«01_k».proof.Proof.Gen.PutKernelIdeal.Launch
public import proofs.«01_k».proof.Proof.Gen.PutKernelIdeal.Points
public import proofs.«01_k».proof.Proof.Gen.PutKernelIdeal.Frame
public import proofs.«01_k».proof.Proof.Gen.PutRefIdeal
public import proofs.«01_k».proof.Proof.Gen.PutRefIdeal.Run
public import proofs.«01_k».proof.Proof.Gen.PutRefIdeal.Read
public import proofs.«01_k».proof.Proof.Gen.StkKernel
public import proofs.«01_k».proof.Proof.Gen.StkKernel.Skeleton
public import proofs.«01_k».proof.Proof.Gen.StkKernel.Launch
public import proofs.«01_k».proof.Proof.Gen.StkKernel.Points
public import proofs.«01_k».proof.Proof.Gen.StkKernel.Frame
public import proofs.«01_k».proof.Proof.Gen.StkKernelIdeal
public import proofs.«01_k».proof.Proof.Gen.StkKernelIdeal.Skeleton
public import proofs.«01_k».proof.Proof.Gen.StkKernelIdeal.Launch
public import proofs.«01_k».proof.Proof.Gen.StkKernelIdeal.Points
public import proofs.«01_k».proof.Proof.Gen.StkKernelIdeal.Frame
public import proofs.«01_k».proof.Proof.Gen.StkRefIdeal
public import proofs.«01_k».proof.Proof.Gen.StkRefIdeal.Run
public import proofs.«01_k».proof.Proof.Gen.StkRefIdeal.Read
public import proofs.«01_k».proof.Proof.Gen.UnsKernel
public import proofs.«01_k».proof.Proof.Gen.UnsKernel.Skeleton
public import proofs.«01_k».proof.Proof.Gen.UnsKernel.Launch
public import proofs.«01_k».proof.Proof.Gen.UnsKernel.Points
public import proofs.«01_k».proof.Proof.Gen.UnsKernel.Frame
public import proofs.«01_k».proof.Proof.Gen.UnsKernelIdeal
public import proofs.«01_k».proof.Proof.Gen.UnsKernelIdeal.Skeleton
public import proofs.«01_k».proof.Proof.Gen.UnsKernelIdeal.Launch
public import proofs.«01_k».proof.Proof.Gen.UnsKernelIdeal.Points
public import proofs.«01_k».proof.Proof.Gen.UnsKernelIdeal.Frame
public import proofs.«01_k».proof.Proof.Gen.UnsRefIdeal
public import proofs.«01_k».proof.Proof.Gen.UnsRefIdeal.Run
public import proofs.«01_k».proof.Proof.Gen.UnsRefIdeal.Read
public import proofs.«01_k».proof.Proof.LossClaim
public import proofs.«01_k».proof.Proof.GateValue
public import proofs.«01_k».proof.Proof.Conv
public import proofs.«01_k».proof.Proof.Silu
public import proofs.«01_k».proof.Proof.Xbc
public import proofs.«01_k».proof.Proof.Q
public import proofs.«01_k».proof.Proof.SbaValue
public import proofs.«01_k».proof.Proof.Kv
public import proofs.«01_k».proof.Proof.Up
public import proofs.«01_k».proof.Proof.In
public import proofs.«01_k».proof.Proof.Qw
public import proofs.«01_k».proof.Proof.Kvw
public import proofs.«01_k».proof.Proof.Upw
public import proofs.«01_k».proof.Proof.Inw
public import proofs.«01_k».proof.Proof.SbfValue
public import proofs.«01_k».proof.Proof.SsdValue
public import proofs.«01_k».proof.Proof.Act
public import proofs.«01_k».proof.Proof.Ffn
public import proofs.«01_k».proof.Proof.Nq
public import proofs.«01_k».proof.Proof.Nup
public import proofs.«01_k».proof.Proof.Nin
public import proofs.«01_k».proof.Proof.Dn
public import proofs.«01_k».proof.Proof.Dd
public import proofs.«01_k».proof.Proof.Dw
public import proofs.«01_k».proof.Proof.Opt
public import proofs.«01_k».proof.Proof.Put
public import proofs.«01_k».proof.Proof.Stk
public import proofs.«01_k».proof.Proof.Uns
public import Idealize.ShloMosaic.Adequacy
public import Idealize.ShloMosaic.Init

@[expose] public section

noncomputable section

namespace Cert.Proof

open Idealize.ShloMosaic Idealize.SL.Sem Cert.LossKernel

theorem claim : Cert.Claim := ⟨
  Cert.LossKernel.Gen.facts, Cert.LossKernelIdeal.Gen.facts, Cert.LossRefIdeal.Gen.facts, Cert.GateKernel.Gen.facts, Cert.GateKernelIdeal.Gen.facts,
  Cert.GateRefIdeal.Gen.facts, Cert.ConvKernel.Gen.facts, Cert.ConvKernelIdeal.Gen.facts, Cert.ConvRefIdeal.Gen.facts, Cert.SiluKernel.Gen.facts,
  Cert.SiluKernelIdeal.Gen.facts, Cert.SiluRefIdeal.Gen.facts, Cert.XbcKernel.Gen.facts, Cert.XbcKernelIdeal.Gen.facts, Cert.XbcRefIdeal.Gen.facts,
  Cert.QKernel.Gen.facts, Cert.QKernelIdeal.Gen.facts, Cert.QRefIdeal.Gen.facts, Cert.SbaKernel.Gen.facts, Cert.SbaKernelIdeal.Gen.facts,
  Cert.SbaRefIdeal.Gen.facts, Cert.KvKernel.Gen.facts, Cert.KvKernelIdeal.Gen.facts, Cert.KvRefIdeal.Gen.facts, Cert.UpKernel.Gen.facts,
  Cert.UpKernelIdeal.Gen.facts, Cert.UpRefIdeal.Gen.facts, Cert.InKernel.Gen.facts, Cert.InKernelIdeal.Gen.facts, Cert.InRefIdeal.Gen.facts,
  Cert.QwKernel.Gen.facts, Cert.QwKernelIdeal.Gen.facts, Cert.QwRefIdeal.Gen.facts, Cert.KvwKernel.Gen.facts, Cert.KvwKernelIdeal.Gen.facts,
  Cert.KvwRefIdeal.Gen.facts, Cert.UpwKernel.Gen.facts, Cert.UpwKernelIdeal.Gen.facts, Cert.UpwRefIdeal.Gen.facts, Cert.InwKernel.Gen.facts,
  Cert.InwKernelIdeal.Gen.facts, Cert.InwRefIdeal.Gen.facts, Cert.SbfKernel.Gen.facts, Cert.SbfKernelIdeal.Gen.facts, Cert.SbfRefIdeal.Gen.facts,
  Cert.SsdKernel.Gen.facts, Cert.SsdKernelIdeal.Gen.facts, Cert.SsdRefIdeal.Gen.facts, Cert.ActKernel.Gen.facts, Cert.ActKernelIdeal.Gen.facts,
  Cert.ActRefIdeal.Gen.facts, Cert.FfnKernel.Gen.facts, Cert.FfnKernelIdeal.Gen.facts, Cert.FfnRefIdeal.Gen.facts, Cert.NqKernel.Gen.facts,
  Cert.NqKernelIdeal.Gen.facts, Cert.NqRefIdeal.Gen.facts, Cert.NupKernel.Gen.facts, Cert.NupKernelIdeal.Gen.facts, Cert.NupRefIdeal.Gen.facts,
  Cert.NinKernel.Gen.facts, Cert.NinKernelIdeal.Gen.facts, Cert.NinRefIdeal.Gen.facts, Cert.DnKernel.Gen.facts, Cert.DnKernelIdeal.Gen.facts,
  Cert.DnRefIdeal.Gen.facts, Cert.DdKernel.Gen.facts, Cert.DdKernelIdeal.Gen.facts, Cert.DdRefIdeal.Gen.facts, Cert.DwKernel.Gen.facts,
  Cert.DwKernelIdeal.Gen.facts, Cert.DwRefIdeal.Gen.facts, Cert.OptKernel.Gen.facts, Cert.OptKernelIdeal.Gen.facts, Cert.OptRefIdeal.Gen.facts,
  Cert.PutKernel.Gen.facts, Cert.PutKernelIdeal.Gen.facts, Cert.PutRefIdeal.Gen.facts, Cert.StkKernel.Gen.facts, Cert.StkKernelIdeal.Gen.facts,
  Cert.StkRefIdeal.Gen.facts, Cert.UnsKernel.Gen.facts, Cert.UnsKernelIdeal.Gen.facts, Cert.UnsRefIdeal.Gen.facts, Cert.Pre_loss_finite.facts,
  Cert.Pre_gate_finite.facts, Cert.Pre_silu_finite.facts, Cert.Pre_q_finite.facts, Cert.Pre_sba_finite.facts, Cert.Pre_kv_finite.facts,
  Cert.Pre_up_finite.facts, Cert.Pre_in_finite.facts, Cert.Pre_sbf_finite.facts, Cert.Pre_ssd_finite.facts,
  fun m ρ _ => Cert.LossKernel.Gen.frame m ρ, fun m ρ _ => Cert.LossKernelIdeal.Gen.frame m ρ, fun m ρ _ => Cert.LossKernelIdeal.Gen.frame m ρ,
  Cert.Loss.reference_frame, fun m ρ _ => Cert.Loss.reference_frame m ρ trivial, fun m ρ _ => Cert.GateKernel.Gen.frame m ρ,
  fun m ρ _ => Cert.GateKernelIdeal.Gen.frame m ρ, fun m ρ _ => Cert.GateKernelIdeal.Gen.frame m ρ, Cert.Gate.reference_frame,
  fun m ρ _ => Cert.Gate.reference_frame m ρ trivial, fun m ρ _ => Cert.ConvKernel.Gen.frame m ρ, fun m ρ _ => Cert.ConvKernelIdeal.Gen.frame m ρ,
  Cert.Conv.reference_frame, fun m ρ _ => Cert.SiluKernel.Gen.frame m ρ, fun m ρ _ => Cert.SiluKernelIdeal.Gen.frame m ρ,
  fun m ρ _ => Cert.SiluKernelIdeal.Gen.frame m ρ, Cert.Silu.reference_frame, fun m ρ _ => Cert.Silu.reference_frame m ρ trivial,
  fun m ρ _ => Cert.XbcKernel.Gen.frame m ρ, fun m ρ _ => Cert.XbcKernelIdeal.Gen.frame m ρ, Cert.Xbc.reference_frame,
  fun m ρ _ => Cert.QKernel.Gen.frame m ρ, fun m ρ _ => Cert.QKernelIdeal.Gen.frame m ρ, fun m ρ _ => Cert.QKernelIdeal.Gen.frame m ρ,
  Cert.Q.reference_frame, fun m ρ _ => Cert.Q.reference_frame m ρ trivial, Cert.Sba.kernel_frame, fun m ρ _ => Cert.SbaKernelIdeal.Point.frame m ρ,
  fun m ρ _ => Cert.SbaKernelIdeal.Point.frame m ρ, Cert.Sba.reference_frame, fun m ρ _ => Cert.Sba.reference_frame m ρ trivial,
  fun m ρ _ => Cert.KvKernel.Gen.frame m ρ, fun m ρ _ => Cert.KvKernelIdeal.Gen.frame m ρ, fun m ρ _ => Cert.KvKernelIdeal.Gen.frame m ρ,
  Cert.Kv.reference_frame, fun m ρ _ => Cert.Kv.reference_frame m ρ trivial, fun m ρ _ => Cert.UpKernel.Gen.frame m ρ,
  fun m ρ _ => Cert.UpKernelIdeal.Gen.frame m ρ, fun m ρ _ => Cert.UpKernelIdeal.Gen.frame m ρ, Cert.Up.reference_frame,
  fun m ρ _ => Cert.Up.reference_frame m ρ trivial, fun m ρ _ => Cert.InKernel.Gen.frame m ρ, fun m ρ _ => Cert.InKernelIdeal.Gen.frame m ρ,
  fun m ρ _ => Cert.InKernelIdeal.Gen.frame m ρ, Cert.In.reference_frame, fun m ρ _ => Cert.In.reference_frame m ρ trivial,
  fun m ρ _ => Cert.QwKernel.Gen.frame m ρ, fun m ρ _ => Cert.QwKernelIdeal.Gen.frame m ρ, Cert.Qw.reference_frame,
  fun m ρ _ => Cert.KvwKernel.Gen.frame m ρ, fun m ρ _ => Cert.KvwKernelIdeal.Gen.frame m ρ, Cert.Kvw.reference_frame,
  fun m ρ _ => Cert.UpwKernel.Gen.frame m ρ, fun m ρ _ => Cert.UpwKernelIdeal.Gen.frame m ρ, Cert.Upw.reference_frame,
  fun m ρ _ => Cert.InwKernel.Gen.frame m ρ, fun m ρ _ => Cert.InwKernelIdeal.Gen.frame m ρ, Cert.Inw.reference_frame, Cert.Sbf.kernel_frame,
  fun m ρ _ => Cert.SbfKernelIdeal.Point.frame m ρ, fun m ρ _ => Cert.SbfKernelIdeal.Point.frame m ρ, Cert.Sbf.reference_frame,
  fun m ρ _ => Cert.Sbf.reference_frame m ρ trivial, Cert.Ssd.kernel_frame, fun m ρ _ => Cert.SsdKernelIdeal.Point.frame m ρ,
  fun m ρ _ => Cert.SsdKernelIdeal.Point.frame m ρ, Cert.Ssd.reference_frame, fun m ρ _ => Cert.Ssd.reference_frame m ρ trivial,
  fun m ρ _ => Cert.ActKernel.Gen.frame m ρ, fun m ρ _ => Cert.ActKernelIdeal.Gen.frame m ρ, Cert.Act.reference_frame,
  fun m ρ _ => Cert.FfnKernel.Gen.frame m ρ, fun m ρ _ => Cert.FfnKernelIdeal.Gen.frame m ρ, Cert.Ffn.reference_frame,
  fun m ρ _ => Cert.NqKernel.Gen.frame m ρ, fun m ρ _ => Cert.NqKernelIdeal.Gen.frame m ρ, Cert.Nq.reference_frame,
  fun m ρ _ => Cert.NupKernel.Gen.frame m ρ, fun m ρ _ => Cert.NupKernelIdeal.Gen.frame m ρ, Cert.Nup.reference_frame,
  fun m ρ _ => Cert.NinKernel.Gen.frame m ρ, fun m ρ _ => Cert.NinKernelIdeal.Gen.frame m ρ, Cert.Nin.reference_frame,
  fun m ρ _ => Cert.DnKernel.Gen.frame m ρ, fun m ρ _ => Cert.DnKernelIdeal.Gen.frame m ρ, Cert.Dn.reference_frame,
  fun m ρ _ => Cert.DdKernel.Gen.frame m ρ, fun m ρ _ => Cert.DdKernelIdeal.Gen.frame m ρ, Cert.Dd.reference_frame,
  fun m ρ _ => Cert.DwKernel.Gen.frame m ρ, fun m ρ _ => Cert.DwKernelIdeal.Gen.frame m ρ, Cert.Dw.reference_frame,
  fun m ρ _ => Cert.OptKernel.Gen.frame m ρ, fun m ρ _ => Cert.OptKernelIdeal.Gen.frame m ρ, Cert.Opt.reference_frame,
  fun m ρ _ => Cert.PutKernel.Gen.frame m ρ, fun m ρ _ => Cert.PutKernelIdeal.Gen.frame m ρ, Cert.Put.reference_frame,
  fun m ρ _ => Cert.StkKernel.Gen.frame m ρ, fun m ρ _ => Cert.StkKernelIdeal.Gen.frame m ρ, Cert.Stk.reference_frame,
  fun m ρ _ => Cert.UnsKernel.Gen.frame m ρ, fun m ρ _ => Cert.UnsKernelIdeal.Gen.frame m ρ, Cert.Uns.reference_frame, trivial, Cert.Loss.algebraic,
  trivial, Cert.Gate.algebraic, trivial, Cert.Conv.algebraic, trivial, Cert.Silu.algebraic, trivial, Cert.Xbc.algebraic, trivial, Cert.Q.algebraic,
  Cert.Sba.preserves, Cert.Sba.algebraic, trivial, Cert.Kv.algebraic, trivial, Cert.Up.algebraic, trivial, Cert.In.algebraic, trivial,
  Cert.Qw.algebraic, trivial, Cert.Kvw.algebraic, trivial, Cert.Upw.algebraic, trivial, Cert.Inw.algebraic, Cert.Sbf.preserves, Cert.Sbf.algebraic,
  Cert.Ssd.preserves, Cert.Ssd.algebraic, trivial, Cert.Act.algebraic, trivial, Cert.Ffn.algebraic, trivial, Cert.Nq.algebraic, trivial,
  Cert.Nup.algebraic, trivial, Cert.Nin.algebraic, trivial, Cert.Dn.algebraic, trivial, Cert.Dd.algebraic, trivial, Cert.Dw.algebraic, trivial,
  Cert.Opt.algebraic, trivial, Cert.Put.algebraic, trivial, Cert.Stk.algebraic, trivial, Cert.Uns.algebraic⟩

end Cert.Proof

end
